-- ==== Defs.lean ====
def Pre_Kernel [hPre_samples_on_the_map : Cert.Pre_samples_on_the_map.Facts] (m : (ℓ : Loc Cert.Kernel.nD Cert.Kernel.τ Cert.Kernel.sig) → Buf (Elt Bits) ℓ) : Prop :=
  ∀ c : Dev Cert.Kernel.nD,
    (Cert.Pre_samples_on_the_map.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_samples_on_the_map [hPre_samples_on_the_map : Cert.Pre_samples_on_the_map.Facts] (m : (ℓ : Loc Cert.KernelIdeal.nD Cert.KernelIdeal.τ Cert.KernelIdeal.sig) → Buf (Elt Ideal) ℓ) : Prop :=
  ∀ c : Dev Cert.KernelIdeal.nD,
    (Cert.Pre_samples_on_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] [hPre_samples_on_the_map : Cert.Pre_samples_on_the_map.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_samples_on_the_map [hKernelIdeal : Cert.KernelIdeal.Facts] [hPre_samples_on_the_map : Cert.Pre_samples_on_the_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_samples_on_the_map m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_v146_2)) (v2 : (c : Dev Cert.KernelIdeal.nD) → Buf (Elt Ideal) ((c.tc : Thread Cert.KernelIdeal.nD Cert.KernelIdeal.τ).loc Cert.KernelIdeal.main_v152)) (v3 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_v146_2) = v1 c
          ∧ r.2.mem ((c.tc : Thread Cert.KernelIdeal.nD Cert.KernelIdeal.τ).loc Cert.KernelIdeal.main_v152) = v2 c
          ∧ r.2.mem ((c.tc : Thread Cert.KernelIdeal.nD Cert.KernelIdeal.τ).loc Cert.KernelIdeal.main_v151) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v283) = v1 c
          ∧ r.2.mem ((c.tc : Thread Cert.ReferenceIdeal.nD Cert.ReferenceIdeal.τ).loc Cert.ReferenceIdeal.main_v267) = v2 c
          ∧ r.2.mem ((c.tc : Thread Cert.ReferenceIdeal.nD Cert.ReferenceIdeal.τ).loc Cert.ReferenceIdeal.main_v282) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_samples_on_the_map : Cert.Pre_samples_on_the_map.Facts),
    quiescent_Kernel (hKernel := hKernel) (hPre_samples_on_the_map := hPre_samples_on_the_map)
    ∧ quiescent_KernelIdeal (hKernelIdeal := hKernelIdeal)
    ∧ quiescent_KernelIdeal_pre_samples_on_the_map (hKernelIdeal := hKernelIdeal) (hPre_samples_on_the_map := hPre_samples_on_the_map)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Pre_samples_on_the_map.lean ====
abbrev S16000x4 : Shape := ⟨2, ![16000, 4]⟩
abbrev S1x256x256x196 : Shape := ⟨4, ![1, 256, 256, 196]⟩
abbrev S_ : Shape := ⟨0, ![]⟩
abbrev S16000x1 : Shape := ⟨2, ![16000, 1]⟩
abbrev S16000 : Shape := ⟨1, ![16000]⟩
abbrev S7 : Shape := ⟨1, ![7]⟩
abbrev S1x7 : Shape := ⟨2, ![1, 7]⟩
abbrev S16000x7 : Shape := ⟨2, ![16000, 7]⟩

class Facts : Prop where
  bcast_S_S16000x4 : S_.BroadcastsInDim S16000x4 (![] : Fin 0 → Fin S16000x4.rank)
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000 : S_.BroadcastsInDim S16000 (![] : Fin 0 → Fin S16000.rank)
  bcast_S_S7 : S_.BroadcastsInDim S7 (![] : Fin 0 → Fin S7.rank)
  bcast_S16000_S16000x1_0 : S16000.BroadcastsInDim S16000x1 (![0] : Fin 1 → Fin S16000x1.rank)
  bcast_S7_S1x7_1 : S7.BroadcastsInDim S1x7 (![1] : Fin 1 → Fin S1x7.rank)
  bcast_S1x7_S16000x7_0_1 : S1x7.BroadcastsInDim S16000x7 (![0, 1] : Fin 2 → Fin S16000x7.rank)
  bcast_S16000x1_S16000x7_0_1 : S16000x1.BroadcastsInDim S16000x7 (![0, 1] : Fin 2 → Fin S16000x7.rank)
  bcast_S_S16000x7 : S_.BroadcastsInDim S16000x7 (![] : Fin 0 → Fin S16000x7.rank)

variable [Facts]

def fn_clip {F : FTy → Type} [FloatOps F] (arg0 : FVec F S16000x7 .f32) (arg1 : FVec F S_ .f32) (arg2 : FVec F S_ .f32) : FVec F S16000x7 .f32 :=
  let v0 : FVec F S_ .f32 := id arg1
  let v1 : FVec F S16000x7 .f32 := broadcastInDim S16000x7 ![] bcast_S_S16000x7 v0
  let v2 : FVec F S16000x7 .f32 := maximumf v1 arg0
  let v3 : FVec F S_ .f32 := id arg2
  let v4 : FVec F S16000x7 .f32 := broadcastInDim S16000x7 ![] bcast_S_S16000x7 v3
  let v5 : FVec F S16000x7 .f32 := minimumf v4 v2
  v5

def fn_part2 {F : FTy → Type} [FloatOps F] (main_v29 : FVec F S16000x7 .f32) (main_v38 : FVec F S16000x7 .f32) : IVec S16000x7 1 :=
  let main_v39 : FVec F S16000x7 .f32 := Host.floor main_v29
  let main_v40 : IVec S16000x7 32 := fptosi 32 main_v39
  let main_v41 : FVec F S16000x7 .f32 := Host.floor main_v38
  let main_v42 : IVec S16000x7 32 := fptosi 32 main_v41
  let main_c : IVec S_ 32 := constantI S_ 32 0#32
  let main_v43 : IVec S16000x7 32 := broadcastInDim S16000x7 ![] bcast_S_S16000x7 main_c
  let main_v44 : IVec S16000x7 1 := cmpi .sge main_v40 main_v43
  let main_c_8 : IVec S_ 32 := constantI S_ 32 256#32
  let main_v45 : IVec S16000x7 32 := broadcastInDim S16000x7 ![] bcast_S_S16000x7 main_c_8
  let main_v46 : IVec S16000x7 1 := cmpi .slt main_v40 main_v45
  let main_v47 : IVec S16000x7 1 := andi main_v44 main_v46
  let main_c_9 : IVec S_ 32 := constantI S_ 32 0#32
  let main_v48 : IVec S16000x7 32 := broadcastInDim S16000x7 ![] bcast_S_S16000x7 main_c_9
  let main_v49 : IVec S16000x7 1 := cmpi .sge main_v42 main_v48
  let main_v50 : IVec S16000x7 1 := andi main_v47 main_v49
  let main_c_10 : IVec S_ 32 := constantI S_ 32 256#32
  let main_v51 : IVec S16000x7 32 := broadcastInDim S16000x7 ![] bcast_S_S16000x7 main_c_10
  let main_v52 : IVec S16000x7 1 := cmpi .slt main_v42 main_v51
  let main_v53 : IVec S16000x7 1 := andi main_v50 main_v52
  main_v53

def fn_part1 {F : FTy → Type} [FloatOps F] (main_v3 : FVec F S16000 .f32) (main_v5 : FVec F S16000 .f32) (main_v12 : FVec F S16000 .f32) (main_v15 : FVec F S16000 .f32) (main_v18 : FVec F S7 .f32) (main_cst_3 : FVec F S_ .f32) : IVec S16000x7 1 :=
  let main_v19 : FVec F S7 .f32 := broadcastInDim S7 ![] bcast_S_S7 main_cst_3
  let main_v20 : FVec F S7 .f32 := Host.divf main_v18 main_v19
  let main_v21 : FVec F S16000x1 .f32 := broadcastInDim S16000x1 ![0] bcast_S16000_S16000x1_0 main_v5
  let main_v22 : FVec F S1x7 .f32 := broadcastInDim S1x7 ![1] bcast_S7_S1x7_1 main_v20
  let main_v23 : FVec F S16000x1 .f32 := broadcastInDim S16000x1 ![0] bcast_S16000_S16000x1_0 main_v15
  let main_v24 : FVec F S16000x7 .f32 := broadcastInDim S16000x7 ![0, 1] bcast_S1x7_S16000x7_0_1 main_v22
  let main_v25 : FVec F S16000x7 .f32 := broadcastInDim S16000x7 ![0, 1] bcast_S16000x1_S16000x7_0_1 main_v23
  let main_v26 : FVec F S16000x7 .f32 := mulf main_v24 main_v25
  let main_v27 : FVec F S16000x7 .f32 := broadcastInDim S16000x7 ![0, 1] bcast_S16000x1_S16000x7_0_1 main_v21
  let main_v28 : FVec F S16000x7 .f32 := addf main_v27 main_v26
  let main_cst_4 : FVec F S_ .f32 := constant S_ .f32 0x00000000#32
  let main_cst_5 : FVec F S_ .f32 := constant S_ .f32 0x437F0000#32
  let main_v29 : FVec F S16000x7 .f32 := fn_clip (F := F) main_v28 main_cst_4 main_cst_5
  let main_v30 : FVec F S16000x1 .f32 := broadcastInDim S16000x1 ![0] bcast_S16000_S16000x1_0 main_v3
  let main_v31 : FVec F S1x7 .f32 := broadcastInDim S1x7 ![1] bcast_S7_S1x7_1 main_v20
  let main_v32 : FVec F S16000x1 .f32 := broadcastInDim S16000x1 ![0] bcast_S16000_S16000x1_0 main_v12
  let main_v33 : FVec F S16000x7 .f32 := broadcastInDim S16000x7 ![0, 1] bcast_S1x7_S16000x7_0_1 main_v31
  let main_v34 : FVec F S16000x7 .f32 := broadcastInDim S16000x7 ![0, 1] bcast_S16000x1_S16000x7_0_1 main_v32
  let main_v35 : FVec F S16000x7 .f32 := mulf main_v33 main_v34
  let main_v36 : FVec F S16000x7 .f32 := broadcastInDim S16000x7 ![0, 1] bcast_S16000x1_S16000x7_0_1 main_v30
  let main_v37 : FVec F S16000x7 .f32 := addf main_v36 main_v35
  let main_cst_6 : FVec F S_ .f32 := constant S_ .f32 0x00000000#32
  let main_cst_7 : FVec F S_ .f32 := constant S_ .f32 0x437F0000#32
  let main_v38 : FVec F S16000x7 .f32 := fn_clip (F := F) main_v37 main_cst_6 main_cst_7
  fn_part2 (F := F) main_v29 main_v38

def fn {F : FTy → Type} [FloatOps F] (main_arg0 : FVec F S16000x4 .f32) (main_arg1 : FVec F S1x256x256x196 .f32) : IVec S16000x7 1 :=
  let main_cst : FVec F S_ .f32 := constant S_ .f32 0x41000000#32
  let main_v0 : FVec F S16000x4 .f32 := broadcastInDim S16000x4 ![] bcast_S_S16000x4 main_cst
  let main_v1 : FVec F S16000x4 .f32 := Host.divf main_arg0 main_v0
  let main_v2 : FVec F S16000x1 .f32 := (extractStridedSlice S16000x1 ![0, 0] · slices_S16000x4_S16000x1_0_0) main_v1
  let main_v3 : FVec F S16000 .f32 := shapeCast S16000 main_v2 shapeCasts_S16000x1_S16000
  let main_v4 : FVec F S16000x1 .f32 := (extractStridedSlice S16000x1 ![0, 1] · slices_S16000x4_S16000x1_0_1) main_v1
  let main_v5 : FVec F S16000 .f32 := shapeCast S16000 main_v4 shapeCasts_S16000x1_S16000
  let main_v6 : FVec F S16000x1 .f32 := (extractStridedSlice S16000x1 ![0, 2] · slices_S16000x4_S16000x1_0_2) main_v1
  let main_v7 : FVec F S16000 .f32 := shapeCast S16000 main_v6 shapeCasts_S16000x1_S16000
  let main_v8 : FVec F S16000x1 .f32 := (extractStridedSlice S16000x1 ![0, 3] · slices_S16000x4_S16000x1_0_3) main_v1
  let main_v9 : FVec F S16000 .f32 := shapeCast S16000 main_v8 shapeCasts_S16000x1_S16000
  let main_v10 : FVec F S16000 .f32 := subf main_v7 main_v3
  let main_cst_0 : FVec F S_ .f32 := constant S_ .f32 0x3F800000#32
  let main_v11 : FVec F S16000 .f32 := broadcastInDim S16000 ![] bcast_S_S16000 main_cst_0
  let main_v12 : FVec F S16000 .f32 := maximumf main_v10 main_v11
  let main_v13 : FVec F S16000 .f32 := subf main_v9 main_v5
  let main_cst_1 : FVec F S_ .f32 := constant S_ .f32 0x3F800000#32
  let main_v14 : FVec F S16000 .f32 := broadcastInDim S16000 ![] bcast_S_S16000 main_cst_1
  let main_v15 : FVec F S16000 .f32 := maximumf main_v13 main_v14
  let main_v16 : FVec F S7 .f32 := sitofp .f32 (iotaInDim S7 32 0)
  let main_cst_2 : FVec F S_ .f32 := constant S_ .f32 0x3F000000#32
  let main_v17 : FVec F S7 .f32 := broadcastInDim S7 ![] bcast_S_S7 main_cst_2
  let main_v18 : FVec F S7 .f32 := addf main_v16 main_v17
  let main_cst_3 : FVec F S_ .f32 := constant S_ .f32 0x40E00000#32
  fn_part1 (F := F) main_v3 main_v5 main_v12 main_v15 main_v18 main_cst_3
-- ==== Kernel.lean ====
abbrev S16000x4 : Shape := ⟨2, ![16000, 4]⟩
abbrev S1x256x256x196 : Shape := ⟨4, ![1, 256, 256, 196]⟩
abbrev S100 : Shape := ⟨1, ![100]⟩
abbrev S256x256x196 : Shape := ⟨3, ![256, 256, 196]⟩
abbrev S65536x196 : Shape := ⟨2, ![65536, 196]⟩
abbrev S_ : Shape := ⟨0, ![]⟩
abbrev S66048x196 : Shape := ⟨2, ![66048, 196]⟩
abbrev S100x1 : Shape := ⟨2, ![100, 1]⟩
abbrev S66048x100 : Shape := ⟨2, ![66048, 100]⟩
abbrev S66048x128 : Shape := ⟨2, ![66048, 128]⟩
abbrev S1x66048x128 : Shape := ⟨3, ![1, 66048, 128]⟩
abbrev S2x66048x128 : Shape := ⟨3, ![2, 66048, 128]⟩
abbrev S16000x1 : Shape := ⟨2, ![16000, 1]⟩
abbrev S16000 : Shape := ⟨1, ![16000]⟩
abbrev S7 : Shape := ⟨1, ![7]⟩
abbrev S1x7 : Shape := ⟨2, ![1, 7]⟩
abbrev S16000x7 : Shape := ⟨2, ![16000, 7]⟩
abbrev S16000x7x1 : Shape := ⟨3, ![16000, 7, 1]⟩
abbrev S16000x1x7 : Shape := ⟨3, ![16000, 1, 7]⟩
abbrev S16000x7x7 : Shape := ⟨3, ![16000, 7, 7]⟩
abbrev S16000x49 : Shape := ⟨2, ![16000, 49]⟩
abbrev S16000x25 : Shape := ⟨2, ![16000, 25]⟩
abbrev S1x16000x25 : Shape := ⟨3, ![1, 16000, 25]⟩
abbrev S2x16000x25 : Shape := ⟨3, ![2, 16000, 25]⟩
abbrev S2000x16x25 : Shape := ⟨3, ![2000, 16, 25]⟩
abbrev S32000x1x128 : Shape := ⟨3, ![32000, 1, 128]⟩
abbrev S1x16x25 : Shape := ⟨3, ![1, 16, 25]⟩
abbrev S16x1x128 : Shape := ⟨3, ![16, 1, 128]⟩
abbrev S32x128 : Shape := ⟨2, ![32, 128]⟩
abbrev S25x128 : Shape := ⟨2, ![25, 128]⟩
abbrev S1x1x1 : Shape := ⟨3, ![1, 1, 1]⟩
abbrev S16x128 : Shape := ⟨2, ![16, 128]⟩
abbrev S2x128 : Shape := ⟨2, ![2, 128]⟩
abbrev S1x128 : Shape := ⟨2, ![1, 128]⟩
abbrev S128 : Shape := ⟨1, ![128]⟩
abbrev S1x1x128 : Shape := ⟨3, ![1, 1, 128]⟩
abbrev S2x16000x128 : Shape := ⟨3, ![2, 16000, 128]⟩
abbrev S1x16000x128 : Shape := ⟨3, ![1, 16000, 128]⟩
abbrev S16000x128 : Shape := ⟨2, ![16000, 128]⟩
abbrev S16000x24 : Shape := ⟨2, ![16000, 24]⟩
abbrev S16000x30 : Shape := ⟨2, ![16000, 30]⟩
abbrev S16000x256 : Shape := ⟨2, ![16000, 256]⟩
abbrev S800x256 : Shape := ⟨2, ![800, 256]⟩
abbrev S800x1 : Shape := ⟨2, ![800, 1]⟩
abbrev S800x49 : Shape := ⟨2, ![800, 49]⟩
abbrev S800 : Shape := ⟨1, ![800]⟩
abbrev S16000x2 : Shape := ⟨2, ![16000, 2]⟩
abbrev S16000x49x1 : Shape := ⟨3, ![16000, 49, 1]⟩
abbrev S16000x49x2 : Shape := ⟨3, ![16000, 49, 2]⟩
abbrev S16000x7x7x2 : Shape := ⟨4, ![16000, 7, 7, 2]⟩

abbrev nBuf : Space → Nat
  | .hbm => 196
  | .vmem => 18
  | .smem => 8
  | _ => 0

abbrev hbmTy0_0 (i : Nat) : BufTy := match i % 128 with
  | 0 => ⟨S16000x4, .f32⟩
  | 1 => ⟨S1x256x256x196, .f32⟩
  | 2 => ⟨S100, .i32⟩
  | 3 => ⟨S100, .i32⟩
  | 4 => ⟨S256x256x196, .f32⟩
  | 5 => ⟨S256x256x196, .f32⟩
  | 6 => ⟨S65536x196, .f32⟩
  | 7 => ⟨S_, .i32⟩
  | 8 => ⟨S_, .f32⟩
  | 9 => ⟨S66048x196, .f32⟩
  | 10 => ⟨S_, .i32⟩
  | 11 => ⟨S100, .i32⟩
  | 12 => ⟨S100, .i1⟩
  | 13 => ⟨S_, .i32⟩
  | 14 => ⟨S100, .i32⟩
  | 15 => ⟨S100, .i32⟩
  | 16 => ⟨S100, .i32⟩
  | 17 => ⟨S100x1, .i32⟩
  | 18 => ⟨S66048x100, .f32⟩
  | 19 => ⟨S_, .i32⟩
  | 20 => ⟨S_, .f32⟩
  | 21 => ⟨S66048x128, .f32⟩
  | 22 => ⟨S_, .i32⟩
  | 23 => ⟨S100, .i32⟩
  | 24 => ⟨S100, .i1⟩
  | 25 => ⟨S_, .i32⟩
  | 26 => ⟨S100, .i32⟩
  | 27 => ⟨S100, .i32⟩
  | 28 => ⟨S100, .i32⟩
  | 29 => ⟨S100x1, .i32⟩
  | 30 => ⟨S66048x100, .f32⟩
  | 31 => ⟨S_, .i32⟩
  | 32 => ⟨S_, .f32⟩
  | 33 => ⟨S66048x128, .f32⟩
  | 34 => ⟨S1x66048x128, .f32⟩
  | 35 => ⟨S1x66048x128, .f32⟩
  | 36 => ⟨S2x66048x128, .f32⟩
  | 37 => ⟨S_, .f32⟩
  | 38 => ⟨S16000x4, .f32⟩
  | 39 => ⟨S16000x4, .f32⟩
  | 40 => ⟨S16000x1, .f32⟩
  | 41 => ⟨S16000, .f32⟩
  | 42 => ⟨S16000x1, .f32⟩
  | 43 => ⟨S16000, .f32⟩
  | 44 => ⟨S16000x1, .f32⟩
  | 45 => ⟨S16000, .f32⟩
  | 46 => ⟨S16000x1, .f32⟩
  | 47 => ⟨S16000, .f32⟩
  | 48 => ⟨S16000, .f32⟩
  | 49 => ⟨S_, .f32⟩
  | 50 => ⟨S16000, .f32⟩
  | 51 => ⟨S16000, .f32⟩
  | 52 => ⟨S16000, .f32⟩
  | 53 => ⟨S_, .f32⟩
  | 54 => ⟨S16000, .f32⟩
  | 55 => ⟨S16000, .f32⟩
  | 56 => ⟨S7, .f32⟩
  | 57 => ⟨S_, .f32⟩
  | 58 => ⟨S7, .f32⟩
  | 59 => ⟨S7, .f32⟩
  | 60 => ⟨S_, .f32⟩
  | 61 => ⟨S7, .f32⟩
  | 62 => ⟨S7, .f32⟩
  | 63 => ⟨S16000x1, .f32⟩
  | 64 => ⟨S1x7, .f32⟩
  | 65 => ⟨S16000x1, .f32⟩
  | 66 => ⟨S16000x7, .f32⟩
  | 67 => ⟨S16000x7, .f32⟩
  | 68 => ⟨S16000x7, .f32⟩
  | 69 => ⟨S16000x7, .f32⟩
  | 70 => ⟨S16000x7, .f32⟩
  | 71 => ⟨S_, .f32⟩
  | 72 => ⟨S_, .f32⟩
  | 73 => ⟨S_, .f32⟩
  | 74 => ⟨S16000x7, .f32⟩
  | 75 => ⟨S16000x7, .f32⟩
  | 76 => ⟨S_, .f32⟩
  | 77 => ⟨S16000x7, .f32⟩
  | 78 => ⟨S16000x7, .f32⟩
  | 79 => ⟨S16000x1, .f32⟩
  | 80 => ⟨S1x7, .f32⟩
  | 81 => ⟨S16000x1, .f32⟩
  | 82 => ⟨S16000x7, .f32⟩
  | 83 => ⟨S16000x7, .f32⟩
  | 84 => ⟨S16000x7, .f32⟩
  | 85 => ⟨S16000x7, .f32⟩
  | 86 => ⟨S16000x7, .f32⟩
  | 87 => ⟨S_, .f32⟩
  | 88 => ⟨S_, .f32⟩
  | 89 => ⟨S_, .f32⟩
  | 90 => ⟨S16000x7, .f32⟩
  | 91 => ⟨S16000x7, .f32⟩
  | 92 => ⟨S_, .f32⟩
  | 93 => ⟨S16000x7, .f32⟩
  | 94 => ⟨S16000x7, .f32⟩
  | 95 => ⟨S16000x7, .f32⟩
  | 96 => ⟨S16000x7, .f32⟩
  | 97 => ⟨S16000x7, .f32⟩
  | 98 => ⟨S16000x7x1, .f32⟩
  | 99 => ⟨S16000x7, .f32⟩
  | 100 => ⟨S16000x1x7, .f32⟩
  | 101 => ⟨S16000x7, .i32⟩
  | 102 => ⟨S16000x7, .i32⟩
  | 103 => ⟨S_, .i32⟩
  | 104 => ⟨S16000x7, .i32⟩
  | 105 => ⟨S16000x7, .i32⟩
  | 106 => ⟨S_, .i32⟩
  | 107 => ⟨S16000x7, .i32⟩
  | 108 => ⟨S16000x7, .i32⟩
  | 109 => ⟨S16000x1x7, .i32⟩
  | 110 => ⟨S_, .i32⟩
  | 111 => ⟨S16000x1x7, .i32⟩
  | 112 => ⟨S16000x1x7, .i32⟩
  | 113 => ⟨S16000x7x1, .i32⟩
  | 114 => ⟨S16000x7x7, .i32⟩
  | 115 => ⟨S16000x7x7, .i32⟩
  | 116 => ⟨S16000x7x7, .i32⟩
  | 117 => ⟨S16000x49, .i32⟩
  | 118 => ⟨S16000x1x7, .i32⟩
  | 119 => ⟨S_, .i32⟩
  | 120 => ⟨S16000x1x7, .i32⟩
  | 121 => ⟨S16000x1x7, .i32⟩
  | 122 => ⟨S16000x7x1, .i32⟩
  | 123 => ⟨S16000x7x7, .i32⟩
  | 124 => ⟨S16000x7x7, .i32⟩
  | 125 => ⟨S16000x7x7, .i32⟩
  | 126 => ⟨S16000x49, .i32⟩
  | 127 => ⟨S16000x7x7, .f32⟩
  | _ => ⟨S16000x4, .f32⟩

abbrev hbmTy0_1 (i : Nat) : BufTy := match i % 128 with
  | 0 => ⟨S16000x49, .f32⟩
  | 1 => ⟨S16000x7x7, .f32⟩
  | 2 => ⟨S16000x49, .f32⟩
  | 3 => ⟨S16000x25, .i32⟩
  | 4 => ⟨S16000x25, .i32⟩
  | 5 => ⟨S1x16000x25, .i32⟩
  | 6 => ⟨S1x16000x25, .i32⟩
  | 7 => ⟨S2x16000x25, .i32⟩
  | 8 => ⟨S2000x16x25, .i32⟩
  | 9 => ⟨S16000x25, .i32⟩
  | 10 => ⟨S16000x25, .i32⟩
  | 11 => ⟨S1x16000x25, .i32⟩
  | 12 => ⟨S1x16000x25, .i32⟩
  | 13 => ⟨S2x16000x25, .i32⟩
  | 14 => ⟨S2000x16x25, .i32⟩
  | 15 => ⟨S16000x25, .f32⟩
  | 16 => ⟨S16000x25, .f32⟩
  | 17 => ⟨S1x16000x25, .f32⟩
  | 18 => ⟨S1x16000x25, .f32⟩
  | 19 => ⟨S2x16000x25, .f32⟩
  | 20 => ⟨S2000x16x25, .f32⟩
  | 21 => ⟨S16000x25, .f32⟩
  | 22 => ⟨S16000x25, .f32⟩
  | 23 => ⟨S1x16000x25, .f32⟩
  | 24 => ⟨S1x16000x25, .f32⟩
  | 25 => ⟨S2x16000x25, .f32⟩
  | 26 => ⟨S2000x16x25, .f32⟩
  | 27 => ⟨S32000x1x128, .f32⟩
  | 28 => ⟨S2x16000x128, .f32⟩
  | 29 => ⟨S1x16000x128, .f32⟩
  | 30 => ⟨S16000x128, .f32⟩
  | 31 => ⟨S16000x25, .f32⟩
  | 32 => ⟨S1x16000x128, .f32⟩
  | 33 => ⟨S16000x128, .f32⟩
  | 34 => ⟨S16000x24, .f32⟩
  | 35 => ⟨S1x16000x128, .f32⟩
  | 36 => ⟨S16000x128, .f32⟩
  | 37 => ⟨S16000x25, .f32⟩
  | 38 => ⟨S1x16000x128, .f32⟩
  | 39 => ⟨S16000x128, .f32⟩
  | 40 => ⟨S16000x24, .f32⟩
  | 41 => ⟨S1x16000x128, .f32⟩
  | 42 => ⟨S16000x128, .f32⟩
  | 43 => ⟨S16000x25, .f32⟩
  | 44 => ⟨S1x16000x128, .f32⟩
  | 45 => ⟨S16000x128, .f32⟩
  | 46 => ⟨S16000x24, .f32⟩
  | 47 => ⟨S1x16000x128, .f32⟩
  | 48 => ⟨S16000x128, .f32⟩
  | 49 => ⟨S16000x25, .f32⟩
  | 50 => ⟨S1x16000x128, .f32⟩
  | 51 => ⟨S16000x128, .f32⟩
  | 52 => ⟨S16000x24, .f32⟩
  | 53 => ⟨S_, .f32⟩
  | 54 => ⟨S16000x30, .f32⟩
  | 55 => ⟨S16000x256, .f32⟩
  | 56 => ⟨S16000x1, .f32⟩
  | 57 => ⟨S16000x1, .f32⟩
  | 58 => ⟨S16000x1, .i32⟩
  | 59 => ⟨S16000x1, .f32⟩
  | 60 => ⟨S16000x49, .f32⟩
  | 61 => ⟨S16000x49, .f32⟩
  | 62 => ⟨S16000x2, .f32⟩
  | 63 => ⟨S16000x49x1, .f32⟩
  | 64 => ⟨S16000x49x1, .f32⟩
  | 65 => ⟨S16000x49x2, .f32⟩
  | 66 => ⟨S16000x7x7x2, .f32⟩
  | 67 => ⟨S16000, .f32⟩
  | _ => ⟨S16000x4, .f32⟩

abbrev hbmTy (i : Nat) : BufTy := match i / 128 with
  | 0 => hbmTy0_0 i
  | 1 => hbmTy0_1 i
  | _ => ⟨S16000x4, .f32⟩

abbrev bufTy : (tb : Table) → Fin (tcTables nBuf tb) → BufTy
  | .hbm, ⟨i, _⟩ => hbmTy i
  | .local _ .vmem, ⟨0, _⟩ => ⟨S16x1x128, .f32⟩
  | .local _ .vmem, ⟨1, _⟩ => ⟨S16x1x128, .f32⟩
  | .local _ .vmem, ⟨2, _⟩ => ⟨S66048x128, .f32⟩
  | .local _ .vmem, ⟨3, _⟩ => ⟨S32x128, .f32⟩
  | .local _ .vmem, ⟨4, _⟩ => ⟨S800x256, .f32⟩
  | .local _ .vmem, ⟨5, _⟩ => ⟨S800x256, .f32⟩
  | .local _ .vmem, ⟨6, _⟩ => ⟨S800x1, .f32⟩
  | .local _ .vmem, ⟨7, _⟩ => ⟨S800x1, .f32⟩
  | .local _ .vmem, ⟨8, _⟩ => ⟨S800x1, .f32⟩
  | .local _ .vmem, ⟨9, _⟩ => ⟨S800x1, .f32⟩
  | .local _ .vmem, ⟨10, _⟩ => ⟨S800x1, .i32⟩
  | .local _ .vmem, ⟨11, _⟩ => ⟨S800x1, .i32⟩
  | .local _ .vmem, ⟨12, _⟩ => ⟨S800x1, .f32⟩
  | .local _ .vmem, ⟨13, _⟩ => ⟨S800x1, .f32⟩
  | .local _ .vmem, ⟨14, _⟩ => ⟨S800x49, .f32⟩
  | .local _ .vmem, ⟨15, _⟩ => ⟨S800x49, .f32⟩
  | .local _ .vmem, ⟨16, _⟩ => ⟨S800x49, .f32⟩
  | .local _ .vmem, ⟨17, _⟩ => ⟨S800x49, .f32⟩
  | .local _ .smem, ⟨0, _⟩ => ⟨S1x16x25, .i32⟩
  | .local _ .smem, ⟨1, _⟩ => ⟨S1x16x25, .i32⟩
  | .local _ .smem, ⟨2, _⟩ => ⟨S1x16x25, .i32⟩
  | .local _ .smem, ⟨3, _⟩ => ⟨S1x16x25, .i32⟩
  | .local _ .smem, ⟨4, _⟩ => ⟨S1x16x25, .f32⟩
  | .local _ .smem, ⟨5, _⟩ => ⟨S1x16x25, .f32⟩
  | .local _ .smem, ⟨6, _⟩ => ⟨S1x16x25, .f32⟩
  | .local _ .smem, ⟨7, _⟩ => ⟨S1x16x25, .f32⟩
  | _, _ => ⟨S16000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_call1_v0 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_cst_15 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_20 : Ref sig .tc := ⟨.hbm, 181, rfl⟩
abbrev main_v144 : Ref sig .tc := ⟨.hbm, 182, rfl⟩
abbrev main_v145 : Ref sig .tc := ⟨.hbm, 183, rfl⟩
abbrev main_v146_0 : Ref sig .tc := ⟨.hbm, 184, rfl⟩
abbrev main_v146_1 : Ref sig .tc := ⟨.hbm, 185, rfl⟩
abbrev main_v146_2 : Ref sig .tc := ⟨.hbm, 186, rfl⟩
abbrev main_v146_3 : Ref sig .tc := ⟨.hbm, 187, rfl⟩
abbrev main_v146_4 : Ref sig .tc := ⟨.hbm, 188, rfl⟩
abbrev main_v146_5 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev cc0_stg4_0 : Ref sig .tc := ⟨.vmem, 0, rfl⟩
abbrev cc0_stg4_1 : Ref sig .tc := ⟨.vmem, 1, rfl⟩
abbrev cc0_scratch0 : Ref sig .tc := ⟨.vmem, 2, rfl⟩
abbrev cc0_scratch1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_stg3_0 : Ref sig .tc := ⟨.smem, 6, rfl⟩
abbrev cc0_stg3_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨2, ![2, 1000], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_10473 : BitVec 32 := 0#32
  let c0_i32_10474 : BitVec 32 := 0#32
  ![arg0.toNat, 0, 0]
def k0_mult1 (v27 : BitVec 32) : BitVec 32 :=
  let c3_i32 : BitVec 32 := 3#32
  let v31 : BitVec 32 := Scalar.shrsi v27 c3_i32
  let c3_i32_16 : BitVec 32 := 3#32
  let v32 : BitVec 32 := Scalar.shli v31 c3_i32_16
  v32

def k0_mult2 (v28 : BitVec 32) : BitVec 32 :=
  let c3_i32_17 : BitVec 32 := 3#32
  let v34 : BitVec 32 := Scalar.shrsi v28 c3_i32_17
  let c3_i32_18 : BitVec 32 := 3#32
  let v35 : BitVec 32 := Scalar.shli v34 c3_i32_18
  v35

def k0_off2 (v27 : BitVec 32) : Fin 2 → Nat :=
  let c3_i32 : BitVec 32 := 3#32
  let v31 : BitVec 32 := Scalar.shrsi v27 c3_i32
  let c3_i32_16 : BitVec 32 := 3#32
  let v32 : BitVec 32 := Scalar.shli v31 c3_i32_16
  let v33 : BitVec 32 := v32
  let v37 : Index := Scalar.indexCast v33
  let c0_19 : Index := 0#32
  ![v37.toNat, 0]

def k0_chk1 (v27 : BitVec 32) : Prop :=
  (8 ∣ (k0_mult1 v27).toNat) ∧
  (∀ a, (k0_off2 v27) a + S16x128.size a ≤ S66048x128.size a)
theorem k0_mult1_dvd : ∀ (v27 : BitVec 32) (k0_hw1 : k0_chk1 v27), 8 ∣ (k0_mult1 v27).toNat := fun v27 k0_hw1 => k0_hw1.1
theorem k0_off2_inb : ∀ (v27 : BitVec 32) (k0_hw1 : k0_chk1 v27), ∀ a, (k0_off2 v27) a + S16x128.size a ≤ S66048x128.size a := fun v27 k0_hw1 => k0_hw1.2

def k0_off3 (v28 : BitVec 32) : Fin 2 → Nat :=
  let c3_i32_17 : BitVec 32 := 3#32
  let v34 : BitVec 32 := Scalar.shrsi v28 c3_i32_17
  let c3_i32_18 : BitVec 32 := 3#32
  let v35 : BitVec 32 := Scalar.shli v34 c3_i32_18
  let v36 : BitVec 32 := v35
  let v39 : Index := Scalar.indexCast v36
  let c0_20 : Index := 0#32
  ![v39.toNat, 0]

def k0_chk2 (v28 : BitVec 32) : Prop :=
  (8 ∣ (k0_mult2 v28).toNat) ∧
  (∀ a, (k0_off3 v28) a + S16x128.size a ≤ S66048x128.size a)
theorem k0_mult2_dvd : ∀ (v28 : BitVec 32) (k0_hw2 : k0_chk2 v28), 8 ∣ (k0_mult2 v28).toNat := fun v28 k0_hw2 => k0_hw2.1
theorem k0_off3_inb : ∀ (v28 : BitVec 32) (k0_hw2 : k0_chk2 v28), ∀ a, (k0_off3 v28) a + S16x128.size a ≤ S66048x128.size a := fun v28 k0_hw2 => k0_hw2.2

def k0_mult3 (v66 : BitVec 32) : BitVec 32 :=
  let c3_i32_38 : BitVec 32 := 3#32
  let v70 : BitVec 32 := Scalar.shrsi v66 c3_i32_38
  let c3_i32_39 : BitVec 32 := 3#32
  let v71 : BitVec 32 := Scalar.shli v70 c3_i32_39
  v71

def k0_mult4 (v67 : BitVec 32) : BitVec 32 :=
  let c3_i32_40 : BitVec 32 := 3#32
  let v73 : BitVec 32 := Scalar.shrsi v67 c3_i32_40
  let c3_i32_41 : BitVec 32 := 3#32
  let v74 : BitVec 32 := Scalar.shli v73 c3_i32_41
  v74

def k0_off4 (v66 : BitVec 32) : Fin 2 → Nat :=
  let c3_i32_38 : BitVec 32 := 3#32
  let v70 : BitVec 32 := Scalar.shrsi v66 c3_i32_38
  let c3_i32_39 : BitVec 32 := 3#32
  let v71 : BitVec 32 := Scalar.shli v70 c3_i32_39
  let v72 : BitVec 32 := v71
  let v76 : Index := Scalar.indexCast v72
  let c0_42 : Index := 0#32
  ![v76.toNat, 0]

def k0_chk3 (v66 : BitVec 32) : Prop :=
  (8 ∣ (k0_mult3 v66).toNat) ∧
  (∀ a, (k0_off4 v66) a + S16x128.size a ≤ S66048x128.size a)
theorem k0_mult3_dvd : ∀ (v66 : BitVec 32) (k0_hw3 : k0_chk3 v66), 8 ∣ (k0_mult3 v66).toNat := fun v66 k0_hw3 => k0_hw3.1
theorem k0_off4_inb : ∀ (v66 : BitVec 32) (k0_hw3 : k0_chk3 v66), ∀ a, (k0_off4 v66) a + S16x128.size a ≤ S66048x128.size a := fun v66 k0_hw3 => k0_hw3.2

def k0_off5 (v67 : BitVec 32) : Fin 2 → Nat :=
  let c3_i32_40 : BitVec 32 := 3#32
  let v73 : BitVec 32 := Scalar.shrsi v67 c3_i32_40
  let c3_i32_41 : BitVec 32 := 3#32
  let v74 : BitVec 32 := Scalar.shli v73 c3_i32_41
  let v75 : BitVec 32 := v74
  let v78 : Index := Scalar.indexCast v75
  let c0_43 : Index := 0#32
  ![v78.toNat, 0]

def k0_chk4 (v67 : BitVec 32) : Prop :=
  (8 ∣ (k0_mult4 v67).toNat) ∧
  (∀ a, (k0_off5 v67) a + S16x128.size a ≤ S66048x128.size a)
theorem k0_mult4_dvd : ∀ (v67 : BitVec 32) (k0_hw4 : k0_chk4 v67), 8 ∣ (k0_mult4 v67).toNat := fun v67 k0_hw4 => k0_hw4.1
theorem k0_off5_inb : ∀ (v67 : BitVec 32) (k0_hw4 : k0_chk4 v67), ∀ a, (k0_off5 v67) a + S16x128.size a ≤ S66048x128.size a := fun v67 k0_hw4 => k0_hw4.2

def k0_mult5 (v105 : BitVec 32) : BitVec 32 :=
  let c3_i32_63 : BitVec 32 := 3#32
  let v109 : BitVec 32 := Scalar.shrsi v105 c3_i32_63
  let c3_i32_64 : BitVec 32 := 3#32
  let v110 : BitVec 32 := Scalar.shli v109 c3_i32_64
  v110

def k0_mult6 (v106 : BitVec 32) : BitVec 32 :=
  let c3_i32_65 : BitVec 32 := 3#32
  let v112 : BitVec 32 := Scalar.shrsi v106 c3_i32_65
  let c3_i32_66 : BitVec 32 := 3#32
  let v113 : BitVec 32 := Scalar.shli v112 c3_i32_66
  v113

def k0_off6 (v105 : BitVec 32) : Fin 2 → Nat :=
  let c3_i32_63 : BitVec 32 := 3#32
  let v109 : BitVec 32 := Scalar.shrsi v105 c3_i32_63
  let c3_i32_64 : BitVec 32 := 3#32
  let v110 : BitVec 32 := Scalar.shli v109 c3_i32_64
  let v111 : BitVec 32 := v110
  let v115 : Index := Scalar.indexCast v111
  let c0_67 : Index := 0#32
  ![v115.toNat, 0]

def k0_chk5 (v105 : BitVec 32) : Prop :=
  (8 ∣ (k0_mult5 v105).toNat) ∧
  (∀ a, (k0_off6 v105) a + S16x128.size a ≤ S66048x128.size a)
theorem k0_mult5_dvd : ∀ (v105 : BitVec 32) (k0_hw5 : k0_chk5 v105), 8 ∣ (k0_mult5 v105).toNat := fun v105 k0_hw5 => k0_hw5.1
theorem k0_off6_inb : ∀ (v105 : BitVec 32) (k0_hw5 : k0_chk5 v105), ∀ a, (k0_off6 v105) a + S16x128.size a ≤ S66048x128.size a := fun v105 k0_hw5 => k0_hw5.2

def k0_off7 (v106 : BitVec 32) : Fin 2 → Nat :=
  let c3_i32_65 : BitVec 32 := 3#32
  let v112 : BitVec 32 := Scalar.shrsi v106 c3_i32_65
  let c3_i32_66 : BitVec 32 := 3#32
  let v113 : BitVec 32 := Scalar.shli v112 c3_i32_66
  let v114 : BitVec 32 := v113
  let v117 : Index := Scalar.indexCast v114
  let c0_68 : Index := 0#32
  ![v117.toNat, 0]

def k0_chk6 (v106 : BitVec 32) : Prop :=
  (8 ∣ (k0_mult6 v106).toNat) ∧
  (∀ a, (k0_off7 v106) a + S16x128.size a ≤ S66048x128.size a)
theorem k0_mult6_dvd : ∀ (v106 : BitVec 32) (k0_hw6 : k0_chk6 v106), 8 ∣ (k0_mult6 v106).toNat := fun v106 k0_hw6 => k0_hw6.1
theorem k0_off7_inb : ∀ (v106 : BitVec 32) (k0_hw6 : k0_chk6 v106), ∀ a, (k0_off7 v106) a + S16x128.size a ≤ S66048x128.size a := fun v106 k0_hw6 => k0_hw6.2

def k0_mult7 (v144 : BitVec 32) : BitVec 32 :=
  let c3_i32_88 : BitVec 32 := 3#32
  let v148 : BitVec 32 := Scalar.shrsi v144 c3_i32_88
  let c3_i32_89 : BitVec 32 := 3#32
  let v149 : BitVec 32 := Scalar.shli v148 c3_i32_89
  v149

def k0_mult8 (v145 : BitVec 32) : BitVec 32 :=
  let c3_i32_90 : BitVec 32 := 3#32
  let v151 : BitVec 32 := Scalar.shrsi v145 c3_i32_90
  let c3_i32_91 : BitVec 32 := 3#32
  let v152 : BitVec 32 := Scalar.shli v151 c3_i32_91
  v152

def k0_off8 (v144 : BitVec 32) : Fin 2 → Nat :=
  let c3_i32_88 : BitVec 32 := 3#32
  let v148 : BitVec 32 := Scalar.shrsi v144 c3_i32_88
  let c3_i32_89 : BitVec 32 := 3#32
  let v149 : BitVec 32 := Scalar.shli v148 c3_i32_89
  let v150 : BitVec 32 := v149
  let v154 : Index := Scalar.indexCast v150
  let c0_92 : Index := 0#32
  ![v154.toNat, 0]

def k0_chk7 (v144 : BitVec 32) : Prop :=
  (8 ∣ (k0_mult7 v144).toNat) ∧
  (∀ a, (k0_off8 v144) a + S16x128.size a ≤ S66048x128.size a)
theorem k0_mult7_dvd : ∀ (v144 : BitVec 32) (k0_hw7 : k0_chk7 v144), 8 ∣ (k0_mult7 v144).toNat := fun v144 k0_hw7 => k0_hw7.1
theorem k0_off8_inb : ∀ (v144 : BitVec 32) (k0_hw7 : k0_chk7 v144), ∀ a, (k0_off8 v144) a + S16x128.size a ≤ S66048x128.size a := fun v144 k0_hw7 => k0_hw7.2

def k0_off9 (v145 : BitVec 32) : Fin 2 → Nat :=
  let c3_i32_90 : BitVec 32 := 3#32
  let v151 : BitVec 32 := Scalar.shrsi v145 c3_i32_90
  let c3_i32_91 : BitVec 32 := 3#32
  let v152 : BitVec 32 := Scalar.shli v151 c3_i32_91
  let v153 : BitVec 32 := v152
  let v156 : Index := Scalar.indexCast v153
  let c0_93 : Index := 0#32
  ![v156.toNat, 0]

def k0_chk8 (v145 : BitVec 32) : Prop :=
  (8 ∣ (k0_mult8 v145).toNat) ∧
  (∀ a, (k0_off9 v145) a + S16x128.size a ≤ S66048x128.size a)
theorem k0_mult8_dvd : ∀ (v145 : BitVec 32) (k0_hw8 : k0_chk8 v145), 8 ∣ (k0_mult8 v145).toNat := fun v145 k0_hw8 => k0_hw8.1
theorem k0_off9_inb : ∀ (v145 : BitVec 32) (k0_hw8 : k0_chk8 v145), ∀ a, (k0_off9 v145) a + S16x128.size a ≤ S66048x128.size a := fun v145 k0_hw8 => k0_hw8.2

def k0_mult9 (v183 : BitVec 32) : BitVec 32 :=
  let c3_i32_113 : BitVec 32 := 3#32
  let v187 : BitVec 32 := Scalar.shrsi v183 c3_i32_113
  let c3_i32_114 : BitVec 32 := 3#32
  let v188 : BitVec 32 := Scalar.shli v187 c3_i32_114
  v188

def k0_mult10 (v184 : BitVec 32) : BitVec 32 :=
  let c3_i32_115 : BitVec 32 := 3#32
  let v190 : BitVec 32 := Scalar.shrsi v184 c3_i32_115
  let c3_i32_116 : BitVec 32 := 3#32
  let v191 : BitVec 32 := Scalar.shli v190 c3_i32_116
  v191

def k0_off10 (v183 : BitVec 32) : Fin 2 → Nat :=
  let c3_i32_113 : BitVec 32 := 3#32
  let v187 : BitVec 32 := Scalar.shrsi v183 c3_i32_113
  let c3_i32_114 : BitVec 32 := 3#32
  let v188 : BitVec 32 := Scalar.shli v187 c3_i32_114
  let v189 : BitVec 32 := v188
  let v193 : Index := Scalar.indexCast v189
  let c0_117 : Index := 0#32
  ![v193.toNat, 0]

def k0_chk9 (v183 : BitVec 32) : Prop :=
  (8 ∣ (k0_mult9 v183).toNat) ∧
  (∀ a, (k0_off10 v183) a + S16x128.size a ≤ S66048x128.size a)
theorem k0_mult9_dvd : ∀ (v183 : BitVec 32) (k0_hw9 : k0_chk9 v183), 8 ∣ (k0_mult9 v183).toNat := fun v183 k0_hw9 => k0_hw9.1
theorem k0_off10_inb : ∀ (v183 : BitVec 32) (k0_hw9 : k0_chk9 v183), ∀ a, (k0_off10 v183) a + S16x128.size a ≤ S66048x128.size a := fun v183 k0_hw9 => k0_hw9.2

def k0_off11 (v184 : BitVec 32) : Fin 2 → Nat :=
  let c3_i32_115 : BitVec 32 := 3#32
  let v190 : BitVec 32 := Scalar.shrsi v184 c3_i32_115
  let c3_i32_116 : BitVec 32 := 3#32
  let v191 : BitVec 32 := Scalar.shli v190 c3_i32_116
  let v192 : BitVec 32 := v191
  let v195 : Index := Scalar.indexCast v192
  let c0_118 : Index := 0#32
  ![v195.toNat, 0]

def k0_chk10 (v184 : BitVec 32) : Prop :=
  (8 ∣ (k0_mult10 v184).toNat) ∧
  (∀ a, (k0_off11 v184) a + S16x128.size a ≤ S66048x128.size a)
theorem k0_mult10_dvd : ∀ (v184 : BitVec 32) (k0_hw10 : k0_chk10 v184), 8 ∣ (k0_mult10 v184).toNat := fun v184 k0_hw10 => k0_hw10.1
theorem k0_off11_inb : ∀ (v184 : BitVec 32) (k0_hw10 : k0_chk10 v184), ∀ a, (k0_off11 v184) a + S16x128.size a ≤ S66048x128.size a := fun v184 k0_hw10 => k0_hw10.2

def k0_mult11 (v222 : BitVec 32) : BitVec 32 :=
  let c3_i32_138 : BitVec 32 := 3#32
  let v226 : BitVec 32 := Scalar.shrsi v222 c3_i32_138
  let c3_i32_139 : BitVec 32 := 3#32
  let v227 : BitVec 32 := Scalar.shli v226 c3_i32_139
  v227

def k0_mult12 (v223 : BitVec 32) : BitVec 32 :=
  let c3_i32_140 : BitVec 32 := 3#32
  let v229 : BitVec 32 := Scalar.shrsi v223 c3_i32_140
  let c3_i32_141 : BitVec 32 := 3#32
  let v230 : BitVec 32 := Scalar.shli v229 c3_i32_141
  v230

def k0_off12 (v222 : BitVec 32) : Fin 2 → Nat :=
  let c3_i32_138 : BitVec 32 := 3#32
  let v226 : BitVec 32 := Scalar.shrsi v222 c3_i32_138
  let c3_i32_139 : BitVec 32 := 3#32
  let v227 : BitVec 32 := Scalar.shli v226 c3_i32_139
  let v228 : BitVec 32 := v227
  let v232 : Index := Scalar.indexCast v228
  let c0_142 : Index := 0#32
  ![v232.toNat, 0]

def k0_chk11 (v222 : BitVec 32) : Prop :=
  (8 ∣ (k0_mult11 v222).toNat) ∧
  (∀ a, (k0_off12 v222) a + S16x128.size a ≤ S66048x128.size a)
theorem k0_mult11_dvd : ∀ (v222 : BitVec 32) (k0_hw11 : k0_chk11 v222), 8 ∣ (k0_mult11 v222).toNat := fun v222 k0_hw11 => k0_hw11.1
theorem k0_off12_inb : ∀ (v222 : BitVec 32) (k0_hw11 : k0_chk11 v222), ∀ a, (k0_off12 v222) a + S16x128.size a ≤ S66048x128.size a := fun v222 k0_hw11 => k0_hw11.2

def k0_off13 (v223 : BitVec 32) : Fin 2 → Nat :=
  let c3_i32_140 : BitVec 32 := 3#32
  let v229 : BitVec 32 := Scalar.shrsi v223 c3_i32_140
  let c3_i32_141 : BitVec 32 := 3#32
  let v230 : BitVec 32 := Scalar.shli v229 c3_i32_141
  let v231 : BitVec 32 := v230
  let v234 : Index := Scalar.indexCast v231
  let c0_143 : Index := 0#32
  ![v234.toNat, 0]

def k0_chk12 (v223 : BitVec 32) : Prop :=
  (8 ∣ (k0_mult12 v223).toNat) ∧
  (∀ a, (k0_off13 v223) a + S16x128.size a ≤ S66048x128.size a)
theorem k0_mult12_dvd : ∀ (v223 : BitVec 32) (k0_hw12 : k0_chk12 v223), 8 ∣ (k0_mult12 v223).toNat := fun v223 k0_hw12 => k0_hw12.1
theorem k0_off13_inb : ∀ (v223 : BitVec 32) (k0_hw12 : k0_chk12 v223), ∀ a, (k0_off13 v223) a + S16x128.size a ≤ S66048x128.size a := fun v223 k0_hw12 => k0_hw12.2

def k0_mult13 (v261 : BitVec 32) : BitVec 32 :=
  let c3_i32_163 : BitVec 32 := 3#32
  let v265 : BitVec 32 := Scalar.shrsi v261 c3_i32_163
  let c3_i32_164 : BitVec 32 := 3#32
  let v266 : BitVec 32 := Scalar.shli v265 c3_i32_164
  v266

def k0_mult14 (v262 : BitVec 32) : BitVec 32 :=
  let c3_i32_165 : BitVec 32 := 3#32
  let v268 : BitVec 32 := Scalar.shrsi v262 c3_i32_165
  let c3_i32_166 : BitVec 32 := 3#32
  let v269 : BitVec 32 := Scalar.shli v268 c3_i32_166
  v269

def k0_off14 (v261 : BitVec 32) : Fin 2 → Nat :=
  let c3_i32_163 : BitVec 32 := 3#32
  let v265 : BitVec 32 := Scalar.shrsi v261 c3_i32_163
  let c3_i32_164 : BitVec 32 := 3#32
  let v266 : BitVec 32 := Scalar.shli v265 c3_i32_164
  let v267 : BitVec 32 := v266
  let v271 : Index := Scalar.indexCast v267
  let c0_167 : Index := 0#32
  ![v271.toNat, 0]

def k0_chk13 (v261 : BitVec 32) : Prop :=
  (8 ∣ (k0_mult13 v261).toNat) ∧
  (∀ a, (k0_off14 v261) a + S16x128.size a ≤ S66048x128.size a)
theorem k0_mult13_dvd : ∀ (v261 : BitVec 32) (k0_hw13 : k0_chk13 v261), 8 ∣ (k0_mult13 v261).toNat := fun v261 k0_hw13 => k0_hw13.1
theorem k0_off14_inb : ∀ (v261 : BitVec 32) (k0_hw13 : k0_chk13 v261), ∀ a, (k0_off14 v261) a + S16x128.size a ≤ S66048x128.size a := fun v261 k0_hw13 => k0_hw13.2

def k0_off15 (v262 : BitVec 32) : Fin 2 → Nat :=
  let c3_i32_165 : BitVec 32 := 3#32
  let v268 : BitVec 32 := Scalar.shrsi v262 c3_i32_165
  let c3_i32_166 : BitVec 32 := 3#32
  let v269 : BitVec 32 := Scalar.shli v268 c3_i32_166
  let v270 : BitVec 32 := v269
  let v273 : Index := Scalar.indexCast v270
  let c0_168 : Index := 0#32
  ![v273.toNat, 0]

def k0_chk14 (v262 : BitVec 32) : Prop :=
  (8 ∣ (k0_mult14 v262).toNat) ∧
  (∀ a, (k0_off15 v262) a + S16x128.size a ≤ S66048x128.size a)
theorem k0_mult14_dvd : ∀ (v262 : BitVec 32) (k0_hw14 : k0_chk14 v262), 8 ∣ (k0_mult14 v262).toNat := fun v262 k0_hw14 => k0_hw14.1
theorem k0_off15_inb : ∀ (v262 : BitVec 32) (k0_hw14 : k0_chk14 v262), ∀ a, (k0_off15 v262) a + S16x128.size a ≤ S66048x128.size a := fun v262 k0_hw14 => k0_hw14.2

def k0_mult15 (v300 : BitVec 32) : BitVec 32 :=
  let c3_i32_188 : BitVec 32 := 3#32
  let v304 : BitVec 32 := Scalar.shrsi v300 c3_i32_188
  let c3_i32_189 : BitVec 32 := 3#32
  let v305 : BitVec 32 := Scalar.shli v304 c3_i32_189
  v305

def k0_mult16 (v301 : BitVec 32) : BitVec 32 :=
  let c3_i32_190 : BitVec 32 := 3#32
  let v307 : BitVec 32 := Scalar.shrsi v301 c3_i32_190
  let c3_i32_191 : BitVec 32 := 3#32
  let v308 : BitVec 32 := Scalar.shli v307 c3_i32_191
  v308

def k0_off16 (v300 : BitVec 32) : Fin 2 → Nat :=
  let c3_i32_188 : BitVec 32 := 3#32
  let v304 : BitVec 32 := Scalar.shrsi v300 c3_i32_188
  let c3_i32_189 : BitVec 32 := 3#32
  let v305 : BitVec 32 := Scalar.shli v304 c3_i32_189
  let v306 : BitVec 32 := v305
  let v310 : Index := Scalar.indexCast v306
  let c0_192 : Index := 0#32
  ![v310.toNat, 0]

def k0_chk15 (v300 : BitVec 32) : Prop :=
  (8 ∣ (k0_mult15 v300).toNat) ∧
  (∀ a, (k0_off16 v300) a + S16x128.size a ≤ S66048x128.size a)
theorem k0_mult15_dvd : ∀ (v300 : BitVec 32) (k0_hw15 : k0_chk15 v300), 8 ∣ (k0_mult15 v300).toNat := fun v300 k0_hw15 => k0_hw15.1
theorem k0_off16_inb : ∀ (v300 : BitVec 32) (k0_hw15 : k0_chk15 v300), ∀ a, (k0_off16 v300) a + S16x128.size a ≤ S66048x128.size a := fun v300 k0_hw15 => k0_hw15.2

def k0_off17 (v301 : BitVec 32) : Fin 2 → Nat :=
  let c3_i32_190 : BitVec 32 := 3#32
  let v307 : BitVec 32 := Scalar.shrsi v301 c3_i32_190
  let c3_i32_191 : BitVec 32 := 3#32
  let v308 : BitVec 32 := Scalar.shli v307 c3_i32_191
  let v309 : BitVec 32 := v308
  let v312 : Index := Scalar.indexCast v309
  let c0_193 : Index := 0#32
  ![v312.toNat, 0]

def k0_chk16 (v301 : BitVec 32) : Prop :=
  (8 ∣ (k0_mult16 v301).toNat) ∧
  (∀ a, (k0_off17 v301) a + S16x128.size a ≤ S66048x128.size a)
theorem k0_mult16_dvd : ∀ (v301 : BitVec 32) (k0_hw16 : k0_chk16 v301), 8 ∣ (k0_mult16 v301).toNat := fun v301 k0_hw16 => k0_hw16.1
theorem k0_off17_inb : ∀ (v301 : BitVec 32) (k0_hw16 : k0_chk16 v301), ∀ a, (k0_off17 v301) a + S16x128.size a ≤ S66048x128.size a := fun v301 k0_hw16 => k0_hw16.2

def k0_mult17 (v339 : BitVec 32) : BitVec 32 :=
  let c3_i32_213 : BitVec 32 := 3#32
  let v343 : BitVec 32 := Scalar.shrsi v339 c3_i32_213
  let c3_i32_214 : BitVec 32 := 3#32
  let v344 : BitVec 32 := Scalar.shli v343 c3_i32_214
  v344

def k0_mult18 (v340 : BitVec 32) : BitVec 32 :=
  let c3_i32_215 : BitVec 32 := 3#32
  let v346 : BitVec 32 := Scalar.shrsi v340 c3_i32_215
  let c3_i32_216 : BitVec 32 := 3#32
  let v347 : BitVec 32 := Scalar.shli v346 c3_i32_216
  v347

def k0_off18 (v339 : BitVec 32) : Fin 2 → Nat :=
  let c3_i32_213 : BitVec 32 := 3#32
  let v343 : BitVec 32 := Scalar.shrsi v339 c3_i32_213
  let c3_i32_214 : BitVec 32 := 3#32
  let v344 : BitVec 32 := Scalar.shli v343 c3_i32_214
  let v345 : BitVec 32 := v344
  let v349 : Index := Scalar.indexCast v345
  let c0_217 : Index := 0#32
  ![v349.toNat, 0]

def k0_chk17 (v339 : BitVec 32) : Prop :=
  (8 ∣ (k0_mult17 v339).toNat) ∧
  (∀ a, (k0_off18 v339) a + S16x128.size a ≤ S66048x128.size a)
theorem k0_mult17_dvd : ∀ (v339 : BitVec 32) (k0_hw17 : k0_chk17 v339), 8 ∣ (k0_mult17 v339).toNat := fun v339 k0_hw17 => k0_hw17.1
theorem k0_off18_inb : ∀ (v339 : BitVec 32) (k0_hw17 : k0_chk17 v339), ∀ a, (k0_off18 v339) a + S16x128.size a ≤ S66048x128.size a := fun v339 k0_hw17 => k0_hw17.2

def k0_off19 (v340 : BitVec 32) : Fin 2 → Nat :=
  let c3_i32_215 : BitVec 32 := 3#32
  let v346 : BitVec 32 := Scalar.shrsi v340 c3_i32_215
  let c3_i32_216 : BitVec 32 := 3#32
  let v347 : BitVec 32 := Scalar.shli v346 c3_i32_216
  let v348 : BitVec 32 := v347
  let v351 : Index := Scalar.indexCast v348
  let c0_218 : Index := 0#32
  ![v351.toNat, 0]

def k0_chk18 (v340 : BitVec 32) : Prop :=
  (8 ∣ (k0_mult18 v340).toNat) ∧
  (∀ a, (k0_off19 v340) a + S16x128.size a ≤ S66048x128.size a)
theorem k0_mult18_dvd : ∀ (v340 : BitVec 32) (k0_hw18 : k0_chk18 v340), 8 ∣ (k0_mult18 v340).toNat := fun v340 k0_hw18 => k0_hw18.1
theorem k0_off19_inb : ∀ (v340 : BitVec 32) (k0_hw18 : k0_chk18 v340), ∀ a, (k0_off19 v340) a + S16x128.size a ≤ S66048x128.size a := fun v340 k0_hw18 => k0_hw18.2

def k0_mult19 (v378 : BitVec 32) : BitVec 32 :=
  let c3_i32_238 : BitVec 32 := 3#32
  let v382 : BitVec 32 := Scalar.shrsi v378 c3_i32_238
  let c3_i32_239 : BitVec 32 := 3#32
  let v383 : BitVec 32 := Scalar.shli v382 c3_i32_239
  v383

def k0_mult20 (v379 : BitVec 32) : BitVec 32 :=
  let c3_i32_240 : BitVec 32 := 3#32
  let v385 : BitVec 32 := Scalar.shrsi v379 c3_i32_240
  let c3_i32_241 : BitVec 32 := 3#32
  let v386 : BitVec 32 := Scalar.shli v385 c3_i32_241
  v386

def k0_off20 (v378 : BitVec 32) : Fin 2 → Nat :=
  let c3_i32_238 : BitVec 32 := 3#32
  let v382 : BitVec 32 := Scalar.shrsi v378 c3_i32_238
  let c3_i32_239 : BitVec 32 := 3#32
  let v383 : BitVec 32 := Scalar.shli v382 c3_i32_239
  let v384 : BitVec 32 := v383
  let v388 : Index := Scalar.indexCast v384
  let c0_242 : Index := 0#32
  ![v388.toNat, 0]

def k0_chk19 (v378 : BitVec 32) : Prop :=
  (8 ∣ (k0_mult19 v378).toNat) ∧
  (∀ a, (k0_off20 v378) a + S16x128.size a ≤ S66048x128.size a)
theorem k0_mult19_dvd : ∀ (v378 : BitVec 32) (k0_hw19 : k0_chk19 v378), 8 ∣ (k0_mult19 v378).toNat := fun v378 k0_hw19 => k0_hw19.1
theorem k0_off20_inb : ∀ (v378 : BitVec 32) (k0_hw19 : k0_chk19 v378), ∀ a, (k0_off20 v378) a + S16x128.size a ≤ S66048x128.size a := fun v378 k0_hw19 => k0_hw19.2

def k0_off21 (v379 : BitVec 32) : Fin 2 → Nat :=
  let c3_i32_240 : BitVec 32 := 3#32
  let v385 : BitVec 32 := Scalar.shrsi v379 c3_i32_240
  let c3_i32_241 : BitVec 32 := 3#32
  let v386 : BitVec 32 := Scalar.shli v385 c3_i32_241
  let v387 : BitVec 32 := v386
  let v390 : Index := Scalar.indexCast v387
  let c0_243 : Index := 0#32
  ![v390.toNat, 0]

def k0_chk20 (v379 : BitVec 32) : Prop :=
  (8 ∣ (k0_mult20 v379).toNat) ∧
  (∀ a, (k0_off21 v379) a + S16x128.size a ≤ S66048x128.size a)
theorem k0_mult20_dvd : ∀ (v379 : BitVec 32) (k0_hw20 : k0_chk20 v379), 8 ∣ (k0_mult20 v379).toNat := fun v379 k0_hw20 => k0_hw20.1
theorem k0_off21_inb : ∀ (v379 : BitVec 32) (k0_hw20 : k0_chk20 v379), ∀ a, (k0_off21 v379) a + S16x128.size a ≤ S66048x128.size a := fun v379 k0_hw20 => k0_hw20.2

def k0_mult21 (v417 : BitVec 32) : BitVec 32 :=
  let c3_i32_263 : BitVec 32 := 3#32
  let v421 : BitVec 32 := Scalar.shrsi v417 c3_i32_263
  let c3_i32_264 : BitVec 32 := 3#32
  let v422 : BitVec 32 := Scalar.shli v421 c3_i32_264
  v422

def k0_mult22 (v418 : BitVec 32) : BitVec 32 :=
  let c3_i32_265 : BitVec 32 := 3#32
  let v424 : BitVec 32 := Scalar.shrsi v418 c3_i32_265
  let c3_i32_266 : BitVec 32 := 3#32
  let v425 : BitVec 32 := Scalar.shli v424 c3_i32_266
  v425

def k0_off22 (v417 : BitVec 32) : Fin 2 → Nat :=
  let c3_i32_263 : BitVec 32 := 3#32
  let v421 : BitVec 32 := Scalar.shrsi v417 c3_i32_263
  let c3_i32_264 : BitVec 32 := 3#32
  let v422 : BitVec 32 := Scalar.shli v421 c3_i32_264
  let v423 : BitVec 32 := v422
  let v427 : Index := Scalar.indexCast v423
  let c0_267 : Index := 0#32
  ![v427.toNat, 0]

def k0_chk21 (v417 : BitVec 32) : Prop :=
  (8 ∣ (k0_mult21 v417).toNat) ∧
  (∀ a, (k0_off22 v417) a + S16x128.size a ≤ S66048x128.size a)
theorem k0_mult21_dvd : ∀ (v417 : BitVec 32) (k0_hw21 : k0_chk21 v417), 8 ∣ (k0_mult21 v417).toNat := fun v417 k0_hw21 => k0_hw21.1
theorem k0_off22_inb : ∀ (v417 : BitVec 32) (k0_hw21 : k0_chk21 v417), ∀ a, (k0_off22 v417) a + S16x128.size a ≤ S66048x128.size a := fun v417 k0_hw21 => k0_hw21.2

def k0_off23 (v418 : BitVec 32) : Fin 2 → Nat :=
  let c3_i32_265 : BitVec 32 := 3#32
  let v424 : BitVec 32 := Scalar.shrsi v418 c3_i32_265
  let c3_i32_266 : BitVec 32 := 3#32
  let v425 : BitVec 32 := Scalar.shli v424 c3_i32_266
  let v426 : BitVec 32 := v425
  let v429 : Index := Scalar.indexCast v426
  let c0_268 : Index := 0#32
  ![v429.toNat, 0]

def k0_chk22 (v418 : BitVec 32) : Prop :=
  (8 ∣ (k0_mult22 v418).toNat) ∧
  (∀ a, (k0_off23 v418) a + S16x128.size a ≤ S66048x128.size a)
theorem k0_mult22_dvd : ∀ (v418 : BitVec 32) (k0_hw22 : k0_chk22 v418), 8 ∣ (k0_mult22 v418).toNat := fun v418 k0_hw22 => k0_hw22.1
theorem k0_off23_inb : ∀ (v418 : BitVec 32) (k0_hw22 : k0_chk22 v418), ∀ a, (k0_off23 v418) a + S16x128.size a ≤ S66048x128.size a := fun v418 k0_hw22 => k0_hw22.2

def k0_mult23 (v456 : BitVec 32) : BitVec 32 :=
  let c3_i32_288 : BitVec 32 := 3#32
  let v460 : BitVec 32 := Scalar.shrsi v456 c3_i32_288
  let c3_i32_289 : BitVec 32 := 3#32
  let v461 : BitVec 32 := Scalar.shli v460 c3_i32_289
  v461

def k0_mult24 (v457 : BitVec 32) : BitVec 32 :=
  let c3_i32_290 : BitVec 32 := 3#32
  let v463 : BitVec 32 := Scalar.shrsi v457 c3_i32_290
  let c3_i32_291 : BitVec 32 := 3#32
  let v464 : BitVec 32 := Scalar.shli v463 c3_i32_291
  v464

def k0_off24 (v456 : BitVec 32) : Fin 2 → Nat :=
  let c3_i32_288 : BitVec 32 := 3#32
  let v460 : BitVec 32 := Scalar.shrsi v456 c3_i32_288
  let c3_i32_289 : BitVec 32 := 3#32
  let v461 : BitVec 32 := Scalar.shli v460 c3_i32_289
  let v462 : BitVec 32 := v461
  let v466 : Index := Scalar.indexCast v462
  let c0_292 : Index := 0#32
  ![v466.toNat, 0]

def k0_chk23 (v456 : BitVec 32) : Prop :=
  (8 ∣ (k0_mult23 v456).toNat) ∧
  (∀ a, (k0_off24 v456) a + S16x128.size a ≤ S66048x128.size a)
theorem k0_mult23_dvd : ∀ (v456 : BitVec 32) (k0_hw23 : k0_chk23 v456), 8 ∣ (k0_mult23 v456).toNat := fun v456 k0_hw23 => k0_hw23.1
theorem k0_off24_inb : ∀ (v456 : BitVec 32) (k0_hw23 : k0_chk23 v456), ∀ a, (k0_off24 v456) a + S16x128.size a ≤ S66048x128.size a := fun v456 k0_hw23 => k0_hw23.2

def k0_off25 (v457 : BitVec 32) : Fin 2 → Nat :=
  let c3_i32_290 : BitVec 32 := 3#32
  let v463 : BitVec 32 := Scalar.shrsi v457 c3_i32_290
  let c3_i32_291 : BitVec 32 := 3#32
  let v464 : BitVec 32 := Scalar.shli v463 c3_i32_291
  let v465 : BitVec 32 := v464
  let v468 : Index := Scalar.indexCast v465
  let c0_293 : Index := 0#32
  ![v468.toNat, 0]

def k0_chk24 (v457 : BitVec 32) : Prop :=
  (8 ∣ (k0_mult24 v457).toNat) ∧
  (∀ a, (k0_off25 v457) a + S16x128.size a ≤ S66048x128.size a)
theorem k0_mult24_dvd : ∀ (v457 : BitVec 32) (k0_hw24 : k0_chk24 v457), 8 ∣ (k0_mult24 v457).toNat := fun v457 k0_hw24 => k0_hw24.1
theorem k0_off25_inb : ∀ (v457 : BitVec 32) (k0_hw24 : k0_chk24 v457), ∀ a, (k0_off25 v457) a + S16x128.size a ≤ S66048x128.size a := fun v457 k0_hw24 => k0_hw24.2

def k0_mult25 (v495 : BitVec 32) : BitVec 32 :=
  let c3_i32_313 : BitVec 32 := 3#32
  let v499 : BitVec 32 := Scalar.shrsi v495 c3_i32_313
  let c3_i32_314 : BitVec 32 := 3#32
  let v500 : BitVec 32 := Scalar.shli v499 c3_i32_314
  v500

def k0_mult26 (v496 : BitVec 32) : BitVec 32 :=
  let c3_i32_315 : BitVec 32 := 3#32
  let v502 : BitVec 32 := Scalar.shrsi v496 c3_i32_315
  let c3_i32_316 : BitVec 32 := 3#32
  let v503 : BitVec 32 := Scalar.shli v502 c3_i32_316
  v503

def k0_off26 (v495 : BitVec 32) : Fin 2 → Nat :=
  let c3_i32_313 : BitVec 32 := 3#32
  let v499 : BitVec 32 := Scalar.shrsi v495 c3_i32_313
  let c3_i32_314 : BitVec 32 := 3#32
  let v500 : BitVec 32 := Scalar.shli v499 c3_i32_314
  let v501 : BitVec 32 := v500
  let v505 : Index := Scalar.indexCast v501
  let c0_317 : Index := 0#32
  ![v505.toNat, 0]

def k0_chk25 (v495 : BitVec 32) : Prop :=
  (8 ∣ (k0_mult25 v495).toNat) ∧
  (∀ a, (k0_off26 v495) a + S16x128.size a ≤ S66048x128.size a)
theorem k0_mult25_dvd : ∀ (v495 : BitVec 32) (k0_hw25 : k0_chk25 v495), 8 ∣ (k0_mult25 v495).toNat := fun v495 k0_hw25 => k0_hw25.1
theorem k0_off26_inb : ∀ (v495 : BitVec 32) (k0_hw25 : k0_chk25 v495), ∀ a, (k0_off26 v495) a + S16x128.size a ≤ S66048x128.size a := fun v495 k0_hw25 => k0_hw25.2

def k0_off27 (v496 : BitVec 32) : Fin 2 → Nat :=
  let c3_i32_315 : BitVec 32 := 3#32
  let v502 : BitVec 32 := Scalar.shrsi v496 c3_i32_315
  let c3_i32_316 : BitVec 32 := 3#32
  let v503 : BitVec 32 := Scalar.shli v502 c3_i32_316
  let v504 : BitVec 32 := v503
  let v507 : Index := Scalar.indexCast v504
  let c0_318 : Index := 0#32
  ![v507.toNat, 0]

def k0_chk26 (v496 : BitVec 32) : Prop :=
  (8 ∣ (k0_mult26 v496).toNat) ∧
  (∀ a, (k0_off27 v496) a + S16x128.size a ≤ S66048x128.size a)
theorem k0_mult26_dvd : ∀ (v496 : BitVec 32) (k0_hw26 : k0_chk26 v496), 8 ∣ (k0_mult26 v496).toNat := fun v496 k0_hw26 => k0_hw26.1
theorem k0_off27_inb : ∀ (v496 : BitVec 32) (k0_hw26 : k0_chk26 v496), ∀ a, (k0_off27 v496) a + S16x128.size a ≤ S66048x128.size a := fun v496 k0_hw26 => k0_hw26.2

def k0_mult27 (v534 : BitVec 32) : BitVec 32 :=
  let c3_i32_338 : BitVec 32 := 3#32
  let v538 : BitVec 32 := Scalar.shrsi v534 c3_i32_338
  let c3_i32_339 : BitVec 32 := 3#32
  let v539 : BitVec 32 := Scalar.shli v538 c3_i32_339
  v539

def k0_mult28 (v535 : BitVec 32) : BitVec 32 :=
  let c3_i32_340 : BitVec 32 := 3#32
  let v541 : BitVec 32 := Scalar.shrsi v535 c3_i32_340
  let c3_i32_341 : BitVec 32 := 3#32
  let v542 : BitVec 32 := Scalar.shli v541 c3_i32_341
  v542

def k0_off28 (v534 : BitVec 32) : Fin 2 → Nat :=
  let c3_i32_338 : BitVec 32 := 3#32
  let v538 : BitVec 32 := Scalar.shrsi v534 c3_i32_338
  let c3_i32_339 : BitVec 32 := 3#32
  let v539 : BitVec 32 := Scalar.shli v538 c3_i32_339
  let v540 : BitVec 32 := v539
  let v544 : Index := Scalar.indexCast v540
  let c0_342 : Index := 0#32
  ![v544.toNat, 0]

def k0_chk27 (v534 : BitVec 32) : Prop :=
  (8 ∣ (k0_mult27 v534).toNat) ∧
  (∀ a, (k0_off28 v534) a + S16x128.size a ≤ S66048x128.size a)
theorem k0_mult27_dvd : ∀ (v534 : BitVec 32) (k0_hw27 : k0_chk27 v534), 8 ∣ (k0_mult27 v534).toNat := fun v534 k0_hw27 => k0_hw27.1
theorem k0_off28_inb : ∀ (v534 : BitVec 32) (k0_hw27 : k0_chk27 v534), ∀ a, (k0_off28 v534) a + S16x128.size a ≤ S66048x128.size a := fun v534 k0_hw27 => k0_hw27.2

def k0_off29 (v535 : BitVec 32) : Fin 2 → Nat :=
  let c3_i32_340 : BitVec 32 := 3#32
  let v541 : BitVec 32 := Scalar.shrsi v535 c3_i32_340
  let c3_i32_341 : BitVec 32 := 3#32
  let v542 : BitVec 32 := Scalar.shli v541 c3_i32_341
  let v543 : BitVec 32 := v542
  let v546 : Index := Scalar.indexCast v543
  let c0_343 : Index := 0#32
  ![v546.toNat, 0]

def k0_chk28 (v535 : BitVec 32) : Prop :=
  (8 ∣ (k0_mult28 v535).toNat) ∧
  (∀ a, (k0_off29 v535) a + S16x128.size a ≤ S66048x128.size a)
theorem k0_mult28_dvd : ∀ (v535 : BitVec 32) (k0_hw28 : k0_chk28 v535), 8 ∣ (k0_mult28 v535).toNat := fun v535 k0_hw28 => k0_hw28.1
theorem k0_off29_inb : ∀ (v535 : BitVec 32) (k0_hw28 : k0_chk28 v535), ∀ a, (k0_off29 v535) a + S16x128.size a ≤ S66048x128.size a := fun v535 k0_hw28 => k0_hw28.2

def k0_mult29 (v573 : BitVec 32) : BitVec 32 :=
  let c3_i32_363 : BitVec 32 := 3#32
  let v577 : BitVec 32 := Scalar.shrsi v573 c3_i32_363
  let c3_i32_364 : BitVec 32 := 3#32
  let v578 : BitVec 32 := Scalar.shli v577 c3_i32_364
  v578

def k0_mult30 (v574 : BitVec 32) : BitVec 32 :=
  let c3_i32_365 : BitVec 32 := 3#32
  let v580 : BitVec 32 := Scalar.shrsi v574 c3_i32_365
  let c3_i32_366 : BitVec 32 := 3#32
  let v581 : BitVec 32 := Scalar.shli v580 c3_i32_366
  v581

def k0_off30 (v573 : BitVec 32) : Fin 2 → Nat :=
  let c3_i32_363 : BitVec 32 := 3#32
  let v577 : BitVec 32 := Scalar.shrsi v573 c3_i32_363
  let c3_i32_364 : BitVec 32 := 3#32
  let v578 : BitVec 32 := Scalar.shli v577 c3_i32_364
  let v579 : BitVec 32 := v578
  let v583 : Index := Scalar.indexCast v579
  let c0_367 : Index := 0#32
  ![v583.toNat, 0]

def k0_chk29 (v573 : BitVec 32) : Prop :=
  (8 ∣ (k0_mult29 v573).toNat) ∧
  (∀ a, (k0_off30 v573) a + S16x128.size a ≤ S66048x128.size a)
theorem k0_mult29_dvd : ∀ (v573 : BitVec 32) (k0_hw29 : k0_chk29 v573), 8 ∣ (k0_mult29 v573).toNat := fun v573 k0_hw29 => k0_hw29.1
theorem k0_off30_inb : ∀ (v573 : BitVec 32) (k0_hw29 : k0_chk29 v573), ∀ a, (k0_off30 v573) a + S16x128.size a ≤ S66048x128.size a := fun v573 k0_hw29 => k0_hw29.2

def k0_off31 (v574 : BitVec 32) : Fin 2 → Nat :=
  let c3_i32_365 : BitVec 32 := 3#32
  let v580 : BitVec 32 := Scalar.shrsi v574 c3_i32_365
  let c3_i32_366 : BitVec 32 := 3#32
  let v581 : BitVec 32 := Scalar.shli v580 c3_i32_366
  let v582 : BitVec 32 := v581
  let v585 : Index := Scalar.indexCast v582
  let c0_368 : Index := 0#32
  ![v585.toNat, 0]

def k0_chk30 (v574 : BitVec 32) : Prop :=
  (8 ∣ (k0_mult30 v574).toNat) ∧
  (∀ a, (k0_off31 v574) a + S16x128.size a ≤ S66048x128.size a)
theorem k0_mult30_dvd : ∀ (v574 : BitVec 32) (k0_hw30 : k0_chk30 v574), 8 ∣ (k0_mult30 v574).toNat := fun v574 k0_hw30 => k0_hw30.1
theorem k0_off31_inb : ∀ (v574 : BitVec 32) (k0_hw30 : k0_chk30 v574), ∀ a, (k0_off31 v574) a + S16x128.size a ≤ S66048x128.size a := fun v574 k0_hw30 => k0_hw30.2

def k0_mult31 (v612 : BitVec 32) : BitVec 32 :=
  let c3_i32_388 : BitVec 32 := 3#32
  let v616 : BitVec 32 := Scalar.shrsi v612 c3_i32_388
  let c3_i32_389 : BitVec 32 := 3#32
  let v617 : BitVec 32 := Scalar.shli v616 c3_i32_389
  v617

def k0_mult32 (v613 : BitVec 32) : BitVec 32 :=
  let c3_i32_390 : BitVec 32 := 3#32
  let v619 : BitVec 32 := Scalar.shrsi v613 c3_i32_390
  let c3_i32_391 : BitVec 32 := 3#32
  let v620 : BitVec 32 := Scalar.shli v619 c3_i32_391
  v620

def k0_off32 (v612 : BitVec 32) : Fin 2 → Nat :=
  let c3_i32_388 : BitVec 32 := 3#32
  let v616 : BitVec 32 := Scalar.shrsi v612 c3_i32_388
  let c3_i32_389 : BitVec 32 := 3#32
  let v617 : BitVec 32 := Scalar.shli v616 c3_i32_389
  let v618 : BitVec 32 := v617
  let v622 : Index := Scalar.indexCast v618
  let c0_392 : Index := 0#32
  ![v622.toNat, 0]

def k0_chk31 (v612 : BitVec 32) : Prop :=
  (8 ∣ (k0_mult31 v612).toNat) ∧
  (∀ a, (k0_off32 v612) a + S16x128.size a ≤ S66048x128.size a)
theorem k0_mult31_dvd : ∀ (v612 : BitVec 32) (k0_hw31 : k0_chk31 v612), 8 ∣ (k0_mult31 v612).toNat := fun v612 k0_hw31 => k0_hw31.1
theorem k0_off32_inb : ∀ (v612 : BitVec 32) (k0_hw31 : k0_chk31 v612), ∀ a, (k0_off32 v612) a + S16x128.size a ≤ S66048x128.size a := fun v612 k0_hw31 => k0_hw31.2

def k0_off33 (v613 : BitVec 32) : Fin 2 → Nat :=
  let c3_i32_390 : BitVec 32 := 3#32
  let v619 : BitVec 32 := Scalar.shrsi v613 c3_i32_390
  let c3_i32_391 : BitVec 32 := 3#32
  let v620 : BitVec 32 := Scalar.shli v619 c3_i32_391
  let v621 : BitVec 32 := v620
  let v624 : Index := Scalar.indexCast v621
  let c0_393 : Index := 0#32
  ![v624.toNat, 0]

def k0_chk32 (v613 : BitVec 32) : Prop :=
  (8 ∣ (k0_mult32 v613).toNat) ∧
  (∀ a, (k0_off33 v613) a + S16x128.size a ≤ S66048x128.size a)
theorem k0_mult32_dvd : ∀ (v613 : BitVec 32) (k0_hw32 : k0_chk32 v613), 8 ∣ (k0_mult32 v613).toNat := fun v613 k0_hw32 => k0_hw32.1
theorem k0_off33_inb : ∀ (v613 : BitVec 32) (k0_hw32 : k0_chk32 v613), ∀ a, (k0_off33 v613) a + S16x128.size a ≤ S66048x128.size a := fun v613 k0_hw32 => k0_hw32.2

def k0_mult33 (v651 : BitVec 32) : BitVec 32 :=
  let c3_i32_413 : BitVec 32 := 3#32
  let v655 : BitVec 32 := Scalar.shrsi v651 c3_i32_413
  let c3_i32_414 : BitVec 32 := 3#32
  let v656 : BitVec 32 := Scalar.shli v655 c3_i32_414
  v656

def k0_mult34 (v652 : BitVec 32) : BitVec 32 :=
  let c3_i32_415 : BitVec 32 := 3#32
  let v658 : BitVec 32 := Scalar.shrsi v652 c3_i32_415
  let c3_i32_416 : BitVec 32 := 3#32
  let v659 : BitVec 32 := Scalar.shli v658 c3_i32_416
  v659

def k0_off34 (v651 : BitVec 32) : Fin 2 → Nat :=
  let c3_i32_413 : BitVec 32 := 3#32
  let v655 : BitVec 32 := Scalar.shrsi v651 c3_i32_413
  let c3_i32_414 : BitVec 32 := 3#32
  let v656 : BitVec 32 := Scalar.shli v655 c3_i32_414
  let v657 : BitVec 32 := v656
  let v661 : Index := Scalar.indexCast v657
  let c0_417 : Index := 0#32
  ![v661.toNat, 0]

def k0_chk33 (v651 : BitVec 32) : Prop :=
  (8 ∣ (k0_mult33 v651).toNat) ∧
  (∀ a, (k0_off34 v651) a + S16x128.size a ≤ S66048x128.size a)
theorem k0_mult33_dvd : ∀ (v651 : BitVec 32) (k0_hw33 : k0_chk33 v651), 8 ∣ (k0_mult33 v651).toNat := fun v651 k0_hw33 => k0_hw33.1
theorem k0_off34_inb : ∀ (v651 : BitVec 32) (k0_hw33 : k0_chk33 v651), ∀ a, (k0_off34 v651) a + S16x128.size a ≤ S66048x128.size a := fun v651 k0_hw33 => k0_hw33.2

def k0_off35 (v652 : BitVec 32) : Fin 2 → Nat :=
  let c3_i32_415 : BitVec 32 := 3#32
  let v658 : BitVec 32 := Scalar.shrsi v652 c3_i32_415
  let c3_i32_416 : BitVec 32 := 3#32
  let v659 : BitVec 32 := Scalar.shli v658 c3_i32_416
  let v660 : BitVec 32 := v659
  let v663 : Index := Scalar.indexCast v660
  let c0_418 : Index := 0#32
  ![v663.toNat, 0]

def k0_chk34 (v652 : BitVec 32) : Prop :=
  (8 ∣ (k0_mult34 v652).toNat) ∧
  (∀ a, (k0_off35 v652) a + S16x128.size a ≤ S66048x128.size a)
theorem k0_mult34_dvd : ∀ (v652 : BitVec 32) (k0_hw34 : k0_chk34 v652), 8 ∣ (k0_mult34 v652).toNat := fun v652 k0_hw34 => k0_hw34.1
theorem k0_off35_inb : ∀ (v652 : BitVec 32) (k0_hw34 : k0_chk34 v652), ∀ a, (k0_off35 v652) a + S16x128.size a ≤ S66048x128.size a := fun v652 k0_hw34 => k0_hw34.2

def k0_mult35 (v690 : BitVec 32) : BitVec 32 :=
  let c3_i32_438 : BitVec 32 := 3#32
  let v694 : BitVec 32 := Scalar.shrsi v690 c3_i32_438
  let c3_i32_439 : BitVec 32 := 3#32
  let v695 : BitVec 32 := Scalar.shli v694 c3_i32_439
  v695

def k0_mult36 (v691 : BitVec 32) : BitVec 32 :=
  let c3_i32_440 : BitVec 32 := 3#32
  let v697 : BitVec 32 := Scalar.shrsi v691 c3_i32_440
  let c3_i32_441 : BitVec 32 := 3#32
  let v698 : BitVec 32 := Scalar.shli v697 c3_i32_441
  v698

def k0_off36 (v690 : BitVec 32) : Fin 2 → Nat :=
  let c3_i32_438 : BitVec 32 := 3#32
  let v694 : BitVec 32 := Scalar.shrsi v690 c3_i32_438
  let c3_i32_439 : BitVec 32 := 3#32
  let v695 : BitVec 32 := Scalar.shli v694 c3_i32_439
  let v696 : BitVec 32 := v695
  let v700 : Index := Scalar.indexCast v696
  let c0_442 : Index := 0#32
  ![v700.toNat, 0]

def k0_chk35 (v690 : BitVec 32) : Prop :=
  (8 ∣ (k0_mult35 v690).toNat) ∧
  (∀ a, (k0_off36 v690) a + S16x128.size a ≤ S66048x128.size a)
theorem k0_mult35_dvd : ∀ (v690 : BitVec 32) (k0_hw35 : k0_chk35 v690), 8 ∣ (k0_mult35 v690).toNat := fun v690 k0_hw35 => k0_hw35.1
theorem k0_off36_inb : ∀ (v690 : BitVec 32) (k0_hw35 : k0_chk35 v690), ∀ a, (k0_off36 v690) a + S16x128.size a ≤ S66048x128.size a := fun v690 k0_hw35 => k0_hw35.2

def k0_off37 (v691 : BitVec 32) : Fin 2 → Nat :=
  let c3_i32_440 : BitVec 32 := 3#32
  let v697 : BitVec 32 := Scalar.shrsi v691 c3_i32_440
  let c3_i32_441 : BitVec 32 := 3#32
  let v698 : BitVec 32 := Scalar.shli v697 c3_i32_441
  let v699 : BitVec 32 := v698
  let v702 : Index := Scalar.indexCast v699
  let c0_443 : Index := 0#32
  ![v702.toNat, 0]

def k0_chk36 (v691 : BitVec 32) : Prop :=
  (8 ∣ (k0_mult36 v691).toNat) ∧
  (∀ a, (k0_off37 v691) a + S16x128.size a ≤ S66048x128.size a)
theorem k0_mult36_dvd : ∀ (v691 : BitVec 32) (k0_hw36 : k0_chk36 v691), 8 ∣ (k0_mult36 v691).toNat := fun v691 k0_hw36 => k0_hw36.1
theorem k0_off37_inb : ∀ (v691 : BitVec 32) (k0_hw36 : k0_chk36 v691), ∀ a, (k0_off37 v691) a + S16x128.size a ≤ S66048x128.size a := fun v691 k0_hw36 => k0_hw36.2

def k0_mult37 (v729 : BitVec 32) : BitVec 32 :=
  let c3_i32_463 : BitVec 32 := 3#32
  let v733 : BitVec 32 := Scalar.shrsi v729 c3_i32_463
  let c3_i32_464 : BitVec 32 := 3#32
  let v734 : BitVec 32 := Scalar.shli v733 c3_i32_464
  v734

def k0_mult38 (v730 : BitVec 32) : BitVec 32 :=
  let c3_i32_465 : BitVec 32 := 3#32
  let v736 : BitVec 32 := Scalar.shrsi v730 c3_i32_465
  let c3_i32_466 : BitVec 32 := 3#32
  let v737 : BitVec 32 := Scalar.shli v736 c3_i32_466
  v737

def k0_off38 (v729 : BitVec 32) : Fin 2 → Nat :=
  let c3_i32_463 : BitVec 32 := 3#32
  let v733 : BitVec 32 := Scalar.shrsi v729 c3_i32_463
  let c3_i32_464 : BitVec 32 := 3#32
  let v734 : BitVec 32 := Scalar.shli v733 c3_i32_464
  let v735 : BitVec 32 := v734
  let v739 : Index := Scalar.indexCast v735
  let c0_467 : Index := 0#32
  ![v739.toNat, 0]

def k0_chk37 (v729 : BitVec 32) : Prop :=
  (8 ∣ (k0_mult37 v729).toNat) ∧
  (∀ a, (k0_off38 v729) a + S16x128.size a ≤ S66048x128.size a)
theorem k0_mult37_dvd : ∀ (v729 : BitVec 32) (k0_hw37 : k0_chk37 v729), 8 ∣ (k0_mult37 v729).toNat := fun v729 k0_hw37 => k0_hw37.1
theorem k0_off38_inb : ∀ (v729 : BitVec 32) (k0_hw37 : k0_chk37 v729), ∀ a, (k0_off38 v729) a + S16x128.size a ≤ S66048x128.size a := fun v729 k0_hw37 => k0_hw37.2

def k0_off39 (v730 : BitVec 32) : Fin 2 → Nat :=
  let c3_i32_465 : BitVec 32 := 3#32
  let v736 : BitVec 32 := Scalar.shrsi v730 c3_i32_465
  let c3_i32_466 : BitVec 32 := 3#32
  let v737 : BitVec 32 := Scalar.shli v736 c3_i32_466
  let v738 : BitVec 32 := v737
  let v741 : Index := Scalar.indexCast v738
  let c0_468 : Index := 0#32
  ![v741.toNat, 0]

def k0_chk38 (v730 : BitVec 32) : Prop :=
  (8 ∣ (k0_mult38 v730).toNat) ∧
  (∀ a, (k0_off39 v730) a + S16x128.size a ≤ S66048x128.size a)
theorem k0_mult38_dvd : ∀ (v730 : BitVec 32) (k0_hw38 : k0_chk38 v730), 8 ∣ (k0_mult38 v730).toNat := fun v730 k0_hw38 => k0_hw38.1
theorem k0_off39_inb : ∀ (v730 : BitVec 32) (k0_hw38 : k0_chk38 v730), ∀ a, (k0_off39 v730) a + S16x128.size a ≤ S66048x128.size a := fun v730 k0_hw38 => k0_hw38.2

def k0_mult39 (v768 : BitVec 32) : BitVec 32 :=
  let c3_i32_488 : BitVec 32 := 3#32
  let v772 : BitVec 32 := Scalar.shrsi v768 c3_i32_488
  let c3_i32_489 : BitVec 32 := 3#32
  let v773 : BitVec 32 := Scalar.shli v772 c3_i32_489
  v773

def k0_mult40 (v769 : BitVec 32) : BitVec 32 :=
  let c3_i32_490 : BitVec 32 := 3#32
  let v775 : BitVec 32 := Scalar.shrsi v769 c3_i32_490
  let c3_i32_491 : BitVec 32 := 3#32
  let v776 : BitVec 32 := Scalar.shli v775 c3_i32_491
  v776

def k0_off40 (v768 : BitVec 32) : Fin 2 → Nat :=
  let c3_i32_488 : BitVec 32 := 3#32
  let v772 : BitVec 32 := Scalar.shrsi v768 c3_i32_488
  let c3_i32_489 : BitVec 32 := 3#32
  let v773 : BitVec 32 := Scalar.shli v772 c3_i32_489
  let v774 : BitVec 32 := v773
  let v778 : Index := Scalar.indexCast v774
  let c0_492 : Index := 0#32
  ![v778.toNat, 0]

def k0_chk39 (v768 : BitVec 32) : Prop :=
  (8 ∣ (k0_mult39 v768).toNat) ∧
  (∀ a, (k0_off40 v768) a + S16x128.size a ≤ S66048x128.size a)
theorem k0_mult39_dvd : ∀ (v768 : BitVec 32) (k0_hw39 : k0_chk39 v768), 8 ∣ (k0_mult39 v768).toNat := fun v768 k0_hw39 => k0_hw39.1
theorem k0_off40_inb : ∀ (v768 : BitVec 32) (k0_hw39 : k0_chk39 v768), ∀ a, (k0_off40 v768) a + S16x128.size a ≤ S66048x128.size a := fun v768 k0_hw39 => k0_hw39.2

def k0_off41 (v769 : BitVec 32) : Fin 2 → Nat :=
  let c3_i32_490 : BitVec 32 := 3#32
  let v775 : BitVec 32 := Scalar.shrsi v769 c3_i32_490
  let c3_i32_491 : BitVec 32 := 3#32
  let v776 : BitVec 32 := Scalar.shli v775 c3_i32_491
  let v777 : BitVec 32 := v776
  let v780 : Index := Scalar.indexCast v777
  let c0_493 : Index := 0#32
  ![v780.toNat, 0]

def k0_chk40 (v769 : BitVec 32) : Prop :=
  (8 ∣ (k0_mult40 v769).toNat) ∧
  (∀ a, (k0_off41 v769) a + S16x128.size a ≤ S66048x128.size a)
theorem k0_mult40_dvd : ∀ (v769 : BitVec 32) (k0_hw40 : k0_chk40 v769), 8 ∣ (k0_mult40 v769).toNat := fun v769 k0_hw40 => k0_hw40.1
theorem k0_off41_inb : ∀ (v769 : BitVec 32) (k0_hw40 : k0_chk40 v769), ∀ a, (k0_off41 v769) a + S16x128.size a ≤ S66048x128.size a := fun v769 k0_hw40 => k0_hw40.2

def k0_mult41 (v807 : BitVec 32) : BitVec 32 :=
  let c3_i32_513 : BitVec 32 := 3#32
  let v811 : BitVec 32 := Scalar.shrsi v807 c3_i32_513
  let c3_i32_514 : BitVec 32 := 3#32
  let v812 : BitVec 32 := Scalar.shli v811 c3_i32_514
  v812

def k0_mult42 (v808 : BitVec 32) : BitVec 32 :=
  let c3_i32_515 : BitVec 32 := 3#32
  let v814 : BitVec 32 := Scalar.shrsi v808 c3_i32_515
  let c3_i32_516 : BitVec 32 := 3#32
  let v815 : BitVec 32 := Scalar.shli v814 c3_i32_516
  v815

def k0_off42 (v807 : BitVec 32) : Fin 2 → Nat :=
  let c3_i32_513 : BitVec 32 := 3#32
  let v811 : BitVec 32 := Scalar.shrsi v807 c3_i32_513
  let c3_i32_514 : BitVec 32 := 3#32
  let v812 : BitVec 32 := Scalar.shli v811 c3_i32_514
  let v813 : BitVec 32 := v812
  let v817 : Index := Scalar.indexCast v813
  let c0_517 : Index := 0#32
  ![v817.toNat, 0]

def k0_chk41 (v807 : BitVec 32) : Prop :=
  (8 ∣ (k0_mult41 v807).toNat) ∧
  (∀ a, (k0_off42 v807) a + S16x128.size a ≤ S66048x128.size a)
theorem k0_mult41_dvd : ∀ (v807 : BitVec 32) (k0_hw41 : k0_chk41 v807), 8 ∣ (k0_mult41 v807).toNat := fun v807 k0_hw41 => k0_hw41.1
theorem k0_off42_inb : ∀ (v807 : BitVec 32) (k0_hw41 : k0_chk41 v807), ∀ a, (k0_off42 v807) a + S16x128.size a ≤ S66048x128.size a := fun v807 k0_hw41 => k0_hw41.2

def k0_off43 (v808 : BitVec 32) : Fin 2 → Nat :=
  let c3_i32_515 : BitVec 32 := 3#32
  let v814 : BitVec 32 := Scalar.shrsi v808 c3_i32_515
  let c3_i32_516 : BitVec 32 := 3#32
  let v815 : BitVec 32 := Scalar.shli v814 c3_i32_516
  let v816 : BitVec 32 := v815
  let v819 : Index := Scalar.indexCast v816
  let c0_518 : Index := 0#32
  ![v819.toNat, 0]

def k0_chk42 (v808 : BitVec 32) : Prop :=
  (8 ∣ (k0_mult42 v808).toNat) ∧
  (∀ a, (k0_off43 v808) a + S16x128.size a ≤ S66048x128.size a)
theorem k0_mult42_dvd : ∀ (v808 : BitVec 32) (k0_hw42 : k0_chk42 v808), 8 ∣ (k0_mult42 v808).toNat := fun v808 k0_hw42 => k0_hw42.1
theorem k0_off43_inb : ∀ (v808 : BitVec 32) (k0_hw42 : k0_chk42 v808), ∀ a, (k0_off43 v808) a + S16x128.size a ≤ S66048x128.size a := fun v808 k0_hw42 => k0_hw42.2

def k0_mult43 (v846 : BitVec 32) : BitVec 32 :=
  let c3_i32_538 : BitVec 32 := 3#32
  let v850 : BitVec 32 := Scalar.shrsi v846 c3_i32_538
  let c3_i32_539 : BitVec 32 := 3#32
  let v851 : BitVec 32 := Scalar.shli v850 c3_i32_539
  v851

def k0_mult44 (v847 : BitVec 32) : BitVec 32 :=
  let c3_i32_540 : BitVec 32 := 3#32
  let v853 : BitVec 32 := Scalar.shrsi v847 c3_i32_540
  let c3_i32_541 : BitVec 32 := 3#32
  let v854 : BitVec 32 := Scalar.shli v853 c3_i32_541
  v854

def k0_off44 (v846 : BitVec 32) : Fin 2 → Nat :=
  let c3_i32_538 : BitVec 32 := 3#32
  let v850 : BitVec 32 := Scalar.shrsi v846 c3_i32_538
  let c3_i32_539 : BitVec 32 := 3#32
  let v851 : BitVec 32 := Scalar.shli v850 c3_i32_539
  let v852 : BitVec 32 := v851
  let v856 : Index := Scalar.indexCast v852
  let c0_542 : Index := 0#32
  ![v856.toNat, 0]

def k0_chk43 (v846 : BitVec 32) : Prop :=
  (8 ∣ (k0_mult43 v846).toNat) ∧
  (∀ a, (k0_off44 v846) a + S16x128.size a ≤ S66048x128.size a)
theorem k0_mult43_dvd : ∀ (v846 : BitVec 32) (k0_hw43 : k0_chk43 v846), 8 ∣ (k0_mult43 v846).toNat := fun v846 k0_hw43 => k0_hw43.1
theorem k0_off44_inb : ∀ (v846 : BitVec 32) (k0_hw43 : k0_chk43 v846), ∀ a, (k0_off44 v846) a + S16x128.size a ≤ S66048x128.size a := fun v846 k0_hw43 => k0_hw43.2

def k0_off45 (v847 : BitVec 32) : Fin 2 → Nat :=
  let c3_i32_540 : BitVec 32 := 3#32
  let v853 : BitVec 32 := Scalar.shrsi v847 c3_i32_540
  let c3_i32_541 : BitVec 32 := 3#32
  let v854 : BitVec 32 := Scalar.shli v853 c3_i32_541
  let v855 : BitVec 32 := v854
  let v858 : Index := Scalar.indexCast v855
  let c0_543 : Index := 0#32
  ![v858.toNat, 0]

def k0_chk44 (v847 : BitVec 32) : Prop :=
  (8 ∣ (k0_mult44 v847).toNat) ∧
  (∀ a, (k0_off45 v847) a + S16x128.size a ≤ S66048x128.size a)
theorem k0_mult44_dvd : ∀ (v847 : BitVec 32) (k0_hw44 : k0_chk44 v847), 8 ∣ (k0_mult44 v847).toNat := fun v847 k0_hw44 => k0_hw44.1
theorem k0_off45_inb : ∀ (v847 : BitVec 32) (k0_hw44 : k0_chk44 v847), ∀ a, (k0_off45 v847) a + S16x128.size a ≤ S66048x128.size a := fun v847 k0_hw44 => k0_hw44.2

def k0_mult45 (v885 : BitVec 32) : BitVec 32 :=
  let c3_i32_563 : BitVec 32 := 3#32
  let v889 : BitVec 32 := Scalar.shrsi v885 c3_i32_563
  let c3_i32_564 : BitVec 32 := 3#32
  let v890 : BitVec 32 := Scalar.shli v889 c3_i32_564
  v890

def k0_mult46 (v886 : BitVec 32) : BitVec 32 :=
  let c3_i32_565 : BitVec 32 := 3#32
  let v892 : BitVec 32 := Scalar.shrsi v886 c3_i32_565
  let c3_i32_566 : BitVec 32 := 3#32
  let v893 : BitVec 32 := Scalar.shli v892 c3_i32_566
  v893

def k0_off46 (v885 : BitVec 32) : Fin 2 → Nat :=
  let c3_i32_563 : BitVec 32 := 3#32
  let v889 : BitVec 32 := Scalar.shrsi v885 c3_i32_563
  let c3_i32_564 : BitVec 32 := 3#32
  let v890 : BitVec 32 := Scalar.shli v889 c3_i32_564
  let v891 : BitVec 32 := v890
  let v895 : Index := Scalar.indexCast v891
  let c0_567 : Index := 0#32
  ![v895.toNat, 0]

def k0_chk45 (v885 : BitVec 32) : Prop :=
  (8 ∣ (k0_mult45 v885).toNat) ∧
  (∀ a, (k0_off46 v885) a + S16x128.size a ≤ S66048x128.size a)
theorem k0_mult45_dvd : ∀ (v885 : BitVec 32) (k0_hw45 : k0_chk45 v885), 8 ∣ (k0_mult45 v885).toNat := fun v885 k0_hw45 => k0_hw45.1
theorem k0_off46_inb : ∀ (v885 : BitVec 32) (k0_hw45 : k0_chk45 v885), ∀ a, (k0_off46 v885) a + S16x128.size a ≤ S66048x128.size a := fun v885 k0_hw45 => k0_hw45.2

def k0_off47 (v886 : BitVec 32) : Fin 2 → Nat :=
  let c3_i32_565 : BitVec 32 := 3#32
  let v892 : BitVec 32 := Scalar.shrsi v886 c3_i32_565
  let c3_i32_566 : BitVec 32 := 3#32
  let v893 : BitVec 32 := Scalar.shli v892 c3_i32_566
  let v894 : BitVec 32 := v893
  let v897 : Index := Scalar.indexCast v894
  let c0_568 : Index := 0#32
  ![v897.toNat, 0]

def k0_chk46 (v886 : BitVec 32) : Prop :=
  (8 ∣ (k0_mult46 v886).toNat) ∧
  (∀ a, (k0_off47 v886) a + S16x128.size a ≤ S66048x128.size a)
theorem k0_mult46_dvd : ∀ (v886 : BitVec 32) (k0_hw46 : k0_chk46 v886), 8 ∣ (k0_mult46 v886).toNat := fun v886 k0_hw46 => k0_hw46.1
theorem k0_off47_inb : ∀ (v886 : BitVec 32) (k0_hw46 : k0_chk46 v886), ∀ a, (k0_off47 v886) a + S16x128.size a ≤ S66048x128.size a := fun v886 k0_hw46 => k0_hw46.2

def k0_mult47 (v924 : BitVec 32) : BitVec 32 :=
  let c3_i32_588 : BitVec 32 := 3#32
  let v928 : BitVec 32 := Scalar.shrsi v924 c3_i32_588
  let c3_i32_589 : BitVec 32 := 3#32
  let v929 : BitVec 32 := Scalar.shli v928 c3_i32_589
  v929

def k0_mult48 (v925 : BitVec 32) : BitVec 32 :=
  let c3_i32_590 : BitVec 32 := 3#32
  let v931 : BitVec 32 := Scalar.shrsi v925 c3_i32_590
  let c3_i32_591 : BitVec 32 := 3#32
  let v932 : BitVec 32 := Scalar.shli v931 c3_i32_591
  v932

def k0_off48 (v924 : BitVec 32) : Fin 2 → Nat :=
  let c3_i32_588 : BitVec 32 := 3#32
  let v928 : BitVec 32 := Scalar.shrsi v924 c3_i32_588
  let c3_i32_589 : BitVec 32 := 3#32
  let v929 : BitVec 32 := Scalar.shli v928 c3_i32_589
  let v930 : BitVec 32 := v929
  let v934 : Index := Scalar.indexCast v930
  let c0_592 : Index := 0#32
  ![v934.toNat, 0]

def k0_chk47 (v924 : BitVec 32) : Prop :=
  (8 ∣ (k0_mult47 v924).toNat) ∧
  (∀ a, (k0_off48 v924) a + S16x128.size a ≤ S66048x128.size a)
theorem k0_mult47_dvd : ∀ (v924 : BitVec 32) (k0_hw47 : k0_chk47 v924), 8 ∣ (k0_mult47 v924).toNat := fun v924 k0_hw47 => k0_hw47.1
theorem k0_off48_inb : ∀ (v924 : BitVec 32) (k0_hw47 : k0_chk47 v924), ∀ a, (k0_off48 v924) a + S16x128.size a ≤ S66048x128.size a := fun v924 k0_hw47 => k0_hw47.2

def k0_off49 (v925 : BitVec 32) : Fin 2 → Nat :=
  let c3_i32_590 : BitVec 32 := 3#32
  let v931 : BitVec 32 := Scalar.shrsi v925 c3_i32_590
  let c3_i32_591 : BitVec 32 := 3#32
  let v932 : BitVec 32 := Scalar.shli v931 c3_i32_591
  let v933 : BitVec 32 := v932
  let v936 : Index := Scalar.indexCast v933
  let c0_593 : Index := 0#32
  ![v936.toNat, 0]

def k0_chk48 (v925 : BitVec 32) : Prop :=
  (8 ∣ (k0_mult48 v925).toNat) ∧
  (∀ a, (k0_off49 v925) a + S16x128.size a ≤ S66048x128.size a)
theorem k0_mult48_dvd : ∀ (v925 : BitVec 32) (k0_hw48 : k0_chk48 v925), 8 ∣ (k0_mult48 v925).toNat := fun v925 k0_hw48 => k0_hw48.1
theorem k0_off49_inb : ∀ (v925 : BitVec 32) (k0_hw48 : k0_chk48 v925), ∀ a, (k0_off49 v925) a + S16x128.size a ≤ S66048x128.size a := fun v925 k0_hw48 => k0_hw48.2

def k0_mult49 (v963 : BitVec 32) : BitVec 32 :=
  let c3_i32_613 : BitVec 32 := 3#32
  let v967 : BitVec 32 := Scalar.shrsi v963 c3_i32_613
  let c3_i32_614 : BitVec 32 := 3#32
  let v968 : BitVec 32 := Scalar.shli v967 c3_i32_614
  v968

def k0_mult50 (v964 : BitVec 32) : BitVec 32 :=
  let c3_i32_615 : BitVec 32 := 3#32
  let v970 : BitVec 32 := Scalar.shrsi v964 c3_i32_615
  let c3_i32_616 : BitVec 32 := 3#32
  let v971 : BitVec 32 := Scalar.shli v970 c3_i32_616
  v971

def k0_off50 (v963 : BitVec 32) : Fin 2 → Nat :=
  let c3_i32_613 : BitVec 32 := 3#32
  let v967 : BitVec 32 := Scalar.shrsi v963 c3_i32_613
  let c3_i32_614 : BitVec 32 := 3#32
  let v968 : BitVec 32 := Scalar.shli v967 c3_i32_614
  let v969 : BitVec 32 := v968
  let v973 : Index := Scalar.indexCast v969
  let c0_617 : Index := 0#32
  ![v973.toNat, 0]

def k0_chk49 (v963 : BitVec 32) : Prop :=
  (8 ∣ (k0_mult49 v963).toNat) ∧
  (∀ a, (k0_off50 v963) a + S16x128.size a ≤ S66048x128.size a)
theorem k0_mult49_dvd : ∀ (v963 : BitVec 32) (k0_hw49 : k0_chk49 v963), 8 ∣ (k0_mult49 v963).toNat := fun v963 k0_hw49 => k0_hw49.1
theorem k0_off50_inb : ∀ (v963 : BitVec 32) (k0_hw49 : k0_chk49 v963), ∀ a, (k0_off50 v963) a + S16x128.size a ≤ S66048x128.size a := fun v963 k0_hw49 => k0_hw49.2

def k0_off51 (v964 : BitVec 32) : Fin 2 → Nat :=
  let c3_i32_615 : BitVec 32 := 3#32
  let v970 : BitVec 32 := Scalar.shrsi v964 c3_i32_615
  let c3_i32_616 : BitVec 32 := 3#32
  let v971 : BitVec 32 := Scalar.shli v970 c3_i32_616
  let v972 : BitVec 32 := v971
  let v975 : Index := Scalar.indexCast v972
  let c0_618 : Index := 0#32
  ![v975.toNat, 0]

def k0_chk50 (v964 : BitVec 32) : Prop :=
  (8 ∣ (k0_mult50 v964).toNat) ∧
  (∀ a, (k0_off51 v964) a + S16x128.size a ≤ S66048x128.size a)
theorem k0_mult50_dvd : ∀ (v964 : BitVec 32) (k0_hw50 : k0_chk50 v964), 8 ∣ (k0_mult50 v964).toNat := fun v964 k0_hw50 => k0_hw50.1
theorem k0_off51_inb : ∀ (v964 : BitVec 32) (k0_hw50 : k0_chk50 v964), ∀ a, (k0_off51 v964) a + S16x128.size a ≤ S66048x128.size a := fun v964 k0_hw50 => k0_hw50.2

def k0_mult51 (v1009 : BitVec 32) : BitVec 32 :=
  let c3_i32_645 : BitVec 32 := 3#32
  let v1013 : BitVec 32 := Scalar.shrsi v1009 c3_i32_645
  let c3_i32_646 : BitVec 32 := 3#32
  let v1014 : BitVec 32 := Scalar.shli v1013 c3_i32_646
  v1014

def k0_mult52 (v1010 : BitVec 32) : BitVec 32 :=
  let c3_i32_647 : BitVec 32 := 3#32
  let v1016 : BitVec 32 := Scalar.shrsi v1010 c3_i32_647
  let c3_i32_648 : BitVec 32 := 3#32
  let v1017 : BitVec 32 := Scalar.shli v1016 c3_i32_648
  v1017

def k0_off52 (v1009 : BitVec 32) : Fin 2 → Nat :=
  let c3_i32_645 : BitVec 32 := 3#32
  let v1013 : BitVec 32 := Scalar.shrsi v1009 c3_i32_645
  let c3_i32_646 : BitVec 32 := 3#32
  let v1014 : BitVec 32 := Scalar.shli v1013 c3_i32_646
  let v1015 : BitVec 32 := v1014
  let v1019 : Index := Scalar.indexCast v1015
  let c0_649 : Index := 0#32
  ![v1019.toNat, 0]

def k0_chk51 (v1009 : BitVec 32) : Prop :=
  (8 ∣ (k0_mult51 v1009).toNat) ∧
  (∀ a, (k0_off52 v1009) a + S16x128.size a ≤ S66048x128.size a)
theorem k0_mult51_dvd : ∀ (v1009 : BitVec 32) (k0_hw51 : k0_chk51 v1009), 8 ∣ (k0_mult51 v1009).toNat := fun v1009 k0_hw51 => k0_hw51.1
theorem k0_off52_inb : ∀ (v1009 : BitVec 32) (k0_hw51 : k0_chk51 v1009), ∀ a, (k0_off52 v1009) a + S16x128.size a ≤ S66048x128.size a := fun v1009 k0_hw51 => k0_hw51.2

def k0_off53 (v1010 : BitVec 32) : Fin 2 → Nat :=
  let c3_i32_647 : BitVec 32 := 3#32
  let v1016 : BitVec 32 := Scalar.shrsi v1010 c3_i32_647
  let c3_i32_648 : BitVec 32 := 3#32
  let v1017 : BitVec 32 := Scalar.shli v1016 c3_i32_648
  let v1018 : BitVec 32 := v1017
  let v1021 : Index := Scalar.indexCast v1018
  let c0_650 : Index := 0#32
  ![v1021.toNat, 0]

def k0_chk52 (v1010 : BitVec 32) : Prop :=
  (8 ∣ (k0_mult52 v1010).toNat) ∧
  (∀ a, (k0_off53 v1010) a + S16x128.size a ≤ S66048x128.size a)
theorem k0_mult52_dvd : ∀ (v1010 : BitVec 32) (k0_hw52 : k0_chk52 v1010), 8 ∣ (k0_mult52 v1010).toNat := fun v1010 k0_hw52 => k0_hw52.1
theorem k0_off53_inb : ∀ (v1010 : BitVec 32) (k0_hw52 : k0_chk52 v1010), ∀ a, (k0_off53 v1010) a + S16x128.size a ≤ S66048x128.size a := fun v1010 k0_hw52 => k0_hw52.2

def k0_mult53 (v1048 : BitVec 32) : BitVec 32 :=
  let c3_i32_671 : BitVec 32 := 3#32
  let v1052 : BitVec 32 := Scalar.shrsi v1048 c3_i32_671
  let c3_i32_672 : BitVec 32 := 3#32
  let v1053 : BitVec 32 := Scalar.shli v1052 c3_i32_672
  v1053

def k0_mult54 (v1049 : BitVec 32) : BitVec 32 :=
  let c3_i32_673 : BitVec 32 := 3#32
  let v1055 : BitVec 32 := Scalar.shrsi v1049 c3_i32_673
  let c3_i32_674 : BitVec 32 := 3#32
  let v1056 : BitVec 32 := Scalar.shli v1055 c3_i32_674
  v1056

def k0_off54 (v1048 : BitVec 32) : Fin 2 → Nat :=
  let c3_i32_671 : BitVec 32 := 3#32
  let v1052 : BitVec 32 := Scalar.shrsi v1048 c3_i32_671
  let c3_i32_672 : BitVec 32 := 3#32
  let v1053 : BitVec 32 := Scalar.shli v1052 c3_i32_672
  let v1054 : BitVec 32 := v1053
  let v1058 : Index := Scalar.indexCast v1054
  let c0_675 : Index := 0#32
  ![v1058.toNat, 0]

def k0_chk53 (v1048 : BitVec 32) : Prop :=
  (8 ∣ (k0_mult53 v1048).toNat) ∧
  (∀ a, (k0_off54 v1048) a + S16x128.size a ≤ S66048x128.size a)
theorem k0_mult53_dvd : ∀ (v1048 : BitVec 32) (k0_hw53 : k0_chk53 v1048), 8 ∣ (k0_mult53 v1048).toNat := fun v1048 k0_hw53 => k0_hw53.1
theorem k0_off54_inb : ∀ (v1048 : BitVec 32) (k0_hw53 : k0_chk53 v1048), ∀ a, (k0_off54 v1048) a + S16x128.size a ≤ S66048x128.size a := fun v1048 k0_hw53 => k0_hw53.2

def k0_off55 (v1049 : BitVec 32) : Fin 2 → Nat :=
  let c3_i32_673 : BitVec 32 := 3#32
  let v1055 : BitVec 32 := Scalar.shrsi v1049 c3_i32_673
  let c3_i32_674 : BitVec 32 := 3#32
  let v1056 : BitVec 32 := Scalar.shli v1055 c3_i32_674
  let v1057 : BitVec 32 := v1056
  let v1060 : Index := Scalar.indexCast v1057
  let c0_676 : Index := 0#32
  ![v1060.toNat, 0]

def k0_chk54 (v1049 : BitVec 32) : Prop :=
  (8 ∣ (k0_mult54 v1049).toNat) ∧
  (∀ a, (k0_off55 v1049) a + S16x128.size a ≤ S66048x128.size a)
theorem k0_mult54_dvd : ∀ (v1049 : BitVec 32) (k0_hw54 : k0_chk54 v1049), 8 ∣ (k0_mult54 v1049).toNat := fun v1049 k0_hw54 => k0_hw54.1
theorem k0_off55_inb : ∀ (v1049 : BitVec 32) (k0_hw54 : k0_chk54 v1049), ∀ a, (k0_off55 v1049) a + S16x128.size a ≤ S66048x128.size a := fun v1049 k0_hw54 => k0_hw54.2

def k0_mult55 (v1087 : BitVec 32) : BitVec 32 :=
  let c3_i32_697 : BitVec 32 := 3#32
  let v1091 : BitVec 32 := Scalar.shrsi v1087 c3_i32_697
  let c3_i32_698 : BitVec 32 := 3#32
  let v1092 : BitVec 32 := Scalar.shli v1091 c3_i32_698
  v1092

def k0_mult56 (v1088 : BitVec 32) : BitVec 32 :=
  let c3_i32_699 : BitVec 32 := 3#32
  let v1094 : BitVec 32 := Scalar.shrsi v1088 c3_i32_699
  let c3_i32_700 : BitVec 32 := 3#32
  let v1095 : BitVec 32 := Scalar.shli v1094 c3_i32_700
  v1095

def k0_off56 (v1087 : BitVec 32) : Fin 2 → Nat :=
  let c3_i32_697 : BitVec 32 := 3#32
  let v1091 : BitVec 32 := Scalar.shrsi v1087 c3_i32_697
  let c3_i32_698 : BitVec 32 := 3#32
  let v1092 : BitVec 32 := Scalar.shli v1091 c3_i32_698
  let v1093 : BitVec 32 := v1092
  let v1097 : Index := Scalar.indexCast v1093
  let c0_701 : Index := 0#32
  ![v1097.toNat, 0]

def k0_chk55 (v1087 : BitVec 32) : Prop :=
  (8 ∣ (k0_mult55 v1087).toNat) ∧
  (∀ a, (k0_off56 v1087) a + S16x128.size a ≤ S66048x128.size a)
theorem k0_mult55_dvd : ∀ (v1087 : BitVec 32) (k0_hw55 : k0_chk55 v1087), 8 ∣ (k0_mult55 v1087).toNat := fun v1087 k0_hw55 => k0_hw55.1
theorem k0_off56_inb : ∀ (v1087 : BitVec 32) (k0_hw55 : k0_chk55 v1087), ∀ a, (k0_off56 v1087) a + S16x128.size a ≤ S66048x128.size a := fun v1087 k0_hw55 => k0_hw55.2

def k0_off57 (v1088 : BitVec 32) : Fin 2 → Nat :=
  let c3_i32_699 : BitVec 32 := 3#32
  let v1094 : BitVec 32 := Scalar.shrsi v1088 c3_i32_699
  let c3_i32_700 : BitVec 32 := 3#32
  let v1095 : BitVec 32 := Scalar.shli v1094 c3_i32_700
  let v1096 : BitVec 32 := v1095
  let v1099 : Index := Scalar.indexCast v1096
  let c0_702 : Index := 0#32
  ![v1099.toNat, 0]

def k0_chk56 (v1088 : BitVec 32) : Prop :=
  (8 ∣ (k0_mult56 v1088).toNat) ∧
  (∀ a, (k0_off57 v1088) a + S16x128.size a ≤ S66048x128.size a)
theorem k0_mult56_dvd : ∀ (v1088 : BitVec 32) (k0_hw56 : k0_chk56 v1088), 8 ∣ (k0_mult56 v1088).toNat := fun v1088 k0_hw56 => k0_hw56.1
theorem k0_off57_inb : ∀ (v1088 : BitVec 32) (k0_hw56 : k0_chk56 v1088), ∀ a, (k0_off57 v1088) a + S16x128.size a ≤ S66048x128.size a := fun v1088 k0_hw56 => k0_hw56.2

def k0_mult57 (v1126 : BitVec 32) : BitVec 32 :=
  let c3_i32_723 : BitVec 32 := 3#32
  let v1130 : BitVec 32 := Scalar.shrsi v1126 c3_i32_723
  let c3_i32_724 : BitVec 32 := 3#32
  let v1131 : BitVec 32 := Scalar.shli v1130 c3_i32_724
  v1131

def k0_mult58 (v1127 : BitVec 32) : BitVec 32 :=
  let c3_i32_725 : BitVec 32 := 3#32
  let v1133 : BitVec 32 := Scalar.shrsi v1127 c3_i32_725
  let c3_i32_726 : BitVec 32 := 3#32
  let v1134 : BitVec 32 := Scalar.shli v1133 c3_i32_726
  v1134

def k0_off58 (v1126 : BitVec 32) : Fin 2 → Nat :=
  let c3_i32_723 : BitVec 32 := 3#32
  let v1130 : BitVec 32 := Scalar.shrsi v1126 c3_i32_723
  let c3_i32_724 : BitVec 32 := 3#32
  let v1131 : BitVec 32 := Scalar.shli v1130 c3_i32_724
  let v1132 : BitVec 32 := v1131
  let v1136 : Index := Scalar.indexCast v1132
  let c0_727 : Index := 0#32
  ![v1136.toNat, 0]

def k0_chk57 (v1126 : BitVec 32) : Prop :=
  (8 ∣ (k0_mult57 v1126).toNat) ∧
  (∀ a, (k0_off58 v1126) a + S16x128.size a ≤ S66048x128.size a)
theorem k0_mult57_dvd : ∀ (v1126 : BitVec 32) (k0_hw57 : k0_chk57 v1126), 8 ∣ (k0_mult57 v1126).toNat := fun v1126 k0_hw57 => k0_hw57.1
theorem k0_off58_inb : ∀ (v1126 : BitVec 32) (k0_hw57 : k0_chk57 v1126), ∀ a, (k0_off58 v1126) a + S16x128.size a ≤ S66048x128.size a := fun v1126 k0_hw57 => k0_hw57.2

def k0_off59 (v1127 : BitVec 32) : Fin 2 → Nat :=
  let c3_i32_725 : BitVec 32 := 3#32
  let v1133 : BitVec 32 := Scalar.shrsi v1127 c3_i32_725
  let c3_i32_726 : BitVec 32 := 3#32
  let v1134 : BitVec 32 := Scalar.shli v1133 c3_i32_726
  let v1135 : BitVec 32 := v1134
  let v1138 : Index := Scalar.indexCast v1135
  let c0_728 : Index := 0#32
  ![v1138.toNat, 0]

def k0_chk58 (v1127 : BitVec 32) : Prop :=
  (8 ∣ (k0_mult58 v1127).toNat) ∧
  (∀ a, (k0_off59 v1127) a + S16x128.size a ≤ S66048x128.size a)
theorem k0_mult58_dvd : ∀ (v1127 : BitVec 32) (k0_hw58 : k0_chk58 v1127), 8 ∣ (k0_mult58 v1127).toNat := fun v1127 k0_hw58 => k0_hw58.1
theorem k0_off59_inb : ∀ (v1127 : BitVec 32) (k0_hw58 : k0_chk58 v1127), ∀ a, (k0_off59 v1127) a + S16x128.size a ≤ S66048x128.size a := fun v1127 k0_hw58 => k0_hw58.2

def k0_mult59 (v1165 : BitVec 32) : BitVec 32 :=
  let c3_i32_749 : BitVec 32 := 3#32
  let v1169 : BitVec 32 := Scalar.shrsi v1165 c3_i32_749
  let c3_i32_750 : BitVec 32 := 3#32
  let v1170 : BitVec 32 := Scalar.shli v1169 c3_i32_750
  v1170

def k0_mult60 (v1166 : BitVec 32) : BitVec 32 :=
  let c3_i32_751 : BitVec 32 := 3#32
  let v1172 : BitVec 32 := Scalar.shrsi v1166 c3_i32_751
  let c3_i32_752 : BitVec 32 := 3#32
  let v1173 : BitVec 32 := Scalar.shli v1172 c3_i32_752
  v1173

def k0_off60 (v1165 : BitVec 32) : Fin 2 → Nat :=
  let c3_i32_749 : BitVec 32 := 3#32
  let v1169 : BitVec 32 := Scalar.shrsi v1165 c3_i32_749
  let c3_i32_750 : BitVec 32 := 3#32
  let v1170 : BitVec 32 := Scalar.shli v1169 c3_i32_750
  let v1171 : BitVec 32 := v1170
  let v1175 : Index := Scalar.indexCast v1171
  let c0_753 : Index := 0#32
  ![v1175.toNat, 0]

def k0_chk59 (v1165 : BitVec 32) : Prop :=
  (8 ∣ (k0_mult59 v1165).toNat) ∧
  (∀ a, (k0_off60 v1165) a + S16x128.size a ≤ S66048x128.size a)
theorem k0_mult59_dvd : ∀ (v1165 : BitVec 32) (k0_hw59 : k0_chk59 v1165), 8 ∣ (k0_mult59 v1165).toNat := fun v1165 k0_hw59 => k0_hw59.1
theorem k0_off60_inb : ∀ (v1165 : BitVec 32) (k0_hw59 : k0_chk59 v1165), ∀ a, (k0_off60 v1165) a + S16x128.size a ≤ S66048x128.size a := fun v1165 k0_hw59 => k0_hw59.2

def k0_off61 (v1166 : BitVec 32) : Fin 2 → Nat :=
  let c3_i32_751 : BitVec 32 := 3#32
  let v1172 : BitVec 32 := Scalar.shrsi v1166 c3_i32_751
  let c3_i32_752 : BitVec 32 := 3#32
  let v1173 : BitVec 32 := Scalar.shli v1172 c3_i32_752
  let v1174 : BitVec 32 := v1173
  let v1177 : Index := Scalar.indexCast v1174
  let c0_754 : Index := 0#32
  ![v1177.toNat, 0]

def k0_chk60 (v1166 : BitVec 32) : Prop :=
  (8 ∣ (k0_mult60 v1166).toNat) ∧
  (∀ a, (k0_off61 v1166) a + S16x128.size a ≤ S66048x128.size a)
theorem k0_mult60_dvd : ∀ (v1166 : BitVec 32) (k0_hw60 : k0_chk60 v1166), 8 ∣ (k0_mult60 v1166).toNat := fun v1166 k0_hw60 => k0_hw60.1
theorem k0_off61_inb : ∀ (v1166 : BitVec 32) (k0_hw60 : k0_chk60 v1166), ∀ a, (k0_off61 v1166) a + S16x128.size a ≤ S66048x128.size a := fun v1166 k0_hw60 => k0_hw60.2

def k0_mult61 (v1204 : BitVec 32) : BitVec 32 :=
  let c3_i32_775 : BitVec 32 := 3#32
  let v1208 : BitVec 32 := Scalar.shrsi v1204 c3_i32_775
  let c3_i32_776 : BitVec 32 := 3#32
  let v1209 : BitVec 32 := Scalar.shli v1208 c3_i32_776
  v1209

def k0_mult62 (v1205 : BitVec 32) : BitVec 32 :=
  let c3_i32_777 : BitVec 32 := 3#32
  let v1211 : BitVec 32 := Scalar.shrsi v1205 c3_i32_777
  let c3_i32_778 : BitVec 32 := 3#32
  let v1212 : BitVec 32 := Scalar.shli v1211 c3_i32_778
  v1212

def k0_off62 (v1204 : BitVec 32) : Fin 2 → Nat :=
  let c3_i32_775 : BitVec 32 := 3#32
  let v1208 : BitVec 32 := Scalar.shrsi v1204 c3_i32_775
  let c3_i32_776 : BitVec 32 := 3#32
  let v1209 : BitVec 32 := Scalar.shli v1208 c3_i32_776
  let v1210 : BitVec 32 := v1209
  let v1214 : Index := Scalar.indexCast v1210
  let c0_779 : Index := 0#32
  ![v1214.toNat, 0]

def k0_chk61 (v1204 : BitVec 32) : Prop :=
  (8 ∣ (k0_mult61 v1204).toNat) ∧
  (∀ a, (k0_off62 v1204) a + S16x128.size a ≤ S66048x128.size a)
theorem k0_mult61_dvd : ∀ (v1204 : BitVec 32) (k0_hw61 : k0_chk61 v1204), 8 ∣ (k0_mult61 v1204).toNat := fun v1204 k0_hw61 => k0_hw61.1
theorem k0_off62_inb : ∀ (v1204 : BitVec 32) (k0_hw61 : k0_chk61 v1204), ∀ a, (k0_off62 v1204) a + S16x128.size a ≤ S66048x128.size a := fun v1204 k0_hw61 => k0_hw61.2

def k0_off63 (v1205 : BitVec 32) : Fin 2 → Nat :=
  let c3_i32_777 : BitVec 32 := 3#32
  let v1211 : BitVec 32 := Scalar.shrsi v1205 c3_i32_777
  let c3_i32_778 : BitVec 32 := 3#32
  let v1212 : BitVec 32 := Scalar.shli v1211 c3_i32_778
  let v1213 : BitVec 32 := v1212
  let v1216 : Index := Scalar.indexCast v1213
  let c0_780 : Index := 0#32
  ![v1216.toNat, 0]

def k0_chk62 (v1205 : BitVec 32) : Prop :=
  (8 ∣ (k0_mult62 v1205).toNat) ∧
  (∀ a, (k0_off63 v1205) a + S16x128.size a ≤ S66048x128.size a)
theorem k0_mult62_dvd : ∀ (v1205 : BitVec 32) (k0_hw62 : k0_chk62 v1205), 8 ∣ (k0_mult62 v1205).toNat := fun v1205 k0_hw62 => k0_hw62.1
theorem k0_off63_inb : ∀ (v1205 : BitVec 32) (k0_hw62 : k0_chk62 v1205), ∀ a, (k0_off63 v1205) a + S16x128.size a ≤ S66048x128.size a := fun v1205 k0_hw62 => k0_hw62.2

def k0_mult63 (v1243 : BitVec 32) : BitVec 32 :=
  let c3_i32_801 : BitVec 32 := 3#32
  let v1247 : BitVec 32 := Scalar.shrsi v1243 c3_i32_801
  let c3_i32_802 : BitVec 32 := 3#32
  let v1248 : BitVec 32 := Scalar.shli v1247 c3_i32_802
  v1248

def k0_mult64 (v1244 : BitVec 32) : BitVec 32 :=
  let c3_i32_803 : BitVec 32 := 3#32
  let v1250 : BitVec 32 := Scalar.shrsi v1244 c3_i32_803
  let c3_i32_804 : BitVec 32 := 3#32
  let v1251 : BitVec 32 := Scalar.shli v1250 c3_i32_804
  v1251

def k0_off64 (v1243 : BitVec 32) : Fin 2 → Nat :=
  let c3_i32_801 : BitVec 32 := 3#32
  let v1247 : BitVec 32 := Scalar.shrsi v1243 c3_i32_801
  let c3_i32_802 : BitVec 32 := 3#32
  let v1248 : BitVec 32 := Scalar.shli v1247 c3_i32_802
  let v1249 : BitVec 32 := v1248
  let v1253 : Index := Scalar.indexCast v1249
  let c0_805 : Index := 0#32
  ![v1253.toNat, 0]

def k0_chk63 (v1243 : BitVec 32) : Prop :=
  (8 ∣ (k0_mult63 v1243).toNat) ∧
  (∀ a, (k0_off64 v1243) a + S16x128.size a ≤ S66048x128.size a)
theorem k0_mult63_dvd : ∀ (v1243 : BitVec 32) (k0_hw63 : k0_chk63 v1243), 8 ∣ (k0_mult63 v1243).toNat := fun v1243 k0_hw63 => k0_hw63.1
theorem k0_off64_inb : ∀ (v1243 : BitVec 32) (k0_hw63 : k0_chk63 v1243), ∀ a, (k0_off64 v1243) a + S16x128.size a ≤ S66048x128.size a := fun v1243 k0_hw63 => k0_hw63.2

def k0_off65 (v1244 : BitVec 32) : Fin 2 → Nat :=
  let c3_i32_803 : BitVec 32 := 3#32
  let v1250 : BitVec 32 := Scalar.shrsi v1244 c3_i32_803
  let c3_i32_804 : BitVec 32 := 3#32
  let v1251 : BitVec 32 := Scalar.shli v1250 c3_i32_804
  let v1252 : BitVec 32 := v1251
  let v1255 : Index := Scalar.indexCast v1252
  let c0_806 : Index := 0#32
  ![v1255.toNat, 0]

def k0_chk64 (v1244 : BitVec 32) : Prop :=
  (8 ∣ (k0_mult64 v1244).toNat) ∧
  (∀ a, (k0_off65 v1244) a + S16x128.size a ≤ S66048x128.size a)
theorem k0_mult64_dvd : ∀ (v1244 : BitVec 32) (k0_hw64 : k0_chk64 v1244), 8 ∣ (k0_mult64 v1244).toNat := fun v1244 k0_hw64 => k0_hw64.1
theorem k0_off65_inb : ∀ (v1244 : BitVec 32) (k0_hw64 : k0_chk64 v1244), ∀ a, (k0_off65 v1244) a + S16x128.size a ≤ S66048x128.size a := fun v1244 k0_hw64 => k0_hw64.2

def k0_mult65 (v1282 : BitVec 32) : BitVec 32 :=
  let c3_i32_827 : BitVec 32 := 3#32
  let v1286 : BitVec 32 := Scalar.shrsi v1282 c3_i32_827
  let c3_i32_828 : BitVec 32 := 3#32
  let v1287 : BitVec 32 := Scalar.shli v1286 c3_i32_828
  v1287

def k0_mult66 (v1283 : BitVec 32) : BitVec 32 :=
  let c3_i32_829 : BitVec 32 := 3#32
  let v1289 : BitVec 32 := Scalar.shrsi v1283 c3_i32_829
  let c3_i32_830 : BitVec 32 := 3#32
  let v1290 : BitVec 32 := Scalar.shli v1289 c3_i32_830
  v1290

def k0_off66 (v1282 : BitVec 32) : Fin 2 → Nat :=
  let c3_i32_827 : BitVec 32 := 3#32
  let v1286 : BitVec 32 := Scalar.shrsi v1282 c3_i32_827
  let c3_i32_828 : BitVec 32 := 3#32
  let v1287 : BitVec 32 := Scalar.shli v1286 c3_i32_828
  let v1288 : BitVec 32 := v1287
  let v1292 : Index := Scalar.indexCast v1288
  let c0_831 : Index := 0#32
  ![v1292.toNat, 0]

def k0_chk65 (v1282 : BitVec 32) : Prop :=
  (8 ∣ (k0_mult65 v1282).toNat) ∧
  (∀ a, (k0_off66 v1282) a + S16x128.size a ≤ S66048x128.size a)
theorem k0_mult65_dvd : ∀ (v1282 : BitVec 32) (k0_hw65 : k0_chk65 v1282), 8 ∣ (k0_mult65 v1282).toNat := fun v1282 k0_hw65 => k0_hw65.1
theorem k0_off66_inb : ∀ (v1282 : BitVec 32) (k0_hw65 : k0_chk65 v1282), ∀ a, (k0_off66 v1282) a + S16x128.size a ≤ S66048x128.size a := fun v1282 k0_hw65 => k0_hw65.2

def k0_off67 (v1283 : BitVec 32) : Fin 2 → Nat :=
  let c3_i32_829 : BitVec 32 := 3#32
  let v1289 : BitVec 32 := Scalar.shrsi v1283 c3_i32_829
  let c3_i32_830 : BitVec 32 := 3#32
  let v1290 : BitVec 32 := Scalar.shli v1289 c3_i32_830
  let v1291 : BitVec 32 := v1290
  let v1294 : Index := Scalar.indexCast v1291
  let c0_832 : Index := 0#32
  ![v1294.toNat, 0]

def k0_chk66 (v1283 : BitVec 32) : Prop :=
  (8 ∣ (k0_mult66 v1283).toNat) ∧
  (∀ a, (k0_off67 v1283) a + S16x128.size a ≤ S66048x128.size a)
theorem k0_mult66_dvd : ∀ (v1283 : BitVec 32) (k0_hw66 : k0_chk66 v1283), 8 ∣ (k0_mult66 v1283).toNat := fun v1283 k0_hw66 => k0_hw66.1
theorem k0_off67_inb : ∀ (v1283 : BitVec 32) (k0_hw66 : k0_chk66 v1283), ∀ a, (k0_off67 v1283) a + S16x128.size a ≤ S66048x128.size a := fun v1283 k0_hw66 => k0_hw66.2

def k0_mult67 (v1321 : BitVec 32) : BitVec 32 :=
  let c3_i32_853 : BitVec 32 := 3#32
  let v1325 : BitVec 32 := Scalar.shrsi v1321 c3_i32_853
  let c3_i32_854 : BitVec 32 := 3#32
  let v1326 : BitVec 32 := Scalar.shli v1325 c3_i32_854
  v1326

def k0_mult68 (v1322 : BitVec 32) : BitVec 32 :=
  let c3_i32_855 : BitVec 32 := 3#32
  let v1328 : BitVec 32 := Scalar.shrsi v1322 c3_i32_855
  let c3_i32_856 : BitVec 32 := 3#32
  let v1329 : BitVec 32 := Scalar.shli v1328 c3_i32_856
  v1329

def k0_off68 (v1321 : BitVec 32) : Fin 2 → Nat :=
  let c3_i32_853 : BitVec 32 := 3#32
  let v1325 : BitVec 32 := Scalar.shrsi v1321 c3_i32_853
  let c3_i32_854 : BitVec 32 := 3#32
  let v1326 : BitVec 32 := Scalar.shli v1325 c3_i32_854
  let v1327 : BitVec 32 := v1326
  let v1331 : Index := Scalar.indexCast v1327
  let c0_857 : Index := 0#32
  ![v1331.toNat, 0]

def k0_chk67 (v1321 : BitVec 32) : Prop :=
  (8 ∣ (k0_mult67 v1321).toNat) ∧
  (∀ a, (k0_off68 v1321) a + S16x128.size a ≤ S66048x128.size a)
theorem k0_mult67_dvd : ∀ (v1321 : BitVec 32) (k0_hw67 : k0_chk67 v1321), 8 ∣ (k0_mult67 v1321).toNat := fun v1321 k0_hw67 => k0_hw67.1
theorem k0_off68_inb : ∀ (v1321 : BitVec 32) (k0_hw67 : k0_chk67 v1321), ∀ a, (k0_off68 v1321) a + S16x128.size a ≤ S66048x128.size a := fun v1321 k0_hw67 => k0_hw67.2

def k0_off69 (v1322 : BitVec 32) : Fin 2 → Nat :=
  let c3_i32_855 : BitVec 32 := 3#32
  let v1328 : BitVec 32 := Scalar.shrsi v1322 c3_i32_855
  let c3_i32_856 : BitVec 32 := 3#32
  let v1329 : BitVec 32 := Scalar.shli v1328 c3_i32_856
  let v1330 : BitVec 32 := v1329
  let v1333 : Index := Scalar.indexCast v1330
  let c0_858 : Index := 0#32
  ![v1333.toNat, 0]

def k0_chk68 (v1322 : BitVec 32) : Prop :=
  (8 ∣ (k0_mult68 v1322).toNat) ∧
  (∀ a, (k0_off69 v1322) a + S16x128.size a ≤ S66048x128.size a)
theorem k0_mult68_dvd : ∀ (v1322 : BitVec 32) (k0_hw68 : k0_chk68 v1322), 8 ∣ (k0_mult68 v1322).toNat := fun v1322 k0_hw68 => k0_hw68.1
theorem k0_off69_inb : ∀ (v1322 : BitVec 32) (k0_hw68 : k0_chk68 v1322), ∀ a, (k0_off69 v1322) a + S16x128.size a ≤ S66048x128.size a := fun v1322 k0_hw68 => k0_hw68.2

def k0_mult69 (v1360 : BitVec 32) : BitVec 32 :=
  let c3_i32_879 : BitVec 32 := 3#32
  let v1364 : BitVec 32 := Scalar.shrsi v1360 c3_i32_879
  let c3_i32_880 : BitVec 32 := 3#32
  let v1365 : BitVec 32 := Scalar.shli v1364 c3_i32_880
  v1365

def k0_mult70 (v1361 : BitVec 32) : BitVec 32 :=
  let c3_i32_881 : BitVec 32 := 3#32
  let v1367 : BitVec 32 := Scalar.shrsi v1361 c3_i32_881
  let c3_i32_882 : BitVec 32 := 3#32
  let v1368 : BitVec 32 := Scalar.shli v1367 c3_i32_882
  v1368

def k0_off70 (v1360 : BitVec 32) : Fin 2 → Nat :=
  let c3_i32_879 : BitVec 32 := 3#32
  let v1364 : BitVec 32 := Scalar.shrsi v1360 c3_i32_879
  let c3_i32_880 : BitVec 32 := 3#32
  let v1365 : BitVec 32 := Scalar.shli v1364 c3_i32_880
  let v1366 : BitVec 32 := v1365
  let v1370 : Index := Scalar.indexCast v1366
  let c0_883 : Index := 0#32
  ![v1370.toNat, 0]

def k0_chk69 (v1360 : BitVec 32) : Prop :=
  (8 ∣ (k0_mult69 v1360).toNat) ∧
  (∀ a, (k0_off70 v1360) a + S16x128.size a ≤ S66048x128.size a)
theorem k0_mult69_dvd : ∀ (v1360 : BitVec 32) (k0_hw69 : k0_chk69 v1360), 8 ∣ (k0_mult69 v1360).toNat := fun v1360 k0_hw69 => k0_hw69.1
theorem k0_off70_inb : ∀ (v1360 : BitVec 32) (k0_hw69 : k0_chk69 v1360), ∀ a, (k0_off70 v1360) a + S16x128.size a ≤ S66048x128.size a := fun v1360 k0_hw69 => k0_hw69.2

def k0_off71 (v1361 : BitVec 32) : Fin 2 → Nat :=
  let c3_i32_881 : BitVec 32 := 3#32
  let v1367 : BitVec 32 := Scalar.shrsi v1361 c3_i32_881
  let c3_i32_882 : BitVec 32 := 3#32
  let v1368 : BitVec 32 := Scalar.shli v1367 c3_i32_882
  let v1369 : BitVec 32 := v1368
  let v1372 : Index := Scalar.indexCast v1369
  let c0_884 : Index := 0#32
  ![v1372.toNat, 0]

def k0_chk70 (v1361 : BitVec 32) : Prop :=
  (8 ∣ (k0_mult70 v1361).toNat) ∧
  (∀ a, (k0_off71 v1361) a + S16x128.size a ≤ S66048x128.size a)
theorem k0_mult70_dvd : ∀ (v1361 : BitVec 32) (k0_hw70 : k0_chk70 v1361), 8 ∣ (k0_mult70 v1361).toNat := fun v1361 k0_hw70 => k0_hw70.1
theorem k0_off71_inb : ∀ (v1361 : BitVec 32) (k0_hw70 : k0_chk70 v1361), ∀ a, (k0_off71 v1361) a + S16x128.size a ≤ S66048x128.size a := fun v1361 k0_hw70 => k0_hw70.2

def k0_mult71 (v1399 : BitVec 32) : BitVec 32 :=
  let c3_i32_905 : BitVec 32 := 3#32
  let v1403 : BitVec 32 := Scalar.shrsi v1399 c3_i32_905
  let c3_i32_906 : BitVec 32 := 3#32
  let v1404 : BitVec 32 := Scalar.shli v1403 c3_i32_906
  v1404

def k0_mult72 (v1400 : BitVec 32) : BitVec 32 :=
  let c3_i32_907 : BitVec 32 := 3#32
  let v1406 : BitVec 32 := Scalar.shrsi v1400 c3_i32_907
  let c3_i32_908 : BitVec 32 := 3#32
  let v1407 : BitVec 32 := Scalar.shli v1406 c3_i32_908
  v1407

def k0_off72 (v1399 : BitVec 32) : Fin 2 → Nat :=
  let c3_i32_905 : BitVec 32 := 3#32
  let v1403 : BitVec 32 := Scalar.shrsi v1399 c3_i32_905
  let c3_i32_906 : BitVec 32 := 3#32
  let v1404 : BitVec 32 := Scalar.shli v1403 c3_i32_906
  let v1405 : BitVec 32 := v1404
  let v1409 : Index := Scalar.indexCast v1405
  let c0_909 : Index := 0#32
  ![v1409.toNat, 0]

def k0_chk71 (v1399 : BitVec 32) : Prop :=
  (8 ∣ (k0_mult71 v1399).toNat) ∧
  (∀ a, (k0_off72 v1399) a + S16x128.size a ≤ S66048x128.size a)
theorem k0_mult71_dvd : ∀ (v1399 : BitVec 32) (k0_hw71 : k0_chk71 v1399), 8 ∣ (k0_mult71 v1399).toNat := fun v1399 k0_hw71 => k0_hw71.1
theorem k0_off72_inb : ∀ (v1399 : BitVec 32) (k0_hw71 : k0_chk71 v1399), ∀ a, (k0_off72 v1399) a + S16x128.size a ≤ S66048x128.size a := fun v1399 k0_hw71 => k0_hw71.2

def k0_off73 (v1400 : BitVec 32) : Fin 2 → Nat :=
  let c3_i32_907 : BitVec 32 := 3#32
  let v1406 : BitVec 32 := Scalar.shrsi v1400 c3_i32_907
  let c3_i32_908 : BitVec 32 := 3#32
  let v1407 : BitVec 32 := Scalar.shli v1406 c3_i32_908
  let v1408 : BitVec 32 := v1407
  let v1411 : Index := Scalar.indexCast v1408
  let c0_910 : Index := 0#32
  ![v1411.toNat, 0]

def k0_chk72 (v1400 : BitVec 32) : Prop :=
  (8 ∣ (k0_mult72 v1400).toNat) ∧
  (∀ a, (k0_off73 v1400) a + S16x128.size a ≤ S66048x128.size a)
theorem k0_mult72_dvd : ∀ (v1400 : BitVec 32) (k0_hw72 : k0_chk72 v1400), 8 ∣ (k0_mult72 v1400).toNat := fun v1400 k0_hw72 => k0_hw72.1
theorem k0_off73_inb : ∀ (v1400 : BitVec 32) (k0_hw72 : k0_chk72 v1400), ∀ a, (k0_off73 v1400) a + S16x128.size a ≤ S66048x128.size a := fun v1400 k0_hw72 => k0_hw72.2

def k0_mult73 (v1438 : BitVec 32) : BitVec 32 :=
  let c3_i32_931 : BitVec 32 := 3#32
  let v1442 : BitVec 32 := Scalar.shrsi v1438 c3_i32_931
  let c3_i32_932 : BitVec 32 := 3#32
  let v1443 : BitVec 32 := Scalar.shli v1442 c3_i32_932
  v1443

def k0_mult74 (v1439 : BitVec 32) : BitVec 32 :=
  let c3_i32_933 : BitVec 32 := 3#32
  let v1445 : BitVec 32 := Scalar.shrsi v1439 c3_i32_933
  let c3_i32_934 : BitVec 32 := 3#32
  let v1446 : BitVec 32 := Scalar.shli v1445 c3_i32_934
  v1446

def k0_off74 (v1438 : BitVec 32) : Fin 2 → Nat :=
  let c3_i32_931 : BitVec 32 := 3#32
  let v1442 : BitVec 32 := Scalar.shrsi v1438 c3_i32_931
  let c3_i32_932 : BitVec 32 := 3#32
  let v1443 : BitVec 32 := Scalar.shli v1442 c3_i32_932
  let v1444 : BitVec 32 := v1443
  let v1448 : Index := Scalar.indexCast v1444
  let c0_935 : Index := 0#32
  ![v1448.toNat, 0]

def k0_chk73 (v1438 : BitVec 32) : Prop :=
  (8 ∣ (k0_mult73 v1438).toNat) ∧
  (∀ a, (k0_off74 v1438) a + S16x128.size a ≤ S66048x128.size a)
theorem k0_mult73_dvd : ∀ (v1438 : BitVec 32) (k0_hw73 : k0_chk73 v1438), 8 ∣ (k0_mult73 v1438).toNat := fun v1438 k0_hw73 => k0_hw73.1
theorem k0_off74_inb : ∀ (v1438 : BitVec 32) (k0_hw73 : k0_chk73 v1438), ∀ a, (k0_off74 v1438) a + S16x128.size a ≤ S66048x128.size a := fun v1438 k0_hw73 => k0_hw73.2

def k0_off75 (v1439 : BitVec 32) : Fin 2 → Nat :=
  let c3_i32_933 : BitVec 32 := 3#32
  let v1445 : BitVec 32 := Scalar.shrsi v1439 c3_i32_933
  let c3_i32_934 : BitVec 32 := 3#32
  let v1446 : BitVec 32 := Scalar.shli v1445 c3_i32_934
  let v1447 : BitVec 32 := v1446
  let v1450 : Index := Scalar.indexCast v1447
  let c0_936 : Index := 0#32
  ![v1450.toNat, 0]

def k0_chk74 (v1439 : BitVec 32) : Prop :=
  (8 ∣ (k0_mult74 v1439).toNat) ∧
  (∀ a, (k0_off75 v1439) a + S16x128.size a ≤ S66048x128.size a)
theorem k0_mult74_dvd : ∀ (v1439 : BitVec 32) (k0_hw74 : k0_chk74 v1439), 8 ∣ (k0_mult74 v1439).toNat := fun v1439 k0_hw74 => k0_hw74.1
theorem k0_off75_inb : ∀ (v1439 : BitVec 32) (k0_hw74 : k0_chk74 v1439), ∀ a, (k0_off75 v1439) a + S16x128.size a ≤ S66048x128.size a := fun v1439 k0_hw74 => k0_hw74.2

def k0_mult75 (v1477 : BitVec 32) : BitVec 32 :=
  let c3_i32_957 : BitVec 32 := 3#32
  let v1481 : BitVec 32 := Scalar.shrsi v1477 c3_i32_957
  let c3_i32_958 : BitVec 32 := 3#32
  let v1482 : BitVec 32 := Scalar.shli v1481 c3_i32_958
  v1482

def k0_mult76 (v1478 : BitVec 32) : BitVec 32 :=
  let c3_i32_959 : BitVec 32 := 3#32
  let v1484 : BitVec 32 := Scalar.shrsi v1478 c3_i32_959
  let c3_i32_960 : BitVec 32 := 3#32
  let v1485 : BitVec 32 := Scalar.shli v1484 c3_i32_960
  v1485

def k0_off76 (v1477 : BitVec 32) : Fin 2 → Nat :=
  let c3_i32_957 : BitVec 32 := 3#32
  let v1481 : BitVec 32 := Scalar.shrsi v1477 c3_i32_957
  let c3_i32_958 : BitVec 32 := 3#32
  let v1482 : BitVec 32 := Scalar.shli v1481 c3_i32_958
  let v1483 : BitVec 32 := v1482
  let v1487 : Index := Scalar.indexCast v1483
  let c0_961 : Index := 0#32
  ![v1487.toNat, 0]

def k0_chk75 (v1477 : BitVec 32) : Prop :=
  (8 ∣ (k0_mult75 v1477).toNat) ∧
  (∀ a, (k0_off76 v1477) a + S16x128.size a ≤ S66048x128.size a)
theorem k0_mult75_dvd : ∀ (v1477 : BitVec 32) (k0_hw75 : k0_chk75 v1477), 8 ∣ (k0_mult75 v1477).toNat := fun v1477 k0_hw75 => k0_hw75.1
theorem k0_off76_inb : ∀ (v1477 : BitVec 32) (k0_hw75 : k0_chk75 v1477), ∀ a, (k0_off76 v1477) a + S16x128.size a ≤ S66048x128.size a := fun v1477 k0_hw75 => k0_hw75.2

def k0_off77 (v1478 : BitVec 32) : Fin 2 → Nat :=
  let c3_i32_959 : BitVec 32 := 3#32
  let v1484 : BitVec 32 := Scalar.shrsi v1478 c3_i32_959
  let c3_i32_960 : BitVec 32 := 3#32
  let v1485 : BitVec 32 := Scalar.shli v1484 c3_i32_960
  let v1486 : BitVec 32 := v1485
  let v1489 : Index := Scalar.indexCast v1486
  let c0_962 : Index := 0#32
  ![v1489.toNat, 0]

def k0_chk76 (v1478 : BitVec 32) : Prop :=
  (8 ∣ (k0_mult76 v1478).toNat) ∧
  (∀ a, (k0_off77 v1478) a + S16x128.size a ≤ S66048x128.size a)
theorem k0_mult76_dvd : ∀ (v1478 : BitVec 32) (k0_hw76 : k0_chk76 v1478), 8 ∣ (k0_mult76 v1478).toNat := fun v1478 k0_hw76 => k0_hw76.1
theorem k0_off77_inb : ∀ (v1478 : BitVec 32) (k0_hw76 : k0_chk76 v1478), ∀ a, (k0_off77 v1478) a + S16x128.size a ≤ S66048x128.size a := fun v1478 k0_hw76 => k0_hw76.2

def k0_mult77 (v1516 : BitVec 32) : BitVec 32 :=
  let c3_i32_983 : BitVec 32 := 3#32
  let v1520 : BitVec 32 := Scalar.shrsi v1516 c3_i32_983
  let c3_i32_984 : BitVec 32 := 3#32
  let v1521 : BitVec 32 := Scalar.shli v1520 c3_i32_984
  v1521

def k0_mult78 (v1517 : BitVec 32) : BitVec 32 :=
  let c3_i32_985 : BitVec 32 := 3#32
  let v1523 : BitVec 32 := Scalar.shrsi v1517 c3_i32_985
  let c3_i32_986 : BitVec 32 := 3#32
  let v1524 : BitVec 32 := Scalar.shli v1523 c3_i32_986
  v1524

def k0_off78 (v1516 : BitVec 32) : Fin 2 → Nat :=
  let c3_i32_983 : BitVec 32 := 3#32
  let v1520 : BitVec 32 := Scalar.shrsi v1516 c3_i32_983
  let c3_i32_984 : BitVec 32 := 3#32
  let v1521 : BitVec 32 := Scalar.shli v1520 c3_i32_984
  let v1522 : BitVec 32 := v1521
  let v1526 : Index := Scalar.indexCast v1522
  let c0_987 : Index := 0#32
  ![v1526.toNat, 0]

def k0_chk77 (v1516 : BitVec 32) : Prop :=
  (8 ∣ (k0_mult77 v1516).toNat) ∧
  (∀ a, (k0_off78 v1516) a + S16x128.size a ≤ S66048x128.size a)
theorem k0_mult77_dvd : ∀ (v1516 : BitVec 32) (k0_hw77 : k0_chk77 v1516), 8 ∣ (k0_mult77 v1516).toNat := fun v1516 k0_hw77 => k0_hw77.1
theorem k0_off78_inb : ∀ (v1516 : BitVec 32) (k0_hw77 : k0_chk77 v1516), ∀ a, (k0_off78 v1516) a + S16x128.size a ≤ S66048x128.size a := fun v1516 k0_hw77 => k0_hw77.2

def k0_off79 (v1517 : BitVec 32) : Fin 2 → Nat :=
  let c3_i32_985 : BitVec 32 := 3#32
  let v1523 : BitVec 32 := Scalar.shrsi v1517 c3_i32_985
  let c3_i32_986 : BitVec 32 := 3#32
  let v1524 : BitVec 32 := Scalar.shli v1523 c3_i32_986
  let v1525 : BitVec 32 := v1524
  let v1528 : Index := Scalar.indexCast v1525
  let c0_988 : Index := 0#32
  ![v1528.toNat, 0]

def k0_chk78 (v1517 : BitVec 32) : Prop :=
  (8 ∣ (k0_mult78 v1517).toNat) ∧
  (∀ a, (k0_off79 v1517) a + S16x128.size a ≤ S66048x128.size a)
theorem k0_mult78_dvd : ∀ (v1517 : BitVec 32) (k0_hw78 : k0_chk78 v1517), 8 ∣ (k0_mult78 v1517).toNat := fun v1517 k0_hw78 => k0_hw78.1
theorem k0_off79_inb : ∀ (v1517 : BitVec 32) (k0_hw78 : k0_chk78 v1517), ∀ a, (k0_off79 v1517) a + S16x128.size a ≤ S66048x128.size a := fun v1517 k0_hw78 => k0_hw78.2

def k0_mult79 (v1555 : BitVec 32) : BitVec 32 :=
  let c3_i32_1009 : BitVec 32 := 3#32
  let v1559 : BitVec 32 := Scalar.shrsi v1555 c3_i32_1009
  let c3_i32_1010 : BitVec 32 := 3#32
  let v1560 : BitVec 32 := Scalar.shli v1559 c3_i32_1010
  v1560

def k0_mult80 (v1556 : BitVec 32) : BitVec 32 :=
  let c3_i32_1011 : BitVec 32 := 3#32
  let v1562 : BitVec 32 := Scalar.shrsi v1556 c3_i32_1011
  let c3_i32_1012 : BitVec 32 := 3#32
  let v1563 : BitVec 32 := Scalar.shli v1562 c3_i32_1012
  v1563

def k0_off80 (v1555 : BitVec 32) : Fin 2 → Nat :=
  let c3_i32_1009 : BitVec 32 := 3#32
  let v1559 : BitVec 32 := Scalar.shrsi v1555 c3_i32_1009
  let c3_i32_1010 : BitVec 32 := 3#32
  let v1560 : BitVec 32 := Scalar.shli v1559 c3_i32_1010
  let v1561 : BitVec 32 := v1560
  let v1565 : Index := Scalar.indexCast v1561
  let c0_1013 : Index := 0#32
  ![v1565.toNat, 0]

def k0_chk79 (v1555 : BitVec 32) : Prop :=
  (8 ∣ (k0_mult79 v1555).toNat) ∧
  (∀ a, (k0_off80 v1555) a + S16x128.size a ≤ S66048x128.size a)
theorem k0_mult79_dvd : ∀ (v1555 : BitVec 32) (k0_hw79 : k0_chk79 v1555), 8 ∣ (k0_mult79 v1555).toNat := fun v1555 k0_hw79 => k0_hw79.1
theorem k0_off80_inb : ∀ (v1555 : BitVec 32) (k0_hw79 : k0_chk79 v1555), ∀ a, (k0_off80 v1555) a + S16x128.size a ≤ S66048x128.size a := fun v1555 k0_hw79 => k0_hw79.2

def k0_off81 (v1556 : BitVec 32) : Fin 2 → Nat :=
  let c3_i32_1011 : BitVec 32 := 3#32
  let v1562 : BitVec 32 := Scalar.shrsi v1556 c3_i32_1011
  let c3_i32_1012 : BitVec 32 := 3#32
  let v1563 : BitVec 32 := Scalar.shli v1562 c3_i32_1012
  let v1564 : BitVec 32 := v1563
  let v1567 : Index := Scalar.indexCast v1564
  let c0_1014 : Index := 0#32
  ![v1567.toNat, 0]

def k0_chk80 (v1556 : BitVec 32) : Prop :=
  (8 ∣ (k0_mult80 v1556).toNat) ∧
  (∀ a, (k0_off81 v1556) a + S16x128.size a ≤ S66048x128.size a)
theorem k0_mult80_dvd : ∀ (v1556 : BitVec 32) (k0_hw80 : k0_chk80 v1556), 8 ∣ (k0_mult80 v1556).toNat := fun v1556 k0_hw80 => k0_hw80.1
theorem k0_off81_inb : ∀ (v1556 : BitVec 32) (k0_hw80 : k0_chk80 v1556), ∀ a, (k0_off81 v1556) a + S16x128.size a ≤ S66048x128.size a := fun v1556 k0_hw80 => k0_hw80.2

def k0_mult81 (v1594 : BitVec 32) : BitVec 32 :=
  let c3_i32_1035 : BitVec 32 := 3#32
  let v1598 : BitVec 32 := Scalar.shrsi v1594 c3_i32_1035
  let c3_i32_1036 : BitVec 32 := 3#32
  let v1599 : BitVec 32 := Scalar.shli v1598 c3_i32_1036
  v1599

def k0_mult82 (v1595 : BitVec 32) : BitVec 32 :=
  let c3_i32_1037 : BitVec 32 := 3#32
  let v1601 : BitVec 32 := Scalar.shrsi v1595 c3_i32_1037
  let c3_i32_1038 : BitVec 32 := 3#32
  let v1602 : BitVec 32 := Scalar.shli v1601 c3_i32_1038
  v1602

def k0_off82 (v1594 : BitVec 32) : Fin 2 → Nat :=
  let c3_i32_1035 : BitVec 32 := 3#32
  let v1598 : BitVec 32 := Scalar.shrsi v1594 c3_i32_1035
  let c3_i32_1036 : BitVec 32 := 3#32
  let v1599 : BitVec 32 := Scalar.shli v1598 c3_i32_1036
  let v1600 : BitVec 32 := v1599
  let v1604 : Index := Scalar.indexCast v1600
  let c0_1039 : Index := 0#32
  ![v1604.toNat, 0]

def k0_chk81 (v1594 : BitVec 32) : Prop :=
  (8 ∣ (k0_mult81 v1594).toNat) ∧
  (∀ a, (k0_off82 v1594) a + S16x128.size a ≤ S66048x128.size a)
theorem k0_mult81_dvd : ∀ (v1594 : BitVec 32) (k0_hw81 : k0_chk81 v1594), 8 ∣ (k0_mult81 v1594).toNat := fun v1594 k0_hw81 => k0_hw81.1
theorem k0_off82_inb : ∀ (v1594 : BitVec 32) (k0_hw81 : k0_chk81 v1594), ∀ a, (k0_off82 v1594) a + S16x128.size a ≤ S66048x128.size a := fun v1594 k0_hw81 => k0_hw81.2

def k0_off83 (v1595 : BitVec 32) : Fin 2 → Nat :=
  let c3_i32_1037 : BitVec 32 := 3#32
  let v1601 : BitVec 32 := Scalar.shrsi v1595 c3_i32_1037
  let c3_i32_1038 : BitVec 32 := 3#32
  let v1602 : BitVec 32 := Scalar.shli v1601 c3_i32_1038
  let v1603 : BitVec 32 := v1602
  let v1606 : Index := Scalar.indexCast v1603
  let c0_1040 : Index := 0#32
  ![v1606.toNat, 0]

def k0_chk82 (v1595 : BitVec 32) : Prop :=
  (8 ∣ (k0_mult82 v1595).toNat) ∧
  (∀ a, (k0_off83 v1595) a + S16x128.size a ≤ S66048x128.size a)
theorem k0_mult82_dvd : ∀ (v1595 : BitVec 32) (k0_hw82 : k0_chk82 v1595), 8 ∣ (k0_mult82 v1595).toNat := fun v1595 k0_hw82 => k0_hw82.1
theorem k0_off83_inb : ∀ (v1595 : BitVec 32) (k0_hw82 : k0_chk82 v1595), ∀ a, (k0_off83 v1595) a + S16x128.size a ≤ S66048x128.size a := fun v1595 k0_hw82 => k0_hw82.2

def k0_mult83 (v1633 : BitVec 32) : BitVec 32 :=
  let c3_i32_1061 : BitVec 32 := 3#32
  let v1637 : BitVec 32 := Scalar.shrsi v1633 c3_i32_1061
  let c3_i32_1062 : BitVec 32 := 3#32
  let v1638 : BitVec 32 := Scalar.shli v1637 c3_i32_1062
  v1638

def k0_mult84 (v1634 : BitVec 32) : BitVec 32 :=
  let c3_i32_1063 : BitVec 32 := 3#32
  let v1640 : BitVec 32 := Scalar.shrsi v1634 c3_i32_1063
  let c3_i32_1064 : BitVec 32 := 3#32
  let v1641 : BitVec 32 := Scalar.shli v1640 c3_i32_1064
  v1641

def k0_off84 (v1633 : BitVec 32) : Fin 2 → Nat :=
  let c3_i32_1061 : BitVec 32 := 3#32
  let v1637 : BitVec 32 := Scalar.shrsi v1633 c3_i32_1061
  let c3_i32_1062 : BitVec 32 := 3#32
  let v1638 : BitVec 32 := Scalar.shli v1637 c3_i32_1062
  let v1639 : BitVec 32 := v1638
  let v1643 : Index := Scalar.indexCast v1639
  let c0_1065 : Index := 0#32
  ![v1643.toNat, 0]

def k0_chk83 (v1633 : BitVec 32) : Prop :=
  (8 ∣ (k0_mult83 v1633).toNat) ∧
  (∀ a, (k0_off84 v1633) a + S16x128.size a ≤ S66048x128.size a)
theorem k0_mult83_dvd : ∀ (v1633 : BitVec 32) (k0_hw83 : k0_chk83 v1633), 8 ∣ (k0_mult83 v1633).toNat := fun v1633 k0_hw83 => k0_hw83.1
theorem k0_off84_inb : ∀ (v1633 : BitVec 32) (k0_hw83 : k0_chk83 v1633), ∀ a, (k0_off84 v1633) a + S16x128.size a ≤ S66048x128.size a := fun v1633 k0_hw83 => k0_hw83.2

def k0_off85 (v1634 : BitVec 32) : Fin 2 → Nat :=
  let c3_i32_1063 : BitVec 32 := 3#32
  let v1640 : BitVec 32 := Scalar.shrsi v1634 c3_i32_1063
  let c3_i32_1064 : BitVec 32 := 3#32
  let v1641 : BitVec 32 := Scalar.shli v1640 c3_i32_1064
  let v1642 : BitVec 32 := v1641
  let v1645 : Index := Scalar.indexCast v1642
  let c0_1066 : Index := 0#32
  ![v1645.toNat, 0]

def k0_chk84 (v1634 : BitVec 32) : Prop :=
  (8 ∣ (k0_mult84 v1634).toNat) ∧
  (∀ a, (k0_off85 v1634) a + S16x128.size a ≤ S66048x128.size a)
theorem k0_mult84_dvd : ∀ (v1634 : BitVec 32) (k0_hw84 : k0_chk84 v1634), 8 ∣ (k0_mult84 v1634).toNat := fun v1634 k0_hw84 => k0_hw84.1
theorem k0_off85_inb : ∀ (v1634 : BitVec 32) (k0_hw84 : k0_chk84 v1634), ∀ a, (k0_off85 v1634) a + S16x128.size a ≤ S66048x128.size a := fun v1634 k0_hw84 => k0_hw84.2

def k0_mult85 (v1672 : BitVec 32) : BitVec 32 :=
  let c3_i32_1087 : BitVec 32 := 3#32
  let v1676 : BitVec 32 := Scalar.shrsi v1672 c3_i32_1087
  let c3_i32_1088 : BitVec 32 := 3#32
  let v1677 : BitVec 32 := Scalar.shli v1676 c3_i32_1088
  v1677

def k0_mult86 (v1673 : BitVec 32) : BitVec 32 :=
  let c3_i32_1089 : BitVec 32 := 3#32
  let v1679 : BitVec 32 := Scalar.shrsi v1673 c3_i32_1089
  let c3_i32_1090 : BitVec 32 := 3#32
  let v1680 : BitVec 32 := Scalar.shli v1679 c3_i32_1090
  v1680

def k0_off86 (v1672 : BitVec 32) : Fin 2 → Nat :=
  let c3_i32_1087 : BitVec 32 := 3#32
  let v1676 : BitVec 32 := Scalar.shrsi v1672 c3_i32_1087
  let c3_i32_1088 : BitVec 32 := 3#32
  let v1677 : BitVec 32 := Scalar.shli v1676 c3_i32_1088
  let v1678 : BitVec 32 := v1677
  let v1682 : Index := Scalar.indexCast v1678
  let c0_1091 : Index := 0#32
  ![v1682.toNat, 0]

def k0_chk85 (v1672 : BitVec 32) : Prop :=
  (8 ∣ (k0_mult85 v1672).toNat) ∧
  (∀ a, (k0_off86 v1672) a + S16x128.size a ≤ S66048x128.size a)
theorem k0_mult85_dvd : ∀ (v1672 : BitVec 32) (k0_hw85 : k0_chk85 v1672), 8 ∣ (k0_mult85 v1672).toNat := fun v1672 k0_hw85 => k0_hw85.1
theorem k0_off86_inb : ∀ (v1672 : BitVec 32) (k0_hw85 : k0_chk85 v1672), ∀ a, (k0_off86 v1672) a + S16x128.size a ≤ S66048x128.size a := fun v1672 k0_hw85 => k0_hw85.2

def k0_off87 (v1673 : BitVec 32) : Fin 2 → Nat :=
  let c3_i32_1089 : BitVec 32 := 3#32
  let v1679 : BitVec 32 := Scalar.shrsi v1673 c3_i32_1089
  let c3_i32_1090 : BitVec 32 := 3#32
  let v1680 : BitVec 32 := Scalar.shli v1679 c3_i32_1090
  let v1681 : BitVec 32 := v1680
  let v1684 : Index := Scalar.indexCast v1681
  let c0_1092 : Index := 0#32
  ![v1684.toNat, 0]

def k0_chk86 (v1673 : BitVec 32) : Prop :=
  (8 ∣ (k0_mult86 v1673).toNat) ∧
  (∀ a, (k0_off87 v1673) a + S16x128.size a ≤ S66048x128.size a)
theorem k0_mult86_dvd : ∀ (v1673 : BitVec 32) (k0_hw86 : k0_chk86 v1673), 8 ∣ (k0_mult86 v1673).toNat := fun v1673 k0_hw86 => k0_hw86.1
theorem k0_off87_inb : ∀ (v1673 : BitVec 32) (k0_hw86 : k0_chk86 v1673), ∀ a, (k0_off87 v1673) a + S16x128.size a ≤ S66048x128.size a := fun v1673 k0_hw86 => k0_hw86.2

def k0_mult87 (v1711 : BitVec 32) : BitVec 32 :=
  let c3_i32_1113 : BitVec 32 := 3#32
  let v1715 : BitVec 32 := Scalar.shrsi v1711 c3_i32_1113
  let c3_i32_1114 : BitVec 32 := 3#32
  let v1716 : BitVec 32 := Scalar.shli v1715 c3_i32_1114
  v1716

def k0_mult88 (v1712 : BitVec 32) : BitVec 32 :=
  let c3_i32_1115 : BitVec 32 := 3#32
  let v1718 : BitVec 32 := Scalar.shrsi v1712 c3_i32_1115
  let c3_i32_1116 : BitVec 32 := 3#32
  let v1719 : BitVec 32 := Scalar.shli v1718 c3_i32_1116
  v1719

def k0_off88 (v1711 : BitVec 32) : Fin 2 → Nat :=
  let c3_i32_1113 : BitVec 32 := 3#32
  let v1715 : BitVec 32 := Scalar.shrsi v1711 c3_i32_1113
  let c3_i32_1114 : BitVec 32 := 3#32
  let v1716 : BitVec 32 := Scalar.shli v1715 c3_i32_1114
  let v1717 : BitVec 32 := v1716
  let v1721 : Index := Scalar.indexCast v1717
  let c0_1117 : Index := 0#32
  ![v1721.toNat, 0]

def k0_chk87 (v1711 : BitVec 32) : Prop :=
  (8 ∣ (k0_mult87 v1711).toNat) ∧
  (∀ a, (k0_off88 v1711) a + S16x128.size a ≤ S66048x128.size a)
theorem k0_mult87_dvd : ∀ (v1711 : BitVec 32) (k0_hw87 : k0_chk87 v1711), 8 ∣ (k0_mult87 v1711).toNat := fun v1711 k0_hw87 => k0_hw87.1
theorem k0_off88_inb : ∀ (v1711 : BitVec 32) (k0_hw87 : k0_chk87 v1711), ∀ a, (k0_off88 v1711) a + S16x128.size a ≤ S66048x128.size a := fun v1711 k0_hw87 => k0_hw87.2

def k0_off89 (v1712 : BitVec 32) : Fin 2 → Nat :=
  let c3_i32_1115 : BitVec 32 := 3#32
  let v1718 : BitVec 32 := Scalar.shrsi v1712 c3_i32_1115
  let c3_i32_1116 : BitVec 32 := 3#32
  let v1719 : BitVec 32 := Scalar.shli v1718 c3_i32_1116
  let v1720 : BitVec 32 := v1719
  let v1723 : Index := Scalar.indexCast v1720
  let c0_1118 : Index := 0#32
  ![v1723.toNat, 0]

def k0_chk88 (v1712 : BitVec 32) : Prop :=
  (8 ∣ (k0_mult88 v1712).toNat) ∧
  (∀ a, (k0_off89 v1712) a + S16x128.size a ≤ S66048x128.size a)
theorem k0_mult88_dvd : ∀ (v1712 : BitVec 32) (k0_hw88 : k0_chk88 v1712), 8 ∣ (k0_mult88 v1712).toNat := fun v1712 k0_hw88 => k0_hw88.1
theorem k0_off89_inb : ∀ (v1712 : BitVec 32) (k0_hw88 : k0_chk88 v1712), ∀ a, (k0_off89 v1712) a + S16x128.size a ≤ S66048x128.size a := fun v1712 k0_hw88 => k0_hw88.2

def k0_mult89 (v1750 : BitVec 32) : BitVec 32 :=
  let c3_i32_1139 : BitVec 32 := 3#32
  let v1754 : BitVec 32 := Scalar.shrsi v1750 c3_i32_1139
  let c3_i32_1140 : BitVec 32 := 3#32
  let v1755 : BitVec 32 := Scalar.shli v1754 c3_i32_1140
  v1755

def k0_mult90 (v1751 : BitVec 32) : BitVec 32 :=
  let c3_i32_1141 : BitVec 32 := 3#32
  let v1757 : BitVec 32 := Scalar.shrsi v1751 c3_i32_1141
  let c3_i32_1142 : BitVec 32 := 3#32
  let v1758 : BitVec 32 := Scalar.shli v1757 c3_i32_1142
  v1758

def k0_off90 (v1750 : BitVec 32) : Fin 2 → Nat :=
  let c3_i32_1139 : BitVec 32 := 3#32
  let v1754 : BitVec 32 := Scalar.shrsi v1750 c3_i32_1139
  let c3_i32_1140 : BitVec 32 := 3#32
  let v1755 : BitVec 32 := Scalar.shli v1754 c3_i32_1140
  let v1756 : BitVec 32 := v1755
  let v1760 : Index := Scalar.indexCast v1756
  let c0_1143 : Index := 0#32
  ![v1760.toNat, 0]

def k0_chk89 (v1750 : BitVec 32) : Prop :=
  (8 ∣ (k0_mult89 v1750).toNat) ∧
  (∀ a, (k0_off90 v1750) a + S16x128.size a ≤ S66048x128.size a)
theorem k0_mult89_dvd : ∀ (v1750 : BitVec 32) (k0_hw89 : k0_chk89 v1750), 8 ∣ (k0_mult89 v1750).toNat := fun v1750 k0_hw89 => k0_hw89.1
theorem k0_off90_inb : ∀ (v1750 : BitVec 32) (k0_hw89 : k0_chk89 v1750), ∀ a, (k0_off90 v1750) a + S16x128.size a ≤ S66048x128.size a := fun v1750 k0_hw89 => k0_hw89.2

def k0_off91 (v1751 : BitVec 32) : Fin 2 → Nat :=
  let c3_i32_1141 : BitVec 32 := 3#32
  let v1757 : BitVec 32 := Scalar.shrsi v1751 c3_i32_1141
  let c3_i32_1142 : BitVec 32 := 3#32
  let v1758 : BitVec 32 := Scalar.shli v1757 c3_i32_1142
  let v1759 : BitVec 32 := v1758
  let v1762 : Index := Scalar.indexCast v1759
  let c0_1144 : Index := 0#32
  ![v1762.toNat, 0]

def k0_chk90 (v1751 : BitVec 32) : Prop :=
  (8 ∣ (k0_mult90 v1751).toNat) ∧
  (∀ a, (k0_off91 v1751) a + S16x128.size a ≤ S66048x128.size a)
theorem k0_mult90_dvd : ∀ (v1751 : BitVec 32) (k0_hw90 : k0_chk90 v1751), 8 ∣ (k0_mult90 v1751).toNat := fun v1751 k0_hw90 => k0_hw90.1
theorem k0_off91_inb : ∀ (v1751 : BitVec 32) (k0_hw90 : k0_chk90 v1751), ∀ a, (k0_off91 v1751) a + S16x128.size a ≤ S66048x128.size a := fun v1751 k0_hw90 => k0_hw90.2

def k0_mult91 (v1789 : BitVec 32) : BitVec 32 :=
  let c3_i32_1165 : BitVec 32 := 3#32
  let v1793 : BitVec 32 := Scalar.shrsi v1789 c3_i32_1165
  let c3_i32_1166 : BitVec 32 := 3#32
  let v1794 : BitVec 32 := Scalar.shli v1793 c3_i32_1166
  v1794

def k0_mult92 (v1790 : BitVec 32) : BitVec 32 :=
  let c3_i32_1167 : BitVec 32 := 3#32
  let v1796 : BitVec 32 := Scalar.shrsi v1790 c3_i32_1167
  let c3_i32_1168 : BitVec 32 := 3#32
  let v1797 : BitVec 32 := Scalar.shli v1796 c3_i32_1168
  v1797

def k0_off92 (v1789 : BitVec 32) : Fin 2 → Nat :=
  let c3_i32_1165 : BitVec 32 := 3#32
  let v1793 : BitVec 32 := Scalar.shrsi v1789 c3_i32_1165
  let c3_i32_1166 : BitVec 32 := 3#32
  let v1794 : BitVec 32 := Scalar.shli v1793 c3_i32_1166
  let v1795 : BitVec 32 := v1794
  let v1799 : Index := Scalar.indexCast v1795
  let c0_1169 : Index := 0#32
  ![v1799.toNat, 0]

def k0_chk91 (v1789 : BitVec 32) : Prop :=
  (8 ∣ (k0_mult91 v1789).toNat) ∧
  (∀ a, (k0_off92 v1789) a + S16x128.size a ≤ S66048x128.size a)
theorem k0_mult91_dvd : ∀ (v1789 : BitVec 32) (k0_hw91 : k0_chk91 v1789), 8 ∣ (k0_mult91 v1789).toNat := fun v1789 k0_hw91 => k0_hw91.1
theorem k0_off92_inb : ∀ (v1789 : BitVec 32) (k0_hw91 : k0_chk91 v1789), ∀ a, (k0_off92 v1789) a + S16x128.size a ≤ S66048x128.size a := fun v1789 k0_hw91 => k0_hw91.2

def k0_off93 (v1790 : BitVec 32) : Fin 2 → Nat :=
  let c3_i32_1167 : BitVec 32 := 3#32
  let v1796 : BitVec 32 := Scalar.shrsi v1790 c3_i32_1167
  let c3_i32_1168 : BitVec 32 := 3#32
  let v1797 : BitVec 32 := Scalar.shli v1796 c3_i32_1168
  let v1798 : BitVec 32 := v1797
  let v1801 : Index := Scalar.indexCast v1798
  let c0_1170 : Index := 0#32
  ![v1801.toNat, 0]

def k0_chk92 (v1790 : BitVec 32) : Prop :=
  (8 ∣ (k0_mult92 v1790).toNat) ∧
  (∀ a, (k0_off93 v1790) a + S16x128.size a ≤ S66048x128.size a)
theorem k0_mult92_dvd : ∀ (v1790 : BitVec 32) (k0_hw92 : k0_chk92 v1790), 8 ∣ (k0_mult92 v1790).toNat := fun v1790 k0_hw92 => k0_hw92.1
theorem k0_off93_inb : ∀ (v1790 : BitVec 32) (k0_hw92 : k0_chk92 v1790), ∀ a, (k0_off93 v1790) a + S16x128.size a ≤ S66048x128.size a := fun v1790 k0_hw92 => k0_hw92.2

def k0_mult93 (v1828 : BitVec 32) : BitVec 32 :=
  let c3_i32_1191 : BitVec 32 := 3#32
  let v1832 : BitVec 32 := Scalar.shrsi v1828 c3_i32_1191
  let c3_i32_1192 : BitVec 32 := 3#32
  let v1833 : BitVec 32 := Scalar.shli v1832 c3_i32_1192
  v1833

def k0_mult94 (v1829 : BitVec 32) : BitVec 32 :=
  let c3_i32_1193 : BitVec 32 := 3#32
  let v1835 : BitVec 32 := Scalar.shrsi v1829 c3_i32_1193
  let c3_i32_1194 : BitVec 32 := 3#32
  let v1836 : BitVec 32 := Scalar.shli v1835 c3_i32_1194
  v1836

def k0_off94 (v1828 : BitVec 32) : Fin 2 → Nat :=
  let c3_i32_1191 : BitVec 32 := 3#32
  let v1832 : BitVec 32 := Scalar.shrsi v1828 c3_i32_1191
  let c3_i32_1192 : BitVec 32 := 3#32
  let v1833 : BitVec 32 := Scalar.shli v1832 c3_i32_1192
  let v1834 : BitVec 32 := v1833
  let v1838 : Index := Scalar.indexCast v1834
  let c0_1195 : Index := 0#32
  ![v1838.toNat, 0]

def k0_chk93 (v1828 : BitVec 32) : Prop :=
  (8 ∣ (k0_mult93 v1828).toNat) ∧
  (∀ a, (k0_off94 v1828) a + S16x128.size a ≤ S66048x128.size a)
theorem k0_mult93_dvd : ∀ (v1828 : BitVec 32) (k0_hw93 : k0_chk93 v1828), 8 ∣ (k0_mult93 v1828).toNat := fun v1828 k0_hw93 => k0_hw93.1
theorem k0_off94_inb : ∀ (v1828 : BitVec 32) (k0_hw93 : k0_chk93 v1828), ∀ a, (k0_off94 v1828) a + S16x128.size a ≤ S66048x128.size a := fun v1828 k0_hw93 => k0_hw93.2

def k0_off95 (v1829 : BitVec 32) : Fin 2 → Nat :=
  let c3_i32_1193 : BitVec 32 := 3#32
  let v1835 : BitVec 32 := Scalar.shrsi v1829 c3_i32_1193
  let c3_i32_1194 : BitVec 32 := 3#32
  let v1836 : BitVec 32 := Scalar.shli v1835 c3_i32_1194
  let v1837 : BitVec 32 := v1836
  let v1840 : Index := Scalar.indexCast v1837
  let c0_1196 : Index := 0#32
  ![v1840.toNat, 0]

def k0_chk94 (v1829 : BitVec 32) : Prop :=
  (8 ∣ (k0_mult94 v1829).toNat) ∧
  (∀ a, (k0_off95 v1829) a + S16x128.size a ≤ S66048x128.size a)
theorem k0_mult94_dvd : ∀ (v1829 : BitVec 32) (k0_hw94 : k0_chk94 v1829), 8 ∣ (k0_mult94 v1829).toNat := fun v1829 k0_hw94 => k0_hw94.1
theorem k0_off95_inb : ∀ (v1829 : BitVec 32) (k0_hw94 : k0_chk94 v1829), ∀ a, (k0_off95 v1829) a + S16x128.size a ≤ S66048x128.size a := fun v1829 k0_hw94 => k0_hw94.2

def k0_mult95 (v1867 : BitVec 32) : BitVec 32 :=
  let c3_i32_1217 : BitVec 32 := 3#32
  let v1871 : BitVec 32 := Scalar.shrsi v1867 c3_i32_1217
  let c3_i32_1218 : BitVec 32 := 3#32
  let v1872 : BitVec 32 := Scalar.shli v1871 c3_i32_1218
  v1872

def k0_mult96 (v1868 : BitVec 32) : BitVec 32 :=
  let c3_i32_1219 : BitVec 32 := 3#32
  let v1874 : BitVec 32 := Scalar.shrsi v1868 c3_i32_1219
  let c3_i32_1220 : BitVec 32 := 3#32
  let v1875 : BitVec 32 := Scalar.shli v1874 c3_i32_1220
  v1875

def k0_off96 (v1867 : BitVec 32) : Fin 2 → Nat :=
  let c3_i32_1217 : BitVec 32 := 3#32
  let v1871 : BitVec 32 := Scalar.shrsi v1867 c3_i32_1217
  let c3_i32_1218 : BitVec 32 := 3#32
  let v1872 : BitVec 32 := Scalar.shli v1871 c3_i32_1218
  let v1873 : BitVec 32 := v1872
  let v1877 : Index := Scalar.indexCast v1873
  let c0_1221 : Index := 0#32
  ![v1877.toNat, 0]

def k0_chk95 (v1867 : BitVec 32) : Prop :=
  (8 ∣ (k0_mult95 v1867).toNat) ∧
  (∀ a, (k0_off96 v1867) a + S16x128.size a ≤ S66048x128.size a)
theorem k0_mult95_dvd : ∀ (v1867 : BitVec 32) (k0_hw95 : k0_chk95 v1867), 8 ∣ (k0_mult95 v1867).toNat := fun v1867 k0_hw95 => k0_hw95.1
theorem k0_off96_inb : ∀ (v1867 : BitVec 32) (k0_hw95 : k0_chk95 v1867), ∀ a, (k0_off96 v1867) a + S16x128.size a ≤ S66048x128.size a := fun v1867 k0_hw95 => k0_hw95.2

def k0_off97 (v1868 : BitVec 32) : Fin 2 → Nat :=
  let c3_i32_1219 : BitVec 32 := 3#32
  let v1874 : BitVec 32 := Scalar.shrsi v1868 c3_i32_1219
  let c3_i32_1220 : BitVec 32 := 3#32
  let v1875 : BitVec 32 := Scalar.shli v1874 c3_i32_1220
  let v1876 : BitVec 32 := v1875
  let v1879 : Index := Scalar.indexCast v1876
  let c0_1222 : Index := 0#32
  ![v1879.toNat, 0]

def k0_chk96 (v1868 : BitVec 32) : Prop :=
  (8 ∣ (k0_mult96 v1868).toNat) ∧
  (∀ a, (k0_off97 v1868) a + S16x128.size a ≤ S66048x128.size a)
theorem k0_mult96_dvd : ∀ (v1868 : BitVec 32) (k0_hw96 : k0_chk96 v1868), 8 ∣ (k0_mult96 v1868).toNat := fun v1868 k0_hw96 => k0_hw96.1
theorem k0_off97_inb : ∀ (v1868 : BitVec 32) (k0_hw96 : k0_chk96 v1868), ∀ a, (k0_off97 v1868) a + S16x128.size a ≤ S66048x128.size a := fun v1868 k0_hw96 => k0_hw96.2

def k0_mult97 (v1906 : BitVec 32) : BitVec 32 :=
  let c3_i32_1243 : BitVec 32 := 3#32
  let v1910 : BitVec 32 := Scalar.shrsi v1906 c3_i32_1243
  let c3_i32_1244 : BitVec 32 := 3#32
  let v1911 : BitVec 32 := Scalar.shli v1910 c3_i32_1244
  v1911

def k0_mult98 (v1907 : BitVec 32) : BitVec 32 :=
  let c3_i32_1245 : BitVec 32 := 3#32
  let v1913 : BitVec 32 := Scalar.shrsi v1907 c3_i32_1245
  let c3_i32_1246 : BitVec 32 := 3#32
  let v1914 : BitVec 32 := Scalar.shli v1913 c3_i32_1246
  v1914

def k0_off98 (v1906 : BitVec 32) : Fin 2 → Nat :=
  let c3_i32_1243 : BitVec 32 := 3#32
  let v1910 : BitVec 32 := Scalar.shrsi v1906 c3_i32_1243
  let c3_i32_1244 : BitVec 32 := 3#32
  let v1911 : BitVec 32 := Scalar.shli v1910 c3_i32_1244
  let v1912 : BitVec 32 := v1911
  let v1916 : Index := Scalar.indexCast v1912
  let c0_1247 : Index := 0#32
  ![v1916.toNat, 0]

def k0_chk97 (v1906 : BitVec 32) : Prop :=
  (8 ∣ (k0_mult97 v1906).toNat) ∧
  (∀ a, (k0_off98 v1906) a + S16x128.size a ≤ S66048x128.size a)
theorem k0_mult97_dvd : ∀ (v1906 : BitVec 32) (k0_hw97 : k0_chk97 v1906), 8 ∣ (k0_mult97 v1906).toNat := fun v1906 k0_hw97 => k0_hw97.1
theorem k0_off98_inb : ∀ (v1906 : BitVec 32) (k0_hw97 : k0_chk97 v1906), ∀ a, (k0_off98 v1906) a + S16x128.size a ≤ S66048x128.size a := fun v1906 k0_hw97 => k0_hw97.2

def k0_off99 (v1907 : BitVec 32) : Fin 2 → Nat :=
  let c3_i32_1245 : BitVec 32 := 3#32
  let v1913 : BitVec 32 := Scalar.shrsi v1907 c3_i32_1245
  let c3_i32_1246 : BitVec 32 := 3#32
  let v1914 : BitVec 32 := Scalar.shli v1913 c3_i32_1246
  let v1915 : BitVec 32 := v1914
  let v1918 : Index := Scalar.indexCast v1915
  let c0_1248 : Index := 0#32
  ![v1918.toNat, 0]

def k0_chk98 (v1907 : BitVec 32) : Prop :=
  (8 ∣ (k0_mult98 v1907).toNat) ∧
  (∀ a, (k0_off99 v1907) a + S16x128.size a ≤ S66048x128.size a)
theorem k0_mult98_dvd : ∀ (v1907 : BitVec 32) (k0_hw98 : k0_chk98 v1907), 8 ∣ (k0_mult98 v1907).toNat := fun v1907 k0_hw98 => k0_hw98.1
theorem k0_off99_inb : ∀ (v1907 : BitVec 32) (k0_hw98 : k0_chk98 v1907), ∀ a, (k0_off99 v1907) a + S16x128.size a ≤ S66048x128.size a := fun v1907 k0_hw98 => k0_hw98.2

def k0_mult99 (v1945 : BitVec 32) : BitVec 32 :=
  let c3_i32_1269 : BitVec 32 := 3#32
  let v1949 : BitVec 32 := Scalar.shrsi v1945 c3_i32_1269
  let c3_i32_1270 : BitVec 32 := 3#32
  let v1950 : BitVec 32 := Scalar.shli v1949 c3_i32_1270
  v1950

def k0_mult100 (v1946 : BitVec 32) : BitVec 32 :=
  let c3_i32_1271 : BitVec 32 := 3#32
  let v1952 : BitVec 32 := Scalar.shrsi v1946 c3_i32_1271
  let c3_i32_1272 : BitVec 32 := 3#32
  let v1953 : BitVec 32 := Scalar.shli v1952 c3_i32_1272
  v1953

def k0_off100 (v1945 : BitVec 32) : Fin 2 → Nat :=
  let c3_i32_1269 : BitVec 32 := 3#32
  let v1949 : BitVec 32 := Scalar.shrsi v1945 c3_i32_1269
  let c3_i32_1270 : BitVec 32 := 3#32
  let v1950 : BitVec 32 := Scalar.shli v1949 c3_i32_1270
  let v1951 : BitVec 32 := v1950
  let v1955 : Index := Scalar.indexCast v1951
  let c0_1273 : Index := 0#32
  ![v1955.toNat, 0]

def k0_chk99 (v1945 : BitVec 32) : Prop :=
  (8 ∣ (k0_mult99 v1945).toNat) ∧
  (∀ a, (k0_off100 v1945) a + S16x128.size a ≤ S66048x128.size a)
theorem k0_mult99_dvd : ∀ (v1945 : BitVec 32) (k0_hw99 : k0_chk99 v1945), 8 ∣ (k0_mult99 v1945).toNat := fun v1945 k0_hw99 => k0_hw99.1
theorem k0_off100_inb : ∀ (v1945 : BitVec 32) (k0_hw99 : k0_chk99 v1945), ∀ a, (k0_off100 v1945) a + S16x128.size a ≤ S66048x128.size a := fun v1945 k0_hw99 => k0_hw99.2

def k0_off101 (v1946 : BitVec 32) : Fin 2 → Nat :=
  let c3_i32_1271 : BitVec 32 := 3#32
  let v1952 : BitVec 32 := Scalar.shrsi v1946 c3_i32_1271
  let c3_i32_1272 : BitVec 32 := 3#32
  let v1953 : BitVec 32 := Scalar.shli v1952 c3_i32_1272
  let v1954 : BitVec 32 := v1953
  let v1957 : Index := Scalar.indexCast v1954
  let c0_1274 : Index := 0#32
  ![v1957.toNat, 0]

def k0_chk100 (v1946 : BitVec 32) : Prop :=
  (8 ∣ (k0_mult100 v1946).toNat) ∧
  (∀ a, (k0_off101 v1946) a + S16x128.size a ≤ S66048x128.size a)
theorem k0_mult100_dvd : ∀ (v1946 : BitVec 32) (k0_hw100 : k0_chk100 v1946), 8 ∣ (k0_mult100 v1946).toNat := fun v1946 k0_hw100 => k0_hw100.1
theorem k0_off101_inb : ∀ (v1946 : BitVec 32) (k0_hw100 : k0_chk100 v1946), ∀ a, (k0_off101 v1946) a + S16x128.size a ≤ S66048x128.size a := fun v1946 k0_hw100 => k0_hw100.2

def k0_mult101 (v1991 : BitVec 32) : BitVec 32 :=
  let c3_i32_1301 : BitVec 32 := 3#32
  let v1995 : BitVec 32 := Scalar.shrsi v1991 c3_i32_1301
  let c3_i32_1302 : BitVec 32 := 3#32
  let v1996 : BitVec 32 := Scalar.shli v1995 c3_i32_1302
  v1996

def k0_mult102 (v1992 : BitVec 32) : BitVec 32 :=
  let c3_i32_1303 : BitVec 32 := 3#32
  let v1998 : BitVec 32 := Scalar.shrsi v1992 c3_i32_1303
  let c3_i32_1304 : BitVec 32 := 3#32
  let v1999 : BitVec 32 := Scalar.shli v1998 c3_i32_1304
  v1999

def k0_off102 (v1991 : BitVec 32) : Fin 2 → Nat :=
  let c3_i32_1301 : BitVec 32 := 3#32
  let v1995 : BitVec 32 := Scalar.shrsi v1991 c3_i32_1301
  let c3_i32_1302 : BitVec 32 := 3#32
  let v1996 : BitVec 32 := Scalar.shli v1995 c3_i32_1302
  let v1997 : BitVec 32 := v1996
  let v2001 : Index := Scalar.indexCast v1997
  let c0_1305 : Index := 0#32
  ![v2001.toNat, 0]

def k0_chk101 (v1991 : BitVec 32) : Prop :=
  (8 ∣ (k0_mult101 v1991).toNat) ∧
  (∀ a, (k0_off102 v1991) a + S16x128.size a ≤ S66048x128.size a)
theorem k0_mult101_dvd : ∀ (v1991 : BitVec 32) (k0_hw101 : k0_chk101 v1991), 8 ∣ (k0_mult101 v1991).toNat := fun v1991 k0_hw101 => k0_hw101.1
theorem k0_off102_inb : ∀ (v1991 : BitVec 32) (k0_hw101 : k0_chk101 v1991), ∀ a, (k0_off102 v1991) a + S16x128.size a ≤ S66048x128.size a := fun v1991 k0_hw101 => k0_hw101.2

def k0_off103 (v1992 : BitVec 32) : Fin 2 → Nat :=
  let c3_i32_1303 : BitVec 32 := 3#32
  let v1998 : BitVec 32 := Scalar.shrsi v1992 c3_i32_1303
  let c3_i32_1304 : BitVec 32 := 3#32
  let v1999 : BitVec 32 := Scalar.shli v1998 c3_i32_1304
  let v2000 : BitVec 32 := v1999
  let v2003 : Index := Scalar.indexCast v2000
  let c0_1306 : Index := 0#32
  ![v2003.toNat, 0]

def k0_chk102 (v1992 : BitVec 32) : Prop :=
  (8 ∣ (k0_mult102 v1992).toNat) ∧
  (∀ a, (k0_off103 v1992) a + S16x128.size a ≤ S66048x128.size a)
theorem k0_mult102_dvd : ∀ (v1992 : BitVec 32) (k0_hw102 : k0_chk102 v1992), 8 ∣ (k0_mult102 v1992).toNat := fun v1992 k0_hw102 => k0_hw102.1
theorem k0_off103_inb : ∀ (v1992 : BitVec 32) (k0_hw102 : k0_chk102 v1992), ∀ a, (k0_off103 v1992) a + S16x128.size a ≤ S66048x128.size a := fun v1992 k0_hw102 => k0_hw102.2

def k0_mult103 (v2030 : BitVec 32) : BitVec 32 :=
  let c3_i32_1327 : BitVec 32 := 3#32
  let v2034 : BitVec 32 := Scalar.shrsi v2030 c3_i32_1327
  let c3_i32_1328 : BitVec 32 := 3#32
  let v2035 : BitVec 32 := Scalar.shli v2034 c3_i32_1328
  v2035

def k0_mult104 (v2031 : BitVec 32) : BitVec 32 :=
  let c3_i32_1329 : BitVec 32 := 3#32
  let v2037 : BitVec 32 := Scalar.shrsi v2031 c3_i32_1329
  let c3_i32_1330 : BitVec 32 := 3#32
  let v2038 : BitVec 32 := Scalar.shli v2037 c3_i32_1330
  v2038

def k0_off104 (v2030 : BitVec 32) : Fin 2 → Nat :=
  let c3_i32_1327 : BitVec 32 := 3#32
  let v2034 : BitVec 32 := Scalar.shrsi v2030 c3_i32_1327
  let c3_i32_1328 : BitVec 32 := 3#32
  let v2035 : BitVec 32 := Scalar.shli v2034 c3_i32_1328
  let v2036 : BitVec 32 := v2035
  let v2040 : Index := Scalar.indexCast v2036
  let c0_1331 : Index := 0#32
  ![v2040.toNat, 0]

def k0_chk103 (v2030 : BitVec 32) : Prop :=
  (8 ∣ (k0_mult103 v2030).toNat) ∧
  (∀ a, (k0_off104 v2030) a + S16x128.size a ≤ S66048x128.size a)
theorem k0_mult103_dvd : ∀ (v2030 : BitVec 32) (k0_hw103 : k0_chk103 v2030), 8 ∣ (k0_mult103 v2030).toNat := fun v2030 k0_hw103 => k0_hw103.1
theorem k0_off104_inb : ∀ (v2030 : BitVec 32) (k0_hw103 : k0_chk103 v2030), ∀ a, (k0_off104 v2030) a + S16x128.size a ≤ S66048x128.size a := fun v2030 k0_hw103 => k0_hw103.2

def k0_off105 (v2031 : BitVec 32) : Fin 2 → Nat :=
  let c3_i32_1329 : BitVec 32 := 3#32
  let v2037 : BitVec 32 := Scalar.shrsi v2031 c3_i32_1329
  let c3_i32_1330 : BitVec 32 := 3#32
  let v2038 : BitVec 32 := Scalar.shli v2037 c3_i32_1330
  let v2039 : BitVec 32 := v2038
  let v2042 : Index := Scalar.indexCast v2039
  let c0_1332 : Index := 0#32
  ![v2042.toNat, 0]

def k0_chk104 (v2031 : BitVec 32) : Prop :=
  (8 ∣ (k0_mult104 v2031).toNat) ∧
  (∀ a, (k0_off105 v2031) a + S16x128.size a ≤ S66048x128.size a)
theorem k0_mult104_dvd : ∀ (v2031 : BitVec 32) (k0_hw104 : k0_chk104 v2031), 8 ∣ (k0_mult104 v2031).toNat := fun v2031 k0_hw104 => k0_hw104.1
theorem k0_off105_inb : ∀ (v2031 : BitVec 32) (k0_hw104 : k0_chk104 v2031), ∀ a, (k0_off105 v2031) a + S16x128.size a ≤ S66048x128.size a := fun v2031 k0_hw104 => k0_hw104.2

def k0_mult105 (v2069 : BitVec 32) : BitVec 32 :=
  let c3_i32_1353 : BitVec 32 := 3#32
  let v2073 : BitVec 32 := Scalar.shrsi v2069 c3_i32_1353
  let c3_i32_1354 : BitVec 32 := 3#32
  let v2074 : BitVec 32 := Scalar.shli v2073 c3_i32_1354
  v2074

def k0_mult106 (v2070 : BitVec 32) : BitVec 32 :=
  let c3_i32_1355 : BitVec 32 := 3#32
  let v2076 : BitVec 32 := Scalar.shrsi v2070 c3_i32_1355
  let c3_i32_1356 : BitVec 32 := 3#32
  let v2077 : BitVec 32 := Scalar.shli v2076 c3_i32_1356
  v2077

def k0_off106 (v2069 : BitVec 32) : Fin 2 → Nat :=
  let c3_i32_1353 : BitVec 32 := 3#32
  let v2073 : BitVec 32 := Scalar.shrsi v2069 c3_i32_1353
  let c3_i32_1354 : BitVec 32 := 3#32
  let v2074 : BitVec 32 := Scalar.shli v2073 c3_i32_1354
  let v2075 : BitVec 32 := v2074
  let v2079 : Index := Scalar.indexCast v2075
  let c0_1357 : Index := 0#32
  ![v2079.toNat, 0]

def k0_chk105 (v2069 : BitVec 32) : Prop :=
  (8 ∣ (k0_mult105 v2069).toNat) ∧
  (∀ a, (k0_off106 v2069) a + S16x128.size a ≤ S66048x128.size a)
theorem k0_mult105_dvd : ∀ (v2069 : BitVec 32) (k0_hw105 : k0_chk105 v2069), 8 ∣ (k0_mult105 v2069).toNat := fun v2069 k0_hw105 => k0_hw105.1
theorem k0_off106_inb : ∀ (v2069 : BitVec 32) (k0_hw105 : k0_chk105 v2069), ∀ a, (k0_off106 v2069) a + S16x128.size a ≤ S66048x128.size a := fun v2069 k0_hw105 => k0_hw105.2

def k0_off107 (v2070 : BitVec 32) : Fin 2 → Nat :=
  let c3_i32_1355 : BitVec 32 := 3#32
  let v2076 : BitVec 32 := Scalar.shrsi v2070 c3_i32_1355
  let c3_i32_1356 : BitVec 32 := 3#32
  let v2077 : BitVec 32 := Scalar.shli v2076 c3_i32_1356
  let v2078 : BitVec 32 := v2077
  let v2081 : Index := Scalar.indexCast v2078
  let c0_1358 : Index := 0#32
  ![v2081.toNat, 0]

def k0_chk106 (v2070 : BitVec 32) : Prop :=
  (8 ∣ (k0_mult106 v2070).toNat) ∧
  (∀ a, (k0_off107 v2070) a + S16x128.size a ≤ S66048x128.size a)
theorem k0_mult106_dvd : ∀ (v2070 : BitVec 32) (k0_hw106 : k0_chk106 v2070), 8 ∣ (k0_mult106 v2070).toNat := fun v2070 k0_hw106 => k0_hw106.1
theorem k0_off107_inb : ∀ (v2070 : BitVec 32) (k0_hw106 : k0_chk106 v2070), ∀ a, (k0_off107 v2070) a + S16x128.size a ≤ S66048x128.size a := fun v2070 k0_hw106 => k0_hw106.2

def k0_mult107 (v2108 : BitVec 32) : BitVec 32 :=
  let c3_i32_1379 : BitVec 32 := 3#32
  let v2112 : BitVec 32 := Scalar.shrsi v2108 c3_i32_1379
  let c3_i32_1380 : BitVec 32 := 3#32
  let v2113 : BitVec 32 := Scalar.shli v2112 c3_i32_1380
  v2113

def k0_mult108 (v2109 : BitVec 32) : BitVec 32 :=
  let c3_i32_1381 : BitVec 32 := 3#32
  let v2115 : BitVec 32 := Scalar.shrsi v2109 c3_i32_1381
  let c3_i32_1382 : BitVec 32 := 3#32
  let v2116 : BitVec 32 := Scalar.shli v2115 c3_i32_1382
  v2116

def k0_off108 (v2108 : BitVec 32) : Fin 2 → Nat :=
  let c3_i32_1379 : BitVec 32 := 3#32
  let v2112 : BitVec 32 := Scalar.shrsi v2108 c3_i32_1379
  let c3_i32_1380 : BitVec 32 := 3#32
  let v2113 : BitVec 32 := Scalar.shli v2112 c3_i32_1380
  let v2114 : BitVec 32 := v2113
  let v2118 : Index := Scalar.indexCast v2114
  let c0_1383 : Index := 0#32
  ![v2118.toNat, 0]

def k0_chk107 (v2108 : BitVec 32) : Prop :=
  (8 ∣ (k0_mult107 v2108).toNat) ∧
  (∀ a, (k0_off108 v2108) a + S16x128.size a ≤ S66048x128.size a)
theorem k0_mult107_dvd : ∀ (v2108 : BitVec 32) (k0_hw107 : k0_chk107 v2108), 8 ∣ (k0_mult107 v2108).toNat := fun v2108 k0_hw107 => k0_hw107.1
theorem k0_off108_inb : ∀ (v2108 : BitVec 32) (k0_hw107 : k0_chk107 v2108), ∀ a, (k0_off108 v2108) a + S16x128.size a ≤ S66048x128.size a := fun v2108 k0_hw107 => k0_hw107.2

def k0_off109 (v2109 : BitVec 32) : Fin 2 → Nat :=
  let c3_i32_1381 : BitVec 32 := 3#32
  let v2115 : BitVec 32 := Scalar.shrsi v2109 c3_i32_1381
  let c3_i32_1382 : BitVec 32 := 3#32
  let v2116 : BitVec 32 := Scalar.shli v2115 c3_i32_1382
  let v2117 : BitVec 32 := v2116
  let v2120 : Index := Scalar.indexCast v2117
  let c0_1384 : Index := 0#32
  ![v2120.toNat, 0]

def k0_chk108 (v2109 : BitVec 32) : Prop :=
  (8 ∣ (k0_mult108 v2109).toNat) ∧
  (∀ a, (k0_off109 v2109) a + S16x128.size a ≤ S66048x128.size a)
theorem k0_mult108_dvd : ∀ (v2109 : BitVec 32) (k0_hw108 : k0_chk108 v2109), 8 ∣ (k0_mult108 v2109).toNat := fun v2109 k0_hw108 => k0_hw108.1
theorem k0_off109_inb : ∀ (v2109 : BitVec 32) (k0_hw108 : k0_chk108 v2109), ∀ a, (k0_off109 v2109) a + S16x128.size a ≤ S66048x128.size a := fun v2109 k0_hw108 => k0_hw108.2

def k0_mult109 (v2147 : BitVec 32) : BitVec 32 :=
  let c3_i32_1405 : BitVec 32 := 3#32
  let v2151 : BitVec 32 := Scalar.shrsi v2147 c3_i32_1405
  let c3_i32_1406 : BitVec 32 := 3#32
  let v2152 : BitVec 32 := Scalar.shli v2151 c3_i32_1406
  v2152

def k0_mult110 (v2148 : BitVec 32) : BitVec 32 :=
  let c3_i32_1407 : BitVec 32 := 3#32
  let v2154 : BitVec 32 := Scalar.shrsi v2148 c3_i32_1407
  let c3_i32_1408 : BitVec 32 := 3#32
  let v2155 : BitVec 32 := Scalar.shli v2154 c3_i32_1408
  v2155

def k0_off110 (v2147 : BitVec 32) : Fin 2 → Nat :=
  let c3_i32_1405 : BitVec 32 := 3#32
  let v2151 : BitVec 32 := Scalar.shrsi v2147 c3_i32_1405
  let c3_i32_1406 : BitVec 32 := 3#32
  let v2152 : BitVec 32 := Scalar.shli v2151 c3_i32_1406
  let v2153 : BitVec 32 := v2152
  let v2157 : Index := Scalar.indexCast v2153
  let c0_1409 : Index := 0#32
  ![v2157.toNat, 0]

def k0_chk109 (v2147 : BitVec 32) : Prop :=
  (8 ∣ (k0_mult109 v2147).toNat) ∧
  (∀ a, (k0_off110 v2147) a + S16x128.size a ≤ S66048x128.size a)
theorem k0_mult109_dvd : ∀ (v2147 : BitVec 32) (k0_hw109 : k0_chk109 v2147), 8 ∣ (k0_mult109 v2147).toNat := fun v2147 k0_hw109 => k0_hw109.1
theorem k0_off110_inb : ∀ (v2147 : BitVec 32) (k0_hw109 : k0_chk109 v2147), ∀ a, (k0_off110 v2147) a + S16x128.size a ≤ S66048x128.size a := fun v2147 k0_hw109 => k0_hw109.2

def k0_off111 (v2148 : BitVec 32) : Fin 2 → Nat :=
  let c3_i32_1407 : BitVec 32 := 3#32
  let v2154 : BitVec 32 := Scalar.shrsi v2148 c3_i32_1407
  let c3_i32_1408 : BitVec 32 := 3#32
  let v2155 : BitVec 32 := Scalar.shli v2154 c3_i32_1408
  let v2156 : BitVec 32 := v2155
  let v2159 : Index := Scalar.indexCast v2156
  let c0_1410 : Index := 0#32
  ![v2159.toNat, 0]

def k0_chk110 (v2148 : BitVec 32) : Prop :=
  (8 ∣ (k0_mult110 v2148).toNat) ∧
  (∀ a, (k0_off111 v2148) a + S16x128.size a ≤ S66048x128.size a)
theorem k0_mult110_dvd : ∀ (v2148 : BitVec 32) (k0_hw110 : k0_chk110 v2148), 8 ∣ (k0_mult110 v2148).toNat := fun v2148 k0_hw110 => k0_hw110.1
theorem k0_off111_inb : ∀ (v2148 : BitVec 32) (k0_hw110 : k0_chk110 v2148), ∀ a, (k0_off111 v2148) a + S16x128.size a ≤ S66048x128.size a := fun v2148 k0_hw110 => k0_hw110.2

def k0_mult111 (v2186 : BitVec 32) : BitVec 32 :=
  let c3_i32_1431 : BitVec 32 := 3#32
  let v2190 : BitVec 32 := Scalar.shrsi v2186 c3_i32_1431
  let c3_i32_1432 : BitVec 32 := 3#32
  let v2191 : BitVec 32 := Scalar.shli v2190 c3_i32_1432
  v2191

def k0_mult112 (v2187 : BitVec 32) : BitVec 32 :=
  let c3_i32_1433 : BitVec 32 := 3#32
  let v2193 : BitVec 32 := Scalar.shrsi v2187 c3_i32_1433
  let c3_i32_1434 : BitVec 32 := 3#32
  let v2194 : BitVec 32 := Scalar.shli v2193 c3_i32_1434
  v2194

def k0_off112 (v2186 : BitVec 32) : Fin 2 → Nat :=
  let c3_i32_1431 : BitVec 32 := 3#32
  let v2190 : BitVec 32 := Scalar.shrsi v2186 c3_i32_1431
  let c3_i32_1432 : BitVec 32 := 3#32
  let v2191 : BitVec 32 := Scalar.shli v2190 c3_i32_1432
  let v2192 : BitVec 32 := v2191
  let v2196 : Index := Scalar.indexCast v2192
  let c0_1435 : Index := 0#32
  ![v2196.toNat, 0]

def k0_chk111 (v2186 : BitVec 32) : Prop :=
  (8 ∣ (k0_mult111 v2186).toNat) ∧
  (∀ a, (k0_off112 v2186) a + S16x128.size a ≤ S66048x128.size a)
theorem k0_mult111_dvd : ∀ (v2186 : BitVec 32) (k0_hw111 : k0_chk111 v2186), 8 ∣ (k0_mult111 v2186).toNat := fun v2186 k0_hw111 => k0_hw111.1
theorem k0_off112_inb : ∀ (v2186 : BitVec 32) (k0_hw111 : k0_chk111 v2186), ∀ a, (k0_off112 v2186) a + S16x128.size a ≤ S66048x128.size a := fun v2186 k0_hw111 => k0_hw111.2

def k0_off113 (v2187 : BitVec 32) : Fin 2 → Nat :=
  let c3_i32_1433 : BitVec 32 := 3#32
  let v2193 : BitVec 32 := Scalar.shrsi v2187 c3_i32_1433
  let c3_i32_1434 : BitVec 32 := 3#32
  let v2194 : BitVec 32 := Scalar.shli v2193 c3_i32_1434
  let v2195 : BitVec 32 := v2194
  let v2198 : Index := Scalar.indexCast v2195
  let c0_1436 : Index := 0#32
  ![v2198.toNat, 0]

def k0_chk112 (v2187 : BitVec 32) : Prop :=
  (8 ∣ (k0_mult112 v2187).toNat) ∧
  (∀ a, (k0_off113 v2187) a + S16x128.size a ≤ S66048x128.size a)
theorem k0_mult112_dvd : ∀ (v2187 : BitVec 32) (k0_hw112 : k0_chk112 v2187), 8 ∣ (k0_mult112 v2187).toNat := fun v2187 k0_hw112 => k0_hw112.1
theorem k0_off113_inb : ∀ (v2187 : BitVec 32) (k0_hw112 : k0_chk112 v2187), ∀ a, (k0_off113 v2187) a + S16x128.size a ≤ S66048x128.size a := fun v2187 k0_hw112 => k0_hw112.2

def k0_mult113 (v2225 : BitVec 32) : BitVec 32 :=
  let c3_i32_1457 : BitVec 32 := 3#32
  let v2229 : BitVec 32 := Scalar.shrsi v2225 c3_i32_1457
  let c3_i32_1458 : BitVec 32 := 3#32
  let v2230 : BitVec 32 := Scalar.shli v2229 c3_i32_1458
  v2230

def k0_mult114 (v2226 : BitVec 32) : BitVec 32 :=
  let c3_i32_1459 : BitVec 32 := 3#32
  let v2232 : BitVec 32 := Scalar.shrsi v2226 c3_i32_1459
  let c3_i32_1460 : BitVec 32 := 3#32
  let v2233 : BitVec 32 := Scalar.shli v2232 c3_i32_1460
  v2233

def k0_off114 (v2225 : BitVec 32) : Fin 2 → Nat :=
  let c3_i32_1457 : BitVec 32 := 3#32
  let v2229 : BitVec 32 := Scalar.shrsi v2225 c3_i32_1457
  let c3_i32_1458 : BitVec 32 := 3#32
  let v2230 : BitVec 32 := Scalar.shli v2229 c3_i32_1458
  let v2231 : BitVec 32 := v2230
  let v2235 : Index := Scalar.indexCast v2231
  let c0_1461 : Index := 0#32
  ![v2235.toNat, 0]

def k0_chk113 (v2225 : BitVec 32) : Prop :=
  (8 ∣ (k0_mult113 v2225).toNat) ∧
  (∀ a, (k0_off114 v2225) a + S16x128.size a ≤ S66048x128.size a)
theorem k0_mult113_dvd : ∀ (v2225 : BitVec 32) (k0_hw113 : k0_chk113 v2225), 8 ∣ (k0_mult113 v2225).toNat := fun v2225 k0_hw113 => k0_hw113.1
theorem k0_off114_inb : ∀ (v2225 : BitVec 32) (k0_hw113 : k0_chk113 v2225), ∀ a, (k0_off114 v2225) a + S16x128.size a ≤ S66048x128.size a := fun v2225 k0_hw113 => k0_hw113.2

def k0_off115 (v2226 : BitVec 32) : Fin 2 → Nat :=
  let c3_i32_1459 : BitVec 32 := 3#32
  let v2232 : BitVec 32 := Scalar.shrsi v2226 c3_i32_1459
  let c3_i32_1460 : BitVec 32 := 3#32
  let v2233 : BitVec 32 := Scalar.shli v2232 c3_i32_1460
  let v2234 : BitVec 32 := v2233
  let v2237 : Index := Scalar.indexCast v2234
  let c0_1462 : Index := 0#32
  ![v2237.toNat, 0]

def k0_chk114 (v2226 : BitVec 32) : Prop :=
  (8 ∣ (k0_mult114 v2226).toNat) ∧
  (∀ a, (k0_off115 v2226) a + S16x128.size a ≤ S66048x128.size a)
theorem k0_mult114_dvd : ∀ (v2226 : BitVec 32) (k0_hw114 : k0_chk114 v2226), 8 ∣ (k0_mult114 v2226).toNat := fun v2226 k0_hw114 => k0_hw114.1
theorem k0_off115_inb : ∀ (v2226 : BitVec 32) (k0_hw114 : k0_chk114 v2226), ∀ a, (k0_off115 v2226) a + S16x128.size a ≤ S66048x128.size a := fun v2226 k0_hw114 => k0_hw114.2

def k0_mult115 (v2264 : BitVec 32) : BitVec 32 :=
  let c3_i32_1483 : BitVec 32 := 3#32
  let v2268 : BitVec 32 := Scalar.shrsi v2264 c3_i32_1483
  let c3_i32_1484 : BitVec 32 := 3#32
  let v2269 : BitVec 32 := Scalar.shli v2268 c3_i32_1484
  v2269

def k0_mult116 (v2265 : BitVec 32) : BitVec 32 :=
  let c3_i32_1485 : BitVec 32 := 3#32
  let v2271 : BitVec 32 := Scalar.shrsi v2265 c3_i32_1485
  let c3_i32_1486 : BitVec 32 := 3#32
  let v2272 : BitVec 32 := Scalar.shli v2271 c3_i32_1486
  v2272

def k0_off116 (v2264 : BitVec 32) : Fin 2 → Nat :=
  let c3_i32_1483 : BitVec 32 := 3#32
  let v2268 : BitVec 32 := Scalar.shrsi v2264 c3_i32_1483
  let c3_i32_1484 : BitVec 32 := 3#32
  let v2269 : BitVec 32 := Scalar.shli v2268 c3_i32_1484
  let v2270 : BitVec 32 := v2269
  let v2274 : Index := Scalar.indexCast v2270
  let c0_1487 : Index := 0#32
  ![v2274.toNat, 0]

def k0_chk115 (v2264 : BitVec 32) : Prop :=
  (8 ∣ (k0_mult115 v2264).toNat) ∧
  (∀ a, (k0_off116 v2264) a + S16x128.size a ≤ S66048x128.size a)
theorem k0_mult115_dvd : ∀ (v2264 : BitVec 32) (k0_hw115 : k0_chk115 v2264), 8 ∣ (k0_mult115 v2264).toNat := fun v2264 k0_hw115 => k0_hw115.1
theorem k0_off116_inb : ∀ (v2264 : BitVec 32) (k0_hw115 : k0_chk115 v2264), ∀ a, (k0_off116 v2264) a + S16x128.size a ≤ S66048x128.size a := fun v2264 k0_hw115 => k0_hw115.2

def k0_off117 (v2265 : BitVec 32) : Fin 2 → Nat :=
  let c3_i32_1485 : BitVec 32 := 3#32
  let v2271 : BitVec 32 := Scalar.shrsi v2265 c3_i32_1485
  let c3_i32_1486 : BitVec 32 := 3#32
  let v2272 : BitVec 32 := Scalar.shli v2271 c3_i32_1486
  let v2273 : BitVec 32 := v2272
  let v2276 : Index := Scalar.indexCast v2273
  let c0_1488 : Index := 0#32
  ![v2276.toNat, 0]

def k0_chk116 (v2265 : BitVec 32) : Prop :=
  (8 ∣ (k0_mult116 v2265).toNat) ∧
  (∀ a, (k0_off117 v2265) a + S16x128.size a ≤ S66048x128.size a)
theorem k0_mult116_dvd : ∀ (v2265 : BitVec 32) (k0_hw116 : k0_chk116 v2265), 8 ∣ (k0_mult116 v2265).toNat := fun v2265 k0_hw116 => k0_hw116.1
theorem k0_off117_inb : ∀ (v2265 : BitVec 32) (k0_hw116 : k0_chk116 v2265), ∀ a, (k0_off117 v2265) a + S16x128.size a ≤ S66048x128.size a := fun v2265 k0_hw116 => k0_hw116.2

def k0_mult117 (v2303 : BitVec 32) : BitVec 32 :=
  let c3_i32_1509 : BitVec 32 := 3#32
  let v2307 : BitVec 32 := Scalar.shrsi v2303 c3_i32_1509
  let c3_i32_1510 : BitVec 32 := 3#32
  let v2308 : BitVec 32 := Scalar.shli v2307 c3_i32_1510
  v2308

def k0_mult118 (v2304 : BitVec 32) : BitVec 32 :=
  let c3_i32_1511 : BitVec 32 := 3#32
  let v2310 : BitVec 32 := Scalar.shrsi v2304 c3_i32_1511
  let c3_i32_1512 : BitVec 32 := 3#32
  let v2311 : BitVec 32 := Scalar.shli v2310 c3_i32_1512
  v2311

def k0_off118 (v2303 : BitVec 32) : Fin 2 → Nat :=
  let c3_i32_1509 : BitVec 32 := 3#32
  let v2307 : BitVec 32 := Scalar.shrsi v2303 c3_i32_1509
  let c3_i32_1510 : BitVec 32 := 3#32
  let v2308 : BitVec 32 := Scalar.shli v2307 c3_i32_1510
  let v2309 : BitVec 32 := v2308
  let v2313 : Index := Scalar.indexCast v2309
  let c0_1513 : Index := 0#32
  ![v2313.toNat, 0]

def k0_chk117 (v2303 : BitVec 32) : Prop :=
  (8 ∣ (k0_mult117 v2303).toNat) ∧
  (∀ a, (k0_off118 v2303) a + S16x128.size a ≤ S66048x128.size a)
theorem k0_mult117_dvd : ∀ (v2303 : BitVec 32) (k0_hw117 : k0_chk117 v2303), 8 ∣ (k0_mult117 v2303).toNat := fun v2303 k0_hw117 => k0_hw117.1
theorem k0_off118_inb : ∀ (v2303 : BitVec 32) (k0_hw117 : k0_chk117 v2303), ∀ a, (k0_off118 v2303) a + S16x128.size a ≤ S66048x128.size a := fun v2303 k0_hw117 => k0_hw117.2

def k0_off119 (v2304 : BitVec 32) : Fin 2 → Nat :=
  let c3_i32_1511 : BitVec 32 := 3#32
  let v2310 : BitVec 32 := Scalar.shrsi v2304 c3_i32_1511
  let c3_i32_1512 : BitVec 32 := 3#32
  let v2311 : BitVec 32 := Scalar.shli v2310 c3_i32_1512
  let v2312 : BitVec 32 := v2311
  let v2315 : Index := Scalar.indexCast v2312
  let c0_1514 : Index := 0#32
  ![v2315.toNat, 0]

def k0_chk118 (v2304 : BitVec 32) : Prop :=
  (8 ∣ (k0_mult118 v2304).toNat) ∧
  (∀ a, (k0_off119 v2304) a + S16x128.size a ≤ S66048x128.size a)
theorem k0_mult118_dvd : ∀ (v2304 : BitVec 32) (k0_hw118 : k0_chk118 v2304), 8 ∣ (k0_mult118 v2304).toNat := fun v2304 k0_hw118 => k0_hw118.1
theorem k0_off119_inb : ∀ (v2304 : BitVec 32) (k0_hw118 : k0_chk118 v2304), ∀ a, (k0_off119 v2304) a + S16x128.size a ≤ S66048x128.size a := fun v2304 k0_hw118 => k0_hw118.2

def k0_mult119 (v2342 : BitVec 32) : BitVec 32 :=
  let c3_i32_1535 : BitVec 32 := 3#32
  let v2346 : BitVec 32 := Scalar.shrsi v2342 c3_i32_1535
  let c3_i32_1536 : BitVec 32 := 3#32
  let v2347 : BitVec 32 := Scalar.shli v2346 c3_i32_1536
  v2347

def k0_mult120 (v2343 : BitVec 32) : BitVec 32 :=
  let c3_i32_1537 : BitVec 32 := 3#32
  let v2349 : BitVec 32 := Scalar.shrsi v2343 c3_i32_1537
  let c3_i32_1538 : BitVec 32 := 3#32
  let v2350 : BitVec 32 := Scalar.shli v2349 c3_i32_1538
  v2350

def k0_off120 (v2342 : BitVec 32) : Fin 2 → Nat :=
  let c3_i32_1535 : BitVec 32 := 3#32
  let v2346 : BitVec 32 := Scalar.shrsi v2342 c3_i32_1535
  let c3_i32_1536 : BitVec 32 := 3#32
  let v2347 : BitVec 32 := Scalar.shli v2346 c3_i32_1536
  let v2348 : BitVec 32 := v2347
  let v2352 : Index := Scalar.indexCast v2348
  let c0_1539 : Index := 0#32
  ![v2352.toNat, 0]

def k0_chk119 (v2342 : BitVec 32) : Prop :=
  (8 ∣ (k0_mult119 v2342).toNat) ∧
  (∀ a, (k0_off120 v2342) a + S16x128.size a ≤ S66048x128.size a)
theorem k0_mult119_dvd : ∀ (v2342 : BitVec 32) (k0_hw119 : k0_chk119 v2342), 8 ∣ (k0_mult119 v2342).toNat := fun v2342 k0_hw119 => k0_hw119.1
theorem k0_off120_inb : ∀ (v2342 : BitVec 32) (k0_hw119 : k0_chk119 v2342), ∀ a, (k0_off120 v2342) a + S16x128.size a ≤ S66048x128.size a := fun v2342 k0_hw119 => k0_hw119.2

def k0_off121 (v2343 : BitVec 32) : Fin 2 → Nat :=
  let c3_i32_1537 : BitVec 32 := 3#32
  let v2349 : BitVec 32 := Scalar.shrsi v2343 c3_i32_1537
  let c3_i32_1538 : BitVec 32 := 3#32
  let v2350 : BitVec 32 := Scalar.shli v2349 c3_i32_1538
  let v2351 : BitVec 32 := v2350
  let v2354 : Index := Scalar.indexCast v2351
  let c0_1540 : Index := 0#32
  ![v2354.toNat, 0]

def k0_chk120 (v2343 : BitVec 32) : Prop :=
  (8 ∣ (k0_mult120 v2343).toNat) ∧
  (∀ a, (k0_off121 v2343) a + S16x128.size a ≤ S66048x128.size a)
theorem k0_mult120_dvd : ∀ (v2343 : BitVec 32) (k0_hw120 : k0_chk120 v2343), 8 ∣ (k0_mult120 v2343).toNat := fun v2343 k0_hw120 => k0_hw120.1
theorem k0_off121_inb : ∀ (v2343 : BitVec 32) (k0_hw120 : k0_chk120 v2343), ∀ a, (k0_off121 v2343) a + S16x128.size a ≤ S66048x128.size a := fun v2343 k0_hw120 => k0_hw120.2

def k0_mult121 (v2381 : BitVec 32) : BitVec 32 :=
  let c3_i32_1561 : BitVec 32 := 3#32
  let v2385 : BitVec 32 := Scalar.shrsi v2381 c3_i32_1561
  let c3_i32_1562 : BitVec 32 := 3#32
  let v2386 : BitVec 32 := Scalar.shli v2385 c3_i32_1562
  v2386

def k0_mult122 (v2382 : BitVec 32) : BitVec 32 :=
  let c3_i32_1563 : BitVec 32 := 3#32
  let v2388 : BitVec 32 := Scalar.shrsi v2382 c3_i32_1563
  let c3_i32_1564 : BitVec 32 := 3#32
  let v2389 : BitVec 32 := Scalar.shli v2388 c3_i32_1564
  v2389

def k0_off122 (v2381 : BitVec 32) : Fin 2 → Nat :=
  let c3_i32_1561 : BitVec 32 := 3#32
  let v2385 : BitVec 32 := Scalar.shrsi v2381 c3_i32_1561
  let c3_i32_1562 : BitVec 32 := 3#32
  let v2386 : BitVec 32 := Scalar.shli v2385 c3_i32_1562
  let v2387 : BitVec 32 := v2386
  let v2391 : Index := Scalar.indexCast v2387
  let c0_1565 : Index := 0#32
  ![v2391.toNat, 0]

def k0_chk121 (v2381 : BitVec 32) : Prop :=
  (8 ∣ (k0_mult121 v2381).toNat) ∧
  (∀ a, (k0_off122 v2381) a + S16x128.size a ≤ S66048x128.size a)
theorem k0_mult121_dvd : ∀ (v2381 : BitVec 32) (k0_hw121 : k0_chk121 v2381), 8 ∣ (k0_mult121 v2381).toNat := fun v2381 k0_hw121 => k0_hw121.1
theorem k0_off122_inb : ∀ (v2381 : BitVec 32) (k0_hw121 : k0_chk121 v2381), ∀ a, (k0_off122 v2381) a + S16x128.size a ≤ S66048x128.size a := fun v2381 k0_hw121 => k0_hw121.2

def k0_off123 (v2382 : BitVec 32) : Fin 2 → Nat :=
  let c3_i32_1563 : BitVec 32 := 3#32
  let v2388 : BitVec 32 := Scalar.shrsi v2382 c3_i32_1563
  let c3_i32_1564 : BitVec 32 := 3#32
  let v2389 : BitVec 32 := Scalar.shli v2388 c3_i32_1564
  let v2390 : BitVec 32 := v2389
  let v2393 : Index := Scalar.indexCast v2390
  let c0_1566 : Index := 0#32
  ![v2393.toNat, 0]

def k0_chk122 (v2382 : BitVec 32) : Prop :=
  (8 ∣ (k0_mult122 v2382).toNat) ∧
  (∀ a, (k0_off123 v2382) a + S16x128.size a ≤ S66048x128.size a)
theorem k0_mult122_dvd : ∀ (v2382 : BitVec 32) (k0_hw122 : k0_chk122 v2382), 8 ∣ (k0_mult122 v2382).toNat := fun v2382 k0_hw122 => k0_hw122.1
theorem k0_off123_inb : ∀ (v2382 : BitVec 32) (k0_hw122 : k0_chk122 v2382), ∀ a, (k0_off123 v2382) a + S16x128.size a ≤ S66048x128.size a := fun v2382 k0_hw122 => k0_hw122.2

def k0_mult123 (v2420 : BitVec 32) : BitVec 32 :=
  let c3_i32_1587 : BitVec 32 := 3#32
  let v2424 : BitVec 32 := Scalar.shrsi v2420 c3_i32_1587
  let c3_i32_1588 : BitVec 32 := 3#32
  let v2425 : BitVec 32 := Scalar.shli v2424 c3_i32_1588
  v2425

def k0_mult124 (v2421 : BitVec 32) : BitVec 32 :=
  let c3_i32_1589 : BitVec 32 := 3#32
  let v2427 : BitVec 32 := Scalar.shrsi v2421 c3_i32_1589
  let c3_i32_1590 : BitVec 32 := 3#32
  let v2428 : BitVec 32 := Scalar.shli v2427 c3_i32_1590
  v2428

def k0_off124 (v2420 : BitVec 32) : Fin 2 → Nat :=
  let c3_i32_1587 : BitVec 32 := 3#32
  let v2424 : BitVec 32 := Scalar.shrsi v2420 c3_i32_1587
  let c3_i32_1588 : BitVec 32 := 3#32
  let v2425 : BitVec 32 := Scalar.shli v2424 c3_i32_1588
  let v2426 : BitVec 32 := v2425
  let v2430 : Index := Scalar.indexCast v2426
  let c0_1591 : Index := 0#32
  ![v2430.toNat, 0]

def k0_chk123 (v2420 : BitVec 32) : Prop :=
  (8 ∣ (k0_mult123 v2420).toNat) ∧
  (∀ a, (k0_off124 v2420) a + S16x128.size a ≤ S66048x128.size a)
theorem k0_mult123_dvd : ∀ (v2420 : BitVec 32) (k0_hw123 : k0_chk123 v2420), 8 ∣ (k0_mult123 v2420).toNat := fun v2420 k0_hw123 => k0_hw123.1
theorem k0_off124_inb : ∀ (v2420 : BitVec 32) (k0_hw123 : k0_chk123 v2420), ∀ a, (k0_off124 v2420) a + S16x128.size a ≤ S66048x128.size a := fun v2420 k0_hw123 => k0_hw123.2

def k0_off125 (v2421 : BitVec 32) : Fin 2 → Nat :=
  let c3_i32_1589 : BitVec 32 := 3#32
  let v2427 : BitVec 32 := Scalar.shrsi v2421 c3_i32_1589
  let c3_i32_1590 : BitVec 32 := 3#32
  let v2428 : BitVec 32 := Scalar.shli v2427 c3_i32_1590
  let v2429 : BitVec 32 := v2428
  let v2432 : Index := Scalar.indexCast v2429
  let c0_1592 : Index := 0#32
  ![v2432.toNat, 0]

def k0_chk124 (v2421 : BitVec 32) : Prop :=
  (8 ∣ (k0_mult124 v2421).toNat) ∧
  (∀ a, (k0_off125 v2421) a + S16x128.size a ≤ S66048x128.size a)
theorem k0_mult124_dvd : ∀ (v2421 : BitVec 32) (k0_hw124 : k0_chk124 v2421), 8 ∣ (k0_mult124 v2421).toNat := fun v2421 k0_hw124 => k0_hw124.1
theorem k0_off125_inb : ∀ (v2421 : BitVec 32) (k0_hw124 : k0_chk124 v2421), ∀ a, (k0_off125 v2421) a + S16x128.size a ≤ S66048x128.size a := fun v2421 k0_hw124 => k0_hw124.2

def k0_mult125 (v2459 : BitVec 32) : BitVec 32 :=
  let c3_i32_1613 : BitVec 32 := 3#32
  let v2463 : BitVec 32 := Scalar.shrsi v2459 c3_i32_1613
  let c3_i32_1614 : BitVec 32 := 3#32
  let v2464 : BitVec 32 := Scalar.shli v2463 c3_i32_1614
  v2464

def k0_mult126 (v2460 : BitVec 32) : BitVec 32 :=
  let c3_i32_1615 : BitVec 32 := 3#32
  let v2466 : BitVec 32 := Scalar.shrsi v2460 c3_i32_1615
  let c3_i32_1616 : BitVec 32 := 3#32
  let v2467 : BitVec 32 := Scalar.shli v2466 c3_i32_1616
  v2467

def k0_off126 (v2459 : BitVec 32) : Fin 2 → Nat :=
  let c3_i32_1613 : BitVec 32 := 3#32
  let v2463 : BitVec 32 := Scalar.shrsi v2459 c3_i32_1613
  let c3_i32_1614 : BitVec 32 := 3#32
  let v2464 : BitVec 32 := Scalar.shli v2463 c3_i32_1614
  let v2465 : BitVec 32 := v2464
  let v2469 : Index := Scalar.indexCast v2465
  let c0_1617 : Index := 0#32
  ![v2469.toNat, 0]

def k0_chk125 (v2459 : BitVec 32) : Prop :=
  (8 ∣ (k0_mult125 v2459).toNat) ∧
  (∀ a, (k0_off126 v2459) a + S16x128.size a ≤ S66048x128.size a)
theorem k0_mult125_dvd : ∀ (v2459 : BitVec 32) (k0_hw125 : k0_chk125 v2459), 8 ∣ (k0_mult125 v2459).toNat := fun v2459 k0_hw125 => k0_hw125.1
theorem k0_off126_inb : ∀ (v2459 : BitVec 32) (k0_hw125 : k0_chk125 v2459), ∀ a, (k0_off126 v2459) a + S16x128.size a ≤ S66048x128.size a := fun v2459 k0_hw125 => k0_hw125.2

def k0_off127 (v2460 : BitVec 32) : Fin 2 → Nat :=
  let c3_i32_1615 : BitVec 32 := 3#32
  let v2466 : BitVec 32 := Scalar.shrsi v2460 c3_i32_1615
  let c3_i32_1616 : BitVec 32 := 3#32
  let v2467 : BitVec 32 := Scalar.shli v2466 c3_i32_1616
  let v2468 : BitVec 32 := v2467
  let v2471 : Index := Scalar.indexCast v2468
  let c0_1618 : Index := 0#32
  ![v2471.toNat, 0]

def k0_chk126 (v2460 : BitVec 32) : Prop :=
  (8 ∣ (k0_mult126 v2460).toNat) ∧
  (∀ a, (k0_off127 v2460) a + S16x128.size a ≤ S66048x128.size a)
theorem k0_mult126_dvd : ∀ (v2460 : BitVec 32) (k0_hw126 : k0_chk126 v2460), 8 ∣ (k0_mult126 v2460).toNat := fun v2460 k0_hw126 => k0_hw126.1
theorem k0_off127_inb : ∀ (v2460 : BitVec 32) (k0_hw126 : k0_chk126 v2460), ∀ a, (k0_off127 v2460) a + S16x128.size a ≤ S66048x128.size a := fun v2460 k0_hw126 => k0_hw126.2

def k0_mult127 (v2498 : BitVec 32) : BitVec 32 :=
  let c3_i32_1639 : BitVec 32 := 3#32
  let v2502 : BitVec 32 := Scalar.shrsi v2498 c3_i32_1639
  let c3_i32_1640 : BitVec 32 := 3#32
  let v2503 : BitVec 32 := Scalar.shli v2502 c3_i32_1640
  v2503

def k0_mult128 (v2499 : BitVec 32) : BitVec 32 :=
  let c3_i32_1641 : BitVec 32 := 3#32
  let v2505 : BitVec 32 := Scalar.shrsi v2499 c3_i32_1641
  let c3_i32_1642 : BitVec 32 := 3#32
  let v2506 : BitVec 32 := Scalar.shli v2505 c3_i32_1642
  v2506

def k0_off128 (v2498 : BitVec 32) : Fin 2 → Nat :=
  let c3_i32_1639 : BitVec 32 := 3#32
  let v2502 : BitVec 32 := Scalar.shrsi v2498 c3_i32_1639
  let c3_i32_1640 : BitVec 32 := 3#32
  let v2503 : BitVec 32 := Scalar.shli v2502 c3_i32_1640
  let v2504 : BitVec 32 := v2503
  let v2508 : Index := Scalar.indexCast v2504
  let c0_1643 : Index := 0#32
  ![v2508.toNat, 0]

def k0_chk127 (v2498 : BitVec 32) : Prop :=
  (8 ∣ (k0_mult127 v2498).toNat) ∧
  (∀ a, (k0_off128 v2498) a + S16x128.size a ≤ S66048x128.size a)
theorem k0_mult127_dvd : ∀ (v2498 : BitVec 32) (k0_hw127 : k0_chk127 v2498), 8 ∣ (k0_mult127 v2498).toNat := fun v2498 k0_hw127 => k0_hw127.1
theorem k0_off128_inb : ∀ (v2498 : BitVec 32) (k0_hw127 : k0_chk127 v2498), ∀ a, (k0_off128 v2498) a + S16x128.size a ≤ S66048x128.size a := fun v2498 k0_hw127 => k0_hw127.2

def k0_off129 (v2499 : BitVec 32) : Fin 2 → Nat :=
  let c3_i32_1641 : BitVec 32 := 3#32
  let v2505 : BitVec 32 := Scalar.shrsi v2499 c3_i32_1641
  let c3_i32_1642 : BitVec 32 := 3#32
  let v2506 : BitVec 32 := Scalar.shli v2505 c3_i32_1642
  let v2507 : BitVec 32 := v2506
  let v2510 : Index := Scalar.indexCast v2507
  let c0_1644 : Index := 0#32
  ![v2510.toNat, 0]

def k0_chk128 (v2499 : BitVec 32) : Prop :=
  (8 ∣ (k0_mult128 v2499).toNat) ∧
  (∀ a, (k0_off129 v2499) a + S16x128.size a ≤ S66048x128.size a)
theorem k0_mult128_dvd : ∀ (v2499 : BitVec 32) (k0_hw128 : k0_chk128 v2499), 8 ∣ (k0_mult128 v2499).toNat := fun v2499 k0_hw128 => k0_hw128.1
theorem k0_off129_inb : ∀ (v2499 : BitVec 32) (k0_hw128 : k0_chk128 v2499), ∀ a, (k0_off129 v2499) a + S16x128.size a ≤ S66048x128.size a := fun v2499 k0_hw128 => k0_hw128.2

def k0_mult129 (v2537 : BitVec 32) : BitVec 32 :=
  let c3_i32_1665 : BitVec 32 := 3#32
  let v2541 : BitVec 32 := Scalar.shrsi v2537 c3_i32_1665
  let c3_i32_1666 : BitVec 32 := 3#32
  let v2542 : BitVec 32 := Scalar.shli v2541 c3_i32_1666
  v2542

def k0_mult130 (v2538 : BitVec 32) : BitVec 32 :=
  let c3_i32_1667 : BitVec 32 := 3#32
  let v2544 : BitVec 32 := Scalar.shrsi v2538 c3_i32_1667
  let c3_i32_1668 : BitVec 32 := 3#32
  let v2545 : BitVec 32 := Scalar.shli v2544 c3_i32_1668
  v2545

def k0_off130 (v2537 : BitVec 32) : Fin 2 → Nat :=
  let c3_i32_1665 : BitVec 32 := 3#32
  let v2541 : BitVec 32 := Scalar.shrsi v2537 c3_i32_1665
  let c3_i32_1666 : BitVec 32 := 3#32
  let v2542 : BitVec 32 := Scalar.shli v2541 c3_i32_1666
  let v2543 : BitVec 32 := v2542
  let v2547 : Index := Scalar.indexCast v2543
  let c0_1669 : Index := 0#32
  ![v2547.toNat, 0]

def k0_chk129 (v2537 : BitVec 32) : Prop :=
  (8 ∣ (k0_mult129 v2537).toNat) ∧
  (∀ a, (k0_off130 v2537) a + S16x128.size a ≤ S66048x128.size a)
theorem k0_mult129_dvd : ∀ (v2537 : BitVec 32) (k0_hw129 : k0_chk129 v2537), 8 ∣ (k0_mult129 v2537).toNat := fun v2537 k0_hw129 => k0_hw129.1
theorem k0_off130_inb : ∀ (v2537 : BitVec 32) (k0_hw129 : k0_chk129 v2537), ∀ a, (k0_off130 v2537) a + S16x128.size a ≤ S66048x128.size a := fun v2537 k0_hw129 => k0_hw129.2

def k0_off131 (v2538 : BitVec 32) : Fin 2 → Nat :=
  let c3_i32_1667 : BitVec 32 := 3#32
  let v2544 : BitVec 32 := Scalar.shrsi v2538 c3_i32_1667
  let c3_i32_1668 : BitVec 32 := 3#32
  let v2545 : BitVec 32 := Scalar.shli v2544 c3_i32_1668
  let v2546 : BitVec 32 := v2545
  let v2549 : Index := Scalar.indexCast v2546
  let c0_1670 : Index := 0#32
  ![v2549.toNat, 0]

def k0_chk130 (v2538 : BitVec 32) : Prop :=
  (8 ∣ (k0_mult130 v2538).toNat) ∧
  (∀ a, (k0_off131 v2538) a + S16x128.size a ≤ S66048x128.size a)
theorem k0_mult130_dvd : ∀ (v2538 : BitVec 32) (k0_hw130 : k0_chk130 v2538), 8 ∣ (k0_mult130 v2538).toNat := fun v2538 k0_hw130 => k0_hw130.1
theorem k0_off131_inb : ∀ (v2538 : BitVec 32) (k0_hw130 : k0_chk130 v2538), ∀ a, (k0_off131 v2538) a + S16x128.size a ≤ S66048x128.size a := fun v2538 k0_hw130 => k0_hw130.2

def k0_mult131 (v2576 : BitVec 32) : BitVec 32 :=
  let c3_i32_1691 : BitVec 32 := 3#32
  let v2580 : BitVec 32 := Scalar.shrsi v2576 c3_i32_1691
  let c3_i32_1692 : BitVec 32 := 3#32
  let v2581 : BitVec 32 := Scalar.shli v2580 c3_i32_1692
  v2581

def k0_mult132 (v2577 : BitVec 32) : BitVec 32 :=
  let c3_i32_1693 : BitVec 32 := 3#32
  let v2583 : BitVec 32 := Scalar.shrsi v2577 c3_i32_1693
  let c3_i32_1694 : BitVec 32 := 3#32
  let v2584 : BitVec 32 := Scalar.shli v2583 c3_i32_1694
  v2584

def k0_off132 (v2576 : BitVec 32) : Fin 2 → Nat :=
  let c3_i32_1691 : BitVec 32 := 3#32
  let v2580 : BitVec 32 := Scalar.shrsi v2576 c3_i32_1691
  let c3_i32_1692 : BitVec 32 := 3#32
  let v2581 : BitVec 32 := Scalar.shli v2580 c3_i32_1692
  let v2582 : BitVec 32 := v2581
  let v2586 : Index := Scalar.indexCast v2582
  let c0_1695 : Index := 0#32
  ![v2586.toNat, 0]

def k0_chk131 (v2576 : BitVec 32) : Prop :=
  (8 ∣ (k0_mult131 v2576).toNat) ∧
  (∀ a, (k0_off132 v2576) a + S16x128.size a ≤ S66048x128.size a)
theorem k0_mult131_dvd : ∀ (v2576 : BitVec 32) (k0_hw131 : k0_chk131 v2576), 8 ∣ (k0_mult131 v2576).toNat := fun v2576 k0_hw131 => k0_hw131.1
theorem k0_off132_inb : ∀ (v2576 : BitVec 32) (k0_hw131 : k0_chk131 v2576), ∀ a, (k0_off132 v2576) a + S16x128.size a ≤ S66048x128.size a := fun v2576 k0_hw131 => k0_hw131.2

def k0_off133 (v2577 : BitVec 32) : Fin 2 → Nat :=
  let c3_i32_1693 : BitVec 32 := 3#32
  let v2583 : BitVec 32 := Scalar.shrsi v2577 c3_i32_1693
  let c3_i32_1694 : BitVec 32 := 3#32
  let v2584 : BitVec 32 := Scalar.shli v2583 c3_i32_1694
  let v2585 : BitVec 32 := v2584
  let v2588 : Index := Scalar.indexCast v2585
  let c0_1696 : Index := 0#32
  ![v2588.toNat, 0]

def k0_chk132 (v2577 : BitVec 32) : Prop :=
  (8 ∣ (k0_mult132 v2577).toNat) ∧
  (∀ a, (k0_off133 v2577) a + S16x128.size a ≤ S66048x128.size a)
theorem k0_mult132_dvd : ∀ (v2577 : BitVec 32) (k0_hw132 : k0_chk132 v2577), 8 ∣ (k0_mult132 v2577).toNat := fun v2577 k0_hw132 => k0_hw132.1
theorem k0_off133_inb : ∀ (v2577 : BitVec 32) (k0_hw132 : k0_chk132 v2577), ∀ a, (k0_off133 v2577) a + S16x128.size a ≤ S66048x128.size a := fun v2577 k0_hw132 => k0_hw132.2

def k0_mult133 (v2615 : BitVec 32) : BitVec 32 :=
  let c3_i32_1717 : BitVec 32 := 3#32
  let v2619 : BitVec 32 := Scalar.shrsi v2615 c3_i32_1717
  let c3_i32_1718 : BitVec 32 := 3#32
  let v2620 : BitVec 32 := Scalar.shli v2619 c3_i32_1718
  v2620

def k0_mult134 (v2616 : BitVec 32) : BitVec 32 :=
  let c3_i32_1719 : BitVec 32 := 3#32
  let v2622 : BitVec 32 := Scalar.shrsi v2616 c3_i32_1719
  let c3_i32_1720 : BitVec 32 := 3#32
  let v2623 : BitVec 32 := Scalar.shli v2622 c3_i32_1720
  v2623

def k0_off134 (v2615 : BitVec 32) : Fin 2 → Nat :=
  let c3_i32_1717 : BitVec 32 := 3#32
  let v2619 : BitVec 32 := Scalar.shrsi v2615 c3_i32_1717
  let c3_i32_1718 : BitVec 32 := 3#32
  let v2620 : BitVec 32 := Scalar.shli v2619 c3_i32_1718
  let v2621 : BitVec 32 := v2620
  let v2625 : Index := Scalar.indexCast v2621
  let c0_1721 : Index := 0#32
  ![v2625.toNat, 0]

def k0_chk133 (v2615 : BitVec 32) : Prop :=
  (8 ∣ (k0_mult133 v2615).toNat) ∧
  (∀ a, (k0_off134 v2615) a + S16x128.size a ≤ S66048x128.size a)
theorem k0_mult133_dvd : ∀ (v2615 : BitVec 32) (k0_hw133 : k0_chk133 v2615), 8 ∣ (k0_mult133 v2615).toNat := fun v2615 k0_hw133 => k0_hw133.1
theorem k0_off134_inb : ∀ (v2615 : BitVec 32) (k0_hw133 : k0_chk133 v2615), ∀ a, (k0_off134 v2615) a + S16x128.size a ≤ S66048x128.size a := fun v2615 k0_hw133 => k0_hw133.2

def k0_off135 (v2616 : BitVec 32) : Fin 2 → Nat :=
  let c3_i32_1719 : BitVec 32 := 3#32
  let v2622 : BitVec 32 := Scalar.shrsi v2616 c3_i32_1719
  let c3_i32_1720 : BitVec 32 := 3#32
  let v2623 : BitVec 32 := Scalar.shli v2622 c3_i32_1720
  let v2624 : BitVec 32 := v2623
  let v2627 : Index := Scalar.indexCast v2624
  let c0_1722 : Index := 0#32
  ![v2627.toNat, 0]

def k0_chk134 (v2616 : BitVec 32) : Prop :=
  (8 ∣ (k0_mult134 v2616).toNat) ∧
  (∀ a, (k0_off135 v2616) a + S16x128.size a ≤ S66048x128.size a)
theorem k0_mult134_dvd : ∀ (v2616 : BitVec 32) (k0_hw134 : k0_chk134 v2616), 8 ∣ (k0_mult134 v2616).toNat := fun v2616 k0_hw134 => k0_hw134.1
theorem k0_off135_inb : ∀ (v2616 : BitVec 32) (k0_hw134 : k0_chk134 v2616), ∀ a, (k0_off135 v2616) a + S16x128.size a ≤ S66048x128.size a := fun v2616 k0_hw134 => k0_hw134.2

def k0_mult135 (v2654 : BitVec 32) : BitVec 32 :=
  let c3_i32_1743 : BitVec 32 := 3#32
  let v2658 : BitVec 32 := Scalar.shrsi v2654 c3_i32_1743
  let c3_i32_1744 : BitVec 32 := 3#32
  let v2659 : BitVec 32 := Scalar.shli v2658 c3_i32_1744
  v2659

def k0_mult136 (v2655 : BitVec 32) : BitVec 32 :=
  let c3_i32_1745 : BitVec 32 := 3#32
  let v2661 : BitVec 32 := Scalar.shrsi v2655 c3_i32_1745
  let c3_i32_1746 : BitVec 32 := 3#32
  let v2662 : BitVec 32 := Scalar.shli v2661 c3_i32_1746
  v2662

def k0_off136 (v2654 : BitVec 32) : Fin 2 → Nat :=
  let c3_i32_1743 : BitVec 32 := 3#32
  let v2658 : BitVec 32 := Scalar.shrsi v2654 c3_i32_1743
  let c3_i32_1744 : BitVec 32 := 3#32
  let v2659 : BitVec 32 := Scalar.shli v2658 c3_i32_1744
  let v2660 : BitVec 32 := v2659
  let v2664 : Index := Scalar.indexCast v2660
  let c0_1747 : Index := 0#32
  ![v2664.toNat, 0]

def k0_chk135 (v2654 : BitVec 32) : Prop :=
  (8 ∣ (k0_mult135 v2654).toNat) ∧
  (∀ a, (k0_off136 v2654) a + S16x128.size a ≤ S66048x128.size a)
theorem k0_mult135_dvd : ∀ (v2654 : BitVec 32) (k0_hw135 : k0_chk135 v2654), 8 ∣ (k0_mult135 v2654).toNat := fun v2654 k0_hw135 => k0_hw135.1
theorem k0_off136_inb : ∀ (v2654 : BitVec 32) (k0_hw135 : k0_chk135 v2654), ∀ a, (k0_off136 v2654) a + S16x128.size a ≤ S66048x128.size a := fun v2654 k0_hw135 => k0_hw135.2

def k0_off137 (v2655 : BitVec 32) : Fin 2 → Nat :=
  let c3_i32_1745 : BitVec 32 := 3#32
  let v2661 : BitVec 32 := Scalar.shrsi v2655 c3_i32_1745
  let c3_i32_1746 : BitVec 32 := 3#32
  let v2662 : BitVec 32 := Scalar.shli v2661 c3_i32_1746
  let v2663 : BitVec 32 := v2662
  let v2666 : Index := Scalar.indexCast v2663
  let c0_1748 : Index := 0#32
  ![v2666.toNat, 0]

def k0_chk136 (v2655 : BitVec 32) : Prop :=
  (8 ∣ (k0_mult136 v2655).toNat) ∧
  (∀ a, (k0_off137 v2655) a + S16x128.size a ≤ S66048x128.size a)
theorem k0_mult136_dvd : ∀ (v2655 : BitVec 32) (k0_hw136 : k0_chk136 v2655), 8 ∣ (k0_mult136 v2655).toNat := fun v2655 k0_hw136 => k0_hw136.1
theorem k0_off137_inb : ∀ (v2655 : BitVec 32) (k0_hw136 : k0_chk136 v2655), ∀ a, (k0_off137 v2655) a + S16x128.size a ≤ S66048x128.size a := fun v2655 k0_hw136 => k0_hw136.2

def k0_mult137 (v2693 : BitVec 32) : BitVec 32 :=
  let c3_i32_1769 : BitVec 32 := 3#32
  let v2697 : BitVec 32 := Scalar.shrsi v2693 c3_i32_1769
  let c3_i32_1770 : BitVec 32 := 3#32
  let v2698 : BitVec 32 := Scalar.shli v2697 c3_i32_1770
  v2698

def k0_mult138 (v2694 : BitVec 32) : BitVec 32 :=
  let c3_i32_1771 : BitVec 32 := 3#32
  let v2700 : BitVec 32 := Scalar.shrsi v2694 c3_i32_1771
  let c3_i32_1772 : BitVec 32 := 3#32
  let v2701 : BitVec 32 := Scalar.shli v2700 c3_i32_1772
  v2701

def k0_off138 (v2693 : BitVec 32) : Fin 2 → Nat :=
  let c3_i32_1769 : BitVec 32 := 3#32
  let v2697 : BitVec 32 := Scalar.shrsi v2693 c3_i32_1769
  let c3_i32_1770 : BitVec 32 := 3#32
  let v2698 : BitVec 32 := Scalar.shli v2697 c3_i32_1770
  let v2699 : BitVec 32 := v2698
  let v2703 : Index := Scalar.indexCast v2699
  let c0_1773 : Index := 0#32
  ![v2703.toNat, 0]

def k0_chk137 (v2693 : BitVec 32) : Prop :=
  (8 ∣ (k0_mult137 v2693).toNat) ∧
  (∀ a, (k0_off138 v2693) a + S16x128.size a ≤ S66048x128.size a)
theorem k0_mult137_dvd : ∀ (v2693 : BitVec 32) (k0_hw137 : k0_chk137 v2693), 8 ∣ (k0_mult137 v2693).toNat := fun v2693 k0_hw137 => k0_hw137.1
theorem k0_off138_inb : ∀ (v2693 : BitVec 32) (k0_hw137 : k0_chk137 v2693), ∀ a, (k0_off138 v2693) a + S16x128.size a ≤ S66048x128.size a := fun v2693 k0_hw137 => k0_hw137.2

def k0_off139 (v2694 : BitVec 32) : Fin 2 → Nat :=
  let c3_i32_1771 : BitVec 32 := 3#32
  let v2700 : BitVec 32 := Scalar.shrsi v2694 c3_i32_1771
  let c3_i32_1772 : BitVec 32 := 3#32
  let v2701 : BitVec 32 := Scalar.shli v2700 c3_i32_1772
  let v2702 : BitVec 32 := v2701
  let v2705 : Index := Scalar.indexCast v2702
  let c0_1774 : Index := 0#32
  ![v2705.toNat, 0]

def k0_chk138 (v2694 : BitVec 32) : Prop :=
  (8 ∣ (k0_mult138 v2694).toNat) ∧
  (∀ a, (k0_off139 v2694) a + S16x128.size a ≤ S66048x128.size a)
theorem k0_mult138_dvd : ∀ (v2694 : BitVec 32) (k0_hw138 : k0_chk138 v2694), 8 ∣ (k0_mult138 v2694).toNat := fun v2694 k0_hw138 => k0_hw138.1
theorem k0_off139_inb : ∀ (v2694 : BitVec 32) (k0_hw138 : k0_chk138 v2694), ∀ a, (k0_off139 v2694) a + S16x128.size a ≤ S66048x128.size a := fun v2694 k0_hw138 => k0_hw138.2

def k0_mult139 (v2732 : BitVec 32) : BitVec 32 :=
  let c3_i32_1795 : BitVec 32 := 3#32
  let v2736 : BitVec 32 := Scalar.shrsi v2732 c3_i32_1795
  let c3_i32_1796 : BitVec 32 := 3#32
  let v2737 : BitVec 32 := Scalar.shli v2736 c3_i32_1796
  v2737

def k0_mult140 (v2733 : BitVec 32) : BitVec 32 :=
  let c3_i32_1797 : BitVec 32 := 3#32
  let v2739 : BitVec 32 := Scalar.shrsi v2733 c3_i32_1797
  let c3_i32_1798 : BitVec 32 := 3#32
  let v2740 : BitVec 32 := Scalar.shli v2739 c3_i32_1798
  v2740

def k0_off140 (v2732 : BitVec 32) : Fin 2 → Nat :=
  let c3_i32_1795 : BitVec 32 := 3#32
  let v2736 : BitVec 32 := Scalar.shrsi v2732 c3_i32_1795
  let c3_i32_1796 : BitVec 32 := 3#32
  let v2737 : BitVec 32 := Scalar.shli v2736 c3_i32_1796
  let v2738 : BitVec 32 := v2737
  let v2742 : Index := Scalar.indexCast v2738
  let c0_1799 : Index := 0#32
  ![v2742.toNat, 0]

def k0_chk139 (v2732 : BitVec 32) : Prop :=
  (8 ∣ (k0_mult139 v2732).toNat) ∧
  (∀ a, (k0_off140 v2732) a + S16x128.size a ≤ S66048x128.size a)
theorem k0_mult139_dvd : ∀ (v2732 : BitVec 32) (k0_hw139 : k0_chk139 v2732), 8 ∣ (k0_mult139 v2732).toNat := fun v2732 k0_hw139 => k0_hw139.1
theorem k0_off140_inb : ∀ (v2732 : BitVec 32) (k0_hw139 : k0_chk139 v2732), ∀ a, (k0_off140 v2732) a + S16x128.size a ≤ S66048x128.size a := fun v2732 k0_hw139 => k0_hw139.2

def k0_off141 (v2733 : BitVec 32) : Fin 2 → Nat :=
  let c3_i32_1797 : BitVec 32 := 3#32
  let v2739 : BitVec 32 := Scalar.shrsi v2733 c3_i32_1797
  let c3_i32_1798 : BitVec 32 := 3#32
  let v2740 : BitVec 32 := Scalar.shli v2739 c3_i32_1798
  let v2741 : BitVec 32 := v2740
  let v2744 : Index := Scalar.indexCast v2741
  let c0_1800 : Index := 0#32
  ![v2744.toNat, 0]

def k0_chk140 (v2733 : BitVec 32) : Prop :=
  (8 ∣ (k0_mult140 v2733).toNat) ∧
  (∀ a, (k0_off141 v2733) a + S16x128.size a ≤ S66048x128.size a)
theorem k0_mult140_dvd : ∀ (v2733 : BitVec 32) (k0_hw140 : k0_chk140 v2733), 8 ∣ (k0_mult140 v2733).toNat := fun v2733 k0_hw140 => k0_hw140.1
theorem k0_off141_inb : ∀ (v2733 : BitVec 32) (k0_hw140 : k0_chk140 v2733), ∀ a, (k0_off141 v2733) a + S16x128.size a ≤ S66048x128.size a := fun v2733 k0_hw140 => k0_hw140.2

def k0_mult141 (v2771 : BitVec 32) : BitVec 32 :=
  let c3_i32_1821 : BitVec 32 := 3#32
  let v2775 : BitVec 32 := Scalar.shrsi v2771 c3_i32_1821
  let c3_i32_1822 : BitVec 32 := 3#32
  let v2776 : BitVec 32 := Scalar.shli v2775 c3_i32_1822
  v2776

def k0_mult142 (v2772 : BitVec 32) : BitVec 32 :=
  let c3_i32_1823 : BitVec 32 := 3#32
  let v2778 : BitVec 32 := Scalar.shrsi v2772 c3_i32_1823
  let c3_i32_1824 : BitVec 32 := 3#32
  let v2779 : BitVec 32 := Scalar.shli v2778 c3_i32_1824
  v2779

def k0_off142 (v2771 : BitVec 32) : Fin 2 → Nat :=
  let c3_i32_1821 : BitVec 32 := 3#32
  let v2775 : BitVec 32 := Scalar.shrsi v2771 c3_i32_1821
  let c3_i32_1822 : BitVec 32 := 3#32
  let v2776 : BitVec 32 := Scalar.shli v2775 c3_i32_1822
  let v2777 : BitVec 32 := v2776
  let v2781 : Index := Scalar.indexCast v2777
  let c0_1825 : Index := 0#32
  ![v2781.toNat, 0]

def k0_chk141 (v2771 : BitVec 32) : Prop :=
  (8 ∣ (k0_mult141 v2771).toNat) ∧
  (∀ a, (k0_off142 v2771) a + S16x128.size a ≤ S66048x128.size a)
theorem k0_mult141_dvd : ∀ (v2771 : BitVec 32) (k0_hw141 : k0_chk141 v2771), 8 ∣ (k0_mult141 v2771).toNat := fun v2771 k0_hw141 => k0_hw141.1
theorem k0_off142_inb : ∀ (v2771 : BitVec 32) (k0_hw141 : k0_chk141 v2771), ∀ a, (k0_off142 v2771) a + S16x128.size a ≤ S66048x128.size a := fun v2771 k0_hw141 => k0_hw141.2

def k0_off143 (v2772 : BitVec 32) : Fin 2 → Nat :=
  let c3_i32_1823 : BitVec 32 := 3#32
  let v2778 : BitVec 32 := Scalar.shrsi v2772 c3_i32_1823
  let c3_i32_1824 : BitVec 32 := 3#32
  let v2779 : BitVec 32 := Scalar.shli v2778 c3_i32_1824
  let v2780 : BitVec 32 := v2779
  let v2783 : Index := Scalar.indexCast v2780
  let c0_1826 : Index := 0#32
  ![v2783.toNat, 0]

def k0_chk142 (v2772 : BitVec 32) : Prop :=
  (8 ∣ (k0_mult142 v2772).toNat) ∧
  (∀ a, (k0_off143 v2772) a + S16x128.size a ≤ S66048x128.size a)
theorem k0_mult142_dvd : ∀ (v2772 : BitVec 32) (k0_hw142 : k0_chk142 v2772), 8 ∣ (k0_mult142 v2772).toNat := fun v2772 k0_hw142 => k0_hw142.1
theorem k0_off143_inb : ∀ (v2772 : BitVec 32) (k0_hw142 : k0_chk142 v2772), ∀ a, (k0_off143 v2772) a + S16x128.size a ≤ S66048x128.size a := fun v2772 k0_hw142 => k0_hw142.2

def k0_mult143 (v2810 : BitVec 32) : BitVec 32 :=
  let c3_i32_1847 : BitVec 32 := 3#32
  let v2814 : BitVec 32 := Scalar.shrsi v2810 c3_i32_1847
  let c3_i32_1848 : BitVec 32 := 3#32
  let v2815 : BitVec 32 := Scalar.shli v2814 c3_i32_1848
  v2815

def k0_mult144 (v2811 : BitVec 32) : BitVec 32 :=
  let c3_i32_1849 : BitVec 32 := 3#32
  let v2817 : BitVec 32 := Scalar.shrsi v2811 c3_i32_1849
  let c3_i32_1850 : BitVec 32 := 3#32
  let v2818 : BitVec 32 := Scalar.shli v2817 c3_i32_1850
  v2818

def k0_off144 (v2810 : BitVec 32) : Fin 2 → Nat :=
  let c3_i32_1847 : BitVec 32 := 3#32
  let v2814 : BitVec 32 := Scalar.shrsi v2810 c3_i32_1847
  let c3_i32_1848 : BitVec 32 := 3#32
  let v2815 : BitVec 32 := Scalar.shli v2814 c3_i32_1848
  let v2816 : BitVec 32 := v2815
  let v2820 : Index := Scalar.indexCast v2816
  let c0_1851 : Index := 0#32
  ![v2820.toNat, 0]

def k0_chk143 (v2810 : BitVec 32) : Prop :=
  (8 ∣ (k0_mult143 v2810).toNat) ∧
  (∀ a, (k0_off144 v2810) a + S16x128.size a ≤ S66048x128.size a)
theorem k0_mult143_dvd : ∀ (v2810 : BitVec 32) (k0_hw143 : k0_chk143 v2810), 8 ∣ (k0_mult143 v2810).toNat := fun v2810 k0_hw143 => k0_hw143.1
theorem k0_off144_inb : ∀ (v2810 : BitVec 32) (k0_hw143 : k0_chk143 v2810), ∀ a, (k0_off144 v2810) a + S16x128.size a ≤ S66048x128.size a := fun v2810 k0_hw143 => k0_hw143.2

def k0_off145 (v2811 : BitVec 32) : Fin 2 → Nat :=
  let c3_i32_1849 : BitVec 32 := 3#32
  let v2817 : BitVec 32 := Scalar.shrsi v2811 c3_i32_1849
  let c3_i32_1850 : BitVec 32 := 3#32
  let v2818 : BitVec 32 := Scalar.shli v2817 c3_i32_1850
  let v2819 : BitVec 32 := v2818
  let v2822 : Index := Scalar.indexCast v2819
  let c0_1852 : Index := 0#32
  ![v2822.toNat, 0]

def k0_chk144 (v2811 : BitVec 32) : Prop :=
  (8 ∣ (k0_mult144 v2811).toNat) ∧
  (∀ a, (k0_off145 v2811) a + S16x128.size a ≤ S66048x128.size a)
theorem k0_mult144_dvd : ∀ (v2811 : BitVec 32) (k0_hw144 : k0_chk144 v2811), 8 ∣ (k0_mult144 v2811).toNat := fun v2811 k0_hw144 => k0_hw144.1
theorem k0_off145_inb : ∀ (v2811 : BitVec 32) (k0_hw144 : k0_chk144 v2811), ∀ a, (k0_off145 v2811) a + S16x128.size a ≤ S66048x128.size a := fun v2811 k0_hw144 => k0_hw144.2

def k0_mult145 (v2849 : BitVec 32) : BitVec 32 :=
  let c3_i32_1873 : BitVec 32 := 3#32
  let v2853 : BitVec 32 := Scalar.shrsi v2849 c3_i32_1873
  let c3_i32_1874 : BitVec 32 := 3#32
  let v2854 : BitVec 32 := Scalar.shli v2853 c3_i32_1874
  v2854

def k0_mult146 (v2850 : BitVec 32) : BitVec 32 :=
  let c3_i32_1875 : BitVec 32 := 3#32
  let v2856 : BitVec 32 := Scalar.shrsi v2850 c3_i32_1875
  let c3_i32_1876 : BitVec 32 := 3#32
  let v2857 : BitVec 32 := Scalar.shli v2856 c3_i32_1876
  v2857

def k0_off146 (v2849 : BitVec 32) : Fin 2 → Nat :=
  let c3_i32_1873 : BitVec 32 := 3#32
  let v2853 : BitVec 32 := Scalar.shrsi v2849 c3_i32_1873
  let c3_i32_1874 : BitVec 32 := 3#32
  let v2854 : BitVec 32 := Scalar.shli v2853 c3_i32_1874
  let v2855 : BitVec 32 := v2854
  let v2859 : Index := Scalar.indexCast v2855
  let c0_1877 : Index := 0#32
  ![v2859.toNat, 0]

def k0_chk145 (v2849 : BitVec 32) : Prop :=
  (8 ∣ (k0_mult145 v2849).toNat) ∧
  (∀ a, (k0_off146 v2849) a + S16x128.size a ≤ S66048x128.size a)
theorem k0_mult145_dvd : ∀ (v2849 : BitVec 32) (k0_hw145 : k0_chk145 v2849), 8 ∣ (k0_mult145 v2849).toNat := fun v2849 k0_hw145 => k0_hw145.1
theorem k0_off146_inb : ∀ (v2849 : BitVec 32) (k0_hw145 : k0_chk145 v2849), ∀ a, (k0_off146 v2849) a + S16x128.size a ≤ S66048x128.size a := fun v2849 k0_hw145 => k0_hw145.2

def k0_off147 (v2850 : BitVec 32) : Fin 2 → Nat :=
  let c3_i32_1875 : BitVec 32 := 3#32
  let v2856 : BitVec 32 := Scalar.shrsi v2850 c3_i32_1875
  let c3_i32_1876 : BitVec 32 := 3#32
  let v2857 : BitVec 32 := Scalar.shli v2856 c3_i32_1876
  let v2858 : BitVec 32 := v2857
  let v2861 : Index := Scalar.indexCast v2858
  let c0_1878 : Index := 0#32
  ![v2861.toNat, 0]

def k0_chk146 (v2850 : BitVec 32) : Prop :=
  (8 ∣ (k0_mult146 v2850).toNat) ∧
  (∀ a, (k0_off147 v2850) a + S16x128.size a ≤ S66048x128.size a)
theorem k0_mult146_dvd : ∀ (v2850 : BitVec 32) (k0_hw146 : k0_chk146 v2850), 8 ∣ (k0_mult146 v2850).toNat := fun v2850 k0_hw146 => k0_hw146.1
theorem k0_off147_inb : ∀ (v2850 : BitVec 32) (k0_hw146 : k0_chk146 v2850), ∀ a, (k0_off147 v2850) a + S16x128.size a ≤ S66048x128.size a := fun v2850 k0_hw146 => k0_hw146.2

def k0_mult147 (v2888 : BitVec 32) : BitVec 32 :=
  let c3_i32_1899 : BitVec 32 := 3#32
  let v2892 : BitVec 32 := Scalar.shrsi v2888 c3_i32_1899
  let c3_i32_1900 : BitVec 32 := 3#32
  let v2893 : BitVec 32 := Scalar.shli v2892 c3_i32_1900
  v2893

def k0_mult148 (v2889 : BitVec 32) : BitVec 32 :=
  let c3_i32_1901 : BitVec 32 := 3#32
  let v2895 : BitVec 32 := Scalar.shrsi v2889 c3_i32_1901
  let c3_i32_1902 : BitVec 32 := 3#32
  let v2896 : BitVec 32 := Scalar.shli v2895 c3_i32_1902
  v2896

def k0_off148 (v2888 : BitVec 32) : Fin 2 → Nat :=
  let c3_i32_1899 : BitVec 32 := 3#32
  let v2892 : BitVec 32 := Scalar.shrsi v2888 c3_i32_1899
  let c3_i32_1900 : BitVec 32 := 3#32
  let v2893 : BitVec 32 := Scalar.shli v2892 c3_i32_1900
  let v2894 : BitVec 32 := v2893
  let v2898 : Index := Scalar.indexCast v2894
  let c0_1903 : Index := 0#32
  ![v2898.toNat, 0]

def k0_chk147 (v2888 : BitVec 32) : Prop :=
  (8 ∣ (k0_mult147 v2888).toNat) ∧
  (∀ a, (k0_off148 v2888) a + S16x128.size a ≤ S66048x128.size a)
theorem k0_mult147_dvd : ∀ (v2888 : BitVec 32) (k0_hw147 : k0_chk147 v2888), 8 ∣ (k0_mult147 v2888).toNat := fun v2888 k0_hw147 => k0_hw147.1
theorem k0_off148_inb : ∀ (v2888 : BitVec 32) (k0_hw147 : k0_chk147 v2888), ∀ a, (k0_off148 v2888) a + S16x128.size a ≤ S66048x128.size a := fun v2888 k0_hw147 => k0_hw147.2

def k0_off149 (v2889 : BitVec 32) : Fin 2 → Nat :=
  let c3_i32_1901 : BitVec 32 := 3#32
  let v2895 : BitVec 32 := Scalar.shrsi v2889 c3_i32_1901
  let c3_i32_1902 : BitVec 32 := 3#32
  let v2896 : BitVec 32 := Scalar.shli v2895 c3_i32_1902
  let v2897 : BitVec 32 := v2896
  let v2900 : Index := Scalar.indexCast v2897
  let c0_1904 : Index := 0#32
  ![v2900.toNat, 0]

def k0_chk148 (v2889 : BitVec 32) : Prop :=
  (8 ∣ (k0_mult148 v2889).toNat) ∧
  (∀ a, (k0_off149 v2889) a + S16x128.size a ≤ S66048x128.size a)
theorem k0_mult148_dvd : ∀ (v2889 : BitVec 32) (k0_hw148 : k0_chk148 v2889), 8 ∣ (k0_mult148 v2889).toNat := fun v2889 k0_hw148 => k0_hw148.1
theorem k0_off149_inb : ∀ (v2889 : BitVec 32) (k0_hw148 : k0_chk148 v2889), ∀ a, (k0_off149 v2889) a + S16x128.size a ≤ S66048x128.size a := fun v2889 k0_hw148 => k0_hw148.2

def k0_mult149 (v2927 : BitVec 32) : BitVec 32 :=
  let c3_i32_1925 : BitVec 32 := 3#32
  let v2931 : BitVec 32 := Scalar.shrsi v2927 c3_i32_1925
  let c3_i32_1926 : BitVec 32 := 3#32
  let v2932 : BitVec 32 := Scalar.shli v2931 c3_i32_1926
  v2932

def k0_mult150 (v2928 : BitVec 32) : BitVec 32 :=
  let c3_i32_1927 : BitVec 32 := 3#32
  let v2934 : BitVec 32 := Scalar.shrsi v2928 c3_i32_1927
  let c3_i32_1928 : BitVec 32 := 3#32
  let v2935 : BitVec 32 := Scalar.shli v2934 c3_i32_1928
  v2935

def k0_off150 (v2927 : BitVec 32) : Fin 2 → Nat :=
  let c3_i32_1925 : BitVec 32 := 3#32
  let v2931 : BitVec 32 := Scalar.shrsi v2927 c3_i32_1925
  let c3_i32_1926 : BitVec 32 := 3#32
  let v2932 : BitVec 32 := Scalar.shli v2931 c3_i32_1926
  let v2933 : BitVec 32 := v2932
  let v2937 : Index := Scalar.indexCast v2933
  let c0_1929 : Index := 0#32
  ![v2937.toNat, 0]

def k0_chk149 (v2927 : BitVec 32) : Prop :=
  (8 ∣ (k0_mult149 v2927).toNat) ∧
  (∀ a, (k0_off150 v2927) a + S16x128.size a ≤ S66048x128.size a)
theorem k0_mult149_dvd : ∀ (v2927 : BitVec 32) (k0_hw149 : k0_chk149 v2927), 8 ∣ (k0_mult149 v2927).toNat := fun v2927 k0_hw149 => k0_hw149.1
theorem k0_off150_inb : ∀ (v2927 : BitVec 32) (k0_hw149 : k0_chk149 v2927), ∀ a, (k0_off150 v2927) a + S16x128.size a ≤ S66048x128.size a := fun v2927 k0_hw149 => k0_hw149.2

def k0_off151 (v2928 : BitVec 32) : Fin 2 → Nat :=
  let c3_i32_1927 : BitVec 32 := 3#32
  let v2934 : BitVec 32 := Scalar.shrsi v2928 c3_i32_1927
  let c3_i32_1928 : BitVec 32 := 3#32
  let v2935 : BitVec 32 := Scalar.shli v2934 c3_i32_1928
  let v2936 : BitVec 32 := v2935
  let v2939 : Index := Scalar.indexCast v2936
  let c0_1930 : Index := 0#32
  ![v2939.toNat, 0]

def k0_chk150 (v2928 : BitVec 32) : Prop :=
  (8 ∣ (k0_mult150 v2928).toNat) ∧
  (∀ a, (k0_off151 v2928) a + S16x128.size a ≤ S66048x128.size a)
theorem k0_mult150_dvd : ∀ (v2928 : BitVec 32) (k0_hw150 : k0_chk150 v2928), 8 ∣ (k0_mult150 v2928).toNat := fun v2928 k0_hw150 => k0_hw150.1
theorem k0_off151_inb : ∀ (v2928 : BitVec 32) (k0_hw150 : k0_chk150 v2928), ∀ a, (k0_off151 v2928) a + S16x128.size a ≤ S66048x128.size a := fun v2928 k0_hw150 => k0_hw150.2

def k0_mult151 (v2973 : BitVec 32) : BitVec 32 :=
  let c3_i32_1957 : BitVec 32 := 3#32
  let v2977 : BitVec 32 := Scalar.shrsi v2973 c3_i32_1957
  let c3_i32_1958 : BitVec 32 := 3#32
  let v2978 : BitVec 32 := Scalar.shli v2977 c3_i32_1958
  v2978

def k0_mult152 (v2974 : BitVec 32) : BitVec 32 :=
  let c3_i32_1959 : BitVec 32 := 3#32
  let v2980 : BitVec 32 := Scalar.shrsi v2974 c3_i32_1959
  let c3_i32_1960 : BitVec 32 := 3#32
  let v2981 : BitVec 32 := Scalar.shli v2980 c3_i32_1960
  v2981

def k0_off152 (v2973 : BitVec 32) : Fin 2 → Nat :=
  let c3_i32_1957 : BitVec 32 := 3#32
  let v2977 : BitVec 32 := Scalar.shrsi v2973 c3_i32_1957
  let c3_i32_1958 : BitVec 32 := 3#32
  let v2978 : BitVec 32 := Scalar.shli v2977 c3_i32_1958
  let v2979 : BitVec 32 := v2978
  let v2983 : Index := Scalar.indexCast v2979
  let c0_1961 : Index := 0#32
  ![v2983.toNat, 0]

def k0_chk151 (v2973 : BitVec 32) : Prop :=
  (8 ∣ (k0_mult151 v2973).toNat) ∧
  (∀ a, (k0_off152 v2973) a + S16x128.size a ≤ S66048x128.size a)
theorem k0_mult151_dvd : ∀ (v2973 : BitVec 32) (k0_hw151 : k0_chk151 v2973), 8 ∣ (k0_mult151 v2973).toNat := fun v2973 k0_hw151 => k0_hw151.1
theorem k0_off152_inb : ∀ (v2973 : BitVec 32) (k0_hw151 : k0_chk151 v2973), ∀ a, (k0_off152 v2973) a + S16x128.size a ≤ S66048x128.size a := fun v2973 k0_hw151 => k0_hw151.2

def k0_off153 (v2974 : BitVec 32) : Fin 2 → Nat :=
  let c3_i32_1959 : BitVec 32 := 3#32
  let v2980 : BitVec 32 := Scalar.shrsi v2974 c3_i32_1959
  let c3_i32_1960 : BitVec 32 := 3#32
  let v2981 : BitVec 32 := Scalar.shli v2980 c3_i32_1960
  let v2982 : BitVec 32 := v2981
  let v2985 : Index := Scalar.indexCast v2982
  let c0_1962 : Index := 0#32
  ![v2985.toNat, 0]

def k0_chk152 (v2974 : BitVec 32) : Prop :=
  (8 ∣ (k0_mult152 v2974).toNat) ∧
  (∀ a, (k0_off153 v2974) a + S16x128.size a ≤ S66048x128.size a)
theorem k0_mult152_dvd : ∀ (v2974 : BitVec 32) (k0_hw152 : k0_chk152 v2974), 8 ∣ (k0_mult152 v2974).toNat := fun v2974 k0_hw152 => k0_hw152.1
theorem k0_off153_inb : ∀ (v2974 : BitVec 32) (k0_hw152 : k0_chk152 v2974), ∀ a, (k0_off153 v2974) a + S16x128.size a ≤ S66048x128.size a := fun v2974 k0_hw152 => k0_hw152.2

def k0_mult153 (v3012 : BitVec 32) : BitVec 32 :=
  let c3_i32_1983 : BitVec 32 := 3#32
  let v3016 : BitVec 32 := Scalar.shrsi v3012 c3_i32_1983
  let c3_i32_1984 : BitVec 32 := 3#32
  let v3017 : BitVec 32 := Scalar.shli v3016 c3_i32_1984
  v3017

def k0_mult154 (v3013 : BitVec 32) : BitVec 32 :=
  let c3_i32_1985 : BitVec 32 := 3#32
  let v3019 : BitVec 32 := Scalar.shrsi v3013 c3_i32_1985
  let c3_i32_1986 : BitVec 32 := 3#32
  let v3020 : BitVec 32 := Scalar.shli v3019 c3_i32_1986
  v3020

def k0_off154 (v3012 : BitVec 32) : Fin 2 → Nat :=
  let c3_i32_1983 : BitVec 32 := 3#32
  let v3016 : BitVec 32 := Scalar.shrsi v3012 c3_i32_1983
  let c3_i32_1984 : BitVec 32 := 3#32
  let v3017 : BitVec 32 := Scalar.shli v3016 c3_i32_1984
  let v3018 : BitVec 32 := v3017
  let v3022 : Index := Scalar.indexCast v3018
  let c0_1987 : Index := 0#32
  ![v3022.toNat, 0]

def k0_chk153 (v3012 : BitVec 32) : Prop :=
  (8 ∣ (k0_mult153 v3012).toNat) ∧
  (∀ a, (k0_off154 v3012) a + S16x128.size a ≤ S66048x128.size a)
theorem k0_mult153_dvd : ∀ (v3012 : BitVec 32) (k0_hw153 : k0_chk153 v3012), 8 ∣ (k0_mult153 v3012).toNat := fun v3012 k0_hw153 => k0_hw153.1
theorem k0_off154_inb : ∀ (v3012 : BitVec 32) (k0_hw153 : k0_chk153 v3012), ∀ a, (k0_off154 v3012) a + S16x128.size a ≤ S66048x128.size a := fun v3012 k0_hw153 => k0_hw153.2

def k0_off155 (v3013 : BitVec 32) : Fin 2 → Nat :=
  let c3_i32_1985 : BitVec 32 := 3#32
  let v3019 : BitVec 32 := Scalar.shrsi v3013 c3_i32_1985
  let c3_i32_1986 : BitVec 32 := 3#32
  let v3020 : BitVec 32 := Scalar.shli v3019 c3_i32_1986
  let v3021 : BitVec 32 := v3020
  let v3024 : Index := Scalar.indexCast v3021
  let c0_1988 : Index := 0#32
  ![v3024.toNat, 0]

def k0_chk154 (v3013 : BitVec 32) : Prop :=
  (8 ∣ (k0_mult154 v3013).toNat) ∧
  (∀ a, (k0_off155 v3013) a + S16x128.size a ≤ S66048x128.size a)
theorem k0_mult154_dvd : ∀ (v3013 : BitVec 32) (k0_hw154 : k0_chk154 v3013), 8 ∣ (k0_mult154 v3013).toNat := fun v3013 k0_hw154 => k0_hw154.1
theorem k0_off155_inb : ∀ (v3013 : BitVec 32) (k0_hw154 : k0_chk154 v3013), ∀ a, (k0_off155 v3013) a + S16x128.size a ≤ S66048x128.size a := fun v3013 k0_hw154 => k0_hw154.2

def k0_mult155 (v3051 : BitVec 32) : BitVec 32 :=
  let c3_i32_2009 : BitVec 32 := 3#32
  let v3055 : BitVec 32 := Scalar.shrsi v3051 c3_i32_2009
  let c3_i32_2010 : BitVec 32 := 3#32
  let v3056 : BitVec 32 := Scalar.shli v3055 c3_i32_2010
  v3056

def k0_mult156 (v3052 : BitVec 32) : BitVec 32 :=
  let c3_i32_2011 : BitVec 32 := 3#32
  let v3058 : BitVec 32 := Scalar.shrsi v3052 c3_i32_2011
  let c3_i32_2012 : BitVec 32 := 3#32
  let v3059 : BitVec 32 := Scalar.shli v3058 c3_i32_2012
  v3059

def k0_off156 (v3051 : BitVec 32) : Fin 2 → Nat :=
  let c3_i32_2009 : BitVec 32 := 3#32
  let v3055 : BitVec 32 := Scalar.shrsi v3051 c3_i32_2009
  let c3_i32_2010 : BitVec 32 := 3#32
  let v3056 : BitVec 32 := Scalar.shli v3055 c3_i32_2010
  let v3057 : BitVec 32 := v3056
  let v3061 : Index := Scalar.indexCast v3057
  let c0_2013 : Index := 0#32
  ![v3061.toNat, 0]

def k0_chk155 (v3051 : BitVec 32) : Prop :=
  (8 ∣ (k0_mult155 v3051).toNat) ∧
  (∀ a, (k0_off156 v3051) a + S16x128.size a ≤ S66048x128.size a)
theorem k0_mult155_dvd : ∀ (v3051 : BitVec 32) (k0_hw155 : k0_chk155 v3051), 8 ∣ (k0_mult155 v3051).toNat := fun v3051 k0_hw155 => k0_hw155.1
theorem k0_off156_inb : ∀ (v3051 : BitVec 32) (k0_hw155 : k0_chk155 v3051), ∀ a, (k0_off156 v3051) a + S16x128.size a ≤ S66048x128.size a := fun v3051 k0_hw155 => k0_hw155.2

def k0_off157 (v3052 : BitVec 32) : Fin 2 → Nat :=
  let c3_i32_2011 : BitVec 32 := 3#32
  let v3058 : BitVec 32 := Scalar.shrsi v3052 c3_i32_2011
  let c3_i32_2012 : BitVec 32 := 3#32
  let v3059 : BitVec 32 := Scalar.shli v3058 c3_i32_2012
  let v3060 : BitVec 32 := v3059
  let v3063 : Index := Scalar.indexCast v3060
  let c0_2014 : Index := 0#32
  ![v3063.toNat, 0]

def k0_chk156 (v3052 : BitVec 32) : Prop :=
  (8 ∣ (k0_mult156 v3052).toNat) ∧
  (∀ a, (k0_off157 v3052) a + S16x128.size a ≤ S66048x128.size a)
theorem k0_mult156_dvd : ∀ (v3052 : BitVec 32) (k0_hw156 : k0_chk156 v3052), 8 ∣ (k0_mult156 v3052).toNat := fun v3052 k0_hw156 => k0_hw156.1
theorem k0_off157_inb : ∀ (v3052 : BitVec 32) (k0_hw156 : k0_chk156 v3052), ∀ a, (k0_off157 v3052) a + S16x128.size a ≤ S66048x128.size a := fun v3052 k0_hw156 => k0_hw156.2

def k0_mult157 (v3090 : BitVec 32) : BitVec 32 :=
  let c3_i32_2035 : BitVec 32 := 3#32
  let v3094 : BitVec 32 := Scalar.shrsi v3090 c3_i32_2035
  let c3_i32_2036 : BitVec 32 := 3#32
  let v3095 : BitVec 32 := Scalar.shli v3094 c3_i32_2036
  v3095

def k0_mult158 (v3091 : BitVec 32) : BitVec 32 :=
  let c3_i32_2037 : BitVec 32 := 3#32
  let v3097 : BitVec 32 := Scalar.shrsi v3091 c3_i32_2037
  let c3_i32_2038 : BitVec 32 := 3#32
  let v3098 : BitVec 32 := Scalar.shli v3097 c3_i32_2038
  v3098

def k0_off158 (v3090 : BitVec 32) : Fin 2 → Nat :=
  let c3_i32_2035 : BitVec 32 := 3#32
  let v3094 : BitVec 32 := Scalar.shrsi v3090 c3_i32_2035
  let c3_i32_2036 : BitVec 32 := 3#32
  let v3095 : BitVec 32 := Scalar.shli v3094 c3_i32_2036
  let v3096 : BitVec 32 := v3095
  let v3100 : Index := Scalar.indexCast v3096
  let c0_2039 : Index := 0#32
  ![v3100.toNat, 0]

def k0_chk157 (v3090 : BitVec 32) : Prop :=
  (8 ∣ (k0_mult157 v3090).toNat) ∧
  (∀ a, (k0_off158 v3090) a + S16x128.size a ≤ S66048x128.size a)
theorem k0_mult157_dvd : ∀ (v3090 : BitVec 32) (k0_hw157 : k0_chk157 v3090), 8 ∣ (k0_mult157 v3090).toNat := fun v3090 k0_hw157 => k0_hw157.1
theorem k0_off158_inb : ∀ (v3090 : BitVec 32) (k0_hw157 : k0_chk157 v3090), ∀ a, (k0_off158 v3090) a + S16x128.size a ≤ S66048x128.size a := fun v3090 k0_hw157 => k0_hw157.2

def k0_off159 (v3091 : BitVec 32) : Fin 2 → Nat :=
  let c3_i32_2037 : BitVec 32 := 3#32
  let v3097 : BitVec 32 := Scalar.shrsi v3091 c3_i32_2037
  let c3_i32_2038 : BitVec 32 := 3#32
  let v3098 : BitVec 32 := Scalar.shli v3097 c3_i32_2038
  let v3099 : BitVec 32 := v3098
  let v3102 : Index := Scalar.indexCast v3099
  let c0_2040 : Index := 0#32
  ![v3102.toNat, 0]

def k0_chk158 (v3091 : BitVec 32) : Prop :=
  (8 ∣ (k0_mult158 v3091).toNat) ∧
  (∀ a, (k0_off159 v3091) a + S16x128.size a ≤ S66048x128.size a)
theorem k0_mult158_dvd : ∀ (v3091 : BitVec 32) (k0_hw158 : k0_chk158 v3091), 8 ∣ (k0_mult158 v3091).toNat := fun v3091 k0_hw158 => k0_hw158.1
theorem k0_off159_inb : ∀ (v3091 : BitVec 32) (k0_hw158 : k0_chk158 v3091), ∀ a, (k0_off159 v3091) a + S16x128.size a ≤ S66048x128.size a := fun v3091 k0_hw158 => k0_hw158.2

def k0_mult159 (v3129 : BitVec 32) : BitVec 32 :=
  let c3_i32_2061 : BitVec 32 := 3#32
  let v3133 : BitVec 32 := Scalar.shrsi v3129 c3_i32_2061
  let c3_i32_2062 : BitVec 32 := 3#32
  let v3134 : BitVec 32 := Scalar.shli v3133 c3_i32_2062
  v3134

def k0_mult160 (v3130 : BitVec 32) : BitVec 32 :=
  let c3_i32_2063 : BitVec 32 := 3#32
  let v3136 : BitVec 32 := Scalar.shrsi v3130 c3_i32_2063
  let c3_i32_2064 : BitVec 32 := 3#32
  let v3137 : BitVec 32 := Scalar.shli v3136 c3_i32_2064
  v3137

def k0_off160 (v3129 : BitVec 32) : Fin 2 → Nat :=
  let c3_i32_2061 : BitVec 32 := 3#32
  let v3133 : BitVec 32 := Scalar.shrsi v3129 c3_i32_2061
  let c3_i32_2062 : BitVec 32 := 3#32
  let v3134 : BitVec 32 := Scalar.shli v3133 c3_i32_2062
  let v3135 : BitVec 32 := v3134
  let v3139 : Index := Scalar.indexCast v3135
  let c0_2065 : Index := 0#32
  ![v3139.toNat, 0]

def k0_chk159 (v3129 : BitVec 32) : Prop :=
  (8 ∣ (k0_mult159 v3129).toNat) ∧
  (∀ a, (k0_off160 v3129) a + S16x128.size a ≤ S66048x128.size a)
theorem k0_mult159_dvd : ∀ (v3129 : BitVec 32) (k0_hw159 : k0_chk159 v3129), 8 ∣ (k0_mult159 v3129).toNat := fun v3129 k0_hw159 => k0_hw159.1
theorem k0_off160_inb : ∀ (v3129 : BitVec 32) (k0_hw159 : k0_chk159 v3129), ∀ a, (k0_off160 v3129) a + S16x128.size a ≤ S66048x128.size a := fun v3129 k0_hw159 => k0_hw159.2

def k0_off161 (v3130 : BitVec 32) : Fin 2 → Nat :=
  let c3_i32_2063 : BitVec 32 := 3#32
  let v3136 : BitVec 32 := Scalar.shrsi v3130 c3_i32_2063
  let c3_i32_2064 : BitVec 32 := 3#32
  let v3137 : BitVec 32 := Scalar.shli v3136 c3_i32_2064
  let v3138 : BitVec 32 := v3137
  let v3141 : Index := Scalar.indexCast v3138
  let c0_2066 : Index := 0#32
  ![v3141.toNat, 0]

def k0_chk160 (v3130 : BitVec 32) : Prop :=
  (8 ∣ (k0_mult160 v3130).toNat) ∧
  (∀ a, (k0_off161 v3130) a + S16x128.size a ≤ S66048x128.size a)
theorem k0_mult160_dvd : ∀ (v3130 : BitVec 32) (k0_hw160 : k0_chk160 v3130), 8 ∣ (k0_mult160 v3130).toNat := fun v3130 k0_hw160 => k0_hw160.1
theorem k0_off161_inb : ∀ (v3130 : BitVec 32) (k0_hw160 : k0_chk160 v3130), ∀ a, (k0_off161 v3130) a + S16x128.size a ≤ S66048x128.size a := fun v3130 k0_hw160 => k0_hw160.2

def k0_mult161 (v3168 : BitVec 32) : BitVec 32 :=
  let c3_i32_2087 : BitVec 32 := 3#32
  let v3172 : BitVec 32 := Scalar.shrsi v3168 c3_i32_2087
  let c3_i32_2088 : BitVec 32 := 3#32
  let v3173 : BitVec 32 := Scalar.shli v3172 c3_i32_2088
  v3173

def k0_mult162 (v3169 : BitVec 32) : BitVec 32 :=
  let c3_i32_2089 : BitVec 32 := 3#32
  let v3175 : BitVec 32 := Scalar.shrsi v3169 c3_i32_2089
  let c3_i32_2090 : BitVec 32 := 3#32
  let v3176 : BitVec 32 := Scalar.shli v3175 c3_i32_2090
  v3176

def k0_off162 (v3168 : BitVec 32) : Fin 2 → Nat :=
  let c3_i32_2087 : BitVec 32 := 3#32
  let v3172 : BitVec 32 := Scalar.shrsi v3168 c3_i32_2087
  let c3_i32_2088 : BitVec 32 := 3#32
  let v3173 : BitVec 32 := Scalar.shli v3172 c3_i32_2088
  let v3174 : BitVec 32 := v3173
  let v3178 : Index := Scalar.indexCast v3174
  let c0_2091 : Index := 0#32
  ![v3178.toNat, 0]

def k0_chk161 (v3168 : BitVec 32) : Prop :=
  (8 ∣ (k0_mult161 v3168).toNat) ∧
  (∀ a, (k0_off162 v3168) a + S16x128.size a ≤ S66048x128.size a)
theorem k0_mult161_dvd : ∀ (v3168 : BitVec 32) (k0_hw161 : k0_chk161 v3168), 8 ∣ (k0_mult161 v3168).toNat := fun v3168 k0_hw161 => k0_hw161.1
theorem k0_off162_inb : ∀ (v3168 : BitVec 32) (k0_hw161 : k0_chk161 v3168), ∀ a, (k0_off162 v3168) a + S16x128.size a ≤ S66048x128.size a := fun v3168 k0_hw161 => k0_hw161.2

def k0_off163 (v3169 : BitVec 32) : Fin 2 → Nat :=
  let c3_i32_2089 : BitVec 32 := 3#32
  let v3175 : BitVec 32 := Scalar.shrsi v3169 c3_i32_2089
  let c3_i32_2090 : BitVec 32 := 3#32
  let v3176 : BitVec 32 := Scalar.shli v3175 c3_i32_2090
  let v3177 : BitVec 32 := v3176
  let v3180 : Index := Scalar.indexCast v3177
  let c0_2092 : Index := 0#32
  ![v3180.toNat, 0]

def k0_chk162 (v3169 : BitVec 32) : Prop :=
  (8 ∣ (k0_mult162 v3169).toNat) ∧
  (∀ a, (k0_off163 v3169) a + S16x128.size a ≤ S66048x128.size a)
theorem k0_mult162_dvd : ∀ (v3169 : BitVec 32) (k0_hw162 : k0_chk162 v3169), 8 ∣ (k0_mult162 v3169).toNat := fun v3169 k0_hw162 => k0_hw162.1
theorem k0_off163_inb : ∀ (v3169 : BitVec 32) (k0_hw162 : k0_chk162 v3169), ∀ a, (k0_off163 v3169) a + S16x128.size a ≤ S66048x128.size a := fun v3169 k0_hw162 => k0_hw162.2

def k0_mult163 (v3207 : BitVec 32) : BitVec 32 :=
  let c3_i32_2113 : BitVec 32 := 3#32
  let v3211 : BitVec 32 := Scalar.shrsi v3207 c3_i32_2113
  let c3_i32_2114 : BitVec 32 := 3#32
  let v3212 : BitVec 32 := Scalar.shli v3211 c3_i32_2114
  v3212

def k0_mult164 (v3208 : BitVec 32) : BitVec 32 :=
  let c3_i32_2115 : BitVec 32 := 3#32
  let v3214 : BitVec 32 := Scalar.shrsi v3208 c3_i32_2115
  let c3_i32_2116 : BitVec 32 := 3#32
  let v3215 : BitVec 32 := Scalar.shli v3214 c3_i32_2116
  v3215

def k0_off164 (v3207 : BitVec 32) : Fin 2 → Nat :=
  let c3_i32_2113 : BitVec 32 := 3#32
  let v3211 : BitVec 32 := Scalar.shrsi v3207 c3_i32_2113
  let c3_i32_2114 : BitVec 32 := 3#32
  let v3212 : BitVec 32 := Scalar.shli v3211 c3_i32_2114
  let v3213 : BitVec 32 := v3212
  let v3217 : Index := Scalar.indexCast v3213
  let c0_2117 : Index := 0#32
  ![v3217.toNat, 0]

def k0_chk163 (v3207 : BitVec 32) : Prop :=
  (8 ∣ (k0_mult163 v3207).toNat) ∧
  (∀ a, (k0_off164 v3207) a + S16x128.size a ≤ S66048x128.size a)
theorem k0_mult163_dvd : ∀ (v3207 : BitVec 32) (k0_hw163 : k0_chk163 v3207), 8 ∣ (k0_mult163 v3207).toNat := fun v3207 k0_hw163 => k0_hw163.1
theorem k0_off164_inb : ∀ (v3207 : BitVec 32) (k0_hw163 : k0_chk163 v3207), ∀ a, (k0_off164 v3207) a + S16x128.size a ≤ S66048x128.size a := fun v3207 k0_hw163 => k0_hw163.2

def k0_off165 (v3208 : BitVec 32) : Fin 2 → Nat :=
  let c3_i32_2115 : BitVec 32 := 3#32
  let v3214 : BitVec 32 := Scalar.shrsi v3208 c3_i32_2115
  let c3_i32_2116 : BitVec 32 := 3#32
  let v3215 : BitVec 32 := Scalar.shli v3214 c3_i32_2116
  let v3216 : BitVec 32 := v3215
  let v3219 : Index := Scalar.indexCast v3216
  let c0_2118 : Index := 0#32
  ![v3219.toNat, 0]

def k0_chk164 (v3208 : BitVec 32) : Prop :=
  (8 ∣ (k0_mult164 v3208).toNat) ∧
  (∀ a, (k0_off165 v3208) a + S16x128.size a ≤ S66048x128.size a)
theorem k0_mult164_dvd : ∀ (v3208 : BitVec 32) (k0_hw164 : k0_chk164 v3208), 8 ∣ (k0_mult164 v3208).toNat := fun v3208 k0_hw164 => k0_hw164.1
theorem k0_off165_inb : ∀ (v3208 : BitVec 32) (k0_hw164 : k0_chk164 v3208), ∀ a, (k0_off165 v3208) a + S16x128.size a ≤ S66048x128.size a := fun v3208 k0_hw164 => k0_hw164.2

def k0_mult165 (v3246 : BitVec 32) : BitVec 32 :=
  let c3_i32_2139 : BitVec 32 := 3#32
  let v3250 : BitVec 32 := Scalar.shrsi v3246 c3_i32_2139
  let c3_i32_2140 : BitVec 32 := 3#32
  let v3251 : BitVec 32 := Scalar.shli v3250 c3_i32_2140
  v3251

def k0_mult166 (v3247 : BitVec 32) : BitVec 32 :=
  let c3_i32_2141 : BitVec 32 := 3#32
  let v3253 : BitVec 32 := Scalar.shrsi v3247 c3_i32_2141
  let c3_i32_2142 : BitVec 32 := 3#32
  let v3254 : BitVec 32 := Scalar.shli v3253 c3_i32_2142
  v3254

def k0_off166 (v3246 : BitVec 32) : Fin 2 → Nat :=
  let c3_i32_2139 : BitVec 32 := 3#32
  let v3250 : BitVec 32 := Scalar.shrsi v3246 c3_i32_2139
  let c3_i32_2140 : BitVec 32 := 3#32
  let v3251 : BitVec 32 := Scalar.shli v3250 c3_i32_2140
  let v3252 : BitVec 32 := v3251
  let v3256 : Index := Scalar.indexCast v3252
  let c0_2143 : Index := 0#32
  ![v3256.toNat, 0]

def k0_chk165 (v3246 : BitVec 32) : Prop :=
  (8 ∣ (k0_mult165 v3246).toNat) ∧
  (∀ a, (k0_off166 v3246) a + S16x128.size a ≤ S66048x128.size a)
theorem k0_mult165_dvd : ∀ (v3246 : BitVec 32) (k0_hw165 : k0_chk165 v3246), 8 ∣ (k0_mult165 v3246).toNat := fun v3246 k0_hw165 => k0_hw165.1
theorem k0_off166_inb : ∀ (v3246 : BitVec 32) (k0_hw165 : k0_chk165 v3246), ∀ a, (k0_off166 v3246) a + S16x128.size a ≤ S66048x128.size a := fun v3246 k0_hw165 => k0_hw165.2

def k0_off167 (v3247 : BitVec 32) : Fin 2 → Nat :=
  let c3_i32_2141 : BitVec 32 := 3#32
  let v3253 : BitVec 32 := Scalar.shrsi v3247 c3_i32_2141
  let c3_i32_2142 : BitVec 32 := 3#32
  let v3254 : BitVec 32 := Scalar.shli v3253 c3_i32_2142
  let v3255 : BitVec 32 := v3254
  let v3258 : Index := Scalar.indexCast v3255
  let c0_2144 : Index := 0#32
  ![v3258.toNat, 0]

def k0_chk166 (v3247 : BitVec 32) : Prop :=
  (8 ∣ (k0_mult166 v3247).toNat) ∧
  (∀ a, (k0_off167 v3247) a + S16x128.size a ≤ S66048x128.size a)
theorem k0_mult166_dvd : ∀ (v3247 : BitVec 32) (k0_hw166 : k0_chk166 v3247), 8 ∣ (k0_mult166 v3247).toNat := fun v3247 k0_hw166 => k0_hw166.1
theorem k0_off167_inb : ∀ (v3247 : BitVec 32) (k0_hw166 : k0_chk166 v3247), ∀ a, (k0_off167 v3247) a + S16x128.size a ≤ S66048x128.size a := fun v3247 k0_hw166 => k0_hw166.2

def k0_mult167 (v3285 : BitVec 32) : BitVec 32 :=
  let c3_i32_2165 : BitVec 32 := 3#32
  let v3289 : BitVec 32 := Scalar.shrsi v3285 c3_i32_2165
  let c3_i32_2166 : BitVec 32 := 3#32
  let v3290 : BitVec 32 := Scalar.shli v3289 c3_i32_2166
  v3290

def k0_mult168 (v3286 : BitVec 32) : BitVec 32 :=
  let c3_i32_2167 : BitVec 32 := 3#32
  let v3292 : BitVec 32 := Scalar.shrsi v3286 c3_i32_2167
  let c3_i32_2168 : BitVec 32 := 3#32
  let v3293 : BitVec 32 := Scalar.shli v3292 c3_i32_2168
  v3293

def k0_off168 (v3285 : BitVec 32) : Fin 2 → Nat :=
  let c3_i32_2165 : BitVec 32 := 3#32
  let v3289 : BitVec 32 := Scalar.shrsi v3285 c3_i32_2165
  let c3_i32_2166 : BitVec 32 := 3#32
  let v3290 : BitVec 32 := Scalar.shli v3289 c3_i32_2166
  let v3291 : BitVec 32 := v3290
  let v3295 : Index := Scalar.indexCast v3291
  let c0_2169 : Index := 0#32
  ![v3295.toNat, 0]

def k0_chk167 (v3285 : BitVec 32) : Prop :=
  (8 ∣ (k0_mult167 v3285).toNat) ∧
  (∀ a, (k0_off168 v3285) a + S16x128.size a ≤ S66048x128.size a)
theorem k0_mult167_dvd : ∀ (v3285 : BitVec 32) (k0_hw167 : k0_chk167 v3285), 8 ∣ (k0_mult167 v3285).toNat := fun v3285 k0_hw167 => k0_hw167.1
theorem k0_off168_inb : ∀ (v3285 : BitVec 32) (k0_hw167 : k0_chk167 v3285), ∀ a, (k0_off168 v3285) a + S16x128.size a ≤ S66048x128.size a := fun v3285 k0_hw167 => k0_hw167.2

def k0_off169 (v3286 : BitVec 32) : Fin 2 → Nat :=
  let c3_i32_2167 : BitVec 32 := 3#32
  let v3292 : BitVec 32 := Scalar.shrsi v3286 c3_i32_2167
  let c3_i32_2168 : BitVec 32 := 3#32
  let v3293 : BitVec 32 := Scalar.shli v3292 c3_i32_2168
  let v3294 : BitVec 32 := v3293
  let v3297 : Index := Scalar.indexCast v3294
  let c0_2170 : Index := 0#32
  ![v3297.toNat, 0]

def k0_chk168 (v3286 : BitVec 32) : Prop :=
  (8 ∣ (k0_mult168 v3286).toNat) ∧
  (∀ a, (k0_off169 v3286) a + S16x128.size a ≤ S66048x128.size a)
theorem k0_mult168_dvd : ∀ (v3286 : BitVec 32) (k0_hw168 : k0_chk168 v3286), 8 ∣ (k0_mult168 v3286).toNat := fun v3286 k0_hw168 => k0_hw168.1
theorem k0_off169_inb : ∀ (v3286 : BitVec 32) (k0_hw168 : k0_chk168 v3286), ∀ a, (k0_off169 v3286) a + S16x128.size a ≤ S66048x128.size a := fun v3286 k0_hw168 => k0_hw168.2

def k0_mult169 (v3324 : BitVec 32) : BitVec 32 :=
  let c3_i32_2191 : BitVec 32 := 3#32
  let v3328 : BitVec 32 := Scalar.shrsi v3324 c3_i32_2191
  let c3_i32_2192 : BitVec 32 := 3#32
  let v3329 : BitVec 32 := Scalar.shli v3328 c3_i32_2192
  v3329

def k0_mult170 (v3325 : BitVec 32) : BitVec 32 :=
  let c3_i32_2193 : BitVec 32 := 3#32
  let v3331 : BitVec 32 := Scalar.shrsi v3325 c3_i32_2193
  let c3_i32_2194 : BitVec 32 := 3#32
  let v3332 : BitVec 32 := Scalar.shli v3331 c3_i32_2194
  v3332

def k0_off170 (v3324 : BitVec 32) : Fin 2 → Nat :=
  let c3_i32_2191 : BitVec 32 := 3#32
  let v3328 : BitVec 32 := Scalar.shrsi v3324 c3_i32_2191
  let c3_i32_2192 : BitVec 32 := 3#32
  let v3329 : BitVec 32 := Scalar.shli v3328 c3_i32_2192
  let v3330 : BitVec 32 := v3329
  let v3334 : Index := Scalar.indexCast v3330
  let c0_2195 : Index := 0#32
  ![v3334.toNat, 0]

def k0_chk169 (v3324 : BitVec 32) : Prop :=
  (8 ∣ (k0_mult169 v3324).toNat) ∧
  (∀ a, (k0_off170 v3324) a + S16x128.size a ≤ S66048x128.size a)
theorem k0_mult169_dvd : ∀ (v3324 : BitVec 32) (k0_hw169 : k0_chk169 v3324), 8 ∣ (k0_mult169 v3324).toNat := fun v3324 k0_hw169 => k0_hw169.1
theorem k0_off170_inb : ∀ (v3324 : BitVec 32) (k0_hw169 : k0_chk169 v3324), ∀ a, (k0_off170 v3324) a + S16x128.size a ≤ S66048x128.size a := fun v3324 k0_hw169 => k0_hw169.2

def k0_off171 (v3325 : BitVec 32) : Fin 2 → Nat :=
  let c3_i32_2193 : BitVec 32 := 3#32
  let v3331 : BitVec 32 := Scalar.shrsi v3325 c3_i32_2193
  let c3_i32_2194 : BitVec 32 := 3#32
  let v3332 : BitVec 32 := Scalar.shli v3331 c3_i32_2194
  let v3333 : BitVec 32 := v3332
  let v3336 : Index := Scalar.indexCast v3333
  let c0_2196 : Index := 0#32
  ![v3336.toNat, 0]

def k0_chk170 (v3325 : BitVec 32) : Prop :=
  (8 ∣ (k0_mult170 v3325).toNat) ∧
  (∀ a, (k0_off171 v3325) a + S16x128.size a ≤ S66048x128.size a)
theorem k0_mult170_dvd : ∀ (v3325 : BitVec 32) (k0_hw170 : k0_chk170 v3325), 8 ∣ (k0_mult170 v3325).toNat := fun v3325 k0_hw170 => k0_hw170.1
theorem k0_off171_inb : ∀ (v3325 : BitVec 32) (k0_hw170 : k0_chk170 v3325), ∀ a, (k0_off171 v3325) a + S16x128.size a ≤ S66048x128.size a := fun v3325 k0_hw170 => k0_hw170.2

def k0_mult171 (v3363 : BitVec 32) : BitVec 32 :=
  let c3_i32_2217 : BitVec 32 := 3#32
  let v3367 : BitVec 32 := Scalar.shrsi v3363 c3_i32_2217
  let c3_i32_2218 : BitVec 32 := 3#32
  let v3368 : BitVec 32 := Scalar.shli v3367 c3_i32_2218
  v3368

def k0_mult172 (v3364 : BitVec 32) : BitVec 32 :=
  let c3_i32_2219 : BitVec 32 := 3#32
  let v3370 : BitVec 32 := Scalar.shrsi v3364 c3_i32_2219
  let c3_i32_2220 : BitVec 32 := 3#32
  let v3371 : BitVec 32 := Scalar.shli v3370 c3_i32_2220
  v3371

def k0_off172 (v3363 : BitVec 32) : Fin 2 → Nat :=
  let c3_i32_2217 : BitVec 32 := 3#32
  let v3367 : BitVec 32 := Scalar.shrsi v3363 c3_i32_2217
  let c3_i32_2218 : BitVec 32 := 3#32
  let v3368 : BitVec 32 := Scalar.shli v3367 c3_i32_2218
  let v3369 : BitVec 32 := v3368
  let v3373 : Index := Scalar.indexCast v3369
  let c0_2221 : Index := 0#32
  ![v3373.toNat, 0]

def k0_chk171 (v3363 : BitVec 32) : Prop :=
  (8 ∣ (k0_mult171 v3363).toNat) ∧
  (∀ a, (k0_off172 v3363) a + S16x128.size a ≤ S66048x128.size a)
theorem k0_mult171_dvd : ∀ (v3363 : BitVec 32) (k0_hw171 : k0_chk171 v3363), 8 ∣ (k0_mult171 v3363).toNat := fun v3363 k0_hw171 => k0_hw171.1
theorem k0_off172_inb : ∀ (v3363 : BitVec 32) (k0_hw171 : k0_chk171 v3363), ∀ a, (k0_off172 v3363) a + S16x128.size a ≤ S66048x128.size a := fun v3363 k0_hw171 => k0_hw171.2

def k0_off173 (v3364 : BitVec 32) : Fin 2 → Nat :=
  let c3_i32_2219 : BitVec 32 := 3#32
  let v3370 : BitVec 32 := Scalar.shrsi v3364 c3_i32_2219
  let c3_i32_2220 : BitVec 32 := 3#32
  let v3371 : BitVec 32 := Scalar.shli v3370 c3_i32_2220
  let v3372 : BitVec 32 := v3371
  let v3375 : Index := Scalar.indexCast v3372
  let c0_2222 : Index := 0#32
  ![v3375.toNat, 0]

def k0_chk172 (v3364 : BitVec 32) : Prop :=
  (8 ∣ (k0_mult172 v3364).toNat) ∧
  (∀ a, (k0_off173 v3364) a + S16x128.size a ≤ S66048x128.size a)
theorem k0_mult172_dvd : ∀ (v3364 : BitVec 32) (k0_hw172 : k0_chk172 v3364), 8 ∣ (k0_mult172 v3364).toNat := fun v3364 k0_hw172 => k0_hw172.1
theorem k0_off173_inb : ∀ (v3364 : BitVec 32) (k0_hw172 : k0_chk172 v3364), ∀ a, (k0_off173 v3364) a + S16x128.size a ≤ S66048x128.size a := fun v3364 k0_hw172 => k0_hw172.2

def k0_mult173 (v3402 : BitVec 32) : BitVec 32 :=
  let c3_i32_2243 : BitVec 32 := 3#32
  let v3406 : BitVec 32 := Scalar.shrsi v3402 c3_i32_2243
  let c3_i32_2244 : BitVec 32 := 3#32
  let v3407 : BitVec 32 := Scalar.shli v3406 c3_i32_2244
  v3407

def k0_mult174 (v3403 : BitVec 32) : BitVec 32 :=
  let c3_i32_2245 : BitVec 32 := 3#32
  let v3409 : BitVec 32 := Scalar.shrsi v3403 c3_i32_2245
  let c3_i32_2246 : BitVec 32 := 3#32
  let v3410 : BitVec 32 := Scalar.shli v3409 c3_i32_2246
  v3410

def k0_off174 (v3402 : BitVec 32) : Fin 2 → Nat :=
  let c3_i32_2243 : BitVec 32 := 3#32
  let v3406 : BitVec 32 := Scalar.shrsi v3402 c3_i32_2243
  let c3_i32_2244 : BitVec 32 := 3#32
  let v3407 : BitVec 32 := Scalar.shli v3406 c3_i32_2244
  let v3408 : BitVec 32 := v3407
  let v3412 : Index := Scalar.indexCast v3408
  let c0_2247 : Index := 0#32
  ![v3412.toNat, 0]

def k0_chk173 (v3402 : BitVec 32) : Prop :=
  (8 ∣ (k0_mult173 v3402).toNat) ∧
  (∀ a, (k0_off174 v3402) a + S16x128.size a ≤ S66048x128.size a)
theorem k0_mult173_dvd : ∀ (v3402 : BitVec 32) (k0_hw173 : k0_chk173 v3402), 8 ∣ (k0_mult173 v3402).toNat := fun v3402 k0_hw173 => k0_hw173.1
theorem k0_off174_inb : ∀ (v3402 : BitVec 32) (k0_hw173 : k0_chk173 v3402), ∀ a, (k0_off174 v3402) a + S16x128.size a ≤ S66048x128.size a := fun v3402 k0_hw173 => k0_hw173.2

def k0_off175 (v3403 : BitVec 32) : Fin 2 → Nat :=
  let c3_i32_2245 : BitVec 32 := 3#32
  let v3409 : BitVec 32 := Scalar.shrsi v3403 c3_i32_2245
  let c3_i32_2246 : BitVec 32 := 3#32
  let v3410 : BitVec 32 := Scalar.shli v3409 c3_i32_2246
  let v3411 : BitVec 32 := v3410
  let v3414 : Index := Scalar.indexCast v3411
  let c0_2248 : Index := 0#32
  ![v3414.toNat, 0]

def k0_chk174 (v3403 : BitVec 32) : Prop :=
  (8 ∣ (k0_mult174 v3403).toNat) ∧
  (∀ a, (k0_off175 v3403) a + S16x128.size a ≤ S66048x128.size a)
theorem k0_mult174_dvd : ∀ (v3403 : BitVec 32) (k0_hw174 : k0_chk174 v3403), 8 ∣ (k0_mult174 v3403).toNat := fun v3403 k0_hw174 => k0_hw174.1
theorem k0_off175_inb : ∀ (v3403 : BitVec 32) (k0_hw174 : k0_chk174 v3403), ∀ a, (k0_off175 v3403) a + S16x128.size a ≤ S66048x128.size a := fun v3403 k0_hw174 => k0_hw174.2

def k0_mult175 (v3441 : BitVec 32) : BitVec 32 :=
  let c3_i32_2269 : BitVec 32 := 3#32
  let v3445 : BitVec 32 := Scalar.shrsi v3441 c3_i32_2269
  let c3_i32_2270 : BitVec 32 := 3#32
  let v3446 : BitVec 32 := Scalar.shli v3445 c3_i32_2270
  v3446

def k0_mult176 (v3442 : BitVec 32) : BitVec 32 :=
  let c3_i32_2271 : BitVec 32 := 3#32
  let v3448 : BitVec 32 := Scalar.shrsi v3442 c3_i32_2271
  let c3_i32_2272 : BitVec 32 := 3#32
  let v3449 : BitVec 32 := Scalar.shli v3448 c3_i32_2272
  v3449

def k0_off176 (v3441 : BitVec 32) : Fin 2 → Nat :=
  let c3_i32_2269 : BitVec 32 := 3#32
  let v3445 : BitVec 32 := Scalar.shrsi v3441 c3_i32_2269
  let c3_i32_2270 : BitVec 32 := 3#32
  let v3446 : BitVec 32 := Scalar.shli v3445 c3_i32_2270
  let v3447 : BitVec 32 := v3446
  let v3451 : Index := Scalar.indexCast v3447
  let c0_2273 : Index := 0#32
  ![v3451.toNat, 0]

def k0_chk175 (v3441 : BitVec 32) : Prop :=
  (8 ∣ (k0_mult175 v3441).toNat) ∧
  (∀ a, (k0_off176 v3441) a + S16x128.size a ≤ S66048x128.size a)
theorem k0_mult175_dvd : ∀ (v3441 : BitVec 32) (k0_hw175 : k0_chk175 v3441), 8 ∣ (k0_mult175 v3441).toNat := fun v3441 k0_hw175 => k0_hw175.1
theorem k0_off176_inb : ∀ (v3441 : BitVec 32) (k0_hw175 : k0_chk175 v3441), ∀ a, (k0_off176 v3441) a + S16x128.size a ≤ S66048x128.size a := fun v3441 k0_hw175 => k0_hw175.2

def k0_off177 (v3442 : BitVec 32) : Fin 2 → Nat :=
  let c3_i32_2271 : BitVec 32 := 3#32
  let v3448 : BitVec 32 := Scalar.shrsi v3442 c3_i32_2271
  let c3_i32_2272 : BitVec 32 := 3#32
  let v3449 : BitVec 32 := Scalar.shli v3448 c3_i32_2272
  let v3450 : BitVec 32 := v3449
  let v3453 : Index := Scalar.indexCast v3450
  let c0_2274 : Index := 0#32
  ![v3453.toNat, 0]

def k0_chk176 (v3442 : BitVec 32) : Prop :=
  (8 ∣ (k0_mult176 v3442).toNat) ∧
  (∀ a, (k0_off177 v3442) a + S16x128.size a ≤ S66048x128.size a)
theorem k0_mult176_dvd : ∀ (v3442 : BitVec 32) (k0_hw176 : k0_chk176 v3442), 8 ∣ (k0_mult176 v3442).toNat := fun v3442 k0_hw176 => k0_hw176.1
theorem k0_off177_inb : ∀ (v3442 : BitVec 32) (k0_hw176 : k0_chk176 v3442), ∀ a, (k0_off177 v3442) a + S16x128.size a ≤ S66048x128.size a := fun v3442 k0_hw176 => k0_hw176.2

def k0_mult177 (v3480 : BitVec 32) : BitVec 32 :=
  let c3_i32_2295 : BitVec 32 := 3#32
  let v3484 : BitVec 32 := Scalar.shrsi v3480 c3_i32_2295
  let c3_i32_2296 : BitVec 32 := 3#32
  let v3485 : BitVec 32 := Scalar.shli v3484 c3_i32_2296
  v3485

def k0_mult178 (v3481 : BitVec 32) : BitVec 32 :=
  let c3_i32_2297 : BitVec 32 := 3#32
  let v3487 : BitVec 32 := Scalar.shrsi v3481 c3_i32_2297
  let c3_i32_2298 : BitVec 32 := 3#32
  let v3488 : BitVec 32 := Scalar.shli v3487 c3_i32_2298
  v3488

def k0_off178 (v3480 : BitVec 32) : Fin 2 → Nat :=
  let c3_i32_2295 : BitVec 32 := 3#32
  let v3484 : BitVec 32 := Scalar.shrsi v3480 c3_i32_2295
  let c3_i32_2296 : BitVec 32 := 3#32
  let v3485 : BitVec 32 := Scalar.shli v3484 c3_i32_2296
  let v3486 : BitVec 32 := v3485
  let v3490 : Index := Scalar.indexCast v3486
  let c0_2299 : Index := 0#32
  ![v3490.toNat, 0]

def k0_chk177 (v3480 : BitVec 32) : Prop :=
  (8 ∣ (k0_mult177 v3480).toNat) ∧
  (∀ a, (k0_off178 v3480) a + S16x128.size a ≤ S66048x128.size a)
theorem k0_mult177_dvd : ∀ (v3480 : BitVec 32) (k0_hw177 : k0_chk177 v3480), 8 ∣ (k0_mult177 v3480).toNat := fun v3480 k0_hw177 => k0_hw177.1
theorem k0_off178_inb : ∀ (v3480 : BitVec 32) (k0_hw177 : k0_chk177 v3480), ∀ a, (k0_off178 v3480) a + S16x128.size a ≤ S66048x128.size a := fun v3480 k0_hw177 => k0_hw177.2

def k0_off179 (v3481 : BitVec 32) : Fin 2 → Nat :=
  let c3_i32_2297 : BitVec 32 := 3#32
  let v3487 : BitVec 32 := Scalar.shrsi v3481 c3_i32_2297
  let c3_i32_2298 : BitVec 32 := 3#32
  let v3488 : BitVec 32 := Scalar.shli v3487 c3_i32_2298
  let v3489 : BitVec 32 := v3488
  let v3492 : Index := Scalar.indexCast v3489
  let c0_2300 : Index := 0#32
  ![v3492.toNat, 0]

def k0_chk178 (v3481 : BitVec 32) : Prop :=
  (8 ∣ (k0_mult178 v3481).toNat) ∧
  (∀ a, (k0_off179 v3481) a + S16x128.size a ≤ S66048x128.size a)
theorem k0_mult178_dvd : ∀ (v3481 : BitVec 32) (k0_hw178 : k0_chk178 v3481), 8 ∣ (k0_mult178 v3481).toNat := fun v3481 k0_hw178 => k0_hw178.1
theorem k0_off179_inb : ∀ (v3481 : BitVec 32) (k0_hw178 : k0_chk178 v3481), ∀ a, (k0_off179 v3481) a + S16x128.size a ≤ S66048x128.size a := fun v3481 k0_hw178 => k0_hw178.2

def k0_mult179 (v3519 : BitVec 32) : BitVec 32 :=
  let c3_i32_2321 : BitVec 32 := 3#32
  let v3523 : BitVec 32 := Scalar.shrsi v3519 c3_i32_2321
  let c3_i32_2322 : BitVec 32 := 3#32
  let v3524 : BitVec 32 := Scalar.shli v3523 c3_i32_2322
  v3524

def k0_mult180 (v3520 : BitVec 32) : BitVec 32 :=
  let c3_i32_2323 : BitVec 32 := 3#32
  let v3526 : BitVec 32 := Scalar.shrsi v3520 c3_i32_2323
  let c3_i32_2324 : BitVec 32 := 3#32
  let v3527 : BitVec 32 := Scalar.shli v3526 c3_i32_2324
  v3527

def k0_off180 (v3519 : BitVec 32) : Fin 2 → Nat :=
  let c3_i32_2321 : BitVec 32 := 3#32
  let v3523 : BitVec 32 := Scalar.shrsi v3519 c3_i32_2321
  let c3_i32_2322 : BitVec 32 := 3#32
  let v3524 : BitVec 32 := Scalar.shli v3523 c3_i32_2322
  let v3525 : BitVec 32 := v3524
  let v3529 : Index := Scalar.indexCast v3525
  let c0_2325 : Index := 0#32
  ![v3529.toNat, 0]

def k0_chk179 (v3519 : BitVec 32) : Prop :=
  (8 ∣ (k0_mult179 v3519).toNat) ∧
  (∀ a, (k0_off180 v3519) a + S16x128.size a ≤ S66048x128.size a)
theorem k0_mult179_dvd : ∀ (v3519 : BitVec 32) (k0_hw179 : k0_chk179 v3519), 8 ∣ (k0_mult179 v3519).toNat := fun v3519 k0_hw179 => k0_hw179.1
theorem k0_off180_inb : ∀ (v3519 : BitVec 32) (k0_hw179 : k0_chk179 v3519), ∀ a, (k0_off180 v3519) a + S16x128.size a ≤ S66048x128.size a := fun v3519 k0_hw179 => k0_hw179.2

def k0_off181 (v3520 : BitVec 32) : Fin 2 → Nat :=
  let c3_i32_2323 : BitVec 32 := 3#32
  let v3526 : BitVec 32 := Scalar.shrsi v3520 c3_i32_2323
  let c3_i32_2324 : BitVec 32 := 3#32
  let v3527 : BitVec 32 := Scalar.shli v3526 c3_i32_2324
  let v3528 : BitVec 32 := v3527
  let v3531 : Index := Scalar.indexCast v3528
  let c0_2326 : Index := 0#32
  ![v3531.toNat, 0]

def k0_chk180 (v3520 : BitVec 32) : Prop :=
  (8 ∣ (k0_mult180 v3520).toNat) ∧
  (∀ a, (k0_off181 v3520) a + S16x128.size a ≤ S66048x128.size a)
theorem k0_mult180_dvd : ∀ (v3520 : BitVec 32) (k0_hw180 : k0_chk180 v3520), 8 ∣ (k0_mult180 v3520).toNat := fun v3520 k0_hw180 => k0_hw180.1
theorem k0_off181_inb : ∀ (v3520 : BitVec 32) (k0_hw180 : k0_chk180 v3520), ∀ a, (k0_off181 v3520) a + S16x128.size a ≤ S66048x128.size a := fun v3520 k0_hw180 => k0_hw180.2

def k0_mult181 (v3558 : BitVec 32) : BitVec 32 :=
  let c3_i32_2347 : BitVec 32 := 3#32
  let v3562 : BitVec 32 := Scalar.shrsi v3558 c3_i32_2347
  let c3_i32_2348 : BitVec 32 := 3#32
  let v3563 : BitVec 32 := Scalar.shli v3562 c3_i32_2348
  v3563

def k0_mult182 (v3559 : BitVec 32) : BitVec 32 :=
  let c3_i32_2349 : BitVec 32 := 3#32
  let v3565 : BitVec 32 := Scalar.shrsi v3559 c3_i32_2349
  let c3_i32_2350 : BitVec 32 := 3#32
  let v3566 : BitVec 32 := Scalar.shli v3565 c3_i32_2350
  v3566

def k0_off182 (v3558 : BitVec 32) : Fin 2 → Nat :=
  let c3_i32_2347 : BitVec 32 := 3#32
  let v3562 : BitVec 32 := Scalar.shrsi v3558 c3_i32_2347
  let c3_i32_2348 : BitVec 32 := 3#32
  let v3563 : BitVec 32 := Scalar.shli v3562 c3_i32_2348
  let v3564 : BitVec 32 := v3563
  let v3568 : Index := Scalar.indexCast v3564
  let c0_2351 : Index := 0#32
  ![v3568.toNat, 0]

def k0_chk181 (v3558 : BitVec 32) : Prop :=
  (8 ∣ (k0_mult181 v3558).toNat) ∧
  (∀ a, (k0_off182 v3558) a + S16x128.size a ≤ S66048x128.size a)
theorem k0_mult181_dvd : ∀ (v3558 : BitVec 32) (k0_hw181 : k0_chk181 v3558), 8 ∣ (k0_mult181 v3558).toNat := fun v3558 k0_hw181 => k0_hw181.1
theorem k0_off182_inb : ∀ (v3558 : BitVec 32) (k0_hw181 : k0_chk181 v3558), ∀ a, (k0_off182 v3558) a + S16x128.size a ≤ S66048x128.size a := fun v3558 k0_hw181 => k0_hw181.2

def k0_off183 (v3559 : BitVec 32) : Fin 2 → Nat :=
  let c3_i32_2349 : BitVec 32 := 3#32
  let v3565 : BitVec 32 := Scalar.shrsi v3559 c3_i32_2349
  let c3_i32_2350 : BitVec 32 := 3#32
  let v3566 : BitVec 32 := Scalar.shli v3565 c3_i32_2350
  let v3567 : BitVec 32 := v3566
  let v3570 : Index := Scalar.indexCast v3567
  let c0_2352 : Index := 0#32
  ![v3570.toNat, 0]

def k0_chk182 (v3559 : BitVec 32) : Prop :=
  (8 ∣ (k0_mult182 v3559).toNat) ∧
  (∀ a, (k0_off183 v3559) a + S16x128.size a ≤ S66048x128.size a)
theorem k0_mult182_dvd : ∀ (v3559 : BitVec 32) (k0_hw182 : k0_chk182 v3559), 8 ∣ (k0_mult182 v3559).toNat := fun v3559 k0_hw182 => k0_hw182.1
theorem k0_off183_inb : ∀ (v3559 : BitVec 32) (k0_hw182 : k0_chk182 v3559), ∀ a, (k0_off183 v3559) a + S16x128.size a ≤ S66048x128.size a := fun v3559 k0_hw182 => k0_hw182.2

def k0_mult183 (v3597 : BitVec 32) : BitVec 32 :=
  let c3_i32_2373 : BitVec 32 := 3#32
  let v3601 : BitVec 32 := Scalar.shrsi v3597 c3_i32_2373
  let c3_i32_2374 : BitVec 32 := 3#32
  let v3602 : BitVec 32 := Scalar.shli v3601 c3_i32_2374
  v3602

def k0_mult184 (v3598 : BitVec 32) : BitVec 32 :=
  let c3_i32_2375 : BitVec 32 := 3#32
  let v3604 : BitVec 32 := Scalar.shrsi v3598 c3_i32_2375
  let c3_i32_2376 : BitVec 32 := 3#32
  let v3605 : BitVec 32 := Scalar.shli v3604 c3_i32_2376
  v3605

def k0_off184 (v3597 : BitVec 32) : Fin 2 → Nat :=
  let c3_i32_2373 : BitVec 32 := 3#32
  let v3601 : BitVec 32 := Scalar.shrsi v3597 c3_i32_2373
  let c3_i32_2374 : BitVec 32 := 3#32
  let v3602 : BitVec 32 := Scalar.shli v3601 c3_i32_2374
  let v3603 : BitVec 32 := v3602
  let v3607 : Index := Scalar.indexCast v3603
  let c0_2377 : Index := 0#32
  ![v3607.toNat, 0]

def k0_chk183 (v3597 : BitVec 32) : Prop :=
  (8 ∣ (k0_mult183 v3597).toNat) ∧
  (∀ a, (k0_off184 v3597) a + S16x128.size a ≤ S66048x128.size a)
theorem k0_mult183_dvd : ∀ (v3597 : BitVec 32) (k0_hw183 : k0_chk183 v3597), 8 ∣ (k0_mult183 v3597).toNat := fun v3597 k0_hw183 => k0_hw183.1
theorem k0_off184_inb : ∀ (v3597 : BitVec 32) (k0_hw183 : k0_chk183 v3597), ∀ a, (k0_off184 v3597) a + S16x128.size a ≤ S66048x128.size a := fun v3597 k0_hw183 => k0_hw183.2

def k0_off185 (v3598 : BitVec 32) : Fin 2 → Nat :=
  let c3_i32_2375 : BitVec 32 := 3#32
  let v3604 : BitVec 32 := Scalar.shrsi v3598 c3_i32_2375
  let c3_i32_2376 : BitVec 32 := 3#32
  let v3605 : BitVec 32 := Scalar.shli v3604 c3_i32_2376
  let v3606 : BitVec 32 := v3605
  let v3609 : Index := Scalar.indexCast v3606
  let c0_2378 : Index := 0#32
  ![v3609.toNat, 0]

def k0_chk184 (v3598 : BitVec 32) : Prop :=
  (8 ∣ (k0_mult184 v3598).toNat) ∧
  (∀ a, (k0_off185 v3598) a + S16x128.size a ≤ S66048x128.size a)
theorem k0_mult184_dvd : ∀ (v3598 : BitVec 32) (k0_hw184 : k0_chk184 v3598), 8 ∣ (k0_mult184 v3598).toNat := fun v3598 k0_hw184 => k0_hw184.1
theorem k0_off185_inb : ∀ (v3598 : BitVec 32) (k0_hw184 : k0_chk184 v3598), ∀ a, (k0_off185 v3598) a + S16x128.size a ≤ S66048x128.size a := fun v3598 k0_hw184 => k0_hw184.2

def k0_mult185 (v3636 : BitVec 32) : BitVec 32 :=
  let c3_i32_2399 : BitVec 32 := 3#32
  let v3640 : BitVec 32 := Scalar.shrsi v3636 c3_i32_2399
  let c3_i32_2400 : BitVec 32 := 3#32
  let v3641 : BitVec 32 := Scalar.shli v3640 c3_i32_2400
  v3641

def k0_mult186 (v3637 : BitVec 32) : BitVec 32 :=
  let c3_i32_2401 : BitVec 32 := 3#32
  let v3643 : BitVec 32 := Scalar.shrsi v3637 c3_i32_2401
  let c3_i32_2402 : BitVec 32 := 3#32
  let v3644 : BitVec 32 := Scalar.shli v3643 c3_i32_2402
  v3644

def k0_off186 (v3636 : BitVec 32) : Fin 2 → Nat :=
  let c3_i32_2399 : BitVec 32 := 3#32
  let v3640 : BitVec 32 := Scalar.shrsi v3636 c3_i32_2399
  let c3_i32_2400 : BitVec 32 := 3#32
  let v3641 : BitVec 32 := Scalar.shli v3640 c3_i32_2400
  let v3642 : BitVec 32 := v3641
  let v3646 : Index := Scalar.indexCast v3642
  let c0_2403 : Index := 0#32
  ![v3646.toNat, 0]

def k0_chk185 (v3636 : BitVec 32) : Prop :=
  (8 ∣ (k0_mult185 v3636).toNat) ∧
  (∀ a, (k0_off186 v3636) a + S16x128.size a ≤ S66048x128.size a)
theorem k0_mult185_dvd : ∀ (v3636 : BitVec 32) (k0_hw185 : k0_chk185 v3636), 8 ∣ (k0_mult185 v3636).toNat := fun v3636 k0_hw185 => k0_hw185.1
theorem k0_off186_inb : ∀ (v3636 : BitVec 32) (k0_hw185 : k0_chk185 v3636), ∀ a, (k0_off186 v3636) a + S16x128.size a ≤ S66048x128.size a := fun v3636 k0_hw185 => k0_hw185.2

def k0_off187 (v3637 : BitVec 32) : Fin 2 → Nat :=
  let c3_i32_2401 : BitVec 32 := 3#32
  let v3643 : BitVec 32 := Scalar.shrsi v3637 c3_i32_2401
  let c3_i32_2402 : BitVec 32 := 3#32
  let v3644 : BitVec 32 := Scalar.shli v3643 c3_i32_2402
  let v3645 : BitVec 32 := v3644
  let v3648 : Index := Scalar.indexCast v3645
  let c0_2404 : Index := 0#32
  ![v3648.toNat, 0]

def k0_chk186 (v3637 : BitVec 32) : Prop :=
  (8 ∣ (k0_mult186 v3637).toNat) ∧
  (∀ a, (k0_off187 v3637) a + S16x128.size a ≤ S66048x128.size a)
theorem k0_mult186_dvd : ∀ (v3637 : BitVec 32) (k0_hw186 : k0_chk186 v3637), 8 ∣ (k0_mult186 v3637).toNat := fun v3637 k0_hw186 => k0_hw186.1
theorem k0_off187_inb : ∀ (v3637 : BitVec 32) (k0_hw186 : k0_chk186 v3637), ∀ a, (k0_off187 v3637) a + S16x128.size a ≤ S66048x128.size a := fun v3637 k0_hw186 => k0_hw186.2

def k0_mult187 (v3675 : BitVec 32) : BitVec 32 :=
  let c3_i32_2425 : BitVec 32 := 3#32
  let v3679 : BitVec 32 := Scalar.shrsi v3675 c3_i32_2425
  let c3_i32_2426 : BitVec 32 := 3#32
  let v3680 : BitVec 32 := Scalar.shli v3679 c3_i32_2426
  v3680

def k0_mult188 (v3676 : BitVec 32) : BitVec 32 :=
  let c3_i32_2427 : BitVec 32 := 3#32
  let v3682 : BitVec 32 := Scalar.shrsi v3676 c3_i32_2427
  let c3_i32_2428 : BitVec 32 := 3#32
  let v3683 : BitVec 32 := Scalar.shli v3682 c3_i32_2428
  v3683

def k0_off188 (v3675 : BitVec 32) : Fin 2 → Nat :=
  let c3_i32_2425 : BitVec 32 := 3#32
  let v3679 : BitVec 32 := Scalar.shrsi v3675 c3_i32_2425
  let c3_i32_2426 : BitVec 32 := 3#32
  let v3680 : BitVec 32 := Scalar.shli v3679 c3_i32_2426
  let v3681 : BitVec 32 := v3680
  let v3685 : Index := Scalar.indexCast v3681
  let c0_2429 : Index := 0#32
  ![v3685.toNat, 0]

def k0_chk187 (v3675 : BitVec 32) : Prop :=
  (8 ∣ (k0_mult187 v3675).toNat) ∧
  (∀ a, (k0_off188 v3675) a + S16x128.size a ≤ S66048x128.size a)
theorem k0_mult187_dvd : ∀ (v3675 : BitVec 32) (k0_hw187 : k0_chk187 v3675), 8 ∣ (k0_mult187 v3675).toNat := fun v3675 k0_hw187 => k0_hw187.1
theorem k0_off188_inb : ∀ (v3675 : BitVec 32) (k0_hw187 : k0_chk187 v3675), ∀ a, (k0_off188 v3675) a + S16x128.size a ≤ S66048x128.size a := fun v3675 k0_hw187 => k0_hw187.2

def k0_off189 (v3676 : BitVec 32) : Fin 2 → Nat :=
  let c3_i32_2427 : BitVec 32 := 3#32
  let v3682 : BitVec 32 := Scalar.shrsi v3676 c3_i32_2427
  let c3_i32_2428 : BitVec 32 := 3#32
  let v3683 : BitVec 32 := Scalar.shli v3682 c3_i32_2428
  let v3684 : BitVec 32 := v3683
  let v3687 : Index := Scalar.indexCast v3684
  let c0_2430 : Index := 0#32
  ![v3687.toNat, 0]

def k0_chk188 (v3676 : BitVec 32) : Prop :=
  (8 ∣ (k0_mult188 v3676).toNat) ∧
  (∀ a, (k0_off189 v3676) a + S16x128.size a ≤ S66048x128.size a)
theorem k0_mult188_dvd : ∀ (v3676 : BitVec 32) (k0_hw188 : k0_chk188 v3676), 8 ∣ (k0_mult188 v3676).toNat := fun v3676 k0_hw188 => k0_hw188.1
theorem k0_off189_inb : ∀ (v3676 : BitVec 32) (k0_hw188 : k0_chk188 v3676), ∀ a, (k0_off189 v3676) a + S16x128.size a ≤ S66048x128.size a := fun v3676 k0_hw188 => k0_hw188.2

def k0_mult189 (v3714 : BitVec 32) : BitVec 32 :=
  let c3_i32_2451 : BitVec 32 := 3#32
  let v3718 : BitVec 32 := Scalar.shrsi v3714 c3_i32_2451
  let c3_i32_2452 : BitVec 32 := 3#32
  let v3719 : BitVec 32 := Scalar.shli v3718 c3_i32_2452
  v3719

def k0_mult190 (v3715 : BitVec 32) : BitVec 32 :=
  let c3_i32_2453 : BitVec 32 := 3#32
  let v3721 : BitVec 32 := Scalar.shrsi v3715 c3_i32_2453
  let c3_i32_2454 : BitVec 32 := 3#32
  let v3722 : BitVec 32 := Scalar.shli v3721 c3_i32_2454
  v3722

def k0_off190 (v3714 : BitVec 32) : Fin 2 → Nat :=
  let c3_i32_2451 : BitVec 32 := 3#32
  let v3718 : BitVec 32 := Scalar.shrsi v3714 c3_i32_2451
  let c3_i32_2452 : BitVec 32 := 3#32
  let v3719 : BitVec 32 := Scalar.shli v3718 c3_i32_2452
  let v3720 : BitVec 32 := v3719
  let v3724 : Index := Scalar.indexCast v3720
  let c0_2455 : Index := 0#32
  ![v3724.toNat, 0]

def k0_chk189 (v3714 : BitVec 32) : Prop :=
  (8 ∣ (k0_mult189 v3714).toNat) ∧
  (∀ a, (k0_off190 v3714) a + S16x128.size a ≤ S66048x128.size a)
theorem k0_mult189_dvd : ∀ (v3714 : BitVec 32) (k0_hw189 : k0_chk189 v3714), 8 ∣ (k0_mult189 v3714).toNat := fun v3714 k0_hw189 => k0_hw189.1
theorem k0_off190_inb : ∀ (v3714 : BitVec 32) (k0_hw189 : k0_chk189 v3714), ∀ a, (k0_off190 v3714) a + S16x128.size a ≤ S66048x128.size a := fun v3714 k0_hw189 => k0_hw189.2

def k0_off191 (v3715 : BitVec 32) : Fin 2 → Nat :=
  let c3_i32_2453 : BitVec 32 := 3#32
  let v3721 : BitVec 32 := Scalar.shrsi v3715 c3_i32_2453
  let c3_i32_2454 : BitVec 32 := 3#32
  let v3722 : BitVec 32 := Scalar.shli v3721 c3_i32_2454
  let v3723 : BitVec 32 := v3722
  let v3726 : Index := Scalar.indexCast v3723
  let c0_2456 : Index := 0#32
  ![v3726.toNat, 0]

def k0_chk190 (v3715 : BitVec 32) : Prop :=
  (8 ∣ (k0_mult190 v3715).toNat) ∧
  (∀ a, (k0_off191 v3715) a + S16x128.size a ≤ S66048x128.size a)
theorem k0_mult190_dvd : ∀ (v3715 : BitVec 32) (k0_hw190 : k0_chk190 v3715), 8 ∣ (k0_mult190 v3715).toNat := fun v3715 k0_hw190 => k0_hw190.1
theorem k0_off191_inb : ∀ (v3715 : BitVec 32) (k0_hw190 : k0_chk190 v3715), ∀ a, (k0_off191 v3715) a + S16x128.size a ≤ S66048x128.size a := fun v3715 k0_hw190 => k0_hw190.2

def k0_mult191 (v3753 : BitVec 32) : BitVec 32 :=
  let c3_i32_2477 : BitVec 32 := 3#32
  let v3757 : BitVec 32 := Scalar.shrsi v3753 c3_i32_2477
  let c3_i32_2478 : BitVec 32 := 3#32
  let v3758 : BitVec 32 := Scalar.shli v3757 c3_i32_2478
  v3758

def k0_mult192 (v3754 : BitVec 32) : BitVec 32 :=
  let c3_i32_2479 : BitVec 32 := 3#32
  let v3760 : BitVec 32 := Scalar.shrsi v3754 c3_i32_2479
  let c3_i32_2480 : BitVec 32 := 3#32
  let v3761 : BitVec 32 := Scalar.shli v3760 c3_i32_2480
  v3761

def k0_off192 (v3753 : BitVec 32) : Fin 2 → Nat :=
  let c3_i32_2477 : BitVec 32 := 3#32
  let v3757 : BitVec 32 := Scalar.shrsi v3753 c3_i32_2477
  let c3_i32_2478 : BitVec 32 := 3#32
  let v3758 : BitVec 32 := Scalar.shli v3757 c3_i32_2478
  let v3759 : BitVec 32 := v3758
  let v3763 : Index := Scalar.indexCast v3759
  let c0_2481 : Index := 0#32
  ![v3763.toNat, 0]

def k0_chk191 (v3753 : BitVec 32) : Prop :=
  (8 ∣ (k0_mult191 v3753).toNat) ∧
  (∀ a, (k0_off192 v3753) a + S16x128.size a ≤ S66048x128.size a)
theorem k0_mult191_dvd : ∀ (v3753 : BitVec 32) (k0_hw191 : k0_chk191 v3753), 8 ∣ (k0_mult191 v3753).toNat := fun v3753 k0_hw191 => k0_hw191.1
theorem k0_off192_inb : ∀ (v3753 : BitVec 32) (k0_hw191 : k0_chk191 v3753), ∀ a, (k0_off192 v3753) a + S16x128.size a ≤ S66048x128.size a := fun v3753 k0_hw191 => k0_hw191.2

def k0_off193 (v3754 : BitVec 32) : Fin 2 → Nat :=
  let c3_i32_2479 : BitVec 32 := 3#32
  let v3760 : BitVec 32 := Scalar.shrsi v3754 c3_i32_2479
  let c3_i32_2480 : BitVec 32 := 3#32
  let v3761 : BitVec 32 := Scalar.shli v3760 c3_i32_2480
  let v3762 : BitVec 32 := v3761
  let v3765 : Index := Scalar.indexCast v3762
  let c0_2482 : Index := 0#32
  ![v3765.toNat, 0]

def k0_chk192 (v3754 : BitVec 32) : Prop :=
  (8 ∣ (k0_mult192 v3754).toNat) ∧
  (∀ a, (k0_off193 v3754) a + S16x128.size a ≤ S66048x128.size a)
theorem k0_mult192_dvd : ∀ (v3754 : BitVec 32) (k0_hw192 : k0_chk192 v3754), 8 ∣ (k0_mult192 v3754).toNat := fun v3754 k0_hw192 => k0_hw192.1
theorem k0_off193_inb : ∀ (v3754 : BitVec 32) (k0_hw192 : k0_chk192 v3754), ∀ a, (k0_off193 v3754) a + S16x128.size a ≤ S66048x128.size a := fun v3754 k0_hw192 => k0_hw192.2

def k0_mult193 (v3792 : BitVec 32) : BitVec 32 :=
  let c3_i32_2503 : BitVec 32 := 3#32
  let v3796 : BitVec 32 := Scalar.shrsi v3792 c3_i32_2503
  let c3_i32_2504 : BitVec 32 := 3#32
  let v3797 : BitVec 32 := Scalar.shli v3796 c3_i32_2504
  v3797

def k0_mult194 (v3793 : BitVec 32) : BitVec 32 :=
  let c3_i32_2505 : BitVec 32 := 3#32
  let v3799 : BitVec 32 := Scalar.shrsi v3793 c3_i32_2505
  let c3_i32_2506 : BitVec 32 := 3#32
  let v3800 : BitVec 32 := Scalar.shli v3799 c3_i32_2506
  v3800

def k0_off194 (v3792 : BitVec 32) : Fin 2 → Nat :=
  let c3_i32_2503 : BitVec 32 := 3#32
  let v3796 : BitVec 32 := Scalar.shrsi v3792 c3_i32_2503
  let c3_i32_2504 : BitVec 32 := 3#32
  let v3797 : BitVec 32 := Scalar.shli v3796 c3_i32_2504
  let v3798 : BitVec 32 := v3797
  let v3802 : Index := Scalar.indexCast v3798
  let c0_2507 : Index := 0#32
  ![v3802.toNat, 0]

def k0_chk193 (v3792 : BitVec 32) : Prop :=
  (8 ∣ (k0_mult193 v3792).toNat) ∧
  (∀ a, (k0_off194 v3792) a + S16x128.size a ≤ S66048x128.size a)
theorem k0_mult193_dvd : ∀ (v3792 : BitVec 32) (k0_hw193 : k0_chk193 v3792), 8 ∣ (k0_mult193 v3792).toNat := fun v3792 k0_hw193 => k0_hw193.1
theorem k0_off194_inb : ∀ (v3792 : BitVec 32) (k0_hw193 : k0_chk193 v3792), ∀ a, (k0_off194 v3792) a + S16x128.size a ≤ S66048x128.size a := fun v3792 k0_hw193 => k0_hw193.2

def k0_off195 (v3793 : BitVec 32) : Fin 2 → Nat :=
  let c3_i32_2505 : BitVec 32 := 3#32
  let v3799 : BitVec 32 := Scalar.shrsi v3793 c3_i32_2505
  let c3_i32_2506 : BitVec 32 := 3#32
  let v3800 : BitVec 32 := Scalar.shli v3799 c3_i32_2506
  let v3801 : BitVec 32 := v3800
  let v3804 : Index := Scalar.indexCast v3801
  let c0_2508 : Index := 0#32
  ![v3804.toNat, 0]

def k0_chk194 (v3793 : BitVec 32) : Prop :=
  (8 ∣ (k0_mult194 v3793).toNat) ∧
  (∀ a, (k0_off195 v3793) a + S16x128.size a ≤ S66048x128.size a)
theorem k0_mult194_dvd : ∀ (v3793 : BitVec 32) (k0_hw194 : k0_chk194 v3793), 8 ∣ (k0_mult194 v3793).toNat := fun v3793 k0_hw194 => k0_hw194.1
theorem k0_off195_inb : ∀ (v3793 : BitVec 32) (k0_hw194 : k0_chk194 v3793), ∀ a, (k0_off195 v3793) a + S16x128.size a ≤ S66048x128.size a := fun v3793 k0_hw194 => k0_hw194.2

def k0_mult195 (v3831 : BitVec 32) : BitVec 32 :=
  let c3_i32_2529 : BitVec 32 := 3#32
  let v3835 : BitVec 32 := Scalar.shrsi v3831 c3_i32_2529
  let c3_i32_2530 : BitVec 32 := 3#32
  let v3836 : BitVec 32 := Scalar.shli v3835 c3_i32_2530
  v3836

def k0_mult196 (v3832 : BitVec 32) : BitVec 32 :=
  let c3_i32_2531 : BitVec 32 := 3#32
  let v3838 : BitVec 32 := Scalar.shrsi v3832 c3_i32_2531
  let c3_i32_2532 : BitVec 32 := 3#32
  let v3839 : BitVec 32 := Scalar.shli v3838 c3_i32_2532
  v3839

def k0_off196 (v3831 : BitVec 32) : Fin 2 → Nat :=
  let c3_i32_2529 : BitVec 32 := 3#32
  let v3835 : BitVec 32 := Scalar.shrsi v3831 c3_i32_2529
  let c3_i32_2530 : BitVec 32 := 3#32
  let v3836 : BitVec 32 := Scalar.shli v3835 c3_i32_2530
  let v3837 : BitVec 32 := v3836
  let v3841 : Index := Scalar.indexCast v3837
  let c0_2533 : Index := 0#32
  ![v3841.toNat, 0]

def k0_chk195 (v3831 : BitVec 32) : Prop :=
  (8 ∣ (k0_mult195 v3831).toNat) ∧
  (∀ a, (k0_off196 v3831) a + S16x128.size a ≤ S66048x128.size a)
theorem k0_mult195_dvd : ∀ (v3831 : BitVec 32) (k0_hw195 : k0_chk195 v3831), 8 ∣ (k0_mult195 v3831).toNat := fun v3831 k0_hw195 => k0_hw195.1
theorem k0_off196_inb : ∀ (v3831 : BitVec 32) (k0_hw195 : k0_chk195 v3831), ∀ a, (k0_off196 v3831) a + S16x128.size a ≤ S66048x128.size a := fun v3831 k0_hw195 => k0_hw195.2

def k0_off197 (v3832 : BitVec 32) : Fin 2 → Nat :=
  let c3_i32_2531 : BitVec 32 := 3#32
  let v3838 : BitVec 32 := Scalar.shrsi v3832 c3_i32_2531
  let c3_i32_2532 : BitVec 32 := 3#32
  let v3839 : BitVec 32 := Scalar.shli v3838 c3_i32_2532
  let v3840 : BitVec 32 := v3839
  let v3843 : Index := Scalar.indexCast v3840
  let c0_2534 : Index := 0#32
  ![v3843.toNat, 0]

def k0_chk196 (v3832 : BitVec 32) : Prop :=
  (8 ∣ (k0_mult196 v3832).toNat) ∧
  (∀ a, (k0_off197 v3832) a + S16x128.size a ≤ S66048x128.size a)
theorem k0_mult196_dvd : ∀ (v3832 : BitVec 32) (k0_hw196 : k0_chk196 v3832), 8 ∣ (k0_mult196 v3832).toNat := fun v3832 k0_hw196 => k0_hw196.1
theorem k0_off197_inb : ∀ (v3832 : BitVec 32) (k0_hw196 : k0_chk196 v3832), ∀ a, (k0_off197 v3832) a + S16x128.size a ≤ S66048x128.size a := fun v3832 k0_hw196 => k0_hw196.2

def k0_mult197 (v3870 : BitVec 32) : BitVec 32 :=
  let c3_i32_2555 : BitVec 32 := 3#32
  let v3874 : BitVec 32 := Scalar.shrsi v3870 c3_i32_2555
  let c3_i32_2556 : BitVec 32 := 3#32
  let v3875 : BitVec 32 := Scalar.shli v3874 c3_i32_2556
  v3875

def k0_mult198 (v3871 : BitVec 32) : BitVec 32 :=
  let c3_i32_2557 : BitVec 32 := 3#32
  let v3877 : BitVec 32 := Scalar.shrsi v3871 c3_i32_2557
  let c3_i32_2558 : BitVec 32 := 3#32
  let v3878 : BitVec 32 := Scalar.shli v3877 c3_i32_2558
  v3878

def k0_off198 (v3870 : BitVec 32) : Fin 2 → Nat :=
  let c3_i32_2555 : BitVec 32 := 3#32
  let v3874 : BitVec 32 := Scalar.shrsi v3870 c3_i32_2555
  let c3_i32_2556 : BitVec 32 := 3#32
  let v3875 : BitVec 32 := Scalar.shli v3874 c3_i32_2556
  let v3876 : BitVec 32 := v3875
  let v3880 : Index := Scalar.indexCast v3876
  let c0_2559 : Index := 0#32
  ![v3880.toNat, 0]

def k0_chk197 (v3870 : BitVec 32) : Prop :=
  (8 ∣ (k0_mult197 v3870).toNat) ∧
  (∀ a, (k0_off198 v3870) a + S16x128.size a ≤ S66048x128.size a)
theorem k0_mult197_dvd : ∀ (v3870 : BitVec 32) (k0_hw197 : k0_chk197 v3870), 8 ∣ (k0_mult197 v3870).toNat := fun v3870 k0_hw197 => k0_hw197.1
theorem k0_off198_inb : ∀ (v3870 : BitVec 32) (k0_hw197 : k0_chk197 v3870), ∀ a, (k0_off198 v3870) a + S16x128.size a ≤ S66048x128.size a := fun v3870 k0_hw197 => k0_hw197.2

def k0_off199 (v3871 : BitVec 32) : Fin 2 → Nat :=
  let c3_i32_2557 : BitVec 32 := 3#32
  let v3877 : BitVec 32 := Scalar.shrsi v3871 c3_i32_2557
  let c3_i32_2558 : BitVec 32 := 3#32
  let v3878 : BitVec 32 := Scalar.shli v3877 c3_i32_2558
  let v3879 : BitVec 32 := v3878
  let v3882 : Index := Scalar.indexCast v3879
  let c0_2560 : Index := 0#32
  ![v3882.toNat, 0]

def k0_chk198 (v3871 : BitVec 32) : Prop :=
  (8 ∣ (k0_mult198 v3871).toNat) ∧
  (∀ a, (k0_off199 v3871) a + S16x128.size a ≤ S66048x128.size a)
theorem k0_mult198_dvd : ∀ (v3871 : BitVec 32) (k0_hw198 : k0_chk198 v3871), 8 ∣ (k0_mult198 v3871).toNat := fun v3871 k0_hw198 => k0_hw198.1
theorem k0_off199_inb : ∀ (v3871 : BitVec 32) (k0_hw198 : k0_chk198 v3871), ∀ a, (k0_off199 v3871) a + S16x128.size a ≤ S66048x128.size a := fun v3871 k0_hw198 => k0_hw198.2

def k0_mult199 (v3909 : BitVec 32) : BitVec 32 :=
  let c3_i32_2581 : BitVec 32 := 3#32
  let v3913 : BitVec 32 := Scalar.shrsi v3909 c3_i32_2581
  let c3_i32_2582 : BitVec 32 := 3#32
  let v3914 : BitVec 32 := Scalar.shli v3913 c3_i32_2582
  v3914

def k0_mult200 (v3910 : BitVec 32) : BitVec 32 :=
  let c3_i32_2583 : BitVec 32 := 3#32
  let v3916 : BitVec 32 := Scalar.shrsi v3910 c3_i32_2583
  let c3_i32_2584 : BitVec 32 := 3#32
  let v3917 : BitVec 32 := Scalar.shli v3916 c3_i32_2584
  v3917

def k0_off200 (v3909 : BitVec 32) : Fin 2 → Nat :=
  let c3_i32_2581 : BitVec 32 := 3#32
  let v3913 : BitVec 32 := Scalar.shrsi v3909 c3_i32_2581
  let c3_i32_2582 : BitVec 32 := 3#32
  let v3914 : BitVec 32 := Scalar.shli v3913 c3_i32_2582
  let v3915 : BitVec 32 := v3914
  let v3919 : Index := Scalar.indexCast v3915
  let c0_2585 : Index := 0#32
  ![v3919.toNat, 0]

def k0_chk199 (v3909 : BitVec 32) : Prop :=
  (8 ∣ (k0_mult199 v3909).toNat) ∧
  (∀ a, (k0_off200 v3909) a + S16x128.size a ≤ S66048x128.size a)
theorem k0_mult199_dvd : ∀ (v3909 : BitVec 32) (k0_hw199 : k0_chk199 v3909), 8 ∣ (k0_mult199 v3909).toNat := fun v3909 k0_hw199 => k0_hw199.1
theorem k0_off200_inb : ∀ (v3909 : BitVec 32) (k0_hw199 : k0_chk199 v3909), ∀ a, (k0_off200 v3909) a + S16x128.size a ≤ S66048x128.size a := fun v3909 k0_hw199 => k0_hw199.2

def k0_off201 (v3910 : BitVec 32) : Fin 2 → Nat :=
  let c3_i32_2583 : BitVec 32 := 3#32
  let v3916 : BitVec 32 := Scalar.shrsi v3910 c3_i32_2583
  let c3_i32_2584 : BitVec 32 := 3#32
  let v3917 : BitVec 32 := Scalar.shli v3916 c3_i32_2584
  let v3918 : BitVec 32 := v3917
  let v3921 : Index := Scalar.indexCast v3918
  let c0_2586 : Index := 0#32
  ![v3921.toNat, 0]

def k0_chk200 (v3910 : BitVec 32) : Prop :=
  (8 ∣ (k0_mult200 v3910).toNat) ∧
  (∀ a, (k0_off201 v3910) a + S16x128.size a ≤ S66048x128.size a)
theorem k0_mult200_dvd : ∀ (v3910 : BitVec 32) (k0_hw200 : k0_chk200 v3910), 8 ∣ (k0_mult200 v3910).toNat := fun v3910 k0_hw200 => k0_hw200.1
theorem k0_off201_inb : ∀ (v3910 : BitVec 32) (k0_hw200 : k0_chk200 v3910), ∀ a, (k0_off201 v3910) a + S16x128.size a ≤ S66048x128.size a := fun v3910 k0_hw200 => k0_hw200.2

def k0_mult201 (v3955 : BitVec 32) : BitVec 32 :=
  let c3_i32_2613 : BitVec 32 := 3#32
  let v3959 : BitVec 32 := Scalar.shrsi v3955 c3_i32_2613
  let c3_i32_2614 : BitVec 32 := 3#32
  let v3960 : BitVec 32 := Scalar.shli v3959 c3_i32_2614
  v3960

def k0_mult202 (v3956 : BitVec 32) : BitVec 32 :=
  let c3_i32_2615 : BitVec 32 := 3#32
  let v3962 : BitVec 32 := Scalar.shrsi v3956 c3_i32_2615
  let c3_i32_2616 : BitVec 32 := 3#32
  let v3963 : BitVec 32 := Scalar.shli v3962 c3_i32_2616
  v3963

def k0_off202 (v3955 : BitVec 32) : Fin 2 → Nat :=
  let c3_i32_2613 : BitVec 32 := 3#32
  let v3959 : BitVec 32 := Scalar.shrsi v3955 c3_i32_2613
  let c3_i32_2614 : BitVec 32 := 3#32
  let v3960 : BitVec 32 := Scalar.shli v3959 c3_i32_2614
  let v3961 : BitVec 32 := v3960
  let v3965 : Index := Scalar.indexCast v3961
  let c0_2617 : Index := 0#32
  ![v3965.toNat, 0]

def k0_chk201 (v3955 : BitVec 32) : Prop :=
  (8 ∣ (k0_mult201 v3955).toNat) ∧
  (∀ a, (k0_off202 v3955) a + S16x128.size a ≤ S66048x128.size a)
theorem k0_mult201_dvd : ∀ (v3955 : BitVec 32) (k0_hw201 : k0_chk201 v3955), 8 ∣ (k0_mult201 v3955).toNat := fun v3955 k0_hw201 => k0_hw201.1
theorem k0_off202_inb : ∀ (v3955 : BitVec 32) (k0_hw201 : k0_chk201 v3955), ∀ a, (k0_off202 v3955) a + S16x128.size a ≤ S66048x128.size a := fun v3955 k0_hw201 => k0_hw201.2

def k0_off203 (v3956 : BitVec 32) : Fin 2 → Nat :=
  let c3_i32_2615 : BitVec 32 := 3#32
  let v3962 : BitVec 32 := Scalar.shrsi v3956 c3_i32_2615
  let c3_i32_2616 : BitVec 32 := 3#32
  let v3963 : BitVec 32 := Scalar.shli v3962 c3_i32_2616
  let v3964 : BitVec 32 := v3963
  let v3967 : Index := Scalar.indexCast v3964
  let c0_2618 : Index := 0#32
  ![v3967.toNat, 0]

def k0_chk202 (v3956 : BitVec 32) : Prop :=
  (8 ∣ (k0_mult202 v3956).toNat) ∧
  (∀ a, (k0_off203 v3956) a + S16x128.size a ≤ S66048x128.size a)
theorem k0_mult202_dvd : ∀ (v3956 : BitVec 32) (k0_hw202 : k0_chk202 v3956), 8 ∣ (k0_mult202 v3956).toNat := fun v3956 k0_hw202 => k0_hw202.1
theorem k0_off203_inb : ∀ (v3956 : BitVec 32) (k0_hw202 : k0_chk202 v3956), ∀ a, (k0_off203 v3956) a + S16x128.size a ≤ S66048x128.size a := fun v3956 k0_hw202 => k0_hw202.2

def k0_mult203 (v3994 : BitVec 32) : BitVec 32 :=
  let c3_i32_2639 : BitVec 32 := 3#32
  let v3998 : BitVec 32 := Scalar.shrsi v3994 c3_i32_2639
  let c3_i32_2640 : BitVec 32 := 3#32
  let v3999 : BitVec 32 := Scalar.shli v3998 c3_i32_2640
  v3999

def k0_mult204 (v3995 : BitVec 32) : BitVec 32 :=
  let c3_i32_2641 : BitVec 32 := 3#32
  let v4001 : BitVec 32 := Scalar.shrsi v3995 c3_i32_2641
  let c3_i32_2642 : BitVec 32 := 3#32
  let v4002 : BitVec 32 := Scalar.shli v4001 c3_i32_2642
  v4002

def k0_off204 (v3994 : BitVec 32) : Fin 2 → Nat :=
  let c3_i32_2639 : BitVec 32 := 3#32
  let v3998 : BitVec 32 := Scalar.shrsi v3994 c3_i32_2639
  let c3_i32_2640 : BitVec 32 := 3#32
  let v3999 : BitVec 32 := Scalar.shli v3998 c3_i32_2640
  let v4000 : BitVec 32 := v3999
  let v4004 : Index := Scalar.indexCast v4000
  let c0_2643 : Index := 0#32
  ![v4004.toNat, 0]

def k0_chk203 (v3994 : BitVec 32) : Prop :=
  (8 ∣ (k0_mult203 v3994).toNat) ∧
  (∀ a, (k0_off204 v3994) a + S16x128.size a ≤ S66048x128.size a)
theorem k0_mult203_dvd : ∀ (v3994 : BitVec 32) (k0_hw203 : k0_chk203 v3994), 8 ∣ (k0_mult203 v3994).toNat := fun v3994 k0_hw203 => k0_hw203.1
theorem k0_off204_inb : ∀ (v3994 : BitVec 32) (k0_hw203 : k0_chk203 v3994), ∀ a, (k0_off204 v3994) a + S16x128.size a ≤ S66048x128.size a := fun v3994 k0_hw203 => k0_hw203.2

def k0_off205 (v3995 : BitVec 32) : Fin 2 → Nat :=
  let c3_i32_2641 : BitVec 32 := 3#32
  let v4001 : BitVec 32 := Scalar.shrsi v3995 c3_i32_2641
  let c3_i32_2642 : BitVec 32 := 3#32
  let v4002 : BitVec 32 := Scalar.shli v4001 c3_i32_2642
  let v4003 : BitVec 32 := v4002
  let v4006 : Index := Scalar.indexCast v4003
  let c0_2644 : Index := 0#32
  ![v4006.toNat, 0]

def k0_chk204 (v3995 : BitVec 32) : Prop :=
  (8 ∣ (k0_mult204 v3995).toNat) ∧
  (∀ a, (k0_off205 v3995) a + S16x128.size a ≤ S66048x128.size a)
theorem k0_mult204_dvd : ∀ (v3995 : BitVec 32) (k0_hw204 : k0_chk204 v3995), 8 ∣ (k0_mult204 v3995).toNat := fun v3995 k0_hw204 => k0_hw204.1
theorem k0_off205_inb : ∀ (v3995 : BitVec 32) (k0_hw204 : k0_chk204 v3995), ∀ a, (k0_off205 v3995) a + S16x128.size a ≤ S66048x128.size a := fun v3995 k0_hw204 => k0_hw204.2

def k0_mult205 (v4033 : BitVec 32) : BitVec 32 :=
  let c3_i32_2665 : BitVec 32 := 3#32
  let v4037 : BitVec 32 := Scalar.shrsi v4033 c3_i32_2665
  let c3_i32_2666 : BitVec 32 := 3#32
  let v4038 : BitVec 32 := Scalar.shli v4037 c3_i32_2666
  v4038

def k0_mult206 (v4034 : BitVec 32) : BitVec 32 :=
  let c3_i32_2667 : BitVec 32 := 3#32
  let v4040 : BitVec 32 := Scalar.shrsi v4034 c3_i32_2667
  let c3_i32_2668 : BitVec 32 := 3#32
  let v4041 : BitVec 32 := Scalar.shli v4040 c3_i32_2668
  v4041

def k0_off206 (v4033 : BitVec 32) : Fin 2 → Nat :=
  let c3_i32_2665 : BitVec 32 := 3#32
  let v4037 : BitVec 32 := Scalar.shrsi v4033 c3_i32_2665
  let c3_i32_2666 : BitVec 32 := 3#32
  let v4038 : BitVec 32 := Scalar.shli v4037 c3_i32_2666
  let v4039 : BitVec 32 := v4038
  let v4043 : Index := Scalar.indexCast v4039
  let c0_2669 : Index := 0#32
  ![v4043.toNat, 0]

def k0_chk205 (v4033 : BitVec 32) : Prop :=
  (8 ∣ (k0_mult205 v4033).toNat) ∧
  (∀ a, (k0_off206 v4033) a + S16x128.size a ≤ S66048x128.size a)
theorem k0_mult205_dvd : ∀ (v4033 : BitVec 32) (k0_hw205 : k0_chk205 v4033), 8 ∣ (k0_mult205 v4033).toNat := fun v4033 k0_hw205 => k0_hw205.1
theorem k0_off206_inb : ∀ (v4033 : BitVec 32) (k0_hw205 : k0_chk205 v4033), ∀ a, (k0_off206 v4033) a + S16x128.size a ≤ S66048x128.size a := fun v4033 k0_hw205 => k0_hw205.2

def k0_off207 (v4034 : BitVec 32) : Fin 2 → Nat :=
  let c3_i32_2667 : BitVec 32 := 3#32
  let v4040 : BitVec 32 := Scalar.shrsi v4034 c3_i32_2667
  let c3_i32_2668 : BitVec 32 := 3#32
  let v4041 : BitVec 32 := Scalar.shli v4040 c3_i32_2668
  let v4042 : BitVec 32 := v4041
  let v4045 : Index := Scalar.indexCast v4042
  let c0_2670 : Index := 0#32
  ![v4045.toNat, 0]

def k0_chk206 (v4034 : BitVec 32) : Prop :=
  (8 ∣ (k0_mult206 v4034).toNat) ∧
  (∀ a, (k0_off207 v4034) a + S16x128.size a ≤ S66048x128.size a)
theorem k0_mult206_dvd : ∀ (v4034 : BitVec 32) (k0_hw206 : k0_chk206 v4034), 8 ∣ (k0_mult206 v4034).toNat := fun v4034 k0_hw206 => k0_hw206.1
theorem k0_off207_inb : ∀ (v4034 : BitVec 32) (k0_hw206 : k0_chk206 v4034), ∀ a, (k0_off207 v4034) a + S16x128.size a ≤ S66048x128.size a := fun v4034 k0_hw206 => k0_hw206.2

def k0_mult207 (v4072 : BitVec 32) : BitVec 32 :=
  let c3_i32_2691 : BitVec 32 := 3#32
  let v4076 : BitVec 32 := Scalar.shrsi v4072 c3_i32_2691
  let c3_i32_2692 : BitVec 32 := 3#32
  let v4077 : BitVec 32 := Scalar.shli v4076 c3_i32_2692
  v4077

def k0_mult208 (v4073 : BitVec 32) : BitVec 32 :=
  let c3_i32_2693 : BitVec 32 := 3#32
  let v4079 : BitVec 32 := Scalar.shrsi v4073 c3_i32_2693
  let c3_i32_2694 : BitVec 32 := 3#32
  let v4080 : BitVec 32 := Scalar.shli v4079 c3_i32_2694
  v4080

def k0_off208 (v4072 : BitVec 32) : Fin 2 → Nat :=
  let c3_i32_2691 : BitVec 32 := 3#32
  let v4076 : BitVec 32 := Scalar.shrsi v4072 c3_i32_2691
  let c3_i32_2692 : BitVec 32 := 3#32
  let v4077 : BitVec 32 := Scalar.shli v4076 c3_i32_2692
  let v4078 : BitVec 32 := v4077
  let v4082 : Index := Scalar.indexCast v4078
  let c0_2695 : Index := 0#32
  ![v4082.toNat, 0]

def k0_chk207 (v4072 : BitVec 32) : Prop :=
  (8 ∣ (k0_mult207 v4072).toNat) ∧
  (∀ a, (k0_off208 v4072) a + S16x128.size a ≤ S66048x128.size a)
theorem k0_mult207_dvd : ∀ (v4072 : BitVec 32) (k0_hw207 : k0_chk207 v4072), 8 ∣ (k0_mult207 v4072).toNat := fun v4072 k0_hw207 => k0_hw207.1
theorem k0_off208_inb : ∀ (v4072 : BitVec 32) (k0_hw207 : k0_chk207 v4072), ∀ a, (k0_off208 v4072) a + S16x128.size a ≤ S66048x128.size a := fun v4072 k0_hw207 => k0_hw207.2

def k0_off209 (v4073 : BitVec 32) : Fin 2 → Nat :=
  let c3_i32_2693 : BitVec 32 := 3#32
  let v4079 : BitVec 32 := Scalar.shrsi v4073 c3_i32_2693
  let c3_i32_2694 : BitVec 32 := 3#32
  let v4080 : BitVec 32 := Scalar.shli v4079 c3_i32_2694
  let v4081 : BitVec 32 := v4080
  let v4084 : Index := Scalar.indexCast v4081
  let c0_2696 : Index := 0#32
  ![v4084.toNat, 0]

def k0_chk208 (v4073 : BitVec 32) : Prop :=
  (8 ∣ (k0_mult208 v4073).toNat) ∧
  (∀ a, (k0_off209 v4073) a + S16x128.size a ≤ S66048x128.size a)
theorem k0_mult208_dvd : ∀ (v4073 : BitVec 32) (k0_hw208 : k0_chk208 v4073), 8 ∣ (k0_mult208 v4073).toNat := fun v4073 k0_hw208 => k0_hw208.1
theorem k0_off209_inb : ∀ (v4073 : BitVec 32) (k0_hw208 : k0_chk208 v4073), ∀ a, (k0_off209 v4073) a + S16x128.size a ≤ S66048x128.size a := fun v4073 k0_hw208 => k0_hw208.2

def k0_mult209 (v4111 : BitVec 32) : BitVec 32 :=
  let c3_i32_2717 : BitVec 32 := 3#32
  let v4115 : BitVec 32 := Scalar.shrsi v4111 c3_i32_2717
  let c3_i32_2718 : BitVec 32 := 3#32
  let v4116 : BitVec 32 := Scalar.shli v4115 c3_i32_2718
  v4116

def k0_mult210 (v4112 : BitVec 32) : BitVec 32 :=
  let c3_i32_2719 : BitVec 32 := 3#32
  let v4118 : BitVec 32 := Scalar.shrsi v4112 c3_i32_2719
  let c3_i32_2720 : BitVec 32 := 3#32
  let v4119 : BitVec 32 := Scalar.shli v4118 c3_i32_2720
  v4119

def k0_off210 (v4111 : BitVec 32) : Fin 2 → Nat :=
  let c3_i32_2717 : BitVec 32 := 3#32
  let v4115 : BitVec 32 := Scalar.shrsi v4111 c3_i32_2717
  let c3_i32_2718 : BitVec 32 := 3#32
  let v4116 : BitVec 32 := Scalar.shli v4115 c3_i32_2718
  let v4117 : BitVec 32 := v4116
  let v4121 : Index := Scalar.indexCast v4117
  let c0_2721 : Index := 0#32
  ![v4121.toNat, 0]

def k0_chk209 (v4111 : BitVec 32) : Prop :=
  (8 ∣ (k0_mult209 v4111).toNat) ∧
  (∀ a, (k0_off210 v4111) a + S16x128.size a ≤ S66048x128.size a)
theorem k0_mult209_dvd : ∀ (v4111 : BitVec 32) (k0_hw209 : k0_chk209 v4111), 8 ∣ (k0_mult209 v4111).toNat := fun v4111 k0_hw209 => k0_hw209.1
theorem k0_off210_inb : ∀ (v4111 : BitVec 32) (k0_hw209 : k0_chk209 v4111), ∀ a, (k0_off210 v4111) a + S16x128.size a ≤ S66048x128.size a := fun v4111 k0_hw209 => k0_hw209.2

def k0_off211 (v4112 : BitVec 32) : Fin 2 → Nat :=
  let c3_i32_2719 : BitVec 32 := 3#32
  let v4118 : BitVec 32 := Scalar.shrsi v4112 c3_i32_2719
  let c3_i32_2720 : BitVec 32 := 3#32
  let v4119 : BitVec 32 := Scalar.shli v4118 c3_i32_2720
  let v4120 : BitVec 32 := v4119
  let v4123 : Index := Scalar.indexCast v4120
  let c0_2722 : Index := 0#32
  ![v4123.toNat, 0]

def k0_chk210 (v4112 : BitVec 32) : Prop :=
  (8 ∣ (k0_mult210 v4112).toNat) ∧
  (∀ a, (k0_off211 v4112) a + S16x128.size a ≤ S66048x128.size a)
theorem k0_mult210_dvd : ∀ (v4112 : BitVec 32) (k0_hw210 : k0_chk210 v4112), 8 ∣ (k0_mult210 v4112).toNat := fun v4112 k0_hw210 => k0_hw210.1
theorem k0_off211_inb : ∀ (v4112 : BitVec 32) (k0_hw210 : k0_chk210 v4112), ∀ a, (k0_off211 v4112) a + S16x128.size a ≤ S66048x128.size a := fun v4112 k0_hw210 => k0_hw210.2

def k0_mult211 (v4150 : BitVec 32) : BitVec 32 :=
  let c3_i32_2743 : BitVec 32 := 3#32
  let v4154 : BitVec 32 := Scalar.shrsi v4150 c3_i32_2743
  let c3_i32_2744 : BitVec 32 := 3#32
  let v4155 : BitVec 32 := Scalar.shli v4154 c3_i32_2744
  v4155

def k0_mult212 (v4151 : BitVec 32) : BitVec 32 :=
  let c3_i32_2745 : BitVec 32 := 3#32
  let v4157 : BitVec 32 := Scalar.shrsi v4151 c3_i32_2745
  let c3_i32_2746 : BitVec 32 := 3#32
  let v4158 : BitVec 32 := Scalar.shli v4157 c3_i32_2746
  v4158

def k0_off212 (v4150 : BitVec 32) : Fin 2 → Nat :=
  let c3_i32_2743 : BitVec 32 := 3#32
  let v4154 : BitVec 32 := Scalar.shrsi v4150 c3_i32_2743
  let c3_i32_2744 : BitVec 32 := 3#32
  let v4155 : BitVec 32 := Scalar.shli v4154 c3_i32_2744
  let v4156 : BitVec 32 := v4155
  let v4160 : Index := Scalar.indexCast v4156
  let c0_2747 : Index := 0#32
  ![v4160.toNat, 0]

def k0_chk211 (v4150 : BitVec 32) : Prop :=
  (8 ∣ (k0_mult211 v4150).toNat) ∧
  (∀ a, (k0_off212 v4150) a + S16x128.size a ≤ S66048x128.size a)
theorem k0_mult211_dvd : ∀ (v4150 : BitVec 32) (k0_hw211 : k0_chk211 v4150), 8 ∣ (k0_mult211 v4150).toNat := fun v4150 k0_hw211 => k0_hw211.1
theorem k0_off212_inb : ∀ (v4150 : BitVec 32) (k0_hw211 : k0_chk211 v4150), ∀ a, (k0_off212 v4150) a + S16x128.size a ≤ S66048x128.size a := fun v4150 k0_hw211 => k0_hw211.2

def k0_off213 (v4151 : BitVec 32) : Fin 2 → Nat :=
  let c3_i32_2745 : BitVec 32 := 3#32
  let v4157 : BitVec 32 := Scalar.shrsi v4151 c3_i32_2745
  let c3_i32_2746 : BitVec 32 := 3#32
  let v4158 : BitVec 32 := Scalar.shli v4157 c3_i32_2746
  let v4159 : BitVec 32 := v4158
  let v4162 : Index := Scalar.indexCast v4159
  let c0_2748 : Index := 0#32
  ![v4162.toNat, 0]

def k0_chk212 (v4151 : BitVec 32) : Prop :=
  (8 ∣ (k0_mult212 v4151).toNat) ∧
  (∀ a, (k0_off213 v4151) a + S16x128.size a ≤ S66048x128.size a)
theorem k0_mult212_dvd : ∀ (v4151 : BitVec 32) (k0_hw212 : k0_chk212 v4151), 8 ∣ (k0_mult212 v4151).toNat := fun v4151 k0_hw212 => k0_hw212.1
theorem k0_off213_inb : ∀ (v4151 : BitVec 32) (k0_hw212 : k0_chk212 v4151), ∀ a, (k0_off213 v4151) a + S16x128.size a ≤ S66048x128.size a := fun v4151 k0_hw212 => k0_hw212.2

def k0_mult213 (v4189 : BitVec 32) : BitVec 32 :=
  let c3_i32_2769 : BitVec 32 := 3#32
  let v4193 : BitVec 32 := Scalar.shrsi v4189 c3_i32_2769
  let c3_i32_2770 : BitVec 32 := 3#32
  let v4194 : BitVec 32 := Scalar.shli v4193 c3_i32_2770
  v4194

def k0_mult214 (v4190 : BitVec 32) : BitVec 32 :=
  let c3_i32_2771 : BitVec 32 := 3#32
  let v4196 : BitVec 32 := Scalar.shrsi v4190 c3_i32_2771
  let c3_i32_2772 : BitVec 32 := 3#32
  let v4197 : BitVec 32 := Scalar.shli v4196 c3_i32_2772
  v4197

def k0_off214 (v4189 : BitVec 32) : Fin 2 → Nat :=
  let c3_i32_2769 : BitVec 32 := 3#32
  let v4193 : BitVec 32 := Scalar.shrsi v4189 c3_i32_2769
  let c3_i32_2770 : BitVec 32 := 3#32
  let v4194 : BitVec 32 := Scalar.shli v4193 c3_i32_2770
  let v4195 : BitVec 32 := v4194
  let v4199 : Index := Scalar.indexCast v4195
  let c0_2773 : Index := 0#32
  ![v4199.toNat, 0]

def k0_chk213 (v4189 : BitVec 32) : Prop :=
  (8 ∣ (k0_mult213 v4189).toNat) ∧
  (∀ a, (k0_off214 v4189) a + S16x128.size a ≤ S66048x128.size a)
theorem k0_mult213_dvd : ∀ (v4189 : BitVec 32) (k0_hw213 : k0_chk213 v4189), 8 ∣ (k0_mult213 v4189).toNat := fun v4189 k0_hw213 => k0_hw213.1
theorem k0_off214_inb : ∀ (v4189 : BitVec 32) (k0_hw213 : k0_chk213 v4189), ∀ a, (k0_off214 v4189) a + S16x128.size a ≤ S66048x128.size a := fun v4189 k0_hw213 => k0_hw213.2

def k0_off215 (v4190 : BitVec 32) : Fin 2 → Nat :=
  let c3_i32_2771 : BitVec 32 := 3#32
  let v4196 : BitVec 32 := Scalar.shrsi v4190 c3_i32_2771
  let c3_i32_2772 : BitVec 32 := 3#32
  let v4197 : BitVec 32 := Scalar.shli v4196 c3_i32_2772
  let v4198 : BitVec 32 := v4197
  let v4201 : Index := Scalar.indexCast v4198
  let c0_2774 : Index := 0#32
  ![v4201.toNat, 0]

def k0_chk214 (v4190 : BitVec 32) : Prop :=
  (8 ∣ (k0_mult214 v4190).toNat) ∧
  (∀ a, (k0_off215 v4190) a + S16x128.size a ≤ S66048x128.size a)
theorem k0_mult214_dvd : ∀ (v4190 : BitVec 32) (k0_hw214 : k0_chk214 v4190), 8 ∣ (k0_mult214 v4190).toNat := fun v4190 k0_hw214 => k0_hw214.1
theorem k0_off215_inb : ∀ (v4190 : BitVec 32) (k0_hw214 : k0_chk214 v4190), ∀ a, (k0_off215 v4190) a + S16x128.size a ≤ S66048x128.size a := fun v4190 k0_hw214 => k0_hw214.2

def k0_mult215 (v4228 : BitVec 32) : BitVec 32 :=
  let c3_i32_2795 : BitVec 32 := 3#32
  let v4232 : BitVec 32 := Scalar.shrsi v4228 c3_i32_2795
  let c3_i32_2796 : BitVec 32 := 3#32
  let v4233 : BitVec 32 := Scalar.shli v4232 c3_i32_2796
  v4233

def k0_mult216 (v4229 : BitVec 32) : BitVec 32 :=
  let c3_i32_2797 : BitVec 32 := 3#32
  let v4235 : BitVec 32 := Scalar.shrsi v4229 c3_i32_2797
  let c3_i32_2798 : BitVec 32 := 3#32
  let v4236 : BitVec 32 := Scalar.shli v4235 c3_i32_2798
  v4236

def k0_off216 (v4228 : BitVec 32) : Fin 2 → Nat :=
  let c3_i32_2795 : BitVec 32 := 3#32
  let v4232 : BitVec 32 := Scalar.shrsi v4228 c3_i32_2795
  let c3_i32_2796 : BitVec 32 := 3#32
  let v4233 : BitVec 32 := Scalar.shli v4232 c3_i32_2796
  let v4234 : BitVec 32 := v4233
  let v4238 : Index := Scalar.indexCast v4234
  let c0_2799 : Index := 0#32
  ![v4238.toNat, 0]

def k0_chk215 (v4228 : BitVec 32) : Prop :=
  (8 ∣ (k0_mult215 v4228).toNat) ∧
  (∀ a, (k0_off216 v4228) a + S16x128.size a ≤ S66048x128.size a)
theorem k0_mult215_dvd : ∀ (v4228 : BitVec 32) (k0_hw215 : k0_chk215 v4228), 8 ∣ (k0_mult215 v4228).toNat := fun v4228 k0_hw215 => k0_hw215.1
theorem k0_off216_inb : ∀ (v4228 : BitVec 32) (k0_hw215 : k0_chk215 v4228), ∀ a, (k0_off216 v4228) a + S16x128.size a ≤ S66048x128.size a := fun v4228 k0_hw215 => k0_hw215.2

def k0_off217 (v4229 : BitVec 32) : Fin 2 → Nat :=
  let c3_i32_2797 : BitVec 32 := 3#32
  let v4235 : BitVec 32 := Scalar.shrsi v4229 c3_i32_2797
  let c3_i32_2798 : BitVec 32 := 3#32
  let v4236 : BitVec 32 := Scalar.shli v4235 c3_i32_2798
  let v4237 : BitVec 32 := v4236
  let v4240 : Index := Scalar.indexCast v4237
  let c0_2800 : Index := 0#32
  ![v4240.toNat, 0]

def k0_chk216 (v4229 : BitVec 32) : Prop :=
  (8 ∣ (k0_mult216 v4229).toNat) ∧
  (∀ a, (k0_off217 v4229) a + S16x128.size a ≤ S66048x128.size a)
theorem k0_mult216_dvd : ∀ (v4229 : BitVec 32) (k0_hw216 : k0_chk216 v4229), 8 ∣ (k0_mult216 v4229).toNat := fun v4229 k0_hw216 => k0_hw216.1
theorem k0_off217_inb : ∀ (v4229 : BitVec 32) (k0_hw216 : k0_chk216 v4229), ∀ a, (k0_off217 v4229) a + S16x128.size a ≤ S66048x128.size a := fun v4229 k0_hw216 => k0_hw216.2

def k0_mult217 (v4267 : BitVec 32) : BitVec 32 :=
  let c3_i32_2821 : BitVec 32 := 3#32
  let v4271 : BitVec 32 := Scalar.shrsi v4267 c3_i32_2821
  let c3_i32_2822 : BitVec 32 := 3#32
  let v4272 : BitVec 32 := Scalar.shli v4271 c3_i32_2822
  v4272

def k0_mult218 (v4268 : BitVec 32) : BitVec 32 :=
  let c3_i32_2823 : BitVec 32 := 3#32
  let v4274 : BitVec 32 := Scalar.shrsi v4268 c3_i32_2823
  let c3_i32_2824 : BitVec 32 := 3#32
  let v4275 : BitVec 32 := Scalar.shli v4274 c3_i32_2824
  v4275

def k0_off218 (v4267 : BitVec 32) : Fin 2 → Nat :=
  let c3_i32_2821 : BitVec 32 := 3#32
  let v4271 : BitVec 32 := Scalar.shrsi v4267 c3_i32_2821
  let c3_i32_2822 : BitVec 32 := 3#32
  let v4272 : BitVec 32 := Scalar.shli v4271 c3_i32_2822
  let v4273 : BitVec 32 := v4272
  let v4277 : Index := Scalar.indexCast v4273
  let c0_2825 : Index := 0#32
  ![v4277.toNat, 0]

def k0_chk217 (v4267 : BitVec 32) : Prop :=
  (8 ∣ (k0_mult217 v4267).toNat) ∧
  (∀ a, (k0_off218 v4267) a + S16x128.size a ≤ S66048x128.size a)
theorem k0_mult217_dvd : ∀ (v4267 : BitVec 32) (k0_hw217 : k0_chk217 v4267), 8 ∣ (k0_mult217 v4267).toNat := fun v4267 k0_hw217 => k0_hw217.1
theorem k0_off218_inb : ∀ (v4267 : BitVec 32) (k0_hw217 : k0_chk217 v4267), ∀ a, (k0_off218 v4267) a + S16x128.size a ≤ S66048x128.size a := fun v4267 k0_hw217 => k0_hw217.2

def k0_off219 (v4268 : BitVec 32) : Fin 2 → Nat :=
  let c3_i32_2823 : BitVec 32 := 3#32
  let v4274 : BitVec 32 := Scalar.shrsi v4268 c3_i32_2823
  let c3_i32_2824 : BitVec 32 := 3#32
  let v4275 : BitVec 32 := Scalar.shli v4274 c3_i32_2824
  let v4276 : BitVec 32 := v4275
  let v4279 : Index := Scalar.indexCast v4276
  let c0_2826 : Index := 0#32
  ![v4279.toNat, 0]

def k0_chk218 (v4268 : BitVec 32) : Prop :=
  (8 ∣ (k0_mult218 v4268).toNat) ∧
  (∀ a, (k0_off219 v4268) a + S16x128.size a ≤ S66048x128.size a)
theorem k0_mult218_dvd : ∀ (v4268 : BitVec 32) (k0_hw218 : k0_chk218 v4268), 8 ∣ (k0_mult218 v4268).toNat := fun v4268 k0_hw218 => k0_hw218.1
theorem k0_off219_inb : ∀ (v4268 : BitVec 32) (k0_hw218 : k0_chk218 v4268), ∀ a, (k0_off219 v4268) a + S16x128.size a ≤ S66048x128.size a := fun v4268 k0_hw218 => k0_hw218.2

def k0_mult219 (v4306 : BitVec 32) : BitVec 32 :=
  let c3_i32_2847 : BitVec 32 := 3#32
  let v4310 : BitVec 32 := Scalar.shrsi v4306 c3_i32_2847
  let c3_i32_2848 : BitVec 32 := 3#32
  let v4311 : BitVec 32 := Scalar.shli v4310 c3_i32_2848
  v4311

def k0_mult220 (v4307 : BitVec 32) : BitVec 32 :=
  let c3_i32_2849 : BitVec 32 := 3#32
  let v4313 : BitVec 32 := Scalar.shrsi v4307 c3_i32_2849
  let c3_i32_2850 : BitVec 32 := 3#32
  let v4314 : BitVec 32 := Scalar.shli v4313 c3_i32_2850
  v4314

def k0_off220 (v4306 : BitVec 32) : Fin 2 → Nat :=
  let c3_i32_2847 : BitVec 32 := 3#32
  let v4310 : BitVec 32 := Scalar.shrsi v4306 c3_i32_2847
  let c3_i32_2848 : BitVec 32 := 3#32
  let v4311 : BitVec 32 := Scalar.shli v4310 c3_i32_2848
  let v4312 : BitVec 32 := v4311
  let v4316 : Index := Scalar.indexCast v4312
  let c0_2851 : Index := 0#32
  ![v4316.toNat, 0]

def k0_chk219 (v4306 : BitVec 32) : Prop :=
  (8 ∣ (k0_mult219 v4306).toNat) ∧
  (∀ a, (k0_off220 v4306) a + S16x128.size a ≤ S66048x128.size a)
theorem k0_mult219_dvd : ∀ (v4306 : BitVec 32) (k0_hw219 : k0_chk219 v4306), 8 ∣ (k0_mult219 v4306).toNat := fun v4306 k0_hw219 => k0_hw219.1
theorem k0_off220_inb : ∀ (v4306 : BitVec 32) (k0_hw219 : k0_chk219 v4306), ∀ a, (k0_off220 v4306) a + S16x128.size a ≤ S66048x128.size a := fun v4306 k0_hw219 => k0_hw219.2

def k0_off221 (v4307 : BitVec 32) : Fin 2 → Nat :=
  let c3_i32_2849 : BitVec 32 := 3#32
  let v4313 : BitVec 32 := Scalar.shrsi v4307 c3_i32_2849
  let c3_i32_2850 : BitVec 32 := 3#32
  let v4314 : BitVec 32 := Scalar.shli v4313 c3_i32_2850
  let v4315 : BitVec 32 := v4314
  let v4318 : Index := Scalar.indexCast v4315
  let c0_2852 : Index := 0#32
  ![v4318.toNat, 0]

def k0_chk220 (v4307 : BitVec 32) : Prop :=
  (8 ∣ (k0_mult220 v4307).toNat) ∧
  (∀ a, (k0_off221 v4307) a + S16x128.size a ≤ S66048x128.size a)
theorem k0_mult220_dvd : ∀ (v4307 : BitVec 32) (k0_hw220 : k0_chk220 v4307), 8 ∣ (k0_mult220 v4307).toNat := fun v4307 k0_hw220 => k0_hw220.1
theorem k0_off221_inb : ∀ (v4307 : BitVec 32) (k0_hw220 : k0_chk220 v4307), ∀ a, (k0_off221 v4307) a + S16x128.size a ≤ S66048x128.size a := fun v4307 k0_hw220 => k0_hw220.2

def k0_mult221 (v4345 : BitVec 32) : BitVec 32 :=
  let c3_i32_2873 : BitVec 32 := 3#32
  let v4349 : BitVec 32 := Scalar.shrsi v4345 c3_i32_2873
  let c3_i32_2874 : BitVec 32 := 3#32
  let v4350 : BitVec 32 := Scalar.shli v4349 c3_i32_2874
  v4350

def k0_mult222 (v4346 : BitVec 32) : BitVec 32 :=
  let c3_i32_2875 : BitVec 32 := 3#32
  let v4352 : BitVec 32 := Scalar.shrsi v4346 c3_i32_2875
  let c3_i32_2876 : BitVec 32 := 3#32
  let v4353 : BitVec 32 := Scalar.shli v4352 c3_i32_2876
  v4353

def k0_off222 (v4345 : BitVec 32) : Fin 2 → Nat :=
  let c3_i32_2873 : BitVec 32 := 3#32
  let v4349 : BitVec 32 := Scalar.shrsi v4345 c3_i32_2873
  let c3_i32_2874 : BitVec 32 := 3#32
  let v4350 : BitVec 32 := Scalar.shli v4349 c3_i32_2874
  let v4351 : BitVec 32 := v4350
  let v4355 : Index := Scalar.indexCast v4351
  let c0_2877 : Index := 0#32
  ![v4355.toNat, 0]

def k0_chk221 (v4345 : BitVec 32) : Prop :=
  (8 ∣ (k0_mult221 v4345).toNat) ∧
  (∀ a, (k0_off222 v4345) a + S16x128.size a ≤ S66048x128.size a)
theorem k0_mult221_dvd : ∀ (v4345 : BitVec 32) (k0_hw221 : k0_chk221 v4345), 8 ∣ (k0_mult221 v4345).toNat := fun v4345 k0_hw221 => k0_hw221.1
theorem k0_off222_inb : ∀ (v4345 : BitVec 32) (k0_hw221 : k0_chk221 v4345), ∀ a, (k0_off222 v4345) a + S16x128.size a ≤ S66048x128.size a := fun v4345 k0_hw221 => k0_hw221.2

def k0_off223 (v4346 : BitVec 32) : Fin 2 → Nat :=
  let c3_i32_2875 : BitVec 32 := 3#32
  let v4352 : BitVec 32 := Scalar.shrsi v4346 c3_i32_2875
  let c3_i32_2876 : BitVec 32 := 3#32
  let v4353 : BitVec 32 := Scalar.shli v4352 c3_i32_2876
  let v4354 : BitVec 32 := v4353
  let v4357 : Index := Scalar.indexCast v4354
  let c0_2878 : Index := 0#32
  ![v4357.toNat, 0]

def k0_chk222 (v4346 : BitVec 32) : Prop :=
  (8 ∣ (k0_mult222 v4346).toNat) ∧
  (∀ a, (k0_off223 v4346) a + S16x128.size a ≤ S66048x128.size a)
theorem k0_mult222_dvd : ∀ (v4346 : BitVec 32) (k0_hw222 : k0_chk222 v4346), 8 ∣ (k0_mult222 v4346).toNat := fun v4346 k0_hw222 => k0_hw222.1
theorem k0_off223_inb : ∀ (v4346 : BitVec 32) (k0_hw222 : k0_chk222 v4346), ∀ a, (k0_off223 v4346) a + S16x128.size a ≤ S66048x128.size a := fun v4346 k0_hw222 => k0_hw222.2

def k0_mult223 (v4384 : BitVec 32) : BitVec 32 :=
  let c3_i32_2899 : BitVec 32 := 3#32
  let v4388 : BitVec 32 := Scalar.shrsi v4384 c3_i32_2899
  let c3_i32_2900 : BitVec 32 := 3#32
  let v4389 : BitVec 32 := Scalar.shli v4388 c3_i32_2900
  v4389

def k0_mult224 (v4385 : BitVec 32) : BitVec 32 :=
  let c3_i32_2901 : BitVec 32 := 3#32
  let v4391 : BitVec 32 := Scalar.shrsi v4385 c3_i32_2901
  let c3_i32_2902 : BitVec 32 := 3#32
  let v4392 : BitVec 32 := Scalar.shli v4391 c3_i32_2902
  v4392

def k0_off224 (v4384 : BitVec 32) : Fin 2 → Nat :=
  let c3_i32_2899 : BitVec 32 := 3#32
  let v4388 : BitVec 32 := Scalar.shrsi v4384 c3_i32_2899
  let c3_i32_2900 : BitVec 32 := 3#32
  let v4389 : BitVec 32 := Scalar.shli v4388 c3_i32_2900
  let v4390 : BitVec 32 := v4389
  let v4394 : Index := Scalar.indexCast v4390
  let c0_2903 : Index := 0#32
  ![v4394.toNat, 0]

def k0_chk223 (v4384 : BitVec 32) : Prop :=
  (8 ∣ (k0_mult223 v4384).toNat) ∧
  (∀ a, (k0_off224 v4384) a + S16x128.size a ≤ S66048x128.size a)
theorem k0_mult223_dvd : ∀ (v4384 : BitVec 32) (k0_hw223 : k0_chk223 v4384), 8 ∣ (k0_mult223 v4384).toNat := fun v4384 k0_hw223 => k0_hw223.1
theorem k0_off224_inb : ∀ (v4384 : BitVec 32) (k0_hw223 : k0_chk223 v4384), ∀ a, (k0_off224 v4384) a + S16x128.size a ≤ S66048x128.size a := fun v4384 k0_hw223 => k0_hw223.2

def k0_off225 (v4385 : BitVec 32) : Fin 2 → Nat :=
  let c3_i32_2901 : BitVec 32 := 3#32
  let v4391 : BitVec 32 := Scalar.shrsi v4385 c3_i32_2901
  let c3_i32_2902 : BitVec 32 := 3#32
  let v4392 : BitVec 32 := Scalar.shli v4391 c3_i32_2902
  let v4393 : BitVec 32 := v4392
  let v4396 : Index := Scalar.indexCast v4393
  let c0_2904 : Index := 0#32
  ![v4396.toNat, 0]

def k0_chk224 (v4385 : BitVec 32) : Prop :=
  (8 ∣ (k0_mult224 v4385).toNat) ∧
  (∀ a, (k0_off225 v4385) a + S16x128.size a ≤ S66048x128.size a)
theorem k0_mult224_dvd : ∀ (v4385 : BitVec 32) (k0_hw224 : k0_chk224 v4385), 8 ∣ (k0_mult224 v4385).toNat := fun v4385 k0_hw224 => k0_hw224.1
theorem k0_off225_inb : ∀ (v4385 : BitVec 32) (k0_hw224 : k0_chk224 v4385), ∀ a, (k0_off225 v4385) a + S16x128.size a ≤ S66048x128.size a := fun v4385 k0_hw224 => k0_hw224.2

def k0_mult225 (v4423 : BitVec 32) : BitVec 32 :=
  let c3_i32_2925 : BitVec 32 := 3#32
  let v4427 : BitVec 32 := Scalar.shrsi v4423 c3_i32_2925
  let c3_i32_2926 : BitVec 32 := 3#32
  let v4428 : BitVec 32 := Scalar.shli v4427 c3_i32_2926
  v4428

def k0_mult226 (v4424 : BitVec 32) : BitVec 32 :=
  let c3_i32_2927 : BitVec 32 := 3#32
  let v4430 : BitVec 32 := Scalar.shrsi v4424 c3_i32_2927
  let c3_i32_2928 : BitVec 32 := 3#32
  let v4431 : BitVec 32 := Scalar.shli v4430 c3_i32_2928
  v4431

def k0_off226 (v4423 : BitVec 32) : Fin 2 → Nat :=
  let c3_i32_2925 : BitVec 32 := 3#32
  let v4427 : BitVec 32 := Scalar.shrsi v4423 c3_i32_2925
  let c3_i32_2926 : BitVec 32 := 3#32
  let v4428 : BitVec 32 := Scalar.shli v4427 c3_i32_2926
  let v4429 : BitVec 32 := v4428
  let v4433 : Index := Scalar.indexCast v4429
  let c0_2929 : Index := 0#32
  ![v4433.toNat, 0]

def k0_chk225 (v4423 : BitVec 32) : Prop :=
  (8 ∣ (k0_mult225 v4423).toNat) ∧
  (∀ a, (k0_off226 v4423) a + S16x128.size a ≤ S66048x128.size a)
theorem k0_mult225_dvd : ∀ (v4423 : BitVec 32) (k0_hw225 : k0_chk225 v4423), 8 ∣ (k0_mult225 v4423).toNat := fun v4423 k0_hw225 => k0_hw225.1
theorem k0_off226_inb : ∀ (v4423 : BitVec 32) (k0_hw225 : k0_chk225 v4423), ∀ a, (k0_off226 v4423) a + S16x128.size a ≤ S66048x128.size a := fun v4423 k0_hw225 => k0_hw225.2

def k0_off227 (v4424 : BitVec 32) : Fin 2 → Nat :=
  let c3_i32_2927 : BitVec 32 := 3#32
  let v4430 : BitVec 32 := Scalar.shrsi v4424 c3_i32_2927
  let c3_i32_2928 : BitVec 32 := 3#32
  let v4431 : BitVec 32 := Scalar.shli v4430 c3_i32_2928
  let v4432 : BitVec 32 := v4431
  let v4435 : Index := Scalar.indexCast v4432
  let c0_2930 : Index := 0#32
  ![v4435.toNat, 0]

def k0_chk226 (v4424 : BitVec 32) : Prop :=
  (8 ∣ (k0_mult226 v4424).toNat) ∧
  (∀ a, (k0_off227 v4424) a + S16x128.size a ≤ S66048x128.size a)
theorem k0_mult226_dvd : ∀ (v4424 : BitVec 32) (k0_hw226 : k0_chk226 v4424), 8 ∣ (k0_mult226 v4424).toNat := fun v4424 k0_hw226 => k0_hw226.1
theorem k0_off227_inb : ∀ (v4424 : BitVec 32) (k0_hw226 : k0_chk226 v4424), ∀ a, (k0_off227 v4424) a + S16x128.size a ≤ S66048x128.size a := fun v4424 k0_hw226 => k0_hw226.2

def k0_mult227 (v4462 : BitVec 32) : BitVec 32 :=
  let c3_i32_2951 : BitVec 32 := 3#32
  let v4466 : BitVec 32 := Scalar.shrsi v4462 c3_i32_2951
  let c3_i32_2952 : BitVec 32 := 3#32
  let v4467 : BitVec 32 := Scalar.shli v4466 c3_i32_2952
  v4467

def k0_mult228 (v4463 : BitVec 32) : BitVec 32 :=
  let c3_i32_2953 : BitVec 32 := 3#32
  let v4469 : BitVec 32 := Scalar.shrsi v4463 c3_i32_2953
  let c3_i32_2954 : BitVec 32 := 3#32
  let v4470 : BitVec 32 := Scalar.shli v4469 c3_i32_2954
  v4470

def k0_off228 (v4462 : BitVec 32) : Fin 2 → Nat :=
  let c3_i32_2951 : BitVec 32 := 3#32
  let v4466 : BitVec 32 := Scalar.shrsi v4462 c3_i32_2951
  let c3_i32_2952 : BitVec 32 := 3#32
  let v4467 : BitVec 32 := Scalar.shli v4466 c3_i32_2952
  let v4468 : BitVec 32 := v4467
  let v4472 : Index := Scalar.indexCast v4468
  let c0_2955 : Index := 0#32
  ![v4472.toNat, 0]

def k0_chk227 (v4462 : BitVec 32) : Prop :=
  (8 ∣ (k0_mult227 v4462).toNat) ∧
  (∀ a, (k0_off228 v4462) a + S16x128.size a ≤ S66048x128.size a)
theorem k0_mult227_dvd : ∀ (v4462 : BitVec 32) (k0_hw227 : k0_chk227 v4462), 8 ∣ (k0_mult227 v4462).toNat := fun v4462 k0_hw227 => k0_hw227.1
theorem k0_off228_inb : ∀ (v4462 : BitVec 32) (k0_hw227 : k0_chk227 v4462), ∀ a, (k0_off228 v4462) a + S16x128.size a ≤ S66048x128.size a := fun v4462 k0_hw227 => k0_hw227.2

def k0_off229 (v4463 : BitVec 32) : Fin 2 → Nat :=
  let c3_i32_2953 : BitVec 32 := 3#32
  let v4469 : BitVec 32 := Scalar.shrsi v4463 c3_i32_2953
  let c3_i32_2954 : BitVec 32 := 3#32
  let v4470 : BitVec 32 := Scalar.shli v4469 c3_i32_2954
  let v4471 : BitVec 32 := v4470
  let v4474 : Index := Scalar.indexCast v4471
  let c0_2956 : Index := 0#32
  ![v4474.toNat, 0]

def k0_chk228 (v4463 : BitVec 32) : Prop :=
  (8 ∣ (k0_mult228 v4463).toNat) ∧
  (∀ a, (k0_off229 v4463) a + S16x128.size a ≤ S66048x128.size a)
theorem k0_mult228_dvd : ∀ (v4463 : BitVec 32) (k0_hw228 : k0_chk228 v4463), 8 ∣ (k0_mult228 v4463).toNat := fun v4463 k0_hw228 => k0_hw228.1
theorem k0_off229_inb : ∀ (v4463 : BitVec 32) (k0_hw228 : k0_chk228 v4463), ∀ a, (k0_off229 v4463) a + S16x128.size a ≤ S66048x128.size a := fun v4463 k0_hw228 => k0_hw228.2

def k0_mult229 (v4501 : BitVec 32) : BitVec 32 :=
  let c3_i32_2977 : BitVec 32 := 3#32
  let v4505 : BitVec 32 := Scalar.shrsi v4501 c3_i32_2977
  let c3_i32_2978 : BitVec 32 := 3#32
  let v4506 : BitVec 32 := Scalar.shli v4505 c3_i32_2978
  v4506

def k0_mult230 (v4502 : BitVec 32) : BitVec 32 :=
  let c3_i32_2979 : BitVec 32 := 3#32
  let v4508 : BitVec 32 := Scalar.shrsi v4502 c3_i32_2979
  let c3_i32_2980 : BitVec 32 := 3#32
  let v4509 : BitVec 32 := Scalar.shli v4508 c3_i32_2980
  v4509

def k0_off230 (v4501 : BitVec 32) : Fin 2 → Nat :=
  let c3_i32_2977 : BitVec 32 := 3#32
  let v4505 : BitVec 32 := Scalar.shrsi v4501 c3_i32_2977
  let c3_i32_2978 : BitVec 32 := 3#32
  let v4506 : BitVec 32 := Scalar.shli v4505 c3_i32_2978
  let v4507 : BitVec 32 := v4506
  let v4511 : Index := Scalar.indexCast v4507
  let c0_2981 : Index := 0#32
  ![v4511.toNat, 0]

def k0_chk229 (v4501 : BitVec 32) : Prop :=
  (8 ∣ (k0_mult229 v4501).toNat) ∧
  (∀ a, (k0_off230 v4501) a + S16x128.size a ≤ S66048x128.size a)
theorem k0_mult229_dvd : ∀ (v4501 : BitVec 32) (k0_hw229 : k0_chk229 v4501), 8 ∣ (k0_mult229 v4501).toNat := fun v4501 k0_hw229 => k0_hw229.1
theorem k0_off230_inb : ∀ (v4501 : BitVec 32) (k0_hw229 : k0_chk229 v4501), ∀ a, (k0_off230 v4501) a + S16x128.size a ≤ S66048x128.size a := fun v4501 k0_hw229 => k0_hw229.2

def k0_off231 (v4502 : BitVec 32) : Fin 2 → Nat :=
  let c3_i32_2979 : BitVec 32 := 3#32
  let v4508 : BitVec 32 := Scalar.shrsi v4502 c3_i32_2979
  let c3_i32_2980 : BitVec 32 := 3#32
  let v4509 : BitVec 32 := Scalar.shli v4508 c3_i32_2980
  let v4510 : BitVec 32 := v4509
  let v4513 : Index := Scalar.indexCast v4510
  let c0_2982 : Index := 0#32
  ![v4513.toNat, 0]

def k0_chk230 (v4502 : BitVec 32) : Prop :=
  (8 ∣ (k0_mult230 v4502).toNat) ∧
  (∀ a, (k0_off231 v4502) a + S16x128.size a ≤ S66048x128.size a)
theorem k0_mult230_dvd : ∀ (v4502 : BitVec 32) (k0_hw230 : k0_chk230 v4502), 8 ∣ (k0_mult230 v4502).toNat := fun v4502 k0_hw230 => k0_hw230.1
theorem k0_off231_inb : ∀ (v4502 : BitVec 32) (k0_hw230 : k0_chk230 v4502), ∀ a, (k0_off231 v4502) a + S16x128.size a ≤ S66048x128.size a := fun v4502 k0_hw230 => k0_hw230.2

def k0_mult231 (v4540 : BitVec 32) : BitVec 32 :=
  let c3_i32_3003 : BitVec 32 := 3#32
  let v4544 : BitVec 32 := Scalar.shrsi v4540 c3_i32_3003
  let c3_i32_3004 : BitVec 32 := 3#32
  let v4545 : BitVec 32 := Scalar.shli v4544 c3_i32_3004
  v4545

def k0_mult232 (v4541 : BitVec 32) : BitVec 32 :=
  let c3_i32_3005 : BitVec 32 := 3#32
  let v4547 : BitVec 32 := Scalar.shrsi v4541 c3_i32_3005
  let c3_i32_3006 : BitVec 32 := 3#32
  let v4548 : BitVec 32 := Scalar.shli v4547 c3_i32_3006
  v4548

def k0_off232 (v4540 : BitVec 32) : Fin 2 → Nat :=
  let c3_i32_3003 : BitVec 32 := 3#32
  let v4544 : BitVec 32 := Scalar.shrsi v4540 c3_i32_3003
  let c3_i32_3004 : BitVec 32 := 3#32
  let v4545 : BitVec 32 := Scalar.shli v4544 c3_i32_3004
  let v4546 : BitVec 32 := v4545
  let v4550 : Index := Scalar.indexCast v4546
  let c0_3007 : Index := 0#32
  ![v4550.toNat, 0]

def k0_chk231 (v4540 : BitVec 32) : Prop :=
  (8 ∣ (k0_mult231 v4540).toNat) ∧
  (∀ a, (k0_off232 v4540) a + S16x128.size a ≤ S66048x128.size a)
theorem k0_mult231_dvd : ∀ (v4540 : BitVec 32) (k0_hw231 : k0_chk231 v4540), 8 ∣ (k0_mult231 v4540).toNat := fun v4540 k0_hw231 => k0_hw231.1
theorem k0_off232_inb : ∀ (v4540 : BitVec 32) (k0_hw231 : k0_chk231 v4540), ∀ a, (k0_off232 v4540) a + S16x128.size a ≤ S66048x128.size a := fun v4540 k0_hw231 => k0_hw231.2

def k0_off233 (v4541 : BitVec 32) : Fin 2 → Nat :=
  let c3_i32_3005 : BitVec 32 := 3#32
  let v4547 : BitVec 32 := Scalar.shrsi v4541 c3_i32_3005
  let c3_i32_3006 : BitVec 32 := 3#32
  let v4548 : BitVec 32 := Scalar.shli v4547 c3_i32_3006
  let v4549 : BitVec 32 := v4548
  let v4552 : Index := Scalar.indexCast v4549
  let c0_3008 : Index := 0#32
  ![v4552.toNat, 0]

def k0_chk232 (v4541 : BitVec 32) : Prop :=
  (8 ∣ (k0_mult232 v4541).toNat) ∧
  (∀ a, (k0_off233 v4541) a + S16x128.size a ≤ S66048x128.size a)
theorem k0_mult232_dvd : ∀ (v4541 : BitVec 32) (k0_hw232 : k0_chk232 v4541), 8 ∣ (k0_mult232 v4541).toNat := fun v4541 k0_hw232 => k0_hw232.1
theorem k0_off233_inb : ∀ (v4541 : BitVec 32) (k0_hw232 : k0_chk232 v4541), ∀ a, (k0_off233 v4541) a + S16x128.size a ≤ S66048x128.size a := fun v4541 k0_hw232 => k0_hw232.2

def k0_mult233 (v4579 : BitVec 32) : BitVec 32 :=
  let c3_i32_3029 : BitVec 32 := 3#32
  let v4583 : BitVec 32 := Scalar.shrsi v4579 c3_i32_3029
  let c3_i32_3030 : BitVec 32 := 3#32
  let v4584 : BitVec 32 := Scalar.shli v4583 c3_i32_3030
  v4584

def k0_mult234 (v4580 : BitVec 32) : BitVec 32 :=
  let c3_i32_3031 : BitVec 32 := 3#32
  let v4586 : BitVec 32 := Scalar.shrsi v4580 c3_i32_3031
  let c3_i32_3032 : BitVec 32 := 3#32
  let v4587 : BitVec 32 := Scalar.shli v4586 c3_i32_3032
  v4587

def k0_off234 (v4579 : BitVec 32) : Fin 2 → Nat :=
  let c3_i32_3029 : BitVec 32 := 3#32
  let v4583 : BitVec 32 := Scalar.shrsi v4579 c3_i32_3029
  let c3_i32_3030 : BitVec 32 := 3#32
  let v4584 : BitVec 32 := Scalar.shli v4583 c3_i32_3030
  let v4585 : BitVec 32 := v4584
  let v4589 : Index := Scalar.indexCast v4585
  let c0_3033 : Index := 0#32
  ![v4589.toNat, 0]

def k0_chk233 (v4579 : BitVec 32) : Prop :=
  (8 ∣ (k0_mult233 v4579).toNat) ∧
  (∀ a, (k0_off234 v4579) a + S16x128.size a ≤ S66048x128.size a)
theorem k0_mult233_dvd : ∀ (v4579 : BitVec 32) (k0_hw233 : k0_chk233 v4579), 8 ∣ (k0_mult233 v4579).toNat := fun v4579 k0_hw233 => k0_hw233.1
theorem k0_off234_inb : ∀ (v4579 : BitVec 32) (k0_hw233 : k0_chk233 v4579), ∀ a, (k0_off234 v4579) a + S16x128.size a ≤ S66048x128.size a := fun v4579 k0_hw233 => k0_hw233.2

def k0_off235 (v4580 : BitVec 32) : Fin 2 → Nat :=
  let c3_i32_3031 : BitVec 32 := 3#32
  let v4586 : BitVec 32 := Scalar.shrsi v4580 c3_i32_3031
  let c3_i32_3032 : BitVec 32 := 3#32
  let v4587 : BitVec 32 := Scalar.shli v4586 c3_i32_3032
  let v4588 : BitVec 32 := v4587
  let v4591 : Index := Scalar.indexCast v4588
  let c0_3034 : Index := 0#32
  ![v4591.toNat, 0]

def k0_chk234 (v4580 : BitVec 32) : Prop :=
  (8 ∣ (k0_mult234 v4580).toNat) ∧
  (∀ a, (k0_off235 v4580) a + S16x128.size a ≤ S66048x128.size a)
theorem k0_mult234_dvd : ∀ (v4580 : BitVec 32) (k0_hw234 : k0_chk234 v4580), 8 ∣ (k0_mult234 v4580).toNat := fun v4580 k0_hw234 => k0_hw234.1
theorem k0_off235_inb : ∀ (v4580 : BitVec 32) (k0_hw234 : k0_chk234 v4580), ∀ a, (k0_off235 v4580) a + S16x128.size a ≤ S66048x128.size a := fun v4580 k0_hw234 => k0_hw234.2

def k0_mult235 (v4618 : BitVec 32) : BitVec 32 :=
  let c3_i32_3055 : BitVec 32 := 3#32
  let v4622 : BitVec 32 := Scalar.shrsi v4618 c3_i32_3055
  let c3_i32_3056 : BitVec 32 := 3#32
  let v4623 : BitVec 32 := Scalar.shli v4622 c3_i32_3056
  v4623

def k0_mult236 (v4619 : BitVec 32) : BitVec 32 :=
  let c3_i32_3057 : BitVec 32 := 3#32
  let v4625 : BitVec 32 := Scalar.shrsi v4619 c3_i32_3057
  let c3_i32_3058 : BitVec 32 := 3#32
  let v4626 : BitVec 32 := Scalar.shli v4625 c3_i32_3058
  v4626

def k0_off236 (v4618 : BitVec 32) : Fin 2 → Nat :=
  let c3_i32_3055 : BitVec 32 := 3#32
  let v4622 : BitVec 32 := Scalar.shrsi v4618 c3_i32_3055
  let c3_i32_3056 : BitVec 32 := 3#32
  let v4623 : BitVec 32 := Scalar.shli v4622 c3_i32_3056
  let v4624 : BitVec 32 := v4623
  let v4628 : Index := Scalar.indexCast v4624
  let c0_3059 : Index := 0#32
  ![v4628.toNat, 0]

def k0_chk235 (v4618 : BitVec 32) : Prop :=
  (8 ∣ (k0_mult235 v4618).toNat) ∧
  (∀ a, (k0_off236 v4618) a + S16x128.size a ≤ S66048x128.size a)
theorem k0_mult235_dvd : ∀ (v4618 : BitVec 32) (k0_hw235 : k0_chk235 v4618), 8 ∣ (k0_mult235 v4618).toNat := fun v4618 k0_hw235 => k0_hw235.1
theorem k0_off236_inb : ∀ (v4618 : BitVec 32) (k0_hw235 : k0_chk235 v4618), ∀ a, (k0_off236 v4618) a + S16x128.size a ≤ S66048x128.size a := fun v4618 k0_hw235 => k0_hw235.2

def k0_off237 (v4619 : BitVec 32) : Fin 2 → Nat :=
  let c3_i32_3057 : BitVec 32 := 3#32
  let v4625 : BitVec 32 := Scalar.shrsi v4619 c3_i32_3057
  let c3_i32_3058 : BitVec 32 := 3#32
  let v4626 : BitVec 32 := Scalar.shli v4625 c3_i32_3058
  let v4627 : BitVec 32 := v4626
  let v4630 : Index := Scalar.indexCast v4627
  let c0_3060 : Index := 0#32
  ![v4630.toNat, 0]

def k0_chk236 (v4619 : BitVec 32) : Prop :=
  (8 ∣ (k0_mult236 v4619).toNat) ∧
  (∀ a, (k0_off237 v4619) a + S16x128.size a ≤ S66048x128.size a)
theorem k0_mult236_dvd : ∀ (v4619 : BitVec 32) (k0_hw236 : k0_chk236 v4619), 8 ∣ (k0_mult236 v4619).toNat := fun v4619 k0_hw236 => k0_hw236.1
theorem k0_off237_inb : ∀ (v4619 : BitVec 32) (k0_hw236 : k0_chk236 v4619), ∀ a, (k0_off237 v4619) a + S16x128.size a ≤ S66048x128.size a := fun v4619 k0_hw236 => k0_hw236.2

def k0_mult237 (v4657 : BitVec 32) : BitVec 32 :=
  let c3_i32_3081 : BitVec 32 := 3#32
  let v4661 : BitVec 32 := Scalar.shrsi v4657 c3_i32_3081
  let c3_i32_3082 : BitVec 32 := 3#32
  let v4662 : BitVec 32 := Scalar.shli v4661 c3_i32_3082
  v4662

def k0_mult238 (v4658 : BitVec 32) : BitVec 32 :=
  let c3_i32_3083 : BitVec 32 := 3#32
  let v4664 : BitVec 32 := Scalar.shrsi v4658 c3_i32_3083
  let c3_i32_3084 : BitVec 32 := 3#32
  let v4665 : BitVec 32 := Scalar.shli v4664 c3_i32_3084
  v4665

def k0_off238 (v4657 : BitVec 32) : Fin 2 → Nat :=
  let c3_i32_3081 : BitVec 32 := 3#32
  let v4661 : BitVec 32 := Scalar.shrsi v4657 c3_i32_3081
  let c3_i32_3082 : BitVec 32 := 3#32
  let v4662 : BitVec 32 := Scalar.shli v4661 c3_i32_3082
  let v4663 : BitVec 32 := v4662
  let v4667 : Index := Scalar.indexCast v4663
  let c0_3085 : Index := 0#32
  ![v4667.toNat, 0]

def k0_chk237 (v4657 : BitVec 32) : Prop :=
  (8 ∣ (k0_mult237 v4657).toNat) ∧
  (∀ a, (k0_off238 v4657) a + S16x128.size a ≤ S66048x128.size a)
theorem k0_mult237_dvd : ∀ (v4657 : BitVec 32) (k0_hw237 : k0_chk237 v4657), 8 ∣ (k0_mult237 v4657).toNat := fun v4657 k0_hw237 => k0_hw237.1
theorem k0_off238_inb : ∀ (v4657 : BitVec 32) (k0_hw237 : k0_chk237 v4657), ∀ a, (k0_off238 v4657) a + S16x128.size a ≤ S66048x128.size a := fun v4657 k0_hw237 => k0_hw237.2

def k0_off239 (v4658 : BitVec 32) : Fin 2 → Nat :=
  let c3_i32_3083 : BitVec 32 := 3#32
  let v4664 : BitVec 32 := Scalar.shrsi v4658 c3_i32_3083
  let c3_i32_3084 : BitVec 32 := 3#32
  let v4665 : BitVec 32 := Scalar.shli v4664 c3_i32_3084
  let v4666 : BitVec 32 := v4665
  let v4669 : Index := Scalar.indexCast v4666
  let c0_3086 : Index := 0#32
  ![v4669.toNat, 0]

def k0_chk238 (v4658 : BitVec 32) : Prop :=
  (8 ∣ (k0_mult238 v4658).toNat) ∧
  (∀ a, (k0_off239 v4658) a + S16x128.size a ≤ S66048x128.size a)
theorem k0_mult238_dvd : ∀ (v4658 : BitVec 32) (k0_hw238 : k0_chk238 v4658), 8 ∣ (k0_mult238 v4658).toNat := fun v4658 k0_hw238 => k0_hw238.1
theorem k0_off239_inb : ∀ (v4658 : BitVec 32) (k0_hw238 : k0_chk238 v4658), ∀ a, (k0_off239 v4658) a + S16x128.size a ≤ S66048x128.size a := fun v4658 k0_hw238 => k0_hw238.2

def k0_mult239 (v4696 : BitVec 32) : BitVec 32 :=
  let c3_i32_3107 : BitVec 32 := 3#32
  let v4700 : BitVec 32 := Scalar.shrsi v4696 c3_i32_3107
  let c3_i32_3108 : BitVec 32 := 3#32
  let v4701 : BitVec 32 := Scalar.shli v4700 c3_i32_3108
  v4701

def k0_mult240 (v4697 : BitVec 32) : BitVec 32 :=
  let c3_i32_3109 : BitVec 32 := 3#32
  let v4703 : BitVec 32 := Scalar.shrsi v4697 c3_i32_3109
  let c3_i32_3110 : BitVec 32 := 3#32
  let v4704 : BitVec 32 := Scalar.shli v4703 c3_i32_3110
  v4704

def k0_off240 (v4696 : BitVec 32) : Fin 2 → Nat :=
  let c3_i32_3107 : BitVec 32 := 3#32
  let v4700 : BitVec 32 := Scalar.shrsi v4696 c3_i32_3107
  let c3_i32_3108 : BitVec 32 := 3#32
  let v4701 : BitVec 32 := Scalar.shli v4700 c3_i32_3108
  let v4702 : BitVec 32 := v4701
  let v4706 : Index := Scalar.indexCast v4702
  let c0_3111 : Index := 0#32
  ![v4706.toNat, 0]

def k0_chk239 (v4696 : BitVec 32) : Prop :=
  (8 ∣ (k0_mult239 v4696).toNat) ∧
  (∀ a, (k0_off240 v4696) a + S16x128.size a ≤ S66048x128.size a)
theorem k0_mult239_dvd : ∀ (v4696 : BitVec 32) (k0_hw239 : k0_chk239 v4696), 8 ∣ (k0_mult239 v4696).toNat := fun v4696 k0_hw239 => k0_hw239.1
theorem k0_off240_inb : ∀ (v4696 : BitVec 32) (k0_hw239 : k0_chk239 v4696), ∀ a, (k0_off240 v4696) a + S16x128.size a ≤ S66048x128.size a := fun v4696 k0_hw239 => k0_hw239.2

def k0_off241 (v4697 : BitVec 32) : Fin 2 → Nat :=
  let c3_i32_3109 : BitVec 32 := 3#32
  let v4703 : BitVec 32 := Scalar.shrsi v4697 c3_i32_3109
  let c3_i32_3110 : BitVec 32 := 3#32
  let v4704 : BitVec 32 := Scalar.shli v4703 c3_i32_3110
  let v4705 : BitVec 32 := v4704
  let v4708 : Index := Scalar.indexCast v4705
  let c0_3112 : Index := 0#32
  ![v4708.toNat, 0]

def k0_chk240 (v4697 : BitVec 32) : Prop :=
  (8 ∣ (k0_mult240 v4697).toNat) ∧
  (∀ a, (k0_off241 v4697) a + S16x128.size a ≤ S66048x128.size a)
theorem k0_mult240_dvd : ∀ (v4697 : BitVec 32) (k0_hw240 : k0_chk240 v4697), 8 ∣ (k0_mult240 v4697).toNat := fun v4697 k0_hw240 => k0_hw240.1
theorem k0_off241_inb : ∀ (v4697 : BitVec 32) (k0_hw240 : k0_chk240 v4697), ∀ a, (k0_off241 v4697) a + S16x128.size a ≤ S66048x128.size a := fun v4697 k0_hw240 => k0_hw240.2

def k0_mult241 (v4735 : BitVec 32) : BitVec 32 :=
  let c3_i32_3133 : BitVec 32 := 3#32
  let v4739 : BitVec 32 := Scalar.shrsi v4735 c3_i32_3133
  let c3_i32_3134 : BitVec 32 := 3#32
  let v4740 : BitVec 32 := Scalar.shli v4739 c3_i32_3134
  v4740

def k0_mult242 (v4736 : BitVec 32) : BitVec 32 :=
  let c3_i32_3135 : BitVec 32 := 3#32
  let v4742 : BitVec 32 := Scalar.shrsi v4736 c3_i32_3135
  let c3_i32_3136 : BitVec 32 := 3#32
  let v4743 : BitVec 32 := Scalar.shli v4742 c3_i32_3136
  v4743

def k0_off242 (v4735 : BitVec 32) : Fin 2 → Nat :=
  let c3_i32_3133 : BitVec 32 := 3#32
  let v4739 : BitVec 32 := Scalar.shrsi v4735 c3_i32_3133
  let c3_i32_3134 : BitVec 32 := 3#32
  let v4740 : BitVec 32 := Scalar.shli v4739 c3_i32_3134
  let v4741 : BitVec 32 := v4740
  let v4745 : Index := Scalar.indexCast v4741
  let c0_3137 : Index := 0#32
  ![v4745.toNat, 0]

def k0_chk241 (v4735 : BitVec 32) : Prop :=
  (8 ∣ (k0_mult241 v4735).toNat) ∧
  (∀ a, (k0_off242 v4735) a + S16x128.size a ≤ S66048x128.size a)
theorem k0_mult241_dvd : ∀ (v4735 : BitVec 32) (k0_hw241 : k0_chk241 v4735), 8 ∣ (k0_mult241 v4735).toNat := fun v4735 k0_hw241 => k0_hw241.1
theorem k0_off242_inb : ∀ (v4735 : BitVec 32) (k0_hw241 : k0_chk241 v4735), ∀ a, (k0_off242 v4735) a + S16x128.size a ≤ S66048x128.size a := fun v4735 k0_hw241 => k0_hw241.2

def k0_off243 (v4736 : BitVec 32) : Fin 2 → Nat :=
  let c3_i32_3135 : BitVec 32 := 3#32
  let v4742 : BitVec 32 := Scalar.shrsi v4736 c3_i32_3135
  let c3_i32_3136 : BitVec 32 := 3#32
  let v4743 : BitVec 32 := Scalar.shli v4742 c3_i32_3136
  let v4744 : BitVec 32 := v4743
  let v4747 : Index := Scalar.indexCast v4744
  let c0_3138 : Index := 0#32
  ![v4747.toNat, 0]

def k0_chk242 (v4736 : BitVec 32) : Prop :=
  (8 ∣ (k0_mult242 v4736).toNat) ∧
  (∀ a, (k0_off243 v4736) a + S16x128.size a ≤ S66048x128.size a)
theorem k0_mult242_dvd : ∀ (v4736 : BitVec 32) (k0_hw242 : k0_chk242 v4736), 8 ∣ (k0_mult242 v4736).toNat := fun v4736 k0_hw242 => k0_hw242.1
theorem k0_off243_inb : ∀ (v4736 : BitVec 32) (k0_hw242 : k0_chk242 v4736), ∀ a, (k0_off243 v4736) a + S16x128.size a ≤ S66048x128.size a := fun v4736 k0_hw242 => k0_hw242.2

def k0_mult243 (v4774 : BitVec 32) : BitVec 32 :=
  let c3_i32_3159 : BitVec 32 := 3#32
  let v4778 : BitVec 32 := Scalar.shrsi v4774 c3_i32_3159
  let c3_i32_3160 : BitVec 32 := 3#32
  let v4779 : BitVec 32 := Scalar.shli v4778 c3_i32_3160
  v4779

def k0_mult244 (v4775 : BitVec 32) : BitVec 32 :=
  let c3_i32_3161 : BitVec 32 := 3#32
  let v4781 : BitVec 32 := Scalar.shrsi v4775 c3_i32_3161
  let c3_i32_3162 : BitVec 32 := 3#32
  let v4782 : BitVec 32 := Scalar.shli v4781 c3_i32_3162
  v4782

def k0_off244 (v4774 : BitVec 32) : Fin 2 → Nat :=
  let c3_i32_3159 : BitVec 32 := 3#32
  let v4778 : BitVec 32 := Scalar.shrsi v4774 c3_i32_3159
  let c3_i32_3160 : BitVec 32 := 3#32
  let v4779 : BitVec 32 := Scalar.shli v4778 c3_i32_3160
  let v4780 : BitVec 32 := v4779
  let v4784 : Index := Scalar.indexCast v4780
  let c0_3163 : Index := 0#32
  ![v4784.toNat, 0]

def k0_chk243 (v4774 : BitVec 32) : Prop :=
  (8 ∣ (k0_mult243 v4774).toNat) ∧
  (∀ a, (k0_off244 v4774) a + S16x128.size a ≤ S66048x128.size a)
theorem k0_mult243_dvd : ∀ (v4774 : BitVec 32) (k0_hw243 : k0_chk243 v4774), 8 ∣ (k0_mult243 v4774).toNat := fun v4774 k0_hw243 => k0_hw243.1
theorem k0_off244_inb : ∀ (v4774 : BitVec 32) (k0_hw243 : k0_chk243 v4774), ∀ a, (k0_off244 v4774) a + S16x128.size a ≤ S66048x128.size a := fun v4774 k0_hw243 => k0_hw243.2

def k0_off245 (v4775 : BitVec 32) : Fin 2 → Nat :=
  let c3_i32_3161 : BitVec 32 := 3#32
  let v4781 : BitVec 32 := Scalar.shrsi v4775 c3_i32_3161
  let c3_i32_3162 : BitVec 32 := 3#32
  let v4782 : BitVec 32 := Scalar.shli v4781 c3_i32_3162
  let v4783 : BitVec 32 := v4782
  let v4786 : Index := Scalar.indexCast v4783
  let c0_3164 : Index := 0#32
  ![v4786.toNat, 0]

def k0_chk244 (v4775 : BitVec 32) : Prop :=
  (8 ∣ (k0_mult244 v4775).toNat) ∧
  (∀ a, (k0_off245 v4775) a + S16x128.size a ≤ S66048x128.size a)
theorem k0_mult244_dvd : ∀ (v4775 : BitVec 32) (k0_hw244 : k0_chk244 v4775), 8 ∣ (k0_mult244 v4775).toNat := fun v4775 k0_hw244 => k0_hw244.1
theorem k0_off245_inb : ∀ (v4775 : BitVec 32) (k0_hw244 : k0_chk244 v4775), ∀ a, (k0_off245 v4775) a + S16x128.size a ≤ S66048x128.size a := fun v4775 k0_hw244 => k0_hw244.2

def k0_mult245 (v4813 : BitVec 32) : BitVec 32 :=
  let c3_i32_3185 : BitVec 32 := 3#32
  let v4817 : BitVec 32 := Scalar.shrsi v4813 c3_i32_3185
  let c3_i32_3186 : BitVec 32 := 3#32
  let v4818 : BitVec 32 := Scalar.shli v4817 c3_i32_3186
  v4818

def k0_mult246 (v4814 : BitVec 32) : BitVec 32 :=
  let c3_i32_3187 : BitVec 32 := 3#32
  let v4820 : BitVec 32 := Scalar.shrsi v4814 c3_i32_3187
  let c3_i32_3188 : BitVec 32 := 3#32
  let v4821 : BitVec 32 := Scalar.shli v4820 c3_i32_3188
  v4821

def k0_off246 (v4813 : BitVec 32) : Fin 2 → Nat :=
  let c3_i32_3185 : BitVec 32 := 3#32
  let v4817 : BitVec 32 := Scalar.shrsi v4813 c3_i32_3185
  let c3_i32_3186 : BitVec 32 := 3#32
  let v4818 : BitVec 32 := Scalar.shli v4817 c3_i32_3186
  let v4819 : BitVec 32 := v4818
  let v4823 : Index := Scalar.indexCast v4819
  let c0_3189 : Index := 0#32
  ![v4823.toNat, 0]

def k0_chk245 (v4813 : BitVec 32) : Prop :=
  (8 ∣ (k0_mult245 v4813).toNat) ∧
  (∀ a, (k0_off246 v4813) a + S16x128.size a ≤ S66048x128.size a)
theorem k0_mult245_dvd : ∀ (v4813 : BitVec 32) (k0_hw245 : k0_chk245 v4813), 8 ∣ (k0_mult245 v4813).toNat := fun v4813 k0_hw245 => k0_hw245.1
theorem k0_off246_inb : ∀ (v4813 : BitVec 32) (k0_hw245 : k0_chk245 v4813), ∀ a, (k0_off246 v4813) a + S16x128.size a ≤ S66048x128.size a := fun v4813 k0_hw245 => k0_hw245.2

def k0_off247 (v4814 : BitVec 32) : Fin 2 → Nat :=
  let c3_i32_3187 : BitVec 32 := 3#32
  let v4820 : BitVec 32 := Scalar.shrsi v4814 c3_i32_3187
  let c3_i32_3188 : BitVec 32 := 3#32
  let v4821 : BitVec 32 := Scalar.shli v4820 c3_i32_3188
  let v4822 : BitVec 32 := v4821
  let v4825 : Index := Scalar.indexCast v4822
  let c0_3190 : Index := 0#32
  ![v4825.toNat, 0]

def k0_chk246 (v4814 : BitVec 32) : Prop :=
  (8 ∣ (k0_mult246 v4814).toNat) ∧
  (∀ a, (k0_off247 v4814) a + S16x128.size a ≤ S66048x128.size a)
theorem k0_mult246_dvd : ∀ (v4814 : BitVec 32) (k0_hw246 : k0_chk246 v4814), 8 ∣ (k0_mult246 v4814).toNat := fun v4814 k0_hw246 => k0_hw246.1
theorem k0_off247_inb : ∀ (v4814 : BitVec 32) (k0_hw246 : k0_chk246 v4814), ∀ a, (k0_off247 v4814) a + S16x128.size a ≤ S66048x128.size a := fun v4814 k0_hw246 => k0_hw246.2

def k0_mult247 (v4852 : BitVec 32) : BitVec 32 :=
  let c3_i32_3211 : BitVec 32 := 3#32
  let v4856 : BitVec 32 := Scalar.shrsi v4852 c3_i32_3211
  let c3_i32_3212 : BitVec 32 := 3#32
  let v4857 : BitVec 32 := Scalar.shli v4856 c3_i32_3212
  v4857

def k0_mult248 (v4853 : BitVec 32) : BitVec 32 :=
  let c3_i32_3213 : BitVec 32 := 3#32
  let v4859 : BitVec 32 := Scalar.shrsi v4853 c3_i32_3213
  let c3_i32_3214 : BitVec 32 := 3#32
  let v4860 : BitVec 32 := Scalar.shli v4859 c3_i32_3214
  v4860

def k0_off248 (v4852 : BitVec 32) : Fin 2 → Nat :=
  let c3_i32_3211 : BitVec 32 := 3#32
  let v4856 : BitVec 32 := Scalar.shrsi v4852 c3_i32_3211
  let c3_i32_3212 : BitVec 32 := 3#32
  let v4857 : BitVec 32 := Scalar.shli v4856 c3_i32_3212
  let v4858 : BitVec 32 := v4857
  let v4862 : Index := Scalar.indexCast v4858
  let c0_3215 : Index := 0#32
  ![v4862.toNat, 0]

def k0_chk247 (v4852 : BitVec 32) : Prop :=
  (8 ∣ (k0_mult247 v4852).toNat) ∧
  (∀ a, (k0_off248 v4852) a + S16x128.size a ≤ S66048x128.size a)
theorem k0_mult247_dvd : ∀ (v4852 : BitVec 32) (k0_hw247 : k0_chk247 v4852), 8 ∣ (k0_mult247 v4852).toNat := fun v4852 k0_hw247 => k0_hw247.1
theorem k0_off248_inb : ∀ (v4852 : BitVec 32) (k0_hw247 : k0_chk247 v4852), ∀ a, (k0_off248 v4852) a + S16x128.size a ≤ S66048x128.size a := fun v4852 k0_hw247 => k0_hw247.2

def k0_off249 (v4853 : BitVec 32) : Fin 2 → Nat :=
  let c3_i32_3213 : BitVec 32 := 3#32
  let v4859 : BitVec 32 := Scalar.shrsi v4853 c3_i32_3213
  let c3_i32_3214 : BitVec 32 := 3#32
  let v4860 : BitVec 32 := Scalar.shli v4859 c3_i32_3214
  let v4861 : BitVec 32 := v4860
  let v4864 : Index := Scalar.indexCast v4861
  let c0_3216 : Index := 0#32
  ![v4864.toNat, 0]

def k0_chk248 (v4853 : BitVec 32) : Prop :=
  (8 ∣ (k0_mult248 v4853).toNat) ∧
  (∀ a, (k0_off249 v4853) a + S16x128.size a ≤ S66048x128.size a)
theorem k0_mult248_dvd : ∀ (v4853 : BitVec 32) (k0_hw248 : k0_chk248 v4853), 8 ∣ (k0_mult248 v4853).toNat := fun v4853 k0_hw248 => k0_hw248.1
theorem k0_off249_inb : ∀ (v4853 : BitVec 32) (k0_hw248 : k0_chk248 v4853), ∀ a, (k0_off249 v4853) a + S16x128.size a ≤ S66048x128.size a := fun v4853 k0_hw248 => k0_hw248.2

def k0_mult249 (v4891 : BitVec 32) : BitVec 32 :=
  let c3_i32_3237 : BitVec 32 := 3#32
  let v4895 : BitVec 32 := Scalar.shrsi v4891 c3_i32_3237
  let c3_i32_3238 : BitVec 32 := 3#32
  let v4896 : BitVec 32 := Scalar.shli v4895 c3_i32_3238
  v4896

def k0_mult250 (v4892 : BitVec 32) : BitVec 32 :=
  let c3_i32_3239 : BitVec 32 := 3#32
  let v4898 : BitVec 32 := Scalar.shrsi v4892 c3_i32_3239
  let c3_i32_3240 : BitVec 32 := 3#32
  let v4899 : BitVec 32 := Scalar.shli v4898 c3_i32_3240
  v4899

def k0_off250 (v4891 : BitVec 32) : Fin 2 → Nat :=
  let c3_i32_3237 : BitVec 32 := 3#32
  let v4895 : BitVec 32 := Scalar.shrsi v4891 c3_i32_3237
  let c3_i32_3238 : BitVec 32 := 3#32
  let v4896 : BitVec 32 := Scalar.shli v4895 c3_i32_3238
  let v4897 : BitVec 32 := v4896
  let v4901 : Index := Scalar.indexCast v4897
  let c0_3241 : Index := 0#32
  ![v4901.toNat, 0]

def k0_chk249 (v4891 : BitVec 32) : Prop :=
  (8 ∣ (k0_mult249 v4891).toNat) ∧
  (∀ a, (k0_off250 v4891) a + S16x128.size a ≤ S66048x128.size a)
theorem k0_mult249_dvd : ∀ (v4891 : BitVec 32) (k0_hw249 : k0_chk249 v4891), 8 ∣ (k0_mult249 v4891).toNat := fun v4891 k0_hw249 => k0_hw249.1
theorem k0_off250_inb : ∀ (v4891 : BitVec 32) (k0_hw249 : k0_chk249 v4891), ∀ a, (k0_off250 v4891) a + S16x128.size a ≤ S66048x128.size a := fun v4891 k0_hw249 => k0_hw249.2

def k0_off251 (v4892 : BitVec 32) : Fin 2 → Nat :=
  let c3_i32_3239 : BitVec 32 := 3#32
  let v4898 : BitVec 32 := Scalar.shrsi v4892 c3_i32_3239
  let c3_i32_3240 : BitVec 32 := 3#32
  let v4899 : BitVec 32 := Scalar.shli v4898 c3_i32_3240
  let v4900 : BitVec 32 := v4899
  let v4903 : Index := Scalar.indexCast v4900
  let c0_3242 : Index := 0#32
  ![v4903.toNat, 0]

def k0_chk250 (v4892 : BitVec 32) : Prop :=
  (8 ∣ (k0_mult250 v4892).toNat) ∧
  (∀ a, (k0_off251 v4892) a + S16x128.size a ≤ S66048x128.size a)
theorem k0_mult250_dvd : ∀ (v4892 : BitVec 32) (k0_hw250 : k0_chk250 v4892), 8 ∣ (k0_mult250 v4892).toNat := fun v4892 k0_hw250 => k0_hw250.1
theorem k0_off251_inb : ∀ (v4892 : BitVec 32) (k0_hw250 : k0_chk250 v4892), ∀ a, (k0_off251 v4892) a + S16x128.size a ≤ S66048x128.size a := fun v4892 k0_hw250 => k0_hw250.2

def k0_mult251 (v4937 : BitVec 32) : BitVec 32 :=
  let c3_i32_3269 : BitVec 32 := 3#32
  let v4941 : BitVec 32 := Scalar.shrsi v4937 c3_i32_3269
  let c3_i32_3270 : BitVec 32 := 3#32
  let v4942 : BitVec 32 := Scalar.shli v4941 c3_i32_3270
  v4942

def k0_mult252 (v4938 : BitVec 32) : BitVec 32 :=
  let c3_i32_3271 : BitVec 32 := 3#32
  let v4944 : BitVec 32 := Scalar.shrsi v4938 c3_i32_3271
  let c3_i32_3272 : BitVec 32 := 3#32
  let v4945 : BitVec 32 := Scalar.shli v4944 c3_i32_3272
  v4945

def k0_off252 (v4937 : BitVec 32) : Fin 2 → Nat :=
  let c3_i32_3269 : BitVec 32 := 3#32
  let v4941 : BitVec 32 := Scalar.shrsi v4937 c3_i32_3269
  let c3_i32_3270 : BitVec 32 := 3#32
  let v4942 : BitVec 32 := Scalar.shli v4941 c3_i32_3270
  let v4943 : BitVec 32 := v4942
  let v4947 : Index := Scalar.indexCast v4943
  let c0_3273 : Index := 0#32
  ![v4947.toNat, 0]

def k0_chk251 (v4937 : BitVec 32) : Prop :=
  (8 ∣ (k0_mult251 v4937).toNat) ∧
  (∀ a, (k0_off252 v4937) a + S16x128.size a ≤ S66048x128.size a)
theorem k0_mult251_dvd : ∀ (v4937 : BitVec 32) (k0_hw251 : k0_chk251 v4937), 8 ∣ (k0_mult251 v4937).toNat := fun v4937 k0_hw251 => k0_hw251.1
theorem k0_off252_inb : ∀ (v4937 : BitVec 32) (k0_hw251 : k0_chk251 v4937), ∀ a, (k0_off252 v4937) a + S16x128.size a ≤ S66048x128.size a := fun v4937 k0_hw251 => k0_hw251.2

def k0_off253 (v4938 : BitVec 32) : Fin 2 → Nat :=
  let c3_i32_3271 : BitVec 32 := 3#32
  let v4944 : BitVec 32 := Scalar.shrsi v4938 c3_i32_3271
  let c3_i32_3272 : BitVec 32 := 3#32
  let v4945 : BitVec 32 := Scalar.shli v4944 c3_i32_3272
  let v4946 : BitVec 32 := v4945
  let v4949 : Index := Scalar.indexCast v4946
  let c0_3274 : Index := 0#32
  ![v4949.toNat, 0]

def k0_chk252 (v4938 : BitVec 32) : Prop :=
  (8 ∣ (k0_mult252 v4938).toNat) ∧
  (∀ a, (k0_off253 v4938) a + S16x128.size a ≤ S66048x128.size a)
theorem k0_mult252_dvd : ∀ (v4938 : BitVec 32) (k0_hw252 : k0_chk252 v4938), 8 ∣ (k0_mult252 v4938).toNat := fun v4938 k0_hw252 => k0_hw252.1
theorem k0_off253_inb : ∀ (v4938 : BitVec 32) (k0_hw252 : k0_chk252 v4938), ∀ a, (k0_off253 v4938) a + S16x128.size a ≤ S66048x128.size a := fun v4938 k0_hw252 => k0_hw252.2

def k0_mult253 (v4976 : BitVec 32) : BitVec 32 :=
  let c3_i32_3295 : BitVec 32 := 3#32
  let v4980 : BitVec 32 := Scalar.shrsi v4976 c3_i32_3295
  let c3_i32_3296 : BitVec 32 := 3#32
  let v4981 : BitVec 32 := Scalar.shli v4980 c3_i32_3296
  v4981

def k0_mult254 (v4977 : BitVec 32) : BitVec 32 :=
  let c3_i32_3297 : BitVec 32 := 3#32
  let v4983 : BitVec 32 := Scalar.shrsi v4977 c3_i32_3297
  let c3_i32_3298 : BitVec 32 := 3#32
  let v4984 : BitVec 32 := Scalar.shli v4983 c3_i32_3298
  v4984

def k0_off254 (v4976 : BitVec 32) : Fin 2 → Nat :=
  let c3_i32_3295 : BitVec 32 := 3#32
  let v4980 : BitVec 32 := Scalar.shrsi v4976 c3_i32_3295
  let c3_i32_3296 : BitVec 32 := 3#32
  let v4981 : BitVec 32 := Scalar.shli v4980 c3_i32_3296
  let v4982 : BitVec 32 := v4981
  let v4986 : Index := Scalar.indexCast v4982
  let c0_3299 : Index := 0#32
  ![v4986.toNat, 0]

def k0_chk253 (v4976 : BitVec 32) : Prop :=
  (8 ∣ (k0_mult253 v4976).toNat) ∧
  (∀ a, (k0_off254 v4976) a + S16x128.size a ≤ S66048x128.size a)
theorem k0_mult253_dvd : ∀ (v4976 : BitVec 32) (k0_hw253 : k0_chk253 v4976), 8 ∣ (k0_mult253 v4976).toNat := fun v4976 k0_hw253 => k0_hw253.1
theorem k0_off254_inb : ∀ (v4976 : BitVec 32) (k0_hw253 : k0_chk253 v4976), ∀ a, (k0_off254 v4976) a + S16x128.size a ≤ S66048x128.size a := fun v4976 k0_hw253 => k0_hw253.2

def k0_off255 (v4977 : BitVec 32) : Fin 2 → Nat :=
  let c3_i32_3297 : BitVec 32 := 3#32
  let v4983 : BitVec 32 := Scalar.shrsi v4977 c3_i32_3297
  let c3_i32_3298 : BitVec 32 := 3#32
  let v4984 : BitVec 32 := Scalar.shli v4983 c3_i32_3298
  let v4985 : BitVec 32 := v4984
  let v4988 : Index := Scalar.indexCast v4985
  let c0_3300 : Index := 0#32
  ![v4988.toNat, 0]

def k0_chk254 (v4977 : BitVec 32) : Prop :=
  (8 ∣ (k0_mult254 v4977).toNat) ∧
  (∀ a, (k0_off255 v4977) a + S16x128.size a ≤ S66048x128.size a)
theorem k0_mult254_dvd : ∀ (v4977 : BitVec 32) (k0_hw254 : k0_chk254 v4977), 8 ∣ (k0_mult254 v4977).toNat := fun v4977 k0_hw254 => k0_hw254.1
theorem k0_off255_inb : ∀ (v4977 : BitVec 32) (k0_hw254 : k0_chk254 v4977), ∀ a, (k0_off255 v4977) a + S16x128.size a ≤ S66048x128.size a := fun v4977 k0_hw254 => k0_hw254.2

def k0_mult255 (v5015 : BitVec 32) : BitVec 32 :=
  let c3_i32_3321 : BitVec 32 := 3#32
  let v5019 : BitVec 32 := Scalar.shrsi v5015 c3_i32_3321
  let c3_i32_3322 : BitVec 32 := 3#32
  let v5020 : BitVec 32 := Scalar.shli v5019 c3_i32_3322
  v5020

def k0_mult256 (v5016 : BitVec 32) : BitVec 32 :=
  let c3_i32_3323 : BitVec 32 := 3#32
  let v5022 : BitVec 32 := Scalar.shrsi v5016 c3_i32_3323
  let c3_i32_3324 : BitVec 32 := 3#32
  let v5023 : BitVec 32 := Scalar.shli v5022 c3_i32_3324
  v5023

def k0_off256 (v5015 : BitVec 32) : Fin 2 → Nat :=
  let c3_i32_3321 : BitVec 32 := 3#32
  let v5019 : BitVec 32 := Scalar.shrsi v5015 c3_i32_3321
  let c3_i32_3322 : BitVec 32 := 3#32
  let v5020 : BitVec 32 := Scalar.shli v5019 c3_i32_3322
  let v5021 : BitVec 32 := v5020
  let v5025 : Index := Scalar.indexCast v5021
  let c0_3325 : Index := 0#32
  ![v5025.toNat, 0]

def k0_chk255 (v5015 : BitVec 32) : Prop :=
  (8 ∣ (k0_mult255 v5015).toNat) ∧
  (∀ a, (k0_off256 v5015) a + S16x128.size a ≤ S66048x128.size a)
theorem k0_mult255_dvd : ∀ (v5015 : BitVec 32) (k0_hw255 : k0_chk255 v5015), 8 ∣ (k0_mult255 v5015).toNat := fun v5015 k0_hw255 => k0_hw255.1
theorem k0_off256_inb : ∀ (v5015 : BitVec 32) (k0_hw255 : k0_chk255 v5015), ∀ a, (k0_off256 v5015) a + S16x128.size a ≤ S66048x128.size a := fun v5015 k0_hw255 => k0_hw255.2

def k0_off257 (v5016 : BitVec 32) : Fin 2 → Nat :=
  let c3_i32_3323 : BitVec 32 := 3#32
  let v5022 : BitVec 32 := Scalar.shrsi v5016 c3_i32_3323
  let c3_i32_3324 : BitVec 32 := 3#32
  let v5023 : BitVec 32 := Scalar.shli v5022 c3_i32_3324
  let v5024 : BitVec 32 := v5023
  let v5027 : Index := Scalar.indexCast v5024
  let c0_3326 : Index := 0#32
  ![v5027.toNat, 0]

def k0_chk256 (v5016 : BitVec 32) : Prop :=
  (8 ∣ (k0_mult256 v5016).toNat) ∧
  (∀ a, (k0_off257 v5016) a + S16x128.size a ≤ S66048x128.size a)
theorem k0_mult256_dvd : ∀ (v5016 : BitVec 32) (k0_hw256 : k0_chk256 v5016), 8 ∣ (k0_mult256 v5016).toNat := fun v5016 k0_hw256 => k0_hw256.1
theorem k0_off257_inb : ∀ (v5016 : BitVec 32) (k0_hw256 : k0_chk256 v5016), ∀ a, (k0_off257 v5016) a + S16x128.size a ≤ S66048x128.size a := fun v5016 k0_hw256 => k0_hw256.2

def k0_mult257 (v5054 : BitVec 32) : BitVec 32 :=
  let c3_i32_3347 : BitVec 32 := 3#32
  let v5058 : BitVec 32 := Scalar.shrsi v5054 c3_i32_3347
  let c3_i32_3348 : BitVec 32 := 3#32
  let v5059 : BitVec 32 := Scalar.shli v5058 c3_i32_3348
  v5059

def k0_mult258 (v5055 : BitVec 32) : BitVec 32 :=
  let c3_i32_3349 : BitVec 32 := 3#32
  let v5061 : BitVec 32 := Scalar.shrsi v5055 c3_i32_3349
  let c3_i32_3350 : BitVec 32 := 3#32
  let v5062 : BitVec 32 := Scalar.shli v5061 c3_i32_3350
  v5062

def k0_off258 (v5054 : BitVec 32) : Fin 2 → Nat :=
  let c3_i32_3347 : BitVec 32 := 3#32
  let v5058 : BitVec 32 := Scalar.shrsi v5054 c3_i32_3347
  let c3_i32_3348 : BitVec 32 := 3#32
  let v5059 : BitVec 32 := Scalar.shli v5058 c3_i32_3348
  let v5060 : BitVec 32 := v5059
  let v5064 : Index := Scalar.indexCast v5060
  let c0_3351 : Index := 0#32
  ![v5064.toNat, 0]

def k0_chk257 (v5054 : BitVec 32) : Prop :=
  (8 ∣ (k0_mult257 v5054).toNat) ∧
  (∀ a, (k0_off258 v5054) a + S16x128.size a ≤ S66048x128.size a)
theorem k0_mult257_dvd : ∀ (v5054 : BitVec 32) (k0_hw257 : k0_chk257 v5054), 8 ∣ (k0_mult257 v5054).toNat := fun v5054 k0_hw257 => k0_hw257.1
theorem k0_off258_inb : ∀ (v5054 : BitVec 32) (k0_hw257 : k0_chk257 v5054), ∀ a, (k0_off258 v5054) a + S16x128.size a ≤ S66048x128.size a := fun v5054 k0_hw257 => k0_hw257.2

def k0_off259 (v5055 : BitVec 32) : Fin 2 → Nat :=
  let c3_i32_3349 : BitVec 32 := 3#32
  let v5061 : BitVec 32 := Scalar.shrsi v5055 c3_i32_3349
  let c3_i32_3350 : BitVec 32 := 3#32
  let v5062 : BitVec 32 := Scalar.shli v5061 c3_i32_3350
  let v5063 : BitVec 32 := v5062
  let v5066 : Index := Scalar.indexCast v5063
  let c0_3352 : Index := 0#32
  ![v5066.toNat, 0]

def k0_chk258 (v5055 : BitVec 32) : Prop :=
  (8 ∣ (k0_mult258 v5055).toNat) ∧
  (∀ a, (k0_off259 v5055) a + S16x128.size a ≤ S66048x128.size a)
theorem k0_mult258_dvd : ∀ (v5055 : BitVec 32) (k0_hw258 : k0_chk258 v5055), 8 ∣ (k0_mult258 v5055).toNat := fun v5055 k0_hw258 => k0_hw258.1
theorem k0_off259_inb : ∀ (v5055 : BitVec 32) (k0_hw258 : k0_chk258 v5055), ∀ a, (k0_off259 v5055) a + S16x128.size a ≤ S66048x128.size a := fun v5055 k0_hw258 => k0_hw258.2

def k0_mult259 (v5093 : BitVec 32) : BitVec 32 :=
  let c3_i32_3373 : BitVec 32 := 3#32
  let v5097 : BitVec 32 := Scalar.shrsi v5093 c3_i32_3373
  let c3_i32_3374 : BitVec 32 := 3#32
  let v5098 : BitVec 32 := Scalar.shli v5097 c3_i32_3374
  v5098

def k0_mult260 (v5094 : BitVec 32) : BitVec 32 :=
  let c3_i32_3375 : BitVec 32 := 3#32
  let v5100 : BitVec 32 := Scalar.shrsi v5094 c3_i32_3375
  let c3_i32_3376 : BitVec 32 := 3#32
  let v5101 : BitVec 32 := Scalar.shli v5100 c3_i32_3376
  v5101

def k0_off260 (v5093 : BitVec 32) : Fin 2 → Nat :=
  let c3_i32_3373 : BitVec 32 := 3#32
  let v5097 : BitVec 32 := Scalar.shrsi v5093 c3_i32_3373
  let c3_i32_3374 : BitVec 32 := 3#32
  let v5098 : BitVec 32 := Scalar.shli v5097 c3_i32_3374
  let v5099 : BitVec 32 := v5098
  let v5103 : Index := Scalar.indexCast v5099
  let c0_3377 : Index := 0#32
  ![v5103.toNat, 0]

def k0_chk259 (v5093 : BitVec 32) : Prop :=
  (8 ∣ (k0_mult259 v5093).toNat) ∧
  (∀ a, (k0_off260 v5093) a + S16x128.size a ≤ S66048x128.size a)
theorem k0_mult259_dvd : ∀ (v5093 : BitVec 32) (k0_hw259 : k0_chk259 v5093), 8 ∣ (k0_mult259 v5093).toNat := fun v5093 k0_hw259 => k0_hw259.1
theorem k0_off260_inb : ∀ (v5093 : BitVec 32) (k0_hw259 : k0_chk259 v5093), ∀ a, (k0_off260 v5093) a + S16x128.size a ≤ S66048x128.size a := fun v5093 k0_hw259 => k0_hw259.2

def k0_off261 (v5094 : BitVec 32) : Fin 2 → Nat :=
  let c3_i32_3375 : BitVec 32 := 3#32
  let v5100 : BitVec 32 := Scalar.shrsi v5094 c3_i32_3375
  let c3_i32_3376 : BitVec 32 := 3#32
  let v5101 : BitVec 32 := Scalar.shli v5100 c3_i32_3376
  let v5102 : BitVec 32 := v5101
  let v5105 : Index := Scalar.indexCast v5102
  let c0_3378 : Index := 0#32
  ![v5105.toNat, 0]

def k0_chk260 (v5094 : BitVec 32) : Prop :=
  (8 ∣ (k0_mult260 v5094).toNat) ∧
  (∀ a, (k0_off261 v5094) a + S16x128.size a ≤ S66048x128.size a)
theorem k0_mult260_dvd : ∀ (v5094 : BitVec 32) (k0_hw260 : k0_chk260 v5094), 8 ∣ (k0_mult260 v5094).toNat := fun v5094 k0_hw260 => k0_hw260.1
theorem k0_off261_inb : ∀ (v5094 : BitVec 32) (k0_hw260 : k0_chk260 v5094), ∀ a, (k0_off261 v5094) a + S16x128.size a ≤ S66048x128.size a := fun v5094 k0_hw260 => k0_hw260.2

def k0_mult261 (v5132 : BitVec 32) : BitVec 32 :=
  let c3_i32_3399 : BitVec 32 := 3#32
  let v5136 : BitVec 32 := Scalar.shrsi v5132 c3_i32_3399
  let c3_i32_3400 : BitVec 32 := 3#32
  let v5137 : BitVec 32 := Scalar.shli v5136 c3_i32_3400
  v5137

def k0_mult262 (v5133 : BitVec 32) : BitVec 32 :=
  let c3_i32_3401 : BitVec 32 := 3#32
  let v5139 : BitVec 32 := Scalar.shrsi v5133 c3_i32_3401
  let c3_i32_3402 : BitVec 32 := 3#32
  let v5140 : BitVec 32 := Scalar.shli v5139 c3_i32_3402
  v5140

def k0_off262 (v5132 : BitVec 32) : Fin 2 → Nat :=
  let c3_i32_3399 : BitVec 32 := 3#32
  let v5136 : BitVec 32 := Scalar.shrsi v5132 c3_i32_3399
  let c3_i32_3400 : BitVec 32 := 3#32
  let v5137 : BitVec 32 := Scalar.shli v5136 c3_i32_3400
  let v5138 : BitVec 32 := v5137
  let v5142 : Index := Scalar.indexCast v5138
  let c0_3403 : Index := 0#32
  ![v5142.toNat, 0]

def k0_chk261 (v5132 : BitVec 32) : Prop :=
  (8 ∣ (k0_mult261 v5132).toNat) ∧
  (∀ a, (k0_off262 v5132) a + S16x128.size a ≤ S66048x128.size a)
theorem k0_mult261_dvd : ∀ (v5132 : BitVec 32) (k0_hw261 : k0_chk261 v5132), 8 ∣ (k0_mult261 v5132).toNat := fun v5132 k0_hw261 => k0_hw261.1
theorem k0_off262_inb : ∀ (v5132 : BitVec 32) (k0_hw261 : k0_chk261 v5132), ∀ a, (k0_off262 v5132) a + S16x128.size a ≤ S66048x128.size a := fun v5132 k0_hw261 => k0_hw261.2

def k0_off263 (v5133 : BitVec 32) : Fin 2 → Nat :=
  let c3_i32_3401 : BitVec 32 := 3#32
  let v5139 : BitVec 32 := Scalar.shrsi v5133 c3_i32_3401
  let c3_i32_3402 : BitVec 32 := 3#32
  let v5140 : BitVec 32 := Scalar.shli v5139 c3_i32_3402
  let v5141 : BitVec 32 := v5140
  let v5144 : Index := Scalar.indexCast v5141
  let c0_3404 : Index := 0#32
  ![v5144.toNat, 0]

def k0_chk262 (v5133 : BitVec 32) : Prop :=
  (8 ∣ (k0_mult262 v5133).toNat) ∧
  (∀ a, (k0_off263 v5133) a + S16x128.size a ≤ S66048x128.size a)
theorem k0_mult262_dvd : ∀ (v5133 : BitVec 32) (k0_hw262 : k0_chk262 v5133), 8 ∣ (k0_mult262 v5133).toNat := fun v5133 k0_hw262 => k0_hw262.1
theorem k0_off263_inb : ∀ (v5133 : BitVec 32) (k0_hw262 : k0_chk262 v5133), ∀ a, (k0_off263 v5133) a + S16x128.size a ≤ S66048x128.size a := fun v5133 k0_hw262 => k0_hw262.2

def k0_mult263 (v5171 : BitVec 32) : BitVec 32 :=
  let c3_i32_3425 : BitVec 32 := 3#32
  let v5175 : BitVec 32 := Scalar.shrsi v5171 c3_i32_3425
  let c3_i32_3426 : BitVec 32 := 3#32
  let v5176 : BitVec 32 := Scalar.shli v5175 c3_i32_3426
  v5176

def k0_mult264 (v5172 : BitVec 32) : BitVec 32 :=
  let c3_i32_3427 : BitVec 32 := 3#32
  let v5178 : BitVec 32 := Scalar.shrsi v5172 c3_i32_3427
  let c3_i32_3428 : BitVec 32 := 3#32
  let v5179 : BitVec 32 := Scalar.shli v5178 c3_i32_3428
  v5179

def k0_off264 (v5171 : BitVec 32) : Fin 2 → Nat :=
  let c3_i32_3425 : BitVec 32 := 3#32
  let v5175 : BitVec 32 := Scalar.shrsi v5171 c3_i32_3425
  let c3_i32_3426 : BitVec 32 := 3#32
  let v5176 : BitVec 32 := Scalar.shli v5175 c3_i32_3426
  let v5177 : BitVec 32 := v5176
  let v5181 : Index := Scalar.indexCast v5177
  let c0_3429 : Index := 0#32
  ![v5181.toNat, 0]

def k0_chk263 (v5171 : BitVec 32) : Prop :=
  (8 ∣ (k0_mult263 v5171).toNat) ∧
  (∀ a, (k0_off264 v5171) a + S16x128.size a ≤ S66048x128.size a)
theorem k0_mult263_dvd : ∀ (v5171 : BitVec 32) (k0_hw263 : k0_chk263 v5171), 8 ∣ (k0_mult263 v5171).toNat := fun v5171 k0_hw263 => k0_hw263.1
theorem k0_off264_inb : ∀ (v5171 : BitVec 32) (k0_hw263 : k0_chk263 v5171), ∀ a, (k0_off264 v5171) a + S16x128.size a ≤ S66048x128.size a := fun v5171 k0_hw263 => k0_hw263.2

def k0_off265 (v5172 : BitVec 32) : Fin 2 → Nat :=
  let c3_i32_3427 : BitVec 32 := 3#32
  let v5178 : BitVec 32 := Scalar.shrsi v5172 c3_i32_3427
  let c3_i32_3428 : BitVec 32 := 3#32
  let v5179 : BitVec 32 := Scalar.shli v5178 c3_i32_3428
  let v5180 : BitVec 32 := v5179
  let v5183 : Index := Scalar.indexCast v5180
  let c0_3430 : Index := 0#32
  ![v5183.toNat, 0]

def k0_chk264 (v5172 : BitVec 32) : Prop :=
  (8 ∣ (k0_mult264 v5172).toNat) ∧
  (∀ a, (k0_off265 v5172) a + S16x128.size a ≤ S66048x128.size a)
theorem k0_mult264_dvd : ∀ (v5172 : BitVec 32) (k0_hw264 : k0_chk264 v5172), 8 ∣ (k0_mult264 v5172).toNat := fun v5172 k0_hw264 => k0_hw264.1
theorem k0_off265_inb : ∀ (v5172 : BitVec 32) (k0_hw264 : k0_chk264 v5172), ∀ a, (k0_off265 v5172) a + S16x128.size a ≤ S66048x128.size a := fun v5172 k0_hw264 => k0_hw264.2

def k0_mult265 (v5210 : BitVec 32) : BitVec 32 :=
  let c3_i32_3451 : BitVec 32 := 3#32
  let v5214 : BitVec 32 := Scalar.shrsi v5210 c3_i32_3451
  let c3_i32_3452 : BitVec 32 := 3#32
  let v5215 : BitVec 32 := Scalar.shli v5214 c3_i32_3452
  v5215

def k0_mult266 (v5211 : BitVec 32) : BitVec 32 :=
  let c3_i32_3453 : BitVec 32 := 3#32
  let v5217 : BitVec 32 := Scalar.shrsi v5211 c3_i32_3453
  let c3_i32_3454 : BitVec 32 := 3#32
  let v5218 : BitVec 32 := Scalar.shli v5217 c3_i32_3454
  v5218

def k0_off266 (v5210 : BitVec 32) : Fin 2 → Nat :=
  let c3_i32_3451 : BitVec 32 := 3#32
  let v5214 : BitVec 32 := Scalar.shrsi v5210 c3_i32_3451
  let c3_i32_3452 : BitVec 32 := 3#32
  let v5215 : BitVec 32 := Scalar.shli v5214 c3_i32_3452
  let v5216 : BitVec 32 := v5215
  let v5220 : Index := Scalar.indexCast v5216
  let c0_3455 : Index := 0#32
  ![v5220.toNat, 0]

def k0_chk265 (v5210 : BitVec 32) : Prop :=
  (8 ∣ (k0_mult265 v5210).toNat) ∧
  (∀ a, (k0_off266 v5210) a + S16x128.size a ≤ S66048x128.size a)
theorem k0_mult265_dvd : ∀ (v5210 : BitVec 32) (k0_hw265 : k0_chk265 v5210), 8 ∣ (k0_mult265 v5210).toNat := fun v5210 k0_hw265 => k0_hw265.1
theorem k0_off266_inb : ∀ (v5210 : BitVec 32) (k0_hw265 : k0_chk265 v5210), ∀ a, (k0_off266 v5210) a + S16x128.size a ≤ S66048x128.size a := fun v5210 k0_hw265 => k0_hw265.2

def k0_off267 (v5211 : BitVec 32) : Fin 2 → Nat :=
  let c3_i32_3453 : BitVec 32 := 3#32
  let v5217 : BitVec 32 := Scalar.shrsi v5211 c3_i32_3453
  let c3_i32_3454 : BitVec 32 := 3#32
  let v5218 : BitVec 32 := Scalar.shli v5217 c3_i32_3454
  let v5219 : BitVec 32 := v5218
  let v5222 : Index := Scalar.indexCast v5219
  let c0_3456 : Index := 0#32
  ![v5222.toNat, 0]

def k0_chk266 (v5211 : BitVec 32) : Prop :=
  (8 ∣ (k0_mult266 v5211).toNat) ∧
  (∀ a, (k0_off267 v5211) a + S16x128.size a ≤ S66048x128.size a)
theorem k0_mult266_dvd : ∀ (v5211 : BitVec 32) (k0_hw266 : k0_chk266 v5211), 8 ∣ (k0_mult266 v5211).toNat := fun v5211 k0_hw266 => k0_hw266.1
theorem k0_off267_inb : ∀ (v5211 : BitVec 32) (k0_hw266 : k0_chk266 v5211), ∀ a, (k0_off267 v5211) a + S16x128.size a ≤ S66048x128.size a := fun v5211 k0_hw266 => k0_hw266.2

def k0_mult267 (v5249 : BitVec 32) : BitVec 32 :=
  let c3_i32_3477 : BitVec 32 := 3#32
  let v5253 : BitVec 32 := Scalar.shrsi v5249 c3_i32_3477
  let c3_i32_3478 : BitVec 32 := 3#32
  let v5254 : BitVec 32 := Scalar.shli v5253 c3_i32_3478
  v5254

def k0_mult268 (v5250 : BitVec 32) : BitVec 32 :=
  let c3_i32_3479 : BitVec 32 := 3#32
  let v5256 : BitVec 32 := Scalar.shrsi v5250 c3_i32_3479
  let c3_i32_3480 : BitVec 32 := 3#32
  let v5257 : BitVec 32 := Scalar.shli v5256 c3_i32_3480
  v5257

def k0_off268 (v5249 : BitVec 32) : Fin 2 → Nat :=
  let c3_i32_3477 : BitVec 32 := 3#32
  let v5253 : BitVec 32 := Scalar.shrsi v5249 c3_i32_3477
  let c3_i32_3478 : BitVec 32 := 3#32
  let v5254 : BitVec 32 := Scalar.shli v5253 c3_i32_3478
  let v5255 : BitVec 32 := v5254
  let v5259 : Index := Scalar.indexCast v5255
  let c0_3481 : Index := 0#32
  ![v5259.toNat, 0]

def k0_chk267 (v5249 : BitVec 32) : Prop :=
  (8 ∣ (k0_mult267 v5249).toNat) ∧
  (∀ a, (k0_off268 v5249) a + S16x128.size a ≤ S66048x128.size a)
theorem k0_mult267_dvd : ∀ (v5249 : BitVec 32) (k0_hw267 : k0_chk267 v5249), 8 ∣ (k0_mult267 v5249).toNat := fun v5249 k0_hw267 => k0_hw267.1
theorem k0_off268_inb : ∀ (v5249 : BitVec 32) (k0_hw267 : k0_chk267 v5249), ∀ a, (k0_off268 v5249) a + S16x128.size a ≤ S66048x128.size a := fun v5249 k0_hw267 => k0_hw267.2

def k0_off269 (v5250 : BitVec 32) : Fin 2 → Nat :=
  let c3_i32_3479 : BitVec 32 := 3#32
  let v5256 : BitVec 32 := Scalar.shrsi v5250 c3_i32_3479
  let c3_i32_3480 : BitVec 32 := 3#32
  let v5257 : BitVec 32 := Scalar.shli v5256 c3_i32_3480
  let v5258 : BitVec 32 := v5257
  let v5261 : Index := Scalar.indexCast v5258
  let c0_3482 : Index := 0#32
  ![v5261.toNat, 0]

def k0_chk268 (v5250 : BitVec 32) : Prop :=
  (8 ∣ (k0_mult268 v5250).toNat) ∧
  (∀ a, (k0_off269 v5250) a + S16x128.size a ≤ S66048x128.size a)
theorem k0_mult268_dvd : ∀ (v5250 : BitVec 32) (k0_hw268 : k0_chk268 v5250), 8 ∣ (k0_mult268 v5250).toNat := fun v5250 k0_hw268 => k0_hw268.1
theorem k0_off269_inb : ∀ (v5250 : BitVec 32) (k0_hw268 : k0_chk268 v5250), ∀ a, (k0_off269 v5250) a + S16x128.size a ≤ S66048x128.size a := fun v5250 k0_hw268 => k0_hw268.2

def k0_mult269 (v5288 : BitVec 32) : BitVec 32 :=
  let c3_i32_3503 : BitVec 32 := 3#32
  let v5292 : BitVec 32 := Scalar.shrsi v5288 c3_i32_3503
  let c3_i32_3504 : BitVec 32 := 3#32
  let v5293 : BitVec 32 := Scalar.shli v5292 c3_i32_3504
  v5293

def k0_mult270 (v5289 : BitVec 32) : BitVec 32 :=
  let c3_i32_3505 : BitVec 32 := 3#32
  let v5295 : BitVec 32 := Scalar.shrsi v5289 c3_i32_3505
  let c3_i32_3506 : BitVec 32 := 3#32
  let v5296 : BitVec 32 := Scalar.shli v5295 c3_i32_3506
  v5296

def k0_off270 (v5288 : BitVec 32) : Fin 2 → Nat :=
  let c3_i32_3503 : BitVec 32 := 3#32
  let v5292 : BitVec 32 := Scalar.shrsi v5288 c3_i32_3503
  let c3_i32_3504 : BitVec 32 := 3#32
  let v5293 : BitVec 32 := Scalar.shli v5292 c3_i32_3504
  let v5294 : BitVec 32 := v5293
  let v5298 : Index := Scalar.indexCast v5294
  let c0_3507 : Index := 0#32
  ![v5298.toNat, 0]

def k0_chk269 (v5288 : BitVec 32) : Prop :=
  (8 ∣ (k0_mult269 v5288).toNat) ∧
  (∀ a, (k0_off270 v5288) a + S16x128.size a ≤ S66048x128.size a)
theorem k0_mult269_dvd : ∀ (v5288 : BitVec 32) (k0_hw269 : k0_chk269 v5288), 8 ∣ (k0_mult269 v5288).toNat := fun v5288 k0_hw269 => k0_hw269.1
theorem k0_off270_inb : ∀ (v5288 : BitVec 32) (k0_hw269 : k0_chk269 v5288), ∀ a, (k0_off270 v5288) a + S16x128.size a ≤ S66048x128.size a := fun v5288 k0_hw269 => k0_hw269.2

def k0_off271 (v5289 : BitVec 32) : Fin 2 → Nat :=
  let c3_i32_3505 : BitVec 32 := 3#32
  let v5295 : BitVec 32 := Scalar.shrsi v5289 c3_i32_3505
  let c3_i32_3506 : BitVec 32 := 3#32
  let v5296 : BitVec 32 := Scalar.shli v5295 c3_i32_3506
  let v5297 : BitVec 32 := v5296
  let v5300 : Index := Scalar.indexCast v5297
  let c0_3508 : Index := 0#32
  ![v5300.toNat, 0]

def k0_chk270 (v5289 : BitVec 32) : Prop :=
  (8 ∣ (k0_mult270 v5289).toNat) ∧
  (∀ a, (k0_off271 v5289) a + S16x128.size a ≤ S66048x128.size a)
theorem k0_mult270_dvd : ∀ (v5289 : BitVec 32) (k0_hw270 : k0_chk270 v5289), 8 ∣ (k0_mult270 v5289).toNat := fun v5289 k0_hw270 => k0_hw270.1
theorem k0_off271_inb : ∀ (v5289 : BitVec 32) (k0_hw270 : k0_chk270 v5289), ∀ a, (k0_off271 v5289) a + S16x128.size a ≤ S66048x128.size a := fun v5289 k0_hw270 => k0_hw270.2

def k0_mult271 (v5327 : BitVec 32) : BitVec 32 :=
  let c3_i32_3529 : BitVec 32 := 3#32
  let v5331 : BitVec 32 := Scalar.shrsi v5327 c3_i32_3529
  let c3_i32_3530 : BitVec 32 := 3#32
  let v5332 : BitVec 32 := Scalar.shli v5331 c3_i32_3530
  v5332

def k0_mult272 (v5328 : BitVec 32) : BitVec 32 :=
  let c3_i32_3531 : BitVec 32 := 3#32
  let v5334 : BitVec 32 := Scalar.shrsi v5328 c3_i32_3531
  let c3_i32_3532 : BitVec 32 := 3#32
  let v5335 : BitVec 32 := Scalar.shli v5334 c3_i32_3532
  v5335

def k0_off272 (v5327 : BitVec 32) : Fin 2 → Nat :=
  let c3_i32_3529 : BitVec 32 := 3#32
  let v5331 : BitVec 32 := Scalar.shrsi v5327 c3_i32_3529
  let c3_i32_3530 : BitVec 32 := 3#32
  let v5332 : BitVec 32 := Scalar.shli v5331 c3_i32_3530
  let v5333 : BitVec 32 := v5332
  let v5337 : Index := Scalar.indexCast v5333
  let c0_3533 : Index := 0#32
  ![v5337.toNat, 0]

def k0_chk271 (v5327 : BitVec 32) : Prop :=
  (8 ∣ (k0_mult271 v5327).toNat) ∧
  (∀ a, (k0_off272 v5327) a + S16x128.size a ≤ S66048x128.size a)
theorem k0_mult271_dvd : ∀ (v5327 : BitVec 32) (k0_hw271 : k0_chk271 v5327), 8 ∣ (k0_mult271 v5327).toNat := fun v5327 k0_hw271 => k0_hw271.1
theorem k0_off272_inb : ∀ (v5327 : BitVec 32) (k0_hw271 : k0_chk271 v5327), ∀ a, (k0_off272 v5327) a + S16x128.size a ≤ S66048x128.size a := fun v5327 k0_hw271 => k0_hw271.2

def k0_off273 (v5328 : BitVec 32) : Fin 2 → Nat :=
  let c3_i32_3531 : BitVec 32 := 3#32
  let v5334 : BitVec 32 := Scalar.shrsi v5328 c3_i32_3531
  let c3_i32_3532 : BitVec 32 := 3#32
  let v5335 : BitVec 32 := Scalar.shli v5334 c3_i32_3532
  let v5336 : BitVec 32 := v5335
  let v5339 : Index := Scalar.indexCast v5336
  let c0_3534 : Index := 0#32
  ![v5339.toNat, 0]

def k0_chk272 (v5328 : BitVec 32) : Prop :=
  (8 ∣ (k0_mult272 v5328).toNat) ∧
  (∀ a, (k0_off273 v5328) a + S16x128.size a ≤ S66048x128.size a)
theorem k0_mult272_dvd : ∀ (v5328 : BitVec 32) (k0_hw272 : k0_chk272 v5328), 8 ∣ (k0_mult272 v5328).toNat := fun v5328 k0_hw272 => k0_hw272.1
theorem k0_off273_inb : ∀ (v5328 : BitVec 32) (k0_hw272 : k0_chk272 v5328), ∀ a, (k0_off273 v5328) a + S16x128.size a ≤ S66048x128.size a := fun v5328 k0_hw272 => k0_hw272.2

def k0_mult273 (v5366 : BitVec 32) : BitVec 32 :=
  let c3_i32_3555 : BitVec 32 := 3#32
  let v5370 : BitVec 32 := Scalar.shrsi v5366 c3_i32_3555
  let c3_i32_3556 : BitVec 32 := 3#32
  let v5371 : BitVec 32 := Scalar.shli v5370 c3_i32_3556
  v5371

def k0_mult274 (v5367 : BitVec 32) : BitVec 32 :=
  let c3_i32_3557 : BitVec 32 := 3#32
  let v5373 : BitVec 32 := Scalar.shrsi v5367 c3_i32_3557
  let c3_i32_3558 : BitVec 32 := 3#32
  let v5374 : BitVec 32 := Scalar.shli v5373 c3_i32_3558
  v5374

def k0_off274 (v5366 : BitVec 32) : Fin 2 → Nat :=
  let c3_i32_3555 : BitVec 32 := 3#32
  let v5370 : BitVec 32 := Scalar.shrsi v5366 c3_i32_3555
  let c3_i32_3556 : BitVec 32 := 3#32
  let v5371 : BitVec 32 := Scalar.shli v5370 c3_i32_3556
  let v5372 : BitVec 32 := v5371
  let v5376 : Index := Scalar.indexCast v5372
  let c0_3559 : Index := 0#32
  ![v5376.toNat, 0]

def k0_chk273 (v5366 : BitVec 32) : Prop :=
  (8 ∣ (k0_mult273 v5366).toNat) ∧
  (∀ a, (k0_off274 v5366) a + S16x128.size a ≤ S66048x128.size a)
theorem k0_mult273_dvd : ∀ (v5366 : BitVec 32) (k0_hw273 : k0_chk273 v5366), 8 ∣ (k0_mult273 v5366).toNat := fun v5366 k0_hw273 => k0_hw273.1
theorem k0_off274_inb : ∀ (v5366 : BitVec 32) (k0_hw273 : k0_chk273 v5366), ∀ a, (k0_off274 v5366) a + S16x128.size a ≤ S66048x128.size a := fun v5366 k0_hw273 => k0_hw273.2

def k0_off275 (v5367 : BitVec 32) : Fin 2 → Nat :=
  let c3_i32_3557 : BitVec 32 := 3#32
  let v5373 : BitVec 32 := Scalar.shrsi v5367 c3_i32_3557
  let c3_i32_3558 : BitVec 32 := 3#32
  let v5374 : BitVec 32 := Scalar.shli v5373 c3_i32_3558
  let v5375 : BitVec 32 := v5374
  let v5378 : Index := Scalar.indexCast v5375
  let c0_3560 : Index := 0#32
  ![v5378.toNat, 0]

def k0_chk274 (v5367 : BitVec 32) : Prop :=
  (8 ∣ (k0_mult274 v5367).toNat) ∧
  (∀ a, (k0_off275 v5367) a + S16x128.size a ≤ S66048x128.size a)
theorem k0_mult274_dvd : ∀ (v5367 : BitVec 32) (k0_hw274 : k0_chk274 v5367), 8 ∣ (k0_mult274 v5367).toNat := fun v5367 k0_hw274 => k0_hw274.1
theorem k0_off275_inb : ∀ (v5367 : BitVec 32) (k0_hw274 : k0_chk274 v5367), ∀ a, (k0_off275 v5367) a + S16x128.size a ≤ S66048x128.size a := fun v5367 k0_hw274 => k0_hw274.2

def k0_mult275 (v5405 : BitVec 32) : BitVec 32 :=
  let c3_i32_3581 : BitVec 32 := 3#32
  let v5409 : BitVec 32 := Scalar.shrsi v5405 c3_i32_3581
  let c3_i32_3582 : BitVec 32 := 3#32
  let v5410 : BitVec 32 := Scalar.shli v5409 c3_i32_3582
  v5410

def k0_mult276 (v5406 : BitVec 32) : BitVec 32 :=
  let c3_i32_3583 : BitVec 32 := 3#32
  let v5412 : BitVec 32 := Scalar.shrsi v5406 c3_i32_3583
  let c3_i32_3584 : BitVec 32 := 3#32
  let v5413 : BitVec 32 := Scalar.shli v5412 c3_i32_3584
  v5413

def k0_off276 (v5405 : BitVec 32) : Fin 2 → Nat :=
  let c3_i32_3581 : BitVec 32 := 3#32
  let v5409 : BitVec 32 := Scalar.shrsi v5405 c3_i32_3581
  let c3_i32_3582 : BitVec 32 := 3#32
  let v5410 : BitVec 32 := Scalar.shli v5409 c3_i32_3582
  let v5411 : BitVec 32 := v5410
  let v5415 : Index := Scalar.indexCast v5411
  let c0_3585 : Index := 0#32
  ![v5415.toNat, 0]

def k0_chk275 (v5405 : BitVec 32) : Prop :=
  (8 ∣ (k0_mult275 v5405).toNat) ∧
  (∀ a, (k0_off276 v5405) a + S16x128.size a ≤ S66048x128.size a)
theorem k0_mult275_dvd : ∀ (v5405 : BitVec 32) (k0_hw275 : k0_chk275 v5405), 8 ∣ (k0_mult275 v5405).toNat := fun v5405 k0_hw275 => k0_hw275.1
theorem k0_off276_inb : ∀ (v5405 : BitVec 32) (k0_hw275 : k0_chk275 v5405), ∀ a, (k0_off276 v5405) a + S16x128.size a ≤ S66048x128.size a := fun v5405 k0_hw275 => k0_hw275.2

def k0_off277 (v5406 : BitVec 32) : Fin 2 → Nat :=
  let c3_i32_3583 : BitVec 32 := 3#32
  let v5412 : BitVec 32 := Scalar.shrsi v5406 c3_i32_3583
  let c3_i32_3584 : BitVec 32 := 3#32
  let v5413 : BitVec 32 := Scalar.shli v5412 c3_i32_3584
  let v5414 : BitVec 32 := v5413
  let v5417 : Index := Scalar.indexCast v5414
  let c0_3586 : Index := 0#32
  ![v5417.toNat, 0]

def k0_chk276 (v5406 : BitVec 32) : Prop :=
  (8 ∣ (k0_mult276 v5406).toNat) ∧
  (∀ a, (k0_off277 v5406) a + S16x128.size a ≤ S66048x128.size a)
theorem k0_mult276_dvd : ∀ (v5406 : BitVec 32) (k0_hw276 : k0_chk276 v5406), 8 ∣ (k0_mult276 v5406).toNat := fun v5406 k0_hw276 => k0_hw276.1
theorem k0_off277_inb : ∀ (v5406 : BitVec 32) (k0_hw276 : k0_chk276 v5406), ∀ a, (k0_off277 v5406) a + S16x128.size a ≤ S66048x128.size a := fun v5406 k0_hw276 => k0_hw276.2

def k0_mult277 (v5444 : BitVec 32) : BitVec 32 :=
  let c3_i32_3607 : BitVec 32 := 3#32
  let v5448 : BitVec 32 := Scalar.shrsi v5444 c3_i32_3607
  let c3_i32_3608 : BitVec 32 := 3#32
  let v5449 : BitVec 32 := Scalar.shli v5448 c3_i32_3608
  v5449

def k0_mult278 (v5445 : BitVec 32) : BitVec 32 :=
  let c3_i32_3609 : BitVec 32 := 3#32
  let v5451 : BitVec 32 := Scalar.shrsi v5445 c3_i32_3609
  let c3_i32_3610 : BitVec 32 := 3#32
  let v5452 : BitVec 32 := Scalar.shli v5451 c3_i32_3610
  v5452

def k0_off278 (v5444 : BitVec 32) : Fin 2 → Nat :=
  let c3_i32_3607 : BitVec 32 := 3#32
  let v5448 : BitVec 32 := Scalar.shrsi v5444 c3_i32_3607
  let c3_i32_3608 : BitVec 32 := 3#32
  let v5449 : BitVec 32 := Scalar.shli v5448 c3_i32_3608
  let v5450 : BitVec 32 := v5449
  let v5454 : Index := Scalar.indexCast v5450
  let c0_3611 : Index := 0#32
  ![v5454.toNat, 0]

def k0_chk277 (v5444 : BitVec 32) : Prop :=
  (8 ∣ (k0_mult277 v5444).toNat) ∧
  (∀ a, (k0_off278 v5444) a + S16x128.size a ≤ S66048x128.size a)
theorem k0_mult277_dvd : ∀ (v5444 : BitVec 32) (k0_hw277 : k0_chk277 v5444), 8 ∣ (k0_mult277 v5444).toNat := fun v5444 k0_hw277 => k0_hw277.1
theorem k0_off278_inb : ∀ (v5444 : BitVec 32) (k0_hw277 : k0_chk277 v5444), ∀ a, (k0_off278 v5444) a + S16x128.size a ≤ S66048x128.size a := fun v5444 k0_hw277 => k0_hw277.2

def k0_off279 (v5445 : BitVec 32) : Fin 2 → Nat :=
  let c3_i32_3609 : BitVec 32 := 3#32
  let v5451 : BitVec 32 := Scalar.shrsi v5445 c3_i32_3609
  let c3_i32_3610 : BitVec 32 := 3#32
  let v5452 : BitVec 32 := Scalar.shli v5451 c3_i32_3610
  let v5453 : BitVec 32 := v5452
  let v5456 : Index := Scalar.indexCast v5453
  let c0_3612 : Index := 0#32
  ![v5456.toNat, 0]

def k0_chk278 (v5445 : BitVec 32) : Prop :=
  (8 ∣ (k0_mult278 v5445).toNat) ∧
  (∀ a, (k0_off279 v5445) a + S16x128.size a ≤ S66048x128.size a)
theorem k0_mult278_dvd : ∀ (v5445 : BitVec 32) (k0_hw278 : k0_chk278 v5445), 8 ∣ (k0_mult278 v5445).toNat := fun v5445 k0_hw278 => k0_hw278.1
theorem k0_off279_inb : ∀ (v5445 : BitVec 32) (k0_hw278 : k0_chk278 v5445), ∀ a, (k0_off279 v5445) a + S16x128.size a ≤ S66048x128.size a := fun v5445 k0_hw278 => k0_hw278.2

def k0_mult279 (v5483 : BitVec 32) : BitVec 32 :=
  let c3_i32_3633 : BitVec 32 := 3#32
  let v5487 : BitVec 32 := Scalar.shrsi v5483 c3_i32_3633
  let c3_i32_3634 : BitVec 32 := 3#32
  let v5488 : BitVec 32 := Scalar.shli v5487 c3_i32_3634
  v5488

def k0_mult280 (v5484 : BitVec 32) : BitVec 32 :=
  let c3_i32_3635 : BitVec 32 := 3#32
  let v5490 : BitVec 32 := Scalar.shrsi v5484 c3_i32_3635
  let c3_i32_3636 : BitVec 32 := 3#32
  let v5491 : BitVec 32 := Scalar.shli v5490 c3_i32_3636
  v5491

def k0_off280 (v5483 : BitVec 32) : Fin 2 → Nat :=
  let c3_i32_3633 : BitVec 32 := 3#32
  let v5487 : BitVec 32 := Scalar.shrsi v5483 c3_i32_3633
  let c3_i32_3634 : BitVec 32 := 3#32
  let v5488 : BitVec 32 := Scalar.shli v5487 c3_i32_3634
  let v5489 : BitVec 32 := v5488
  let v5493 : Index := Scalar.indexCast v5489
  let c0_3637 : Index := 0#32
  ![v5493.toNat, 0]

def k0_chk279 (v5483 : BitVec 32) : Prop :=
  (8 ∣ (k0_mult279 v5483).toNat) ∧
  (∀ a, (k0_off280 v5483) a + S16x128.size a ≤ S66048x128.size a)
theorem k0_mult279_dvd : ∀ (v5483 : BitVec 32) (k0_hw279 : k0_chk279 v5483), 8 ∣ (k0_mult279 v5483).toNat := fun v5483 k0_hw279 => k0_hw279.1
theorem k0_off280_inb : ∀ (v5483 : BitVec 32) (k0_hw279 : k0_chk279 v5483), ∀ a, (k0_off280 v5483) a + S16x128.size a ≤ S66048x128.size a := fun v5483 k0_hw279 => k0_hw279.2

def k0_off281 (v5484 : BitVec 32) : Fin 2 → Nat :=
  let c3_i32_3635 : BitVec 32 := 3#32
  let v5490 : BitVec 32 := Scalar.shrsi v5484 c3_i32_3635
  let c3_i32_3636 : BitVec 32 := 3#32
  let v5491 : BitVec 32 := Scalar.shli v5490 c3_i32_3636
  let v5492 : BitVec 32 := v5491
  let v5495 : Index := Scalar.indexCast v5492
  let c0_3638 : Index := 0#32
  ![v5495.toNat, 0]

def k0_chk280 (v5484 : BitVec 32) : Prop :=
  (8 ∣ (k0_mult280 v5484).toNat) ∧
  (∀ a, (k0_off281 v5484) a + S16x128.size a ≤ S66048x128.size a)
theorem k0_mult280_dvd : ∀ (v5484 : BitVec 32) (k0_hw280 : k0_chk280 v5484), 8 ∣ (k0_mult280 v5484).toNat := fun v5484 k0_hw280 => k0_hw280.1
theorem k0_off281_inb : ∀ (v5484 : BitVec 32) (k0_hw280 : k0_chk280 v5484), ∀ a, (k0_off281 v5484) a + S16x128.size a ≤ S66048x128.size a := fun v5484 k0_hw280 => k0_hw280.2

def k0_mult281 (v5522 : BitVec 32) : BitVec 32 :=
  let c3_i32_3659 : BitVec 32 := 3#32
  let v5526 : BitVec 32 := Scalar.shrsi v5522 c3_i32_3659
  let c3_i32_3660 : BitVec 32 := 3#32
  let v5527 : BitVec 32 := Scalar.shli v5526 c3_i32_3660
  v5527

def k0_mult282 (v5523 : BitVec 32) : BitVec 32 :=
  let c3_i32_3661 : BitVec 32 := 3#32
  let v5529 : BitVec 32 := Scalar.shrsi v5523 c3_i32_3661
  let c3_i32_3662 : BitVec 32 := 3#32
  let v5530 : BitVec 32 := Scalar.shli v5529 c3_i32_3662
  v5530

def k0_off282 (v5522 : BitVec 32) : Fin 2 → Nat :=
  let c3_i32_3659 : BitVec 32 := 3#32
  let v5526 : BitVec 32 := Scalar.shrsi v5522 c3_i32_3659
  let c3_i32_3660 : BitVec 32 := 3#32
  let v5527 : BitVec 32 := Scalar.shli v5526 c3_i32_3660
  let v5528 : BitVec 32 := v5527
  let v5532 : Index := Scalar.indexCast v5528
  let c0_3663 : Index := 0#32
  ![v5532.toNat, 0]

def k0_chk281 (v5522 : BitVec 32) : Prop :=
  (8 ∣ (k0_mult281 v5522).toNat) ∧
  (∀ a, (k0_off282 v5522) a + S16x128.size a ≤ S66048x128.size a)
theorem k0_mult281_dvd : ∀ (v5522 : BitVec 32) (k0_hw281 : k0_chk281 v5522), 8 ∣ (k0_mult281 v5522).toNat := fun v5522 k0_hw281 => k0_hw281.1
theorem k0_off282_inb : ∀ (v5522 : BitVec 32) (k0_hw281 : k0_chk281 v5522), ∀ a, (k0_off282 v5522) a + S16x128.size a ≤ S66048x128.size a := fun v5522 k0_hw281 => k0_hw281.2

def k0_off283 (v5523 : BitVec 32) : Fin 2 → Nat :=
  let c3_i32_3661 : BitVec 32 := 3#32
  let v5529 : BitVec 32 := Scalar.shrsi v5523 c3_i32_3661
  let c3_i32_3662 : BitVec 32 := 3#32
  let v5530 : BitVec 32 := Scalar.shli v5529 c3_i32_3662
  let v5531 : BitVec 32 := v5530
  let v5534 : Index := Scalar.indexCast v5531
  let c0_3664 : Index := 0#32
  ![v5534.toNat, 0]

def k0_chk282 (v5523 : BitVec 32) : Prop :=
  (8 ∣ (k0_mult282 v5523).toNat) ∧
  (∀ a, (k0_off283 v5523) a + S16x128.size a ≤ S66048x128.size a)
theorem k0_mult282_dvd : ∀ (v5523 : BitVec 32) (k0_hw282 : k0_chk282 v5523), 8 ∣ (k0_mult282 v5523).toNat := fun v5523 k0_hw282 => k0_hw282.1
theorem k0_off283_inb : ∀ (v5523 : BitVec 32) (k0_hw282 : k0_chk282 v5523), ∀ a, (k0_off283 v5523) a + S16x128.size a ≤ S66048x128.size a := fun v5523 k0_hw282 => k0_hw282.2

def k0_mult283 (v5561 : BitVec 32) : BitVec 32 :=
  let c3_i32_3685 : BitVec 32 := 3#32
  let v5565 : BitVec 32 := Scalar.shrsi v5561 c3_i32_3685
  let c3_i32_3686 : BitVec 32 := 3#32
  let v5566 : BitVec 32 := Scalar.shli v5565 c3_i32_3686
  v5566

def k0_mult284 (v5562 : BitVec 32) : BitVec 32 :=
  let c3_i32_3687 : BitVec 32 := 3#32
  let v5568 : BitVec 32 := Scalar.shrsi v5562 c3_i32_3687
  let c3_i32_3688 : BitVec 32 := 3#32
  let v5569 : BitVec 32 := Scalar.shli v5568 c3_i32_3688
  v5569

def k0_off284 (v5561 : BitVec 32) : Fin 2 → Nat :=
  let c3_i32_3685 : BitVec 32 := 3#32
  let v5565 : BitVec 32 := Scalar.shrsi v5561 c3_i32_3685
  let c3_i32_3686 : BitVec 32 := 3#32
  let v5566 : BitVec 32 := Scalar.shli v5565 c3_i32_3686
  let v5567 : BitVec 32 := v5566
  let v5571 : Index := Scalar.indexCast v5567
  let c0_3689 : Index := 0#32
  ![v5571.toNat, 0]

def k0_chk283 (v5561 : BitVec 32) : Prop :=
  (8 ∣ (k0_mult283 v5561).toNat) ∧
  (∀ a, (k0_off284 v5561) a + S16x128.size a ≤ S66048x128.size a)
theorem k0_mult283_dvd : ∀ (v5561 : BitVec 32) (k0_hw283 : k0_chk283 v5561), 8 ∣ (k0_mult283 v5561).toNat := fun v5561 k0_hw283 => k0_hw283.1
theorem k0_off284_inb : ∀ (v5561 : BitVec 32) (k0_hw283 : k0_chk283 v5561), ∀ a, (k0_off284 v5561) a + S16x128.size a ≤ S66048x128.size a := fun v5561 k0_hw283 => k0_hw283.2

def k0_off285 (v5562 : BitVec 32) : Fin 2 → Nat :=
  let c3_i32_3687 : BitVec 32 := 3#32
  let v5568 : BitVec 32 := Scalar.shrsi v5562 c3_i32_3687
  let c3_i32_3688 : BitVec 32 := 3#32
  let v5569 : BitVec 32 := Scalar.shli v5568 c3_i32_3688
  let v5570 : BitVec 32 := v5569
  let v5573 : Index := Scalar.indexCast v5570
  let c0_3690 : Index := 0#32
  ![v5573.toNat, 0]

def k0_chk284 (v5562 : BitVec 32) : Prop :=
  (8 ∣ (k0_mult284 v5562).toNat) ∧
  (∀ a, (k0_off285 v5562) a + S16x128.size a ≤ S66048x128.size a)
theorem k0_mult284_dvd : ∀ (v5562 : BitVec 32) (k0_hw284 : k0_chk284 v5562), 8 ∣ (k0_mult284 v5562).toNat := fun v5562 k0_hw284 => k0_hw284.1
theorem k0_off285_inb : ∀ (v5562 : BitVec 32) (k0_hw284 : k0_chk284 v5562), ∀ a, (k0_off285 v5562) a + S16x128.size a ≤ S66048x128.size a := fun v5562 k0_hw284 => k0_hw284.2

def k0_mult285 (v5600 : BitVec 32) : BitVec 32 :=
  let c3_i32_3711 : BitVec 32 := 3#32
  let v5604 : BitVec 32 := Scalar.shrsi v5600 c3_i32_3711
  let c3_i32_3712 : BitVec 32 := 3#32
  let v5605 : BitVec 32 := Scalar.shli v5604 c3_i32_3712
  v5605

def k0_mult286 (v5601 : BitVec 32) : BitVec 32 :=
  let c3_i32_3713 : BitVec 32 := 3#32
  let v5607 : BitVec 32 := Scalar.shrsi v5601 c3_i32_3713
  let c3_i32_3714 : BitVec 32 := 3#32
  let v5608 : BitVec 32 := Scalar.shli v5607 c3_i32_3714
  v5608

def k0_off286 (v5600 : BitVec 32) : Fin 2 → Nat :=
  let c3_i32_3711 : BitVec 32 := 3#32
  let v5604 : BitVec 32 := Scalar.shrsi v5600 c3_i32_3711
  let c3_i32_3712 : BitVec 32 := 3#32
  let v5605 : BitVec 32 := Scalar.shli v5604 c3_i32_3712
  let v5606 : BitVec 32 := v5605
  let v5610 : Index := Scalar.indexCast v5606
  let c0_3715 : Index := 0#32
  ![v5610.toNat, 0]

def k0_chk285 (v5600 : BitVec 32) : Prop :=
  (8 ∣ (k0_mult285 v5600).toNat) ∧
  (∀ a, (k0_off286 v5600) a + S16x128.size a ≤ S66048x128.size a)
theorem k0_mult285_dvd : ∀ (v5600 : BitVec 32) (k0_hw285 : k0_chk285 v5600), 8 ∣ (k0_mult285 v5600).toNat := fun v5600 k0_hw285 => k0_hw285.1
theorem k0_off286_inb : ∀ (v5600 : BitVec 32) (k0_hw285 : k0_chk285 v5600), ∀ a, (k0_off286 v5600) a + S16x128.size a ≤ S66048x128.size a := fun v5600 k0_hw285 => k0_hw285.2

def k0_off287 (v5601 : BitVec 32) : Fin 2 → Nat :=
  let c3_i32_3713 : BitVec 32 := 3#32
  let v5607 : BitVec 32 := Scalar.shrsi v5601 c3_i32_3713
  let c3_i32_3714 : BitVec 32 := 3#32
  let v5608 : BitVec 32 := Scalar.shli v5607 c3_i32_3714
  let v5609 : BitVec 32 := v5608
  let v5612 : Index := Scalar.indexCast v5609
  let c0_3716 : Index := 0#32
  ![v5612.toNat, 0]

def k0_chk286 (v5601 : BitVec 32) : Prop :=
  (8 ∣ (k0_mult286 v5601).toNat) ∧
  (∀ a, (k0_off287 v5601) a + S16x128.size a ≤ S66048x128.size a)
theorem k0_mult286_dvd : ∀ (v5601 : BitVec 32) (k0_hw286 : k0_chk286 v5601), 8 ∣ (k0_mult286 v5601).toNat := fun v5601 k0_hw286 => k0_hw286.1
theorem k0_off287_inb : ∀ (v5601 : BitVec 32) (k0_hw286 : k0_chk286 v5601), ∀ a, (k0_off287 v5601) a + S16x128.size a ≤ S66048x128.size a := fun v5601 k0_hw286 => k0_hw286.2

def k0_mult287 (v5639 : BitVec 32) : BitVec 32 :=
  let c3_i32_3737 : BitVec 32 := 3#32
  let v5643 : BitVec 32 := Scalar.shrsi v5639 c3_i32_3737
  let c3_i32_3738 : BitVec 32 := 3#32
  let v5644 : BitVec 32 := Scalar.shli v5643 c3_i32_3738
  v5644

def k0_mult288 (v5640 : BitVec 32) : BitVec 32 :=
  let c3_i32_3739 : BitVec 32 := 3#32
  let v5646 : BitVec 32 := Scalar.shrsi v5640 c3_i32_3739
  let c3_i32_3740 : BitVec 32 := 3#32
  let v5647 : BitVec 32 := Scalar.shli v5646 c3_i32_3740
  v5647

def k0_off288 (v5639 : BitVec 32) : Fin 2 → Nat :=
  let c3_i32_3737 : BitVec 32 := 3#32
  let v5643 : BitVec 32 := Scalar.shrsi v5639 c3_i32_3737
  let c3_i32_3738 : BitVec 32 := 3#32
  let v5644 : BitVec 32 := Scalar.shli v5643 c3_i32_3738
  let v5645 : BitVec 32 := v5644
  let v5649 : Index := Scalar.indexCast v5645
  let c0_3741 : Index := 0#32
  ![v5649.toNat, 0]

def k0_chk287 (v5639 : BitVec 32) : Prop :=
  (8 ∣ (k0_mult287 v5639).toNat) ∧
  (∀ a, (k0_off288 v5639) a + S16x128.size a ≤ S66048x128.size a)
theorem k0_mult287_dvd : ∀ (v5639 : BitVec 32) (k0_hw287 : k0_chk287 v5639), 8 ∣ (k0_mult287 v5639).toNat := fun v5639 k0_hw287 => k0_hw287.1
theorem k0_off288_inb : ∀ (v5639 : BitVec 32) (k0_hw287 : k0_chk287 v5639), ∀ a, (k0_off288 v5639) a + S16x128.size a ≤ S66048x128.size a := fun v5639 k0_hw287 => k0_hw287.2

def k0_off289 (v5640 : BitVec 32) : Fin 2 → Nat :=
  let c3_i32_3739 : BitVec 32 := 3#32
  let v5646 : BitVec 32 := Scalar.shrsi v5640 c3_i32_3739
  let c3_i32_3740 : BitVec 32 := 3#32
  let v5647 : BitVec 32 := Scalar.shli v5646 c3_i32_3740
  let v5648 : BitVec 32 := v5647
  let v5651 : Index := Scalar.indexCast v5648
  let c0_3742 : Index := 0#32
  ![v5651.toNat, 0]

def k0_chk288 (v5640 : BitVec 32) : Prop :=
  (8 ∣ (k0_mult288 v5640).toNat) ∧
  (∀ a, (k0_off289 v5640) a + S16x128.size a ≤ S66048x128.size a)
theorem k0_mult288_dvd : ∀ (v5640 : BitVec 32) (k0_hw288 : k0_chk288 v5640), 8 ∣ (k0_mult288 v5640).toNat := fun v5640 k0_hw288 => k0_hw288.1
theorem k0_off289_inb : ∀ (v5640 : BitVec 32) (k0_hw288 : k0_chk288 v5640), ∀ a, (k0_off289 v5640) a + S16x128.size a ≤ S66048x128.size a := fun v5640 k0_hw288 => k0_hw288.2

def k0_mult289 (v5678 : BitVec 32) : BitVec 32 :=
  let c3_i32_3763 : BitVec 32 := 3#32
  let v5682 : BitVec 32 := Scalar.shrsi v5678 c3_i32_3763
  let c3_i32_3764 : BitVec 32 := 3#32
  let v5683 : BitVec 32 := Scalar.shli v5682 c3_i32_3764
  v5683

def k0_mult290 (v5679 : BitVec 32) : BitVec 32 :=
  let c3_i32_3765 : BitVec 32 := 3#32
  let v5685 : BitVec 32 := Scalar.shrsi v5679 c3_i32_3765
  let c3_i32_3766 : BitVec 32 := 3#32
  let v5686 : BitVec 32 := Scalar.shli v5685 c3_i32_3766
  v5686

def k0_off290 (v5678 : BitVec 32) : Fin 2 → Nat :=
  let c3_i32_3763 : BitVec 32 := 3#32
  let v5682 : BitVec 32 := Scalar.shrsi v5678 c3_i32_3763
  let c3_i32_3764 : BitVec 32 := 3#32
  let v5683 : BitVec 32 := Scalar.shli v5682 c3_i32_3764
  let v5684 : BitVec 32 := v5683
  let v5688 : Index := Scalar.indexCast v5684
  let c0_3767 : Index := 0#32
  ![v5688.toNat, 0]

def k0_chk289 (v5678 : BitVec 32) : Prop :=
  (8 ∣ (k0_mult289 v5678).toNat) ∧
  (∀ a, (k0_off290 v5678) a + S16x128.size a ≤ S66048x128.size a)
theorem k0_mult289_dvd : ∀ (v5678 : BitVec 32) (k0_hw289 : k0_chk289 v5678), 8 ∣ (k0_mult289 v5678).toNat := fun v5678 k0_hw289 => k0_hw289.1
theorem k0_off290_inb : ∀ (v5678 : BitVec 32) (k0_hw289 : k0_chk289 v5678), ∀ a, (k0_off290 v5678) a + S16x128.size a ≤ S66048x128.size a := fun v5678 k0_hw289 => k0_hw289.2

def k0_off291 (v5679 : BitVec 32) : Fin 2 → Nat :=
  let c3_i32_3765 : BitVec 32 := 3#32
  let v5685 : BitVec 32 := Scalar.shrsi v5679 c3_i32_3765
  let c3_i32_3766 : BitVec 32 := 3#32
  let v5686 : BitVec 32 := Scalar.shli v5685 c3_i32_3766
  let v5687 : BitVec 32 := v5686
  let v5690 : Index := Scalar.indexCast v5687
  let c0_3768 : Index := 0#32
  ![v5690.toNat, 0]

def k0_chk290 (v5679 : BitVec 32) : Prop :=
  (8 ∣ (k0_mult290 v5679).toNat) ∧
  (∀ a, (k0_off291 v5679) a + S16x128.size a ≤ S66048x128.size a)
theorem k0_mult290_dvd : ∀ (v5679 : BitVec 32) (k0_hw290 : k0_chk290 v5679), 8 ∣ (k0_mult290 v5679).toNat := fun v5679 k0_hw290 => k0_hw290.1
theorem k0_off291_inb : ∀ (v5679 : BitVec 32) (k0_hw290 : k0_chk290 v5679), ∀ a, (k0_off291 v5679) a + S16x128.size a ≤ S66048x128.size a := fun v5679 k0_hw290 => k0_hw290.2

def k0_mult291 (v5717 : BitVec 32) : BitVec 32 :=
  let c3_i32_3789 : BitVec 32 := 3#32
  let v5721 : BitVec 32 := Scalar.shrsi v5717 c3_i32_3789
  let c3_i32_3790 : BitVec 32 := 3#32
  let v5722 : BitVec 32 := Scalar.shli v5721 c3_i32_3790
  v5722

def k0_mult292 (v5718 : BitVec 32) : BitVec 32 :=
  let c3_i32_3791 : BitVec 32 := 3#32
  let v5724 : BitVec 32 := Scalar.shrsi v5718 c3_i32_3791
  let c3_i32_3792 : BitVec 32 := 3#32
  let v5725 : BitVec 32 := Scalar.shli v5724 c3_i32_3792
  v5725

def k0_off292 (v5717 : BitVec 32) : Fin 2 → Nat :=
  let c3_i32_3789 : BitVec 32 := 3#32
  let v5721 : BitVec 32 := Scalar.shrsi v5717 c3_i32_3789
  let c3_i32_3790 : BitVec 32 := 3#32
  let v5722 : BitVec 32 := Scalar.shli v5721 c3_i32_3790
  let v5723 : BitVec 32 := v5722
  let v5727 : Index := Scalar.indexCast v5723
  let c0_3793 : Index := 0#32
  ![v5727.toNat, 0]

def k0_chk291 (v5717 : BitVec 32) : Prop :=
  (8 ∣ (k0_mult291 v5717).toNat) ∧
  (∀ a, (k0_off292 v5717) a + S16x128.size a ≤ S66048x128.size a)
theorem k0_mult291_dvd : ∀ (v5717 : BitVec 32) (k0_hw291 : k0_chk291 v5717), 8 ∣ (k0_mult291 v5717).toNat := fun v5717 k0_hw291 => k0_hw291.1
theorem k0_off292_inb : ∀ (v5717 : BitVec 32) (k0_hw291 : k0_chk291 v5717), ∀ a, (k0_off292 v5717) a + S16x128.size a ≤ S66048x128.size a := fun v5717 k0_hw291 => k0_hw291.2

def k0_off293 (v5718 : BitVec 32) : Fin 2 → Nat :=
  let c3_i32_3791 : BitVec 32 := 3#32
  let v5724 : BitVec 32 := Scalar.shrsi v5718 c3_i32_3791
  let c3_i32_3792 : BitVec 32 := 3#32
  let v5725 : BitVec 32 := Scalar.shli v5724 c3_i32_3792
  let v5726 : BitVec 32 := v5725
  let v5729 : Index := Scalar.indexCast v5726
  let c0_3794 : Index := 0#32
  ![v5729.toNat, 0]

def k0_chk292 (v5718 : BitVec 32) : Prop :=
  (8 ∣ (k0_mult292 v5718).toNat) ∧
  (∀ a, (k0_off293 v5718) a + S16x128.size a ≤ S66048x128.size a)
theorem k0_mult292_dvd : ∀ (v5718 : BitVec 32) (k0_hw292 : k0_chk292 v5718), 8 ∣ (k0_mult292 v5718).toNat := fun v5718 k0_hw292 => k0_hw292.1
theorem k0_off293_inb : ∀ (v5718 : BitVec 32) (k0_hw292 : k0_chk292 v5718), ∀ a, (k0_off293 v5718) a + S16x128.size a ≤ S66048x128.size a := fun v5718 k0_hw292 => k0_hw292.2

def k0_mult293 (v5756 : BitVec 32) : BitVec 32 :=
  let c3_i32_3815 : BitVec 32 := 3#32
  let v5760 : BitVec 32 := Scalar.shrsi v5756 c3_i32_3815
  let c3_i32_3816 : BitVec 32 := 3#32
  let v5761 : BitVec 32 := Scalar.shli v5760 c3_i32_3816
  v5761

def k0_mult294 (v5757 : BitVec 32) : BitVec 32 :=
  let c3_i32_3817 : BitVec 32 := 3#32
  let v5763 : BitVec 32 := Scalar.shrsi v5757 c3_i32_3817
  let c3_i32_3818 : BitVec 32 := 3#32
  let v5764 : BitVec 32 := Scalar.shli v5763 c3_i32_3818
  v5764

def k0_off294 (v5756 : BitVec 32) : Fin 2 → Nat :=
  let c3_i32_3815 : BitVec 32 := 3#32
  let v5760 : BitVec 32 := Scalar.shrsi v5756 c3_i32_3815
  let c3_i32_3816 : BitVec 32 := 3#32
  let v5761 : BitVec 32 := Scalar.shli v5760 c3_i32_3816
  let v5762 : BitVec 32 := v5761
  let v5766 : Index := Scalar.indexCast v5762
  let c0_3819 : Index := 0#32
  ![v5766.toNat, 0]

def k0_chk293 (v5756 : BitVec 32) : Prop :=
  (8 ∣ (k0_mult293 v5756).toNat) ∧
  (∀ a, (k0_off294 v5756) a + S16x128.size a ≤ S66048x128.size a)
theorem k0_mult293_dvd : ∀ (v5756 : BitVec 32) (k0_hw293 : k0_chk293 v5756), 8 ∣ (k0_mult293 v5756).toNat := fun v5756 k0_hw293 => k0_hw293.1
theorem k0_off294_inb : ∀ (v5756 : BitVec 32) (k0_hw293 : k0_chk293 v5756), ∀ a, (k0_off294 v5756) a + S16x128.size a ≤ S66048x128.size a := fun v5756 k0_hw293 => k0_hw293.2

def k0_off295 (v5757 : BitVec 32) : Fin 2 → Nat :=
  let c3_i32_3817 : BitVec 32 := 3#32
  let v5763 : BitVec 32 := Scalar.shrsi v5757 c3_i32_3817
  let c3_i32_3818 : BitVec 32 := 3#32
  let v5764 : BitVec 32 := Scalar.shli v5763 c3_i32_3818
  let v5765 : BitVec 32 := v5764
  let v5768 : Index := Scalar.indexCast v5765
  let c0_3820 : Index := 0#32
  ![v5768.toNat, 0]

def k0_chk294 (v5757 : BitVec 32) : Prop :=
  (8 ∣ (k0_mult294 v5757).toNat) ∧
  (∀ a, (k0_off295 v5757) a + S16x128.size a ≤ S66048x128.size a)
theorem k0_mult294_dvd : ∀ (v5757 : BitVec 32) (k0_hw294 : k0_chk294 v5757), 8 ∣ (k0_mult294 v5757).toNat := fun v5757 k0_hw294 => k0_hw294.1
theorem k0_off295_inb : ∀ (v5757 : BitVec 32) (k0_hw294 : k0_chk294 v5757), ∀ a, (k0_off295 v5757) a + S16x128.size a ≤ S66048x128.size a := fun v5757 k0_hw294 => k0_hw294.2

def k0_mult295 (v5795 : BitVec 32) : BitVec 32 :=
  let c3_i32_3841 : BitVec 32 := 3#32
  let v5799 : BitVec 32 := Scalar.shrsi v5795 c3_i32_3841
  let c3_i32_3842 : BitVec 32 := 3#32
  let v5800 : BitVec 32 := Scalar.shli v5799 c3_i32_3842
  v5800

def k0_mult296 (v5796 : BitVec 32) : BitVec 32 :=
  let c3_i32_3843 : BitVec 32 := 3#32
  let v5802 : BitVec 32 := Scalar.shrsi v5796 c3_i32_3843
  let c3_i32_3844 : BitVec 32 := 3#32
  let v5803 : BitVec 32 := Scalar.shli v5802 c3_i32_3844
  v5803

def k0_off296 (v5795 : BitVec 32) : Fin 2 → Nat :=
  let c3_i32_3841 : BitVec 32 := 3#32
  let v5799 : BitVec 32 := Scalar.shrsi v5795 c3_i32_3841
  let c3_i32_3842 : BitVec 32 := 3#32
  let v5800 : BitVec 32 := Scalar.shli v5799 c3_i32_3842
  let v5801 : BitVec 32 := v5800
  let v5805 : Index := Scalar.indexCast v5801
  let c0_3845 : Index := 0#32
  ![v5805.toNat, 0]

def k0_chk295 (v5795 : BitVec 32) : Prop :=
  (8 ∣ (k0_mult295 v5795).toNat) ∧
  (∀ a, (k0_off296 v5795) a + S16x128.size a ≤ S66048x128.size a)
theorem k0_mult295_dvd : ∀ (v5795 : BitVec 32) (k0_hw295 : k0_chk295 v5795), 8 ∣ (k0_mult295 v5795).toNat := fun v5795 k0_hw295 => k0_hw295.1
theorem k0_off296_inb : ∀ (v5795 : BitVec 32) (k0_hw295 : k0_chk295 v5795), ∀ a, (k0_off296 v5795) a + S16x128.size a ≤ S66048x128.size a := fun v5795 k0_hw295 => k0_hw295.2

def k0_off297 (v5796 : BitVec 32) : Fin 2 → Nat :=
  let c3_i32_3843 : BitVec 32 := 3#32
  let v5802 : BitVec 32 := Scalar.shrsi v5796 c3_i32_3843
  let c3_i32_3844 : BitVec 32 := 3#32
  let v5803 : BitVec 32 := Scalar.shli v5802 c3_i32_3844
  let v5804 : BitVec 32 := v5803
  let v5807 : Index := Scalar.indexCast v5804
  let c0_3846 : Index := 0#32
  ![v5807.toNat, 0]

def k0_chk296 (v5796 : BitVec 32) : Prop :=
  (8 ∣ (k0_mult296 v5796).toNat) ∧
  (∀ a, (k0_off297 v5796) a + S16x128.size a ≤ S66048x128.size a)
theorem k0_mult296_dvd : ∀ (v5796 : BitVec 32) (k0_hw296 : k0_chk296 v5796), 8 ∣ (k0_mult296 v5796).toNat := fun v5796 k0_hw296 => k0_hw296.1
theorem k0_off297_inb : ∀ (v5796 : BitVec 32) (k0_hw296 : k0_chk296 v5796), ∀ a, (k0_off297 v5796) a + S16x128.size a ≤ S66048x128.size a := fun v5796 k0_hw296 => k0_hw296.2

def k0_mult297 (v5834 : BitVec 32) : BitVec 32 :=
  let c3_i32_3867 : BitVec 32 := 3#32
  let v5838 : BitVec 32 := Scalar.shrsi v5834 c3_i32_3867
  let c3_i32_3868 : BitVec 32 := 3#32
  let v5839 : BitVec 32 := Scalar.shli v5838 c3_i32_3868
  v5839

def k0_mult298 (v5835 : BitVec 32) : BitVec 32 :=
  let c3_i32_3869 : BitVec 32 := 3#32
  let v5841 : BitVec 32 := Scalar.shrsi v5835 c3_i32_3869
  let c3_i32_3870 : BitVec 32 := 3#32
  let v5842 : BitVec 32 := Scalar.shli v5841 c3_i32_3870
  v5842

def k0_off298 (v5834 : BitVec 32) : Fin 2 → Nat :=
  let c3_i32_3867 : BitVec 32 := 3#32
  let v5838 : BitVec 32 := Scalar.shrsi v5834 c3_i32_3867
  let c3_i32_3868 : BitVec 32 := 3#32
  let v5839 : BitVec 32 := Scalar.shli v5838 c3_i32_3868
  let v5840 : BitVec 32 := v5839
  let v5844 : Index := Scalar.indexCast v5840
  let c0_3871 : Index := 0#32
  ![v5844.toNat, 0]

def k0_chk297 (v5834 : BitVec 32) : Prop :=
  (8 ∣ (k0_mult297 v5834).toNat) ∧
  (∀ a, (k0_off298 v5834) a + S16x128.size a ≤ S66048x128.size a)
theorem k0_mult297_dvd : ∀ (v5834 : BitVec 32) (k0_hw297 : k0_chk297 v5834), 8 ∣ (k0_mult297 v5834).toNat := fun v5834 k0_hw297 => k0_hw297.1
theorem k0_off298_inb : ∀ (v5834 : BitVec 32) (k0_hw297 : k0_chk297 v5834), ∀ a, (k0_off298 v5834) a + S16x128.size a ≤ S66048x128.size a := fun v5834 k0_hw297 => k0_hw297.2

def k0_off299 (v5835 : BitVec 32) : Fin 2 → Nat :=
  let c3_i32_3869 : BitVec 32 := 3#32
  let v5841 : BitVec 32 := Scalar.shrsi v5835 c3_i32_3869
  let c3_i32_3870 : BitVec 32 := 3#32
  let v5842 : BitVec 32 := Scalar.shli v5841 c3_i32_3870
  let v5843 : BitVec 32 := v5842
  let v5846 : Index := Scalar.indexCast v5843
  let c0_3872 : Index := 0#32
  ![v5846.toNat, 0]

def k0_chk298 (v5835 : BitVec 32) : Prop :=
  (8 ∣ (k0_mult298 v5835).toNat) ∧
  (∀ a, (k0_off299 v5835) a + S16x128.size a ≤ S66048x128.size a)
theorem k0_mult298_dvd : ∀ (v5835 : BitVec 32) (k0_hw298 : k0_chk298 v5835), 8 ∣ (k0_mult298 v5835).toNat := fun v5835 k0_hw298 => k0_hw298.1
theorem k0_off299_inb : ∀ (v5835 : BitVec 32) (k0_hw298 : k0_chk298 v5835), ∀ a, (k0_off299 v5835) a + S16x128.size a ≤ S66048x128.size a := fun v5835 k0_hw298 => k0_hw298.2

def k0_mult299 (v5873 : BitVec 32) : BitVec 32 :=
  let c3_i32_3893 : BitVec 32 := 3#32
  let v5877 : BitVec 32 := Scalar.shrsi v5873 c3_i32_3893
  let c3_i32_3894 : BitVec 32 := 3#32
  let v5878 : BitVec 32 := Scalar.shli v5877 c3_i32_3894
  v5878

def k0_mult300 (v5874 : BitVec 32) : BitVec 32 :=
  let c3_i32_3895 : BitVec 32 := 3#32
  let v5880 : BitVec 32 := Scalar.shrsi v5874 c3_i32_3895
  let c3_i32_3896 : BitVec 32 := 3#32
  let v5881 : BitVec 32 := Scalar.shli v5880 c3_i32_3896
  v5881

def k0_off300 (v5873 : BitVec 32) : Fin 2 → Nat :=
  let c3_i32_3893 : BitVec 32 := 3#32
  let v5877 : BitVec 32 := Scalar.shrsi v5873 c3_i32_3893
  let c3_i32_3894 : BitVec 32 := 3#32
  let v5878 : BitVec 32 := Scalar.shli v5877 c3_i32_3894
  let v5879 : BitVec 32 := v5878
  let v5883 : Index := Scalar.indexCast v5879
  let c0_3897 : Index := 0#32
  ![v5883.toNat, 0]

def k0_chk299 (v5873 : BitVec 32) : Prop :=
  (8 ∣ (k0_mult299 v5873).toNat) ∧
  (∀ a, (k0_off300 v5873) a + S16x128.size a ≤ S66048x128.size a)
theorem k0_mult299_dvd : ∀ (v5873 : BitVec 32) (k0_hw299 : k0_chk299 v5873), 8 ∣ (k0_mult299 v5873).toNat := fun v5873 k0_hw299 => k0_hw299.1
theorem k0_off300_inb : ∀ (v5873 : BitVec 32) (k0_hw299 : k0_chk299 v5873), ∀ a, (k0_off300 v5873) a + S16x128.size a ≤ S66048x128.size a := fun v5873 k0_hw299 => k0_hw299.2

def k0_off301 (v5874 : BitVec 32) : Fin 2 → Nat :=
  let c3_i32_3895 : BitVec 32 := 3#32
  let v5880 : BitVec 32 := Scalar.shrsi v5874 c3_i32_3895
  let c3_i32_3896 : BitVec 32 := 3#32
  let v5881 : BitVec 32 := Scalar.shli v5880 c3_i32_3896
  let v5882 : BitVec 32 := v5881
  let v5885 : Index := Scalar.indexCast v5882
  let c0_3898 : Index := 0#32
  ![v5885.toNat, 0]

def k0_chk300 (v5874 : BitVec 32) : Prop :=
  (8 ∣ (k0_mult300 v5874).toNat) ∧
  (∀ a, (k0_off301 v5874) a + S16x128.size a ≤ S66048x128.size a)
theorem k0_mult300_dvd : ∀ (v5874 : BitVec 32) (k0_hw300 : k0_chk300 v5874), 8 ∣ (k0_mult300 v5874).toNat := fun v5874 k0_hw300 => k0_hw300.1
theorem k0_off301_inb : ∀ (v5874 : BitVec 32) (k0_hw300 : k0_chk300 v5874), ∀ a, (k0_off301 v5874) a + S16x128.size a ≤ S66048x128.size a := fun v5874 k0_hw300 => k0_hw300.2

def k0_mult301 (v5919 : BitVec 32) : BitVec 32 :=
  let c3_i32_3925 : BitVec 32 := 3#32
  let v5923 : BitVec 32 := Scalar.shrsi v5919 c3_i32_3925
  let c3_i32_3926 : BitVec 32 := 3#32
  let v5924 : BitVec 32 := Scalar.shli v5923 c3_i32_3926
  v5924

def k0_mult302 (v5920 : BitVec 32) : BitVec 32 :=
  let c3_i32_3927 : BitVec 32 := 3#32
  let v5926 : BitVec 32 := Scalar.shrsi v5920 c3_i32_3927
  let c3_i32_3928 : BitVec 32 := 3#32
  let v5927 : BitVec 32 := Scalar.shli v5926 c3_i32_3928
  v5927

def k0_off302 (v5919 : BitVec 32) : Fin 2 → Nat :=
  let c3_i32_3925 : BitVec 32 := 3#32
  let v5923 : BitVec 32 := Scalar.shrsi v5919 c3_i32_3925
  let c3_i32_3926 : BitVec 32 := 3#32
  let v5924 : BitVec 32 := Scalar.shli v5923 c3_i32_3926
  let v5925 : BitVec 32 := v5924
  let v5929 : Index := Scalar.indexCast v5925
  let c0_3929 : Index := 0#32
  ![v5929.toNat, 0]

def k0_chk301 (v5919 : BitVec 32) : Prop :=
  (8 ∣ (k0_mult301 v5919).toNat) ∧
  (∀ a, (k0_off302 v5919) a + S16x128.size a ≤ S66048x128.size a)
theorem k0_mult301_dvd : ∀ (v5919 : BitVec 32) (k0_hw301 : k0_chk301 v5919), 8 ∣ (k0_mult301 v5919).toNat := fun v5919 k0_hw301 => k0_hw301.1
theorem k0_off302_inb : ∀ (v5919 : BitVec 32) (k0_hw301 : k0_chk301 v5919), ∀ a, (k0_off302 v5919) a + S16x128.size a ≤ S66048x128.size a := fun v5919 k0_hw301 => k0_hw301.2

def k0_off303 (v5920 : BitVec 32) : Fin 2 → Nat :=
  let c3_i32_3927 : BitVec 32 := 3#32
  let v5926 : BitVec 32 := Scalar.shrsi v5920 c3_i32_3927
  let c3_i32_3928 : BitVec 32 := 3#32
  let v5927 : BitVec 32 := Scalar.shli v5926 c3_i32_3928
  let v5928 : BitVec 32 := v5927
  let v5931 : Index := Scalar.indexCast v5928
  let c0_3930 : Index := 0#32
  ![v5931.toNat, 0]

def k0_chk302 (v5920 : BitVec 32) : Prop :=
  (8 ∣ (k0_mult302 v5920).toNat) ∧
  (∀ a, (k0_off303 v5920) a + S16x128.size a ≤ S66048x128.size a)
theorem k0_mult302_dvd : ∀ (v5920 : BitVec 32) (k0_hw302 : k0_chk302 v5920), 8 ∣ (k0_mult302 v5920).toNat := fun v5920 k0_hw302 => k0_hw302.1
theorem k0_off303_inb : ∀ (v5920 : BitVec 32) (k0_hw302 : k0_chk302 v5920), ∀ a, (k0_off303 v5920) a + S16x128.size a ≤ S66048x128.size a := fun v5920 k0_hw302 => k0_hw302.2

def k0_mult303 (v5958 : BitVec 32) : BitVec 32 :=
  let c3_i32_3951 : BitVec 32 := 3#32
  let v5962 : BitVec 32 := Scalar.shrsi v5958 c3_i32_3951
  let c3_i32_3952 : BitVec 32 := 3#32
  let v5963 : BitVec 32 := Scalar.shli v5962 c3_i32_3952
  v5963

def k0_mult304 (v5959 : BitVec 32) : BitVec 32 :=
  let c3_i32_3953 : BitVec 32 := 3#32
  let v5965 : BitVec 32 := Scalar.shrsi v5959 c3_i32_3953
  let c3_i32_3954 : BitVec 32 := 3#32
  let v5966 : BitVec 32 := Scalar.shli v5965 c3_i32_3954
  v5966

def k0_off304 (v5958 : BitVec 32) : Fin 2 → Nat :=
  let c3_i32_3951 : BitVec 32 := 3#32
  let v5962 : BitVec 32 := Scalar.shrsi v5958 c3_i32_3951
  let c3_i32_3952 : BitVec 32 := 3#32
  let v5963 : BitVec 32 := Scalar.shli v5962 c3_i32_3952
  let v5964 : BitVec 32 := v5963
  let v5968 : Index := Scalar.indexCast v5964
  let c0_3955 : Index := 0#32
  ![v5968.toNat, 0]

def k0_chk303 (v5958 : BitVec 32) : Prop :=
  (8 ∣ (k0_mult303 v5958).toNat) ∧
  (∀ a, (k0_off304 v5958) a + S16x128.size a ≤ S66048x128.size a)
theorem k0_mult303_dvd : ∀ (v5958 : BitVec 32) (k0_hw303 : k0_chk303 v5958), 8 ∣ (k0_mult303 v5958).toNat := fun v5958 k0_hw303 => k0_hw303.1
theorem k0_off304_inb : ∀ (v5958 : BitVec 32) (k0_hw303 : k0_chk303 v5958), ∀ a, (k0_off304 v5958) a + S16x128.size a ≤ S66048x128.size a := fun v5958 k0_hw303 => k0_hw303.2

def k0_off305 (v5959 : BitVec 32) : Fin 2 → Nat :=
  let c3_i32_3953 : BitVec 32 := 3#32
  let v5965 : BitVec 32 := Scalar.shrsi v5959 c3_i32_3953
  let c3_i32_3954 : BitVec 32 := 3#32
  let v5966 : BitVec 32 := Scalar.shli v5965 c3_i32_3954
  let v5967 : BitVec 32 := v5966
  let v5970 : Index := Scalar.indexCast v5967
  let c0_3956 : Index := 0#32
  ![v5970.toNat, 0]

def k0_chk304 (v5959 : BitVec 32) : Prop :=
  (8 ∣ (k0_mult304 v5959).toNat) ∧
  (∀ a, (k0_off305 v5959) a + S16x128.size a ≤ S66048x128.size a)
theorem k0_mult304_dvd : ∀ (v5959 : BitVec 32) (k0_hw304 : k0_chk304 v5959), 8 ∣ (k0_mult304 v5959).toNat := fun v5959 k0_hw304 => k0_hw304.1
theorem k0_off305_inb : ∀ (v5959 : BitVec 32) (k0_hw304 : k0_chk304 v5959), ∀ a, (k0_off305 v5959) a + S16x128.size a ≤ S66048x128.size a := fun v5959 k0_hw304 => k0_hw304.2

def k0_mult305 (v5997 : BitVec 32) : BitVec 32 :=
  let c3_i32_3977 : BitVec 32 := 3#32
  let v6001 : BitVec 32 := Scalar.shrsi v5997 c3_i32_3977
  let c3_i32_3978 : BitVec 32 := 3#32
  let v6002 : BitVec 32 := Scalar.shli v6001 c3_i32_3978
  v6002

def k0_mult306 (v5998 : BitVec 32) : BitVec 32 :=
  let c3_i32_3979 : BitVec 32 := 3#32
  let v6004 : BitVec 32 := Scalar.shrsi v5998 c3_i32_3979
  let c3_i32_3980 : BitVec 32 := 3#32
  let v6005 : BitVec 32 := Scalar.shli v6004 c3_i32_3980
  v6005

def k0_off306 (v5997 : BitVec 32) : Fin 2 → Nat :=
  let c3_i32_3977 : BitVec 32 := 3#32
  let v6001 : BitVec 32 := Scalar.shrsi v5997 c3_i32_3977
  let c3_i32_3978 : BitVec 32 := 3#32
  let v6002 : BitVec 32 := Scalar.shli v6001 c3_i32_3978
  let v6003 : BitVec 32 := v6002
  let v6007 : Index := Scalar.indexCast v6003
  let c0_3981 : Index := 0#32
  ![v6007.toNat, 0]

def k0_chk305 (v5997 : BitVec 32) : Prop :=
  (8 ∣ (k0_mult305 v5997).toNat) ∧
  (∀ a, (k0_off306 v5997) a + S16x128.size a ≤ S66048x128.size a)
theorem k0_mult305_dvd : ∀ (v5997 : BitVec 32) (k0_hw305 : k0_chk305 v5997), 8 ∣ (k0_mult305 v5997).toNat := fun v5997 k0_hw305 => k0_hw305.1
theorem k0_off306_inb : ∀ (v5997 : BitVec 32) (k0_hw305 : k0_chk305 v5997), ∀ a, (k0_off306 v5997) a + S16x128.size a ≤ S66048x128.size a := fun v5997 k0_hw305 => k0_hw305.2

def k0_off307 (v5998 : BitVec 32) : Fin 2 → Nat :=
  let c3_i32_3979 : BitVec 32 := 3#32
  let v6004 : BitVec 32 := Scalar.shrsi v5998 c3_i32_3979
  let c3_i32_3980 : BitVec 32 := 3#32
  let v6005 : BitVec 32 := Scalar.shli v6004 c3_i32_3980
  let v6006 : BitVec 32 := v6005
  let v6009 : Index := Scalar.indexCast v6006
  let c0_3982 : Index := 0#32
  ![v6009.toNat, 0]

def k0_chk306 (v5998 : BitVec 32) : Prop :=
  (8 ∣ (k0_mult306 v5998).toNat) ∧
  (∀ a, (k0_off307 v5998) a + S16x128.size a ≤ S66048x128.size a)
theorem k0_mult306_dvd : ∀ (v5998 : BitVec 32) (k0_hw306 : k0_chk306 v5998), 8 ∣ (k0_mult306 v5998).toNat := fun v5998 k0_hw306 => k0_hw306.1
theorem k0_off307_inb : ∀ (v5998 : BitVec 32) (k0_hw306 : k0_chk306 v5998), ∀ a, (k0_off307 v5998) a + S16x128.size a ≤ S66048x128.size a := fun v5998 k0_hw306 => k0_hw306.2

def k0_mult307 (v6036 : BitVec 32) : BitVec 32 :=
  let c3_i32_4003 : BitVec 32 := 3#32
  let v6040 : BitVec 32 := Scalar.shrsi v6036 c3_i32_4003
  let c3_i32_4004 : BitVec 32 := 3#32
  let v6041 : BitVec 32 := Scalar.shli v6040 c3_i32_4004
  v6041

def k0_mult308 (v6037 : BitVec 32) : BitVec 32 :=
  let c3_i32_4005 : BitVec 32 := 3#32
  let v6043 : BitVec 32 := Scalar.shrsi v6037 c3_i32_4005
  let c3_i32_4006 : BitVec 32 := 3#32
  let v6044 : BitVec 32 := Scalar.shli v6043 c3_i32_4006
  v6044

def k0_off308 (v6036 : BitVec 32) : Fin 2 → Nat :=
  let c3_i32_4003 : BitVec 32 := 3#32
  let v6040 : BitVec 32 := Scalar.shrsi v6036 c3_i32_4003
  let c3_i32_4004 : BitVec 32 := 3#32
  let v6041 : BitVec 32 := Scalar.shli v6040 c3_i32_4004
  let v6042 : BitVec 32 := v6041
  let v6046 : Index := Scalar.indexCast v6042
  let c0_4007 : Index := 0#32
  ![v6046.toNat, 0]

def k0_chk307 (v6036 : BitVec 32) : Prop :=
  (8 ∣ (k0_mult307 v6036).toNat) ∧
  (∀ a, (k0_off308 v6036) a + S16x128.size a ≤ S66048x128.size a)
theorem k0_mult307_dvd : ∀ (v6036 : BitVec 32) (k0_hw307 : k0_chk307 v6036), 8 ∣ (k0_mult307 v6036).toNat := fun v6036 k0_hw307 => k0_hw307.1
theorem k0_off308_inb : ∀ (v6036 : BitVec 32) (k0_hw307 : k0_chk307 v6036), ∀ a, (k0_off308 v6036) a + S16x128.size a ≤ S66048x128.size a := fun v6036 k0_hw307 => k0_hw307.2

def k0_off309 (v6037 : BitVec 32) : Fin 2 → Nat :=
  let c3_i32_4005 : BitVec 32 := 3#32
  let v6043 : BitVec 32 := Scalar.shrsi v6037 c3_i32_4005
  let c3_i32_4006 : BitVec 32 := 3#32
  let v6044 : BitVec 32 := Scalar.shli v6043 c3_i32_4006
  let v6045 : BitVec 32 := v6044
  let v6048 : Index := Scalar.indexCast v6045
  let c0_4008 : Index := 0#32
  ![v6048.toNat, 0]

def k0_chk308 (v6037 : BitVec 32) : Prop :=
  (8 ∣ (k0_mult308 v6037).toNat) ∧
  (∀ a, (k0_off309 v6037) a + S16x128.size a ≤ S66048x128.size a)
theorem k0_mult308_dvd : ∀ (v6037 : BitVec 32) (k0_hw308 : k0_chk308 v6037), 8 ∣ (k0_mult308 v6037).toNat := fun v6037 k0_hw308 => k0_hw308.1
theorem k0_off309_inb : ∀ (v6037 : BitVec 32) (k0_hw308 : k0_chk308 v6037), ∀ a, (k0_off309 v6037) a + S16x128.size a ≤ S66048x128.size a := fun v6037 k0_hw308 => k0_hw308.2

def k0_mult309 (v6075 : BitVec 32) : BitVec 32 :=
  let c3_i32_4029 : BitVec 32 := 3#32
  let v6079 : BitVec 32 := Scalar.shrsi v6075 c3_i32_4029
  let c3_i32_4030 : BitVec 32 := 3#32
  let v6080 : BitVec 32 := Scalar.shli v6079 c3_i32_4030
  v6080

def k0_mult310 (v6076 : BitVec 32) : BitVec 32 :=
  let c3_i32_4031 : BitVec 32 := 3#32
  let v6082 : BitVec 32 := Scalar.shrsi v6076 c3_i32_4031
  let c3_i32_4032 : BitVec 32 := 3#32
  let v6083 : BitVec 32 := Scalar.shli v6082 c3_i32_4032
  v6083

def k0_off310 (v6075 : BitVec 32) : Fin 2 → Nat :=
  let c3_i32_4029 : BitVec 32 := 3#32
  let v6079 : BitVec 32 := Scalar.shrsi v6075 c3_i32_4029
  let c3_i32_4030 : BitVec 32 := 3#32
  let v6080 : BitVec 32 := Scalar.shli v6079 c3_i32_4030
  let v6081 : BitVec 32 := v6080
  let v6085 : Index := Scalar.indexCast v6081
  let c0_4033 : Index := 0#32
  ![v6085.toNat, 0]

def k0_chk309 (v6075 : BitVec 32) : Prop :=
  (8 ∣ (k0_mult309 v6075).toNat) ∧
  (∀ a, (k0_off310 v6075) a + S16x128.size a ≤ S66048x128.size a)
theorem k0_mult309_dvd : ∀ (v6075 : BitVec 32) (k0_hw309 : k0_chk309 v6075), 8 ∣ (k0_mult309 v6075).toNat := fun v6075 k0_hw309 => k0_hw309.1
theorem k0_off310_inb : ∀ (v6075 : BitVec 32) (k0_hw309 : k0_chk309 v6075), ∀ a, (k0_off310 v6075) a + S16x128.size a ≤ S66048x128.size a := fun v6075 k0_hw309 => k0_hw309.2

def k0_off311 (v6076 : BitVec 32) : Fin 2 → Nat :=
  let c3_i32_4031 : BitVec 32 := 3#32
  let v6082 : BitVec 32 := Scalar.shrsi v6076 c3_i32_4031
  let c3_i32_4032 : BitVec 32 := 3#32
  let v6083 : BitVec 32 := Scalar.shli v6082 c3_i32_4032
  let v6084 : BitVec 32 := v6083
  let v6087 : Index := Scalar.indexCast v6084
  let c0_4034 : Index := 0#32
  ![v6087.toNat, 0]

def k0_chk310 (v6076 : BitVec 32) : Prop :=
  (8 ∣ (k0_mult310 v6076).toNat) ∧
  (∀ a, (k0_off311 v6076) a + S16x128.size a ≤ S66048x128.size a)
theorem k0_mult310_dvd : ∀ (v6076 : BitVec 32) (k0_hw310 : k0_chk310 v6076), 8 ∣ (k0_mult310 v6076).toNat := fun v6076 k0_hw310 => k0_hw310.1
theorem k0_off311_inb : ∀ (v6076 : BitVec 32) (k0_hw310 : k0_chk310 v6076), ∀ a, (k0_off311 v6076) a + S16x128.size a ≤ S66048x128.size a := fun v6076 k0_hw310 => k0_hw310.2

def k0_mult311 (v6114 : BitVec 32) : BitVec 32 :=
  let c3_i32_4055 : BitVec 32 := 3#32
  let v6118 : BitVec 32 := Scalar.shrsi v6114 c3_i32_4055
  let c3_i32_4056 : BitVec 32 := 3#32
  let v6119 : BitVec 32 := Scalar.shli v6118 c3_i32_4056
  v6119

def k0_mult312 (v6115 : BitVec 32) : BitVec 32 :=
  let c3_i32_4057 : BitVec 32 := 3#32
  let v6121 : BitVec 32 := Scalar.shrsi v6115 c3_i32_4057
  let c3_i32_4058 : BitVec 32 := 3#32
  let v6122 : BitVec 32 := Scalar.shli v6121 c3_i32_4058
  v6122

def k0_off312 (v6114 : BitVec 32) : Fin 2 → Nat :=
  let c3_i32_4055 : BitVec 32 := 3#32
  let v6118 : BitVec 32 := Scalar.shrsi v6114 c3_i32_4055
  let c3_i32_4056 : BitVec 32 := 3#32
  let v6119 : BitVec 32 := Scalar.shli v6118 c3_i32_4056
  let v6120 : BitVec 32 := v6119
  let v6124 : Index := Scalar.indexCast v6120
  let c0_4059 : Index := 0#32
  ![v6124.toNat, 0]

def k0_chk311 (v6114 : BitVec 32) : Prop :=
  (8 ∣ (k0_mult311 v6114).toNat) ∧
  (∀ a, (k0_off312 v6114) a + S16x128.size a ≤ S66048x128.size a)
theorem k0_mult311_dvd : ∀ (v6114 : BitVec 32) (k0_hw311 : k0_chk311 v6114), 8 ∣ (k0_mult311 v6114).toNat := fun v6114 k0_hw311 => k0_hw311.1
theorem k0_off312_inb : ∀ (v6114 : BitVec 32) (k0_hw311 : k0_chk311 v6114), ∀ a, (k0_off312 v6114) a + S16x128.size a ≤ S66048x128.size a := fun v6114 k0_hw311 => k0_hw311.2

def k0_off313 (v6115 : BitVec 32) : Fin 2 → Nat :=
  let c3_i32_4057 : BitVec 32 := 3#32
  let v6121 : BitVec 32 := Scalar.shrsi v6115 c3_i32_4057
  let c3_i32_4058 : BitVec 32 := 3#32
  let v6122 : BitVec 32 := Scalar.shli v6121 c3_i32_4058
  let v6123 : BitVec 32 := v6122
  let v6126 : Index := Scalar.indexCast v6123
  let c0_4060 : Index := 0#32
  ![v6126.toNat, 0]

def k0_chk312 (v6115 : BitVec 32) : Prop :=
  (8 ∣ (k0_mult312 v6115).toNat) ∧
  (∀ a, (k0_off313 v6115) a + S16x128.size a ≤ S66048x128.size a)
theorem k0_mult312_dvd : ∀ (v6115 : BitVec 32) (k0_hw312 : k0_chk312 v6115), 8 ∣ (k0_mult312 v6115).toNat := fun v6115 k0_hw312 => k0_hw312.1
theorem k0_off313_inb : ∀ (v6115 : BitVec 32) (k0_hw312 : k0_chk312 v6115), ∀ a, (k0_off313 v6115) a + S16x128.size a ≤ S66048x128.size a := fun v6115 k0_hw312 => k0_hw312.2

def k0_mult313 (v6153 : BitVec 32) : BitVec 32 :=
  let c3_i32_4081 : BitVec 32 := 3#32
  let v6157 : BitVec 32 := Scalar.shrsi v6153 c3_i32_4081
  let c3_i32_4082 : BitVec 32 := 3#32
  let v6158 : BitVec 32 := Scalar.shli v6157 c3_i32_4082
  v6158

def k0_mult314 (v6154 : BitVec 32) : BitVec 32 :=
  let c3_i32_4083 : BitVec 32 := 3#32
  let v6160 : BitVec 32 := Scalar.shrsi v6154 c3_i32_4083
  let c3_i32_4084 : BitVec 32 := 3#32
  let v6161 : BitVec 32 := Scalar.shli v6160 c3_i32_4084
  v6161

def k0_off314 (v6153 : BitVec 32) : Fin 2 → Nat :=
  let c3_i32_4081 : BitVec 32 := 3#32
  let v6157 : BitVec 32 := Scalar.shrsi v6153 c3_i32_4081
  let c3_i32_4082 : BitVec 32 := 3#32
  let v6158 : BitVec 32 := Scalar.shli v6157 c3_i32_4082
  let v6159 : BitVec 32 := v6158
  let v6163 : Index := Scalar.indexCast v6159
  let c0_4085 : Index := 0#32
  ![v6163.toNat, 0]

def k0_chk313 (v6153 : BitVec 32) : Prop :=
  (8 ∣ (k0_mult313 v6153).toNat) ∧
  (∀ a, (k0_off314 v6153) a + S16x128.size a ≤ S66048x128.size a)
theorem k0_mult313_dvd : ∀ (v6153 : BitVec 32) (k0_hw313 : k0_chk313 v6153), 8 ∣ (k0_mult313 v6153).toNat := fun v6153 k0_hw313 => k0_hw313.1
theorem k0_off314_inb : ∀ (v6153 : BitVec 32) (k0_hw313 : k0_chk313 v6153), ∀ a, (k0_off314 v6153) a + S16x128.size a ≤ S66048x128.size a := fun v6153 k0_hw313 => k0_hw313.2

def k0_off315 (v6154 : BitVec 32) : Fin 2 → Nat :=
  let c3_i32_4083 : BitVec 32 := 3#32
  let v6160 : BitVec 32 := Scalar.shrsi v6154 c3_i32_4083
  let c3_i32_4084 : BitVec 32 := 3#32
  let v6161 : BitVec 32 := Scalar.shli v6160 c3_i32_4084
  let v6162 : BitVec 32 := v6161
  let v6165 : Index := Scalar.indexCast v6162
  let c0_4086 : Index := 0#32
  ![v6165.toNat, 0]

def k0_chk314 (v6154 : BitVec 32) : Prop :=
  (8 ∣ (k0_mult314 v6154).toNat) ∧
  (∀ a, (k0_off315 v6154) a + S16x128.size a ≤ S66048x128.size a)
theorem k0_mult314_dvd : ∀ (v6154 : BitVec 32) (k0_hw314 : k0_chk314 v6154), 8 ∣ (k0_mult314 v6154).toNat := fun v6154 k0_hw314 => k0_hw314.1
theorem k0_off315_inb : ∀ (v6154 : BitVec 32) (k0_hw314 : k0_chk314 v6154), ∀ a, (k0_off315 v6154) a + S16x128.size a ≤ S66048x128.size a := fun v6154 k0_hw314 => k0_hw314.2

def k0_mult315 (v6192 : BitVec 32) : BitVec 32 :=
  let c3_i32_4107 : BitVec 32 := 3#32
  let v6196 : BitVec 32 := Scalar.shrsi v6192 c3_i32_4107
  let c3_i32_4108 : BitVec 32 := 3#32
  let v6197 : BitVec 32 := Scalar.shli v6196 c3_i32_4108
  v6197

def k0_mult316 (v6193 : BitVec 32) : BitVec 32 :=
  let c3_i32_4109 : BitVec 32 := 3#32
  let v6199 : BitVec 32 := Scalar.shrsi v6193 c3_i32_4109
  let c3_i32_4110 : BitVec 32 := 3#32
  let v6200 : BitVec 32 := Scalar.shli v6199 c3_i32_4110
  v6200

def k0_off316 (v6192 : BitVec 32) : Fin 2 → Nat :=
  let c3_i32_4107 : BitVec 32 := 3#32
  let v6196 : BitVec 32 := Scalar.shrsi v6192 c3_i32_4107
  let c3_i32_4108 : BitVec 32 := 3#32
  let v6197 : BitVec 32 := Scalar.shli v6196 c3_i32_4108
  let v6198 : BitVec 32 := v6197
  let v6202 : Index := Scalar.indexCast v6198
  let c0_4111 : Index := 0#32
  ![v6202.toNat, 0]

def k0_chk315 (v6192 : BitVec 32) : Prop :=
  (8 ∣ (k0_mult315 v6192).toNat) ∧
  (∀ a, (k0_off316 v6192) a + S16x128.size a ≤ S66048x128.size a)
theorem k0_mult315_dvd : ∀ (v6192 : BitVec 32) (k0_hw315 : k0_chk315 v6192), 8 ∣ (k0_mult315 v6192).toNat := fun v6192 k0_hw315 => k0_hw315.1
theorem k0_off316_inb : ∀ (v6192 : BitVec 32) (k0_hw315 : k0_chk315 v6192), ∀ a, (k0_off316 v6192) a + S16x128.size a ≤ S66048x128.size a := fun v6192 k0_hw315 => k0_hw315.2

def k0_off317 (v6193 : BitVec 32) : Fin 2 → Nat :=
  let c3_i32_4109 : BitVec 32 := 3#32
  let v6199 : BitVec 32 := Scalar.shrsi v6193 c3_i32_4109
  let c3_i32_4110 : BitVec 32 := 3#32
  let v6200 : BitVec 32 := Scalar.shli v6199 c3_i32_4110
  let v6201 : BitVec 32 := v6200
  let v6204 : Index := Scalar.indexCast v6201
  let c0_4112 : Index := 0#32
  ![v6204.toNat, 0]

def k0_chk316 (v6193 : BitVec 32) : Prop :=
  (8 ∣ (k0_mult316 v6193).toNat) ∧
  (∀ a, (k0_off317 v6193) a + S16x128.size a ≤ S66048x128.size a)
theorem k0_mult316_dvd : ∀ (v6193 : BitVec 32) (k0_hw316 : k0_chk316 v6193), 8 ∣ (k0_mult316 v6193).toNat := fun v6193 k0_hw316 => k0_hw316.1
theorem k0_off317_inb : ∀ (v6193 : BitVec 32) (k0_hw316 : k0_chk316 v6193), ∀ a, (k0_off317 v6193) a + S16x128.size a ≤ S66048x128.size a := fun v6193 k0_hw316 => k0_hw316.2

def k0_mult317 (v6231 : BitVec 32) : BitVec 32 :=
  let c3_i32_4133 : BitVec 32 := 3#32
  let v6235 : BitVec 32 := Scalar.shrsi v6231 c3_i32_4133
  let c3_i32_4134 : BitVec 32 := 3#32
  let v6236 : BitVec 32 := Scalar.shli v6235 c3_i32_4134
  v6236

def k0_mult318 (v6232 : BitVec 32) : BitVec 32 :=
  let c3_i32_4135 : BitVec 32 := 3#32
  let v6238 : BitVec 32 := Scalar.shrsi v6232 c3_i32_4135
  let c3_i32_4136 : BitVec 32 := 3#32
  let v6239 : BitVec 32 := Scalar.shli v6238 c3_i32_4136
  v6239

def k0_off318 (v6231 : BitVec 32) : Fin 2 → Nat :=
  let c3_i32_4133 : BitVec 32 := 3#32
  let v6235 : BitVec 32 := Scalar.shrsi v6231 c3_i32_4133
  let c3_i32_4134 : BitVec 32 := 3#32
  let v6236 : BitVec 32 := Scalar.shli v6235 c3_i32_4134
  let v6237 : BitVec 32 := v6236
  let v6241 : Index := Scalar.indexCast v6237
  let c0_4137 : Index := 0#32
  ![v6241.toNat, 0]

def k0_chk317 (v6231 : BitVec 32) : Prop :=
  (8 ∣ (k0_mult317 v6231).toNat) ∧
  (∀ a, (k0_off318 v6231) a + S16x128.size a ≤ S66048x128.size a)
theorem k0_mult317_dvd : ∀ (v6231 : BitVec 32) (k0_hw317 : k0_chk317 v6231), 8 ∣ (k0_mult317 v6231).toNat := fun v6231 k0_hw317 => k0_hw317.1
theorem k0_off318_inb : ∀ (v6231 : BitVec 32) (k0_hw317 : k0_chk317 v6231), ∀ a, (k0_off318 v6231) a + S16x128.size a ≤ S66048x128.size a := fun v6231 k0_hw317 => k0_hw317.2

def k0_off319 (v6232 : BitVec 32) : Fin 2 → Nat :=
  let c3_i32_4135 : BitVec 32 := 3#32
  let v6238 : BitVec 32 := Scalar.shrsi v6232 c3_i32_4135
  let c3_i32_4136 : BitVec 32 := 3#32
  let v6239 : BitVec 32 := Scalar.shli v6238 c3_i32_4136
  let v6240 : BitVec 32 := v6239
  let v6243 : Index := Scalar.indexCast v6240
  let c0_4138 : Index := 0#32
  ![v6243.toNat, 0]

def k0_chk318 (v6232 : BitVec 32) : Prop :=
  (8 ∣ (k0_mult318 v6232).toNat) ∧
  (∀ a, (k0_off319 v6232) a + S16x128.size a ≤ S66048x128.size a)
theorem k0_mult318_dvd : ∀ (v6232 : BitVec 32) (k0_hw318 : k0_chk318 v6232), 8 ∣ (k0_mult318 v6232).toNat := fun v6232 k0_hw318 => k0_hw318.1
theorem k0_off319_inb : ∀ (v6232 : BitVec 32) (k0_hw318 : k0_chk318 v6232), ∀ a, (k0_off319 v6232) a + S16x128.size a ≤ S66048x128.size a := fun v6232 k0_hw318 => k0_hw318.2

def k0_mult319 (v6270 : BitVec 32) : BitVec 32 :=
  let c3_i32_4159 : BitVec 32 := 3#32
  let v6274 : BitVec 32 := Scalar.shrsi v6270 c3_i32_4159
  let c3_i32_4160 : BitVec 32 := 3#32
  let v6275 : BitVec 32 := Scalar.shli v6274 c3_i32_4160
  v6275

def k0_mult320 (v6271 : BitVec 32) : BitVec 32 :=
  let c3_i32_4161 : BitVec 32 := 3#32
  let v6277 : BitVec 32 := Scalar.shrsi v6271 c3_i32_4161
  let c3_i32_4162 : BitVec 32 := 3#32
  let v6278 : BitVec 32 := Scalar.shli v6277 c3_i32_4162
  v6278

def k0_off320 (v6270 : BitVec 32) : Fin 2 → Nat :=
  let c3_i32_4159 : BitVec 32 := 3#32
  let v6274 : BitVec 32 := Scalar.shrsi v6270 c3_i32_4159
  let c3_i32_4160 : BitVec 32 := 3#32
  let v6275 : BitVec 32 := Scalar.shli v6274 c3_i32_4160
  let v6276 : BitVec 32 := v6275
  let v6280 : Index := Scalar.indexCast v6276
  let c0_4163 : Index := 0#32
  ![v6280.toNat, 0]

def k0_chk319 (v6270 : BitVec 32) : Prop :=
  (8 ∣ (k0_mult319 v6270).toNat) ∧
  (∀ a, (k0_off320 v6270) a + S16x128.size a ≤ S66048x128.size a)
theorem k0_mult319_dvd : ∀ (v6270 : BitVec 32) (k0_hw319 : k0_chk319 v6270), 8 ∣ (k0_mult319 v6270).toNat := fun v6270 k0_hw319 => k0_hw319.1
theorem k0_off320_inb : ∀ (v6270 : BitVec 32) (k0_hw319 : k0_chk319 v6270), ∀ a, (k0_off320 v6270) a + S16x128.size a ≤ S66048x128.size a := fun v6270 k0_hw319 => k0_hw319.2

def k0_off321 (v6271 : BitVec 32) : Fin 2 → Nat :=
  let c3_i32_4161 : BitVec 32 := 3#32
  let v6277 : BitVec 32 := Scalar.shrsi v6271 c3_i32_4161
  let c3_i32_4162 : BitVec 32 := 3#32
  let v6278 : BitVec 32 := Scalar.shli v6277 c3_i32_4162
  let v6279 : BitVec 32 := v6278
  let v6282 : Index := Scalar.indexCast v6279
  let c0_4164 : Index := 0#32
  ![v6282.toNat, 0]

def k0_chk320 (v6271 : BitVec 32) : Prop :=
  (8 ∣ (k0_mult320 v6271).toNat) ∧
  (∀ a, (k0_off321 v6271) a + S16x128.size a ≤ S66048x128.size a)
theorem k0_mult320_dvd : ∀ (v6271 : BitVec 32) (k0_hw320 : k0_chk320 v6271), 8 ∣ (k0_mult320 v6271).toNat := fun v6271 k0_hw320 => k0_hw320.1
theorem k0_off321_inb : ∀ (v6271 : BitVec 32) (k0_hw320 : k0_chk320 v6271), ∀ a, (k0_off321 v6271) a + S16x128.size a ≤ S66048x128.size a := fun v6271 k0_hw320 => k0_hw320.2

def k0_mult321 (v6309 : BitVec 32) : BitVec 32 :=
  let c3_i32_4185 : BitVec 32 := 3#32
  let v6313 : BitVec 32 := Scalar.shrsi v6309 c3_i32_4185
  let c3_i32_4186 : BitVec 32 := 3#32
  let v6314 : BitVec 32 := Scalar.shli v6313 c3_i32_4186
  v6314

def k0_mult322 (v6310 : BitVec 32) : BitVec 32 :=
  let c3_i32_4187 : BitVec 32 := 3#32
  let v6316 : BitVec 32 := Scalar.shrsi v6310 c3_i32_4187
  let c3_i32_4188 : BitVec 32 := 3#32
  let v6317 : BitVec 32 := Scalar.shli v6316 c3_i32_4188
  v6317

def k0_off322 (v6309 : BitVec 32) : Fin 2 → Nat :=
  let c3_i32_4185 : BitVec 32 := 3#32
  let v6313 : BitVec 32 := Scalar.shrsi v6309 c3_i32_4185
  let c3_i32_4186 : BitVec 32 := 3#32
  let v6314 : BitVec 32 := Scalar.shli v6313 c3_i32_4186
  let v6315 : BitVec 32 := v6314
  let v6319 : Index := Scalar.indexCast v6315
  let c0_4189 : Index := 0#32
  ![v6319.toNat, 0]

def k0_chk321 (v6309 : BitVec 32) : Prop :=
  (8 ∣ (k0_mult321 v6309).toNat) ∧
  (∀ a, (k0_off322 v6309) a + S16x128.size a ≤ S66048x128.size a)
theorem k0_mult321_dvd : ∀ (v6309 : BitVec 32) (k0_hw321 : k0_chk321 v6309), 8 ∣ (k0_mult321 v6309).toNat := fun v6309 k0_hw321 => k0_hw321.1
theorem k0_off322_inb : ∀ (v6309 : BitVec 32) (k0_hw321 : k0_chk321 v6309), ∀ a, (k0_off322 v6309) a + S16x128.size a ≤ S66048x128.size a := fun v6309 k0_hw321 => k0_hw321.2

def k0_off323 (v6310 : BitVec 32) : Fin 2 → Nat :=
  let c3_i32_4187 : BitVec 32 := 3#32
  let v6316 : BitVec 32 := Scalar.shrsi v6310 c3_i32_4187
  let c3_i32_4188 : BitVec 32 := 3#32
  let v6317 : BitVec 32 := Scalar.shli v6316 c3_i32_4188
  let v6318 : BitVec 32 := v6317
  let v6321 : Index := Scalar.indexCast v6318
  let c0_4190 : Index := 0#32
  ![v6321.toNat, 0]

def k0_chk322 (v6310 : BitVec 32) : Prop :=
  (8 ∣ (k0_mult322 v6310).toNat) ∧
  (∀ a, (k0_off323 v6310) a + S16x128.size a ≤ S66048x128.size a)
theorem k0_mult322_dvd : ∀ (v6310 : BitVec 32) (k0_hw322 : k0_chk322 v6310), 8 ∣ (k0_mult322 v6310).toNat := fun v6310 k0_hw322 => k0_hw322.1
theorem k0_off323_inb : ∀ (v6310 : BitVec 32) (k0_hw322 : k0_chk322 v6310), ∀ a, (k0_off323 v6310) a + S16x128.size a ≤ S66048x128.size a := fun v6310 k0_hw322 => k0_hw322.2

def k0_mult323 (v6348 : BitVec 32) : BitVec 32 :=
  let c3_i32_4211 : BitVec 32 := 3#32
  let v6352 : BitVec 32 := Scalar.shrsi v6348 c3_i32_4211
  let c3_i32_4212 : BitVec 32 := 3#32
  let v6353 : BitVec 32 := Scalar.shli v6352 c3_i32_4212
  v6353

def k0_mult324 (v6349 : BitVec 32) : BitVec 32 :=
  let c3_i32_4213 : BitVec 32 := 3#32
  let v6355 : BitVec 32 := Scalar.shrsi v6349 c3_i32_4213
  let c3_i32_4214 : BitVec 32 := 3#32
  let v6356 : BitVec 32 := Scalar.shli v6355 c3_i32_4214
  v6356

def k0_off324 (v6348 : BitVec 32) : Fin 2 → Nat :=
  let c3_i32_4211 : BitVec 32 := 3#32
  let v6352 : BitVec 32 := Scalar.shrsi v6348 c3_i32_4211
  let c3_i32_4212 : BitVec 32 := 3#32
  let v6353 : BitVec 32 := Scalar.shli v6352 c3_i32_4212
  let v6354 : BitVec 32 := v6353
  let v6358 : Index := Scalar.indexCast v6354
  let c0_4215 : Index := 0#32
  ![v6358.toNat, 0]

def k0_chk323 (v6348 : BitVec 32) : Prop :=
  (8 ∣ (k0_mult323 v6348).toNat) ∧
  (∀ a, (k0_off324 v6348) a + S16x128.size a ≤ S66048x128.size a)
theorem k0_mult323_dvd : ∀ (v6348 : BitVec 32) (k0_hw323 : k0_chk323 v6348), 8 ∣ (k0_mult323 v6348).toNat := fun v6348 k0_hw323 => k0_hw323.1
theorem k0_off324_inb : ∀ (v6348 : BitVec 32) (k0_hw323 : k0_chk323 v6348), ∀ a, (k0_off324 v6348) a + S16x128.size a ≤ S66048x128.size a := fun v6348 k0_hw323 => k0_hw323.2

def k0_off325 (v6349 : BitVec 32) : Fin 2 → Nat :=
  let c3_i32_4213 : BitVec 32 := 3#32
  let v6355 : BitVec 32 := Scalar.shrsi v6349 c3_i32_4213
  let c3_i32_4214 : BitVec 32 := 3#32
  let v6356 : BitVec 32 := Scalar.shli v6355 c3_i32_4214
  let v6357 : BitVec 32 := v6356
  let v6360 : Index := Scalar.indexCast v6357
  let c0_4216 : Index := 0#32
  ![v6360.toNat, 0]

def k0_chk324 (v6349 : BitVec 32) : Prop :=
  (8 ∣ (k0_mult324 v6349).toNat) ∧
  (∀ a, (k0_off325 v6349) a + S16x128.size a ≤ S66048x128.size a)
theorem k0_mult324_dvd : ∀ (v6349 : BitVec 32) (k0_hw324 : k0_chk324 v6349), 8 ∣ (k0_mult324 v6349).toNat := fun v6349 k0_hw324 => k0_hw324.1
theorem k0_off325_inb : ∀ (v6349 : BitVec 32) (k0_hw324 : k0_chk324 v6349), ∀ a, (k0_off325 v6349) a + S16x128.size a ≤ S66048x128.size a := fun v6349 k0_hw324 => k0_hw324.2

def k0_mult325 (v6387 : BitVec 32) : BitVec 32 :=
  let c3_i32_4237 : BitVec 32 := 3#32
  let v6391 : BitVec 32 := Scalar.shrsi v6387 c3_i32_4237
  let c3_i32_4238 : BitVec 32 := 3#32
  let v6392 : BitVec 32 := Scalar.shli v6391 c3_i32_4238
  v6392

def k0_mult326 (v6388 : BitVec 32) : BitVec 32 :=
  let c3_i32_4239 : BitVec 32 := 3#32
  let v6394 : BitVec 32 := Scalar.shrsi v6388 c3_i32_4239
  let c3_i32_4240 : BitVec 32 := 3#32
  let v6395 : BitVec 32 := Scalar.shli v6394 c3_i32_4240
  v6395

def k0_off326 (v6387 : BitVec 32) : Fin 2 → Nat :=
  let c3_i32_4237 : BitVec 32 := 3#32
  let v6391 : BitVec 32 := Scalar.shrsi v6387 c3_i32_4237
  let c3_i32_4238 : BitVec 32 := 3#32
  let v6392 : BitVec 32 := Scalar.shli v6391 c3_i32_4238
  let v6393 : BitVec 32 := v6392
  let v6397 : Index := Scalar.indexCast v6393
  let c0_4241 : Index := 0#32
  ![v6397.toNat, 0]

def k0_chk325 (v6387 : BitVec 32) : Prop :=
  (8 ∣ (k0_mult325 v6387).toNat) ∧
  (∀ a, (k0_off326 v6387) a + S16x128.size a ≤ S66048x128.size a)
theorem k0_mult325_dvd : ∀ (v6387 : BitVec 32) (k0_hw325 : k0_chk325 v6387), 8 ∣ (k0_mult325 v6387).toNat := fun v6387 k0_hw325 => k0_hw325.1
theorem k0_off326_inb : ∀ (v6387 : BitVec 32) (k0_hw325 : k0_chk325 v6387), ∀ a, (k0_off326 v6387) a + S16x128.size a ≤ S66048x128.size a := fun v6387 k0_hw325 => k0_hw325.2

def k0_off327 (v6388 : BitVec 32) : Fin 2 → Nat :=
  let c3_i32_4239 : BitVec 32 := 3#32
  let v6394 : BitVec 32 := Scalar.shrsi v6388 c3_i32_4239
  let c3_i32_4240 : BitVec 32 := 3#32
  let v6395 : BitVec 32 := Scalar.shli v6394 c3_i32_4240
  let v6396 : BitVec 32 := v6395
  let v6399 : Index := Scalar.indexCast v6396
  let c0_4242 : Index := 0#32
  ![v6399.toNat, 0]

def k0_chk326 (v6388 : BitVec 32) : Prop :=
  (8 ∣ (k0_mult326 v6388).toNat) ∧
  (∀ a, (k0_off327 v6388) a + S16x128.size a ≤ S66048x128.size a)
theorem k0_mult326_dvd : ∀ (v6388 : BitVec 32) (k0_hw326 : k0_chk326 v6388), 8 ∣ (k0_mult326 v6388).toNat := fun v6388 k0_hw326 => k0_hw326.1
theorem k0_off327_inb : ∀ (v6388 : BitVec 32) (k0_hw326 : k0_chk326 v6388), ∀ a, (k0_off327 v6388) a + S16x128.size a ≤ S66048x128.size a := fun v6388 k0_hw326 => k0_hw326.2

def k0_mult327 (v6426 : BitVec 32) : BitVec 32 :=
  let c3_i32_4263 : BitVec 32 := 3#32
  let v6430 : BitVec 32 := Scalar.shrsi v6426 c3_i32_4263
  let c3_i32_4264 : BitVec 32 := 3#32
  let v6431 : BitVec 32 := Scalar.shli v6430 c3_i32_4264
  v6431

def k0_mult328 (v6427 : BitVec 32) : BitVec 32 :=
  let c3_i32_4265 : BitVec 32 := 3#32
  let v6433 : BitVec 32 := Scalar.shrsi v6427 c3_i32_4265
  let c3_i32_4266 : BitVec 32 := 3#32
  let v6434 : BitVec 32 := Scalar.shli v6433 c3_i32_4266
  v6434

def k0_off328 (v6426 : BitVec 32) : Fin 2 → Nat :=
  let c3_i32_4263 : BitVec 32 := 3#32
  let v6430 : BitVec 32 := Scalar.shrsi v6426 c3_i32_4263
  let c3_i32_4264 : BitVec 32 := 3#32
  let v6431 : BitVec 32 := Scalar.shli v6430 c3_i32_4264
  let v6432 : BitVec 32 := v6431
  let v6436 : Index := Scalar.indexCast v6432
  let c0_4267 : Index := 0#32
  ![v6436.toNat, 0]

def k0_chk327 (v6426 : BitVec 32) : Prop :=
  (8 ∣ (k0_mult327 v6426).toNat) ∧
  (∀ a, (k0_off328 v6426) a + S16x128.size a ≤ S66048x128.size a)
theorem k0_mult327_dvd : ∀ (v6426 : BitVec 32) (k0_hw327 : k0_chk327 v6426), 8 ∣ (k0_mult327 v6426).toNat := fun v6426 k0_hw327 => k0_hw327.1
theorem k0_off328_inb : ∀ (v6426 : BitVec 32) (k0_hw327 : k0_chk327 v6426), ∀ a, (k0_off328 v6426) a + S16x128.size a ≤ S66048x128.size a := fun v6426 k0_hw327 => k0_hw327.2

def k0_off329 (v6427 : BitVec 32) : Fin 2 → Nat :=
  let c3_i32_4265 : BitVec 32 := 3#32
  let v6433 : BitVec 32 := Scalar.shrsi v6427 c3_i32_4265
  let c3_i32_4266 : BitVec 32 := 3#32
  let v6434 : BitVec 32 := Scalar.shli v6433 c3_i32_4266
  let v6435 : BitVec 32 := v6434
  let v6438 : Index := Scalar.indexCast v6435
  let c0_4268 : Index := 0#32
  ![v6438.toNat, 0]

def k0_chk328 (v6427 : BitVec 32) : Prop :=
  (8 ∣ (k0_mult328 v6427).toNat) ∧
  (∀ a, (k0_off329 v6427) a + S16x128.size a ≤ S66048x128.size a)
theorem k0_mult328_dvd : ∀ (v6427 : BitVec 32) (k0_hw328 : k0_chk328 v6427), 8 ∣ (k0_mult328 v6427).toNat := fun v6427 k0_hw328 => k0_hw328.1
theorem k0_off329_inb : ∀ (v6427 : BitVec 32) (k0_hw328 : k0_chk328 v6427), ∀ a, (k0_off329 v6427) a + S16x128.size a ≤ S66048x128.size a := fun v6427 k0_hw328 => k0_hw328.2

def k0_mult329 (v6465 : BitVec 32) : BitVec 32 :=
  let c3_i32_4289 : BitVec 32 := 3#32
  let v6469 : BitVec 32 := Scalar.shrsi v6465 c3_i32_4289
  let c3_i32_4290 : BitVec 32 := 3#32
  let v6470 : BitVec 32 := Scalar.shli v6469 c3_i32_4290
  v6470

def k0_mult330 (v6466 : BitVec 32) : BitVec 32 :=
  let c3_i32_4291 : BitVec 32 := 3#32
  let v6472 : BitVec 32 := Scalar.shrsi v6466 c3_i32_4291
  let c3_i32_4292 : BitVec 32 := 3#32
  let v6473 : BitVec 32 := Scalar.shli v6472 c3_i32_4292
  v6473

def k0_off330 (v6465 : BitVec 32) : Fin 2 → Nat :=
  let c3_i32_4289 : BitVec 32 := 3#32
  let v6469 : BitVec 32 := Scalar.shrsi v6465 c3_i32_4289
  let c3_i32_4290 : BitVec 32 := 3#32
  let v6470 : BitVec 32 := Scalar.shli v6469 c3_i32_4290
  let v6471 : BitVec 32 := v6470
  let v6475 : Index := Scalar.indexCast v6471
  let c0_4293 : Index := 0#32
  ![v6475.toNat, 0]

def k0_chk329 (v6465 : BitVec 32) : Prop :=
  (8 ∣ (k0_mult329 v6465).toNat) ∧
  (∀ a, (k0_off330 v6465) a + S16x128.size a ≤ S66048x128.size a)
theorem k0_mult329_dvd : ∀ (v6465 : BitVec 32) (k0_hw329 : k0_chk329 v6465), 8 ∣ (k0_mult329 v6465).toNat := fun v6465 k0_hw329 => k0_hw329.1
theorem k0_off330_inb : ∀ (v6465 : BitVec 32) (k0_hw329 : k0_chk329 v6465), ∀ a, (k0_off330 v6465) a + S16x128.size a ≤ S66048x128.size a := fun v6465 k0_hw329 => k0_hw329.2

def k0_off331 (v6466 : BitVec 32) : Fin 2 → Nat :=
  let c3_i32_4291 : BitVec 32 := 3#32
  let v6472 : BitVec 32 := Scalar.shrsi v6466 c3_i32_4291
  let c3_i32_4292 : BitVec 32 := 3#32
  let v6473 : BitVec 32 := Scalar.shli v6472 c3_i32_4292
  let v6474 : BitVec 32 := v6473
  let v6477 : Index := Scalar.indexCast v6474
  let c0_4294 : Index := 0#32
  ![v6477.toNat, 0]

def k0_chk330 (v6466 : BitVec 32) : Prop :=
  (8 ∣ (k0_mult330 v6466).toNat) ∧
  (∀ a, (k0_off331 v6466) a + S16x128.size a ≤ S66048x128.size a)
theorem k0_mult330_dvd : ∀ (v6466 : BitVec 32) (k0_hw330 : k0_chk330 v6466), 8 ∣ (k0_mult330 v6466).toNat := fun v6466 k0_hw330 => k0_hw330.1
theorem k0_off331_inb : ∀ (v6466 : BitVec 32) (k0_hw330 : k0_chk330 v6466), ∀ a, (k0_off331 v6466) a + S16x128.size a ≤ S66048x128.size a := fun v6466 k0_hw330 => k0_hw330.2

def k0_mult331 (v6504 : BitVec 32) : BitVec 32 :=
  let c3_i32_4315 : BitVec 32 := 3#32
  let v6508 : BitVec 32 := Scalar.shrsi v6504 c3_i32_4315
  let c3_i32_4316 : BitVec 32 := 3#32
  let v6509 : BitVec 32 := Scalar.shli v6508 c3_i32_4316
  v6509

def k0_mult332 (v6505 : BitVec 32) : BitVec 32 :=
  let c3_i32_4317 : BitVec 32 := 3#32
  let v6511 : BitVec 32 := Scalar.shrsi v6505 c3_i32_4317
  let c3_i32_4318 : BitVec 32 := 3#32
  let v6512 : BitVec 32 := Scalar.shli v6511 c3_i32_4318
  v6512

def k0_off332 (v6504 : BitVec 32) : Fin 2 → Nat :=
  let c3_i32_4315 : BitVec 32 := 3#32
  let v6508 : BitVec 32 := Scalar.shrsi v6504 c3_i32_4315
  let c3_i32_4316 : BitVec 32 := 3#32
  let v6509 : BitVec 32 := Scalar.shli v6508 c3_i32_4316
  let v6510 : BitVec 32 := v6509
  let v6514 : Index := Scalar.indexCast v6510
  let c0_4319 : Index := 0#32
  ![v6514.toNat, 0]

def k0_chk331 (v6504 : BitVec 32) : Prop :=
  (8 ∣ (k0_mult331 v6504).toNat) ∧
  (∀ a, (k0_off332 v6504) a + S16x128.size a ≤ S66048x128.size a)
theorem k0_mult331_dvd : ∀ (v6504 : BitVec 32) (k0_hw331 : k0_chk331 v6504), 8 ∣ (k0_mult331 v6504).toNat := fun v6504 k0_hw331 => k0_hw331.1
theorem k0_off332_inb : ∀ (v6504 : BitVec 32) (k0_hw331 : k0_chk331 v6504), ∀ a, (k0_off332 v6504) a + S16x128.size a ≤ S66048x128.size a := fun v6504 k0_hw331 => k0_hw331.2

def k0_off333 (v6505 : BitVec 32) : Fin 2 → Nat :=
  let c3_i32_4317 : BitVec 32 := 3#32
  let v6511 : BitVec 32 := Scalar.shrsi v6505 c3_i32_4317
  let c3_i32_4318 : BitVec 32 := 3#32
  let v6512 : BitVec 32 := Scalar.shli v6511 c3_i32_4318
  let v6513 : BitVec 32 := v6512
  let v6516 : Index := Scalar.indexCast v6513
  let c0_4320 : Index := 0#32
  ![v6516.toNat, 0]

def k0_chk332 (v6505 : BitVec 32) : Prop :=
  (8 ∣ (k0_mult332 v6505).toNat) ∧
  (∀ a, (k0_off333 v6505) a + S16x128.size a ≤ S66048x128.size a)
theorem k0_mult332_dvd : ∀ (v6505 : BitVec 32) (k0_hw332 : k0_chk332 v6505), 8 ∣ (k0_mult332 v6505).toNat := fun v6505 k0_hw332 => k0_hw332.1
theorem k0_off333_inb : ∀ (v6505 : BitVec 32) (k0_hw332 : k0_chk332 v6505), ∀ a, (k0_off333 v6505) a + S16x128.size a ≤ S66048x128.size a := fun v6505 k0_hw332 => k0_hw332.2

def k0_mult333 (v6543 : BitVec 32) : BitVec 32 :=
  let c3_i32_4341 : BitVec 32 := 3#32
  let v6547 : BitVec 32 := Scalar.shrsi v6543 c3_i32_4341
  let c3_i32_4342 : BitVec 32 := 3#32
  let v6548 : BitVec 32 := Scalar.shli v6547 c3_i32_4342
  v6548

def k0_mult334 (v6544 : BitVec 32) : BitVec 32 :=
  let c3_i32_4343 : BitVec 32 := 3#32
  let v6550 : BitVec 32 := Scalar.shrsi v6544 c3_i32_4343
  let c3_i32_4344 : BitVec 32 := 3#32
  let v6551 : BitVec 32 := Scalar.shli v6550 c3_i32_4344
  v6551

def k0_off334 (v6543 : BitVec 32) : Fin 2 → Nat :=
  let c3_i32_4341 : BitVec 32 := 3#32
  let v6547 : BitVec 32 := Scalar.shrsi v6543 c3_i32_4341
  let c3_i32_4342 : BitVec 32 := 3#32
  let v6548 : BitVec 32 := Scalar.shli v6547 c3_i32_4342
  let v6549 : BitVec 32 := v6548
  let v6553 : Index := Scalar.indexCast v6549
  let c0_4345 : Index := 0#32
  ![v6553.toNat, 0]

def k0_chk333 (v6543 : BitVec 32) : Prop :=
  (8 ∣ (k0_mult333 v6543).toNat) ∧
  (∀ a, (k0_off334 v6543) a + S16x128.size a ≤ S66048x128.size a)
theorem k0_mult333_dvd : ∀ (v6543 : BitVec 32) (k0_hw333 : k0_chk333 v6543), 8 ∣ (k0_mult333 v6543).toNat := fun v6543 k0_hw333 => k0_hw333.1
theorem k0_off334_inb : ∀ (v6543 : BitVec 32) (k0_hw333 : k0_chk333 v6543), ∀ a, (k0_off334 v6543) a + S16x128.size a ≤ S66048x128.size a := fun v6543 k0_hw333 => k0_hw333.2

def k0_off335 (v6544 : BitVec 32) : Fin 2 → Nat :=
  let c3_i32_4343 : BitVec 32 := 3#32
  let v6550 : BitVec 32 := Scalar.shrsi v6544 c3_i32_4343
  let c3_i32_4344 : BitVec 32 := 3#32
  let v6551 : BitVec 32 := Scalar.shli v6550 c3_i32_4344
  let v6552 : BitVec 32 := v6551
  let v6555 : Index := Scalar.indexCast v6552
  let c0_4346 : Index := 0#32
  ![v6555.toNat, 0]

def k0_chk334 (v6544 : BitVec 32) : Prop :=
  (8 ∣ (k0_mult334 v6544).toNat) ∧
  (∀ a, (k0_off335 v6544) a + S16x128.size a ≤ S66048x128.size a)
theorem k0_mult334_dvd : ∀ (v6544 : BitVec 32) (k0_hw334 : k0_chk334 v6544), 8 ∣ (k0_mult334 v6544).toNat := fun v6544 k0_hw334 => k0_hw334.1
theorem k0_off335_inb : ∀ (v6544 : BitVec 32) (k0_hw334 : k0_chk334 v6544), ∀ a, (k0_off335 v6544) a + S16x128.size a ≤ S66048x128.size a := fun v6544 k0_hw334 => k0_hw334.2

def k0_mult335 (v6582 : BitVec 32) : BitVec 32 :=
  let c3_i32_4367 : BitVec 32 := 3#32
  let v6586 : BitVec 32 := Scalar.shrsi v6582 c3_i32_4367
  let c3_i32_4368 : BitVec 32 := 3#32
  let v6587 : BitVec 32 := Scalar.shli v6586 c3_i32_4368
  v6587

def k0_mult336 (v6583 : BitVec 32) : BitVec 32 :=
  let c3_i32_4369 : BitVec 32 := 3#32
  let v6589 : BitVec 32 := Scalar.shrsi v6583 c3_i32_4369
  let c3_i32_4370 : BitVec 32 := 3#32
  let v6590 : BitVec 32 := Scalar.shli v6589 c3_i32_4370
  v6590

def k0_off336 (v6582 : BitVec 32) : Fin 2 → Nat :=
  let c3_i32_4367 : BitVec 32 := 3#32
  let v6586 : BitVec 32 := Scalar.shrsi v6582 c3_i32_4367
  let c3_i32_4368 : BitVec 32 := 3#32
  let v6587 : BitVec 32 := Scalar.shli v6586 c3_i32_4368
  let v6588 : BitVec 32 := v6587
  let v6592 : Index := Scalar.indexCast v6588
  let c0_4371 : Index := 0#32
  ![v6592.toNat, 0]

def k0_chk335 (v6582 : BitVec 32) : Prop :=
  (8 ∣ (k0_mult335 v6582).toNat) ∧
  (∀ a, (k0_off336 v6582) a + S16x128.size a ≤ S66048x128.size a)
theorem k0_mult335_dvd : ∀ (v6582 : BitVec 32) (k0_hw335 : k0_chk335 v6582), 8 ∣ (k0_mult335 v6582).toNat := fun v6582 k0_hw335 => k0_hw335.1
theorem k0_off336_inb : ∀ (v6582 : BitVec 32) (k0_hw335 : k0_chk335 v6582), ∀ a, (k0_off336 v6582) a + S16x128.size a ≤ S66048x128.size a := fun v6582 k0_hw335 => k0_hw335.2

def k0_off337 (v6583 : BitVec 32) : Fin 2 → Nat :=
  let c3_i32_4369 : BitVec 32 := 3#32
  let v6589 : BitVec 32 := Scalar.shrsi v6583 c3_i32_4369
  let c3_i32_4370 : BitVec 32 := 3#32
  let v6590 : BitVec 32 := Scalar.shli v6589 c3_i32_4370
  let v6591 : BitVec 32 := v6590
  let v6594 : Index := Scalar.indexCast v6591
  let c0_4372 : Index := 0#32
  ![v6594.toNat, 0]

def k0_chk336 (v6583 : BitVec 32) : Prop :=
  (8 ∣ (k0_mult336 v6583).toNat) ∧
  (∀ a, (k0_off337 v6583) a + S16x128.size a ≤ S66048x128.size a)
theorem k0_mult336_dvd : ∀ (v6583 : BitVec 32) (k0_hw336 : k0_chk336 v6583), 8 ∣ (k0_mult336 v6583).toNat := fun v6583 k0_hw336 => k0_hw336.1
theorem k0_off337_inb : ∀ (v6583 : BitVec 32) (k0_hw336 : k0_chk336 v6583), ∀ a, (k0_off337 v6583) a + S16x128.size a ≤ S66048x128.size a := fun v6583 k0_hw336 => k0_hw336.2

def k0_mult337 (v6621 : BitVec 32) : BitVec 32 :=
  let c3_i32_4393 : BitVec 32 := 3#32
  let v6625 : BitVec 32 := Scalar.shrsi v6621 c3_i32_4393
  let c3_i32_4394 : BitVec 32 := 3#32
  let v6626 : BitVec 32 := Scalar.shli v6625 c3_i32_4394
  v6626

def k0_mult338 (v6622 : BitVec 32) : BitVec 32 :=
  let c3_i32_4395 : BitVec 32 := 3#32
  let v6628 : BitVec 32 := Scalar.shrsi v6622 c3_i32_4395
  let c3_i32_4396 : BitVec 32 := 3#32
  let v6629 : BitVec 32 := Scalar.shli v6628 c3_i32_4396
  v6629

def k0_off338 (v6621 : BitVec 32) : Fin 2 → Nat :=
  let c3_i32_4393 : BitVec 32 := 3#32
  let v6625 : BitVec 32 := Scalar.shrsi v6621 c3_i32_4393
  let c3_i32_4394 : BitVec 32 := 3#32
  let v6626 : BitVec 32 := Scalar.shli v6625 c3_i32_4394
  let v6627 : BitVec 32 := v6626
  let v6631 : Index := Scalar.indexCast v6627
  let c0_4397 : Index := 0#32
  ![v6631.toNat, 0]

def k0_chk337 (v6621 : BitVec 32) : Prop :=
  (8 ∣ (k0_mult337 v6621).toNat) ∧
  (∀ a, (k0_off338 v6621) a + S16x128.size a ≤ S66048x128.size a)
theorem k0_mult337_dvd : ∀ (v6621 : BitVec 32) (k0_hw337 : k0_chk337 v6621), 8 ∣ (k0_mult337 v6621).toNat := fun v6621 k0_hw337 => k0_hw337.1
theorem k0_off338_inb : ∀ (v6621 : BitVec 32) (k0_hw337 : k0_chk337 v6621), ∀ a, (k0_off338 v6621) a + S16x128.size a ≤ S66048x128.size a := fun v6621 k0_hw337 => k0_hw337.2

def k0_off339 (v6622 : BitVec 32) : Fin 2 → Nat :=
  let c3_i32_4395 : BitVec 32 := 3#32
  let v6628 : BitVec 32 := Scalar.shrsi v6622 c3_i32_4395
  let c3_i32_4396 : BitVec 32 := 3#32
  let v6629 : BitVec 32 := Scalar.shli v6628 c3_i32_4396
  let v6630 : BitVec 32 := v6629
  let v6633 : Index := Scalar.indexCast v6630
  let c0_4398 : Index := 0#32
  ![v6633.toNat, 0]

def k0_chk338 (v6622 : BitVec 32) : Prop :=
  (8 ∣ (k0_mult338 v6622).toNat) ∧
  (∀ a, (k0_off339 v6622) a + S16x128.size a ≤ S66048x128.size a)
theorem k0_mult338_dvd : ∀ (v6622 : BitVec 32) (k0_hw338 : k0_chk338 v6622), 8 ∣ (k0_mult338 v6622).toNat := fun v6622 k0_hw338 => k0_hw338.1
theorem k0_off339_inb : ∀ (v6622 : BitVec 32) (k0_hw338 : k0_chk338 v6622), ∀ a, (k0_off339 v6622) a + S16x128.size a ≤ S66048x128.size a := fun v6622 k0_hw338 => k0_hw338.2

def k0_mult339 (v6660 : BitVec 32) : BitVec 32 :=
  let c3_i32_4419 : BitVec 32 := 3#32
  let v6664 : BitVec 32 := Scalar.shrsi v6660 c3_i32_4419
  let c3_i32_4420 : BitVec 32 := 3#32
  let v6665 : BitVec 32 := Scalar.shli v6664 c3_i32_4420
  v6665

def k0_mult340 (v6661 : BitVec 32) : BitVec 32 :=
  let c3_i32_4421 : BitVec 32 := 3#32
  let v6667 : BitVec 32 := Scalar.shrsi v6661 c3_i32_4421
  let c3_i32_4422 : BitVec 32 := 3#32
  let v6668 : BitVec 32 := Scalar.shli v6667 c3_i32_4422
  v6668

def k0_off340 (v6660 : BitVec 32) : Fin 2 → Nat :=
  let c3_i32_4419 : BitVec 32 := 3#32
  let v6664 : BitVec 32 := Scalar.shrsi v6660 c3_i32_4419
  let c3_i32_4420 : BitVec 32 := 3#32
  let v6665 : BitVec 32 := Scalar.shli v6664 c3_i32_4420
  let v6666 : BitVec 32 := v6665
  let v6670 : Index := Scalar.indexCast v6666
  let c0_4423 : Index := 0#32
  ![v6670.toNat, 0]

def k0_chk339 (v6660 : BitVec 32) : Prop :=
  (8 ∣ (k0_mult339 v6660).toNat) ∧
  (∀ a, (k0_off340 v6660) a + S16x128.size a ≤ S66048x128.size a)
theorem k0_mult339_dvd : ∀ (v6660 : BitVec 32) (k0_hw339 : k0_chk339 v6660), 8 ∣ (k0_mult339 v6660).toNat := fun v6660 k0_hw339 => k0_hw339.1
theorem k0_off340_inb : ∀ (v6660 : BitVec 32) (k0_hw339 : k0_chk339 v6660), ∀ a, (k0_off340 v6660) a + S16x128.size a ≤ S66048x128.size a := fun v6660 k0_hw339 => k0_hw339.2

def k0_off341 (v6661 : BitVec 32) : Fin 2 → Nat :=
  let c3_i32_4421 : BitVec 32 := 3#32
  let v6667 : BitVec 32 := Scalar.shrsi v6661 c3_i32_4421
  let c3_i32_4422 : BitVec 32 := 3#32
  let v6668 : BitVec 32 := Scalar.shli v6667 c3_i32_4422
  let v6669 : BitVec 32 := v6668
  let v6672 : Index := Scalar.indexCast v6669
  let c0_4424 : Index := 0#32
  ![v6672.toNat, 0]

def k0_chk340 (v6661 : BitVec 32) : Prop :=
  (8 ∣ (k0_mult340 v6661).toNat) ∧
  (∀ a, (k0_off341 v6661) a + S16x128.size a ≤ S66048x128.size a)
theorem k0_mult340_dvd : ∀ (v6661 : BitVec 32) (k0_hw340 : k0_chk340 v6661), 8 ∣ (k0_mult340 v6661).toNat := fun v6661 k0_hw340 => k0_hw340.1
theorem k0_off341_inb : ∀ (v6661 : BitVec 32) (k0_hw340 : k0_chk340 v6661), ∀ a, (k0_off341 v6661) a + S16x128.size a ≤ S66048x128.size a := fun v6661 k0_hw340 => k0_hw340.2

def k0_mult341 (v6699 : BitVec 32) : BitVec 32 :=
  let c3_i32_4445 : BitVec 32 := 3#32
  let v6703 : BitVec 32 := Scalar.shrsi v6699 c3_i32_4445
  let c3_i32_4446 : BitVec 32 := 3#32
  let v6704 : BitVec 32 := Scalar.shli v6703 c3_i32_4446
  v6704

def k0_mult342 (v6700 : BitVec 32) : BitVec 32 :=
  let c3_i32_4447 : BitVec 32 := 3#32
  let v6706 : BitVec 32 := Scalar.shrsi v6700 c3_i32_4447
  let c3_i32_4448 : BitVec 32 := 3#32
  let v6707 : BitVec 32 := Scalar.shli v6706 c3_i32_4448
  v6707

def k0_off342 (v6699 : BitVec 32) : Fin 2 → Nat :=
  let c3_i32_4445 : BitVec 32 := 3#32
  let v6703 : BitVec 32 := Scalar.shrsi v6699 c3_i32_4445
  let c3_i32_4446 : BitVec 32 := 3#32
  let v6704 : BitVec 32 := Scalar.shli v6703 c3_i32_4446
  let v6705 : BitVec 32 := v6704
  let v6709 : Index := Scalar.indexCast v6705
  let c0_4449 : Index := 0#32
  ![v6709.toNat, 0]

def k0_chk341 (v6699 : BitVec 32) : Prop :=
  (8 ∣ (k0_mult341 v6699).toNat) ∧
  (∀ a, (k0_off342 v6699) a + S16x128.size a ≤ S66048x128.size a)
theorem k0_mult341_dvd : ∀ (v6699 : BitVec 32) (k0_hw341 : k0_chk341 v6699), 8 ∣ (k0_mult341 v6699).toNat := fun v6699 k0_hw341 => k0_hw341.1
theorem k0_off342_inb : ∀ (v6699 : BitVec 32) (k0_hw341 : k0_chk341 v6699), ∀ a, (k0_off342 v6699) a + S16x128.size a ≤ S66048x128.size a := fun v6699 k0_hw341 => k0_hw341.2

def k0_off343 (v6700 : BitVec 32) : Fin 2 → Nat :=
  let c3_i32_4447 : BitVec 32 := 3#32
  let v6706 : BitVec 32 := Scalar.shrsi v6700 c3_i32_4447
  let c3_i32_4448 : BitVec 32 := 3#32
  let v6707 : BitVec 32 := Scalar.shli v6706 c3_i32_4448
  let v6708 : BitVec 32 := v6707
  let v6711 : Index := Scalar.indexCast v6708
  let c0_4450 : Index := 0#32
  ![v6711.toNat, 0]

def k0_chk342 (v6700 : BitVec 32) : Prop :=
  (8 ∣ (k0_mult342 v6700).toNat) ∧
  (∀ a, (k0_off343 v6700) a + S16x128.size a ≤ S66048x128.size a)
theorem k0_mult342_dvd : ∀ (v6700 : BitVec 32) (k0_hw342 : k0_chk342 v6700), 8 ∣ (k0_mult342 v6700).toNat := fun v6700 k0_hw342 => k0_hw342.1
theorem k0_off343_inb : ∀ (v6700 : BitVec 32) (k0_hw342 : k0_chk342 v6700), ∀ a, (k0_off343 v6700) a + S16x128.size a ≤ S66048x128.size a := fun v6700 k0_hw342 => k0_hw342.2

def k0_mult343 (v6738 : BitVec 32) : BitVec 32 :=
  let c3_i32_4471 : BitVec 32 := 3#32
  let v6742 : BitVec 32 := Scalar.shrsi v6738 c3_i32_4471
  let c3_i32_4472 : BitVec 32 := 3#32
  let v6743 : BitVec 32 := Scalar.shli v6742 c3_i32_4472
  v6743

def k0_mult344 (v6739 : BitVec 32) : BitVec 32 :=
  let c3_i32_4473 : BitVec 32 := 3#32
  let v6745 : BitVec 32 := Scalar.shrsi v6739 c3_i32_4473
  let c3_i32_4474 : BitVec 32 := 3#32
  let v6746 : BitVec 32 := Scalar.shli v6745 c3_i32_4474
  v6746

def k0_off344 (v6738 : BitVec 32) : Fin 2 → Nat :=
  let c3_i32_4471 : BitVec 32 := 3#32
  let v6742 : BitVec 32 := Scalar.shrsi v6738 c3_i32_4471
  let c3_i32_4472 : BitVec 32 := 3#32
  let v6743 : BitVec 32 := Scalar.shli v6742 c3_i32_4472
  let v6744 : BitVec 32 := v6743
  let v6748 : Index := Scalar.indexCast v6744
  let c0_4475 : Index := 0#32
  ![v6748.toNat, 0]

def k0_chk343 (v6738 : BitVec 32) : Prop :=
  (8 ∣ (k0_mult343 v6738).toNat) ∧
  (∀ a, (k0_off344 v6738) a + S16x128.size a ≤ S66048x128.size a)
theorem k0_mult343_dvd : ∀ (v6738 : BitVec 32) (k0_hw343 : k0_chk343 v6738), 8 ∣ (k0_mult343 v6738).toNat := fun v6738 k0_hw343 => k0_hw343.1
theorem k0_off344_inb : ∀ (v6738 : BitVec 32) (k0_hw343 : k0_chk343 v6738), ∀ a, (k0_off344 v6738) a + S16x128.size a ≤ S66048x128.size a := fun v6738 k0_hw343 => k0_hw343.2

def k0_off345 (v6739 : BitVec 32) : Fin 2 → Nat :=
  let c3_i32_4473 : BitVec 32 := 3#32
  let v6745 : BitVec 32 := Scalar.shrsi v6739 c3_i32_4473
  let c3_i32_4474 : BitVec 32 := 3#32
  let v6746 : BitVec 32 := Scalar.shli v6745 c3_i32_4474
  let v6747 : BitVec 32 := v6746
  let v6750 : Index := Scalar.indexCast v6747
  let c0_4476 : Index := 0#32
  ![v6750.toNat, 0]

def k0_chk344 (v6739 : BitVec 32) : Prop :=
  (8 ∣ (k0_mult344 v6739).toNat) ∧
  (∀ a, (k0_off345 v6739) a + S16x128.size a ≤ S66048x128.size a)
theorem k0_mult344_dvd : ∀ (v6739 : BitVec 32) (k0_hw344 : k0_chk344 v6739), 8 ∣ (k0_mult344 v6739).toNat := fun v6739 k0_hw344 => k0_hw344.1
theorem k0_off345_inb : ∀ (v6739 : BitVec 32) (k0_hw344 : k0_chk344 v6739), ∀ a, (k0_off345 v6739) a + S16x128.size a ≤ S66048x128.size a := fun v6739 k0_hw344 => k0_hw344.2

def k0_mult345 (v6777 : BitVec 32) : BitVec 32 :=
  let c3_i32_4497 : BitVec 32 := 3#32
  let v6781 : BitVec 32 := Scalar.shrsi v6777 c3_i32_4497
  let c3_i32_4498 : BitVec 32 := 3#32
  let v6782 : BitVec 32 := Scalar.shli v6781 c3_i32_4498
  v6782

def k0_mult346 (v6778 : BitVec 32) : BitVec 32 :=
  let c3_i32_4499 : BitVec 32 := 3#32
  let v6784 : BitVec 32 := Scalar.shrsi v6778 c3_i32_4499
  let c3_i32_4500 : BitVec 32 := 3#32
  let v6785 : BitVec 32 := Scalar.shli v6784 c3_i32_4500
  v6785

def k0_off346 (v6777 : BitVec 32) : Fin 2 → Nat :=
  let c3_i32_4497 : BitVec 32 := 3#32
  let v6781 : BitVec 32 := Scalar.shrsi v6777 c3_i32_4497
  let c3_i32_4498 : BitVec 32 := 3#32
  let v6782 : BitVec 32 := Scalar.shli v6781 c3_i32_4498
  let v6783 : BitVec 32 := v6782
  let v6787 : Index := Scalar.indexCast v6783
  let c0_4501 : Index := 0#32
  ![v6787.toNat, 0]

def k0_chk345 (v6777 : BitVec 32) : Prop :=
  (8 ∣ (k0_mult345 v6777).toNat) ∧
  (∀ a, (k0_off346 v6777) a + S16x128.size a ≤ S66048x128.size a)
theorem k0_mult345_dvd : ∀ (v6777 : BitVec 32) (k0_hw345 : k0_chk345 v6777), 8 ∣ (k0_mult345 v6777).toNat := fun v6777 k0_hw345 => k0_hw345.1
theorem k0_off346_inb : ∀ (v6777 : BitVec 32) (k0_hw345 : k0_chk345 v6777), ∀ a, (k0_off346 v6777) a + S16x128.size a ≤ S66048x128.size a := fun v6777 k0_hw345 => k0_hw345.2

def k0_off347 (v6778 : BitVec 32) : Fin 2 → Nat :=
  let c3_i32_4499 : BitVec 32 := 3#32
  let v6784 : BitVec 32 := Scalar.shrsi v6778 c3_i32_4499
  let c3_i32_4500 : BitVec 32 := 3#32
  let v6785 : BitVec 32 := Scalar.shli v6784 c3_i32_4500
  let v6786 : BitVec 32 := v6785
  let v6789 : Index := Scalar.indexCast v6786
  let c0_4502 : Index := 0#32
  ![v6789.toNat, 0]

def k0_chk346 (v6778 : BitVec 32) : Prop :=
  (8 ∣ (k0_mult346 v6778).toNat) ∧
  (∀ a, (k0_off347 v6778) a + S16x128.size a ≤ S66048x128.size a)
theorem k0_mult346_dvd : ∀ (v6778 : BitVec 32) (k0_hw346 : k0_chk346 v6778), 8 ∣ (k0_mult346 v6778).toNat := fun v6778 k0_hw346 => k0_hw346.1
theorem k0_off347_inb : ∀ (v6778 : BitVec 32) (k0_hw346 : k0_chk346 v6778), ∀ a, (k0_off347 v6778) a + S16x128.size a ≤ S66048x128.size a := fun v6778 k0_hw346 => k0_hw346.2

def k0_mult347 (v6816 : BitVec 32) : BitVec 32 :=
  let c3_i32_4523 : BitVec 32 := 3#32
  let v6820 : BitVec 32 := Scalar.shrsi v6816 c3_i32_4523
  let c3_i32_4524 : BitVec 32 := 3#32
  let v6821 : BitVec 32 := Scalar.shli v6820 c3_i32_4524
  v6821

def k0_mult348 (v6817 : BitVec 32) : BitVec 32 :=
  let c3_i32_4525 : BitVec 32 := 3#32
  let v6823 : BitVec 32 := Scalar.shrsi v6817 c3_i32_4525
  let c3_i32_4526 : BitVec 32 := 3#32
  let v6824 : BitVec 32 := Scalar.shli v6823 c3_i32_4526
  v6824

def k0_off348 (v6816 : BitVec 32) : Fin 2 → Nat :=
  let c3_i32_4523 : BitVec 32 := 3#32
  let v6820 : BitVec 32 := Scalar.shrsi v6816 c3_i32_4523
  let c3_i32_4524 : BitVec 32 := 3#32
  let v6821 : BitVec 32 := Scalar.shli v6820 c3_i32_4524
  let v6822 : BitVec 32 := v6821
  let v6826 : Index := Scalar.indexCast v6822
  let c0_4527 : Index := 0#32
  ![v6826.toNat, 0]

def k0_chk347 (v6816 : BitVec 32) : Prop :=
  (8 ∣ (k0_mult347 v6816).toNat) ∧
  (∀ a, (k0_off348 v6816) a + S16x128.size a ≤ S66048x128.size a)
theorem k0_mult347_dvd : ∀ (v6816 : BitVec 32) (k0_hw347 : k0_chk347 v6816), 8 ∣ (k0_mult347 v6816).toNat := fun v6816 k0_hw347 => k0_hw347.1
theorem k0_off348_inb : ∀ (v6816 : BitVec 32) (k0_hw347 : k0_chk347 v6816), ∀ a, (k0_off348 v6816) a + S16x128.size a ≤ S66048x128.size a := fun v6816 k0_hw347 => k0_hw347.2

def k0_off349 (v6817 : BitVec 32) : Fin 2 → Nat :=
  let c3_i32_4525 : BitVec 32 := 3#32
  let v6823 : BitVec 32 := Scalar.shrsi v6817 c3_i32_4525
  let c3_i32_4526 : BitVec 32 := 3#32
  let v6824 : BitVec 32 := Scalar.shli v6823 c3_i32_4526
  let v6825 : BitVec 32 := v6824
  let v6828 : Index := Scalar.indexCast v6825
  let c0_4528 : Index := 0#32
  ![v6828.toNat, 0]

def k0_chk348 (v6817 : BitVec 32) : Prop :=
  (8 ∣ (k0_mult348 v6817).toNat) ∧
  (∀ a, (k0_off349 v6817) a + S16x128.size a ≤ S66048x128.size a)
theorem k0_mult348_dvd : ∀ (v6817 : BitVec 32) (k0_hw348 : k0_chk348 v6817), 8 ∣ (k0_mult348 v6817).toNat := fun v6817 k0_hw348 => k0_hw348.1
theorem k0_off349_inb : ∀ (v6817 : BitVec 32) (k0_hw348 : k0_chk348 v6817), ∀ a, (k0_off349 v6817) a + S16x128.size a ≤ S66048x128.size a := fun v6817 k0_hw348 => k0_hw348.2

def k0_mult349 (v6855 : BitVec 32) : BitVec 32 :=
  let c3_i32_4549 : BitVec 32 := 3#32
  let v6859 : BitVec 32 := Scalar.shrsi v6855 c3_i32_4549
  let c3_i32_4550 : BitVec 32 := 3#32
  let v6860 : BitVec 32 := Scalar.shli v6859 c3_i32_4550
  v6860

def k0_mult350 (v6856 : BitVec 32) : BitVec 32 :=
  let c3_i32_4551 : BitVec 32 := 3#32
  let v6862 : BitVec 32 := Scalar.shrsi v6856 c3_i32_4551
  let c3_i32_4552 : BitVec 32 := 3#32
  let v6863 : BitVec 32 := Scalar.shli v6862 c3_i32_4552
  v6863

def k0_off350 (v6855 : BitVec 32) : Fin 2 → Nat :=
  let c3_i32_4549 : BitVec 32 := 3#32
  let v6859 : BitVec 32 := Scalar.shrsi v6855 c3_i32_4549
  let c3_i32_4550 : BitVec 32 := 3#32
  let v6860 : BitVec 32 := Scalar.shli v6859 c3_i32_4550
  let v6861 : BitVec 32 := v6860
  let v6865 : Index := Scalar.indexCast v6861
  let c0_4553 : Index := 0#32
  ![v6865.toNat, 0]

def k0_chk349 (v6855 : BitVec 32) : Prop :=
  (8 ∣ (k0_mult349 v6855).toNat) ∧
  (∀ a, (k0_off350 v6855) a + S16x128.size a ≤ S66048x128.size a)
theorem k0_mult349_dvd : ∀ (v6855 : BitVec 32) (k0_hw349 : k0_chk349 v6855), 8 ∣ (k0_mult349 v6855).toNat := fun v6855 k0_hw349 => k0_hw349.1
theorem k0_off350_inb : ∀ (v6855 : BitVec 32) (k0_hw349 : k0_chk349 v6855), ∀ a, (k0_off350 v6855) a + S16x128.size a ≤ S66048x128.size a := fun v6855 k0_hw349 => k0_hw349.2

def k0_off351 (v6856 : BitVec 32) : Fin 2 → Nat :=
  let c3_i32_4551 : BitVec 32 := 3#32
  let v6862 : BitVec 32 := Scalar.shrsi v6856 c3_i32_4551
  let c3_i32_4552 : BitVec 32 := 3#32
  let v6863 : BitVec 32 := Scalar.shli v6862 c3_i32_4552
  let v6864 : BitVec 32 := v6863
  let v6867 : Index := Scalar.indexCast v6864
  let c0_4554 : Index := 0#32
  ![v6867.toNat, 0]

def k0_chk350 (v6856 : BitVec 32) : Prop :=
  (8 ∣ (k0_mult350 v6856).toNat) ∧
  (∀ a, (k0_off351 v6856) a + S16x128.size a ≤ S66048x128.size a)
theorem k0_mult350_dvd : ∀ (v6856 : BitVec 32) (k0_hw350 : k0_chk350 v6856), 8 ∣ (k0_mult350 v6856).toNat := fun v6856 k0_hw350 => k0_hw350.1
theorem k0_off351_inb : ∀ (v6856 : BitVec 32) (k0_hw350 : k0_chk350 v6856), ∀ a, (k0_off351 v6856) a + S16x128.size a ≤ S66048x128.size a := fun v6856 k0_hw350 => k0_hw350.2

def k0_mult351 (v6901 : BitVec 32) : BitVec 32 :=
  let c3_i32_4581 : BitVec 32 := 3#32
  let v6905 : BitVec 32 := Scalar.shrsi v6901 c3_i32_4581
  let c3_i32_4582 : BitVec 32 := 3#32
  let v6906 : BitVec 32 := Scalar.shli v6905 c3_i32_4582
  v6906

def k0_mult352 (v6902 : BitVec 32) : BitVec 32 :=
  let c3_i32_4583 : BitVec 32 := 3#32
  let v6908 : BitVec 32 := Scalar.shrsi v6902 c3_i32_4583
  let c3_i32_4584 : BitVec 32 := 3#32
  let v6909 : BitVec 32 := Scalar.shli v6908 c3_i32_4584
  v6909

def k0_off352 (v6901 : BitVec 32) : Fin 2 → Nat :=
  let c3_i32_4581 : BitVec 32 := 3#32
  let v6905 : BitVec 32 := Scalar.shrsi v6901 c3_i32_4581
  let c3_i32_4582 : BitVec 32 := 3#32
  let v6906 : BitVec 32 := Scalar.shli v6905 c3_i32_4582
  let v6907 : BitVec 32 := v6906
  let v6911 : Index := Scalar.indexCast v6907
  let c0_4585 : Index := 0#32
  ![v6911.toNat, 0]

def k0_chk351 (v6901 : BitVec 32) : Prop :=
  (8 ∣ (k0_mult351 v6901).toNat) ∧
  (∀ a, (k0_off352 v6901) a + S16x128.size a ≤ S66048x128.size a)
theorem k0_mult351_dvd : ∀ (v6901 : BitVec 32) (k0_hw351 : k0_chk351 v6901), 8 ∣ (k0_mult351 v6901).toNat := fun v6901 k0_hw351 => k0_hw351.1
theorem k0_off352_inb : ∀ (v6901 : BitVec 32) (k0_hw351 : k0_chk351 v6901), ∀ a, (k0_off352 v6901) a + S16x128.size a ≤ S66048x128.size a := fun v6901 k0_hw351 => k0_hw351.2

def k0_off353 (v6902 : BitVec 32) : Fin 2 → Nat :=
  let c3_i32_4583 : BitVec 32 := 3#32
  let v6908 : BitVec 32 := Scalar.shrsi v6902 c3_i32_4583
  let c3_i32_4584 : BitVec 32 := 3#32
  let v6909 : BitVec 32 := Scalar.shli v6908 c3_i32_4584
  let v6910 : BitVec 32 := v6909
  let v6913 : Index := Scalar.indexCast v6910
  let c0_4586 : Index := 0#32
  ![v6913.toNat, 0]

def k0_chk352 (v6902 : BitVec 32) : Prop :=
  (8 ∣ (k0_mult352 v6902).toNat) ∧
  (∀ a, (k0_off353 v6902) a + S16x128.size a ≤ S66048x128.size a)
theorem k0_mult352_dvd : ∀ (v6902 : BitVec 32) (k0_hw352 : k0_chk352 v6902), 8 ∣ (k0_mult352 v6902).toNat := fun v6902 k0_hw352 => k0_hw352.1
theorem k0_off353_inb : ∀ (v6902 : BitVec 32) (k0_hw352 : k0_chk352 v6902), ∀ a, (k0_off353 v6902) a + S16x128.size a ≤ S66048x128.size a := fun v6902 k0_hw352 => k0_hw352.2

def k0_mult353 (v6940 : BitVec 32) : BitVec 32 :=
  let c3_i32_4607 : BitVec 32 := 3#32
  let v6944 : BitVec 32 := Scalar.shrsi v6940 c3_i32_4607
  let c3_i32_4608 : BitVec 32 := 3#32
  let v6945 : BitVec 32 := Scalar.shli v6944 c3_i32_4608
  v6945

def k0_mult354 (v6941 : BitVec 32) : BitVec 32 :=
  let c3_i32_4609 : BitVec 32 := 3#32
  let v6947 : BitVec 32 := Scalar.shrsi v6941 c3_i32_4609
  let c3_i32_4610 : BitVec 32 := 3#32
  let v6948 : BitVec 32 := Scalar.shli v6947 c3_i32_4610
  v6948

def k0_off354 (v6940 : BitVec 32) : Fin 2 → Nat :=
  let c3_i32_4607 : BitVec 32 := 3#32
  let v6944 : BitVec 32 := Scalar.shrsi v6940 c3_i32_4607
  let c3_i32_4608 : BitVec 32 := 3#32
  let v6945 : BitVec 32 := Scalar.shli v6944 c3_i32_4608
  let v6946 : BitVec 32 := v6945
  let v6950 : Index := Scalar.indexCast v6946
  let c0_4611 : Index := 0#32
  ![v6950.toNat, 0]

def k0_chk353 (v6940 : BitVec 32) : Prop :=
  (8 ∣ (k0_mult353 v6940).toNat) ∧
  (∀ a, (k0_off354 v6940) a + S16x128.size a ≤ S66048x128.size a)
theorem k0_mult353_dvd : ∀ (v6940 : BitVec 32) (k0_hw353 : k0_chk353 v6940), 8 ∣ (k0_mult353 v6940).toNat := fun v6940 k0_hw353 => k0_hw353.1
theorem k0_off354_inb : ∀ (v6940 : BitVec 32) (k0_hw353 : k0_chk353 v6940), ∀ a, (k0_off354 v6940) a + S16x128.size a ≤ S66048x128.size a := fun v6940 k0_hw353 => k0_hw353.2

def k0_off355 (v6941 : BitVec 32) : Fin 2 → Nat :=
  let c3_i32_4609 : BitVec 32 := 3#32
  let v6947 : BitVec 32 := Scalar.shrsi v6941 c3_i32_4609
  let c3_i32_4610 : BitVec 32 := 3#32
  let v6948 : BitVec 32 := Scalar.shli v6947 c3_i32_4610
  let v6949 : BitVec 32 := v6948
  let v6952 : Index := Scalar.indexCast v6949
  let c0_4612 : Index := 0#32
  ![v6952.toNat, 0]

def k0_chk354 (v6941 : BitVec 32) : Prop :=
  (8 ∣ (k0_mult354 v6941).toNat) ∧
  (∀ a, (k0_off355 v6941) a + S16x128.size a ≤ S66048x128.size a)
theorem k0_mult354_dvd : ∀ (v6941 : BitVec 32) (k0_hw354 : k0_chk354 v6941), 8 ∣ (k0_mult354 v6941).toNat := fun v6941 k0_hw354 => k0_hw354.1
theorem k0_off355_inb : ∀ (v6941 : BitVec 32) (k0_hw354 : k0_chk354 v6941), ∀ a, (k0_off355 v6941) a + S16x128.size a ≤ S66048x128.size a := fun v6941 k0_hw354 => k0_hw354.2

def k0_mult355 (v6979 : BitVec 32) : BitVec 32 :=
  let c3_i32_4633 : BitVec 32 := 3#32
  let v6983 : BitVec 32 := Scalar.shrsi v6979 c3_i32_4633
  let c3_i32_4634 : BitVec 32 := 3#32
  let v6984 : BitVec 32 := Scalar.shli v6983 c3_i32_4634
  v6984

def k0_mult356 (v6980 : BitVec 32) : BitVec 32 :=
  let c3_i32_4635 : BitVec 32 := 3#32
  let v6986 : BitVec 32 := Scalar.shrsi v6980 c3_i32_4635
  let c3_i32_4636 : BitVec 32 := 3#32
  let v6987 : BitVec 32 := Scalar.shli v6986 c3_i32_4636
  v6987

def k0_off356 (v6979 : BitVec 32) : Fin 2 → Nat :=
  let c3_i32_4633 : BitVec 32 := 3#32
  let v6983 : BitVec 32 := Scalar.shrsi v6979 c3_i32_4633
  let c3_i32_4634 : BitVec 32 := 3#32
  let v6984 : BitVec 32 := Scalar.shli v6983 c3_i32_4634
  let v6985 : BitVec 32 := v6984
  let v6989 : Index := Scalar.indexCast v6985
  let c0_4637 : Index := 0#32
  ![v6989.toNat, 0]

def k0_chk355 (v6979 : BitVec 32) : Prop :=
  (8 ∣ (k0_mult355 v6979).toNat) ∧
  (∀ a, (k0_off356 v6979) a + S16x128.size a ≤ S66048x128.size a)
theorem k0_mult355_dvd : ∀ (v6979 : BitVec 32) (k0_hw355 : k0_chk355 v6979), 8 ∣ (k0_mult355 v6979).toNat := fun v6979 k0_hw355 => k0_hw355.1
theorem k0_off356_inb : ∀ (v6979 : BitVec 32) (k0_hw355 : k0_chk355 v6979), ∀ a, (k0_off356 v6979) a + S16x128.size a ≤ S66048x128.size a := fun v6979 k0_hw355 => k0_hw355.2

def k0_off357 (v6980 : BitVec 32) : Fin 2 → Nat :=
  let c3_i32_4635 : BitVec 32 := 3#32
  let v6986 : BitVec 32 := Scalar.shrsi v6980 c3_i32_4635
  let c3_i32_4636 : BitVec 32 := 3#32
  let v6987 : BitVec 32 := Scalar.shli v6986 c3_i32_4636
  let v6988 : BitVec 32 := v6987
  let v6991 : Index := Scalar.indexCast v6988
  let c0_4638 : Index := 0#32
  ![v6991.toNat, 0]

def k0_chk356 (v6980 : BitVec 32) : Prop :=
  (8 ∣ (k0_mult356 v6980).toNat) ∧
  (∀ a, (k0_off357 v6980) a + S16x128.size a ≤ S66048x128.size a)
theorem k0_mult356_dvd : ∀ (v6980 : BitVec 32) (k0_hw356 : k0_chk356 v6980), 8 ∣ (k0_mult356 v6980).toNat := fun v6980 k0_hw356 => k0_hw356.1
theorem k0_off357_inb : ∀ (v6980 : BitVec 32) (k0_hw356 : k0_chk356 v6980), ∀ a, (k0_off357 v6980) a + S16x128.size a ≤ S66048x128.size a := fun v6980 k0_hw356 => k0_hw356.2

def k0_mult357 (v7018 : BitVec 32) : BitVec 32 :=
  let c3_i32_4659 : BitVec 32 := 3#32
  let v7022 : BitVec 32 := Scalar.shrsi v7018 c3_i32_4659
  let c3_i32_4660 : BitVec 32 := 3#32
  let v7023 : BitVec 32 := Scalar.shli v7022 c3_i32_4660
  v7023

def k0_mult358 (v7019 : BitVec 32) : BitVec 32 :=
  let c3_i32_4661 : BitVec 32 := 3#32
  let v7025 : BitVec 32 := Scalar.shrsi v7019 c3_i32_4661
  let c3_i32_4662 : BitVec 32 := 3#32
  let v7026 : BitVec 32 := Scalar.shli v7025 c3_i32_4662
  v7026

def k0_off358 (v7018 : BitVec 32) : Fin 2 → Nat :=
  let c3_i32_4659 : BitVec 32 := 3#32
  let v7022 : BitVec 32 := Scalar.shrsi v7018 c3_i32_4659
  let c3_i32_4660 : BitVec 32 := 3#32
  let v7023 : BitVec 32 := Scalar.shli v7022 c3_i32_4660
  let v7024 : BitVec 32 := v7023
  let v7028 : Index := Scalar.indexCast v7024
  let c0_4663 : Index := 0#32
  ![v7028.toNat, 0]

def k0_chk357 (v7018 : BitVec 32) : Prop :=
  (8 ∣ (k0_mult357 v7018).toNat) ∧
  (∀ a, (k0_off358 v7018) a + S16x128.size a ≤ S66048x128.size a)
theorem k0_mult357_dvd : ∀ (v7018 : BitVec 32) (k0_hw357 : k0_chk357 v7018), 8 ∣ (k0_mult357 v7018).toNat := fun v7018 k0_hw357 => k0_hw357.1
theorem k0_off358_inb : ∀ (v7018 : BitVec 32) (k0_hw357 : k0_chk357 v7018), ∀ a, (k0_off358 v7018) a + S16x128.size a ≤ S66048x128.size a := fun v7018 k0_hw357 => k0_hw357.2

def k0_off359 (v7019 : BitVec 32) : Fin 2 → Nat :=
  let c3_i32_4661 : BitVec 32 := 3#32
  let v7025 : BitVec 32 := Scalar.shrsi v7019 c3_i32_4661
  let c3_i32_4662 : BitVec 32 := 3#32
  let v7026 : BitVec 32 := Scalar.shli v7025 c3_i32_4662
  let v7027 : BitVec 32 := v7026
  let v7030 : Index := Scalar.indexCast v7027
  let c0_4664 : Index := 0#32
  ![v7030.toNat, 0]

def k0_chk358 (v7019 : BitVec 32) : Prop :=
  (8 ∣ (k0_mult358 v7019).toNat) ∧
  (∀ a, (k0_off359 v7019) a + S16x128.size a ≤ S66048x128.size a)
theorem k0_mult358_dvd : ∀ (v7019 : BitVec 32) (k0_hw358 : k0_chk358 v7019), 8 ∣ (k0_mult358 v7019).toNat := fun v7019 k0_hw358 => k0_hw358.1
theorem k0_off359_inb : ∀ (v7019 : BitVec 32) (k0_hw358 : k0_chk358 v7019), ∀ a, (k0_off359 v7019) a + S16x128.size a ≤ S66048x128.size a := fun v7019 k0_hw358 => k0_hw358.2

def k0_mult359 (v7057 : BitVec 32) : BitVec 32 :=
  let c3_i32_4685 : BitVec 32 := 3#32
  let v7061 : BitVec 32 := Scalar.shrsi v7057 c3_i32_4685
  let c3_i32_4686 : BitVec 32 := 3#32
  let v7062 : BitVec 32 := Scalar.shli v7061 c3_i32_4686
  v7062

def k0_mult360 (v7058 : BitVec 32) : BitVec 32 :=
  let c3_i32_4687 : BitVec 32 := 3#32
  let v7064 : BitVec 32 := Scalar.shrsi v7058 c3_i32_4687
  let c3_i32_4688 : BitVec 32 := 3#32
  let v7065 : BitVec 32 := Scalar.shli v7064 c3_i32_4688
  v7065

def k0_off360 (v7057 : BitVec 32) : Fin 2 → Nat :=
  let c3_i32_4685 : BitVec 32 := 3#32
  let v7061 : BitVec 32 := Scalar.shrsi v7057 c3_i32_4685
  let c3_i32_4686 : BitVec 32 := 3#32
  let v7062 : BitVec 32 := Scalar.shli v7061 c3_i32_4686
  let v7063 : BitVec 32 := v7062
  let v7067 : Index := Scalar.indexCast v7063
  let c0_4689 : Index := 0#32
  ![v7067.toNat, 0]

def k0_chk359 (v7057 : BitVec 32) : Prop :=
  (8 ∣ (k0_mult359 v7057).toNat) ∧
  (∀ a, (k0_off360 v7057) a + S16x128.size a ≤ S66048x128.size a)
theorem k0_mult359_dvd : ∀ (v7057 : BitVec 32) (k0_hw359 : k0_chk359 v7057), 8 ∣ (k0_mult359 v7057).toNat := fun v7057 k0_hw359 => k0_hw359.1
theorem k0_off360_inb : ∀ (v7057 : BitVec 32) (k0_hw359 : k0_chk359 v7057), ∀ a, (k0_off360 v7057) a + S16x128.size a ≤ S66048x128.size a := fun v7057 k0_hw359 => k0_hw359.2

def k0_off361 (v7058 : BitVec 32) : Fin 2 → Nat :=
  let c3_i32_4687 : BitVec 32 := 3#32
  let v7064 : BitVec 32 := Scalar.shrsi v7058 c3_i32_4687
  let c3_i32_4688 : BitVec 32 := 3#32
  let v7065 : BitVec 32 := Scalar.shli v7064 c3_i32_4688
  let v7066 : BitVec 32 := v7065
  let v7069 : Index := Scalar.indexCast v7066
  let c0_4690 : Index := 0#32
  ![v7069.toNat, 0]

def k0_chk360 (v7058 : BitVec 32) : Prop :=
  (8 ∣ (k0_mult360 v7058).toNat) ∧
  (∀ a, (k0_off361 v7058) a + S16x128.size a ≤ S66048x128.size a)
theorem k0_mult360_dvd : ∀ (v7058 : BitVec 32) (k0_hw360 : k0_chk360 v7058), 8 ∣ (k0_mult360 v7058).toNat := fun v7058 k0_hw360 => k0_hw360.1
theorem k0_off361_inb : ∀ (v7058 : BitVec 32) (k0_hw360 : k0_chk360 v7058), ∀ a, (k0_off361 v7058) a + S16x128.size a ≤ S66048x128.size a := fun v7058 k0_hw360 => k0_hw360.2

def k0_mult361 (v7096 : BitVec 32) : BitVec 32 :=
  let c3_i32_4711 : BitVec 32 := 3#32
  let v7100 : BitVec 32 := Scalar.shrsi v7096 c3_i32_4711
  let c3_i32_4712 : BitVec 32 := 3#32
  let v7101 : BitVec 32 := Scalar.shli v7100 c3_i32_4712
  v7101

def k0_mult362 (v7097 : BitVec 32) : BitVec 32 :=
  let c3_i32_4713 : BitVec 32 := 3#32
  let v7103 : BitVec 32 := Scalar.shrsi v7097 c3_i32_4713
  let c3_i32_4714 : BitVec 32 := 3#32
  let v7104 : BitVec 32 := Scalar.shli v7103 c3_i32_4714
  v7104

def k0_off362 (v7096 : BitVec 32) : Fin 2 → Nat :=
  let c3_i32_4711 : BitVec 32 := 3#32
  let v7100 : BitVec 32 := Scalar.shrsi v7096 c3_i32_4711
  let c3_i32_4712 : BitVec 32 := 3#32
  let v7101 : BitVec 32 := Scalar.shli v7100 c3_i32_4712
  let v7102 : BitVec 32 := v7101
  let v7106 : Index := Scalar.indexCast v7102
  let c0_4715 : Index := 0#32
  ![v7106.toNat, 0]

def k0_chk361 (v7096 : BitVec 32) : Prop :=
  (8 ∣ (k0_mult361 v7096).toNat) ∧
  (∀ a, (k0_off362 v7096) a + S16x128.size a ≤ S66048x128.size a)
theorem k0_mult361_dvd : ∀ (v7096 : BitVec 32) (k0_hw361 : k0_chk361 v7096), 8 ∣ (k0_mult361 v7096).toNat := fun v7096 k0_hw361 => k0_hw361.1
theorem k0_off362_inb : ∀ (v7096 : BitVec 32) (k0_hw361 : k0_chk361 v7096), ∀ a, (k0_off362 v7096) a + S16x128.size a ≤ S66048x128.size a := fun v7096 k0_hw361 => k0_hw361.2

def k0_off363 (v7097 : BitVec 32) : Fin 2 → Nat :=
  let c3_i32_4713 : BitVec 32 := 3#32
  let v7103 : BitVec 32 := Scalar.shrsi v7097 c3_i32_4713
  let c3_i32_4714 : BitVec 32 := 3#32
  let v7104 : BitVec 32 := Scalar.shli v7103 c3_i32_4714
  let v7105 : BitVec 32 := v7104
  let v7108 : Index := Scalar.indexCast v7105
  let c0_4716 : Index := 0#32
  ![v7108.toNat, 0]

def k0_chk362 (v7097 : BitVec 32) : Prop :=
  (8 ∣ (k0_mult362 v7097).toNat) ∧
  (∀ a, (k0_off363 v7097) a + S16x128.size a ≤ S66048x128.size a)
theorem k0_mult362_dvd : ∀ (v7097 : BitVec 32) (k0_hw362 : k0_chk362 v7097), 8 ∣ (k0_mult362 v7097).toNat := fun v7097 k0_hw362 => k0_hw362.1
theorem k0_off363_inb : ∀ (v7097 : BitVec 32) (k0_hw362 : k0_chk362 v7097), ∀ a, (k0_off363 v7097) a + S16x128.size a ≤ S66048x128.size a := fun v7097 k0_hw362 => k0_hw362.2

def k0_mult363 (v7135 : BitVec 32) : BitVec 32 :=
  let c3_i32_4737 : BitVec 32 := 3#32
  let v7139 : BitVec 32 := Scalar.shrsi v7135 c3_i32_4737
  let c3_i32_4738 : BitVec 32 := 3#32
  let v7140 : BitVec 32 := Scalar.shli v7139 c3_i32_4738
  v7140

def k0_mult364 (v7136 : BitVec 32) : BitVec 32 :=
  let c3_i32_4739 : BitVec 32 := 3#32
  let v7142 : BitVec 32 := Scalar.shrsi v7136 c3_i32_4739
  let c3_i32_4740 : BitVec 32 := 3#32
  let v7143 : BitVec 32 := Scalar.shli v7142 c3_i32_4740
  v7143

def k0_off364 (v7135 : BitVec 32) : Fin 2 → Nat :=
  let c3_i32_4737 : BitVec 32 := 3#32
  let v7139 : BitVec 32 := Scalar.shrsi v7135 c3_i32_4737
  let c3_i32_4738 : BitVec 32 := 3#32
  let v7140 : BitVec 32 := Scalar.shli v7139 c3_i32_4738
  let v7141 : BitVec 32 := v7140
  let v7145 : Index := Scalar.indexCast v7141
  let c0_4741 : Index := 0#32
  ![v7145.toNat, 0]

def k0_chk363 (v7135 : BitVec 32) : Prop :=
  (8 ∣ (k0_mult363 v7135).toNat) ∧
  (∀ a, (k0_off364 v7135) a + S16x128.size a ≤ S66048x128.size a)
theorem k0_mult363_dvd : ∀ (v7135 : BitVec 32) (k0_hw363 : k0_chk363 v7135), 8 ∣ (k0_mult363 v7135).toNat := fun v7135 k0_hw363 => k0_hw363.1
theorem k0_off364_inb : ∀ (v7135 : BitVec 32) (k0_hw363 : k0_chk363 v7135), ∀ a, (k0_off364 v7135) a + S16x128.size a ≤ S66048x128.size a := fun v7135 k0_hw363 => k0_hw363.2

def k0_off365 (v7136 : BitVec 32) : Fin 2 → Nat :=
  let c3_i32_4739 : BitVec 32 := 3#32
  let v7142 : BitVec 32 := Scalar.shrsi v7136 c3_i32_4739
  let c3_i32_4740 : BitVec 32 := 3#32
  let v7143 : BitVec 32 := Scalar.shli v7142 c3_i32_4740
  let v7144 : BitVec 32 := v7143
  let v7147 : Index := Scalar.indexCast v7144
  let c0_4742 : Index := 0#32
  ![v7147.toNat, 0]

def k0_chk364 (v7136 : BitVec 32) : Prop :=
  (8 ∣ (k0_mult364 v7136).toNat) ∧
  (∀ a, (k0_off365 v7136) a + S16x128.size a ≤ S66048x128.size a)
theorem k0_mult364_dvd : ∀ (v7136 : BitVec 32) (k0_hw364 : k0_chk364 v7136), 8 ∣ (k0_mult364 v7136).toNat := fun v7136 k0_hw364 => k0_hw364.1
theorem k0_off365_inb : ∀ (v7136 : BitVec 32) (k0_hw364 : k0_chk364 v7136), ∀ a, (k0_off365 v7136) a + S16x128.size a ≤ S66048x128.size a := fun v7136 k0_hw364 => k0_hw364.2

def k0_mult365 (v7174 : BitVec 32) : BitVec 32 :=
  let c3_i32_4763 : BitVec 32 := 3#32
  let v7178 : BitVec 32 := Scalar.shrsi v7174 c3_i32_4763
  let c3_i32_4764 : BitVec 32 := 3#32
  let v7179 : BitVec 32 := Scalar.shli v7178 c3_i32_4764
  v7179

def k0_mult366 (v7175 : BitVec 32) : BitVec 32 :=
  let c3_i32_4765 : BitVec 32 := 3#32
  let v7181 : BitVec 32 := Scalar.shrsi v7175 c3_i32_4765
  let c3_i32_4766 : BitVec 32 := 3#32
  let v7182 : BitVec 32 := Scalar.shli v7181 c3_i32_4766
  v7182

def k0_off366 (v7174 : BitVec 32) : Fin 2 → Nat :=
  let c3_i32_4763 : BitVec 32 := 3#32
  let v7178 : BitVec 32 := Scalar.shrsi v7174 c3_i32_4763
  let c3_i32_4764 : BitVec 32 := 3#32
  let v7179 : BitVec 32 := Scalar.shli v7178 c3_i32_4764
  let v7180 : BitVec 32 := v7179
  let v7184 : Index := Scalar.indexCast v7180
  let c0_4767 : Index := 0#32
  ![v7184.toNat, 0]

def k0_chk365 (v7174 : BitVec 32) : Prop :=
  (8 ∣ (k0_mult365 v7174).toNat) ∧
  (∀ a, (k0_off366 v7174) a + S16x128.size a ≤ S66048x128.size a)
theorem k0_mult365_dvd : ∀ (v7174 : BitVec 32) (k0_hw365 : k0_chk365 v7174), 8 ∣ (k0_mult365 v7174).toNat := fun v7174 k0_hw365 => k0_hw365.1
theorem k0_off366_inb : ∀ (v7174 : BitVec 32) (k0_hw365 : k0_chk365 v7174), ∀ a, (k0_off366 v7174) a + S16x128.size a ≤ S66048x128.size a := fun v7174 k0_hw365 => k0_hw365.2

def k0_off367 (v7175 : BitVec 32) : Fin 2 → Nat :=
  let c3_i32_4765 : BitVec 32 := 3#32
  let v7181 : BitVec 32 := Scalar.shrsi v7175 c3_i32_4765
  let c3_i32_4766 : BitVec 32 := 3#32
  let v7182 : BitVec 32 := Scalar.shli v7181 c3_i32_4766
  let v7183 : BitVec 32 := v7182
  let v7186 : Index := Scalar.indexCast v7183
  let c0_4768 : Index := 0#32
  ![v7186.toNat, 0]

def k0_chk366 (v7175 : BitVec 32) : Prop :=
  (8 ∣ (k0_mult366 v7175).toNat) ∧
  (∀ a, (k0_off367 v7175) a + S16x128.size a ≤ S66048x128.size a)
theorem k0_mult366_dvd : ∀ (v7175 : BitVec 32) (k0_hw366 : k0_chk366 v7175), 8 ∣ (k0_mult366 v7175).toNat := fun v7175 k0_hw366 => k0_hw366.1
theorem k0_off367_inb : ∀ (v7175 : BitVec 32) (k0_hw366 : k0_chk366 v7175), ∀ a, (k0_off367 v7175) a + S16x128.size a ≤ S66048x128.size a := fun v7175 k0_hw366 => k0_hw366.2

def k0_mult367 (v7213 : BitVec 32) : BitVec 32 :=
  let c3_i32_4789 : BitVec 32 := 3#32
  let v7217 : BitVec 32 := Scalar.shrsi v7213 c3_i32_4789
  let c3_i32_4790 : BitVec 32 := 3#32
  let v7218 : BitVec 32 := Scalar.shli v7217 c3_i32_4790
  v7218

def k0_mult368 (v7214 : BitVec 32) : BitVec 32 :=
  let c3_i32_4791 : BitVec 32 := 3#32
  let v7220 : BitVec 32 := Scalar.shrsi v7214 c3_i32_4791
  let c3_i32_4792 : BitVec 32 := 3#32
  let v7221 : BitVec 32 := Scalar.shli v7220 c3_i32_4792
  v7221

def k0_off368 (v7213 : BitVec 32) : Fin 2 → Nat :=
  let c3_i32_4789 : BitVec 32 := 3#32
  let v7217 : BitVec 32 := Scalar.shrsi v7213 c3_i32_4789
  let c3_i32_4790 : BitVec 32 := 3#32
  let v7218 : BitVec 32 := Scalar.shli v7217 c3_i32_4790
  let v7219 : BitVec 32 := v7218
  let v7223 : Index := Scalar.indexCast v7219
  let c0_4793 : Index := 0#32
  ![v7223.toNat, 0]

def k0_chk367 (v7213 : BitVec 32) : Prop :=
  (8 ∣ (k0_mult367 v7213).toNat) ∧
  (∀ a, (k0_off368 v7213) a + S16x128.size a ≤ S66048x128.size a)
theorem k0_mult367_dvd : ∀ (v7213 : BitVec 32) (k0_hw367 : k0_chk367 v7213), 8 ∣ (k0_mult367 v7213).toNat := fun v7213 k0_hw367 => k0_hw367.1
theorem k0_off368_inb : ∀ (v7213 : BitVec 32) (k0_hw367 : k0_chk367 v7213), ∀ a, (k0_off368 v7213) a + S16x128.size a ≤ S66048x128.size a := fun v7213 k0_hw367 => k0_hw367.2

def k0_off369 (v7214 : BitVec 32) : Fin 2 → Nat :=
  let c3_i32_4791 : BitVec 32 := 3#32
  let v7220 : BitVec 32 := Scalar.shrsi v7214 c3_i32_4791
  let c3_i32_4792 : BitVec 32 := 3#32
  let v7221 : BitVec 32 := Scalar.shli v7220 c3_i32_4792
  let v7222 : BitVec 32 := v7221
  let v7225 : Index := Scalar.indexCast v7222
  let c0_4794 : Index := 0#32
  ![v7225.toNat, 0]

def k0_chk368 (v7214 : BitVec 32) : Prop :=
  (8 ∣ (k0_mult368 v7214).toNat) ∧
  (∀ a, (k0_off369 v7214) a + S16x128.size a ≤ S66048x128.size a)
theorem k0_mult368_dvd : ∀ (v7214 : BitVec 32) (k0_hw368 : k0_chk368 v7214), 8 ∣ (k0_mult368 v7214).toNat := fun v7214 k0_hw368 => k0_hw368.1
theorem k0_off369_inb : ∀ (v7214 : BitVec 32) (k0_hw368 : k0_chk368 v7214), ∀ a, (k0_off369 v7214) a + S16x128.size a ≤ S66048x128.size a := fun v7214 k0_hw368 => k0_hw368.2

def k0_mult369 (v7252 : BitVec 32) : BitVec 32 :=
  let c3_i32_4815 : BitVec 32 := 3#32
  let v7256 : BitVec 32 := Scalar.shrsi v7252 c3_i32_4815
  let c3_i32_4816 : BitVec 32 := 3#32
  let v7257 : BitVec 32 := Scalar.shli v7256 c3_i32_4816
  v7257

def k0_mult370 (v7253 : BitVec 32) : BitVec 32 :=
  let c3_i32_4817 : BitVec 32 := 3#32
  let v7259 : BitVec 32 := Scalar.shrsi v7253 c3_i32_4817
  let c3_i32_4818 : BitVec 32 := 3#32
  let v7260 : BitVec 32 := Scalar.shli v7259 c3_i32_4818
  v7260

def k0_off370 (v7252 : BitVec 32) : Fin 2 → Nat :=
  let c3_i32_4815 : BitVec 32 := 3#32
  let v7256 : BitVec 32 := Scalar.shrsi v7252 c3_i32_4815
  let c3_i32_4816 : BitVec 32 := 3#32
  let v7257 : BitVec 32 := Scalar.shli v7256 c3_i32_4816
  let v7258 : BitVec 32 := v7257
  let v7262 : Index := Scalar.indexCast v7258
  let c0_4819 : Index := 0#32
  ![v7262.toNat, 0]

def k0_chk369 (v7252 : BitVec 32) : Prop :=
  (8 ∣ (k0_mult369 v7252).toNat) ∧
  (∀ a, (k0_off370 v7252) a + S16x128.size a ≤ S66048x128.size a)
theorem k0_mult369_dvd : ∀ (v7252 : BitVec 32) (k0_hw369 : k0_chk369 v7252), 8 ∣ (k0_mult369 v7252).toNat := fun v7252 k0_hw369 => k0_hw369.1
theorem k0_off370_inb : ∀ (v7252 : BitVec 32) (k0_hw369 : k0_chk369 v7252), ∀ a, (k0_off370 v7252) a + S16x128.size a ≤ S66048x128.size a := fun v7252 k0_hw369 => k0_hw369.2

def k0_off371 (v7253 : BitVec 32) : Fin 2 → Nat :=
  let c3_i32_4817 : BitVec 32 := 3#32
  let v7259 : BitVec 32 := Scalar.shrsi v7253 c3_i32_4817
  let c3_i32_4818 : BitVec 32 := 3#32
  let v7260 : BitVec 32 := Scalar.shli v7259 c3_i32_4818
  let v7261 : BitVec 32 := v7260
  let v7264 : Index := Scalar.indexCast v7261
  let c0_4820 : Index := 0#32
  ![v7264.toNat, 0]

def k0_chk370 (v7253 : BitVec 32) : Prop :=
  (8 ∣ (k0_mult370 v7253).toNat) ∧
  (∀ a, (k0_off371 v7253) a + S16x128.size a ≤ S66048x128.size a)
theorem k0_mult370_dvd : ∀ (v7253 : BitVec 32) (k0_hw370 : k0_chk370 v7253), 8 ∣ (k0_mult370 v7253).toNat := fun v7253 k0_hw370 => k0_hw370.1
theorem k0_off371_inb : ∀ (v7253 : BitVec 32) (k0_hw370 : k0_chk370 v7253), ∀ a, (k0_off371 v7253) a + S16x128.size a ≤ S66048x128.size a := fun v7253 k0_hw370 => k0_hw370.2

def k0_mult371 (v7291 : BitVec 32) : BitVec 32 :=
  let c3_i32_4841 : BitVec 32 := 3#32
  let v7295 : BitVec 32 := Scalar.shrsi v7291 c3_i32_4841
  let c3_i32_4842 : BitVec 32 := 3#32
  let v7296 : BitVec 32 := Scalar.shli v7295 c3_i32_4842
  v7296

def k0_mult372 (v7292 : BitVec 32) : BitVec 32 :=
  let c3_i32_4843 : BitVec 32 := 3#32
  let v7298 : BitVec 32 := Scalar.shrsi v7292 c3_i32_4843
  let c3_i32_4844 : BitVec 32 := 3#32
  let v7299 : BitVec 32 := Scalar.shli v7298 c3_i32_4844
  v7299

def k0_off372 (v7291 : BitVec 32) : Fin 2 → Nat :=
  let c3_i32_4841 : BitVec 32 := 3#32
  let v7295 : BitVec 32 := Scalar.shrsi v7291 c3_i32_4841
  let c3_i32_4842 : BitVec 32 := 3#32
  let v7296 : BitVec 32 := Scalar.shli v7295 c3_i32_4842
  let v7297 : BitVec 32 := v7296
  let v7301 : Index := Scalar.indexCast v7297
  let c0_4845 : Index := 0#32
  ![v7301.toNat, 0]

def k0_chk371 (v7291 : BitVec 32) : Prop :=
  (8 ∣ (k0_mult371 v7291).toNat) ∧
  (∀ a, (k0_off372 v7291) a + S16x128.size a ≤ S66048x128.size a)
theorem k0_mult371_dvd : ∀ (v7291 : BitVec 32) (k0_hw371 : k0_chk371 v7291), 8 ∣ (k0_mult371 v7291).toNat := fun v7291 k0_hw371 => k0_hw371.1
theorem k0_off372_inb : ∀ (v7291 : BitVec 32) (k0_hw371 : k0_chk371 v7291), ∀ a, (k0_off372 v7291) a + S16x128.size a ≤ S66048x128.size a := fun v7291 k0_hw371 => k0_hw371.2

def k0_off373 (v7292 : BitVec 32) : Fin 2 → Nat :=
  let c3_i32_4843 : BitVec 32 := 3#32
  let v7298 : BitVec 32 := Scalar.shrsi v7292 c3_i32_4843
  let c3_i32_4844 : BitVec 32 := 3#32
  let v7299 : BitVec 32 := Scalar.shli v7298 c3_i32_4844
  let v7300 : BitVec 32 := v7299
  let v7303 : Index := Scalar.indexCast v7300
  let c0_4846 : Index := 0#32
  ![v7303.toNat, 0]

def k0_chk372 (v7292 : BitVec 32) : Prop :=
  (8 ∣ (k0_mult372 v7292).toNat) ∧
  (∀ a, (k0_off373 v7292) a + S16x128.size a ≤ S66048x128.size a)
theorem k0_mult372_dvd : ∀ (v7292 : BitVec 32) (k0_hw372 : k0_chk372 v7292), 8 ∣ (k0_mult372 v7292).toNat := fun v7292 k0_hw372 => k0_hw372.1
theorem k0_off373_inb : ∀ (v7292 : BitVec 32) (k0_hw372 : k0_chk372 v7292), ∀ a, (k0_off373 v7292) a + S16x128.size a ≤ S66048x128.size a := fun v7292 k0_hw372 => k0_hw372.2

def k0_mult373 (v7330 : BitVec 32) : BitVec 32 :=
  let c3_i32_4867 : BitVec 32 := 3#32
  let v7334 : BitVec 32 := Scalar.shrsi v7330 c3_i32_4867
  let c3_i32_4868 : BitVec 32 := 3#32
  let v7335 : BitVec 32 := Scalar.shli v7334 c3_i32_4868
  v7335

def k0_mult374 (v7331 : BitVec 32) : BitVec 32 :=
  let c3_i32_4869 : BitVec 32 := 3#32
  let v7337 : BitVec 32 := Scalar.shrsi v7331 c3_i32_4869
  let c3_i32_4870 : BitVec 32 := 3#32
  let v7338 : BitVec 32 := Scalar.shli v7337 c3_i32_4870
  v7338

def k0_off374 (v7330 : BitVec 32) : Fin 2 → Nat :=
  let c3_i32_4867 : BitVec 32 := 3#32
  let v7334 : BitVec 32 := Scalar.shrsi v7330 c3_i32_4867
  let c3_i32_4868 : BitVec 32 := 3#32
  let v7335 : BitVec 32 := Scalar.shli v7334 c3_i32_4868
  let v7336 : BitVec 32 := v7335
  let v7340 : Index := Scalar.indexCast v7336
  let c0_4871 : Index := 0#32
  ![v7340.toNat, 0]

def k0_chk373 (v7330 : BitVec 32) : Prop :=
  (8 ∣ (k0_mult373 v7330).toNat) ∧
  (∀ a, (k0_off374 v7330) a + S16x128.size a ≤ S66048x128.size a)
theorem k0_mult373_dvd : ∀ (v7330 : BitVec 32) (k0_hw373 : k0_chk373 v7330), 8 ∣ (k0_mult373 v7330).toNat := fun v7330 k0_hw373 => k0_hw373.1
theorem k0_off374_inb : ∀ (v7330 : BitVec 32) (k0_hw373 : k0_chk373 v7330), ∀ a, (k0_off374 v7330) a + S16x128.size a ≤ S66048x128.size a := fun v7330 k0_hw373 => k0_hw373.2

def k0_off375 (v7331 : BitVec 32) : Fin 2 → Nat :=
  let c3_i32_4869 : BitVec 32 := 3#32
  let v7337 : BitVec 32 := Scalar.shrsi v7331 c3_i32_4869
  let c3_i32_4870 : BitVec 32 := 3#32
  let v7338 : BitVec 32 := Scalar.shli v7337 c3_i32_4870
  let v7339 : BitVec 32 := v7338
  let v7342 : Index := Scalar.indexCast v7339
  let c0_4872 : Index := 0#32
  ![v7342.toNat, 0]

def k0_chk374 (v7331 : BitVec 32) : Prop :=
  (8 ∣ (k0_mult374 v7331).toNat) ∧
  (∀ a, (k0_off375 v7331) a + S16x128.size a ≤ S66048x128.size a)
theorem k0_mult374_dvd : ∀ (v7331 : BitVec 32) (k0_hw374 : k0_chk374 v7331), 8 ∣ (k0_mult374 v7331).toNat := fun v7331 k0_hw374 => k0_hw374.1
theorem k0_off375_inb : ∀ (v7331 : BitVec 32) (k0_hw374 : k0_chk374 v7331), ∀ a, (k0_off375 v7331) a + S16x128.size a ≤ S66048x128.size a := fun v7331 k0_hw374 => k0_hw374.2

def k0_mult375 (v7369 : BitVec 32) : BitVec 32 :=
  let c3_i32_4893 : BitVec 32 := 3#32
  let v7373 : BitVec 32 := Scalar.shrsi v7369 c3_i32_4893
  let c3_i32_4894 : BitVec 32 := 3#32
  let v7374 : BitVec 32 := Scalar.shli v7373 c3_i32_4894
  v7374

def k0_mult376 (v7370 : BitVec 32) : BitVec 32 :=
  let c3_i32_4895 : BitVec 32 := 3#32
  let v7376 : BitVec 32 := Scalar.shrsi v7370 c3_i32_4895
  let c3_i32_4896 : BitVec 32 := 3#32
  let v7377 : BitVec 32 := Scalar.shli v7376 c3_i32_4896
  v7377

def k0_off376 (v7369 : BitVec 32) : Fin 2 → Nat :=
  let c3_i32_4893 : BitVec 32 := 3#32
  let v7373 : BitVec 32 := Scalar.shrsi v7369 c3_i32_4893
  let c3_i32_4894 : BitVec 32 := 3#32
  let v7374 : BitVec 32 := Scalar.shli v7373 c3_i32_4894
  let v7375 : BitVec 32 := v7374
  let v7379 : Index := Scalar.indexCast v7375
  let c0_4897 : Index := 0#32
  ![v7379.toNat, 0]

def k0_chk375 (v7369 : BitVec 32) : Prop :=
  (8 ∣ (k0_mult375 v7369).toNat) ∧
  (∀ a, (k0_off376 v7369) a + S16x128.size a ≤ S66048x128.size a)
theorem k0_mult375_dvd : ∀ (v7369 : BitVec 32) (k0_hw375 : k0_chk375 v7369), 8 ∣ (k0_mult375 v7369).toNat := fun v7369 k0_hw375 => k0_hw375.1
theorem k0_off376_inb : ∀ (v7369 : BitVec 32) (k0_hw375 : k0_chk375 v7369), ∀ a, (k0_off376 v7369) a + S16x128.size a ≤ S66048x128.size a := fun v7369 k0_hw375 => k0_hw375.2

def k0_off377 (v7370 : BitVec 32) : Fin 2 → Nat :=
  let c3_i32_4895 : BitVec 32 := 3#32
  let v7376 : BitVec 32 := Scalar.shrsi v7370 c3_i32_4895
  let c3_i32_4896 : BitVec 32 := 3#32
  let v7377 : BitVec 32 := Scalar.shli v7376 c3_i32_4896
  let v7378 : BitVec 32 := v7377
  let v7381 : Index := Scalar.indexCast v7378
  let c0_4898 : Index := 0#32
  ![v7381.toNat, 0]

def k0_chk376 (v7370 : BitVec 32) : Prop :=
  (8 ∣ (k0_mult376 v7370).toNat) ∧
  (∀ a, (k0_off377 v7370) a + S16x128.size a ≤ S66048x128.size a)
theorem k0_mult376_dvd : ∀ (v7370 : BitVec 32) (k0_hw376 : k0_chk376 v7370), 8 ∣ (k0_mult376 v7370).toNat := fun v7370 k0_hw376 => k0_hw376.1
theorem k0_off377_inb : ∀ (v7370 : BitVec 32) (k0_hw376 : k0_chk376 v7370), ∀ a, (k0_off377 v7370) a + S16x128.size a ≤ S66048x128.size a := fun v7370 k0_hw376 => k0_hw376.2

def k0_mult377 (v7408 : BitVec 32) : BitVec 32 :=
  let c3_i32_4919 : BitVec 32 := 3#32
  let v7412 : BitVec 32 := Scalar.shrsi v7408 c3_i32_4919
  let c3_i32_4920 : BitVec 32 := 3#32
  let v7413 : BitVec 32 := Scalar.shli v7412 c3_i32_4920
  v7413

def k0_mult378 (v7409 : BitVec 32) : BitVec 32 :=
  let c3_i32_4921 : BitVec 32 := 3#32
  let v7415 : BitVec 32 := Scalar.shrsi v7409 c3_i32_4921
  let c3_i32_4922 : BitVec 32 := 3#32
  let v7416 : BitVec 32 := Scalar.shli v7415 c3_i32_4922
  v7416

def k0_off378 (v7408 : BitVec 32) : Fin 2 → Nat :=
  let c3_i32_4919 : BitVec 32 := 3#32
  let v7412 : BitVec 32 := Scalar.shrsi v7408 c3_i32_4919
  let c3_i32_4920 : BitVec 32 := 3#32
  let v7413 : BitVec 32 := Scalar.shli v7412 c3_i32_4920
  let v7414 : BitVec 32 := v7413
  let v7418 : Index := Scalar.indexCast v7414
  let c0_4923 : Index := 0#32
  ![v7418.toNat, 0]

def k0_chk377 (v7408 : BitVec 32) : Prop :=
  (8 ∣ (k0_mult377 v7408).toNat) ∧
  (∀ a, (k0_off378 v7408) a + S16x128.size a ≤ S66048x128.size a)
theorem k0_mult377_dvd : ∀ (v7408 : BitVec 32) (k0_hw377 : k0_chk377 v7408), 8 ∣ (k0_mult377 v7408).toNat := fun v7408 k0_hw377 => k0_hw377.1
theorem k0_off378_inb : ∀ (v7408 : BitVec 32) (k0_hw377 : k0_chk377 v7408), ∀ a, (k0_off378 v7408) a + S16x128.size a ≤ S66048x128.size a := fun v7408 k0_hw377 => k0_hw377.2

def k0_off379 (v7409 : BitVec 32) : Fin 2 → Nat :=
  let c3_i32_4921 : BitVec 32 := 3#32
  let v7415 : BitVec 32 := Scalar.shrsi v7409 c3_i32_4921
  let c3_i32_4922 : BitVec 32 := 3#32
  let v7416 : BitVec 32 := Scalar.shli v7415 c3_i32_4922
  let v7417 : BitVec 32 := v7416
  let v7420 : Index := Scalar.indexCast v7417
  let c0_4924 : Index := 0#32
  ![v7420.toNat, 0]

def k0_chk378 (v7409 : BitVec 32) : Prop :=
  (8 ∣ (k0_mult378 v7409).toNat) ∧
  (∀ a, (k0_off379 v7409) a + S16x128.size a ≤ S66048x128.size a)
theorem k0_mult378_dvd : ∀ (v7409 : BitVec 32) (k0_hw378 : k0_chk378 v7409), 8 ∣ (k0_mult378 v7409).toNat := fun v7409 k0_hw378 => k0_hw378.1
theorem k0_off379_inb : ∀ (v7409 : BitVec 32) (k0_hw378 : k0_chk378 v7409), ∀ a, (k0_off379 v7409) a + S16x128.size a ≤ S66048x128.size a := fun v7409 k0_hw378 => k0_hw378.2

def k0_mult379 (v7447 : BitVec 32) : BitVec 32 :=
  let c3_i32_4945 : BitVec 32 := 3#32
  let v7451 : BitVec 32 := Scalar.shrsi v7447 c3_i32_4945
  let c3_i32_4946 : BitVec 32 := 3#32
  let v7452 : BitVec 32 := Scalar.shli v7451 c3_i32_4946
  v7452

def k0_mult380 (v7448 : BitVec 32) : BitVec 32 :=
  let c3_i32_4947 : BitVec 32 := 3#32
  let v7454 : BitVec 32 := Scalar.shrsi v7448 c3_i32_4947
  let c3_i32_4948 : BitVec 32 := 3#32
  let v7455 : BitVec 32 := Scalar.shli v7454 c3_i32_4948
  v7455

def k0_off380 (v7447 : BitVec 32) : Fin 2 → Nat :=
  let c3_i32_4945 : BitVec 32 := 3#32
  let v7451 : BitVec 32 := Scalar.shrsi v7447 c3_i32_4945
  let c3_i32_4946 : BitVec 32 := 3#32
  let v7452 : BitVec 32 := Scalar.shli v7451 c3_i32_4946
  let v7453 : BitVec 32 := v7452
  let v7457 : Index := Scalar.indexCast v7453
  let c0_4949 : Index := 0#32
  ![v7457.toNat, 0]

def k0_chk379 (v7447 : BitVec 32) : Prop :=
  (8 ∣ (k0_mult379 v7447).toNat) ∧
  (∀ a, (k0_off380 v7447) a + S16x128.size a ≤ S66048x128.size a)
theorem k0_mult379_dvd : ∀ (v7447 : BitVec 32) (k0_hw379 : k0_chk379 v7447), 8 ∣ (k0_mult379 v7447).toNat := fun v7447 k0_hw379 => k0_hw379.1
theorem k0_off380_inb : ∀ (v7447 : BitVec 32) (k0_hw379 : k0_chk379 v7447), ∀ a, (k0_off380 v7447) a + S16x128.size a ≤ S66048x128.size a := fun v7447 k0_hw379 => k0_hw379.2

def k0_off381 (v7448 : BitVec 32) : Fin 2 → Nat :=
  let c3_i32_4947 : BitVec 32 := 3#32
  let v7454 : BitVec 32 := Scalar.shrsi v7448 c3_i32_4947
  let c3_i32_4948 : BitVec 32 := 3#32
  let v7455 : BitVec 32 := Scalar.shli v7454 c3_i32_4948
  let v7456 : BitVec 32 := v7455
  let v7459 : Index := Scalar.indexCast v7456
  let c0_4950 : Index := 0#32
  ![v7459.toNat, 0]

def k0_chk380 (v7448 : BitVec 32) : Prop :=
  (8 ∣ (k0_mult380 v7448).toNat) ∧
  (∀ a, (k0_off381 v7448) a + S16x128.size a ≤ S66048x128.size a)
theorem k0_mult380_dvd : ∀ (v7448 : BitVec 32) (k0_hw380 : k0_chk380 v7448), 8 ∣ (k0_mult380 v7448).toNat := fun v7448 k0_hw380 => k0_hw380.1
theorem k0_off381_inb : ∀ (v7448 : BitVec 32) (k0_hw380 : k0_chk380 v7448), ∀ a, (k0_off381 v7448) a + S16x128.size a ≤ S66048x128.size a := fun v7448 k0_hw380 => k0_hw380.2

def k0_mult381 (v7486 : BitVec 32) : BitVec 32 :=
  let c3_i32_4971 : BitVec 32 := 3#32
  let v7490 : BitVec 32 := Scalar.shrsi v7486 c3_i32_4971
  let c3_i32_4972 : BitVec 32 := 3#32
  let v7491 : BitVec 32 := Scalar.shli v7490 c3_i32_4972
  v7491

def k0_mult382 (v7487 : BitVec 32) : BitVec 32 :=
  let c3_i32_4973 : BitVec 32 := 3#32
  let v7493 : BitVec 32 := Scalar.shrsi v7487 c3_i32_4973
  let c3_i32_4974 : BitVec 32 := 3#32
  let v7494 : BitVec 32 := Scalar.shli v7493 c3_i32_4974
  v7494

def k0_off382 (v7486 : BitVec 32) : Fin 2 → Nat :=
  let c3_i32_4971 : BitVec 32 := 3#32
  let v7490 : BitVec 32 := Scalar.shrsi v7486 c3_i32_4971
  let c3_i32_4972 : BitVec 32 := 3#32
  let v7491 : BitVec 32 := Scalar.shli v7490 c3_i32_4972
  let v7492 : BitVec 32 := v7491
  let v7496 : Index := Scalar.indexCast v7492
  let c0_4975 : Index := 0#32
  ![v7496.toNat, 0]

def k0_chk381 (v7486 : BitVec 32) : Prop :=
  (8 ∣ (k0_mult381 v7486).toNat) ∧
  (∀ a, (k0_off382 v7486) a + S16x128.size a ≤ S66048x128.size a)
theorem k0_mult381_dvd : ∀ (v7486 : BitVec 32) (k0_hw381 : k0_chk381 v7486), 8 ∣ (k0_mult381 v7486).toNat := fun v7486 k0_hw381 => k0_hw381.1
theorem k0_off382_inb : ∀ (v7486 : BitVec 32) (k0_hw381 : k0_chk381 v7486), ∀ a, (k0_off382 v7486) a + S16x128.size a ≤ S66048x128.size a := fun v7486 k0_hw381 => k0_hw381.2

def k0_off383 (v7487 : BitVec 32) : Fin 2 → Nat :=
  let c3_i32_4973 : BitVec 32 := 3#32
  let v7493 : BitVec 32 := Scalar.shrsi v7487 c3_i32_4973
  let c3_i32_4974 : BitVec 32 := 3#32
  let v7494 : BitVec 32 := Scalar.shli v7493 c3_i32_4974
  let v7495 : BitVec 32 := v7494
  let v7498 : Index := Scalar.indexCast v7495
  let c0_4976 : Index := 0#32
  ![v7498.toNat, 0]

def k0_chk382 (v7487 : BitVec 32) : Prop :=
  (8 ∣ (k0_mult382 v7487).toNat) ∧
  (∀ a, (k0_off383 v7487) a + S16x128.size a ≤ S66048x128.size a)
theorem k0_mult382_dvd : ∀ (v7487 : BitVec 32) (k0_hw382 : k0_chk382 v7487), 8 ∣ (k0_mult382 v7487).toNat := fun v7487 k0_hw382 => k0_hw382.1
theorem k0_off383_inb : ∀ (v7487 : BitVec 32) (k0_hw382 : k0_chk382 v7487), ∀ a, (k0_off383 v7487) a + S16x128.size a ≤ S66048x128.size a := fun v7487 k0_hw382 => k0_hw382.2

def k0_mult383 (v7525 : BitVec 32) : BitVec 32 :=
  let c3_i32_4997 : BitVec 32 := 3#32
  let v7529 : BitVec 32 := Scalar.shrsi v7525 c3_i32_4997
  let c3_i32_4998 : BitVec 32 := 3#32
  let v7530 : BitVec 32 := Scalar.shli v7529 c3_i32_4998
  v7530

def k0_mult384 (v7526 : BitVec 32) : BitVec 32 :=
  let c3_i32_4999 : BitVec 32 := 3#32
  let v7532 : BitVec 32 := Scalar.shrsi v7526 c3_i32_4999
  let c3_i32_5000 : BitVec 32 := 3#32
  let v7533 : BitVec 32 := Scalar.shli v7532 c3_i32_5000
  v7533

def k0_off384 (v7525 : BitVec 32) : Fin 2 → Nat :=
  let c3_i32_4997 : BitVec 32 := 3#32
  let v7529 : BitVec 32 := Scalar.shrsi v7525 c3_i32_4997
  let c3_i32_4998 : BitVec 32 := 3#32
  let v7530 : BitVec 32 := Scalar.shli v7529 c3_i32_4998
  let v7531 : BitVec 32 := v7530
  let v7535 : Index := Scalar.indexCast v7531
  let c0_5001 : Index := 0#32
  ![v7535.toNat, 0]

def k0_chk383 (v7525 : BitVec 32) : Prop :=
  (8 ∣ (k0_mult383 v7525).toNat) ∧
  (∀ a, (k0_off384 v7525) a + S16x128.size a ≤ S66048x128.size a)
theorem k0_mult383_dvd : ∀ (v7525 : BitVec 32) (k0_hw383 : k0_chk383 v7525), 8 ∣ (k0_mult383 v7525).toNat := fun v7525 k0_hw383 => k0_hw383.1
theorem k0_off384_inb : ∀ (v7525 : BitVec 32) (k0_hw383 : k0_chk383 v7525), ∀ a, (k0_off384 v7525) a + S16x128.size a ≤ S66048x128.size a := fun v7525 k0_hw383 => k0_hw383.2

def k0_off385 (v7526 : BitVec 32) : Fin 2 → Nat :=
  let c3_i32_4999 : BitVec 32 := 3#32
  let v7532 : BitVec 32 := Scalar.shrsi v7526 c3_i32_4999
  let c3_i32_5000 : BitVec 32 := 3#32
  let v7533 : BitVec 32 := Scalar.shli v7532 c3_i32_5000
  let v7534 : BitVec 32 := v7533
  let v7537 : Index := Scalar.indexCast v7534
  let c0_5002 : Index := 0#32
  ![v7537.toNat, 0]

def k0_chk384 (v7526 : BitVec 32) : Prop :=
  (8 ∣ (k0_mult384 v7526).toNat) ∧
  (∀ a, (k0_off385 v7526) a + S16x128.size a ≤ S66048x128.size a)
theorem k0_mult384_dvd : ∀ (v7526 : BitVec 32) (k0_hw384 : k0_chk384 v7526), 8 ∣ (k0_mult384 v7526).toNat := fun v7526 k0_hw384 => k0_hw384.1
theorem k0_off385_inb : ∀ (v7526 : BitVec 32) (k0_hw384 : k0_chk384 v7526), ∀ a, (k0_off385 v7526) a + S16x128.size a ≤ S66048x128.size a := fun v7526 k0_hw384 => k0_hw384.2

def k0_mult385 (v7564 : BitVec 32) : BitVec 32 :=
  let c3_i32_5023 : BitVec 32 := 3#32
  let v7568 : BitVec 32 := Scalar.shrsi v7564 c3_i32_5023
  let c3_i32_5024 : BitVec 32 := 3#32
  let v7569 : BitVec 32 := Scalar.shli v7568 c3_i32_5024
  v7569

def k0_mult386 (v7565 : BitVec 32) : BitVec 32 :=
  let c3_i32_5025 : BitVec 32 := 3#32
  let v7571 : BitVec 32 := Scalar.shrsi v7565 c3_i32_5025
  let c3_i32_5026 : BitVec 32 := 3#32
  let v7572 : BitVec 32 := Scalar.shli v7571 c3_i32_5026
  v7572

def k0_off386 (v7564 : BitVec 32) : Fin 2 → Nat :=
  let c3_i32_5023 : BitVec 32 := 3#32
  let v7568 : BitVec 32 := Scalar.shrsi v7564 c3_i32_5023
  let c3_i32_5024 : BitVec 32 := 3#32
  let v7569 : BitVec 32 := Scalar.shli v7568 c3_i32_5024
  let v7570 : BitVec 32 := v7569
  let v7574 : Index := Scalar.indexCast v7570
  let c0_5027 : Index := 0#32
  ![v7574.toNat, 0]

def k0_chk385 (v7564 : BitVec 32) : Prop :=
  (8 ∣ (k0_mult385 v7564).toNat) ∧
  (∀ a, (k0_off386 v7564) a + S16x128.size a ≤ S66048x128.size a)
theorem k0_mult385_dvd : ∀ (v7564 : BitVec 32) (k0_hw385 : k0_chk385 v7564), 8 ∣ (k0_mult385 v7564).toNat := fun v7564 k0_hw385 => k0_hw385.1
theorem k0_off386_inb : ∀ (v7564 : BitVec 32) (k0_hw385 : k0_chk385 v7564), ∀ a, (k0_off386 v7564) a + S16x128.size a ≤ S66048x128.size a := fun v7564 k0_hw385 => k0_hw385.2

def k0_off387 (v7565 : BitVec 32) : Fin 2 → Nat :=
  let c3_i32_5025 : BitVec 32 := 3#32
  let v7571 : BitVec 32 := Scalar.shrsi v7565 c3_i32_5025
  let c3_i32_5026 : BitVec 32 := 3#32
  let v7572 : BitVec 32 := Scalar.shli v7571 c3_i32_5026
  let v7573 : BitVec 32 := v7572
  let v7576 : Index := Scalar.indexCast v7573
  let c0_5028 : Index := 0#32
  ![v7576.toNat, 0]

def k0_chk386 (v7565 : BitVec 32) : Prop :=
  (8 ∣ (k0_mult386 v7565).toNat) ∧
  (∀ a, (k0_off387 v7565) a + S16x128.size a ≤ S66048x128.size a)
theorem k0_mult386_dvd : ∀ (v7565 : BitVec 32) (k0_hw386 : k0_chk386 v7565), 8 ∣ (k0_mult386 v7565).toNat := fun v7565 k0_hw386 => k0_hw386.1
theorem k0_off387_inb : ∀ (v7565 : BitVec 32) (k0_hw386 : k0_chk386 v7565), ∀ a, (k0_off387 v7565) a + S16x128.size a ≤ S66048x128.size a := fun v7565 k0_hw386 => k0_hw386.2

def k0_mult387 (v7603 : BitVec 32) : BitVec 32 :=
  let c3_i32_5049 : BitVec 32 := 3#32
  let v7607 : BitVec 32 := Scalar.shrsi v7603 c3_i32_5049
  let c3_i32_5050 : BitVec 32 := 3#32
  let v7608 : BitVec 32 := Scalar.shli v7607 c3_i32_5050
  v7608

def k0_mult388 (v7604 : BitVec 32) : BitVec 32 :=
  let c3_i32_5051 : BitVec 32 := 3#32
  let v7610 : BitVec 32 := Scalar.shrsi v7604 c3_i32_5051
  let c3_i32_5052 : BitVec 32 := 3#32
  let v7611 : BitVec 32 := Scalar.shli v7610 c3_i32_5052
  v7611

def k0_off388 (v7603 : BitVec 32) : Fin 2 → Nat :=
  let c3_i32_5049 : BitVec 32 := 3#32
  let v7607 : BitVec 32 := Scalar.shrsi v7603 c3_i32_5049
  let c3_i32_5050 : BitVec 32 := 3#32
  let v7608 : BitVec 32 := Scalar.shli v7607 c3_i32_5050
  let v7609 : BitVec 32 := v7608
  let v7613 : Index := Scalar.indexCast v7609
  let c0_5053 : Index := 0#32
  ![v7613.toNat, 0]

def k0_chk387 (v7603 : BitVec 32) : Prop :=
  (8 ∣ (k0_mult387 v7603).toNat) ∧
  (∀ a, (k0_off388 v7603) a + S16x128.size a ≤ S66048x128.size a)
theorem k0_mult387_dvd : ∀ (v7603 : BitVec 32) (k0_hw387 : k0_chk387 v7603), 8 ∣ (k0_mult387 v7603).toNat := fun v7603 k0_hw387 => k0_hw387.1
theorem k0_off388_inb : ∀ (v7603 : BitVec 32) (k0_hw387 : k0_chk387 v7603), ∀ a, (k0_off388 v7603) a + S16x128.size a ≤ S66048x128.size a := fun v7603 k0_hw387 => k0_hw387.2

def k0_off389 (v7604 : BitVec 32) : Fin 2 → Nat :=
  let c3_i32_5051 : BitVec 32 := 3#32
  let v7610 : BitVec 32 := Scalar.shrsi v7604 c3_i32_5051
  let c3_i32_5052 : BitVec 32 := 3#32
  let v7611 : BitVec 32 := Scalar.shli v7610 c3_i32_5052
  let v7612 : BitVec 32 := v7611
  let v7615 : Index := Scalar.indexCast v7612
  let c0_5054 : Index := 0#32
  ![v7615.toNat, 0]

def k0_chk388 (v7604 : BitVec 32) : Prop :=
  (8 ∣ (k0_mult388 v7604).toNat) ∧
  (∀ a, (k0_off389 v7604) a + S16x128.size a ≤ S66048x128.size a)
theorem k0_mult388_dvd : ∀ (v7604 : BitVec 32) (k0_hw388 : k0_chk388 v7604), 8 ∣ (k0_mult388 v7604).toNat := fun v7604 k0_hw388 => k0_hw388.1
theorem k0_off389_inb : ∀ (v7604 : BitVec 32) (k0_hw388 : k0_chk388 v7604), ∀ a, (k0_off389 v7604) a + S16x128.size a ≤ S66048x128.size a := fun v7604 k0_hw388 => k0_hw388.2

def k0_mult389 (v7642 : BitVec 32) : BitVec 32 :=
  let c3_i32_5075 : BitVec 32 := 3#32
  let v7646 : BitVec 32 := Scalar.shrsi v7642 c3_i32_5075
  let c3_i32_5076 : BitVec 32 := 3#32
  let v7647 : BitVec 32 := Scalar.shli v7646 c3_i32_5076
  v7647

def k0_mult390 (v7643 : BitVec 32) : BitVec 32 :=
  let c3_i32_5077 : BitVec 32 := 3#32
  let v7649 : BitVec 32 := Scalar.shrsi v7643 c3_i32_5077
  let c3_i32_5078 : BitVec 32 := 3#32
  let v7650 : BitVec 32 := Scalar.shli v7649 c3_i32_5078
  v7650

def k0_off390 (v7642 : BitVec 32) : Fin 2 → Nat :=
  let c3_i32_5075 : BitVec 32 := 3#32
  let v7646 : BitVec 32 := Scalar.shrsi v7642 c3_i32_5075
  let c3_i32_5076 : BitVec 32 := 3#32
  let v7647 : BitVec 32 := Scalar.shli v7646 c3_i32_5076
  let v7648 : BitVec 32 := v7647
  let v7652 : Index := Scalar.indexCast v7648
  let c0_5079 : Index := 0#32
  ![v7652.toNat, 0]

def k0_chk389 (v7642 : BitVec 32) : Prop :=
  (8 ∣ (k0_mult389 v7642).toNat) ∧
  (∀ a, (k0_off390 v7642) a + S16x128.size a ≤ S66048x128.size a)
theorem k0_mult389_dvd : ∀ (v7642 : BitVec 32) (k0_hw389 : k0_chk389 v7642), 8 ∣ (k0_mult389 v7642).toNat := fun v7642 k0_hw389 => k0_hw389.1
theorem k0_off390_inb : ∀ (v7642 : BitVec 32) (k0_hw389 : k0_chk389 v7642), ∀ a, (k0_off390 v7642) a + S16x128.size a ≤ S66048x128.size a := fun v7642 k0_hw389 => k0_hw389.2

def k0_off391 (v7643 : BitVec 32) : Fin 2 → Nat :=
  let c3_i32_5077 : BitVec 32 := 3#32
  let v7649 : BitVec 32 := Scalar.shrsi v7643 c3_i32_5077
  let c3_i32_5078 : BitVec 32 := 3#32
  let v7650 : BitVec 32 := Scalar.shli v7649 c3_i32_5078
  let v7651 : BitVec 32 := v7650
  let v7654 : Index := Scalar.indexCast v7651
  let c0_5080 : Index := 0#32
  ![v7654.toNat, 0]

def k0_chk390 (v7643 : BitVec 32) : Prop :=
  (8 ∣ (k0_mult390 v7643).toNat) ∧
  (∀ a, (k0_off391 v7643) a + S16x128.size a ≤ S66048x128.size a)
theorem k0_mult390_dvd : ∀ (v7643 : BitVec 32) (k0_hw390 : k0_chk390 v7643), 8 ∣ (k0_mult390 v7643).toNat := fun v7643 k0_hw390 => k0_hw390.1
theorem k0_off391_inb : ∀ (v7643 : BitVec 32) (k0_hw390 : k0_chk390 v7643), ∀ a, (k0_off391 v7643) a + S16x128.size a ≤ S66048x128.size a := fun v7643 k0_hw390 => k0_hw390.2

def k0_mult391 (v7681 : BitVec 32) : BitVec 32 :=
  let c3_i32_5101 : BitVec 32 := 3#32
  let v7685 : BitVec 32 := Scalar.shrsi v7681 c3_i32_5101
  let c3_i32_5102 : BitVec 32 := 3#32
  let v7686 : BitVec 32 := Scalar.shli v7685 c3_i32_5102
  v7686

def k0_mult392 (v7682 : BitVec 32) : BitVec 32 :=
  let c3_i32_5103 : BitVec 32 := 3#32
  let v7688 : BitVec 32 := Scalar.shrsi v7682 c3_i32_5103
  let c3_i32_5104 : BitVec 32 := 3#32
  let v7689 : BitVec 32 := Scalar.shli v7688 c3_i32_5104
  v7689

def k0_off392 (v7681 : BitVec 32) : Fin 2 → Nat :=
  let c3_i32_5101 : BitVec 32 := 3#32
  let v7685 : BitVec 32 := Scalar.shrsi v7681 c3_i32_5101
  let c3_i32_5102 : BitVec 32 := 3#32
  let v7686 : BitVec 32 := Scalar.shli v7685 c3_i32_5102
  let v7687 : BitVec 32 := v7686
  let v7691 : Index := Scalar.indexCast v7687
  let c0_5105 : Index := 0#32
  ![v7691.toNat, 0]

def k0_chk391 (v7681 : BitVec 32) : Prop :=
  (8 ∣ (k0_mult391 v7681).toNat) ∧
  (∀ a, (k0_off392 v7681) a + S16x128.size a ≤ S66048x128.size a)
theorem k0_mult391_dvd : ∀ (v7681 : BitVec 32) (k0_hw391 : k0_chk391 v7681), 8 ∣ (k0_mult391 v7681).toNat := fun v7681 k0_hw391 => k0_hw391.1
theorem k0_off392_inb : ∀ (v7681 : BitVec 32) (k0_hw391 : k0_chk391 v7681), ∀ a, (k0_off392 v7681) a + S16x128.size a ≤ S66048x128.size a := fun v7681 k0_hw391 => k0_hw391.2

def k0_off393 (v7682 : BitVec 32) : Fin 2 → Nat :=
  let c3_i32_5103 : BitVec 32 := 3#32
  let v7688 : BitVec 32 := Scalar.shrsi v7682 c3_i32_5103
  let c3_i32_5104 : BitVec 32 := 3#32
  let v7689 : BitVec 32 := Scalar.shli v7688 c3_i32_5104
  let v7690 : BitVec 32 := v7689
  let v7693 : Index := Scalar.indexCast v7690
  let c0_5106 : Index := 0#32
  ![v7693.toNat, 0]

def k0_chk392 (v7682 : BitVec 32) : Prop :=
  (8 ∣ (k0_mult392 v7682).toNat) ∧
  (∀ a, (k0_off393 v7682) a + S16x128.size a ≤ S66048x128.size a)
theorem k0_mult392_dvd : ∀ (v7682 : BitVec 32) (k0_hw392 : k0_chk392 v7682), 8 ∣ (k0_mult392 v7682).toNat := fun v7682 k0_hw392 => k0_hw392.1
theorem k0_off393_inb : ∀ (v7682 : BitVec 32) (k0_hw392 : k0_chk392 v7682), ∀ a, (k0_off393 v7682) a + S16x128.size a ≤ S66048x128.size a := fun v7682 k0_hw392 => k0_hw392.2

def k0_mult393 (v7720 : BitVec 32) : BitVec 32 :=
  let c3_i32_5127 : BitVec 32 := 3#32
  let v7724 : BitVec 32 := Scalar.shrsi v7720 c3_i32_5127
  let c3_i32_5128 : BitVec 32 := 3#32
  let v7725 : BitVec 32 := Scalar.shli v7724 c3_i32_5128
  v7725

def k0_mult394 (v7721 : BitVec 32) : BitVec 32 :=
  let c3_i32_5129 : BitVec 32 := 3#32
  let v7727 : BitVec 32 := Scalar.shrsi v7721 c3_i32_5129
  let c3_i32_5130 : BitVec 32 := 3#32
  let v7728 : BitVec 32 := Scalar.shli v7727 c3_i32_5130
  v7728

def k0_off394 (v7720 : BitVec 32) : Fin 2 → Nat :=
  let c3_i32_5127 : BitVec 32 := 3#32
  let v7724 : BitVec 32 := Scalar.shrsi v7720 c3_i32_5127
  let c3_i32_5128 : BitVec 32 := 3#32
  let v7725 : BitVec 32 := Scalar.shli v7724 c3_i32_5128
  let v7726 : BitVec 32 := v7725
  let v7730 : Index := Scalar.indexCast v7726
  let c0_5131 : Index := 0#32
  ![v7730.toNat, 0]

def k0_chk393 (v7720 : BitVec 32) : Prop :=
  (8 ∣ (k0_mult393 v7720).toNat) ∧
  (∀ a, (k0_off394 v7720) a + S16x128.size a ≤ S66048x128.size a)
theorem k0_mult393_dvd : ∀ (v7720 : BitVec 32) (k0_hw393 : k0_chk393 v7720), 8 ∣ (k0_mult393 v7720).toNat := fun v7720 k0_hw393 => k0_hw393.1
theorem k0_off394_inb : ∀ (v7720 : BitVec 32) (k0_hw393 : k0_chk393 v7720), ∀ a, (k0_off394 v7720) a + S16x128.size a ≤ S66048x128.size a := fun v7720 k0_hw393 => k0_hw393.2

def k0_off395 (v7721 : BitVec 32) : Fin 2 → Nat :=
  let c3_i32_5129 : BitVec 32 := 3#32
  let v7727 : BitVec 32 := Scalar.shrsi v7721 c3_i32_5129
  let c3_i32_5130 : BitVec 32 := 3#32
  let v7728 : BitVec 32 := Scalar.shli v7727 c3_i32_5130
  let v7729 : BitVec 32 := v7728
  let v7732 : Index := Scalar.indexCast v7729
  let c0_5132 : Index := 0#32
  ![v7732.toNat, 0]

def k0_chk394 (v7721 : BitVec 32) : Prop :=
  (8 ∣ (k0_mult394 v7721).toNat) ∧
  (∀ a, (k0_off395 v7721) a + S16x128.size a ≤ S66048x128.size a)
theorem k0_mult394_dvd : ∀ (v7721 : BitVec 32) (k0_hw394 : k0_chk394 v7721), 8 ∣ (k0_mult394 v7721).toNat := fun v7721 k0_hw394 => k0_hw394.1
theorem k0_off395_inb : ∀ (v7721 : BitVec 32) (k0_hw394 : k0_chk394 v7721), ∀ a, (k0_off395 v7721) a + S16x128.size a ≤ S66048x128.size a := fun v7721 k0_hw394 => k0_hw394.2

def k0_mult395 (v7759 : BitVec 32) : BitVec 32 :=
  let c3_i32_5153 : BitVec 32 := 3#32
  let v7763 : BitVec 32 := Scalar.shrsi v7759 c3_i32_5153
  let c3_i32_5154 : BitVec 32 := 3#32
  let v7764 : BitVec 32 := Scalar.shli v7763 c3_i32_5154
  v7764

def k0_mult396 (v7760 : BitVec 32) : BitVec 32 :=
  let c3_i32_5155 : BitVec 32 := 3#32
  let v7766 : BitVec 32 := Scalar.shrsi v7760 c3_i32_5155
  let c3_i32_5156 : BitVec 32 := 3#32
  let v7767 : BitVec 32 := Scalar.shli v7766 c3_i32_5156
  v7767

def k0_off396 (v7759 : BitVec 32) : Fin 2 → Nat :=
  let c3_i32_5153 : BitVec 32 := 3#32
  let v7763 : BitVec 32 := Scalar.shrsi v7759 c3_i32_5153
  let c3_i32_5154 : BitVec 32 := 3#32
  let v7764 : BitVec 32 := Scalar.shli v7763 c3_i32_5154
  let v7765 : BitVec 32 := v7764
  let v7769 : Index := Scalar.indexCast v7765
  let c0_5157 : Index := 0#32
  ![v7769.toNat, 0]

def k0_chk395 (v7759 : BitVec 32) : Prop :=
  (8 ∣ (k0_mult395 v7759).toNat) ∧
  (∀ a, (k0_off396 v7759) a + S16x128.size a ≤ S66048x128.size a)
theorem k0_mult395_dvd : ∀ (v7759 : BitVec 32) (k0_hw395 : k0_chk395 v7759), 8 ∣ (k0_mult395 v7759).toNat := fun v7759 k0_hw395 => k0_hw395.1
theorem k0_off396_inb : ∀ (v7759 : BitVec 32) (k0_hw395 : k0_chk395 v7759), ∀ a, (k0_off396 v7759) a + S16x128.size a ≤ S66048x128.size a := fun v7759 k0_hw395 => k0_hw395.2

def k0_off397 (v7760 : BitVec 32) : Fin 2 → Nat :=
  let c3_i32_5155 : BitVec 32 := 3#32
  let v7766 : BitVec 32 := Scalar.shrsi v7760 c3_i32_5155
  let c3_i32_5156 : BitVec 32 := 3#32
  let v7767 : BitVec 32 := Scalar.shli v7766 c3_i32_5156
  let v7768 : BitVec 32 := v7767
  let v7771 : Index := Scalar.indexCast v7768
  let c0_5158 : Index := 0#32
  ![v7771.toNat, 0]

def k0_chk396 (v7760 : BitVec 32) : Prop :=
  (8 ∣ (k0_mult396 v7760).toNat) ∧
  (∀ a, (k0_off397 v7760) a + S16x128.size a ≤ S66048x128.size a)
theorem k0_mult396_dvd : ∀ (v7760 : BitVec 32) (k0_hw396 : k0_chk396 v7760), 8 ∣ (k0_mult396 v7760).toNat := fun v7760 k0_hw396 => k0_hw396.1
theorem k0_off397_inb : ∀ (v7760 : BitVec 32) (k0_hw396 : k0_chk396 v7760), ∀ a, (k0_off397 v7760) a + S16x128.size a ≤ S66048x128.size a := fun v7760 k0_hw396 => k0_hw396.2

def k0_mult397 (v7798 : BitVec 32) : BitVec 32 :=
  let c3_i32_5179 : BitVec 32 := 3#32
  let v7802 : BitVec 32 := Scalar.shrsi v7798 c3_i32_5179
  let c3_i32_5180 : BitVec 32 := 3#32
  let v7803 : BitVec 32 := Scalar.shli v7802 c3_i32_5180
  v7803

def k0_mult398 (v7799 : BitVec 32) : BitVec 32 :=
  let c3_i32_5181 : BitVec 32 := 3#32
  let v7805 : BitVec 32 := Scalar.shrsi v7799 c3_i32_5181
  let c3_i32_5182 : BitVec 32 := 3#32
  let v7806 : BitVec 32 := Scalar.shli v7805 c3_i32_5182
  v7806

def k0_off398 (v7798 : BitVec 32) : Fin 2 → Nat :=
  let c3_i32_5179 : BitVec 32 := 3#32
  let v7802 : BitVec 32 := Scalar.shrsi v7798 c3_i32_5179
  let c3_i32_5180 : BitVec 32 := 3#32
  let v7803 : BitVec 32 := Scalar.shli v7802 c3_i32_5180
  let v7804 : BitVec 32 := v7803
  let v7808 : Index := Scalar.indexCast v7804
  let c0_5183 : Index := 0#32
  ![v7808.toNat, 0]

def k0_chk397 (v7798 : BitVec 32) : Prop :=
  (8 ∣ (k0_mult397 v7798).toNat) ∧
  (∀ a, (k0_off398 v7798) a + S16x128.size a ≤ S66048x128.size a)
theorem k0_mult397_dvd : ∀ (v7798 : BitVec 32) (k0_hw397 : k0_chk397 v7798), 8 ∣ (k0_mult397 v7798).toNat := fun v7798 k0_hw397 => k0_hw397.1
theorem k0_off398_inb : ∀ (v7798 : BitVec 32) (k0_hw397 : k0_chk397 v7798), ∀ a, (k0_off398 v7798) a + S16x128.size a ≤ S66048x128.size a := fun v7798 k0_hw397 => k0_hw397.2

def k0_off399 (v7799 : BitVec 32) : Fin 2 → Nat :=
  let c3_i32_5181 : BitVec 32 := 3#32
  let v7805 : BitVec 32 := Scalar.shrsi v7799 c3_i32_5181
  let c3_i32_5182 : BitVec 32 := 3#32
  let v7806 : BitVec 32 := Scalar.shli v7805 c3_i32_5182
  let v7807 : BitVec 32 := v7806
  let v7810 : Index := Scalar.indexCast v7807
  let c0_5184 : Index := 0#32
  ![v7810.toNat, 0]

def k0_chk398 (v7799 : BitVec 32) : Prop :=
  (8 ∣ (k0_mult398 v7799).toNat) ∧
  (∀ a, (k0_off399 v7799) a + S16x128.size a ≤ S66048x128.size a)
theorem k0_mult398_dvd : ∀ (v7799 : BitVec 32) (k0_hw398 : k0_chk398 v7799), 8 ∣ (k0_mult398 v7799).toNat := fun v7799 k0_hw398 => k0_hw398.1
theorem k0_off399_inb : ∀ (v7799 : BitVec 32) (k0_hw398 : k0_chk398 v7799), ∀ a, (k0_off399 v7799) a + S16x128.size a ≤ S66048x128.size a := fun v7799 k0_hw398 => k0_hw398.2

def k0_mult399 (v7837 : BitVec 32) : BitVec 32 :=
  let c3_i32_5205 : BitVec 32 := 3#32
  let v7841 : BitVec 32 := Scalar.shrsi v7837 c3_i32_5205
  let c3_i32_5206 : BitVec 32 := 3#32
  let v7842 : BitVec 32 := Scalar.shli v7841 c3_i32_5206
  v7842

def k0_mult400 (v7838 : BitVec 32) : BitVec 32 :=
  let c3_i32_5207 : BitVec 32 := 3#32
  let v7844 : BitVec 32 := Scalar.shrsi v7838 c3_i32_5207
  let c3_i32_5208 : BitVec 32 := 3#32
  let v7845 : BitVec 32 := Scalar.shli v7844 c3_i32_5208
  v7845

def k0_off400 (v7837 : BitVec 32) : Fin 2 → Nat :=
  let c3_i32_5205 : BitVec 32 := 3#32
  let v7841 : BitVec 32 := Scalar.shrsi v7837 c3_i32_5205
  let c3_i32_5206 : BitVec 32 := 3#32
  let v7842 : BitVec 32 := Scalar.shli v7841 c3_i32_5206
  let v7843 : BitVec 32 := v7842
  let v7847 : Index := Scalar.indexCast v7843
  let c0_5209 : Index := 0#32
  ![v7847.toNat, 0]

def k0_chk399 (v7837 : BitVec 32) : Prop :=
  (8 ∣ (k0_mult399 v7837).toNat) ∧
  (∀ a, (k0_off400 v7837) a + S16x128.size a ≤ S66048x128.size a)
theorem k0_mult399_dvd : ∀ (v7837 : BitVec 32) (k0_hw399 : k0_chk399 v7837), 8 ∣ (k0_mult399 v7837).toNat := fun v7837 k0_hw399 => k0_hw399.1
theorem k0_off400_inb : ∀ (v7837 : BitVec 32) (k0_hw399 : k0_chk399 v7837), ∀ a, (k0_off400 v7837) a + S16x128.size a ≤ S66048x128.size a := fun v7837 k0_hw399 => k0_hw399.2

def k0_off401 (v7838 : BitVec 32) : Fin 2 → Nat :=
  let c3_i32_5207 : BitVec 32 := 3#32
  let v7844 : BitVec 32 := Scalar.shrsi v7838 c3_i32_5207
  let c3_i32_5208 : BitVec 32 := 3#32
  let v7845 : BitVec 32 := Scalar.shli v7844 c3_i32_5208
  let v7846 : BitVec 32 := v7845
  let v7849 : Index := Scalar.indexCast v7846
  let c0_5210 : Index := 0#32
  ![v7849.toNat, 0]

def k0_chk400 (v7838 : BitVec 32) : Prop :=
  (8 ∣ (k0_mult400 v7838).toNat) ∧
  (∀ a, (k0_off401 v7838) a + S16x128.size a ≤ S66048x128.size a)
theorem k0_mult400_dvd : ∀ (v7838 : BitVec 32) (k0_hw400 : k0_chk400 v7838), 8 ∣ (k0_mult400 v7838).toNat := fun v7838 k0_hw400 => k0_hw400.1
theorem k0_off401_inb : ∀ (v7838 : BitVec 32) (k0_hw400 : k0_chk400 v7838), ∀ a, (k0_off401 v7838) a + S16x128.size a ≤ S66048x128.size a := fun v7838 k0_hw400 => k0_hw400.2

def k0_mult401 (v7883 : BitVec 32) : BitVec 32 :=
  let c3_i32_5237 : BitVec 32 := 3#32
  let v7887 : BitVec 32 := Scalar.shrsi v7883 c3_i32_5237
  let c3_i32_5238 : BitVec 32 := 3#32
  let v7888 : BitVec 32 := Scalar.shli v7887 c3_i32_5238
  v7888

def k0_mult402 (v7884 : BitVec 32) : BitVec 32 :=
  let c3_i32_5239 : BitVec 32 := 3#32
  let v7890 : BitVec 32 := Scalar.shrsi v7884 c3_i32_5239
  let c3_i32_5240 : BitVec 32 := 3#32
  let v7891 : BitVec 32 := Scalar.shli v7890 c3_i32_5240
  v7891

def k0_off402 (v7883 : BitVec 32) : Fin 2 → Nat :=
  let c3_i32_5237 : BitVec 32 := 3#32
  let v7887 : BitVec 32 := Scalar.shrsi v7883 c3_i32_5237
  let c3_i32_5238 : BitVec 32 := 3#32
  let v7888 : BitVec 32 := Scalar.shli v7887 c3_i32_5238
  let v7889 : BitVec 32 := v7888
  let v7893 : Index := Scalar.indexCast v7889
  let c0_5241 : Index := 0#32
  ![v7893.toNat, 0]

def k0_chk401 (v7883 : BitVec 32) : Prop :=
  (8 ∣ (k0_mult401 v7883).toNat) ∧
  (∀ a, (k0_off402 v7883) a + S16x128.size a ≤ S66048x128.size a)
theorem k0_mult401_dvd : ∀ (v7883 : BitVec 32) (k0_hw401 : k0_chk401 v7883), 8 ∣ (k0_mult401 v7883).toNat := fun v7883 k0_hw401 => k0_hw401.1
theorem k0_off402_inb : ∀ (v7883 : BitVec 32) (k0_hw401 : k0_chk401 v7883), ∀ a, (k0_off402 v7883) a + S16x128.size a ≤ S66048x128.size a := fun v7883 k0_hw401 => k0_hw401.2

def k0_off403 (v7884 : BitVec 32) : Fin 2 → Nat :=
  let c3_i32_5239 : BitVec 32 := 3#32
  let v7890 : BitVec 32 := Scalar.shrsi v7884 c3_i32_5239
  let c3_i32_5240 : BitVec 32 := 3#32
  let v7891 : BitVec 32 := Scalar.shli v7890 c3_i32_5240
  let v7892 : BitVec 32 := v7891
  let v7895 : Index := Scalar.indexCast v7892
  let c0_5242 : Index := 0#32
  ![v7895.toNat, 0]

def k0_chk402 (v7884 : BitVec 32) : Prop :=
  (8 ∣ (k0_mult402 v7884).toNat) ∧
  (∀ a, (k0_off403 v7884) a + S16x128.size a ≤ S66048x128.size a)
theorem k0_mult402_dvd : ∀ (v7884 : BitVec 32) (k0_hw402 : k0_chk402 v7884), 8 ∣ (k0_mult402 v7884).toNat := fun v7884 k0_hw402 => k0_hw402.1
theorem k0_off403_inb : ∀ (v7884 : BitVec 32) (k0_hw402 : k0_chk402 v7884), ∀ a, (k0_off403 v7884) a + S16x128.size a ≤ S66048x128.size a := fun v7884 k0_hw402 => k0_hw402.2

def k0_mult403 (v7922 : BitVec 32) : BitVec 32 :=
  let c3_i32_5263 : BitVec 32 := 3#32
  let v7926 : BitVec 32 := Scalar.shrsi v7922 c3_i32_5263
  let c3_i32_5264 : BitVec 32 := 3#32
  let v7927 : BitVec 32 := Scalar.shli v7926 c3_i32_5264
  v7927

def k0_mult404 (v7923 : BitVec 32) : BitVec 32 :=
  let c3_i32_5265 : BitVec 32 := 3#32
  let v7929 : BitVec 32 := Scalar.shrsi v7923 c3_i32_5265
  let c3_i32_5266 : BitVec 32 := 3#32
  let v7930 : BitVec 32 := Scalar.shli v7929 c3_i32_5266
  v7930

def k0_off404 (v7922 : BitVec 32) : Fin 2 → Nat :=
  let c3_i32_5263 : BitVec 32 := 3#32
  let v7926 : BitVec 32 := Scalar.shrsi v7922 c3_i32_5263
  let c3_i32_5264 : BitVec 32 := 3#32
  let v7927 : BitVec 32 := Scalar.shli v7926 c3_i32_5264
  let v7928 : BitVec 32 := v7927
  let v7932 : Index := Scalar.indexCast v7928
  let c0_5267 : Index := 0#32
  ![v7932.toNat, 0]

def k0_chk403 (v7922 : BitVec 32) : Prop :=
  (8 ∣ (k0_mult403 v7922).toNat) ∧
  (∀ a, (k0_off404 v7922) a + S16x128.size a ≤ S66048x128.size a)
theorem k0_mult403_dvd : ∀ (v7922 : BitVec 32) (k0_hw403 : k0_chk403 v7922), 8 ∣ (k0_mult403 v7922).toNat := fun v7922 k0_hw403 => k0_hw403.1
theorem k0_off404_inb : ∀ (v7922 : BitVec 32) (k0_hw403 : k0_chk403 v7922), ∀ a, (k0_off404 v7922) a + S16x128.size a ≤ S66048x128.size a := fun v7922 k0_hw403 => k0_hw403.2

def k0_off405 (v7923 : BitVec 32) : Fin 2 → Nat :=
  let c3_i32_5265 : BitVec 32 := 3#32
  let v7929 : BitVec 32 := Scalar.shrsi v7923 c3_i32_5265
  let c3_i32_5266 : BitVec 32 := 3#32
  let v7930 : BitVec 32 := Scalar.shli v7929 c3_i32_5266
  let v7931 : BitVec 32 := v7930
  let v7934 : Index := Scalar.indexCast v7931
  let c0_5268 : Index := 0#32
  ![v7934.toNat, 0]

def k0_chk404 (v7923 : BitVec 32) : Prop :=
  (8 ∣ (k0_mult404 v7923).toNat) ∧
  (∀ a, (k0_off405 v7923) a + S16x128.size a ≤ S66048x128.size a)
theorem k0_mult404_dvd : ∀ (v7923 : BitVec 32) (k0_hw404 : k0_chk404 v7923), 8 ∣ (k0_mult404 v7923).toNat := fun v7923 k0_hw404 => k0_hw404.1
theorem k0_off405_inb : ∀ (v7923 : BitVec 32) (k0_hw404 : k0_chk404 v7923), ∀ a, (k0_off405 v7923) a + S16x128.size a ≤ S66048x128.size a := fun v7923 k0_hw404 => k0_hw404.2

def k0_mult405 (v7961 : BitVec 32) : BitVec 32 :=
  let c3_i32_5289 : BitVec 32 := 3#32
  let v7965 : BitVec 32 := Scalar.shrsi v7961 c3_i32_5289
  let c3_i32_5290 : BitVec 32 := 3#32
  let v7966 : BitVec 32 := Scalar.shli v7965 c3_i32_5290
  v7966

def k0_mult406 (v7962 : BitVec 32) : BitVec 32 :=
  let c3_i32_5291 : BitVec 32 := 3#32
  let v7968 : BitVec 32 := Scalar.shrsi v7962 c3_i32_5291
  let c3_i32_5292 : BitVec 32 := 3#32
  let v7969 : BitVec 32 := Scalar.shli v7968 c3_i32_5292
  v7969

def k0_off406 (v7961 : BitVec 32) : Fin 2 → Nat :=
  let c3_i32_5289 : BitVec 32 := 3#32
  let v7965 : BitVec 32 := Scalar.shrsi v7961 c3_i32_5289
  let c3_i32_5290 : BitVec 32 := 3#32
  let v7966 : BitVec 32 := Scalar.shli v7965 c3_i32_5290
  let v7967 : BitVec 32 := v7966
  let v7971 : Index := Scalar.indexCast v7967
  let c0_5293 : Index := 0#32
  ![v7971.toNat, 0]

def k0_chk405 (v7961 : BitVec 32) : Prop :=
  (8 ∣ (k0_mult405 v7961).toNat) ∧
  (∀ a, (k0_off406 v7961) a + S16x128.size a ≤ S66048x128.size a)
theorem k0_mult405_dvd : ∀ (v7961 : BitVec 32) (k0_hw405 : k0_chk405 v7961), 8 ∣ (k0_mult405 v7961).toNat := fun v7961 k0_hw405 => k0_hw405.1
theorem k0_off406_inb : ∀ (v7961 : BitVec 32) (k0_hw405 : k0_chk405 v7961), ∀ a, (k0_off406 v7961) a + S16x128.size a ≤ S66048x128.size a := fun v7961 k0_hw405 => k0_hw405.2

def k0_off407 (v7962 : BitVec 32) : Fin 2 → Nat :=
  let c3_i32_5291 : BitVec 32 := 3#32
  let v7968 : BitVec 32 := Scalar.shrsi v7962 c3_i32_5291
  let c3_i32_5292 : BitVec 32 := 3#32
  let v7969 : BitVec 32 := Scalar.shli v7968 c3_i32_5292
  let v7970 : BitVec 32 := v7969
  let v7973 : Index := Scalar.indexCast v7970
  let c0_5294 : Index := 0#32
  ![v7973.toNat, 0]

def k0_chk406 (v7962 : BitVec 32) : Prop :=
  (8 ∣ (k0_mult406 v7962).toNat) ∧
  (∀ a, (k0_off407 v7962) a + S16x128.size a ≤ S66048x128.size a)
theorem k0_mult406_dvd : ∀ (v7962 : BitVec 32) (k0_hw406 : k0_chk406 v7962), 8 ∣ (k0_mult406 v7962).toNat := fun v7962 k0_hw406 => k0_hw406.1
theorem k0_off407_inb : ∀ (v7962 : BitVec 32) (k0_hw406 : k0_chk406 v7962), ∀ a, (k0_off407 v7962) a + S16x128.size a ≤ S66048x128.size a := fun v7962 k0_hw406 => k0_hw406.2

def k0_mult407 (v8000 : BitVec 32) : BitVec 32 :=
  let c3_i32_5315 : BitVec 32 := 3#32
  let v8004 : BitVec 32 := Scalar.shrsi v8000 c3_i32_5315
  let c3_i32_5316 : BitVec 32 := 3#32
  let v8005 : BitVec 32 := Scalar.shli v8004 c3_i32_5316
  v8005

def k0_mult408 (v8001 : BitVec 32) : BitVec 32 :=
  let c3_i32_5317 : BitVec 32 := 3#32
  let v8007 : BitVec 32 := Scalar.shrsi v8001 c3_i32_5317
  let c3_i32_5318 : BitVec 32 := 3#32
  let v8008 : BitVec 32 := Scalar.shli v8007 c3_i32_5318
  v8008

def k0_off408 (v8000 : BitVec 32) : Fin 2 → Nat :=
  let c3_i32_5315 : BitVec 32 := 3#32
  let v8004 : BitVec 32 := Scalar.shrsi v8000 c3_i32_5315
  let c3_i32_5316 : BitVec 32 := 3#32
  let v8005 : BitVec 32 := Scalar.shli v8004 c3_i32_5316
  let v8006 : BitVec 32 := v8005
  let v8010 : Index := Scalar.indexCast v8006
  let c0_5319 : Index := 0#32
  ![v8010.toNat, 0]

def k0_chk407 (v8000 : BitVec 32) : Prop :=
  (8 ∣ (k0_mult407 v8000).toNat) ∧
  (∀ a, (k0_off408 v8000) a + S16x128.size a ≤ S66048x128.size a)
theorem k0_mult407_dvd : ∀ (v8000 : BitVec 32) (k0_hw407 : k0_chk407 v8000), 8 ∣ (k0_mult407 v8000).toNat := fun v8000 k0_hw407 => k0_hw407.1
theorem k0_off408_inb : ∀ (v8000 : BitVec 32) (k0_hw407 : k0_chk407 v8000), ∀ a, (k0_off408 v8000) a + S16x128.size a ≤ S66048x128.size a := fun v8000 k0_hw407 => k0_hw407.2

def k0_off409 (v8001 : BitVec 32) : Fin 2 → Nat :=
  let c3_i32_5317 : BitVec 32 := 3#32
  let v8007 : BitVec 32 := Scalar.shrsi v8001 c3_i32_5317
  let c3_i32_5318 : BitVec 32 := 3#32
  let v8008 : BitVec 32 := Scalar.shli v8007 c3_i32_5318
  let v8009 : BitVec 32 := v8008
  let v8012 : Index := Scalar.indexCast v8009
  let c0_5320 : Index := 0#32
  ![v8012.toNat, 0]

def k0_chk408 (v8001 : BitVec 32) : Prop :=
  (8 ∣ (k0_mult408 v8001).toNat) ∧
  (∀ a, (k0_off409 v8001) a + S16x128.size a ≤ S66048x128.size a)
theorem k0_mult408_dvd : ∀ (v8001 : BitVec 32) (k0_hw408 : k0_chk408 v8001), 8 ∣ (k0_mult408 v8001).toNat := fun v8001 k0_hw408 => k0_hw408.1
theorem k0_off409_inb : ∀ (v8001 : BitVec 32) (k0_hw408 : k0_chk408 v8001), ∀ a, (k0_off409 v8001) a + S16x128.size a ≤ S66048x128.size a := fun v8001 k0_hw408 => k0_hw408.2

def k0_mult409 (v8039 : BitVec 32) : BitVec 32 :=
  let c3_i32_5341 : BitVec 32 := 3#32
  let v8043 : BitVec 32 := Scalar.shrsi v8039 c3_i32_5341
  let c3_i32_5342 : BitVec 32 := 3#32
  let v8044 : BitVec 32 := Scalar.shli v8043 c3_i32_5342
  v8044

def k0_mult410 (v8040 : BitVec 32) : BitVec 32 :=
  let c3_i32_5343 : BitVec 32 := 3#32
  let v8046 : BitVec 32 := Scalar.shrsi v8040 c3_i32_5343
  let c3_i32_5344 : BitVec 32 := 3#32
  let v8047 : BitVec 32 := Scalar.shli v8046 c3_i32_5344
  v8047

def k0_off410 (v8039 : BitVec 32) : Fin 2 → Nat :=
  let c3_i32_5341 : BitVec 32 := 3#32
  let v8043 : BitVec 32 := Scalar.shrsi v8039 c3_i32_5341
  let c3_i32_5342 : BitVec 32 := 3#32
  let v8044 : BitVec 32 := Scalar.shli v8043 c3_i32_5342
  let v8045 : BitVec 32 := v8044
  let v8049 : Index := Scalar.indexCast v8045
  let c0_5345 : Index := 0#32
  ![v8049.toNat, 0]

def k0_chk409 (v8039 : BitVec 32) : Prop :=
  (8 ∣ (k0_mult409 v8039).toNat) ∧
  (∀ a, (k0_off410 v8039) a + S16x128.size a ≤ S66048x128.size a)
theorem k0_mult409_dvd : ∀ (v8039 : BitVec 32) (k0_hw409 : k0_chk409 v8039), 8 ∣ (k0_mult409 v8039).toNat := fun v8039 k0_hw409 => k0_hw409.1
theorem k0_off410_inb : ∀ (v8039 : BitVec 32) (k0_hw409 : k0_chk409 v8039), ∀ a, (k0_off410 v8039) a + S16x128.size a ≤ S66048x128.size a := fun v8039 k0_hw409 => k0_hw409.2

def k0_off411 (v8040 : BitVec 32) : Fin 2 → Nat :=
  let c3_i32_5343 : BitVec 32 := 3#32
  let v8046 : BitVec 32 := Scalar.shrsi v8040 c3_i32_5343
  let c3_i32_5344 : BitVec 32 := 3#32
  let v8047 : BitVec 32 := Scalar.shli v8046 c3_i32_5344
  let v8048 : BitVec 32 := v8047
  let v8051 : Index := Scalar.indexCast v8048
  let c0_5346 : Index := 0#32
  ![v8051.toNat, 0]

def k0_chk410 (v8040 : BitVec 32) : Prop :=
  (8 ∣ (k0_mult410 v8040).toNat) ∧
  (∀ a, (k0_off411 v8040) a + S16x128.size a ≤ S66048x128.size a)
theorem k0_mult410_dvd : ∀ (v8040 : BitVec 32) (k0_hw410 : k0_chk410 v8040), 8 ∣ (k0_mult410 v8040).toNat := fun v8040 k0_hw410 => k0_hw410.1
theorem k0_off411_inb : ∀ (v8040 : BitVec 32) (k0_hw410 : k0_chk410 v8040), ∀ a, (k0_off411 v8040) a + S16x128.size a ≤ S66048x128.size a := fun v8040 k0_hw410 => k0_hw410.2

def k0_mult411 (v8078 : BitVec 32) : BitVec 32 :=
  let c3_i32_5367 : BitVec 32 := 3#32
  let v8082 : BitVec 32 := Scalar.shrsi v8078 c3_i32_5367
  let c3_i32_5368 : BitVec 32 := 3#32
  let v8083 : BitVec 32 := Scalar.shli v8082 c3_i32_5368
  v8083

def k0_mult412 (v8079 : BitVec 32) : BitVec 32 :=
  let c3_i32_5369 : BitVec 32 := 3#32
  let v8085 : BitVec 32 := Scalar.shrsi v8079 c3_i32_5369
  let c3_i32_5370 : BitVec 32 := 3#32
  let v8086 : BitVec 32 := Scalar.shli v8085 c3_i32_5370
  v8086

def k0_off412 (v8078 : BitVec 32) : Fin 2 → Nat :=
  let c3_i32_5367 : BitVec 32 := 3#32
  let v8082 : BitVec 32 := Scalar.shrsi v8078 c3_i32_5367
  let c3_i32_5368 : BitVec 32 := 3#32
  let v8083 : BitVec 32 := Scalar.shli v8082 c3_i32_5368
  let v8084 : BitVec 32 := v8083
  let v8088 : Index := Scalar.indexCast v8084
  let c0_5371 : Index := 0#32
  ![v8088.toNat, 0]

def k0_chk411 (v8078 : BitVec 32) : Prop :=
  (8 ∣ (k0_mult411 v8078).toNat) ∧
  (∀ a, (k0_off412 v8078) a + S16x128.size a ≤ S66048x128.size a)
theorem k0_mult411_dvd : ∀ (v8078 : BitVec 32) (k0_hw411 : k0_chk411 v8078), 8 ∣ (k0_mult411 v8078).toNat := fun v8078 k0_hw411 => k0_hw411.1
theorem k0_off412_inb : ∀ (v8078 : BitVec 32) (k0_hw411 : k0_chk411 v8078), ∀ a, (k0_off412 v8078) a + S16x128.size a ≤ S66048x128.size a := fun v8078 k0_hw411 => k0_hw411.2

def k0_off413 (v8079 : BitVec 32) : Fin 2 → Nat :=
  let c3_i32_5369 : BitVec 32 := 3#32
  let v8085 : BitVec 32 := Scalar.shrsi v8079 c3_i32_5369
  let c3_i32_5370 : BitVec 32 := 3#32
  let v8086 : BitVec 32 := Scalar.shli v8085 c3_i32_5370
  let v8087 : BitVec 32 := v8086
  let v8090 : Index := Scalar.indexCast v8087
  let c0_5372 : Index := 0#32
  ![v8090.toNat, 0]

def k0_chk412 (v8079 : BitVec 32) : Prop :=
  (8 ∣ (k0_mult412 v8079).toNat) ∧
  (∀ a, (k0_off413 v8079) a + S16x128.size a ≤ S66048x128.size a)
theorem k0_mult412_dvd : ∀ (v8079 : BitVec 32) (k0_hw412 : k0_chk412 v8079), 8 ∣ (k0_mult412 v8079).toNat := fun v8079 k0_hw412 => k0_hw412.1
theorem k0_off413_inb : ∀ (v8079 : BitVec 32) (k0_hw412 : k0_chk412 v8079), ∀ a, (k0_off413 v8079) a + S16x128.size a ≤ S66048x128.size a := fun v8079 k0_hw412 => k0_hw412.2

def k0_mult413 (v8117 : BitVec 32) : BitVec 32 :=
  let c3_i32_5393 : BitVec 32 := 3#32
  let v8121 : BitVec 32 := Scalar.shrsi v8117 c3_i32_5393
  let c3_i32_5394 : BitVec 32 := 3#32
  let v8122 : BitVec 32 := Scalar.shli v8121 c3_i32_5394
  v8122

def k0_mult414 (v8118 : BitVec 32) : BitVec 32 :=
  let c3_i32_5395 : BitVec 32 := 3#32
  let v8124 : BitVec 32 := Scalar.shrsi v8118 c3_i32_5395
  let c3_i32_5396 : BitVec 32 := 3#32
  let v8125 : BitVec 32 := Scalar.shli v8124 c3_i32_5396
  v8125

def k0_off414 (v8117 : BitVec 32) : Fin 2 → Nat :=
  let c3_i32_5393 : BitVec 32 := 3#32
  let v8121 : BitVec 32 := Scalar.shrsi v8117 c3_i32_5393
  let c3_i32_5394 : BitVec 32 := 3#32
  let v8122 : BitVec 32 := Scalar.shli v8121 c3_i32_5394
  let v8123 : BitVec 32 := v8122
  let v8127 : Index := Scalar.indexCast v8123
  let c0_5397 : Index := 0#32
  ![v8127.toNat, 0]

def k0_chk413 (v8117 : BitVec 32) : Prop :=
  (8 ∣ (k0_mult413 v8117).toNat) ∧
  (∀ a, (k0_off414 v8117) a + S16x128.size a ≤ S66048x128.size a)
theorem k0_mult413_dvd : ∀ (v8117 : BitVec 32) (k0_hw413 : k0_chk413 v8117), 8 ∣ (k0_mult413 v8117).toNat := fun v8117 k0_hw413 => k0_hw413.1
theorem k0_off414_inb : ∀ (v8117 : BitVec 32) (k0_hw413 : k0_chk413 v8117), ∀ a, (k0_off414 v8117) a + S16x128.size a ≤ S66048x128.size a := fun v8117 k0_hw413 => k0_hw413.2

def k0_off415 (v8118 : BitVec 32) : Fin 2 → Nat :=
  let c3_i32_5395 : BitVec 32 := 3#32
  let v8124 : BitVec 32 := Scalar.shrsi v8118 c3_i32_5395
  let c3_i32_5396 : BitVec 32 := 3#32
  let v8125 : BitVec 32 := Scalar.shli v8124 c3_i32_5396
  let v8126 : BitVec 32 := v8125
  let v8129 : Index := Scalar.indexCast v8126
  let c0_5398 : Index := 0#32
  ![v8129.toNat, 0]

def k0_chk414 (v8118 : BitVec 32) : Prop :=
  (8 ∣ (k0_mult414 v8118).toNat) ∧
  (∀ a, (k0_off415 v8118) a + S16x128.size a ≤ S66048x128.size a)
theorem k0_mult414_dvd : ∀ (v8118 : BitVec 32) (k0_hw414 : k0_chk414 v8118), 8 ∣ (k0_mult414 v8118).toNat := fun v8118 k0_hw414 => k0_hw414.1
theorem k0_off415_inb : ∀ (v8118 : BitVec 32) (k0_hw414 : k0_chk414 v8118), ∀ a, (k0_off415 v8118) a + S16x128.size a ≤ S66048x128.size a := fun v8118 k0_hw414 => k0_hw414.2

def k0_mult415 (v8156 : BitVec 32) : BitVec 32 :=
  let c3_i32_5419 : BitVec 32 := 3#32
  let v8160 : BitVec 32 := Scalar.shrsi v8156 c3_i32_5419
  let c3_i32_5420 : BitVec 32 := 3#32
  let v8161 : BitVec 32 := Scalar.shli v8160 c3_i32_5420
  v8161

def k0_mult416 (v8157 : BitVec 32) : BitVec 32 :=
  let c3_i32_5421 : BitVec 32 := 3#32
  let v8163 : BitVec 32 := Scalar.shrsi v8157 c3_i32_5421
  let c3_i32_5422 : BitVec 32 := 3#32
  let v8164 : BitVec 32 := Scalar.shli v8163 c3_i32_5422
  v8164

def k0_off416 (v8156 : BitVec 32) : Fin 2 → Nat :=
  let c3_i32_5419 : BitVec 32 := 3#32
  let v8160 : BitVec 32 := Scalar.shrsi v8156 c3_i32_5419
  let c3_i32_5420 : BitVec 32 := 3#32
  let v8161 : BitVec 32 := Scalar.shli v8160 c3_i32_5420
  let v8162 : BitVec 32 := v8161
  let v8166 : Index := Scalar.indexCast v8162
  let c0_5423 : Index := 0#32
  ![v8166.toNat, 0]

def k0_chk415 (v8156 : BitVec 32) : Prop :=
  (8 ∣ (k0_mult415 v8156).toNat) ∧
  (∀ a, (k0_off416 v8156) a + S16x128.size a ≤ S66048x128.size a)
theorem k0_mult415_dvd : ∀ (v8156 : BitVec 32) (k0_hw415 : k0_chk415 v8156), 8 ∣ (k0_mult415 v8156).toNat := fun v8156 k0_hw415 => k0_hw415.1
theorem k0_off416_inb : ∀ (v8156 : BitVec 32) (k0_hw415 : k0_chk415 v8156), ∀ a, (k0_off416 v8156) a + S16x128.size a ≤ S66048x128.size a := fun v8156 k0_hw415 => k0_hw415.2

def k0_off417 (v8157 : BitVec 32) : Fin 2 → Nat :=
  let c3_i32_5421 : BitVec 32 := 3#32
  let v8163 : BitVec 32 := Scalar.shrsi v8157 c3_i32_5421
  let c3_i32_5422 : BitVec 32 := 3#32
  let v8164 : BitVec 32 := Scalar.shli v8163 c3_i32_5422
  let v8165 : BitVec 32 := v8164
  let v8168 : Index := Scalar.indexCast v8165
  let c0_5424 : Index := 0#32
  ![v8168.toNat, 0]

def k0_chk416 (v8157 : BitVec 32) : Prop :=
  (8 ∣ (k0_mult416 v8157).toNat) ∧
  (∀ a, (k0_off417 v8157) a + S16x128.size a ≤ S66048x128.size a)
theorem k0_mult416_dvd : ∀ (v8157 : BitVec 32) (k0_hw416 : k0_chk416 v8157), 8 ∣ (k0_mult416 v8157).toNat := fun v8157 k0_hw416 => k0_hw416.1
theorem k0_off417_inb : ∀ (v8157 : BitVec 32) (k0_hw416 : k0_chk416 v8157), ∀ a, (k0_off417 v8157) a + S16x128.size a ≤ S66048x128.size a := fun v8157 k0_hw416 => k0_hw416.2

def k0_mult417 (v8195 : BitVec 32) : BitVec 32 :=
  let c3_i32_5445 : BitVec 32 := 3#32
  let v8199 : BitVec 32 := Scalar.shrsi v8195 c3_i32_5445
  let c3_i32_5446 : BitVec 32 := 3#32
  let v8200 : BitVec 32 := Scalar.shli v8199 c3_i32_5446
  v8200

def k0_mult418 (v8196 : BitVec 32) : BitVec 32 :=
  let c3_i32_5447 : BitVec 32 := 3#32
  let v8202 : BitVec 32 := Scalar.shrsi v8196 c3_i32_5447
  let c3_i32_5448 : BitVec 32 := 3#32
  let v8203 : BitVec 32 := Scalar.shli v8202 c3_i32_5448
  v8203

def k0_off418 (v8195 : BitVec 32) : Fin 2 → Nat :=
  let c3_i32_5445 : BitVec 32 := 3#32
  let v8199 : BitVec 32 := Scalar.shrsi v8195 c3_i32_5445
  let c3_i32_5446 : BitVec 32 := 3#32
  let v8200 : BitVec 32 := Scalar.shli v8199 c3_i32_5446
  let v8201 : BitVec 32 := v8200
  let v8205 : Index := Scalar.indexCast v8201
  let c0_5449 : Index := 0#32
  ![v8205.toNat, 0]

def k0_chk417 (v8195 : BitVec 32) : Prop :=
  (8 ∣ (k0_mult417 v8195).toNat) ∧
  (∀ a, (k0_off418 v8195) a + S16x128.size a ≤ S66048x128.size a)
theorem k0_mult417_dvd : ∀ (v8195 : BitVec 32) (k0_hw417 : k0_chk417 v8195), 8 ∣ (k0_mult417 v8195).toNat := fun v8195 k0_hw417 => k0_hw417.1
theorem k0_off418_inb : ∀ (v8195 : BitVec 32) (k0_hw417 : k0_chk417 v8195), ∀ a, (k0_off418 v8195) a + S16x128.size a ≤ S66048x128.size a := fun v8195 k0_hw417 => k0_hw417.2

def k0_off419 (v8196 : BitVec 32) : Fin 2 → Nat :=
  let c3_i32_5447 : BitVec 32 := 3#32
  let v8202 : BitVec 32 := Scalar.shrsi v8196 c3_i32_5447
  let c3_i32_5448 : BitVec 32 := 3#32
  let v8203 : BitVec 32 := Scalar.shli v8202 c3_i32_5448
  let v8204 : BitVec 32 := v8203
  let v8207 : Index := Scalar.indexCast v8204
  let c0_5450 : Index := 0#32
  ![v8207.toNat, 0]

def k0_chk418 (v8196 : BitVec 32) : Prop :=
  (8 ∣ (k0_mult418 v8196).toNat) ∧
  (∀ a, (k0_off419 v8196) a + S16x128.size a ≤ S66048x128.size a)
theorem k0_mult418_dvd : ∀ (v8196 : BitVec 32) (k0_hw418 : k0_chk418 v8196), 8 ∣ (k0_mult418 v8196).toNat := fun v8196 k0_hw418 => k0_hw418.1
theorem k0_off419_inb : ∀ (v8196 : BitVec 32) (k0_hw418 : k0_chk418 v8196), ∀ a, (k0_off419 v8196) a + S16x128.size a ≤ S66048x128.size a := fun v8196 k0_hw418 => k0_hw418.2

def k0_mult419 (v8234 : BitVec 32) : BitVec 32 :=
  let c3_i32_5471 : BitVec 32 := 3#32
  let v8238 : BitVec 32 := Scalar.shrsi v8234 c3_i32_5471
  let c3_i32_5472 : BitVec 32 := 3#32
  let v8239 : BitVec 32 := Scalar.shli v8238 c3_i32_5472
  v8239

def k0_mult420 (v8235 : BitVec 32) : BitVec 32 :=
  let c3_i32_5473 : BitVec 32 := 3#32
  let v8241 : BitVec 32 := Scalar.shrsi v8235 c3_i32_5473
  let c3_i32_5474 : BitVec 32 := 3#32
  let v8242 : BitVec 32 := Scalar.shli v8241 c3_i32_5474
  v8242

def k0_off420 (v8234 : BitVec 32) : Fin 2 → Nat :=
  let c3_i32_5471 : BitVec 32 := 3#32
  let v8238 : BitVec 32 := Scalar.shrsi v8234 c3_i32_5471
  let c3_i32_5472 : BitVec 32 := 3#32
  let v8239 : BitVec 32 := Scalar.shli v8238 c3_i32_5472
  let v8240 : BitVec 32 := v8239
  let v8244 : Index := Scalar.indexCast v8240
  let c0_5475 : Index := 0#32
  ![v8244.toNat, 0]

def k0_chk419 (v8234 : BitVec 32) : Prop :=
  (8 ∣ (k0_mult419 v8234).toNat) ∧
  (∀ a, (k0_off420 v8234) a + S16x128.size a ≤ S66048x128.size a)
theorem k0_mult419_dvd : ∀ (v8234 : BitVec 32) (k0_hw419 : k0_chk419 v8234), 8 ∣ (k0_mult419 v8234).toNat := fun v8234 k0_hw419 => k0_hw419.1
theorem k0_off420_inb : ∀ (v8234 : BitVec 32) (k0_hw419 : k0_chk419 v8234), ∀ a, (k0_off420 v8234) a + S16x128.size a ≤ S66048x128.size a := fun v8234 k0_hw419 => k0_hw419.2

def k0_off421 (v8235 : BitVec 32) : Fin 2 → Nat :=
  let c3_i32_5473 : BitVec 32 := 3#32
  let v8241 : BitVec 32 := Scalar.shrsi v8235 c3_i32_5473
  let c3_i32_5474 : BitVec 32 := 3#32
  let v8242 : BitVec 32 := Scalar.shli v8241 c3_i32_5474
  let v8243 : BitVec 32 := v8242
  let v8246 : Index := Scalar.indexCast v8243
  let c0_5476 : Index := 0#32
  ![v8246.toNat, 0]

def k0_chk420 (v8235 : BitVec 32) : Prop :=
  (8 ∣ (k0_mult420 v8235).toNat) ∧
  (∀ a, (k0_off421 v8235) a + S16x128.size a ≤ S66048x128.size a)
theorem k0_mult420_dvd : ∀ (v8235 : BitVec 32) (k0_hw420 : k0_chk420 v8235), 8 ∣ (k0_mult420 v8235).toNat := fun v8235 k0_hw420 => k0_hw420.1
theorem k0_off421_inb : ∀ (v8235 : BitVec 32) (k0_hw420 : k0_chk420 v8235), ∀ a, (k0_off421 v8235) a + S16x128.size a ≤ S66048x128.size a := fun v8235 k0_hw420 => k0_hw420.2

def k0_mult421 (v8273 : BitVec 32) : BitVec 32 :=
  let c3_i32_5497 : BitVec 32 := 3#32
  let v8277 : BitVec 32 := Scalar.shrsi v8273 c3_i32_5497
  let c3_i32_5498 : BitVec 32 := 3#32
  let v8278 : BitVec 32 := Scalar.shli v8277 c3_i32_5498
  v8278

def k0_mult422 (v8274 : BitVec 32) : BitVec 32 :=
  let c3_i32_5499 : BitVec 32 := 3#32
  let v8280 : BitVec 32 := Scalar.shrsi v8274 c3_i32_5499
  let c3_i32_5500 : BitVec 32 := 3#32
  let v8281 : BitVec 32 := Scalar.shli v8280 c3_i32_5500
  v8281

def k0_off422 (v8273 : BitVec 32) : Fin 2 → Nat :=
  let c3_i32_5497 : BitVec 32 := 3#32
  let v8277 : BitVec 32 := Scalar.shrsi v8273 c3_i32_5497
  let c3_i32_5498 : BitVec 32 := 3#32
  let v8278 : BitVec 32 := Scalar.shli v8277 c3_i32_5498
  let v8279 : BitVec 32 := v8278
  let v8283 : Index := Scalar.indexCast v8279
  let c0_5501 : Index := 0#32
  ![v8283.toNat, 0]

def k0_chk421 (v8273 : BitVec 32) : Prop :=
  (8 ∣ (k0_mult421 v8273).toNat) ∧
  (∀ a, (k0_off422 v8273) a + S16x128.size a ≤ S66048x128.size a)
theorem k0_mult421_dvd : ∀ (v8273 : BitVec 32) (k0_hw421 : k0_chk421 v8273), 8 ∣ (k0_mult421 v8273).toNat := fun v8273 k0_hw421 => k0_hw421.1
theorem k0_off422_inb : ∀ (v8273 : BitVec 32) (k0_hw421 : k0_chk421 v8273), ∀ a, (k0_off422 v8273) a + S16x128.size a ≤ S66048x128.size a := fun v8273 k0_hw421 => k0_hw421.2

def k0_off423 (v8274 : BitVec 32) : Fin 2 → Nat :=
  let c3_i32_5499 : BitVec 32 := 3#32
  let v8280 : BitVec 32 := Scalar.shrsi v8274 c3_i32_5499
  let c3_i32_5500 : BitVec 32 := 3#32
  let v8281 : BitVec 32 := Scalar.shli v8280 c3_i32_5500
  let v8282 : BitVec 32 := v8281
  let v8285 : Index := Scalar.indexCast v8282
  let c0_5502 : Index := 0#32
  ![v8285.toNat, 0]

def k0_chk422 (v8274 : BitVec 32) : Prop :=
  (8 ∣ (k0_mult422 v8274).toNat) ∧
  (∀ a, (k0_off423 v8274) a + S16x128.size a ≤ S66048x128.size a)
theorem k0_mult422_dvd : ∀ (v8274 : BitVec 32) (k0_hw422 : k0_chk422 v8274), 8 ∣ (k0_mult422 v8274).toNat := fun v8274 k0_hw422 => k0_hw422.1
theorem k0_off423_inb : ∀ (v8274 : BitVec 32) (k0_hw422 : k0_chk422 v8274), ∀ a, (k0_off423 v8274) a + S16x128.size a ≤ S66048x128.size a := fun v8274 k0_hw422 => k0_hw422.2

def k0_mult423 (v8312 : BitVec 32) : BitVec 32 :=
  let c3_i32_5523 : BitVec 32 := 3#32
  let v8316 : BitVec 32 := Scalar.shrsi v8312 c3_i32_5523
  let c3_i32_5524 : BitVec 32 := 3#32
  let v8317 : BitVec 32 := Scalar.shli v8316 c3_i32_5524
  v8317

def k0_mult424 (v8313 : BitVec 32) : BitVec 32 :=
  let c3_i32_5525 : BitVec 32 := 3#32
  let v8319 : BitVec 32 := Scalar.shrsi v8313 c3_i32_5525
  let c3_i32_5526 : BitVec 32 := 3#32
  let v8320 : BitVec 32 := Scalar.shli v8319 c3_i32_5526
  v8320

def k0_off424 (v8312 : BitVec 32) : Fin 2 → Nat :=
  let c3_i32_5523 : BitVec 32 := 3#32
  let v8316 : BitVec 32 := Scalar.shrsi v8312 c3_i32_5523
  let c3_i32_5524 : BitVec 32 := 3#32
  let v8317 : BitVec 32 := Scalar.shli v8316 c3_i32_5524
  let v8318 : BitVec 32 := v8317
  let v8322 : Index := Scalar.indexCast v8318
  let c0_5527 : Index := 0#32
  ![v8322.toNat, 0]

def k0_chk423 (v8312 : BitVec 32) : Prop :=
  (8 ∣ (k0_mult423 v8312).toNat) ∧
  (∀ a, (k0_off424 v8312) a + S16x128.size a ≤ S66048x128.size a)
theorem k0_mult423_dvd : ∀ (v8312 : BitVec 32) (k0_hw423 : k0_chk423 v8312), 8 ∣ (k0_mult423 v8312).toNat := fun v8312 k0_hw423 => k0_hw423.1
theorem k0_off424_inb : ∀ (v8312 : BitVec 32) (k0_hw423 : k0_chk423 v8312), ∀ a, (k0_off424 v8312) a + S16x128.size a ≤ S66048x128.size a := fun v8312 k0_hw423 => k0_hw423.2

def k0_off425 (v8313 : BitVec 32) : Fin 2 → Nat :=
  let c3_i32_5525 : BitVec 32 := 3#32
  let v8319 : BitVec 32 := Scalar.shrsi v8313 c3_i32_5525
  let c3_i32_5526 : BitVec 32 := 3#32
  let v8320 : BitVec 32 := Scalar.shli v8319 c3_i32_5526
  let v8321 : BitVec 32 := v8320
  let v8324 : Index := Scalar.indexCast v8321
  let c0_5528 : Index := 0#32
  ![v8324.toNat, 0]

def k0_chk424 (v8313 : BitVec 32) : Prop :=
  (8 ∣ (k0_mult424 v8313).toNat) ∧
  (∀ a, (k0_off425 v8313) a + S16x128.size a ≤ S66048x128.size a)
theorem k0_mult424_dvd : ∀ (v8313 : BitVec 32) (k0_hw424 : k0_chk424 v8313), 8 ∣ (k0_mult424 v8313).toNat := fun v8313 k0_hw424 => k0_hw424.1
theorem k0_off425_inb : ∀ (v8313 : BitVec 32) (k0_hw424 : k0_chk424 v8313), ∀ a, (k0_off425 v8313) a + S16x128.size a ≤ S66048x128.size a := fun v8313 k0_hw424 => k0_hw424.2

def k0_mult425 (v8351 : BitVec 32) : BitVec 32 :=
  let c3_i32_5549 : BitVec 32 := 3#32
  let v8355 : BitVec 32 := Scalar.shrsi v8351 c3_i32_5549
  let c3_i32_5550 : BitVec 32 := 3#32
  let v8356 : BitVec 32 := Scalar.shli v8355 c3_i32_5550
  v8356

def k0_mult426 (v8352 : BitVec 32) : BitVec 32 :=
  let c3_i32_5551 : BitVec 32 := 3#32
  let v8358 : BitVec 32 := Scalar.shrsi v8352 c3_i32_5551
  let c3_i32_5552 : BitVec 32 := 3#32
  let v8359 : BitVec 32 := Scalar.shli v8358 c3_i32_5552
  v8359

def k0_off426 (v8351 : BitVec 32) : Fin 2 → Nat :=
  let c3_i32_5549 : BitVec 32 := 3#32
  let v8355 : BitVec 32 := Scalar.shrsi v8351 c3_i32_5549
  let c3_i32_5550 : BitVec 32 := 3#32
  let v8356 : BitVec 32 := Scalar.shli v8355 c3_i32_5550
  let v8357 : BitVec 32 := v8356
  let v8361 : Index := Scalar.indexCast v8357
  let c0_5553 : Index := 0#32
  ![v8361.toNat, 0]

def k0_chk425 (v8351 : BitVec 32) : Prop :=
  (8 ∣ (k0_mult425 v8351).toNat) ∧
  (∀ a, (k0_off426 v8351) a + S16x128.size a ≤ S66048x128.size a)
theorem k0_mult425_dvd : ∀ (v8351 : BitVec 32) (k0_hw425 : k0_chk425 v8351), 8 ∣ (k0_mult425 v8351).toNat := fun v8351 k0_hw425 => k0_hw425.1
theorem k0_off426_inb : ∀ (v8351 : BitVec 32) (k0_hw425 : k0_chk425 v8351), ∀ a, (k0_off426 v8351) a + S16x128.size a ≤ S66048x128.size a := fun v8351 k0_hw425 => k0_hw425.2

def k0_off427 (v8352 : BitVec 32) : Fin 2 → Nat :=
  let c3_i32_5551 : BitVec 32 := 3#32
  let v8358 : BitVec 32 := Scalar.shrsi v8352 c3_i32_5551
  let c3_i32_5552 : BitVec 32 := 3#32
  let v8359 : BitVec 32 := Scalar.shli v8358 c3_i32_5552
  let v8360 : BitVec 32 := v8359
  let v8363 : Index := Scalar.indexCast v8360
  let c0_5554 : Index := 0#32
  ![v8363.toNat, 0]

def k0_chk426 (v8352 : BitVec 32) : Prop :=
  (8 ∣ (k0_mult426 v8352).toNat) ∧
  (∀ a, (k0_off427 v8352) a + S16x128.size a ≤ S66048x128.size a)
theorem k0_mult426_dvd : ∀ (v8352 : BitVec 32) (k0_hw426 : k0_chk426 v8352), 8 ∣ (k0_mult426 v8352).toNat := fun v8352 k0_hw426 => k0_hw426.1
theorem k0_off427_inb : ∀ (v8352 : BitVec 32) (k0_hw426 : k0_chk426 v8352), ∀ a, (k0_off427 v8352) a + S16x128.size a ≤ S66048x128.size a := fun v8352 k0_hw426 => k0_hw426.2

def k0_mult427 (v8390 : BitVec 32) : BitVec 32 :=
  let c3_i32_5575 : BitVec 32 := 3#32
  let v8394 : BitVec 32 := Scalar.shrsi v8390 c3_i32_5575
  let c3_i32_5576 : BitVec 32 := 3#32
  let v8395 : BitVec 32 := Scalar.shli v8394 c3_i32_5576
  v8395

def k0_mult428 (v8391 : BitVec 32) : BitVec 32 :=
  let c3_i32_5577 : BitVec 32 := 3#32
  let v8397 : BitVec 32 := Scalar.shrsi v8391 c3_i32_5577
  let c3_i32_5578 : BitVec 32 := 3#32
  let v8398 : BitVec 32 := Scalar.shli v8397 c3_i32_5578
  v8398

def k0_off428 (v8390 : BitVec 32) : Fin 2 → Nat :=
  let c3_i32_5575 : BitVec 32 := 3#32
  let v8394 : BitVec 32 := Scalar.shrsi v8390 c3_i32_5575
  let c3_i32_5576 : BitVec 32 := 3#32
  let v8395 : BitVec 32 := Scalar.shli v8394 c3_i32_5576
  let v8396 : BitVec 32 := v8395
  let v8400 : Index := Scalar.indexCast v8396
  let c0_5579 : Index := 0#32
  ![v8400.toNat, 0]

def k0_chk427 (v8390 : BitVec 32) : Prop :=
  (8 ∣ (k0_mult427 v8390).toNat) ∧
  (∀ a, (k0_off428 v8390) a + S16x128.size a ≤ S66048x128.size a)
theorem k0_mult427_dvd : ∀ (v8390 : BitVec 32) (k0_hw427 : k0_chk427 v8390), 8 ∣ (k0_mult427 v8390).toNat := fun v8390 k0_hw427 => k0_hw427.1
theorem k0_off428_inb : ∀ (v8390 : BitVec 32) (k0_hw427 : k0_chk427 v8390), ∀ a, (k0_off428 v8390) a + S16x128.size a ≤ S66048x128.size a := fun v8390 k0_hw427 => k0_hw427.2

def k0_off429 (v8391 : BitVec 32) : Fin 2 → Nat :=
  let c3_i32_5577 : BitVec 32 := 3#32
  let v8397 : BitVec 32 := Scalar.shrsi v8391 c3_i32_5577
  let c3_i32_5578 : BitVec 32 := 3#32
  let v8398 : BitVec 32 := Scalar.shli v8397 c3_i32_5578
  let v8399 : BitVec 32 := v8398
  let v8402 : Index := Scalar.indexCast v8399
  let c0_5580 : Index := 0#32
  ![v8402.toNat, 0]

def k0_chk428 (v8391 : BitVec 32) : Prop :=
  (8 ∣ (k0_mult428 v8391).toNat) ∧
  (∀ a, (k0_off429 v8391) a + S16x128.size a ≤ S66048x128.size a)
theorem k0_mult428_dvd : ∀ (v8391 : BitVec 32) (k0_hw428 : k0_chk428 v8391), 8 ∣ (k0_mult428 v8391).toNat := fun v8391 k0_hw428 => k0_hw428.1
theorem k0_off429_inb : ∀ (v8391 : BitVec 32) (k0_hw428 : k0_chk428 v8391), ∀ a, (k0_off429 v8391) a + S16x128.size a ≤ S66048x128.size a := fun v8391 k0_hw428 => k0_hw428.2

def k0_mult429 (v8429 : BitVec 32) : BitVec 32 :=
  let c3_i32_5601 : BitVec 32 := 3#32
  let v8433 : BitVec 32 := Scalar.shrsi v8429 c3_i32_5601
  let c3_i32_5602 : BitVec 32 := 3#32
  let v8434 : BitVec 32 := Scalar.shli v8433 c3_i32_5602
  v8434

def k0_mult430 (v8430 : BitVec 32) : BitVec 32 :=
  let c3_i32_5603 : BitVec 32 := 3#32
  let v8436 : BitVec 32 := Scalar.shrsi v8430 c3_i32_5603
  let c3_i32_5604 : BitVec 32 := 3#32
  let v8437 : BitVec 32 := Scalar.shli v8436 c3_i32_5604
  v8437

def k0_off430 (v8429 : BitVec 32) : Fin 2 → Nat :=
  let c3_i32_5601 : BitVec 32 := 3#32
  let v8433 : BitVec 32 := Scalar.shrsi v8429 c3_i32_5601
  let c3_i32_5602 : BitVec 32 := 3#32
  let v8434 : BitVec 32 := Scalar.shli v8433 c3_i32_5602
  let v8435 : BitVec 32 := v8434
  let v8439 : Index := Scalar.indexCast v8435
  let c0_5605 : Index := 0#32
  ![v8439.toNat, 0]

def k0_chk429 (v8429 : BitVec 32) : Prop :=
  (8 ∣ (k0_mult429 v8429).toNat) ∧
  (∀ a, (k0_off430 v8429) a + S16x128.size a ≤ S66048x128.size a)
theorem k0_mult429_dvd : ∀ (v8429 : BitVec 32) (k0_hw429 : k0_chk429 v8429), 8 ∣ (k0_mult429 v8429).toNat := fun v8429 k0_hw429 => k0_hw429.1
theorem k0_off430_inb : ∀ (v8429 : BitVec 32) (k0_hw429 : k0_chk429 v8429), ∀ a, (k0_off430 v8429) a + S16x128.size a ≤ S66048x128.size a := fun v8429 k0_hw429 => k0_hw429.2

def k0_off431 (v8430 : BitVec 32) : Fin 2 → Nat :=
  let c3_i32_5603 : BitVec 32 := 3#32
  let v8436 : BitVec 32 := Scalar.shrsi v8430 c3_i32_5603
  let c3_i32_5604 : BitVec 32 := 3#32
  let v8437 : BitVec 32 := Scalar.shli v8436 c3_i32_5604
  let v8438 : BitVec 32 := v8437
  let v8441 : Index := Scalar.indexCast v8438
  let c0_5606 : Index := 0#32
  ![v8441.toNat, 0]

def k0_chk430 (v8430 : BitVec 32) : Prop :=
  (8 ∣ (k0_mult430 v8430).toNat) ∧
  (∀ a, (k0_off431 v8430) a + S16x128.size a ≤ S66048x128.size a)
theorem k0_mult430_dvd : ∀ (v8430 : BitVec 32) (k0_hw430 : k0_chk430 v8430), 8 ∣ (k0_mult430 v8430).toNat := fun v8430 k0_hw430 => k0_hw430.1
theorem k0_off431_inb : ∀ (v8430 : BitVec 32) (k0_hw430 : k0_chk430 v8430), ∀ a, (k0_off431 v8430) a + S16x128.size a ≤ S66048x128.size a := fun v8430 k0_hw430 => k0_hw430.2

def k0_mult431 (v8468 : BitVec 32) : BitVec 32 :=
  let c3_i32_5627 : BitVec 32 := 3#32
  let v8472 : BitVec 32 := Scalar.shrsi v8468 c3_i32_5627
  let c3_i32_5628 : BitVec 32 := 3#32
  let v8473 : BitVec 32 := Scalar.shli v8472 c3_i32_5628
  v8473

def k0_mult432 (v8469 : BitVec 32) : BitVec 32 :=
  let c3_i32_5629 : BitVec 32 := 3#32
  let v8475 : BitVec 32 := Scalar.shrsi v8469 c3_i32_5629
  let c3_i32_5630 : BitVec 32 := 3#32
  let v8476 : BitVec 32 := Scalar.shli v8475 c3_i32_5630
  v8476

def k0_off432 (v8468 : BitVec 32) : Fin 2 → Nat :=
  let c3_i32_5627 : BitVec 32 := 3#32
  let v8472 : BitVec 32 := Scalar.shrsi v8468 c3_i32_5627
  let c3_i32_5628 : BitVec 32 := 3#32
  let v8473 : BitVec 32 := Scalar.shli v8472 c3_i32_5628
  let v8474 : BitVec 32 := v8473
  let v8478 : Index := Scalar.indexCast v8474
  let c0_5631 : Index := 0#32
  ![v8478.toNat, 0]

def k0_chk431 (v8468 : BitVec 32) : Prop :=
  (8 ∣ (k0_mult431 v8468).toNat) ∧
  (∀ a, (k0_off432 v8468) a + S16x128.size a ≤ S66048x128.size a)
theorem k0_mult431_dvd : ∀ (v8468 : BitVec 32) (k0_hw431 : k0_chk431 v8468), 8 ∣ (k0_mult431 v8468).toNat := fun v8468 k0_hw431 => k0_hw431.1
theorem k0_off432_inb : ∀ (v8468 : BitVec 32) (k0_hw431 : k0_chk431 v8468), ∀ a, (k0_off432 v8468) a + S16x128.size a ≤ S66048x128.size a := fun v8468 k0_hw431 => k0_hw431.2

def k0_off433 (v8469 : BitVec 32) : Fin 2 → Nat :=
  let c3_i32_5629 : BitVec 32 := 3#32
  let v8475 : BitVec 32 := Scalar.shrsi v8469 c3_i32_5629
  let c3_i32_5630 : BitVec 32 := 3#32
  let v8476 : BitVec 32 := Scalar.shli v8475 c3_i32_5630
  let v8477 : BitVec 32 := v8476
  let v8480 : Index := Scalar.indexCast v8477
  let c0_5632 : Index := 0#32
  ![v8480.toNat, 0]

def k0_chk432 (v8469 : BitVec 32) : Prop :=
  (8 ∣ (k0_mult432 v8469).toNat) ∧
  (∀ a, (k0_off433 v8469) a + S16x128.size a ≤ S66048x128.size a)
theorem k0_mult432_dvd : ∀ (v8469 : BitVec 32) (k0_hw432 : k0_chk432 v8469), 8 ∣ (k0_mult432 v8469).toNat := fun v8469 k0_hw432 => k0_hw432.1
theorem k0_off433_inb : ∀ (v8469 : BitVec 32) (k0_hw432 : k0_chk432 v8469), ∀ a, (k0_off433 v8469) a + S16x128.size a ≤ S66048x128.size a := fun v8469 k0_hw432 => k0_hw432.2

def k0_mult433 (v8507 : BitVec 32) : BitVec 32 :=
  let c3_i32_5653 : BitVec 32 := 3#32
  let v8511 : BitVec 32 := Scalar.shrsi v8507 c3_i32_5653
  let c3_i32_5654 : BitVec 32 := 3#32
  let v8512 : BitVec 32 := Scalar.shli v8511 c3_i32_5654
  v8512

def k0_mult434 (v8508 : BitVec 32) : BitVec 32 :=
  let c3_i32_5655 : BitVec 32 := 3#32
  let v8514 : BitVec 32 := Scalar.shrsi v8508 c3_i32_5655
  let c3_i32_5656 : BitVec 32 := 3#32
  let v8515 : BitVec 32 := Scalar.shli v8514 c3_i32_5656
  v8515

def k0_off434 (v8507 : BitVec 32) : Fin 2 → Nat :=
  let c3_i32_5653 : BitVec 32 := 3#32
  let v8511 : BitVec 32 := Scalar.shrsi v8507 c3_i32_5653
  let c3_i32_5654 : BitVec 32 := 3#32
  let v8512 : BitVec 32 := Scalar.shli v8511 c3_i32_5654
  let v8513 : BitVec 32 := v8512
  let v8517 : Index := Scalar.indexCast v8513
  let c0_5657 : Index := 0#32
  ![v8517.toNat, 0]

def k0_chk433 (v8507 : BitVec 32) : Prop :=
  (8 ∣ (k0_mult433 v8507).toNat) ∧
  (∀ a, (k0_off434 v8507) a + S16x128.size a ≤ S66048x128.size a)
theorem k0_mult433_dvd : ∀ (v8507 : BitVec 32) (k0_hw433 : k0_chk433 v8507), 8 ∣ (k0_mult433 v8507).toNat := fun v8507 k0_hw433 => k0_hw433.1
theorem k0_off434_inb : ∀ (v8507 : BitVec 32) (k0_hw433 : k0_chk433 v8507), ∀ a, (k0_off434 v8507) a + S16x128.size a ≤ S66048x128.size a := fun v8507 k0_hw433 => k0_hw433.2

def k0_off435 (v8508 : BitVec 32) : Fin 2 → Nat :=
  let c3_i32_5655 : BitVec 32 := 3#32
  let v8514 : BitVec 32 := Scalar.shrsi v8508 c3_i32_5655
  let c3_i32_5656 : BitVec 32 := 3#32
  let v8515 : BitVec 32 := Scalar.shli v8514 c3_i32_5656
  let v8516 : BitVec 32 := v8515
  let v8519 : Index := Scalar.indexCast v8516
  let c0_5658 : Index := 0#32
  ![v8519.toNat, 0]

def k0_chk434 (v8508 : BitVec 32) : Prop :=
  (8 ∣ (k0_mult434 v8508).toNat) ∧
  (∀ a, (k0_off435 v8508) a + S16x128.size a ≤ S66048x128.size a)
theorem k0_mult434_dvd : ∀ (v8508 : BitVec 32) (k0_hw434 : k0_chk434 v8508), 8 ∣ (k0_mult434 v8508).toNat := fun v8508 k0_hw434 => k0_hw434.1
theorem k0_off435_inb : ∀ (v8508 : BitVec 32) (k0_hw434 : k0_chk434 v8508), ∀ a, (k0_off435 v8508) a + S16x128.size a ≤ S66048x128.size a := fun v8508 k0_hw434 => k0_hw434.2

def k0_mult435 (v8546 : BitVec 32) : BitVec 32 :=
  let c3_i32_5679 : BitVec 32 := 3#32
  let v8550 : BitVec 32 := Scalar.shrsi v8546 c3_i32_5679
  let c3_i32_5680 : BitVec 32 := 3#32
  let v8551 : BitVec 32 := Scalar.shli v8550 c3_i32_5680
  v8551

def k0_mult436 (v8547 : BitVec 32) : BitVec 32 :=
  let c3_i32_5681 : BitVec 32 := 3#32
  let v8553 : BitVec 32 := Scalar.shrsi v8547 c3_i32_5681
  let c3_i32_5682 : BitVec 32 := 3#32
  let v8554 : BitVec 32 := Scalar.shli v8553 c3_i32_5682
  v8554

def k0_off436 (v8546 : BitVec 32) : Fin 2 → Nat :=
  let c3_i32_5679 : BitVec 32 := 3#32
  let v8550 : BitVec 32 := Scalar.shrsi v8546 c3_i32_5679
  let c3_i32_5680 : BitVec 32 := 3#32
  let v8551 : BitVec 32 := Scalar.shli v8550 c3_i32_5680
  let v8552 : BitVec 32 := v8551
  let v8556 : Index := Scalar.indexCast v8552
  let c0_5683 : Index := 0#32
  ![v8556.toNat, 0]

def k0_chk435 (v8546 : BitVec 32) : Prop :=
  (8 ∣ (k0_mult435 v8546).toNat) ∧
  (∀ a, (k0_off436 v8546) a + S16x128.size a ≤ S66048x128.size a)
theorem k0_mult435_dvd : ∀ (v8546 : BitVec 32) (k0_hw435 : k0_chk435 v8546), 8 ∣ (k0_mult435 v8546).toNat := fun v8546 k0_hw435 => k0_hw435.1
theorem k0_off436_inb : ∀ (v8546 : BitVec 32) (k0_hw435 : k0_chk435 v8546), ∀ a, (k0_off436 v8546) a + S16x128.size a ≤ S66048x128.size a := fun v8546 k0_hw435 => k0_hw435.2

def k0_off437 (v8547 : BitVec 32) : Fin 2 → Nat :=
  let c3_i32_5681 : BitVec 32 := 3#32
  let v8553 : BitVec 32 := Scalar.shrsi v8547 c3_i32_5681
  let c3_i32_5682 : BitVec 32 := 3#32
  let v8554 : BitVec 32 := Scalar.shli v8553 c3_i32_5682
  let v8555 : BitVec 32 := v8554
  let v8558 : Index := Scalar.indexCast v8555
  let c0_5684 : Index := 0#32
  ![v8558.toNat, 0]

def k0_chk436 (v8547 : BitVec 32) : Prop :=
  (8 ∣ (k0_mult436 v8547).toNat) ∧
  (∀ a, (k0_off437 v8547) a + S16x128.size a ≤ S66048x128.size a)
theorem k0_mult436_dvd : ∀ (v8547 : BitVec 32) (k0_hw436 : k0_chk436 v8547), 8 ∣ (k0_mult436 v8547).toNat := fun v8547 k0_hw436 => k0_hw436.1
theorem k0_off437_inb : ∀ (v8547 : BitVec 32) (k0_hw436 : k0_chk436 v8547), ∀ a, (k0_off437 v8547) a + S16x128.size a ≤ S66048x128.size a := fun v8547 k0_hw436 => k0_hw436.2

def k0_mult437 (v8585 : BitVec 32) : BitVec 32 :=
  let c3_i32_5705 : BitVec 32 := 3#32
  let v8589 : BitVec 32 := Scalar.shrsi v8585 c3_i32_5705
  let c3_i32_5706 : BitVec 32 := 3#32
  let v8590 : BitVec 32 := Scalar.shli v8589 c3_i32_5706
  v8590

def k0_mult438 (v8586 : BitVec 32) : BitVec 32 :=
  let c3_i32_5707 : BitVec 32 := 3#32
  let v8592 : BitVec 32 := Scalar.shrsi v8586 c3_i32_5707
  let c3_i32_5708 : BitVec 32 := 3#32
  let v8593 : BitVec 32 := Scalar.shli v8592 c3_i32_5708
  v8593

def k0_off438 (v8585 : BitVec 32) : Fin 2 → Nat :=
  let c3_i32_5705 : BitVec 32 := 3#32
  let v8589 : BitVec 32 := Scalar.shrsi v8585 c3_i32_5705
  let c3_i32_5706 : BitVec 32 := 3#32
  let v8590 : BitVec 32 := Scalar.shli v8589 c3_i32_5706
  let v8591 : BitVec 32 := v8590
  let v8595 : Index := Scalar.indexCast v8591
  let c0_5709 : Index := 0#32
  ![v8595.toNat, 0]

def k0_chk437 (v8585 : BitVec 32) : Prop :=
  (8 ∣ (k0_mult437 v8585).toNat) ∧
  (∀ a, (k0_off438 v8585) a + S16x128.size a ≤ S66048x128.size a)
theorem k0_mult437_dvd : ∀ (v8585 : BitVec 32) (k0_hw437 : k0_chk437 v8585), 8 ∣ (k0_mult437 v8585).toNat := fun v8585 k0_hw437 => k0_hw437.1
theorem k0_off438_inb : ∀ (v8585 : BitVec 32) (k0_hw437 : k0_chk437 v8585), ∀ a, (k0_off438 v8585) a + S16x128.size a ≤ S66048x128.size a := fun v8585 k0_hw437 => k0_hw437.2

def k0_off439 (v8586 : BitVec 32) : Fin 2 → Nat :=
  let c3_i32_5707 : BitVec 32 := 3#32
  let v8592 : BitVec 32 := Scalar.shrsi v8586 c3_i32_5707
  let c3_i32_5708 : BitVec 32 := 3#32
  let v8593 : BitVec 32 := Scalar.shli v8592 c3_i32_5708
  let v8594 : BitVec 32 := v8593
  let v8597 : Index := Scalar.indexCast v8594
  let c0_5710 : Index := 0#32
  ![v8597.toNat, 0]

def k0_chk438 (v8586 : BitVec 32) : Prop :=
  (8 ∣ (k0_mult438 v8586).toNat) ∧
  (∀ a, (k0_off439 v8586) a + S16x128.size a ≤ S66048x128.size a)
theorem k0_mult438_dvd : ∀ (v8586 : BitVec 32) (k0_hw438 : k0_chk438 v8586), 8 ∣ (k0_mult438 v8586).toNat := fun v8586 k0_hw438 => k0_hw438.1
theorem k0_off439_inb : ∀ (v8586 : BitVec 32) (k0_hw438 : k0_chk438 v8586), ∀ a, (k0_off439 v8586) a + S16x128.size a ≤ S66048x128.size a := fun v8586 k0_hw438 => k0_hw438.2

def k0_mult439 (v8624 : BitVec 32) : BitVec 32 :=
  let c3_i32_5731 : BitVec 32 := 3#32
  let v8628 : BitVec 32 := Scalar.shrsi v8624 c3_i32_5731
  let c3_i32_5732 : BitVec 32 := 3#32
  let v8629 : BitVec 32 := Scalar.shli v8628 c3_i32_5732
  v8629

def k0_mult440 (v8625 : BitVec 32) : BitVec 32 :=
  let c3_i32_5733 : BitVec 32 := 3#32
  let v8631 : BitVec 32 := Scalar.shrsi v8625 c3_i32_5733
  let c3_i32_5734 : BitVec 32 := 3#32
  let v8632 : BitVec 32 := Scalar.shli v8631 c3_i32_5734
  v8632

def k0_off440 (v8624 : BitVec 32) : Fin 2 → Nat :=
  let c3_i32_5731 : BitVec 32 := 3#32
  let v8628 : BitVec 32 := Scalar.shrsi v8624 c3_i32_5731
  let c3_i32_5732 : BitVec 32 := 3#32
  let v8629 : BitVec 32 := Scalar.shli v8628 c3_i32_5732
  let v8630 : BitVec 32 := v8629
  let v8634 : Index := Scalar.indexCast v8630
  let c0_5735 : Index := 0#32
  ![v8634.toNat, 0]

def k0_chk439 (v8624 : BitVec 32) : Prop :=
  (8 ∣ (k0_mult439 v8624).toNat) ∧
  (∀ a, (k0_off440 v8624) a + S16x128.size a ≤ S66048x128.size a)
theorem k0_mult439_dvd : ∀ (v8624 : BitVec 32) (k0_hw439 : k0_chk439 v8624), 8 ∣ (k0_mult439 v8624).toNat := fun v8624 k0_hw439 => k0_hw439.1
theorem k0_off440_inb : ∀ (v8624 : BitVec 32) (k0_hw439 : k0_chk439 v8624), ∀ a, (k0_off440 v8624) a + S16x128.size a ≤ S66048x128.size a := fun v8624 k0_hw439 => k0_hw439.2

def k0_off441 (v8625 : BitVec 32) : Fin 2 → Nat :=
  let c3_i32_5733 : BitVec 32 := 3#32
  let v8631 : BitVec 32 := Scalar.shrsi v8625 c3_i32_5733
  let c3_i32_5734 : BitVec 32 := 3#32
  let v8632 : BitVec 32 := Scalar.shli v8631 c3_i32_5734
  let v8633 : BitVec 32 := v8632
  let v8636 : Index := Scalar.indexCast v8633
  let c0_5736 : Index := 0#32
  ![v8636.toNat, 0]

def k0_chk440 (v8625 : BitVec 32) : Prop :=
  (8 ∣ (k0_mult440 v8625).toNat) ∧
  (∀ a, (k0_off441 v8625) a + S16x128.size a ≤ S66048x128.size a)
theorem k0_mult440_dvd : ∀ (v8625 : BitVec 32) (k0_hw440 : k0_chk440 v8625), 8 ∣ (k0_mult440 v8625).toNat := fun v8625 k0_hw440 => k0_hw440.1
theorem k0_off441_inb : ∀ (v8625 : BitVec 32) (k0_hw440 : k0_chk440 v8625), ∀ a, (k0_off441 v8625) a + S16x128.size a ≤ S66048x128.size a := fun v8625 k0_hw440 => k0_hw440.2

def k0_mult441 (v8663 : BitVec 32) : BitVec 32 :=
  let c3_i32_5757 : BitVec 32 := 3#32
  let v8667 : BitVec 32 := Scalar.shrsi v8663 c3_i32_5757
  let c3_i32_5758 : BitVec 32 := 3#32
  let v8668 : BitVec 32 := Scalar.shli v8667 c3_i32_5758
  v8668

def k0_mult442 (v8664 : BitVec 32) : BitVec 32 :=
  let c3_i32_5759 : BitVec 32 := 3#32
  let v8670 : BitVec 32 := Scalar.shrsi v8664 c3_i32_5759
  let c3_i32_5760 : BitVec 32 := 3#32
  let v8671 : BitVec 32 := Scalar.shli v8670 c3_i32_5760
  v8671

def k0_off442 (v8663 : BitVec 32) : Fin 2 → Nat :=
  let c3_i32_5757 : BitVec 32 := 3#32
  let v8667 : BitVec 32 := Scalar.shrsi v8663 c3_i32_5757
  let c3_i32_5758 : BitVec 32 := 3#32
  let v8668 : BitVec 32 := Scalar.shli v8667 c3_i32_5758
  let v8669 : BitVec 32 := v8668
  let v8673 : Index := Scalar.indexCast v8669
  let c0_5761 : Index := 0#32
  ![v8673.toNat, 0]

def k0_chk441 (v8663 : BitVec 32) : Prop :=
  (8 ∣ (k0_mult441 v8663).toNat) ∧
  (∀ a, (k0_off442 v8663) a + S16x128.size a ≤ S66048x128.size a)
theorem k0_mult441_dvd : ∀ (v8663 : BitVec 32) (k0_hw441 : k0_chk441 v8663), 8 ∣ (k0_mult441 v8663).toNat := fun v8663 k0_hw441 => k0_hw441.1
theorem k0_off442_inb : ∀ (v8663 : BitVec 32) (k0_hw441 : k0_chk441 v8663), ∀ a, (k0_off442 v8663) a + S16x128.size a ≤ S66048x128.size a := fun v8663 k0_hw441 => k0_hw441.2

def k0_off443 (v8664 : BitVec 32) : Fin 2 → Nat :=
  let c3_i32_5759 : BitVec 32 := 3#32
  let v8670 : BitVec 32 := Scalar.shrsi v8664 c3_i32_5759
  let c3_i32_5760 : BitVec 32 := 3#32
  let v8671 : BitVec 32 := Scalar.shli v8670 c3_i32_5760
  let v8672 : BitVec 32 := v8671
  let v8675 : Index := Scalar.indexCast v8672
  let c0_5762 : Index := 0#32
  ![v8675.toNat, 0]

def k0_chk442 (v8664 : BitVec 32) : Prop :=
  (8 ∣ (k0_mult442 v8664).toNat) ∧
  (∀ a, (k0_off443 v8664) a + S16x128.size a ≤ S66048x128.size a)
theorem k0_mult442_dvd : ∀ (v8664 : BitVec 32) (k0_hw442 : k0_chk442 v8664), 8 ∣ (k0_mult442 v8664).toNat := fun v8664 k0_hw442 => k0_hw442.1
theorem k0_off443_inb : ∀ (v8664 : BitVec 32) (k0_hw442 : k0_chk442 v8664), ∀ a, (k0_off443 v8664) a + S16x128.size a ≤ S66048x128.size a := fun v8664 k0_hw442 => k0_hw442.2

def k0_mult443 (v8702 : BitVec 32) : BitVec 32 :=
  let c3_i32_5783 : BitVec 32 := 3#32
  let v8706 : BitVec 32 := Scalar.shrsi v8702 c3_i32_5783
  let c3_i32_5784 : BitVec 32 := 3#32
  let v8707 : BitVec 32 := Scalar.shli v8706 c3_i32_5784
  v8707

def k0_mult444 (v8703 : BitVec 32) : BitVec 32 :=
  let c3_i32_5785 : BitVec 32 := 3#32
  let v8709 : BitVec 32 := Scalar.shrsi v8703 c3_i32_5785
  let c3_i32_5786 : BitVec 32 := 3#32
  let v8710 : BitVec 32 := Scalar.shli v8709 c3_i32_5786
  v8710

def k0_off444 (v8702 : BitVec 32) : Fin 2 → Nat :=
  let c3_i32_5783 : BitVec 32 := 3#32
  let v8706 : BitVec 32 := Scalar.shrsi v8702 c3_i32_5783
  let c3_i32_5784 : BitVec 32 := 3#32
  let v8707 : BitVec 32 := Scalar.shli v8706 c3_i32_5784
  let v8708 : BitVec 32 := v8707
  let v8712 : Index := Scalar.indexCast v8708
  let c0_5787 : Index := 0#32
  ![v8712.toNat, 0]

def k0_chk443 (v8702 : BitVec 32) : Prop :=
  (8 ∣ (k0_mult443 v8702).toNat) ∧
  (∀ a, (k0_off444 v8702) a + S16x128.size a ≤ S66048x128.size a)
theorem k0_mult443_dvd : ∀ (v8702 : BitVec 32) (k0_hw443 : k0_chk443 v8702), 8 ∣ (k0_mult443 v8702).toNat := fun v8702 k0_hw443 => k0_hw443.1
theorem k0_off444_inb : ∀ (v8702 : BitVec 32) (k0_hw443 : k0_chk443 v8702), ∀ a, (k0_off444 v8702) a + S16x128.size a ≤ S66048x128.size a := fun v8702 k0_hw443 => k0_hw443.2

def k0_off445 (v8703 : BitVec 32) : Fin 2 → Nat :=
  let c3_i32_5785 : BitVec 32 := 3#32
  let v8709 : BitVec 32 := Scalar.shrsi v8703 c3_i32_5785
  let c3_i32_5786 : BitVec 32 := 3#32
  let v8710 : BitVec 32 := Scalar.shli v8709 c3_i32_5786
  let v8711 : BitVec 32 := v8710
  let v8714 : Index := Scalar.indexCast v8711
  let c0_5788 : Index := 0#32
  ![v8714.toNat, 0]

def k0_chk444 (v8703 : BitVec 32) : Prop :=
  (8 ∣ (k0_mult444 v8703).toNat) ∧
  (∀ a, (k0_off445 v8703) a + S16x128.size a ≤ S66048x128.size a)
theorem k0_mult444_dvd : ∀ (v8703 : BitVec 32) (k0_hw444 : k0_chk444 v8703), 8 ∣ (k0_mult444 v8703).toNat := fun v8703 k0_hw444 => k0_hw444.1
theorem k0_off445_inb : ∀ (v8703 : BitVec 32) (k0_hw444 : k0_chk444 v8703), ∀ a, (k0_off445 v8703) a + S16x128.size a ≤ S66048x128.size a := fun v8703 k0_hw444 => k0_hw444.2

def k0_mult445 (v8741 : BitVec 32) : BitVec 32 :=
  let c3_i32_5809 : BitVec 32 := 3#32
  let v8745 : BitVec 32 := Scalar.shrsi v8741 c3_i32_5809
  let c3_i32_5810 : BitVec 32 := 3#32
  let v8746 : BitVec 32 := Scalar.shli v8745 c3_i32_5810
  v8746

def k0_mult446 (v8742 : BitVec 32) : BitVec 32 :=
  let c3_i32_5811 : BitVec 32 := 3#32
  let v8748 : BitVec 32 := Scalar.shrsi v8742 c3_i32_5811
  let c3_i32_5812 : BitVec 32 := 3#32
  let v8749 : BitVec 32 := Scalar.shli v8748 c3_i32_5812
  v8749

def k0_off446 (v8741 : BitVec 32) : Fin 2 → Nat :=
  let c3_i32_5809 : BitVec 32 := 3#32
  let v8745 : BitVec 32 := Scalar.shrsi v8741 c3_i32_5809
  let c3_i32_5810 : BitVec 32 := 3#32
  let v8746 : BitVec 32 := Scalar.shli v8745 c3_i32_5810
  let v8747 : BitVec 32 := v8746
  let v8751 : Index := Scalar.indexCast v8747
  let c0_5813 : Index := 0#32
  ![v8751.toNat, 0]

def k0_chk445 (v8741 : BitVec 32) : Prop :=
  (8 ∣ (k0_mult445 v8741).toNat) ∧
  (∀ a, (k0_off446 v8741) a + S16x128.size a ≤ S66048x128.size a)
theorem k0_mult445_dvd : ∀ (v8741 : BitVec 32) (k0_hw445 : k0_chk445 v8741), 8 ∣ (k0_mult445 v8741).toNat := fun v8741 k0_hw445 => k0_hw445.1
theorem k0_off446_inb : ∀ (v8741 : BitVec 32) (k0_hw445 : k0_chk445 v8741), ∀ a, (k0_off446 v8741) a + S16x128.size a ≤ S66048x128.size a := fun v8741 k0_hw445 => k0_hw445.2

def k0_off447 (v8742 : BitVec 32) : Fin 2 → Nat :=
  let c3_i32_5811 : BitVec 32 := 3#32
  let v8748 : BitVec 32 := Scalar.shrsi v8742 c3_i32_5811
  let c3_i32_5812 : BitVec 32 := 3#32
  let v8749 : BitVec 32 := Scalar.shli v8748 c3_i32_5812
  let v8750 : BitVec 32 := v8749
  let v8753 : Index := Scalar.indexCast v8750
  let c0_5814 : Index := 0#32
  ![v8753.toNat, 0]

def k0_chk446 (v8742 : BitVec 32) : Prop :=
  (8 ∣ (k0_mult446 v8742).toNat) ∧
  (∀ a, (k0_off447 v8742) a + S16x128.size a ≤ S66048x128.size a)
theorem k0_mult446_dvd : ∀ (v8742 : BitVec 32) (k0_hw446 : k0_chk446 v8742), 8 ∣ (k0_mult446 v8742).toNat := fun v8742 k0_hw446 => k0_hw446.1
theorem k0_off447_inb : ∀ (v8742 : BitVec 32) (k0_hw446 : k0_chk446 v8742), ∀ a, (k0_off447 v8742) a + S16x128.size a ≤ S66048x128.size a := fun v8742 k0_hw446 => k0_hw446.2

def k0_mult447 (v8780 : BitVec 32) : BitVec 32 :=
  let c3_i32_5835 : BitVec 32 := 3#32
  let v8784 : BitVec 32 := Scalar.shrsi v8780 c3_i32_5835
  let c3_i32_5836 : BitVec 32 := 3#32
  let v8785 : BitVec 32 := Scalar.shli v8784 c3_i32_5836
  v8785

def k0_mult448 (v8781 : BitVec 32) : BitVec 32 :=
  let c3_i32_5837 : BitVec 32 := 3#32
  let v8787 : BitVec 32 := Scalar.shrsi v8781 c3_i32_5837
  let c3_i32_5838 : BitVec 32 := 3#32
  let v8788 : BitVec 32 := Scalar.shli v8787 c3_i32_5838
  v8788

def k0_off448 (v8780 : BitVec 32) : Fin 2 → Nat :=
  let c3_i32_5835 : BitVec 32 := 3#32
  let v8784 : BitVec 32 := Scalar.shrsi v8780 c3_i32_5835
  let c3_i32_5836 : BitVec 32 := 3#32
  let v8785 : BitVec 32 := Scalar.shli v8784 c3_i32_5836
  let v8786 : BitVec 32 := v8785
  let v8790 : Index := Scalar.indexCast v8786
  let c0_5839 : Index := 0#32
  ![v8790.toNat, 0]

def k0_chk447 (v8780 : BitVec 32) : Prop :=
  (8 ∣ (k0_mult447 v8780).toNat) ∧
  (∀ a, (k0_off448 v8780) a + S16x128.size a ≤ S66048x128.size a)
theorem k0_mult447_dvd : ∀ (v8780 : BitVec 32) (k0_hw447 : k0_chk447 v8780), 8 ∣ (k0_mult447 v8780).toNat := fun v8780 k0_hw447 => k0_hw447.1
theorem k0_off448_inb : ∀ (v8780 : BitVec 32) (k0_hw447 : k0_chk447 v8780), ∀ a, (k0_off448 v8780) a + S16x128.size a ≤ S66048x128.size a := fun v8780 k0_hw447 => k0_hw447.2

def k0_off449 (v8781 : BitVec 32) : Fin 2 → Nat :=
  let c3_i32_5837 : BitVec 32 := 3#32
  let v8787 : BitVec 32 := Scalar.shrsi v8781 c3_i32_5837
  let c3_i32_5838 : BitVec 32 := 3#32
  let v8788 : BitVec 32 := Scalar.shli v8787 c3_i32_5838
  let v8789 : BitVec 32 := v8788
  let v8792 : Index := Scalar.indexCast v8789
  let c0_5840 : Index := 0#32
  ![v8792.toNat, 0]

def k0_chk448 (v8781 : BitVec 32) : Prop :=
  (8 ∣ (k0_mult448 v8781).toNat) ∧
  (∀ a, (k0_off449 v8781) a + S16x128.size a ≤ S66048x128.size a)
theorem k0_mult448_dvd : ∀ (v8781 : BitVec 32) (k0_hw448 : k0_chk448 v8781), 8 ∣ (k0_mult448 v8781).toNat := fun v8781 k0_hw448 => k0_hw448.1
theorem k0_off449_inb : ∀ (v8781 : BitVec 32) (k0_hw448 : k0_chk448 v8781), ∀ a, (k0_off449 v8781) a + S16x128.size a ≤ S66048x128.size a := fun v8781 k0_hw448 => k0_hw448.2

def k0_mult449 (v8819 : BitVec 32) : BitVec 32 :=
  let c3_i32_5861 : BitVec 32 := 3#32
  let v8823 : BitVec 32 := Scalar.shrsi v8819 c3_i32_5861
  let c3_i32_5862 : BitVec 32 := 3#32
  let v8824 : BitVec 32 := Scalar.shli v8823 c3_i32_5862
  v8824

def k0_mult450 (v8820 : BitVec 32) : BitVec 32 :=
  let c3_i32_5863 : BitVec 32 := 3#32
  let v8826 : BitVec 32 := Scalar.shrsi v8820 c3_i32_5863
  let c3_i32_5864 : BitVec 32 := 3#32
  let v8827 : BitVec 32 := Scalar.shli v8826 c3_i32_5864
  v8827

def k0_off450 (v8819 : BitVec 32) : Fin 2 → Nat :=
  let c3_i32_5861 : BitVec 32 := 3#32
  let v8823 : BitVec 32 := Scalar.shrsi v8819 c3_i32_5861
  let c3_i32_5862 : BitVec 32 := 3#32
  let v8824 : BitVec 32 := Scalar.shli v8823 c3_i32_5862
  let v8825 : BitVec 32 := v8824
  let v8829 : Index := Scalar.indexCast v8825
  let c0_5865 : Index := 0#32
  ![v8829.toNat, 0]

def k0_chk449 (v8819 : BitVec 32) : Prop :=
  (8 ∣ (k0_mult449 v8819).toNat) ∧
  (∀ a, (k0_off450 v8819) a + S16x128.size a ≤ S66048x128.size a)
theorem k0_mult449_dvd : ∀ (v8819 : BitVec 32) (k0_hw449 : k0_chk449 v8819), 8 ∣ (k0_mult449 v8819).toNat := fun v8819 k0_hw449 => k0_hw449.1
theorem k0_off450_inb : ∀ (v8819 : BitVec 32) (k0_hw449 : k0_chk449 v8819), ∀ a, (k0_off450 v8819) a + S16x128.size a ≤ S66048x128.size a := fun v8819 k0_hw449 => k0_hw449.2

def k0_off451 (v8820 : BitVec 32) : Fin 2 → Nat :=
  let c3_i32_5863 : BitVec 32 := 3#32
  let v8826 : BitVec 32 := Scalar.shrsi v8820 c3_i32_5863
  let c3_i32_5864 : BitVec 32 := 3#32
  let v8827 : BitVec 32 := Scalar.shli v8826 c3_i32_5864
  let v8828 : BitVec 32 := v8827
  let v8831 : Index := Scalar.indexCast v8828
  let c0_5866 : Index := 0#32
  ![v8831.toNat, 0]

def k0_chk450 (v8820 : BitVec 32) : Prop :=
  (8 ∣ (k0_mult450 v8820).toNat) ∧
  (∀ a, (k0_off451 v8820) a + S16x128.size a ≤ S66048x128.size a)
theorem k0_mult450_dvd : ∀ (v8820 : BitVec 32) (k0_hw450 : k0_chk450 v8820), 8 ∣ (k0_mult450 v8820).toNat := fun v8820 k0_hw450 => k0_hw450.1
theorem k0_off451_inb : ∀ (v8820 : BitVec 32) (k0_hw450 : k0_chk450 v8820), ∀ a, (k0_off451 v8820) a + S16x128.size a ≤ S66048x128.size a := fun v8820 k0_hw450 => k0_hw450.2

def k0_mult451 (v8865 : BitVec 32) : BitVec 32 :=
  let c3_i32_5893 : BitVec 32 := 3#32
  let v8869 : BitVec 32 := Scalar.shrsi v8865 c3_i32_5893
  let c3_i32_5894 : BitVec 32 := 3#32
  let v8870 : BitVec 32 := Scalar.shli v8869 c3_i32_5894
  v8870

def k0_mult452 (v8866 : BitVec 32) : BitVec 32 :=
  let c3_i32_5895 : BitVec 32 := 3#32
  let v8872 : BitVec 32 := Scalar.shrsi v8866 c3_i32_5895
  let c3_i32_5896 : BitVec 32 := 3#32
  let v8873 : BitVec 32 := Scalar.shli v8872 c3_i32_5896
  v8873

def k0_off452 (v8865 : BitVec 32) : Fin 2 → Nat :=
  let c3_i32_5893 : BitVec 32 := 3#32
  let v8869 : BitVec 32 := Scalar.shrsi v8865 c3_i32_5893
  let c3_i32_5894 : BitVec 32 := 3#32
  let v8870 : BitVec 32 := Scalar.shli v8869 c3_i32_5894
  let v8871 : BitVec 32 := v8870
  let v8875 : Index := Scalar.indexCast v8871
  let c0_5897 : Index := 0#32
  ![v8875.toNat, 0]

def k0_chk451 (v8865 : BitVec 32) : Prop :=
  (8 ∣ (k0_mult451 v8865).toNat) ∧
  (∀ a, (k0_off452 v8865) a + S16x128.size a ≤ S66048x128.size a)
theorem k0_mult451_dvd : ∀ (v8865 : BitVec 32) (k0_hw451 : k0_chk451 v8865), 8 ∣ (k0_mult451 v8865).toNat := fun v8865 k0_hw451 => k0_hw451.1
theorem k0_off452_inb : ∀ (v8865 : BitVec 32) (k0_hw451 : k0_chk451 v8865), ∀ a, (k0_off452 v8865) a + S16x128.size a ≤ S66048x128.size a := fun v8865 k0_hw451 => k0_hw451.2

def k0_off453 (v8866 : BitVec 32) : Fin 2 → Nat :=
  let c3_i32_5895 : BitVec 32 := 3#32
  let v8872 : BitVec 32 := Scalar.shrsi v8866 c3_i32_5895
  let c3_i32_5896 : BitVec 32 := 3#32
  let v8873 : BitVec 32 := Scalar.shli v8872 c3_i32_5896
  let v8874 : BitVec 32 := v8873
  let v8877 : Index := Scalar.indexCast v8874
  let c0_5898 : Index := 0#32
  ![v8877.toNat, 0]

def k0_chk452 (v8866 : BitVec 32) : Prop :=
  (8 ∣ (k0_mult452 v8866).toNat) ∧
  (∀ a, (k0_off453 v8866) a + S16x128.size a ≤ S66048x128.size a)
theorem k0_mult452_dvd : ∀ (v8866 : BitVec 32) (k0_hw452 : k0_chk452 v8866), 8 ∣ (k0_mult452 v8866).toNat := fun v8866 k0_hw452 => k0_hw452.1
theorem k0_off453_inb : ∀ (v8866 : BitVec 32) (k0_hw452 : k0_chk452 v8866), ∀ a, (k0_off453 v8866) a + S16x128.size a ≤ S66048x128.size a := fun v8866 k0_hw452 => k0_hw452.2

def k0_mult453 (v8904 : BitVec 32) : BitVec 32 :=
  let c3_i32_5919 : BitVec 32 := 3#32
  let v8908 : BitVec 32 := Scalar.shrsi v8904 c3_i32_5919
  let c3_i32_5920 : BitVec 32 := 3#32
  let v8909 : BitVec 32 := Scalar.shli v8908 c3_i32_5920
  v8909

def k0_mult454 (v8905 : BitVec 32) : BitVec 32 :=
  let c3_i32_5921 : BitVec 32 := 3#32
  let v8911 : BitVec 32 := Scalar.shrsi v8905 c3_i32_5921
  let c3_i32_5922 : BitVec 32 := 3#32
  let v8912 : BitVec 32 := Scalar.shli v8911 c3_i32_5922
  v8912

def k0_off454 (v8904 : BitVec 32) : Fin 2 → Nat :=
  let c3_i32_5919 : BitVec 32 := 3#32
  let v8908 : BitVec 32 := Scalar.shrsi v8904 c3_i32_5919
  let c3_i32_5920 : BitVec 32 := 3#32
  let v8909 : BitVec 32 := Scalar.shli v8908 c3_i32_5920
  let v8910 : BitVec 32 := v8909
  let v8914 : Index := Scalar.indexCast v8910
  let c0_5923 : Index := 0#32
  ![v8914.toNat, 0]

def k0_chk453 (v8904 : BitVec 32) : Prop :=
  (8 ∣ (k0_mult453 v8904).toNat) ∧
  (∀ a, (k0_off454 v8904) a + S16x128.size a ≤ S66048x128.size a)
theorem k0_mult453_dvd : ∀ (v8904 : BitVec 32) (k0_hw453 : k0_chk453 v8904), 8 ∣ (k0_mult453 v8904).toNat := fun v8904 k0_hw453 => k0_hw453.1
theorem k0_off454_inb : ∀ (v8904 : BitVec 32) (k0_hw453 : k0_chk453 v8904), ∀ a, (k0_off454 v8904) a + S16x128.size a ≤ S66048x128.size a := fun v8904 k0_hw453 => k0_hw453.2

def k0_off455 (v8905 : BitVec 32) : Fin 2 → Nat :=
  let c3_i32_5921 : BitVec 32 := 3#32
  let v8911 : BitVec 32 := Scalar.shrsi v8905 c3_i32_5921
  let c3_i32_5922 : BitVec 32 := 3#32
  let v8912 : BitVec 32 := Scalar.shli v8911 c3_i32_5922
  let v8913 : BitVec 32 := v8912
  let v8916 : Index := Scalar.indexCast v8913
  let c0_5924 : Index := 0#32
  ![v8916.toNat, 0]

def k0_chk454 (v8905 : BitVec 32) : Prop :=
  (8 ∣ (k0_mult454 v8905).toNat) ∧
  (∀ a, (k0_off455 v8905) a + S16x128.size a ≤ S66048x128.size a)
theorem k0_mult454_dvd : ∀ (v8905 : BitVec 32) (k0_hw454 : k0_chk454 v8905), 8 ∣ (k0_mult454 v8905).toNat := fun v8905 k0_hw454 => k0_hw454.1
theorem k0_off455_inb : ∀ (v8905 : BitVec 32) (k0_hw454 : k0_chk454 v8905), ∀ a, (k0_off455 v8905) a + S16x128.size a ≤ S66048x128.size a := fun v8905 k0_hw454 => k0_hw454.2

def k0_mult455 (v8943 : BitVec 32) : BitVec 32 :=
  let c3_i32_5945 : BitVec 32 := 3#32
  let v8947 : BitVec 32 := Scalar.shrsi v8943 c3_i32_5945
  let c3_i32_5946 : BitVec 32 := 3#32
  let v8948 : BitVec 32 := Scalar.shli v8947 c3_i32_5946
  v8948

def k0_mult456 (v8944 : BitVec 32) : BitVec 32 :=
  let c3_i32_5947 : BitVec 32 := 3#32
  let v8950 : BitVec 32 := Scalar.shrsi v8944 c3_i32_5947
  let c3_i32_5948 : BitVec 32 := 3#32
  let v8951 : BitVec 32 := Scalar.shli v8950 c3_i32_5948
  v8951

def k0_off456 (v8943 : BitVec 32) : Fin 2 → Nat :=
  let c3_i32_5945 : BitVec 32 := 3#32
  let v8947 : BitVec 32 := Scalar.shrsi v8943 c3_i32_5945
  let c3_i32_5946 : BitVec 32 := 3#32
  let v8948 : BitVec 32 := Scalar.shli v8947 c3_i32_5946
  let v8949 : BitVec 32 := v8948
  let v8953 : Index := Scalar.indexCast v8949
  let c0_5949 : Index := 0#32
  ![v8953.toNat, 0]

def k0_chk455 (v8943 : BitVec 32) : Prop :=
  (8 ∣ (k0_mult455 v8943).toNat) ∧
  (∀ a, (k0_off456 v8943) a + S16x128.size a ≤ S66048x128.size a)
theorem k0_mult455_dvd : ∀ (v8943 : BitVec 32) (k0_hw455 : k0_chk455 v8943), 8 ∣ (k0_mult455 v8943).toNat := fun v8943 k0_hw455 => k0_hw455.1
theorem k0_off456_inb : ∀ (v8943 : BitVec 32) (k0_hw455 : k0_chk455 v8943), ∀ a, (k0_off456 v8943) a + S16x128.size a ≤ S66048x128.size a := fun v8943 k0_hw455 => k0_hw455.2

def k0_off457 (v8944 : BitVec 32) : Fin 2 → Nat :=
  let c3_i32_5947 : BitVec 32 := 3#32
  let v8950 : BitVec 32 := Scalar.shrsi v8944 c3_i32_5947
  let c3_i32_5948 : BitVec 32 := 3#32
  let v8951 : BitVec 32 := Scalar.shli v8950 c3_i32_5948
  let v8952 : BitVec 32 := v8951
  let v8955 : Index := Scalar.indexCast v8952
  let c0_5950 : Index := 0#32
  ![v8955.toNat, 0]

def k0_chk456 (v8944 : BitVec 32) : Prop :=
  (8 ∣ (k0_mult456 v8944).toNat) ∧
  (∀ a, (k0_off457 v8944) a + S16x128.size a ≤ S66048x128.size a)
theorem k0_mult456_dvd : ∀ (v8944 : BitVec 32) (k0_hw456 : k0_chk456 v8944), 8 ∣ (k0_mult456 v8944).toNat := fun v8944 k0_hw456 => k0_hw456.1
theorem k0_off457_inb : ∀ (v8944 : BitVec 32) (k0_hw456 : k0_chk456 v8944), ∀ a, (k0_off457 v8944) a + S16x128.size a ≤ S66048x128.size a := fun v8944 k0_hw456 => k0_hw456.2

def k0_mult457 (v8982 : BitVec 32) : BitVec 32 :=
  let c3_i32_5971 : BitVec 32 := 3#32
  let v8986 : BitVec 32 := Scalar.shrsi v8982 c3_i32_5971
  let c3_i32_5972 : BitVec 32 := 3#32
  let v8987 : BitVec 32 := Scalar.shli v8986 c3_i32_5972
  v8987

def k0_mult458 (v8983 : BitVec 32) : BitVec 32 :=
  let c3_i32_5973 : BitVec 32 := 3#32
  let v8989 : BitVec 32 := Scalar.shrsi v8983 c3_i32_5973
  let c3_i32_5974 : BitVec 32 := 3#32
  let v8990 : BitVec 32 := Scalar.shli v8989 c3_i32_5974
  v8990

def k0_off458 (v8982 : BitVec 32) : Fin 2 → Nat :=
  let c3_i32_5971 : BitVec 32 := 3#32
  let v8986 : BitVec 32 := Scalar.shrsi v8982 c3_i32_5971
  let c3_i32_5972 : BitVec 32 := 3#32
  let v8987 : BitVec 32 := Scalar.shli v8986 c3_i32_5972
  let v8988 : BitVec 32 := v8987
  let v8992 : Index := Scalar.indexCast v8988
  let c0_5975 : Index := 0#32
  ![v8992.toNat, 0]

def k0_chk457 (v8982 : BitVec 32) : Prop :=
  (8 ∣ (k0_mult457 v8982).toNat) ∧
  (∀ a, (k0_off458 v8982) a + S16x128.size a ≤ S66048x128.size a)
theorem k0_mult457_dvd : ∀ (v8982 : BitVec 32) (k0_hw457 : k0_chk457 v8982), 8 ∣ (k0_mult457 v8982).toNat := fun v8982 k0_hw457 => k0_hw457.1
theorem k0_off458_inb : ∀ (v8982 : BitVec 32) (k0_hw457 : k0_chk457 v8982), ∀ a, (k0_off458 v8982) a + S16x128.size a ≤ S66048x128.size a := fun v8982 k0_hw457 => k0_hw457.2

def k0_off459 (v8983 : BitVec 32) : Fin 2 → Nat :=
  let c3_i32_5973 : BitVec 32 := 3#32
  let v8989 : BitVec 32 := Scalar.shrsi v8983 c3_i32_5973
  let c3_i32_5974 : BitVec 32 := 3#32
  let v8990 : BitVec 32 := Scalar.shli v8989 c3_i32_5974
  let v8991 : BitVec 32 := v8990
  let v8994 : Index := Scalar.indexCast v8991
  let c0_5976 : Index := 0#32
  ![v8994.toNat, 0]

def k0_chk458 (v8983 : BitVec 32) : Prop :=
  (8 ∣ (k0_mult458 v8983).toNat) ∧
  (∀ a, (k0_off459 v8983) a + S16x128.size a ≤ S66048x128.size a)
theorem k0_mult458_dvd : ∀ (v8983 : BitVec 32) (k0_hw458 : k0_chk458 v8983), 8 ∣ (k0_mult458 v8983).toNat := fun v8983 k0_hw458 => k0_hw458.1
theorem k0_off459_inb : ∀ (v8983 : BitVec 32) (k0_hw458 : k0_chk458 v8983), ∀ a, (k0_off459 v8983) a + S16x128.size a ≤ S66048x128.size a := fun v8983 k0_hw458 => k0_hw458.2

def k0_mult459 (v9021 : BitVec 32) : BitVec 32 :=
  let c3_i32_5997 : BitVec 32 := 3#32
  let v9025 : BitVec 32 := Scalar.shrsi v9021 c3_i32_5997
  let c3_i32_5998 : BitVec 32 := 3#32
  let v9026 : BitVec 32 := Scalar.shli v9025 c3_i32_5998
  v9026

def k0_mult460 (v9022 : BitVec 32) : BitVec 32 :=
  let c3_i32_5999 : BitVec 32 := 3#32
  let v9028 : BitVec 32 := Scalar.shrsi v9022 c3_i32_5999
  let c3_i32_6000 : BitVec 32 := 3#32
  let v9029 : BitVec 32 := Scalar.shli v9028 c3_i32_6000
  v9029

def k0_off460 (v9021 : BitVec 32) : Fin 2 → Nat :=
  let c3_i32_5997 : BitVec 32 := 3#32
  let v9025 : BitVec 32 := Scalar.shrsi v9021 c3_i32_5997
  let c3_i32_5998 : BitVec 32 := 3#32
  let v9026 : BitVec 32 := Scalar.shli v9025 c3_i32_5998
  let v9027 : BitVec 32 := v9026
  let v9031 : Index := Scalar.indexCast v9027
  let c0_6001 : Index := 0#32
  ![v9031.toNat, 0]

def k0_chk459 (v9021 : BitVec 32) : Prop :=
  (8 ∣ (k0_mult459 v9021).toNat) ∧
  (∀ a, (k0_off460 v9021) a + S16x128.size a ≤ S66048x128.size a)
theorem k0_mult459_dvd : ∀ (v9021 : BitVec 32) (k0_hw459 : k0_chk459 v9021), 8 ∣ (k0_mult459 v9021).toNat := fun v9021 k0_hw459 => k0_hw459.1
theorem k0_off460_inb : ∀ (v9021 : BitVec 32) (k0_hw459 : k0_chk459 v9021), ∀ a, (k0_off460 v9021) a + S16x128.size a ≤ S66048x128.size a := fun v9021 k0_hw459 => k0_hw459.2

def k0_off461 (v9022 : BitVec 32) : Fin 2 → Nat :=
  let c3_i32_5999 : BitVec 32 := 3#32
  let v9028 : BitVec 32 := Scalar.shrsi v9022 c3_i32_5999
  let c3_i32_6000 : BitVec 32 := 3#32
  let v9029 : BitVec 32 := Scalar.shli v9028 c3_i32_6000
  let v9030 : BitVec 32 := v9029
  let v9033 : Index := Scalar.indexCast v9030
  let c0_6002 : Index := 0#32
  ![v9033.toNat, 0]

def k0_chk460 (v9022 : BitVec 32) : Prop :=
  (8 ∣ (k0_mult460 v9022).toNat) ∧
  (∀ a, (k0_off461 v9022) a + S16x128.size a ≤ S66048x128.size a)
theorem k0_mult460_dvd : ∀ (v9022 : BitVec 32) (k0_hw460 : k0_chk460 v9022), 8 ∣ (k0_mult460 v9022).toNat := fun v9022 k0_hw460 => k0_hw460.1
theorem k0_off461_inb : ∀ (v9022 : BitVec 32) (k0_hw460 : k0_chk460 v9022), ∀ a, (k0_off461 v9022) a + S16x128.size a ≤ S66048x128.size a := fun v9022 k0_hw460 => k0_hw460.2

def k0_mult461 (v9060 : BitVec 32) : BitVec 32 :=
  let c3_i32_6023 : BitVec 32 := 3#32
  let v9064 : BitVec 32 := Scalar.shrsi v9060 c3_i32_6023
  let c3_i32_6024 : BitVec 32 := 3#32
  let v9065 : BitVec 32 := Scalar.shli v9064 c3_i32_6024
  v9065

def k0_mult462 (v9061 : BitVec 32) : BitVec 32 :=
  let c3_i32_6025 : BitVec 32 := 3#32
  let v9067 : BitVec 32 := Scalar.shrsi v9061 c3_i32_6025
  let c3_i32_6026 : BitVec 32 := 3#32
  let v9068 : BitVec 32 := Scalar.shli v9067 c3_i32_6026
  v9068

def k0_off462 (v9060 : BitVec 32) : Fin 2 → Nat :=
  let c3_i32_6023 : BitVec 32 := 3#32
  let v9064 : BitVec 32 := Scalar.shrsi v9060 c3_i32_6023
  let c3_i32_6024 : BitVec 32 := 3#32
  let v9065 : BitVec 32 := Scalar.shli v9064 c3_i32_6024
  let v9066 : BitVec 32 := v9065
  let v9070 : Index := Scalar.indexCast v9066
  let c0_6027 : Index := 0#32
  ![v9070.toNat, 0]

def k0_chk461 (v9060 : BitVec 32) : Prop :=
  (8 ∣ (k0_mult461 v9060).toNat) ∧
  (∀ a, (k0_off462 v9060) a + S16x128.size a ≤ S66048x128.size a)
theorem k0_mult461_dvd : ∀ (v9060 : BitVec 32) (k0_hw461 : k0_chk461 v9060), 8 ∣ (k0_mult461 v9060).toNat := fun v9060 k0_hw461 => k0_hw461.1
theorem k0_off462_inb : ∀ (v9060 : BitVec 32) (k0_hw461 : k0_chk461 v9060), ∀ a, (k0_off462 v9060) a + S16x128.size a ≤ S66048x128.size a := fun v9060 k0_hw461 => k0_hw461.2

def k0_off463 (v9061 : BitVec 32) : Fin 2 → Nat :=
  let c3_i32_6025 : BitVec 32 := 3#32
  let v9067 : BitVec 32 := Scalar.shrsi v9061 c3_i32_6025
  let c3_i32_6026 : BitVec 32 := 3#32
  let v9068 : BitVec 32 := Scalar.shli v9067 c3_i32_6026
  let v9069 : BitVec 32 := v9068
  let v9072 : Index := Scalar.indexCast v9069
  let c0_6028 : Index := 0#32
  ![v9072.toNat, 0]

def k0_chk462 (v9061 : BitVec 32) : Prop :=
  (8 ∣ (k0_mult462 v9061).toNat) ∧
  (∀ a, (k0_off463 v9061) a + S16x128.size a ≤ S66048x128.size a)
theorem k0_mult462_dvd : ∀ (v9061 : BitVec 32) (k0_hw462 : k0_chk462 v9061), 8 ∣ (k0_mult462 v9061).toNat := fun v9061 k0_hw462 => k0_hw462.1
theorem k0_off463_inb : ∀ (v9061 : BitVec 32) (k0_hw462 : k0_chk462 v9061), ∀ a, (k0_off463 v9061) a + S16x128.size a ≤ S66048x128.size a := fun v9061 k0_hw462 => k0_hw462.2

def k0_mult463 (v9099 : BitVec 32) : BitVec 32 :=
  let c3_i32_6049 : BitVec 32 := 3#32
  let v9103 : BitVec 32 := Scalar.shrsi v9099 c3_i32_6049
  let c3_i32_6050 : BitVec 32 := 3#32
  let v9104 : BitVec 32 := Scalar.shli v9103 c3_i32_6050
  v9104

def k0_mult464 (v9100 : BitVec 32) : BitVec 32 :=
  let c3_i32_6051 : BitVec 32 := 3#32
  let v9106 : BitVec 32 := Scalar.shrsi v9100 c3_i32_6051
  let c3_i32_6052 : BitVec 32 := 3#32
  let v9107 : BitVec 32 := Scalar.shli v9106 c3_i32_6052
  v9107

def k0_off464 (v9099 : BitVec 32) : Fin 2 → Nat :=
  let c3_i32_6049 : BitVec 32 := 3#32
  let v9103 : BitVec 32 := Scalar.shrsi v9099 c3_i32_6049
  let c3_i32_6050 : BitVec 32 := 3#32
  let v9104 : BitVec 32 := Scalar.shli v9103 c3_i32_6050
  let v9105 : BitVec 32 := v9104
  let v9109 : Index := Scalar.indexCast v9105
  let c0_6053 : Index := 0#32
  ![v9109.toNat, 0]

def k0_chk463 (v9099 : BitVec 32) : Prop :=
  (8 ∣ (k0_mult463 v9099).toNat) ∧
  (∀ a, (k0_off464 v9099) a + S16x128.size a ≤ S66048x128.size a)
theorem k0_mult463_dvd : ∀ (v9099 : BitVec 32) (k0_hw463 : k0_chk463 v9099), 8 ∣ (k0_mult463 v9099).toNat := fun v9099 k0_hw463 => k0_hw463.1
theorem k0_off464_inb : ∀ (v9099 : BitVec 32) (k0_hw463 : k0_chk463 v9099), ∀ a, (k0_off464 v9099) a + S16x128.size a ≤ S66048x128.size a := fun v9099 k0_hw463 => k0_hw463.2

def k0_off465 (v9100 : BitVec 32) : Fin 2 → Nat :=
  let c3_i32_6051 : BitVec 32 := 3#32
  let v9106 : BitVec 32 := Scalar.shrsi v9100 c3_i32_6051
  let c3_i32_6052 : BitVec 32 := 3#32
  let v9107 : BitVec 32 := Scalar.shli v9106 c3_i32_6052
  let v9108 : BitVec 32 := v9107
  let v9111 : Index := Scalar.indexCast v9108
  let c0_6054 : Index := 0#32
  ![v9111.toNat, 0]

def k0_chk464 (v9100 : BitVec 32) : Prop :=
  (8 ∣ (k0_mult464 v9100).toNat) ∧
  (∀ a, (k0_off465 v9100) a + S16x128.size a ≤ S66048x128.size a)
theorem k0_mult464_dvd : ∀ (v9100 : BitVec 32) (k0_hw464 : k0_chk464 v9100), 8 ∣ (k0_mult464 v9100).toNat := fun v9100 k0_hw464 => k0_hw464.1
theorem k0_off465_inb : ∀ (v9100 : BitVec 32) (k0_hw464 : k0_chk464 v9100), ∀ a, (k0_off465 v9100) a + S16x128.size a ≤ S66048x128.size a := fun v9100 k0_hw464 => k0_hw464.2

def k0_mult465 (v9138 : BitVec 32) : BitVec 32 :=
  let c3_i32_6075 : BitVec 32 := 3#32
  let v9142 : BitVec 32 := Scalar.shrsi v9138 c3_i32_6075
  let c3_i32_6076 : BitVec 32 := 3#32
  let v9143 : BitVec 32 := Scalar.shli v9142 c3_i32_6076
  v9143

def k0_mult466 (v9139 : BitVec 32) : BitVec 32 :=
  let c3_i32_6077 : BitVec 32 := 3#32
  let v9145 : BitVec 32 := Scalar.shrsi v9139 c3_i32_6077
  let c3_i32_6078 : BitVec 32 := 3#32
  let v9146 : BitVec 32 := Scalar.shli v9145 c3_i32_6078
  v9146

def k0_off466 (v9138 : BitVec 32) : Fin 2 → Nat :=
  let c3_i32_6075 : BitVec 32 := 3#32
  let v9142 : BitVec 32 := Scalar.shrsi v9138 c3_i32_6075
  let c3_i32_6076 : BitVec 32 := 3#32
  let v9143 : BitVec 32 := Scalar.shli v9142 c3_i32_6076
  let v9144 : BitVec 32 := v9143
  let v9148 : Index := Scalar.indexCast v9144
  let c0_6079 : Index := 0#32
  ![v9148.toNat, 0]

def k0_chk465 (v9138 : BitVec 32) : Prop :=
  (8 ∣ (k0_mult465 v9138).toNat) ∧
  (∀ a, (k0_off466 v9138) a + S16x128.size a ≤ S66048x128.size a)
theorem k0_mult465_dvd : ∀ (v9138 : BitVec 32) (k0_hw465 : k0_chk465 v9138), 8 ∣ (k0_mult465 v9138).toNat := fun v9138 k0_hw465 => k0_hw465.1
theorem k0_off466_inb : ∀ (v9138 : BitVec 32) (k0_hw465 : k0_chk465 v9138), ∀ a, (k0_off466 v9138) a + S16x128.size a ≤ S66048x128.size a := fun v9138 k0_hw465 => k0_hw465.2

def k0_off467 (v9139 : BitVec 32) : Fin 2 → Nat :=
  let c3_i32_6077 : BitVec 32 := 3#32
  let v9145 : BitVec 32 := Scalar.shrsi v9139 c3_i32_6077
  let c3_i32_6078 : BitVec 32 := 3#32
  let v9146 : BitVec 32 := Scalar.shli v9145 c3_i32_6078
  let v9147 : BitVec 32 := v9146
  let v9150 : Index := Scalar.indexCast v9147
  let c0_6080 : Index := 0#32
  ![v9150.toNat, 0]

def k0_chk466 (v9139 : BitVec 32) : Prop :=
  (8 ∣ (k0_mult466 v9139).toNat) ∧
  (∀ a, (k0_off467 v9139) a + S16x128.size a ≤ S66048x128.size a)
theorem k0_mult466_dvd : ∀ (v9139 : BitVec 32) (k0_hw466 : k0_chk466 v9139), 8 ∣ (k0_mult466 v9139).toNat := fun v9139 k0_hw466 => k0_hw466.1
theorem k0_off467_inb : ∀ (v9139 : BitVec 32) (k0_hw466 : k0_chk466 v9139), ∀ a, (k0_off467 v9139) a + S16x128.size a ≤ S66048x128.size a := fun v9139 k0_hw466 => k0_hw466.2

def k0_mult467 (v9177 : BitVec 32) : BitVec 32 :=
  let c3_i32_6101 : BitVec 32 := 3#32
  let v9181 : BitVec 32 := Scalar.shrsi v9177 c3_i32_6101
  let c3_i32_6102 : BitVec 32 := 3#32
  let v9182 : BitVec 32 := Scalar.shli v9181 c3_i32_6102
  v9182

def k0_mult468 (v9178 : BitVec 32) : BitVec 32 :=
  let c3_i32_6103 : BitVec 32 := 3#32
  let v9184 : BitVec 32 := Scalar.shrsi v9178 c3_i32_6103
  let c3_i32_6104 : BitVec 32 := 3#32
  let v9185 : BitVec 32 := Scalar.shli v9184 c3_i32_6104
  v9185

def k0_off468 (v9177 : BitVec 32) : Fin 2 → Nat :=
  let c3_i32_6101 : BitVec 32 := 3#32
  let v9181 : BitVec 32 := Scalar.shrsi v9177 c3_i32_6101
  let c3_i32_6102 : BitVec 32 := 3#32
  let v9182 : BitVec 32 := Scalar.shli v9181 c3_i32_6102
  let v9183 : BitVec 32 := v9182
  let v9187 : Index := Scalar.indexCast v9183
  let c0_6105 : Index := 0#32
  ![v9187.toNat, 0]

def k0_chk467 (v9177 : BitVec 32) : Prop :=
  (8 ∣ (k0_mult467 v9177).toNat) ∧
  (∀ a, (k0_off468 v9177) a + S16x128.size a ≤ S66048x128.size a)
theorem k0_mult467_dvd : ∀ (v9177 : BitVec 32) (k0_hw467 : k0_chk467 v9177), 8 ∣ (k0_mult467 v9177).toNat := fun v9177 k0_hw467 => k0_hw467.1
theorem k0_off468_inb : ∀ (v9177 : BitVec 32) (k0_hw467 : k0_chk467 v9177), ∀ a, (k0_off468 v9177) a + S16x128.size a ≤ S66048x128.size a := fun v9177 k0_hw467 => k0_hw467.2

def k0_off469 (v9178 : BitVec 32) : Fin 2 → Nat :=
  let c3_i32_6103 : BitVec 32 := 3#32
  let v9184 : BitVec 32 := Scalar.shrsi v9178 c3_i32_6103
  let c3_i32_6104 : BitVec 32 := 3#32
  let v9185 : BitVec 32 := Scalar.shli v9184 c3_i32_6104
  let v9186 : BitVec 32 := v9185
  let v9189 : Index := Scalar.indexCast v9186
  let c0_6106 : Index := 0#32
  ![v9189.toNat, 0]

def k0_chk468 (v9178 : BitVec 32) : Prop :=
  (8 ∣ (k0_mult468 v9178).toNat) ∧
  (∀ a, (k0_off469 v9178) a + S16x128.size a ≤ S66048x128.size a)
theorem k0_mult468_dvd : ∀ (v9178 : BitVec 32) (k0_hw468 : k0_chk468 v9178), 8 ∣ (k0_mult468 v9178).toNat := fun v9178 k0_hw468 => k0_hw468.1
theorem k0_off469_inb : ∀ (v9178 : BitVec 32) (k0_hw468 : k0_chk468 v9178), ∀ a, (k0_off469 v9178) a + S16x128.size a ≤ S66048x128.size a := fun v9178 k0_hw468 => k0_hw468.2

def k0_mult469 (v9216 : BitVec 32) : BitVec 32 :=
  let c3_i32_6127 : BitVec 32 := 3#32
  let v9220 : BitVec 32 := Scalar.shrsi v9216 c3_i32_6127
  let c3_i32_6128 : BitVec 32 := 3#32
  let v9221 : BitVec 32 := Scalar.shli v9220 c3_i32_6128
  v9221

def k0_mult470 (v9217 : BitVec 32) : BitVec 32 :=
  let c3_i32_6129 : BitVec 32 := 3#32
  let v9223 : BitVec 32 := Scalar.shrsi v9217 c3_i32_6129
  let c3_i32_6130 : BitVec 32 := 3#32
  let v9224 : BitVec 32 := Scalar.shli v9223 c3_i32_6130
  v9224

def k0_off470 (v9216 : BitVec 32) : Fin 2 → Nat :=
  let c3_i32_6127 : BitVec 32 := 3#32
  let v9220 : BitVec 32 := Scalar.shrsi v9216 c3_i32_6127
  let c3_i32_6128 : BitVec 32 := 3#32
  let v9221 : BitVec 32 := Scalar.shli v9220 c3_i32_6128
  let v9222 : BitVec 32 := v9221
  let v9226 : Index := Scalar.indexCast v9222
  let c0_6131 : Index := 0#32
  ![v9226.toNat, 0]

def k0_chk469 (v9216 : BitVec 32) : Prop :=
  (8 ∣ (k0_mult469 v9216).toNat) ∧
  (∀ a, (k0_off470 v9216) a + S16x128.size a ≤ S66048x128.size a)
theorem k0_mult469_dvd : ∀ (v9216 : BitVec 32) (k0_hw469 : k0_chk469 v9216), 8 ∣ (k0_mult469 v9216).toNat := fun v9216 k0_hw469 => k0_hw469.1
theorem k0_off470_inb : ∀ (v9216 : BitVec 32) (k0_hw469 : k0_chk469 v9216), ∀ a, (k0_off470 v9216) a + S16x128.size a ≤ S66048x128.size a := fun v9216 k0_hw469 => k0_hw469.2

def k0_off471 (v9217 : BitVec 32) : Fin 2 → Nat :=
  let c3_i32_6129 : BitVec 32 := 3#32
  let v9223 : BitVec 32 := Scalar.shrsi v9217 c3_i32_6129
  let c3_i32_6130 : BitVec 32 := 3#32
  let v9224 : BitVec 32 := Scalar.shli v9223 c3_i32_6130
  let v9225 : BitVec 32 := v9224
  let v9228 : Index := Scalar.indexCast v9225
  let c0_6132 : Index := 0#32
  ![v9228.toNat, 0]

def k0_chk470 (v9217 : BitVec 32) : Prop :=
  (8 ∣ (k0_mult470 v9217).toNat) ∧
  (∀ a, (k0_off471 v9217) a + S16x128.size a ≤ S66048x128.size a)
theorem k0_mult470_dvd : ∀ (v9217 : BitVec 32) (k0_hw470 : k0_chk470 v9217), 8 ∣ (k0_mult470 v9217).toNat := fun v9217 k0_hw470 => k0_hw470.1
theorem k0_off471_inb : ∀ (v9217 : BitVec 32) (k0_hw470 : k0_chk470 v9217), ∀ a, (k0_off471 v9217) a + S16x128.size a ≤ S66048x128.size a := fun v9217 k0_hw470 => k0_hw470.2

def k0_mult471 (v9255 : BitVec 32) : BitVec 32 :=
  let c3_i32_6153 : BitVec 32 := 3#32
  let v9259 : BitVec 32 := Scalar.shrsi v9255 c3_i32_6153
  let c3_i32_6154 : BitVec 32 := 3#32
  let v9260 : BitVec 32 := Scalar.shli v9259 c3_i32_6154
  v9260

def k0_mult472 (v9256 : BitVec 32) : BitVec 32 :=
  let c3_i32_6155 : BitVec 32 := 3#32
  let v9262 : BitVec 32 := Scalar.shrsi v9256 c3_i32_6155
  let c3_i32_6156 : BitVec 32 := 3#32
  let v9263 : BitVec 32 := Scalar.shli v9262 c3_i32_6156
  v9263

def k0_off472 (v9255 : BitVec 32) : Fin 2 → Nat :=
  let c3_i32_6153 : BitVec 32 := 3#32
  let v9259 : BitVec 32 := Scalar.shrsi v9255 c3_i32_6153
  let c3_i32_6154 : BitVec 32 := 3#32
  let v9260 : BitVec 32 := Scalar.shli v9259 c3_i32_6154
  let v9261 : BitVec 32 := v9260
  let v9265 : Index := Scalar.indexCast v9261
  let c0_6157 : Index := 0#32
  ![v9265.toNat, 0]

def k0_chk471 (v9255 : BitVec 32) : Prop :=
  (8 ∣ (k0_mult471 v9255).toNat) ∧
  (∀ a, (k0_off472 v9255) a + S16x128.size a ≤ S66048x128.size a)
theorem k0_mult471_dvd : ∀ (v9255 : BitVec 32) (k0_hw471 : k0_chk471 v9255), 8 ∣ (k0_mult471 v9255).toNat := fun v9255 k0_hw471 => k0_hw471.1
theorem k0_off472_inb : ∀ (v9255 : BitVec 32) (k0_hw471 : k0_chk471 v9255), ∀ a, (k0_off472 v9255) a + S16x128.size a ≤ S66048x128.size a := fun v9255 k0_hw471 => k0_hw471.2

def k0_off473 (v9256 : BitVec 32) : Fin 2 → Nat :=
  let c3_i32_6155 : BitVec 32 := 3#32
  let v9262 : BitVec 32 := Scalar.shrsi v9256 c3_i32_6155
  let c3_i32_6156 : BitVec 32 := 3#32
  let v9263 : BitVec 32 := Scalar.shli v9262 c3_i32_6156
  let v9264 : BitVec 32 := v9263
  let v9267 : Index := Scalar.indexCast v9264
  let c0_6158 : Index := 0#32
  ![v9267.toNat, 0]

def k0_chk472 (v9256 : BitVec 32) : Prop :=
  (8 ∣ (k0_mult472 v9256).toNat) ∧
  (∀ a, (k0_off473 v9256) a + S16x128.size a ≤ S66048x128.size a)
theorem k0_mult472_dvd : ∀ (v9256 : BitVec 32) (k0_hw472 : k0_chk472 v9256), 8 ∣ (k0_mult472 v9256).toNat := fun v9256 k0_hw472 => k0_hw472.1
theorem k0_off473_inb : ∀ (v9256 : BitVec 32) (k0_hw472 : k0_chk472 v9256), ∀ a, (k0_off473 v9256) a + S16x128.size a ≤ S66048x128.size a := fun v9256 k0_hw472 => k0_hw472.2

def k0_mult473 (v9294 : BitVec 32) : BitVec 32 :=
  let c3_i32_6179 : BitVec 32 := 3#32
  let v9298 : BitVec 32 := Scalar.shrsi v9294 c3_i32_6179
  let c3_i32_6180 : BitVec 32 := 3#32
  let v9299 : BitVec 32 := Scalar.shli v9298 c3_i32_6180
  v9299

def k0_mult474 (v9295 : BitVec 32) : BitVec 32 :=
  let c3_i32_6181 : BitVec 32 := 3#32
  let v9301 : BitVec 32 := Scalar.shrsi v9295 c3_i32_6181
  let c3_i32_6182 : BitVec 32 := 3#32
  let v9302 : BitVec 32 := Scalar.shli v9301 c3_i32_6182
  v9302

def k0_off474 (v9294 : BitVec 32) : Fin 2 → Nat :=
  let c3_i32_6179 : BitVec 32 := 3#32
  let v9298 : BitVec 32 := Scalar.shrsi v9294 c3_i32_6179
  let c3_i32_6180 : BitVec 32 := 3#32
  let v9299 : BitVec 32 := Scalar.shli v9298 c3_i32_6180
  let v9300 : BitVec 32 := v9299
  let v9304 : Index := Scalar.indexCast v9300
  let c0_6183 : Index := 0#32
  ![v9304.toNat, 0]

def k0_chk473 (v9294 : BitVec 32) : Prop :=
  (8 ∣ (k0_mult473 v9294).toNat) ∧
  (∀ a, (k0_off474 v9294) a + S16x128.size a ≤ S66048x128.size a)
theorem k0_mult473_dvd : ∀ (v9294 : BitVec 32) (k0_hw473 : k0_chk473 v9294), 8 ∣ (k0_mult473 v9294).toNat := fun v9294 k0_hw473 => k0_hw473.1
theorem k0_off474_inb : ∀ (v9294 : BitVec 32) (k0_hw473 : k0_chk473 v9294), ∀ a, (k0_off474 v9294) a + S16x128.size a ≤ S66048x128.size a := fun v9294 k0_hw473 => k0_hw473.2

def k0_off475 (v9295 : BitVec 32) : Fin 2 → Nat :=
  let c3_i32_6181 : BitVec 32 := 3#32
  let v9301 : BitVec 32 := Scalar.shrsi v9295 c3_i32_6181
  let c3_i32_6182 : BitVec 32 := 3#32
  let v9302 : BitVec 32 := Scalar.shli v9301 c3_i32_6182
  let v9303 : BitVec 32 := v9302
  let v9306 : Index := Scalar.indexCast v9303
  let c0_6184 : Index := 0#32
  ![v9306.toNat, 0]

def k0_chk474 (v9295 : BitVec 32) : Prop :=
  (8 ∣ (k0_mult474 v9295).toNat) ∧
  (∀ a, (k0_off475 v9295) a + S16x128.size a ≤ S66048x128.size a)
theorem k0_mult474_dvd : ∀ (v9295 : BitVec 32) (k0_hw474 : k0_chk474 v9295), 8 ∣ (k0_mult474 v9295).toNat := fun v9295 k0_hw474 => k0_hw474.1
theorem k0_off475_inb : ∀ (v9295 : BitVec 32) (k0_hw474 : k0_chk474 v9295), ∀ a, (k0_off475 v9295) a + S16x128.size a ≤ S66048x128.size a := fun v9295 k0_hw474 => k0_hw474.2

def k0_mult475 (v9333 : BitVec 32) : BitVec 32 :=
  let c3_i32_6205 : BitVec 32 := 3#32
  let v9337 : BitVec 32 := Scalar.shrsi v9333 c3_i32_6205
  let c3_i32_6206 : BitVec 32 := 3#32
  let v9338 : BitVec 32 := Scalar.shli v9337 c3_i32_6206
  v9338

def k0_mult476 (v9334 : BitVec 32) : BitVec 32 :=
  let c3_i32_6207 : BitVec 32 := 3#32
  let v9340 : BitVec 32 := Scalar.shrsi v9334 c3_i32_6207
  let c3_i32_6208 : BitVec 32 := 3#32
  let v9341 : BitVec 32 := Scalar.shli v9340 c3_i32_6208
  v9341

def k0_off476 (v9333 : BitVec 32) : Fin 2 → Nat :=
  let c3_i32_6205 : BitVec 32 := 3#32
  let v9337 : BitVec 32 := Scalar.shrsi v9333 c3_i32_6205
  let c3_i32_6206 : BitVec 32 := 3#32
  let v9338 : BitVec 32 := Scalar.shli v9337 c3_i32_6206
  let v9339 : BitVec 32 := v9338
  let v9343 : Index := Scalar.indexCast v9339
  let c0_6209 : Index := 0#32
  ![v9343.toNat, 0]

def k0_chk475 (v9333 : BitVec 32) : Prop :=
  (8 ∣ (k0_mult475 v9333).toNat) ∧
  (∀ a, (k0_off476 v9333) a + S16x128.size a ≤ S66048x128.size a)
theorem k0_mult475_dvd : ∀ (v9333 : BitVec 32) (k0_hw475 : k0_chk475 v9333), 8 ∣ (k0_mult475 v9333).toNat := fun v9333 k0_hw475 => k0_hw475.1
theorem k0_off476_inb : ∀ (v9333 : BitVec 32) (k0_hw475 : k0_chk475 v9333), ∀ a, (k0_off476 v9333) a + S16x128.size a ≤ S66048x128.size a := fun v9333 k0_hw475 => k0_hw475.2

def k0_off477 (v9334 : BitVec 32) : Fin 2 → Nat :=
  let c3_i32_6207 : BitVec 32 := 3#32
  let v9340 : BitVec 32 := Scalar.shrsi v9334 c3_i32_6207
  let c3_i32_6208 : BitVec 32 := 3#32
  let v9341 : BitVec 32 := Scalar.shli v9340 c3_i32_6208
  let v9342 : BitVec 32 := v9341
  let v9345 : Index := Scalar.indexCast v9342
  let c0_6210 : Index := 0#32
  ![v9345.toNat, 0]

def k0_chk476 (v9334 : BitVec 32) : Prop :=
  (8 ∣ (k0_mult476 v9334).toNat) ∧
  (∀ a, (k0_off477 v9334) a + S16x128.size a ≤ S66048x128.size a)
theorem k0_mult476_dvd : ∀ (v9334 : BitVec 32) (k0_hw476 : k0_chk476 v9334), 8 ∣ (k0_mult476 v9334).toNat := fun v9334 k0_hw476 => k0_hw476.1
theorem k0_off477_inb : ∀ (v9334 : BitVec 32) (k0_hw476 : k0_chk476 v9334), ∀ a, (k0_off477 v9334) a + S16x128.size a ≤ S66048x128.size a := fun v9334 k0_hw476 => k0_hw476.2

def k0_mult477 (v9372 : BitVec 32) : BitVec 32 :=
  let c3_i32_6231 : BitVec 32 := 3#32
  let v9376 : BitVec 32 := Scalar.shrsi v9372 c3_i32_6231
  let c3_i32_6232 : BitVec 32 := 3#32
  let v9377 : BitVec 32 := Scalar.shli v9376 c3_i32_6232
  v9377

def k0_mult478 (v9373 : BitVec 32) : BitVec 32 :=
  let c3_i32_6233 : BitVec 32 := 3#32
  let v9379 : BitVec 32 := Scalar.shrsi v9373 c3_i32_6233
  let c3_i32_6234 : BitVec 32 := 3#32
  let v9380 : BitVec 32 := Scalar.shli v9379 c3_i32_6234
  v9380

def k0_off478 (v9372 : BitVec 32) : Fin 2 → Nat :=
  let c3_i32_6231 : BitVec 32 := 3#32
  let v9376 : BitVec 32 := Scalar.shrsi v9372 c3_i32_6231
  let c3_i32_6232 : BitVec 32 := 3#32
  let v9377 : BitVec 32 := Scalar.shli v9376 c3_i32_6232
  let v9378 : BitVec 32 := v9377
  let v9382 : Index := Scalar.indexCast v9378
  let c0_6235 : Index := 0#32
  ![v9382.toNat, 0]

def k0_chk477 (v9372 : BitVec 32) : Prop :=
  (8 ∣ (k0_mult477 v9372).toNat) ∧
  (∀ a, (k0_off478 v9372) a + S16x128.size a ≤ S66048x128.size a)
theorem k0_mult477_dvd : ∀ (v9372 : BitVec 32) (k0_hw477 : k0_chk477 v9372), 8 ∣ (k0_mult477 v9372).toNat := fun v9372 k0_hw477 => k0_hw477.1
theorem k0_off478_inb : ∀ (v9372 : BitVec 32) (k0_hw477 : k0_chk477 v9372), ∀ a, (k0_off478 v9372) a + S16x128.size a ≤ S66048x128.size a := fun v9372 k0_hw477 => k0_hw477.2

def k0_off479 (v9373 : BitVec 32) : Fin 2 → Nat :=
  let c3_i32_6233 : BitVec 32 := 3#32
  let v9379 : BitVec 32 := Scalar.shrsi v9373 c3_i32_6233
  let c3_i32_6234 : BitVec 32 := 3#32
  let v9380 : BitVec 32 := Scalar.shli v9379 c3_i32_6234
  let v9381 : BitVec 32 := v9380
  let v9384 : Index := Scalar.indexCast v9381
  let c0_6236 : Index := 0#32
  ![v9384.toNat, 0]

def k0_chk478 (v9373 : BitVec 32) : Prop :=
  (8 ∣ (k0_mult478 v9373).toNat) ∧
  (∀ a, (k0_off479 v9373) a + S16x128.size a ≤ S66048x128.size a)
theorem k0_mult478_dvd : ∀ (v9373 : BitVec 32) (k0_hw478 : k0_chk478 v9373), 8 ∣ (k0_mult478 v9373).toNat := fun v9373 k0_hw478 => k0_hw478.1
theorem k0_off479_inb : ∀ (v9373 : BitVec 32) (k0_hw478 : k0_chk478 v9373), ∀ a, (k0_off479 v9373) a + S16x128.size a ≤ S66048x128.size a := fun v9373 k0_hw478 => k0_hw478.2

def k0_mult479 (v9411 : BitVec 32) : BitVec 32 :=
  let c3_i32_6257 : BitVec 32 := 3#32
  let v9415 : BitVec 32 := Scalar.shrsi v9411 c3_i32_6257
  let c3_i32_6258 : BitVec 32 := 3#32
  let v9416 : BitVec 32 := Scalar.shli v9415 c3_i32_6258
  v9416

def k0_mult480 (v9412 : BitVec 32) : BitVec 32 :=
  let c3_i32_6259 : BitVec 32 := 3#32
  let v9418 : BitVec 32 := Scalar.shrsi v9412 c3_i32_6259
  let c3_i32_6260 : BitVec 32 := 3#32
  let v9419 : BitVec 32 := Scalar.shli v9418 c3_i32_6260
  v9419

def k0_off480 (v9411 : BitVec 32) : Fin 2 → Nat :=
  let c3_i32_6257 : BitVec 32 := 3#32
  let v9415 : BitVec 32 := Scalar.shrsi v9411 c3_i32_6257
  let c3_i32_6258 : BitVec 32 := 3#32
  let v9416 : BitVec 32 := Scalar.shli v9415 c3_i32_6258
  let v9417 : BitVec 32 := v9416
  let v9421 : Index := Scalar.indexCast v9417
  let c0_6261 : Index := 0#32
  ![v9421.toNat, 0]

def k0_chk479 (v9411 : BitVec 32) : Prop :=
  (8 ∣ (k0_mult479 v9411).toNat) ∧
  (∀ a, (k0_off480 v9411) a + S16x128.size a ≤ S66048x128.size a)
theorem k0_mult479_dvd : ∀ (v9411 : BitVec 32) (k0_hw479 : k0_chk479 v9411), 8 ∣ (k0_mult479 v9411).toNat := fun v9411 k0_hw479 => k0_hw479.1
theorem k0_off480_inb : ∀ (v9411 : BitVec 32) (k0_hw479 : k0_chk479 v9411), ∀ a, (k0_off480 v9411) a + S16x128.size a ≤ S66048x128.size a := fun v9411 k0_hw479 => k0_hw479.2

def k0_off481 (v9412 : BitVec 32) : Fin 2 → Nat :=
  let c3_i32_6259 : BitVec 32 := 3#32
  let v9418 : BitVec 32 := Scalar.shrsi v9412 c3_i32_6259
  let c3_i32_6260 : BitVec 32 := 3#32
  let v9419 : BitVec 32 := Scalar.shli v9418 c3_i32_6260
  let v9420 : BitVec 32 := v9419
  let v9423 : Index := Scalar.indexCast v9420
  let c0_6262 : Index := 0#32
  ![v9423.toNat, 0]

def k0_chk480 (v9412 : BitVec 32) : Prop :=
  (8 ∣ (k0_mult480 v9412).toNat) ∧
  (∀ a, (k0_off481 v9412) a + S16x128.size a ≤ S66048x128.size a)
theorem k0_mult480_dvd : ∀ (v9412 : BitVec 32) (k0_hw480 : k0_chk480 v9412), 8 ∣ (k0_mult480 v9412).toNat := fun v9412 k0_hw480 => k0_hw480.1
theorem k0_off481_inb : ∀ (v9412 : BitVec 32) (k0_hw480 : k0_chk480 v9412), ∀ a, (k0_off481 v9412) a + S16x128.size a ≤ S66048x128.size a := fun v9412 k0_hw480 => k0_hw480.2

def k0_mult481 (v9450 : BitVec 32) : BitVec 32 :=
  let c3_i32_6283 : BitVec 32 := 3#32
  let v9454 : BitVec 32 := Scalar.shrsi v9450 c3_i32_6283
  let c3_i32_6284 : BitVec 32 := 3#32
  let v9455 : BitVec 32 := Scalar.shli v9454 c3_i32_6284
  v9455

def k0_mult482 (v9451 : BitVec 32) : BitVec 32 :=
  let c3_i32_6285 : BitVec 32 := 3#32
  let v9457 : BitVec 32 := Scalar.shrsi v9451 c3_i32_6285
  let c3_i32_6286 : BitVec 32 := 3#32
  let v9458 : BitVec 32 := Scalar.shli v9457 c3_i32_6286
  v9458

def k0_off482 (v9450 : BitVec 32) : Fin 2 → Nat :=
  let c3_i32_6283 : BitVec 32 := 3#32
  let v9454 : BitVec 32 := Scalar.shrsi v9450 c3_i32_6283
  let c3_i32_6284 : BitVec 32 := 3#32
  let v9455 : BitVec 32 := Scalar.shli v9454 c3_i32_6284
  let v9456 : BitVec 32 := v9455
  let v9460 : Index := Scalar.indexCast v9456
  let c0_6287 : Index := 0#32
  ![v9460.toNat, 0]

def k0_chk481 (v9450 : BitVec 32) : Prop :=
  (8 ∣ (k0_mult481 v9450).toNat) ∧
  (∀ a, (k0_off482 v9450) a + S16x128.size a ≤ S66048x128.size a)
theorem k0_mult481_dvd : ∀ (v9450 : BitVec 32) (k0_hw481 : k0_chk481 v9450), 8 ∣ (k0_mult481 v9450).toNat := fun v9450 k0_hw481 => k0_hw481.1
theorem k0_off482_inb : ∀ (v9450 : BitVec 32) (k0_hw481 : k0_chk481 v9450), ∀ a, (k0_off482 v9450) a + S16x128.size a ≤ S66048x128.size a := fun v9450 k0_hw481 => k0_hw481.2

def k0_off483 (v9451 : BitVec 32) : Fin 2 → Nat :=
  let c3_i32_6285 : BitVec 32 := 3#32
  let v9457 : BitVec 32 := Scalar.shrsi v9451 c3_i32_6285
  let c3_i32_6286 : BitVec 32 := 3#32
  let v9458 : BitVec 32 := Scalar.shli v9457 c3_i32_6286
  let v9459 : BitVec 32 := v9458
  let v9462 : Index := Scalar.indexCast v9459
  let c0_6288 : Index := 0#32
  ![v9462.toNat, 0]

def k0_chk482 (v9451 : BitVec 32) : Prop :=
  (8 ∣ (k0_mult482 v9451).toNat) ∧
  (∀ a, (k0_off483 v9451) a + S16x128.size a ≤ S66048x128.size a)
theorem k0_mult482_dvd : ∀ (v9451 : BitVec 32) (k0_hw482 : k0_chk482 v9451), 8 ∣ (k0_mult482 v9451).toNat := fun v9451 k0_hw482 => k0_hw482.1
theorem k0_off483_inb : ∀ (v9451 : BitVec 32) (k0_hw482 : k0_chk482 v9451), ∀ a, (k0_off483 v9451) a + S16x128.size a ≤ S66048x128.size a := fun v9451 k0_hw482 => k0_hw482.2

def k0_mult483 (v9489 : BitVec 32) : BitVec 32 :=
  let c3_i32_6309 : BitVec 32 := 3#32
  let v9493 : BitVec 32 := Scalar.shrsi v9489 c3_i32_6309
  let c3_i32_6310 : BitVec 32 := 3#32
  let v9494 : BitVec 32 := Scalar.shli v9493 c3_i32_6310
  v9494

def k0_mult484 (v9490 : BitVec 32) : BitVec 32 :=
  let c3_i32_6311 : BitVec 32 := 3#32
  let v9496 : BitVec 32 := Scalar.shrsi v9490 c3_i32_6311
  let c3_i32_6312 : BitVec 32 := 3#32
  let v9497 : BitVec 32 := Scalar.shli v9496 c3_i32_6312
  v9497

def k0_off484 (v9489 : BitVec 32) : Fin 2 → Nat :=
  let c3_i32_6309 : BitVec 32 := 3#32
  let v9493 : BitVec 32 := Scalar.shrsi v9489 c3_i32_6309
  let c3_i32_6310 : BitVec 32 := 3#32
  let v9494 : BitVec 32 := Scalar.shli v9493 c3_i32_6310
  let v9495 : BitVec 32 := v9494
  let v9499 : Index := Scalar.indexCast v9495
  let c0_6313 : Index := 0#32
  ![v9499.toNat, 0]

def k0_chk483 (v9489 : BitVec 32) : Prop :=
  (8 ∣ (k0_mult483 v9489).toNat) ∧
  (∀ a, (k0_off484 v9489) a + S16x128.size a ≤ S66048x128.size a)
theorem k0_mult483_dvd : ∀ (v9489 : BitVec 32) (k0_hw483 : k0_chk483 v9489), 8 ∣ (k0_mult483 v9489).toNat := fun v9489 k0_hw483 => k0_hw483.1
theorem k0_off484_inb : ∀ (v9489 : BitVec 32) (k0_hw483 : k0_chk483 v9489), ∀ a, (k0_off484 v9489) a + S16x128.size a ≤ S66048x128.size a := fun v9489 k0_hw483 => k0_hw483.2

def k0_off485 (v9490 : BitVec 32) : Fin 2 → Nat :=
  let c3_i32_6311 : BitVec 32 := 3#32
  let v9496 : BitVec 32 := Scalar.shrsi v9490 c3_i32_6311
  let c3_i32_6312 : BitVec 32 := 3#32
  let v9497 : BitVec 32 := Scalar.shli v9496 c3_i32_6312
  let v9498 : BitVec 32 := v9497
  let v9501 : Index := Scalar.indexCast v9498
  let c0_6314 : Index := 0#32
  ![v9501.toNat, 0]

def k0_chk484 (v9490 : BitVec 32) : Prop :=
  (8 ∣ (k0_mult484 v9490).toNat) ∧
  (∀ a, (k0_off485 v9490) a + S16x128.size a ≤ S66048x128.size a)
theorem k0_mult484_dvd : ∀ (v9490 : BitVec 32) (k0_hw484 : k0_chk484 v9490), 8 ∣ (k0_mult484 v9490).toNat := fun v9490 k0_hw484 => k0_hw484.1
theorem k0_off485_inb : ∀ (v9490 : BitVec 32) (k0_hw484 : k0_chk484 v9490), ∀ a, (k0_off485 v9490) a + S16x128.size a ≤ S66048x128.size a := fun v9490 k0_hw484 => k0_hw484.2

def k0_mult485 (v9528 : BitVec 32) : BitVec 32 :=
  let c3_i32_6335 : BitVec 32 := 3#32
  let v9532 : BitVec 32 := Scalar.shrsi v9528 c3_i32_6335
  let c3_i32_6336 : BitVec 32 := 3#32
  let v9533 : BitVec 32 := Scalar.shli v9532 c3_i32_6336
  v9533

def k0_mult486 (v9529 : BitVec 32) : BitVec 32 :=
  let c3_i32_6337 : BitVec 32 := 3#32
  let v9535 : BitVec 32 := Scalar.shrsi v9529 c3_i32_6337
  let c3_i32_6338 : BitVec 32 := 3#32
  let v9536 : BitVec 32 := Scalar.shli v9535 c3_i32_6338
  v9536

def k0_off486 (v9528 : BitVec 32) : Fin 2 → Nat :=
  let c3_i32_6335 : BitVec 32 := 3#32
  let v9532 : BitVec 32 := Scalar.shrsi v9528 c3_i32_6335
  let c3_i32_6336 : BitVec 32 := 3#32
  let v9533 : BitVec 32 := Scalar.shli v9532 c3_i32_6336
  let v9534 : BitVec 32 := v9533
  let v9538 : Index := Scalar.indexCast v9534
  let c0_6339 : Index := 0#32
  ![v9538.toNat, 0]

def k0_chk485 (v9528 : BitVec 32) : Prop :=
  (8 ∣ (k0_mult485 v9528).toNat) ∧
  (∀ a, (k0_off486 v9528) a + S16x128.size a ≤ S66048x128.size a)
theorem k0_mult485_dvd : ∀ (v9528 : BitVec 32) (k0_hw485 : k0_chk485 v9528), 8 ∣ (k0_mult485 v9528).toNat := fun v9528 k0_hw485 => k0_hw485.1
theorem k0_off486_inb : ∀ (v9528 : BitVec 32) (k0_hw485 : k0_chk485 v9528), ∀ a, (k0_off486 v9528) a + S16x128.size a ≤ S66048x128.size a := fun v9528 k0_hw485 => k0_hw485.2

def k0_off487 (v9529 : BitVec 32) : Fin 2 → Nat :=
  let c3_i32_6337 : BitVec 32 := 3#32
  let v9535 : BitVec 32 := Scalar.shrsi v9529 c3_i32_6337
  let c3_i32_6338 : BitVec 32 := 3#32
  let v9536 : BitVec 32 := Scalar.shli v9535 c3_i32_6338
  let v9537 : BitVec 32 := v9536
  let v9540 : Index := Scalar.indexCast v9537
  let c0_6340 : Index := 0#32
  ![v9540.toNat, 0]

def k0_chk486 (v9529 : BitVec 32) : Prop :=
  (8 ∣ (k0_mult486 v9529).toNat) ∧
  (∀ a, (k0_off487 v9529) a + S16x128.size a ≤ S66048x128.size a)
theorem k0_mult486_dvd : ∀ (v9529 : BitVec 32) (k0_hw486 : k0_chk486 v9529), 8 ∣ (k0_mult486 v9529).toNat := fun v9529 k0_hw486 => k0_hw486.1
theorem k0_off487_inb : ∀ (v9529 : BitVec 32) (k0_hw486 : k0_chk486 v9529), ∀ a, (k0_off487 v9529) a + S16x128.size a ≤ S66048x128.size a := fun v9529 k0_hw486 => k0_hw486.2

def k0_mult487 (v9567 : BitVec 32) : BitVec 32 :=
  let c3_i32_6361 : BitVec 32 := 3#32
  let v9571 : BitVec 32 := Scalar.shrsi v9567 c3_i32_6361
  let c3_i32_6362 : BitVec 32 := 3#32
  let v9572 : BitVec 32 := Scalar.shli v9571 c3_i32_6362
  v9572

def k0_mult488 (v9568 : BitVec 32) : BitVec 32 :=
  let c3_i32_6363 : BitVec 32 := 3#32
  let v9574 : BitVec 32 := Scalar.shrsi v9568 c3_i32_6363
  let c3_i32_6364 : BitVec 32 := 3#32
  let v9575 : BitVec 32 := Scalar.shli v9574 c3_i32_6364
  v9575

def k0_off488 (v9567 : BitVec 32) : Fin 2 → Nat :=
  let c3_i32_6361 : BitVec 32 := 3#32
  let v9571 : BitVec 32 := Scalar.shrsi v9567 c3_i32_6361
  let c3_i32_6362 : BitVec 32 := 3#32
  let v9572 : BitVec 32 := Scalar.shli v9571 c3_i32_6362
  let v9573 : BitVec 32 := v9572
  let v9577 : Index := Scalar.indexCast v9573
  let c0_6365 : Index := 0#32
  ![v9577.toNat, 0]

def k0_chk487 (v9567 : BitVec 32) : Prop :=
  (8 ∣ (k0_mult487 v9567).toNat) ∧
  (∀ a, (k0_off488 v9567) a + S16x128.size a ≤ S66048x128.size a)
theorem k0_mult487_dvd : ∀ (v9567 : BitVec 32) (k0_hw487 : k0_chk487 v9567), 8 ∣ (k0_mult487 v9567).toNat := fun v9567 k0_hw487 => k0_hw487.1
theorem k0_off488_inb : ∀ (v9567 : BitVec 32) (k0_hw487 : k0_chk487 v9567), ∀ a, (k0_off488 v9567) a + S16x128.size a ≤ S66048x128.size a := fun v9567 k0_hw487 => k0_hw487.2

def k0_off489 (v9568 : BitVec 32) : Fin 2 → Nat :=
  let c3_i32_6363 : BitVec 32 := 3#32
  let v9574 : BitVec 32 := Scalar.shrsi v9568 c3_i32_6363
  let c3_i32_6364 : BitVec 32 := 3#32
  let v9575 : BitVec 32 := Scalar.shli v9574 c3_i32_6364
  let v9576 : BitVec 32 := v9575
  let v9579 : Index := Scalar.indexCast v9576
  let c0_6366 : Index := 0#32
  ![v9579.toNat, 0]

def k0_chk488 (v9568 : BitVec 32) : Prop :=
  (8 ∣ (k0_mult488 v9568).toNat) ∧
  (∀ a, (k0_off489 v9568) a + S16x128.size a ≤ S66048x128.size a)
theorem k0_mult488_dvd : ∀ (v9568 : BitVec 32) (k0_hw488 : k0_chk488 v9568), 8 ∣ (k0_mult488 v9568).toNat := fun v9568 k0_hw488 => k0_hw488.1
theorem k0_off489_inb : ∀ (v9568 : BitVec 32) (k0_hw488 : k0_chk488 v9568), ∀ a, (k0_off489 v9568) a + S16x128.size a ≤ S66048x128.size a := fun v9568 k0_hw488 => k0_hw488.2

def k0_mult489 (v9606 : BitVec 32) : BitVec 32 :=
  let c3_i32_6387 : BitVec 32 := 3#32
  let v9610 : BitVec 32 := Scalar.shrsi v9606 c3_i32_6387
  let c3_i32_6388 : BitVec 32 := 3#32
  let v9611 : BitVec 32 := Scalar.shli v9610 c3_i32_6388
  v9611

def k0_mult490 (v9607 : BitVec 32) : BitVec 32 :=
  let c3_i32_6389 : BitVec 32 := 3#32
  let v9613 : BitVec 32 := Scalar.shrsi v9607 c3_i32_6389
  let c3_i32_6390 : BitVec 32 := 3#32
  let v9614 : BitVec 32 := Scalar.shli v9613 c3_i32_6390
  v9614

def k0_off490 (v9606 : BitVec 32) : Fin 2 → Nat :=
  let c3_i32_6387 : BitVec 32 := 3#32
  let v9610 : BitVec 32 := Scalar.shrsi v9606 c3_i32_6387
  let c3_i32_6388 : BitVec 32 := 3#32
  let v9611 : BitVec 32 := Scalar.shli v9610 c3_i32_6388
  let v9612 : BitVec 32 := v9611
  let v9616 : Index := Scalar.indexCast v9612
  let c0_6391 : Index := 0#32
  ![v9616.toNat, 0]

def k0_chk489 (v9606 : BitVec 32) : Prop :=
  (8 ∣ (k0_mult489 v9606).toNat) ∧
  (∀ a, (k0_off490 v9606) a + S16x128.size a ≤ S66048x128.size a)
theorem k0_mult489_dvd : ∀ (v9606 : BitVec 32) (k0_hw489 : k0_chk489 v9606), 8 ∣ (k0_mult489 v9606).toNat := fun v9606 k0_hw489 => k0_hw489.1
theorem k0_off490_inb : ∀ (v9606 : BitVec 32) (k0_hw489 : k0_chk489 v9606), ∀ a, (k0_off490 v9606) a + S16x128.size a ≤ S66048x128.size a := fun v9606 k0_hw489 => k0_hw489.2

def k0_off491 (v9607 : BitVec 32) : Fin 2 → Nat :=
  let c3_i32_6389 : BitVec 32 := 3#32
  let v9613 : BitVec 32 := Scalar.shrsi v9607 c3_i32_6389
  let c3_i32_6390 : BitVec 32 := 3#32
  let v9614 : BitVec 32 := Scalar.shli v9613 c3_i32_6390
  let v9615 : BitVec 32 := v9614
  let v9618 : Index := Scalar.indexCast v9615
  let c0_6392 : Index := 0#32
  ![v9618.toNat, 0]

def k0_chk490 (v9607 : BitVec 32) : Prop :=
  (8 ∣ (k0_mult490 v9607).toNat) ∧
  (∀ a, (k0_off491 v9607) a + S16x128.size a ≤ S66048x128.size a)
theorem k0_mult490_dvd : ∀ (v9607 : BitVec 32) (k0_hw490 : k0_chk490 v9607), 8 ∣ (k0_mult490 v9607).toNat := fun v9607 k0_hw490 => k0_hw490.1
theorem k0_off491_inb : ∀ (v9607 : BitVec 32) (k0_hw490 : k0_chk490 v9607), ∀ a, (k0_off491 v9607) a + S16x128.size a ≤ S66048x128.size a := fun v9607 k0_hw490 => k0_hw490.2

def k0_mult491 (v9645 : BitVec 32) : BitVec 32 :=
  let c3_i32_6413 : BitVec 32 := 3#32
  let v9649 : BitVec 32 := Scalar.shrsi v9645 c3_i32_6413
  let c3_i32_6414 : BitVec 32 := 3#32
  let v9650 : BitVec 32 := Scalar.shli v9649 c3_i32_6414
  v9650

def k0_mult492 (v9646 : BitVec 32) : BitVec 32 :=
  let c3_i32_6415 : BitVec 32 := 3#32
  let v9652 : BitVec 32 := Scalar.shrsi v9646 c3_i32_6415
  let c3_i32_6416 : BitVec 32 := 3#32
  let v9653 : BitVec 32 := Scalar.shli v9652 c3_i32_6416
  v9653

def k0_off492 (v9645 : BitVec 32) : Fin 2 → Nat :=
  let c3_i32_6413 : BitVec 32 := 3#32
  let v9649 : BitVec 32 := Scalar.shrsi v9645 c3_i32_6413
  let c3_i32_6414 : BitVec 32 := 3#32
  let v9650 : BitVec 32 := Scalar.shli v9649 c3_i32_6414
  let v9651 : BitVec 32 := v9650
  let v9655 : Index := Scalar.indexCast v9651
  let c0_6417 : Index := 0#32
  ![v9655.toNat, 0]

def k0_chk491 (v9645 : BitVec 32) : Prop :=
  (8 ∣ (k0_mult491 v9645).toNat) ∧
  (∀ a, (k0_off492 v9645) a + S16x128.size a ≤ S66048x128.size a)
theorem k0_mult491_dvd : ∀ (v9645 : BitVec 32) (k0_hw491 : k0_chk491 v9645), 8 ∣ (k0_mult491 v9645).toNat := fun v9645 k0_hw491 => k0_hw491.1
theorem k0_off492_inb : ∀ (v9645 : BitVec 32) (k0_hw491 : k0_chk491 v9645), ∀ a, (k0_off492 v9645) a + S16x128.size a ≤ S66048x128.size a := fun v9645 k0_hw491 => k0_hw491.2

def k0_off493 (v9646 : BitVec 32) : Fin 2 → Nat :=
  let c3_i32_6415 : BitVec 32 := 3#32
  let v9652 : BitVec 32 := Scalar.shrsi v9646 c3_i32_6415
  let c3_i32_6416 : BitVec 32 := 3#32
  let v9653 : BitVec 32 := Scalar.shli v9652 c3_i32_6416
  let v9654 : BitVec 32 := v9653
  let v9657 : Index := Scalar.indexCast v9654
  let c0_6418 : Index := 0#32
  ![v9657.toNat, 0]

def k0_chk492 (v9646 : BitVec 32) : Prop :=
  (8 ∣ (k0_mult492 v9646).toNat) ∧
  (∀ a, (k0_off493 v9646) a + S16x128.size a ≤ S66048x128.size a)
theorem k0_mult492_dvd : ∀ (v9646 : BitVec 32) (k0_hw492 : k0_chk492 v9646), 8 ∣ (k0_mult492 v9646).toNat := fun v9646 k0_hw492 => k0_hw492.1
theorem k0_off493_inb : ∀ (v9646 : BitVec 32) (k0_hw492 : k0_chk492 v9646), ∀ a, (k0_off493 v9646) a + S16x128.size a ≤ S66048x128.size a := fun v9646 k0_hw492 => k0_hw492.2

def k0_mult493 (v9684 : BitVec 32) : BitVec 32 :=
  let c3_i32_6439 : BitVec 32 := 3#32
  let v9688 : BitVec 32 := Scalar.shrsi v9684 c3_i32_6439
  let c3_i32_6440 : BitVec 32 := 3#32
  let v9689 : BitVec 32 := Scalar.shli v9688 c3_i32_6440
  v9689

def k0_mult494 (v9685 : BitVec 32) : BitVec 32 :=
  let c3_i32_6441 : BitVec 32 := 3#32
  let v9691 : BitVec 32 := Scalar.shrsi v9685 c3_i32_6441
  let c3_i32_6442 : BitVec 32 := 3#32
  let v9692 : BitVec 32 := Scalar.shli v9691 c3_i32_6442
  v9692

def k0_off494 (v9684 : BitVec 32) : Fin 2 → Nat :=
  let c3_i32_6439 : BitVec 32 := 3#32
  let v9688 : BitVec 32 := Scalar.shrsi v9684 c3_i32_6439
  let c3_i32_6440 : BitVec 32 := 3#32
  let v9689 : BitVec 32 := Scalar.shli v9688 c3_i32_6440
  let v9690 : BitVec 32 := v9689
  let v9694 : Index := Scalar.indexCast v9690
  let c0_6443 : Index := 0#32
  ![v9694.toNat, 0]

def k0_chk493 (v9684 : BitVec 32) : Prop :=
  (8 ∣ (k0_mult493 v9684).toNat) ∧
  (∀ a, (k0_off494 v9684) a + S16x128.size a ≤ S66048x128.size a)
theorem k0_mult493_dvd : ∀ (v9684 : BitVec 32) (k0_hw493 : k0_chk493 v9684), 8 ∣ (k0_mult493 v9684).toNat := fun v9684 k0_hw493 => k0_hw493.1
theorem k0_off494_inb : ∀ (v9684 : BitVec 32) (k0_hw493 : k0_chk493 v9684), ∀ a, (k0_off494 v9684) a + S16x128.size a ≤ S66048x128.size a := fun v9684 k0_hw493 => k0_hw493.2

def k0_off495 (v9685 : BitVec 32) : Fin 2 → Nat :=
  let c3_i32_6441 : BitVec 32 := 3#32
  let v9691 : BitVec 32 := Scalar.shrsi v9685 c3_i32_6441
  let c3_i32_6442 : BitVec 32 := 3#32
  let v9692 : BitVec 32 := Scalar.shli v9691 c3_i32_6442
  let v9693 : BitVec 32 := v9692
  let v9696 : Index := Scalar.indexCast v9693
  let c0_6444 : Index := 0#32
  ![v9696.toNat, 0]

def k0_chk494 (v9685 : BitVec 32) : Prop :=
  (8 ∣ (k0_mult494 v9685).toNat) ∧
  (∀ a, (k0_off495 v9685) a + S16x128.size a ≤ S66048x128.size a)
theorem k0_mult494_dvd : ∀ (v9685 : BitVec 32) (k0_hw494 : k0_chk494 v9685), 8 ∣ (k0_mult494 v9685).toNat := fun v9685 k0_hw494 => k0_hw494.1
theorem k0_off495_inb : ∀ (v9685 : BitVec 32) (k0_hw494 : k0_chk494 v9685), ∀ a, (k0_off495 v9685) a + S16x128.size a ≤ S66048x128.size a := fun v9685 k0_hw494 => k0_hw494.2

def k0_mult495 (v9723 : BitVec 32) : BitVec 32 :=
  let c3_i32_6465 : BitVec 32 := 3#32
  let v9727 : BitVec 32 := Scalar.shrsi v9723 c3_i32_6465
  let c3_i32_6466 : BitVec 32 := 3#32
  let v9728 : BitVec 32 := Scalar.shli v9727 c3_i32_6466
  v9728

def k0_mult496 (v9724 : BitVec 32) : BitVec 32 :=
  let c3_i32_6467 : BitVec 32 := 3#32
  let v9730 : BitVec 32 := Scalar.shrsi v9724 c3_i32_6467
  let c3_i32_6468 : BitVec 32 := 3#32
  let v9731 : BitVec 32 := Scalar.shli v9730 c3_i32_6468
  v9731

def k0_off496 (v9723 : BitVec 32) : Fin 2 → Nat :=
  let c3_i32_6465 : BitVec 32 := 3#32
  let v9727 : BitVec 32 := Scalar.shrsi v9723 c3_i32_6465
  let c3_i32_6466 : BitVec 32 := 3#32
  let v9728 : BitVec 32 := Scalar.shli v9727 c3_i32_6466
  let v9729 : BitVec 32 := v9728
  let v9733 : Index := Scalar.indexCast v9729
  let c0_6469 : Index := 0#32
  ![v9733.toNat, 0]

def k0_chk495 (v9723 : BitVec 32) : Prop :=
  (8 ∣ (k0_mult495 v9723).toNat) ∧
  (∀ a, (k0_off496 v9723) a + S16x128.size a ≤ S66048x128.size a)
theorem k0_mult495_dvd : ∀ (v9723 : BitVec 32) (k0_hw495 : k0_chk495 v9723), 8 ∣ (k0_mult495 v9723).toNat := fun v9723 k0_hw495 => k0_hw495.1
theorem k0_off496_inb : ∀ (v9723 : BitVec 32) (k0_hw495 : k0_chk495 v9723), ∀ a, (k0_off496 v9723) a + S16x128.size a ≤ S66048x128.size a := fun v9723 k0_hw495 => k0_hw495.2

def k0_off497 (v9724 : BitVec 32) : Fin 2 → Nat :=
  let c3_i32_6467 : BitVec 32 := 3#32
  let v9730 : BitVec 32 := Scalar.shrsi v9724 c3_i32_6467
  let c3_i32_6468 : BitVec 32 := 3#32
  let v9731 : BitVec 32 := Scalar.shli v9730 c3_i32_6468
  let v9732 : BitVec 32 := v9731
  let v9735 : Index := Scalar.indexCast v9732
  let c0_6470 : Index := 0#32
  ![v9735.toNat, 0]

def k0_chk496 (v9724 : BitVec 32) : Prop :=
  (8 ∣ (k0_mult496 v9724).toNat) ∧
  (∀ a, (k0_off497 v9724) a + S16x128.size a ≤ S66048x128.size a)
theorem k0_mult496_dvd : ∀ (v9724 : BitVec 32) (k0_hw496 : k0_chk496 v9724), 8 ∣ (k0_mult496 v9724).toNat := fun v9724 k0_hw496 => k0_hw496.1
theorem k0_off497_inb : ∀ (v9724 : BitVec 32) (k0_hw496 : k0_chk496 v9724), ∀ a, (k0_off497 v9724) a + S16x128.size a ≤ S66048x128.size a := fun v9724 k0_hw496 => k0_hw496.2

def k0_mult497 (v9762 : BitVec 32) : BitVec 32 :=
  let c3_i32_6491 : BitVec 32 := 3#32
  let v9766 : BitVec 32 := Scalar.shrsi v9762 c3_i32_6491
  let c3_i32_6492 : BitVec 32 := 3#32
  let v9767 : BitVec 32 := Scalar.shli v9766 c3_i32_6492
  v9767

def k0_mult498 (v9763 : BitVec 32) : BitVec 32 :=
  let c3_i32_6493 : BitVec 32 := 3#32
  let v9769 : BitVec 32 := Scalar.shrsi v9763 c3_i32_6493
  let c3_i32_6494 : BitVec 32 := 3#32
  let v9770 : BitVec 32 := Scalar.shli v9769 c3_i32_6494
  v9770

def k0_off498 (v9762 : BitVec 32) : Fin 2 → Nat :=
  let c3_i32_6491 : BitVec 32 := 3#32
  let v9766 : BitVec 32 := Scalar.shrsi v9762 c3_i32_6491
  let c3_i32_6492 : BitVec 32 := 3#32
  let v9767 : BitVec 32 := Scalar.shli v9766 c3_i32_6492
  let v9768 : BitVec 32 := v9767
  let v9772 : Index := Scalar.indexCast v9768
  let c0_6495 : Index := 0#32
  ![v9772.toNat, 0]

def k0_chk497 (v9762 : BitVec 32) : Prop :=
  (8 ∣ (k0_mult497 v9762).toNat) ∧
  (∀ a, (k0_off498 v9762) a + S16x128.size a ≤ S66048x128.size a)
theorem k0_mult497_dvd : ∀ (v9762 : BitVec 32) (k0_hw497 : k0_chk497 v9762), 8 ∣ (k0_mult497 v9762).toNat := fun v9762 k0_hw497 => k0_hw497.1
theorem k0_off498_inb : ∀ (v9762 : BitVec 32) (k0_hw497 : k0_chk497 v9762), ∀ a, (k0_off498 v9762) a + S16x128.size a ≤ S66048x128.size a := fun v9762 k0_hw497 => k0_hw497.2

def k0_off499 (v9763 : BitVec 32) : Fin 2 → Nat :=
  let c3_i32_6493 : BitVec 32 := 3#32
  let v9769 : BitVec 32 := Scalar.shrsi v9763 c3_i32_6493
  let c3_i32_6494 : BitVec 32 := 3#32
  let v9770 : BitVec 32 := Scalar.shli v9769 c3_i32_6494
  let v9771 : BitVec 32 := v9770
  let v9774 : Index := Scalar.indexCast v9771
  let c0_6496 : Index := 0#32
  ![v9774.toNat, 0]

def k0_chk498 (v9763 : BitVec 32) : Prop :=
  (8 ∣ (k0_mult498 v9763).toNat) ∧
  (∀ a, (k0_off499 v9763) a + S16x128.size a ≤ S66048x128.size a)
theorem k0_mult498_dvd : ∀ (v9763 : BitVec 32) (k0_hw498 : k0_chk498 v9763), 8 ∣ (k0_mult498 v9763).toNat := fun v9763 k0_hw498 => k0_hw498.1
theorem k0_off499_inb : ∀ (v9763 : BitVec 32) (k0_hw498 : k0_chk498 v9763), ∀ a, (k0_off499 v9763) a + S16x128.size a ≤ S66048x128.size a := fun v9763 k0_hw498 => k0_hw498.2

def k0_mult499 (v9801 : BitVec 32) : BitVec 32 :=
  let c3_i32_6517 : BitVec 32 := 3#32
  let v9805 : BitVec 32 := Scalar.shrsi v9801 c3_i32_6517
  let c3_i32_6518 : BitVec 32 := 3#32
  let v9806 : BitVec 32 := Scalar.shli v9805 c3_i32_6518
  v9806

def k0_mult500 (v9802 : BitVec 32) : BitVec 32 :=
  let c3_i32_6519 : BitVec 32 := 3#32
  let v9808 : BitVec 32 := Scalar.shrsi v9802 c3_i32_6519
  let c3_i32_6520 : BitVec 32 := 3#32
  let v9809 : BitVec 32 := Scalar.shli v9808 c3_i32_6520
  v9809

def k0_off500 (v9801 : BitVec 32) : Fin 2 → Nat :=
  let c3_i32_6517 : BitVec 32 := 3#32
  let v9805 : BitVec 32 := Scalar.shrsi v9801 c3_i32_6517
  let c3_i32_6518 : BitVec 32 := 3#32
  let v9806 : BitVec 32 := Scalar.shli v9805 c3_i32_6518
  let v9807 : BitVec 32 := v9806
  let v9811 : Index := Scalar.indexCast v9807
  let c0_6521 : Index := 0#32
  ![v9811.toNat, 0]

def k0_chk499 (v9801 : BitVec 32) : Prop :=
  (8 ∣ (k0_mult499 v9801).toNat) ∧
  (∀ a, (k0_off500 v9801) a + S16x128.size a ≤ S66048x128.size a)
theorem k0_mult499_dvd : ∀ (v9801 : BitVec 32) (k0_hw499 : k0_chk499 v9801), 8 ∣ (k0_mult499 v9801).toNat := fun v9801 k0_hw499 => k0_hw499.1
theorem k0_off500_inb : ∀ (v9801 : BitVec 32) (k0_hw499 : k0_chk499 v9801), ∀ a, (k0_off500 v9801) a + S16x128.size a ≤ S66048x128.size a := fun v9801 k0_hw499 => k0_hw499.2

def k0_off501 (v9802 : BitVec 32) : Fin 2 → Nat :=
  let c3_i32_6519 : BitVec 32 := 3#32
  let v9808 : BitVec 32 := Scalar.shrsi v9802 c3_i32_6519
  let c3_i32_6520 : BitVec 32 := 3#32
  let v9809 : BitVec 32 := Scalar.shli v9808 c3_i32_6520
  let v9810 : BitVec 32 := v9809
  let v9813 : Index := Scalar.indexCast v9810
  let c0_6522 : Index := 0#32
  ![v9813.toNat, 0]

def k0_chk500 (v9802 : BitVec 32) : Prop :=
  (8 ∣ (k0_mult500 v9802).toNat) ∧
  (∀ a, (k0_off501 v9802) a + S16x128.size a ≤ S66048x128.size a)
theorem k0_mult500_dvd : ∀ (v9802 : BitVec 32) (k0_hw500 : k0_chk500 v9802), 8 ∣ (k0_mult500 v9802).toNat := fun v9802 k0_hw500 => k0_hw500.1
theorem k0_off501_inb : ∀ (v9802 : BitVec 32) (k0_hw500 : k0_chk500 v9802), ∀ a, (k0_off501 v9802) a + S16x128.size a ≤ S66048x128.size a := fun v9802 k0_hw500 => k0_hw500.2

def k0_mult501 (v9847 : BitVec 32) : BitVec 32 :=
  let c3_i32_6549 : BitVec 32 := 3#32
  let v9851 : BitVec 32 := Scalar.shrsi v9847 c3_i32_6549
  let c3_i32_6550 : BitVec 32 := 3#32
  let v9852 : BitVec 32 := Scalar.shli v9851 c3_i32_6550
  v9852

def k0_mult502 (v9848 : BitVec 32) : BitVec 32 :=
  let c3_i32_6551 : BitVec 32 := 3#32
  let v9854 : BitVec 32 := Scalar.shrsi v9848 c3_i32_6551
  let c3_i32_6552 : BitVec 32 := 3#32
  let v9855 : BitVec 32 := Scalar.shli v9854 c3_i32_6552
  v9855

def k0_off502 (v9847 : BitVec 32) : Fin 2 → Nat :=
  let c3_i32_6549 : BitVec 32 := 3#32
  let v9851 : BitVec 32 := Scalar.shrsi v9847 c3_i32_6549
  let c3_i32_6550 : BitVec 32 := 3#32
  let v9852 : BitVec 32 := Scalar.shli v9851 c3_i32_6550
  let v9853 : BitVec 32 := v9852
  let v9857 : Index := Scalar.indexCast v9853
  let c0_6553 : Index := 0#32
  ![v9857.toNat, 0]

def k0_chk501 (v9847 : BitVec 32) : Prop :=
  (8 ∣ (k0_mult501 v9847).toNat) ∧
  (∀ a, (k0_off502 v9847) a + S16x128.size a ≤ S66048x128.size a)
theorem k0_mult501_dvd : ∀ (v9847 : BitVec 32) (k0_hw501 : k0_chk501 v9847), 8 ∣ (k0_mult501 v9847).toNat := fun v9847 k0_hw501 => k0_hw501.1
theorem k0_off502_inb : ∀ (v9847 : BitVec 32) (k0_hw501 : k0_chk501 v9847), ∀ a, (k0_off502 v9847) a + S16x128.size a ≤ S66048x128.size a := fun v9847 k0_hw501 => k0_hw501.2

def k0_off503 (v9848 : BitVec 32) : Fin 2 → Nat :=
  let c3_i32_6551 : BitVec 32 := 3#32
  let v9854 : BitVec 32 := Scalar.shrsi v9848 c3_i32_6551
  let c3_i32_6552 : BitVec 32 := 3#32
  let v9855 : BitVec 32 := Scalar.shli v9854 c3_i32_6552
  let v9856 : BitVec 32 := v9855
  let v9859 : Index := Scalar.indexCast v9856
  let c0_6554 : Index := 0#32
  ![v9859.toNat, 0]

def k0_chk502 (v9848 : BitVec 32) : Prop :=
  (8 ∣ (k0_mult502 v9848).toNat) ∧
  (∀ a, (k0_off503 v9848) a + S16x128.size a ≤ S66048x128.size a)
theorem k0_mult502_dvd : ∀ (v9848 : BitVec 32) (k0_hw502 : k0_chk502 v9848), 8 ∣ (k0_mult502 v9848).toNat := fun v9848 k0_hw502 => k0_hw502.1
theorem k0_off503_inb : ∀ (v9848 : BitVec 32) (k0_hw502 : k0_chk502 v9848), ∀ a, (k0_off503 v9848) a + S16x128.size a ≤ S66048x128.size a := fun v9848 k0_hw502 => k0_hw502.2

def k0_mult503 (v9886 : BitVec 32) : BitVec 32 :=
  let c3_i32_6575 : BitVec 32 := 3#32
  let v9890 : BitVec 32 := Scalar.shrsi v9886 c3_i32_6575
  let c3_i32_6576 : BitVec 32 := 3#32
  let v9891 : BitVec 32 := Scalar.shli v9890 c3_i32_6576
  v9891

def k0_mult504 (v9887 : BitVec 32) : BitVec 32 :=
  let c3_i32_6577 : BitVec 32 := 3#32
  let v9893 : BitVec 32 := Scalar.shrsi v9887 c3_i32_6577
  let c3_i32_6578 : BitVec 32 := 3#32
  let v9894 : BitVec 32 := Scalar.shli v9893 c3_i32_6578
  v9894

def k0_off504 (v9886 : BitVec 32) : Fin 2 → Nat :=
  let c3_i32_6575 : BitVec 32 := 3#32
  let v9890 : BitVec 32 := Scalar.shrsi v9886 c3_i32_6575
  let c3_i32_6576 : BitVec 32 := 3#32
  let v9891 : BitVec 32 := Scalar.shli v9890 c3_i32_6576
  let v9892 : BitVec 32 := v9891
  let v9896 : Index := Scalar.indexCast v9892
  let c0_6579 : Index := 0#32
  ![v9896.toNat, 0]

def k0_chk503 (v9886 : BitVec 32) : Prop :=
  (8 ∣ (k0_mult503 v9886).toNat) ∧
  (∀ a, (k0_off504 v9886) a + S16x128.size a ≤ S66048x128.size a)
theorem k0_mult503_dvd : ∀ (v9886 : BitVec 32) (k0_hw503 : k0_chk503 v9886), 8 ∣ (k0_mult503 v9886).toNat := fun v9886 k0_hw503 => k0_hw503.1
theorem k0_off504_inb : ∀ (v9886 : BitVec 32) (k0_hw503 : k0_chk503 v9886), ∀ a, (k0_off504 v9886) a + S16x128.size a ≤ S66048x128.size a := fun v9886 k0_hw503 => k0_hw503.2

def k0_off505 (v9887 : BitVec 32) : Fin 2 → Nat :=
  let c3_i32_6577 : BitVec 32 := 3#32
  let v9893 : BitVec 32 := Scalar.shrsi v9887 c3_i32_6577
  let c3_i32_6578 : BitVec 32 := 3#32
  let v9894 : BitVec 32 := Scalar.shli v9893 c3_i32_6578
  let v9895 : BitVec 32 := v9894
  let v9898 : Index := Scalar.indexCast v9895
  let c0_6580 : Index := 0#32
  ![v9898.toNat, 0]

def k0_chk504 (v9887 : BitVec 32) : Prop :=
  (8 ∣ (k0_mult504 v9887).toNat) ∧
  (∀ a, (k0_off505 v9887) a + S16x128.size a ≤ S66048x128.size a)
theorem k0_mult504_dvd : ∀ (v9887 : BitVec 32) (k0_hw504 : k0_chk504 v9887), 8 ∣ (k0_mult504 v9887).toNat := fun v9887 k0_hw504 => k0_hw504.1
theorem k0_off505_inb : ∀ (v9887 : BitVec 32) (k0_hw504 : k0_chk504 v9887), ∀ a, (k0_off505 v9887) a + S16x128.size a ≤ S66048x128.size a := fun v9887 k0_hw504 => k0_hw504.2

def k0_mult505 (v9925 : BitVec 32) : BitVec 32 :=
  let c3_i32_6601 : BitVec 32 := 3#32
  let v9929 : BitVec 32 := Scalar.shrsi v9925 c3_i32_6601
  let c3_i32_6602 : BitVec 32 := 3#32
  let v9930 : BitVec 32 := Scalar.shli v9929 c3_i32_6602
  v9930

def k0_mult506 (v9926 : BitVec 32) : BitVec 32 :=
  let c3_i32_6603 : BitVec 32 := 3#32
  let v9932 : BitVec 32 := Scalar.shrsi v9926 c3_i32_6603
  let c3_i32_6604 : BitVec 32 := 3#32
  let v9933 : BitVec 32 := Scalar.shli v9932 c3_i32_6604
  v9933

def k0_off506 (v9925 : BitVec 32) : Fin 2 → Nat :=
  let c3_i32_6601 : BitVec 32 := 3#32
  let v9929 : BitVec 32 := Scalar.shrsi v9925 c3_i32_6601
  let c3_i32_6602 : BitVec 32 := 3#32
  let v9930 : BitVec 32 := Scalar.shli v9929 c3_i32_6602
  let v9931 : BitVec 32 := v9930
  let v9935 : Index := Scalar.indexCast v9931
  let c0_6605 : Index := 0#32
  ![v9935.toNat, 0]

def k0_chk505 (v9925 : BitVec 32) : Prop :=
  (8 ∣ (k0_mult505 v9925).toNat) ∧
  (∀ a, (k0_off506 v9925) a + S16x128.size a ≤ S66048x128.size a)
theorem k0_mult505_dvd : ∀ (v9925 : BitVec 32) (k0_hw505 : k0_chk505 v9925), 8 ∣ (k0_mult505 v9925).toNat := fun v9925 k0_hw505 => k0_hw505.1
theorem k0_off506_inb : ∀ (v9925 : BitVec 32) (k0_hw505 : k0_chk505 v9925), ∀ a, (k0_off506 v9925) a + S16x128.size a ≤ S66048x128.size a := fun v9925 k0_hw505 => k0_hw505.2

def k0_off507 (v9926 : BitVec 32) : Fin 2 → Nat :=
  let c3_i32_6603 : BitVec 32 := 3#32
  let v9932 : BitVec 32 := Scalar.shrsi v9926 c3_i32_6603
  let c3_i32_6604 : BitVec 32 := 3#32
  let v9933 : BitVec 32 := Scalar.shli v9932 c3_i32_6604
  let v9934 : BitVec 32 := v9933
  let v9937 : Index := Scalar.indexCast v9934
  let c0_6606 : Index := 0#32
  ![v9937.toNat, 0]

def k0_chk506 (v9926 : BitVec 32) : Prop :=
  (8 ∣ (k0_mult506 v9926).toNat) ∧
  (∀ a, (k0_off507 v9926) a + S16x128.size a ≤ S66048x128.size a)
theorem k0_mult506_dvd : ∀ (v9926 : BitVec 32) (k0_hw506 : k0_chk506 v9926), 8 ∣ (k0_mult506 v9926).toNat := fun v9926 k0_hw506 => k0_hw506.1
theorem k0_off507_inb : ∀ (v9926 : BitVec 32) (k0_hw506 : k0_chk506 v9926), ∀ a, (k0_off507 v9926) a + S16x128.size a ≤ S66048x128.size a := fun v9926 k0_hw506 => k0_hw506.2

def k0_mult507 (v9964 : BitVec 32) : BitVec 32 :=
  let c3_i32_6627 : BitVec 32 := 3#32
  let v9968 : BitVec 32 := Scalar.shrsi v9964 c3_i32_6627
  let c3_i32_6628 : BitVec 32 := 3#32
  let v9969 : BitVec 32 := Scalar.shli v9968 c3_i32_6628
  v9969

def k0_mult508 (v9965 : BitVec 32) : BitVec 32 :=
  let c3_i32_6629 : BitVec 32 := 3#32
  let v9971 : BitVec 32 := Scalar.shrsi v9965 c3_i32_6629
  let c3_i32_6630 : BitVec 32 := 3#32
  let v9972 : BitVec 32 := Scalar.shli v9971 c3_i32_6630
  v9972

def k0_off508 (v9964 : BitVec 32) : Fin 2 → Nat :=
  let c3_i32_6627 : BitVec 32 := 3#32
  let v9968 : BitVec 32 := Scalar.shrsi v9964 c3_i32_6627
  let c3_i32_6628 : BitVec 32 := 3#32
  let v9969 : BitVec 32 := Scalar.shli v9968 c3_i32_6628
  let v9970 : BitVec 32 := v9969
  let v9974 : Index := Scalar.indexCast v9970
  let c0_6631 : Index := 0#32
  ![v9974.toNat, 0]

def k0_chk507 (v9964 : BitVec 32) : Prop :=
  (8 ∣ (k0_mult507 v9964).toNat) ∧
  (∀ a, (k0_off508 v9964) a + S16x128.size a ≤ S66048x128.size a)
theorem k0_mult507_dvd : ∀ (v9964 : BitVec 32) (k0_hw507 : k0_chk507 v9964), 8 ∣ (k0_mult507 v9964).toNat := fun v9964 k0_hw507 => k0_hw507.1
theorem k0_off508_inb : ∀ (v9964 : BitVec 32) (k0_hw507 : k0_chk507 v9964), ∀ a, (k0_off508 v9964) a + S16x128.size a ≤ S66048x128.size a := fun v9964 k0_hw507 => k0_hw507.2

def k0_off509 (v9965 : BitVec 32) : Fin 2 → Nat :=
  let c3_i32_6629 : BitVec 32 := 3#32
  let v9971 : BitVec 32 := Scalar.shrsi v9965 c3_i32_6629
  let c3_i32_6630 : BitVec 32 := 3#32
  let v9972 : BitVec 32 := Scalar.shli v9971 c3_i32_6630
  let v9973 : BitVec 32 := v9972
  let v9976 : Index := Scalar.indexCast v9973
  let c0_6632 : Index := 0#32
  ![v9976.toNat, 0]

def k0_chk508 (v9965 : BitVec 32) : Prop :=
  (8 ∣ (k0_mult508 v9965).toNat) ∧
  (∀ a, (k0_off509 v9965) a + S16x128.size a ≤ S66048x128.size a)
theorem k0_mult508_dvd : ∀ (v9965 : BitVec 32) (k0_hw508 : k0_chk508 v9965), 8 ∣ (k0_mult508 v9965).toNat := fun v9965 k0_hw508 => k0_hw508.1
theorem k0_off509_inb : ∀ (v9965 : BitVec 32) (k0_hw508 : k0_chk508 v9965), ∀ a, (k0_off509 v9965) a + S16x128.size a ≤ S66048x128.size a := fun v9965 k0_hw508 => k0_hw508.2

def k0_mult509 (v10003 : BitVec 32) : BitVec 32 :=
  let c3_i32_6653 : BitVec 32 := 3#32
  let v10007 : BitVec 32 := Scalar.shrsi v10003 c3_i32_6653
  let c3_i32_6654 : BitVec 32 := 3#32
  let v10008 : BitVec 32 := Scalar.shli v10007 c3_i32_6654
  v10008

def k0_mult510 (v10004 : BitVec 32) : BitVec 32 :=
  let c3_i32_6655 : BitVec 32 := 3#32
  let v10010 : BitVec 32 := Scalar.shrsi v10004 c3_i32_6655
  let c3_i32_6656 : BitVec 32 := 3#32
  let v10011 : BitVec 32 := Scalar.shli v10010 c3_i32_6656
  v10011

def k0_off510 (v10003 : BitVec 32) : Fin 2 → Nat :=
  let c3_i32_6653 : BitVec 32 := 3#32
  let v10007 : BitVec 32 := Scalar.shrsi v10003 c3_i32_6653
  let c3_i32_6654 : BitVec 32 := 3#32
  let v10008 : BitVec 32 := Scalar.shli v10007 c3_i32_6654
  let v10009 : BitVec 32 := v10008
  let v10013 : Index := Scalar.indexCast v10009
  let c0_6657 : Index := 0#32
  ![v10013.toNat, 0]

def k0_chk509 (v10003 : BitVec 32) : Prop :=
  (8 ∣ (k0_mult509 v10003).toNat) ∧
  (∀ a, (k0_off510 v10003) a + S16x128.size a ≤ S66048x128.size a)
theorem k0_mult509_dvd : ∀ (v10003 : BitVec 32) (k0_hw509 : k0_chk509 v10003), 8 ∣ (k0_mult509 v10003).toNat := fun v10003 k0_hw509 => k0_hw509.1
theorem k0_off510_inb : ∀ (v10003 : BitVec 32) (k0_hw509 : k0_chk509 v10003), ∀ a, (k0_off510 v10003) a + S16x128.size a ≤ S66048x128.size a := fun v10003 k0_hw509 => k0_hw509.2

def k0_off511 (v10004 : BitVec 32) : Fin 2 → Nat :=
  let c3_i32_6655 : BitVec 32 := 3#32
  let v10010 : BitVec 32 := Scalar.shrsi v10004 c3_i32_6655
  let c3_i32_6656 : BitVec 32 := 3#32
  let v10011 : BitVec 32 := Scalar.shli v10010 c3_i32_6656
  let v10012 : BitVec 32 := v10011
  let v10015 : Index := Scalar.indexCast v10012
  let c0_6658 : Index := 0#32
  ![v10015.toNat, 0]

def k0_chk510 (v10004 : BitVec 32) : Prop :=
  (8 ∣ (k0_mult510 v10004).toNat) ∧
  (∀ a, (k0_off511 v10004) a + S16x128.size a ≤ S66048x128.size a)
theorem k0_mult510_dvd : ∀ (v10004 : BitVec 32) (k0_hw510 : k0_chk510 v10004), 8 ∣ (k0_mult510 v10004).toNat := fun v10004 k0_hw510 => k0_hw510.1
theorem k0_off511_inb : ∀ (v10004 : BitVec 32) (k0_hw510 : k0_chk510 v10004), ∀ a, (k0_off511 v10004) a + S16x128.size a ≤ S66048x128.size a := fun v10004 k0_hw510 => k0_hw510.2

def k0_mult511 (v10042 : BitVec 32) : BitVec 32 :=
  let c3_i32_6679 : BitVec 32 := 3#32
  let v10046 : BitVec 32 := Scalar.shrsi v10042 c3_i32_6679
  let c3_i32_6680 : BitVec 32 := 3#32
  let v10047 : BitVec 32 := Scalar.shli v10046 c3_i32_6680
  v10047

def k0_mult512 (v10043 : BitVec 32) : BitVec 32 :=
  let c3_i32_6681 : BitVec 32 := 3#32
  let v10049 : BitVec 32 := Scalar.shrsi v10043 c3_i32_6681
  let c3_i32_6682 : BitVec 32 := 3#32
  let v10050 : BitVec 32 := Scalar.shli v10049 c3_i32_6682
  v10050

def k0_off512 (v10042 : BitVec 32) : Fin 2 → Nat :=
  let c3_i32_6679 : BitVec 32 := 3#32
  let v10046 : BitVec 32 := Scalar.shrsi v10042 c3_i32_6679
  let c3_i32_6680 : BitVec 32 := 3#32
  let v10047 : BitVec 32 := Scalar.shli v10046 c3_i32_6680
  let v10048 : BitVec 32 := v10047
  let v10052 : Index := Scalar.indexCast v10048
  let c0_6683 : Index := 0#32
  ![v10052.toNat, 0]

def k0_chk511 (v10042 : BitVec 32) : Prop :=
  (8 ∣ (k0_mult511 v10042).toNat) ∧
  (∀ a, (k0_off512 v10042) a + S16x128.size a ≤ S66048x128.size a)
theorem k0_mult511_dvd : ∀ (v10042 : BitVec 32) (k0_hw511 : k0_chk511 v10042), 8 ∣ (k0_mult511 v10042).toNat := fun v10042 k0_hw511 => k0_hw511.1
theorem k0_off512_inb : ∀ (v10042 : BitVec 32) (k0_hw511 : k0_chk511 v10042), ∀ a, (k0_off512 v10042) a + S16x128.size a ≤ S66048x128.size a := fun v10042 k0_hw511 => k0_hw511.2

def k0_off513 (v10043 : BitVec 32) : Fin 2 → Nat :=
  let c3_i32_6681 : BitVec 32 := 3#32
  let v10049 : BitVec 32 := Scalar.shrsi v10043 c3_i32_6681
  let c3_i32_6682 : BitVec 32 := 3#32
  let v10050 : BitVec 32 := Scalar.shli v10049 c3_i32_6682
  let v10051 : BitVec 32 := v10050
  let v10054 : Index := Scalar.indexCast v10051
  let c0_6684 : Index := 0#32
  ![v10054.toNat, 0]

def k0_chk512 (v10043 : BitVec 32) : Prop :=
  (8 ∣ (k0_mult512 v10043).toNat) ∧
  (∀ a, (k0_off513 v10043) a + S16x128.size a ≤ S66048x128.size a)
theorem k0_mult512_dvd : ∀ (v10043 : BitVec 32) (k0_hw512 : k0_chk512 v10043), 8 ∣ (k0_mult512 v10043).toNat := fun v10043 k0_hw512 => k0_hw512.1
theorem k0_off513_inb : ∀ (v10043 : BitVec 32) (k0_hw512 : k0_chk512 v10043), ∀ a, (k0_off513 v10043) a + S16x128.size a ≤ S66048x128.size a := fun v10043 k0_hw512 => k0_hw512.2

def k0_mult513 (v10081 : BitVec 32) : BitVec 32 :=
  let c3_i32_6705 : BitVec 32 := 3#32
  let v10085 : BitVec 32 := Scalar.shrsi v10081 c3_i32_6705
  let c3_i32_6706 : BitVec 32 := 3#32
  let v10086 : BitVec 32 := Scalar.shli v10085 c3_i32_6706
  v10086

def k0_mult514 (v10082 : BitVec 32) : BitVec 32 :=
  let c3_i32_6707 : BitVec 32 := 3#32
  let v10088 : BitVec 32 := Scalar.shrsi v10082 c3_i32_6707
  let c3_i32_6708 : BitVec 32 := 3#32
  let v10089 : BitVec 32 := Scalar.shli v10088 c3_i32_6708
  v10089

def k0_off514 (v10081 : BitVec 32) : Fin 2 → Nat :=
  let c3_i32_6705 : BitVec 32 := 3#32
  let v10085 : BitVec 32 := Scalar.shrsi v10081 c3_i32_6705
  let c3_i32_6706 : BitVec 32 := 3#32
  let v10086 : BitVec 32 := Scalar.shli v10085 c3_i32_6706
  let v10087 : BitVec 32 := v10086
  let v10091 : Index := Scalar.indexCast v10087
  let c0_6709 : Index := 0#32
  ![v10091.toNat, 0]

def k0_chk513 (v10081 : BitVec 32) : Prop :=
  (8 ∣ (k0_mult513 v10081).toNat) ∧
  (∀ a, (k0_off514 v10081) a + S16x128.size a ≤ S66048x128.size a)
theorem k0_mult513_dvd : ∀ (v10081 : BitVec 32) (k0_hw513 : k0_chk513 v10081), 8 ∣ (k0_mult513 v10081).toNat := fun v10081 k0_hw513 => k0_hw513.1
theorem k0_off514_inb : ∀ (v10081 : BitVec 32) (k0_hw513 : k0_chk513 v10081), ∀ a, (k0_off514 v10081) a + S16x128.size a ≤ S66048x128.size a := fun v10081 k0_hw513 => k0_hw513.2

def k0_off515 (v10082 : BitVec 32) : Fin 2 → Nat :=
  let c3_i32_6707 : BitVec 32 := 3#32
  let v10088 : BitVec 32 := Scalar.shrsi v10082 c3_i32_6707
  let c3_i32_6708 : BitVec 32 := 3#32
  let v10089 : BitVec 32 := Scalar.shli v10088 c3_i32_6708
  let v10090 : BitVec 32 := v10089
  let v10093 : Index := Scalar.indexCast v10090
  let c0_6710 : Index := 0#32
  ![v10093.toNat, 0]

def k0_chk514 (v10082 : BitVec 32) : Prop :=
  (8 ∣ (k0_mult514 v10082).toNat) ∧
  (∀ a, (k0_off515 v10082) a + S16x128.size a ≤ S66048x128.size a)
theorem k0_mult514_dvd : ∀ (v10082 : BitVec 32) (k0_hw514 : k0_chk514 v10082), 8 ∣ (k0_mult514 v10082).toNat := fun v10082 k0_hw514 => k0_hw514.1
theorem k0_off515_inb : ∀ (v10082 : BitVec 32) (k0_hw514 : k0_chk514 v10082), ∀ a, (k0_off515 v10082) a + S16x128.size a ≤ S66048x128.size a := fun v10082 k0_hw514 => k0_hw514.2

def k0_mult515 (v10120 : BitVec 32) : BitVec 32 :=
  let c3_i32_6731 : BitVec 32 := 3#32
  let v10124 : BitVec 32 := Scalar.shrsi v10120 c3_i32_6731
  let c3_i32_6732 : BitVec 32 := 3#32
  let v10125 : BitVec 32 := Scalar.shli v10124 c3_i32_6732
  v10125

def k0_mult516 (v10121 : BitVec 32) : BitVec 32 :=
  let c3_i32_6733 : BitVec 32 := 3#32
  let v10127 : BitVec 32 := Scalar.shrsi v10121 c3_i32_6733
  let c3_i32_6734 : BitVec 32 := 3#32
  let v10128 : BitVec 32 := Scalar.shli v10127 c3_i32_6734
  v10128

def k0_off516 (v10120 : BitVec 32) : Fin 2 → Nat :=
  let c3_i32_6731 : BitVec 32 := 3#32
  let v10124 : BitVec 32 := Scalar.shrsi v10120 c3_i32_6731
  let c3_i32_6732 : BitVec 32 := 3#32
  let v10125 : BitVec 32 := Scalar.shli v10124 c3_i32_6732
  let v10126 : BitVec 32 := v10125
  let v10130 : Index := Scalar.indexCast v10126
  let c0_6735 : Index := 0#32
  ![v10130.toNat, 0]

def k0_chk515 (v10120 : BitVec 32) : Prop :=
  (8 ∣ (k0_mult515 v10120).toNat) ∧
  (∀ a, (k0_off516 v10120) a + S16x128.size a ≤ S66048x128.size a)
theorem k0_mult515_dvd : ∀ (v10120 : BitVec 32) (k0_hw515 : k0_chk515 v10120), 8 ∣ (k0_mult515 v10120).toNat := fun v10120 k0_hw515 => k0_hw515.1
theorem k0_off516_inb : ∀ (v10120 : BitVec 32) (k0_hw515 : k0_chk515 v10120), ∀ a, (k0_off516 v10120) a + S16x128.size a ≤ S66048x128.size a := fun v10120 k0_hw515 => k0_hw515.2

def k0_off517 (v10121 : BitVec 32) : Fin 2 → Nat :=
  let c3_i32_6733 : BitVec 32 := 3#32
  let v10127 : BitVec 32 := Scalar.shrsi v10121 c3_i32_6733
  let c3_i32_6734 : BitVec 32 := 3#32
  let v10128 : BitVec 32 := Scalar.shli v10127 c3_i32_6734
  let v10129 : BitVec 32 := v10128
  let v10132 : Index := Scalar.indexCast v10129
  let c0_6736 : Index := 0#32
  ![v10132.toNat, 0]

def k0_chk516 (v10121 : BitVec 32) : Prop :=
  (8 ∣ (k0_mult516 v10121).toNat) ∧
  (∀ a, (k0_off517 v10121) a + S16x128.size a ≤ S66048x128.size a)
theorem k0_mult516_dvd : ∀ (v10121 : BitVec 32) (k0_hw516 : k0_chk516 v10121), 8 ∣ (k0_mult516 v10121).toNat := fun v10121 k0_hw516 => k0_hw516.1
theorem k0_off517_inb : ∀ (v10121 : BitVec 32) (k0_hw516 : k0_chk516 v10121), ∀ a, (k0_off517 v10121) a + S16x128.size a ≤ S66048x128.size a := fun v10121 k0_hw516 => k0_hw516.2

def k0_mult517 (v10159 : BitVec 32) : BitVec 32 :=
  let c3_i32_6757 : BitVec 32 := 3#32
  let v10163 : BitVec 32 := Scalar.shrsi v10159 c3_i32_6757
  let c3_i32_6758 : BitVec 32 := 3#32
  let v10164 : BitVec 32 := Scalar.shli v10163 c3_i32_6758
  v10164

def k0_mult518 (v10160 : BitVec 32) : BitVec 32 :=
  let c3_i32_6759 : BitVec 32 := 3#32
  let v10166 : BitVec 32 := Scalar.shrsi v10160 c3_i32_6759
  let c3_i32_6760 : BitVec 32 := 3#32
  let v10167 : BitVec 32 := Scalar.shli v10166 c3_i32_6760
  v10167

def k0_off518 (v10159 : BitVec 32) : Fin 2 → Nat :=
  let c3_i32_6757 : BitVec 32 := 3#32
  let v10163 : BitVec 32 := Scalar.shrsi v10159 c3_i32_6757
  let c3_i32_6758 : BitVec 32 := 3#32
  let v10164 : BitVec 32 := Scalar.shli v10163 c3_i32_6758
  let v10165 : BitVec 32 := v10164
  let v10169 : Index := Scalar.indexCast v10165
  let c0_6761 : Index := 0#32
  ![v10169.toNat, 0]

def k0_chk517 (v10159 : BitVec 32) : Prop :=
  (8 ∣ (k0_mult517 v10159).toNat) ∧
  (∀ a, (k0_off518 v10159) a + S16x128.size a ≤ S66048x128.size a)
theorem k0_mult517_dvd : ∀ (v10159 : BitVec 32) (k0_hw517 : k0_chk517 v10159), 8 ∣ (k0_mult517 v10159).toNat := fun v10159 k0_hw517 => k0_hw517.1
theorem k0_off518_inb : ∀ (v10159 : BitVec 32) (k0_hw517 : k0_chk517 v10159), ∀ a, (k0_off518 v10159) a + S16x128.size a ≤ S66048x128.size a := fun v10159 k0_hw517 => k0_hw517.2

def k0_off519 (v10160 : BitVec 32) : Fin 2 → Nat :=
  let c3_i32_6759 : BitVec 32 := 3#32
  let v10166 : BitVec 32 := Scalar.shrsi v10160 c3_i32_6759
  let c3_i32_6760 : BitVec 32 := 3#32
  let v10167 : BitVec 32 := Scalar.shli v10166 c3_i32_6760
  let v10168 : BitVec 32 := v10167
  let v10171 : Index := Scalar.indexCast v10168
  let c0_6762 : Index := 0#32
  ![v10171.toNat, 0]

def k0_chk518 (v10160 : BitVec 32) : Prop :=
  (8 ∣ (k0_mult518 v10160).toNat) ∧
  (∀ a, (k0_off519 v10160) a + S16x128.size a ≤ S66048x128.size a)
theorem k0_mult518_dvd : ∀ (v10160 : BitVec 32) (k0_hw518 : k0_chk518 v10160), 8 ∣ (k0_mult518 v10160).toNat := fun v10160 k0_hw518 => k0_hw518.1
theorem k0_off519_inb : ∀ (v10160 : BitVec 32) (k0_hw518 : k0_chk518 v10160), ∀ a, (k0_off519 v10160) a + S16x128.size a ≤ S66048x128.size a := fun v10160 k0_hw518 => k0_hw518.2

def k0_mult519 (v10198 : BitVec 32) : BitVec 32 :=
  let c3_i32_6783 : BitVec 32 := 3#32
  let v10202 : BitVec 32 := Scalar.shrsi v10198 c3_i32_6783
  let c3_i32_6784 : BitVec 32 := 3#32
  let v10203 : BitVec 32 := Scalar.shli v10202 c3_i32_6784
  v10203

def k0_mult520 (v10199 : BitVec 32) : BitVec 32 :=
  let c3_i32_6785 : BitVec 32 := 3#32
  let v10205 : BitVec 32 := Scalar.shrsi v10199 c3_i32_6785
  let c3_i32_6786 : BitVec 32 := 3#32
  let v10206 : BitVec 32 := Scalar.shli v10205 c3_i32_6786
  v10206

def k0_off520 (v10198 : BitVec 32) : Fin 2 → Nat :=
  let c3_i32_6783 : BitVec 32 := 3#32
  let v10202 : BitVec 32 := Scalar.shrsi v10198 c3_i32_6783
  let c3_i32_6784 : BitVec 32 := 3#32
  let v10203 : BitVec 32 := Scalar.shli v10202 c3_i32_6784
  let v10204 : BitVec 32 := v10203
  let v10208 : Index := Scalar.indexCast v10204
  let c0_6787 : Index := 0#32
  ![v10208.toNat, 0]

def k0_chk519 (v10198 : BitVec 32) : Prop :=
  (8 ∣ (k0_mult519 v10198).toNat) ∧
  (∀ a, (k0_off520 v10198) a + S16x128.size a ≤ S66048x128.size a)
theorem k0_mult519_dvd : ∀ (v10198 : BitVec 32) (k0_hw519 : k0_chk519 v10198), 8 ∣ (k0_mult519 v10198).toNat := fun v10198 k0_hw519 => k0_hw519.1
theorem k0_off520_inb : ∀ (v10198 : BitVec 32) (k0_hw519 : k0_chk519 v10198), ∀ a, (k0_off520 v10198) a + S16x128.size a ≤ S66048x128.size a := fun v10198 k0_hw519 => k0_hw519.2

def k0_off521 (v10199 : BitVec 32) : Fin 2 → Nat :=
  let c3_i32_6785 : BitVec 32 := 3#32
  let v10205 : BitVec 32 := Scalar.shrsi v10199 c3_i32_6785
  let c3_i32_6786 : BitVec 32 := 3#32
  let v10206 : BitVec 32 := Scalar.shli v10205 c3_i32_6786
  let v10207 : BitVec 32 := v10206
  let v10210 : Index := Scalar.indexCast v10207
  let c0_6788 : Index := 0#32
  ![v10210.toNat, 0]

def k0_chk520 (v10199 : BitVec 32) : Prop :=
  (8 ∣ (k0_mult520 v10199).toNat) ∧
  (∀ a, (k0_off521 v10199) a + S16x128.size a ≤ S66048x128.size a)
theorem k0_mult520_dvd : ∀ (v10199 : BitVec 32) (k0_hw520 : k0_chk520 v10199), 8 ∣ (k0_mult520 v10199).toNat := fun v10199 k0_hw520 => k0_hw520.1
theorem k0_off521_inb : ∀ (v10199 : BitVec 32) (k0_hw520 : k0_chk520 v10199), ∀ a, (k0_off521 v10199) a + S16x128.size a ≤ S66048x128.size a := fun v10199 k0_hw520 => k0_hw520.2

def k0_mult521 (v10237 : BitVec 32) : BitVec 32 :=
  let c3_i32_6809 : BitVec 32 := 3#32
  let v10241 : BitVec 32 := Scalar.shrsi v10237 c3_i32_6809
  let c3_i32_6810 : BitVec 32 := 3#32
  let v10242 : BitVec 32 := Scalar.shli v10241 c3_i32_6810
  v10242

def k0_mult522 (v10238 : BitVec 32) : BitVec 32 :=
  let c3_i32_6811 : BitVec 32 := 3#32
  let v10244 : BitVec 32 := Scalar.shrsi v10238 c3_i32_6811
  let c3_i32_6812 : BitVec 32 := 3#32
  let v10245 : BitVec 32 := Scalar.shli v10244 c3_i32_6812
  v10245

def k0_off522 (v10237 : BitVec 32) : Fin 2 → Nat :=
  let c3_i32_6809 : BitVec 32 := 3#32
  let v10241 : BitVec 32 := Scalar.shrsi v10237 c3_i32_6809
  let c3_i32_6810 : BitVec 32 := 3#32
  let v10242 : BitVec 32 := Scalar.shli v10241 c3_i32_6810
  let v10243 : BitVec 32 := v10242
  let v10247 : Index := Scalar.indexCast v10243
  let c0_6813 : Index := 0#32
  ![v10247.toNat, 0]

def k0_chk521 (v10237 : BitVec 32) : Prop :=
  (8 ∣ (k0_mult521 v10237).toNat) ∧
  (∀ a, (k0_off522 v10237) a + S16x128.size a ≤ S66048x128.size a)
theorem k0_mult521_dvd : ∀ (v10237 : BitVec 32) (k0_hw521 : k0_chk521 v10237), 8 ∣ (k0_mult521 v10237).toNat := fun v10237 k0_hw521 => k0_hw521.1
theorem k0_off522_inb : ∀ (v10237 : BitVec 32) (k0_hw521 : k0_chk521 v10237), ∀ a, (k0_off522 v10237) a + S16x128.size a ≤ S66048x128.size a := fun v10237 k0_hw521 => k0_hw521.2

def k0_off523 (v10238 : BitVec 32) : Fin 2 → Nat :=
  let c3_i32_6811 : BitVec 32 := 3#32
  let v10244 : BitVec 32 := Scalar.shrsi v10238 c3_i32_6811
  let c3_i32_6812 : BitVec 32 := 3#32
  let v10245 : BitVec 32 := Scalar.shli v10244 c3_i32_6812
  let v10246 : BitVec 32 := v10245
  let v10249 : Index := Scalar.indexCast v10246
  let c0_6814 : Index := 0#32
  ![v10249.toNat, 0]

def k0_chk522 (v10238 : BitVec 32) : Prop :=
  (8 ∣ (k0_mult522 v10238).toNat) ∧
  (∀ a, (k0_off523 v10238) a + S16x128.size a ≤ S66048x128.size a)
theorem k0_mult522_dvd : ∀ (v10238 : BitVec 32) (k0_hw522 : k0_chk522 v10238), 8 ∣ (k0_mult522 v10238).toNat := fun v10238 k0_hw522 => k0_hw522.1
theorem k0_off523_inb : ∀ (v10238 : BitVec 32) (k0_hw522 : k0_chk522 v10238), ∀ a, (k0_off523 v10238) a + S16x128.size a ≤ S66048x128.size a := fun v10238 k0_hw522 => k0_hw522.2

def k0_mult523 (v10276 : BitVec 32) : BitVec 32 :=
  let c3_i32_6835 : BitVec 32 := 3#32
  let v10280 : BitVec 32 := Scalar.shrsi v10276 c3_i32_6835
  let c3_i32_6836 : BitVec 32 := 3#32
  let v10281 : BitVec 32 := Scalar.shli v10280 c3_i32_6836
  v10281

def k0_mult524 (v10277 : BitVec 32) : BitVec 32 :=
  let c3_i32_6837 : BitVec 32 := 3#32
  let v10283 : BitVec 32 := Scalar.shrsi v10277 c3_i32_6837
  let c3_i32_6838 : BitVec 32 := 3#32
  let v10284 : BitVec 32 := Scalar.shli v10283 c3_i32_6838
  v10284

def k0_off524 (v10276 : BitVec 32) : Fin 2 → Nat :=
  let c3_i32_6835 : BitVec 32 := 3#32
  let v10280 : BitVec 32 := Scalar.shrsi v10276 c3_i32_6835
  let c3_i32_6836 : BitVec 32 := 3#32
  let v10281 : BitVec 32 := Scalar.shli v10280 c3_i32_6836
  let v10282 : BitVec 32 := v10281
  let v10286 : Index := Scalar.indexCast v10282
  let c0_6839 : Index := 0#32
  ![v10286.toNat, 0]

def k0_chk523 (v10276 : BitVec 32) : Prop :=
  (8 ∣ (k0_mult523 v10276).toNat) ∧
  (∀ a, (k0_off524 v10276) a + S16x128.size a ≤ S66048x128.size a)
theorem k0_mult523_dvd : ∀ (v10276 : BitVec 32) (k0_hw523 : k0_chk523 v10276), 8 ∣ (k0_mult523 v10276).toNat := fun v10276 k0_hw523 => k0_hw523.1
theorem k0_off524_inb : ∀ (v10276 : BitVec 32) (k0_hw523 : k0_chk523 v10276), ∀ a, (k0_off524 v10276) a + S16x128.size a ≤ S66048x128.size a := fun v10276 k0_hw523 => k0_hw523.2

def k0_off525 (v10277 : BitVec 32) : Fin 2 → Nat :=
  let c3_i32_6837 : BitVec 32 := 3#32
  let v10283 : BitVec 32 := Scalar.shrsi v10277 c3_i32_6837
  let c3_i32_6838 : BitVec 32 := 3#32
  let v10284 : BitVec 32 := Scalar.shli v10283 c3_i32_6838
  let v10285 : BitVec 32 := v10284
  let v10288 : Index := Scalar.indexCast v10285
  let c0_6840 : Index := 0#32
  ![v10288.toNat, 0]

def k0_chk524 (v10277 : BitVec 32) : Prop :=
  (8 ∣ (k0_mult524 v10277).toNat) ∧
  (∀ a, (k0_off525 v10277) a + S16x128.size a ≤ S66048x128.size a)
theorem k0_mult524_dvd : ∀ (v10277 : BitVec 32) (k0_hw524 : k0_chk524 v10277), 8 ∣ (k0_mult524 v10277).toNat := fun v10277 k0_hw524 => k0_hw524.1
theorem k0_off525_inb : ∀ (v10277 : BitVec 32) (k0_hw524 : k0_chk524 v10277), ∀ a, (k0_off525 v10277) a + S16x128.size a ≤ S66048x128.size a := fun v10277 k0_hw524 => k0_hw524.2

def k0_mult525 (v10315 : BitVec 32) : BitVec 32 :=
  let c3_i32_6861 : BitVec 32 := 3#32
  let v10319 : BitVec 32 := Scalar.shrsi v10315 c3_i32_6861
  let c3_i32_6862 : BitVec 32 := 3#32
  let v10320 : BitVec 32 := Scalar.shli v10319 c3_i32_6862
  v10320

def k0_mult526 (v10316 : BitVec 32) : BitVec 32 :=
  let c3_i32_6863 : BitVec 32 := 3#32
  let v10322 : BitVec 32 := Scalar.shrsi v10316 c3_i32_6863
  let c3_i32_6864 : BitVec 32 := 3#32
  let v10323 : BitVec 32 := Scalar.shli v10322 c3_i32_6864
  v10323

def k0_off526 (v10315 : BitVec 32) : Fin 2 → Nat :=
  let c3_i32_6861 : BitVec 32 := 3#32
  let v10319 : BitVec 32 := Scalar.shrsi v10315 c3_i32_6861
  let c3_i32_6862 : BitVec 32 := 3#32
  let v10320 : BitVec 32 := Scalar.shli v10319 c3_i32_6862
  let v10321 : BitVec 32 := v10320
  let v10325 : Index := Scalar.indexCast v10321
  let c0_6865 : Index := 0#32
  ![v10325.toNat, 0]

def k0_chk525 (v10315 : BitVec 32) : Prop :=
  (8 ∣ (k0_mult525 v10315).toNat) ∧
  (∀ a, (k0_off526 v10315) a + S16x128.size a ≤ S66048x128.size a)
theorem k0_mult525_dvd : ∀ (v10315 : BitVec 32) (k0_hw525 : k0_chk525 v10315), 8 ∣ (k0_mult525 v10315).toNat := fun v10315 k0_hw525 => k0_hw525.1
theorem k0_off526_inb : ∀ (v10315 : BitVec 32) (k0_hw525 : k0_chk525 v10315), ∀ a, (k0_off526 v10315) a + S16x128.size a ≤ S66048x128.size a := fun v10315 k0_hw525 => k0_hw525.2

def k0_off527 (v10316 : BitVec 32) : Fin 2 → Nat :=
  let c3_i32_6863 : BitVec 32 := 3#32
  let v10322 : BitVec 32 := Scalar.shrsi v10316 c3_i32_6863
  let c3_i32_6864 : BitVec 32 := 3#32
  let v10323 : BitVec 32 := Scalar.shli v10322 c3_i32_6864
  let v10324 : BitVec 32 := v10323
  let v10327 : Index := Scalar.indexCast v10324
  let c0_6866 : Index := 0#32
  ![v10327.toNat, 0]

def k0_chk526 (v10316 : BitVec 32) : Prop :=
  (8 ∣ (k0_mult526 v10316).toNat) ∧
  (∀ a, (k0_off527 v10316) a + S16x128.size a ≤ S66048x128.size a)
theorem k0_mult526_dvd : ∀ (v10316 : BitVec 32) (k0_hw526 : k0_chk526 v10316), 8 ∣ (k0_mult526 v10316).toNat := fun v10316 k0_hw526 => k0_hw526.1
theorem k0_off527_inb : ∀ (v10316 : BitVec 32) (k0_hw526 : k0_chk526 v10316), ∀ a, (k0_off527 v10316) a + S16x128.size a ≤ S66048x128.size a := fun v10316 k0_hw526 => k0_hw526.2

def k0_mult527 (v10354 : BitVec 32) : BitVec 32 :=
  let c3_i32_6887 : BitVec 32 := 3#32
  let v10358 : BitVec 32 := Scalar.shrsi v10354 c3_i32_6887
  let c3_i32_6888 : BitVec 32 := 3#32
  let v10359 : BitVec 32 := Scalar.shli v10358 c3_i32_6888
  v10359

def k0_mult528 (v10355 : BitVec 32) : BitVec 32 :=
  let c3_i32_6889 : BitVec 32 := 3#32
  let v10361 : BitVec 32 := Scalar.shrsi v10355 c3_i32_6889
  let c3_i32_6890 : BitVec 32 := 3#32
  let v10362 : BitVec 32 := Scalar.shli v10361 c3_i32_6890
  v10362

def k0_off528 (v10354 : BitVec 32) : Fin 2 → Nat :=
  let c3_i32_6887 : BitVec 32 := 3#32
  let v10358 : BitVec 32 := Scalar.shrsi v10354 c3_i32_6887
  let c3_i32_6888 : BitVec 32 := 3#32
  let v10359 : BitVec 32 := Scalar.shli v10358 c3_i32_6888
  let v10360 : BitVec 32 := v10359
  let v10364 : Index := Scalar.indexCast v10360
  let c0_6891 : Index := 0#32
  ![v10364.toNat, 0]

def k0_chk527 (v10354 : BitVec 32) : Prop :=
  (8 ∣ (k0_mult527 v10354).toNat) ∧
  (∀ a, (k0_off528 v10354) a + S16x128.size a ≤ S66048x128.size a)
theorem k0_mult527_dvd : ∀ (v10354 : BitVec 32) (k0_hw527 : k0_chk527 v10354), 8 ∣ (k0_mult527 v10354).toNat := fun v10354 k0_hw527 => k0_hw527.1
theorem k0_off528_inb : ∀ (v10354 : BitVec 32) (k0_hw527 : k0_chk527 v10354), ∀ a, (k0_off528 v10354) a + S16x128.size a ≤ S66048x128.size a := fun v10354 k0_hw527 => k0_hw527.2

def k0_off529 (v10355 : BitVec 32) : Fin 2 → Nat :=
  let c3_i32_6889 : BitVec 32 := 3#32
  let v10361 : BitVec 32 := Scalar.shrsi v10355 c3_i32_6889
  let c3_i32_6890 : BitVec 32 := 3#32
  let v10362 : BitVec 32 := Scalar.shli v10361 c3_i32_6890
  let v10363 : BitVec 32 := v10362
  let v10366 : Index := Scalar.indexCast v10363
  let c0_6892 : Index := 0#32
  ![v10366.toNat, 0]

def k0_chk528 (v10355 : BitVec 32) : Prop :=
  (8 ∣ (k0_mult528 v10355).toNat) ∧
  (∀ a, (k0_off529 v10355) a + S16x128.size a ≤ S66048x128.size a)
theorem k0_mult528_dvd : ∀ (v10355 : BitVec 32) (k0_hw528 : k0_chk528 v10355), 8 ∣ (k0_mult528 v10355).toNat := fun v10355 k0_hw528 => k0_hw528.1
theorem k0_off529_inb : ∀ (v10355 : BitVec 32) (k0_hw528 : k0_chk528 v10355), ∀ a, (k0_off529 v10355) a + S16x128.size a ≤ S66048x128.size a := fun v10355 k0_hw528 => k0_hw528.2

def k0_mult529 (v10393 : BitVec 32) : BitVec 32 :=
  let c3_i32_6913 : BitVec 32 := 3#32
  let v10397 : BitVec 32 := Scalar.shrsi v10393 c3_i32_6913
  let c3_i32_6914 : BitVec 32 := 3#32
  let v10398 : BitVec 32 := Scalar.shli v10397 c3_i32_6914
  v10398

def k0_mult530 (v10394 : BitVec 32) : BitVec 32 :=
  let c3_i32_6915 : BitVec 32 := 3#32
  let v10400 : BitVec 32 := Scalar.shrsi v10394 c3_i32_6915
  let c3_i32_6916 : BitVec 32 := 3#32
  let v10401 : BitVec 32 := Scalar.shli v10400 c3_i32_6916
  v10401

def k0_off530 (v10393 : BitVec 32) : Fin 2 → Nat :=
  let c3_i32_6913 : BitVec 32 := 3#32
  let v10397 : BitVec 32 := Scalar.shrsi v10393 c3_i32_6913
  let c3_i32_6914 : BitVec 32 := 3#32
  let v10398 : BitVec 32 := Scalar.shli v10397 c3_i32_6914
  let v10399 : BitVec 32 := v10398
  let v10403 : Index := Scalar.indexCast v10399
  let c0_6917 : Index := 0#32
  ![v10403.toNat, 0]

def k0_chk529 (v10393 : BitVec 32) : Prop :=
  (8 ∣ (k0_mult529 v10393).toNat) ∧
  (∀ a, (k0_off530 v10393) a + S16x128.size a ≤ S66048x128.size a)
theorem k0_mult529_dvd : ∀ (v10393 : BitVec 32) (k0_hw529 : k0_chk529 v10393), 8 ∣ (k0_mult529 v10393).toNat := fun v10393 k0_hw529 => k0_hw529.1
theorem k0_off530_inb : ∀ (v10393 : BitVec 32) (k0_hw529 : k0_chk529 v10393), ∀ a, (k0_off530 v10393) a + S16x128.size a ≤ S66048x128.size a := fun v10393 k0_hw529 => k0_hw529.2

def k0_off531 (v10394 : BitVec 32) : Fin 2 → Nat :=
  let c3_i32_6915 : BitVec 32 := 3#32
  let v10400 : BitVec 32 := Scalar.shrsi v10394 c3_i32_6915
  let c3_i32_6916 : BitVec 32 := 3#32
  let v10401 : BitVec 32 := Scalar.shli v10400 c3_i32_6916
  let v10402 : BitVec 32 := v10401
  let v10405 : Index := Scalar.indexCast v10402
  let c0_6918 : Index := 0#32
  ![v10405.toNat, 0]

def k0_chk530 (v10394 : BitVec 32) : Prop :=
  (8 ∣ (k0_mult530 v10394).toNat) ∧
  (∀ a, (k0_off531 v10394) a + S16x128.size a ≤ S66048x128.size a)
theorem k0_mult530_dvd : ∀ (v10394 : BitVec 32) (k0_hw530 : k0_chk530 v10394), 8 ∣ (k0_mult530 v10394).toNat := fun v10394 k0_hw530 => k0_hw530.1
theorem k0_off531_inb : ∀ (v10394 : BitVec 32) (k0_hw530 : k0_chk530 v10394), ∀ a, (k0_off531 v10394) a + S16x128.size a ≤ S66048x128.size a := fun v10394 k0_hw530 => k0_hw530.2

def k0_mult531 (v10432 : BitVec 32) : BitVec 32 :=
  let c3_i32_6939 : BitVec 32 := 3#32
  let v10436 : BitVec 32 := Scalar.shrsi v10432 c3_i32_6939
  let c3_i32_6940 : BitVec 32 := 3#32
  let v10437 : BitVec 32 := Scalar.shli v10436 c3_i32_6940
  v10437

def k0_mult532 (v10433 : BitVec 32) : BitVec 32 :=
  let c3_i32_6941 : BitVec 32 := 3#32
  let v10439 : BitVec 32 := Scalar.shrsi v10433 c3_i32_6941
  let c3_i32_6942 : BitVec 32 := 3#32
  let v10440 : BitVec 32 := Scalar.shli v10439 c3_i32_6942
  v10440

def k0_off532 (v10432 : BitVec 32) : Fin 2 → Nat :=
  let c3_i32_6939 : BitVec 32 := 3#32
  let v10436 : BitVec 32 := Scalar.shrsi v10432 c3_i32_6939
  let c3_i32_6940 : BitVec 32 := 3#32
  let v10437 : BitVec 32 := Scalar.shli v10436 c3_i32_6940
  let v10438 : BitVec 32 := v10437
  let v10442 : Index := Scalar.indexCast v10438
  let c0_6943 : Index := 0#32
  ![v10442.toNat, 0]

def k0_chk531 (v10432 : BitVec 32) : Prop :=
  (8 ∣ (k0_mult531 v10432).toNat) ∧
  (∀ a, (k0_off532 v10432) a + S16x128.size a ≤ S66048x128.size a)
theorem k0_mult531_dvd : ∀ (v10432 : BitVec 32) (k0_hw531 : k0_chk531 v10432), 8 ∣ (k0_mult531 v10432).toNat := fun v10432 k0_hw531 => k0_hw531.1
theorem k0_off532_inb : ∀ (v10432 : BitVec 32) (k0_hw531 : k0_chk531 v10432), ∀ a, (k0_off532 v10432) a + S16x128.size a ≤ S66048x128.size a := fun v10432 k0_hw531 => k0_hw531.2

def k0_off533 (v10433 : BitVec 32) : Fin 2 → Nat :=
  let c3_i32_6941 : BitVec 32 := 3#32
  let v10439 : BitVec 32 := Scalar.shrsi v10433 c3_i32_6941
  let c3_i32_6942 : BitVec 32 := 3#32
  let v10440 : BitVec 32 := Scalar.shli v10439 c3_i32_6942
  let v10441 : BitVec 32 := v10440
  let v10444 : Index := Scalar.indexCast v10441
  let c0_6944 : Index := 0#32
  ![v10444.toNat, 0]

def k0_chk532 (v10433 : BitVec 32) : Prop :=
  (8 ∣ (k0_mult532 v10433).toNat) ∧
  (∀ a, (k0_off533 v10433) a + S16x128.size a ≤ S66048x128.size a)
theorem k0_mult532_dvd : ∀ (v10433 : BitVec 32) (k0_hw532 : k0_chk532 v10433), 8 ∣ (k0_mult532 v10433).toNat := fun v10433 k0_hw532 => k0_hw532.1
theorem k0_off533_inb : ∀ (v10433 : BitVec 32) (k0_hw532 : k0_chk532 v10433), ∀ a, (k0_off533 v10433) a + S16x128.size a ≤ S66048x128.size a := fun v10433 k0_hw532 => k0_hw532.2

def k0_mult533 (v10471 : BitVec 32) : BitVec 32 :=
  let c3_i32_6965 : BitVec 32 := 3#32
  let v10475 : BitVec 32 := Scalar.shrsi v10471 c3_i32_6965
  let c3_i32_6966 : BitVec 32 := 3#32
  let v10476 : BitVec 32 := Scalar.shli v10475 c3_i32_6966
  v10476

def k0_mult534 (v10472 : BitVec 32) : BitVec 32 :=
  let c3_i32_6967 : BitVec 32 := 3#32
  let v10478 : BitVec 32 := Scalar.shrsi v10472 c3_i32_6967
  let c3_i32_6968 : BitVec 32 := 3#32
  let v10479 : BitVec 32 := Scalar.shli v10478 c3_i32_6968
  v10479

def k0_off534 (v10471 : BitVec 32) : Fin 2 → Nat :=
  let c3_i32_6965 : BitVec 32 := 3#32
  let v10475 : BitVec 32 := Scalar.shrsi v10471 c3_i32_6965
  let c3_i32_6966 : BitVec 32 := 3#32
  let v10476 : BitVec 32 := Scalar.shli v10475 c3_i32_6966
  let v10477 : BitVec 32 := v10476
  let v10481 : Index := Scalar.indexCast v10477
  let c0_6969 : Index := 0#32
  ![v10481.toNat, 0]

def k0_chk533 (v10471 : BitVec 32) : Prop :=
  (8 ∣ (k0_mult533 v10471).toNat) ∧
  (∀ a, (k0_off534 v10471) a + S16x128.size a ≤ S66048x128.size a)
theorem k0_mult533_dvd : ∀ (v10471 : BitVec 32) (k0_hw533 : k0_chk533 v10471), 8 ∣ (k0_mult533 v10471).toNat := fun v10471 k0_hw533 => k0_hw533.1
theorem k0_off534_inb : ∀ (v10471 : BitVec 32) (k0_hw533 : k0_chk533 v10471), ∀ a, (k0_off534 v10471) a + S16x128.size a ≤ S66048x128.size a := fun v10471 k0_hw533 => k0_hw533.2

def k0_off535 (v10472 : BitVec 32) : Fin 2 → Nat :=
  let c3_i32_6967 : BitVec 32 := 3#32
  let v10478 : BitVec 32 := Scalar.shrsi v10472 c3_i32_6967
  let c3_i32_6968 : BitVec 32 := 3#32
  let v10479 : BitVec 32 := Scalar.shli v10478 c3_i32_6968
  let v10480 : BitVec 32 := v10479
  let v10483 : Index := Scalar.indexCast v10480
  let c0_6970 : Index := 0#32
  ![v10483.toNat, 0]

def k0_chk534 (v10472 : BitVec 32) : Prop :=
  (8 ∣ (k0_mult534 v10472).toNat) ∧
  (∀ a, (k0_off535 v10472) a + S16x128.size a ≤ S66048x128.size a)
theorem k0_mult534_dvd : ∀ (v10472 : BitVec 32) (k0_hw534 : k0_chk534 v10472), 8 ∣ (k0_mult534 v10472).toNat := fun v10472 k0_hw534 => k0_hw534.1
theorem k0_off535_inb : ∀ (v10472 : BitVec 32) (k0_hw534 : k0_chk534 v10472), ∀ a, (k0_off535 v10472) a + S16x128.size a ≤ S66048x128.size a := fun v10472 k0_hw534 => k0_hw534.2

def k0_mult535 (v10510 : BitVec 32) : BitVec 32 :=
  let c3_i32_6991 : BitVec 32 := 3#32
  let v10514 : BitVec 32 := Scalar.shrsi v10510 c3_i32_6991
  let c3_i32_6992 : BitVec 32 := 3#32
  let v10515 : BitVec 32 := Scalar.shli v10514 c3_i32_6992
  v10515

def k0_mult536 (v10511 : BitVec 32) : BitVec 32 :=
  let c3_i32_6993 : BitVec 32 := 3#32
  let v10517 : BitVec 32 := Scalar.shrsi v10511 c3_i32_6993
  let c3_i32_6994 : BitVec 32 := 3#32
  let v10518 : BitVec 32 := Scalar.shli v10517 c3_i32_6994
  v10518

def k0_off536 (v10510 : BitVec 32) : Fin 2 → Nat :=
  let c3_i32_6991 : BitVec 32 := 3#32
  let v10514 : BitVec 32 := Scalar.shrsi v10510 c3_i32_6991
  let c3_i32_6992 : BitVec 32 := 3#32
  let v10515 : BitVec 32 := Scalar.shli v10514 c3_i32_6992
  let v10516 : BitVec 32 := v10515
  let v10520 : Index := Scalar.indexCast v10516
  let c0_6995 : Index := 0#32
  ![v10520.toNat, 0]

def k0_chk535 (v10510 : BitVec 32) : Prop :=
  (8 ∣ (k0_mult535 v10510).toNat) ∧
  (∀ a, (k0_off536 v10510) a + S16x128.size a ≤ S66048x128.size a)
theorem k0_mult535_dvd : ∀ (v10510 : BitVec 32) (k0_hw535 : k0_chk535 v10510), 8 ∣ (k0_mult535 v10510).toNat := fun v10510 k0_hw535 => k0_hw535.1
theorem k0_off536_inb : ∀ (v10510 : BitVec 32) (k0_hw535 : k0_chk535 v10510), ∀ a, (k0_off536 v10510) a + S16x128.size a ≤ S66048x128.size a := fun v10510 k0_hw535 => k0_hw535.2

def k0_off537 (v10511 : BitVec 32) : Fin 2 → Nat :=
  let c3_i32_6993 : BitVec 32 := 3#32
  let v10517 : BitVec 32 := Scalar.shrsi v10511 c3_i32_6993
  let c3_i32_6994 : BitVec 32 := 3#32
  let v10518 : BitVec 32 := Scalar.shli v10517 c3_i32_6994
  let v10519 : BitVec 32 := v10518
  let v10522 : Index := Scalar.indexCast v10519
  let c0_6996 : Index := 0#32
  ![v10522.toNat, 0]

def k0_chk536 (v10511 : BitVec 32) : Prop :=
  (8 ∣ (k0_mult536 v10511).toNat) ∧
  (∀ a, (k0_off537 v10511) a + S16x128.size a ≤ S66048x128.size a)
theorem k0_mult536_dvd : ∀ (v10511 : BitVec 32) (k0_hw536 : k0_chk536 v10511), 8 ∣ (k0_mult536 v10511).toNat := fun v10511 k0_hw536 => k0_hw536.1
theorem k0_off537_inb : ∀ (v10511 : BitVec 32) (k0_hw536 : k0_chk536 v10511), ∀ a, (k0_off537 v10511) a + S16x128.size a ≤ S66048x128.size a := fun v10511 k0_hw536 => k0_hw536.2

def k0_mult537 (v10549 : BitVec 32) : BitVec 32 :=
  let c3_i32_7017 : BitVec 32 := 3#32
  let v10553 : BitVec 32 := Scalar.shrsi v10549 c3_i32_7017
  let c3_i32_7018 : BitVec 32 := 3#32
  let v10554 : BitVec 32 := Scalar.shli v10553 c3_i32_7018
  v10554

def k0_mult538 (v10550 : BitVec 32) : BitVec 32 :=
  let c3_i32_7019 : BitVec 32 := 3#32
  let v10556 : BitVec 32 := Scalar.shrsi v10550 c3_i32_7019
  let c3_i32_7020 : BitVec 32 := 3#32
  let v10557 : BitVec 32 := Scalar.shli v10556 c3_i32_7020
  v10557

def k0_off538 (v10549 : BitVec 32) : Fin 2 → Nat :=
  let c3_i32_7017 : BitVec 32 := 3#32
  let v10553 : BitVec 32 := Scalar.shrsi v10549 c3_i32_7017
  let c3_i32_7018 : BitVec 32 := 3#32
  let v10554 : BitVec 32 := Scalar.shli v10553 c3_i32_7018
  let v10555 : BitVec 32 := v10554
  let v10559 : Index := Scalar.indexCast v10555
  let c0_7021 : Index := 0#32
  ![v10559.toNat, 0]

def k0_chk537 (v10549 : BitVec 32) : Prop :=
  (8 ∣ (k0_mult537 v10549).toNat) ∧
  (∀ a, (k0_off538 v10549) a + S16x128.size a ≤ S66048x128.size a)
theorem k0_mult537_dvd : ∀ (v10549 : BitVec 32) (k0_hw537 : k0_chk537 v10549), 8 ∣ (k0_mult537 v10549).toNat := fun v10549 k0_hw537 => k0_hw537.1
theorem k0_off538_inb : ∀ (v10549 : BitVec 32) (k0_hw537 : k0_chk537 v10549), ∀ a, (k0_off538 v10549) a + S16x128.size a ≤ S66048x128.size a := fun v10549 k0_hw537 => k0_hw537.2

def k0_off539 (v10550 : BitVec 32) : Fin 2 → Nat :=
  let c3_i32_7019 : BitVec 32 := 3#32
  let v10556 : BitVec 32 := Scalar.shrsi v10550 c3_i32_7019
  let c3_i32_7020 : BitVec 32 := 3#32
  let v10557 : BitVec 32 := Scalar.shli v10556 c3_i32_7020
  let v10558 : BitVec 32 := v10557
  let v10561 : Index := Scalar.indexCast v10558
  let c0_7022 : Index := 0#32
  ![v10561.toNat, 0]

def k0_chk538 (v10550 : BitVec 32) : Prop :=
  (8 ∣ (k0_mult538 v10550).toNat) ∧
  (∀ a, (k0_off539 v10550) a + S16x128.size a ≤ S66048x128.size a)
theorem k0_mult538_dvd : ∀ (v10550 : BitVec 32) (k0_hw538 : k0_chk538 v10550), 8 ∣ (k0_mult538 v10550).toNat := fun v10550 k0_hw538 => k0_hw538.1
theorem k0_off539_inb : ∀ (v10550 : BitVec 32) (k0_hw538 : k0_chk538 v10550), ∀ a, (k0_off539 v10550) a + S16x128.size a ≤ S66048x128.size a := fun v10550 k0_hw538 => k0_hw538.2

def k0_mult539 (v10588 : BitVec 32) : BitVec 32 :=
  let c3_i32_7043 : BitVec 32 := 3#32
  let v10592 : BitVec 32 := Scalar.shrsi v10588 c3_i32_7043
  let c3_i32_7044 : BitVec 32 := 3#32
  let v10593 : BitVec 32 := Scalar.shli v10592 c3_i32_7044
  v10593

def k0_mult540 (v10589 : BitVec 32) : BitVec 32 :=
  let c3_i32_7045 : BitVec 32 := 3#32
  let v10595 : BitVec 32 := Scalar.shrsi v10589 c3_i32_7045
  let c3_i32_7046 : BitVec 32 := 3#32
  let v10596 : BitVec 32 := Scalar.shli v10595 c3_i32_7046
  v10596

def k0_off540 (v10588 : BitVec 32) : Fin 2 → Nat :=
  let c3_i32_7043 : BitVec 32 := 3#32
  let v10592 : BitVec 32 := Scalar.shrsi v10588 c3_i32_7043
  let c3_i32_7044 : BitVec 32 := 3#32
  let v10593 : BitVec 32 := Scalar.shli v10592 c3_i32_7044
  let v10594 : BitVec 32 := v10593
  let v10598 : Index := Scalar.indexCast v10594
  let c0_7047 : Index := 0#32
  ![v10598.toNat, 0]

def k0_chk539 (v10588 : BitVec 32) : Prop :=
  (8 ∣ (k0_mult539 v10588).toNat) ∧
  (∀ a, (k0_off540 v10588) a + S16x128.size a ≤ S66048x128.size a)
theorem k0_mult539_dvd : ∀ (v10588 : BitVec 32) (k0_hw539 : k0_chk539 v10588), 8 ∣ (k0_mult539 v10588).toNat := fun v10588 k0_hw539 => k0_hw539.1
theorem k0_off540_inb : ∀ (v10588 : BitVec 32) (k0_hw539 : k0_chk539 v10588), ∀ a, (k0_off540 v10588) a + S16x128.size a ≤ S66048x128.size a := fun v10588 k0_hw539 => k0_hw539.2

def k0_off541 (v10589 : BitVec 32) : Fin 2 → Nat :=
  let c3_i32_7045 : BitVec 32 := 3#32
  let v10595 : BitVec 32 := Scalar.shrsi v10589 c3_i32_7045
  let c3_i32_7046 : BitVec 32 := 3#32
  let v10596 : BitVec 32 := Scalar.shli v10595 c3_i32_7046
  let v10597 : BitVec 32 := v10596
  let v10600 : Index := Scalar.indexCast v10597
  let c0_7048 : Index := 0#32
  ![v10600.toNat, 0]

def k0_chk540 (v10589 : BitVec 32) : Prop :=
  (8 ∣ (k0_mult540 v10589).toNat) ∧
  (∀ a, (k0_off541 v10589) a + S16x128.size a ≤ S66048x128.size a)
theorem k0_mult540_dvd : ∀ (v10589 : BitVec 32) (k0_hw540 : k0_chk540 v10589), 8 ∣ (k0_mult540 v10589).toNat := fun v10589 k0_hw540 => k0_hw540.1
theorem k0_off541_inb : ∀ (v10589 : BitVec 32) (k0_hw540 : k0_chk540 v10589), ∀ a, (k0_off541 v10589) a + S16x128.size a ≤ S66048x128.size a := fun v10589 k0_hw540 => k0_hw540.2

def k0_mult541 (v10627 : BitVec 32) : BitVec 32 :=
  let c3_i32_7069 : BitVec 32 := 3#32
  let v10631 : BitVec 32 := Scalar.shrsi v10627 c3_i32_7069
  let c3_i32_7070 : BitVec 32 := 3#32
  let v10632 : BitVec 32 := Scalar.shli v10631 c3_i32_7070
  v10632

def k0_mult542 (v10628 : BitVec 32) : BitVec 32 :=
  let c3_i32_7071 : BitVec 32 := 3#32
  let v10634 : BitVec 32 := Scalar.shrsi v10628 c3_i32_7071
  let c3_i32_7072 : BitVec 32 := 3#32
  let v10635 : BitVec 32 := Scalar.shli v10634 c3_i32_7072
  v10635

def k0_off542 (v10627 : BitVec 32) : Fin 2 → Nat :=
  let c3_i32_7069 : BitVec 32 := 3#32
  let v10631 : BitVec 32 := Scalar.shrsi v10627 c3_i32_7069
  let c3_i32_7070 : BitVec 32 := 3#32
  let v10632 : BitVec 32 := Scalar.shli v10631 c3_i32_7070
  let v10633 : BitVec 32 := v10632
  let v10637 : Index := Scalar.indexCast v10633
  let c0_7073 : Index := 0#32
  ![v10637.toNat, 0]

def k0_chk541 (v10627 : BitVec 32) : Prop :=
  (8 ∣ (k0_mult541 v10627).toNat) ∧
  (∀ a, (k0_off542 v10627) a + S16x128.size a ≤ S66048x128.size a)
theorem k0_mult541_dvd : ∀ (v10627 : BitVec 32) (k0_hw541 : k0_chk541 v10627), 8 ∣ (k0_mult541 v10627).toNat := fun v10627 k0_hw541 => k0_hw541.1
theorem k0_off542_inb : ∀ (v10627 : BitVec 32) (k0_hw541 : k0_chk541 v10627), ∀ a, (k0_off542 v10627) a + S16x128.size a ≤ S66048x128.size a := fun v10627 k0_hw541 => k0_hw541.2

def k0_off543 (v10628 : BitVec 32) : Fin 2 → Nat :=
  let c3_i32_7071 : BitVec 32 := 3#32
  let v10634 : BitVec 32 := Scalar.shrsi v10628 c3_i32_7071
  let c3_i32_7072 : BitVec 32 := 3#32
  let v10635 : BitVec 32 := Scalar.shli v10634 c3_i32_7072
  let v10636 : BitVec 32 := v10635
  let v10639 : Index := Scalar.indexCast v10636
  let c0_7074 : Index := 0#32
  ![v10639.toNat, 0]

def k0_chk542 (v10628 : BitVec 32) : Prop :=
  (8 ∣ (k0_mult542 v10628).toNat) ∧
  (∀ a, (k0_off543 v10628) a + S16x128.size a ≤ S66048x128.size a)
theorem k0_mult542_dvd : ∀ (v10628 : BitVec 32) (k0_hw542 : k0_chk542 v10628), 8 ∣ (k0_mult542 v10628).toNat := fun v10628 k0_hw542 => k0_hw542.1
theorem k0_off543_inb : ∀ (v10628 : BitVec 32) (k0_hw542 : k0_chk542 v10628), ∀ a, (k0_off543 v10628) a + S16x128.size a ≤ S66048x128.size a := fun v10628 k0_hw542 => k0_hw542.2

def k0_mult543 (v10666 : BitVec 32) : BitVec 32 :=
  let c3_i32_7095 : BitVec 32 := 3#32
  let v10670 : BitVec 32 := Scalar.shrsi v10666 c3_i32_7095
  let c3_i32_7096 : BitVec 32 := 3#32
  let v10671 : BitVec 32 := Scalar.shli v10670 c3_i32_7096
  v10671

def k0_mult544 (v10667 : BitVec 32) : BitVec 32 :=
  let c3_i32_7097 : BitVec 32 := 3#32
  let v10673 : BitVec 32 := Scalar.shrsi v10667 c3_i32_7097
  let c3_i32_7098 : BitVec 32 := 3#32
  let v10674 : BitVec 32 := Scalar.shli v10673 c3_i32_7098
  v10674

def k0_off544 (v10666 : BitVec 32) : Fin 2 → Nat :=
  let c3_i32_7095 : BitVec 32 := 3#32
  let v10670 : BitVec 32 := Scalar.shrsi v10666 c3_i32_7095
  let c3_i32_7096 : BitVec 32 := 3#32
  let v10671 : BitVec 32 := Scalar.shli v10670 c3_i32_7096
  let v10672 : BitVec 32 := v10671
  let v10676 : Index := Scalar.indexCast v10672
  let c0_7099 : Index := 0#32
  ![v10676.toNat, 0]

def k0_chk543 (v10666 : BitVec 32) : Prop :=
  (8 ∣ (k0_mult543 v10666).toNat) ∧
  (∀ a, (k0_off544 v10666) a + S16x128.size a ≤ S66048x128.size a)
theorem k0_mult543_dvd : ∀ (v10666 : BitVec 32) (k0_hw543 : k0_chk543 v10666), 8 ∣ (k0_mult543 v10666).toNat := fun v10666 k0_hw543 => k0_hw543.1
theorem k0_off544_inb : ∀ (v10666 : BitVec 32) (k0_hw543 : k0_chk543 v10666), ∀ a, (k0_off544 v10666) a + S16x128.size a ≤ S66048x128.size a := fun v10666 k0_hw543 => k0_hw543.2

def k0_off545 (v10667 : BitVec 32) : Fin 2 → Nat :=
  let c3_i32_7097 : BitVec 32 := 3#32
  let v10673 : BitVec 32 := Scalar.shrsi v10667 c3_i32_7097
  let c3_i32_7098 : BitVec 32 := 3#32
  let v10674 : BitVec 32 := Scalar.shli v10673 c3_i32_7098
  let v10675 : BitVec 32 := v10674
  let v10678 : Index := Scalar.indexCast v10675
  let c0_7100 : Index := 0#32
  ![v10678.toNat, 0]

def k0_chk544 (v10667 : BitVec 32) : Prop :=
  (8 ∣ (k0_mult544 v10667).toNat) ∧
  (∀ a, (k0_off545 v10667) a + S16x128.size a ≤ S66048x128.size a)
theorem k0_mult544_dvd : ∀ (v10667 : BitVec 32) (k0_hw544 : k0_chk544 v10667), 8 ∣ (k0_mult544 v10667).toNat := fun v10667 k0_hw544 => k0_hw544.1
theorem k0_off545_inb : ∀ (v10667 : BitVec 32) (k0_hw544 : k0_chk544 v10667), ∀ a, (k0_off545 v10667) a + S16x128.size a ≤ S66048x128.size a := fun v10667 k0_hw544 => k0_hw544.2

def k0_mult545 (v10705 : BitVec 32) : BitVec 32 :=
  let c3_i32_7121 : BitVec 32 := 3#32
  let v10709 : BitVec 32 := Scalar.shrsi v10705 c3_i32_7121
  let c3_i32_7122 : BitVec 32 := 3#32
  let v10710 : BitVec 32 := Scalar.shli v10709 c3_i32_7122
  v10710

def k0_mult546 (v10706 : BitVec 32) : BitVec 32 :=
  let c3_i32_7123 : BitVec 32 := 3#32
  let v10712 : BitVec 32 := Scalar.shrsi v10706 c3_i32_7123
  let c3_i32_7124 : BitVec 32 := 3#32
  let v10713 : BitVec 32 := Scalar.shli v10712 c3_i32_7124
  v10713

def k0_off546 (v10705 : BitVec 32) : Fin 2 → Nat :=
  let c3_i32_7121 : BitVec 32 := 3#32
  let v10709 : BitVec 32 := Scalar.shrsi v10705 c3_i32_7121
  let c3_i32_7122 : BitVec 32 := 3#32
  let v10710 : BitVec 32 := Scalar.shli v10709 c3_i32_7122
  let v10711 : BitVec 32 := v10710
  let v10715 : Index := Scalar.indexCast v10711
  let c0_7125 : Index := 0#32
  ![v10715.toNat, 0]

def k0_chk545 (v10705 : BitVec 32) : Prop :=
  (8 ∣ (k0_mult545 v10705).toNat) ∧
  (∀ a, (k0_off546 v10705) a + S16x128.size a ≤ S66048x128.size a)
theorem k0_mult545_dvd : ∀ (v10705 : BitVec 32) (k0_hw545 : k0_chk545 v10705), 8 ∣ (k0_mult545 v10705).toNat := fun v10705 k0_hw545 => k0_hw545.1
theorem k0_off546_inb : ∀ (v10705 : BitVec 32) (k0_hw545 : k0_chk545 v10705), ∀ a, (k0_off546 v10705) a + S16x128.size a ≤ S66048x128.size a := fun v10705 k0_hw545 => k0_hw545.2

def k0_off547 (v10706 : BitVec 32) : Fin 2 → Nat :=
  let c3_i32_7123 : BitVec 32 := 3#32
  let v10712 : BitVec 32 := Scalar.shrsi v10706 c3_i32_7123
  let c3_i32_7124 : BitVec 32 := 3#32
  let v10713 : BitVec 32 := Scalar.shli v10712 c3_i32_7124
  let v10714 : BitVec 32 := v10713
  let v10717 : Index := Scalar.indexCast v10714
  let c0_7126 : Index := 0#32
  ![v10717.toNat, 0]

def k0_chk546 (v10706 : BitVec 32) : Prop :=
  (8 ∣ (k0_mult546 v10706).toNat) ∧
  (∀ a, (k0_off547 v10706) a + S16x128.size a ≤ S66048x128.size a)
theorem k0_mult546_dvd : ∀ (v10706 : BitVec 32) (k0_hw546 : k0_chk546 v10706), 8 ∣ (k0_mult546 v10706).toNat := fun v10706 k0_hw546 => k0_hw546.1
theorem k0_off547_inb : ∀ (v10706 : BitVec 32) (k0_hw546 : k0_chk546 v10706), ∀ a, (k0_off547 v10706) a + S16x128.size a ≤ S66048x128.size a := fun v10706 k0_hw546 => k0_hw546.2

def k0_mult547 (v10744 : BitVec 32) : BitVec 32 :=
  let c3_i32_7147 : BitVec 32 := 3#32
  let v10748 : BitVec 32 := Scalar.shrsi v10744 c3_i32_7147
  let c3_i32_7148 : BitVec 32 := 3#32
  let v10749 : BitVec 32 := Scalar.shli v10748 c3_i32_7148
  v10749

def k0_mult548 (v10745 : BitVec 32) : BitVec 32 :=
  let c3_i32_7149 : BitVec 32 := 3#32
  let v10751 : BitVec 32 := Scalar.shrsi v10745 c3_i32_7149
  let c3_i32_7150 : BitVec 32 := 3#32
  let v10752 : BitVec 32 := Scalar.shli v10751 c3_i32_7150
  v10752

def k0_off548 (v10744 : BitVec 32) : Fin 2 → Nat :=
  let c3_i32_7147 : BitVec 32 := 3#32
  let v10748 : BitVec 32 := Scalar.shrsi v10744 c3_i32_7147
  let c3_i32_7148 : BitVec 32 := 3#32
  let v10749 : BitVec 32 := Scalar.shli v10748 c3_i32_7148
  let v10750 : BitVec 32 := v10749
  let v10754 : Index := Scalar.indexCast v10750
  let c0_7151 : Index := 0#32
  ![v10754.toNat, 0]

def k0_chk547 (v10744 : BitVec 32) : Prop :=
  (8 ∣ (k0_mult547 v10744).toNat) ∧
  (∀ a, (k0_off548 v10744) a + S16x128.size a ≤ S66048x128.size a)
theorem k0_mult547_dvd : ∀ (v10744 : BitVec 32) (k0_hw547 : k0_chk547 v10744), 8 ∣ (k0_mult547 v10744).toNat := fun v10744 k0_hw547 => k0_hw547.1
theorem k0_off548_inb : ∀ (v10744 : BitVec 32) (k0_hw547 : k0_chk547 v10744), ∀ a, (k0_off548 v10744) a + S16x128.size a ≤ S66048x128.size a := fun v10744 k0_hw547 => k0_hw547.2

def k0_off549 (v10745 : BitVec 32) : Fin 2 → Nat :=
  let c3_i32_7149 : BitVec 32 := 3#32
  let v10751 : BitVec 32 := Scalar.shrsi v10745 c3_i32_7149
  let c3_i32_7150 : BitVec 32 := 3#32
  let v10752 : BitVec 32 := Scalar.shli v10751 c3_i32_7150
  let v10753 : BitVec 32 := v10752
  let v10756 : Index := Scalar.indexCast v10753
  let c0_7152 : Index := 0#32
  ![v10756.toNat, 0]

def k0_chk548 (v10745 : BitVec 32) : Prop :=
  (8 ∣ (k0_mult548 v10745).toNat) ∧
  (∀ a, (k0_off549 v10745) a + S16x128.size a ≤ S66048x128.size a)
theorem k0_mult548_dvd : ∀ (v10745 : BitVec 32) (k0_hw548 : k0_chk548 v10745), 8 ∣ (k0_mult548 v10745).toNat := fun v10745 k0_hw548 => k0_hw548.1
theorem k0_off549_inb : ∀ (v10745 : BitVec 32) (k0_hw548 : k0_chk548 v10745), ∀ a, (k0_off549 v10745) a + S16x128.size a ≤ S66048x128.size a := fun v10745 k0_hw548 => k0_hw548.2

def k0_mult549 (v10783 : BitVec 32) : BitVec 32 :=
  let c3_i32_7173 : BitVec 32 := 3#32
  let v10787 : BitVec 32 := Scalar.shrsi v10783 c3_i32_7173
  let c3_i32_7174 : BitVec 32 := 3#32
  let v10788 : BitVec 32 := Scalar.shli v10787 c3_i32_7174
  v10788

def k0_mult550 (v10784 : BitVec 32) : BitVec 32 :=
  let c3_i32_7175 : BitVec 32 := 3#32
  let v10790 : BitVec 32 := Scalar.shrsi v10784 c3_i32_7175
  let c3_i32_7176 : BitVec 32 := 3#32
  let v10791 : BitVec 32 := Scalar.shli v10790 c3_i32_7176
  v10791

def k0_off550 (v10783 : BitVec 32) : Fin 2 → Nat :=
  let c3_i32_7173 : BitVec 32 := 3#32
  let v10787 : BitVec 32 := Scalar.shrsi v10783 c3_i32_7173
  let c3_i32_7174 : BitVec 32 := 3#32
  let v10788 : BitVec 32 := Scalar.shli v10787 c3_i32_7174
  let v10789 : BitVec 32 := v10788
  let v10793 : Index := Scalar.indexCast v10789
  let c0_7177 : Index := 0#32
  ![v10793.toNat, 0]

def k0_chk549 (v10783 : BitVec 32) : Prop :=
  (8 ∣ (k0_mult549 v10783).toNat) ∧
  (∀ a, (k0_off550 v10783) a + S16x128.size a ≤ S66048x128.size a)
theorem k0_mult549_dvd : ∀ (v10783 : BitVec 32) (k0_hw549 : k0_chk549 v10783), 8 ∣ (k0_mult549 v10783).toNat := fun v10783 k0_hw549 => k0_hw549.1
theorem k0_off550_inb : ∀ (v10783 : BitVec 32) (k0_hw549 : k0_chk549 v10783), ∀ a, (k0_off550 v10783) a + S16x128.size a ≤ S66048x128.size a := fun v10783 k0_hw549 => k0_hw549.2

def k0_off551 (v10784 : BitVec 32) : Fin 2 → Nat :=
  let c3_i32_7175 : BitVec 32 := 3#32
  let v10790 : BitVec 32 := Scalar.shrsi v10784 c3_i32_7175
  let c3_i32_7176 : BitVec 32 := 3#32
  let v10791 : BitVec 32 := Scalar.shli v10790 c3_i32_7176
  let v10792 : BitVec 32 := v10791
  let v10795 : Index := Scalar.indexCast v10792
  let c0_7178 : Index := 0#32
  ![v10795.toNat, 0]

def k0_chk550 (v10784 : BitVec 32) : Prop :=
  (8 ∣ (k0_mult550 v10784).toNat) ∧
  (∀ a, (k0_off551 v10784) a + S16x128.size a ≤ S66048x128.size a)
theorem k0_mult550_dvd : ∀ (v10784 : BitVec 32) (k0_hw550 : k0_chk550 v10784), 8 ∣ (k0_mult550 v10784).toNat := fun v10784 k0_hw550 => k0_hw550.1
theorem k0_off551_inb : ∀ (v10784 : BitVec 32) (k0_hw550 : k0_chk550 v10784), ∀ a, (k0_off551 v10784) a + S16x128.size a ≤ S66048x128.size a := fun v10784 k0_hw550 => k0_hw550.2

def k0_mult551 (v10829 : BitVec 32) : BitVec 32 :=
  let c3_i32_7205 : BitVec 32 := 3#32
  let v10833 : BitVec 32 := Scalar.shrsi v10829 c3_i32_7205
  let c3_i32_7206 : BitVec 32 := 3#32
  let v10834 : BitVec 32 := Scalar.shli v10833 c3_i32_7206
  v10834

def k0_mult552 (v10830 : BitVec 32) : BitVec 32 :=
  let c3_i32_7207 : BitVec 32 := 3#32
  let v10836 : BitVec 32 := Scalar.shrsi v10830 c3_i32_7207
  let c3_i32_7208 : BitVec 32 := 3#32
  let v10837 : BitVec 32 := Scalar.shli v10836 c3_i32_7208
  v10837

def k0_off552 (v10829 : BitVec 32) : Fin 2 → Nat :=
  let c3_i32_7205 : BitVec 32 := 3#32
  let v10833 : BitVec 32 := Scalar.shrsi v10829 c3_i32_7205
  let c3_i32_7206 : BitVec 32 := 3#32
  let v10834 : BitVec 32 := Scalar.shli v10833 c3_i32_7206
  let v10835 : BitVec 32 := v10834
  let v10839 : Index := Scalar.indexCast v10835
  let c0_7209 : Index := 0#32
  ![v10839.toNat, 0]

def k0_chk551 (v10829 : BitVec 32) : Prop :=
  (8 ∣ (k0_mult551 v10829).toNat) ∧
  (∀ a, (k0_off552 v10829) a + S16x128.size a ≤ S66048x128.size a)
theorem k0_mult551_dvd : ∀ (v10829 : BitVec 32) (k0_hw551 : k0_chk551 v10829), 8 ∣ (k0_mult551 v10829).toNat := fun v10829 k0_hw551 => k0_hw551.1
theorem k0_off552_inb : ∀ (v10829 : BitVec 32) (k0_hw551 : k0_chk551 v10829), ∀ a, (k0_off552 v10829) a + S16x128.size a ≤ S66048x128.size a := fun v10829 k0_hw551 => k0_hw551.2

def k0_off553 (v10830 : BitVec 32) : Fin 2 → Nat :=
  let c3_i32_7207 : BitVec 32 := 3#32
  let v10836 : BitVec 32 := Scalar.shrsi v10830 c3_i32_7207
  let c3_i32_7208 : BitVec 32 := 3#32
  let v10837 : BitVec 32 := Scalar.shli v10836 c3_i32_7208
  let v10838 : BitVec 32 := v10837
  let v10841 : Index := Scalar.indexCast v10838
  let c0_7210 : Index := 0#32
  ![v10841.toNat, 0]

def k0_chk552 (v10830 : BitVec 32) : Prop :=
  (8 ∣ (k0_mult552 v10830).toNat) ∧
  (∀ a, (k0_off553 v10830) a + S16x128.size a ≤ S66048x128.size a)
theorem k0_mult552_dvd : ∀ (v10830 : BitVec 32) (k0_hw552 : k0_chk552 v10830), 8 ∣ (k0_mult552 v10830).toNat := fun v10830 k0_hw552 => k0_hw552.1
theorem k0_off553_inb : ∀ (v10830 : BitVec 32) (k0_hw552 : k0_chk552 v10830), ∀ a, (k0_off553 v10830) a + S16x128.size a ≤ S66048x128.size a := fun v10830 k0_hw552 => k0_hw552.2

def k0_mult553 (v10868 : BitVec 32) : BitVec 32 :=
  let c3_i32_7231 : BitVec 32 := 3#32
  let v10872 : BitVec 32 := Scalar.shrsi v10868 c3_i32_7231
  let c3_i32_7232 : BitVec 32 := 3#32
  let v10873 : BitVec 32 := Scalar.shli v10872 c3_i32_7232
  v10873

def k0_mult554 (v10869 : BitVec 32) : BitVec 32 :=
  let c3_i32_7233 : BitVec 32 := 3#32
  let v10875 : BitVec 32 := Scalar.shrsi v10869 c3_i32_7233
  let c3_i32_7234 : BitVec 32 := 3#32
  let v10876 : BitVec 32 := Scalar.shli v10875 c3_i32_7234
  v10876

def k0_off554 (v10868 : BitVec 32) : Fin 2 → Nat :=
  let c3_i32_7231 : BitVec 32 := 3#32
  let v10872 : BitVec 32 := Scalar.shrsi v10868 c3_i32_7231
  let c3_i32_7232 : BitVec 32 := 3#32
  let v10873 : BitVec 32 := Scalar.shli v10872 c3_i32_7232
  let v10874 : BitVec 32 := v10873
  let v10878 : Index := Scalar.indexCast v10874
  let c0_7235 : Index := 0#32
  ![v10878.toNat, 0]

def k0_chk553 (v10868 : BitVec 32) : Prop :=
  (8 ∣ (k0_mult553 v10868).toNat) ∧
  (∀ a, (k0_off554 v10868) a + S16x128.size a ≤ S66048x128.size a)
theorem k0_mult553_dvd : ∀ (v10868 : BitVec 32) (k0_hw553 : k0_chk553 v10868), 8 ∣ (k0_mult553 v10868).toNat := fun v10868 k0_hw553 => k0_hw553.1
theorem k0_off554_inb : ∀ (v10868 : BitVec 32) (k0_hw553 : k0_chk553 v10868), ∀ a, (k0_off554 v10868) a + S16x128.size a ≤ S66048x128.size a := fun v10868 k0_hw553 => k0_hw553.2

def k0_off555 (v10869 : BitVec 32) : Fin 2 → Nat :=
  let c3_i32_7233 : BitVec 32 := 3#32
  let v10875 : BitVec 32 := Scalar.shrsi v10869 c3_i32_7233
  let c3_i32_7234 : BitVec 32 := 3#32
  let v10876 : BitVec 32 := Scalar.shli v10875 c3_i32_7234
  let v10877 : BitVec 32 := v10876
  let v10880 : Index := Scalar.indexCast v10877
  let c0_7236 : Index := 0#32
  ![v10880.toNat, 0]

def k0_chk554 (v10869 : BitVec 32) : Prop :=
  (8 ∣ (k0_mult554 v10869).toNat) ∧
  (∀ a, (k0_off555 v10869) a + S16x128.size a ≤ S66048x128.size a)
theorem k0_mult554_dvd : ∀ (v10869 : BitVec 32) (k0_hw554 : k0_chk554 v10869), 8 ∣ (k0_mult554 v10869).toNat := fun v10869 k0_hw554 => k0_hw554.1
theorem k0_off555_inb : ∀ (v10869 : BitVec 32) (k0_hw554 : k0_chk554 v10869), ∀ a, (k0_off555 v10869) a + S16x128.size a ≤ S66048x128.size a := fun v10869 k0_hw554 => k0_hw554.2

def k0_mult555 (v10907 : BitVec 32) : BitVec 32 :=
  let c3_i32_7257 : BitVec 32 := 3#32
  let v10911 : BitVec 32 := Scalar.shrsi v10907 c3_i32_7257
  let c3_i32_7258 : BitVec 32 := 3#32
  let v10912 : BitVec 32 := Scalar.shli v10911 c3_i32_7258
  v10912

def k0_mult556 (v10908 : BitVec 32) : BitVec 32 :=
  let c3_i32_7259 : BitVec 32 := 3#32
  let v10914 : BitVec 32 := Scalar.shrsi v10908 c3_i32_7259
  let c3_i32_7260 : BitVec 32 := 3#32
  let v10915 : BitVec 32 := Scalar.shli v10914 c3_i32_7260
  v10915

def k0_off556 (v10907 : BitVec 32) : Fin 2 → Nat :=
  let c3_i32_7257 : BitVec 32 := 3#32
  let v10911 : BitVec 32 := Scalar.shrsi v10907 c3_i32_7257
  let c3_i32_7258 : BitVec 32 := 3#32
  let v10912 : BitVec 32 := Scalar.shli v10911 c3_i32_7258
  let v10913 : BitVec 32 := v10912
  let v10917 : Index := Scalar.indexCast v10913
  let c0_7261 : Index := 0#32
  ![v10917.toNat, 0]

def k0_chk555 (v10907 : BitVec 32) : Prop :=
  (8 ∣ (k0_mult555 v10907).toNat) ∧
  (∀ a, (k0_off556 v10907) a + S16x128.size a ≤ S66048x128.size a)
theorem k0_mult555_dvd : ∀ (v10907 : BitVec 32) (k0_hw555 : k0_chk555 v10907), 8 ∣ (k0_mult555 v10907).toNat := fun v10907 k0_hw555 => k0_hw555.1
theorem k0_off556_inb : ∀ (v10907 : BitVec 32) (k0_hw555 : k0_chk555 v10907), ∀ a, (k0_off556 v10907) a + S16x128.size a ≤ S66048x128.size a := fun v10907 k0_hw555 => k0_hw555.2

def k0_off557 (v10908 : BitVec 32) : Fin 2 → Nat :=
  let c3_i32_7259 : BitVec 32 := 3#32
  let v10914 : BitVec 32 := Scalar.shrsi v10908 c3_i32_7259
  let c3_i32_7260 : BitVec 32 := 3#32
  let v10915 : BitVec 32 := Scalar.shli v10914 c3_i32_7260
  let v10916 : BitVec 32 := v10915
  let v10919 : Index := Scalar.indexCast v10916
  let c0_7262 : Index := 0#32
  ![v10919.toNat, 0]

def k0_chk556 (v10908 : BitVec 32) : Prop :=
  (8 ∣ (k0_mult556 v10908).toNat) ∧
  (∀ a, (k0_off557 v10908) a + S16x128.size a ≤ S66048x128.size a)
theorem k0_mult556_dvd : ∀ (v10908 : BitVec 32) (k0_hw556 : k0_chk556 v10908), 8 ∣ (k0_mult556 v10908).toNat := fun v10908 k0_hw556 => k0_hw556.1
theorem k0_off557_inb : ∀ (v10908 : BitVec 32) (k0_hw556 : k0_chk556 v10908), ∀ a, (k0_off557 v10908) a + S16x128.size a ≤ S66048x128.size a := fun v10908 k0_hw556 => k0_hw556.2

def k0_mult557 (v10946 : BitVec 32) : BitVec 32 :=
  let c3_i32_7283 : BitVec 32 := 3#32
  let v10950 : BitVec 32 := Scalar.shrsi v10946 c3_i32_7283
  let c3_i32_7284 : BitVec 32 := 3#32
  let v10951 : BitVec 32 := Scalar.shli v10950 c3_i32_7284
  v10951

def k0_mult558 (v10947 : BitVec 32) : BitVec 32 :=
  let c3_i32_7285 : BitVec 32 := 3#32
  let v10953 : BitVec 32 := Scalar.shrsi v10947 c3_i32_7285
  let c3_i32_7286 : BitVec 32 := 3#32
  let v10954 : BitVec 32 := Scalar.shli v10953 c3_i32_7286
  v10954

def k0_off558 (v10946 : BitVec 32) : Fin 2 → Nat :=
  let c3_i32_7283 : BitVec 32 := 3#32
  let v10950 : BitVec 32 := Scalar.shrsi v10946 c3_i32_7283
  let c3_i32_7284 : BitVec 32 := 3#32
  let v10951 : BitVec 32 := Scalar.shli v10950 c3_i32_7284
  let v10952 : BitVec 32 := v10951
  let v10956 : Index := Scalar.indexCast v10952
  let c0_7287 : Index := 0#32
  ![v10956.toNat, 0]

def k0_chk557 (v10946 : BitVec 32) : Prop :=
  (8 ∣ (k0_mult557 v10946).toNat) ∧
  (∀ a, (k0_off558 v10946) a + S16x128.size a ≤ S66048x128.size a)
theorem k0_mult557_dvd : ∀ (v10946 : BitVec 32) (k0_hw557 : k0_chk557 v10946), 8 ∣ (k0_mult557 v10946).toNat := fun v10946 k0_hw557 => k0_hw557.1
theorem k0_off558_inb : ∀ (v10946 : BitVec 32) (k0_hw557 : k0_chk557 v10946), ∀ a, (k0_off558 v10946) a + S16x128.size a ≤ S66048x128.size a := fun v10946 k0_hw557 => k0_hw557.2

def k0_off559 (v10947 : BitVec 32) : Fin 2 → Nat :=
  let c3_i32_7285 : BitVec 32 := 3#32
  let v10953 : BitVec 32 := Scalar.shrsi v10947 c3_i32_7285
  let c3_i32_7286 : BitVec 32 := 3#32
  let v10954 : BitVec 32 := Scalar.shli v10953 c3_i32_7286
  let v10955 : BitVec 32 := v10954
  let v10958 : Index := Scalar.indexCast v10955
  let c0_7288 : Index := 0#32
  ![v10958.toNat, 0]

def k0_chk558 (v10947 : BitVec 32) : Prop :=
  (8 ∣ (k0_mult558 v10947).toNat) ∧
  (∀ a, (k0_off559 v10947) a + S16x128.size a ≤ S66048x128.size a)
theorem k0_mult558_dvd : ∀ (v10947 : BitVec 32) (k0_hw558 : k0_chk558 v10947), 8 ∣ (k0_mult558 v10947).toNat := fun v10947 k0_hw558 => k0_hw558.1
theorem k0_off559_inb : ∀ (v10947 : BitVec 32) (k0_hw558 : k0_chk558 v10947), ∀ a, (k0_off559 v10947) a + S16x128.size a ≤ S66048x128.size a := fun v10947 k0_hw558 => k0_hw558.2

def k0_mult559 (v10985 : BitVec 32) : BitVec 32 :=
  let c3_i32_7309 : BitVec 32 := 3#32
  let v10989 : BitVec 32 := Scalar.shrsi v10985 c3_i32_7309
  let c3_i32_7310 : BitVec 32 := 3#32
  let v10990 : BitVec 32 := Scalar.shli v10989 c3_i32_7310
  v10990

def k0_mult560 (v10986 : BitVec 32) : BitVec 32 :=
  let c3_i32_7311 : BitVec 32 := 3#32
  let v10992 : BitVec 32 := Scalar.shrsi v10986 c3_i32_7311
  let c3_i32_7312 : BitVec 32 := 3#32
  let v10993 : BitVec 32 := Scalar.shli v10992 c3_i32_7312
  v10993

def k0_off560 (v10985 : BitVec 32) : Fin 2 → Nat :=
  let c3_i32_7309 : BitVec 32 := 3#32
  let v10989 : BitVec 32 := Scalar.shrsi v10985 c3_i32_7309
  let c3_i32_7310 : BitVec 32 := 3#32
  let v10990 : BitVec 32 := Scalar.shli v10989 c3_i32_7310
  let v10991 : BitVec 32 := v10990
  let v10995 : Index := Scalar.indexCast v10991
  let c0_7313 : Index := 0#32
  ![v10995.toNat, 0]

def k0_chk559 (v10985 : BitVec 32) : Prop :=
  (8 ∣ (k0_mult559 v10985).toNat) ∧
  (∀ a, (k0_off560 v10985) a + S16x128.size a ≤ S66048x128.size a)
theorem k0_mult559_dvd : ∀ (v10985 : BitVec 32) (k0_hw559 : k0_chk559 v10985), 8 ∣ (k0_mult559 v10985).toNat := fun v10985 k0_hw559 => k0_hw559.1
theorem k0_off560_inb : ∀ (v10985 : BitVec 32) (k0_hw559 : k0_chk559 v10985), ∀ a, (k0_off560 v10985) a + S16x128.size a ≤ S66048x128.size a := fun v10985 k0_hw559 => k0_hw559.2

def k0_off561 (v10986 : BitVec 32) : Fin 2 → Nat :=
  let c3_i32_7311 : BitVec 32 := 3#32
  let v10992 : BitVec 32 := Scalar.shrsi v10986 c3_i32_7311
  let c3_i32_7312 : BitVec 32 := 3#32
  let v10993 : BitVec 32 := Scalar.shli v10992 c3_i32_7312
  let v10994 : BitVec 32 := v10993
  let v10997 : Index := Scalar.indexCast v10994
  let c0_7314 : Index := 0#32
  ![v10997.toNat, 0]

def k0_chk560 (v10986 : BitVec 32) : Prop :=
  (8 ∣ (k0_mult560 v10986).toNat) ∧
  (∀ a, (k0_off561 v10986) a + S16x128.size a ≤ S66048x128.size a)
theorem k0_mult560_dvd : ∀ (v10986 : BitVec 32) (k0_hw560 : k0_chk560 v10986), 8 ∣ (k0_mult560 v10986).toNat := fun v10986 k0_hw560 => k0_hw560.1
theorem k0_off561_inb : ∀ (v10986 : BitVec 32) (k0_hw560 : k0_chk560 v10986), ∀ a, (k0_off561 v10986) a + S16x128.size a ≤ S66048x128.size a := fun v10986 k0_hw560 => k0_hw560.2

def k0_mult561 (v11024 : BitVec 32) : BitVec 32 :=
  let c3_i32_7335 : BitVec 32 := 3#32
  let v11028 : BitVec 32 := Scalar.shrsi v11024 c3_i32_7335
  let c3_i32_7336 : BitVec 32 := 3#32
  let v11029 : BitVec 32 := Scalar.shli v11028 c3_i32_7336
  v11029

def k0_mult562 (v11025 : BitVec 32) : BitVec 32 :=
  let c3_i32_7337 : BitVec 32 := 3#32
  let v11031 : BitVec 32 := Scalar.shrsi v11025 c3_i32_7337
  let c3_i32_7338 : BitVec 32 := 3#32
  let v11032 : BitVec 32 := Scalar.shli v11031 c3_i32_7338
  v11032

def k0_off562 (v11024 : BitVec 32) : Fin 2 → Nat :=
  let c3_i32_7335 : BitVec 32 := 3#32
  let v11028 : BitVec 32 := Scalar.shrsi v11024 c3_i32_7335
  let c3_i32_7336 : BitVec 32 := 3#32
  let v11029 : BitVec 32 := Scalar.shli v11028 c3_i32_7336
  let v11030 : BitVec 32 := v11029
  let v11034 : Index := Scalar.indexCast v11030
  let c0_7339 : Index := 0#32
  ![v11034.toNat, 0]

def k0_chk561 (v11024 : BitVec 32) : Prop :=
  (8 ∣ (k0_mult561 v11024).toNat) ∧
  (∀ a, (k0_off562 v11024) a + S16x128.size a ≤ S66048x128.size a)
theorem k0_mult561_dvd : ∀ (v11024 : BitVec 32) (k0_hw561 : k0_chk561 v11024), 8 ∣ (k0_mult561 v11024).toNat := fun v11024 k0_hw561 => k0_hw561.1
theorem k0_off562_inb : ∀ (v11024 : BitVec 32) (k0_hw561 : k0_chk561 v11024), ∀ a, (k0_off562 v11024) a + S16x128.size a ≤ S66048x128.size a := fun v11024 k0_hw561 => k0_hw561.2

def k0_off563 (v11025 : BitVec 32) : Fin 2 → Nat :=
  let c3_i32_7337 : BitVec 32 := 3#32
  let v11031 : BitVec 32 := Scalar.shrsi v11025 c3_i32_7337
  let c3_i32_7338 : BitVec 32 := 3#32
  let v11032 : BitVec 32 := Scalar.shli v11031 c3_i32_7338
  let v11033 : BitVec 32 := v11032
  let v11036 : Index := Scalar.indexCast v11033
  let c0_7340 : Index := 0#32
  ![v11036.toNat, 0]

def k0_chk562 (v11025 : BitVec 32) : Prop :=
  (8 ∣ (k0_mult562 v11025).toNat) ∧
  (∀ a, (k0_off563 v11025) a + S16x128.size a ≤ S66048x128.size a)
theorem k0_mult562_dvd : ∀ (v11025 : BitVec 32) (k0_hw562 : k0_chk562 v11025), 8 ∣ (k0_mult562 v11025).toNat := fun v11025 k0_hw562 => k0_hw562.1
theorem k0_off563_inb : ∀ (v11025 : BitVec 32) (k0_hw562 : k0_chk562 v11025), ∀ a, (k0_off563 v11025) a + S16x128.size a ≤ S66048x128.size a := fun v11025 k0_hw562 => k0_hw562.2

def k0_mult563 (v11063 : BitVec 32) : BitVec 32 :=
  let c3_i32_7361 : BitVec 32 := 3#32
  let v11067 : BitVec 32 := Scalar.shrsi v11063 c3_i32_7361
  let c3_i32_7362 : BitVec 32 := 3#32
  let v11068 : BitVec 32 := Scalar.shli v11067 c3_i32_7362
  v11068

def k0_mult564 (v11064 : BitVec 32) : BitVec 32 :=
  let c3_i32_7363 : BitVec 32 := 3#32
  let v11070 : BitVec 32 := Scalar.shrsi v11064 c3_i32_7363
  let c3_i32_7364 : BitVec 32 := 3#32
  let v11071 : BitVec 32 := Scalar.shli v11070 c3_i32_7364
  v11071

def k0_off564 (v11063 : BitVec 32) : Fin 2 → Nat :=
  let c3_i32_7361 : BitVec 32 := 3#32
  let v11067 : BitVec 32 := Scalar.shrsi v11063 c3_i32_7361
  let c3_i32_7362 : BitVec 32 := 3#32
  let v11068 : BitVec 32 := Scalar.shli v11067 c3_i32_7362
  let v11069 : BitVec 32 := v11068
  let v11073 : Index := Scalar.indexCast v11069
  let c0_7365 : Index := 0#32
  ![v11073.toNat, 0]

def k0_chk563 (v11063 : BitVec 32) : Prop :=
  (8 ∣ (k0_mult563 v11063).toNat) ∧
  (∀ a, (k0_off564 v11063) a + S16x128.size a ≤ S66048x128.size a)
theorem k0_mult563_dvd : ∀ (v11063 : BitVec 32) (k0_hw563 : k0_chk563 v11063), 8 ∣ (k0_mult563 v11063).toNat := fun v11063 k0_hw563 => k0_hw563.1
theorem k0_off564_inb : ∀ (v11063 : BitVec 32) (k0_hw563 : k0_chk563 v11063), ∀ a, (k0_off564 v11063) a + S16x128.size a ≤ S66048x128.size a := fun v11063 k0_hw563 => k0_hw563.2

def k0_off565 (v11064 : BitVec 32) : Fin 2 → Nat :=
  let c3_i32_7363 : BitVec 32 := 3#32
  let v11070 : BitVec 32 := Scalar.shrsi v11064 c3_i32_7363
  let c3_i32_7364 : BitVec 32 := 3#32
  let v11071 : BitVec 32 := Scalar.shli v11070 c3_i32_7364
  let v11072 : BitVec 32 := v11071
  let v11075 : Index := Scalar.indexCast v11072
  let c0_7366 : Index := 0#32
  ![v11075.toNat, 0]

def k0_chk564 (v11064 : BitVec 32) : Prop :=
  (8 ∣ (k0_mult564 v11064).toNat) ∧
  (∀ a, (k0_off565 v11064) a + S16x128.size a ≤ S66048x128.size a)
theorem k0_mult564_dvd : ∀ (v11064 : BitVec 32) (k0_hw564 : k0_chk564 v11064), 8 ∣ (k0_mult564 v11064).toNat := fun v11064 k0_hw564 => k0_hw564.1
theorem k0_off565_inb : ∀ (v11064 : BitVec 32) (k0_hw564 : k0_chk564 v11064), ∀ a, (k0_off565 v11064) a + S16x128.size a ≤ S66048x128.size a := fun v11064 k0_hw564 => k0_hw564.2

def k0_mult565 (v11102 : BitVec 32) : BitVec 32 :=
  let c3_i32_7387 : BitVec 32 := 3#32
  let v11106 : BitVec 32 := Scalar.shrsi v11102 c3_i32_7387
  let c3_i32_7388 : BitVec 32 := 3#32
  let v11107 : BitVec 32 := Scalar.shli v11106 c3_i32_7388
  v11107

def k0_mult566 (v11103 : BitVec 32) : BitVec 32 :=
  let c3_i32_7389 : BitVec 32 := 3#32
  let v11109 : BitVec 32 := Scalar.shrsi v11103 c3_i32_7389
  let c3_i32_7390 : BitVec 32 := 3#32
  let v11110 : BitVec 32 := Scalar.shli v11109 c3_i32_7390
  v11110

def k0_off566 (v11102 : BitVec 32) : Fin 2 → Nat :=
  let c3_i32_7387 : BitVec 32 := 3#32
  let v11106 : BitVec 32 := Scalar.shrsi v11102 c3_i32_7387
  let c3_i32_7388 : BitVec 32 := 3#32
  let v11107 : BitVec 32 := Scalar.shli v11106 c3_i32_7388
  let v11108 : BitVec 32 := v11107
  let v11112 : Index := Scalar.indexCast v11108
  let c0_7391 : Index := 0#32
  ![v11112.toNat, 0]

def k0_chk565 (v11102 : BitVec 32) : Prop :=
  (8 ∣ (k0_mult565 v11102).toNat) ∧
  (∀ a, (k0_off566 v11102) a + S16x128.size a ≤ S66048x128.size a)
theorem k0_mult565_dvd : ∀ (v11102 : BitVec 32) (k0_hw565 : k0_chk565 v11102), 8 ∣ (k0_mult565 v11102).toNat := fun v11102 k0_hw565 => k0_hw565.1
theorem k0_off566_inb : ∀ (v11102 : BitVec 32) (k0_hw565 : k0_chk565 v11102), ∀ a, (k0_off566 v11102) a + S16x128.size a ≤ S66048x128.size a := fun v11102 k0_hw565 => k0_hw565.2

def k0_off567 (v11103 : BitVec 32) : Fin 2 → Nat :=
  let c3_i32_7389 : BitVec 32 := 3#32
  let v11109 : BitVec 32 := Scalar.shrsi v11103 c3_i32_7389
  let c3_i32_7390 : BitVec 32 := 3#32
  let v11110 : BitVec 32 := Scalar.shli v11109 c3_i32_7390
  let v11111 : BitVec 32 := v11110
  let v11114 : Index := Scalar.indexCast v11111
  let c0_7392 : Index := 0#32
  ![v11114.toNat, 0]

def k0_chk566 (v11103 : BitVec 32) : Prop :=
  (8 ∣ (k0_mult566 v11103).toNat) ∧
  (∀ a, (k0_off567 v11103) a + S16x128.size a ≤ S66048x128.size a)
theorem k0_mult566_dvd : ∀ (v11103 : BitVec 32) (k0_hw566 : k0_chk566 v11103), 8 ∣ (k0_mult566 v11103).toNat := fun v11103 k0_hw566 => k0_hw566.1
theorem k0_off567_inb : ∀ (v11103 : BitVec 32) (k0_hw566 : k0_chk566 v11103), ∀ a, (k0_off567 v11103) a + S16x128.size a ≤ S66048x128.size a := fun v11103 k0_hw566 => k0_hw566.2

def k0_mult567 (v11141 : BitVec 32) : BitVec 32 :=
  let c3_i32_7413 : BitVec 32 := 3#32
  let v11145 : BitVec 32 := Scalar.shrsi v11141 c3_i32_7413
  let c3_i32_7414 : BitVec 32 := 3#32
  let v11146 : BitVec 32 := Scalar.shli v11145 c3_i32_7414
  v11146

def k0_mult568 (v11142 : BitVec 32) : BitVec 32 :=
  let c3_i32_7415 : BitVec 32 := 3#32
  let v11148 : BitVec 32 := Scalar.shrsi v11142 c3_i32_7415
  let c3_i32_7416 : BitVec 32 := 3#32
  let v11149 : BitVec 32 := Scalar.shli v11148 c3_i32_7416
  v11149

def k0_off568 (v11141 : BitVec 32) : Fin 2 → Nat :=
  let c3_i32_7413 : BitVec 32 := 3#32
  let v11145 : BitVec 32 := Scalar.shrsi v11141 c3_i32_7413
  let c3_i32_7414 : BitVec 32 := 3#32
  let v11146 : BitVec 32 := Scalar.shli v11145 c3_i32_7414
  let v11147 : BitVec 32 := v11146
  let v11151 : Index := Scalar.indexCast v11147
  let c0_7417 : Index := 0#32
  ![v11151.toNat, 0]

def k0_chk567 (v11141 : BitVec 32) : Prop :=
  (8 ∣ (k0_mult567 v11141).toNat) ∧
  (∀ a, (k0_off568 v11141) a + S16x128.size a ≤ S66048x128.size a)
theorem k0_mult567_dvd : ∀ (v11141 : BitVec 32) (k0_hw567 : k0_chk567 v11141), 8 ∣ (k0_mult567 v11141).toNat := fun v11141 k0_hw567 => k0_hw567.1
theorem k0_off568_inb : ∀ (v11141 : BitVec 32) (k0_hw567 : k0_chk567 v11141), ∀ a, (k0_off568 v11141) a + S16x128.size a ≤ S66048x128.size a := fun v11141 k0_hw567 => k0_hw567.2

def k0_off569 (v11142 : BitVec 32) : Fin 2 → Nat :=
  let c3_i32_7415 : BitVec 32 := 3#32
  let v11148 : BitVec 32 := Scalar.shrsi v11142 c3_i32_7415
  let c3_i32_7416 : BitVec 32 := 3#32
  let v11149 : BitVec 32 := Scalar.shli v11148 c3_i32_7416
  let v11150 : BitVec 32 := v11149
  let v11153 : Index := Scalar.indexCast v11150
  let c0_7418 : Index := 0#32
  ![v11153.toNat, 0]

def k0_chk568 (v11142 : BitVec 32) : Prop :=
  (8 ∣ (k0_mult568 v11142).toNat) ∧
  (∀ a, (k0_off569 v11142) a + S16x128.size a ≤ S66048x128.size a)
theorem k0_mult568_dvd : ∀ (v11142 : BitVec 32) (k0_hw568 : k0_chk568 v11142), 8 ∣ (k0_mult568 v11142).toNat := fun v11142 k0_hw568 => k0_hw568.1
theorem k0_off569_inb : ∀ (v11142 : BitVec 32) (k0_hw568 : k0_chk568 v11142), ∀ a, (k0_off569 v11142) a + S16x128.size a ≤ S66048x128.size a := fun v11142 k0_hw568 => k0_hw568.2

def k0_mult569 (v11180 : BitVec 32) : BitVec 32 :=
  let c3_i32_7439 : BitVec 32 := 3#32
  let v11184 : BitVec 32 := Scalar.shrsi v11180 c3_i32_7439
  let c3_i32_7440 : BitVec 32 := 3#32
  let v11185 : BitVec 32 := Scalar.shli v11184 c3_i32_7440
  v11185

def k0_mult570 (v11181 : BitVec 32) : BitVec 32 :=
  let c3_i32_7441 : BitVec 32 := 3#32
  let v11187 : BitVec 32 := Scalar.shrsi v11181 c3_i32_7441
  let c3_i32_7442 : BitVec 32 := 3#32
  let v11188 : BitVec 32 := Scalar.shli v11187 c3_i32_7442
  v11188

def k0_off570 (v11180 : BitVec 32) : Fin 2 → Nat :=
  let c3_i32_7439 : BitVec 32 := 3#32
  let v11184 : BitVec 32 := Scalar.shrsi v11180 c3_i32_7439
  let c3_i32_7440 : BitVec 32 := 3#32
  let v11185 : BitVec 32 := Scalar.shli v11184 c3_i32_7440
  let v11186 : BitVec 32 := v11185
  let v11190 : Index := Scalar.indexCast v11186
  let c0_7443 : Index := 0#32
  ![v11190.toNat, 0]

def k0_chk569 (v11180 : BitVec 32) : Prop :=
  (8 ∣ (k0_mult569 v11180).toNat) ∧
  (∀ a, (k0_off570 v11180) a + S16x128.size a ≤ S66048x128.size a)
theorem k0_mult569_dvd : ∀ (v11180 : BitVec 32) (k0_hw569 : k0_chk569 v11180), 8 ∣ (k0_mult569 v11180).toNat := fun v11180 k0_hw569 => k0_hw569.1
theorem k0_off570_inb : ∀ (v11180 : BitVec 32) (k0_hw569 : k0_chk569 v11180), ∀ a, (k0_off570 v11180) a + S16x128.size a ≤ S66048x128.size a := fun v11180 k0_hw569 => k0_hw569.2

def k0_off571 (v11181 : BitVec 32) : Fin 2 → Nat :=
  let c3_i32_7441 : BitVec 32 := 3#32
  let v11187 : BitVec 32 := Scalar.shrsi v11181 c3_i32_7441
  let c3_i32_7442 : BitVec 32 := 3#32
  let v11188 : BitVec 32 := Scalar.shli v11187 c3_i32_7442
  let v11189 : BitVec 32 := v11188
  let v11192 : Index := Scalar.indexCast v11189
  let c0_7444 : Index := 0#32
  ![v11192.toNat, 0]

def k0_chk570 (v11181 : BitVec 32) : Prop :=
  (8 ∣ (k0_mult570 v11181).toNat) ∧
  (∀ a, (k0_off571 v11181) a + S16x128.size a ≤ S66048x128.size a)
theorem k0_mult570_dvd : ∀ (v11181 : BitVec 32) (k0_hw570 : k0_chk570 v11181), 8 ∣ (k0_mult570 v11181).toNat := fun v11181 k0_hw570 => k0_hw570.1
theorem k0_off571_inb : ∀ (v11181 : BitVec 32) (k0_hw570 : k0_chk570 v11181), ∀ a, (k0_off571 v11181) a + S16x128.size a ≤ S66048x128.size a := fun v11181 k0_hw570 => k0_hw570.2

def k0_mult571 (v11219 : BitVec 32) : BitVec 32 :=
  let c3_i32_7465 : BitVec 32 := 3#32
  let v11223 : BitVec 32 := Scalar.shrsi v11219 c3_i32_7465
  let c3_i32_7466 : BitVec 32 := 3#32
  let v11224 : BitVec 32 := Scalar.shli v11223 c3_i32_7466
  v11224

def k0_mult572 (v11220 : BitVec 32) : BitVec 32 :=
  let c3_i32_7467 : BitVec 32 := 3#32
  let v11226 : BitVec 32 := Scalar.shrsi v11220 c3_i32_7467
  let c3_i32_7468 : BitVec 32 := 3#32
  let v11227 : BitVec 32 := Scalar.shli v11226 c3_i32_7468
  v11227

def k0_off572 (v11219 : BitVec 32) : Fin 2 → Nat :=
  let c3_i32_7465 : BitVec 32 := 3#32
  let v11223 : BitVec 32 := Scalar.shrsi v11219 c3_i32_7465
  let c3_i32_7466 : BitVec 32 := 3#32
  let v11224 : BitVec 32 := Scalar.shli v11223 c3_i32_7466
  let v11225 : BitVec 32 := v11224
  let v11229 : Index := Scalar.indexCast v11225
  let c0_7469 : Index := 0#32
  ![v11229.toNat, 0]

def k0_chk571 (v11219 : BitVec 32) : Prop :=
  (8 ∣ (k0_mult571 v11219).toNat) ∧
  (∀ a, (k0_off572 v11219) a + S16x128.size a ≤ S66048x128.size a)
theorem k0_mult571_dvd : ∀ (v11219 : BitVec 32) (k0_hw571 : k0_chk571 v11219), 8 ∣ (k0_mult571 v11219).toNat := fun v11219 k0_hw571 => k0_hw571.1
theorem k0_off572_inb : ∀ (v11219 : BitVec 32) (k0_hw571 : k0_chk571 v11219), ∀ a, (k0_off572 v11219) a + S16x128.size a ≤ S66048x128.size a := fun v11219 k0_hw571 => k0_hw571.2

def k0_off573 (v11220 : BitVec 32) : Fin 2 → Nat :=
  let c3_i32_7467 : BitVec 32 := 3#32
  let v11226 : BitVec 32 := Scalar.shrsi v11220 c3_i32_7467
  let c3_i32_7468 : BitVec 32 := 3#32
  let v11227 : BitVec 32 := Scalar.shli v11226 c3_i32_7468
  let v11228 : BitVec 32 := v11227
  let v11231 : Index := Scalar.indexCast v11228
  let c0_7470 : Index := 0#32
  ![v11231.toNat, 0]

def k0_chk572 (v11220 : BitVec 32) : Prop :=
  (8 ∣ (k0_mult572 v11220).toNat) ∧
  (∀ a, (k0_off573 v11220) a + S16x128.size a ≤ S66048x128.size a)
theorem k0_mult572_dvd : ∀ (v11220 : BitVec 32) (k0_hw572 : k0_chk572 v11220), 8 ∣ (k0_mult572 v11220).toNat := fun v11220 k0_hw572 => k0_hw572.1
theorem k0_off573_inb : ∀ (v11220 : BitVec 32) (k0_hw572 : k0_chk572 v11220), ∀ a, (k0_off573 v11220) a + S16x128.size a ≤ S66048x128.size a := fun v11220 k0_hw572 => k0_hw572.2

def k0_mult573 (v11258 : BitVec 32) : BitVec 32 :=
  let c3_i32_7491 : BitVec 32 := 3#32
  let v11262 : BitVec 32 := Scalar.shrsi v11258 c3_i32_7491
  let c3_i32_7492 : BitVec 32 := 3#32
  let v11263 : BitVec 32 := Scalar.shli v11262 c3_i32_7492
  v11263

def k0_mult574 (v11259 : BitVec 32) : BitVec 32 :=
  let c3_i32_7493 : BitVec 32 := 3#32
  let v11265 : BitVec 32 := Scalar.shrsi v11259 c3_i32_7493
  let c3_i32_7494 : BitVec 32 := 3#32
  let v11266 : BitVec 32 := Scalar.shli v11265 c3_i32_7494
  v11266

def k0_off574 (v11258 : BitVec 32) : Fin 2 → Nat :=
  let c3_i32_7491 : BitVec 32 := 3#32
  let v11262 : BitVec 32 := Scalar.shrsi v11258 c3_i32_7491
  let c3_i32_7492 : BitVec 32 := 3#32
  let v11263 : BitVec 32 := Scalar.shli v11262 c3_i32_7492
  let v11264 : BitVec 32 := v11263
  let v11268 : Index := Scalar.indexCast v11264
  let c0_7495 : Index := 0#32
  ![v11268.toNat, 0]

def k0_chk573 (v11258 : BitVec 32) : Prop :=
  (8 ∣ (k0_mult573 v11258).toNat) ∧
  (∀ a, (k0_off574 v11258) a + S16x128.size a ≤ S66048x128.size a)
theorem k0_mult573_dvd : ∀ (v11258 : BitVec 32) (k0_hw573 : k0_chk573 v11258), 8 ∣ (k0_mult573 v11258).toNat := fun v11258 k0_hw573 => k0_hw573.1
theorem k0_off574_inb : ∀ (v11258 : BitVec 32) (k0_hw573 : k0_chk573 v11258), ∀ a, (k0_off574 v11258) a + S16x128.size a ≤ S66048x128.size a := fun v11258 k0_hw573 => k0_hw573.2

def k0_off575 (v11259 : BitVec 32) : Fin 2 → Nat :=
  let c3_i32_7493 : BitVec 32 := 3#32
  let v11265 : BitVec 32 := Scalar.shrsi v11259 c3_i32_7493
  let c3_i32_7494 : BitVec 32 := 3#32
  let v11266 : BitVec 32 := Scalar.shli v11265 c3_i32_7494
  let v11267 : BitVec 32 := v11266
  let v11270 : Index := Scalar.indexCast v11267
  let c0_7496 : Index := 0#32
  ![v11270.toNat, 0]

def k0_chk574 (v11259 : BitVec 32) : Prop :=
  (8 ∣ (k0_mult574 v11259).toNat) ∧
  (∀ a, (k0_off575 v11259) a + S16x128.size a ≤ S66048x128.size a)
theorem k0_mult574_dvd : ∀ (v11259 : BitVec 32) (k0_hw574 : k0_chk574 v11259), 8 ∣ (k0_mult574 v11259).toNat := fun v11259 k0_hw574 => k0_hw574.1
theorem k0_off575_inb : ∀ (v11259 : BitVec 32) (k0_hw574 : k0_chk574 v11259), ∀ a, (k0_off575 v11259) a + S16x128.size a ≤ S66048x128.size a := fun v11259 k0_hw574 => k0_hw574.2

def k0_mult575 (v11297 : BitVec 32) : BitVec 32 :=
  let c3_i32_7517 : BitVec 32 := 3#32
  let v11301 : BitVec 32 := Scalar.shrsi v11297 c3_i32_7517
  let c3_i32_7518 : BitVec 32 := 3#32
  let v11302 : BitVec 32 := Scalar.shli v11301 c3_i32_7518
  v11302

def k0_mult576 (v11298 : BitVec 32) : BitVec 32 :=
  let c3_i32_7519 : BitVec 32 := 3#32
  let v11304 : BitVec 32 := Scalar.shrsi v11298 c3_i32_7519
  let c3_i32_7520 : BitVec 32 := 3#32
  let v11305 : BitVec 32 := Scalar.shli v11304 c3_i32_7520
  v11305

def k0_off576 (v11297 : BitVec 32) : Fin 2 → Nat :=
  let c3_i32_7517 : BitVec 32 := 3#32
  let v11301 : BitVec 32 := Scalar.shrsi v11297 c3_i32_7517
  let c3_i32_7518 : BitVec 32 := 3#32
  let v11302 : BitVec 32 := Scalar.shli v11301 c3_i32_7518
  let v11303 : BitVec 32 := v11302
  let v11307 : Index := Scalar.indexCast v11303
  let c0_7521 : Index := 0#32
  ![v11307.toNat, 0]

def k0_chk575 (v11297 : BitVec 32) : Prop :=
  (8 ∣ (k0_mult575 v11297).toNat) ∧
  (∀ a, (k0_off576 v11297) a + S16x128.size a ≤ S66048x128.size a)
theorem k0_mult575_dvd : ∀ (v11297 : BitVec 32) (k0_hw575 : k0_chk575 v11297), 8 ∣ (k0_mult575 v11297).toNat := fun v11297 k0_hw575 => k0_hw575.1
theorem k0_off576_inb : ∀ (v11297 : BitVec 32) (k0_hw575 : k0_chk575 v11297), ∀ a, (k0_off576 v11297) a + S16x128.size a ≤ S66048x128.size a := fun v11297 k0_hw575 => k0_hw575.2

def k0_off577 (v11298 : BitVec 32) : Fin 2 → Nat :=
  let c3_i32_7519 : BitVec 32 := 3#32
  let v11304 : BitVec 32 := Scalar.shrsi v11298 c3_i32_7519
  let c3_i32_7520 : BitVec 32 := 3#32
  let v11305 : BitVec 32 := Scalar.shli v11304 c3_i32_7520
  let v11306 : BitVec 32 := v11305
  let v11309 : Index := Scalar.indexCast v11306
  let c0_7522 : Index := 0#32
  ![v11309.toNat, 0]

def k0_chk576 (v11298 : BitVec 32) : Prop :=
  (8 ∣ (k0_mult576 v11298).toNat) ∧
  (∀ a, (k0_off577 v11298) a + S16x128.size a ≤ S66048x128.size a)
theorem k0_mult576_dvd : ∀ (v11298 : BitVec 32) (k0_hw576 : k0_chk576 v11298), 8 ∣ (k0_mult576 v11298).toNat := fun v11298 k0_hw576 => k0_hw576.1
theorem k0_off577_inb : ∀ (v11298 : BitVec 32) (k0_hw576 : k0_chk576 v11298), ∀ a, (k0_off577 v11298) a + S16x128.size a ≤ S66048x128.size a := fun v11298 k0_hw576 => k0_hw576.2

def k0_mult577 (v11336 : BitVec 32) : BitVec 32 :=
  let c3_i32_7543 : BitVec 32 := 3#32
  let v11340 : BitVec 32 := Scalar.shrsi v11336 c3_i32_7543
  let c3_i32_7544 : BitVec 32 := 3#32
  let v11341 : BitVec 32 := Scalar.shli v11340 c3_i32_7544
  v11341

def k0_mult578 (v11337 : BitVec 32) : BitVec 32 :=
  let c3_i32_7545 : BitVec 32 := 3#32
  let v11343 : BitVec 32 := Scalar.shrsi v11337 c3_i32_7545
  let c3_i32_7546 : BitVec 32 := 3#32
  let v11344 : BitVec 32 := Scalar.shli v11343 c3_i32_7546
  v11344

def k0_off578 (v11336 : BitVec 32) : Fin 2 → Nat :=
  let c3_i32_7543 : BitVec 32 := 3#32
  let v11340 : BitVec 32 := Scalar.shrsi v11336 c3_i32_7543
  let c3_i32_7544 : BitVec 32 := 3#32
  let v11341 : BitVec 32 := Scalar.shli v11340 c3_i32_7544
  let v11342 : BitVec 32 := v11341
  let v11346 : Index := Scalar.indexCast v11342
  let c0_7547 : Index := 0#32
  ![v11346.toNat, 0]

def k0_chk577 (v11336 : BitVec 32) : Prop :=
  (8 ∣ (k0_mult577 v11336).toNat) ∧
  (∀ a, (k0_off578 v11336) a + S16x128.size a ≤ S66048x128.size a)
theorem k0_mult577_dvd : ∀ (v11336 : BitVec 32) (k0_hw577 : k0_chk577 v11336), 8 ∣ (k0_mult577 v11336).toNat := fun v11336 k0_hw577 => k0_hw577.1
theorem k0_off578_inb : ∀ (v11336 : BitVec 32) (k0_hw577 : k0_chk577 v11336), ∀ a, (k0_off578 v11336) a + S16x128.size a ≤ S66048x128.size a := fun v11336 k0_hw577 => k0_hw577.2

def k0_off579 (v11337 : BitVec 32) : Fin 2 → Nat :=
  let c3_i32_7545 : BitVec 32 := 3#32
  let v11343 : BitVec 32 := Scalar.shrsi v11337 c3_i32_7545
  let c3_i32_7546 : BitVec 32 := 3#32
  let v11344 : BitVec 32 := Scalar.shli v11343 c3_i32_7546
  let v11345 : BitVec 32 := v11344
  let v11348 : Index := Scalar.indexCast v11345
  let c0_7548 : Index := 0#32
  ![v11348.toNat, 0]

def k0_chk578 (v11337 : BitVec 32) : Prop :=
  (8 ∣ (k0_mult578 v11337).toNat) ∧
  (∀ a, (k0_off579 v11337) a + S16x128.size a ≤ S66048x128.size a)
theorem k0_mult578_dvd : ∀ (v11337 : BitVec 32) (k0_hw578 : k0_chk578 v11337), 8 ∣ (k0_mult578 v11337).toNat := fun v11337 k0_hw578 => k0_hw578.1
theorem k0_off579_inb : ∀ (v11337 : BitVec 32) (k0_hw578 : k0_chk578 v11337), ∀ a, (k0_off579 v11337) a + S16x128.size a ≤ S66048x128.size a := fun v11337 k0_hw578 => k0_hw578.2

def k0_mult579 (v11375 : BitVec 32) : BitVec 32 :=
  let c3_i32_7569 : BitVec 32 := 3#32
  let v11379 : BitVec 32 := Scalar.shrsi v11375 c3_i32_7569
  let c3_i32_7570 : BitVec 32 := 3#32
  let v11380 : BitVec 32 := Scalar.shli v11379 c3_i32_7570
  v11380

def k0_mult580 (v11376 : BitVec 32) : BitVec 32 :=
  let c3_i32_7571 : BitVec 32 := 3#32
  let v11382 : BitVec 32 := Scalar.shrsi v11376 c3_i32_7571
  let c3_i32_7572 : BitVec 32 := 3#32
  let v11383 : BitVec 32 := Scalar.shli v11382 c3_i32_7572
  v11383

def k0_off580 (v11375 : BitVec 32) : Fin 2 → Nat :=
  let c3_i32_7569 : BitVec 32 := 3#32
  let v11379 : BitVec 32 := Scalar.shrsi v11375 c3_i32_7569
  let c3_i32_7570 : BitVec 32 := 3#32
  let v11380 : BitVec 32 := Scalar.shli v11379 c3_i32_7570
  let v11381 : BitVec 32 := v11380
  let v11385 : Index := Scalar.indexCast v11381
  let c0_7573 : Index := 0#32
  ![v11385.toNat, 0]

def k0_chk579 (v11375 : BitVec 32) : Prop :=
  (8 ∣ (k0_mult579 v11375).toNat) ∧
  (∀ a, (k0_off580 v11375) a + S16x128.size a ≤ S66048x128.size a)
theorem k0_mult579_dvd : ∀ (v11375 : BitVec 32) (k0_hw579 : k0_chk579 v11375), 8 ∣ (k0_mult579 v11375).toNat := fun v11375 k0_hw579 => k0_hw579.1
theorem k0_off580_inb : ∀ (v11375 : BitVec 32) (k0_hw579 : k0_chk579 v11375), ∀ a, (k0_off580 v11375) a + S16x128.size a ≤ S66048x128.size a := fun v11375 k0_hw579 => k0_hw579.2

def k0_off581 (v11376 : BitVec 32) : Fin 2 → Nat :=
  let c3_i32_7571 : BitVec 32 := 3#32
  let v11382 : BitVec 32 := Scalar.shrsi v11376 c3_i32_7571
  let c3_i32_7572 : BitVec 32 := 3#32
  let v11383 : BitVec 32 := Scalar.shli v11382 c3_i32_7572
  let v11384 : BitVec 32 := v11383
  let v11387 : Index := Scalar.indexCast v11384
  let c0_7574 : Index := 0#32
  ![v11387.toNat, 0]

def k0_chk580 (v11376 : BitVec 32) : Prop :=
  (8 ∣ (k0_mult580 v11376).toNat) ∧
  (∀ a, (k0_off581 v11376) a + S16x128.size a ≤ S66048x128.size a)
theorem k0_mult580_dvd : ∀ (v11376 : BitVec 32) (k0_hw580 : k0_chk580 v11376), 8 ∣ (k0_mult580 v11376).toNat := fun v11376 k0_hw580 => k0_hw580.1
theorem k0_off581_inb : ∀ (v11376 : BitVec 32) (k0_hw580 : k0_chk580 v11376), ∀ a, (k0_off581 v11376) a + S16x128.size a ≤ S66048x128.size a := fun v11376 k0_hw580 => k0_hw580.2

def k0_mult581 (v11414 : BitVec 32) : BitVec 32 :=
  let c3_i32_7595 : BitVec 32 := 3#32
  let v11418 : BitVec 32 := Scalar.shrsi v11414 c3_i32_7595
  let c3_i32_7596 : BitVec 32 := 3#32
  let v11419 : BitVec 32 := Scalar.shli v11418 c3_i32_7596
  v11419

def k0_mult582 (v11415 : BitVec 32) : BitVec 32 :=
  let c3_i32_7597 : BitVec 32 := 3#32
  let v11421 : BitVec 32 := Scalar.shrsi v11415 c3_i32_7597
  let c3_i32_7598 : BitVec 32 := 3#32
  let v11422 : BitVec 32 := Scalar.shli v11421 c3_i32_7598
  v11422

def k0_off582 (v11414 : BitVec 32) : Fin 2 → Nat :=
  let c3_i32_7595 : BitVec 32 := 3#32
  let v11418 : BitVec 32 := Scalar.shrsi v11414 c3_i32_7595
  let c3_i32_7596 : BitVec 32 := 3#32
  let v11419 : BitVec 32 := Scalar.shli v11418 c3_i32_7596
  let v11420 : BitVec 32 := v11419
  let v11424 : Index := Scalar.indexCast v11420
  let c0_7599 : Index := 0#32
  ![v11424.toNat, 0]

def k0_chk581 (v11414 : BitVec 32) : Prop :=
  (8 ∣ (k0_mult581 v11414).toNat) ∧
  (∀ a, (k0_off582 v11414) a + S16x128.size a ≤ S66048x128.size a)
theorem k0_mult581_dvd : ∀ (v11414 : BitVec 32) (k0_hw581 : k0_chk581 v11414), 8 ∣ (k0_mult581 v11414).toNat := fun v11414 k0_hw581 => k0_hw581.1
theorem k0_off582_inb : ∀ (v11414 : BitVec 32) (k0_hw581 : k0_chk581 v11414), ∀ a, (k0_off582 v11414) a + S16x128.size a ≤ S66048x128.size a := fun v11414 k0_hw581 => k0_hw581.2

def k0_off583 (v11415 : BitVec 32) : Fin 2 → Nat :=
  let c3_i32_7597 : BitVec 32 := 3#32
  let v11421 : BitVec 32 := Scalar.shrsi v11415 c3_i32_7597
  let c3_i32_7598 : BitVec 32 := 3#32
  let v11422 : BitVec 32 := Scalar.shli v11421 c3_i32_7598
  let v11423 : BitVec 32 := v11422
  let v11426 : Index := Scalar.indexCast v11423
  let c0_7600 : Index := 0#32
  ![v11426.toNat, 0]

def k0_chk582 (v11415 : BitVec 32) : Prop :=
  (8 ∣ (k0_mult582 v11415).toNat) ∧
  (∀ a, (k0_off583 v11415) a + S16x128.size a ≤ S66048x128.size a)
theorem k0_mult582_dvd : ∀ (v11415 : BitVec 32) (k0_hw582 : k0_chk582 v11415), 8 ∣ (k0_mult582 v11415).toNat := fun v11415 k0_hw582 => k0_hw582.1
theorem k0_off583_inb : ∀ (v11415 : BitVec 32) (k0_hw582 : k0_chk582 v11415), ∀ a, (k0_off583 v11415) a + S16x128.size a ≤ S66048x128.size a := fun v11415 k0_hw582 => k0_hw582.2

def k0_mult583 (v11453 : BitVec 32) : BitVec 32 :=
  let c3_i32_7621 : BitVec 32 := 3#32
  let v11457 : BitVec 32 := Scalar.shrsi v11453 c3_i32_7621
  let c3_i32_7622 : BitVec 32 := 3#32
  let v11458 : BitVec 32 := Scalar.shli v11457 c3_i32_7622
  v11458

def k0_mult584 (v11454 : BitVec 32) : BitVec 32 :=
  let c3_i32_7623 : BitVec 32 := 3#32
  let v11460 : BitVec 32 := Scalar.shrsi v11454 c3_i32_7623
  let c3_i32_7624 : BitVec 32 := 3#32
  let v11461 : BitVec 32 := Scalar.shli v11460 c3_i32_7624
  v11461

def k0_off584 (v11453 : BitVec 32) : Fin 2 → Nat :=
  let c3_i32_7621 : BitVec 32 := 3#32
  let v11457 : BitVec 32 := Scalar.shrsi v11453 c3_i32_7621
  let c3_i32_7622 : BitVec 32 := 3#32
  let v11458 : BitVec 32 := Scalar.shli v11457 c3_i32_7622
  let v11459 : BitVec 32 := v11458
  let v11463 : Index := Scalar.indexCast v11459
  let c0_7625 : Index := 0#32
  ![v11463.toNat, 0]

def k0_chk583 (v11453 : BitVec 32) : Prop :=
  (8 ∣ (k0_mult583 v11453).toNat) ∧
  (∀ a, (k0_off584 v11453) a + S16x128.size a ≤ S66048x128.size a)
theorem k0_mult583_dvd : ∀ (v11453 : BitVec 32) (k0_hw583 : k0_chk583 v11453), 8 ∣ (k0_mult583 v11453).toNat := fun v11453 k0_hw583 => k0_hw583.1
theorem k0_off584_inb : ∀ (v11453 : BitVec 32) (k0_hw583 : k0_chk583 v11453), ∀ a, (k0_off584 v11453) a + S16x128.size a ≤ S66048x128.size a := fun v11453 k0_hw583 => k0_hw583.2

def k0_off585 (v11454 : BitVec 32) : Fin 2 → Nat :=
  let c3_i32_7623 : BitVec 32 := 3#32
  let v11460 : BitVec 32 := Scalar.shrsi v11454 c3_i32_7623
  let c3_i32_7624 : BitVec 32 := 3#32
  let v11461 : BitVec 32 := Scalar.shli v11460 c3_i32_7624
  let v11462 : BitVec 32 := v11461
  let v11465 : Index := Scalar.indexCast v11462
  let c0_7626 : Index := 0#32
  ![v11465.toNat, 0]

def k0_chk584 (v11454 : BitVec 32) : Prop :=
  (8 ∣ (k0_mult584 v11454).toNat) ∧
  (∀ a, (k0_off585 v11454) a + S16x128.size a ≤ S66048x128.size a)
theorem k0_mult584_dvd : ∀ (v11454 : BitVec 32) (k0_hw584 : k0_chk584 v11454), 8 ∣ (k0_mult584 v11454).toNat := fun v11454 k0_hw584 => k0_hw584.1
theorem k0_off585_inb : ∀ (v11454 : BitVec 32) (k0_hw584 : k0_chk584 v11454), ∀ a, (k0_off585 v11454) a + S16x128.size a ≤ S66048x128.size a := fun v11454 k0_hw584 => k0_hw584.2

def k0_mult585 (v11492 : BitVec 32) : BitVec 32 :=
  let c3_i32_7647 : BitVec 32 := 3#32
  let v11496 : BitVec 32 := Scalar.shrsi v11492 c3_i32_7647
  let c3_i32_7648 : BitVec 32 := 3#32
  let v11497 : BitVec 32 := Scalar.shli v11496 c3_i32_7648
  v11497

def k0_mult586 (v11493 : BitVec 32) : BitVec 32 :=
  let c3_i32_7649 : BitVec 32 := 3#32
  let v11499 : BitVec 32 := Scalar.shrsi v11493 c3_i32_7649
  let c3_i32_7650 : BitVec 32 := 3#32
  let v11500 : BitVec 32 := Scalar.shli v11499 c3_i32_7650
  v11500

def k0_off586 (v11492 : BitVec 32) : Fin 2 → Nat :=
  let c3_i32_7647 : BitVec 32 := 3#32
  let v11496 : BitVec 32 := Scalar.shrsi v11492 c3_i32_7647
  let c3_i32_7648 : BitVec 32 := 3#32
  let v11497 : BitVec 32 := Scalar.shli v11496 c3_i32_7648
  let v11498 : BitVec 32 := v11497
  let v11502 : Index := Scalar.indexCast v11498
  let c0_7651 : Index := 0#32
  ![v11502.toNat, 0]

def k0_chk585 (v11492 : BitVec 32) : Prop :=
  (8 ∣ (k0_mult585 v11492).toNat) ∧
  (∀ a, (k0_off586 v11492) a + S16x128.size a ≤ S66048x128.size a)
theorem k0_mult585_dvd : ∀ (v11492 : BitVec 32) (k0_hw585 : k0_chk585 v11492), 8 ∣ (k0_mult585 v11492).toNat := fun v11492 k0_hw585 => k0_hw585.1
theorem k0_off586_inb : ∀ (v11492 : BitVec 32) (k0_hw585 : k0_chk585 v11492), ∀ a, (k0_off586 v11492) a + S16x128.size a ≤ S66048x128.size a := fun v11492 k0_hw585 => k0_hw585.2

def k0_off587 (v11493 : BitVec 32) : Fin 2 → Nat :=
  let c3_i32_7649 : BitVec 32 := 3#32
  let v11499 : BitVec 32 := Scalar.shrsi v11493 c3_i32_7649
  let c3_i32_7650 : BitVec 32 := 3#32
  let v11500 : BitVec 32 := Scalar.shli v11499 c3_i32_7650
  let v11501 : BitVec 32 := v11500
  let v11504 : Index := Scalar.indexCast v11501
  let c0_7652 : Index := 0#32
  ![v11504.toNat, 0]

def k0_chk586 (v11493 : BitVec 32) : Prop :=
  (8 ∣ (k0_mult586 v11493).toNat) ∧
  (∀ a, (k0_off587 v11493) a + S16x128.size a ≤ S66048x128.size a)
theorem k0_mult586_dvd : ∀ (v11493 : BitVec 32) (k0_hw586 : k0_chk586 v11493), 8 ∣ (k0_mult586 v11493).toNat := fun v11493 k0_hw586 => k0_hw586.1
theorem k0_off587_inb : ∀ (v11493 : BitVec 32) (k0_hw586 : k0_chk586 v11493), ∀ a, (k0_off587 v11493) a + S16x128.size a ≤ S66048x128.size a := fun v11493 k0_hw586 => k0_hw586.2

def k0_mult587 (v11531 : BitVec 32) : BitVec 32 :=
  let c3_i32_7673 : BitVec 32 := 3#32
  let v11535 : BitVec 32 := Scalar.shrsi v11531 c3_i32_7673
  let c3_i32_7674 : BitVec 32 := 3#32
  let v11536 : BitVec 32 := Scalar.shli v11535 c3_i32_7674
  v11536

def k0_mult588 (v11532 : BitVec 32) : BitVec 32 :=
  let c3_i32_7675 : BitVec 32 := 3#32
  let v11538 : BitVec 32 := Scalar.shrsi v11532 c3_i32_7675
  let c3_i32_7676 : BitVec 32 := 3#32
  let v11539 : BitVec 32 := Scalar.shli v11538 c3_i32_7676
  v11539

def k0_off588 (v11531 : BitVec 32) : Fin 2 → Nat :=
  let c3_i32_7673 : BitVec 32 := 3#32
  let v11535 : BitVec 32 := Scalar.shrsi v11531 c3_i32_7673
  let c3_i32_7674 : BitVec 32 := 3#32
  let v11536 : BitVec 32 := Scalar.shli v11535 c3_i32_7674
  let v11537 : BitVec 32 := v11536
  let v11541 : Index := Scalar.indexCast v11537
  let c0_7677 : Index := 0#32
  ![v11541.toNat, 0]

def k0_chk587 (v11531 : BitVec 32) : Prop :=
  (8 ∣ (k0_mult587 v11531).toNat) ∧
  (∀ a, (k0_off588 v11531) a + S16x128.size a ≤ S66048x128.size a)
theorem k0_mult587_dvd : ∀ (v11531 : BitVec 32) (k0_hw587 : k0_chk587 v11531), 8 ∣ (k0_mult587 v11531).toNat := fun v11531 k0_hw587 => k0_hw587.1
theorem k0_off588_inb : ∀ (v11531 : BitVec 32) (k0_hw587 : k0_chk587 v11531), ∀ a, (k0_off588 v11531) a + S16x128.size a ≤ S66048x128.size a := fun v11531 k0_hw587 => k0_hw587.2

def k0_off589 (v11532 : BitVec 32) : Fin 2 → Nat :=
  let c3_i32_7675 : BitVec 32 := 3#32
  let v11538 : BitVec 32 := Scalar.shrsi v11532 c3_i32_7675
  let c3_i32_7676 : BitVec 32 := 3#32
  let v11539 : BitVec 32 := Scalar.shli v11538 c3_i32_7676
  let v11540 : BitVec 32 := v11539
  let v11543 : Index := Scalar.indexCast v11540
  let c0_7678 : Index := 0#32
  ![v11543.toNat, 0]

def k0_chk588 (v11532 : BitVec 32) : Prop :=
  (8 ∣ (k0_mult588 v11532).toNat) ∧
  (∀ a, (k0_off589 v11532) a + S16x128.size a ≤ S66048x128.size a)
theorem k0_mult588_dvd : ∀ (v11532 : BitVec 32) (k0_hw588 : k0_chk588 v11532), 8 ∣ (k0_mult588 v11532).toNat := fun v11532 k0_hw588 => k0_hw588.1
theorem k0_off589_inb : ∀ (v11532 : BitVec 32) (k0_hw588 : k0_chk588 v11532), ∀ a, (k0_off589 v11532) a + S16x128.size a ≤ S66048x128.size a := fun v11532 k0_hw588 => k0_hw588.2

def k0_mult589 (v11570 : BitVec 32) : BitVec 32 :=
  let c3_i32_7699 : BitVec 32 := 3#32
  let v11574 : BitVec 32 := Scalar.shrsi v11570 c3_i32_7699
  let c3_i32_7700 : BitVec 32 := 3#32
  let v11575 : BitVec 32 := Scalar.shli v11574 c3_i32_7700
  v11575

def k0_mult590 (v11571 : BitVec 32) : BitVec 32 :=
  let c3_i32_7701 : BitVec 32 := 3#32
  let v11577 : BitVec 32 := Scalar.shrsi v11571 c3_i32_7701
  let c3_i32_7702 : BitVec 32 := 3#32
  let v11578 : BitVec 32 := Scalar.shli v11577 c3_i32_7702
  v11578

def k0_off590 (v11570 : BitVec 32) : Fin 2 → Nat :=
  let c3_i32_7699 : BitVec 32 := 3#32
  let v11574 : BitVec 32 := Scalar.shrsi v11570 c3_i32_7699
  let c3_i32_7700 : BitVec 32 := 3#32
  let v11575 : BitVec 32 := Scalar.shli v11574 c3_i32_7700
  let v11576 : BitVec 32 := v11575
  let v11580 : Index := Scalar.indexCast v11576
  let c0_7703 : Index := 0#32
  ![v11580.toNat, 0]

def k0_chk589 (v11570 : BitVec 32) : Prop :=
  (8 ∣ (k0_mult589 v11570).toNat) ∧
  (∀ a, (k0_off590 v11570) a + S16x128.size a ≤ S66048x128.size a)
theorem k0_mult589_dvd : ∀ (v11570 : BitVec 32) (k0_hw589 : k0_chk589 v11570), 8 ∣ (k0_mult589 v11570).toNat := fun v11570 k0_hw589 => k0_hw589.1
theorem k0_off590_inb : ∀ (v11570 : BitVec 32) (k0_hw589 : k0_chk589 v11570), ∀ a, (k0_off590 v11570) a + S16x128.size a ≤ S66048x128.size a := fun v11570 k0_hw589 => k0_hw589.2

def k0_off591 (v11571 : BitVec 32) : Fin 2 → Nat :=
  let c3_i32_7701 : BitVec 32 := 3#32
  let v11577 : BitVec 32 := Scalar.shrsi v11571 c3_i32_7701
  let c3_i32_7702 : BitVec 32 := 3#32
  let v11578 : BitVec 32 := Scalar.shli v11577 c3_i32_7702
  let v11579 : BitVec 32 := v11578
  let v11582 : Index := Scalar.indexCast v11579
  let c0_7704 : Index := 0#32
  ![v11582.toNat, 0]

def k0_chk590 (v11571 : BitVec 32) : Prop :=
  (8 ∣ (k0_mult590 v11571).toNat) ∧
  (∀ a, (k0_off591 v11571) a + S16x128.size a ≤ S66048x128.size a)
theorem k0_mult590_dvd : ∀ (v11571 : BitVec 32) (k0_hw590 : k0_chk590 v11571), 8 ∣ (k0_mult590 v11571).toNat := fun v11571 k0_hw590 => k0_hw590.1
theorem k0_off591_inb : ∀ (v11571 : BitVec 32) (k0_hw590 : k0_chk590 v11571), ∀ a, (k0_off591 v11571) a + S16x128.size a ≤ S66048x128.size a := fun v11571 k0_hw590 => k0_hw590.2

def k0_mult591 (v11609 : BitVec 32) : BitVec 32 :=
  let c3_i32_7725 : BitVec 32 := 3#32
  let v11613 : BitVec 32 := Scalar.shrsi v11609 c3_i32_7725
  let c3_i32_7726 : BitVec 32 := 3#32
  let v11614 : BitVec 32 := Scalar.shli v11613 c3_i32_7726
  v11614

def k0_mult592 (v11610 : BitVec 32) : BitVec 32 :=
  let c3_i32_7727 : BitVec 32 := 3#32
  let v11616 : BitVec 32 := Scalar.shrsi v11610 c3_i32_7727
  let c3_i32_7728 : BitVec 32 := 3#32
  let v11617 : BitVec 32 := Scalar.shli v11616 c3_i32_7728
  v11617

def k0_off592 (v11609 : BitVec 32) : Fin 2 → Nat :=
  let c3_i32_7725 : BitVec 32 := 3#32
  let v11613 : BitVec 32 := Scalar.shrsi v11609 c3_i32_7725
  let c3_i32_7726 : BitVec 32 := 3#32
  let v11614 : BitVec 32 := Scalar.shli v11613 c3_i32_7726
  let v11615 : BitVec 32 := v11614
  let v11619 : Index := Scalar.indexCast v11615
  let c0_7729 : Index := 0#32
  ![v11619.toNat, 0]

def k0_chk591 (v11609 : BitVec 32) : Prop :=
  (8 ∣ (k0_mult591 v11609).toNat) ∧
  (∀ a, (k0_off592 v11609) a + S16x128.size a ≤ S66048x128.size a)
theorem k0_mult591_dvd : ∀ (v11609 : BitVec 32) (k0_hw591 : k0_chk591 v11609), 8 ∣ (k0_mult591 v11609).toNat := fun v11609 k0_hw591 => k0_hw591.1
theorem k0_off592_inb : ∀ (v11609 : BitVec 32) (k0_hw591 : k0_chk591 v11609), ∀ a, (k0_off592 v11609) a + S16x128.size a ≤ S66048x128.size a := fun v11609 k0_hw591 => k0_hw591.2

def k0_off593 (v11610 : BitVec 32) : Fin 2 → Nat :=
  let c3_i32_7727 : BitVec 32 := 3#32
  let v11616 : BitVec 32 := Scalar.shrsi v11610 c3_i32_7727
  let c3_i32_7728 : BitVec 32 := 3#32
  let v11617 : BitVec 32 := Scalar.shli v11616 c3_i32_7728
  let v11618 : BitVec 32 := v11617
  let v11621 : Index := Scalar.indexCast v11618
  let c0_7730 : Index := 0#32
  ![v11621.toNat, 0]

def k0_chk592 (v11610 : BitVec 32) : Prop :=
  (8 ∣ (k0_mult592 v11610).toNat) ∧
  (∀ a, (k0_off593 v11610) a + S16x128.size a ≤ S66048x128.size a)
theorem k0_mult592_dvd : ∀ (v11610 : BitVec 32) (k0_hw592 : k0_chk592 v11610), 8 ∣ (k0_mult592 v11610).toNat := fun v11610 k0_hw592 => k0_hw592.1
theorem k0_off593_inb : ∀ (v11610 : BitVec 32) (k0_hw592 : k0_chk592 v11610), ∀ a, (k0_off593 v11610) a + S16x128.size a ≤ S66048x128.size a := fun v11610 k0_hw592 => k0_hw592.2

def k0_mult593 (v11648 : BitVec 32) : BitVec 32 :=
  let c3_i32_7751 : BitVec 32 := 3#32
  let v11652 : BitVec 32 := Scalar.shrsi v11648 c3_i32_7751
  let c3_i32_7752 : BitVec 32 := 3#32
  let v11653 : BitVec 32 := Scalar.shli v11652 c3_i32_7752
  v11653

def k0_mult594 (v11649 : BitVec 32) : BitVec 32 :=
  let c3_i32_7753 : BitVec 32 := 3#32
  let v11655 : BitVec 32 := Scalar.shrsi v11649 c3_i32_7753
  let c3_i32_7754 : BitVec 32 := 3#32
  let v11656 : BitVec 32 := Scalar.shli v11655 c3_i32_7754
  v11656

def k0_off594 (v11648 : BitVec 32) : Fin 2 → Nat :=
  let c3_i32_7751 : BitVec 32 := 3#32
  let v11652 : BitVec 32 := Scalar.shrsi v11648 c3_i32_7751
  let c3_i32_7752 : BitVec 32 := 3#32
  let v11653 : BitVec 32 := Scalar.shli v11652 c3_i32_7752
  let v11654 : BitVec 32 := v11653
  let v11658 : Index := Scalar.indexCast v11654
  let c0_7755 : Index := 0#32
  ![v11658.toNat, 0]

def k0_chk593 (v11648 : BitVec 32) : Prop :=
  (8 ∣ (k0_mult593 v11648).toNat) ∧
  (∀ a, (k0_off594 v11648) a + S16x128.size a ≤ S66048x128.size a)
theorem k0_mult593_dvd : ∀ (v11648 : BitVec 32) (k0_hw593 : k0_chk593 v11648), 8 ∣ (k0_mult593 v11648).toNat := fun v11648 k0_hw593 => k0_hw593.1
theorem k0_off594_inb : ∀ (v11648 : BitVec 32) (k0_hw593 : k0_chk593 v11648), ∀ a, (k0_off594 v11648) a + S16x128.size a ≤ S66048x128.size a := fun v11648 k0_hw593 => k0_hw593.2

def k0_off595 (v11649 : BitVec 32) : Fin 2 → Nat :=
  let c3_i32_7753 : BitVec 32 := 3#32
  let v11655 : BitVec 32 := Scalar.shrsi v11649 c3_i32_7753
  let c3_i32_7754 : BitVec 32 := 3#32
  let v11656 : BitVec 32 := Scalar.shli v11655 c3_i32_7754
  let v11657 : BitVec 32 := v11656
  let v11660 : Index := Scalar.indexCast v11657
  let c0_7756 : Index := 0#32
  ![v11660.toNat, 0]

def k0_chk594 (v11649 : BitVec 32) : Prop :=
  (8 ∣ (k0_mult594 v11649).toNat) ∧
  (∀ a, (k0_off595 v11649) a + S16x128.size a ≤ S66048x128.size a)
theorem k0_mult594_dvd : ∀ (v11649 : BitVec 32) (k0_hw594 : k0_chk594 v11649), 8 ∣ (k0_mult594 v11649).toNat := fun v11649 k0_hw594 => k0_hw594.1
theorem k0_off595_inb : ∀ (v11649 : BitVec 32) (k0_hw594 : k0_chk594 v11649), ∀ a, (k0_off595 v11649) a + S16x128.size a ≤ S66048x128.size a := fun v11649 k0_hw594 => k0_hw594.2

def k0_mult595 (v11687 : BitVec 32) : BitVec 32 :=
  let c3_i32_7777 : BitVec 32 := 3#32
  let v11691 : BitVec 32 := Scalar.shrsi v11687 c3_i32_7777
  let c3_i32_7778 : BitVec 32 := 3#32
  let v11692 : BitVec 32 := Scalar.shli v11691 c3_i32_7778
  v11692

def k0_mult596 (v11688 : BitVec 32) : BitVec 32 :=
  let c3_i32_7779 : BitVec 32 := 3#32
  let v11694 : BitVec 32 := Scalar.shrsi v11688 c3_i32_7779
  let c3_i32_7780 : BitVec 32 := 3#32
  let v11695 : BitVec 32 := Scalar.shli v11694 c3_i32_7780
  v11695

def k0_off596 (v11687 : BitVec 32) : Fin 2 → Nat :=
  let c3_i32_7777 : BitVec 32 := 3#32
  let v11691 : BitVec 32 := Scalar.shrsi v11687 c3_i32_7777
  let c3_i32_7778 : BitVec 32 := 3#32
  let v11692 : BitVec 32 := Scalar.shli v11691 c3_i32_7778
  let v11693 : BitVec 32 := v11692
  let v11697 : Index := Scalar.indexCast v11693
  let c0_7781 : Index := 0#32
  ![v11697.toNat, 0]

def k0_chk595 (v11687 : BitVec 32) : Prop :=
  (8 ∣ (k0_mult595 v11687).toNat) ∧
  (∀ a, (k0_off596 v11687) a + S16x128.size a ≤ S66048x128.size a)
theorem k0_mult595_dvd : ∀ (v11687 : BitVec 32) (k0_hw595 : k0_chk595 v11687), 8 ∣ (k0_mult595 v11687).toNat := fun v11687 k0_hw595 => k0_hw595.1
theorem k0_off596_inb : ∀ (v11687 : BitVec 32) (k0_hw595 : k0_chk595 v11687), ∀ a, (k0_off596 v11687) a + S16x128.size a ≤ S66048x128.size a := fun v11687 k0_hw595 => k0_hw595.2

def k0_off597 (v11688 : BitVec 32) : Fin 2 → Nat :=
  let c3_i32_7779 : BitVec 32 := 3#32
  let v11694 : BitVec 32 := Scalar.shrsi v11688 c3_i32_7779
  let c3_i32_7780 : BitVec 32 := 3#32
  let v11695 : BitVec 32 := Scalar.shli v11694 c3_i32_7780
  let v11696 : BitVec 32 := v11695
  let v11699 : Index := Scalar.indexCast v11696
  let c0_7782 : Index := 0#32
  ![v11699.toNat, 0]

def k0_chk596 (v11688 : BitVec 32) : Prop :=
  (8 ∣ (k0_mult596 v11688).toNat) ∧
  (∀ a, (k0_off597 v11688) a + S16x128.size a ≤ S66048x128.size a)
theorem k0_mult596_dvd : ∀ (v11688 : BitVec 32) (k0_hw596 : k0_chk596 v11688), 8 ∣ (k0_mult596 v11688).toNat := fun v11688 k0_hw596 => k0_hw596.1
theorem k0_off597_inb : ∀ (v11688 : BitVec 32) (k0_hw596 : k0_chk596 v11688), ∀ a, (k0_off597 v11688) a + S16x128.size a ≤ S66048x128.size a := fun v11688 k0_hw596 => k0_hw596.2

def k0_mult597 (v11726 : BitVec 32) : BitVec 32 :=
  let c3_i32_7803 : BitVec 32 := 3#32
  let v11730 : BitVec 32 := Scalar.shrsi v11726 c3_i32_7803
  let c3_i32_7804 : BitVec 32 := 3#32
  let v11731 : BitVec 32 := Scalar.shli v11730 c3_i32_7804
  v11731

def k0_mult598 (v11727 : BitVec 32) : BitVec 32 :=
  let c3_i32_7805 : BitVec 32 := 3#32
  let v11733 : BitVec 32 := Scalar.shrsi v11727 c3_i32_7805
  let c3_i32_7806 : BitVec 32 := 3#32
  let v11734 : BitVec 32 := Scalar.shli v11733 c3_i32_7806
  v11734

def k0_off598 (v11726 : BitVec 32) : Fin 2 → Nat :=
  let c3_i32_7803 : BitVec 32 := 3#32
  let v11730 : BitVec 32 := Scalar.shrsi v11726 c3_i32_7803
  let c3_i32_7804 : BitVec 32 := 3#32
  let v11731 : BitVec 32 := Scalar.shli v11730 c3_i32_7804
  let v11732 : BitVec 32 := v11731
  let v11736 : Index := Scalar.indexCast v11732
  let c0_7807 : Index := 0#32
  ![v11736.toNat, 0]

def k0_chk597 (v11726 : BitVec 32) : Prop :=
  (8 ∣ (k0_mult597 v11726).toNat) ∧
  (∀ a, (k0_off598 v11726) a + S16x128.size a ≤ S66048x128.size a)
theorem k0_mult597_dvd : ∀ (v11726 : BitVec 32) (k0_hw597 : k0_chk597 v11726), 8 ∣ (k0_mult597 v11726).toNat := fun v11726 k0_hw597 => k0_hw597.1
theorem k0_off598_inb : ∀ (v11726 : BitVec 32) (k0_hw597 : k0_chk597 v11726), ∀ a, (k0_off598 v11726) a + S16x128.size a ≤ S66048x128.size a := fun v11726 k0_hw597 => k0_hw597.2

def k0_off599 (v11727 : BitVec 32) : Fin 2 → Nat :=
  let c3_i32_7805 : BitVec 32 := 3#32
  let v11733 : BitVec 32 := Scalar.shrsi v11727 c3_i32_7805
  let c3_i32_7806 : BitVec 32 := 3#32
  let v11734 : BitVec 32 := Scalar.shli v11733 c3_i32_7806
  let v11735 : BitVec 32 := v11734
  let v11738 : Index := Scalar.indexCast v11735
  let c0_7808 : Index := 0#32
  ![v11738.toNat, 0]

def k0_chk598 (v11727 : BitVec 32) : Prop :=
  (8 ∣ (k0_mult598 v11727).toNat) ∧
  (∀ a, (k0_off599 v11727) a + S16x128.size a ≤ S66048x128.size a)
theorem k0_mult598_dvd : ∀ (v11727 : BitVec 32) (k0_hw598 : k0_chk598 v11727), 8 ∣ (k0_mult598 v11727).toNat := fun v11727 k0_hw598 => k0_hw598.1
theorem k0_off599_inb : ∀ (v11727 : BitVec 32) (k0_hw598 : k0_chk598 v11727), ∀ a, (k0_off599 v11727) a + S16x128.size a ≤ S66048x128.size a := fun v11727 k0_hw598 => k0_hw598.2

def k0_mult599 (v11765 : BitVec 32) : BitVec 32 :=
  let c3_i32_7829 : BitVec 32 := 3#32
  let v11769 : BitVec 32 := Scalar.shrsi v11765 c3_i32_7829
  let c3_i32_7830 : BitVec 32 := 3#32
  let v11770 : BitVec 32 := Scalar.shli v11769 c3_i32_7830
  v11770

def k0_mult600 (v11766 : BitVec 32) : BitVec 32 :=
  let c3_i32_7831 : BitVec 32 := 3#32
  let v11772 : BitVec 32 := Scalar.shrsi v11766 c3_i32_7831
  let c3_i32_7832 : BitVec 32 := 3#32
  let v11773 : BitVec 32 := Scalar.shli v11772 c3_i32_7832
  v11773

def k0_off600 (v11765 : BitVec 32) : Fin 2 → Nat :=
  let c3_i32_7829 : BitVec 32 := 3#32
  let v11769 : BitVec 32 := Scalar.shrsi v11765 c3_i32_7829
  let c3_i32_7830 : BitVec 32 := 3#32
  let v11770 : BitVec 32 := Scalar.shli v11769 c3_i32_7830
  let v11771 : BitVec 32 := v11770
  let v11775 : Index := Scalar.indexCast v11771
  let c0_7833 : Index := 0#32
  ![v11775.toNat, 0]

def k0_chk599 (v11765 : BitVec 32) : Prop :=
  (8 ∣ (k0_mult599 v11765).toNat) ∧
  (∀ a, (k0_off600 v11765) a + S16x128.size a ≤ S66048x128.size a)
theorem k0_mult599_dvd : ∀ (v11765 : BitVec 32) (k0_hw599 : k0_chk599 v11765), 8 ∣ (k0_mult599 v11765).toNat := fun v11765 k0_hw599 => k0_hw599.1
theorem k0_off600_inb : ∀ (v11765 : BitVec 32) (k0_hw599 : k0_chk599 v11765), ∀ a, (k0_off600 v11765) a + S16x128.size a ≤ S66048x128.size a := fun v11765 k0_hw599 => k0_hw599.2

def k0_off601 (v11766 : BitVec 32) : Fin 2 → Nat :=
  let c3_i32_7831 : BitVec 32 := 3#32
  let v11772 : BitVec 32 := Scalar.shrsi v11766 c3_i32_7831
  let c3_i32_7832 : BitVec 32 := 3#32
  let v11773 : BitVec 32 := Scalar.shli v11772 c3_i32_7832
  let v11774 : BitVec 32 := v11773
  let v11777 : Index := Scalar.indexCast v11774
  let c0_7834 : Index := 0#32
  ![v11777.toNat, 0]

def k0_chk600 (v11766 : BitVec 32) : Prop :=
  (8 ∣ (k0_mult600 v11766).toNat) ∧
  (∀ a, (k0_off601 v11766) a + S16x128.size a ≤ S66048x128.size a)
theorem k0_mult600_dvd : ∀ (v11766 : BitVec 32) (k0_hw600 : k0_chk600 v11766), 8 ∣ (k0_mult600 v11766).toNat := fun v11766 k0_hw600 => k0_hw600.1
theorem k0_off601_inb : ∀ (v11766 : BitVec 32) (k0_hw600 : k0_chk600 v11766), ∀ a, (k0_off601 v11766) a + S16x128.size a ≤ S66048x128.size a := fun v11766 k0_hw600 => k0_hw600.2

def k0_mult601 (v11811 : BitVec 32) : BitVec 32 :=
  let c3_i32_7861 : BitVec 32 := 3#32
  let v11815 : BitVec 32 := Scalar.shrsi v11811 c3_i32_7861
  let c3_i32_7862 : BitVec 32 := 3#32
  let v11816 : BitVec 32 := Scalar.shli v11815 c3_i32_7862
  v11816

def k0_mult602 (v11812 : BitVec 32) : BitVec 32 :=
  let c3_i32_7863 : BitVec 32 := 3#32
  let v11818 : BitVec 32 := Scalar.shrsi v11812 c3_i32_7863
  let c3_i32_7864 : BitVec 32 := 3#32
  let v11819 : BitVec 32 := Scalar.shli v11818 c3_i32_7864
  v11819

def k0_off602 (v11811 : BitVec 32) : Fin 2 → Nat :=
  let c3_i32_7861 : BitVec 32 := 3#32
  let v11815 : BitVec 32 := Scalar.shrsi v11811 c3_i32_7861
  let c3_i32_7862 : BitVec 32 := 3#32
  let v11816 : BitVec 32 := Scalar.shli v11815 c3_i32_7862
  let v11817 : BitVec 32 := v11816
  let v11821 : Index := Scalar.indexCast v11817
  let c0_7865 : Index := 0#32
  ![v11821.toNat, 0]

def k0_chk601 (v11811 : BitVec 32) : Prop :=
  (8 ∣ (k0_mult601 v11811).toNat) ∧
  (∀ a, (k0_off602 v11811) a + S16x128.size a ≤ S66048x128.size a)
theorem k0_mult601_dvd : ∀ (v11811 : BitVec 32) (k0_hw601 : k0_chk601 v11811), 8 ∣ (k0_mult601 v11811).toNat := fun v11811 k0_hw601 => k0_hw601.1
theorem k0_off602_inb : ∀ (v11811 : BitVec 32) (k0_hw601 : k0_chk601 v11811), ∀ a, (k0_off602 v11811) a + S16x128.size a ≤ S66048x128.size a := fun v11811 k0_hw601 => k0_hw601.2

def k0_off603 (v11812 : BitVec 32) : Fin 2 → Nat :=
  let c3_i32_7863 : BitVec 32 := 3#32
  let v11818 : BitVec 32 := Scalar.shrsi v11812 c3_i32_7863
  let c3_i32_7864 : BitVec 32 := 3#32
  let v11819 : BitVec 32 := Scalar.shli v11818 c3_i32_7864
  let v11820 : BitVec 32 := v11819
  let v11823 : Index := Scalar.indexCast v11820
  let c0_7866 : Index := 0#32
  ![v11823.toNat, 0]

def k0_chk602 (v11812 : BitVec 32) : Prop :=
  (8 ∣ (k0_mult602 v11812).toNat) ∧
  (∀ a, (k0_off603 v11812) a + S16x128.size a ≤ S66048x128.size a)
theorem k0_mult602_dvd : ∀ (v11812 : BitVec 32) (k0_hw602 : k0_chk602 v11812), 8 ∣ (k0_mult602 v11812).toNat := fun v11812 k0_hw602 => k0_hw602.1
theorem k0_off603_inb : ∀ (v11812 : BitVec 32) (k0_hw602 : k0_chk602 v11812), ∀ a, (k0_off603 v11812) a + S16x128.size a ≤ S66048x128.size a := fun v11812 k0_hw602 => k0_hw602.2

def k0_mult603 (v11850 : BitVec 32) : BitVec 32 :=
  let c3_i32_7887 : BitVec 32 := 3#32
  let v11854 : BitVec 32 := Scalar.shrsi v11850 c3_i32_7887
  let c3_i32_7888 : BitVec 32 := 3#32
  let v11855 : BitVec 32 := Scalar.shli v11854 c3_i32_7888
  v11855

def k0_mult604 (v11851 : BitVec 32) : BitVec 32 :=
  let c3_i32_7889 : BitVec 32 := 3#32
  let v11857 : BitVec 32 := Scalar.shrsi v11851 c3_i32_7889
  let c3_i32_7890 : BitVec 32 := 3#32
  let v11858 : BitVec 32 := Scalar.shli v11857 c3_i32_7890
  v11858

def k0_off604 (v11850 : BitVec 32) : Fin 2 → Nat :=
  let c3_i32_7887 : BitVec 32 := 3#32
  let v11854 : BitVec 32 := Scalar.shrsi v11850 c3_i32_7887
  let c3_i32_7888 : BitVec 32 := 3#32
  let v11855 : BitVec 32 := Scalar.shli v11854 c3_i32_7888
  let v11856 : BitVec 32 := v11855
  let v11860 : Index := Scalar.indexCast v11856
  let c0_7891 : Index := 0#32
  ![v11860.toNat, 0]

def k0_chk603 (v11850 : BitVec 32) : Prop :=
  (8 ∣ (k0_mult603 v11850).toNat) ∧
  (∀ a, (k0_off604 v11850) a + S16x128.size a ≤ S66048x128.size a)
theorem k0_mult603_dvd : ∀ (v11850 : BitVec 32) (k0_hw603 : k0_chk603 v11850), 8 ∣ (k0_mult603 v11850).toNat := fun v11850 k0_hw603 => k0_hw603.1
theorem k0_off604_inb : ∀ (v11850 : BitVec 32) (k0_hw603 : k0_chk603 v11850), ∀ a, (k0_off604 v11850) a + S16x128.size a ≤ S66048x128.size a := fun v11850 k0_hw603 => k0_hw603.2

def k0_off605 (v11851 : BitVec 32) : Fin 2 → Nat :=
  let c3_i32_7889 : BitVec 32 := 3#32
  let v11857 : BitVec 32 := Scalar.shrsi v11851 c3_i32_7889
  let c3_i32_7890 : BitVec 32 := 3#32
  let v11858 : BitVec 32 := Scalar.shli v11857 c3_i32_7890
  let v11859 : BitVec 32 := v11858
  let v11862 : Index := Scalar.indexCast v11859
  let c0_7892 : Index := 0#32
  ![v11862.toNat, 0]

def k0_chk604 (v11851 : BitVec 32) : Prop :=
  (8 ∣ (k0_mult604 v11851).toNat) ∧
  (∀ a, (k0_off605 v11851) a + S16x128.size a ≤ S66048x128.size a)
theorem k0_mult604_dvd : ∀ (v11851 : BitVec 32) (k0_hw604 : k0_chk604 v11851), 8 ∣ (k0_mult604 v11851).toNat := fun v11851 k0_hw604 => k0_hw604.1
theorem k0_off605_inb : ∀ (v11851 : BitVec 32) (k0_hw604 : k0_chk604 v11851), ∀ a, (k0_off605 v11851) a + S16x128.size a ≤ S66048x128.size a := fun v11851 k0_hw604 => k0_hw604.2

def k0_mult605 (v11889 : BitVec 32) : BitVec 32 :=
  let c3_i32_7913 : BitVec 32 := 3#32
  let v11893 : BitVec 32 := Scalar.shrsi v11889 c3_i32_7913
  let c3_i32_7914 : BitVec 32 := 3#32
  let v11894 : BitVec 32 := Scalar.shli v11893 c3_i32_7914
  v11894

def k0_mult606 (v11890 : BitVec 32) : BitVec 32 :=
  let c3_i32_7915 : BitVec 32 := 3#32
  let v11896 : BitVec 32 := Scalar.shrsi v11890 c3_i32_7915
  let c3_i32_7916 : BitVec 32 := 3#32
  let v11897 : BitVec 32 := Scalar.shli v11896 c3_i32_7916
  v11897

def k0_off606 (v11889 : BitVec 32) : Fin 2 → Nat :=
  let c3_i32_7913 : BitVec 32 := 3#32
  let v11893 : BitVec 32 := Scalar.shrsi v11889 c3_i32_7913
  let c3_i32_7914 : BitVec 32 := 3#32
  let v11894 : BitVec 32 := Scalar.shli v11893 c3_i32_7914
  let v11895 : BitVec 32 := v11894
  let v11899 : Index := Scalar.indexCast v11895
  let c0_7917 : Index := 0#32
  ![v11899.toNat, 0]

def k0_chk605 (v11889 : BitVec 32) : Prop :=
  (8 ∣ (k0_mult605 v11889).toNat) ∧
  (∀ a, (k0_off606 v11889) a + S16x128.size a ≤ S66048x128.size a)
theorem k0_mult605_dvd : ∀ (v11889 : BitVec 32) (k0_hw605 : k0_chk605 v11889), 8 ∣ (k0_mult605 v11889).toNat := fun v11889 k0_hw605 => k0_hw605.1
theorem k0_off606_inb : ∀ (v11889 : BitVec 32) (k0_hw605 : k0_chk605 v11889), ∀ a, (k0_off606 v11889) a + S16x128.size a ≤ S66048x128.size a := fun v11889 k0_hw605 => k0_hw605.2

def k0_off607 (v11890 : BitVec 32) : Fin 2 → Nat :=
  let c3_i32_7915 : BitVec 32 := 3#32
  let v11896 : BitVec 32 := Scalar.shrsi v11890 c3_i32_7915
  let c3_i32_7916 : BitVec 32 := 3#32
  let v11897 : BitVec 32 := Scalar.shli v11896 c3_i32_7916
  let v11898 : BitVec 32 := v11897
  let v11901 : Index := Scalar.indexCast v11898
  let c0_7918 : Index := 0#32
  ![v11901.toNat, 0]

def k0_chk606 (v11890 : BitVec 32) : Prop :=
  (8 ∣ (k0_mult606 v11890).toNat) ∧
  (∀ a, (k0_off607 v11890) a + S16x128.size a ≤ S66048x128.size a)
theorem k0_mult606_dvd : ∀ (v11890 : BitVec 32) (k0_hw606 : k0_chk606 v11890), 8 ∣ (k0_mult606 v11890).toNat := fun v11890 k0_hw606 => k0_hw606.1
theorem k0_off607_inb : ∀ (v11890 : BitVec 32) (k0_hw606 : k0_chk606 v11890), ∀ a, (k0_off607 v11890) a + S16x128.size a ≤ S66048x128.size a := fun v11890 k0_hw606 => k0_hw606.2

def k0_mult607 (v11928 : BitVec 32) : BitVec 32 :=
  let c3_i32_7939 : BitVec 32 := 3#32
  let v11932 : BitVec 32 := Scalar.shrsi v11928 c3_i32_7939
  let c3_i32_7940 : BitVec 32 := 3#32
  let v11933 : BitVec 32 := Scalar.shli v11932 c3_i32_7940
  v11933

def k0_mult608 (v11929 : BitVec 32) : BitVec 32 :=
  let c3_i32_7941 : BitVec 32 := 3#32
  let v11935 : BitVec 32 := Scalar.shrsi v11929 c3_i32_7941
  let c3_i32_7942 : BitVec 32 := 3#32
  let v11936 : BitVec 32 := Scalar.shli v11935 c3_i32_7942
  v11936

def k0_off608 (v11928 : BitVec 32) : Fin 2 → Nat :=
  let c3_i32_7939 : BitVec 32 := 3#32
  let v11932 : BitVec 32 := Scalar.shrsi v11928 c3_i32_7939
  let c3_i32_7940 : BitVec 32 := 3#32
  let v11933 : BitVec 32 := Scalar.shli v11932 c3_i32_7940
  let v11934 : BitVec 32 := v11933
  let v11938 : Index := Scalar.indexCast v11934
  let c0_7943 : Index := 0#32
  ![v11938.toNat, 0]

def k0_chk607 (v11928 : BitVec 32) : Prop :=
  (8 ∣ (k0_mult607 v11928).toNat) ∧
  (∀ a, (k0_off608 v11928) a + S16x128.size a ≤ S66048x128.size a)
theorem k0_mult607_dvd : ∀ (v11928 : BitVec 32) (k0_hw607 : k0_chk607 v11928), 8 ∣ (k0_mult607 v11928).toNat := fun v11928 k0_hw607 => k0_hw607.1
theorem k0_off608_inb : ∀ (v11928 : BitVec 32) (k0_hw607 : k0_chk607 v11928), ∀ a, (k0_off608 v11928) a + S16x128.size a ≤ S66048x128.size a := fun v11928 k0_hw607 => k0_hw607.2

def k0_off609 (v11929 : BitVec 32) : Fin 2 → Nat :=
  let c3_i32_7941 : BitVec 32 := 3#32
  let v11935 : BitVec 32 := Scalar.shrsi v11929 c3_i32_7941
  let c3_i32_7942 : BitVec 32 := 3#32
  let v11936 : BitVec 32 := Scalar.shli v11935 c3_i32_7942
  let v11937 : BitVec 32 := v11936
  let v11940 : Index := Scalar.indexCast v11937
  let c0_7944 : Index := 0#32
  ![v11940.toNat, 0]

def k0_chk608 (v11929 : BitVec 32) : Prop :=
  (8 ∣ (k0_mult608 v11929).toNat) ∧
  (∀ a, (k0_off609 v11929) a + S16x128.size a ≤ S66048x128.size a)
theorem k0_mult608_dvd : ∀ (v11929 : BitVec 32) (k0_hw608 : k0_chk608 v11929), 8 ∣ (k0_mult608 v11929).toNat := fun v11929 k0_hw608 => k0_hw608.1
theorem k0_off609_inb : ∀ (v11929 : BitVec 32) (k0_hw608 : k0_chk608 v11929), ∀ a, (k0_off609 v11929) a + S16x128.size a ≤ S66048x128.size a := fun v11929 k0_hw608 => k0_hw608.2

def k0_mult609 (v11967 : BitVec 32) : BitVec 32 :=
  let c3_i32_7965 : BitVec 32 := 3#32
  let v11971 : BitVec 32 := Scalar.shrsi v11967 c3_i32_7965
  let c3_i32_7966 : BitVec 32 := 3#32
  let v11972 : BitVec 32 := Scalar.shli v11971 c3_i32_7966
  v11972

def k0_mult610 (v11968 : BitVec 32) : BitVec 32 :=
  let c3_i32_7967 : BitVec 32 := 3#32
  let v11974 : BitVec 32 := Scalar.shrsi v11968 c3_i32_7967
  let c3_i32_7968 : BitVec 32 := 3#32
  let v11975 : BitVec 32 := Scalar.shli v11974 c3_i32_7968
  v11975

def k0_off610 (v11967 : BitVec 32) : Fin 2 → Nat :=
  let c3_i32_7965 : BitVec 32 := 3#32
  let v11971 : BitVec 32 := Scalar.shrsi v11967 c3_i32_7965
  let c3_i32_7966 : BitVec 32 := 3#32
  let v11972 : BitVec 32 := Scalar.shli v11971 c3_i32_7966
  let v11973 : BitVec 32 := v11972
  let v11977 : Index := Scalar.indexCast v11973
  let c0_7969 : Index := 0#32
  ![v11977.toNat, 0]

def k0_chk609 (v11967 : BitVec 32) : Prop :=
  (8 ∣ (k0_mult609 v11967).toNat) ∧
  (∀ a, (k0_off610 v11967) a + S16x128.size a ≤ S66048x128.size a)
theorem k0_mult609_dvd : ∀ (v11967 : BitVec 32) (k0_hw609 : k0_chk609 v11967), 8 ∣ (k0_mult609 v11967).toNat := fun v11967 k0_hw609 => k0_hw609.1
theorem k0_off610_inb : ∀ (v11967 : BitVec 32) (k0_hw609 : k0_chk609 v11967), ∀ a, (k0_off610 v11967) a + S16x128.size a ≤ S66048x128.size a := fun v11967 k0_hw609 => k0_hw609.2

def k0_off611 (v11968 : BitVec 32) : Fin 2 → Nat :=
  let c3_i32_7967 : BitVec 32 := 3#32
  let v11974 : BitVec 32 := Scalar.shrsi v11968 c3_i32_7967
  let c3_i32_7968 : BitVec 32 := 3#32
  let v11975 : BitVec 32 := Scalar.shli v11974 c3_i32_7968
  let v11976 : BitVec 32 := v11975
  let v11979 : Index := Scalar.indexCast v11976
  let c0_7970 : Index := 0#32
  ![v11979.toNat, 0]

def k0_chk610 (v11968 : BitVec 32) : Prop :=
  (8 ∣ (k0_mult610 v11968).toNat) ∧
  (∀ a, (k0_off611 v11968) a + S16x128.size a ≤ S66048x128.size a)
theorem k0_mult610_dvd : ∀ (v11968 : BitVec 32) (k0_hw610 : k0_chk610 v11968), 8 ∣ (k0_mult610 v11968).toNat := fun v11968 k0_hw610 => k0_hw610.1
theorem k0_off611_inb : ∀ (v11968 : BitVec 32) (k0_hw610 : k0_chk610 v11968), ∀ a, (k0_off611 v11968) a + S16x128.size a ≤ S66048x128.size a := fun v11968 k0_hw610 => k0_hw610.2

def k0_mult611 (v12006 : BitVec 32) : BitVec 32 :=
  let c3_i32_7991 : BitVec 32 := 3#32
  let v12010 : BitVec 32 := Scalar.shrsi v12006 c3_i32_7991
  let c3_i32_7992 : BitVec 32 := 3#32
  let v12011 : BitVec 32 := Scalar.shli v12010 c3_i32_7992
  v12011

def k0_mult612 (v12007 : BitVec 32) : BitVec 32 :=
  let c3_i32_7993 : BitVec 32 := 3#32
  let v12013 : BitVec 32 := Scalar.shrsi v12007 c3_i32_7993
  let c3_i32_7994 : BitVec 32 := 3#32
  let v12014 : BitVec 32 := Scalar.shli v12013 c3_i32_7994
  v12014

def k0_off612 (v12006 : BitVec 32) : Fin 2 → Nat :=
  let c3_i32_7991 : BitVec 32 := 3#32
  let v12010 : BitVec 32 := Scalar.shrsi v12006 c3_i32_7991
  let c3_i32_7992 : BitVec 32 := 3#32
  let v12011 : BitVec 32 := Scalar.shli v12010 c3_i32_7992
  let v12012 : BitVec 32 := v12011
  let v12016 : Index := Scalar.indexCast v12012
  let c0_7995 : Index := 0#32
  ![v12016.toNat, 0]

def k0_chk611 (v12006 : BitVec 32) : Prop :=
  (8 ∣ (k0_mult611 v12006).toNat) ∧
  (∀ a, (k0_off612 v12006) a + S16x128.size a ≤ S66048x128.size a)
theorem k0_mult611_dvd : ∀ (v12006 : BitVec 32) (k0_hw611 : k0_chk611 v12006), 8 ∣ (k0_mult611 v12006).toNat := fun v12006 k0_hw611 => k0_hw611.1
theorem k0_off612_inb : ∀ (v12006 : BitVec 32) (k0_hw611 : k0_chk611 v12006), ∀ a, (k0_off612 v12006) a + S16x128.size a ≤ S66048x128.size a := fun v12006 k0_hw611 => k0_hw611.2

def k0_off613 (v12007 : BitVec 32) : Fin 2 → Nat :=
  let c3_i32_7993 : BitVec 32 := 3#32
  let v12013 : BitVec 32 := Scalar.shrsi v12007 c3_i32_7993
  let c3_i32_7994 : BitVec 32 := 3#32
  let v12014 : BitVec 32 := Scalar.shli v12013 c3_i32_7994
  let v12015 : BitVec 32 := v12014
  let v12018 : Index := Scalar.indexCast v12015
  let c0_7996 : Index := 0#32
  ![v12018.toNat, 0]

def k0_chk612 (v12007 : BitVec 32) : Prop :=
  (8 ∣ (k0_mult612 v12007).toNat) ∧
  (∀ a, (k0_off613 v12007) a + S16x128.size a ≤ S66048x128.size a)
theorem k0_mult612_dvd : ∀ (v12007 : BitVec 32) (k0_hw612 : k0_chk612 v12007), 8 ∣ (k0_mult612 v12007).toNat := fun v12007 k0_hw612 => k0_hw612.1
theorem k0_off613_inb : ∀ (v12007 : BitVec 32) (k0_hw612 : k0_chk612 v12007), ∀ a, (k0_off613 v12007) a + S16x128.size a ≤ S66048x128.size a := fun v12007 k0_hw612 => k0_hw612.2

def k0_mult613 (v12045 : BitVec 32) : BitVec 32 :=
  let c3_i32_8017 : BitVec 32 := 3#32
  let v12049 : BitVec 32 := Scalar.shrsi v12045 c3_i32_8017
  let c3_i32_8018 : BitVec 32 := 3#32
  let v12050 : BitVec 32 := Scalar.shli v12049 c3_i32_8018
  v12050

def k0_mult614 (v12046 : BitVec 32) : BitVec 32 :=
  let c3_i32_8019 : BitVec 32 := 3#32
  let v12052 : BitVec 32 := Scalar.shrsi v12046 c3_i32_8019
  let c3_i32_8020 : BitVec 32 := 3#32
  let v12053 : BitVec 32 := Scalar.shli v12052 c3_i32_8020
  v12053

def k0_off614 (v12045 : BitVec 32) : Fin 2 → Nat :=
  let c3_i32_8017 : BitVec 32 := 3#32
  let v12049 : BitVec 32 := Scalar.shrsi v12045 c3_i32_8017
  let c3_i32_8018 : BitVec 32 := 3#32
  let v12050 : BitVec 32 := Scalar.shli v12049 c3_i32_8018
  let v12051 : BitVec 32 := v12050
  let v12055 : Index := Scalar.indexCast v12051
  let c0_8021 : Index := 0#32
  ![v12055.toNat, 0]

def k0_chk613 (v12045 : BitVec 32) : Prop :=
  (8 ∣ (k0_mult613 v12045).toNat) ∧
  (∀ a, (k0_off614 v12045) a + S16x128.size a ≤ S66048x128.size a)
theorem k0_mult613_dvd : ∀ (v12045 : BitVec 32) (k0_hw613 : k0_chk613 v12045), 8 ∣ (k0_mult613 v12045).toNat := fun v12045 k0_hw613 => k0_hw613.1
theorem k0_off614_inb : ∀ (v12045 : BitVec 32) (k0_hw613 : k0_chk613 v12045), ∀ a, (k0_off614 v12045) a + S16x128.size a ≤ S66048x128.size a := fun v12045 k0_hw613 => k0_hw613.2

def k0_off615 (v12046 : BitVec 32) : Fin 2 → Nat :=
  let c3_i32_8019 : BitVec 32 := 3#32
  let v12052 : BitVec 32 := Scalar.shrsi v12046 c3_i32_8019
  let c3_i32_8020 : BitVec 32 := 3#32
  let v12053 : BitVec 32 := Scalar.shli v12052 c3_i32_8020
  let v12054 : BitVec 32 := v12053
  let v12057 : Index := Scalar.indexCast v12054
  let c0_8022 : Index := 0#32
  ![v12057.toNat, 0]

def k0_chk614 (v12046 : BitVec 32) : Prop :=
  (8 ∣ (k0_mult614 v12046).toNat) ∧
  (∀ a, (k0_off615 v12046) a + S16x128.size a ≤ S66048x128.size a)
theorem k0_mult614_dvd : ∀ (v12046 : BitVec 32) (k0_hw614 : k0_chk614 v12046), 8 ∣ (k0_mult614 v12046).toNat := fun v12046 k0_hw614 => k0_hw614.1
theorem k0_off615_inb : ∀ (v12046 : BitVec 32) (k0_hw614 : k0_chk614 v12046), ∀ a, (k0_off615 v12046) a + S16x128.size a ≤ S66048x128.size a := fun v12046 k0_hw614 => k0_hw614.2

def k0_mult615 (v12084 : BitVec 32) : BitVec 32 :=
  let c3_i32_8043 : BitVec 32 := 3#32
  let v12088 : BitVec 32 := Scalar.shrsi v12084 c3_i32_8043
  let c3_i32_8044 : BitVec 32 := 3#32
  let v12089 : BitVec 32 := Scalar.shli v12088 c3_i32_8044
  v12089

def k0_mult616 (v12085 : BitVec 32) : BitVec 32 :=
  let c3_i32_8045 : BitVec 32 := 3#32
  let v12091 : BitVec 32 := Scalar.shrsi v12085 c3_i32_8045
  let c3_i32_8046 : BitVec 32 := 3#32
  let v12092 : BitVec 32 := Scalar.shli v12091 c3_i32_8046
  v12092

def k0_off616 (v12084 : BitVec 32) : Fin 2 → Nat :=
  let c3_i32_8043 : BitVec 32 := 3#32
  let v12088 : BitVec 32 := Scalar.shrsi v12084 c3_i32_8043
  let c3_i32_8044 : BitVec 32 := 3#32
  let v12089 : BitVec 32 := Scalar.shli v12088 c3_i32_8044
  let v12090 : BitVec 32 := v12089
  let v12094 : Index := Scalar.indexCast v12090
  let c0_8047 : Index := 0#32
  ![v12094.toNat, 0]

def k0_chk615 (v12084 : BitVec 32) : Prop :=
  (8 ∣ (k0_mult615 v12084).toNat) ∧
  (∀ a, (k0_off616 v12084) a + S16x128.size a ≤ S66048x128.size a)
theorem k0_mult615_dvd : ∀ (v12084 : BitVec 32) (k0_hw615 : k0_chk615 v12084), 8 ∣ (k0_mult615 v12084).toNat := fun v12084 k0_hw615 => k0_hw615.1
theorem k0_off616_inb : ∀ (v12084 : BitVec 32) (k0_hw615 : k0_chk615 v12084), ∀ a, (k0_off616 v12084) a + S16x128.size a ≤ S66048x128.size a := fun v12084 k0_hw615 => k0_hw615.2

def k0_off617 (v12085 : BitVec 32) : Fin 2 → Nat :=
  let c3_i32_8045 : BitVec 32 := 3#32
  let v12091 : BitVec 32 := Scalar.shrsi v12085 c3_i32_8045
  let c3_i32_8046 : BitVec 32 := 3#32
  let v12092 : BitVec 32 := Scalar.shli v12091 c3_i32_8046
  let v12093 : BitVec 32 := v12092
  let v12096 : Index := Scalar.indexCast v12093
  let c0_8048 : Index := 0#32
  ![v12096.toNat, 0]

def k0_chk616 (v12085 : BitVec 32) : Prop :=
  (8 ∣ (k0_mult616 v12085).toNat) ∧
  (∀ a, (k0_off617 v12085) a + S16x128.size a ≤ S66048x128.size a)
theorem k0_mult616_dvd : ∀ (v12085 : BitVec 32) (k0_hw616 : k0_chk616 v12085), 8 ∣ (k0_mult616 v12085).toNat := fun v12085 k0_hw616 => k0_hw616.1
theorem k0_off617_inb : ∀ (v12085 : BitVec 32) (k0_hw616 : k0_chk616 v12085), ∀ a, (k0_off617 v12085) a + S16x128.size a ≤ S66048x128.size a := fun v12085 k0_hw616 => k0_hw616.2

def k0_mult617 (v12123 : BitVec 32) : BitVec 32 :=
  let c3_i32_8069 : BitVec 32 := 3#32
  let v12127 : BitVec 32 := Scalar.shrsi v12123 c3_i32_8069
  let c3_i32_8070 : BitVec 32 := 3#32
  let v12128 : BitVec 32 := Scalar.shli v12127 c3_i32_8070
  v12128

def k0_mult618 (v12124 : BitVec 32) : BitVec 32 :=
  let c3_i32_8071 : BitVec 32 := 3#32
  let v12130 : BitVec 32 := Scalar.shrsi v12124 c3_i32_8071
  let c3_i32_8072 : BitVec 32 := 3#32
  let v12131 : BitVec 32 := Scalar.shli v12130 c3_i32_8072
  v12131

def k0_off618 (v12123 : BitVec 32) : Fin 2 → Nat :=
  let c3_i32_8069 : BitVec 32 := 3#32
  let v12127 : BitVec 32 := Scalar.shrsi v12123 c3_i32_8069
  let c3_i32_8070 : BitVec 32 := 3#32
  let v12128 : BitVec 32 := Scalar.shli v12127 c3_i32_8070
  let v12129 : BitVec 32 := v12128
  let v12133 : Index := Scalar.indexCast v12129
  let c0_8073 : Index := 0#32
  ![v12133.toNat, 0]

def k0_chk617 (v12123 : BitVec 32) : Prop :=
  (8 ∣ (k0_mult617 v12123).toNat) ∧
  (∀ a, (k0_off618 v12123) a + S16x128.size a ≤ S66048x128.size a)
theorem k0_mult617_dvd : ∀ (v12123 : BitVec 32) (k0_hw617 : k0_chk617 v12123), 8 ∣ (k0_mult617 v12123).toNat := fun v12123 k0_hw617 => k0_hw617.1
theorem k0_off618_inb : ∀ (v12123 : BitVec 32) (k0_hw617 : k0_chk617 v12123), ∀ a, (k0_off618 v12123) a + S16x128.size a ≤ S66048x128.size a := fun v12123 k0_hw617 => k0_hw617.2

def k0_off619 (v12124 : BitVec 32) : Fin 2 → Nat :=
  let c3_i32_8071 : BitVec 32 := 3#32
  let v12130 : BitVec 32 := Scalar.shrsi v12124 c3_i32_8071
  let c3_i32_8072 : BitVec 32 := 3#32
  let v12131 : BitVec 32 := Scalar.shli v12130 c3_i32_8072
  let v12132 : BitVec 32 := v12131
  let v12135 : Index := Scalar.indexCast v12132
  let c0_8074 : Index := 0#32
  ![v12135.toNat, 0]

def k0_chk618 (v12124 : BitVec 32) : Prop :=
  (8 ∣ (k0_mult618 v12124).toNat) ∧
  (∀ a, (k0_off619 v12124) a + S16x128.size a ≤ S66048x128.size a)
theorem k0_mult618_dvd : ∀ (v12124 : BitVec 32) (k0_hw618 : k0_chk618 v12124), 8 ∣ (k0_mult618 v12124).toNat := fun v12124 k0_hw618 => k0_hw618.1
theorem k0_off619_inb : ∀ (v12124 : BitVec 32) (k0_hw618 : k0_chk618 v12124), ∀ a, (k0_off619 v12124) a + S16x128.size a ≤ S66048x128.size a := fun v12124 k0_hw618 => k0_hw618.2

def k0_mult619 (v12162 : BitVec 32) : BitVec 32 :=
  let c3_i32_8095 : BitVec 32 := 3#32
  let v12166 : BitVec 32 := Scalar.shrsi v12162 c3_i32_8095
  let c3_i32_8096 : BitVec 32 := 3#32
  let v12167 : BitVec 32 := Scalar.shli v12166 c3_i32_8096
  v12167

def k0_mult620 (v12163 : BitVec 32) : BitVec 32 :=
  let c3_i32_8097 : BitVec 32 := 3#32
  let v12169 : BitVec 32 := Scalar.shrsi v12163 c3_i32_8097
  let c3_i32_8098 : BitVec 32 := 3#32
  let v12170 : BitVec 32 := Scalar.shli v12169 c3_i32_8098
  v12170

def k0_off620 (v12162 : BitVec 32) : Fin 2 → Nat :=
  let c3_i32_8095 : BitVec 32 := 3#32
  let v12166 : BitVec 32 := Scalar.shrsi v12162 c3_i32_8095
  let c3_i32_8096 : BitVec 32 := 3#32
  let v12167 : BitVec 32 := Scalar.shli v12166 c3_i32_8096
  let v12168 : BitVec 32 := v12167
  let v12172 : Index := Scalar.indexCast v12168
  let c0_8099 : Index := 0#32
  ![v12172.toNat, 0]

def k0_chk619 (v12162 : BitVec 32) : Prop :=
  (8 ∣ (k0_mult619 v12162).toNat) ∧
  (∀ a, (k0_off620 v12162) a + S16x128.size a ≤ S66048x128.size a)
theorem k0_mult619_dvd : ∀ (v12162 : BitVec 32) (k0_hw619 : k0_chk619 v12162), 8 ∣ (k0_mult619 v12162).toNat := fun v12162 k0_hw619 => k0_hw619.1
theorem k0_off620_inb : ∀ (v12162 : BitVec 32) (k0_hw619 : k0_chk619 v12162), ∀ a, (k0_off620 v12162) a + S16x128.size a ≤ S66048x128.size a := fun v12162 k0_hw619 => k0_hw619.2

def k0_off621 (v12163 : BitVec 32) : Fin 2 → Nat :=
  let c3_i32_8097 : BitVec 32 := 3#32
  let v12169 : BitVec 32 := Scalar.shrsi v12163 c3_i32_8097
  let c3_i32_8098 : BitVec 32 := 3#32
  let v12170 : BitVec 32 := Scalar.shli v12169 c3_i32_8098
  let v12171 : BitVec 32 := v12170
  let v12174 : Index := Scalar.indexCast v12171
  let c0_8100 : Index := 0#32
  ![v12174.toNat, 0]

def k0_chk620 (v12163 : BitVec 32) : Prop :=
  (8 ∣ (k0_mult620 v12163).toNat) ∧
  (∀ a, (k0_off621 v12163) a + S16x128.size a ≤ S66048x128.size a)
theorem k0_mult620_dvd : ∀ (v12163 : BitVec 32) (k0_hw620 : k0_chk620 v12163), 8 ∣ (k0_mult620 v12163).toNat := fun v12163 k0_hw620 => k0_hw620.1
theorem k0_off621_inb : ∀ (v12163 : BitVec 32) (k0_hw620 : k0_chk620 v12163), ∀ a, (k0_off621 v12163) a + S16x128.size a ≤ S66048x128.size a := fun v12163 k0_hw620 => k0_hw620.2

def k0_mult621 (v12201 : BitVec 32) : BitVec 32 :=
  let c3_i32_8121 : BitVec 32 := 3#32
  let v12205 : BitVec 32 := Scalar.shrsi v12201 c3_i32_8121
  let c3_i32_8122 : BitVec 32 := 3#32
  let v12206 : BitVec 32 := Scalar.shli v12205 c3_i32_8122
  v12206

def k0_mult622 (v12202 : BitVec 32) : BitVec 32 :=
  let c3_i32_8123 : BitVec 32 := 3#32
  let v12208 : BitVec 32 := Scalar.shrsi v12202 c3_i32_8123
  let c3_i32_8124 : BitVec 32 := 3#32
  let v12209 : BitVec 32 := Scalar.shli v12208 c3_i32_8124
  v12209

def k0_off622 (v12201 : BitVec 32) : Fin 2 → Nat :=
  let c3_i32_8121 : BitVec 32 := 3#32
  let v12205 : BitVec 32 := Scalar.shrsi v12201 c3_i32_8121
  let c3_i32_8122 : BitVec 32 := 3#32
  let v12206 : BitVec 32 := Scalar.shli v12205 c3_i32_8122
  let v12207 : BitVec 32 := v12206
  let v12211 : Index := Scalar.indexCast v12207
  let c0_8125 : Index := 0#32
  ![v12211.toNat, 0]

def k0_chk621 (v12201 : BitVec 32) : Prop :=
  (8 ∣ (k0_mult621 v12201).toNat) ∧
  (∀ a, (k0_off622 v12201) a + S16x128.size a ≤ S66048x128.size a)
theorem k0_mult621_dvd : ∀ (v12201 : BitVec 32) (k0_hw621 : k0_chk621 v12201), 8 ∣ (k0_mult621 v12201).toNat := fun v12201 k0_hw621 => k0_hw621.1
theorem k0_off622_inb : ∀ (v12201 : BitVec 32) (k0_hw621 : k0_chk621 v12201), ∀ a, (k0_off622 v12201) a + S16x128.size a ≤ S66048x128.size a := fun v12201 k0_hw621 => k0_hw621.2

def k0_off623 (v12202 : BitVec 32) : Fin 2 → Nat :=
  let c3_i32_8123 : BitVec 32 := 3#32
  let v12208 : BitVec 32 := Scalar.shrsi v12202 c3_i32_8123
  let c3_i32_8124 : BitVec 32 := 3#32
  let v12209 : BitVec 32 := Scalar.shli v12208 c3_i32_8124
  let v12210 : BitVec 32 := v12209
  let v12213 : Index := Scalar.indexCast v12210
  let c0_8126 : Index := 0#32
  ![v12213.toNat, 0]

def k0_chk622 (v12202 : BitVec 32) : Prop :=
  (8 ∣ (k0_mult622 v12202).toNat) ∧
  (∀ a, (k0_off623 v12202) a + S16x128.size a ≤ S66048x128.size a)
theorem k0_mult622_dvd : ∀ (v12202 : BitVec 32) (k0_hw622 : k0_chk622 v12202), 8 ∣ (k0_mult622 v12202).toNat := fun v12202 k0_hw622 => k0_hw622.1
theorem k0_off623_inb : ∀ (v12202 : BitVec 32) (k0_hw622 : k0_chk622 v12202), ∀ a, (k0_off623 v12202) a + S16x128.size a ≤ S66048x128.size a := fun v12202 k0_hw622 => k0_hw622.2

def k0_mult623 (v12240 : BitVec 32) : BitVec 32 :=
  let c3_i32_8147 : BitVec 32 := 3#32
  let v12244 : BitVec 32 := Scalar.shrsi v12240 c3_i32_8147
  let c3_i32_8148 : BitVec 32 := 3#32
  let v12245 : BitVec 32 := Scalar.shli v12244 c3_i32_8148
  v12245

def k0_mult624 (v12241 : BitVec 32) : BitVec 32 :=
  let c3_i32_8149 : BitVec 32 := 3#32
  let v12247 : BitVec 32 := Scalar.shrsi v12241 c3_i32_8149
  let c3_i32_8150 : BitVec 32 := 3#32
  let v12248 : BitVec 32 := Scalar.shli v12247 c3_i32_8150
  v12248

def k0_off624 (v12240 : BitVec 32) : Fin 2 → Nat :=
  let c3_i32_8147 : BitVec 32 := 3#32
  let v12244 : BitVec 32 := Scalar.shrsi v12240 c3_i32_8147
  let c3_i32_8148 : BitVec 32 := 3#32
  let v12245 : BitVec 32 := Scalar.shli v12244 c3_i32_8148
  let v12246 : BitVec 32 := v12245
  let v12250 : Index := Scalar.indexCast v12246
  let c0_8151 : Index := 0#32
  ![v12250.toNat, 0]

def k0_chk623 (v12240 : BitVec 32) : Prop :=
  (8 ∣ (k0_mult623 v12240).toNat) ∧
  (∀ a, (k0_off624 v12240) a + S16x128.size a ≤ S66048x128.size a)
theorem k0_mult623_dvd : ∀ (v12240 : BitVec 32) (k0_hw623 : k0_chk623 v12240), 8 ∣ (k0_mult623 v12240).toNat := fun v12240 k0_hw623 => k0_hw623.1
theorem k0_off624_inb : ∀ (v12240 : BitVec 32) (k0_hw623 : k0_chk623 v12240), ∀ a, (k0_off624 v12240) a + S16x128.size a ≤ S66048x128.size a := fun v12240 k0_hw623 => k0_hw623.2

def k0_off625 (v12241 : BitVec 32) : Fin 2 → Nat :=
  let c3_i32_8149 : BitVec 32 := 3#32
  let v12247 : BitVec 32 := Scalar.shrsi v12241 c3_i32_8149
  let c3_i32_8150 : BitVec 32 := 3#32
  let v12248 : BitVec 32 := Scalar.shli v12247 c3_i32_8150
  let v12249 : BitVec 32 := v12248
  let v12252 : Index := Scalar.indexCast v12249
  let c0_8152 : Index := 0#32
  ![v12252.toNat, 0]

def k0_chk624 (v12241 : BitVec 32) : Prop :=
  (8 ∣ (k0_mult624 v12241).toNat) ∧
  (∀ a, (k0_off625 v12241) a + S16x128.size a ≤ S66048x128.size a)
theorem k0_mult624_dvd : ∀ (v12241 : BitVec 32) (k0_hw624 : k0_chk624 v12241), 8 ∣ (k0_mult624 v12241).toNat := fun v12241 k0_hw624 => k0_hw624.1
theorem k0_off625_inb : ∀ (v12241 : BitVec 32) (k0_hw624 : k0_chk624 v12241), ∀ a, (k0_off625 v12241) a + S16x128.size a ≤ S66048x128.size a := fun v12241 k0_hw624 => k0_hw624.2

def k0_mult625 (v12279 : BitVec 32) : BitVec 32 :=
  let c3_i32_8173 : BitVec 32 := 3#32
  let v12283 : BitVec 32 := Scalar.shrsi v12279 c3_i32_8173
  let c3_i32_8174 : BitVec 32 := 3#32
  let v12284 : BitVec 32 := Scalar.shli v12283 c3_i32_8174
  v12284

def k0_mult626 (v12280 : BitVec 32) : BitVec 32 :=
  let c3_i32_8175 : BitVec 32 := 3#32
  let v12286 : BitVec 32 := Scalar.shrsi v12280 c3_i32_8175
  let c3_i32_8176 : BitVec 32 := 3#32
  let v12287 : BitVec 32 := Scalar.shli v12286 c3_i32_8176
  v12287

def k0_off626 (v12279 : BitVec 32) : Fin 2 → Nat :=
  let c3_i32_8173 : BitVec 32 := 3#32
  let v12283 : BitVec 32 := Scalar.shrsi v12279 c3_i32_8173
  let c3_i32_8174 : BitVec 32 := 3#32
  let v12284 : BitVec 32 := Scalar.shli v12283 c3_i32_8174
  let v12285 : BitVec 32 := v12284
  let v12289 : Index := Scalar.indexCast v12285
  let c0_8177 : Index := 0#32
  ![v12289.toNat, 0]

def k0_chk625 (v12279 : BitVec 32) : Prop :=
  (8 ∣ (k0_mult625 v12279).toNat) ∧
  (∀ a, (k0_off626 v12279) a + S16x128.size a ≤ S66048x128.size a)
theorem k0_mult625_dvd : ∀ (v12279 : BitVec 32) (k0_hw625 : k0_chk625 v12279), 8 ∣ (k0_mult625 v12279).toNat := fun v12279 k0_hw625 => k0_hw625.1
theorem k0_off626_inb : ∀ (v12279 : BitVec 32) (k0_hw625 : k0_chk625 v12279), ∀ a, (k0_off626 v12279) a + S16x128.size a ≤ S66048x128.size a := fun v12279 k0_hw625 => k0_hw625.2

def k0_off627 (v12280 : BitVec 32) : Fin 2 → Nat :=
  let c3_i32_8175 : BitVec 32 := 3#32
  let v12286 : BitVec 32 := Scalar.shrsi v12280 c3_i32_8175
  let c3_i32_8176 : BitVec 32 := 3#32
  let v12287 : BitVec 32 := Scalar.shli v12286 c3_i32_8176
  let v12288 : BitVec 32 := v12287
  let v12291 : Index := Scalar.indexCast v12288
  let c0_8178 : Index := 0#32
  ![v12291.toNat, 0]

def k0_chk626 (v12280 : BitVec 32) : Prop :=
  (8 ∣ (k0_mult626 v12280).toNat) ∧
  (∀ a, (k0_off627 v12280) a + S16x128.size a ≤ S66048x128.size a)
theorem k0_mult626_dvd : ∀ (v12280 : BitVec 32) (k0_hw626 : k0_chk626 v12280), 8 ∣ (k0_mult626 v12280).toNat := fun v12280 k0_hw626 => k0_hw626.1
theorem k0_off627_inb : ∀ (v12280 : BitVec 32) (k0_hw626 : k0_chk626 v12280), ∀ a, (k0_off627 v12280) a + S16x128.size a ≤ S66048x128.size a := fun v12280 k0_hw626 => k0_hw626.2

def k0_mult627 (v12318 : BitVec 32) : BitVec 32 :=
  let c3_i32_8199 : BitVec 32 := 3#32
  let v12322 : BitVec 32 := Scalar.shrsi v12318 c3_i32_8199
  let c3_i32_8200 : BitVec 32 := 3#32
  let v12323 : BitVec 32 := Scalar.shli v12322 c3_i32_8200
  v12323

def k0_mult628 (v12319 : BitVec 32) : BitVec 32 :=
  let c3_i32_8201 : BitVec 32 := 3#32
  let v12325 : BitVec 32 := Scalar.shrsi v12319 c3_i32_8201
  let c3_i32_8202 : BitVec 32 := 3#32
  let v12326 : BitVec 32 := Scalar.shli v12325 c3_i32_8202
  v12326

def k0_off628 (v12318 : BitVec 32) : Fin 2 → Nat :=
  let c3_i32_8199 : BitVec 32 := 3#32
  let v12322 : BitVec 32 := Scalar.shrsi v12318 c3_i32_8199
  let c3_i32_8200 : BitVec 32 := 3#32
  let v12323 : BitVec 32 := Scalar.shli v12322 c3_i32_8200
  let v12324 : BitVec 32 := v12323
  let v12328 : Index := Scalar.indexCast v12324
  let c0_8203 : Index := 0#32
  ![v12328.toNat, 0]

def k0_chk627 (v12318 : BitVec 32) : Prop :=
  (8 ∣ (k0_mult627 v12318).toNat) ∧
  (∀ a, (k0_off628 v12318) a + S16x128.size a ≤ S66048x128.size a)
theorem k0_mult627_dvd : ∀ (v12318 : BitVec 32) (k0_hw627 : k0_chk627 v12318), 8 ∣ (k0_mult627 v12318).toNat := fun v12318 k0_hw627 => k0_hw627.1
theorem k0_off628_inb : ∀ (v12318 : BitVec 32) (k0_hw627 : k0_chk627 v12318), ∀ a, (k0_off628 v12318) a + S16x128.size a ≤ S66048x128.size a := fun v12318 k0_hw627 => k0_hw627.2

def k0_off629 (v12319 : BitVec 32) : Fin 2 → Nat :=
  let c3_i32_8201 : BitVec 32 := 3#32
  let v12325 : BitVec 32 := Scalar.shrsi v12319 c3_i32_8201
  let c3_i32_8202 : BitVec 32 := 3#32
  let v12326 : BitVec 32 := Scalar.shli v12325 c3_i32_8202
  let v12327 : BitVec 32 := v12326
  let v12330 : Index := Scalar.indexCast v12327
  let c0_8204 : Index := 0#32
  ![v12330.toNat, 0]

def k0_chk628 (v12319 : BitVec 32) : Prop :=
  (8 ∣ (k0_mult628 v12319).toNat) ∧
  (∀ a, (k0_off629 v12319) a + S16x128.size a ≤ S66048x128.size a)
theorem k0_mult628_dvd : ∀ (v12319 : BitVec 32) (k0_hw628 : k0_chk628 v12319), 8 ∣ (k0_mult628 v12319).toNat := fun v12319 k0_hw628 => k0_hw628.1
theorem k0_off629_inb : ∀ (v12319 : BitVec 32) (k0_hw628 : k0_chk628 v12319), ∀ a, (k0_off629 v12319) a + S16x128.size a ≤ S66048x128.size a := fun v12319 k0_hw628 => k0_hw628.2

def k0_mult629 (v12357 : BitVec 32) : BitVec 32 :=
  let c3_i32_8225 : BitVec 32 := 3#32
  let v12361 : BitVec 32 := Scalar.shrsi v12357 c3_i32_8225
  let c3_i32_8226 : BitVec 32 := 3#32
  let v12362 : BitVec 32 := Scalar.shli v12361 c3_i32_8226
  v12362

def k0_mult630 (v12358 : BitVec 32) : BitVec 32 :=
  let c3_i32_8227 : BitVec 32 := 3#32
  let v12364 : BitVec 32 := Scalar.shrsi v12358 c3_i32_8227
  let c3_i32_8228 : BitVec 32 := 3#32
  let v12365 : BitVec 32 := Scalar.shli v12364 c3_i32_8228
  v12365

def k0_off630 (v12357 : BitVec 32) : Fin 2 → Nat :=
  let c3_i32_8225 : BitVec 32 := 3#32
  let v12361 : BitVec 32 := Scalar.shrsi v12357 c3_i32_8225
  let c3_i32_8226 : BitVec 32 := 3#32
  let v12362 : BitVec 32 := Scalar.shli v12361 c3_i32_8226
  let v12363 : BitVec 32 := v12362
  let v12367 : Index := Scalar.indexCast v12363
  let c0_8229 : Index := 0#32
  ![v12367.toNat, 0]

def k0_chk629 (v12357 : BitVec 32) : Prop :=
  (8 ∣ (k0_mult629 v12357).toNat) ∧
  (∀ a, (k0_off630 v12357) a + S16x128.size a ≤ S66048x128.size a)
theorem k0_mult629_dvd : ∀ (v12357 : BitVec 32) (k0_hw629 : k0_chk629 v12357), 8 ∣ (k0_mult629 v12357).toNat := fun v12357 k0_hw629 => k0_hw629.1
theorem k0_off630_inb : ∀ (v12357 : BitVec 32) (k0_hw629 : k0_chk629 v12357), ∀ a, (k0_off630 v12357) a + S16x128.size a ≤ S66048x128.size a := fun v12357 k0_hw629 => k0_hw629.2

def k0_off631 (v12358 : BitVec 32) : Fin 2 → Nat :=
  let c3_i32_8227 : BitVec 32 := 3#32
  let v12364 : BitVec 32 := Scalar.shrsi v12358 c3_i32_8227
  let c3_i32_8228 : BitVec 32 := 3#32
  let v12365 : BitVec 32 := Scalar.shli v12364 c3_i32_8228
  let v12366 : BitVec 32 := v12365
  let v12369 : Index := Scalar.indexCast v12366
  let c0_8230 : Index := 0#32
  ![v12369.toNat, 0]

def k0_chk630 (v12358 : BitVec 32) : Prop :=
  (8 ∣ (k0_mult630 v12358).toNat) ∧
  (∀ a, (k0_off631 v12358) a + S16x128.size a ≤ S66048x128.size a)
theorem k0_mult630_dvd : ∀ (v12358 : BitVec 32) (k0_hw630 : k0_chk630 v12358), 8 ∣ (k0_mult630 v12358).toNat := fun v12358 k0_hw630 => k0_hw630.1
theorem k0_off631_inb : ∀ (v12358 : BitVec 32) (k0_hw630 : k0_chk630 v12358), ∀ a, (k0_off631 v12358) a + S16x128.size a ≤ S66048x128.size a := fun v12358 k0_hw630 => k0_hw630.2

def k0_mult631 (v12396 : BitVec 32) : BitVec 32 :=
  let c3_i32_8251 : BitVec 32 := 3#32
  let v12400 : BitVec 32 := Scalar.shrsi v12396 c3_i32_8251
  let c3_i32_8252 : BitVec 32 := 3#32
  let v12401 : BitVec 32 := Scalar.shli v12400 c3_i32_8252
  v12401

def k0_mult632 (v12397 : BitVec 32) : BitVec 32 :=
  let c3_i32_8253 : BitVec 32 := 3#32
  let v12403 : BitVec 32 := Scalar.shrsi v12397 c3_i32_8253
  let c3_i32_8254 : BitVec 32 := 3#32
  let v12404 : BitVec 32 := Scalar.shli v12403 c3_i32_8254
  v12404

def k0_off632 (v12396 : BitVec 32) : Fin 2 → Nat :=
  let c3_i32_8251 : BitVec 32 := 3#32
  let v12400 : BitVec 32 := Scalar.shrsi v12396 c3_i32_8251
  let c3_i32_8252 : BitVec 32 := 3#32
  let v12401 : BitVec 32 := Scalar.shli v12400 c3_i32_8252
  let v12402 : BitVec 32 := v12401
  let v12406 : Index := Scalar.indexCast v12402
  let c0_8255 : Index := 0#32
  ![v12406.toNat, 0]

def k0_chk631 (v12396 : BitVec 32) : Prop :=
  (8 ∣ (k0_mult631 v12396).toNat) ∧
  (∀ a, (k0_off632 v12396) a + S16x128.size a ≤ S66048x128.size a)
theorem k0_mult631_dvd : ∀ (v12396 : BitVec 32) (k0_hw631 : k0_chk631 v12396), 8 ∣ (k0_mult631 v12396).toNat := fun v12396 k0_hw631 => k0_hw631.1
theorem k0_off632_inb : ∀ (v12396 : BitVec 32) (k0_hw631 : k0_chk631 v12396), ∀ a, (k0_off632 v12396) a + S16x128.size a ≤ S66048x128.size a := fun v12396 k0_hw631 => k0_hw631.2

def k0_off633 (v12397 : BitVec 32) : Fin 2 → Nat :=
  let c3_i32_8253 : BitVec 32 := 3#32
  let v12403 : BitVec 32 := Scalar.shrsi v12397 c3_i32_8253
  let c3_i32_8254 : BitVec 32 := 3#32
  let v12404 : BitVec 32 := Scalar.shli v12403 c3_i32_8254
  let v12405 : BitVec 32 := v12404
  let v12408 : Index := Scalar.indexCast v12405
  let c0_8256 : Index := 0#32
  ![v12408.toNat, 0]

def k0_chk632 (v12397 : BitVec 32) : Prop :=
  (8 ∣ (k0_mult632 v12397).toNat) ∧
  (∀ a, (k0_off633 v12397) a + S16x128.size a ≤ S66048x128.size a)
theorem k0_mult632_dvd : ∀ (v12397 : BitVec 32) (k0_hw632 : k0_chk632 v12397), 8 ∣ (k0_mult632 v12397).toNat := fun v12397 k0_hw632 => k0_hw632.1
theorem k0_off633_inb : ∀ (v12397 : BitVec 32) (k0_hw632 : k0_chk632 v12397), ∀ a, (k0_off633 v12397) a + S16x128.size a ≤ S66048x128.size a := fun v12397 k0_hw632 => k0_hw632.2

def k0_mult633 (v12435 : BitVec 32) : BitVec 32 :=
  let c3_i32_8277 : BitVec 32 := 3#32
  let v12439 : BitVec 32 := Scalar.shrsi v12435 c3_i32_8277
  let c3_i32_8278 : BitVec 32 := 3#32
  let v12440 : BitVec 32 := Scalar.shli v12439 c3_i32_8278
  v12440

def k0_mult634 (v12436 : BitVec 32) : BitVec 32 :=
  let c3_i32_8279 : BitVec 32 := 3#32
  let v12442 : BitVec 32 := Scalar.shrsi v12436 c3_i32_8279
  let c3_i32_8280 : BitVec 32 := 3#32
  let v12443 : BitVec 32 := Scalar.shli v12442 c3_i32_8280
  v12443

def k0_off634 (v12435 : BitVec 32) : Fin 2 → Nat :=
  let c3_i32_8277 : BitVec 32 := 3#32
  let v12439 : BitVec 32 := Scalar.shrsi v12435 c3_i32_8277
  let c3_i32_8278 : BitVec 32 := 3#32
  let v12440 : BitVec 32 := Scalar.shli v12439 c3_i32_8278
  let v12441 : BitVec 32 := v12440
  let v12445 : Index := Scalar.indexCast v12441
  let c0_8281 : Index := 0#32
  ![v12445.toNat, 0]

def k0_chk633 (v12435 : BitVec 32) : Prop :=
  (8 ∣ (k0_mult633 v12435).toNat) ∧
  (∀ a, (k0_off634 v12435) a + S16x128.size a ≤ S66048x128.size a)
theorem k0_mult633_dvd : ∀ (v12435 : BitVec 32) (k0_hw633 : k0_chk633 v12435), 8 ∣ (k0_mult633 v12435).toNat := fun v12435 k0_hw633 => k0_hw633.1
theorem k0_off634_inb : ∀ (v12435 : BitVec 32) (k0_hw633 : k0_chk633 v12435), ∀ a, (k0_off634 v12435) a + S16x128.size a ≤ S66048x128.size a := fun v12435 k0_hw633 => k0_hw633.2

def k0_off635 (v12436 : BitVec 32) : Fin 2 → Nat :=
  let c3_i32_8279 : BitVec 32 := 3#32
  let v12442 : BitVec 32 := Scalar.shrsi v12436 c3_i32_8279
  let c3_i32_8280 : BitVec 32 := 3#32
  let v12443 : BitVec 32 := Scalar.shli v12442 c3_i32_8280
  let v12444 : BitVec 32 := v12443
  let v12447 : Index := Scalar.indexCast v12444
  let c0_8282 : Index := 0#32
  ![v12447.toNat, 0]

def k0_chk634 (v12436 : BitVec 32) : Prop :=
  (8 ∣ (k0_mult634 v12436).toNat) ∧
  (∀ a, (k0_off635 v12436) a + S16x128.size a ≤ S66048x128.size a)
theorem k0_mult634_dvd : ∀ (v12436 : BitVec 32) (k0_hw634 : k0_chk634 v12436), 8 ∣ (k0_mult634 v12436).toNat := fun v12436 k0_hw634 => k0_hw634.1
theorem k0_off635_inb : ∀ (v12436 : BitVec 32) (k0_hw634 : k0_chk634 v12436), ∀ a, (k0_off635 v12436) a + S16x128.size a ≤ S66048x128.size a := fun v12436 k0_hw634 => k0_hw634.2

def k0_mult635 (v12474 : BitVec 32) : BitVec 32 :=
  let c3_i32_8303 : BitVec 32 := 3#32
  let v12478 : BitVec 32 := Scalar.shrsi v12474 c3_i32_8303
  let c3_i32_8304 : BitVec 32 := 3#32
  let v12479 : BitVec 32 := Scalar.shli v12478 c3_i32_8304
  v12479

def k0_mult636 (v12475 : BitVec 32) : BitVec 32 :=
  let c3_i32_8305 : BitVec 32 := 3#32
  let v12481 : BitVec 32 := Scalar.shrsi v12475 c3_i32_8305
  let c3_i32_8306 : BitVec 32 := 3#32
  let v12482 : BitVec 32 := Scalar.shli v12481 c3_i32_8306
  v12482

def k0_off636 (v12474 : BitVec 32) : Fin 2 → Nat :=
  let c3_i32_8303 : BitVec 32 := 3#32
  let v12478 : BitVec 32 := Scalar.shrsi v12474 c3_i32_8303
  let c3_i32_8304 : BitVec 32 := 3#32
  let v12479 : BitVec 32 := Scalar.shli v12478 c3_i32_8304
  let v12480 : BitVec 32 := v12479
  let v12484 : Index := Scalar.indexCast v12480
  let c0_8307 : Index := 0#32
  ![v12484.toNat, 0]

def k0_chk635 (v12474 : BitVec 32) : Prop :=
  (8 ∣ (k0_mult635 v12474).toNat) ∧
  (∀ a, (k0_off636 v12474) a + S16x128.size a ≤ S66048x128.size a)
theorem k0_mult635_dvd : ∀ (v12474 : BitVec 32) (k0_hw635 : k0_chk635 v12474), 8 ∣ (k0_mult635 v12474).toNat := fun v12474 k0_hw635 => k0_hw635.1
theorem k0_off636_inb : ∀ (v12474 : BitVec 32) (k0_hw635 : k0_chk635 v12474), ∀ a, (k0_off636 v12474) a + S16x128.size a ≤ S66048x128.size a := fun v12474 k0_hw635 => k0_hw635.2

def k0_off637 (v12475 : BitVec 32) : Fin 2 → Nat :=
  let c3_i32_8305 : BitVec 32 := 3#32
  let v12481 : BitVec 32 := Scalar.shrsi v12475 c3_i32_8305
  let c3_i32_8306 : BitVec 32 := 3#32
  let v12482 : BitVec 32 := Scalar.shli v12481 c3_i32_8306
  let v12483 : BitVec 32 := v12482
  let v12486 : Index := Scalar.indexCast v12483
  let c0_8308 : Index := 0#32
  ![v12486.toNat, 0]

def k0_chk636 (v12475 : BitVec 32) : Prop :=
  (8 ∣ (k0_mult636 v12475).toNat) ∧
  (∀ a, (k0_off637 v12475) a + S16x128.size a ≤ S66048x128.size a)
theorem k0_mult636_dvd : ∀ (v12475 : BitVec 32) (k0_hw636 : k0_chk636 v12475), 8 ∣ (k0_mult636 v12475).toNat := fun v12475 k0_hw636 => k0_hw636.1
theorem k0_off637_inb : ∀ (v12475 : BitVec 32) (k0_hw636 : k0_chk636 v12475), ∀ a, (k0_off637 v12475) a + S16x128.size a ≤ S66048x128.size a := fun v12475 k0_hw636 => k0_hw636.2

def k0_mult637 (v12513 : BitVec 32) : BitVec 32 :=
  let c3_i32_8329 : BitVec 32 := 3#32
  let v12517 : BitVec 32 := Scalar.shrsi v12513 c3_i32_8329
  let c3_i32_8330 : BitVec 32 := 3#32
  let v12518 : BitVec 32 := Scalar.shli v12517 c3_i32_8330
  v12518

def k0_mult638 (v12514 : BitVec 32) : BitVec 32 :=
  let c3_i32_8331 : BitVec 32 := 3#32
  let v12520 : BitVec 32 := Scalar.shrsi v12514 c3_i32_8331
  let c3_i32_8332 : BitVec 32 := 3#32
  let v12521 : BitVec 32 := Scalar.shli v12520 c3_i32_8332
  v12521

def k0_off638 (v12513 : BitVec 32) : Fin 2 → Nat :=
  let c3_i32_8329 : BitVec 32 := 3#32
  let v12517 : BitVec 32 := Scalar.shrsi v12513 c3_i32_8329
  let c3_i32_8330 : BitVec 32 := 3#32
  let v12518 : BitVec 32 := Scalar.shli v12517 c3_i32_8330
  let v12519 : BitVec 32 := v12518
  let v12523 : Index := Scalar.indexCast v12519
  let c0_8333 : Index := 0#32
  ![v12523.toNat, 0]

def k0_chk637 (v12513 : BitVec 32) : Prop :=
  (8 ∣ (k0_mult637 v12513).toNat) ∧
  (∀ a, (k0_off638 v12513) a + S16x128.size a ≤ S66048x128.size a)
theorem k0_mult637_dvd : ∀ (v12513 : BitVec 32) (k0_hw637 : k0_chk637 v12513), 8 ∣ (k0_mult637 v12513).toNat := fun v12513 k0_hw637 => k0_hw637.1
theorem k0_off638_inb : ∀ (v12513 : BitVec 32) (k0_hw637 : k0_chk637 v12513), ∀ a, (k0_off638 v12513) a + S16x128.size a ≤ S66048x128.size a := fun v12513 k0_hw637 => k0_hw637.2

def k0_off639 (v12514 : BitVec 32) : Fin 2 → Nat :=
  let c3_i32_8331 : BitVec 32 := 3#32
  let v12520 : BitVec 32 := Scalar.shrsi v12514 c3_i32_8331
  let c3_i32_8332 : BitVec 32 := 3#32
  let v12521 : BitVec 32 := Scalar.shli v12520 c3_i32_8332
  let v12522 : BitVec 32 := v12521
  let v12525 : Index := Scalar.indexCast v12522
  let c0_8334 : Index := 0#32
  ![v12525.toNat, 0]

def k0_chk638 (v12514 : BitVec 32) : Prop :=
  (8 ∣ (k0_mult638 v12514).toNat) ∧
  (∀ a, (k0_off639 v12514) a + S16x128.size a ≤ S66048x128.size a)
theorem k0_mult638_dvd : ∀ (v12514 : BitVec 32) (k0_hw638 : k0_chk638 v12514), 8 ∣ (k0_mult638 v12514).toNat := fun v12514 k0_hw638 => k0_hw638.1
theorem k0_off639_inb : ∀ (v12514 : BitVec 32) (k0_hw638 : k0_chk638 v12514), ∀ a, (k0_off639 v12514) a + S16x128.size a ≤ S66048x128.size a := fun v12514 k0_hw638 => k0_hw638.2

def k0_mult639 (v12552 : BitVec 32) : BitVec 32 :=
  let c3_i32_8355 : BitVec 32 := 3#32
  let v12556 : BitVec 32 := Scalar.shrsi v12552 c3_i32_8355
  let c3_i32_8356 : BitVec 32 := 3#32
  let v12557 : BitVec 32 := Scalar.shli v12556 c3_i32_8356
  v12557

def k0_mult640 (v12553 : BitVec 32) : BitVec 32 :=
  let c3_i32_8357 : BitVec 32 := 3#32
  let v12559 : BitVec 32 := Scalar.shrsi v12553 c3_i32_8357
  let c3_i32_8358 : BitVec 32 := 3#32
  let v12560 : BitVec 32 := Scalar.shli v12559 c3_i32_8358
  v12560

def k0_off640 (v12552 : BitVec 32) : Fin 2 → Nat :=
  let c3_i32_8355 : BitVec 32 := 3#32
  let v12556 : BitVec 32 := Scalar.shrsi v12552 c3_i32_8355
  let c3_i32_8356 : BitVec 32 := 3#32
  let v12557 : BitVec 32 := Scalar.shli v12556 c3_i32_8356
  let v12558 : BitVec 32 := v12557
  let v12562 : Index := Scalar.indexCast v12558
  let c0_8359 : Index := 0#32
  ![v12562.toNat, 0]

def k0_chk639 (v12552 : BitVec 32) : Prop :=
  (8 ∣ (k0_mult639 v12552).toNat) ∧
  (∀ a, (k0_off640 v12552) a + S16x128.size a ≤ S66048x128.size a)
theorem k0_mult639_dvd : ∀ (v12552 : BitVec 32) (k0_hw639 : k0_chk639 v12552), 8 ∣ (k0_mult639 v12552).toNat := fun v12552 k0_hw639 => k0_hw639.1
theorem k0_off640_inb : ∀ (v12552 : BitVec 32) (k0_hw639 : k0_chk639 v12552), ∀ a, (k0_off640 v12552) a + S16x128.size a ≤ S66048x128.size a := fun v12552 k0_hw639 => k0_hw639.2

def k0_off641 (v12553 : BitVec 32) : Fin 2 → Nat :=
  let c3_i32_8357 : BitVec 32 := 3#32
  let v12559 : BitVec 32 := Scalar.shrsi v12553 c3_i32_8357
  let c3_i32_8358 : BitVec 32 := 3#32
  let v12560 : BitVec 32 := Scalar.shli v12559 c3_i32_8358
  let v12561 : BitVec 32 := v12560
  let v12564 : Index := Scalar.indexCast v12561
  let c0_8360 : Index := 0#32
  ![v12564.toNat, 0]

def k0_chk640 (v12553 : BitVec 32) : Prop :=
  (8 ∣ (k0_mult640 v12553).toNat) ∧
  (∀ a, (k0_off641 v12553) a + S16x128.size a ≤ S66048x128.size a)
theorem k0_mult640_dvd : ∀ (v12553 : BitVec 32) (k0_hw640 : k0_chk640 v12553), 8 ∣ (k0_mult640 v12553).toNat := fun v12553 k0_hw640 => k0_hw640.1
theorem k0_off641_inb : ∀ (v12553 : BitVec 32) (k0_hw640 : k0_chk640 v12553), ∀ a, (k0_off641 v12553) a + S16x128.size a ≤ S66048x128.size a := fun v12553 k0_hw640 => k0_hw640.2

def k0_mult641 (v12591 : BitVec 32) : BitVec 32 :=
  let c3_i32_8381 : BitVec 32 := 3#32
  let v12595 : BitVec 32 := Scalar.shrsi v12591 c3_i32_8381
  let c3_i32_8382 : BitVec 32 := 3#32
  let v12596 : BitVec 32 := Scalar.shli v12595 c3_i32_8382
  v12596

def k0_mult642 (v12592 : BitVec 32) : BitVec 32 :=
  let c3_i32_8383 : BitVec 32 := 3#32
  let v12598 : BitVec 32 := Scalar.shrsi v12592 c3_i32_8383
  let c3_i32_8384 : BitVec 32 := 3#32
  let v12599 : BitVec 32 := Scalar.shli v12598 c3_i32_8384
  v12599

def k0_off642 (v12591 : BitVec 32) : Fin 2 → Nat :=
  let c3_i32_8381 : BitVec 32 := 3#32
  let v12595 : BitVec 32 := Scalar.shrsi v12591 c3_i32_8381
  let c3_i32_8382 : BitVec 32 := 3#32
  let v12596 : BitVec 32 := Scalar.shli v12595 c3_i32_8382
  let v12597 : BitVec 32 := v12596
  let v12601 : Index := Scalar.indexCast v12597
  let c0_8385 : Index := 0#32
  ![v12601.toNat, 0]

def k0_chk641 (v12591 : BitVec 32) : Prop :=
  (8 ∣ (k0_mult641 v12591).toNat) ∧
  (∀ a, (k0_off642 v12591) a + S16x128.size a ≤ S66048x128.size a)
theorem k0_mult641_dvd : ∀ (v12591 : BitVec 32) (k0_hw641 : k0_chk641 v12591), 8 ∣ (k0_mult641 v12591).toNat := fun v12591 k0_hw641 => k0_hw641.1
theorem k0_off642_inb : ∀ (v12591 : BitVec 32) (k0_hw641 : k0_chk641 v12591), ∀ a, (k0_off642 v12591) a + S16x128.size a ≤ S66048x128.size a := fun v12591 k0_hw641 => k0_hw641.2

def k0_off643 (v12592 : BitVec 32) : Fin 2 → Nat :=
  let c3_i32_8383 : BitVec 32 := 3#32
  let v12598 : BitVec 32 := Scalar.shrsi v12592 c3_i32_8383
  let c3_i32_8384 : BitVec 32 := 3#32
  let v12599 : BitVec 32 := Scalar.shli v12598 c3_i32_8384
  let v12600 : BitVec 32 := v12599
  let v12603 : Index := Scalar.indexCast v12600
  let c0_8386 : Index := 0#32
  ![v12603.toNat, 0]

def k0_chk642 (v12592 : BitVec 32) : Prop :=
  (8 ∣ (k0_mult642 v12592).toNat) ∧
  (∀ a, (k0_off643 v12592) a + S16x128.size a ≤ S66048x128.size a)
theorem k0_mult642_dvd : ∀ (v12592 : BitVec 32) (k0_hw642 : k0_chk642 v12592), 8 ∣ (k0_mult642 v12592).toNat := fun v12592 k0_hw642 => k0_hw642.1
theorem k0_off643_inb : ∀ (v12592 : BitVec 32) (k0_hw642 : k0_chk642 v12592), ∀ a, (k0_off643 v12592) a + S16x128.size a ≤ S66048x128.size a := fun v12592 k0_hw642 => k0_hw642.2

def k0_mult643 (v12630 : BitVec 32) : BitVec 32 :=
  let c3_i32_8407 : BitVec 32 := 3#32
  let v12634 : BitVec 32 := Scalar.shrsi v12630 c3_i32_8407
  let c3_i32_8408 : BitVec 32 := 3#32
  let v12635 : BitVec 32 := Scalar.shli v12634 c3_i32_8408
  v12635

def k0_mult644 (v12631 : BitVec 32) : BitVec 32 :=
  let c3_i32_8409 : BitVec 32 := 3#32
  let v12637 : BitVec 32 := Scalar.shrsi v12631 c3_i32_8409
  let c3_i32_8410 : BitVec 32 := 3#32
  let v12638 : BitVec 32 := Scalar.shli v12637 c3_i32_8410
  v12638

def k0_off644 (v12630 : BitVec 32) : Fin 2 → Nat :=
  let c3_i32_8407 : BitVec 32 := 3#32
  let v12634 : BitVec 32 := Scalar.shrsi v12630 c3_i32_8407
  let c3_i32_8408 : BitVec 32 := 3#32
  let v12635 : BitVec 32 := Scalar.shli v12634 c3_i32_8408
  let v12636 : BitVec 32 := v12635
  let v12640 : Index := Scalar.indexCast v12636
  let c0_8411 : Index := 0#32
  ![v12640.toNat, 0]

def k0_chk643 (v12630 : BitVec 32) : Prop :=
  (8 ∣ (k0_mult643 v12630).toNat) ∧
  (∀ a, (k0_off644 v12630) a + S16x128.size a ≤ S66048x128.size a)
theorem k0_mult643_dvd : ∀ (v12630 : BitVec 32) (k0_hw643 : k0_chk643 v12630), 8 ∣ (k0_mult643 v12630).toNat := fun v12630 k0_hw643 => k0_hw643.1
theorem k0_off644_inb : ∀ (v12630 : BitVec 32) (k0_hw643 : k0_chk643 v12630), ∀ a, (k0_off644 v12630) a + S16x128.size a ≤ S66048x128.size a := fun v12630 k0_hw643 => k0_hw643.2

def k0_off645 (v12631 : BitVec 32) : Fin 2 → Nat :=
  let c3_i32_8409 : BitVec 32 := 3#32
  let v12637 : BitVec 32 := Scalar.shrsi v12631 c3_i32_8409
  let c3_i32_8410 : BitVec 32 := 3#32
  let v12638 : BitVec 32 := Scalar.shli v12637 c3_i32_8410
  let v12639 : BitVec 32 := v12638
  let v12642 : Index := Scalar.indexCast v12639
  let c0_8412 : Index := 0#32
  ![v12642.toNat, 0]

def k0_chk644 (v12631 : BitVec 32) : Prop :=
  (8 ∣ (k0_mult644 v12631).toNat) ∧
  (∀ a, (k0_off645 v12631) a + S16x128.size a ≤ S66048x128.size a)
theorem k0_mult644_dvd : ∀ (v12631 : BitVec 32) (k0_hw644 : k0_chk644 v12631), 8 ∣ (k0_mult644 v12631).toNat := fun v12631 k0_hw644 => k0_hw644.1
theorem k0_off645_inb : ∀ (v12631 : BitVec 32) (k0_hw644 : k0_chk644 v12631), ∀ a, (k0_off645 v12631) a + S16x128.size a ≤ S66048x128.size a := fun v12631 k0_hw644 => k0_hw644.2

def k0_mult645 (v12669 : BitVec 32) : BitVec 32 :=
  let c3_i32_8433 : BitVec 32 := 3#32
  let v12673 : BitVec 32 := Scalar.shrsi v12669 c3_i32_8433
  let c3_i32_8434 : BitVec 32 := 3#32
  let v12674 : BitVec 32 := Scalar.shli v12673 c3_i32_8434
  v12674

def k0_mult646 (v12670 : BitVec 32) : BitVec 32 :=
  let c3_i32_8435 : BitVec 32 := 3#32
  let v12676 : BitVec 32 := Scalar.shrsi v12670 c3_i32_8435
  let c3_i32_8436 : BitVec 32 := 3#32
  let v12677 : BitVec 32 := Scalar.shli v12676 c3_i32_8436
  v12677

def k0_off646 (v12669 : BitVec 32) : Fin 2 → Nat :=
  let c3_i32_8433 : BitVec 32 := 3#32
  let v12673 : BitVec 32 := Scalar.shrsi v12669 c3_i32_8433
  let c3_i32_8434 : BitVec 32 := 3#32
  let v12674 : BitVec 32 := Scalar.shli v12673 c3_i32_8434
  let v12675 : BitVec 32 := v12674
  let v12679 : Index := Scalar.indexCast v12675
  let c0_8437 : Index := 0#32
  ![v12679.toNat, 0]

def k0_chk645 (v12669 : BitVec 32) : Prop :=
  (8 ∣ (k0_mult645 v12669).toNat) ∧
  (∀ a, (k0_off646 v12669) a + S16x128.size a ≤ S66048x128.size a)
theorem k0_mult645_dvd : ∀ (v12669 : BitVec 32) (k0_hw645 : k0_chk645 v12669), 8 ∣ (k0_mult645 v12669).toNat := fun v12669 k0_hw645 => k0_hw645.1
theorem k0_off646_inb : ∀ (v12669 : BitVec 32) (k0_hw645 : k0_chk645 v12669), ∀ a, (k0_off646 v12669) a + S16x128.size a ≤ S66048x128.size a := fun v12669 k0_hw645 => k0_hw645.2

def k0_off647 (v12670 : BitVec 32) : Fin 2 → Nat :=
  let c3_i32_8435 : BitVec 32 := 3#32
  let v12676 : BitVec 32 := Scalar.shrsi v12670 c3_i32_8435
  let c3_i32_8436 : BitVec 32 := 3#32
  let v12677 : BitVec 32 := Scalar.shli v12676 c3_i32_8436
  let v12678 : BitVec 32 := v12677
  let v12681 : Index := Scalar.indexCast v12678
  let c0_8438 : Index := 0#32
  ![v12681.toNat, 0]

def k0_chk646 (v12670 : BitVec 32) : Prop :=
  (8 ∣ (k0_mult646 v12670).toNat) ∧
  (∀ a, (k0_off647 v12670) a + S16x128.size a ≤ S66048x128.size a)
theorem k0_mult646_dvd : ∀ (v12670 : BitVec 32) (k0_hw646 : k0_chk646 v12670), 8 ∣ (k0_mult646 v12670).toNat := fun v12670 k0_hw646 => k0_hw646.1
theorem k0_off647_inb : ∀ (v12670 : BitVec 32) (k0_hw646 : k0_chk646 v12670), ∀ a, (k0_off647 v12670) a + S16x128.size a ≤ S66048x128.size a := fun v12670 k0_hw646 => k0_hw646.2

def k0_mult647 (v12708 : BitVec 32) : BitVec 32 :=
  let c3_i32_8459 : BitVec 32 := 3#32
  let v12712 : BitVec 32 := Scalar.shrsi v12708 c3_i32_8459
  let c3_i32_8460 : BitVec 32 := 3#32
  let v12713 : BitVec 32 := Scalar.shli v12712 c3_i32_8460
  v12713

def k0_mult648 (v12709 : BitVec 32) : BitVec 32 :=
  let c3_i32_8461 : BitVec 32 := 3#32
  let v12715 : BitVec 32 := Scalar.shrsi v12709 c3_i32_8461
  let c3_i32_8462 : BitVec 32 := 3#32
  let v12716 : BitVec 32 := Scalar.shli v12715 c3_i32_8462
  v12716

def k0_off648 (v12708 : BitVec 32) : Fin 2 → Nat :=
  let c3_i32_8459 : BitVec 32 := 3#32
  let v12712 : BitVec 32 := Scalar.shrsi v12708 c3_i32_8459
  let c3_i32_8460 : BitVec 32 := 3#32
  let v12713 : BitVec 32 := Scalar.shli v12712 c3_i32_8460
  let v12714 : BitVec 32 := v12713
  let v12718 : Index := Scalar.indexCast v12714
  let c0_8463 : Index := 0#32
  ![v12718.toNat, 0]

def k0_chk647 (v12708 : BitVec 32) : Prop :=
  (8 ∣ (k0_mult647 v12708).toNat) ∧
  (∀ a, (k0_off648 v12708) a + S16x128.size a ≤ S66048x128.size a)
theorem k0_mult647_dvd : ∀ (v12708 : BitVec 32) (k0_hw647 : k0_chk647 v12708), 8 ∣ (k0_mult647 v12708).toNat := fun v12708 k0_hw647 => k0_hw647.1
theorem k0_off648_inb : ∀ (v12708 : BitVec 32) (k0_hw647 : k0_chk647 v12708), ∀ a, (k0_off648 v12708) a + S16x128.size a ≤ S66048x128.size a := fun v12708 k0_hw647 => k0_hw647.2

def k0_off649 (v12709 : BitVec 32) : Fin 2 → Nat :=
  let c3_i32_8461 : BitVec 32 := 3#32
  let v12715 : BitVec 32 := Scalar.shrsi v12709 c3_i32_8461
  let c3_i32_8462 : BitVec 32 := 3#32
  let v12716 : BitVec 32 := Scalar.shli v12715 c3_i32_8462
  let v12717 : BitVec 32 := v12716
  let v12720 : Index := Scalar.indexCast v12717
  let c0_8464 : Index := 0#32
  ![v12720.toNat, 0]

def k0_chk648 (v12709 : BitVec 32) : Prop :=
  (8 ∣ (k0_mult648 v12709).toNat) ∧
  (∀ a, (k0_off649 v12709) a + S16x128.size a ≤ S66048x128.size a)
theorem k0_mult648_dvd : ∀ (v12709 : BitVec 32) (k0_hw648 : k0_chk648 v12709), 8 ∣ (k0_mult648 v12709).toNat := fun v12709 k0_hw648 => k0_hw648.1
theorem k0_off649_inb : ∀ (v12709 : BitVec 32) (k0_hw648 : k0_chk648 v12709), ∀ a, (k0_off649 v12709) a + S16x128.size a ≤ S66048x128.size a := fun v12709 k0_hw648 => k0_hw648.2

def k0_mult649 (v12747 : BitVec 32) : BitVec 32 :=
  let c3_i32_8485 : BitVec 32 := 3#32
  let v12751 : BitVec 32 := Scalar.shrsi v12747 c3_i32_8485
  let c3_i32_8486 : BitVec 32 := 3#32
  let v12752 : BitVec 32 := Scalar.shli v12751 c3_i32_8486
  v12752

def k0_mult650 (v12748 : BitVec 32) : BitVec 32 :=
  let c3_i32_8487 : BitVec 32 := 3#32
  let v12754 : BitVec 32 := Scalar.shrsi v12748 c3_i32_8487
  let c3_i32_8488 : BitVec 32 := 3#32
  let v12755 : BitVec 32 := Scalar.shli v12754 c3_i32_8488
  v12755

def k0_off650 (v12747 : BitVec 32) : Fin 2 → Nat :=
  let c3_i32_8485 : BitVec 32 := 3#32
  let v12751 : BitVec 32 := Scalar.shrsi v12747 c3_i32_8485
  let c3_i32_8486 : BitVec 32 := 3#32
  let v12752 : BitVec 32 := Scalar.shli v12751 c3_i32_8486
  let v12753 : BitVec 32 := v12752
  let v12757 : Index := Scalar.indexCast v12753
  let c0_8489 : Index := 0#32
  ![v12757.toNat, 0]

def k0_chk649 (v12747 : BitVec 32) : Prop :=
  (8 ∣ (k0_mult649 v12747).toNat) ∧
  (∀ a, (k0_off650 v12747) a + S16x128.size a ≤ S66048x128.size a)
theorem k0_mult649_dvd : ∀ (v12747 : BitVec 32) (k0_hw649 : k0_chk649 v12747), 8 ∣ (k0_mult649 v12747).toNat := fun v12747 k0_hw649 => k0_hw649.1
theorem k0_off650_inb : ∀ (v12747 : BitVec 32) (k0_hw649 : k0_chk649 v12747), ∀ a, (k0_off650 v12747) a + S16x128.size a ≤ S66048x128.size a := fun v12747 k0_hw649 => k0_hw649.2

def k0_off651 (v12748 : BitVec 32) : Fin 2 → Nat :=
  let c3_i32_8487 : BitVec 32 := 3#32
  let v12754 : BitVec 32 := Scalar.shrsi v12748 c3_i32_8487
  let c3_i32_8488 : BitVec 32 := 3#32
  let v12755 : BitVec 32 := Scalar.shli v12754 c3_i32_8488
  let v12756 : BitVec 32 := v12755
  let v12759 : Index := Scalar.indexCast v12756
  let c0_8490 : Index := 0#32
  ![v12759.toNat, 0]

def k0_chk650 (v12748 : BitVec 32) : Prop :=
  (8 ∣ (k0_mult650 v12748).toNat) ∧
  (∀ a, (k0_off651 v12748) a + S16x128.size a ≤ S66048x128.size a)
theorem k0_mult650_dvd : ∀ (v12748 : BitVec 32) (k0_hw650 : k0_chk650 v12748), 8 ∣ (k0_mult650 v12748).toNat := fun v12748 k0_hw650 => k0_hw650.1
theorem k0_off651_inb : ∀ (v12748 : BitVec 32) (k0_hw650 : k0_chk650 v12748), ∀ a, (k0_off651 v12748) a + S16x128.size a ≤ S66048x128.size a := fun v12748 k0_hw650 => k0_hw650.2

def k0_mult651 (v12793 : BitVec 32) : BitVec 32 :=
  let c3_i32_8517 : BitVec 32 := 3#32
  let v12797 : BitVec 32 := Scalar.shrsi v12793 c3_i32_8517
  let c3_i32_8518 : BitVec 32 := 3#32
  let v12798 : BitVec 32 := Scalar.shli v12797 c3_i32_8518
  v12798

def k0_mult652 (v12794 : BitVec 32) : BitVec 32 :=
  let c3_i32_8519 : BitVec 32 := 3#32
  let v12800 : BitVec 32 := Scalar.shrsi v12794 c3_i32_8519
  let c3_i32_8520 : BitVec 32 := 3#32
  let v12801 : BitVec 32 := Scalar.shli v12800 c3_i32_8520
  v12801

def k0_off652 (v12793 : BitVec 32) : Fin 2 → Nat :=
  let c3_i32_8517 : BitVec 32 := 3#32
  let v12797 : BitVec 32 := Scalar.shrsi v12793 c3_i32_8517
  let c3_i32_8518 : BitVec 32 := 3#32
  let v12798 : BitVec 32 := Scalar.shli v12797 c3_i32_8518
  let v12799 : BitVec 32 := v12798
  let v12803 : Index := Scalar.indexCast v12799
  let c0_8521 : Index := 0#32
  ![v12803.toNat, 0]

def k0_chk651 (v12793 : BitVec 32) : Prop :=
  (8 ∣ (k0_mult651 v12793).toNat) ∧
  (∀ a, (k0_off652 v12793) a + S16x128.size a ≤ S66048x128.size a)
theorem k0_mult651_dvd : ∀ (v12793 : BitVec 32) (k0_hw651 : k0_chk651 v12793), 8 ∣ (k0_mult651 v12793).toNat := fun v12793 k0_hw651 => k0_hw651.1
theorem k0_off652_inb : ∀ (v12793 : BitVec 32) (k0_hw651 : k0_chk651 v12793), ∀ a, (k0_off652 v12793) a + S16x128.size a ≤ S66048x128.size a := fun v12793 k0_hw651 => k0_hw651.2

def k0_off653 (v12794 : BitVec 32) : Fin 2 → Nat :=
  let c3_i32_8519 : BitVec 32 := 3#32
  let v12800 : BitVec 32 := Scalar.shrsi v12794 c3_i32_8519
  let c3_i32_8520 : BitVec 32 := 3#32
  let v12801 : BitVec 32 := Scalar.shli v12800 c3_i32_8520
  let v12802 : BitVec 32 := v12801
  let v12805 : Index := Scalar.indexCast v12802
  let c0_8522 : Index := 0#32
  ![v12805.toNat, 0]

def k0_chk652 (v12794 : BitVec 32) : Prop :=
  (8 ∣ (k0_mult652 v12794).toNat) ∧
  (∀ a, (k0_off653 v12794) a + S16x128.size a ≤ S66048x128.size a)
theorem k0_mult652_dvd : ∀ (v12794 : BitVec 32) (k0_hw652 : k0_chk652 v12794), 8 ∣ (k0_mult652 v12794).toNat := fun v12794 k0_hw652 => k0_hw652.1
theorem k0_off653_inb : ∀ (v12794 : BitVec 32) (k0_hw652 : k0_chk652 v12794), ∀ a, (k0_off653 v12794) a + S16x128.size a ≤ S66048x128.size a := fun v12794 k0_hw652 => k0_hw652.2

def k0_mult653 (v12832 : BitVec 32) : BitVec 32 :=
  let c3_i32_8543 : BitVec 32 := 3#32
  let v12836 : BitVec 32 := Scalar.shrsi v12832 c3_i32_8543
  let c3_i32_8544 : BitVec 32 := 3#32
  let v12837 : BitVec 32 := Scalar.shli v12836 c3_i32_8544
  v12837

def k0_mult654 (v12833 : BitVec 32) : BitVec 32 :=
  let c3_i32_8545 : BitVec 32 := 3#32
  let v12839 : BitVec 32 := Scalar.shrsi v12833 c3_i32_8545
  let c3_i32_8546 : BitVec 32 := 3#32
  let v12840 : BitVec 32 := Scalar.shli v12839 c3_i32_8546
  v12840

def k0_off654 (v12832 : BitVec 32) : Fin 2 → Nat :=
  let c3_i32_8543 : BitVec 32 := 3#32
  let v12836 : BitVec 32 := Scalar.shrsi v12832 c3_i32_8543
  let c3_i32_8544 : BitVec 32 := 3#32
  let v12837 : BitVec 32 := Scalar.shli v12836 c3_i32_8544
  let v12838 : BitVec 32 := v12837
  let v12842 : Index := Scalar.indexCast v12838
  let c0_8547 : Index := 0#32
  ![v12842.toNat, 0]

def k0_chk653 (v12832 : BitVec 32) : Prop :=
  (8 ∣ (k0_mult653 v12832).toNat) ∧
  (∀ a, (k0_off654 v12832) a + S16x128.size a ≤ S66048x128.size a)
theorem k0_mult653_dvd : ∀ (v12832 : BitVec 32) (k0_hw653 : k0_chk653 v12832), 8 ∣ (k0_mult653 v12832).toNat := fun v12832 k0_hw653 => k0_hw653.1
theorem k0_off654_inb : ∀ (v12832 : BitVec 32) (k0_hw653 : k0_chk653 v12832), ∀ a, (k0_off654 v12832) a + S16x128.size a ≤ S66048x128.size a := fun v12832 k0_hw653 => k0_hw653.2

def k0_off655 (v12833 : BitVec 32) : Fin 2 → Nat :=
  let c3_i32_8545 : BitVec 32 := 3#32
  let v12839 : BitVec 32 := Scalar.shrsi v12833 c3_i32_8545
  let c3_i32_8546 : BitVec 32 := 3#32
  let v12840 : BitVec 32 := Scalar.shli v12839 c3_i32_8546
  let v12841 : BitVec 32 := v12840
  let v12844 : Index := Scalar.indexCast v12841
  let c0_8548 : Index := 0#32
  ![v12844.toNat, 0]

def k0_chk654 (v12833 : BitVec 32) : Prop :=
  (8 ∣ (k0_mult654 v12833).toNat) ∧
  (∀ a, (k0_off655 v12833) a + S16x128.size a ≤ S66048x128.size a)
theorem k0_mult654_dvd : ∀ (v12833 : BitVec 32) (k0_hw654 : k0_chk654 v12833), 8 ∣ (k0_mult654 v12833).toNat := fun v12833 k0_hw654 => k0_hw654.1
theorem k0_off655_inb : ∀ (v12833 : BitVec 32) (k0_hw654 : k0_chk654 v12833), ∀ a, (k0_off655 v12833) a + S16x128.size a ≤ S66048x128.size a := fun v12833 k0_hw654 => k0_hw654.2

def k0_mult655 (v12871 : BitVec 32) : BitVec 32 :=
  let c3_i32_8569 : BitVec 32 := 3#32
  let v12875 : BitVec 32 := Scalar.shrsi v12871 c3_i32_8569
  let c3_i32_8570 : BitVec 32 := 3#32
  let v12876 : BitVec 32 := Scalar.shli v12875 c3_i32_8570
  v12876

def k0_mult656 (v12872 : BitVec 32) : BitVec 32 :=
  let c3_i32_8571 : BitVec 32 := 3#32
  let v12878 : BitVec 32 := Scalar.shrsi v12872 c3_i32_8571
  let c3_i32_8572 : BitVec 32 := 3#32
  let v12879 : BitVec 32 := Scalar.shli v12878 c3_i32_8572
  v12879

def k0_off656 (v12871 : BitVec 32) : Fin 2 → Nat :=
  let c3_i32_8569 : BitVec 32 := 3#32
  let v12875 : BitVec 32 := Scalar.shrsi v12871 c3_i32_8569
  let c3_i32_8570 : BitVec 32 := 3#32
  let v12876 : BitVec 32 := Scalar.shli v12875 c3_i32_8570
  let v12877 : BitVec 32 := v12876
  let v12881 : Index := Scalar.indexCast v12877
  let c0_8573 : Index := 0#32
  ![v12881.toNat, 0]

def k0_chk655 (v12871 : BitVec 32) : Prop :=
  (8 ∣ (k0_mult655 v12871).toNat) ∧
  (∀ a, (k0_off656 v12871) a + S16x128.size a ≤ S66048x128.size a)
theorem k0_mult655_dvd : ∀ (v12871 : BitVec 32) (k0_hw655 : k0_chk655 v12871), 8 ∣ (k0_mult655 v12871).toNat := fun v12871 k0_hw655 => k0_hw655.1
theorem k0_off656_inb : ∀ (v12871 : BitVec 32) (k0_hw655 : k0_chk655 v12871), ∀ a, (k0_off656 v12871) a + S16x128.size a ≤ S66048x128.size a := fun v12871 k0_hw655 => k0_hw655.2

def k0_off657 (v12872 : BitVec 32) : Fin 2 → Nat :=
  let c3_i32_8571 : BitVec 32 := 3#32
  let v12878 : BitVec 32 := Scalar.shrsi v12872 c3_i32_8571
  let c3_i32_8572 : BitVec 32 := 3#32
  let v12879 : BitVec 32 := Scalar.shli v12878 c3_i32_8572
  let v12880 : BitVec 32 := v12879
  let v12883 : Index := Scalar.indexCast v12880
  let c0_8574 : Index := 0#32
  ![v12883.toNat, 0]

def k0_chk656 (v12872 : BitVec 32) : Prop :=
  (8 ∣ (k0_mult656 v12872).toNat) ∧
  (∀ a, (k0_off657 v12872) a + S16x128.size a ≤ S66048x128.size a)
theorem k0_mult656_dvd : ∀ (v12872 : BitVec 32) (k0_hw656 : k0_chk656 v12872), 8 ∣ (k0_mult656 v12872).toNat := fun v12872 k0_hw656 => k0_hw656.1
theorem k0_off657_inb : ∀ (v12872 : BitVec 32) (k0_hw656 : k0_chk656 v12872), ∀ a, (k0_off657 v12872) a + S16x128.size a ≤ S66048x128.size a := fun v12872 k0_hw656 => k0_hw656.2

def k0_mult657 (v12910 : BitVec 32) : BitVec 32 :=
  let c3_i32_8595 : BitVec 32 := 3#32
  let v12914 : BitVec 32 := Scalar.shrsi v12910 c3_i32_8595
  let c3_i32_8596 : BitVec 32 := 3#32
  let v12915 : BitVec 32 := Scalar.shli v12914 c3_i32_8596
  v12915

def k0_mult658 (v12911 : BitVec 32) : BitVec 32 :=
  let c3_i32_8597 : BitVec 32 := 3#32
  let v12917 : BitVec 32 := Scalar.shrsi v12911 c3_i32_8597
  let c3_i32_8598 : BitVec 32 := 3#32
  let v12918 : BitVec 32 := Scalar.shli v12917 c3_i32_8598
  v12918

def k0_off658 (v12910 : BitVec 32) : Fin 2 → Nat :=
  let c3_i32_8595 : BitVec 32 := 3#32
  let v12914 : BitVec 32 := Scalar.shrsi v12910 c3_i32_8595
  let c3_i32_8596 : BitVec 32 := 3#32
  let v12915 : BitVec 32 := Scalar.shli v12914 c3_i32_8596
  let v12916 : BitVec 32 := v12915
  let v12920 : Index := Scalar.indexCast v12916
  let c0_8599 : Index := 0#32
  ![v12920.toNat, 0]

def k0_chk657 (v12910 : BitVec 32) : Prop :=
  (8 ∣ (k0_mult657 v12910).toNat) ∧
  (∀ a, (k0_off658 v12910) a + S16x128.size a ≤ S66048x128.size a)
theorem k0_mult657_dvd : ∀ (v12910 : BitVec 32) (k0_hw657 : k0_chk657 v12910), 8 ∣ (k0_mult657 v12910).toNat := fun v12910 k0_hw657 => k0_hw657.1
theorem k0_off658_inb : ∀ (v12910 : BitVec 32) (k0_hw657 : k0_chk657 v12910), ∀ a, (k0_off658 v12910) a + S16x128.size a ≤ S66048x128.size a := fun v12910 k0_hw657 => k0_hw657.2

def k0_off659 (v12911 : BitVec 32) : Fin 2 → Nat :=
  let c3_i32_8597 : BitVec 32 := 3#32
  let v12917 : BitVec 32 := Scalar.shrsi v12911 c3_i32_8597
  let c3_i32_8598 : BitVec 32 := 3#32
  let v12918 : BitVec 32 := Scalar.shli v12917 c3_i32_8598
  let v12919 : BitVec 32 := v12918
  let v12922 : Index := Scalar.indexCast v12919
  let c0_8600 : Index := 0#32
  ![v12922.toNat, 0]

def k0_chk658 (v12911 : BitVec 32) : Prop :=
  (8 ∣ (k0_mult658 v12911).toNat) ∧
  (∀ a, (k0_off659 v12911) a + S16x128.size a ≤ S66048x128.size a)
theorem k0_mult658_dvd : ∀ (v12911 : BitVec 32) (k0_hw658 : k0_chk658 v12911), 8 ∣ (k0_mult658 v12911).toNat := fun v12911 k0_hw658 => k0_hw658.1
theorem k0_off659_inb : ∀ (v12911 : BitVec 32) (k0_hw658 : k0_chk658 v12911), ∀ a, (k0_off659 v12911) a + S16x128.size a ≤ S66048x128.size a := fun v12911 k0_hw658 => k0_hw658.2

def k0_mult659 (v12949 : BitVec 32) : BitVec 32 :=
  let c3_i32_8621 : BitVec 32 := 3#32
  let v12953 : BitVec 32 := Scalar.shrsi v12949 c3_i32_8621
  let c3_i32_8622 : BitVec 32 := 3#32
  let v12954 : BitVec 32 := Scalar.shli v12953 c3_i32_8622
  v12954

def k0_mult660 (v12950 : BitVec 32) : BitVec 32 :=
  let c3_i32_8623 : BitVec 32 := 3#32
  let v12956 : BitVec 32 := Scalar.shrsi v12950 c3_i32_8623
  let c3_i32_8624 : BitVec 32 := 3#32
  let v12957 : BitVec 32 := Scalar.shli v12956 c3_i32_8624
  v12957

def k0_off660 (v12949 : BitVec 32) : Fin 2 → Nat :=
  let c3_i32_8621 : BitVec 32 := 3#32
  let v12953 : BitVec 32 := Scalar.shrsi v12949 c3_i32_8621
  let c3_i32_8622 : BitVec 32 := 3#32
  let v12954 : BitVec 32 := Scalar.shli v12953 c3_i32_8622
  let v12955 : BitVec 32 := v12954
  let v12959 : Index := Scalar.indexCast v12955
  let c0_8625 : Index := 0#32
  ![v12959.toNat, 0]

def k0_chk659 (v12949 : BitVec 32) : Prop :=
  (8 ∣ (k0_mult659 v12949).toNat) ∧
  (∀ a, (k0_off660 v12949) a + S16x128.size a ≤ S66048x128.size a)
theorem k0_mult659_dvd : ∀ (v12949 : BitVec 32) (k0_hw659 : k0_chk659 v12949), 8 ∣ (k0_mult659 v12949).toNat := fun v12949 k0_hw659 => k0_hw659.1
theorem k0_off660_inb : ∀ (v12949 : BitVec 32) (k0_hw659 : k0_chk659 v12949), ∀ a, (k0_off660 v12949) a + S16x128.size a ≤ S66048x128.size a := fun v12949 k0_hw659 => k0_hw659.2

def k0_off661 (v12950 : BitVec 32) : Fin 2 → Nat :=
  let c3_i32_8623 : BitVec 32 := 3#32
  let v12956 : BitVec 32 := Scalar.shrsi v12950 c3_i32_8623
  let c3_i32_8624 : BitVec 32 := 3#32
  let v12957 : BitVec 32 := Scalar.shli v12956 c3_i32_8624
  let v12958 : BitVec 32 := v12957
  let v12961 : Index := Scalar.indexCast v12958
  let c0_8626 : Index := 0#32
  ![v12961.toNat, 0]

def k0_chk660 (v12950 : BitVec 32) : Prop :=
  (8 ∣ (k0_mult660 v12950).toNat) ∧
  (∀ a, (k0_off661 v12950) a + S16x128.size a ≤ S66048x128.size a)
theorem k0_mult660_dvd : ∀ (v12950 : BitVec 32) (k0_hw660 : k0_chk660 v12950), 8 ∣ (k0_mult660 v12950).toNat := fun v12950 k0_hw660 => k0_hw660.1
theorem k0_off661_inb : ∀ (v12950 : BitVec 32) (k0_hw660 : k0_chk660 v12950), ∀ a, (k0_off661 v12950) a + S16x128.size a ≤ S66048x128.size a := fun v12950 k0_hw660 => k0_hw660.2

def k0_mult661 (v12988 : BitVec 32) : BitVec 32 :=
  let c3_i32_8647 : BitVec 32 := 3#32
  let v12992 : BitVec 32 := Scalar.shrsi v12988 c3_i32_8647
  let c3_i32_8648 : BitVec 32 := 3#32
  let v12993 : BitVec 32 := Scalar.shli v12992 c3_i32_8648
  v12993

def k0_mult662 (v12989 : BitVec 32) : BitVec 32 :=
  let c3_i32_8649 : BitVec 32 := 3#32
  let v12995 : BitVec 32 := Scalar.shrsi v12989 c3_i32_8649
  let c3_i32_8650 : BitVec 32 := 3#32
  let v12996 : BitVec 32 := Scalar.shli v12995 c3_i32_8650
  v12996

def k0_off662 (v12988 : BitVec 32) : Fin 2 → Nat :=
  let c3_i32_8647 : BitVec 32 := 3#32
  let v12992 : BitVec 32 := Scalar.shrsi v12988 c3_i32_8647
  let c3_i32_8648 : BitVec 32 := 3#32
  let v12993 : BitVec 32 := Scalar.shli v12992 c3_i32_8648
  let v12994 : BitVec 32 := v12993
  let v12998 : Index := Scalar.indexCast v12994
  let c0_8651 : Index := 0#32
  ![v12998.toNat, 0]

def k0_chk661 (v12988 : BitVec 32) : Prop :=
  (8 ∣ (k0_mult661 v12988).toNat) ∧
  (∀ a, (k0_off662 v12988) a + S16x128.size a ≤ S66048x128.size a)
theorem k0_mult661_dvd : ∀ (v12988 : BitVec 32) (k0_hw661 : k0_chk661 v12988), 8 ∣ (k0_mult661 v12988).toNat := fun v12988 k0_hw661 => k0_hw661.1
theorem k0_off662_inb : ∀ (v12988 : BitVec 32) (k0_hw661 : k0_chk661 v12988), ∀ a, (k0_off662 v12988) a + S16x128.size a ≤ S66048x128.size a := fun v12988 k0_hw661 => k0_hw661.2

def k0_off663 (v12989 : BitVec 32) : Fin 2 → Nat :=
  let c3_i32_8649 : BitVec 32 := 3#32
  let v12995 : BitVec 32 := Scalar.shrsi v12989 c3_i32_8649
  let c3_i32_8650 : BitVec 32 := 3#32
  let v12996 : BitVec 32 := Scalar.shli v12995 c3_i32_8650
  let v12997 : BitVec 32 := v12996
  let v13000 : Index := Scalar.indexCast v12997
  let c0_8652 : Index := 0#32
  ![v13000.toNat, 0]

def k0_chk662 (v12989 : BitVec 32) : Prop :=
  (8 ∣ (k0_mult662 v12989).toNat) ∧
  (∀ a, (k0_off663 v12989) a + S16x128.size a ≤ S66048x128.size a)
theorem k0_mult662_dvd : ∀ (v12989 : BitVec 32) (k0_hw662 : k0_chk662 v12989), 8 ∣ (k0_mult662 v12989).toNat := fun v12989 k0_hw662 => k0_hw662.1
theorem k0_off663_inb : ∀ (v12989 : BitVec 32) (k0_hw662 : k0_chk662 v12989), ∀ a, (k0_off663 v12989) a + S16x128.size a ≤ S66048x128.size a := fun v12989 k0_hw662 => k0_hw662.2

def k0_mult663 (v13027 : BitVec 32) : BitVec 32 :=
  let c3_i32_8673 : BitVec 32 := 3#32
  let v13031 : BitVec 32 := Scalar.shrsi v13027 c3_i32_8673
  let c3_i32_8674 : BitVec 32 := 3#32
  let v13032 : BitVec 32 := Scalar.shli v13031 c3_i32_8674
  v13032

def k0_mult664 (v13028 : BitVec 32) : BitVec 32 :=
  let c3_i32_8675 : BitVec 32 := 3#32
  let v13034 : BitVec 32 := Scalar.shrsi v13028 c3_i32_8675
  let c3_i32_8676 : BitVec 32 := 3#32
  let v13035 : BitVec 32 := Scalar.shli v13034 c3_i32_8676
  v13035

def k0_off664 (v13027 : BitVec 32) : Fin 2 → Nat :=
  let c3_i32_8673 : BitVec 32 := 3#32
  let v13031 : BitVec 32 := Scalar.shrsi v13027 c3_i32_8673
  let c3_i32_8674 : BitVec 32 := 3#32
  let v13032 : BitVec 32 := Scalar.shli v13031 c3_i32_8674
  let v13033 : BitVec 32 := v13032
  let v13037 : Index := Scalar.indexCast v13033
  let c0_8677 : Index := 0#32
  ![v13037.toNat, 0]

def k0_chk663 (v13027 : BitVec 32) : Prop :=
  (8 ∣ (k0_mult663 v13027).toNat) ∧
  (∀ a, (k0_off664 v13027) a + S16x128.size a ≤ S66048x128.size a)
theorem k0_mult663_dvd : ∀ (v13027 : BitVec 32) (k0_hw663 : k0_chk663 v13027), 8 ∣ (k0_mult663 v13027).toNat := fun v13027 k0_hw663 => k0_hw663.1
theorem k0_off664_inb : ∀ (v13027 : BitVec 32) (k0_hw663 : k0_chk663 v13027), ∀ a, (k0_off664 v13027) a + S16x128.size a ≤ S66048x128.size a := fun v13027 k0_hw663 => k0_hw663.2

def k0_off665 (v13028 : BitVec 32) : Fin 2 → Nat :=
  let c3_i32_8675 : BitVec 32 := 3#32
  let v13034 : BitVec 32 := Scalar.shrsi v13028 c3_i32_8675
  let c3_i32_8676 : BitVec 32 := 3#32
  let v13035 : BitVec 32 := Scalar.shli v13034 c3_i32_8676
  let v13036 : BitVec 32 := v13035
  let v13039 : Index := Scalar.indexCast v13036
  let c0_8678 : Index := 0#32
  ![v13039.toNat, 0]

def k0_chk664 (v13028 : BitVec 32) : Prop :=
  (8 ∣ (k0_mult664 v13028).toNat) ∧
  (∀ a, (k0_off665 v13028) a + S16x128.size a ≤ S66048x128.size a)
theorem k0_mult664_dvd : ∀ (v13028 : BitVec 32) (k0_hw664 : k0_chk664 v13028), 8 ∣ (k0_mult664 v13028).toNat := fun v13028 k0_hw664 => k0_hw664.1
theorem k0_off665_inb : ∀ (v13028 : BitVec 32) (k0_hw664 : k0_chk664 v13028), ∀ a, (k0_off665 v13028) a + S16x128.size a ≤ S66048x128.size a := fun v13028 k0_hw664 => k0_hw664.2

def k0_mult665 (v13066 : BitVec 32) : BitVec 32 :=
  let c3_i32_8699 : BitVec 32 := 3#32
  let v13070 : BitVec 32 := Scalar.shrsi v13066 c3_i32_8699
  let c3_i32_8700 : BitVec 32 := 3#32
  let v13071 : BitVec 32 := Scalar.shli v13070 c3_i32_8700
  v13071

def k0_mult666 (v13067 : BitVec 32) : BitVec 32 :=
  let c3_i32_8701 : BitVec 32 := 3#32
  let v13073 : BitVec 32 := Scalar.shrsi v13067 c3_i32_8701
  let c3_i32_8702 : BitVec 32 := 3#32
  let v13074 : BitVec 32 := Scalar.shli v13073 c3_i32_8702
  v13074

def k0_off666 (v13066 : BitVec 32) : Fin 2 → Nat :=
  let c3_i32_8699 : BitVec 32 := 3#32
  let v13070 : BitVec 32 := Scalar.shrsi v13066 c3_i32_8699
  let c3_i32_8700 : BitVec 32 := 3#32
  let v13071 : BitVec 32 := Scalar.shli v13070 c3_i32_8700
  let v13072 : BitVec 32 := v13071
  let v13076 : Index := Scalar.indexCast v13072
  let c0_8703 : Index := 0#32
  ![v13076.toNat, 0]

def k0_chk665 (v13066 : BitVec 32) : Prop :=
  (8 ∣ (k0_mult665 v13066).toNat) ∧
  (∀ a, (k0_off666 v13066) a + S16x128.size a ≤ S66048x128.size a)
theorem k0_mult665_dvd : ∀ (v13066 : BitVec 32) (k0_hw665 : k0_chk665 v13066), 8 ∣ (k0_mult665 v13066).toNat := fun v13066 k0_hw665 => k0_hw665.1
theorem k0_off666_inb : ∀ (v13066 : BitVec 32) (k0_hw665 : k0_chk665 v13066), ∀ a, (k0_off666 v13066) a + S16x128.size a ≤ S66048x128.size a := fun v13066 k0_hw665 => k0_hw665.2

def k0_off667 (v13067 : BitVec 32) : Fin 2 → Nat :=
  let c3_i32_8701 : BitVec 32 := 3#32
  let v13073 : BitVec 32 := Scalar.shrsi v13067 c3_i32_8701
  let c3_i32_8702 : BitVec 32 := 3#32
  let v13074 : BitVec 32 := Scalar.shli v13073 c3_i32_8702
  let v13075 : BitVec 32 := v13074
  let v13078 : Index := Scalar.indexCast v13075
  let c0_8704 : Index := 0#32
  ![v13078.toNat, 0]

def k0_chk666 (v13067 : BitVec 32) : Prop :=
  (8 ∣ (k0_mult666 v13067).toNat) ∧
  (∀ a, (k0_off667 v13067) a + S16x128.size a ≤ S66048x128.size a)
theorem k0_mult666_dvd : ∀ (v13067 : BitVec 32) (k0_hw666 : k0_chk666 v13067), 8 ∣ (k0_mult666 v13067).toNat := fun v13067 k0_hw666 => k0_hw666.1
theorem k0_off667_inb : ∀ (v13067 : BitVec 32) (k0_hw666 : k0_chk666 v13067), ∀ a, (k0_off667 v13067) a + S16x128.size a ≤ S66048x128.size a := fun v13067 k0_hw666 => k0_hw666.2

def k0_mult667 (v13105 : BitVec 32) : BitVec 32 :=
  let c3_i32_8725 : BitVec 32 := 3#32
  let v13109 : BitVec 32 := Scalar.shrsi v13105 c3_i32_8725
  let c3_i32_8726 : BitVec 32 := 3#32
  let v13110 : BitVec 32 := Scalar.shli v13109 c3_i32_8726
  v13110

def k0_mult668 (v13106 : BitVec 32) : BitVec 32 :=
  let c3_i32_8727 : BitVec 32 := 3#32
  let v13112 : BitVec 32 := Scalar.shrsi v13106 c3_i32_8727
  let c3_i32_8728 : BitVec 32 := 3#32
  let v13113 : BitVec 32 := Scalar.shli v13112 c3_i32_8728
  v13113

def k0_off668 (v13105 : BitVec 32) : Fin 2 → Nat :=
  let c3_i32_8725 : BitVec 32 := 3#32
  let v13109 : BitVec 32 := Scalar.shrsi v13105 c3_i32_8725
  let c3_i32_8726 : BitVec 32 := 3#32
  let v13110 : BitVec 32 := Scalar.shli v13109 c3_i32_8726
  let v13111 : BitVec 32 := v13110
  let v13115 : Index := Scalar.indexCast v13111
  let c0_8729 : Index := 0#32
  ![v13115.toNat, 0]

def k0_chk667 (v13105 : BitVec 32) : Prop :=
  (8 ∣ (k0_mult667 v13105).toNat) ∧
  (∀ a, (k0_off668 v13105) a + S16x128.size a ≤ S66048x128.size a)
theorem k0_mult667_dvd : ∀ (v13105 : BitVec 32) (k0_hw667 : k0_chk667 v13105), 8 ∣ (k0_mult667 v13105).toNat := fun v13105 k0_hw667 => k0_hw667.1
theorem k0_off668_inb : ∀ (v13105 : BitVec 32) (k0_hw667 : k0_chk667 v13105), ∀ a, (k0_off668 v13105) a + S16x128.size a ≤ S66048x128.size a := fun v13105 k0_hw667 => k0_hw667.2

def k0_off669 (v13106 : BitVec 32) : Fin 2 → Nat :=
  let c3_i32_8727 : BitVec 32 := 3#32
  let v13112 : BitVec 32 := Scalar.shrsi v13106 c3_i32_8727
  let c3_i32_8728 : BitVec 32 := 3#32
  let v13113 : BitVec 32 := Scalar.shli v13112 c3_i32_8728
  let v13114 : BitVec 32 := v13113
  let v13117 : Index := Scalar.indexCast v13114
  let c0_8730 : Index := 0#32
  ![v13117.toNat, 0]

def k0_chk668 (v13106 : BitVec 32) : Prop :=
  (8 ∣ (k0_mult668 v13106).toNat) ∧
  (∀ a, (k0_off669 v13106) a + S16x128.size a ≤ S66048x128.size a)
theorem k0_mult668_dvd : ∀ (v13106 : BitVec 32) (k0_hw668 : k0_chk668 v13106), 8 ∣ (k0_mult668 v13106).toNat := fun v13106 k0_hw668 => k0_hw668.1
theorem k0_off669_inb : ∀ (v13106 : BitVec 32) (k0_hw668 : k0_chk668 v13106), ∀ a, (k0_off669 v13106) a + S16x128.size a ≤ S66048x128.size a := fun v13106 k0_hw668 => k0_hw668.2

def k0_mult669 (v13144 : BitVec 32) : BitVec 32 :=
  let c3_i32_8751 : BitVec 32 := 3#32
  let v13148 : BitVec 32 := Scalar.shrsi v13144 c3_i32_8751
  let c3_i32_8752 : BitVec 32 := 3#32
  let v13149 : BitVec 32 := Scalar.shli v13148 c3_i32_8752
  v13149

def k0_mult670 (v13145 : BitVec 32) : BitVec 32 :=
  let c3_i32_8753 : BitVec 32 := 3#32
  let v13151 : BitVec 32 := Scalar.shrsi v13145 c3_i32_8753
  let c3_i32_8754 : BitVec 32 := 3#32
  let v13152 : BitVec 32 := Scalar.shli v13151 c3_i32_8754
  v13152

def k0_off670 (v13144 : BitVec 32) : Fin 2 → Nat :=
  let c3_i32_8751 : BitVec 32 := 3#32
  let v13148 : BitVec 32 := Scalar.shrsi v13144 c3_i32_8751
  let c3_i32_8752 : BitVec 32 := 3#32
  let v13149 : BitVec 32 := Scalar.shli v13148 c3_i32_8752
  let v13150 : BitVec 32 := v13149
  let v13154 : Index := Scalar.indexCast v13150
  let c0_8755 : Index := 0#32
  ![v13154.toNat, 0]

def k0_chk669 (v13144 : BitVec 32) : Prop :=
  (8 ∣ (k0_mult669 v13144).toNat) ∧
  (∀ a, (k0_off670 v13144) a + S16x128.size a ≤ S66048x128.size a)
theorem k0_mult669_dvd : ∀ (v13144 : BitVec 32) (k0_hw669 : k0_chk669 v13144), 8 ∣ (k0_mult669 v13144).toNat := fun v13144 k0_hw669 => k0_hw669.1
theorem k0_off670_inb : ∀ (v13144 : BitVec 32) (k0_hw669 : k0_chk669 v13144), ∀ a, (k0_off670 v13144) a + S16x128.size a ≤ S66048x128.size a := fun v13144 k0_hw669 => k0_hw669.2

def k0_off671 (v13145 : BitVec 32) : Fin 2 → Nat :=
  let c3_i32_8753 : BitVec 32 := 3#32
  let v13151 : BitVec 32 := Scalar.shrsi v13145 c3_i32_8753
  let c3_i32_8754 : BitVec 32 := 3#32
  let v13152 : BitVec 32 := Scalar.shli v13151 c3_i32_8754
  let v13153 : BitVec 32 := v13152
  let v13156 : Index := Scalar.indexCast v13153
  let c0_8756 : Index := 0#32
  ![v13156.toNat, 0]

def k0_chk670 (v13145 : BitVec 32) : Prop :=
  (8 ∣ (k0_mult670 v13145).toNat) ∧
  (∀ a, (k0_off671 v13145) a + S16x128.size a ≤ S66048x128.size a)
theorem k0_mult670_dvd : ∀ (v13145 : BitVec 32) (k0_hw670 : k0_chk670 v13145), 8 ∣ (k0_mult670 v13145).toNat := fun v13145 k0_hw670 => k0_hw670.1
theorem k0_off671_inb : ∀ (v13145 : BitVec 32) (k0_hw670 : k0_chk670 v13145), ∀ a, (k0_off671 v13145) a + S16x128.size a ≤ S66048x128.size a := fun v13145 k0_hw670 => k0_hw670.2

def k0_mult671 (v13183 : BitVec 32) : BitVec 32 :=
  let c3_i32_8777 : BitVec 32 := 3#32
  let v13187 : BitVec 32 := Scalar.shrsi v13183 c3_i32_8777
  let c3_i32_8778 : BitVec 32 := 3#32
  let v13188 : BitVec 32 := Scalar.shli v13187 c3_i32_8778
  v13188

def k0_mult672 (v13184 : BitVec 32) : BitVec 32 :=
  let c3_i32_8779 : BitVec 32 := 3#32
  let v13190 : BitVec 32 := Scalar.shrsi v13184 c3_i32_8779
  let c3_i32_8780 : BitVec 32 := 3#32
  let v13191 : BitVec 32 := Scalar.shli v13190 c3_i32_8780
  v13191

def k0_off672 (v13183 : BitVec 32) : Fin 2 → Nat :=
  let c3_i32_8777 : BitVec 32 := 3#32
  let v13187 : BitVec 32 := Scalar.shrsi v13183 c3_i32_8777
  let c3_i32_8778 : BitVec 32 := 3#32
  let v13188 : BitVec 32 := Scalar.shli v13187 c3_i32_8778
  let v13189 : BitVec 32 := v13188
  let v13193 : Index := Scalar.indexCast v13189
  let c0_8781 : Index := 0#32
  ![v13193.toNat, 0]

def k0_chk671 (v13183 : BitVec 32) : Prop :=
  (8 ∣ (k0_mult671 v13183).toNat) ∧
  (∀ a, (k0_off672 v13183) a + S16x128.size a ≤ S66048x128.size a)
theorem k0_mult671_dvd : ∀ (v13183 : BitVec 32) (k0_hw671 : k0_chk671 v13183), 8 ∣ (k0_mult671 v13183).toNat := fun v13183 k0_hw671 => k0_hw671.1
theorem k0_off672_inb : ∀ (v13183 : BitVec 32) (k0_hw671 : k0_chk671 v13183), ∀ a, (k0_off672 v13183) a + S16x128.size a ≤ S66048x128.size a := fun v13183 k0_hw671 => k0_hw671.2

def k0_off673 (v13184 : BitVec 32) : Fin 2 → Nat :=
  let c3_i32_8779 : BitVec 32 := 3#32
  let v13190 : BitVec 32 := Scalar.shrsi v13184 c3_i32_8779
  let c3_i32_8780 : BitVec 32 := 3#32
  let v13191 : BitVec 32 := Scalar.shli v13190 c3_i32_8780
  let v13192 : BitVec 32 := v13191
  let v13195 : Index := Scalar.indexCast v13192
  let c0_8782 : Index := 0#32
  ![v13195.toNat, 0]

def k0_chk672 (v13184 : BitVec 32) : Prop :=
  (8 ∣ (k0_mult672 v13184).toNat) ∧
  (∀ a, (k0_off673 v13184) a + S16x128.size a ≤ S66048x128.size a)
theorem k0_mult672_dvd : ∀ (v13184 : BitVec 32) (k0_hw672 : k0_chk672 v13184), 8 ∣ (k0_mult672 v13184).toNat := fun v13184 k0_hw672 => k0_hw672.1
theorem k0_off673_inb : ∀ (v13184 : BitVec 32) (k0_hw672 : k0_chk672 v13184), ∀ a, (k0_off673 v13184) a + S16x128.size a ≤ S66048x128.size a := fun v13184 k0_hw672 => k0_hw672.2

def k0_mult673 (v13222 : BitVec 32) : BitVec 32 :=
  let c3_i32_8803 : BitVec 32 := 3#32
  let v13226 : BitVec 32 := Scalar.shrsi v13222 c3_i32_8803
  let c3_i32_8804 : BitVec 32 := 3#32
  let v13227 : BitVec 32 := Scalar.shli v13226 c3_i32_8804
  v13227

def k0_mult674 (v13223 : BitVec 32) : BitVec 32 :=
  let c3_i32_8805 : BitVec 32 := 3#32
  let v13229 : BitVec 32 := Scalar.shrsi v13223 c3_i32_8805
  let c3_i32_8806 : BitVec 32 := 3#32
  let v13230 : BitVec 32 := Scalar.shli v13229 c3_i32_8806
  v13230

def k0_off674 (v13222 : BitVec 32) : Fin 2 → Nat :=
  let c3_i32_8803 : BitVec 32 := 3#32
  let v13226 : BitVec 32 := Scalar.shrsi v13222 c3_i32_8803
  let c3_i32_8804 : BitVec 32 := 3#32
  let v13227 : BitVec 32 := Scalar.shli v13226 c3_i32_8804
  let v13228 : BitVec 32 := v13227
  let v13232 : Index := Scalar.indexCast v13228
  let c0_8807 : Index := 0#32
  ![v13232.toNat, 0]

def k0_chk673 (v13222 : BitVec 32) : Prop :=
  (8 ∣ (k0_mult673 v13222).toNat) ∧
  (∀ a, (k0_off674 v13222) a + S16x128.size a ≤ S66048x128.size a)
theorem k0_mult673_dvd : ∀ (v13222 : BitVec 32) (k0_hw673 : k0_chk673 v13222), 8 ∣ (k0_mult673 v13222).toNat := fun v13222 k0_hw673 => k0_hw673.1
theorem k0_off674_inb : ∀ (v13222 : BitVec 32) (k0_hw673 : k0_chk673 v13222), ∀ a, (k0_off674 v13222) a + S16x128.size a ≤ S66048x128.size a := fun v13222 k0_hw673 => k0_hw673.2

def k0_off675 (v13223 : BitVec 32) : Fin 2 → Nat :=
  let c3_i32_8805 : BitVec 32 := 3#32
  let v13229 : BitVec 32 := Scalar.shrsi v13223 c3_i32_8805
  let c3_i32_8806 : BitVec 32 := 3#32
  let v13230 : BitVec 32 := Scalar.shli v13229 c3_i32_8806
  let v13231 : BitVec 32 := v13230
  let v13234 : Index := Scalar.indexCast v13231
  let c0_8808 : Index := 0#32
  ![v13234.toNat, 0]

def k0_chk674 (v13223 : BitVec 32) : Prop :=
  (8 ∣ (k0_mult674 v13223).toNat) ∧
  (∀ a, (k0_off675 v13223) a + S16x128.size a ≤ S66048x128.size a)
theorem k0_mult674_dvd : ∀ (v13223 : BitVec 32) (k0_hw674 : k0_chk674 v13223), 8 ∣ (k0_mult674 v13223).toNat := fun v13223 k0_hw674 => k0_hw674.1
theorem k0_off675_inb : ∀ (v13223 : BitVec 32) (k0_hw674 : k0_chk674 v13223), ∀ a, (k0_off675 v13223) a + S16x128.size a ≤ S66048x128.size a := fun v13223 k0_hw674 => k0_hw674.2

def k0_mult675 (v13261 : BitVec 32) : BitVec 32 :=
  let c3_i32_8829 : BitVec 32 := 3#32
  let v13265 : BitVec 32 := Scalar.shrsi v13261 c3_i32_8829
  let c3_i32_8830 : BitVec 32 := 3#32
  let v13266 : BitVec 32 := Scalar.shli v13265 c3_i32_8830
  v13266

def k0_mult676 (v13262 : BitVec 32) : BitVec 32 :=
  let c3_i32_8831 : BitVec 32 := 3#32
  let v13268 : BitVec 32 := Scalar.shrsi v13262 c3_i32_8831
  let c3_i32_8832 : BitVec 32 := 3#32
  let v13269 : BitVec 32 := Scalar.shli v13268 c3_i32_8832
  v13269

def k0_off676 (v13261 : BitVec 32) : Fin 2 → Nat :=
  let c3_i32_8829 : BitVec 32 := 3#32
  let v13265 : BitVec 32 := Scalar.shrsi v13261 c3_i32_8829
  let c3_i32_8830 : BitVec 32 := 3#32
  let v13266 : BitVec 32 := Scalar.shli v13265 c3_i32_8830
  let v13267 : BitVec 32 := v13266
  let v13271 : Index := Scalar.indexCast v13267
  let c0_8833 : Index := 0#32
  ![v13271.toNat, 0]

def k0_chk675 (v13261 : BitVec 32) : Prop :=
  (8 ∣ (k0_mult675 v13261).toNat) ∧
  (∀ a, (k0_off676 v13261) a + S16x128.size a ≤ S66048x128.size a)
theorem k0_mult675_dvd : ∀ (v13261 : BitVec 32) (k0_hw675 : k0_chk675 v13261), 8 ∣ (k0_mult675 v13261).toNat := fun v13261 k0_hw675 => k0_hw675.1
theorem k0_off676_inb : ∀ (v13261 : BitVec 32) (k0_hw675 : k0_chk675 v13261), ∀ a, (k0_off676 v13261) a + S16x128.size a ≤ S66048x128.size a := fun v13261 k0_hw675 => k0_hw675.2

def k0_off677 (v13262 : BitVec 32) : Fin 2 → Nat :=
  let c3_i32_8831 : BitVec 32 := 3#32
  let v13268 : BitVec 32 := Scalar.shrsi v13262 c3_i32_8831
  let c3_i32_8832 : BitVec 32 := 3#32
  let v13269 : BitVec 32 := Scalar.shli v13268 c3_i32_8832
  let v13270 : BitVec 32 := v13269
  let v13273 : Index := Scalar.indexCast v13270
  let c0_8834 : Index := 0#32
  ![v13273.toNat, 0]

def k0_chk676 (v13262 : BitVec 32) : Prop :=
  (8 ∣ (k0_mult676 v13262).toNat) ∧
  (∀ a, (k0_off677 v13262) a + S16x128.size a ≤ S66048x128.size a)
theorem k0_mult676_dvd : ∀ (v13262 : BitVec 32) (k0_hw676 : k0_chk676 v13262), 8 ∣ (k0_mult676 v13262).toNat := fun v13262 k0_hw676 => k0_hw676.1
theorem k0_off677_inb : ∀ (v13262 : BitVec 32) (k0_hw676 : k0_chk676 v13262), ∀ a, (k0_off677 v13262) a + S16x128.size a ≤ S66048x128.size a := fun v13262 k0_hw676 => k0_hw676.2

def k0_mult677 (v13300 : BitVec 32) : BitVec 32 :=
  let c3_i32_8855 : BitVec 32 := 3#32
  let v13304 : BitVec 32 := Scalar.shrsi v13300 c3_i32_8855
  let c3_i32_8856 : BitVec 32 := 3#32
  let v13305 : BitVec 32 := Scalar.shli v13304 c3_i32_8856
  v13305

def k0_mult678 (v13301 : BitVec 32) : BitVec 32 :=
  let c3_i32_8857 : BitVec 32 := 3#32
  let v13307 : BitVec 32 := Scalar.shrsi v13301 c3_i32_8857
  let c3_i32_8858 : BitVec 32 := 3#32
  let v13308 : BitVec 32 := Scalar.shli v13307 c3_i32_8858
  v13308

def k0_off678 (v13300 : BitVec 32) : Fin 2 → Nat :=
  let c3_i32_8855 : BitVec 32 := 3#32
  let v13304 : BitVec 32 := Scalar.shrsi v13300 c3_i32_8855
  let c3_i32_8856 : BitVec 32 := 3#32
  let v13305 : BitVec 32 := Scalar.shli v13304 c3_i32_8856
  let v13306 : BitVec 32 := v13305
  let v13310 : Index := Scalar.indexCast v13306
  let c0_8859 : Index := 0#32
  ![v13310.toNat, 0]

def k0_chk677 (v13300 : BitVec 32) : Prop :=
  (8 ∣ (k0_mult677 v13300).toNat) ∧
  (∀ a, (k0_off678 v13300) a + S16x128.size a ≤ S66048x128.size a)
theorem k0_mult677_dvd : ∀ (v13300 : BitVec 32) (k0_hw677 : k0_chk677 v13300), 8 ∣ (k0_mult677 v13300).toNat := fun v13300 k0_hw677 => k0_hw677.1
theorem k0_off678_inb : ∀ (v13300 : BitVec 32) (k0_hw677 : k0_chk677 v13300), ∀ a, (k0_off678 v13300) a + S16x128.size a ≤ S66048x128.size a := fun v13300 k0_hw677 => k0_hw677.2

def k0_off679 (v13301 : BitVec 32) : Fin 2 → Nat :=
  let c3_i32_8857 : BitVec 32 := 3#32
  let v13307 : BitVec 32 := Scalar.shrsi v13301 c3_i32_8857
  let c3_i32_8858 : BitVec 32 := 3#32
  let v13308 : BitVec 32 := Scalar.shli v13307 c3_i32_8858
  let v13309 : BitVec 32 := v13308
  let v13312 : Index := Scalar.indexCast v13309
  let c0_8860 : Index := 0#32
  ![v13312.toNat, 0]

def k0_chk678 (v13301 : BitVec 32) : Prop :=
  (8 ∣ (k0_mult678 v13301).toNat) ∧
  (∀ a, (k0_off679 v13301) a + S16x128.size a ≤ S66048x128.size a)
theorem k0_mult678_dvd : ∀ (v13301 : BitVec 32) (k0_hw678 : k0_chk678 v13301), 8 ∣ (k0_mult678 v13301).toNat := fun v13301 k0_hw678 => k0_hw678.1
theorem k0_off679_inb : ∀ (v13301 : BitVec 32) (k0_hw678 : k0_chk678 v13301), ∀ a, (k0_off679 v13301) a + S16x128.size a ≤ S66048x128.size a := fun v13301 k0_hw678 => k0_hw678.2

def k0_mult679 (v13339 : BitVec 32) : BitVec 32 :=
  let c3_i32_8881 : BitVec 32 := 3#32
  let v13343 : BitVec 32 := Scalar.shrsi v13339 c3_i32_8881
  let c3_i32_8882 : BitVec 32 := 3#32
  let v13344 : BitVec 32 := Scalar.shli v13343 c3_i32_8882
  v13344

def k0_mult680 (v13340 : BitVec 32) : BitVec 32 :=
  let c3_i32_8883 : BitVec 32 := 3#32
  let v13346 : BitVec 32 := Scalar.shrsi v13340 c3_i32_8883
  let c3_i32_8884 : BitVec 32 := 3#32
  let v13347 : BitVec 32 := Scalar.shli v13346 c3_i32_8884
  v13347

def k0_off680 (v13339 : BitVec 32) : Fin 2 → Nat :=
  let c3_i32_8881 : BitVec 32 := 3#32
  let v13343 : BitVec 32 := Scalar.shrsi v13339 c3_i32_8881
  let c3_i32_8882 : BitVec 32 := 3#32
  let v13344 : BitVec 32 := Scalar.shli v13343 c3_i32_8882
  let v13345 : BitVec 32 := v13344
  let v13349 : Index := Scalar.indexCast v13345
  let c0_8885 : Index := 0#32
  ![v13349.toNat, 0]

def k0_chk679 (v13339 : BitVec 32) : Prop :=
  (8 ∣ (k0_mult679 v13339).toNat) ∧
  (∀ a, (k0_off680 v13339) a + S16x128.size a ≤ S66048x128.size a)
theorem k0_mult679_dvd : ∀ (v13339 : BitVec 32) (k0_hw679 : k0_chk679 v13339), 8 ∣ (k0_mult679 v13339).toNat := fun v13339 k0_hw679 => k0_hw679.1
theorem k0_off680_inb : ∀ (v13339 : BitVec 32) (k0_hw679 : k0_chk679 v13339), ∀ a, (k0_off680 v13339) a + S16x128.size a ≤ S66048x128.size a := fun v13339 k0_hw679 => k0_hw679.2

def k0_off681 (v13340 : BitVec 32) : Fin 2 → Nat :=
  let c3_i32_8883 : BitVec 32 := 3#32
  let v13346 : BitVec 32 := Scalar.shrsi v13340 c3_i32_8883
  let c3_i32_8884 : BitVec 32 := 3#32
  let v13347 : BitVec 32 := Scalar.shli v13346 c3_i32_8884
  let v13348 : BitVec 32 := v13347
  let v13351 : Index := Scalar.indexCast v13348
  let c0_8886 : Index := 0#32
  ![v13351.toNat, 0]

def k0_chk680 (v13340 : BitVec 32) : Prop :=
  (8 ∣ (k0_mult680 v13340).toNat) ∧
  (∀ a, (k0_off681 v13340) a + S16x128.size a ≤ S66048x128.size a)
theorem k0_mult680_dvd : ∀ (v13340 : BitVec 32) (k0_hw680 : k0_chk680 v13340), 8 ∣ (k0_mult680 v13340).toNat := fun v13340 k0_hw680 => k0_hw680.1
theorem k0_off681_inb : ∀ (v13340 : BitVec 32) (k0_hw680 : k0_chk680 v13340), ∀ a, (k0_off681 v13340) a + S16x128.size a ≤ S66048x128.size a := fun v13340 k0_hw680 => k0_hw680.2

def k0_mult681 (v13378 : BitVec 32) : BitVec 32 :=
  let c3_i32_8907 : BitVec 32 := 3#32
  let v13382 : BitVec 32 := Scalar.shrsi v13378 c3_i32_8907
  let c3_i32_8908 : BitVec 32 := 3#32
  let v13383 : BitVec 32 := Scalar.shli v13382 c3_i32_8908
  v13383

def k0_mult682 (v13379 : BitVec 32) : BitVec 32 :=
  let c3_i32_8909 : BitVec 32 := 3#32
  let v13385 : BitVec 32 := Scalar.shrsi v13379 c3_i32_8909
  let c3_i32_8910 : BitVec 32 := 3#32
  let v13386 : BitVec 32 := Scalar.shli v13385 c3_i32_8910
  v13386

def k0_off682 (v13378 : BitVec 32) : Fin 2 → Nat :=
  let c3_i32_8907 : BitVec 32 := 3#32
  let v13382 : BitVec 32 := Scalar.shrsi v13378 c3_i32_8907
  let c3_i32_8908 : BitVec 32 := 3#32
  let v13383 : BitVec 32 := Scalar.shli v13382 c3_i32_8908
  let v13384 : BitVec 32 := v13383
  let v13388 : Index := Scalar.indexCast v13384
  let c0_8911 : Index := 0#32
  ![v13388.toNat, 0]

def k0_chk681 (v13378 : BitVec 32) : Prop :=
  (8 ∣ (k0_mult681 v13378).toNat) ∧
  (∀ a, (k0_off682 v13378) a + S16x128.size a ≤ S66048x128.size a)
theorem k0_mult681_dvd : ∀ (v13378 : BitVec 32) (k0_hw681 : k0_chk681 v13378), 8 ∣ (k0_mult681 v13378).toNat := fun v13378 k0_hw681 => k0_hw681.1
theorem k0_off682_inb : ∀ (v13378 : BitVec 32) (k0_hw681 : k0_chk681 v13378), ∀ a, (k0_off682 v13378) a + S16x128.size a ≤ S66048x128.size a := fun v13378 k0_hw681 => k0_hw681.2

def k0_off683 (v13379 : BitVec 32) : Fin 2 → Nat :=
  let c3_i32_8909 : BitVec 32 := 3#32
  let v13385 : BitVec 32 := Scalar.shrsi v13379 c3_i32_8909
  let c3_i32_8910 : BitVec 32 := 3#32
  let v13386 : BitVec 32 := Scalar.shli v13385 c3_i32_8910
  let v13387 : BitVec 32 := v13386
  let v13390 : Index := Scalar.indexCast v13387
  let c0_8912 : Index := 0#32
  ![v13390.toNat, 0]

def k0_chk682 (v13379 : BitVec 32) : Prop :=
  (8 ∣ (k0_mult682 v13379).toNat) ∧
  (∀ a, (k0_off683 v13379) a + S16x128.size a ≤ S66048x128.size a)
theorem k0_mult682_dvd : ∀ (v13379 : BitVec 32) (k0_hw682 : k0_chk682 v13379), 8 ∣ (k0_mult682 v13379).toNat := fun v13379 k0_hw682 => k0_hw682.1
theorem k0_off683_inb : ∀ (v13379 : BitVec 32) (k0_hw682 : k0_chk682 v13379), ∀ a, (k0_off683 v13379) a + S16x128.size a ≤ S66048x128.size a := fun v13379 k0_hw682 => k0_hw682.2

def k0_mult683 (v13417 : BitVec 32) : BitVec 32 :=
  let c3_i32_8933 : BitVec 32 := 3#32
  let v13421 : BitVec 32 := Scalar.shrsi v13417 c3_i32_8933
  let c3_i32_8934 : BitVec 32 := 3#32
  let v13422 : BitVec 32 := Scalar.shli v13421 c3_i32_8934
  v13422

def k0_mult684 (v13418 : BitVec 32) : BitVec 32 :=
  let c3_i32_8935 : BitVec 32 := 3#32
  let v13424 : BitVec 32 := Scalar.shrsi v13418 c3_i32_8935
  let c3_i32_8936 : BitVec 32 := 3#32
  let v13425 : BitVec 32 := Scalar.shli v13424 c3_i32_8936
  v13425

def k0_off684 (v13417 : BitVec 32) : Fin 2 → Nat :=
  let c3_i32_8933 : BitVec 32 := 3#32
  let v13421 : BitVec 32 := Scalar.shrsi v13417 c3_i32_8933
  let c3_i32_8934 : BitVec 32 := 3#32
  let v13422 : BitVec 32 := Scalar.shli v13421 c3_i32_8934
  let v13423 : BitVec 32 := v13422
  let v13427 : Index := Scalar.indexCast v13423
  let c0_8937 : Index := 0#32
  ![v13427.toNat, 0]

def k0_chk683 (v13417 : BitVec 32) : Prop :=
  (8 ∣ (k0_mult683 v13417).toNat) ∧
  (∀ a, (k0_off684 v13417) a + S16x128.size a ≤ S66048x128.size a)
theorem k0_mult683_dvd : ∀ (v13417 : BitVec 32) (k0_hw683 : k0_chk683 v13417), 8 ∣ (k0_mult683 v13417).toNat := fun v13417 k0_hw683 => k0_hw683.1
theorem k0_off684_inb : ∀ (v13417 : BitVec 32) (k0_hw683 : k0_chk683 v13417), ∀ a, (k0_off684 v13417) a + S16x128.size a ≤ S66048x128.size a := fun v13417 k0_hw683 => k0_hw683.2

def k0_off685 (v13418 : BitVec 32) : Fin 2 → Nat :=
  let c3_i32_8935 : BitVec 32 := 3#32
  let v13424 : BitVec 32 := Scalar.shrsi v13418 c3_i32_8935
  let c3_i32_8936 : BitVec 32 := 3#32
  let v13425 : BitVec 32 := Scalar.shli v13424 c3_i32_8936
  let v13426 : BitVec 32 := v13425
  let v13429 : Index := Scalar.indexCast v13426
  let c0_8938 : Index := 0#32
  ![v13429.toNat, 0]

def k0_chk684 (v13418 : BitVec 32) : Prop :=
  (8 ∣ (k0_mult684 v13418).toNat) ∧
  (∀ a, (k0_off685 v13418) a + S16x128.size a ≤ S66048x128.size a)
theorem k0_mult684_dvd : ∀ (v13418 : BitVec 32) (k0_hw684 : k0_chk684 v13418), 8 ∣ (k0_mult684 v13418).toNat := fun v13418 k0_hw684 => k0_hw684.1
theorem k0_off685_inb : ∀ (v13418 : BitVec 32) (k0_hw684 : k0_chk684 v13418), ∀ a, (k0_off685 v13418) a + S16x128.size a ≤ S66048x128.size a := fun v13418 k0_hw684 => k0_hw684.2

def k0_mult685 (v13456 : BitVec 32) : BitVec 32 :=
  let c3_i32_8959 : BitVec 32 := 3#32
  let v13460 : BitVec 32 := Scalar.shrsi v13456 c3_i32_8959
  let c3_i32_8960 : BitVec 32 := 3#32
  let v13461 : BitVec 32 := Scalar.shli v13460 c3_i32_8960
  v13461

def k0_mult686 (v13457 : BitVec 32) : BitVec 32 :=
  let c3_i32_8961 : BitVec 32 := 3#32
  let v13463 : BitVec 32 := Scalar.shrsi v13457 c3_i32_8961
  let c3_i32_8962 : BitVec 32 := 3#32
  let v13464 : BitVec 32 := Scalar.shli v13463 c3_i32_8962
  v13464

def k0_off686 (v13456 : BitVec 32) : Fin 2 → Nat :=
  let c3_i32_8959 : BitVec 32 := 3#32
  let v13460 : BitVec 32 := Scalar.shrsi v13456 c3_i32_8959
  let c3_i32_8960 : BitVec 32 := 3#32
  let v13461 : BitVec 32 := Scalar.shli v13460 c3_i32_8960
  let v13462 : BitVec 32 := v13461
  let v13466 : Index := Scalar.indexCast v13462
  let c0_8963 : Index := 0#32
  ![v13466.toNat, 0]

def k0_chk685 (v13456 : BitVec 32) : Prop :=
  (8 ∣ (k0_mult685 v13456).toNat) ∧
  (∀ a, (k0_off686 v13456) a + S16x128.size a ≤ S66048x128.size a)
theorem k0_mult685_dvd : ∀ (v13456 : BitVec 32) (k0_hw685 : k0_chk685 v13456), 8 ∣ (k0_mult685 v13456).toNat := fun v13456 k0_hw685 => k0_hw685.1
theorem k0_off686_inb : ∀ (v13456 : BitVec 32) (k0_hw685 : k0_chk685 v13456), ∀ a, (k0_off686 v13456) a + S16x128.size a ≤ S66048x128.size a := fun v13456 k0_hw685 => k0_hw685.2

def k0_off687 (v13457 : BitVec 32) : Fin 2 → Nat :=
  let c3_i32_8961 : BitVec 32 := 3#32
  let v13463 : BitVec 32 := Scalar.shrsi v13457 c3_i32_8961
  let c3_i32_8962 : BitVec 32 := 3#32
  let v13464 : BitVec 32 := Scalar.shli v13463 c3_i32_8962
  let v13465 : BitVec 32 := v13464
  let v13468 : Index := Scalar.indexCast v13465
  let c0_8964 : Index := 0#32
  ![v13468.toNat, 0]

def k0_chk686 (v13457 : BitVec 32) : Prop :=
  (8 ∣ (k0_mult686 v13457).toNat) ∧
  (∀ a, (k0_off687 v13457) a + S16x128.size a ≤ S66048x128.size a)
theorem k0_mult686_dvd : ∀ (v13457 : BitVec 32) (k0_hw686 : k0_chk686 v13457), 8 ∣ (k0_mult686 v13457).toNat := fun v13457 k0_hw686 => k0_hw686.1
theorem k0_off687_inb : ∀ (v13457 : BitVec 32) (k0_hw686 : k0_chk686 v13457), ∀ a, (k0_off687 v13457) a + S16x128.size a ≤ S66048x128.size a := fun v13457 k0_hw686 => k0_hw686.2

def k0_mult687 (v13495 : BitVec 32) : BitVec 32 :=
  let c3_i32_8985 : BitVec 32 := 3#32
  let v13499 : BitVec 32 := Scalar.shrsi v13495 c3_i32_8985
  let c3_i32_8986 : BitVec 32 := 3#32
  let v13500 : BitVec 32 := Scalar.shli v13499 c3_i32_8986
  v13500

def k0_mult688 (v13496 : BitVec 32) : BitVec 32 :=
  let c3_i32_8987 : BitVec 32 := 3#32
  let v13502 : BitVec 32 := Scalar.shrsi v13496 c3_i32_8987
  let c3_i32_8988 : BitVec 32 := 3#32
  let v13503 : BitVec 32 := Scalar.shli v13502 c3_i32_8988
  v13503

def k0_off688 (v13495 : BitVec 32) : Fin 2 → Nat :=
  let c3_i32_8985 : BitVec 32 := 3#32
  let v13499 : BitVec 32 := Scalar.shrsi v13495 c3_i32_8985
  let c3_i32_8986 : BitVec 32 := 3#32
  let v13500 : BitVec 32 := Scalar.shli v13499 c3_i32_8986
  let v13501 : BitVec 32 := v13500
  let v13505 : Index := Scalar.indexCast v13501
  let c0_8989 : Index := 0#32
  ![v13505.toNat, 0]

def k0_chk687 (v13495 : BitVec 32) : Prop :=
  (8 ∣ (k0_mult687 v13495).toNat) ∧
  (∀ a, (k0_off688 v13495) a + S16x128.size a ≤ S66048x128.size a)
theorem k0_mult687_dvd : ∀ (v13495 : BitVec 32) (k0_hw687 : k0_chk687 v13495), 8 ∣ (k0_mult687 v13495).toNat := fun v13495 k0_hw687 => k0_hw687.1
theorem k0_off688_inb : ∀ (v13495 : BitVec 32) (k0_hw687 : k0_chk687 v13495), ∀ a, (k0_off688 v13495) a + S16x128.size a ≤ S66048x128.size a := fun v13495 k0_hw687 => k0_hw687.2

def k0_off689 (v13496 : BitVec 32) : Fin 2 → Nat :=
  let c3_i32_8987 : BitVec 32 := 3#32
  let v13502 : BitVec 32 := Scalar.shrsi v13496 c3_i32_8987
  let c3_i32_8988 : BitVec 32 := 3#32
  let v13503 : BitVec 32 := Scalar.shli v13502 c3_i32_8988
  let v13504 : BitVec 32 := v13503
  let v13507 : Index := Scalar.indexCast v13504
  let c0_8990 : Index := 0#32
  ![v13507.toNat, 0]

def k0_chk688 (v13496 : BitVec 32) : Prop :=
  (8 ∣ (k0_mult688 v13496).toNat) ∧
  (∀ a, (k0_off689 v13496) a + S16x128.size a ≤ S66048x128.size a)
theorem k0_mult688_dvd : ∀ (v13496 : BitVec 32) (k0_hw688 : k0_chk688 v13496), 8 ∣ (k0_mult688 v13496).toNat := fun v13496 k0_hw688 => k0_hw688.1
theorem k0_off689_inb : ∀ (v13496 : BitVec 32) (k0_hw688 : k0_chk688 v13496), ∀ a, (k0_off689 v13496) a + S16x128.size a ≤ S66048x128.size a := fun v13496 k0_hw688 => k0_hw688.2

def k0_mult689 (v13534 : BitVec 32) : BitVec 32 :=
  let c3_i32_9011 : BitVec 32 := 3#32
  let v13538 : BitVec 32 := Scalar.shrsi v13534 c3_i32_9011
  let c3_i32_9012 : BitVec 32 := 3#32
  let v13539 : BitVec 32 := Scalar.shli v13538 c3_i32_9012
  v13539

def k0_mult690 (v13535 : BitVec 32) : BitVec 32 :=
  let c3_i32_9013 : BitVec 32 := 3#32
  let v13541 : BitVec 32 := Scalar.shrsi v13535 c3_i32_9013
  let c3_i32_9014 : BitVec 32 := 3#32
  let v13542 : BitVec 32 := Scalar.shli v13541 c3_i32_9014
  v13542

def k0_off690 (v13534 : BitVec 32) : Fin 2 → Nat :=
  let c3_i32_9011 : BitVec 32 := 3#32
  let v13538 : BitVec 32 := Scalar.shrsi v13534 c3_i32_9011
  let c3_i32_9012 : BitVec 32 := 3#32
  let v13539 : BitVec 32 := Scalar.shli v13538 c3_i32_9012
  let v13540 : BitVec 32 := v13539
  let v13544 : Index := Scalar.indexCast v13540
  let c0_9015 : Index := 0#32
  ![v13544.toNat, 0]

def k0_chk689 (v13534 : BitVec 32) : Prop :=
  (8 ∣ (k0_mult689 v13534).toNat) ∧
  (∀ a, (k0_off690 v13534) a + S16x128.size a ≤ S66048x128.size a)
theorem k0_mult689_dvd : ∀ (v13534 : BitVec 32) (k0_hw689 : k0_chk689 v13534), 8 ∣ (k0_mult689 v13534).toNat := fun v13534 k0_hw689 => k0_hw689.1
theorem k0_off690_inb : ∀ (v13534 : BitVec 32) (k0_hw689 : k0_chk689 v13534), ∀ a, (k0_off690 v13534) a + S16x128.size a ≤ S66048x128.size a := fun v13534 k0_hw689 => k0_hw689.2

def k0_off691 (v13535 : BitVec 32) : Fin 2 → Nat :=
  let c3_i32_9013 : BitVec 32 := 3#32
  let v13541 : BitVec 32 := Scalar.shrsi v13535 c3_i32_9013
  let c3_i32_9014 : BitVec 32 := 3#32
  let v13542 : BitVec 32 := Scalar.shli v13541 c3_i32_9014
  let v13543 : BitVec 32 := v13542
  let v13546 : Index := Scalar.indexCast v13543
  let c0_9016 : Index := 0#32
  ![v13546.toNat, 0]

def k0_chk690 (v13535 : BitVec 32) : Prop :=
  (8 ∣ (k0_mult690 v13535).toNat) ∧
  (∀ a, (k0_off691 v13535) a + S16x128.size a ≤ S66048x128.size a)
theorem k0_mult690_dvd : ∀ (v13535 : BitVec 32) (k0_hw690 : k0_chk690 v13535), 8 ∣ (k0_mult690 v13535).toNat := fun v13535 k0_hw690 => k0_hw690.1
theorem k0_off691_inb : ∀ (v13535 : BitVec 32) (k0_hw690 : k0_chk690 v13535), ∀ a, (k0_off691 v13535) a + S16x128.size a ≤ S66048x128.size a := fun v13535 k0_hw690 => k0_hw690.2

def k0_mult691 (v13573 : BitVec 32) : BitVec 32 :=
  let c3_i32_9037 : BitVec 32 := 3#32
  let v13577 : BitVec 32 := Scalar.shrsi v13573 c3_i32_9037
  let c3_i32_9038 : BitVec 32 := 3#32
  let v13578 : BitVec 32 := Scalar.shli v13577 c3_i32_9038
  v13578

def k0_mult692 (v13574 : BitVec 32) : BitVec 32 :=
  let c3_i32_9039 : BitVec 32 := 3#32
  let v13580 : BitVec 32 := Scalar.shrsi v13574 c3_i32_9039
  let c3_i32_9040 : BitVec 32 := 3#32
  let v13581 : BitVec 32 := Scalar.shli v13580 c3_i32_9040
  v13581

def k0_off692 (v13573 : BitVec 32) : Fin 2 → Nat :=
  let c3_i32_9037 : BitVec 32 := 3#32
  let v13577 : BitVec 32 := Scalar.shrsi v13573 c3_i32_9037
  let c3_i32_9038 : BitVec 32 := 3#32
  let v13578 : BitVec 32 := Scalar.shli v13577 c3_i32_9038
  let v13579 : BitVec 32 := v13578
  let v13583 : Index := Scalar.indexCast v13579
  let c0_9041 : Index := 0#32
  ![v13583.toNat, 0]

def k0_chk691 (v13573 : BitVec 32) : Prop :=
  (8 ∣ (k0_mult691 v13573).toNat) ∧
  (∀ a, (k0_off692 v13573) a + S16x128.size a ≤ S66048x128.size a)
theorem k0_mult691_dvd : ∀ (v13573 : BitVec 32) (k0_hw691 : k0_chk691 v13573), 8 ∣ (k0_mult691 v13573).toNat := fun v13573 k0_hw691 => k0_hw691.1
theorem k0_off692_inb : ∀ (v13573 : BitVec 32) (k0_hw691 : k0_chk691 v13573), ∀ a, (k0_off692 v13573) a + S16x128.size a ≤ S66048x128.size a := fun v13573 k0_hw691 => k0_hw691.2

def k0_off693 (v13574 : BitVec 32) : Fin 2 → Nat :=
  let c3_i32_9039 : BitVec 32 := 3#32
  let v13580 : BitVec 32 := Scalar.shrsi v13574 c3_i32_9039
  let c3_i32_9040 : BitVec 32 := 3#32
  let v13581 : BitVec 32 := Scalar.shli v13580 c3_i32_9040
  let v13582 : BitVec 32 := v13581
  let v13585 : Index := Scalar.indexCast v13582
  let c0_9042 : Index := 0#32
  ![v13585.toNat, 0]

def k0_chk692 (v13574 : BitVec 32) : Prop :=
  (8 ∣ (k0_mult692 v13574).toNat) ∧
  (∀ a, (k0_off693 v13574) a + S16x128.size a ≤ S66048x128.size a)
theorem k0_mult692_dvd : ∀ (v13574 : BitVec 32) (k0_hw692 : k0_chk692 v13574), 8 ∣ (k0_mult692 v13574).toNat := fun v13574 k0_hw692 => k0_hw692.1
theorem k0_off693_inb : ∀ (v13574 : BitVec 32) (k0_hw692 : k0_chk692 v13574), ∀ a, (k0_off693 v13574) a + S16x128.size a ≤ S66048x128.size a := fun v13574 k0_hw692 => k0_hw692.2

def k0_mult693 (v13612 : BitVec 32) : BitVec 32 :=
  let c3_i32_9063 : BitVec 32 := 3#32
  let v13616 : BitVec 32 := Scalar.shrsi v13612 c3_i32_9063
  let c3_i32_9064 : BitVec 32 := 3#32
  let v13617 : BitVec 32 := Scalar.shli v13616 c3_i32_9064
  v13617

def k0_mult694 (v13613 : BitVec 32) : BitVec 32 :=
  let c3_i32_9065 : BitVec 32 := 3#32
  let v13619 : BitVec 32 := Scalar.shrsi v13613 c3_i32_9065
  let c3_i32_9066 : BitVec 32 := 3#32
  let v13620 : BitVec 32 := Scalar.shli v13619 c3_i32_9066
  v13620

def k0_off694 (v13612 : BitVec 32) : Fin 2 → Nat :=
  let c3_i32_9063 : BitVec 32 := 3#32
  let v13616 : BitVec 32 := Scalar.shrsi v13612 c3_i32_9063
  let c3_i32_9064 : BitVec 32 := 3#32
  let v13617 : BitVec 32 := Scalar.shli v13616 c3_i32_9064
  let v13618 : BitVec 32 := v13617
  let v13622 : Index := Scalar.indexCast v13618
  let c0_9067 : Index := 0#32
  ![v13622.toNat, 0]

def k0_chk693 (v13612 : BitVec 32) : Prop :=
  (8 ∣ (k0_mult693 v13612).toNat) ∧
  (∀ a, (k0_off694 v13612) a + S16x128.size a ≤ S66048x128.size a)
theorem k0_mult693_dvd : ∀ (v13612 : BitVec 32) (k0_hw693 : k0_chk693 v13612), 8 ∣ (k0_mult693 v13612).toNat := fun v13612 k0_hw693 => k0_hw693.1
theorem k0_off694_inb : ∀ (v13612 : BitVec 32) (k0_hw693 : k0_chk693 v13612), ∀ a, (k0_off694 v13612) a + S16x128.size a ≤ S66048x128.size a := fun v13612 k0_hw693 => k0_hw693.2

def k0_off695 (v13613 : BitVec 32) : Fin 2 → Nat :=
  let c3_i32_9065 : BitVec 32 := 3#32
  let v13619 : BitVec 32 := Scalar.shrsi v13613 c3_i32_9065
  let c3_i32_9066 : BitVec 32 := 3#32
  let v13620 : BitVec 32 := Scalar.shli v13619 c3_i32_9066
  let v13621 : BitVec 32 := v13620
  let v13624 : Index := Scalar.indexCast v13621
  let c0_9068 : Index := 0#32
  ![v13624.toNat, 0]

def k0_chk694 (v13613 : BitVec 32) : Prop :=
  (8 ∣ (k0_mult694 v13613).toNat) ∧
  (∀ a, (k0_off695 v13613) a + S16x128.size a ≤ S66048x128.size a)
theorem k0_mult694_dvd : ∀ (v13613 : BitVec 32) (k0_hw694 : k0_chk694 v13613), 8 ∣ (k0_mult694 v13613).toNat := fun v13613 k0_hw694 => k0_hw694.1
theorem k0_off695_inb : ∀ (v13613 : BitVec 32) (k0_hw694 : k0_chk694 v13613), ∀ a, (k0_off695 v13613) a + S16x128.size a ≤ S66048x128.size a := fun v13613 k0_hw694 => k0_hw694.2

def k0_mult695 (v13651 : BitVec 32) : BitVec 32 :=
  let c3_i32_9089 : BitVec 32 := 3#32
  let v13655 : BitVec 32 := Scalar.shrsi v13651 c3_i32_9089
  let c3_i32_9090 : BitVec 32 := 3#32
  let v13656 : BitVec 32 := Scalar.shli v13655 c3_i32_9090
  v13656

def k0_mult696 (v13652 : BitVec 32) : BitVec 32 :=
  let c3_i32_9091 : BitVec 32 := 3#32
  let v13658 : BitVec 32 := Scalar.shrsi v13652 c3_i32_9091
  let c3_i32_9092 : BitVec 32 := 3#32
  let v13659 : BitVec 32 := Scalar.shli v13658 c3_i32_9092
  v13659

def k0_off696 (v13651 : BitVec 32) : Fin 2 → Nat :=
  let c3_i32_9089 : BitVec 32 := 3#32
  let v13655 : BitVec 32 := Scalar.shrsi v13651 c3_i32_9089
  let c3_i32_9090 : BitVec 32 := 3#32
  let v13656 : BitVec 32 := Scalar.shli v13655 c3_i32_9090
  let v13657 : BitVec 32 := v13656
  let v13661 : Index := Scalar.indexCast v13657
  let c0_9093 : Index := 0#32
  ![v13661.toNat, 0]

def k0_chk695 (v13651 : BitVec 32) : Prop :=
  (8 ∣ (k0_mult695 v13651).toNat) ∧
  (∀ a, (k0_off696 v13651) a + S16x128.size a ≤ S66048x128.size a)
theorem k0_mult695_dvd : ∀ (v13651 : BitVec 32) (k0_hw695 : k0_chk695 v13651), 8 ∣ (k0_mult695 v13651).toNat := fun v13651 k0_hw695 => k0_hw695.1
theorem k0_off696_inb : ∀ (v13651 : BitVec 32) (k0_hw695 : k0_chk695 v13651), ∀ a, (k0_off696 v13651) a + S16x128.size a ≤ S66048x128.size a := fun v13651 k0_hw695 => k0_hw695.2

def k0_off697 (v13652 : BitVec 32) : Fin 2 → Nat :=
  let c3_i32_9091 : BitVec 32 := 3#32
  let v13658 : BitVec 32 := Scalar.shrsi v13652 c3_i32_9091
  let c3_i32_9092 : BitVec 32 := 3#32
  let v13659 : BitVec 32 := Scalar.shli v13658 c3_i32_9092
  let v13660 : BitVec 32 := v13659
  let v13663 : Index := Scalar.indexCast v13660
  let c0_9094 : Index := 0#32
  ![v13663.toNat, 0]

def k0_chk696 (v13652 : BitVec 32) : Prop :=
  (8 ∣ (k0_mult696 v13652).toNat) ∧
  (∀ a, (k0_off697 v13652) a + S16x128.size a ≤ S66048x128.size a)
theorem k0_mult696_dvd : ∀ (v13652 : BitVec 32) (k0_hw696 : k0_chk696 v13652), 8 ∣ (k0_mult696 v13652).toNat := fun v13652 k0_hw696 => k0_hw696.1
theorem k0_off697_inb : ∀ (v13652 : BitVec 32) (k0_hw696 : k0_chk696 v13652), ∀ a, (k0_off697 v13652) a + S16x128.size a ≤ S66048x128.size a := fun v13652 k0_hw696 => k0_hw696.2

def k0_mult697 (v13690 : BitVec 32) : BitVec 32 :=
  let c3_i32_9115 : BitVec 32 := 3#32
  let v13694 : BitVec 32 := Scalar.shrsi v13690 c3_i32_9115
  let c3_i32_9116 : BitVec 32 := 3#32
  let v13695 : BitVec 32 := Scalar.shli v13694 c3_i32_9116
  v13695

def k0_mult698 (v13691 : BitVec 32) : BitVec 32 :=
  let c3_i32_9117 : BitVec 32 := 3#32
  let v13697 : BitVec 32 := Scalar.shrsi v13691 c3_i32_9117
  let c3_i32_9118 : BitVec 32 := 3#32
  let v13698 : BitVec 32 := Scalar.shli v13697 c3_i32_9118
  v13698

def k0_off698 (v13690 : BitVec 32) : Fin 2 → Nat :=
  let c3_i32_9115 : BitVec 32 := 3#32
  let v13694 : BitVec 32 := Scalar.shrsi v13690 c3_i32_9115
  let c3_i32_9116 : BitVec 32 := 3#32
  let v13695 : BitVec 32 := Scalar.shli v13694 c3_i32_9116
  let v13696 : BitVec 32 := v13695
  let v13700 : Index := Scalar.indexCast v13696
  let c0_9119 : Index := 0#32
  ![v13700.toNat, 0]

def k0_chk697 (v13690 : BitVec 32) : Prop :=
  (8 ∣ (k0_mult697 v13690).toNat) ∧
  (∀ a, (k0_off698 v13690) a + S16x128.size a ≤ S66048x128.size a)
theorem k0_mult697_dvd : ∀ (v13690 : BitVec 32) (k0_hw697 : k0_chk697 v13690), 8 ∣ (k0_mult697 v13690).toNat := fun v13690 k0_hw697 => k0_hw697.1
theorem k0_off698_inb : ∀ (v13690 : BitVec 32) (k0_hw697 : k0_chk697 v13690), ∀ a, (k0_off698 v13690) a + S16x128.size a ≤ S66048x128.size a := fun v13690 k0_hw697 => k0_hw697.2

def k0_off699 (v13691 : BitVec 32) : Fin 2 → Nat :=
  let c3_i32_9117 : BitVec 32 := 3#32
  let v13697 : BitVec 32 := Scalar.shrsi v13691 c3_i32_9117
  let c3_i32_9118 : BitVec 32 := 3#32
  let v13698 : BitVec 32 := Scalar.shli v13697 c3_i32_9118
  let v13699 : BitVec 32 := v13698
  let v13702 : Index := Scalar.indexCast v13699
  let c0_9120 : Index := 0#32
  ![v13702.toNat, 0]

def k0_chk698 (v13691 : BitVec 32) : Prop :=
  (8 ∣ (k0_mult698 v13691).toNat) ∧
  (∀ a, (k0_off699 v13691) a + S16x128.size a ≤ S66048x128.size a)
theorem k0_mult698_dvd : ∀ (v13691 : BitVec 32) (k0_hw698 : k0_chk698 v13691), 8 ∣ (k0_mult698 v13691).toNat := fun v13691 k0_hw698 => k0_hw698.1
theorem k0_off699_inb : ∀ (v13691 : BitVec 32) (k0_hw698 : k0_chk698 v13691), ∀ a, (k0_off699 v13691) a + S16x128.size a ≤ S66048x128.size a := fun v13691 k0_hw698 => k0_hw698.2

def k0_mult699 (v13729 : BitVec 32) : BitVec 32 :=
  let c3_i32_9141 : BitVec 32 := 3#32
  let v13733 : BitVec 32 := Scalar.shrsi v13729 c3_i32_9141
  let c3_i32_9142 : BitVec 32 := 3#32
  let v13734 : BitVec 32 := Scalar.shli v13733 c3_i32_9142
  v13734

def k0_mult700 (v13730 : BitVec 32) : BitVec 32 :=
  let c3_i32_9143 : BitVec 32 := 3#32
  let v13736 : BitVec 32 := Scalar.shrsi v13730 c3_i32_9143
  let c3_i32_9144 : BitVec 32 := 3#32
  let v13737 : BitVec 32 := Scalar.shli v13736 c3_i32_9144
  v13737

def k0_off700 (v13729 : BitVec 32) : Fin 2 → Nat :=
  let c3_i32_9141 : BitVec 32 := 3#32
  let v13733 : BitVec 32 := Scalar.shrsi v13729 c3_i32_9141
  let c3_i32_9142 : BitVec 32 := 3#32
  let v13734 : BitVec 32 := Scalar.shli v13733 c3_i32_9142
  let v13735 : BitVec 32 := v13734
  let v13739 : Index := Scalar.indexCast v13735
  let c0_9145 : Index := 0#32
  ![v13739.toNat, 0]

def k0_chk699 (v13729 : BitVec 32) : Prop :=
  (8 ∣ (k0_mult699 v13729).toNat) ∧
  (∀ a, (k0_off700 v13729) a + S16x128.size a ≤ S66048x128.size a)
theorem k0_mult699_dvd : ∀ (v13729 : BitVec 32) (k0_hw699 : k0_chk699 v13729), 8 ∣ (k0_mult699 v13729).toNat := fun v13729 k0_hw699 => k0_hw699.1
theorem k0_off700_inb : ∀ (v13729 : BitVec 32) (k0_hw699 : k0_chk699 v13729), ∀ a, (k0_off700 v13729) a + S16x128.size a ≤ S66048x128.size a := fun v13729 k0_hw699 => k0_hw699.2

def k0_off701 (v13730 : BitVec 32) : Fin 2 → Nat :=
  let c3_i32_9143 : BitVec 32 := 3#32
  let v13736 : BitVec 32 := Scalar.shrsi v13730 c3_i32_9143
  let c3_i32_9144 : BitVec 32 := 3#32
  let v13737 : BitVec 32 := Scalar.shli v13736 c3_i32_9144
  let v13738 : BitVec 32 := v13737
  let v13741 : Index := Scalar.indexCast v13738
  let c0_9146 : Index := 0#32
  ![v13741.toNat, 0]

def k0_chk700 (v13730 : BitVec 32) : Prop :=
  (8 ∣ (k0_mult700 v13730).toNat) ∧
  (∀ a, (k0_off701 v13730) a + S16x128.size a ≤ S66048x128.size a)
theorem k0_mult700_dvd : ∀ (v13730 : BitVec 32) (k0_hw700 : k0_chk700 v13730), 8 ∣ (k0_mult700 v13730).toNat := fun v13730 k0_hw700 => k0_hw700.1
theorem k0_off701_inb : ∀ (v13730 : BitVec 32) (k0_hw700 : k0_chk700 v13730), ∀ a, (k0_off701 v13730) a + S16x128.size a ≤ S66048x128.size a := fun v13730 k0_hw700 => k0_hw700.2

def k0_mult701 (v13775 : BitVec 32) : BitVec 32 :=
  let c3_i32_9173 : BitVec 32 := 3#32
  let v13779 : BitVec 32 := Scalar.shrsi v13775 c3_i32_9173
  let c3_i32_9174 : BitVec 32 := 3#32
  let v13780 : BitVec 32 := Scalar.shli v13779 c3_i32_9174
  v13780

def k0_mult702 (v13776 : BitVec 32) : BitVec 32 :=
  let c3_i32_9175 : BitVec 32 := 3#32
  let v13782 : BitVec 32 := Scalar.shrsi v13776 c3_i32_9175
  let c3_i32_9176 : BitVec 32 := 3#32
  let v13783 : BitVec 32 := Scalar.shli v13782 c3_i32_9176
  v13783

def k0_off702 (v13775 : BitVec 32) : Fin 2 → Nat :=
  let c3_i32_9173 : BitVec 32 := 3#32
  let v13779 : BitVec 32 := Scalar.shrsi v13775 c3_i32_9173
  let c3_i32_9174 : BitVec 32 := 3#32
  let v13780 : BitVec 32 := Scalar.shli v13779 c3_i32_9174
  let v13781 : BitVec 32 := v13780
  let v13785 : Index := Scalar.indexCast v13781
  let c0_9177 : Index := 0#32
  ![v13785.toNat, 0]

def k0_chk701 (v13775 : BitVec 32) : Prop :=
  (8 ∣ (k0_mult701 v13775).toNat) ∧
  (∀ a, (k0_off702 v13775) a + S16x128.size a ≤ S66048x128.size a)
theorem k0_mult701_dvd : ∀ (v13775 : BitVec 32) (k0_hw701 : k0_chk701 v13775), 8 ∣ (k0_mult701 v13775).toNat := fun v13775 k0_hw701 => k0_hw701.1
theorem k0_off702_inb : ∀ (v13775 : BitVec 32) (k0_hw701 : k0_chk701 v13775), ∀ a, (k0_off702 v13775) a + S16x128.size a ≤ S66048x128.size a := fun v13775 k0_hw701 => k0_hw701.2

def k0_off703 (v13776 : BitVec 32) : Fin 2 → Nat :=
  let c3_i32_9175 : BitVec 32 := 3#32
  let v13782 : BitVec 32 := Scalar.shrsi v13776 c3_i32_9175
  let c3_i32_9176 : BitVec 32 := 3#32
  let v13783 : BitVec 32 := Scalar.shli v13782 c3_i32_9176
  let v13784 : BitVec 32 := v13783
  let v13787 : Index := Scalar.indexCast v13784
  let c0_9178 : Index := 0#32
  ![v13787.toNat, 0]

def k0_chk702 (v13776 : BitVec 32) : Prop :=
  (8 ∣ (k0_mult702 v13776).toNat) ∧
  (∀ a, (k0_off703 v13776) a + S16x128.size a ≤ S66048x128.size a)
theorem k0_mult702_dvd : ∀ (v13776 : BitVec 32) (k0_hw702 : k0_chk702 v13776), 8 ∣ (k0_mult702 v13776).toNat := fun v13776 k0_hw702 => k0_hw702.1
theorem k0_off703_inb : ∀ (v13776 : BitVec 32) (k0_hw702 : k0_chk702 v13776), ∀ a, (k0_off703 v13776) a + S16x128.size a ≤ S66048x128.size a := fun v13776 k0_hw702 => k0_hw702.2

def k0_mult703 (v13814 : BitVec 32) : BitVec 32 :=
  let c3_i32_9199 : BitVec 32 := 3#32
  let v13818 : BitVec 32 := Scalar.shrsi v13814 c3_i32_9199
  let c3_i32_9200 : BitVec 32 := 3#32
  let v13819 : BitVec 32 := Scalar.shli v13818 c3_i32_9200
  v13819

def k0_mult704 (v13815 : BitVec 32) : BitVec 32 :=
  let c3_i32_9201 : BitVec 32 := 3#32
  let v13821 : BitVec 32 := Scalar.shrsi v13815 c3_i32_9201
  let c3_i32_9202 : BitVec 32 := 3#32
  let v13822 : BitVec 32 := Scalar.shli v13821 c3_i32_9202
  v13822

def k0_off704 (v13814 : BitVec 32) : Fin 2 → Nat :=
  let c3_i32_9199 : BitVec 32 := 3#32
  let v13818 : BitVec 32 := Scalar.shrsi v13814 c3_i32_9199
  let c3_i32_9200 : BitVec 32 := 3#32
  let v13819 : BitVec 32 := Scalar.shli v13818 c3_i32_9200
  let v13820 : BitVec 32 := v13819
  let v13824 : Index := Scalar.indexCast v13820
  let c0_9203 : Index := 0#32
  ![v13824.toNat, 0]

def k0_chk703 (v13814 : BitVec 32) : Prop :=
  (8 ∣ (k0_mult703 v13814).toNat) ∧
  (∀ a, (k0_off704 v13814) a + S16x128.size a ≤ S66048x128.size a)
theorem k0_mult703_dvd : ∀ (v13814 : BitVec 32) (k0_hw703 : k0_chk703 v13814), 8 ∣ (k0_mult703 v13814).toNat := fun v13814 k0_hw703 => k0_hw703.1
theorem k0_off704_inb : ∀ (v13814 : BitVec 32) (k0_hw703 : k0_chk703 v13814), ∀ a, (k0_off704 v13814) a + S16x128.size a ≤ S66048x128.size a := fun v13814 k0_hw703 => k0_hw703.2

def k0_off705 (v13815 : BitVec 32) : Fin 2 → Nat :=
  let c3_i32_9201 : BitVec 32 := 3#32
  let v13821 : BitVec 32 := Scalar.shrsi v13815 c3_i32_9201
  let c3_i32_9202 : BitVec 32 := 3#32
  let v13822 : BitVec 32 := Scalar.shli v13821 c3_i32_9202
  let v13823 : BitVec 32 := v13822
  let v13826 : Index := Scalar.indexCast v13823
  let c0_9204 : Index := 0#32
  ![v13826.toNat, 0]

def k0_chk704 (v13815 : BitVec 32) : Prop :=
  (8 ∣ (k0_mult704 v13815).toNat) ∧
  (∀ a, (k0_off705 v13815) a + S16x128.size a ≤ S66048x128.size a)
theorem k0_mult704_dvd : ∀ (v13815 : BitVec 32) (k0_hw704 : k0_chk704 v13815), 8 ∣ (k0_mult704 v13815).toNat := fun v13815 k0_hw704 => k0_hw704.1
theorem k0_off705_inb : ∀ (v13815 : BitVec 32) (k0_hw704 : k0_chk704 v13815), ∀ a, (k0_off705 v13815) a + S16x128.size a ≤ S66048x128.size a := fun v13815 k0_hw704 => k0_hw704.2

def k0_mult705 (v13853 : BitVec 32) : BitVec 32 :=
  let c3_i32_9225 : BitVec 32 := 3#32
  let v13857 : BitVec 32 := Scalar.shrsi v13853 c3_i32_9225
  let c3_i32_9226 : BitVec 32 := 3#32
  let v13858 : BitVec 32 := Scalar.shli v13857 c3_i32_9226
  v13858

def k0_mult706 (v13854 : BitVec 32) : BitVec 32 :=
  let c3_i32_9227 : BitVec 32 := 3#32
  let v13860 : BitVec 32 := Scalar.shrsi v13854 c3_i32_9227
  let c3_i32_9228 : BitVec 32 := 3#32
  let v13861 : BitVec 32 := Scalar.shli v13860 c3_i32_9228
  v13861

def k0_off706 (v13853 : BitVec 32) : Fin 2 → Nat :=
  let c3_i32_9225 : BitVec 32 := 3#32
  let v13857 : BitVec 32 := Scalar.shrsi v13853 c3_i32_9225
  let c3_i32_9226 : BitVec 32 := 3#32
  let v13858 : BitVec 32 := Scalar.shli v13857 c3_i32_9226
  let v13859 : BitVec 32 := v13858
  let v13863 : Index := Scalar.indexCast v13859
  let c0_9229 : Index := 0#32
  ![v13863.toNat, 0]

def k0_chk705 (v13853 : BitVec 32) : Prop :=
  (8 ∣ (k0_mult705 v13853).toNat) ∧
  (∀ a, (k0_off706 v13853) a + S16x128.size a ≤ S66048x128.size a)
theorem k0_mult705_dvd : ∀ (v13853 : BitVec 32) (k0_hw705 : k0_chk705 v13853), 8 ∣ (k0_mult705 v13853).toNat := fun v13853 k0_hw705 => k0_hw705.1
theorem k0_off706_inb : ∀ (v13853 : BitVec 32) (k0_hw705 : k0_chk705 v13853), ∀ a, (k0_off706 v13853) a + S16x128.size a ≤ S66048x128.size a := fun v13853 k0_hw705 => k0_hw705.2

def k0_off707 (v13854 : BitVec 32) : Fin 2 → Nat :=
  let c3_i32_9227 : BitVec 32 := 3#32
  let v13860 : BitVec 32 := Scalar.shrsi v13854 c3_i32_9227
  let c3_i32_9228 : BitVec 32 := 3#32
  let v13861 : BitVec 32 := Scalar.shli v13860 c3_i32_9228
  let v13862 : BitVec 32 := v13861
  let v13865 : Index := Scalar.indexCast v13862
  let c0_9230 : Index := 0#32
  ![v13865.toNat, 0]

def k0_chk706 (v13854 : BitVec 32) : Prop :=
  (8 ∣ (k0_mult706 v13854).toNat) ∧
  (∀ a, (k0_off707 v13854) a + S16x128.size a ≤ S66048x128.size a)
theorem k0_mult706_dvd : ∀ (v13854 : BitVec 32) (k0_hw706 : k0_chk706 v13854), 8 ∣ (k0_mult706 v13854).toNat := fun v13854 k0_hw706 => k0_hw706.1
theorem k0_off707_inb : ∀ (v13854 : BitVec 32) (k0_hw706 : k0_chk706 v13854), ∀ a, (k0_off707 v13854) a + S16x128.size a ≤ S66048x128.size a := fun v13854 k0_hw706 => k0_hw706.2

def k0_mult707 (v13892 : BitVec 32) : BitVec 32 :=
  let c3_i32_9251 : BitVec 32 := 3#32
  let v13896 : BitVec 32 := Scalar.shrsi v13892 c3_i32_9251
  let c3_i32_9252 : BitVec 32 := 3#32
  let v13897 : BitVec 32 := Scalar.shli v13896 c3_i32_9252
  v13897

def k0_mult708 (v13893 : BitVec 32) : BitVec 32 :=
  let c3_i32_9253 : BitVec 32 := 3#32
  let v13899 : BitVec 32 := Scalar.shrsi v13893 c3_i32_9253
  let c3_i32_9254 : BitVec 32 := 3#32
  let v13900 : BitVec 32 := Scalar.shli v13899 c3_i32_9254
  v13900

def k0_off708 (v13892 : BitVec 32) : Fin 2 → Nat :=
  let c3_i32_9251 : BitVec 32 := 3#32
  let v13896 : BitVec 32 := Scalar.shrsi v13892 c3_i32_9251
  let c3_i32_9252 : BitVec 32 := 3#32
  let v13897 : BitVec 32 := Scalar.shli v13896 c3_i32_9252
  let v13898 : BitVec 32 := v13897
  let v13902 : Index := Scalar.indexCast v13898
  let c0_9255 : Index := 0#32
  ![v13902.toNat, 0]

def k0_chk707 (v13892 : BitVec 32) : Prop :=
  (8 ∣ (k0_mult707 v13892).toNat) ∧
  (∀ a, (k0_off708 v13892) a + S16x128.size a ≤ S66048x128.size a)
theorem k0_mult707_dvd : ∀ (v13892 : BitVec 32) (k0_hw707 : k0_chk707 v13892), 8 ∣ (k0_mult707 v13892).toNat := fun v13892 k0_hw707 => k0_hw707.1
theorem k0_off708_inb : ∀ (v13892 : BitVec 32) (k0_hw707 : k0_chk707 v13892), ∀ a, (k0_off708 v13892) a + S16x128.size a ≤ S66048x128.size a := fun v13892 k0_hw707 => k0_hw707.2

def k0_off709 (v13893 : BitVec 32) : Fin 2 → Nat :=
  let c3_i32_9253 : BitVec 32 := 3#32
  let v13899 : BitVec 32 := Scalar.shrsi v13893 c3_i32_9253
  let c3_i32_9254 : BitVec 32 := 3#32
  let v13900 : BitVec 32 := Scalar.shli v13899 c3_i32_9254
  let v13901 : BitVec 32 := v13900
  let v13904 : Index := Scalar.indexCast v13901
  let c0_9256 : Index := 0#32
  ![v13904.toNat, 0]

def k0_chk708 (v13893 : BitVec 32) : Prop :=
  (8 ∣ (k0_mult708 v13893).toNat) ∧
  (∀ a, (k0_off709 v13893) a + S16x128.size a ≤ S66048x128.size a)
theorem k0_mult708_dvd : ∀ (v13893 : BitVec 32) (k0_hw708 : k0_chk708 v13893), 8 ∣ (k0_mult708 v13893).toNat := fun v13893 k0_hw708 => k0_hw708.1
theorem k0_off709_inb : ∀ (v13893 : BitVec 32) (k0_hw708 : k0_chk708 v13893), ∀ a, (k0_off709 v13893) a + S16x128.size a ≤ S66048x128.size a := fun v13893 k0_hw708 => k0_hw708.2

def k0_mult709 (v13931 : BitVec 32) : BitVec 32 :=
  let c3_i32_9277 : BitVec 32 := 3#32
  let v13935 : BitVec 32 := Scalar.shrsi v13931 c3_i32_9277
  let c3_i32_9278 : BitVec 32 := 3#32
  let v13936 : BitVec 32 := Scalar.shli v13935 c3_i32_9278
  v13936

def k0_mult710 (v13932 : BitVec 32) : BitVec 32 :=
  let c3_i32_9279 : BitVec 32 := 3#32
  let v13938 : BitVec 32 := Scalar.shrsi v13932 c3_i32_9279
  let c3_i32_9280 : BitVec 32 := 3#32
  let v13939 : BitVec 32 := Scalar.shli v13938 c3_i32_9280
  v13939

def k0_off710 (v13931 : BitVec 32) : Fin 2 → Nat :=
  let c3_i32_9277 : BitVec 32 := 3#32
  let v13935 : BitVec 32 := Scalar.shrsi v13931 c3_i32_9277
  let c3_i32_9278 : BitVec 32 := 3#32
  let v13936 : BitVec 32 := Scalar.shli v13935 c3_i32_9278
  let v13937 : BitVec 32 := v13936
  let v13941 : Index := Scalar.indexCast v13937
  let c0_9281 : Index := 0#32
  ![v13941.toNat, 0]

def k0_chk709 (v13931 : BitVec 32) : Prop :=
  (8 ∣ (k0_mult709 v13931).toNat) ∧
  (∀ a, (k0_off710 v13931) a + S16x128.size a ≤ S66048x128.size a)
theorem k0_mult709_dvd : ∀ (v13931 : BitVec 32) (k0_hw709 : k0_chk709 v13931), 8 ∣ (k0_mult709 v13931).toNat := fun v13931 k0_hw709 => k0_hw709.1
theorem k0_off710_inb : ∀ (v13931 : BitVec 32) (k0_hw709 : k0_chk709 v13931), ∀ a, (k0_off710 v13931) a + S16x128.size a ≤ S66048x128.size a := fun v13931 k0_hw709 => k0_hw709.2

def k0_off711 (v13932 : BitVec 32) : Fin 2 → Nat :=
  let c3_i32_9279 : BitVec 32 := 3#32
  let v13938 : BitVec 32 := Scalar.shrsi v13932 c3_i32_9279
  let c3_i32_9280 : BitVec 32 := 3#32
  let v13939 : BitVec 32 := Scalar.shli v13938 c3_i32_9280
  let v13940 : BitVec 32 := v13939
  let v13943 : Index := Scalar.indexCast v13940
  let c0_9282 : Index := 0#32
  ![v13943.toNat, 0]

def k0_chk710 (v13932 : BitVec 32) : Prop :=
  (8 ∣ (k0_mult710 v13932).toNat) ∧
  (∀ a, (k0_off711 v13932) a + S16x128.size a ≤ S66048x128.size a)
theorem k0_mult710_dvd : ∀ (v13932 : BitVec 32) (k0_hw710 : k0_chk710 v13932), 8 ∣ (k0_mult710 v13932).toNat := fun v13932 k0_hw710 => k0_hw710.1
theorem k0_off711_inb : ∀ (v13932 : BitVec 32) (k0_hw710 : k0_chk710 v13932), ∀ a, (k0_off711 v13932) a + S16x128.size a ≤ S66048x128.size a := fun v13932 k0_hw710 => k0_hw710.2

def k0_mult711 (v13970 : BitVec 32) : BitVec 32 :=
  let c3_i32_9303 : BitVec 32 := 3#32
  let v13974 : BitVec 32 := Scalar.shrsi v13970 c3_i32_9303
  let c3_i32_9304 : BitVec 32 := 3#32
  let v13975 : BitVec 32 := Scalar.shli v13974 c3_i32_9304
  v13975

def k0_mult712 (v13971 : BitVec 32) : BitVec 32 :=
  let c3_i32_9305 : BitVec 32 := 3#32
  let v13977 : BitVec 32 := Scalar.shrsi v13971 c3_i32_9305
  let c3_i32_9306 : BitVec 32 := 3#32
  let v13978 : BitVec 32 := Scalar.shli v13977 c3_i32_9306
  v13978

def k0_off712 (v13970 : BitVec 32) : Fin 2 → Nat :=
  let c3_i32_9303 : BitVec 32 := 3#32
  let v13974 : BitVec 32 := Scalar.shrsi v13970 c3_i32_9303
  let c3_i32_9304 : BitVec 32 := 3#32
  let v13975 : BitVec 32 := Scalar.shli v13974 c3_i32_9304
  let v13976 : BitVec 32 := v13975
  let v13980 : Index := Scalar.indexCast v13976
  let c0_9307 : Index := 0#32
  ![v13980.toNat, 0]

def k0_chk711 (v13970 : BitVec 32) : Prop :=
  (8 ∣ (k0_mult711 v13970).toNat) ∧
  (∀ a, (k0_off712 v13970) a + S16x128.size a ≤ S66048x128.size a)
theorem k0_mult711_dvd : ∀ (v13970 : BitVec 32) (k0_hw711 : k0_chk711 v13970), 8 ∣ (k0_mult711 v13970).toNat := fun v13970 k0_hw711 => k0_hw711.1
theorem k0_off712_inb : ∀ (v13970 : BitVec 32) (k0_hw711 : k0_chk711 v13970), ∀ a, (k0_off712 v13970) a + S16x128.size a ≤ S66048x128.size a := fun v13970 k0_hw711 => k0_hw711.2

def k0_off713 (v13971 : BitVec 32) : Fin 2 → Nat :=
  let c3_i32_9305 : BitVec 32 := 3#32
  let v13977 : BitVec 32 := Scalar.shrsi v13971 c3_i32_9305
  let c3_i32_9306 : BitVec 32 := 3#32
  let v13978 : BitVec 32 := Scalar.shli v13977 c3_i32_9306
  let v13979 : BitVec 32 := v13978
  let v13982 : Index := Scalar.indexCast v13979
  let c0_9308 : Index := 0#32
  ![v13982.toNat, 0]

def k0_chk712 (v13971 : BitVec 32) : Prop :=
  (8 ∣ (k0_mult712 v13971).toNat) ∧
  (∀ a, (k0_off713 v13971) a + S16x128.size a ≤ S66048x128.size a)
theorem k0_mult712_dvd : ∀ (v13971 : BitVec 32) (k0_hw712 : k0_chk712 v13971), 8 ∣ (k0_mult712 v13971).toNat := fun v13971 k0_hw712 => k0_hw712.1
theorem k0_off713_inb : ∀ (v13971 : BitVec 32) (k0_hw712 : k0_chk712 v13971), ∀ a, (k0_off713 v13971) a + S16x128.size a ≤ S66048x128.size a := fun v13971 k0_hw712 => k0_hw712.2

def k0_mult713 (v14009 : BitVec 32) : BitVec 32 :=
  let c3_i32_9329 : BitVec 32 := 3#32
  let v14013 : BitVec 32 := Scalar.shrsi v14009 c3_i32_9329
  let c3_i32_9330 : BitVec 32 := 3#32
  let v14014 : BitVec 32 := Scalar.shli v14013 c3_i32_9330
  v14014

def k0_mult714 (v14010 : BitVec 32) : BitVec 32 :=
  let c3_i32_9331 : BitVec 32 := 3#32
  let v14016 : BitVec 32 := Scalar.shrsi v14010 c3_i32_9331
  let c3_i32_9332 : BitVec 32 := 3#32
  let v14017 : BitVec 32 := Scalar.shli v14016 c3_i32_9332
  v14017

def k0_off714 (v14009 : BitVec 32) : Fin 2 → Nat :=
  let c3_i32_9329 : BitVec 32 := 3#32
  let v14013 : BitVec 32 := Scalar.shrsi v14009 c3_i32_9329
  let c3_i32_9330 : BitVec 32 := 3#32
  let v14014 : BitVec 32 := Scalar.shli v14013 c3_i32_9330
  let v14015 : BitVec 32 := v14014
  let v14019 : Index := Scalar.indexCast v14015
  let c0_9333 : Index := 0#32
  ![v14019.toNat, 0]

def k0_chk713 (v14009 : BitVec 32) : Prop :=
  (8 ∣ (k0_mult713 v14009).toNat) ∧
  (∀ a, (k0_off714 v14009) a + S16x128.size a ≤ S66048x128.size a)
theorem k0_mult713_dvd : ∀ (v14009 : BitVec 32) (k0_hw713 : k0_chk713 v14009), 8 ∣ (k0_mult713 v14009).toNat := fun v14009 k0_hw713 => k0_hw713.1
theorem k0_off714_inb : ∀ (v14009 : BitVec 32) (k0_hw713 : k0_chk713 v14009), ∀ a, (k0_off714 v14009) a + S16x128.size a ≤ S66048x128.size a := fun v14009 k0_hw713 => k0_hw713.2

def k0_off715 (v14010 : BitVec 32) : Fin 2 → Nat :=
  let c3_i32_9331 : BitVec 32 := 3#32
  let v14016 : BitVec 32 := Scalar.shrsi v14010 c3_i32_9331
  let c3_i32_9332 : BitVec 32 := 3#32
  let v14017 : BitVec 32 := Scalar.shli v14016 c3_i32_9332
  let v14018 : BitVec 32 := v14017
  let v14021 : Index := Scalar.indexCast v14018
  let c0_9334 : Index := 0#32
  ![v14021.toNat, 0]

def k0_chk714 (v14010 : BitVec 32) : Prop :=
  (8 ∣ (k0_mult714 v14010).toNat) ∧
  (∀ a, (k0_off715 v14010) a + S16x128.size a ≤ S66048x128.size a)
theorem k0_mult714_dvd : ∀ (v14010 : BitVec 32) (k0_hw714 : k0_chk714 v14010), 8 ∣ (k0_mult714 v14010).toNat := fun v14010 k0_hw714 => k0_hw714.1
theorem k0_off715_inb : ∀ (v14010 : BitVec 32) (k0_hw714 : k0_chk714 v14010), ∀ a, (k0_off715 v14010) a + S16x128.size a ≤ S66048x128.size a := fun v14010 k0_hw714 => k0_hw714.2

def k0_mult715 (v14048 : BitVec 32) : BitVec 32 :=
  let c3_i32_9355 : BitVec 32 := 3#32
  let v14052 : BitVec 32 := Scalar.shrsi v14048 c3_i32_9355
  let c3_i32_9356 : BitVec 32 := 3#32
  let v14053 : BitVec 32 := Scalar.shli v14052 c3_i32_9356
  v14053

def k0_mult716 (v14049 : BitVec 32) : BitVec 32 :=
  let c3_i32_9357 : BitVec 32 := 3#32
  let v14055 : BitVec 32 := Scalar.shrsi v14049 c3_i32_9357
  let c3_i32_9358 : BitVec 32 := 3#32
  let v14056 : BitVec 32 := Scalar.shli v14055 c3_i32_9358
  v14056

def k0_off716 (v14048 : BitVec 32) : Fin 2 → Nat :=
  let c3_i32_9355 : BitVec 32 := 3#32
  let v14052 : BitVec 32 := Scalar.shrsi v14048 c3_i32_9355
  let c3_i32_9356 : BitVec 32 := 3#32
  let v14053 : BitVec 32 := Scalar.shli v14052 c3_i32_9356
  let v14054 : BitVec 32 := v14053
  let v14058 : Index := Scalar.indexCast v14054
  let c0_9359 : Index := 0#32
  ![v14058.toNat, 0]

def k0_chk715 (v14048 : BitVec 32) : Prop :=
  (8 ∣ (k0_mult715 v14048).toNat) ∧
  (∀ a, (k0_off716 v14048) a + S16x128.size a ≤ S66048x128.size a)
theorem k0_mult715_dvd : ∀ (v14048 : BitVec 32) (k0_hw715 : k0_chk715 v14048), 8 ∣ (k0_mult715 v14048).toNat := fun v14048 k0_hw715 => k0_hw715.1
theorem k0_off716_inb : ∀ (v14048 : BitVec 32) (k0_hw715 : k0_chk715 v14048), ∀ a, (k0_off716 v14048) a + S16x128.size a ≤ S66048x128.size a := fun v14048 k0_hw715 => k0_hw715.2

def k0_off717 (v14049 : BitVec 32) : Fin 2 → Nat :=
  let c3_i32_9357 : BitVec 32 := 3#32
  let v14055 : BitVec 32 := Scalar.shrsi v14049 c3_i32_9357
  let c3_i32_9358 : BitVec 32 := 3#32
  let v14056 : BitVec 32 := Scalar.shli v14055 c3_i32_9358
  let v14057 : BitVec 32 := v14056
  let v14060 : Index := Scalar.indexCast v14057
  let c0_9360 : Index := 0#32
  ![v14060.toNat, 0]

def k0_chk716 (v14049 : BitVec 32) : Prop :=
  (8 ∣ (k0_mult716 v14049).toNat) ∧
  (∀ a, (k0_off717 v14049) a + S16x128.size a ≤ S66048x128.size a)
theorem k0_mult716_dvd : ∀ (v14049 : BitVec 32) (k0_hw716 : k0_chk716 v14049), 8 ∣ (k0_mult716 v14049).toNat := fun v14049 k0_hw716 => k0_hw716.1
theorem k0_off717_inb : ∀ (v14049 : BitVec 32) (k0_hw716 : k0_chk716 v14049), ∀ a, (k0_off717 v14049) a + S16x128.size a ≤ S66048x128.size a := fun v14049 k0_hw716 => k0_hw716.2

def k0_mult717 (v14087 : BitVec 32) : BitVec 32 :=
  let c3_i32_9381 : BitVec 32 := 3#32
  let v14091 : BitVec 32 := Scalar.shrsi v14087 c3_i32_9381
  let c3_i32_9382 : BitVec 32 := 3#32
  let v14092 : BitVec 32 := Scalar.shli v14091 c3_i32_9382
  v14092

def k0_mult718 (v14088 : BitVec 32) : BitVec 32 :=
  let c3_i32_9383 : BitVec 32 := 3#32
  let v14094 : BitVec 32 := Scalar.shrsi v14088 c3_i32_9383
  let c3_i32_9384 : BitVec 32 := 3#32
  let v14095 : BitVec 32 := Scalar.shli v14094 c3_i32_9384
  v14095

def k0_off718 (v14087 : BitVec 32) : Fin 2 → Nat :=
  let c3_i32_9381 : BitVec 32 := 3#32
  let v14091 : BitVec 32 := Scalar.shrsi v14087 c3_i32_9381
  let c3_i32_9382 : BitVec 32 := 3#32
  let v14092 : BitVec 32 := Scalar.shli v14091 c3_i32_9382
  let v14093 : BitVec 32 := v14092
  let v14097 : Index := Scalar.indexCast v14093
  let c0_9385 : Index := 0#32
  ![v14097.toNat, 0]

def k0_chk717 (v14087 : BitVec 32) : Prop :=
  (8 ∣ (k0_mult717 v14087).toNat) ∧
  (∀ a, (k0_off718 v14087) a + S16x128.size a ≤ S66048x128.size a)
theorem k0_mult717_dvd : ∀ (v14087 : BitVec 32) (k0_hw717 : k0_chk717 v14087), 8 ∣ (k0_mult717 v14087).toNat := fun v14087 k0_hw717 => k0_hw717.1
theorem k0_off718_inb : ∀ (v14087 : BitVec 32) (k0_hw717 : k0_chk717 v14087), ∀ a, (k0_off718 v14087) a + S16x128.size a ≤ S66048x128.size a := fun v14087 k0_hw717 => k0_hw717.2

def k0_off719 (v14088 : BitVec 32) : Fin 2 → Nat :=
  let c3_i32_9383 : BitVec 32 := 3#32
  let v14094 : BitVec 32 := Scalar.shrsi v14088 c3_i32_9383
  let c3_i32_9384 : BitVec 32 := 3#32
  let v14095 : BitVec 32 := Scalar.shli v14094 c3_i32_9384
  let v14096 : BitVec 32 := v14095
  let v14099 : Index := Scalar.indexCast v14096
  let c0_9386 : Index := 0#32
  ![v14099.toNat, 0]

def k0_chk718 (v14088 : BitVec 32) : Prop :=
  (8 ∣ (k0_mult718 v14088).toNat) ∧
  (∀ a, (k0_off719 v14088) a + S16x128.size a ≤ S66048x128.size a)
theorem k0_mult718_dvd : ∀ (v14088 : BitVec 32) (k0_hw718 : k0_chk718 v14088), 8 ∣ (k0_mult718 v14088).toNat := fun v14088 k0_hw718 => k0_hw718.1
theorem k0_off719_inb : ∀ (v14088 : BitVec 32) (k0_hw718 : k0_chk718 v14088), ∀ a, (k0_off719 v14088) a + S16x128.size a ≤ S66048x128.size a := fun v14088 k0_hw718 => k0_hw718.2

def k0_mult719 (v14126 : BitVec 32) : BitVec 32 :=
  let c3_i32_9407 : BitVec 32 := 3#32
  let v14130 : BitVec 32 := Scalar.shrsi v14126 c3_i32_9407
  let c3_i32_9408 : BitVec 32 := 3#32
  let v14131 : BitVec 32 := Scalar.shli v14130 c3_i32_9408
  v14131

def k0_mult720 (v14127 : BitVec 32) : BitVec 32 :=
  let c3_i32_9409 : BitVec 32 := 3#32
  let v14133 : BitVec 32 := Scalar.shrsi v14127 c3_i32_9409
  let c3_i32_9410 : BitVec 32 := 3#32
  let v14134 : BitVec 32 := Scalar.shli v14133 c3_i32_9410
  v14134

def k0_off720 (v14126 : BitVec 32) : Fin 2 → Nat :=
  let c3_i32_9407 : BitVec 32 := 3#32
  let v14130 : BitVec 32 := Scalar.shrsi v14126 c3_i32_9407
  let c3_i32_9408 : BitVec 32 := 3#32
  let v14131 : BitVec 32 := Scalar.shli v14130 c3_i32_9408
  let v14132 : BitVec 32 := v14131
  let v14136 : Index := Scalar.indexCast v14132
  let c0_9411 : Index := 0#32
  ![v14136.toNat, 0]

def k0_chk719 (v14126 : BitVec 32) : Prop :=
  (8 ∣ (k0_mult719 v14126).toNat) ∧
  (∀ a, (k0_off720 v14126) a + S16x128.size a ≤ S66048x128.size a)
theorem k0_mult719_dvd : ∀ (v14126 : BitVec 32) (k0_hw719 : k0_chk719 v14126), 8 ∣ (k0_mult719 v14126).toNat := fun v14126 k0_hw719 => k0_hw719.1
theorem k0_off720_inb : ∀ (v14126 : BitVec 32) (k0_hw719 : k0_chk719 v14126), ∀ a, (k0_off720 v14126) a + S16x128.size a ≤ S66048x128.size a := fun v14126 k0_hw719 => k0_hw719.2

def k0_off721 (v14127 : BitVec 32) : Fin 2 → Nat :=
  let c3_i32_9409 : BitVec 32 := 3#32
  let v14133 : BitVec 32 := Scalar.shrsi v14127 c3_i32_9409
  let c3_i32_9410 : BitVec 32 := 3#32
  let v14134 : BitVec 32 := Scalar.shli v14133 c3_i32_9410
  let v14135 : BitVec 32 := v14134
  let v14138 : Index := Scalar.indexCast v14135
  let c0_9412 : Index := 0#32
  ![v14138.toNat, 0]

def k0_chk720 (v14127 : BitVec 32) : Prop :=
  (8 ∣ (k0_mult720 v14127).toNat) ∧
  (∀ a, (k0_off721 v14127) a + S16x128.size a ≤ S66048x128.size a)
theorem k0_mult720_dvd : ∀ (v14127 : BitVec 32) (k0_hw720 : k0_chk720 v14127), 8 ∣ (k0_mult720 v14127).toNat := fun v14127 k0_hw720 => k0_hw720.1
theorem k0_off721_inb : ∀ (v14127 : BitVec 32) (k0_hw720 : k0_chk720 v14127), ∀ a, (k0_off721 v14127) a + S16x128.size a ≤ S66048x128.size a := fun v14127 k0_hw720 => k0_hw720.2

def k0_mult721 (v14165 : BitVec 32) : BitVec 32 :=
  let c3_i32_9433 : BitVec 32 := 3#32
  let v14169 : BitVec 32 := Scalar.shrsi v14165 c3_i32_9433
  let c3_i32_9434 : BitVec 32 := 3#32
  let v14170 : BitVec 32 := Scalar.shli v14169 c3_i32_9434
  v14170

def k0_mult722 (v14166 : BitVec 32) : BitVec 32 :=
  let c3_i32_9435 : BitVec 32 := 3#32
  let v14172 : BitVec 32 := Scalar.shrsi v14166 c3_i32_9435
  let c3_i32_9436 : BitVec 32 := 3#32
  let v14173 : BitVec 32 := Scalar.shli v14172 c3_i32_9436
  v14173

def k0_off722 (v14165 : BitVec 32) : Fin 2 → Nat :=
  let c3_i32_9433 : BitVec 32 := 3#32
  let v14169 : BitVec 32 := Scalar.shrsi v14165 c3_i32_9433
  let c3_i32_9434 : BitVec 32 := 3#32
  let v14170 : BitVec 32 := Scalar.shli v14169 c3_i32_9434
  let v14171 : BitVec 32 := v14170
  let v14175 : Index := Scalar.indexCast v14171
  let c0_9437 : Index := 0#32
  ![v14175.toNat, 0]

def k0_chk721 (v14165 : BitVec 32) : Prop :=
  (8 ∣ (k0_mult721 v14165).toNat) ∧
  (∀ a, (k0_off722 v14165) a + S16x128.size a ≤ S66048x128.size a)
theorem k0_mult721_dvd : ∀ (v14165 : BitVec 32) (k0_hw721 : k0_chk721 v14165), 8 ∣ (k0_mult721 v14165).toNat := fun v14165 k0_hw721 => k0_hw721.1
theorem k0_off722_inb : ∀ (v14165 : BitVec 32) (k0_hw721 : k0_chk721 v14165), ∀ a, (k0_off722 v14165) a + S16x128.size a ≤ S66048x128.size a := fun v14165 k0_hw721 => k0_hw721.2

def k0_off723 (v14166 : BitVec 32) : Fin 2 → Nat :=
  let c3_i32_9435 : BitVec 32 := 3#32
  let v14172 : BitVec 32 := Scalar.shrsi v14166 c3_i32_9435
  let c3_i32_9436 : BitVec 32 := 3#32
  let v14173 : BitVec 32 := Scalar.shli v14172 c3_i32_9436
  let v14174 : BitVec 32 := v14173
  let v14177 : Index := Scalar.indexCast v14174
  let c0_9438 : Index := 0#32
  ![v14177.toNat, 0]

def k0_chk722 (v14166 : BitVec 32) : Prop :=
  (8 ∣ (k0_mult722 v14166).toNat) ∧
  (∀ a, (k0_off723 v14166) a + S16x128.size a ≤ S66048x128.size a)
theorem k0_mult722_dvd : ∀ (v14166 : BitVec 32) (k0_hw722 : k0_chk722 v14166), 8 ∣ (k0_mult722 v14166).toNat := fun v14166 k0_hw722 => k0_hw722.1
theorem k0_off723_inb : ∀ (v14166 : BitVec 32) (k0_hw722 : k0_chk722 v14166), ∀ a, (k0_off723 v14166) a + S16x128.size a ≤ S66048x128.size a := fun v14166 k0_hw722 => k0_hw722.2

def k0_mult723 (v14204 : BitVec 32) : BitVec 32 :=
  let c3_i32_9459 : BitVec 32 := 3#32
  let v14208 : BitVec 32 := Scalar.shrsi v14204 c3_i32_9459
  let c3_i32_9460 : BitVec 32 := 3#32
  let v14209 : BitVec 32 := Scalar.shli v14208 c3_i32_9460
  v14209

def k0_mult724 (v14205 : BitVec 32) : BitVec 32 :=
  let c3_i32_9461 : BitVec 32 := 3#32
  let v14211 : BitVec 32 := Scalar.shrsi v14205 c3_i32_9461
  let c3_i32_9462 : BitVec 32 := 3#32
  let v14212 : BitVec 32 := Scalar.shli v14211 c3_i32_9462
  v14212

def k0_off724 (v14204 : BitVec 32) : Fin 2 → Nat :=
  let c3_i32_9459 : BitVec 32 := 3#32
  let v14208 : BitVec 32 := Scalar.shrsi v14204 c3_i32_9459
  let c3_i32_9460 : BitVec 32 := 3#32
  let v14209 : BitVec 32 := Scalar.shli v14208 c3_i32_9460
  let v14210 : BitVec 32 := v14209
  let v14214 : Index := Scalar.indexCast v14210
  let c0_9463 : Index := 0#32
  ![v14214.toNat, 0]

def k0_chk723 (v14204 : BitVec 32) : Prop :=
  (8 ∣ (k0_mult723 v14204).toNat) ∧
  (∀ a, (k0_off724 v14204) a + S16x128.size a ≤ S66048x128.size a)
theorem k0_mult723_dvd : ∀ (v14204 : BitVec 32) (k0_hw723 : k0_chk723 v14204), 8 ∣ (k0_mult723 v14204).toNat := fun v14204 k0_hw723 => k0_hw723.1
theorem k0_off724_inb : ∀ (v14204 : BitVec 32) (k0_hw723 : k0_chk723 v14204), ∀ a, (k0_off724 v14204) a + S16x128.size a ≤ S66048x128.size a := fun v14204 k0_hw723 => k0_hw723.2

def k0_off725 (v14205 : BitVec 32) : Fin 2 → Nat :=
  let c3_i32_9461 : BitVec 32 := 3#32
  let v14211 : BitVec 32 := Scalar.shrsi v14205 c3_i32_9461
  let c3_i32_9462 : BitVec 32 := 3#32
  let v14212 : BitVec 32 := Scalar.shli v14211 c3_i32_9462
  let v14213 : BitVec 32 := v14212
  let v14216 : Index := Scalar.indexCast v14213
  let c0_9464 : Index := 0#32
  ![v14216.toNat, 0]

def k0_chk724 (v14205 : BitVec 32) : Prop :=
  (8 ∣ (k0_mult724 v14205).toNat) ∧
  (∀ a, (k0_off725 v14205) a + S16x128.size a ≤ S66048x128.size a)
theorem k0_mult724_dvd : ∀ (v14205 : BitVec 32) (k0_hw724 : k0_chk724 v14205), 8 ∣ (k0_mult724 v14205).toNat := fun v14205 k0_hw724 => k0_hw724.1
theorem k0_off725_inb : ∀ (v14205 : BitVec 32) (k0_hw724 : k0_chk724 v14205), ∀ a, (k0_off725 v14205) a + S16x128.size a ≤ S66048x128.size a := fun v14205 k0_hw724 => k0_hw724.2

def k0_mult725 (v14243 : BitVec 32) : BitVec 32 :=
  let c3_i32_9485 : BitVec 32 := 3#32
  let v14247 : BitVec 32 := Scalar.shrsi v14243 c3_i32_9485
  let c3_i32_9486 : BitVec 32 := 3#32
  let v14248 : BitVec 32 := Scalar.shli v14247 c3_i32_9486
  v14248

def k0_mult726 (v14244 : BitVec 32) : BitVec 32 :=
  let c3_i32_9487 : BitVec 32 := 3#32
  let v14250 : BitVec 32 := Scalar.shrsi v14244 c3_i32_9487
  let c3_i32_9488 : BitVec 32 := 3#32
  let v14251 : BitVec 32 := Scalar.shli v14250 c3_i32_9488
  v14251

def k0_off726 (v14243 : BitVec 32) : Fin 2 → Nat :=
  let c3_i32_9485 : BitVec 32 := 3#32
  let v14247 : BitVec 32 := Scalar.shrsi v14243 c3_i32_9485
  let c3_i32_9486 : BitVec 32 := 3#32
  let v14248 : BitVec 32 := Scalar.shli v14247 c3_i32_9486
  let v14249 : BitVec 32 := v14248
  let v14253 : Index := Scalar.indexCast v14249
  let c0_9489 : Index := 0#32
  ![v14253.toNat, 0]

def k0_chk725 (v14243 : BitVec 32) : Prop :=
  (8 ∣ (k0_mult725 v14243).toNat) ∧
  (∀ a, (k0_off726 v14243) a + S16x128.size a ≤ S66048x128.size a)
theorem k0_mult725_dvd : ∀ (v14243 : BitVec 32) (k0_hw725 : k0_chk725 v14243), 8 ∣ (k0_mult725 v14243).toNat := fun v14243 k0_hw725 => k0_hw725.1
theorem k0_off726_inb : ∀ (v14243 : BitVec 32) (k0_hw725 : k0_chk725 v14243), ∀ a, (k0_off726 v14243) a + S16x128.size a ≤ S66048x128.size a := fun v14243 k0_hw725 => k0_hw725.2

def k0_off727 (v14244 : BitVec 32) : Fin 2 → Nat :=
  let c3_i32_9487 : BitVec 32 := 3#32
  let v14250 : BitVec 32 := Scalar.shrsi v14244 c3_i32_9487
  let c3_i32_9488 : BitVec 32 := 3#32
  let v14251 : BitVec 32 := Scalar.shli v14250 c3_i32_9488
  let v14252 : BitVec 32 := v14251
  let v14255 : Index := Scalar.indexCast v14252
  let c0_9490 : Index := 0#32
  ![v14255.toNat, 0]

def k0_chk726 (v14244 : BitVec 32) : Prop :=
  (8 ∣ (k0_mult726 v14244).toNat) ∧
  (∀ a, (k0_off727 v14244) a + S16x128.size a ≤ S66048x128.size a)
theorem k0_mult726_dvd : ∀ (v14244 : BitVec 32) (k0_hw726 : k0_chk726 v14244), 8 ∣ (k0_mult726 v14244).toNat := fun v14244 k0_hw726 => k0_hw726.1
theorem k0_off727_inb : ∀ (v14244 : BitVec 32) (k0_hw726 : k0_chk726 v14244), ∀ a, (k0_off727 v14244) a + S16x128.size a ≤ S66048x128.size a := fun v14244 k0_hw726 => k0_hw726.2

def k0_mult727 (v14282 : BitVec 32) : BitVec 32 :=
  let c3_i32_9511 : BitVec 32 := 3#32
  let v14286 : BitVec 32 := Scalar.shrsi v14282 c3_i32_9511
  let c3_i32_9512 : BitVec 32 := 3#32
  let v14287 : BitVec 32 := Scalar.shli v14286 c3_i32_9512
  v14287

def k0_mult728 (v14283 : BitVec 32) : BitVec 32 :=
  let c3_i32_9513 : BitVec 32 := 3#32
  let v14289 : BitVec 32 := Scalar.shrsi v14283 c3_i32_9513
  let c3_i32_9514 : BitVec 32 := 3#32
  let v14290 : BitVec 32 := Scalar.shli v14289 c3_i32_9514
  v14290

def k0_off728 (v14282 : BitVec 32) : Fin 2 → Nat :=
  let c3_i32_9511 : BitVec 32 := 3#32
  let v14286 : BitVec 32 := Scalar.shrsi v14282 c3_i32_9511
  let c3_i32_9512 : BitVec 32 := 3#32
  let v14287 : BitVec 32 := Scalar.shli v14286 c3_i32_9512
  let v14288 : BitVec 32 := v14287
  let v14292 : Index := Scalar.indexCast v14288
  let c0_9515 : Index := 0#32
  ![v14292.toNat, 0]

def k0_chk727 (v14282 : BitVec 32) : Prop :=
  (8 ∣ (k0_mult727 v14282).toNat) ∧
  (∀ a, (k0_off728 v14282) a + S16x128.size a ≤ S66048x128.size a)
theorem k0_mult727_dvd : ∀ (v14282 : BitVec 32) (k0_hw727 : k0_chk727 v14282), 8 ∣ (k0_mult727 v14282).toNat := fun v14282 k0_hw727 => k0_hw727.1
theorem k0_off728_inb : ∀ (v14282 : BitVec 32) (k0_hw727 : k0_chk727 v14282), ∀ a, (k0_off728 v14282) a + S16x128.size a ≤ S66048x128.size a := fun v14282 k0_hw727 => k0_hw727.2

def k0_off729 (v14283 : BitVec 32) : Fin 2 → Nat :=
  let c3_i32_9513 : BitVec 32 := 3#32
  let v14289 : BitVec 32 := Scalar.shrsi v14283 c3_i32_9513
  let c3_i32_9514 : BitVec 32 := 3#32
  let v14290 : BitVec 32 := Scalar.shli v14289 c3_i32_9514
  let v14291 : BitVec 32 := v14290
  let v14294 : Index := Scalar.indexCast v14291
  let c0_9516 : Index := 0#32
  ![v14294.toNat, 0]

def k0_chk728 (v14283 : BitVec 32) : Prop :=
  (8 ∣ (k0_mult728 v14283).toNat) ∧
  (∀ a, (k0_off729 v14283) a + S16x128.size a ≤ S66048x128.size a)
theorem k0_mult728_dvd : ∀ (v14283 : BitVec 32) (k0_hw728 : k0_chk728 v14283), 8 ∣ (k0_mult728 v14283).toNat := fun v14283 k0_hw728 => k0_hw728.1
theorem k0_off729_inb : ∀ (v14283 : BitVec 32) (k0_hw728 : k0_chk728 v14283), ∀ a, (k0_off729 v14283) a + S16x128.size a ≤ S66048x128.size a := fun v14283 k0_hw728 => k0_hw728.2

def k0_mult729 (v14321 : BitVec 32) : BitVec 32 :=
  let c3_i32_9537 : BitVec 32 := 3#32
  let v14325 : BitVec 32 := Scalar.shrsi v14321 c3_i32_9537
  let c3_i32_9538 : BitVec 32 := 3#32
  let v14326 : BitVec 32 := Scalar.shli v14325 c3_i32_9538
  v14326

def k0_mult730 (v14322 : BitVec 32) : BitVec 32 :=
  let c3_i32_9539 : BitVec 32 := 3#32
  let v14328 : BitVec 32 := Scalar.shrsi v14322 c3_i32_9539
  let c3_i32_9540 : BitVec 32 := 3#32
  let v14329 : BitVec 32 := Scalar.shli v14328 c3_i32_9540
  v14329

def k0_off730 (v14321 : BitVec 32) : Fin 2 → Nat :=
  let c3_i32_9537 : BitVec 32 := 3#32
  let v14325 : BitVec 32 := Scalar.shrsi v14321 c3_i32_9537
  let c3_i32_9538 : BitVec 32 := 3#32
  let v14326 : BitVec 32 := Scalar.shli v14325 c3_i32_9538
  let v14327 : BitVec 32 := v14326
  let v14331 : Index := Scalar.indexCast v14327
  let c0_9541 : Index := 0#32
  ![v14331.toNat, 0]

def k0_chk729 (v14321 : BitVec 32) : Prop :=
  (8 ∣ (k0_mult729 v14321).toNat) ∧
  (∀ a, (k0_off730 v14321) a + S16x128.size a ≤ S66048x128.size a)
theorem k0_mult729_dvd : ∀ (v14321 : BitVec 32) (k0_hw729 : k0_chk729 v14321), 8 ∣ (k0_mult729 v14321).toNat := fun v14321 k0_hw729 => k0_hw729.1
theorem k0_off730_inb : ∀ (v14321 : BitVec 32) (k0_hw729 : k0_chk729 v14321), ∀ a, (k0_off730 v14321) a + S16x128.size a ≤ S66048x128.size a := fun v14321 k0_hw729 => k0_hw729.2

def k0_off731 (v14322 : BitVec 32) : Fin 2 → Nat :=
  let c3_i32_9539 : BitVec 32 := 3#32
  let v14328 : BitVec 32 := Scalar.shrsi v14322 c3_i32_9539
  let c3_i32_9540 : BitVec 32 := 3#32
  let v14329 : BitVec 32 := Scalar.shli v14328 c3_i32_9540
  let v14330 : BitVec 32 := v14329
  let v14333 : Index := Scalar.indexCast v14330
  let c0_9542 : Index := 0#32
  ![v14333.toNat, 0]

def k0_chk730 (v14322 : BitVec 32) : Prop :=
  (8 ∣ (k0_mult730 v14322).toNat) ∧
  (∀ a, (k0_off731 v14322) a + S16x128.size a ≤ S66048x128.size a)
theorem k0_mult730_dvd : ∀ (v14322 : BitVec 32) (k0_hw730 : k0_chk730 v14322), 8 ∣ (k0_mult730 v14322).toNat := fun v14322 k0_hw730 => k0_hw730.1
theorem k0_off731_inb : ∀ (v14322 : BitVec 32) (k0_hw730 : k0_chk730 v14322), ∀ a, (k0_off731 v14322) a + S16x128.size a ≤ S66048x128.size a := fun v14322 k0_hw730 => k0_hw730.2

def k0_mult731 (v14360 : BitVec 32) : BitVec 32 :=
  let c3_i32_9563 : BitVec 32 := 3#32
  let v14364 : BitVec 32 := Scalar.shrsi v14360 c3_i32_9563
  let c3_i32_9564 : BitVec 32 := 3#32
  let v14365 : BitVec 32 := Scalar.shli v14364 c3_i32_9564
  v14365

def k0_mult732 (v14361 : BitVec 32) : BitVec 32 :=
  let c3_i32_9565 : BitVec 32 := 3#32
  let v14367 : BitVec 32 := Scalar.shrsi v14361 c3_i32_9565
  let c3_i32_9566 : BitVec 32 := 3#32
  let v14368 : BitVec 32 := Scalar.shli v14367 c3_i32_9566
  v14368

def k0_off732 (v14360 : BitVec 32) : Fin 2 → Nat :=
  let c3_i32_9563 : BitVec 32 := 3#32
  let v14364 : BitVec 32 := Scalar.shrsi v14360 c3_i32_9563
  let c3_i32_9564 : BitVec 32 := 3#32
  let v14365 : BitVec 32 := Scalar.shli v14364 c3_i32_9564
  let v14366 : BitVec 32 := v14365
  let v14370 : Index := Scalar.indexCast v14366
  let c0_9567 : Index := 0#32
  ![v14370.toNat, 0]

def k0_chk731 (v14360 : BitVec 32) : Prop :=
  (8 ∣ (k0_mult731 v14360).toNat) ∧
  (∀ a, (k0_off732 v14360) a + S16x128.size a ≤ S66048x128.size a)
theorem k0_mult731_dvd : ∀ (v14360 : BitVec 32) (k0_hw731 : k0_chk731 v14360), 8 ∣ (k0_mult731 v14360).toNat := fun v14360 k0_hw731 => k0_hw731.1
theorem k0_off732_inb : ∀ (v14360 : BitVec 32) (k0_hw731 : k0_chk731 v14360), ∀ a, (k0_off732 v14360) a + S16x128.size a ≤ S66048x128.size a := fun v14360 k0_hw731 => k0_hw731.2

def k0_off733 (v14361 : BitVec 32) : Fin 2 → Nat :=
  let c3_i32_9565 : BitVec 32 := 3#32
  let v14367 : BitVec 32 := Scalar.shrsi v14361 c3_i32_9565
  let c3_i32_9566 : BitVec 32 := 3#32
  let v14368 : BitVec 32 := Scalar.shli v14367 c3_i32_9566
  let v14369 : BitVec 32 := v14368
  let v14372 : Index := Scalar.indexCast v14369
  let c0_9568 : Index := 0#32
  ![v14372.toNat, 0]

def k0_chk732 (v14361 : BitVec 32) : Prop :=
  (8 ∣ (k0_mult732 v14361).toNat) ∧
  (∀ a, (k0_off733 v14361) a + S16x128.size a ≤ S66048x128.size a)
theorem k0_mult732_dvd : ∀ (v14361 : BitVec 32) (k0_hw732 : k0_chk732 v14361), 8 ∣ (k0_mult732 v14361).toNat := fun v14361 k0_hw732 => k0_hw732.1
theorem k0_off733_inb : ∀ (v14361 : BitVec 32) (k0_hw732 : k0_chk732 v14361), ∀ a, (k0_off733 v14361) a + S16x128.size a ≤ S66048x128.size a := fun v14361 k0_hw732 => k0_hw732.2

def k0_mult733 (v14399 : BitVec 32) : BitVec 32 :=
  let c3_i32_9589 : BitVec 32 := 3#32
  let v14403 : BitVec 32 := Scalar.shrsi v14399 c3_i32_9589
  let c3_i32_9590 : BitVec 32 := 3#32
  let v14404 : BitVec 32 := Scalar.shli v14403 c3_i32_9590
  v14404

def k0_mult734 (v14400 : BitVec 32) : BitVec 32 :=
  let c3_i32_9591 : BitVec 32 := 3#32
  let v14406 : BitVec 32 := Scalar.shrsi v14400 c3_i32_9591
  let c3_i32_9592 : BitVec 32 := 3#32
  let v14407 : BitVec 32 := Scalar.shli v14406 c3_i32_9592
  v14407

def k0_off734 (v14399 : BitVec 32) : Fin 2 → Nat :=
  let c3_i32_9589 : BitVec 32 := 3#32
  let v14403 : BitVec 32 := Scalar.shrsi v14399 c3_i32_9589
  let c3_i32_9590 : BitVec 32 := 3#32
  let v14404 : BitVec 32 := Scalar.shli v14403 c3_i32_9590
  let v14405 : BitVec 32 := v14404
  let v14409 : Index := Scalar.indexCast v14405
  let c0_9593 : Index := 0#32
  ![v14409.toNat, 0]

def k0_chk733 (v14399 : BitVec 32) : Prop :=
  (8 ∣ (k0_mult733 v14399).toNat) ∧
  (∀ a, (k0_off734 v14399) a + S16x128.size a ≤ S66048x128.size a)
theorem k0_mult733_dvd : ∀ (v14399 : BitVec 32) (k0_hw733 : k0_chk733 v14399), 8 ∣ (k0_mult733 v14399).toNat := fun v14399 k0_hw733 => k0_hw733.1
theorem k0_off734_inb : ∀ (v14399 : BitVec 32) (k0_hw733 : k0_chk733 v14399), ∀ a, (k0_off734 v14399) a + S16x128.size a ≤ S66048x128.size a := fun v14399 k0_hw733 => k0_hw733.2

def k0_off735 (v14400 : BitVec 32) : Fin 2 → Nat :=
  let c3_i32_9591 : BitVec 32 := 3#32
  let v14406 : BitVec 32 := Scalar.shrsi v14400 c3_i32_9591
  let c3_i32_9592 : BitVec 32 := 3#32
  let v14407 : BitVec 32 := Scalar.shli v14406 c3_i32_9592
  let v14408 : BitVec 32 := v14407
  let v14411 : Index := Scalar.indexCast v14408
  let c0_9594 : Index := 0#32
  ![v14411.toNat, 0]

def k0_chk734 (v14400 : BitVec 32) : Prop :=
  (8 ∣ (k0_mult734 v14400).toNat) ∧
  (∀ a, (k0_off735 v14400) a + S16x128.size a ≤ S66048x128.size a)
theorem k0_mult734_dvd : ∀ (v14400 : BitVec 32) (k0_hw734 : k0_chk734 v14400), 8 ∣ (k0_mult734 v14400).toNat := fun v14400 k0_hw734 => k0_hw734.1
theorem k0_off735_inb : ∀ (v14400 : BitVec 32) (k0_hw734 : k0_chk734 v14400), ∀ a, (k0_off735 v14400) a + S16x128.size a ≤ S66048x128.size a := fun v14400 k0_hw734 => k0_hw734.2

def k0_mult735 (v14438 : BitVec 32) : BitVec 32 :=
  let c3_i32_9615 : BitVec 32 := 3#32
  let v14442 : BitVec 32 := Scalar.shrsi v14438 c3_i32_9615
  let c3_i32_9616 : BitVec 32 := 3#32
  let v14443 : BitVec 32 := Scalar.shli v14442 c3_i32_9616
  v14443

def k0_mult736 (v14439 : BitVec 32) : BitVec 32 :=
  let c3_i32_9617 : BitVec 32 := 3#32
  let v14445 : BitVec 32 := Scalar.shrsi v14439 c3_i32_9617
  let c3_i32_9618 : BitVec 32 := 3#32
  let v14446 : BitVec 32 := Scalar.shli v14445 c3_i32_9618
  v14446

def k0_off736 (v14438 : BitVec 32) : Fin 2 → Nat :=
  let c3_i32_9615 : BitVec 32 := 3#32
  let v14442 : BitVec 32 := Scalar.shrsi v14438 c3_i32_9615
  let c3_i32_9616 : BitVec 32 := 3#32
  let v14443 : BitVec 32 := Scalar.shli v14442 c3_i32_9616
  let v14444 : BitVec 32 := v14443
  let v14448 : Index := Scalar.indexCast v14444
  let c0_9619 : Index := 0#32
  ![v14448.toNat, 0]

def k0_chk735 (v14438 : BitVec 32) : Prop :=
  (8 ∣ (k0_mult735 v14438).toNat) ∧
  (∀ a, (k0_off736 v14438) a + S16x128.size a ≤ S66048x128.size a)
theorem k0_mult735_dvd : ∀ (v14438 : BitVec 32) (k0_hw735 : k0_chk735 v14438), 8 ∣ (k0_mult735 v14438).toNat := fun v14438 k0_hw735 => k0_hw735.1
theorem k0_off736_inb : ∀ (v14438 : BitVec 32) (k0_hw735 : k0_chk735 v14438), ∀ a, (k0_off736 v14438) a + S16x128.size a ≤ S66048x128.size a := fun v14438 k0_hw735 => k0_hw735.2

def k0_off737 (v14439 : BitVec 32) : Fin 2 → Nat :=
  let c3_i32_9617 : BitVec 32 := 3#32
  let v14445 : BitVec 32 := Scalar.shrsi v14439 c3_i32_9617
  let c3_i32_9618 : BitVec 32 := 3#32
  let v14446 : BitVec 32 := Scalar.shli v14445 c3_i32_9618
  let v14447 : BitVec 32 := v14446
  let v14450 : Index := Scalar.indexCast v14447
  let c0_9620 : Index := 0#32
  ![v14450.toNat, 0]

def k0_chk736 (v14439 : BitVec 32) : Prop :=
  (8 ∣ (k0_mult736 v14439).toNat) ∧
  (∀ a, (k0_off737 v14439) a + S16x128.size a ≤ S66048x128.size a)
theorem k0_mult736_dvd : ∀ (v14439 : BitVec 32) (k0_hw736 : k0_chk736 v14439), 8 ∣ (k0_mult736 v14439).toNat := fun v14439 k0_hw736 => k0_hw736.1
theorem k0_off737_inb : ∀ (v14439 : BitVec 32) (k0_hw736 : k0_chk736 v14439), ∀ a, (k0_off737 v14439) a + S16x128.size a ≤ S66048x128.size a := fun v14439 k0_hw736 => k0_hw736.2

def k0_mult737 (v14477 : BitVec 32) : BitVec 32 :=
  let c3_i32_9641 : BitVec 32 := 3#32
  let v14481 : BitVec 32 := Scalar.shrsi v14477 c3_i32_9641
  let c3_i32_9642 : BitVec 32 := 3#32
  let v14482 : BitVec 32 := Scalar.shli v14481 c3_i32_9642
  v14482

def k0_mult738 (v14478 : BitVec 32) : BitVec 32 :=
  let c3_i32_9643 : BitVec 32 := 3#32
  let v14484 : BitVec 32 := Scalar.shrsi v14478 c3_i32_9643
  let c3_i32_9644 : BitVec 32 := 3#32
  let v14485 : BitVec 32 := Scalar.shli v14484 c3_i32_9644
  v14485

def k0_off738 (v14477 : BitVec 32) : Fin 2 → Nat :=
  let c3_i32_9641 : BitVec 32 := 3#32
  let v14481 : BitVec 32 := Scalar.shrsi v14477 c3_i32_9641
  let c3_i32_9642 : BitVec 32 := 3#32
  let v14482 : BitVec 32 := Scalar.shli v14481 c3_i32_9642
  let v14483 : BitVec 32 := v14482
  let v14487 : Index := Scalar.indexCast v14483
  let c0_9645 : Index := 0#32
  ![v14487.toNat, 0]

def k0_chk737 (v14477 : BitVec 32) : Prop :=
  (8 ∣ (k0_mult737 v14477).toNat) ∧
  (∀ a, (k0_off738 v14477) a + S16x128.size a ≤ S66048x128.size a)
theorem k0_mult737_dvd : ∀ (v14477 : BitVec 32) (k0_hw737 : k0_chk737 v14477), 8 ∣ (k0_mult737 v14477).toNat := fun v14477 k0_hw737 => k0_hw737.1
theorem k0_off738_inb : ∀ (v14477 : BitVec 32) (k0_hw737 : k0_chk737 v14477), ∀ a, (k0_off738 v14477) a + S16x128.size a ≤ S66048x128.size a := fun v14477 k0_hw737 => k0_hw737.2

def k0_off739 (v14478 : BitVec 32) : Fin 2 → Nat :=
  let c3_i32_9643 : BitVec 32 := 3#32
  let v14484 : BitVec 32 := Scalar.shrsi v14478 c3_i32_9643
  let c3_i32_9644 : BitVec 32 := 3#32
  let v14485 : BitVec 32 := Scalar.shli v14484 c3_i32_9644
  let v14486 : BitVec 32 := v14485
  let v14489 : Index := Scalar.indexCast v14486
  let c0_9646 : Index := 0#32
  ![v14489.toNat, 0]

def k0_chk738 (v14478 : BitVec 32) : Prop :=
  (8 ∣ (k0_mult738 v14478).toNat) ∧
  (∀ a, (k0_off739 v14478) a + S16x128.size a ≤ S66048x128.size a)
theorem k0_mult738_dvd : ∀ (v14478 : BitVec 32) (k0_hw738 : k0_chk738 v14478), 8 ∣ (k0_mult738 v14478).toNat := fun v14478 k0_hw738 => k0_hw738.1
theorem k0_off739_inb : ∀ (v14478 : BitVec 32) (k0_hw738 : k0_chk738 v14478), ∀ a, (k0_off739 v14478) a + S16x128.size a ≤ S66048x128.size a := fun v14478 k0_hw738 => k0_hw738.2

def k0_mult739 (v14516 : BitVec 32) : BitVec 32 :=
  let c3_i32_9667 : BitVec 32 := 3#32
  let v14520 : BitVec 32 := Scalar.shrsi v14516 c3_i32_9667
  let c3_i32_9668 : BitVec 32 := 3#32
  let v14521 : BitVec 32 := Scalar.shli v14520 c3_i32_9668
  v14521

def k0_mult740 (v14517 : BitVec 32) : BitVec 32 :=
  let c3_i32_9669 : BitVec 32 := 3#32
  let v14523 : BitVec 32 := Scalar.shrsi v14517 c3_i32_9669
  let c3_i32_9670 : BitVec 32 := 3#32
  let v14524 : BitVec 32 := Scalar.shli v14523 c3_i32_9670
  v14524

def k0_off740 (v14516 : BitVec 32) : Fin 2 → Nat :=
  let c3_i32_9667 : BitVec 32 := 3#32
  let v14520 : BitVec 32 := Scalar.shrsi v14516 c3_i32_9667
  let c3_i32_9668 : BitVec 32 := 3#32
  let v14521 : BitVec 32 := Scalar.shli v14520 c3_i32_9668
  let v14522 : BitVec 32 := v14521
  let v14526 : Index := Scalar.indexCast v14522
  let c0_9671 : Index := 0#32
  ![v14526.toNat, 0]

def k0_chk739 (v14516 : BitVec 32) : Prop :=
  (8 ∣ (k0_mult739 v14516).toNat) ∧
  (∀ a, (k0_off740 v14516) a + S16x128.size a ≤ S66048x128.size a)
theorem k0_mult739_dvd : ∀ (v14516 : BitVec 32) (k0_hw739 : k0_chk739 v14516), 8 ∣ (k0_mult739 v14516).toNat := fun v14516 k0_hw739 => k0_hw739.1
theorem k0_off740_inb : ∀ (v14516 : BitVec 32) (k0_hw739 : k0_chk739 v14516), ∀ a, (k0_off740 v14516) a + S16x128.size a ≤ S66048x128.size a := fun v14516 k0_hw739 => k0_hw739.2

def k0_off741 (v14517 : BitVec 32) : Fin 2 → Nat :=
  let c3_i32_9669 : BitVec 32 := 3#32
  let v14523 : BitVec 32 := Scalar.shrsi v14517 c3_i32_9669
  let c3_i32_9670 : BitVec 32 := 3#32
  let v14524 : BitVec 32 := Scalar.shli v14523 c3_i32_9670
  let v14525 : BitVec 32 := v14524
  let v14528 : Index := Scalar.indexCast v14525
  let c0_9672 : Index := 0#32
  ![v14528.toNat, 0]

def k0_chk740 (v14517 : BitVec 32) : Prop :=
  (8 ∣ (k0_mult740 v14517).toNat) ∧
  (∀ a, (k0_off741 v14517) a + S16x128.size a ≤ S66048x128.size a)
theorem k0_mult740_dvd : ∀ (v14517 : BitVec 32) (k0_hw740 : k0_chk740 v14517), 8 ∣ (k0_mult740 v14517).toNat := fun v14517 k0_hw740 => k0_hw740.1
theorem k0_off741_inb : ∀ (v14517 : BitVec 32) (k0_hw740 : k0_chk740 v14517), ∀ a, (k0_off741 v14517) a + S16x128.size a ≤ S66048x128.size a := fun v14517 k0_hw740 => k0_hw740.2

def k0_mult741 (v14555 : BitVec 32) : BitVec 32 :=
  let c3_i32_9693 : BitVec 32 := 3#32
  let v14559 : BitVec 32 := Scalar.shrsi v14555 c3_i32_9693
  let c3_i32_9694 : BitVec 32 := 3#32
  let v14560 : BitVec 32 := Scalar.shli v14559 c3_i32_9694
  v14560

def k0_mult742 (v14556 : BitVec 32) : BitVec 32 :=
  let c3_i32_9695 : BitVec 32 := 3#32
  let v14562 : BitVec 32 := Scalar.shrsi v14556 c3_i32_9695
  let c3_i32_9696 : BitVec 32 := 3#32
  let v14563 : BitVec 32 := Scalar.shli v14562 c3_i32_9696
  v14563

def k0_off742 (v14555 : BitVec 32) : Fin 2 → Nat :=
  let c3_i32_9693 : BitVec 32 := 3#32
  let v14559 : BitVec 32 := Scalar.shrsi v14555 c3_i32_9693
  let c3_i32_9694 : BitVec 32 := 3#32
  let v14560 : BitVec 32 := Scalar.shli v14559 c3_i32_9694
  let v14561 : BitVec 32 := v14560
  let v14565 : Index := Scalar.indexCast v14561
  let c0_9697 : Index := 0#32
  ![v14565.toNat, 0]

def k0_chk741 (v14555 : BitVec 32) : Prop :=
  (8 ∣ (k0_mult741 v14555).toNat) ∧
  (∀ a, (k0_off742 v14555) a + S16x128.size a ≤ S66048x128.size a)
theorem k0_mult741_dvd : ∀ (v14555 : BitVec 32) (k0_hw741 : k0_chk741 v14555), 8 ∣ (k0_mult741 v14555).toNat := fun v14555 k0_hw741 => k0_hw741.1
theorem k0_off742_inb : ∀ (v14555 : BitVec 32) (k0_hw741 : k0_chk741 v14555), ∀ a, (k0_off742 v14555) a + S16x128.size a ≤ S66048x128.size a := fun v14555 k0_hw741 => k0_hw741.2

def k0_off743 (v14556 : BitVec 32) : Fin 2 → Nat :=
  let c3_i32_9695 : BitVec 32 := 3#32
  let v14562 : BitVec 32 := Scalar.shrsi v14556 c3_i32_9695
  let c3_i32_9696 : BitVec 32 := 3#32
  let v14563 : BitVec 32 := Scalar.shli v14562 c3_i32_9696
  let v14564 : BitVec 32 := v14563
  let v14567 : Index := Scalar.indexCast v14564
  let c0_9698 : Index := 0#32
  ![v14567.toNat, 0]

def k0_chk742 (v14556 : BitVec 32) : Prop :=
  (8 ∣ (k0_mult742 v14556).toNat) ∧
  (∀ a, (k0_off743 v14556) a + S16x128.size a ≤ S66048x128.size a)
theorem k0_mult742_dvd : ∀ (v14556 : BitVec 32) (k0_hw742 : k0_chk742 v14556), 8 ∣ (k0_mult742 v14556).toNat := fun v14556 k0_hw742 => k0_hw742.1
theorem k0_off743_inb : ∀ (v14556 : BitVec 32) (k0_hw742 : k0_chk742 v14556), ∀ a, (k0_off743 v14556) a + S16x128.size a ≤ S66048x128.size a := fun v14556 k0_hw742 => k0_hw742.2

def k0_mult743 (v14594 : BitVec 32) : BitVec 32 :=
  let c3_i32_9719 : BitVec 32 := 3#32
  let v14598 : BitVec 32 := Scalar.shrsi v14594 c3_i32_9719
  let c3_i32_9720 : BitVec 32 := 3#32
  let v14599 : BitVec 32 := Scalar.shli v14598 c3_i32_9720
  v14599

def k0_mult744 (v14595 : BitVec 32) : BitVec 32 :=
  let c3_i32_9721 : BitVec 32 := 3#32
  let v14601 : BitVec 32 := Scalar.shrsi v14595 c3_i32_9721
  let c3_i32_9722 : BitVec 32 := 3#32
  let v14602 : BitVec 32 := Scalar.shli v14601 c3_i32_9722
  v14602

def k0_off744 (v14594 : BitVec 32) : Fin 2 → Nat :=
  let c3_i32_9719 : BitVec 32 := 3#32
  let v14598 : BitVec 32 := Scalar.shrsi v14594 c3_i32_9719
  let c3_i32_9720 : BitVec 32 := 3#32
  let v14599 : BitVec 32 := Scalar.shli v14598 c3_i32_9720
  let v14600 : BitVec 32 := v14599
  let v14604 : Index := Scalar.indexCast v14600
  let c0_9723 : Index := 0#32
  ![v14604.toNat, 0]

def k0_chk743 (v14594 : BitVec 32) : Prop :=
  (8 ∣ (k0_mult743 v14594).toNat) ∧
  (∀ a, (k0_off744 v14594) a + S16x128.size a ≤ S66048x128.size a)
theorem k0_mult743_dvd : ∀ (v14594 : BitVec 32) (k0_hw743 : k0_chk743 v14594), 8 ∣ (k0_mult743 v14594).toNat := fun v14594 k0_hw743 => k0_hw743.1
theorem k0_off744_inb : ∀ (v14594 : BitVec 32) (k0_hw743 : k0_chk743 v14594), ∀ a, (k0_off744 v14594) a + S16x128.size a ≤ S66048x128.size a := fun v14594 k0_hw743 => k0_hw743.2

def k0_off745 (v14595 : BitVec 32) : Fin 2 → Nat :=
  let c3_i32_9721 : BitVec 32 := 3#32
  let v14601 : BitVec 32 := Scalar.shrsi v14595 c3_i32_9721
  let c3_i32_9722 : BitVec 32 := 3#32
  let v14602 : BitVec 32 := Scalar.shli v14601 c3_i32_9722
  let v14603 : BitVec 32 := v14602
  let v14606 : Index := Scalar.indexCast v14603
  let c0_9724 : Index := 0#32
  ![v14606.toNat, 0]

def k0_chk744 (v14595 : BitVec 32) : Prop :=
  (8 ∣ (k0_mult744 v14595).toNat) ∧
  (∀ a, (k0_off745 v14595) a + S16x128.size a ≤ S66048x128.size a)
theorem k0_mult744_dvd : ∀ (v14595 : BitVec 32) (k0_hw744 : k0_chk744 v14595), 8 ∣ (k0_mult744 v14595).toNat := fun v14595 k0_hw744 => k0_hw744.1
theorem k0_off745_inb : ∀ (v14595 : BitVec 32) (k0_hw744 : k0_chk744 v14595), ∀ a, (k0_off745 v14595) a + S16x128.size a ≤ S66048x128.size a := fun v14595 k0_hw744 => k0_hw744.2

def k0_mult745 (v14633 : BitVec 32) : BitVec 32 :=
  let c3_i32_9745 : BitVec 32 := 3#32
  let v14637 : BitVec 32 := Scalar.shrsi v14633 c3_i32_9745
  let c3_i32_9746 : BitVec 32 := 3#32
  let v14638 : BitVec 32 := Scalar.shli v14637 c3_i32_9746
  v14638

def k0_mult746 (v14634 : BitVec 32) : BitVec 32 :=
  let c3_i32_9747 : BitVec 32 := 3#32
  let v14640 : BitVec 32 := Scalar.shrsi v14634 c3_i32_9747
  let c3_i32_9748 : BitVec 32 := 3#32
  let v14641 : BitVec 32 := Scalar.shli v14640 c3_i32_9748
  v14641

def k0_off746 (v14633 : BitVec 32) : Fin 2 → Nat :=
  let c3_i32_9745 : BitVec 32 := 3#32
  let v14637 : BitVec 32 := Scalar.shrsi v14633 c3_i32_9745
  let c3_i32_9746 : BitVec 32 := 3#32
  let v14638 : BitVec 32 := Scalar.shli v14637 c3_i32_9746
  let v14639 : BitVec 32 := v14638
  let v14643 : Index := Scalar.indexCast v14639
  let c0_9749 : Index := 0#32
  ![v14643.toNat, 0]

def k0_chk745 (v14633 : BitVec 32) : Prop :=
  (8 ∣ (k0_mult745 v14633).toNat) ∧
  (∀ a, (k0_off746 v14633) a + S16x128.size a ≤ S66048x128.size a)
theorem k0_mult745_dvd : ∀ (v14633 : BitVec 32) (k0_hw745 : k0_chk745 v14633), 8 ∣ (k0_mult745 v14633).toNat := fun v14633 k0_hw745 => k0_hw745.1
theorem k0_off746_inb : ∀ (v14633 : BitVec 32) (k0_hw745 : k0_chk745 v14633), ∀ a, (k0_off746 v14633) a + S16x128.size a ≤ S66048x128.size a := fun v14633 k0_hw745 => k0_hw745.2

def k0_off747 (v14634 : BitVec 32) : Fin 2 → Nat :=
  let c3_i32_9747 : BitVec 32 := 3#32
  let v14640 : BitVec 32 := Scalar.shrsi v14634 c3_i32_9747
  let c3_i32_9748 : BitVec 32 := 3#32
  let v14641 : BitVec 32 := Scalar.shli v14640 c3_i32_9748
  let v14642 : BitVec 32 := v14641
  let v14645 : Index := Scalar.indexCast v14642
  let c0_9750 : Index := 0#32
  ![v14645.toNat, 0]

def k0_chk746 (v14634 : BitVec 32) : Prop :=
  (8 ∣ (k0_mult746 v14634).toNat) ∧
  (∀ a, (k0_off747 v14634) a + S16x128.size a ≤ S66048x128.size a)
theorem k0_mult746_dvd : ∀ (v14634 : BitVec 32) (k0_hw746 : k0_chk746 v14634), 8 ∣ (k0_mult746 v14634).toNat := fun v14634 k0_hw746 => k0_hw746.1
theorem k0_off747_inb : ∀ (v14634 : BitVec 32) (k0_hw746 : k0_chk746 v14634), ∀ a, (k0_off747 v14634) a + S16x128.size a ≤ S66048x128.size a := fun v14634 k0_hw746 => k0_hw746.2

def k0_mult747 (v14672 : BitVec 32) : BitVec 32 :=
  let c3_i32_9771 : BitVec 32 := 3#32
  let v14676 : BitVec 32 := Scalar.shrsi v14672 c3_i32_9771
  let c3_i32_9772 : BitVec 32 := 3#32
  let v14677 : BitVec 32 := Scalar.shli v14676 c3_i32_9772
  v14677

def k0_mult748 (v14673 : BitVec 32) : BitVec 32 :=
  let c3_i32_9773 : BitVec 32 := 3#32
  let v14679 : BitVec 32 := Scalar.shrsi v14673 c3_i32_9773
  let c3_i32_9774 : BitVec 32 := 3#32
  let v14680 : BitVec 32 := Scalar.shli v14679 c3_i32_9774
  v14680

def k0_off748 (v14672 : BitVec 32) : Fin 2 → Nat :=
  let c3_i32_9771 : BitVec 32 := 3#32
  let v14676 : BitVec 32 := Scalar.shrsi v14672 c3_i32_9771
  let c3_i32_9772 : BitVec 32 := 3#32
  let v14677 : BitVec 32 := Scalar.shli v14676 c3_i32_9772
  let v14678 : BitVec 32 := v14677
  let v14682 : Index := Scalar.indexCast v14678
  let c0_9775 : Index := 0#32
  ![v14682.toNat, 0]

def k0_chk747 (v14672 : BitVec 32) : Prop :=
  (8 ∣ (k0_mult747 v14672).toNat) ∧
  (∀ a, (k0_off748 v14672) a + S16x128.size a ≤ S66048x128.size a)
theorem k0_mult747_dvd : ∀ (v14672 : BitVec 32) (k0_hw747 : k0_chk747 v14672), 8 ∣ (k0_mult747 v14672).toNat := fun v14672 k0_hw747 => k0_hw747.1
theorem k0_off748_inb : ∀ (v14672 : BitVec 32) (k0_hw747 : k0_chk747 v14672), ∀ a, (k0_off748 v14672) a + S16x128.size a ≤ S66048x128.size a := fun v14672 k0_hw747 => k0_hw747.2

def k0_off749 (v14673 : BitVec 32) : Fin 2 → Nat :=
  let c3_i32_9773 : BitVec 32 := 3#32
  let v14679 : BitVec 32 := Scalar.shrsi v14673 c3_i32_9773
  let c3_i32_9774 : BitVec 32 := 3#32
  let v14680 : BitVec 32 := Scalar.shli v14679 c3_i32_9774
  let v14681 : BitVec 32 := v14680
  let v14684 : Index := Scalar.indexCast v14681
  let c0_9776 : Index := 0#32
  ![v14684.toNat, 0]

def k0_chk748 (v14673 : BitVec 32) : Prop :=
  (8 ∣ (k0_mult748 v14673).toNat) ∧
  (∀ a, (k0_off749 v14673) a + S16x128.size a ≤ S66048x128.size a)
theorem k0_mult748_dvd : ∀ (v14673 : BitVec 32) (k0_hw748 : k0_chk748 v14673), 8 ∣ (k0_mult748 v14673).toNat := fun v14673 k0_hw748 => k0_hw748.1
theorem k0_off749_inb : ∀ (v14673 : BitVec 32) (k0_hw748 : k0_chk748 v14673), ∀ a, (k0_off749 v14673) a + S16x128.size a ≤ S66048x128.size a := fun v14673 k0_hw748 => k0_hw748.2

def k0_mult749 (v14711 : BitVec 32) : BitVec 32 :=
  let c3_i32_9797 : BitVec 32 := 3#32
  let v14715 : BitVec 32 := Scalar.shrsi v14711 c3_i32_9797
  let c3_i32_9798 : BitVec 32 := 3#32
  let v14716 : BitVec 32 := Scalar.shli v14715 c3_i32_9798
  v14716

def k0_mult750 (v14712 : BitVec 32) : BitVec 32 :=
  let c3_i32_9799 : BitVec 32 := 3#32
  let v14718 : BitVec 32 := Scalar.shrsi v14712 c3_i32_9799
  let c3_i32_9800 : BitVec 32 := 3#32
  let v14719 : BitVec 32 := Scalar.shli v14718 c3_i32_9800
  v14719

def k0_off750 (v14711 : BitVec 32) : Fin 2 → Nat :=
  let c3_i32_9797 : BitVec 32 := 3#32
  let v14715 : BitVec 32 := Scalar.shrsi v14711 c3_i32_9797
  let c3_i32_9798 : BitVec 32 := 3#32
  let v14716 : BitVec 32 := Scalar.shli v14715 c3_i32_9798
  let v14717 : BitVec 32 := v14716
  let v14721 : Index := Scalar.indexCast v14717
  let c0_9801 : Index := 0#32
  ![v14721.toNat, 0]

def k0_chk749 (v14711 : BitVec 32) : Prop :=
  (8 ∣ (k0_mult749 v14711).toNat) ∧
  (∀ a, (k0_off750 v14711) a + S16x128.size a ≤ S66048x128.size a)
theorem k0_mult749_dvd : ∀ (v14711 : BitVec 32) (k0_hw749 : k0_chk749 v14711), 8 ∣ (k0_mult749 v14711).toNat := fun v14711 k0_hw749 => k0_hw749.1
theorem k0_off750_inb : ∀ (v14711 : BitVec 32) (k0_hw749 : k0_chk749 v14711), ∀ a, (k0_off750 v14711) a + S16x128.size a ≤ S66048x128.size a := fun v14711 k0_hw749 => k0_hw749.2

def k0_off751 (v14712 : BitVec 32) : Fin 2 → Nat :=
  let c3_i32_9799 : BitVec 32 := 3#32
  let v14718 : BitVec 32 := Scalar.shrsi v14712 c3_i32_9799
  let c3_i32_9800 : BitVec 32 := 3#32
  let v14719 : BitVec 32 := Scalar.shli v14718 c3_i32_9800
  let v14720 : BitVec 32 := v14719
  let v14723 : Index := Scalar.indexCast v14720
  let c0_9802 : Index := 0#32
  ![v14723.toNat, 0]

def k0_chk750 (v14712 : BitVec 32) : Prop :=
  (8 ∣ (k0_mult750 v14712).toNat) ∧
  (∀ a, (k0_off751 v14712) a + S16x128.size a ≤ S66048x128.size a)
theorem k0_mult750_dvd : ∀ (v14712 : BitVec 32) (k0_hw750 : k0_chk750 v14712), 8 ∣ (k0_mult750 v14712).toNat := fun v14712 k0_hw750 => k0_hw750.1
theorem k0_off751_inb : ∀ (v14712 : BitVec 32) (k0_hw750 : k0_chk750 v14712), ∀ a, (k0_off751 v14712) a + S16x128.size a ≤ S66048x128.size a := fun v14712 k0_hw750 => k0_hw750.2

def k0_mult751 (v14757 : BitVec 32) : BitVec 32 :=
  let c3_i32_9829 : BitVec 32 := 3#32
  let v14761 : BitVec 32 := Scalar.shrsi v14757 c3_i32_9829
  let c3_i32_9830 : BitVec 32 := 3#32
  let v14762 : BitVec 32 := Scalar.shli v14761 c3_i32_9830
  v14762

def k0_mult752 (v14758 : BitVec 32) : BitVec 32 :=
  let c3_i32_9831 : BitVec 32 := 3#32
  let v14764 : BitVec 32 := Scalar.shrsi v14758 c3_i32_9831
  let c3_i32_9832 : BitVec 32 := 3#32
  let v14765 : BitVec 32 := Scalar.shli v14764 c3_i32_9832
  v14765

def k0_off752 (v14757 : BitVec 32) : Fin 2 → Nat :=
  let c3_i32_9829 : BitVec 32 := 3#32
  let v14761 : BitVec 32 := Scalar.shrsi v14757 c3_i32_9829
  let c3_i32_9830 : BitVec 32 := 3#32
  let v14762 : BitVec 32 := Scalar.shli v14761 c3_i32_9830
  let v14763 : BitVec 32 := v14762
  let v14767 : Index := Scalar.indexCast v14763
  let c0_9833 : Index := 0#32
  ![v14767.toNat, 0]

def k0_chk751 (v14757 : BitVec 32) : Prop :=
  (8 ∣ (k0_mult751 v14757).toNat) ∧
  (∀ a, (k0_off752 v14757) a + S16x128.size a ≤ S66048x128.size a)
theorem k0_mult751_dvd : ∀ (v14757 : BitVec 32) (k0_hw751 : k0_chk751 v14757), 8 ∣ (k0_mult751 v14757).toNat := fun v14757 k0_hw751 => k0_hw751.1
theorem k0_off752_inb : ∀ (v14757 : BitVec 32) (k0_hw751 : k0_chk751 v14757), ∀ a, (k0_off752 v14757) a + S16x128.size a ≤ S66048x128.size a := fun v14757 k0_hw751 => k0_hw751.2

def k0_off753 (v14758 : BitVec 32) : Fin 2 → Nat :=
  let c3_i32_9831 : BitVec 32 := 3#32
  let v14764 : BitVec 32 := Scalar.shrsi v14758 c3_i32_9831
  let c3_i32_9832 : BitVec 32 := 3#32
  let v14765 : BitVec 32 := Scalar.shli v14764 c3_i32_9832
  let v14766 : BitVec 32 := v14765
  let v14769 : Index := Scalar.indexCast v14766
  let c0_9834 : Index := 0#32
  ![v14769.toNat, 0]

def k0_chk752 (v14758 : BitVec 32) : Prop :=
  (8 ∣ (k0_mult752 v14758).toNat) ∧
  (∀ a, (k0_off753 v14758) a + S16x128.size a ≤ S66048x128.size a)
theorem k0_mult752_dvd : ∀ (v14758 : BitVec 32) (k0_hw752 : k0_chk752 v14758), 8 ∣ (k0_mult752 v14758).toNat := fun v14758 k0_hw752 => k0_hw752.1
theorem k0_off753_inb : ∀ (v14758 : BitVec 32) (k0_hw752 : k0_chk752 v14758), ∀ a, (k0_off753 v14758) a + S16x128.size a ≤ S66048x128.size a := fun v14758 k0_hw752 => k0_hw752.2

def k0_mult753 (v14796 : BitVec 32) : BitVec 32 :=
  let c3_i32_9855 : BitVec 32 := 3#32
  let v14800 : BitVec 32 := Scalar.shrsi v14796 c3_i32_9855
  let c3_i32_9856 : BitVec 32 := 3#32
  let v14801 : BitVec 32 := Scalar.shli v14800 c3_i32_9856
  v14801

def k0_mult754 (v14797 : BitVec 32) : BitVec 32 :=
  let c3_i32_9857 : BitVec 32 := 3#32
  let v14803 : BitVec 32 := Scalar.shrsi v14797 c3_i32_9857
  let c3_i32_9858 : BitVec 32 := 3#32
  let v14804 : BitVec 32 := Scalar.shli v14803 c3_i32_9858
  v14804

def k0_off754 (v14796 : BitVec 32) : Fin 2 → Nat :=
  let c3_i32_9855 : BitVec 32 := 3#32
  let v14800 : BitVec 32 := Scalar.shrsi v14796 c3_i32_9855
  let c3_i32_9856 : BitVec 32 := 3#32
  let v14801 : BitVec 32 := Scalar.shli v14800 c3_i32_9856
  let v14802 : BitVec 32 := v14801
  let v14806 : Index := Scalar.indexCast v14802
  let c0_9859 : Index := 0#32
  ![v14806.toNat, 0]

def k0_chk753 (v14796 : BitVec 32) : Prop :=
  (8 ∣ (k0_mult753 v14796).toNat) ∧
  (∀ a, (k0_off754 v14796) a + S16x128.size a ≤ S66048x128.size a)
theorem k0_mult753_dvd : ∀ (v14796 : BitVec 32) (k0_hw753 : k0_chk753 v14796), 8 ∣ (k0_mult753 v14796).toNat := fun v14796 k0_hw753 => k0_hw753.1
theorem k0_off754_inb : ∀ (v14796 : BitVec 32) (k0_hw753 : k0_chk753 v14796), ∀ a, (k0_off754 v14796) a + S16x128.size a ≤ S66048x128.size a := fun v14796 k0_hw753 => k0_hw753.2

def k0_off755 (v14797 : BitVec 32) : Fin 2 → Nat :=
  let c3_i32_9857 : BitVec 32 := 3#32
  let v14803 : BitVec 32 := Scalar.shrsi v14797 c3_i32_9857
  let c3_i32_9858 : BitVec 32 := 3#32
  let v14804 : BitVec 32 := Scalar.shli v14803 c3_i32_9858
  let v14805 : BitVec 32 := v14804
  let v14808 : Index := Scalar.indexCast v14805
  let c0_9860 : Index := 0#32
  ![v14808.toNat, 0]

def k0_chk754 (v14797 : BitVec 32) : Prop :=
  (8 ∣ (k0_mult754 v14797).toNat) ∧
  (∀ a, (k0_off755 v14797) a + S16x128.size a ≤ S66048x128.size a)
theorem k0_mult754_dvd : ∀ (v14797 : BitVec 32) (k0_hw754 : k0_chk754 v14797), 8 ∣ (k0_mult754 v14797).toNat := fun v14797 k0_hw754 => k0_hw754.1
theorem k0_off755_inb : ∀ (v14797 : BitVec 32) (k0_hw754 : k0_chk754 v14797), ∀ a, (k0_off755 v14797) a + S16x128.size a ≤ S66048x128.size a := fun v14797 k0_hw754 => k0_hw754.2

def k0_mult755 (v14835 : BitVec 32) : BitVec 32 :=
  let c3_i32_9881 : BitVec 32 := 3#32
  let v14839 : BitVec 32 := Scalar.shrsi v14835 c3_i32_9881
  let c3_i32_9882 : BitVec 32 := 3#32
  let v14840 : BitVec 32 := Scalar.shli v14839 c3_i32_9882
  v14840

def k0_mult756 (v14836 : BitVec 32) : BitVec 32 :=
  let c3_i32_9883 : BitVec 32 := 3#32
  let v14842 : BitVec 32 := Scalar.shrsi v14836 c3_i32_9883
  let c3_i32_9884 : BitVec 32 := 3#32
  let v14843 : BitVec 32 := Scalar.shli v14842 c3_i32_9884
  v14843

def k0_off756 (v14835 : BitVec 32) : Fin 2 → Nat :=
  let c3_i32_9881 : BitVec 32 := 3#32
  let v14839 : BitVec 32 := Scalar.shrsi v14835 c3_i32_9881
  let c3_i32_9882 : BitVec 32 := 3#32
  let v14840 : BitVec 32 := Scalar.shli v14839 c3_i32_9882
  let v14841 : BitVec 32 := v14840
  let v14845 : Index := Scalar.indexCast v14841
  let c0_9885 : Index := 0#32
  ![v14845.toNat, 0]

def k0_chk755 (v14835 : BitVec 32) : Prop :=
  (8 ∣ (k0_mult755 v14835).toNat) ∧
  (∀ a, (k0_off756 v14835) a + S16x128.size a ≤ S66048x128.size a)
theorem k0_mult755_dvd : ∀ (v14835 : BitVec 32) (k0_hw755 : k0_chk755 v14835), 8 ∣ (k0_mult755 v14835).toNat := fun v14835 k0_hw755 => k0_hw755.1
theorem k0_off756_inb : ∀ (v14835 : BitVec 32) (k0_hw755 : k0_chk755 v14835), ∀ a, (k0_off756 v14835) a + S16x128.size a ≤ S66048x128.size a := fun v14835 k0_hw755 => k0_hw755.2

def k0_off757 (v14836 : BitVec 32) : Fin 2 → Nat :=
  let c3_i32_9883 : BitVec 32 := 3#32
  let v14842 : BitVec 32 := Scalar.shrsi v14836 c3_i32_9883
  let c3_i32_9884 : BitVec 32 := 3#32
  let v14843 : BitVec 32 := Scalar.shli v14842 c3_i32_9884
  let v14844 : BitVec 32 := v14843
  let v14847 : Index := Scalar.indexCast v14844
  let c0_9886 : Index := 0#32
  ![v14847.toNat, 0]

def k0_chk756 (v14836 : BitVec 32) : Prop :=
  (8 ∣ (k0_mult756 v14836).toNat) ∧
  (∀ a, (k0_off757 v14836) a + S16x128.size a ≤ S66048x128.size a)
theorem k0_mult756_dvd : ∀ (v14836 : BitVec 32) (k0_hw756 : k0_chk756 v14836), 8 ∣ (k0_mult756 v14836).toNat := fun v14836 k0_hw756 => k0_hw756.1
theorem k0_off757_inb : ∀ (v14836 : BitVec 32) (k0_hw756 : k0_chk756 v14836), ∀ a, (k0_off757 v14836) a + S16x128.size a ≤ S66048x128.size a := fun v14836 k0_hw756 => k0_hw756.2

def k0_mult757 (v14874 : BitVec 32) : BitVec 32 :=
  let c3_i32_9907 : BitVec 32 := 3#32
  let v14878 : BitVec 32 := Scalar.shrsi v14874 c3_i32_9907
  let c3_i32_9908 : BitVec 32 := 3#32
  let v14879 : BitVec 32 := Scalar.shli v14878 c3_i32_9908
  v14879

def k0_mult758 (v14875 : BitVec 32) : BitVec 32 :=
  let c3_i32_9909 : BitVec 32 := 3#32
  let v14881 : BitVec 32 := Scalar.shrsi v14875 c3_i32_9909
  let c3_i32_9910 : BitVec 32 := 3#32
  let v14882 : BitVec 32 := Scalar.shli v14881 c3_i32_9910
  v14882

def k0_off758 (v14874 : BitVec 32) : Fin 2 → Nat :=
  let c3_i32_9907 : BitVec 32 := 3#32
  let v14878 : BitVec 32 := Scalar.shrsi v14874 c3_i32_9907
  let c3_i32_9908 : BitVec 32 := 3#32
  let v14879 : BitVec 32 := Scalar.shli v14878 c3_i32_9908
  let v14880 : BitVec 32 := v14879
  let v14884 : Index := Scalar.indexCast v14880
  let c0_9911 : Index := 0#32
  ![v14884.toNat, 0]

def k0_chk757 (v14874 : BitVec 32) : Prop :=
  (8 ∣ (k0_mult757 v14874).toNat) ∧
  (∀ a, (k0_off758 v14874) a + S16x128.size a ≤ S66048x128.size a)
theorem k0_mult757_dvd : ∀ (v14874 : BitVec 32) (k0_hw757 : k0_chk757 v14874), 8 ∣ (k0_mult757 v14874).toNat := fun v14874 k0_hw757 => k0_hw757.1
theorem k0_off758_inb : ∀ (v14874 : BitVec 32) (k0_hw757 : k0_chk757 v14874), ∀ a, (k0_off758 v14874) a + S16x128.size a ≤ S66048x128.size a := fun v14874 k0_hw757 => k0_hw757.2

def k0_off759 (v14875 : BitVec 32) : Fin 2 → Nat :=
  let c3_i32_9909 : BitVec 32 := 3#32
  let v14881 : BitVec 32 := Scalar.shrsi v14875 c3_i32_9909
  let c3_i32_9910 : BitVec 32 := 3#32
  let v14882 : BitVec 32 := Scalar.shli v14881 c3_i32_9910
  let v14883 : BitVec 32 := v14882
  let v14886 : Index := Scalar.indexCast v14883
  let c0_9912 : Index := 0#32
  ![v14886.toNat, 0]

def k0_chk758 (v14875 : BitVec 32) : Prop :=
  (8 ∣ (k0_mult758 v14875).toNat) ∧
  (∀ a, (k0_off759 v14875) a + S16x128.size a ≤ S66048x128.size a)
theorem k0_mult758_dvd : ∀ (v14875 : BitVec 32) (k0_hw758 : k0_chk758 v14875), 8 ∣ (k0_mult758 v14875).toNat := fun v14875 k0_hw758 => k0_hw758.1
theorem k0_off759_inb : ∀ (v14875 : BitVec 32) (k0_hw758 : k0_chk758 v14875), ∀ a, (k0_off759 v14875) a + S16x128.size a ≤ S66048x128.size a := fun v14875 k0_hw758 => k0_hw758.2

def k0_mult759 (v14913 : BitVec 32) : BitVec 32 :=
  let c3_i32_9933 : BitVec 32 := 3#32
  let v14917 : BitVec 32 := Scalar.shrsi v14913 c3_i32_9933
  let c3_i32_9934 : BitVec 32 := 3#32
  let v14918 : BitVec 32 := Scalar.shli v14917 c3_i32_9934
  v14918

def k0_mult760 (v14914 : BitVec 32) : BitVec 32 :=
  let c3_i32_9935 : BitVec 32 := 3#32
  let v14920 : BitVec 32 := Scalar.shrsi v14914 c3_i32_9935
  let c3_i32_9936 : BitVec 32 := 3#32
  let v14921 : BitVec 32 := Scalar.shli v14920 c3_i32_9936
  v14921

def k0_off760 (v14913 : BitVec 32) : Fin 2 → Nat :=
  let c3_i32_9933 : BitVec 32 := 3#32
  let v14917 : BitVec 32 := Scalar.shrsi v14913 c3_i32_9933
  let c3_i32_9934 : BitVec 32 := 3#32
  let v14918 : BitVec 32 := Scalar.shli v14917 c3_i32_9934
  let v14919 : BitVec 32 := v14918
  let v14923 : Index := Scalar.indexCast v14919
  let c0_9937 : Index := 0#32
  ![v14923.toNat, 0]

def k0_chk759 (v14913 : BitVec 32) : Prop :=
  (8 ∣ (k0_mult759 v14913).toNat) ∧
  (∀ a, (k0_off760 v14913) a + S16x128.size a ≤ S66048x128.size a)
theorem k0_mult759_dvd : ∀ (v14913 : BitVec 32) (k0_hw759 : k0_chk759 v14913), 8 ∣ (k0_mult759 v14913).toNat := fun v14913 k0_hw759 => k0_hw759.1
theorem k0_off760_inb : ∀ (v14913 : BitVec 32) (k0_hw759 : k0_chk759 v14913), ∀ a, (k0_off760 v14913) a + S16x128.size a ≤ S66048x128.size a := fun v14913 k0_hw759 => k0_hw759.2

def k0_off761 (v14914 : BitVec 32) : Fin 2 → Nat :=
  let c3_i32_9935 : BitVec 32 := 3#32
  let v14920 : BitVec 32 := Scalar.shrsi v14914 c3_i32_9935
  let c3_i32_9936 : BitVec 32 := 3#32
  let v14921 : BitVec 32 := Scalar.shli v14920 c3_i32_9936
  let v14922 : BitVec 32 := v14921
  let v14925 : Index := Scalar.indexCast v14922
  let c0_9938 : Index := 0#32
  ![v14925.toNat, 0]

def k0_chk760 (v14914 : BitVec 32) : Prop :=
  (8 ∣ (k0_mult760 v14914).toNat) ∧
  (∀ a, (k0_off761 v14914) a + S16x128.size a ≤ S66048x128.size a)
theorem k0_mult760_dvd : ∀ (v14914 : BitVec 32) (k0_hw760 : k0_chk760 v14914), 8 ∣ (k0_mult760 v14914).toNat := fun v14914 k0_hw760 => k0_hw760.1
theorem k0_off761_inb : ∀ (v14914 : BitVec 32) (k0_hw760 : k0_chk760 v14914), ∀ a, (k0_off761 v14914) a + S16x128.size a ≤ S66048x128.size a := fun v14914 k0_hw760 => k0_hw760.2

def k0_mult761 (v14952 : BitVec 32) : BitVec 32 :=
  let c3_i32_9959 : BitVec 32 := 3#32
  let v14956 : BitVec 32 := Scalar.shrsi v14952 c3_i32_9959
  let c3_i32_9960 : BitVec 32 := 3#32
  let v14957 : BitVec 32 := Scalar.shli v14956 c3_i32_9960
  v14957

def k0_mult762 (v14953 : BitVec 32) : BitVec 32 :=
  let c3_i32_9961 : BitVec 32 := 3#32
  let v14959 : BitVec 32 := Scalar.shrsi v14953 c3_i32_9961
  let c3_i32_9962 : BitVec 32 := 3#32
  let v14960 : BitVec 32 := Scalar.shli v14959 c3_i32_9962
  v14960

def k0_off762 (v14952 : BitVec 32) : Fin 2 → Nat :=
  let c3_i32_9959 : BitVec 32 := 3#32
  let v14956 : BitVec 32 := Scalar.shrsi v14952 c3_i32_9959
  let c3_i32_9960 : BitVec 32 := 3#32
  let v14957 : BitVec 32 := Scalar.shli v14956 c3_i32_9960
  let v14958 : BitVec 32 := v14957
  let v14962 : Index := Scalar.indexCast v14958
  let c0_9963 : Index := 0#32
  ![v14962.toNat, 0]

def k0_chk761 (v14952 : BitVec 32) : Prop :=
  (8 ∣ (k0_mult761 v14952).toNat) ∧
  (∀ a, (k0_off762 v14952) a + S16x128.size a ≤ S66048x128.size a)
theorem k0_mult761_dvd : ∀ (v14952 : BitVec 32) (k0_hw761 : k0_chk761 v14952), 8 ∣ (k0_mult761 v14952).toNat := fun v14952 k0_hw761 => k0_hw761.1
theorem k0_off762_inb : ∀ (v14952 : BitVec 32) (k0_hw761 : k0_chk761 v14952), ∀ a, (k0_off762 v14952) a + S16x128.size a ≤ S66048x128.size a := fun v14952 k0_hw761 => k0_hw761.2

def k0_off763 (v14953 : BitVec 32) : Fin 2 → Nat :=
  let c3_i32_9961 : BitVec 32 := 3#32
  let v14959 : BitVec 32 := Scalar.shrsi v14953 c3_i32_9961
  let c3_i32_9962 : BitVec 32 := 3#32
  let v14960 : BitVec 32 := Scalar.shli v14959 c3_i32_9962
  let v14961 : BitVec 32 := v14960
  let v14964 : Index := Scalar.indexCast v14961
  let c0_9964 : Index := 0#32
  ![v14964.toNat, 0]

def k0_chk762 (v14953 : BitVec 32) : Prop :=
  (8 ∣ (k0_mult762 v14953).toNat) ∧
  (∀ a, (k0_off763 v14953) a + S16x128.size a ≤ S66048x128.size a)
theorem k0_mult762_dvd : ∀ (v14953 : BitVec 32) (k0_hw762 : k0_chk762 v14953), 8 ∣ (k0_mult762 v14953).toNat := fun v14953 k0_hw762 => k0_hw762.1
theorem k0_off763_inb : ∀ (v14953 : BitVec 32) (k0_hw762 : k0_chk762 v14953), ∀ a, (k0_off763 v14953) a + S16x128.size a ≤ S66048x128.size a := fun v14953 k0_hw762 => k0_hw762.2

def k0_mult763 (v14991 : BitVec 32) : BitVec 32 :=
  let c3_i32_9985 : BitVec 32 := 3#32
  let v14995 : BitVec 32 := Scalar.shrsi v14991 c3_i32_9985
  let c3_i32_9986 : BitVec 32 := 3#32
  let v14996 : BitVec 32 := Scalar.shli v14995 c3_i32_9986
  v14996

def k0_mult764 (v14992 : BitVec 32) : BitVec 32 :=
  let c3_i32_9987 : BitVec 32 := 3#32
  let v14998 : BitVec 32 := Scalar.shrsi v14992 c3_i32_9987
  let c3_i32_9988 : BitVec 32 := 3#32
  let v14999 : BitVec 32 := Scalar.shli v14998 c3_i32_9988
  v14999

def k0_off764 (v14991 : BitVec 32) : Fin 2 → Nat :=
  let c3_i32_9985 : BitVec 32 := 3#32
  let v14995 : BitVec 32 := Scalar.shrsi v14991 c3_i32_9985
  let c3_i32_9986 : BitVec 32 := 3#32
  let v14996 : BitVec 32 := Scalar.shli v14995 c3_i32_9986
  let v14997 : BitVec 32 := v14996
  let v15001 : Index := Scalar.indexCast v14997
  let c0_9989 : Index := 0#32
  ![v15001.toNat, 0]

def k0_chk763 (v14991 : BitVec 32) : Prop :=
  (8 ∣ (k0_mult763 v14991).toNat) ∧
  (∀ a, (k0_off764 v14991) a + S16x128.size a ≤ S66048x128.size a)
theorem k0_mult763_dvd : ∀ (v14991 : BitVec 32) (k0_hw763 : k0_chk763 v14991), 8 ∣ (k0_mult763 v14991).toNat := fun v14991 k0_hw763 => k0_hw763.1
theorem k0_off764_inb : ∀ (v14991 : BitVec 32) (k0_hw763 : k0_chk763 v14991), ∀ a, (k0_off764 v14991) a + S16x128.size a ≤ S66048x128.size a := fun v14991 k0_hw763 => k0_hw763.2

def k0_off765 (v14992 : BitVec 32) : Fin 2 → Nat :=
  let c3_i32_9987 : BitVec 32 := 3#32
  let v14998 : BitVec 32 := Scalar.shrsi v14992 c3_i32_9987
  let c3_i32_9988 : BitVec 32 := 3#32
  let v14999 : BitVec 32 := Scalar.shli v14998 c3_i32_9988
  let v15000 : BitVec 32 := v14999
  let v15003 : Index := Scalar.indexCast v15000
  let c0_9990 : Index := 0#32
  ![v15003.toNat, 0]

def k0_chk764 (v14992 : BitVec 32) : Prop :=
  (8 ∣ (k0_mult764 v14992).toNat) ∧
  (∀ a, (k0_off765 v14992) a + S16x128.size a ≤ S66048x128.size a)
theorem k0_mult764_dvd : ∀ (v14992 : BitVec 32) (k0_hw764 : k0_chk764 v14992), 8 ∣ (k0_mult764 v14992).toNat := fun v14992 k0_hw764 => k0_hw764.1
theorem k0_off765_inb : ∀ (v14992 : BitVec 32) (k0_hw764 : k0_chk764 v14992), ∀ a, (k0_off765 v14992) a + S16x128.size a ≤ S66048x128.size a := fun v14992 k0_hw764 => k0_hw764.2

def k0_mult765 (v15030 : BitVec 32) : BitVec 32 :=
  let c3_i32_10011 : BitVec 32 := 3#32
  let v15034 : BitVec 32 := Scalar.shrsi v15030 c3_i32_10011
  let c3_i32_10012 : BitVec 32 := 3#32
  let v15035 : BitVec 32 := Scalar.shli v15034 c3_i32_10012
  v15035

def k0_mult766 (v15031 : BitVec 32) : BitVec 32 :=
  let c3_i32_10013 : BitVec 32 := 3#32
  let v15037 : BitVec 32 := Scalar.shrsi v15031 c3_i32_10013
  let c3_i32_10014 : BitVec 32 := 3#32
  let v15038 : BitVec 32 := Scalar.shli v15037 c3_i32_10014
  v15038

def k0_off766 (v15030 : BitVec 32) : Fin 2 → Nat :=
  let c3_i32_10011 : BitVec 32 := 3#32
  let v15034 : BitVec 32 := Scalar.shrsi v15030 c3_i32_10011
  let c3_i32_10012 : BitVec 32 := 3#32
  let v15035 : BitVec 32 := Scalar.shli v15034 c3_i32_10012
  let v15036 : BitVec 32 := v15035
  let v15040 : Index := Scalar.indexCast v15036
  let c0_10015 : Index := 0#32
  ![v15040.toNat, 0]

def k0_chk765 (v15030 : BitVec 32) : Prop :=
  (8 ∣ (k0_mult765 v15030).toNat) ∧
  (∀ a, (k0_off766 v15030) a + S16x128.size a ≤ S66048x128.size a)
theorem k0_mult765_dvd : ∀ (v15030 : BitVec 32) (k0_hw765 : k0_chk765 v15030), 8 ∣ (k0_mult765 v15030).toNat := fun v15030 k0_hw765 => k0_hw765.1
theorem k0_off766_inb : ∀ (v15030 : BitVec 32) (k0_hw765 : k0_chk765 v15030), ∀ a, (k0_off766 v15030) a + S16x128.size a ≤ S66048x128.size a := fun v15030 k0_hw765 => k0_hw765.2

def k0_off767 (v15031 : BitVec 32) : Fin 2 → Nat :=
  let c3_i32_10013 : BitVec 32 := 3#32
  let v15037 : BitVec 32 := Scalar.shrsi v15031 c3_i32_10013
  let c3_i32_10014 : BitVec 32 := 3#32
  let v15038 : BitVec 32 := Scalar.shli v15037 c3_i32_10014
  let v15039 : BitVec 32 := v15038
  let v15042 : Index := Scalar.indexCast v15039
  let c0_10016 : Index := 0#32
  ![v15042.toNat, 0]

def k0_chk766 (v15031 : BitVec 32) : Prop :=
  (8 ∣ (k0_mult766 v15031).toNat) ∧
  (∀ a, (k0_off767 v15031) a + S16x128.size a ≤ S66048x128.size a)
theorem k0_mult766_dvd : ∀ (v15031 : BitVec 32) (k0_hw766 : k0_chk766 v15031), 8 ∣ (k0_mult766 v15031).toNat := fun v15031 k0_hw766 => k0_hw766.1
theorem k0_off767_inb : ∀ (v15031 : BitVec 32) (k0_hw766 : k0_chk766 v15031), ∀ a, (k0_off767 v15031) a + S16x128.size a ≤ S66048x128.size a := fun v15031 k0_hw766 => k0_hw766.2

def k0_mult767 (v15069 : BitVec 32) : BitVec 32 :=
  let c3_i32_10037 : BitVec 32 := 3#32
  let v15073 : BitVec 32 := Scalar.shrsi v15069 c3_i32_10037
  let c3_i32_10038 : BitVec 32 := 3#32
  let v15074 : BitVec 32 := Scalar.shli v15073 c3_i32_10038
  v15074

def k0_mult768 (v15070 : BitVec 32) : BitVec 32 :=
  let c3_i32_10039 : BitVec 32 := 3#32
  let v15076 : BitVec 32 := Scalar.shrsi v15070 c3_i32_10039
  let c3_i32_10040 : BitVec 32 := 3#32
  let v15077 : BitVec 32 := Scalar.shli v15076 c3_i32_10040
  v15077

def k0_off768 (v15069 : BitVec 32) : Fin 2 → Nat :=
  let c3_i32_10037 : BitVec 32 := 3#32
  let v15073 : BitVec 32 := Scalar.shrsi v15069 c3_i32_10037
  let c3_i32_10038 : BitVec 32 := 3#32
  let v15074 : BitVec 32 := Scalar.shli v15073 c3_i32_10038
  let v15075 : BitVec 32 := v15074
  let v15079 : Index := Scalar.indexCast v15075
  let c0_10041 : Index := 0#32
  ![v15079.toNat, 0]

def k0_chk767 (v15069 : BitVec 32) : Prop :=
  (8 ∣ (k0_mult767 v15069).toNat) ∧
  (∀ a, (k0_off768 v15069) a + S16x128.size a ≤ S66048x128.size a)
theorem k0_mult767_dvd : ∀ (v15069 : BitVec 32) (k0_hw767 : k0_chk767 v15069), 8 ∣ (k0_mult767 v15069).toNat := fun v15069 k0_hw767 => k0_hw767.1
theorem k0_off768_inb : ∀ (v15069 : BitVec 32) (k0_hw767 : k0_chk767 v15069), ∀ a, (k0_off768 v15069) a + S16x128.size a ≤ S66048x128.size a := fun v15069 k0_hw767 => k0_hw767.2

def k0_off769 (v15070 : BitVec 32) : Fin 2 → Nat :=
  let c3_i32_10039 : BitVec 32 := 3#32
  let v15076 : BitVec 32 := Scalar.shrsi v15070 c3_i32_10039
  let c3_i32_10040 : BitVec 32 := 3#32
  let v15077 : BitVec 32 := Scalar.shli v15076 c3_i32_10040
  let v15078 : BitVec 32 := v15077
  let v15081 : Index := Scalar.indexCast v15078
  let c0_10042 : Index := 0#32
  ![v15081.toNat, 0]

def k0_chk768 (v15070 : BitVec 32) : Prop :=
  (8 ∣ (k0_mult768 v15070).toNat) ∧
  (∀ a, (k0_off769 v15070) a + S16x128.size a ≤ S66048x128.size a)
theorem k0_mult768_dvd : ∀ (v15070 : BitVec 32) (k0_hw768 : k0_chk768 v15070), 8 ∣ (k0_mult768 v15070).toNat := fun v15070 k0_hw768 => k0_hw768.1
theorem k0_off769_inb : ∀ (v15070 : BitVec 32) (k0_hw768 : k0_chk768 v15070), ∀ a, (k0_off769 v15070) a + S16x128.size a ≤ S66048x128.size a := fun v15070 k0_hw768 => k0_hw768.2

def k0_mult769 (v15108 : BitVec 32) : BitVec 32 :=
  let c3_i32_10063 : BitVec 32 := 3#32
  let v15112 : BitVec 32 := Scalar.shrsi v15108 c3_i32_10063
  let c3_i32_10064 : BitVec 32 := 3#32
  let v15113 : BitVec 32 := Scalar.shli v15112 c3_i32_10064
  v15113

def k0_mult770 (v15109 : BitVec 32) : BitVec 32 :=
  let c3_i32_10065 : BitVec 32 := 3#32
  let v15115 : BitVec 32 := Scalar.shrsi v15109 c3_i32_10065
  let c3_i32_10066 : BitVec 32 := 3#32
  let v15116 : BitVec 32 := Scalar.shli v15115 c3_i32_10066
  v15116

def k0_off770 (v15108 : BitVec 32) : Fin 2 → Nat :=
  let c3_i32_10063 : BitVec 32 := 3#32
  let v15112 : BitVec 32 := Scalar.shrsi v15108 c3_i32_10063
  let c3_i32_10064 : BitVec 32 := 3#32
  let v15113 : BitVec 32 := Scalar.shli v15112 c3_i32_10064
  let v15114 : BitVec 32 := v15113
  let v15118 : Index := Scalar.indexCast v15114
  let c0_10067 : Index := 0#32
  ![v15118.toNat, 0]

def k0_chk769 (v15108 : BitVec 32) : Prop :=
  (8 ∣ (k0_mult769 v15108).toNat) ∧
  (∀ a, (k0_off770 v15108) a + S16x128.size a ≤ S66048x128.size a)
theorem k0_mult769_dvd : ∀ (v15108 : BitVec 32) (k0_hw769 : k0_chk769 v15108), 8 ∣ (k0_mult769 v15108).toNat := fun v15108 k0_hw769 => k0_hw769.1
theorem k0_off770_inb : ∀ (v15108 : BitVec 32) (k0_hw769 : k0_chk769 v15108), ∀ a, (k0_off770 v15108) a + S16x128.size a ≤ S66048x128.size a := fun v15108 k0_hw769 => k0_hw769.2

def k0_off771 (v15109 : BitVec 32) : Fin 2 → Nat :=
  let c3_i32_10065 : BitVec 32 := 3#32
  let v15115 : BitVec 32 := Scalar.shrsi v15109 c3_i32_10065
  let c3_i32_10066 : BitVec 32 := 3#32
  let v15116 : BitVec 32 := Scalar.shli v15115 c3_i32_10066
  let v15117 : BitVec 32 := v15116
  let v15120 : Index := Scalar.indexCast v15117
  let c0_10068 : Index := 0#32
  ![v15120.toNat, 0]

def k0_chk770 (v15109 : BitVec 32) : Prop :=
  (8 ∣ (k0_mult770 v15109).toNat) ∧
  (∀ a, (k0_off771 v15109) a + S16x128.size a ≤ S66048x128.size a)
theorem k0_mult770_dvd : ∀ (v15109 : BitVec 32) (k0_hw770 : k0_chk770 v15109), 8 ∣ (k0_mult770 v15109).toNat := fun v15109 k0_hw770 => k0_hw770.1
theorem k0_off771_inb : ∀ (v15109 : BitVec 32) (k0_hw770 : k0_chk770 v15109), ∀ a, (k0_off771 v15109) a + S16x128.size a ≤ S66048x128.size a := fun v15109 k0_hw770 => k0_hw770.2

def k0_mult771 (v15147 : BitVec 32) : BitVec 32 :=
  let c3_i32_10089 : BitVec 32 := 3#32
  let v15151 : BitVec 32 := Scalar.shrsi v15147 c3_i32_10089
  let c3_i32_10090 : BitVec 32 := 3#32
  let v15152 : BitVec 32 := Scalar.shli v15151 c3_i32_10090
  v15152

def k0_mult772 (v15148 : BitVec 32) : BitVec 32 :=
  let c3_i32_10091 : BitVec 32 := 3#32
  let v15154 : BitVec 32 := Scalar.shrsi v15148 c3_i32_10091
  let c3_i32_10092 : BitVec 32 := 3#32
  let v15155 : BitVec 32 := Scalar.shli v15154 c3_i32_10092
  v15155

def k0_off772 (v15147 : BitVec 32) : Fin 2 → Nat :=
  let c3_i32_10089 : BitVec 32 := 3#32
  let v15151 : BitVec 32 := Scalar.shrsi v15147 c3_i32_10089
  let c3_i32_10090 : BitVec 32 := 3#32
  let v15152 : BitVec 32 := Scalar.shli v15151 c3_i32_10090
  let v15153 : BitVec 32 := v15152
  let v15157 : Index := Scalar.indexCast v15153
  let c0_10093 : Index := 0#32
  ![v15157.toNat, 0]

def k0_chk771 (v15147 : BitVec 32) : Prop :=
  (8 ∣ (k0_mult771 v15147).toNat) ∧
  (∀ a, (k0_off772 v15147) a + S16x128.size a ≤ S66048x128.size a)
theorem k0_mult771_dvd : ∀ (v15147 : BitVec 32) (k0_hw771 : k0_chk771 v15147), 8 ∣ (k0_mult771 v15147).toNat := fun v15147 k0_hw771 => k0_hw771.1
theorem k0_off772_inb : ∀ (v15147 : BitVec 32) (k0_hw771 : k0_chk771 v15147), ∀ a, (k0_off772 v15147) a + S16x128.size a ≤ S66048x128.size a := fun v15147 k0_hw771 => k0_hw771.2

def k0_off773 (v15148 : BitVec 32) : Fin 2 → Nat :=
  let c3_i32_10091 : BitVec 32 := 3#32
  let v15154 : BitVec 32 := Scalar.shrsi v15148 c3_i32_10091
  let c3_i32_10092 : BitVec 32 := 3#32
  let v15155 : BitVec 32 := Scalar.shli v15154 c3_i32_10092
  let v15156 : BitVec 32 := v15155
  let v15159 : Index := Scalar.indexCast v15156
  let c0_10094 : Index := 0#32
  ![v15159.toNat, 0]

def k0_chk772 (v15148 : BitVec 32) : Prop :=
  (8 ∣ (k0_mult772 v15148).toNat) ∧
  (∀ a, (k0_off773 v15148) a + S16x128.size a ≤ S66048x128.size a)
theorem k0_mult772_dvd : ∀ (v15148 : BitVec 32) (k0_hw772 : k0_chk772 v15148), 8 ∣ (k0_mult772 v15148).toNat := fun v15148 k0_hw772 => k0_hw772.1
theorem k0_off773_inb : ∀ (v15148 : BitVec 32) (k0_hw772 : k0_chk772 v15148), ∀ a, (k0_off773 v15148) a + S16x128.size a ≤ S66048x128.size a := fun v15148 k0_hw772 => k0_hw772.2

def k0_mult773 (v15186 : BitVec 32) : BitVec 32 :=
  let c3_i32_10115 : BitVec 32 := 3#32
  let v15190 : BitVec 32 := Scalar.shrsi v15186 c3_i32_10115
  let c3_i32_10116 : BitVec 32 := 3#32
  let v15191 : BitVec 32 := Scalar.shli v15190 c3_i32_10116
  v15191

def k0_mult774 (v15187 : BitVec 32) : BitVec 32 :=
  let c3_i32_10117 : BitVec 32 := 3#32
  let v15193 : BitVec 32 := Scalar.shrsi v15187 c3_i32_10117
  let c3_i32_10118 : BitVec 32 := 3#32
  let v15194 : BitVec 32 := Scalar.shli v15193 c3_i32_10118
  v15194

def k0_off774 (v15186 : BitVec 32) : Fin 2 → Nat :=
  let c3_i32_10115 : BitVec 32 := 3#32
  let v15190 : BitVec 32 := Scalar.shrsi v15186 c3_i32_10115
  let c3_i32_10116 : BitVec 32 := 3#32
  let v15191 : BitVec 32 := Scalar.shli v15190 c3_i32_10116
  let v15192 : BitVec 32 := v15191
  let v15196 : Index := Scalar.indexCast v15192
  let c0_10119 : Index := 0#32
  ![v15196.toNat, 0]

def k0_chk773 (v15186 : BitVec 32) : Prop :=
  (8 ∣ (k0_mult773 v15186).toNat) ∧
  (∀ a, (k0_off774 v15186) a + S16x128.size a ≤ S66048x128.size a)
theorem k0_mult773_dvd : ∀ (v15186 : BitVec 32) (k0_hw773 : k0_chk773 v15186), 8 ∣ (k0_mult773 v15186).toNat := fun v15186 k0_hw773 => k0_hw773.1
theorem k0_off774_inb : ∀ (v15186 : BitVec 32) (k0_hw773 : k0_chk773 v15186), ∀ a, (k0_off774 v15186) a + S16x128.size a ≤ S66048x128.size a := fun v15186 k0_hw773 => k0_hw773.2

def k0_off775 (v15187 : BitVec 32) : Fin 2 → Nat :=
  let c3_i32_10117 : BitVec 32 := 3#32
  let v15193 : BitVec 32 := Scalar.shrsi v15187 c3_i32_10117
  let c3_i32_10118 : BitVec 32 := 3#32
  let v15194 : BitVec 32 := Scalar.shli v15193 c3_i32_10118
  let v15195 : BitVec 32 := v15194
  let v15198 : Index := Scalar.indexCast v15195
  let c0_10120 : Index := 0#32
  ![v15198.toNat, 0]

def k0_chk774 (v15187 : BitVec 32) : Prop :=
  (8 ∣ (k0_mult774 v15187).toNat) ∧
  (∀ a, (k0_off775 v15187) a + S16x128.size a ≤ S66048x128.size a)
theorem k0_mult774_dvd : ∀ (v15187 : BitVec 32) (k0_hw774 : k0_chk774 v15187), 8 ∣ (k0_mult774 v15187).toNat := fun v15187 k0_hw774 => k0_hw774.1
theorem k0_off775_inb : ∀ (v15187 : BitVec 32) (k0_hw774 : k0_chk774 v15187), ∀ a, (k0_off775 v15187) a + S16x128.size a ≤ S66048x128.size a := fun v15187 k0_hw774 => k0_hw774.2

def k0_mult775 (v15225 : BitVec 32) : BitVec 32 :=
  let c3_i32_10141 : BitVec 32 := 3#32
  let v15229 : BitVec 32 := Scalar.shrsi v15225 c3_i32_10141
  let c3_i32_10142 : BitVec 32 := 3#32
  let v15230 : BitVec 32 := Scalar.shli v15229 c3_i32_10142
  v15230

def k0_mult776 (v15226 : BitVec 32) : BitVec 32 :=
  let c3_i32_10143 : BitVec 32 := 3#32
  let v15232 : BitVec 32 := Scalar.shrsi v15226 c3_i32_10143
  let c3_i32_10144 : BitVec 32 := 3#32
  let v15233 : BitVec 32 := Scalar.shli v15232 c3_i32_10144
  v15233

def k0_off776 (v15225 : BitVec 32) : Fin 2 → Nat :=
  let c3_i32_10141 : BitVec 32 := 3#32
  let v15229 : BitVec 32 := Scalar.shrsi v15225 c3_i32_10141
  let c3_i32_10142 : BitVec 32 := 3#32
  let v15230 : BitVec 32 := Scalar.shli v15229 c3_i32_10142
  let v15231 : BitVec 32 := v15230
  let v15235 : Index := Scalar.indexCast v15231
  let c0_10145 : Index := 0#32
  ![v15235.toNat, 0]

def k0_chk775 (v15225 : BitVec 32) : Prop :=
  (8 ∣ (k0_mult775 v15225).toNat) ∧
  (∀ a, (k0_off776 v15225) a + S16x128.size a ≤ S66048x128.size a)
theorem k0_mult775_dvd : ∀ (v15225 : BitVec 32) (k0_hw775 : k0_chk775 v15225), 8 ∣ (k0_mult775 v15225).toNat := fun v15225 k0_hw775 => k0_hw775.1
theorem k0_off776_inb : ∀ (v15225 : BitVec 32) (k0_hw775 : k0_chk775 v15225), ∀ a, (k0_off776 v15225) a + S16x128.size a ≤ S66048x128.size a := fun v15225 k0_hw775 => k0_hw775.2

def k0_off777 (v15226 : BitVec 32) : Fin 2 → Nat :=
  let c3_i32_10143 : BitVec 32 := 3#32
  let v15232 : BitVec 32 := Scalar.shrsi v15226 c3_i32_10143
  let c3_i32_10144 : BitVec 32 := 3#32
  let v15233 : BitVec 32 := Scalar.shli v15232 c3_i32_10144
  let v15234 : BitVec 32 := v15233
  let v15237 : Index := Scalar.indexCast v15234
  let c0_10146 : Index := 0#32
  ![v15237.toNat, 0]

def k0_chk776 (v15226 : BitVec 32) : Prop :=
  (8 ∣ (k0_mult776 v15226).toNat) ∧
  (∀ a, (k0_off777 v15226) a + S16x128.size a ≤ S66048x128.size a)
theorem k0_mult776_dvd : ∀ (v15226 : BitVec 32) (k0_hw776 : k0_chk776 v15226), 8 ∣ (k0_mult776 v15226).toNat := fun v15226 k0_hw776 => k0_hw776.1
theorem k0_off777_inb : ∀ (v15226 : BitVec 32) (k0_hw776 : k0_chk776 v15226), ∀ a, (k0_off777 v15226) a + S16x128.size a ≤ S66048x128.size a := fun v15226 k0_hw776 => k0_hw776.2

def k0_mult777 (v15264 : BitVec 32) : BitVec 32 :=
  let c3_i32_10167 : BitVec 32 := 3#32
  let v15268 : BitVec 32 := Scalar.shrsi v15264 c3_i32_10167
  let c3_i32_10168 : BitVec 32 := 3#32
  let v15269 : BitVec 32 := Scalar.shli v15268 c3_i32_10168
  v15269

def k0_mult778 (v15265 : BitVec 32) : BitVec 32 :=
  let c3_i32_10169 : BitVec 32 := 3#32
  let v15271 : BitVec 32 := Scalar.shrsi v15265 c3_i32_10169
  let c3_i32_10170 : BitVec 32 := 3#32
  let v15272 : BitVec 32 := Scalar.shli v15271 c3_i32_10170
  v15272

def k0_off778 (v15264 : BitVec 32) : Fin 2 → Nat :=
  let c3_i32_10167 : BitVec 32 := 3#32
  let v15268 : BitVec 32 := Scalar.shrsi v15264 c3_i32_10167
  let c3_i32_10168 : BitVec 32 := 3#32
  let v15269 : BitVec 32 := Scalar.shli v15268 c3_i32_10168
  let v15270 : BitVec 32 := v15269
  let v15274 : Index := Scalar.indexCast v15270
  let c0_10171 : Index := 0#32
  ![v15274.toNat, 0]

def k0_chk777 (v15264 : BitVec 32) : Prop :=
  (8 ∣ (k0_mult777 v15264).toNat) ∧
  (∀ a, (k0_off778 v15264) a + S16x128.size a ≤ S66048x128.size a)
theorem k0_mult777_dvd : ∀ (v15264 : BitVec 32) (k0_hw777 : k0_chk777 v15264), 8 ∣ (k0_mult777 v15264).toNat := fun v15264 k0_hw777 => k0_hw777.1
theorem k0_off778_inb : ∀ (v15264 : BitVec 32) (k0_hw777 : k0_chk777 v15264), ∀ a, (k0_off778 v15264) a + S16x128.size a ≤ S66048x128.size a := fun v15264 k0_hw777 => k0_hw777.2

def k0_off779 (v15265 : BitVec 32) : Fin 2 → Nat :=
  let c3_i32_10169 : BitVec 32 := 3#32
  let v15271 : BitVec 32 := Scalar.shrsi v15265 c3_i32_10169
  let c3_i32_10170 : BitVec 32 := 3#32
  let v15272 : BitVec 32 := Scalar.shli v15271 c3_i32_10170
  let v15273 : BitVec 32 := v15272
  let v15276 : Index := Scalar.indexCast v15273
  let c0_10172 : Index := 0#32
  ![v15276.toNat, 0]

def k0_chk778 (v15265 : BitVec 32) : Prop :=
  (8 ∣ (k0_mult778 v15265).toNat) ∧
  (∀ a, (k0_off779 v15265) a + S16x128.size a ≤ S66048x128.size a)
theorem k0_mult778_dvd : ∀ (v15265 : BitVec 32) (k0_hw778 : k0_chk778 v15265), 8 ∣ (k0_mult778 v15265).toNat := fun v15265 k0_hw778 => k0_hw778.1
theorem k0_off779_inb : ∀ (v15265 : BitVec 32) (k0_hw778 : k0_chk778 v15265), ∀ a, (k0_off779 v15265) a + S16x128.size a ≤ S66048x128.size a := fun v15265 k0_hw778 => k0_hw778.2

def k0_mult779 (v15303 : BitVec 32) : BitVec 32 :=
  let c3_i32_10193 : BitVec 32 := 3#32
  let v15307 : BitVec 32 := Scalar.shrsi v15303 c3_i32_10193
  let c3_i32_10194 : BitVec 32 := 3#32
  let v15308 : BitVec 32 := Scalar.shli v15307 c3_i32_10194
  v15308

def k0_mult780 (v15304 : BitVec 32) : BitVec 32 :=
  let c3_i32_10195 : BitVec 32 := 3#32
  let v15310 : BitVec 32 := Scalar.shrsi v15304 c3_i32_10195
  let c3_i32_10196 : BitVec 32 := 3#32
  let v15311 : BitVec 32 := Scalar.shli v15310 c3_i32_10196
  v15311

def k0_off780 (v15303 : BitVec 32) : Fin 2 → Nat :=
  let c3_i32_10193 : BitVec 32 := 3#32
  let v15307 : BitVec 32 := Scalar.shrsi v15303 c3_i32_10193
  let c3_i32_10194 : BitVec 32 := 3#32
  let v15308 : BitVec 32 := Scalar.shli v15307 c3_i32_10194
  let v15309 : BitVec 32 := v15308
  let v15313 : Index := Scalar.indexCast v15309
  let c0_10197 : Index := 0#32
  ![v15313.toNat, 0]

def k0_chk779 (v15303 : BitVec 32) : Prop :=
  (8 ∣ (k0_mult779 v15303).toNat) ∧
  (∀ a, (k0_off780 v15303) a + S16x128.size a ≤ S66048x128.size a)
theorem k0_mult779_dvd : ∀ (v15303 : BitVec 32) (k0_hw779 : k0_chk779 v15303), 8 ∣ (k0_mult779 v15303).toNat := fun v15303 k0_hw779 => k0_hw779.1
theorem k0_off780_inb : ∀ (v15303 : BitVec 32) (k0_hw779 : k0_chk779 v15303), ∀ a, (k0_off780 v15303) a + S16x128.size a ≤ S66048x128.size a := fun v15303 k0_hw779 => k0_hw779.2

def k0_off781 (v15304 : BitVec 32) : Fin 2 → Nat :=
  let c3_i32_10195 : BitVec 32 := 3#32
  let v15310 : BitVec 32 := Scalar.shrsi v15304 c3_i32_10195
  let c3_i32_10196 : BitVec 32 := 3#32
  let v15311 : BitVec 32 := Scalar.shli v15310 c3_i32_10196
  let v15312 : BitVec 32 := v15311
  let v15315 : Index := Scalar.indexCast v15312
  let c0_10198 : Index := 0#32
  ![v15315.toNat, 0]

def k0_chk780 (v15304 : BitVec 32) : Prop :=
  (8 ∣ (k0_mult780 v15304).toNat) ∧
  (∀ a, (k0_off781 v15304) a + S16x128.size a ≤ S66048x128.size a)
theorem k0_mult780_dvd : ∀ (v15304 : BitVec 32) (k0_hw780 : k0_chk780 v15304), 8 ∣ (k0_mult780 v15304).toNat := fun v15304 k0_hw780 => k0_hw780.1
theorem k0_off781_inb : ∀ (v15304 : BitVec 32) (k0_hw780 : k0_chk780 v15304), ∀ a, (k0_off781 v15304) a + S16x128.size a ≤ S66048x128.size a := fun v15304 k0_hw780 => k0_hw780.2

def k0_mult781 (v15342 : BitVec 32) : BitVec 32 :=
  let c3_i32_10219 : BitVec 32 := 3#32
  let v15346 : BitVec 32 := Scalar.shrsi v15342 c3_i32_10219
  let c3_i32_10220 : BitVec 32 := 3#32
  let v15347 : BitVec 32 := Scalar.shli v15346 c3_i32_10220
  v15347

def k0_mult782 (v15343 : BitVec 32) : BitVec 32 :=
  let c3_i32_10221 : BitVec 32 := 3#32
  let v15349 : BitVec 32 := Scalar.shrsi v15343 c3_i32_10221
  let c3_i32_10222 : BitVec 32 := 3#32
  let v15350 : BitVec 32 := Scalar.shli v15349 c3_i32_10222
  v15350

def k0_off782 (v15342 : BitVec 32) : Fin 2 → Nat :=
  let c3_i32_10219 : BitVec 32 := 3#32
  let v15346 : BitVec 32 := Scalar.shrsi v15342 c3_i32_10219
  let c3_i32_10220 : BitVec 32 := 3#32
  let v15347 : BitVec 32 := Scalar.shli v15346 c3_i32_10220
  let v15348 : BitVec 32 := v15347
  let v15352 : Index := Scalar.indexCast v15348
  let c0_10223 : Index := 0#32
  ![v15352.toNat, 0]

def k0_chk781 (v15342 : BitVec 32) : Prop :=
  (8 ∣ (k0_mult781 v15342).toNat) ∧
  (∀ a, (k0_off782 v15342) a + S16x128.size a ≤ S66048x128.size a)
theorem k0_mult781_dvd : ∀ (v15342 : BitVec 32) (k0_hw781 : k0_chk781 v15342), 8 ∣ (k0_mult781 v15342).toNat := fun v15342 k0_hw781 => k0_hw781.1
theorem k0_off782_inb : ∀ (v15342 : BitVec 32) (k0_hw781 : k0_chk781 v15342), ∀ a, (k0_off782 v15342) a + S16x128.size a ≤ S66048x128.size a := fun v15342 k0_hw781 => k0_hw781.2

def k0_off783 (v15343 : BitVec 32) : Fin 2 → Nat :=
  let c3_i32_10221 : BitVec 32 := 3#32
  let v15349 : BitVec 32 := Scalar.shrsi v15343 c3_i32_10221
  let c3_i32_10222 : BitVec 32 := 3#32
  let v15350 : BitVec 32 := Scalar.shli v15349 c3_i32_10222
  let v15351 : BitVec 32 := v15350
  let v15354 : Index := Scalar.indexCast v15351
  let c0_10224 : Index := 0#32
  ![v15354.toNat, 0]

def k0_chk782 (v15343 : BitVec 32) : Prop :=
  (8 ∣ (k0_mult782 v15343).toNat) ∧
  (∀ a, (k0_off783 v15343) a + S16x128.size a ≤ S66048x128.size a)
theorem k0_mult782_dvd : ∀ (v15343 : BitVec 32) (k0_hw782 : k0_chk782 v15343), 8 ∣ (k0_mult782 v15343).toNat := fun v15343 k0_hw782 => k0_hw782.1
theorem k0_off783_inb : ∀ (v15343 : BitVec 32) (k0_hw782 : k0_chk782 v15343), ∀ a, (k0_off783 v15343) a + S16x128.size a ≤ S66048x128.size a := fun v15343 k0_hw782 => k0_hw782.2

def k0_mult783 (v15381 : BitVec 32) : BitVec 32 :=
  let c3_i32_10245 : BitVec 32 := 3#32
  let v15385 : BitVec 32 := Scalar.shrsi v15381 c3_i32_10245
  let c3_i32_10246 : BitVec 32 := 3#32
  let v15386 : BitVec 32 := Scalar.shli v15385 c3_i32_10246
  v15386

def k0_mult784 (v15382 : BitVec 32) : BitVec 32 :=
  let c3_i32_10247 : BitVec 32 := 3#32
  let v15388 : BitVec 32 := Scalar.shrsi v15382 c3_i32_10247
  let c3_i32_10248 : BitVec 32 := 3#32
  let v15389 : BitVec 32 := Scalar.shli v15388 c3_i32_10248
  v15389

def k0_off784 (v15381 : BitVec 32) : Fin 2 → Nat :=
  let c3_i32_10245 : BitVec 32 := 3#32
  let v15385 : BitVec 32 := Scalar.shrsi v15381 c3_i32_10245
  let c3_i32_10246 : BitVec 32 := 3#32
  let v15386 : BitVec 32 := Scalar.shli v15385 c3_i32_10246
  let v15387 : BitVec 32 := v15386
  let v15391 : Index := Scalar.indexCast v15387
  let c0_10249 : Index := 0#32
  ![v15391.toNat, 0]

def k0_chk783 (v15381 : BitVec 32) : Prop :=
  (8 ∣ (k0_mult783 v15381).toNat) ∧
  (∀ a, (k0_off784 v15381) a + S16x128.size a ≤ S66048x128.size a)
theorem k0_mult783_dvd : ∀ (v15381 : BitVec 32) (k0_hw783 : k0_chk783 v15381), 8 ∣ (k0_mult783 v15381).toNat := fun v15381 k0_hw783 => k0_hw783.1
theorem k0_off784_inb : ∀ (v15381 : BitVec 32) (k0_hw783 : k0_chk783 v15381), ∀ a, (k0_off784 v15381) a + S16x128.size a ≤ S66048x128.size a := fun v15381 k0_hw783 => k0_hw783.2

def k0_off785 (v15382 : BitVec 32) : Fin 2 → Nat :=
  let c3_i32_10247 : BitVec 32 := 3#32
  let v15388 : BitVec 32 := Scalar.shrsi v15382 c3_i32_10247
  let c3_i32_10248 : BitVec 32 := 3#32
  let v15389 : BitVec 32 := Scalar.shli v15388 c3_i32_10248
  let v15390 : BitVec 32 := v15389
  let v15393 : Index := Scalar.indexCast v15390
  let c0_10250 : Index := 0#32
  ![v15393.toNat, 0]

def k0_chk784 (v15382 : BitVec 32) : Prop :=
  (8 ∣ (k0_mult784 v15382).toNat) ∧
  (∀ a, (k0_off785 v15382) a + S16x128.size a ≤ S66048x128.size a)
theorem k0_mult784_dvd : ∀ (v15382 : BitVec 32) (k0_hw784 : k0_chk784 v15382), 8 ∣ (k0_mult784 v15382).toNat := fun v15382 k0_hw784 => k0_hw784.1
theorem k0_off785_inb : ∀ (v15382 : BitVec 32) (k0_hw784 : k0_chk784 v15382), ∀ a, (k0_off785 v15382) a + S16x128.size a ≤ S66048x128.size a := fun v15382 k0_hw784 => k0_hw784.2

def k0_mult785 (v15420 : BitVec 32) : BitVec 32 :=
  let c3_i32_10271 : BitVec 32 := 3#32
  let v15424 : BitVec 32 := Scalar.shrsi v15420 c3_i32_10271
  let c3_i32_10272 : BitVec 32 := 3#32
  let v15425 : BitVec 32 := Scalar.shli v15424 c3_i32_10272
  v15425

def k0_mult786 (v15421 : BitVec 32) : BitVec 32 :=
  let c3_i32_10273 : BitVec 32 := 3#32
  let v15427 : BitVec 32 := Scalar.shrsi v15421 c3_i32_10273
  let c3_i32_10274 : BitVec 32 := 3#32
  let v15428 : BitVec 32 := Scalar.shli v15427 c3_i32_10274
  v15428

def k0_off786 (v15420 : BitVec 32) : Fin 2 → Nat :=
  let c3_i32_10271 : BitVec 32 := 3#32
  let v15424 : BitVec 32 := Scalar.shrsi v15420 c3_i32_10271
  let c3_i32_10272 : BitVec 32 := 3#32
  let v15425 : BitVec 32 := Scalar.shli v15424 c3_i32_10272
  let v15426 : BitVec 32 := v15425
  let v15430 : Index := Scalar.indexCast v15426
  let c0_10275 : Index := 0#32
  ![v15430.toNat, 0]

def k0_chk785 (v15420 : BitVec 32) : Prop :=
  (8 ∣ (k0_mult785 v15420).toNat) ∧
  (∀ a, (k0_off786 v15420) a + S16x128.size a ≤ S66048x128.size a)
theorem k0_mult785_dvd : ∀ (v15420 : BitVec 32) (k0_hw785 : k0_chk785 v15420), 8 ∣ (k0_mult785 v15420).toNat := fun v15420 k0_hw785 => k0_hw785.1
theorem k0_off786_inb : ∀ (v15420 : BitVec 32) (k0_hw785 : k0_chk785 v15420), ∀ a, (k0_off786 v15420) a + S16x128.size a ≤ S66048x128.size a := fun v15420 k0_hw785 => k0_hw785.2

def k0_off787 (v15421 : BitVec 32) : Fin 2 → Nat :=
  let c3_i32_10273 : BitVec 32 := 3#32
  let v15427 : BitVec 32 := Scalar.shrsi v15421 c3_i32_10273
  let c3_i32_10274 : BitVec 32 := 3#32
  let v15428 : BitVec 32 := Scalar.shli v15427 c3_i32_10274
  let v15429 : BitVec 32 := v15428
  let v15432 : Index := Scalar.indexCast v15429
  let c0_10276 : Index := 0#32
  ![v15432.toNat, 0]

def k0_chk786 (v15421 : BitVec 32) : Prop :=
  (8 ∣ (k0_mult786 v15421).toNat) ∧
  (∀ a, (k0_off787 v15421) a + S16x128.size a ≤ S66048x128.size a)
theorem k0_mult786_dvd : ∀ (v15421 : BitVec 32) (k0_hw786 : k0_chk786 v15421), 8 ∣ (k0_mult786 v15421).toNat := fun v15421 k0_hw786 => k0_hw786.1
theorem k0_off787_inb : ∀ (v15421 : BitVec 32) (k0_hw786 : k0_chk786 v15421), ∀ a, (k0_off787 v15421) a + S16x128.size a ≤ S66048x128.size a := fun v15421 k0_hw786 => k0_hw786.2

def k0_mult787 (v15459 : BitVec 32) : BitVec 32 :=
  let c3_i32_10297 : BitVec 32 := 3#32
  let v15463 : BitVec 32 := Scalar.shrsi v15459 c3_i32_10297
  let c3_i32_10298 : BitVec 32 := 3#32
  let v15464 : BitVec 32 := Scalar.shli v15463 c3_i32_10298
  v15464

def k0_mult788 (v15460 : BitVec 32) : BitVec 32 :=
  let c3_i32_10299 : BitVec 32 := 3#32
  let v15466 : BitVec 32 := Scalar.shrsi v15460 c3_i32_10299
  let c3_i32_10300 : BitVec 32 := 3#32
  let v15467 : BitVec 32 := Scalar.shli v15466 c3_i32_10300
  v15467

def k0_off788 (v15459 : BitVec 32) : Fin 2 → Nat :=
  let c3_i32_10297 : BitVec 32 := 3#32
  let v15463 : BitVec 32 := Scalar.shrsi v15459 c3_i32_10297
  let c3_i32_10298 : BitVec 32 := 3#32
  let v15464 : BitVec 32 := Scalar.shli v15463 c3_i32_10298
  let v15465 : BitVec 32 := v15464
  let v15469 : Index := Scalar.indexCast v15465
  let c0_10301 : Index := 0#32
  ![v15469.toNat, 0]

def k0_chk787 (v15459 : BitVec 32) : Prop :=
  (8 ∣ (k0_mult787 v15459).toNat) ∧
  (∀ a, (k0_off788 v15459) a + S16x128.size a ≤ S66048x128.size a)
theorem k0_mult787_dvd : ∀ (v15459 : BitVec 32) (k0_hw787 : k0_chk787 v15459), 8 ∣ (k0_mult787 v15459).toNat := fun v15459 k0_hw787 => k0_hw787.1
theorem k0_off788_inb : ∀ (v15459 : BitVec 32) (k0_hw787 : k0_chk787 v15459), ∀ a, (k0_off788 v15459) a + S16x128.size a ≤ S66048x128.size a := fun v15459 k0_hw787 => k0_hw787.2

def k0_off789 (v15460 : BitVec 32) : Fin 2 → Nat :=
  let c3_i32_10299 : BitVec 32 := 3#32
  let v15466 : BitVec 32 := Scalar.shrsi v15460 c3_i32_10299
  let c3_i32_10300 : BitVec 32 := 3#32
  let v15467 : BitVec 32 := Scalar.shli v15466 c3_i32_10300
  let v15468 : BitVec 32 := v15467
  let v15471 : Index := Scalar.indexCast v15468
  let c0_10302 : Index := 0#32
  ![v15471.toNat, 0]

def k0_chk788 (v15460 : BitVec 32) : Prop :=
  (8 ∣ (k0_mult788 v15460).toNat) ∧
  (∀ a, (k0_off789 v15460) a + S16x128.size a ≤ S66048x128.size a)
theorem k0_mult788_dvd : ∀ (v15460 : BitVec 32) (k0_hw788 : k0_chk788 v15460), 8 ∣ (k0_mult788 v15460).toNat := fun v15460 k0_hw788 => k0_hw788.1
theorem k0_off789_inb : ∀ (v15460 : BitVec 32) (k0_hw788 : k0_chk788 v15460), ∀ a, (k0_off789 v15460) a + S16x128.size a ≤ S66048x128.size a := fun v15460 k0_hw788 => k0_hw788.2

def k0_mult789 (v15498 : BitVec 32) : BitVec 32 :=
  let c3_i32_10323 : BitVec 32 := 3#32
  let v15502 : BitVec 32 := Scalar.shrsi v15498 c3_i32_10323
  let c3_i32_10324 : BitVec 32 := 3#32
  let v15503 : BitVec 32 := Scalar.shli v15502 c3_i32_10324
  v15503

def k0_mult790 (v15499 : BitVec 32) : BitVec 32 :=
  let c3_i32_10325 : BitVec 32 := 3#32
  let v15505 : BitVec 32 := Scalar.shrsi v15499 c3_i32_10325
  let c3_i32_10326 : BitVec 32 := 3#32
  let v15506 : BitVec 32 := Scalar.shli v15505 c3_i32_10326
  v15506

def k0_off790 (v15498 : BitVec 32) : Fin 2 → Nat :=
  let c3_i32_10323 : BitVec 32 := 3#32
  let v15502 : BitVec 32 := Scalar.shrsi v15498 c3_i32_10323
  let c3_i32_10324 : BitVec 32 := 3#32
  let v15503 : BitVec 32 := Scalar.shli v15502 c3_i32_10324
  let v15504 : BitVec 32 := v15503
  let v15508 : Index := Scalar.indexCast v15504
  let c0_10327 : Index := 0#32
  ![v15508.toNat, 0]

def k0_chk789 (v15498 : BitVec 32) : Prop :=
  (8 ∣ (k0_mult789 v15498).toNat) ∧
  (∀ a, (k0_off790 v15498) a + S16x128.size a ≤ S66048x128.size a)
theorem k0_mult789_dvd : ∀ (v15498 : BitVec 32) (k0_hw789 : k0_chk789 v15498), 8 ∣ (k0_mult789 v15498).toNat := fun v15498 k0_hw789 => k0_hw789.1
theorem k0_off790_inb : ∀ (v15498 : BitVec 32) (k0_hw789 : k0_chk789 v15498), ∀ a, (k0_off790 v15498) a + S16x128.size a ≤ S66048x128.size a := fun v15498 k0_hw789 => k0_hw789.2

def k0_off791 (v15499 : BitVec 32) : Fin 2 → Nat :=
  let c3_i32_10325 : BitVec 32 := 3#32
  let v15505 : BitVec 32 := Scalar.shrsi v15499 c3_i32_10325
  let c3_i32_10326 : BitVec 32 := 3#32
  let v15506 : BitVec 32 := Scalar.shli v15505 c3_i32_10326
  let v15507 : BitVec 32 := v15506
  let v15510 : Index := Scalar.indexCast v15507
  let c0_10328 : Index := 0#32
  ![v15510.toNat, 0]

def k0_chk790 (v15499 : BitVec 32) : Prop :=
  (8 ∣ (k0_mult790 v15499).toNat) ∧
  (∀ a, (k0_off791 v15499) a + S16x128.size a ≤ S66048x128.size a)
theorem k0_mult790_dvd : ∀ (v15499 : BitVec 32) (k0_hw790 : k0_chk790 v15499), 8 ∣ (k0_mult790 v15499).toNat := fun v15499 k0_hw790 => k0_hw790.1
theorem k0_off791_inb : ∀ (v15499 : BitVec 32) (k0_hw790 : k0_chk790 v15499), ∀ a, (k0_off791 v15499) a + S16x128.size a ≤ S66048x128.size a := fun v15499 k0_hw790 => k0_hw790.2

def k0_mult791 (v15537 : BitVec 32) : BitVec 32 :=
  let c3_i32_10349 : BitVec 32 := 3#32
  let v15541 : BitVec 32 := Scalar.shrsi v15537 c3_i32_10349
  let c3_i32_10350 : BitVec 32 := 3#32
  let v15542 : BitVec 32 := Scalar.shli v15541 c3_i32_10350
  v15542

def k0_mult792 (v15538 : BitVec 32) : BitVec 32 :=
  let c3_i32_10351 : BitVec 32 := 3#32
  let v15544 : BitVec 32 := Scalar.shrsi v15538 c3_i32_10351
  let c3_i32_10352 : BitVec 32 := 3#32
  let v15545 : BitVec 32 := Scalar.shli v15544 c3_i32_10352
  v15545

def k0_off792 (v15537 : BitVec 32) : Fin 2 → Nat :=
  let c3_i32_10349 : BitVec 32 := 3#32
  let v15541 : BitVec 32 := Scalar.shrsi v15537 c3_i32_10349
  let c3_i32_10350 : BitVec 32 := 3#32
  let v15542 : BitVec 32 := Scalar.shli v15541 c3_i32_10350
  let v15543 : BitVec 32 := v15542
  let v15547 : Index := Scalar.indexCast v15543
  let c0_10353 : Index := 0#32
  ![v15547.toNat, 0]

def k0_chk791 (v15537 : BitVec 32) : Prop :=
  (8 ∣ (k0_mult791 v15537).toNat) ∧
  (∀ a, (k0_off792 v15537) a + S16x128.size a ≤ S66048x128.size a)
theorem k0_mult791_dvd : ∀ (v15537 : BitVec 32) (k0_hw791 : k0_chk791 v15537), 8 ∣ (k0_mult791 v15537).toNat := fun v15537 k0_hw791 => k0_hw791.1
theorem k0_off792_inb : ∀ (v15537 : BitVec 32) (k0_hw791 : k0_chk791 v15537), ∀ a, (k0_off792 v15537) a + S16x128.size a ≤ S66048x128.size a := fun v15537 k0_hw791 => k0_hw791.2

def k0_off793 (v15538 : BitVec 32) : Fin 2 → Nat :=
  let c3_i32_10351 : BitVec 32 := 3#32
  let v15544 : BitVec 32 := Scalar.shrsi v15538 c3_i32_10351
  let c3_i32_10352 : BitVec 32 := 3#32
  let v15545 : BitVec 32 := Scalar.shli v15544 c3_i32_10352
  let v15546 : BitVec 32 := v15545
  let v15549 : Index := Scalar.indexCast v15546
  let c0_10354 : Index := 0#32
  ![v15549.toNat, 0]

def k0_chk792 (v15538 : BitVec 32) : Prop :=
  (8 ∣ (k0_mult792 v15538).toNat) ∧
  (∀ a, (k0_off793 v15538) a + S16x128.size a ≤ S66048x128.size a)
theorem k0_mult792_dvd : ∀ (v15538 : BitVec 32) (k0_hw792 : k0_chk792 v15538), 8 ∣ (k0_mult792 v15538).toNat := fun v15538 k0_hw792 => k0_hw792.1
theorem k0_off793_inb : ∀ (v15538 : BitVec 32) (k0_hw792 : k0_chk792 v15538), ∀ a, (k0_off793 v15538) a + S16x128.size a ≤ S66048x128.size a := fun v15538 k0_hw792 => k0_hw792.2

def k0_mult793 (v15576 : BitVec 32) : BitVec 32 :=
  let c3_i32_10375 : BitVec 32 := 3#32
  let v15580 : BitVec 32 := Scalar.shrsi v15576 c3_i32_10375
  let c3_i32_10376 : BitVec 32 := 3#32
  let v15581 : BitVec 32 := Scalar.shli v15580 c3_i32_10376
  v15581

def k0_mult794 (v15577 : BitVec 32) : BitVec 32 :=
  let c3_i32_10377 : BitVec 32 := 3#32
  let v15583 : BitVec 32 := Scalar.shrsi v15577 c3_i32_10377
  let c3_i32_10378 : BitVec 32 := 3#32
  let v15584 : BitVec 32 := Scalar.shli v15583 c3_i32_10378
  v15584

def k0_off794 (v15576 : BitVec 32) : Fin 2 → Nat :=
  let c3_i32_10375 : BitVec 32 := 3#32
  let v15580 : BitVec 32 := Scalar.shrsi v15576 c3_i32_10375
  let c3_i32_10376 : BitVec 32 := 3#32
  let v15581 : BitVec 32 := Scalar.shli v15580 c3_i32_10376
  let v15582 : BitVec 32 := v15581
  let v15586 : Index := Scalar.indexCast v15582
  let c0_10379 : Index := 0#32
  ![v15586.toNat, 0]

def k0_chk793 (v15576 : BitVec 32) : Prop :=
  (8 ∣ (k0_mult793 v15576).toNat) ∧
  (∀ a, (k0_off794 v15576) a + S16x128.size a ≤ S66048x128.size a)
theorem k0_mult793_dvd : ∀ (v15576 : BitVec 32) (k0_hw793 : k0_chk793 v15576), 8 ∣ (k0_mult793 v15576).toNat := fun v15576 k0_hw793 => k0_hw793.1
theorem k0_off794_inb : ∀ (v15576 : BitVec 32) (k0_hw793 : k0_chk793 v15576), ∀ a, (k0_off794 v15576) a + S16x128.size a ≤ S66048x128.size a := fun v15576 k0_hw793 => k0_hw793.2

def k0_off795 (v15577 : BitVec 32) : Fin 2 → Nat :=
  let c3_i32_10377 : BitVec 32 := 3#32
  let v15583 : BitVec 32 := Scalar.shrsi v15577 c3_i32_10377
  let c3_i32_10378 : BitVec 32 := 3#32
  let v15584 : BitVec 32 := Scalar.shli v15583 c3_i32_10378
  let v15585 : BitVec 32 := v15584
  let v15588 : Index := Scalar.indexCast v15585
  let c0_10380 : Index := 0#32
  ![v15588.toNat, 0]

def k0_chk794 (v15577 : BitVec 32) : Prop :=
  (8 ∣ (k0_mult794 v15577).toNat) ∧
  (∀ a, (k0_off795 v15577) a + S16x128.size a ≤ S66048x128.size a)
theorem k0_mult794_dvd : ∀ (v15577 : BitVec 32) (k0_hw794 : k0_chk794 v15577), 8 ∣ (k0_mult794 v15577).toNat := fun v15577 k0_hw794 => k0_hw794.1
theorem k0_off795_inb : ∀ (v15577 : BitVec 32) (k0_hw794 : k0_chk794 v15577), ∀ a, (k0_off795 v15577) a + S16x128.size a ≤ S66048x128.size a := fun v15577 k0_hw794 => k0_hw794.2

def k0_mult795 (v15615 : BitVec 32) : BitVec 32 :=
  let c3_i32_10401 : BitVec 32 := 3#32
  let v15619 : BitVec 32 := Scalar.shrsi v15615 c3_i32_10401
  let c3_i32_10402 : BitVec 32 := 3#32
  let v15620 : BitVec 32 := Scalar.shli v15619 c3_i32_10402
  v15620

def k0_mult796 (v15616 : BitVec 32) : BitVec 32 :=
  let c3_i32_10403 : BitVec 32 := 3#32
  let v15622 : BitVec 32 := Scalar.shrsi v15616 c3_i32_10403
  let c3_i32_10404 : BitVec 32 := 3#32
  let v15623 : BitVec 32 := Scalar.shli v15622 c3_i32_10404
  v15623

def k0_off796 (v15615 : BitVec 32) : Fin 2 → Nat :=
  let c3_i32_10401 : BitVec 32 := 3#32
  let v15619 : BitVec 32 := Scalar.shrsi v15615 c3_i32_10401
  let c3_i32_10402 : BitVec 32 := 3#32
  let v15620 : BitVec 32 := Scalar.shli v15619 c3_i32_10402
  let v15621 : BitVec 32 := v15620
  let v15625 : Index := Scalar.indexCast v15621
  let c0_10405 : Index := 0#32
  ![v15625.toNat, 0]

def k0_chk795 (v15615 : BitVec 32) : Prop :=
  (8 ∣ (k0_mult795 v15615).toNat) ∧
  (∀ a, (k0_off796 v15615) a + S16x128.size a ≤ S66048x128.size a)
theorem k0_mult795_dvd : ∀ (v15615 : BitVec 32) (k0_hw795 : k0_chk795 v15615), 8 ∣ (k0_mult795 v15615).toNat := fun v15615 k0_hw795 => k0_hw795.1
theorem k0_off796_inb : ∀ (v15615 : BitVec 32) (k0_hw795 : k0_chk795 v15615), ∀ a, (k0_off796 v15615) a + S16x128.size a ≤ S66048x128.size a := fun v15615 k0_hw795 => k0_hw795.2

def k0_off797 (v15616 : BitVec 32) : Fin 2 → Nat :=
  let c3_i32_10403 : BitVec 32 := 3#32
  let v15622 : BitVec 32 := Scalar.shrsi v15616 c3_i32_10403
  let c3_i32_10404 : BitVec 32 := 3#32
  let v15623 : BitVec 32 := Scalar.shli v15622 c3_i32_10404
  let v15624 : BitVec 32 := v15623
  let v15627 : Index := Scalar.indexCast v15624
  let c0_10406 : Index := 0#32
  ![v15627.toNat, 0]

def k0_chk796 (v15616 : BitVec 32) : Prop :=
  (8 ∣ (k0_mult796 v15616).toNat) ∧
  (∀ a, (k0_off797 v15616) a + S16x128.size a ≤ S66048x128.size a)
theorem k0_mult796_dvd : ∀ (v15616 : BitVec 32) (k0_hw796 : k0_chk796 v15616), 8 ∣ (k0_mult796 v15616).toNat := fun v15616 k0_hw796 => k0_hw796.1
theorem k0_off797_inb : ∀ (v15616 : BitVec 32) (k0_hw796 : k0_chk796 v15616), ∀ a, (k0_off797 v15616) a + S16x128.size a ≤ S66048x128.size a := fun v15616 k0_hw796 => k0_hw796.2

def k0_mult797 (v15654 : BitVec 32) : BitVec 32 :=
  let c3_i32_10427 : BitVec 32 := 3#32
  let v15658 : BitVec 32 := Scalar.shrsi v15654 c3_i32_10427
  let c3_i32_10428 : BitVec 32 := 3#32
  let v15659 : BitVec 32 := Scalar.shli v15658 c3_i32_10428
  v15659

def k0_mult798 (v15655 : BitVec 32) : BitVec 32 :=
  let c3_i32_10429 : BitVec 32 := 3#32
  let v15661 : BitVec 32 := Scalar.shrsi v15655 c3_i32_10429
  let c3_i32_10430 : BitVec 32 := 3#32
  let v15662 : BitVec 32 := Scalar.shli v15661 c3_i32_10430
  v15662

def k0_off798 (v15654 : BitVec 32) : Fin 2 → Nat :=
  let c3_i32_10427 : BitVec 32 := 3#32
  let v15658 : BitVec 32 := Scalar.shrsi v15654 c3_i32_10427
  let c3_i32_10428 : BitVec 32 := 3#32
  let v15659 : BitVec 32 := Scalar.shli v15658 c3_i32_10428
  let v15660 : BitVec 32 := v15659
  let v15664 : Index := Scalar.indexCast v15660
  let c0_10431 : Index := 0#32
  ![v15664.toNat, 0]

def k0_chk797 (v15654 : BitVec 32) : Prop :=
  (8 ∣ (k0_mult797 v15654).toNat) ∧
  (∀ a, (k0_off798 v15654) a + S16x128.size a ≤ S66048x128.size a)
theorem k0_mult797_dvd : ∀ (v15654 : BitVec 32) (k0_hw797 : k0_chk797 v15654), 8 ∣ (k0_mult797 v15654).toNat := fun v15654 k0_hw797 => k0_hw797.1
theorem k0_off798_inb : ∀ (v15654 : BitVec 32) (k0_hw797 : k0_chk797 v15654), ∀ a, (k0_off798 v15654) a + S16x128.size a ≤ S66048x128.size a := fun v15654 k0_hw797 => k0_hw797.2

def k0_off799 (v15655 : BitVec 32) : Fin 2 → Nat :=
  let c3_i32_10429 : BitVec 32 := 3#32
  let v15661 : BitVec 32 := Scalar.shrsi v15655 c3_i32_10429
  let c3_i32_10430 : BitVec 32 := 3#32
  let v15662 : BitVec 32 := Scalar.shli v15661 c3_i32_10430
  let v15663 : BitVec 32 := v15662
  let v15666 : Index := Scalar.indexCast v15663
  let c0_10432 : Index := 0#32
  ![v15666.toNat, 0]

def k0_chk798 (v15655 : BitVec 32) : Prop :=
  (8 ∣ (k0_mult798 v15655).toNat) ∧
  (∀ a, (k0_off799 v15655) a + S16x128.size a ≤ S66048x128.size a)
theorem k0_mult798_dvd : ∀ (v15655 : BitVec 32) (k0_hw798 : k0_chk798 v15655), 8 ∣ (k0_mult798 v15655).toNat := fun v15655 k0_hw798 => k0_hw798.1
theorem k0_off799_inb : ∀ (v15655 : BitVec 32) (k0_hw798 : k0_chk798 v15655), ∀ a, (k0_off799 v15655) a + S16x128.size a ≤ S66048x128.size a := fun v15655 k0_hw798 => k0_hw798.2

def k0_mult799 (v15693 : BitVec 32) : BitVec 32 :=
  let c3_i32_10453 : BitVec 32 := 3#32
  let v15697 : BitVec 32 := Scalar.shrsi v15693 c3_i32_10453
  let c3_i32_10454 : BitVec 32 := 3#32
  let v15698 : BitVec 32 := Scalar.shli v15697 c3_i32_10454
  v15698

def k0_mult800 (v15694 : BitVec 32) : BitVec 32 :=
  let c3_i32_10455 : BitVec 32 := 3#32
  let v15700 : BitVec 32 := Scalar.shrsi v15694 c3_i32_10455
  let c3_i32_10456 : BitVec 32 := 3#32
  let v15701 : BitVec 32 := Scalar.shli v15700 c3_i32_10456
  v15701

def k0_off800 (v15693 : BitVec 32) : Fin 2 → Nat :=
  let c3_i32_10453 : BitVec 32 := 3#32
  let v15697 : BitVec 32 := Scalar.shrsi v15693 c3_i32_10453
  let c3_i32_10454 : BitVec 32 := 3#32
  let v15698 : BitVec 32 := Scalar.shli v15697 c3_i32_10454
  let v15699 : BitVec 32 := v15698
  let v15703 : Index := Scalar.indexCast v15699
  let c0_10457 : Index := 0#32
  ![v15703.toNat, 0]

def k0_chk799 (v15693 : BitVec 32) : Prop :=
  (8 ∣ (k0_mult799 v15693).toNat) ∧
  (∀ a, (k0_off800 v15693) a + S16x128.size a ≤ S66048x128.size a)
theorem k0_mult799_dvd : ∀ (v15693 : BitVec 32) (k0_hw799 : k0_chk799 v15693), 8 ∣ (k0_mult799 v15693).toNat := fun v15693 k0_hw799 => k0_hw799.1
theorem k0_off800_inb : ∀ (v15693 : BitVec 32) (k0_hw799 : k0_chk799 v15693), ∀ a, (k0_off800 v15693) a + S16x128.size a ≤ S66048x128.size a := fun v15693 k0_hw799 => k0_hw799.2

def k0_off801 (v15694 : BitVec 32) : Fin 2 → Nat :=
  let c3_i32_10455 : BitVec 32 := 3#32
  let v15700 : BitVec 32 := Scalar.shrsi v15694 c3_i32_10455
  let c3_i32_10456 : BitVec 32 := 3#32
  let v15701 : BitVec 32 := Scalar.shli v15700 c3_i32_10456
  let v15702 : BitVec 32 := v15701
  let v15705 : Index := Scalar.indexCast v15702
  let c0_10458 : Index := 0#32
  ![v15705.toNat, 0]

def k0_chk800 (v15694 : BitVec 32) : Prop :=
  (8 ∣ (k0_mult800 v15694).toNat) ∧
  (∀ a, (k0_off801 v15694) a + S16x128.size a ≤ S66048x128.size a)
theorem k0_mult800_dvd : ∀ (v15694 : BitVec 32) (k0_hw800 : k0_chk800 v15694), 8 ∣ (k0_mult800 v15694).toNat := fun v15694 k0_hw800 => k0_hw800.1
theorem k0_off801_inb : ∀ (v15694 : BitVec 32) (k0_hw800 : k0_chk800 v15694), ∀ a, (k0_off801 v15694) a + S16x128.size a ≤ S66048x128.size a := fun v15694 k0_hw800 => k0_hw800.2

def cc0_transform_0 (i : grid0.Coords) : Fin 3 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x16x25 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x16x25 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1x16x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .smem S1x16x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S800x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S800x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S800x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S800x49 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S800x49 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S16000x4 : Shape := ⟨2, ![16000, 4]⟩
abbrev S1x256x256x196 : Shape := ⟨4, ![1, 256, 256, 196]⟩
abbrev S256x256x196 : Shape := ⟨3, ![256, 256, 196]⟩
abbrev S_ : Shape := ⟨0, ![]⟩
abbrev S16000x1 : Shape := ⟨2, ![16000, 1]⟩
abbrev S16000 : Shape := ⟨1, ![16000]⟩
abbrev S7 : Shape := ⟨1, ![7]⟩
abbrev S1x7 : Shape := ⟨2, ![1, 7]⟩
abbrev S16000x7 : Shape := ⟨2, ![16000, 7]⟩
abbrev S256x256x4x7x7 : Shape := ⟨5, ![256, 256, 4, 7, 7]⟩
abbrev S7x7x4x256x256 : Shape := ⟨5, ![7, 7, 4, 256, 256]⟩
abbrev S16000x7x1 : Shape := ⟨3, ![16000, 7, 1]⟩
abbrev S16000x1x7 : Shape := ⟨3, ![16000, 1, 7]⟩
abbrev S16000x7x7 : Shape := ⟨3, ![16000, 7, 7]⟩
abbrev S16000x7x7x1 : Shape := ⟨4, ![16000, 7, 7, 1]⟩
abbrev S1x7x1 : Shape := ⟨3, ![1, 7, 1]⟩
abbrev S1x1x7 : Shape := ⟨3, ![1, 1, 7]⟩
abbrev S16000x7x7x4 : Shape := ⟨4, ![16000, 7, 7, 4]⟩
abbrev S16000x4x7x7 : Shape := ⟨4, ![16000, 4, 7, 7]⟩
abbrev S16000x2x2x7x7 : Shape := ⟨5, ![16000, 2, 2, 7, 7]⟩
abbrev S16000x2x7x7x2 : Shape := ⟨5, ![16000, 2, 7, 7, 2]⟩
abbrev S16000x2x7x7 : Shape := ⟨4, ![16000, 2, 7, 7]⟩
abbrev S16000x2x7x7x1 : Shape := ⟨5, ![16000, 2, 7, 7, 1]⟩
abbrev S16000x2x49 : Shape := ⟨3, ![16000, 2, 49]⟩
abbrev S16000x2 : Shape := ⟨2, ![16000, 2]⟩
abbrev S16000x7x7x2 : Shape := ⟨4, ![16000, 7, 7, 2]⟩

abbrev nBuf : Space → Nat
  | .hbm => 363
  | .vmem => 0
  | .smem => 0
  | _ => 0

abbrev hbmTy0_0 (i : Nat) : BufTy := match i % 128 with
  | 0 => ⟨S16000x4, .f32⟩
  | 1 => ⟨S1x256x256x196, .f32⟩
  | 2 => ⟨S256x256x196, .f32⟩
  | 3 => ⟨S_, .f32⟩
  | 4 => ⟨S16000x4, .f32⟩
  | 5 => ⟨S16000x4, .f32⟩
  | 6 => ⟨S16000x1, .f32⟩
  | 7 => ⟨S16000, .f32⟩
  | 8 => ⟨S16000x1, .f32⟩
  | 9 => ⟨S16000, .f32⟩
  | 10 => ⟨S16000x1, .f32⟩
  | 11 => ⟨S16000, .f32⟩
  | 12 => ⟨S16000x1, .f32⟩
  | 13 => ⟨S16000, .f32⟩
  | 14 => ⟨S16000, .f32⟩
  | 15 => ⟨S_, .f32⟩
  | 16 => ⟨S16000, .f32⟩
  | 17 => ⟨S16000, .f32⟩
  | 18 => ⟨S16000, .f32⟩
  | 19 => ⟨S_, .f32⟩
  | 20 => ⟨S16000, .f32⟩
  | 21 => ⟨S16000, .f32⟩
  | 22 => ⟨S7, .f32⟩
  | 23 => ⟨S_, .f32⟩
  | 24 => ⟨S7, .f32⟩
  | 25 => ⟨S7, .f32⟩
  | 26 => ⟨S_, .f32⟩
  | 27 => ⟨S7, .f32⟩
  | 28 => ⟨S7, .f32⟩
  | 29 => ⟨S16000x1, .f32⟩
  | 30 => ⟨S1x7, .f32⟩
  | 31 => ⟨S16000x1, .f32⟩
  | 32 => ⟨S16000x7, .f32⟩
  | 33 => ⟨S16000x7, .f32⟩
  | 34 => ⟨S16000x7, .f32⟩
  | 35 => ⟨S16000x7, .f32⟩
  | 36 => ⟨S16000x7, .f32⟩
  | 37 => ⟨S_, .f32⟩
  | 38 => ⟨S_, .f32⟩
  | 39 => ⟨S_, .f32⟩
  | 40 => ⟨S16000x7, .f32⟩
  | 41 => ⟨S16000x7, .f32⟩
  | 42 => ⟨S_, .f32⟩
  | 43 => ⟨S16000x7, .f32⟩
  | 44 => ⟨S16000x7, .f32⟩
  | 45 => ⟨S16000x1, .f32⟩
  | 46 => ⟨S1x7, .f32⟩
  | 47 => ⟨S16000x1, .f32⟩
  | 48 => ⟨S16000x7, .f32⟩
  | 49 => ⟨S16000x7, .f32⟩
  | 50 => ⟨S16000x7, .f32⟩
  | 51 => ⟨S16000x7, .f32⟩
  | 52 => ⟨S16000x7, .f32⟩
  | 53 => ⟨S_, .f32⟩
  | 54 => ⟨S_, .f32⟩
  | 55 => ⟨S_, .f32⟩
  | 56 => ⟨S16000x7, .f32⟩
  | 57 => ⟨S16000x7, .f32⟩
  | 58 => ⟨S_, .f32⟩
  | 59 => ⟨S16000x7, .f32⟩
  | 60 => ⟨S16000x7, .f32⟩
  | 61 => ⟨S16000x7, .f32⟩
  | 62 => ⟨S16000x7, .f32⟩
  | 63 => ⟨S16000x7, .f32⟩
  | 64 => ⟨S16000x7, .f32⟩
  | 65 => ⟨S16000x7, .i32⟩
  | 66 => ⟨S16000x7, .i32⟩
  | 67 => ⟨S_, .i32⟩
  | 68 => ⟨S16000x7, .i32⟩
  | 69 => ⟨S16000x7, .i32⟩
  | 70 => ⟨S_, .i32⟩
  | 71 => ⟨S16000x7, .i32⟩
  | 72 => ⟨S16000x7, .i32⟩
  | 73 => ⟨S_, .i32⟩
  | 74 => ⟨S16000x7, .i32⟩
  | 75 => ⟨S16000x7, .i32⟩
  | 76 => ⟨S_, .i32⟩
  | 77 => ⟨S16000x7, .i32⟩
  | 78 => ⟨S16000x7, .i32⟩
  | 79 => ⟨S256x256x4x7x7, .f32⟩
  | 80 => ⟨S7x7x4x256x256, .f32⟩
  | 81 => ⟨S7, .i32⟩
  | 82 => ⟨S_, .f32⟩
  | 83 => ⟨S16000x7, .f32⟩
  | 84 => ⟨S16000x7, .f32⟩
  | 85 => ⟨S16000x7x1, .f32⟩
  | 86 => ⟨S_, .f32⟩
  | 87 => ⟨S16000x7, .f32⟩
  | 88 => ⟨S16000x7, .f32⟩
  | 89 => ⟨S16000x1x7, .f32⟩
  | 90 => ⟨S16000x7x7, .f32⟩
  | 91 => ⟨S16000x7x7, .f32⟩
  | 92 => ⟨S16000x7x7, .f32⟩
  | 93 => ⟨S16000x7x7x1, .f32⟩
  | 94 => ⟨S_, .f32⟩
  | 95 => ⟨S16000x7, .f32⟩
  | 96 => ⟨S16000x7, .f32⟩
  | 97 => ⟨S16000x7x1, .f32⟩
  | 98 => ⟨S16000x1x7, .f32⟩
  | 99 => ⟨S16000x7x7, .f32⟩
  | 100 => ⟨S16000x7x7, .f32⟩
  | 101 => ⟨S16000x7x7, .f32⟩
  | 102 => ⟨S16000x7x7x1, .f32⟩
  | 103 => ⟨S16000x7x1, .f32⟩
  | 104 => ⟨S_, .f32⟩
  | 105 => ⟨S16000x7, .f32⟩
  | 106 => ⟨S16000x7, .f32⟩
  | 107 => ⟨S16000x1x7, .f32⟩
  | 108 => ⟨S16000x7x7, .f32⟩
  | 109 => ⟨S16000x7x7, .f32⟩
  | 110 => ⟨S16000x7x7, .f32⟩
  | 111 => ⟨S16000x7x7x1, .f32⟩
  | 112 => ⟨S16000x7x1, .f32⟩
  | 113 => ⟨S16000x1x7, .f32⟩
  | 114 => ⟨S16000x7x7, .f32⟩
  | 115 => ⟨S16000x7x7, .f32⟩
  | 116 => ⟨S16000x7x7, .f32⟩
  | 117 => ⟨S16000x7x7x1, .f32⟩
  | 118 => ⟨S1x7x1, .i32⟩
  | 119 => ⟨S1x1x7, .i32⟩
  | 120 => ⟨S16000x7x1, .i32⟩
  | 121 => ⟨S16000x1x7, .i32⟩
  | 122 => ⟨S_, .i32⟩
  | 123 => ⟨S1x7x1, .i32⟩
  | 124 => ⟨S1x7x1, .i1⟩
  | 125 => ⟨S_, .i32⟩
  | 126 => ⟨S1x7x1, .i32⟩
  | 127 => ⟨S1x7x1, .i32⟩
  | _ => ⟨S16000x4, .f32⟩

abbrev hbmTy0_1 (i : Nat) : BufTy := match i % 128 with
  | 0 => ⟨S1x7x1, .i32⟩
  | 1 => ⟨S_, .i32⟩
  | 2 => ⟨S1x1x7, .i32⟩
  | 3 => ⟨S1x1x7, .i1⟩
  | 4 => ⟨S_, .i32⟩
  | 5 => ⟨S1x1x7, .i32⟩
  | 6 => ⟨S1x1x7, .i32⟩
  | 7 => ⟨S1x1x7, .i32⟩
  | 8 => ⟨S_, .i32⟩
  | 9 => ⟨S16000x7x1, .i32⟩
  | 10 => ⟨S16000x7x1, .i1⟩
  | 11 => ⟨S_, .i32⟩
  | 12 => ⟨S16000x7x1, .i32⟩
  | 13 => ⟨S16000x7x1, .i32⟩
  | 14 => ⟨S16000x7x1, .i32⟩
  | 15 => ⟨S_, .i32⟩
  | 16 => ⟨S16000x1x7, .i32⟩
  | 17 => ⟨S16000x1x7, .i1⟩
  | 18 => ⟨S_, .i32⟩
  | 19 => ⟨S16000x1x7, .i32⟩
  | 20 => ⟨S16000x1x7, .i32⟩
  | 21 => ⟨S16000x1x7, .i32⟩
  | 22 => ⟨S16000x7x7, .i32⟩
  | 23 => ⟨S16000x7x7, .i32⟩
  | 24 => ⟨S16000x7x7, .i32⟩
  | 25 => ⟨S16000x7x7, .i32⟩
  | 26 => ⟨S16000x7x7x1, .i32⟩
  | 27 => ⟨S16000x7x7x1, .i32⟩
  | 28 => ⟨S16000x7x7x1, .i32⟩
  | 29 => ⟨S16000x7x7x1, .i32⟩
  | 30 => ⟨S16000x7x7x4, .i32⟩
  | 31 => ⟨S16000x7x7x4, .f32⟩
  | 32 => ⟨S16000x7x7x4, .f32⟩
  | 33 => ⟨S16000x7x7x4, .f32⟩
  | 34 => ⟨S1x7x1, .i32⟩
  | 35 => ⟨S1x1x7, .i32⟩
  | 36 => ⟨S16000x7x1, .i32⟩
  | 37 => ⟨S16000x1x7, .i32⟩
  | 38 => ⟨S_, .i32⟩
  | 39 => ⟨S1x7x1, .i32⟩
  | 40 => ⟨S1x7x1, .i1⟩
  | 41 => ⟨S_, .i32⟩
  | 42 => ⟨S1x7x1, .i32⟩
  | 43 => ⟨S1x7x1, .i32⟩
  | 44 => ⟨S1x7x1, .i32⟩
  | 45 => ⟨S_, .i32⟩
  | 46 => ⟨S1x1x7, .i32⟩
  | 47 => ⟨S1x1x7, .i1⟩
  | 48 => ⟨S_, .i32⟩
  | 49 => ⟨S1x1x7, .i32⟩
  | 50 => ⟨S1x1x7, .i32⟩
  | 51 => ⟨S1x1x7, .i32⟩
  | 52 => ⟨S_, .i32⟩
  | 53 => ⟨S16000x7x1, .i32⟩
  | 54 => ⟨S16000x7x1, .i1⟩
  | 55 => ⟨S_, .i32⟩
  | 56 => ⟨S16000x7x1, .i32⟩
  | 57 => ⟨S16000x7x1, .i32⟩
  | 58 => ⟨S16000x7x1, .i32⟩
  | 59 => ⟨S_, .i32⟩
  | 60 => ⟨S16000x1x7, .i32⟩
  | 61 => ⟨S16000x1x7, .i1⟩
  | 62 => ⟨S_, .i32⟩
  | 63 => ⟨S16000x1x7, .i32⟩
  | 64 => ⟨S16000x1x7, .i32⟩
  | 65 => ⟨S16000x1x7, .i32⟩
  | 66 => ⟨S16000x7x7, .i32⟩
  | 67 => ⟨S16000x7x7, .i32⟩
  | 68 => ⟨S16000x7x7, .i32⟩
  | 69 => ⟨S16000x7x7, .i32⟩
  | 70 => ⟨S16000x7x7x1, .i32⟩
  | 71 => ⟨S16000x7x7x1, .i32⟩
  | 72 => ⟨S16000x7x7x1, .i32⟩
  | 73 => ⟨S16000x7x7x1, .i32⟩
  | 74 => ⟨S16000x7x7x4, .i32⟩
  | 75 => ⟨S16000x7x7x4, .f32⟩
  | 76 => ⟨S16000x7x7x4, .f32⟩
  | 77 => ⟨S16000x7x7x4, .f32⟩
  | 78 => ⟨S16000x7x7x4, .f32⟩
  | 79 => ⟨S1x7x1, .i32⟩
  | 80 => ⟨S1x1x7, .i32⟩
  | 81 => ⟨S16000x7x1, .i32⟩
  | 82 => ⟨S16000x1x7, .i32⟩
  | 83 => ⟨S_, .i32⟩
  | 84 => ⟨S1x7x1, .i32⟩
  | 85 => ⟨S1x7x1, .i1⟩
  | 86 => ⟨S_, .i32⟩
  | 87 => ⟨S1x7x1, .i32⟩
  | 88 => ⟨S1x7x1, .i32⟩
  | 89 => ⟨S1x7x1, .i32⟩
  | 90 => ⟨S_, .i32⟩
  | 91 => ⟨S1x1x7, .i32⟩
  | 92 => ⟨S1x1x7, .i1⟩
  | 93 => ⟨S_, .i32⟩
  | 94 => ⟨S1x1x7, .i32⟩
  | 95 => ⟨S1x1x7, .i32⟩
  | 96 => ⟨S1x1x7, .i32⟩
  | 97 => ⟨S_, .i32⟩
  | 98 => ⟨S16000x7x1, .i32⟩
  | 99 => ⟨S16000x7x1, .i1⟩
  | 100 => ⟨S_, .i32⟩
  | 101 => ⟨S16000x7x1, .i32⟩
  | 102 => ⟨S16000x7x1, .i32⟩
  | 103 => ⟨S16000x7x1, .i32⟩
  | 104 => ⟨S_, .i32⟩
  | 105 => ⟨S16000x1x7, .i32⟩
  | 106 => ⟨S16000x1x7, .i1⟩
  | 107 => ⟨S_, .i32⟩
  | 108 => ⟨S16000x1x7, .i32⟩
  | 109 => ⟨S16000x1x7, .i32⟩
  | 110 => ⟨S16000x1x7, .i32⟩
  | 111 => ⟨S16000x7x7, .i32⟩
  | 112 => ⟨S16000x7x7, .i32⟩
  | 113 => ⟨S16000x7x7, .i32⟩
  | 114 => ⟨S16000x7x7, .i32⟩
  | 115 => ⟨S16000x7x7x1, .i32⟩
  | 116 => ⟨S16000x7x7x1, .i32⟩
  | 117 => ⟨S16000x7x7x1, .i32⟩
  | 118 => ⟨S16000x7x7x1, .i32⟩
  | 119 => ⟨S16000x7x7x4, .i32⟩
  | 120 => ⟨S16000x7x7x4, .f32⟩
  | 121 => ⟨S16000x7x7x4, .f32⟩
  | 122 => ⟨S16000x7x7x4, .f32⟩
  | 123 => ⟨S16000x7x7x4, .f32⟩
  | 124 => ⟨S1x7x1, .i32⟩
  | 125 => ⟨S1x1x7, .i32⟩
  | 126 => ⟨S16000x7x1, .i32⟩
  | 127 => ⟨S16000x1x7, .i32⟩
  | _ => ⟨S16000x4, .f32⟩

abbrev hbmTy0_2 (i : Nat) : BufTy := match i % 128 with
  | 0 => ⟨S_, .i32⟩
  | 1 => ⟨S1x7x1, .i32⟩
  | 2 => ⟨S1x7x1, .i1⟩
  | 3 => ⟨S_, .i32⟩
  | 4 => ⟨S1x7x1, .i32⟩
  | 5 => ⟨S1x7x1, .i32⟩
  | 6 => ⟨S1x7x1, .i32⟩
  | 7 => ⟨S_, .i32⟩
  | 8 => ⟨S1x1x7, .i32⟩
  | 9 => ⟨S1x1x7, .i1⟩
  | 10 => ⟨S_, .i32⟩
  | 11 => ⟨S1x1x7, .i32⟩
  | 12 => ⟨S1x1x7, .i32⟩
  | 13 => ⟨S1x1x7, .i32⟩
  | 14 => ⟨S_, .i32⟩
  | 15 => ⟨S16000x7x1, .i32⟩
  | 16 => ⟨S16000x7x1, .i1⟩
  | 17 => ⟨S_, .i32⟩
  | 18 => ⟨S16000x7x1, .i32⟩
  | 19 => ⟨S16000x7x1, .i32⟩
  | 20 => ⟨S16000x7x1, .i32⟩
  | 21 => ⟨S_, .i32⟩
  | 22 => ⟨S16000x1x7, .i32⟩
  | 23 => ⟨S16000x1x7, .i1⟩
  | 24 => ⟨S_, .i32⟩
  | 25 => ⟨S16000x1x7, .i32⟩
  | 26 => ⟨S16000x1x7, .i32⟩
  | 27 => ⟨S16000x1x7, .i32⟩
  | 28 => ⟨S16000x7x7, .i32⟩
  | 29 => ⟨S16000x7x7, .i32⟩
  | 30 => ⟨S16000x7x7, .i32⟩
  | 31 => ⟨S16000x7x7, .i32⟩
  | 32 => ⟨S16000x7x7x1, .i32⟩
  | 33 => ⟨S16000x7x7x1, .i32⟩
  | 34 => ⟨S16000x7x7x1, .i32⟩
  | 35 => ⟨S16000x7x7x1, .i32⟩
  | 36 => ⟨S16000x7x7x4, .i32⟩
  | 37 => ⟨S16000x7x7x4, .f32⟩
  | 38 => ⟨S16000x7x7x4, .f32⟩
  | 39 => ⟨S16000x7x7x4, .f32⟩
  | 40 => ⟨S16000x7x7x4, .f32⟩
  | 41 => ⟨S16000x4x7x7, .f32⟩
  | 42 => ⟨S16000x2x2x7x7, .f32⟩
  | 43 => ⟨S16000x2x7x7x2, .f32⟩
  | 44 => ⟨S_, .f32⟩
  | 45 => ⟨S16000x2x7x7, .f32⟩
  | 46 => ⟨S_, .f32⟩
  | 47 => ⟨S16000x2x7x7, .f32⟩
  | 48 => ⟨S16000x2x7x7, .f32⟩
  | 49 => ⟨S16000x2x7x7x1, .f32⟩
  | 50 => ⟨S16000x2x7x7x2, .f32⟩
  | 51 => ⟨S16000x2x7x7x2, .f32⟩
  | 52 => ⟨S16000x2x7x7x2, .f32⟩
  | 53 => ⟨S_, .f32⟩
  | 54 => ⟨S16000x2x7x7, .f32⟩
  | 55 => ⟨S16000x2x7x7x1, .f32⟩
  | 56 => ⟨S16000x2x7x7x2, .f32⟩
  | 57 => ⟨S16000x2x7x7x2, .f32⟩
  | 58 => ⟨S_, .f32⟩
  | 59 => ⟨S16000x2x7x7, .f32⟩
  | 60 => ⟨S16000x2x49, .f32⟩
  | 61 => ⟨S_, .f32⟩
  | 62 => ⟨S16000x2, .f32⟩
  | 63 => ⟨S_, .f32⟩
  | 64 => ⟨S16000x2, .f32⟩
  | 65 => ⟨S16000x2, .f32⟩
  | 66 => ⟨S_, .f32⟩
  | 67 => ⟨S16000, .f32⟩
  | 68 => ⟨S_, .f32⟩
  | 69 => ⟨S16000, .f32⟩
  | 70 => ⟨S16000, .f32⟩
  | 71 => ⟨S16000x1, .f32⟩
  | 72 => ⟨S16000x2, .f32⟩
  | 73 => ⟨S16000x2, .f32⟩
  | 74 => ⟨S16000x2, .f32⟩
  | 75 => ⟨S_, .f32⟩
  | 76 => ⟨S16000, .f32⟩
  | 77 => ⟨S16000x1, .f32⟩
  | 78 => ⟨S16000x2, .f32⟩
  | 79 => ⟨S16000x2, .f32⟩
  | 80 => ⟨S16000x2, .i32⟩
  | 81 => ⟨S_, .f32⟩
  | 82 => ⟨S_, .i32⟩
  | 83 => ⟨S16000, .f32⟩
  | 84 => ⟨S16000, .i32⟩
  | 85 => ⟨S_, .f32⟩
  | 86 => ⟨S16000, .f32⟩
  | 87 => ⟨S16000, .i32⟩
  | 88 => ⟨S_, .i32⟩
  | 89 => ⟨S16000, .i32⟩
  | 90 => ⟨S16000, .i1⟩
  | 91 => ⟨S_, .i32⟩
  | 92 => ⟨S16000, .i32⟩
  | 93 => ⟨S16000, .i32⟩
  | 94 => ⟨S16000, .i32⟩
  | 95 => ⟨S_, .i32⟩
  | 96 => ⟨S16000, .i32⟩
  | 97 => ⟨S16000, .i1⟩
  | 98 => ⟨S_, .i32⟩
  | 99 => ⟨S16000, .i32⟩
  | 100 => ⟨S16000, .i32⟩
  | 101 => ⟨S16000, .i32⟩
  | 102 => ⟨S16000x1, .i32⟩
  | 103 => ⟨S16000x1, .i32⟩
  | 104 => ⟨S16000x2, .i32⟩
  | 105 => ⟨S16000x7x7x2, .f32⟩
  | 106 => ⟨S16000x1, .i32⟩
  | _ => ⟨S16000x4, .f32⟩

abbrev hbmTy (i : Nat) : BufTy := match i / 128 with
  | 0 => hbmTy0_0 i
  | 1 => hbmTy0_1 i
  | 2 => hbmTy0_2 i
  | _ => ⟨S16000x4, .f32⟩

abbrev bufTy : (tb : Table) → Fin (tcTables nBuf tb) → BufTy
  | .hbm, ⟨i, _⟩ => hbmTy i
  | _, _ => ⟨S16000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_15 : Ref sig .tc := ⟨.hbm, 122, rfl⟩
abbrev main_v93 : Ref sig .tc := ⟨.hbm, 123, rfl⟩
abbrev main_v94 : Ref sig .tc := ⟨.hbm, 124, rfl⟩
abbrev main_c_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_17 : Ref sig .tc := ⟨.hbm, 129, rfl⟩
abbrev main_v98 : Ref sig .tc := ⟨.hbm, 130, rfl⟩
abbrev main_v99 : Ref sig .tc := ⟨.hbm, 131, rfl⟩
abbrev main_c_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_c_23 : Ref sig .tc := ⟨.hbm, 166, rfl⟩
abbrev main_v129 : Ref sig .tc := ⟨.hbm, 167, rfl⟩
abbrev main_v130 : Ref sig .tc := ⟨.hbm, 168, rfl⟩
abbrev main_c_24 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_25 : Ref sig .tc := ⟨.hbm, 173, rfl⟩
abbrev main_v134 : Ref sig .tc := ⟨.hbm, 174, rfl⟩
abbrev main_v135 : Ref sig .tc := ⟨.hbm, 175, rfl⟩
abbrev main_c_26 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_27 : Ref sig .tc := ⟨.hbm, 180, rfl⟩
abbrev main_v139 : Ref sig .tc := ⟨.hbm, 181, rfl⟩
abbrev main_v140 : Ref sig .tc := ⟨.hbm, 182, rfl⟩
abbrev main_c_28 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_c_29 : Ref sig .tc := ⟨.hbm, 187, rfl⟩
abbrev main_v144 : Ref sig .tc := ⟨.hbm, 188, rfl⟩
abbrev main_v145 : Ref sig .tc := ⟨.hbm, 189, rfl⟩
abbrev main_c_30 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_31 : Ref sig .tc := ⟨.hbm, 211, rfl⟩
abbrev main_v166 : Ref sig .tc := ⟨.hbm, 212, rfl⟩
abbrev main_v167 : Ref sig .tc := ⟨.hbm, 213, rfl⟩
abbrev main_c_32 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_c_33 : Ref sig .tc := ⟨.hbm, 218, rfl⟩
abbrev main_v171 : Ref sig .tc := ⟨.hbm, 219, rfl⟩
abbrev main_v172 : Ref sig .tc := ⟨.hbm, 220, rfl⟩
abbrev main_c_34 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_c_35 : Ref sig .tc := ⟨.hbm, 225, rfl⟩
abbrev main_v176 : Ref sig .tc := ⟨.hbm, 226, rfl⟩
abbrev main_v177 : Ref sig .tc := ⟨.hbm, 227, rfl⟩
abbrev main_c_36 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_37 : Ref sig .tc := ⟨.hbm, 232, rfl⟩
abbrev main_v181 : Ref sig .tc := ⟨.hbm, 233, rfl⟩
abbrev main_v182 : Ref sig .tc := ⟨.hbm, 234, rfl⟩
abbrev main_c_38 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_c_39 : Ref sig .tc := ⟨.hbm, 256, rfl⟩
abbrev main_v203 : Ref sig .tc := ⟨.hbm, 257, rfl⟩
abbrev main_v204 : Ref sig .tc := ⟨.hbm, 258, rfl⟩
abbrev main_c_40 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_c_41 : Ref sig .tc := ⟨.hbm, 263, rfl⟩
abbrev main_v208 : Ref sig .tc := ⟨.hbm, 264, rfl⟩
abbrev main_v209 : Ref sig .tc := ⟨.hbm, 265, rfl⟩
abbrev main_c_42 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_c_43 : Ref sig .tc := ⟨.hbm, 270, rfl⟩
abbrev main_v213 : Ref sig .tc := ⟨.hbm, 271, rfl⟩
abbrev main_v214 : Ref sig .tc := ⟨.hbm, 272, rfl⟩
abbrev main_c_44 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_c_45 : Ref sig .tc := ⟨.hbm, 277, rfl⟩
abbrev main_v218 : Ref sig .tc := ⟨.hbm, 278, rfl⟩
abbrev main_v219 : Ref sig .tc := ⟨.hbm, 279, rfl⟩
abbrev main_c_46 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_47 : Ref sig .tc := ⟨.hbm, 300, rfl⟩
abbrev main_v239 : Ref sig .tc := ⟨.hbm, 301, rfl⟩
abbrev main_cst_48 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_49 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_50 : Ref sig .tc := ⟨.hbm, 314, rfl⟩
abbrev main_v250 : Ref sig .tc := ⟨.hbm, 315, rfl⟩
abbrev main_v251 : Ref sig .tc := ⟨.hbm, 316, rfl⟩
abbrev main_cst_51 : Ref sig .tc := ⟨.hbm, 317, rfl⟩
abbrev main_v252 : Ref sig .tc := ⟨.hbm, 318, rfl⟩
abbrev main_cst_52 : Ref sig .tc := ⟨.hbm, 319, rfl⟩
abbrev main_v253 : Ref sig .tc := ⟨.hbm, 320, rfl⟩
abbrev main_v254 : Ref sig .tc := ⟨.hbm, 321, rfl⟩
abbrev main_cst_53 : Ref sig .tc := ⟨.hbm, 322, rfl⟩
abbrev main_v255 : Ref sig .tc := ⟨.hbm, 323, rfl⟩
abbrev main_cst_54 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_cst_55 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_call2_v0 : Ref sig .tc := ⟨.hbm, 336, rfl⟩
abbrev main_call2_cst : Ref sig .tc := ⟨.hbm, 337, rfl⟩
abbrev main_call2_c : Ref sig .tc := ⟨.hbm, 338, rfl⟩
abbrev main_call2_v1_0 : Ref sig .tc := ⟨.hbm, 339, rfl⟩
abbrev main_v266 : Ref sig .tc := ⟨.hbm, 340, rfl⟩
abbrev main_cst_56 : Ref sig .tc := ⟨.hbm, 341, rfl⟩
abbrev main_v267 : Ref sig .tc := ⟨.hbm, 342, rfl⟩
abbrev main_v268 : Ref sig .tc := ⟨.hbm, 343, rfl⟩
abbrev main_c_57 : Ref sig .tc := ⟨.hbm, 344, rfl⟩
abbrev main_v269 : Ref sig .tc := ⟨.hbm, 345, rfl⟩
abbrev main_v270 : Ref sig .tc := ⟨.hbm, 346, rfl⟩
abbrev main_c_58 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_c_59 : Ref sig .tc := ⟨.hbm, 351, rfl⟩
abbrev main_v274 : Ref sig .tc := ⟨.hbm, 352, rfl⟩
abbrev main_v275 : Ref sig .tc := ⟨.hbm, 353, rfl⟩
abbrev main_c_60 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩

abbrev nD : Nat := 1
abbrev τ : Topo := Topo.v7x

variable {F : FTy → Type} [FloatOps F]
-- ==== Proof.Fold.lean ====
/-
  One bin of one region of interest of the pooling kernel, and one region of interest, as programs of their own. The
  kernel's body is printed unrolled, 16 regions of 25 bins; here a bin is a program `bin` of the region's number `nl`
  and the bin's number `b`, and `rowEnd` is what the kernel does after a region's 25 bins. The side conditions and the
  load offsets of the printed body come in as parameters, since the print gives each bin its own names for them.
-/
module

public import proofs.«01_k».proof.Kernel

@[expose] public section

noncomputable section

namespace Cert.Fold

open Idealize.ShloMosaic Idealize.SL.Sem Cert.Kernel

theorem inb_smem {nl b : Nat} (hnl : nl < 16) (hb : b < 25) :
    ∀ a, (![0, nl, b] : Fin 3 → Nat) a + S1x1x1.size a ≤ S1x16x25.size a := by
  intro a; fin_cases a <;> simp <;> omega
theorem inb_row {b : Nat} (hb : b < 25) : ∀ a, (![b, 0] : Fin 2 → Nat) a + S1x128.size a ≤ S32x128.size a := by
  intro a; fin_cases a <;> simp <;> omega
theorem inb_out {nl : Nat} (hnl : nl < 16) : ∀ a, (![nl, 0, 0] : Fin 3 → Nat) a + S1x1x128.size a ≤ S16x1x128.size a := by
  intro a; fin_cases a <;> simp <;> omega
theorem inb_all : ∀ a, (![0, 0] : Fin 2 → Nat) a + S25x128.size a ≤ S32x128.size a := by decide
theorem numel1 : S1x1x1.numel = 1 := by decide
theorem pos_row : 0 < S1x128.numel := by decide
theorem pos_load : 0 < S16x128.numel := by decide
theorem pos_all : 0 < S25x128.numel := by decide
theorem pos_out : 0 < S1x1x128.numel := by decide
theorem rot : S16x128.Rotates 0 none := by decide
theorem sl16 : S16x128.Slices ![0, 0] S2x128 := by decide
theorem sl2a : S2x128.Slices ![0, 0] S1x128 := by decide
theorem sl2b : S2x128.Slices ![1, 0] S1x128 := by decide
theorem sc1 : S1x128.ShapeCasts S1x128 := by decide
theorem sc2 : S128.ShapeCasts S1x128 := by decide
theorem sc3 : S1x1x128.ShapeCasts S1x128 := by decide
theorem sc4 : S1x128.ShapeCasts S1x1x128 := by decide
theorem red : S25x128.Reduces [0] S128 := by decide
theorem iota1 : S25x128.Iotas .tc 32 [1] := by decide
theorem iota0 : S25x128.Iotas .tc 32 [0] := by decide
theorem lt32 : 1 < 32 := by decide
theorem bc : S25x128.Broadcasts S25x128 := by decide

variable {F : FTy → Type} [FloatOps F]
variable [Facts]

/-- Bin `b` of region of interest `nl`: four words read, two loads of 16 rows of the slab, the interpolated row stored. -/
def bin (arg2 : Memref sig .tc .smem S1x16x25 .i32) (arg3 : Memref sig .tc .smem S1x16x25 .i32)
    (arg4 : Memref sig .tc .smem S1x16x25 .f32) (arg5 : Memref sig .tc .smem S1x16x25 .f32)
    (arg8 : Memref sig .tc .vmem S66048x128 .f32) (arg9 : Memref sig .tc .vmem S32x128 .f32)
    (nl b : Nat)
    (chk0 : BitVec 32 → Prop) (dec0 : ∀ v, Decidable (chk0 v)) (off0 : BitVec 32 → Fin 2 → Nat)
    (inb0 : ∀ v, chk0 v → ∀ a, off0 v a + S16x128.size a ≤ S66048x128.size a)
    (chk1 : BitVec 32 → Prop) (dec1 : ∀ v, Decidable (chk1 v)) (off1 : BitVec 32 → Fin 2 → Nat)
    (inb1 : ∀ v, chk1 v → ∀ a, off1 v a + S16x128.size a ≤ S66048x128.size a)
    (hnl : nl < 16 := by decide) (hb : b < 25 := by decide) :
    Prog (TpuEff nD τ sig (Elt F) Λ₀ .tc) PUnit := do
  let v27 : Elt F .i32 ← smemLoad arg2 (Rect.unit (s := S1x16x25) ![0, nl, b] S1x1x1.size (inb_smem hnl hb)) numel1 rfl
  have hw0 : chk0 v27 := (← Prog.lift (TpuEff.assume (chk0 v27) (dec0 v27))).down
  let v28 : Elt F .i32 ← smemLoad arg3 (Rect.unit (s := S1x16x25) ![0, nl, b] S1x1x1.size (inb_smem hnl hb)) numel1 rfl
  have hw1 : chk1 v28 := (← Prog.lift (TpuEff.assume (chk1 v28) (dec1 v28))).down
  let v29 : Elt F .f32 ← smemLoad arg4 (Rect.unit (s := S1x16x25) ![0, nl, b] S1x1x1.size (inb_smem hnl hb)) numel1 rfl
  let v30 : Elt F .f32 ← smemLoad arg5 (Rect.unit (s := S1x16x25) ![0, nl, b] S1x1x1.size (inb_smem hnl hb)) numel1 rfl
  let v38 : Vec F S16x128 .f32 ← Prog.lift (.load arg8 (Rect.unit (s := S66048x128) (off0 v27) S16x128.size (inb0 v27 hw0)).toLoadRect (View.loadsAt_vmem pos_load))
  let v40 : Vec F S16x128 .f32 ← Prog.lift (.load arg8 (Rect.unit (s := S66048x128) (off1 v28) S16x128.size (inb1 v28 hw1)).toLoadRect (View.loadsAt_vmem pos_load))
  let c7_i32 : BitVec 32 := 7#32
  let v41 : BitVec 32 := Scalar.andi v27 c7_i32
  let c0_i32_21 : BitVec 32 := 0#32
  let v42 : BitVec 32 := Scalar.subi c0_i32_21 v41
  have v43 : FVec F S16x128 .f32 := dynamicRotate 0 v42 none v38 rot
  let v44 : BitVec 32 := Scalar.andi v28 c7_i32
  let v45 : BitVec 32 := Scalar.subi c0_i32_21 v44
  have v46 : FVec F S16x128 .f32 := dynamicRotate 0 v45 none v40 rot
  have v47 : FVec F S2x128 .f32 := extractStridedSlice S2x128 ![0, 0] v43 sl16
  have cst : F .f32 := Scalar.ofBits .f32 0x3F800000#32
  have v48 : F .f32 := Scalar.subf cst v30
  have v49 : FVec F S2x128 .f32 := broadcast S2x128 v48
  have v50 : FVec F S2x128 .f32 := mulf v47 v49
  have v51 : FVec F S2x128 .f32 := extractStridedSlice S2x128 ![0, 0] v46 sl16
  have v52 : FVec F S2x128 .f32 := broadcast S2x128 v30
  have v53 : FVec F S2x128 .f32 := mulf v51 v52
  have v54 : FVec F S2x128 .f32 := addf v50 v53
  have v55 : FVec F S1x128 .f32 := extractStridedSlice S1x128 ![0, 0] v54 sl2a
  have v56 : F .f32 := Scalar.subf cst v29
  have v57 : FVec F S1x128 .f32 := broadcast S1x128 v56
  have v58 : FVec F S1x128 .f32 := mulf v55 v57
  have v59 : FVec F S1x128 .f32 := extractStridedSlice S1x128 ![1, 0] v54 sl2b
  have v60 : FVec F S1x128 .f32 := broadcast S1x128 v29
  have v61 : FVec F S1x128 .f32 := mulf v59 v60
  have v62 : FVec F S1x128 .f32 := addf v58 v61
  let _v63 : Vec F S1x128 .f32 ← Prog.lift (.load arg9 (Rect.unit (s := S32x128) ![b, 0] S1x128.size (inb_row hb)).toLoadRect (View.loadsAt_vmem pos_row))
  have v65 : FVec F S1x128 .f32 := shapeCast S1x128 v62 sc1
  Prog.lift (.store arg9 (Rect.unit (s := S32x128) ![b, 0] S1x128.size (inb_row hb)) v65 Finset.univ (View.stores_vmem_bits_univ pos_row rfl) (.inl rfl))

/-- What follows the 25 bins of region `nl`: the 25 rows times the mask `v26`, summed, stored as row `nl` of the result's block. -/
def rowEnd (arg7 : Memref sig .tc .vmem S16x1x128 .f32) (arg9 : Memref sig .tc .vmem S32x128 .f32) (v26 : FVec F S25x128 .f32)
    (nl : Nat) (hnl : nl < 16 := by decide) : Prog (TpuEff nD τ sig (Elt F) Λ₀ .tc) PUnit := do
  let v1002 : Vec F S25x128 .f32 ← Prog.lift (.load arg9 (Rect.unit (s := S32x128) ![0, 0] S25x128.size inb_all).toLoadRect (View.loadsAt_vmem pos_all))
  have v1003 : FVec F S25x128 .f32 := mulf v1002 v26
  have v1004 : FVec F S128 .f32 := multiReduction .add [0] S128 v1003 0x00000000#32 red (.inl rfl) rfl
  have v1005 : FVec F S1x128 .f32 := shapeCast S1x128 v1004 sc2
  let _v1006 : Vec F S1x1x128 .f32 ← Prog.lift (.load arg7 (Rect.unit (s := S16x1x128) ![nl, 0, 0] S1x1x128.size (inb_out hnl)).toLoadRect (View.loadsAt_vmem pos_out))
  have v1008 : FVec F S1x1x128 .f32 := shapeCast S1x1x128 v1005 sc4
  Prog.lift (.store arg7 (Rect.unit (s := S16x1x128) ![nl, 0, 0] S1x1x128.size (inb_out hnl)) v1008 Finset.univ (View.stores_vmem_bits_univ pos_out rfl) (.inl rfl))

/-- The mask: 1 where the lane is below 100 and leaves the row's number on division by 25, 0 elsewhere. -/
def mask : FVec F S25x128 .f32 :=
  have v3 : IVec S25x128 32 := iota .tc S25x128 32 [1] iota1
  have v4 : IVec S25x128 32 := iota .tc S25x128 32 [0] iota0
  let c25_i32 : BitVec 32 := 25#32
  let c0_i32_1 : BitVec 32 := 0#32
  let v5 : BitVec 1 := Scalar.cmpi .eq c25_i32 c0_i32_1
  let c1_i32 : BitVec 32 := 1#32
  let v6 : BitVec 32 := Scalar.select v5 c1_i32 c25_i32
  have v7 : IVec S25x128 32 := broadcast S25x128 v6
  have v8 : IVec S25x128 32 := remsi v3 v7
  have v9 : IVec S25x128 32 := broadcast S25x128 c0_i32_1
  have v10 : IVec S25x128 1 := cmpi .ne v8 v9
  have v11 : IVec S25x128 32 := broadcast S25x128 c0_i32_1
  have v12 : IVec S25x128 1 := cmpi .slt v8 v11
  let v13 : BitVec 1 := Scalar.cmpi .slt v6 c0_i32_1
  have v14 : IVec S25x128 1 := broadcast S25x128 v13
  have v15 : IVec S25x128 1 := broadcastTo S25x128 v14 bc
  have v16 : IVec S25x128 1 := xori v12 v15
  have v17 : IVec S25x128 1 := andi v16 v10
  have v18 : IVec S25x128 32 := broadcast S25x128 v6
  have v19 : IVec S25x128 32 := addi v8 v18
  have v20 : IVec S25x128 32 := select v17 v19 v8
  have v21 : IVec S25x128 1 := cmpi .eq v20 v4
  let c100_i32 : BitVec 32 := 100#32
  have v22 : IVec S25x128 32 := broadcast S25x128 c100_i32
  have v23 : IVec S25x128 1 := cmpi .slt v3 v22
  have v24 : IVec S25x128 1 := andi v21 v23
  have v25 : IVec S25x128 32 := extui 32 v24 lt32
  sitofp .f32 v25

end Cert.Fold

end
-- ==== Proof.Body.lean ====
/-
  The pooling kernel's body written with `bin` and `rowEnd`: one definition per region of interest (`row0` … `row15`) and the
  whole body. Every bin names its own side conditions and offsets, as printed.
-/
module

public import proofs.«01_k».proof.Kernel
public import proofs.«01_k».proof.Proof.Fold

@[expose] public section

noncomputable section

namespace Cert.Fold

open Idealize.ShloMosaic Idealize.SL.Sem Cert.Kernel

variable {F : FTy → Type} [FloatOps F] [Facts]
variable (arg2 : Memref sig .tc .smem S1x16x25 .i32) (arg3 : Memref sig .tc .smem S1x16x25 .i32)
  (arg4 : Memref sig .tc .smem S1x16x25 .f32) (arg5 : Memref sig .tc .smem S1x16x25 .f32)
  (arg7 : Memref sig .tc .vmem S16x1x128 .f32) (arg8 : Memref sig .tc .vmem S66048x128 .f32) (arg9 : Memref sig .tc .vmem S32x128 .f32)
  (msk : FVec F S25x128 .f32)

/-- A program of the pooling kernel's core. -/
abbrev P (F : FTy → Type) := Prog (TpuEff nD τ sig (Elt F) Λ₀ .tc) PUnit

/-- Region of interest 0 of the grid point. -/
def row0 : P F := do
  bin arg2 arg3 arg4 arg5 arg8 arg9 0 0 k0_chk1 k0_chk1.dec k0_off2 k0_off2_inb k0_chk2 k0_chk2.dec k0_off3 k0_off3_inb
  bin arg2 arg3 arg4 arg5 arg8 arg9 0 1 k0_chk3 k0_chk3.dec k0_off4 k0_off4_inb k0_chk4 k0_chk4.dec k0_off5 k0_off5_inb
  bin arg2 arg3 arg4 arg5 arg8 arg9 0 2 k0_chk5 k0_chk5.dec k0_off6 k0_off6_inb k0_chk6 k0_chk6.dec k0_off7 k0_off7_inb
  bin arg2 arg3 arg4 arg5 arg8 arg9 0 3 k0_chk7 k0_chk7.dec k0_off8 k0_off8_inb k0_chk8 k0_chk8.dec k0_off9 k0_off9_inb
  bin arg2 arg3 arg4 arg5 arg8 arg9 0 4 k0_chk9 k0_chk9.dec k0_off10 k0_off10_inb k0_chk10 k0_chk10.dec k0_off11 k0_off11_inb
  bin arg2 arg3 arg4 arg5 arg8 arg9 0 5 k0_chk11 k0_chk11.dec k0_off12 k0_off12_inb k0_chk12 k0_chk12.dec k0_off13 k0_off13_inb
  bin arg2 arg3 arg4 arg5 arg8 arg9 0 6 k0_chk13 k0_chk13.dec k0_off14 k0_off14_inb k0_chk14 k0_chk14.dec k0_off15 k0_off15_inb
  bin arg2 arg3 arg4 arg5 arg8 arg9 0 7 k0_chk15 k0_chk15.dec k0_off16 k0_off16_inb k0_chk16 k0_chk16.dec k0_off17 k0_off17_inb
  bin arg2 arg3 arg4 arg5 arg8 arg9 0 8 k0_chk17 k0_chk17.dec k0_off18 k0_off18_inb k0_chk18 k0_chk18.dec k0_off19 k0_off19_inb
  bin arg2 arg3 arg4 arg5 arg8 arg9 0 9 k0_chk19 k0_chk19.dec k0_off20 k0_off20_inb k0_chk20 k0_chk20.dec k0_off21 k0_off21_inb
  bin arg2 arg3 arg4 arg5 arg8 arg9 0 10 k0_chk21 k0_chk21.dec k0_off22 k0_off22_inb k0_chk22 k0_chk22.dec k0_off23 k0_off23_inb
  bin arg2 arg3 arg4 arg5 arg8 arg9 0 11 k0_chk23 k0_chk23.dec k0_off24 k0_off24_inb k0_chk24 k0_chk24.dec k0_off25 k0_off25_inb
  bin arg2 arg3 arg4 arg5 arg8 arg9 0 12 k0_chk25 k0_chk25.dec k0_off26 k0_off26_inb k0_chk26 k0_chk26.dec k0_off27 k0_off27_inb
  bin arg2 arg3 arg4 arg5 arg8 arg9 0 13 k0_chk27 k0_chk27.dec k0_off28 k0_off28_inb k0_chk28 k0_chk28.dec k0_off29 k0_off29_inb
  bin arg2 arg3 arg4 arg5 arg8 arg9 0 14 k0_chk29 k0_chk29.dec k0_off30 k0_off30_inb k0_chk30 k0_chk30.dec k0_off31 k0_off31_inb
  bin arg2 arg3 arg4 arg5 arg8 arg9 0 15 k0_chk31 k0_chk31.dec k0_off32 k0_off32_inb k0_chk32 k0_chk32.dec k0_off33 k0_off33_inb
  bin arg2 arg3 arg4 arg5 arg8 arg9 0 16 k0_chk33 k0_chk33.dec k0_off34 k0_off34_inb k0_chk34 k0_chk34.dec k0_off35 k0_off35_inb
  bin arg2 arg3 arg4 arg5 arg8 arg9 0 17 k0_chk35 k0_chk35.dec k0_off36 k0_off36_inb k0_chk36 k0_chk36.dec k0_off37 k0_off37_inb
  bin arg2 arg3 arg4 arg5 arg8 arg9 0 18 k0_chk37 k0_chk37.dec k0_off38 k0_off38_inb k0_chk38 k0_chk38.dec k0_off39 k0_off39_inb
  bin arg2 arg3 arg4 arg5 arg8 arg9 0 19 k0_chk39 k0_chk39.dec k0_off40 k0_off40_inb k0_chk40 k0_chk40.dec k0_off41 k0_off41_inb
  bin arg2 arg3 arg4 arg5 arg8 arg9 0 20 k0_chk41 k0_chk41.dec k0_off42 k0_off42_inb k0_chk42 k0_chk42.dec k0_off43 k0_off43_inb
  bin arg2 arg3 arg4 arg5 arg8 arg9 0 21 k0_chk43 k0_chk43.dec k0_off44 k0_off44_inb k0_chk44 k0_chk44.dec k0_off45 k0_off45_inb
  bin arg2 arg3 arg4 arg5 arg8 arg9 0 22 k0_chk45 k0_chk45.dec k0_off46 k0_off46_inb k0_chk46 k0_chk46.dec k0_off47 k0_off47_inb
  bin arg2 arg3 arg4 arg5 arg8 arg9 0 23 k0_chk47 k0_chk47.dec k0_off48 k0_off48_inb k0_chk48 k0_chk48.dec k0_off49 k0_off49_inb
  bin arg2 arg3 arg4 arg5 arg8 arg9 0 24 k0_chk49 k0_chk49.dec k0_off50 k0_off50_inb k0_chk50 k0_chk50.dec k0_off51 k0_off51_inb
  rowEnd arg7 arg9 msk 0

/-- Region of interest 1 of the grid point. -/
def row1 : P F := do
  bin arg2 arg3 arg4 arg5 arg8 arg9 1 0 k0_chk51 k0_chk51.dec k0_off52 k0_off52_inb k0_chk52 k0_chk52.dec k0_off53 k0_off53_inb
  bin arg2 arg3 arg4 arg5 arg8 arg9 1 1 k0_chk53 k0_chk53.dec k0_off54 k0_off54_inb k0_chk54 k0_chk54.dec k0_off55 k0_off55_inb
  bin arg2 arg3 arg4 arg5 arg8 arg9 1 2 k0_chk55 k0_chk55.dec k0_off56 k0_off56_inb k0_chk56 k0_chk56.dec k0_off57 k0_off57_inb
  bin arg2 arg3 arg4 arg5 arg8 arg9 1 3 k0_chk57 k0_chk57.dec k0_off58 k0_off58_inb k0_chk58 k0_chk58.dec k0_off59 k0_off59_inb
  bin arg2 arg3 arg4 arg5 arg8 arg9 1 4 k0_chk59 k0_chk59.dec k0_off60 k0_off60_inb k0_chk60 k0_chk60.dec k0_off61 k0_off61_inb
  bin arg2 arg3 arg4 arg5 arg8 arg9 1 5 k0_chk61 k0_chk61.dec k0_off62 k0_off62_inb k0_chk62 k0_chk62.dec k0_off63 k0_off63_inb
  bin arg2 arg3 arg4 arg5 arg8 arg9 1 6 k0_chk63 k0_chk63.dec k0_off64 k0_off64_inb k0_chk64 k0_chk64.dec k0_off65 k0_off65_inb
  bin arg2 arg3 arg4 arg5 arg8 arg9 1 7 k0_chk65 k0_chk65.dec k0_off66 k0_off66_inb k0_chk66 k0_chk66.dec k0_off67 k0_off67_inb
  bin arg2 arg3 arg4 arg5 arg8 arg9 1 8 k0_chk67 k0_chk67.dec k0_off68 k0_off68_inb k0_chk68 k0_chk68.dec k0_off69 k0_off69_inb
  bin arg2 arg3 arg4 arg5 arg8 arg9 1 9 k0_chk69 k0_chk69.dec k0_off70 k0_off70_inb k0_chk70 k0_chk70.dec k0_off71 k0_off71_inb
  bin arg2 arg3 arg4 arg5 arg8 arg9 1 10 k0_chk71 k0_chk71.dec k0_off72 k0_off72_inb k0_chk72 k0_chk72.dec k0_off73 k0_off73_inb
  bin arg2 arg3 arg4 arg5 arg8 arg9 1 11 k0_chk73 k0_chk73.dec k0_off74 k0_off74_inb k0_chk74 k0_chk74.dec k0_off75 k0_off75_inb
  bin arg2 arg3 arg4 arg5 arg8 arg9 1 12 k0_chk75 k0_chk75.dec k0_off76 k0_off76_inb k0_chk76 k0_chk76.dec k0_off77 k0_off77_inb
  bin arg2 arg3 arg4 arg5 arg8 arg9 1 13 k0_chk77 k0_chk77.dec k0_off78 k0_off78_inb k0_chk78 k0_chk78.dec k0_off79 k0_off79_inb
  bin arg2 arg3 arg4 arg5 arg8 arg9 1 14 k0_chk79 k0_chk79.dec k0_off80 k0_off80_inb k0_chk80 k0_chk80.dec k0_off81 k0_off81_inb
  bin arg2 arg3 arg4 arg5 arg8 arg9 1 15 k0_chk81 k0_chk81.dec k0_off82 k0_off82_inb k0_chk82 k0_chk82.dec k0_off83 k0_off83_inb
  bin arg2 arg3 arg4 arg5 arg8 arg9 1 16 k0_chk83 k0_chk83.dec k0_off84 k0_off84_inb k0_chk84 k0_chk84.dec k0_off85 k0_off85_inb
  bin arg2 arg3 arg4 arg5 arg8 arg9 1 17 k0_chk85 k0_chk85.dec k0_off86 k0_off86_inb k0_chk86 k0_chk86.dec k0_off87 k0_off87_inb
  bin arg2 arg3 arg4 arg5 arg8 arg9 1 18 k0_chk87 k0_chk87.dec k0_off88 k0_off88_inb k0_chk88 k0_chk88.dec k0_off89 k0_off89_inb
  bin arg2 arg3 arg4 arg5 arg8 arg9 1 19 k0_chk89 k0_chk89.dec k0_off90 k0_off90_inb k0_chk90 k0_chk90.dec k0_off91 k0_off91_inb
  bin arg2 arg3 arg4 arg5 arg8 arg9 1 20 k0_chk91 k0_chk91.dec k0_off92 k0_off92_inb k0_chk92 k0_chk92.dec k0_off93 k0_off93_inb
  bin arg2 arg3 arg4 arg5 arg8 arg9 1 21 k0_chk93 k0_chk93.dec k0_off94 k0_off94_inb k0_chk94 k0_chk94.dec k0_off95 k0_off95_inb
  bin arg2 arg3 arg4 arg5 arg8 arg9 1 22 k0_chk95 k0_chk95.dec k0_off96 k0_off96_inb k0_chk96 k0_chk96.dec k0_off97 k0_off97_inb
  bin arg2 arg3 arg4 arg5 arg8 arg9 1 23 k0_chk97 k0_chk97.dec k0_off98 k0_off98_inb k0_chk98 k0_chk98.dec k0_off99 k0_off99_inb
  bin arg2 arg3 arg4 arg5 arg8 arg9 1 24 k0_chk99 k0_chk99.dec k0_off100 k0_off100_inb k0_chk100 k0_chk100.dec k0_off101 k0_off101_inb
  rowEnd arg7 arg9 msk 1

/-- Region of interest 2 of the grid point. -/
def row2 : P F := do
  bin arg2 arg3 arg4 arg5 arg8 arg9 2 0 k0_chk101 k0_chk101.dec k0_off102 k0_off102_inb k0_chk102 k0_chk102.dec k0_off103 k0_off103_inb
  bin arg2 arg3 arg4 arg5 arg8 arg9 2 1 k0_chk103 k0_chk103.dec k0_off104 k0_off104_inb k0_chk104 k0_chk104.dec k0_off105 k0_off105_inb
  bin arg2 arg3 arg4 arg5 arg8 arg9 2 2 k0_chk105 k0_chk105.dec k0_off106 k0_off106_inb k0_chk106 k0_chk106.dec k0_off107 k0_off107_inb
  bin arg2 arg3 arg4 arg5 arg8 arg9 2 3 k0_chk107 k0_chk107.dec k0_off108 k0_off108_inb k0_chk108 k0_chk108.dec k0_off109 k0_off109_inb
  bin arg2 arg3 arg4 arg5 arg8 arg9 2 4 k0_chk109 k0_chk109.dec k0_off110 k0_off110_inb k0_chk110 k0_chk110.dec k0_off111 k0_off111_inb
  bin arg2 arg3 arg4 arg5 arg8 arg9 2 5 k0_chk111 k0_chk111.dec k0_off112 k0_off112_inb k0_chk112 k0_chk112.dec k0_off113 k0_off113_inb
  bin arg2 arg3 arg4 arg5 arg8 arg9 2 6 k0_chk113 k0_chk113.dec k0_off114 k0_off114_inb k0_chk114 k0_chk114.dec k0_off115 k0_off115_inb
  bin arg2 arg3 arg4 arg5 arg8 arg9 2 7 k0_chk115 k0_chk115.dec k0_off116 k0_off116_inb k0_chk116 k0_chk116.dec k0_off117 k0_off117_inb
  bin arg2 arg3 arg4 arg5 arg8 arg9 2 8 k0_chk117 k0_chk117.dec k0_off118 k0_off118_inb k0_chk118 k0_chk118.dec k0_off119 k0_off119_inb
  bin arg2 arg3 arg4 arg5 arg8 arg9 2 9 k0_chk119 k0_chk119.dec k0_off120 k0_off120_inb k0_chk120 k0_chk120.dec k0_off121 k0_off121_inb
  bin arg2 arg3 arg4 arg5 arg8 arg9 2 10 k0_chk121 k0_chk121.dec k0_off122 k0_off122_inb k0_chk122 k0_chk122.dec k0_off123 k0_off123_inb
  bin arg2 arg3 arg4 arg5 arg8 arg9 2 11 k0_chk123 k0_chk123.dec k0_off124 k0_off124_inb k0_chk124 k0_chk124.dec k0_off125 k0_off125_inb
  bin arg2 arg3 arg4 arg5 arg8 arg9 2 12 k0_chk125 k0_chk125.dec k0_off126 k0_off126_inb k0_chk126 k0_chk126.dec k0_off127 k0_off127_inb
  bin arg2 arg3 arg4 arg5 arg8 arg9 2 13 k0_chk127 k0_chk127.dec k0_off128 k0_off128_inb k0_chk128 k0_chk128.dec k0_off129 k0_off129_inb
  bin arg2 arg3 arg4 arg5 arg8 arg9 2 14 k0_chk129 k0_chk129.dec k0_off130 k0_off130_inb k0_chk130 k0_chk130.dec k0_off131 k0_off131_inb
  bin arg2 arg3 arg4 arg5 arg8 arg9 2 15 k0_chk131 k0_chk131.dec k0_off132 k0_off132_inb k0_chk132 k0_chk132.dec k0_off133 k0_off133_inb
  bin arg2 arg3 arg4 arg5 arg8 arg9 2 16 k0_chk133 k0_chk133.dec k0_off134 k0_off134_inb k0_chk134 k0_chk134.dec k0_off135 k0_off135_inb
  bin arg2 arg3 arg4 arg5 arg8 arg9 2 17 k0_chk135 k0_chk135.dec k0_off136 k0_off136_inb k0_chk136 k0_chk136.dec k0_off137 k0_off137_inb
  bin arg2 arg3 arg4 arg5 arg8 arg9 2 18 k0_chk137 k0_chk137.dec k0_off138 k0_off138_inb k0_chk138 k0_chk138.dec k0_off139 k0_off139_inb
  bin arg2 arg3 arg4 arg5 arg8 arg9 2 19 k0_chk139 k0_chk139.dec k0_off140 k0_off140_inb k0_chk140 k0_chk140.dec k0_off141 k0_off141_inb
  bin arg2 arg3 arg4 arg5 arg8 arg9 2 20 k0_chk141 k0_chk141.dec k0_off142 k0_off142_inb k0_chk142 k0_chk142.dec k0_off143 k0_off143_inb
  bin arg2 arg3 arg4 arg5 arg8 arg9 2 21 k0_chk143 k0_chk143.dec k0_off144 k0_off144_inb k0_chk144 k0_chk144.dec k0_off145 k0_off145_inb
  bin arg2 arg3 arg4 arg5 arg8 arg9 2 22 k0_chk145 k0_chk145.dec k0_off146 k0_off146_inb k0_chk146 k0_chk146.dec k0_off147 k0_off147_inb
  bin arg2 arg3 arg4 arg5 arg8 arg9 2 23 k0_chk147 k0_chk147.dec k0_off148 k0_off148_inb k0_chk148 k0_chk148.dec k0_off149 k0_off149_inb
  bin arg2 arg3 arg4 arg5 arg8 arg9 2 24 k0_chk149 k0_chk149.dec k0_off150 k0_off150_inb k0_chk150 k0_chk150.dec k0_off151 k0_off151_inb
  rowEnd arg7 arg9 msk 2

/-- Region of interest 3 of the grid point. -/
def row3 : P F := do
  bin arg2 arg3 arg4 arg5 arg8 arg9 3 0 k0_chk151 k0_chk151.dec k0_off152 k0_off152_inb k0_chk152 k0_chk152.dec k0_off153 k0_off153_inb
  bin arg2 arg3 arg4 arg5 arg8 arg9 3 1 k0_chk153 k0_chk153.dec k0_off154 k0_off154_inb k0_chk154 k0_chk154.dec k0_off155 k0_off155_inb
  bin arg2 arg3 arg4 arg5 arg8 arg9 3 2 k0_chk155 k0_chk155.dec k0_off156 k0_off156_inb k0_chk156 k0_chk156.dec k0_off157 k0_off157_inb
  bin arg2 arg3 arg4 arg5 arg8 arg9 3 3 k0_chk157 k0_chk157.dec k0_off158 k0_off158_inb k0_chk158 k0_chk158.dec k0_off159 k0_off159_inb
  bin arg2 arg3 arg4 arg5 arg8 arg9 3 4 k0_chk159 k0_chk159.dec k0_off160 k0_off160_inb k0_chk160 k0_chk160.dec k0_off161 k0_off161_inb
  bin arg2 arg3 arg4 arg5 arg8 arg9 3 5 k0_chk161 k0_chk161.dec k0_off162 k0_off162_inb k0_chk162 k0_chk162.dec k0_off163 k0_off163_inb
  bin arg2 arg3 arg4 arg5 arg8 arg9 3 6 k0_chk163 k0_chk163.dec k0_off164 k0_off164_inb k0_chk164 k0_chk164.dec k0_off165 k0_off165_inb
  bin arg2 arg3 arg4 arg5 arg8 arg9 3 7 k0_chk165 k0_chk165.dec k0_off166 k0_off166_inb k0_chk166 k0_chk166.dec k0_off167 k0_off167_inb
  bin arg2 arg3 arg4 arg5 arg8 arg9 3 8 k0_chk167 k0_chk167.dec k0_off168 k0_off168_inb k0_chk168 k0_chk168.dec k0_off169 k0_off169_inb
  bin arg2 arg3 arg4 arg5 arg8 arg9 3 9 k0_chk169 k0_chk169.dec k0_off170 k0_off170_inb k0_chk170 k0_chk170.dec k0_off171 k0_off171_inb
  bin arg2 arg3 arg4 arg5 arg8 arg9 3 10 k0_chk171 k0_chk171.dec k0_off172 k0_off172_inb k0_chk172 k0_chk172.dec k0_off173 k0_off173_inb
  bin arg2 arg3 arg4 arg5 arg8 arg9 3 11 k0_chk173 k0_chk173.dec k0_off174 k0_off174_inb k0_chk174 k0_chk174.dec k0_off175 k0_off175_inb
  bin arg2 arg3 arg4 arg5 arg8 arg9 3 12 k0_chk175 k0_chk175.dec k0_off176 k0_off176_inb k0_chk176 k0_chk176.dec k0_off177 k0_off177_inb
  bin arg2 arg3 arg4 arg5 arg8 arg9 3 13 k0_chk177 k0_chk177.dec k0_off178 k0_off178_inb k0_chk178 k0_chk178.dec k0_off179 k0_off179_inb
  bin arg2 arg3 arg4 arg5 arg8 arg9 3 14 k0_chk179 k0_chk179.dec k0_off180 k0_off180_inb k0_chk180 k0_chk180.dec k0_off181 k0_off181_inb
  bin arg2 arg3 arg4 arg5 arg8 arg9 3 15 k0_chk181 k0_chk181.dec k0_off182 k0_off182_inb k0_chk182 k0_chk182.dec k0_off183 k0_off183_inb
  bin arg2 arg3 arg4 arg5 arg8 arg9 3 16 k0_chk183 k0_chk183.dec k0_off184 k0_off184_inb k0_chk184 k0_chk184.dec k0_off185 k0_off185_inb
  bin arg2 arg3 arg4 arg5 arg8 arg9 3 17 k0_chk185 k0_chk185.dec k0_off186 k0_off186_inb k0_chk186 k0_chk186.dec k0_off187 k0_off187_inb
  bin arg2 arg3 arg4 arg5 arg8 arg9 3 18 k0_chk187 k0_chk187.dec k0_off188 k0_off188_inb k0_chk188 k0_chk188.dec k0_off189 k0_off189_inb
  bin arg2 arg3 arg4 arg5 arg8 arg9 3 19 k0_chk189 k0_chk189.dec k0_off190 k0_off190_inb k0_chk190 k0_chk190.dec k0_off191 k0_off191_inb
  bin arg2 arg3 arg4 arg5 arg8 arg9 3 20 k0_chk191 k0_chk191.dec k0_off192 k0_off192_inb k0_chk192 k0_chk192.dec k0_off193 k0_off193_inb
  bin arg2 arg3 arg4 arg5 arg8 arg9 3 21 k0_chk193 k0_chk193.dec k0_off194 k0_off194_inb k0_chk194 k0_chk194.dec k0_off195 k0_off195_inb
  bin arg2 arg3 arg4 arg5 arg8 arg9 3 22 k0_chk195 k0_chk195.dec k0_off196 k0_off196_inb k0_chk196 k0_chk196.dec k0_off197 k0_off197_inb
  bin arg2 arg3 arg4 arg5 arg8 arg9 3 23 k0_chk197 k0_chk197.dec k0_off198 k0_off198_inb k0_chk198 k0_chk198.dec k0_off199 k0_off199_inb
  bin arg2 arg3 arg4 arg5 arg8 arg9 3 24 k0_chk199 k0_chk199.dec k0_off200 k0_off200_inb k0_chk200 k0_chk200.dec k0_off201 k0_off201_inb
  rowEnd arg7 arg9 msk 3

/-- Region of interest 4 of the grid point. -/
def row4 : P F := do
  bin arg2 arg3 arg4 arg5 arg8 arg9 4 0 k0_chk201 k0_chk201.dec k0_off202 k0_off202_inb k0_chk202 k0_chk202.dec k0_off203 k0_off203_inb
  bin arg2 arg3 arg4 arg5 arg8 arg9 4 1 k0_chk203 k0_chk203.dec k0_off204 k0_off204_inb k0_chk204 k0_chk204.dec k0_off205 k0_off205_inb
  bin arg2 arg3 arg4 arg5 arg8 arg9 4 2 k0_chk205 k0_chk205.dec k0_off206 k0_off206_inb k0_chk206 k0_chk206.dec k0_off207 k0_off207_inb
  bin arg2 arg3 arg4 arg5 arg8 arg9 4 3 k0_chk207 k0_chk207.dec k0_off208 k0_off208_inb k0_chk208 k0_chk208.dec k0_off209 k0_off209_inb
  bin arg2 arg3 arg4 arg5 arg8 arg9 4 4 k0_chk209 k0_chk209.dec k0_off210 k0_off210_inb k0_chk210 k0_chk210.dec k0_off211 k0_off211_inb
  bin arg2 arg3 arg4 arg5 arg8 arg9 4 5 k0_chk211 k0_chk211.dec k0_off212 k0_off212_inb k0_chk212 k0_chk212.dec k0_off213 k0_off213_inb
  bin arg2 arg3 arg4 arg5 arg8 arg9 4 6 k0_chk213 k0_chk213.dec k0_off214 k0_off214_inb k0_chk214 k0_chk214.dec k0_off215 k0_off215_inb
  bin arg2 arg3 arg4 arg5 arg8 arg9 4 7 k0_chk215 k0_chk215.dec k0_off216 k0_off216_inb k0_chk216 k0_chk216.dec k0_off217 k0_off217_inb
  bin arg2 arg3 arg4 arg5 arg8 arg9 4 8 k0_chk217 k0_chk217.dec k0_off218 k0_off218_inb k0_chk218 k0_chk218.dec k0_off219 k0_off219_inb
  bin arg2 arg3 arg4 arg5 arg8 arg9 4 9 k0_chk219 k0_chk219.dec k0_off220 k0_off220_inb k0_chk220 k0_chk220.dec k0_off221 k0_off221_inb
  bin arg2 arg3 arg4 arg5 arg8 arg9 4 10 k0_chk221 k0_chk221.dec k0_off222 k0_off222_inb k0_chk222 k0_chk222.dec k0_off223 k0_off223_inb
  bin arg2 arg3 arg4 arg5 arg8 arg9 4 11 k0_chk223 k0_chk223.dec k0_off224 k0_off224_inb k0_chk224 k0_chk224.dec k0_off225 k0_off225_inb
  bin arg2 arg3 arg4 arg5 arg8 arg9 4 12 k0_chk225 k0_chk225.dec k0_off226 k0_off226_inb k0_chk226 k0_chk226.dec k0_off227 k0_off227_inb
  bin arg2 arg3 arg4 arg5 arg8 arg9 4 13 k0_chk227 k0_chk227.dec k0_off228 k0_off228_inb k0_chk228 k0_chk228.dec k0_off229 k0_off229_inb
  bin arg2 arg3 arg4 arg5 arg8 arg9 4 14 k0_chk229 k0_chk229.dec k0_off230 k0_off230_inb k0_chk230 k0_chk230.dec k0_off231 k0_off231_inb
  bin arg2 arg3 arg4 arg5 arg8 arg9 4 15 k0_chk231 k0_chk231.dec k0_off232 k0_off232_inb k0_chk232 k0_chk232.dec k0_off233 k0_off233_inb
  bin arg2 arg3 arg4 arg5 arg8 arg9 4 16 k0_chk233 k0_chk233.dec k0_off234 k0_off234_inb k0_chk234 k0_chk234.dec k0_off235 k0_off235_inb
  bin arg2 arg3 arg4 arg5 arg8 arg9 4 17 k0_chk235 k0_chk235.dec k0_off236 k0_off236_inb k0_chk236 k0_chk236.dec k0_off237 k0_off237_inb
  bin arg2 arg3 arg4 arg5 arg8 arg9 4 18 k0_chk237 k0_chk237.dec k0_off238 k0_off238_inb k0_chk238 k0_chk238.dec k0_off239 k0_off239_inb
  bin arg2 arg3 arg4 arg5 arg8 arg9 4 19 k0_chk239 k0_chk239.dec k0_off240 k0_off240_inb k0_chk240 k0_chk240.dec k0_off241 k0_off241_inb
  bin arg2 arg3 arg4 arg5 arg8 arg9 4 20 k0_chk241 k0_chk241.dec k0_off242 k0_off242_inb k0_chk242 k0_chk242.dec k0_off243 k0_off243_inb
  bin arg2 arg3 arg4 arg5 arg8 arg9 4 21 k0_chk243 k0_chk243.dec k0_off244 k0_off244_inb k0_chk244 k0_chk244.dec k0_off245 k0_off245_inb
  bin arg2 arg3 arg4 arg5 arg8 arg9 4 22 k0_chk245 k0_chk245.dec k0_off246 k0_off246_inb k0_chk246 k0_chk246.dec k0_off247 k0_off247_inb
  bin arg2 arg3 arg4 arg5 arg8 arg9 4 23 k0_chk247 k0_chk247.dec k0_off248 k0_off248_inb k0_chk248 k0_chk248.dec k0_off249 k0_off249_inb
  bin arg2 arg3 arg4 arg5 arg8 arg9 4 24 k0_chk249 k0_chk249.dec k0_off250 k0_off250_inb k0_chk250 k0_chk250.dec k0_off251 k0_off251_inb
  rowEnd arg7 arg9 msk 4

/-- Region of interest 5 of the grid point. -/
def row5 : P F := do
  bin arg2 arg3 arg4 arg5 arg8 arg9 5 0 k0_chk251 k0_chk251.dec k0_off252 k0_off252_inb k0_chk252 k0_chk252.dec k0_off253 k0_off253_inb
  bin arg2 arg3 arg4 arg5 arg8 arg9 5 1 k0_chk253 k0_chk253.dec k0_off254 k0_off254_inb k0_chk254 k0_chk254.dec k0_off255 k0_off255_inb
  bin arg2 arg3 arg4 arg5 arg8 arg9 5 2 k0_chk255 k0_chk255.dec k0_off256 k0_off256_inb k0_chk256 k0_chk256.dec k0_off257 k0_off257_inb
  bin arg2 arg3 arg4 arg5 arg8 arg9 5 3 k0_chk257 k0_chk257.dec k0_off258 k0_off258_inb k0_chk258 k0_chk258.dec k0_off259 k0_off259_inb
  bin arg2 arg3 arg4 arg5 arg8 arg9 5 4 k0_chk259 k0_chk259.dec k0_off260 k0_off260_inb k0_chk260 k0_chk260.dec k0_off261 k0_off261_inb
  bin arg2 arg3 arg4 arg5 arg8 arg9 5 5 k0_chk261 k0_chk261.dec k0_off262 k0_off262_inb k0_chk262 k0_chk262.dec k0_off263 k0_off263_inb
  bin arg2 arg3 arg4 arg5 arg8 arg9 5 6 k0_chk263 k0_chk263.dec k0_off264 k0_off264_inb k0_chk264 k0_chk264.dec k0_off265 k0_off265_inb
  bin arg2 arg3 arg4 arg5 arg8 arg9 5 7 k0_chk265 k0_chk265.dec k0_off266 k0_off266_inb k0_chk266 k0_chk266.dec k0_off267 k0_off267_inb
  bin arg2 arg3 arg4 arg5 arg8 arg9 5 8 k0_chk267 k0_chk267.dec k0_off268 k0_off268_inb k0_chk268 k0_chk268.dec k0_off269 k0_off269_inb
  bin arg2 arg3 arg4 arg5 arg8 arg9 5 9 k0_chk269 k0_chk269.dec k0_off270 k0_off270_inb k0_chk270 k0_chk270.dec k0_off271 k0_off271_inb
  bin arg2 arg3 arg4 arg5 arg8 arg9 5 10 k0_chk271 k0_chk271.dec k0_off272 k0_off272_inb k0_chk272 k0_chk272.dec k0_off273 k0_off273_inb
  bin arg2 arg3 arg4 arg5 arg8 arg9 5 11 k0_chk273 k0_chk273.dec k0_off274 k0_off274_inb k0_chk274 k0_chk274.dec k0_off275 k0_off275_inb
  bin arg2 arg3 arg4 arg5 arg8 arg9 5 12 k0_chk275 k0_chk275.dec k0_off276 k0_off276_inb k0_chk276 k0_chk276.dec k0_off277 k0_off277_inb
  bin arg2 arg3 arg4 arg5 arg8 arg9 5 13 k0_chk277 k0_chk277.dec k0_off278 k0_off278_inb k0_chk278 k0_chk278.dec k0_off279 k0_off279_inb
  bin arg2 arg3 arg4 arg5 arg8 arg9 5 14 k0_chk279 k0_chk279.dec k0_off280 k0_off280_inb k0_chk280 k0_chk280.dec k0_off281 k0_off281_inb
  bin arg2 arg3 arg4 arg5 arg8 arg9 5 15 k0_chk281 k0_chk281.dec k0_off282 k0_off282_inb k0_chk282 k0_chk282.dec k0_off283 k0_off283_inb
  bin arg2 arg3 arg4 arg5 arg8 arg9 5 16 k0_chk283 k0_chk283.dec k0_off284 k0_off284_inb k0_chk284 k0_chk284.dec k0_off285 k0_off285_inb
  bin arg2 arg3 arg4 arg5 arg8 arg9 5 17 k0_chk285 k0_chk285.dec k0_off286 k0_off286_inb k0_chk286 k0_chk286.dec k0_off287 k0_off287_inb
  bin arg2 arg3 arg4 arg5 arg8 arg9 5 18 k0_chk287 k0_chk287.dec k0_off288 k0_off288_inb k0_chk288 k0_chk288.dec k0_off289 k0_off289_inb
  bin arg2 arg3 arg4 arg5 arg8 arg9 5 19 k0_chk289 k0_chk289.dec k0_off290 k0_off290_inb k0_chk290 k0_chk290.dec k0_off291 k0_off291_inb
  bin arg2 arg3 arg4 arg5 arg8 arg9 5 20 k0_chk291 k0_chk291.dec k0_off292 k0_off292_inb k0_chk292 k0_chk292.dec k0_off293 k0_off293_inb
  bin arg2 arg3 arg4 arg5 arg8 arg9 5 21 k0_chk293 k0_chk293.dec k0_off294 k0_off294_inb k0_chk294 k0_chk294.dec k0_off295 k0_off295_inb
  bin arg2 arg3 arg4 arg5 arg8 arg9 5 22 k0_chk295 k0_chk295.dec k0_off296 k0_off296_inb k0_chk296 k0_chk296.dec k0_off297 k0_off297_inb
  bin arg2 arg3 arg4 arg5 arg8 arg9 5 23 k0_chk297 k0_chk297.dec k0_off298 k0_off298_inb k0_chk298 k0_chk298.dec k0_off299 k0_off299_inb
  bin arg2 arg3 arg4 arg5 arg8 arg9 5 24 k0_chk299 k0_chk299.dec k0_off300 k0_off300_inb k0_chk300 k0_chk300.dec k0_off301 k0_off301_inb
  rowEnd arg7 arg9 msk 5

/-- Region of interest 6 of the grid point. -/
def row6 : P F := do
  bin arg2 arg3 arg4 arg5 arg8 arg9 6 0 k0_chk301 k0_chk301.dec k0_off302 k0_off302_inb k0_chk302 k0_chk302.dec k0_off303 k0_off303_inb
  bin arg2 arg3 arg4 arg5 arg8 arg9 6 1 k0_chk303 k0_chk303.dec k0_off304 k0_off304_inb k0_chk304 k0_chk304.dec k0_off305 k0_off305_inb
  bin arg2 arg3 arg4 arg5 arg8 arg9 6 2 k0_chk305 k0_chk305.dec k0_off306 k0_off306_inb k0_chk306 k0_chk306.dec k0_off307 k0_off307_inb
  bin arg2 arg3 arg4 arg5 arg8 arg9 6 3 k0_chk307 k0_chk307.dec k0_off308 k0_off308_inb k0_chk308 k0_chk308.dec k0_off309 k0_off309_inb
  bin arg2 arg3 arg4 arg5 arg8 arg9 6 4 k0_chk309 k0_chk309.dec k0_off310 k0_off310_inb k0_chk310 k0_chk310.dec k0_off311 k0_off311_inb
  bin arg2 arg3 arg4 arg5 arg8 arg9 6 5 k0_chk311 k0_chk311.dec k0_off312 k0_off312_inb k0_chk312 k0_chk312.dec k0_off313 k0_off313_inb
  bin arg2 arg3 arg4 arg5 arg8 arg9 6 6 k0_chk313 k0_chk313.dec k0_off314 k0_off314_inb k0_chk314 k0_chk314.dec k0_off315 k0_off315_inb
  bin arg2 arg3 arg4 arg5 arg8 arg9 6 7 k0_chk315 k0_chk315.dec k0_off316 k0_off316_inb k0_chk316 k0_chk316.dec k0_off317 k0_off317_inb
  bin arg2 arg3 arg4 arg5 arg8 arg9 6 8 k0_chk317 k0_chk317.dec k0_off318 k0_off318_inb k0_chk318 k0_chk318.dec k0_off319 k0_off319_inb
  bin arg2 arg3 arg4 arg5 arg8 arg9 6 9 k0_chk319 k0_chk319.dec k0_off320 k0_off320_inb k0_chk320 k0_chk320.dec k0_off321 k0_off321_inb
  bin arg2 arg3 arg4 arg5 arg8 arg9 6 10 k0_chk321 k0_chk321.dec k0_off322 k0_off322_inb k0_chk322 k0_chk322.dec k0_off323 k0_off323_inb
  bin arg2 arg3 arg4 arg5 arg8 arg9 6 11 k0_chk323 k0_chk323.dec k0_off324 k0_off324_inb k0_chk324 k0_chk324.dec k0_off325 k0_off325_inb
  bin arg2 arg3 arg4 arg5 arg8 arg9 6 12 k0_chk325 k0_chk325.dec k0_off326 k0_off326_inb k0_chk326 k0_chk326.dec k0_off327 k0_off327_inb
  bin arg2 arg3 arg4 arg5 arg8 arg9 6 13 k0_chk327 k0_chk327.dec k0_off328 k0_off328_inb k0_chk328 k0_chk328.dec k0_off329 k0_off329_inb
  bin arg2 arg3 arg4 arg5 arg8 arg9 6 14 k0_chk329 k0_chk329.dec k0_off330 k0_off330_inb k0_chk330 k0_chk330.dec k0_off331 k0_off331_inb
  bin arg2 arg3 arg4 arg5 arg8 arg9 6 15 k0_chk331 k0_chk331.dec k0_off332 k0_off332_inb k0_chk332 k0_chk332.dec k0_off333 k0_off333_inb
  bin arg2 arg3 arg4 arg5 arg8 arg9 6 16 k0_chk333 k0_chk333.dec k0_off334 k0_off334_inb k0_chk334 k0_chk334.dec k0_off335 k0_off335_inb
  bin arg2 arg3 arg4 arg5 arg8 arg9 6 17 k0_chk335 k0_chk335.dec k0_off336 k0_off336_inb k0_chk336 k0_chk336.dec k0_off337 k0_off337_inb
  bin arg2 arg3 arg4 arg5 arg8 arg9 6 18 k0_chk337 k0_chk337.dec k0_off338 k0_off338_inb k0_chk338 k0_chk338.dec k0_off339 k0_off339_inb
  bin arg2 arg3 arg4 arg5 arg8 arg9 6 19 k0_chk339 k0_chk339.dec k0_off340 k0_off340_inb k0_chk340 k0_chk340.dec k0_off341 k0_off341_inb
  bin arg2 arg3 arg4 arg5 arg8 arg9 6 20 k0_chk341 k0_chk341.dec k0_off342 k0_off342_inb k0_chk342 k0_chk342.dec k0_off343 k0_off343_inb
  bin arg2 arg3 arg4 arg5 arg8 arg9 6 21 k0_chk343 k0_chk343.dec k0_off344 k0_off344_inb k0_chk344 k0_chk344.dec k0_off345 k0_off345_inb
  bin arg2 arg3 arg4 arg5 arg8 arg9 6 22 k0_chk345 k0_chk345.dec k0_off346 k0_off346_inb k0_chk346 k0_chk346.dec k0_off347 k0_off347_inb
  bin arg2 arg3 arg4 arg5 arg8 arg9 6 23 k0_chk347 k0_chk347.dec k0_off348 k0_off348_inb k0_chk348 k0_chk348.dec k0_off349 k0_off349_inb
  bin arg2 arg3 arg4 arg5 arg8 arg9 6 24 k0_chk349 k0_chk349.dec k0_off350 k0_off350_inb k0_chk350 k0_chk350.dec k0_off351 k0_off351_inb
  rowEnd arg7 arg9 msk 6

/-- Region of interest 7 of the grid point. -/
def row7 : P F := do
  bin arg2 arg3 arg4 arg5 arg8 arg9 7 0 k0_chk351 k0_chk351.dec k0_off352 k0_off352_inb k0_chk352 k0_chk352.dec k0_off353 k0_off353_inb
  bin arg2 arg3 arg4 arg5 arg8 arg9 7 1 k0_chk353 k0_chk353.dec k0_off354 k0_off354_inb k0_chk354 k0_chk354.dec k0_off355 k0_off355_inb
  bin arg2 arg3 arg4 arg5 arg8 arg9 7 2 k0_chk355 k0_chk355.dec k0_off356 k0_off356_inb k0_chk356 k0_chk356.dec k0_off357 k0_off357_inb
  bin arg2 arg3 arg4 arg5 arg8 arg9 7 3 k0_chk357 k0_chk357.dec k0_off358 k0_off358_inb k0_chk358 k0_chk358.dec k0_off359 k0_off359_inb
  bin arg2 arg3 arg4 arg5 arg8 arg9 7 4 k0_chk359 k0_chk359.dec k0_off360 k0_off360_inb k0_chk360 k0_chk360.dec k0_off361 k0_off361_inb
  bin arg2 arg3 arg4 arg5 arg8 arg9 7 5 k0_chk361 k0_chk361.dec k0_off362 k0_off362_inb k0_chk362 k0_chk362.dec k0_off363 k0_off363_inb
  bin arg2 arg3 arg4 arg5 arg8 arg9 7 6 k0_chk363 k0_chk363.dec k0_off364 k0_off364_inb k0_chk364 k0_chk364.dec k0_off365 k0_off365_inb
  bin arg2 arg3 arg4 arg5 arg8 arg9 7 7 k0_chk365 k0_chk365.dec k0_off366 k0_off366_inb k0_chk366 k0_chk366.dec k0_off367 k0_off367_inb
  bin arg2 arg3 arg4 arg5 arg8 arg9 7 8 k0_chk367 k0_chk367.dec k0_off368 k0_off368_inb k0_chk368 k0_chk368.dec k0_off369 k0_off369_inb
  bin arg2 arg3 arg4 arg5 arg8 arg9 7 9 k0_chk369 k0_chk369.dec k0_off370 k0_off370_inb k0_chk370 k0_chk370.dec k0_off371 k0_off371_inb
  bin arg2 arg3 arg4 arg5 arg8 arg9 7 10 k0_chk371 k0_chk371.dec k0_off372 k0_off372_inb k0_chk372 k0_chk372.dec k0_off373 k0_off373_inb
  bin arg2 arg3 arg4 arg5 arg8 arg9 7 11 k0_chk373 k0_chk373.dec k0_off374 k0_off374_inb k0_chk374 k0_chk374.dec k0_off375 k0_off375_inb
  bin arg2 arg3 arg4 arg5 arg8 arg9 7 12 k0_chk375 k0_chk375.dec k0_off376 k0_off376_inb k0_chk376 k0_chk376.dec k0_off377 k0_off377_inb
  bin arg2 arg3 arg4 arg5 arg8 arg9 7 13 k0_chk377 k0_chk377.dec k0_off378 k0_off378_inb k0_chk378 k0_chk378.dec k0_off379 k0_off379_inb
  bin arg2 arg3 arg4 arg5 arg8 arg9 7 14 k0_chk379 k0_chk379.dec k0_off380 k0_off380_inb k0_chk380 k0_chk380.dec k0_off381 k0_off381_inb
  bin arg2 arg3 arg4 arg5 arg8 arg9 7 15 k0_chk381 k0_chk381.dec k0_off382 k0_off382_inb k0_chk382 k0_chk382.dec k0_off383 k0_off383_inb
  bin arg2 arg3 arg4 arg5 arg8 arg9 7 16 k0_chk383 k0_chk383.dec k0_off384 k0_off384_inb k0_chk384 k0_chk384.dec k0_off385 k0_off385_inb
  bin arg2 arg3 arg4 arg5 arg8 arg9 7 17 k0_chk385 k0_chk385.dec k0_off386 k0_off386_inb k0_chk386 k0_chk386.dec k0_off387 k0_off387_inb
  bin arg2 arg3 arg4 arg5 arg8 arg9 7 18 k0_chk387 k0_chk387.dec k0_off388 k0_off388_inb k0_chk388 k0_chk388.dec k0_off389 k0_off389_inb
  bin arg2 arg3 arg4 arg5 arg8 arg9 7 19 k0_chk389 k0_chk389.dec k0_off390 k0_off390_inb k0_chk390 k0_chk390.dec k0_off391 k0_off391_inb
  bin arg2 arg3 arg4 arg5 arg8 arg9 7 20 k0_chk391 k0_chk391.dec k0_off392 k0_off392_inb k0_chk392 k0_chk392.dec k0_off393 k0_off393_inb
  bin arg2 arg3 arg4 arg5 arg8 arg9 7 21 k0_chk393 k0_chk393.dec k0_off394 k0_off394_inb k0_chk394 k0_chk394.dec k0_off395 k0_off395_inb
  bin arg2 arg3 arg4 arg5 arg8 arg9 7 22 k0_chk395 k0_chk395.dec k0_off396 k0_off396_inb k0_chk396 k0_chk396.dec k0_off397 k0_off397_inb
  bin arg2 arg3 arg4 arg5 arg8 arg9 7 23 k0_chk397 k0_chk397.dec k0_off398 k0_off398_inb k0_chk398 k0_chk398.dec k0_off399 k0_off399_inb
  bin arg2 arg3 arg4 arg5 arg8 arg9 7 24 k0_chk399 k0_chk399.dec k0_off400 k0_off400_inb k0_chk400 k0_chk400.dec k0_off401 k0_off401_inb
  rowEnd arg7 arg9 msk 7

/-- Region of interest 8 of the grid point. -/
def row8 : P F := do
  bin arg2 arg3 arg4 arg5 arg8 arg9 8 0 k0_chk401 k0_chk401.dec k0_off402 k0_off402_inb k0_chk402 k0_chk402.dec k0_off403 k0_off403_inb
  bin arg2 arg3 arg4 arg5 arg8 arg9 8 1 k0_chk403 k0_chk403.dec k0_off404 k0_off404_inb k0_chk404 k0_chk404.dec k0_off405 k0_off405_inb
  bin arg2 arg3 arg4 arg5 arg8 arg9 8 2 k0_chk405 k0_chk405.dec k0_off406 k0_off406_inb k0_chk406 k0_chk406.dec k0_off407 k0_off407_inb
  bin arg2 arg3 arg4 arg5 arg8 arg9 8 3 k0_chk407 k0_chk407.dec k0_off408 k0_off408_inb k0_chk408 k0_chk408.dec k0_off409 k0_off409_inb
  bin arg2 arg3 arg4 arg5 arg8 arg9 8 4 k0_chk409 k0_chk409.dec k0_off410 k0_off410_inb k0_chk410 k0_chk410.dec k0_off411 k0_off411_inb
  bin arg2 arg3 arg4 arg5 arg8 arg9 8 5 k0_chk411 k0_chk411.dec k0_off412 k0_off412_inb k0_chk412 k0_chk412.dec k0_off413 k0_off413_inb
  bin arg2 arg3 arg4 arg5 arg8 arg9 8 6 k0_chk413 k0_chk413.dec k0_off414 k0_off414_inb k0_chk414 k0_chk414.dec k0_off415 k0_off415_inb
  bin arg2 arg3 arg4 arg5 arg8 arg9 8 7 k0_chk415 k0_chk415.dec k0_off416 k0_off416_inb k0_chk416 k0_chk416.dec k0_off417 k0_off417_inb
  bin arg2 arg3 arg4 arg5 arg8 arg9 8 8 k0_chk417 k0_chk417.dec k0_off418 k0_off418_inb k0_chk418 k0_chk418.dec k0_off419 k0_off419_inb
  bin arg2 arg3 arg4 arg5 arg8 arg9 8 9 k0_chk419 k0_chk419.dec k0_off420 k0_off420_inb k0_chk420 k0_chk420.dec k0_off421 k0_off421_inb
  bin arg2 arg3 arg4 arg5 arg8 arg9 8 10 k0_chk421 k0_chk421.dec k0_off422 k0_off422_inb k0_chk422 k0_chk422.dec k0_off423 k0_off423_inb
  bin arg2 arg3 arg4 arg5 arg8 arg9 8 11 k0_chk423 k0_chk423.dec k0_off424 k0_off424_inb k0_chk424 k0_chk424.dec k0_off425 k0_off425_inb
  bin arg2 arg3 arg4 arg5 arg8 arg9 8 12 k0_chk425 k0_chk425.dec k0_off426 k0_off426_inb k0_chk426 k0_chk426.dec k0_off427 k0_off427_inb
  bin arg2 arg3 arg4 arg5 arg8 arg9 8 13 k0_chk427 k0_chk427.dec k0_off428 k0_off428_inb k0_chk428 k0_chk428.dec k0_off429 k0_off429_inb
  bin arg2 arg3 arg4 arg5 arg8 arg9 8 14 k0_chk429 k0_chk429.dec k0_off430 k0_off430_inb k0_chk430 k0_chk430.dec k0_off431 k0_off431_inb
  bin arg2 arg3 arg4 arg5 arg8 arg9 8 15 k0_chk431 k0_chk431.dec k0_off432 k0_off432_inb k0_chk432 k0_chk432.dec k0_off433 k0_off433_inb
  bin arg2 arg3 arg4 arg5 arg8 arg9 8 16 k0_chk433 k0_chk433.dec k0_off434 k0_off434_inb k0_chk434 k0_chk434.dec k0_off435 k0_off435_inb
  bin arg2 arg3 arg4 arg5 arg8 arg9 8 17 k0_chk435 k0_chk435.dec k0_off436 k0_off436_inb k0_chk436 k0_chk436.dec k0_off437 k0_off437_inb
  bin arg2 arg3 arg4 arg5 arg8 arg9 8 18 k0_chk437 k0_chk437.dec k0_off438 k0_off438_inb k0_chk438 k0_chk438.dec k0_off439 k0_off439_inb
  bin arg2 arg3 arg4 arg5 arg8 arg9 8 19 k0_chk439 k0_chk439.dec k0_off440 k0_off440_inb k0_chk440 k0_chk440.dec k0_off441 k0_off441_inb
  bin arg2 arg3 arg4 arg5 arg8 arg9 8 20 k0_chk441 k0_chk441.dec k0_off442 k0_off442_inb k0_chk442 k0_chk442.dec k0_off443 k0_off443_inb
  bin arg2 arg3 arg4 arg5 arg8 arg9 8 21 k0_chk443 k0_chk443.dec k0_off444 k0_off444_inb k0_chk444 k0_chk444.dec k0_off445 k0_off445_inb
  bin arg2 arg3 arg4 arg5 arg8 arg9 8 22 k0_chk445 k0_chk445.dec k0_off446 k0_off446_inb k0_chk446 k0_chk446.dec k0_off447 k0_off447_inb
  bin arg2 arg3 arg4 arg5 arg8 arg9 8 23 k0_chk447 k0_chk447.dec k0_off448 k0_off448_inb k0_chk448 k0_chk448.dec k0_off449 k0_off449_inb
  bin arg2 arg3 arg4 arg5 arg8 arg9 8 24 k0_chk449 k0_chk449.dec k0_off450 k0_off450_inb k0_chk450 k0_chk450.dec k0_off451 k0_off451_inb
  rowEnd arg7 arg9 msk 8

/-- Region of interest 9 of the grid point. -/
def row9 : P F := do
  bin arg2 arg3 arg4 arg5 arg8 arg9 9 0 k0_chk451 k0_chk451.dec k0_off452 k0_off452_inb k0_chk452 k0_chk452.dec k0_off453 k0_off453_inb
  bin arg2 arg3 arg4 arg5 arg8 arg9 9 1 k0_chk453 k0_chk453.dec k0_off454 k0_off454_inb k0_chk454 k0_chk454.dec k0_off455 k0_off455_inb
  bin arg2 arg3 arg4 arg5 arg8 arg9 9 2 k0_chk455 k0_chk455.dec k0_off456 k0_off456_inb k0_chk456 k0_chk456.dec k0_off457 k0_off457_inb
  bin arg2 arg3 arg4 arg5 arg8 arg9 9 3 k0_chk457 k0_chk457.dec k0_off458 k0_off458_inb k0_chk458 k0_chk458.dec k0_off459 k0_off459_inb
  bin arg2 arg3 arg4 arg5 arg8 arg9 9 4 k0_chk459 k0_chk459.dec k0_off460 k0_off460_inb k0_chk460 k0_chk460.dec k0_off461 k0_off461_inb
  bin arg2 arg3 arg4 arg5 arg8 arg9 9 5 k0_chk461 k0_chk461.dec k0_off462 k0_off462_inb k0_chk462 k0_chk462.dec k0_off463 k0_off463_inb
  bin arg2 arg3 arg4 arg5 arg8 arg9 9 6 k0_chk463 k0_chk463.dec k0_off464 k0_off464_inb k0_chk464 k0_chk464.dec k0_off465 k0_off465_inb
  bin arg2 arg3 arg4 arg5 arg8 arg9 9 7 k0_chk465 k0_chk465.dec k0_off466 k0_off466_inb k0_chk466 k0_chk466.dec k0_off467 k0_off467_inb
  bin arg2 arg3 arg4 arg5 arg8 arg9 9 8 k0_chk467 k0_chk467.dec k0_off468 k0_off468_inb k0_chk468 k0_chk468.dec k0_off469 k0_off469_inb
  bin arg2 arg3 arg4 arg5 arg8 arg9 9 9 k0_chk469 k0_chk469.dec k0_off470 k0_off470_inb k0_chk470 k0_chk470.dec k0_off471 k0_off471_inb
  bin arg2 arg3 arg4 arg5 arg8 arg9 9 10 k0_chk471 k0_chk471.dec k0_off472 k0_off472_inb k0_chk472 k0_chk472.dec k0_off473 k0_off473_inb
  bin arg2 arg3 arg4 arg5 arg8 arg9 9 11 k0_chk473 k0_chk473.dec k0_off474 k0_off474_inb k0_chk474 k0_chk474.dec k0_off475 k0_off475_inb
  bin arg2 arg3 arg4 arg5 arg8 arg9 9 12 k0_chk475 k0_chk475.dec k0_off476 k0_off476_inb k0_chk476 k0_chk476.dec k0_off477 k0_off477_inb
  bin arg2 arg3 arg4 arg5 arg8 arg9 9 13 k0_chk477 k0_chk477.dec k0_off478 k0_off478_inb k0_chk478 k0_chk478.dec k0_off479 k0_off479_inb
  bin arg2 arg3 arg4 arg5 arg8 arg9 9 14 k0_chk479 k0_chk479.dec k0_off480 k0_off480_inb k0_chk480 k0_chk480.dec k0_off481 k0_off481_inb
  bin arg2 arg3 arg4 arg5 arg8 arg9 9 15 k0_chk481 k0_chk481.dec k0_off482 k0_off482_inb k0_chk482 k0_chk482.dec k0_off483 k0_off483_inb
  bin arg2 arg3 arg4 arg5 arg8 arg9 9 16 k0_chk483 k0_chk483.dec k0_off484 k0_off484_inb k0_chk484 k0_chk484.dec k0_off485 k0_off485_inb
  bin arg2 arg3 arg4 arg5 arg8 arg9 9 17 k0_chk485 k0_chk485.dec k0_off486 k0_off486_inb k0_chk486 k0_chk486.dec k0_off487 k0_off487_inb
  bin arg2 arg3 arg4 arg5 arg8 arg9 9 18 k0_chk487 k0_chk487.dec k0_off488 k0_off488_inb k0_chk488 k0_chk488.dec k0_off489 k0_off489_inb
  bin arg2 arg3 arg4 arg5 arg8 arg9 9 19 k0_chk489 k0_chk489.dec k0_off490 k0_off490_inb k0_chk490 k0_chk490.dec k0_off491 k0_off491_inb
  bin arg2 arg3 arg4 arg5 arg8 arg9 9 20 k0_chk491 k0_chk491.dec k0_off492 k0_off492_inb k0_chk492 k0_chk492.dec k0_off493 k0_off493_inb
  bin arg2 arg3 arg4 arg5 arg8 arg9 9 21 k0_chk493 k0_chk493.dec k0_off494 k0_off494_inb k0_chk494 k0_chk494.dec k0_off495 k0_off495_inb
  bin arg2 arg3 arg4 arg5 arg8 arg9 9 22 k0_chk495 k0_chk495.dec k0_off496 k0_off496_inb k0_chk496 k0_chk496.dec k0_off497 k0_off497_inb
  bin arg2 arg3 arg4 arg5 arg8 arg9 9 23 k0_chk497 k0_chk497.dec k0_off498 k0_off498_inb k0_chk498 k0_chk498.dec k0_off499 k0_off499_inb
  bin arg2 arg3 arg4 arg5 arg8 arg9 9 24 k0_chk499 k0_chk499.dec k0_off500 k0_off500_inb k0_chk500 k0_chk500.dec k0_off501 k0_off501_inb
  rowEnd arg7 arg9 msk 9

/-- Region of interest 10 of the grid point. -/
def row10 : P F := do
  bin arg2 arg3 arg4 arg5 arg8 arg9 10 0 k0_chk501 k0_chk501.dec k0_off502 k0_off502_inb k0_chk502 k0_chk502.dec k0_off503 k0_off503_inb
  bin arg2 arg3 arg4 arg5 arg8 arg9 10 1 k0_chk503 k0_chk503.dec k0_off504 k0_off504_inb k0_chk504 k0_chk504.dec k0_off505 k0_off505_inb
  bin arg2 arg3 arg4 arg5 arg8 arg9 10 2 k0_chk505 k0_chk505.dec k0_off506 k0_off506_inb k0_chk506 k0_chk506.dec k0_off507 k0_off507_inb
  bin arg2 arg3 arg4 arg5 arg8 arg9 10 3 k0_chk507 k0_chk507.dec k0_off508 k0_off508_inb k0_chk508 k0_chk508.dec k0_off509 k0_off509_inb
  bin arg2 arg3 arg4 arg5 arg8 arg9 10 4 k0_chk509 k0_chk509.dec k0_off510 k0_off510_inb k0_chk510 k0_chk510.dec k0_off511 k0_off511_inb
  bin arg2 arg3 arg4 arg5 arg8 arg9 10 5 k0_chk511 k0_chk511.dec k0_off512 k0_off512_inb k0_chk512 k0_chk512.dec k0_off513 k0_off513_inb
  bin arg2 arg3 arg4 arg5 arg8 arg9 10 6 k0_chk513 k0_chk513.dec k0_off514 k0_off514_inb k0_chk514 k0_chk514.dec k0_off515 k0_off515_inb
  bin arg2 arg3 arg4 arg5 arg8 arg9 10 7 k0_chk515 k0_chk515.dec k0_off516 k0_off516_inb k0_chk516 k0_chk516.dec k0_off517 k0_off517_inb
  bin arg2 arg3 arg4 arg5 arg8 arg9 10 8 k0_chk517 k0_chk517.dec k0_off518 k0_off518_inb k0_chk518 k0_chk518.dec k0_off519 k0_off519_inb
  bin arg2 arg3 arg4 arg5 arg8 arg9 10 9 k0_chk519 k0_chk519.dec k0_off520 k0_off520_inb k0_chk520 k0_chk520.dec k0_off521 k0_off521_inb
  bin arg2 arg3 arg4 arg5 arg8 arg9 10 10 k0_chk521 k0_chk521.dec k0_off522 k0_off522_inb k0_chk522 k0_chk522.dec k0_off523 k0_off523_inb
  bin arg2 arg3 arg4 arg5 arg8 arg9 10 11 k0_chk523 k0_chk523.dec k0_off524 k0_off524_inb k0_chk524 k0_chk524.dec k0_off525 k0_off525_inb
  bin arg2 arg3 arg4 arg5 arg8 arg9 10 12 k0_chk525 k0_chk525.dec k0_off526 k0_off526_inb k0_chk526 k0_chk526.dec k0_off527 k0_off527_inb
  bin arg2 arg3 arg4 arg5 arg8 arg9 10 13 k0_chk527 k0_chk527.dec k0_off528 k0_off528_inb k0_chk528 k0_chk528.dec k0_off529 k0_off529_inb
  bin arg2 arg3 arg4 arg5 arg8 arg9 10 14 k0_chk529 k0_chk529.dec k0_off530 k0_off530_inb k0_chk530 k0_chk530.dec k0_off531 k0_off531_inb
  bin arg2 arg3 arg4 arg5 arg8 arg9 10 15 k0_chk531 k0_chk531.dec k0_off532 k0_off532_inb k0_chk532 k0_chk532.dec k0_off533 k0_off533_inb
  bin arg2 arg3 arg4 arg5 arg8 arg9 10 16 k0_chk533 k0_chk533.dec k0_off534 k0_off534_inb k0_chk534 k0_chk534.dec k0_off535 k0_off535_inb
  bin arg2 arg3 arg4 arg5 arg8 arg9 10 17 k0_chk535 k0_chk535.dec k0_off536 k0_off536_inb k0_chk536 k0_chk536.dec k0_off537 k0_off537_inb
  bin arg2 arg3 arg4 arg5 arg8 arg9 10 18 k0_chk537 k0_chk537.dec k0_off538 k0_off538_inb k0_chk538 k0_chk538.dec k0_off539 k0_off539_inb
  bin arg2 arg3 arg4 arg5 arg8 arg9 10 19 k0_chk539 k0_chk539.dec k0_off540 k0_off540_inb k0_chk540 k0_chk540.dec k0_off541 k0_off541_inb
  bin arg2 arg3 arg4 arg5 arg8 arg9 10 20 k0_chk541 k0_chk541.dec k0_off542 k0_off542_inb k0_chk542 k0_chk542.dec k0_off543 k0_off543_inb
  bin arg2 arg3 arg4 arg5 arg8 arg9 10 21 k0_chk543 k0_chk543.dec k0_off544 k0_off544_inb k0_chk544 k0_chk544.dec k0_off545 k0_off545_inb
  bin arg2 arg3 arg4 arg5 arg8 arg9 10 22 k0_chk545 k0_chk545.dec k0_off546 k0_off546_inb k0_chk546 k0_chk546.dec k0_off547 k0_off547_inb
  bin arg2 arg3 arg4 arg5 arg8 arg9 10 23 k0_chk547 k0_chk547.dec k0_off548 k0_off548_inb k0_chk548 k0_chk548.dec k0_off549 k0_off549_inb
  bin arg2 arg3 arg4 arg5 arg8 arg9 10 24 k0_chk549 k0_chk549.dec k0_off550 k0_off550_inb k0_chk550 k0_chk550.dec k0_off551 k0_off551_inb
  rowEnd arg7 arg9 msk 10

/-- Region of interest 11 of the grid point. -/
def row11 : P F := do
  bin arg2 arg3 arg4 arg5 arg8 arg9 11 0 k0_chk551 k0_chk551.dec k0_off552 k0_off552_inb k0_chk552 k0_chk552.dec k0_off553 k0_off553_inb
  bin arg2 arg3 arg4 arg5 arg8 arg9 11 1 k0_chk553 k0_chk553.dec k0_off554 k0_off554_inb k0_chk554 k0_chk554.dec k0_off555 k0_off555_inb
  bin arg2 arg3 arg4 arg5 arg8 arg9 11 2 k0_chk555 k0_chk555.dec k0_off556 k0_off556_inb k0_chk556 k0_chk556.dec k0_off557 k0_off557_inb
  bin arg2 arg3 arg4 arg5 arg8 arg9 11 3 k0_chk557 k0_chk557.dec k0_off558 k0_off558_inb k0_chk558 k0_chk558.dec k0_off559 k0_off559_inb
  bin arg2 arg3 arg4 arg5 arg8 arg9 11 4 k0_chk559 k0_chk559.dec k0_off560 k0_off560_inb k0_chk560 k0_chk560.dec k0_off561 k0_off561_inb
  bin arg2 arg3 arg4 arg5 arg8 arg9 11 5 k0_chk561 k0_chk561.dec k0_off562 k0_off562_inb k0_chk562 k0_chk562.dec k0_off563 k0_off563_inb
  bin arg2 arg3 arg4 arg5 arg8 arg9 11 6 k0_chk563 k0_chk563.dec k0_off564 k0_off564_inb k0_chk564 k0_chk564.dec k0_off565 k0_off565_inb
  bin arg2 arg3 arg4 arg5 arg8 arg9 11 7 k0_chk565 k0_chk565.dec k0_off566 k0_off566_inb k0_chk566 k0_chk566.dec k0_off567 k0_off567_inb
  bin arg2 arg3 arg4 arg5 arg8 arg9 11 8 k0_chk567 k0_chk567.dec k0_off568 k0_off568_inb k0_chk568 k0_chk568.dec k0_off569 k0_off569_inb
  bin arg2 arg3 arg4 arg5 arg8 arg9 11 9 k0_chk569 k0_chk569.dec k0_off570 k0_off570_inb k0_chk570 k0_chk570.dec k0_off571 k0_off571_inb
  bin arg2 arg3 arg4 arg5 arg8 arg9 11 10 k0_chk571 k0_chk571.dec k0_off572 k0_off572_inb k0_chk572 k0_chk572.dec k0_off573 k0_off573_inb
  bin arg2 arg3 arg4 arg5 arg8 arg9 11 11 k0_chk573 k0_chk573.dec k0_off574 k0_off574_inb k0_chk574 k0_chk574.dec k0_off575 k0_off575_inb
  bin arg2 arg3 arg4 arg5 arg8 arg9 11 12 k0_chk575 k0_chk575.dec k0_off576 k0_off576_inb k0_chk576 k0_chk576.dec k0_off577 k0_off577_inb
  bin arg2 arg3 arg4 arg5 arg8 arg9 11 13 k0_chk577 k0_chk577.dec k0_off578 k0_off578_inb k0_chk578 k0_chk578.dec k0_off579 k0_off579_inb
  bin arg2 arg3 arg4 arg5 arg8 arg9 11 14 k0_chk579 k0_chk579.dec k0_off580 k0_off580_inb k0_chk580 k0_chk580.dec k0_off581 k0_off581_inb
  bin arg2 arg3 arg4 arg5 arg8 arg9 11 15 k0_chk581 k0_chk581.dec k0_off582 k0_off582_inb k0_chk582 k0_chk582.dec k0_off583 k0_off583_inb
  bin arg2 arg3 arg4 arg5 arg8 arg9 11 16 k0_chk583 k0_chk583.dec k0_off584 k0_off584_inb k0_chk584 k0_chk584.dec k0_off585 k0_off585_inb
  bin arg2 arg3 arg4 arg5 arg8 arg9 11 17 k0_chk585 k0_chk585.dec k0_off586 k0_off586_inb k0_chk586 k0_chk586.dec k0_off587 k0_off587_inb
  bin arg2 arg3 arg4 arg5 arg8 arg9 11 18 k0_chk587 k0_chk587.dec k0_off588 k0_off588_inb k0_chk588 k0_chk588.dec k0_off589 k0_off589_inb
  bin arg2 arg3 arg4 arg5 arg8 arg9 11 19 k0_chk589 k0_chk589.dec k0_off590 k0_off590_inb k0_chk590 k0_chk590.dec k0_off591 k0_off591_inb
  bin arg2 arg3 arg4 arg5 arg8 arg9 11 20 k0_chk591 k0_chk591.dec k0_off592 k0_off592_inb k0_chk592 k0_chk592.dec k0_off593 k0_off593_inb
  bin arg2 arg3 arg4 arg5 arg8 arg9 11 21 k0_chk593 k0_chk593.dec k0_off594 k0_off594_inb k0_chk594 k0_chk594.dec k0_off595 k0_off595_inb
  bin arg2 arg3 arg4 arg5 arg8 arg9 11 22 k0_chk595 k0_chk595.dec k0_off596 k0_off596_inb k0_chk596 k0_chk596.dec k0_off597 k0_off597_inb
  bin arg2 arg3 arg4 arg5 arg8 arg9 11 23 k0_chk597 k0_chk597.dec k0_off598 k0_off598_inb k0_chk598 k0_chk598.dec k0_off599 k0_off599_inb
  bin arg2 arg3 arg4 arg5 arg8 arg9 11 24 k0_chk599 k0_chk599.dec k0_off600 k0_off600_inb k0_chk600 k0_chk600.dec k0_off601 k0_off601_inb
  rowEnd arg7 arg9 msk 11

/-- Region of interest 12 of the grid point. -/
def row12 : P F := do
  bin arg2 arg3 arg4 arg5 arg8 arg9 12 0 k0_chk601 k0_chk601.dec k0_off602 k0_off602_inb k0_chk602 k0_chk602.dec k0_off603 k0_off603_inb
  bin arg2 arg3 arg4 arg5 arg8 arg9 12 1 k0_chk603 k0_chk603.dec k0_off604 k0_off604_inb k0_chk604 k0_chk604.dec k0_off605 k0_off605_inb
  bin arg2 arg3 arg4 arg5 arg8 arg9 12 2 k0_chk605 k0_chk605.dec k0_off606 k0_off606_inb k0_chk606 k0_chk606.dec k0_off607 k0_off607_inb
  bin arg2 arg3 arg4 arg5 arg8 arg9 12 3 k0_chk607 k0_chk607.dec k0_off608 k0_off608_inb k0_chk608 k0_chk608.dec k0_off609 k0_off609_inb
  bin arg2 arg3 arg4 arg5 arg8 arg9 12 4 k0_chk609 k0_chk609.dec k0_off610 k0_off610_inb k0_chk610 k0_chk610.dec k0_off611 k0_off611_inb
  bin arg2 arg3 arg4 arg5 arg8 arg9 12 5 k0_chk611 k0_chk611.dec k0_off612 k0_off612_inb k0_chk612 k0_chk612.dec k0_off613 k0_off613_inb
  bin arg2 arg3 arg4 arg5 arg8 arg9 12 6 k0_chk613 k0_chk613.dec k0_off614 k0_off614_inb k0_chk614 k0_chk614.dec k0_off615 k0_off615_inb
  bin arg2 arg3 arg4 arg5 arg8 arg9 12 7 k0_chk615 k0_chk615.dec k0_off616 k0_off616_inb k0_chk616 k0_chk616.dec k0_off617 k0_off617_inb
  bin arg2 arg3 arg4 arg5 arg8 arg9 12 8 k0_chk617 k0_chk617.dec k0_off618 k0_off618_inb k0_chk618 k0_chk618.dec k0_off619 k0_off619_inb
  bin arg2 arg3 arg4 arg5 arg8 arg9 12 9 k0_chk619 k0_chk619.dec k0_off620 k0_off620_inb k0_chk620 k0_chk620.dec k0_off621 k0_off621_inb
  bin arg2 arg3 arg4 arg5 arg8 arg9 12 10 k0_chk621 k0_chk621.dec k0_off622 k0_off622_inb k0_chk622 k0_chk622.dec k0_off623 k0_off623_inb
  bin arg2 arg3 arg4 arg5 arg8 arg9 12 11 k0_chk623 k0_chk623.dec k0_off624 k0_off624_inb k0_chk624 k0_chk624.dec k0_off625 k0_off625_inb
  bin arg2 arg3 arg4 arg5 arg8 arg9 12 12 k0_chk625 k0_chk625.dec k0_off626 k0_off626_inb k0_chk626 k0_chk626.dec k0_off627 k0_off627_inb
  bin arg2 arg3 arg4 arg5 arg8 arg9 12 13 k0_chk627 k0_chk627.dec k0_off628 k0_off628_inb k0_chk628 k0_chk628.dec k0_off629 k0_off629_inb
  bin arg2 arg3 arg4 arg5 arg8 arg9 12 14 k0_chk629 k0_chk629.dec k0_off630 k0_off630_inb k0_chk630 k0_chk630.dec k0_off631 k0_off631_inb
  bin arg2 arg3 arg4 arg5 arg8 arg9 12 15 k0_chk631 k0_chk631.dec k0_off632 k0_off632_inb k0_chk632 k0_chk632.dec k0_off633 k0_off633_inb
  bin arg2 arg3 arg4 arg5 arg8 arg9 12 16 k0_chk633 k0_chk633.dec k0_off634 k0_off634_inb k0_chk634 k0_chk634.dec k0_off635 k0_off635_inb
  bin arg2 arg3 arg4 arg5 arg8 arg9 12 17 k0_chk635 k0_chk635.dec k0_off636 k0_off636_inb k0_chk636 k0_chk636.dec k0_off637 k0_off637_inb
  bin arg2 arg3 arg4 arg5 arg8 arg9 12 18 k0_chk637 k0_chk637.dec k0_off638 k0_off638_inb k0_chk638 k0_chk638.dec k0_off639 k0_off639_inb
  bin arg2 arg3 arg4 arg5 arg8 arg9 12 19 k0_chk639 k0_chk639.dec k0_off640 k0_off640_inb k0_chk640 k0_chk640.dec k0_off641 k0_off641_inb
  bin arg2 arg3 arg4 arg5 arg8 arg9 12 20 k0_chk641 k0_chk641.dec k0_off642 k0_off642_inb k0_chk642 k0_chk642.dec k0_off643 k0_off643_inb
  bin arg2 arg3 arg4 arg5 arg8 arg9 12 21 k0_chk643 k0_chk643.dec k0_off644 k0_off644_inb k0_chk644 k0_chk644.dec k0_off645 k0_off645_inb
  bin arg2 arg3 arg4 arg5 arg8 arg9 12 22 k0_chk645 k0_chk645.dec k0_off646 k0_off646_inb k0_chk646 k0_chk646.dec k0_off647 k0_off647_inb
  bin arg2 arg3 arg4 arg5 arg8 arg9 12 23 k0_chk647 k0_chk647.dec k0_off648 k0_off648_inb k0_chk648 k0_chk648.dec k0_off649 k0_off649_inb
  bin arg2 arg3 arg4 arg5 arg8 arg9 12 24 k0_chk649 k0_chk649.dec k0_off650 k0_off650_inb k0_chk650 k0_chk650.dec k0_off651 k0_off651_inb
  rowEnd arg7 arg9 msk 12

/-- Region of interest 13 of the grid point. -/
def row13 : P F := do
  bin arg2 arg3 arg4 arg5 arg8 arg9 13 0 k0_chk651 k0_chk651.dec k0_off652 k0_off652_inb k0_chk652 k0_chk652.dec k0_off653 k0_off653_inb
  bin arg2 arg3 arg4 arg5 arg8 arg9 13 1 k0_chk653 k0_chk653.dec k0_off654 k0_off654_inb k0_chk654 k0_chk654.dec k0_off655 k0_off655_inb
  bin arg2 arg3 arg4 arg5 arg8 arg9 13 2 k0_chk655 k0_chk655.dec k0_off656 k0_off656_inb k0_chk656 k0_chk656.dec k0_off657 k0_off657_inb
  bin arg2 arg3 arg4 arg5 arg8 arg9 13 3 k0_chk657 k0_chk657.dec k0_off658 k0_off658_inb k0_chk658 k0_chk658.dec k0_off659 k0_off659_inb
  bin arg2 arg3 arg4 arg5 arg8 arg9 13 4 k0_chk659 k0_chk659.dec k0_off660 k0_off660_inb k0_chk660 k0_chk660.dec k0_off661 k0_off661_inb
  bin arg2 arg3 arg4 arg5 arg8 arg9 13 5 k0_chk661 k0_chk661.dec k0_off662 k0_off662_inb k0_chk662 k0_chk662.dec k0_off663 k0_off663_inb
  bin arg2 arg3 arg4 arg5 arg8 arg9 13 6 k0_chk663 k0_chk663.dec k0_off664 k0_off664_inb k0_chk664 k0_chk664.dec k0_off665 k0_off665_inb
  bin arg2 arg3 arg4 arg5 arg8 arg9 13 7 k0_chk665 k0_chk665.dec k0_off666 k0_off666_inb k0_chk666 k0_chk666.dec k0_off667 k0_off667_inb
  bin arg2 arg3 arg4 arg5 arg8 arg9 13 8 k0_chk667 k0_chk667.dec k0_off668 k0_off668_inb k0_chk668 k0_chk668.dec k0_off669 k0_off669_inb
  bin arg2 arg3 arg4 arg5 arg8 arg9 13 9 k0_chk669 k0_chk669.dec k0_off670 k0_off670_inb k0_chk670 k0_chk670.dec k0_off671 k0_off671_inb
  bin arg2 arg3 arg4 arg5 arg8 arg9 13 10 k0_chk671 k0_chk671.dec k0_off672 k0_off672_inb k0_chk672 k0_chk672.dec k0_off673 k0_off673_inb
  bin arg2 arg3 arg4 arg5 arg8 arg9 13 11 k0_chk673 k0_chk673.dec k0_off674 k0_off674_inb k0_chk674 k0_chk674.dec k0_off675 k0_off675_inb
  bin arg2 arg3 arg4 arg5 arg8 arg9 13 12 k0_chk675 k0_chk675.dec k0_off676 k0_off676_inb k0_chk676 k0_chk676.dec k0_off677 k0_off677_inb
  bin arg2 arg3 arg4 arg5 arg8 arg9 13 13 k0_chk677 k0_chk677.dec k0_off678 k0_off678_inb k0_chk678 k0_chk678.dec k0_off679 k0_off679_inb
  bin arg2 arg3 arg4 arg5 arg8 arg9 13 14 k0_chk679 k0_chk679.dec k0_off680 k0_off680_inb k0_chk680 k0_chk680.dec k0_off681 k0_off681_inb
  bin arg2 arg3 arg4 arg5 arg8 arg9 13 15 k0_chk681 k0_chk681.dec k0_off682 k0_off682_inb k0_chk682 k0_chk682.dec k0_off683 k0_off683_inb
  bin arg2 arg3 arg4 arg5 arg8 arg9 13 16 k0_chk683 k0_chk683.dec k0_off684 k0_off684_inb k0_chk684 k0_chk684.dec k0_off685 k0_off685_inb
  bin arg2 arg3 arg4 arg5 arg8 arg9 13 17 k0_chk685 k0_chk685.dec k0_off686 k0_off686_inb k0_chk686 k0_chk686.dec k0_off687 k0_off687_inb
  bin arg2 arg3 arg4 arg5 arg8 arg9 13 18 k0_chk687 k0_chk687.dec k0_off688 k0_off688_inb k0_chk688 k0_chk688.dec k0_off689 k0_off689_inb
  bin arg2 arg3 arg4 arg5 arg8 arg9 13 19 k0_chk689 k0_chk689.dec k0_off690 k0_off690_inb k0_chk690 k0_chk690.dec k0_off691 k0_off691_inb
  bin arg2 arg3 arg4 arg5 arg8 arg9 13 20 k0_chk691 k0_chk691.dec k0_off692 k0_off692_inb k0_chk692 k0_chk692.dec k0_off693 k0_off693_inb
  bin arg2 arg3 arg4 arg5 arg8 arg9 13 21 k0_chk693 k0_chk693.dec k0_off694 k0_off694_inb k0_chk694 k0_chk694.dec k0_off695 k0_off695_inb
  bin arg2 arg3 arg4 arg5 arg8 arg9 13 22 k0_chk695 k0_chk695.dec k0_off696 k0_off696_inb k0_chk696 k0_chk696.dec k0_off697 k0_off697_inb
  bin arg2 arg3 arg4 arg5 arg8 arg9 13 23 k0_chk697 k0_chk697.dec k0_off698 k0_off698_inb k0_chk698 k0_chk698.dec k0_off699 k0_off699_inb
  bin arg2 arg3 arg4 arg5 arg8 arg9 13 24 k0_chk699 k0_chk699.dec k0_off700 k0_off700_inb k0_chk700 k0_chk700.dec k0_off701 k0_off701_inb
  rowEnd arg7 arg9 msk 13

/-- Region of interest 14 of the grid point. -/
def row14 : P F := do
  bin arg2 arg3 arg4 arg5 arg8 arg9 14 0 k0_chk701 k0_chk701.dec k0_off702 k0_off702_inb k0_chk702 k0_chk702.dec k0_off703 k0_off703_inb
  bin arg2 arg3 arg4 arg5 arg8 arg9 14 1 k0_chk703 k0_chk703.dec k0_off704 k0_off704_inb k0_chk704 k0_chk704.dec k0_off705 k0_off705_inb
  bin arg2 arg3 arg4 arg5 arg8 arg9 14 2 k0_chk705 k0_chk705.dec k0_off706 k0_off706_inb k0_chk706 k0_chk706.dec k0_off707 k0_off707_inb
  bin arg2 arg3 arg4 arg5 arg8 arg9 14 3 k0_chk707 k0_chk707.dec k0_off708 k0_off708_inb k0_chk708 k0_chk708.dec k0_off709 k0_off709_inb
  bin arg2 arg3 arg4 arg5 arg8 arg9 14 4 k0_chk709 k0_chk709.dec k0_off710 k0_off710_inb k0_chk710 k0_chk710.dec k0_off711 k0_off711_inb
  bin arg2 arg3 arg4 arg5 arg8 arg9 14 5 k0_chk711 k0_chk711.dec k0_off712 k0_off712_inb k0_chk712 k0_chk712.dec k0_off713 k0_off713_inb
  bin arg2 arg3 arg4 arg5 arg8 arg9 14 6 k0_chk713 k0_chk713.dec k0_off714 k0_off714_inb k0_chk714 k0_chk714.dec k0_off715 k0_off715_inb
  bin arg2 arg3 arg4 arg5 arg8 arg9 14 7 k0_chk715 k0_chk715.dec k0_off716 k0_off716_inb k0_chk716 k0_chk716.dec k0_off717 k0_off717_inb
  bin arg2 arg3 arg4 arg5 arg8 arg9 14 8 k0_chk717 k0_chk717.dec k0_off718 k0_off718_inb k0_chk718 k0_chk718.dec k0_off719 k0_off719_inb
  bin arg2 arg3 arg4 arg5 arg8 arg9 14 9 k0_chk719 k0_chk719.dec k0_off720 k0_off720_inb k0_chk720 k0_chk720.dec k0_off721 k0_off721_inb
  bin arg2 arg3 arg4 arg5 arg8 arg9 14 10 k0_chk721 k0_chk721.dec k0_off722 k0_off722_inb k0_chk722 k0_chk722.dec k0_off723 k0_off723_inb
  bin arg2 arg3 arg4 arg5 arg8 arg9 14 11 k0_chk723 k0_chk723.dec k0_off724 k0_off724_inb k0_chk724 k0_chk724.dec k0_off725 k0_off725_inb
  bin arg2 arg3 arg4 arg5 arg8 arg9 14 12 k0_chk725 k0_chk725.dec k0_off726 k0_off726_inb k0_chk726 k0_chk726.dec k0_off727 k0_off727_inb
  bin arg2 arg3 arg4 arg5 arg8 arg9 14 13 k0_chk727 k0_chk727.dec k0_off728 k0_off728_inb k0_chk728 k0_chk728.dec k0_off729 k0_off729_inb
  bin arg2 arg3 arg4 arg5 arg8 arg9 14 14 k0_chk729 k0_chk729.dec k0_off730 k0_off730_inb k0_chk730 k0_chk730.dec k0_off731 k0_off731_inb
  bin arg2 arg3 arg4 arg5 arg8 arg9 14 15 k0_chk731 k0_chk731.dec k0_off732 k0_off732_inb k0_chk732 k0_chk732.dec k0_off733 k0_off733_inb
  bin arg2 arg3 arg4 arg5 arg8 arg9 14 16 k0_chk733 k0_chk733.dec k0_off734 k0_off734_inb k0_chk734 k0_chk734.dec k0_off735 k0_off735_inb
  bin arg2 arg3 arg4 arg5 arg8 arg9 14 17 k0_chk735 k0_chk735.dec k0_off736 k0_off736_inb k0_chk736 k0_chk736.dec k0_off737 k0_off737_inb
  bin arg2 arg3 arg4 arg5 arg8 arg9 14 18 k0_chk737 k0_chk737.dec k0_off738 k0_off738_inb k0_chk738 k0_chk738.dec k0_off739 k0_off739_inb
  bin arg2 arg3 arg4 arg5 arg8 arg9 14 19 k0_chk739 k0_chk739.dec k0_off740 k0_off740_inb k0_chk740 k0_chk740.dec k0_off741 k0_off741_inb
  bin arg2 arg3 arg4 arg5 arg8 arg9 14 20 k0_chk741 k0_chk741.dec k0_off742 k0_off742_inb k0_chk742 k0_chk742.dec k0_off743 k0_off743_inb
  bin arg2 arg3 arg4 arg5 arg8 arg9 14 21 k0_chk743 k0_chk743.dec k0_off744 k0_off744_inb k0_chk744 k0_chk744.dec k0_off745 k0_off745_inb
  bin arg2 arg3 arg4 arg5 arg8 arg9 14 22 k0_chk745 k0_chk745.dec k0_off746 k0_off746_inb k0_chk746 k0_chk746.dec k0_off747 k0_off747_inb
  bin arg2 arg3 arg4 arg5 arg8 arg9 14 23 k0_chk747 k0_chk747.dec k0_off748 k0_off748_inb k0_chk748 k0_chk748.dec k0_off749 k0_off749_inb
  bin arg2 arg3 arg4 arg5 arg8 arg9 14 24 k0_chk749 k0_chk749.dec k0_off750 k0_off750_inb k0_chk750 k0_chk750.dec k0_off751 k0_off751_inb
  rowEnd arg7 arg9 msk 14

/-- Region of interest 15 of the grid point. -/
def row15 : P F := do
  bin arg2 arg3 arg4 arg5 arg8 arg9 15 0 k0_chk751 k0_chk751.dec k0_off752 k0_off752_inb k0_chk752 k0_chk752.dec k0_off753 k0_off753_inb
  bin arg2 arg3 arg4 arg5 arg8 arg9 15 1 k0_chk753 k0_chk753.dec k0_off754 k0_off754_inb k0_chk754 k0_chk754.dec k0_off755 k0_off755_inb
  bin arg2 arg3 arg4 arg5 arg8 arg9 15 2 k0_chk755 k0_chk755.dec k0_off756 k0_off756_inb k0_chk756 k0_chk756.dec k0_off757 k0_off757_inb
  bin arg2 arg3 arg4 arg5 arg8 arg9 15 3 k0_chk757 k0_chk757.dec k0_off758 k0_off758_inb k0_chk758 k0_chk758.dec k0_off759 k0_off759_inb
  bin arg2 arg3 arg4 arg5 arg8 arg9 15 4 k0_chk759 k0_chk759.dec k0_off760 k0_off760_inb k0_chk760 k0_chk760.dec k0_off761 k0_off761_inb
  bin arg2 arg3 arg4 arg5 arg8 arg9 15 5 k0_chk761 k0_chk761.dec k0_off762 k0_off762_inb k0_chk762 k0_chk762.dec k0_off763 k0_off763_inb
  bin arg2 arg3 arg4 arg5 arg8 arg9 15 6 k0_chk763 k0_chk763.dec k0_off764 k0_off764_inb k0_chk764 k0_chk764.dec k0_off765 k0_off765_inb
  bin arg2 arg3 arg4 arg5 arg8 arg9 15 7 k0_chk765 k0_chk765.dec k0_off766 k0_off766_inb k0_chk766 k0_chk766.dec k0_off767 k0_off767_inb
  bin arg2 arg3 arg4 arg5 arg8 arg9 15 8 k0_chk767 k0_chk767.dec k0_off768 k0_off768_inb k0_chk768 k0_chk768.dec k0_off769 k0_off769_inb
  bin arg2 arg3 arg4 arg5 arg8 arg9 15 9 k0_chk769 k0_chk769.dec k0_off770 k0_off770_inb k0_chk770 k0_chk770.dec k0_off771 k0_off771_inb
  bin arg2 arg3 arg4 arg5 arg8 arg9 15 10 k0_chk771 k0_chk771.dec k0_off772 k0_off772_inb k0_chk772 k0_chk772.dec k0_off773 k0_off773_inb
  bin arg2 arg3 arg4 arg5 arg8 arg9 15 11 k0_chk773 k0_chk773.dec k0_off774 k0_off774_inb k0_chk774 k0_chk774.dec k0_off775 k0_off775_inb
  bin arg2 arg3 arg4 arg5 arg8 arg9 15 12 k0_chk775 k0_chk775.dec k0_off776 k0_off776_inb k0_chk776 k0_chk776.dec k0_off777 k0_off777_inb
  bin arg2 arg3 arg4 arg5 arg8 arg9 15 13 k0_chk777 k0_chk777.dec k0_off778 k0_off778_inb k0_chk778 k0_chk778.dec k0_off779 k0_off779_inb
  bin arg2 arg3 arg4 arg5 arg8 arg9 15 14 k0_chk779 k0_chk779.dec k0_off780 k0_off780_inb k0_chk780 k0_chk780.dec k0_off781 k0_off781_inb
  bin arg2 arg3 arg4 arg5 arg8 arg9 15 15 k0_chk781 k0_chk781.dec k0_off782 k0_off782_inb k0_chk782 k0_chk782.dec k0_off783 k0_off783_inb
  bin arg2 arg3 arg4 arg5 arg8 arg9 15 16 k0_chk783 k0_chk783.dec k0_off784 k0_off784_inb k0_chk784 k0_chk784.dec k0_off785 k0_off785_inb
  bin arg2 arg3 arg4 arg5 arg8 arg9 15 17 k0_chk785 k0_chk785.dec k0_off786 k0_off786_inb k0_chk786 k0_chk786.dec k0_off787 k0_off787_inb
  bin arg2 arg3 arg4 arg5 arg8 arg9 15 18 k0_chk787 k0_chk787.dec k0_off788 k0_off788_inb k0_chk788 k0_chk788.dec k0_off789 k0_off789_inb
  bin arg2 arg3 arg4 arg5 arg8 arg9 15 19 k0_chk789 k0_chk789.dec k0_off790 k0_off790_inb k0_chk790 k0_chk790.dec k0_off791 k0_off791_inb
  bin arg2 arg3 arg4 arg5 arg8 arg9 15 20 k0_chk791 k0_chk791.dec k0_off792 k0_off792_inb k0_chk792 k0_chk792.dec k0_off793 k0_off793_inb
  bin arg2 arg3 arg4 arg5 arg8 arg9 15 21 k0_chk793 k0_chk793.dec k0_off794 k0_off794_inb k0_chk794 k0_chk794.dec k0_off795 k0_off795_inb
  bin arg2 arg3 arg4 arg5 arg8 arg9 15 22 k0_chk795 k0_chk795.dec k0_off796 k0_off796_inb k0_chk796 k0_chk796.dec k0_off797 k0_off797_inb
  bin arg2 arg3 arg4 arg5 arg8 arg9 15 23 k0_chk797 k0_chk797.dec k0_off798 k0_off798_inb k0_chk798 k0_chk798.dec k0_off799 k0_off799_inb
  bin arg2 arg3 arg4 arg5 arg8 arg9 15 24 k0_chk799 k0_chk799.dec k0_off800 k0_off800_inb k0_chk800 k0_chk800.dec k0_off801 k0_off801_inb
  rowEnd arg7 arg9 msk 15

/-- The 16 regions of a grid point, in order. -/
def rows : P F := do
  row0 arg2 arg3 arg4 arg5 arg7 arg8 arg9 msk
  row1 arg2 arg3 arg4 arg5 arg7 arg8 arg9 msk
  row2 arg2 arg3 arg4 arg5 arg7 arg8 arg9 msk
  row3 arg2 arg3 arg4 arg5 arg7 arg8 arg9 msk
  row4 arg2 arg3 arg4 arg5 arg7 arg8 arg9 msk
  row5 arg2 arg3 arg4 arg5 arg7 arg8 arg9 msk
  row6 arg2 arg3 arg4 arg5 arg7 arg8 arg9 msk
  row7 arg2 arg3 arg4 arg5 arg7 arg8 arg9 msk
  row8 arg2 arg3 arg4 arg5 arg7 arg8 arg9 msk
  row9 arg2 arg3 arg4 arg5 arg7 arg8 arg9 msk
  row10 arg2 arg3 arg4 arg5 arg7 arg8 arg9 msk
  row11 arg2 arg3 arg4 arg5 arg7 arg8 arg9 msk
  row12 arg2 arg3 arg4 arg5 arg7 arg8 arg9 msk
  row13 arg2 arg3 arg4 arg5 arg7 arg8 arg9 msk
  row14 arg2 arg3 arg4 arg5 arg7 arg8 arg9 msk
  row15 arg2 arg3 arg4 arg5 arg7 arg8 arg9 msk

/-- The whole body: at the first point of a slab the slab's transfer, then the 16 regions. -/
def body (i : grid0.Coords) (arg2 : Memref sig .tc .smem S1x16x25 .i32) (harg2 : arg2.IsWhole) (arg3 : Memref sig .tc .smem S1x16x25 .i32) (harg3 : arg3.IsWhole)
    (arg4 : Memref sig .tc .smem S1x16x25 .f32) (harg4 : arg4.IsWhole) (arg5 : Memref sig .tc .smem S1x16x25 .f32) (harg5 : arg5.IsWhole)
    (arg6 : Memref sig .tc .hbm S2x66048x128 .f32) (harg6 : arg6.IsWhole) (arg7 : Memref sig .tc .vmem S16x1x128 .f32) (harg7 : arg7.IsWhole)
    (arg8 : Memref sig .tc .vmem S66048x128 .f32) (harg8 : arg8.IsWhole) (arg9 : Memref sig .tc .vmem S32x128 .f32) (harg9 : arg9.IsWhole)
    (arg10 : DmaSems sig S_) : P F := do
  if h1 : k0_cond1 i = 1#1 then do
    let v15739 : Memref sig .tc .hbm S1x66048x128 .f32 := arg6.slice (Rect.unit (s := S2x66048x128) (k0_off1 i) S1x66048x128.size (Facts₀.k0_off1_inb i h1)) (fun _ => rfl)
    let v15740 : Memref sig .tc .hbm S66048x128 .f32 := v15739.squeeze S66048x128 Facts₀.squeezes_S1x66048x128_S66048x128
    Prog.lift (.enqueueDma v15740 (.here arg8) (.dma arg10.sem) ((View.wordExact_bits rfl).reshape _ _) harg8.wordExact ⟨Or.inl rfl, trivial⟩)
    Prog.lift (.waitDma2 arg10.sem v15740 arg8 ((View.wordExact_bits rfl).reshape _ _) harg8.wordExact)
    pure ⟨⟩
  else do
    pure ⟨⟩
  rows arg2 arg3 arg4 arg5 arg7 arg8 arg9 mask
  pure ⟨⟩

end Cert.Fold

end
-- ==== Proof.BodyL.lean ====
/-
  The 16 regions of a grid point as two recursions, over the regions and over the bins of a region: every bin's side
  conditions and offsets are the first one's, which they are all equal to by their definitions.
-/
module

public import proofs.«01_k».proof.Proof.Body

@[expose] public section

set_option maxRecDepth 100000

noncomputable section

namespace Cert.Fold

open Idealize.ShloMosaic Idealize.SL.Sem Cert.Kernel

variable {F : FTy → Type} [FloatOps F] [Facts]
variable (arg2 : Memref sig .tc .smem S1x16x25 .i32) (arg3 : Memref sig .tc .smem S1x16x25 .i32)
  (arg4 : Memref sig .tc .smem S1x16x25 .f32) (arg5 : Memref sig .tc .smem S1x16x25 .f32)
  (arg7 : Memref sig .tc .vmem S16x1x128 .f32) (arg8 : Memref sig .tc .vmem S66048x128 .f32) (arg9 : Memref sig .tc .vmem S32x128 .f32)
  (msk : FVec F S25x128 .f32)

/-- The rest of region `nl` from bin `b` on, `n` bins, and its end. -/
def rowFrom (nl : Nat) (hnl : nl < 16) : (n b : Nat) → b + n = 25 → P F
  | 0, _, _ => rowEnd arg7 arg9 msk nl hnl
  | n + 1, b, h => do
    bin arg2 arg3 arg4 arg5 arg8 arg9 nl b k0_chk1 k0_chk1.dec k0_off2 k0_off2_inb k0_chk1 k0_chk1.dec k0_off2 k0_off2_inb hnl (by omega)
    rowFrom nl hnl n (b + 1) (by omega)

/-- The regions from `nl` on, `n + 1` of them. -/
def rowsFrom : (n nl : Nat) → nl + n = 15 → P F
  | 0, nl, h => rowFrom arg2 arg3 arg4 arg5 arg7 arg8 arg9 msk nl (by omega) 25 0 rfl
  | n + 1, nl, h => do
    rowFrom arg2 arg3 arg4 arg5 arg7 arg8 arg9 msk nl (by omega) 25 0 rfl
    rowsFrom n (nl + 1) (by omega)

theorem rows_eq : rows arg2 arg3 arg4 arg5 arg7 arg8 arg9 msk = rowsFrom arg2 arg3 arg4 arg5 arg7 arg8 arg9 msk 15 0 rfl := rfl

end Cert.Fold

end
-- ==== Proof.BinRun.lean ====
/-
  One bin of one box: the steps that read the four corners of a sample's cell, and what they leave.
-/
module

public import proofs.«01_k».proof.Proof.Body
public import proofs.«01_k».proof.Proof.Gen.Kernel.Launch
public import Idealize.ShloMosaic.Lib.Pipeline.RegionsLoop
public import Idealize.ShloMosaic.Lib.Tactic
public import Idealize.ShloMosaic.Lib.Pointwise
public import Idealize.ShloMosaic.Lib.WritesUnit

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ
/-- Memref `M` owned whole at contents `X`. -/
abbrev own (c : Dev nD) {sp : Space} {S : Shape} {e : EltTy} (M : Memref sig .tc sp S e) (X : S.Idx → Elt F e) : sProp 𝕄 :=
  owns (c : Thread nD τ) M fullShare X

/-- The multi-index of bin `b` of region `nl` in a table of one grid point. -/
def ixT (nl b : Nat) : S1x16x25.Idx := ix3 (0 : Fin 1) (Fin.ofNat 16 nl) (Fin.ofNat 25 b)

theorem emb_ixT {nl b : Nat} (hnl : nl < 16) (hb : b < 25) :
    (Rect.unit (s := S1x16x25) ![0, nl, b] S1x1x1.size (inb_smem hnl hb)).emb (Shape.Idx.first (numel1.symm ▸ Nat.one_pos)) = ixT nl b := by
  funext a
  refine Fin.ext ?_
  fin_cases a
  · rfl
  · exact (Nat.mod_eq_of_lt hnl).symm
  · exact (Nat.mod_eq_of_lt hb).symm

/-- The first of the 16 rows loaded for the word `v`: `v` rounded down to a multiple of 8. -/
def base (v : BitVec 32) : Nat := k0_off2 v 0

/-- The 16 rows of the slab loaded for the word `v`. -/
def ld (X : Vec F S66048x128 .f32) (v : BitVec 32) : Vec F S16x128 .f32 :=
  fun j => X (ix2 (Fin.ofNat 66048 (base v + (j 0).val)) (j 1 : Fin 128))

/-- The row of a bin: the two loads rotated so that the word's own row comes first, interpolated with the two weights. -/
def interp (v27 v28 : BitVec 32) (v29 v30 : F .f32) (v38 v40 : FVec F S16x128 .f32) : FVec F S1x128 .f32 :=
  let v42 : BitVec 32 := Scalar.subi 0#32 (Scalar.andi v27 7#32)
  have v43 : FVec F S16x128 .f32 := dynamicRotate 0 v42 none v38 rot
  let v45 : BitVec 32 := Scalar.subi 0#32 (Scalar.andi v28 7#32)
  have v46 : FVec F S16x128 .f32 := dynamicRotate 0 v45 none v40 rot
  have v47 : FVec F S2x128 .f32 := extractStridedSlice S2x128 ![0, 0] v43 sl16
  have cst : F .f32 := Scalar.ofBits .f32 0x3F800000#32
  have v48 : F .f32 := Scalar.subf cst v30
  have v49 : FVec F S2x128 .f32 := broadcast S2x128 v48
  have v50 : FVec F S2x128 .f32 := mulf v47 v49
  have v51 : FVec F S2x128 .f32 := extractStridedSlice S2x128 ![0, 0] v46 sl16
  have v52 : FVec F S2x128 .f32 := broadcast S2x128 v30
  have v53 : FVec F S2x128 .f32 := mulf v51 v52
  have v54 : FVec F S2x128 .f32 := addf v50 v53
  have v55 : FVec F S1x128 .f32 := extractStridedSlice S1x128 ![0, 0] v54 sl2a
  have v56 : F .f32 := Scalar.subf cst v29
  have v57 : FVec F S1x128 .f32 := broadcast S1x128 v56
  have v58 : FVec F S1x128 .f32 := mulf v55 v57
  have v59 : FVec F S1x128 .f32 := extractStridedSlice S1x128 ![1, 0] v54 sl2b
  have v60 : FVec F S1x128 .f32 := broadcast S1x128 v29
  have v61 : FVec F S1x128 .f32 := mulf v59 v60
  have v62 : FVec F S1x128 .f32 := addf v58 v61
  shapeCast S1x128 v62 sc1

/-- The row of bin `b` of region `nl`, off the four tables of the grid point and the slab. -/
def rowVal (X2 X3 : Vec F S1x16x25 .i32) (X4 X5 : Vec F S1x16x25 .f32) (X8 : Vec F S66048x128 .f32) (nl b : Nat) : FVec F S1x128 .f32 :=
  interp (X2 (ixT nl b)) (X3 (ixT nl b)) (X4 (ixT nl b)) (X5 (ixT nl b)) (ld X8 (X2 (ixT nl b))) (ld X8 (X3 (ixT nl b)))

/-- The scratch with row `b` replaced. -/
def setRow (X9 : Vec F S32x128 .f32) (b : Nat) (w : FVec F S1x128 .f32) : Vec F S32x128 .f32 :=
  fun i => if (i 0).val = b then w (ix2 (0 : Fin 1) (i 1 : Fin 128)) else X9 i

/-- Rows times the mask, summed over the rows. -/
def foldVal' (v1002 : Vec F S25x128 .f32) (msk : FVec F S25x128 .f32) : FVec F S1x1x128 .f32 :=
  have v1003 : FVec F S25x128 .f32 := mulf v1002 msk
  have v1004 : FVec F S128 .f32 := multiReduction .add [0] S128 v1003 0x00000000#32 red (.inl rfl) rfl
  have v1005 : FVec F S1x128 .f32 := shapeCast S1x128 v1004 sc2
  shapeCast S1x1x128 v1005 sc4

/-- What is stored for a region: the scratch's first 25 rows times the mask, summed. -/
def foldVal (X9 : Vec F S32x128 .f32) (msk : FVec F S25x128 .f32) : FVec F S1x1x128 .f32 :=
  foldVal' (fun j => X9 (ix2 ((j 0 : Fin 25).castLE (by decide)) (j 1 : Fin 128))) msk

/-- The result's block with row `nl` replaced. -/
def setOut (X7 : Vec F S16x1x128 .f32) (nl : Nat) (w : FVec F S1x1x128 .f32) : Vec F S16x1x128 .f32 :=
  fun i => if (i 0).val = nl then w (ix3 (0 : Fin 1) (0 : Fin 1) (i 2 : Fin 128)) else X7 i

theorem ld_eq {off : Fin 2 → Nat} (X : Vec F S66048x128 .f32) (v : BitVec 32) (hoff : off = ![base v, 0])
    (inb : ∀ a, off a + S16x128.size a ≤ S66048x128.size a) :
    (fun j => X ((Rect.unit (s := S66048x128) off S16x128.size inb).emb j)) = ld X v := by
  subst hoff
  funext j
  refine congrArg X (funext fun a => Fin.ext ?_)
  have h0 := inb 0
  have hj : (j 0).val < 16 := (j 0).isLt
  fin_cases a
  · have : base v + 16 ≤ 66048 := h0
    show base v + 1 * (j 0).val = (base v + (j 0).val) % 66048
    omega
  · show 0 + 1 * (j 1).val = (j 1).val
    omega

theorem read_row (M : Memref sig .tc .vmem S32x128 .f32) (f : M.view.ty.Contents (Elt F)) {b : Nat} (hb : b < 25) (w : FVec F S1x128 .f32) :
    M.view.read (Elt F) (M.view.writes (Elt F) f [⟨Rect.unit (s := S32x128) ![b, 0] S1x128.size (inb_row hb), w⟩]) = setRow (M.view.read (Elt F) f) b w := by
  funext i
  rw [View.read_writes_cons_unit M.view f (inb_row hb) w [] i rfl]
  unfold setRow
  have h1 : (i 1).val < 128 := (i 1).isLt
  by_cases h : (i 0).val = b
  · rw [dif_pos (Fin.forall_fin_two.mpr ⟨⟨h.ge, by show (i 0).val < b + 1; omega⟩, ⟨Nat.zero_le _, by show (i 1).val < 0 + 128; omega⟩⟩), if_pos h]
    refine congrArg w (funext fun a => Fin.ext ?_)
    fin_cases a
    · show (i 0).val - b = 0
      omega
    · show (i 1).val - 0 = (i 1).val
      omega
  · rw [dif_neg (fun hh => h (by have := hh 0; have h2 : (i 0).val < b + 1 := this.2; have h3 : b ≤ (i 0).val := this.1; omega)), if_neg h]
    rfl

theorem read_out (M : Memref sig .tc .vmem S16x1x128 .f32) (f : M.view.ty.Contents (Elt F)) {nl : Nat} (hnl : nl < 16) (w : FVec F S1x1x128 .f32) :
    M.view.read (Elt F) (M.view.writes (Elt F) f [⟨Rect.unit (s := S16x1x128) ![nl, 0, 0] S1x1x128.size (inb_out hnl), w⟩]) = setOut (M.view.read (Elt F) f) nl w := by
  funext i
  rw [View.read_writes_cons_unit M.view f (inb_out hnl) w [] i rfl]
  unfold setOut
  have h1 : (i 1).val < 1 := (i 1).isLt
  have h2 : (i 2).val < 128 := (i 2).isLt
  by_cases h : (i 0).val = nl
  · have hh : ∀ a : Fin 3, (![nl, 0, 0] : Fin 3 → Nat) a ≤ (i a).val ∧ (i a).val < (![nl, 0, 0] : Fin 3 → Nat) a + S1x1x128.size a := by
      intro a
      fin_cases a
      · exact ⟨h.ge, by show (i 0).val < nl + 1; omega⟩
      · exact ⟨Nat.zero_le _, by show (i 1).val < 0 + 1; omega⟩
      · exact ⟨Nat.zero_le _, by show (i 2).val < 0 + 128; omega⟩
    rw [dif_pos hh, if_pos h]
    refine congrArg w (funext fun a => Fin.ext ?_)
    fin_cases a
    · show (i 0).val - nl = 0
      omega
    · show (i 1).val - 0 = 0
      omega
    · show (i 2).val - 0 = (i 2).val
      omega
  · rw [dif_neg (fun hh => h (by have := hh 0; have h2 : (i 0).val < nl + 1 := this.2; have h3 : nl ≤ (i 0).val := this.1; omega)), if_neg h]
    rfl

theorem bin_run (c : Dev nD) (arg2 : Memref sig .tc .smem S1x16x25 .i32) (arg3 : Memref sig .tc .smem S1x16x25 .i32)
    (arg4 : Memref sig .tc .smem S1x16x25 .f32) (arg5 : Memref sig .tc .smem S1x16x25 .f32)
    (arg8 : Memref sig .tc .vmem S66048x128 .f32) (arg9 : Memref sig .tc .vmem S32x128 .f32)
    (nl b : Nat)
    (chk0 : BitVec 32 → Prop) (dec0 : ∀ v, Decidable (chk0 v)) (off0 : BitVec 32 → Fin 2 → Nat)
    (inb0 : ∀ v, chk0 v → ∀ a, off0 v a + S16x128.size a ≤ S66048x128.size a)
    (chk1 : BitVec 32 → Prop) (dec1 : ∀ v, Decidable (chk1 v)) (off1 : BitVec 32 → Fin 2 → Nat)
    (inb1 : ∀ v, chk1 v → ∀ a, off1 v a + S16x128.size a ≤ S66048x128.size a)
    (hnl : nl < 16) (hb : b < 25)
    (X2 X3 : Vec F S1x16x25 .i32) (X4 X5 : Vec F S1x16x25 .f32) (X8 : Vec F S66048x128 .f32) (X9 : Vec F S32x128 .f32)
    (h0 : chk0 (X2 (ixT nl b))) (h1 : chk1 (X3 (ixT nl b)))
    (hoff0 : ∀ v, off0 v = ![base v, 0]) (hoff1 : ∀ v, off1 v = ![base v, 0])
    (E : Set ℕ) (Q : PUnit → sProp 𝕄) :
    (iprop(own c arg2 X2 ∗ own c arg3 X3 ∗ own c arg4 X4 ∗ own c arg5 X5 ∗ own c arg8 X8 ∗ own c arg9 X9 ∗
      (iprop(own c arg2 X2 ∗ own c arg3 X3 ∗ own c arg4 X4 ∗ own c arg5 X5 ∗ own c arg8 X8
        ∗ own c arg9 (setRow X9 b (rowVal X2 X3 X4 X5 X8 nl b))) -∗ Q ⟨⟩)) : sProp 𝕄)
      ⊢ wp frame (wpE (defs₀ (F := F)) Variants.none c none) E (bin arg2 arg3 arg4 arg5 arg8 arg9 nl b chk0 dec0 off0 inb0 chk1 dec1 off1 inb1 hnl hb) Q := by
  unfold own owns
  iintro ⟨⟨%f2, %e2, H2⟩, ⟨%f3, %e3, H3⟩, ⟨%f4, %e4, H4⟩, ⟨%f5, %e5, H5⟩, ⟨%f8, %e8, H8⟩, ⟨%f9, %e9, H9⟩, Hk⟩
  subst e2 e3 e4 e5 e8 e9
  have h0' : chk0 ((arg2.access (Rect.unit (s := S1x16x25) ![0, nl, b] S1x1x1.size (inb_smem hnl hb))).read (Elt F) f2 (Shape.Idx.first (numel1.symm ▸ Nat.one_pos))) := by
    rw [← emb_ixT hnl hb] at h0
    exact h0
  have h1' : chk1 ((arg3.access (Rect.unit (s := S1x16x25) ![0, nl, b] S1x1x1.size (inb_smem hnl hb))).read (Elt F) f3 (Shape.Idx.first (numel1.symm ▸ Nat.one_pos))) := by
    rw [← emb_ixT hnl hb] at h1
    exact h1
  sl_unfold [bin]
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H8]; · iexists f8; isplitr; · ipureintro; rfl
                  iexact H8
  iexists _; isplitr; rotate_left
  · iexact H9
  · ipureintro
    rw [read_row arg9 f9 hb]
    refine congrArg (setRow _ b) ?_
    show interp (arg2.view.read (Elt F) f2 ((Rect.unit (s := S1x16x25) ![0, nl, b] S1x1x1.size (inb_smem hnl hb)).emb (Shape.Idx.first (numel1.symm ▸ Nat.one_pos))))
      (arg3.view.read (Elt F) f3 ((Rect.unit (s := S1x16x25) ![0, nl, b] S1x1x1.size (inb_smem hnl hb)).emb (Shape.Idx.first (numel1.symm ▸ Nat.one_pos))))
      (arg4.view.read (Elt F) f4 ((Rect.unit (s := S1x16x25) ![0, nl, b] S1x1x1.size (inb_smem hnl hb)).emb (Shape.Idx.first (numel1.symm ▸ Nat.one_pos))))
      (arg5.view.read (Elt F) f5 ((Rect.unit (s := S1x16x25) ![0, nl, b] S1x1x1.size (inb_smem hnl hb)).emb (Shape.Idx.first (numel1.symm ▸ Nat.one_pos))))
      (fun j => arg8.view.read (Elt F) f8 ((Rect.unit (s := S66048x128) (off0 _) S16x128.size (inb0 _ h0')).emb j))
      (fun j => arg8.view.read (Elt F) f8 ((Rect.unit (s := S66048x128) (off1 _) S16x128.size (inb1 _ h1')).emb j)) = _
    refine (congrArg₂ (interp _ _ _ _) (ld_eq (arg8.view.read (Elt F) f8) _ (hoff0 _) (inb0 _ h0'))
      (ld_eq (arg8.view.read (Elt F) f8) _ (hoff1 _) (inb1 _ h1'))).trans ?_
    unfold rowVal
    rw [← emb_ixT hnl hb]
    rfl

theorem rowEnd_run (c : Dev nD) (arg7 : Memref sig .tc .vmem S16x1x128 .f32) (arg9 : Memref sig .tc .vmem S32x128 .f32)
    (msk : FVec F S25x128 .f32) (nl : Nat) (hnl : nl < 16) (X7 : Vec F S16x1x128 .f32) (X9 : Vec F S32x128 .f32)
    (E : Set ℕ) (Q : PUnit → sProp 𝕄) :
    (iprop(own c arg7 X7 ∗ own c arg9 X9 ∗ (iprop(own c arg7 (setOut X7 nl (foldVal X9 msk)) ∗ own c arg9 X9) -∗ Q ⟨⟩)) : sProp 𝕄)
      ⊢ wp frame (wpE (defs₀ (F := F)) Variants.none c none) E (rowEnd arg7 arg9 msk nl hnl) Q := by
  unfold own owns
  iintro ⟨⟨%f7, %e7, H7⟩, ⟨%f9, %e9, H9⟩, Hk⟩
  subst e7 e9
  sl_unfold [rowEnd]
  sl_exec
  sl_step
  iapply Hk
  isplitr [H9]
  · iexists _; isplitr; rotate_left
    · iexact H7
    · ipureintro
      rw [read_out arg7 f7 hnl]
      refine congrArg (setOut _ nl) ?_
      show foldVal' (fun j => arg9.view.read (Elt F) f9 ((Rect.unit (s := S32x128) ![0, 0] S25x128.size inb_all).emb j)) msk = _
      unfold foldVal
      refine congrArg (fun x => foldVal' x msk) (funext fun j => congrArg _ (funext fun a => Fin.ext ?_))
      fin_cases a
      · show 0 + 1 * (j 0).val = (j 0).val
        omega
      · show 0 + 1 * (j 1).val = (j 1).val
        omega
  · iexists f9; isplitr; · ipureintro; rfl
    iexact H9
end Cert.Fold
end
-- ==== Proof.RowsRun.lean ====
/-
  The rows of a block one after the other: what the scratch rows and the output block hold after them.
-/
module

public import proofs.«01_k».proof.Proof.BodyL
public import proofs.«01_k».proof.Proof.BinRun
public import proofs.«01_k».proof.Proof.Gen.Kernel.Launch
public import Idealize.ShloMosaic.Lib.Pipeline.RegionsLoop
public import Idealize.ShloMosaic.Lib.Tactic
public import Idealize.ShloMosaic.Lib.Pointwise
public import Idealize.ShloMosaic.Lib.WritesUnit

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (X2 X3 : Vec F S1x16x25 .i32) (X4 X5 : Vec F S1x16x25 .f32) (X8 : Vec F S66048x128 .f32)

/-- The scratch after the 25 bins of region `nl`, where every row below 25 is its bin's. -/
def scr (nl : Nat) : Vec F S32x128 .f32 := fun i => rowVal X2 X3 X4 X5 X8 nl (i 0).val (ix2 (0 : Fin 1) (i 1 : Fin 128))

/-- The result's block of a grid point. -/
def outBlk (msk : FVec F S25x128 .f32) : Vec F S16x1x128 .f32 :=
  fun i => foldVal (scr X2 X3 X4 X5 X8 (i 0).val) msk (ix3 (0 : Fin 1) (0 : Fin 1) (i 2 : Fin 128))

theorem foldVal_congr {X Y : Vec F S32x128 .f32} (msk : FVec F S25x128 .f32) (h : ∀ i, (i 0).val < 25 → X i = Y i) :
    foldVal X msk = foldVal Y msk :=
  congrArg (fun x => foldVal' x msk) (funext fun j => h _ (j 0).isLt)

/-- The side condition of every bin of a grid point. -/
def Ok (X2 X3 : Vec F S1x16x25 .i32) : Prop := ∀ nl b, k0_chk1 (X2 (ixT nl b)) ∧ k0_chk1 (X3 (ixT nl b))

section Run
variable (c : Dev nD) (arg2 : Memref sig .tc .smem S1x16x25 .i32) (arg3 : Memref sig .tc .smem S1x16x25 .i32)
    (arg4 : Memref sig .tc .smem S1x16x25 .f32) (arg5 : Memref sig .tc .smem S1x16x25 .f32) (arg7 : Memref sig .tc .vmem S16x1x128 .f32)
    (arg8 : Memref sig .tc .vmem S66048x128 .f32) (arg9 : Memref sig .tc .vmem S32x128 .f32) (msk : FVec F S25x128 .f32)

/-- What the body's regions hold throughout: the four tables and the slab. -/
abbrev tabs : sProp 𝕄 := iprop(own c arg2 X2 ∗ own c arg3 X3 ∗ own c arg4 X4 ∗ own c arg5 X5 ∗ own c arg8 X8)

theorem off_eq (v : BitVec 32) : k0_off2 v = ![base v, 0] := by
  funext a
  fin_cases a <;> rfl

theorem rowFrom_run (hok : Ok X2 X3) (nl : Nat) (hnl : nl < 16) (X7 : Vec F S16x1x128 .f32) (E : Set ℕ) (Q : PUnit → sProp 𝕄) :
    ∀ (n b : Nat) (hb : b + n = 25) (X9 : Vec F S32x128 .f32), (∀ i, (i 0).val < b → X9 i = scr X2 X3 X4 X5 X8 nl i) →
    (iprop(tabs X2 X3 X4 X5 X8 c arg2 arg3 arg4 arg5 arg8 ∗ own c arg7 X7 ∗ own c arg9 X9 ∗
      (iprop(tabs X2 X3 X4 X5 X8 c arg2 arg3 arg4 arg5 arg8 ∗ own c arg7 (setOut X7 nl (foldVal (scr X2 X3 X4 X5 X8 nl) msk))
        ∗ ∃ X9', own c arg9 X9') -∗ Q ⟨⟩)) : sProp 𝕄)
      ⊢ wp frame (wpE (defs₀ (F := F)) Variants.none c none) E (rowFrom arg2 arg3 arg4 arg5 arg7 arg8 arg9 msk nl hnl n b hb) Q
  | 0, b, hb, X9, h9 => by
    unfold rowFrom
    refine BIBase.Entails.trans ?_ (rowEnd_run c arg7 arg9 msk nl hnl X7 X9 E Q)
    rw [foldVal_congr msk (fun i hi => h9 i (by omega))]
    iintro ⟨HT, H7, H9, Hk⟩
    isplitl [H7]; · iexact H7
    isplitl [H9]; · iexact H9
    iintro ⟨H7, H9⟩
    iapply Hk
    isplitl [HT]; · iexact HT
    isplitl [H7]; · iexact H7
    iexists X9
    iexact H9
  | n + 1, b, hb, X9, h9 => by
    unfold rowFrom
    rw [wp_bind]
    refine BIBase.Entails.trans ?_ (bin_run c arg2 arg3 arg4 arg5 arg8 arg9 nl b _ _ _ _ _ _ _ _ hnl (by omega) X2 X3 X4 X5 X8 X9
      (hok nl b).1 (hok nl b).2 off_eq off_eq E _)
    iintro ⟨⟨H2, H3, H4, H5, H8⟩, H7, H9, Hk⟩
    isplitl [H2]; · iexact H2
    isplitl [H3]; · iexact H3
    isplitl [H4]; · iexact H4
    isplitl [H5]; · iexact H5
    isplitl [H8]; · iexact H8
    isplitl [H9]; · iexact H9
    iintro ⟨H2, H3, H4, H5, H8, H9⟩
    iapply (rowFrom_run hok nl hnl X7 E Q n (b + 1) _ (setRow X9 b (rowVal X2 X3 X4 X5 X8 nl b)) (by
      intro i hi
      unfold setRow
      by_cases h : (i 0).val = b
      · rw [if_pos h]; subst h; rfl
      · rw [if_neg h]; exact h9 i (by omega)))
    isplitl [H2 H3 H4 H5 H8]
    · isplitl [H2]; · iexact H2
      isplitl [H3]; · iexact H3
      isplitl [H4]; · iexact H4
      isplitl [H5]; · iexact H5
      iexact H8
    isplitl [H7]; · iexact H7
    isplitl [H9]; · iexact H9
    iexact Hk

theorem rowsFrom_run (hok : Ok X2 X3) (E : Set ℕ) (Q : PUnit → sProp 𝕄) :
    ∀ (n nl : Nat) (hn : nl + n = 15) (X7 : Vec F S16x1x128 .f32) (X9 : Vec F S32x128 .f32), (∀ i, (i 0).val < nl → X7 i = outBlk X2 X3 X4 X5 X8 msk i) →
    (iprop(tabs X2 X3 X4 X5 X8 c arg2 arg3 arg4 arg5 arg8 ∗ own c arg7 X7 ∗ own c arg9 X9 ∗
      (iprop(tabs X2 X3 X4 X5 X8 c arg2 arg3 arg4 arg5 arg8 ∗ own c arg7 (outBlk X2 X3 X4 X5 X8 msk)
        ∗ ∃ X9', own c arg9 X9') -∗ Q ⟨⟩)) : sProp 𝕄)
      ⊢ wp frame (wpE (defs₀ (F := F)) Variants.none c none) E (rowsFrom arg2 arg3 arg4 arg5 arg7 arg8 arg9 msk n nl hn) Q
  | 0, nl, hn, X7, X9, h7 => by
    have e : setOut X7 nl (foldVal (scr X2 X3 X4 X5 X8 nl) msk) = outBlk X2 X3 X4 X5 X8 msk := by
      funext i
      unfold setOut
      have hi : (i 0).val < 16 := (i 0).isLt
      by_cases h : (i 0).val = nl
      · rw [if_pos h]; subst h; rfl
      · rw [if_neg h]; exact h7 i (by omega)
    unfold rowsFrom
    have hr := rowFrom_run X2 X3 X4 X5 X8 c arg2 arg3 arg4 arg5 arg7 arg8 arg9 msk hok nl (by omega) X7 E Q 25 0 rfl X9 (fun i hi => absurd hi (by omega))
    rw [e] at hr
    exact hr
  | n + 1, nl, hn, X7, X9, h7 => by
    unfold rowsFrom
    rw [wp_bind]
    refine BIBase.Entails.trans ?_ (rowFrom_run X2 X3 X4 X5 X8 c arg2 arg3 arg4 arg5 arg7 arg8 arg9 msk hok nl (by omega) X7 E _ 25 0 rfl X9 (fun i hi => absurd hi (by omega)))
    iintro ⟨HT, H7, H9, Hk⟩
    isplitl [HT]; · iexact HT
    isplitl [H7]; · iexact H7
    isplitl [H9]; · iexact H9
    iintro ⟨HT, H7, ⟨%X9', H9⟩⟩
    iapply (rowsFrom_run hok E Q n (nl + 1) _ (setOut X7 nl (foldVal (scr X2 X3 X4 X5 X8 nl) msk)) X9' (by
      intro i hi
      unfold setOut
      by_cases h : (i 0).val = nl
      · rw [if_pos h]; subst h; rfl
      · rw [if_neg h]; exact h7 i (by omega)))
    isplitl [HT]; · iexact HT
    isplitl [H7]; · iexact H7
    isplitl [H9]; · iexact H9
    iexact Hk

theorem rows_run (hok : Ok X2 X3) (X7 : Vec F S16x1x128 .f32) (X9 : Vec F S32x128 .f32) (E : Set ℕ) (Q : PUnit → sProp 𝕄) :
    (iprop(tabs X2 X3 X4 X5 X8 c arg2 arg3 arg4 arg5 arg8 ∗ own c arg7 X7 ∗ own c arg9 X9 ∗
      (iprop(tabs X2 X3 X4 X5 X8 c arg2 arg3 arg4 arg5 arg8 ∗ own c arg7 (outBlk X2 X3 X4 X5 X8 msk)
        ∗ ∃ X9', own c arg9 X9') -∗ Q ⟨⟩)) : sProp 𝕄)
      ⊢ wp frame (wpE (defs₀ (F := F)) Variants.none c none) E (rows arg2 arg3 arg4 arg5 arg7 arg8 arg9 msk) Q := by
  rw [rows_eq]
  exact rowsFrom_run X2 X3 X4 X5 X8 c arg2 arg3 arg4 arg5 arg7 arg8 arg9 msk hok E Q 15 0 rfl X7 X9 (fun i hi => absurd hi (by omega))

end Run
end Cert.Fold
end
-- ==== Proof.BodyRun.lean ====
/-
  The whole pooling body at a grid point: from the tables' blocks and the map's slab to the pooled block.
-/
module

public import proofs.«01_k».proof.Proof.RowsRun
public import Idealize.ShloMosaic.Lib.Pipeline.Kit
public import proofs.«01_k».proof.Proof.Gen.Kernel.Launch
public import Idealize.ShloMosaic.Lib.Pipeline.RegionsLoop
public import Idealize.ShloMosaic.Lib.Tactic
public import Idealize.ShloMosaic.Lib.Pointwise
public import Idealize.ShloMosaic.Lib.WritesUnit

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- The resource algebra: the pipeline's, beside the counters the transfer's invariant takes its tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Half `h` of the two stacked feature maps. -/
def slab (V : Vec F S2x66048x128 .f32) (h : Nat) : Vec F S66048x128 .f32 :=
  fun j => V (ix3 (Fin.ofNat 2 h) (j 0 : Fin 66048) (j 1 : Fin 128))

/-- The kernel's own semaphore. -/
abbrev osem : Fin 1 → SemLoc sig := fun | 0 => .dma 10

theorem dma_val (i : grid0.Coords) (V : Vec F S2x66048x128 .f32)
    (inb : ∀ a, k0_off1 i a + S1x66048x128.size a ≤ S2x66048x128.size a) (hn : S66048x128.numel = S1x66048x128.numel) (j : S66048x128.Idx) :
    V ((Rect.unit (s := S2x66048x128) (k0_off1 i) S1x66048x128.size inb).emb (Shape.reshapeEquiv hn j)) = slab V (i 0).val j := by
  have hj : Shape.reshapeEquiv hn j = (ix3 (0 : Fin 1) (j 0 : Fin 66048) (j 1 : Fin 128) : S1x66048x128.Idx) := by
    refine Shape.reshapeEquiv_eq_of_rowMajor hn ?_
    rw [Shape.rowMajor_val_three, Shape.rowMajor_val_two]
    show ((0 * 66048 + (j 0).val) * 128 + (j 1).val) = (j 0).val * 128 + (j 1).val
    omega
  rw [hj]
  unfold slab
  refine congrArg V (funext fun a => Fin.ext ?_)
  have hi : (i 0).val < 2 := (i 0).isLt
  show k0_off1 i a + 1 * ((ix3 (0 : Fin 1) (j 0 : Fin 66048) (j 1 : Fin 128) : S1x66048x128.Idx) a).val = _
  rw [k0_off1_eq]
  fin_cases a
  · show (i 0).val + 1 * 0 = (i 0).val % 2
    omega
  · show 0 + 1 * (j 0).val = (j 0).val
    omega
  · show 0 + 1 * (j 1).val = (j 1).val
    omega

theorem body_run (c : Dev nD) (i : grid0.Coords) (arg2 : Memref sig .tc .smem S1x16x25 .i32) (harg2 : arg2.IsWhole) (arg3 : Memref sig .tc .smem S1x16x25 .i32) (harg3 : arg3.IsWhole)
    (arg4 : Memref sig .tc .smem S1x16x25 .f32) (harg4 : arg4.IsWhole) (arg5 : Memref sig .tc .smem S1x16x25 .f32) (harg5 : arg5.IsWhole)
    (arg7 : Memref sig .tc .vmem S16x1x128 .f32) (harg7 : arg7.IsWhole)
    (X2 X3 : Vec F S1x16x25 .i32) (X4 X5 : Vec F S1x16x25 .f32) (X7 : Vec F S16x1x128 .f32) (V : Vec F S2x66048x128 .f32) (X8 : Vec F S66048x128 .f32) (X9 : Vec F S32x128 .f32)
    (hok : Ok X2 X3) (h8 : k0_cond1 i ≠ 1#1 → X8 = slab V (i 0).val)
    (W : Waits sig Unit) (Q : PUnit → sProp 𝕄) :
    (iprop(own c arg2 X2 ∗ own c arg3 X3 ∗ own c arg4 X4 ∗ own c arg5 X5 ∗ own c arg7 X7
      ∗ pt c (Memref.whole main_v22) V ∗ pt c (Memref.whole cc0_scratch0) X8 ∗ pt c (Memref.whole cc0_scratch1) X9
      ∗ semVal ((c : Thread nD τ), osem 0) 0 ∗ owes (c : Thread nD τ) 0 W
      ∗ (iprop(own c arg2 X2 ∗ own c arg3 X3 ∗ own c arg4 X4 ∗ own c arg5 X5 ∗ own c arg7 (outBlk X2 X3 X4 X5 (slab V (i 0).val) mask)
      ∗ pt c (Memref.whole main_v22) V ∗ pt c (Memref.whole cc0_scratch0) (slab V (i 0).val) ∗ (∃ X9, pt c (Memref.whole cc0_scratch1) X9)
      ∗ semVal ((c : Thread nD τ), osem 0) 0 ∗ ∃ W, owes (c : Thread nD τ) 0 W) -∗ Q ⟨⟩)) : sProp 𝕄)
      ⊢ wp frame (wpE (defs₀ (F := F)) Variants.none c none) Set.univ (body i arg2 harg2 arg3 harg3 arg4 harg4 arg5 harg5 (Memref.whole main_v22) (Memref.isWhole_whole _) arg7 harg7
        (Memref.whole cc0_scratch0) (Memref.isWhole_whole _) (Memref.whole cc0_scratch1) (Memref.isWhole_whole _) cc0_scratch2) Q := by
  have key : ∀ W' : Waits sig Unit, (iprop(own c arg2 X2 ∗ own c arg3 X3 ∗ own c arg4 X4 ∗ own c arg5 X5 ∗ own c arg7 X7
      ∗ pt c (Memref.whole main_v22) V ∗ pt c (Memref.whole cc0_scratch0) (slab V (i 0).val) ∗ pt c (Memref.whole cc0_scratch1) X9
      ∗ semVal ((c : Thread nD τ), osem 0) 0 ∗ owes (c : Thread nD τ) 0 W'
      ∗ (iprop(own c arg2 X2 ∗ own c arg3 X3 ∗ own c arg4 X4 ∗ own c arg5 X5 ∗ own c arg7 (outBlk X2 X3 X4 X5 (slab V (i 0).val) mask)
      ∗ pt c (Memref.whole main_v22) V ∗ pt c (Memref.whole cc0_scratch0) (slab V (i 0).val) ∗ (∃ X9, pt c (Memref.whole cc0_scratch1) X9)
      ∗ semVal ((c : Thread nD τ), osem 0) 0 ∗ ∃ W, owes (c : Thread nD τ) 0 W) -∗ Q ⟨⟩)) : sProp 𝕄)
      ⊢ wp frame (wpE (defs₀ (F := F)) Variants.none c none) Set.univ (do
          rows arg2 arg3 arg4 arg5 arg7 (Memref.whole cc0_scratch0) (Memref.whole cc0_scratch1) mask
          pure ⟨⟩) Q := by
    intro W'
    rw [wp_bind]
    have hr := (rows_run (U := UU nD τ) X2 X3 X4 X5 (slab V (i 0).val) c arg2 arg3 arg4 arg5 arg7 (Memref.whole cc0_scratch0) (Memref.whole cc0_scratch1) mask hok X7 X9 Set.univ (fun _ => wp frame (wpE (defs₀ (F := F)) Variants.none c none) Set.univ (pure ⟨⟩) Q))
    generalize hR : rows arg2 arg3 arg4 arg5 arg7 (Memref.whole cc0_scratch0) (Memref.whole cc0_scratch1) (mask (F := F)) = R at hr ⊢
    unfold tabs own at hr
    simp only [owns_whole] at hr
    refine BIBase.Entails.trans ?_ hr
    unfold own
    iintro ⟨H2, H3, H4, H5, H7, HV, H8, H9, Hs, HO, Hk⟩
    isplitl [H2 H3 H4 H5 H8]
    · isplitl [H2]; · iexact H2
      isplitl [H3]; · iexact H3
      isplitl [H4]; · iexact H4
      isplitl [H5]; · iexact H5
      iexact H8
    isplitl [H7]; · iexact H7
    isplitl [H9]; · iexact H9
    iintro ⟨⟨H2, H3, H4, H5, H8⟩, H7, ⟨%X9', H9⟩⟩
    sl_step
    iapply Hk
    isplitl [H2]; · iexact H2
    isplitl [H3]; · iexact H3
    isplitl [H4]; · iexact H4
    isplitl [H5]; · iexact H5
    isplitl [H7]; · iexact H7
    isplitl [HV]; · iexact HV
    isplitl [H8]; · iexact H8
    isplitl [H9]; · iexists X9'; iexact H9
    isplitl [Hs]; · iexact Hs
    iexists W'; iexact HO
  unfold body
  by_cases h1 : k0_cond1 i = 1#1
  · rw [dif_pos h1]
    generalize hR : rows arg2 arg3 arg4 arg5 arg7 (Memref.whole cc0_scratch0) (Memref.whole cc0_scratch1) (mask (F := F)) = R at key ⊢
    iintro ⟨H2, H3, H4, H5, H7, HV, H8, H9, Hs, HO, Hk⟩
    sl_exec
    have e : View.write (Elt F) (Memref.whole cc0_scratch0).view X8 (body_run.sl.dma0 i V h1) Finset.univ = slab V (i 0).val := by
      refine (View.write_whole_univ _ _ _).trans (funext fun j => ?_)
      exact dma_val i V (Cert.Kernel.Facts₀.k0_off1_inb i h1) Facts₀.squeezes_S1x66048x128_S66048x128.numel_eq j
    rw [e]
    iapply (key _)
    isplitl [H2]; · iexact H2
    isplitl [H3]; · iexact H3
    isplitl [H4]; · iexact H4
    isplitl [H5]; · iexact H5
    isplitl [H7]; · iexact H7
    isplitl [HV]; · iexact HV
    isplitl [H8]; · iexact H8
    isplitl [H9]; · iexact H9
    isplitl [Hs]; · iexact Hs
    isplitl [HO]; · iexact HO
    iexact Hk
  · rw [dif_neg h1, h8 h1]
    generalize hR : rows arg2 arg3 arg4 arg5 arg7 (Memref.whole cc0_scratch0) (Memref.whole cc0_scratch1) (mask (F := F)) = R at key ⊢
    exact key W
end Cert.Fold
end
-- ==== Proof.Region0.lean ====
/-
  The first region (the pooling kernel) as the pipeline runs it: its proof data from any entry valuation, and the
  body obligation at every point of its grid, from the run of the body.
-/
module

public import proofs.«01_k».proof.Proof.BodyRun
public import proofs.«01_k».proof.Proof.Gen.Kernel.Points
public import proofs.«01_k».proof.Proof.Gen.Kernel.Regions

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- A valuation of every core's buffers. -/
abbrev Vals : Type := (c : Dev nD) → (b : Ref sig .tc) → Buf (Elt F) ((c : Thread nD τ).loc b)

/-- The two stacked feature maps at the entry. -/
abbrev maps (V : Vals (F := F)) (c : Dev nD) : Vec F S2x66048x128 .f32 := V c main_v22

/-- The four tables' blocks at a point, as the fetch stages them. -/
def tab0 (V : Vals (F := F)) (c : Dev nD) (t : Fin cfg0.N) : Vec F S1x16x25 .i32 := ((cfg0.win 0).blk t).view.read (Elt F) (V c main_v99)
def tab1 (V : Vals (F := F)) (c : Dev nD) (t : Fin cfg0.N) : Vec F S1x16x25 .i32 := ((cfg0.win 1).blk t).view.read (Elt F) (V c main_v105)
def tab2 (V : Vals (F := F)) (c : Dev nD) (t : Fin cfg0.N) : Vec F S1x16x25 .f32 := ((cfg0.win 2).blk t).view.read (Elt F) (V c main_v111)
def tab3 (V : Vals (F := F)) (c : Dev nD) (t : Fin cfg0.N) : Vec F S1x16x25 .f32 := ((cfg0.win 3).blk t).view.read (Elt F) (V c main_v117)

/-- What the body leaves in the result's block at a point. -/
def pooled (V : Vals (F := F)) (c : Dev nD) (t : Fin cfg0.N) : Vec F S16x1x128 .f32 :=
  outBlk (tab0 V c t) (tab1 V c t) (tab2 V c t) (tab3 V c t) (slab (maps V c) (t.val / 1000)) mask

/-- The scoped buffers of the core that this region neither stages nor uses. -/
abbrev rest0 (c : Dev nD) : sProp 𝕄 :=
  Pipeline.scopedRestBut (Ix := Unit) (Name := ℕ) (U := UU nD τ) (Lvl := ℕ) (Val := Elt F) spec0 c [cc0_scratch0, cc0_scratch1]

/-- The invariant: the feature maps at rest, the kernel's semaphore at zero, the first scratch holding the half
    that the last point used, the second scratch at something. -/
def Φ0 (V : Vals (F := F)) (c : Dev nD) (t : ℕ) : sProp 𝕄 :=
  iprop(pt c (Memref.whole main_v22) (maps V c) ∗ semVal ((c : Thread nD τ), osem 0) 0
    ∗ (∃ X8 : Vec F S66048x128 .f32, ⌜0 < t → X8 = slab (maps V c) ((t - 1) / 1000)⌝ ∗ pt c (Memref.whole cc0_scratch0) X8)
    ∗ (∃ X9 : Vec F S32x128 .f32, pt c (Memref.whole cc0_scratch1) X9) ∗ rest0 c)

/-- The proof data of the first region from an entry valuation. -/
def dat0 (V : Vals (F := F)) (c : Dev nD) : Dat τ (Elt F) Unit ℕ (UU nD τ) ℕ cfg0 c where
  A w := V c (Pipeline.arrRef spec0 w)
  after w t := match w with
    | ⟨0, _⟩ => tab0 V c t
    | ⟨1, _⟩ => tab1 V c t
    | ⟨2, _⟩ => tab2 V c t
    | ⟨3, _⟩ => tab3 V c t
    | ⟨4, _⟩ => pooled V c t
  Φ t := Φ0 V c t.val
  q _ := fullShare
  owed _ := 0

theorem before0_0 (V : Vals (F := F)) (c : Dev nD) (t : Fin cfg0.N) (d) : (dat0 V c).before 0 t d = tab0 V c t := by
  unfold Dat.before; rw [if_pos (fetch0_0 t)]; rfl
theorem before0_1 (V : Vals (F := F)) (c : Dev nD) (t : Fin cfg0.N) (d) : (dat0 V c).before 1 t d = tab1 V c t := by
  unfold Dat.before; rw [if_pos (fetch0_1 t)]; rfl
theorem before0_2 (V : Vals (F := F)) (c : Dev nD) (t : Fin cfg0.N) (d) : (dat0 V c).before 2 t d = tab2 V c t := by
  unfold Dat.before; rw [if_pos (fetch0_2 t)]; rfl
theorem before0_3 (V : Vals (F := F)) (c : Dev nD) (t : Fin cfg0.N) (d) : (dat0 V c).before 3 t d = tab3 V c t := by
  unfold Dat.before; rw [if_pos (fetch0_3 t)]; rfl

theorem coord0 (t : Fin cfg0.N) : (grid0.coords t 0).val = t.val / 1000 := by
  have h : t.val < 2000 := t.isLt.trans_eq N_0
  show t.val / 1000 % 2 = _
  omega
theorem coord1 (t : Fin cfg0.N) : (grid0.coords t 1).val = t.val % 1000 := by
  show t.val / 1 % 1000 = _
  omega

/-- Off the first point of a half, the half is already in the scratch. -/
theorem cond_ne (t : Fin cfg0.N) (h : k0_cond1 (grid0.coords t) ≠ 1#1) : t.val % 1000 ≠ 0 := by
  intro h0
  apply h
  have hc := coord1 t
  rw [h0] at hc
  unfold k0_cond1
  simp only [hc]
  decide

/-- The equation of the kernel with its folded text, at any arguments. -/
def BodyIs : Prop := ∀ (i : grid0.Coords) (arg2 : Memref sig .tc .smem S1x16x25 .i32) (harg2 : arg2.IsWhole) (arg3 : Memref sig .tc .smem S1x16x25 .i32) (harg3 : arg3.IsWhole)
    (arg4 : Memref sig .tc .smem S1x16x25 .f32) (harg4 : arg4.IsWhole) (arg5 : Memref sig .tc .smem S1x16x25 .f32) (harg5 : arg5.IsWhole)
    (arg6 : Memref sig .tc .hbm S2x66048x128 .f32) (harg6 : arg6.IsWhole) (arg7 : Memref sig .tc .vmem S16x1x128 .f32) (harg7 : arg7.IsWhole)
    (arg8 : Memref sig .tc .vmem S66048x128 .f32) (harg8 : arg8.IsWhole) (arg9 : Memref sig .tc .vmem S32x128 .f32) (harg9 : arg9.IsWhole) (arg10 : DmaSems sig S_),
    cc0__pool_kernel (F := F) i arg2 harg2 arg3 harg3 arg4 harg4 arg5 harg5 arg6 harg6 arg7 harg7 arg8 harg8 arg9 harg9 arg10
      = body i arg2 harg2 arg3 harg3 arg4 harg4 arg5 harg5 arg6 harg6 arg7 harg7 arg8 harg8 arg9 harg9 arg10

/-- The body obligation of the first region: every point's blocks are taken, the body runs, the blocks are given back. -/
theorem obligation0 (hB : BodyIs (F := F)) (V : Vals (F := F)) (c : Dev nD) (hok : ∀ t, Ok (tab0 V c t) (tab1 V c t)) :
    BodyObligation (dat0 V c) (defs₀ (F := F)) Variants.none () Set.univ := fun t => by
  rw [bigSep_W0, bigSep_W0]
  rw [show (dat0 V c).Φ t.castSucc = Φ0 V c t.val from rfl, show (dat0 V c).Φ t.succ = Φ0 V c (t.val + 1) from rfl]
  unfold Φ0 Dat.owesAt Pipeline.owesWithin
  rw [show (dat0 V c).owed t.castSucc = 0 from rfl, show (dat0 V c).owed t.succ = 0 from rfl]
  iintro ⟨⟨HV, Hs, ⟨%X8, %h8, H8⟩, ⟨%X9, H9⟩, HR⟩, ⟨%W, %hW, HO⟩, ⟨%d0, H0⟩, ⟨%d1, H1⟩, ⟨%d2, H2⟩, ⟨%d3, H3⟩, ⟨%d4, H4⟩⟩
  rw [before0_0, before0_1, before0_2, before0_3]
  have hrun := body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (tab0 V c t) (tab1 V c t) (tab2 V c t) (tab3 V c t) ((dat0 V c).before 4 t d4) (maps V c) X8 X9 (hok t)
    (fun h => by
      have hn := cond_ne t h
      have hc : (t.val - 1) / 1000 = t.val / 1000 := by omega
      rw [h8 (by omega), coord0, hc]) W
  rw [← hB, coord0] at hrun
  iapply (hrun _)
  isplitl [H0]; · iexact H0
  isplitl [H1]; · iexact H1
  isplitl [H2]; · iexact H2
  isplitl [H3]; · iexact H3
  isplitl [H4]; · iexact H4
  isplitl [HV]; · iexact HV
  isplitl [H8]; · iexact H8
  isplitl [H9]; · iexact H9
  isplitl [Hs]; · iexact Hs
  isplitl [HO]; · iexact HO
  iintro ⟨H0, H1, H2, H3, H4, HV, H8, ⟨%X9', H9⟩, Hs, ⟨%W', HO⟩⟩
  isplitl [HV H8 H9 Hs HR]
  · isplitl [HV]; · iexact HV
    isplitl [Hs]; · iexact Hs
    isplitl [H8]
    · iexists (slab (maps V c) (t.val / 1000)); isplitr; · ipureintro; exact fun _ => rfl
      iexact H8
    isplitl [H9]; · iexists X9'; iexact H9
    iexact HR
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

end Cert.Fold
end
-- ==== Proof.HeadRun.lean ====
/-
  The second kernel (the class head) on its staging buffers: one block of pooled rows in, six blocks out.
-/
module

public import proofs.«01_k».proof.Proof.Region0
public import proofs.«01_k».proof.Proof.Gen.Kernel.Skeleton

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The two mask blocks, from a block of pooled rows. -/
def headM0 (X : Vec F S800x256 .f32) : Vec F S800x49 .f32 := k1_pay1 (k1_pay12 X) (k1_pay19 X) (k1_pay28 X)
def headM1 (X : Vec F S800x256 .f32) : Vec F S800x49 .f32 := k1_pay2 (k1_pay13 X) (k1_pay20 X) (k1_pay28 X)

theorem rect_univ {n k : Nat} (inb : ∀ a, (![0, 0] : Fin 2 → Nat) a + (⟨2, ![n, k]⟩ : Shape).size a ≤ (⟨2, ![n, k]⟩ : Shape).size a) (j : (⟨2, ![n, k]⟩ : Shape).Idx) :
    (Rect.unit (s := ⟨2, ![n, k]⟩) ![0, 0] (⟨2, ![n, k]⟩ : Shape).size inb).emb j = j := by
  funext a; apply Fin.ext
  show (![0, 0] : Fin 2 → Nat) a + 1 * (j a).val = _
  fin_cases a <;> simp

/-- A store over the whole of a buffer leaves what was stored. -/
theorem read_full {sp : Space} {n k : Nat} {e : EltTy} (M : Memref sig .tc sp ⟨2, ![n, k]⟩ e) (f : M.view.ty.Contents (Elt F))
    (inb : ∀ a, (![0, 0] : Fin 2 → Nat) a + (⟨2, ![n, k]⟩ : Shape).size a ≤ (⟨2, ![n, k]⟩ : Shape).size a) (w : Vec F ⟨2, ![n, k]⟩ e) :
    M.view.read (Elt F) (M.view.writes (Elt F) f [⟨Rect.unit (s := ⟨2, ![n, k]⟩) ![0, 0] (⟨2, ![n, k]⟩ : Shape).size inb, w⟩]) = w := by
  funext i
  rw [View.read_writes_cons_unit M.view f inb w [] i rfl]
  have h0 := (i 0).isLt
  have h1 := (i 1).isLt
  rw [dif_pos (Fin.forall_fin_two.mpr ⟨⟨Nat.zero_le _, by simpa using h0⟩, ⟨Nat.zero_le _, by simpa using h1⟩⟩)]
  refine congrArg w (funext fun a => Fin.ext ?_)
  fin_cases a
  · show (i 0).val - 0 = (i 0).val
    omega
  · show (i 1).val - 0 = (i 1).val
    omega

/-- The class head's run. -/
theorem head_run (c : Dev nD) (i : grid1.Coords) (arg1 : Memref sig .tc .vmem S800x256 .f32) (harg1 : arg1.IsWhole) (arg2 : Memref sig .tc .vmem S800x1 .f32) (harg2 : arg2.IsWhole) (arg3 : Memref sig .tc .vmem S800x1 .f32) (harg3 : arg3.IsWhole)
    (arg4 : Memref sig .tc .vmem S800x1 .i32) (harg4 : arg4.IsWhole) (arg5 : Memref sig .tc .vmem S800x1 .f32) (harg5 : arg5.IsWhole) (arg6 : Memref sig .tc .vmem S800x49 .f32) (harg6 : arg6.IsWhole) (arg7 : Memref sig .tc .vmem S800x49 .f32) (harg7 : arg7.IsWhole)
    (X : Vec F S800x256 .f32) (Y2 Y3 : Vec F S800x1 .f32) (Y4 : Vec F S800x1 .i32) (Y5 : Vec F S800x1 .f32) (Y6 Y7 : Vec F S800x49 .f32) (Q : PUnit → sProp 𝕄) :
    (iprop(own c arg1 X ∗ own c arg2 Y2 ∗ own c arg3 Y3 ∗ own c arg4 Y4 ∗ own c arg5 Y5 ∗ own c arg6 Y6 ∗ own c arg7 Y7
      ∗ (iprop(own c arg1 X ∗ own c arg2 (k1_pay26 X) ∗ own c arg3 (k1_pay27 X) ∗ own c arg4 (k1_pay29 X) ∗ own c arg5 (k1_pay30 X) ∗ own c arg6 (headM0 X) ∗ own c arg7 (headM1 X)) -∗ Q ⟨⟩)) : sProp 𝕄)
      ⊢ wp frame (wpE (defs₀ (F := F)) Variants.none c none) Set.univ (cc1__head_kernel i arg1 harg1 arg2 harg2 arg3 harg3 arg4 harg4 arg5 harg5 arg6 harg6 arg7 harg7) Q := by
  rw [cc1__head_kernel_eq_skeleton]
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  unfold cc1__head_kernel_skel
  simp only [k1_part1_eq_skeleton]
  unfold k1_part1_skel
  sl_exec!
  sl_step
  iapply Hk
  have hX : (fun j => arg1.view.read (Elt F) f1 ((Rect.unit (s := S800x256) ![0, 0] S800x256.size inb_S800x256_S800x256_0_0).emb j)) = X := by
    subst e1; funext j; exact congrArg (arg1.view.read (Elt F) f1) (rect_univ _ j)
  isplitl [H1]
  · iexists _; isplitr; rotate_left; (· iexact H1); ipureintro; exact e1
  isplitl [H2]
  · iexists _; isplitr; rotate_left; (· iexact H2); ipureintro
    exact (read_full arg2 _ _ _).trans (congrArg k1_pay26 hX)
  isplitl [H3]
  · iexists _; isplitr; rotate_left; (· iexact H3); ipureintro
    exact (read_full arg3 _ _ _).trans (congrArg k1_pay27 hX)
  isplitl [H4]
  · iexists _; isplitr; rotate_left; (· iexact H4); ipureintro
    exact (read_full arg4 _ _ _).trans (congrArg k1_pay29 hX)
  isplitl [H5]
  · iexists _; isplitr; rotate_left; (· iexact H5); ipureintro
    exact (read_full arg5 _ _ _).trans (congrArg k1_pay30 hX)
  isplitl [H6]
  · iexists _; isplitr; rotate_left; (· iexact H6); ipureintro
    exact (read_full arg6 _ _ _).trans (congrArg headM0 hX)
  iexists _; isplitr; rotate_left; (· iexact H7); ipureintro
  exact (read_full arg7 _ _ _).trans (congrArg headM1 hX)

/-- The block of pooled rows at a point, as the fetch stages it. -/
def rowsAt (V : Vals (F := F)) (c : Dev nD) (t : Fin cfg1.N) : Vec F S800x256 .f32 := ((cfg1.win 0).blk t).view.read (Elt F) (V c main_v145)

/-- The scoped buffers of the core that this region does not stage. -/
abbrev rest1 (c : Dev nD) : sProp 𝕄 :=
  Pipeline.scopedRest (Ix := Unit) (Name := ℕ) (U := UU nD τ) (Lvl := ℕ) (Val := Elt F) spec1 c

/-- The proof data of the second region from an entry valuation. -/
def dat1 (V : Vals (F := F)) (c : Dev nD) : Dat τ (Elt F) Unit ℕ (UU nD τ) ℕ cfg1 c where
  A w := V c (Pipeline.arrRef spec1 w)
  after w t := match w with
    | ⟨0, _⟩ => rowsAt V c t
    | ⟨1, _⟩ => k1_pay26 (rowsAt V c t)
    | ⟨2, _⟩ => k1_pay27 (rowsAt V c t)
    | ⟨3, _⟩ => k1_pay29 (rowsAt V c t)
    | ⟨4, _⟩ => k1_pay30 (rowsAt V c t)
    | ⟨5, _⟩ => headM0 (rowsAt V c t)
    | ⟨6, _⟩ => headM1 (rowsAt V c t)
  Φ _ := rest1 c
  q _ := fullShare
  owed _ := 0

theorem before1_0 (V : Vals (F := F)) (c : Dev nD) (t : Fin cfg1.N) (d) : (dat1 V c).before 0 t d = rowsAt V c t := by
  unfold Dat.before; rw [if_pos (fetch1_0 t)]; rfl

/-- The body obligation of the second region. -/
theorem obligation1 (V : Vals (F := F)) (c : Dev nD) : BodyObligation (dat1 V c) (defs₀ (F := F)) Variants.none () Set.univ := fun t => by
  rw [bigSep_W1, bigSep_W1]
  rw [show (dat1 V c).Φ t.castSucc = rest1 c from rfl, show (dat1 V c).Φ t.succ = rest1 c from rfl,
    show (dat1 V c).owesAt () t.succ = (dat1 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩⟩
  rw [before1_0]
  have hrun := head_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6))
    (rowsAt V c t) ((dat1 V c).before 1 t d1) ((dat1 V c).before 2 t d2) ((dat1 V c).before 3 t d3) ((dat1 V c).before 4 t d4) ((dat1 V c).before 5 t d5) ((dat1 V c).before 6 t d6)
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Cert.Fold
end
-- ==== Proof.RegionsRun.lean ====
/-
  The two regions as segments of the whole program, and the whole program's run: from any memory with zero counters it
  terminates, leaves the arguments as they were, every counter at zero, and the result buffers at the last valuation.
-/
module

public import proofs.«01_k».proof.Proof.HeadRun
public import Idealize.ShloMosaic.Lib.Pipeline.FrameSuffix

@[expose] public section
set_option maxRecDepth 16384
noncomputable section
namespace Cert.Fold
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UU nD τ) ℕ

/-- The proof data of both regions, each from its own entry valuation. -/
def dats (Va Vb : Vals (F := F)) : (p : Fin 2) → (c : Dev nD) → Dat τ (Elt F) Unit ℕ (UU nD τ) ℕ (cfgs p) c
  | ⟨0, _⟩ => fun c => dat0 Va c
  | ⟨1, _⟩ => fun c => dat1 Vb c

/-- No core owes another anything: no level is assigned. -/
abbrev L : GSem nD τ sig → Finset Unit := fun _ => ∅
abbrev lv : GSem nD τ sig → Unit → ℕ := fun _ _ => 0

/-- What rides beside the buffers: the core's account, owing nothing. -/
abbrev E (_ : Fin 3) (c : Dev nD) : sProp 𝕄 := iprop(∃ W, owes (c : Thread nD τ) (0 : CellTallies nD τ sig Unit) W)

theorem ownSemFacts : Pipeline.OwnSemFacts spec0 osem := by decide

theorem ownSems0_eq (c : Dev nD) :
    (Pipeline.ownSems0 (Ix := Unit) (Name := ℕ) (U := UU nD τ) (Lvl := ℕ) (Val := Elt F) (τ := τ) osem c : sProp 𝕄) = semVal ((c : Thread nD τ), osem 0) 0 :=
  Pipeline.ownSems0_eq_of_list c osem [0] (by decide) (by decide)

/-- The unscoped buffers of the first region that are neither a window's array nor the feature maps. -/
abbrev bypass0 (V : Vals (F := F)) (c : Dev nD) : sProp 𝕄 :=
  bigSep (((Finset.univ.filter fun b : Ref sig .tc => ¬ b.isScoped) \ Finset.univ.image (Pipeline.arrRef spec0)) \ {main_v22}) fun b => ((c : Thread nD τ).loc b) ↦{fullShare} V c b

/-- The feature maps taken out of the buffers that no window stages. -/
theorem unscopedRest0_split (V : Vals (F := F)) (c : Dev nD) :
    (Pipeline.unscopedRest (Ix := Unit) (Name := ℕ) (U := UU nD τ) (Lvl := ℕ) spec0 c (V c) : sProp 𝕄)
      = iprop(pt c (Memref.whole main_v22) (maps V c) ∗ bypass0 V c) := by
  unfold Pipeline.unscopedRest
  have h : ({main_v22} : Finset (Ref sig .tc)) ⊆ (Finset.univ.filter fun b : Ref sig .tc => ¬ b.isScoped) \ Finset.univ.image (Pipeline.arrRef spec0) := by
    rw [Finset.singleton_subset_iff]; decide
  rw [bigSep_sdiff_split h, bigSep_singleton]
  rfl

theorem scopedRest0_split (c : Dev nD) :
    (Pipeline.scopedRest (Ix := Unit) (Name := ℕ) (U := UU nD τ) (Lvl := ℕ) (Val := Elt F) spec0 c : sProp 𝕄)
      = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ rest0 c) :=
  Pipeline.scopedRest_split_of_list spec0 c [cc0_scratch0, cc0_scratch1] (by decide) (by decide)

set_option backward.isDefEq.respectTransparency.types false in
/-- THE FIRST REGION over the thread state "every unscoped buffer at `Va`": entered with the windows' arrays and the
    feature maps split out, left with them put back at `Vp`. -/
def reg0 (hB : BodyIs (F := F)) (Va Vb : Vals (F := F)) (hok : ∀ c t, Ok (tab0 Va c t) (tab1 Va c t)) (Vp : Vals (F := F))
    (hVp_out : ∀ c, Vp c main_v118 = (dat0 Va c).arrAt 4 cfg0.N) (hVp_ne : ∀ c (b : Ref sig .tc), b ≠ main_v118 → Vp c b = Va c b) :
    RegionSeg (pcfgs (F := F)) adm (dats Va Vb) () defs₀ Variants.none L lv 0 where
  win := launch0.win.to₀
  block_pos := launch0.block_pos
  stage_whole := launch0.stage_whole
  K := Fin 1
  osem := osem
  ho := ownSemFacts
  hbody c := (obligation0 hB Va c (hok c)).loose
  hwaits := Pipeline.hwaits_of_owed_zero _ _ _ _ L lv 0 fun _ _ => rfl
  pre c := iprop(unscopedBufs c (Va c) ∗ E 0 c)
  post c := iprop(unscopedBufs c (Vp c) ∗ E 1 c)
  X c := iprop(pt c (Memref.whole main_v22) (maps Va c) ∗ semVal ((c : Thread nD τ), osem 0) 0)
  Y c := iprop(pt c (Memref.whole main_v22) (maps Va c))
  Z c := bypass0 Va c
  hentry c := by
    rw [ownSems0_eq]
    have hsplit := (Pipeline.arrays_of_unscopedBufs (p := 0) (pcfgs (F := F)) adm (dats Va Vb) launch0.win launch0.arr_whole c
      ((dats Va Vb 0 c).share_full fun _ => rfl) (Va c) (fun w => by dsimp only [dats, dat0]; rfl)).trans (sep_mono .rfl (Entails.of_eq (unscopedRest0_split Va c)))
    iintro ⟨⟨Hub, HO⟩, Hos, -⟩
    ihave H := hsplit $$ Hub
    icases H with ⟨Ha, Hm, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hm Hos]
    · isplitl [Hm]; · iexact Hm
      iexact Hos
    iexact Hr
  hin c := by
    rw [show (dats Va Vb 0 c).Φ 0 = Φ0 Va c 0 from rfl]; unfold Φ0
    rw [show Pipeline.scopedRest (Ix := Unit) (Name := ℕ) (U := UU nD τ) (Lvl := ℕ) (Val := Elt F) (pcfgs (F := F) 0).spec c = _ from scopedRest0_split c]
    iintro ⟨⟨Hm, Hs⟩, -, ⟨⟨%f8, H8⟩, ⟨%f9, H9⟩⟩, Hr⟩
    isplitl [Hm]; · iexact Hm
    isplitl [Hs]; · iexact Hs
    isplitl [H8]
    · iexists f8; isplitr; · ipureintro; exact fun h => absurd h (lt_irrefl _)
      iexact H8
    isplitl [H9]; · iexists f9; iexact H9
    iexact Hr
  hout c := by
    rw [ownSems0_eq, show (dats Va Vb 0 c).Φ (Fin.last _) = Φ0 Va c cfg0.N from rfl]; unfold Φ0
    rw [show Pipeline.scopedRest (Ix := Unit) (Name := ℕ) (U := UU nD τ) (Lvl := ℕ) (Val := Elt F) (pcfgs (F := F) 0).spec c = _ from scopedRest0_split c]
    iintro ⟨Hm, Hs, ⟨%f8, -, H8⟩, ⟨%f9, H9⟩, Hr⟩
    isplitl [Hm]; · iexact Hm
    isplitl [Hs]; · iexact Hs
    isplitl [H8 H9]
    · isplitl [H8]; · iexists f8; iexact H8
      iexists f9; iexact H9
    iexact Hr
  hexit c := by
    have hjoin := Pipeline.unscopedBufs_of_arrays (p := 0) (pcfgs (F := F)) adm (Ix := Unit) (Name := ℕ) (U := UU nD τ) (Lvl := ℕ) launch0.win launch0.arr_whole c
      (dats Va Vb) ((dats Va Vb 0 c).share_full fun _ => rfl) (Va c) (Vp c) ((dats Va Vb 0 c).arrAt · cfg0.N)
      (fun w => by
        fin_cases w
        · exact ((dats Va Vb 0 c).arrAt_in 0 rfl _).trans (hVp_ne c main_v99 (by decide)).symm
        · exact ((dats Va Vb 0 c).arrAt_in 1 rfl _).trans (hVp_ne c main_v105 (by decide)).symm
        · exact ((dats Va Vb 0 c).arrAt_in 2 rfl _).trans (hVp_ne c main_v111 (by decide)).symm
        · exact ((dats Va Vb 0 c).arrAt_in 3 rfl _).trans (hVp_ne c main_v117 (by decide)).symm
        · exact (hVp_out c).symm)
      (fun b hb => hVp_ne c b fun h => hb (h ▸ Finset.mem_image.mpr ⟨4, Finset.mem_univ _, rfl⟩))
    have hjoin' := (sep_mono .rfl (Entails.of_eq (unscopedRest0_split Va c).symm)).trans hjoin
    iintro ⟨Ha, HO, HY, HZ⟩
    imodintro
    isplitr [HO]
    · iapply hjoin'
      isplitl [Ha]; · iexact Ha
      isplitl [HY] <;> iassumption
    · unfold Pipeline.Dat.owesAt Pipeline.owesWithin
      icases HO with ⟨%W, -, HO⟩; iexists W; iexact HO

set_option backward.isDefEq.respectTransparency.types false in
/-- THE SECOND REGION over the thread state "every unscoped buffer at `Vb`", left at `Vp`. -/
def reg1 (Va Vb : Vals (F := F)) (Vp : Vals (F := F))
    (hVp : ∀ c (w : Fin 7), (dat1 Vb c).arrAt w cfg1.N = Vp c (Pipeline.arrRef spec1 w))
    (hVp_ne : ∀ c (b : Ref sig .tc), b ∉ Finset.univ.image (Pipeline.arrRef spec1) → Vp c b = Vb c b) :
    RegionSeg (pcfgs (F := F)) adm (dats Va Vb) () defs₀ Variants.none L lv 1 where
  win := launch1.win.to₀
  block_pos := launch1.block_pos
  stage_whole := launch1.stage_whole
  K := PEmpty
  osem k := k.elim
  ho := Pipeline.OwnSemFacts.none _
  hbody c := (obligation1 Vb c).loose
  hwaits := Pipeline.hwaits_of_owed_zero _ _ _ _ L lv 1 fun _ _ => rfl
  pre c := iprop(unscopedBufs c (Vb c) ∗ E 1 c)
  post c := iprop(unscopedBufs c (Vp c) ∗ E 2 c)
  X _ := BI.emp
  Y _ := BI.emp
  Z c := Pipeline.unscopedRest (Ix := Unit) (Name := ℕ) (U := UU nD τ) (Lvl := ℕ) spec1 c (Vb c)
  hentry c := by
    rw [Pipeline.ownSems0_none]
    have hsplit := Pipeline.arrays_of_unscopedBufs (p := 1) (pcfgs (F := F)) adm (dats Va Vb) launch1.win launch1.arr_whole c
      ((dats Va Vb 1 c).share_full fun _ => rfl) (Vb c) (fun w => by dsimp only [dats, dat1]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats Va Vb 1 c).Φ 0 = rest1 c from rfl]
    iintro ⟨-, -, Hr⟩; iexact Hr
  hout c := by
    rw [Pipeline.ownSems0_none, show (dats Va Vb 1 c).Φ (Fin.last _) = rest1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU nD τ) (Lvl := ℕ) launch1.win launch1.arr_whole c
      (dats Va Vb) ((dats Va Vb 1 c).share_full fun _ => rfl) (Vb c) (Vp c) ((dats Va Vb 1 c).arrAt · cfg1.N)
      (fun w => hVp c w) (fun b hb => hVp_ne c b hb)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The whole program -/

variable (m : (ℓ : Loc nD τ sig) → Buf (Elt F) ℓ)

/-- The buffers when the first region is entered. -/
abbrev Va : Vals (F := F) := fun c b => V11 m c b

/-- What the first region leaves in a buffer. -/
def outsA : Outs (F := F) := fun _ r c => Pipeline.withArrays spec0 c (V11 m c) (fun w => (dat0 (Va m) c).arrAt w cfg0.N) (Proc.devRef .tc r)

/-- The buffers when the second region is entered. -/
abbrev Vb : Vals (F := F) := fun c b => V13 m (outsA m) c b

/-- What each region leaves in a buffer. -/
def outs : Outs (F := F) := fun n r c => match n with
  | 12 => outsA m 12 r c
  | _ => Pipeline.withArrays spec1 c (V13 m (outsA m) c) (fun w => (dat1 (Vb m) c).arrAt w cfg1.N) (Proc.devRef .tc r)

omit [FloatOps F] in
/-- An update by another function's own value agrees with that function wherever the updated one did. -/
theorem upd {W G : Valuation τ sig (Elt F)} {a x : DevRef τ sig} (h : x ≠ a → W x = G x) : Function.update W a (G a) x = G x := by
  by_cases hx : x = a
  · subst hx; exact Function.update_self ..
  · rw [Function.update_of_ne hx]; exact h hx

/-- Before the second region, a buffer is at what the first left. -/
theorem V12_eq (c : Dev nD) (b : Ref sig .tc) : V12 m (outs m) c (Proc.devRef .tc b)
    = Pipeline.withArrays spec0 c (V11 m c) (fun w => (dat0 (Va m) c).arrAt w cfg0.N) (Proc.devRef .tc b) := by
  refine upd (G := Pipeline.withArrays spec0 c (V11 m c) (fun w => (dat0 (Va m) c).arrAt w cfg0.N)) fun _ => ?_
  refine upd (G := Pipeline.withArrays spec0 c (V11 m c) (fun w => (dat0 (Va m) c).arrAt w cfg0.N)) fun h => ?_
  by_cases hb : ∃ w, Pipeline.arrRef spec0 w = b
  · obtain ⟨w, rfl⟩ := hb
    rw [Pipeline.withArrays_arr spec0 launch0.win.arr_inj]
    fin_cases w
    · exact ((dat0 (Va m) c).arrAt_in 0 rfl _).symm
    · exact ((dat0 (Va m) c).arrAt_in 1 rfl _).symm
    · exact ((dat0 (Va m) c).arrAt_in 2 rfl _).symm
    · exact ((dat0 (Va m) c).arrAt_in 3 rfl _).symm
    · exact absurd rfl h
  · exact (Pipeline.withArrays_of_ne spec0 c _ _ b fun w e => hb ⟨w, e⟩).symm

theorem V13_eq (c : Dev nD) : V13 m (outs m) c = V13 m (outsA m) c := rfl

/-- After the second region, a buffer is at what that region left. -/
theorem V14_eq (c : Dev nD) (b : Ref sig .tc) : V14 m (outs m) c (Proc.devRef .tc b)
    = Pipeline.withArrays spec1 c (V13 m (outsA m) c) (fun w => (dat1 (Vb m) c).arrAt w cfg1.N) (Proc.devRef .tc b) := by
  set G := Pipeline.withArrays spec1 c (V13 m (outsA m) c) (fun w => (dat1 (Vb m) c).arrAt w cfg1.N) with hG
  refine upd (G := G) fun h5 => upd (G := G) fun h4 => upd (G := G) fun h3 => upd (G := G) fun h2 => upd (G := G) fun h1 => upd (G := G) fun h0 => ?_
  rw [V13_eq, hG]
  by_cases hb : ∃ w, Pipeline.arrRef spec1 w = b
  · obtain ⟨w, rfl⟩ := hb
    rw [Pipeline.withArrays_arr spec1 launch1.win.arr_inj]
    fin_cases w
    · exact ((dat1 (Vb m) c).arrAt_in 0 rfl _).symm
    · exact absurd rfl h0
    · exact absurd rfl h1
    · exact absurd rfl h2
    · exact absurd rfl h3
    · exact absurd rfl h4
    · exact absurd rfl h5
  · exact (Pipeline.withArrays_of_ne spec1 c _ _ b fun w e => hb ⟨w, e⟩).symm

/-- The launch element: the pipeline's at the staging cells and the pipelines' transfers; no counter yet. -/
def u₀ : UU nD τ := (initOf (Pipeline.cells cfgs cellOf_inj) (Pipeline.launchToks cfgs cellOf_inj), 1)

/-- The pipeline library's algebra is the left component. -/
abbrev EP : Emb (UR sig nD τ) (MT nD τ sig Unit (Elt F) ℕ (UU nD τ) ℕ) := embL

/-- The two regions' segments of the whole program. -/
def R0 (hB : BodyIs (F := F)) (hok : ∀ c t, Ok (tab0 (Va m) c t) (tab1 (Va m) c t)) : RegionSeg (pcfgs (F := F)) adm (dats (Va m) (Vb m)) () defs₀ Variants.none L lv 0 :=
  reg0 hB (Va m) (Vb m) hok (fun c b => V12 m (outs m) c b)
    (fun c => (V12_eq m c main_v118).trans (Pipeline.withArrays_arr spec0 launch0.win.arr_inj c _ _ 4))
    (fun c b hb => by
      have hb' : (Proc.devRef .tc b : DevRef τ sig) ≠ Proc.devRef .tc main_v118 := StableHlo.devRef_ne_of_ne hb
      show V12 m (outs m) c (Proc.devRef .tc b) = V11 m c (Proc.devRef .tc b)
      by_cases h : b = main_v22
      · subst h
        rw [V12_eq, Pipeline.withArrays_of_ne spec0 c _ _ main_v22 (by decide)]
      · exact (Function.update_of_ne (StableHlo.devRef_ne_of_ne h) _ _).trans (Function.update_of_ne hb' _ _))

def R1 : RegionSeg (pcfgs (F := F)) adm (dats (Va m) (Vb m)) () defs₀ Variants.none L lv 1 :=
  reg1 (Va m) (Vb m) (fun c b => V14 m (outs m) c b)
    (fun c w => ((V14_eq m c _).trans (Pipeline.withArrays_arr spec1 launch1.win.arr_inj c _ _ w)).symm)
    (fun c b hb => (V14_eq m c b).trans (Pipeline.withArrays_of_ne spec1 c _ _ b fun w e => hb (e ▸ Finset.mem_image.mpr ⟨w, Finset.mem_univ _, rfl⟩)))

theorem held_eq (W : Valuation τ sig (Elt F)) (c : Dev nD) : (unscopedBufs c (fun b => W (Proc.devRef .tc b)) : sProp 𝕄) = StableHlo.held (c : Thread nD τ) (Pipeline.ucRefs τ sig) W :=
  Pipeline.unscopedBufs_held (Ix := Unit) (Name := ℕ) (U := UU nD τ) (Lvl := ℕ) c W

theorem hpre0 (hB : BodyIs (F := F)) (hok : ∀ c t, Ok (tab0 (Va m) c t) (tab1 (Va m) c t)) (c : Dev nD) :
    (iprop(StableHlo.held (c : Thread nD τ) (Pipeline.ucRefs τ sig) (V11 m c) ∗ E 0 c) : sProp 𝕄) ⊢ (R0 m hB hok).pre c := by
  have h : (R0 m hB hok).pre c = iprop(unscopedBufs c (Va m c) ∗ E 0 c) := by dsimp only [R0, reg0]
  rw [h, ← held_eq]
theorem hpost0 (hB : BodyIs (F := F)) (hok : ∀ c t, Ok (tab0 (Va m) c t) (tab1 (Va m) c t)) (c : Dev nD) :
    (R0 m hB hok).post c ⊢ (iprop(StableHlo.held (c : Thread nD τ) (Pipeline.ucRefs τ sig) (V12 m (outs m) c) ∗ E 1 c) : sProp 𝕄) := by
  have h : (R0 m hB hok).post c = iprop(unscopedBufs c (fun b => V12 m (outs m) c b) ∗ E 1 c) := by dsimp only [R0, reg0]
  rw [h, ← held_eq]
theorem hpre1 (c : Dev nD) :
    (iprop(StableHlo.held (c : Thread nD τ) (Pipeline.ucRefs τ sig) (V13 m (outs m) c) ∗ E 1 c) : sProp 𝕄) ⊢ (R1 m).pre c := by
  have h : (R1 m).pre c = iprop(unscopedBufs c (Vb m c) ∗ E 1 c) := by dsimp only [R1, reg1]
  rw [h, V13_eq, ← held_eq]
theorem hpost1 (c : Dev nD) :
    (R1 m).post c ⊢ (iprop(StableHlo.held (c : Thread nD τ) (Pipeline.ucRefs τ sig) (V14 m (outs m) c) ∗ E 2 c) : sProp 𝕄) := by
  have h : (R1 m).post c = iprop(unscopedBufs c (fun b => V14 m (outs m) c b) ∗ E 2 c) := by dsimp only [R1, reg1]
  rw [h, ← held_eq]

/-- What the run leaves: the arguments as launched, the four results at the last valuation, every counter at zero. -/
def Post (r : PUnit × MemSt nD τ sig (Elt F)) : Prop :=
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1))
    ∧ r.2.mem ((c.tc : Thread nD τ).loc main_v147) = V15 m (outs m) c main_v147
    ∧ r.2.mem ((c.tc : Thread nD τ).loc main_v146_2) = V15 m (outs m) c main_v146_2
    ∧ r.2.mem ((c.tc : Thread nD τ).loc main_v152) = V15 m (outs m) c main_v152
    ∧ r.2.mem ((c.tc : Thread nD τ).loc main_v151) = V15 m (outs m) c main_v151)
  ∧ r.2.sem = fun _ => 0

set_option backward.isDefEq.respectTransparency.types false in
/-- THE RUN of the whole program, given that every table word is in range. -/
theorem run (hB : BodyIs (F := F)) (ρ : Dev nD → PrngReg) (hok : ∀ c t, Ok (tab0 (Va m) c t) (tab1 (Va m) c t)) :
    θ_run defs (onTc (τ := τ) (main (F := F))) ⟨m, fun _ => 0, ρ⟩ (Post m) := by
  refine Pipeline.θ_run_regions_kit_dev_sems (pcfgs (F := F)) adm (dats (Va m) (Vb m)) () cellOf_inj EP defs₀ Variants.none L lv m ρ main
    (segs m (outs m) Variants.none L lv E () (dats (Va m) (Vb m)) (R0 m hB hok) (R1 m))
    (fun c Q => by
      rewrite [main_chain c, Seg.run_eq_chain,
        show (segs m (outs m) Variants.none L lv E () (dats (Va m) (Vb m)) (R0 m hB hok) (R1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := ?_)
    (T₀ := fun c => iprop(StableHlo.held (c : Thread nD τ) (Pipeline.ucRefs τ sig) (V0 m c) ∗ E 0 c))
    (Tₙ := fun c => StableHlo.held (c : Thread nD τ) (Pipeline.ucRefs τ sig) (V15 m (outs m) c))
    (hch := fun c => ⟨.rfl, .rfl, .rfl, .rfl, .rfl, .rfl, .rfl, .rfl, .rfl, .rfl, .rfl, hpre0 m hB hok c, hpost0 m hB hok c, hpre1 m c, hpost1 m c, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1))
      ∧ s.mem ((c.tc : Thread nD τ).loc main_v147) = V15 m (outs m) c main_v147
      ∧ s.mem ((c.tc : Thread nD τ).loc main_v146_2) = V15 m (outs m) c main_v146_2
      ∧ s.mem ((c.tc : Thread nD τ).loc main_v152) = V15 m (outs m) c main_v152
      ∧ s.mem ((c.tc : Thread nD τ).loc main_v151) = V15 m (outs m) c main_v151)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      have hr : ∀ b : Ref sig .tc, b.isScoped = false → s'.mem.mem ((c.tc : Thread nD τ).loc b) = V15 m (outs m) c (Proc.devRef .tc b) := fun b hb =>
        h (Proc.devRef .tc b) (Finset.mem_filter.mpr ⟨StableHlo.devRef_mem_tcRefs b, fun h' => Bool.false_ne_true (hb.symm.trans h')⟩)
      exact ⟨⟨(hr main_arg0 rfl).trans (V15_main_arg0 m (outs m) c), (hr main_arg1 rfl).trans (V15_main_arg1 m (outs m) c)⟩,
        hr main_v147 rfl, hr main_v146_2 rfl, hr main_v152 rfl, hr main_v151 rfl⟩
    · iexact HSI

end Cert.Fold
end
-- ==== Proof.Host.lean ====
/-
  The words and weights that the host lines hand to the first region, read at an index: where each box is sampled in
  each bin, the cell of the map the sample falls in, and what rounding down left. At any floats.
-/
module

public import proofs.«01_k».proof.Proof.Gen.Kernel.Regions
public import proofs.«01_k».proof.Proof.Gen.Pre_samples_on_the_map
public import Idealize.ShloMosaic.Lib.StableHlo.ReadAt
public import Idealize.ShloMosaic.Lib.PointwiseCore

@[expose] public section
set_option maxRecDepth 16384
noncomputable section
namespace Cert.Fold
open Cert.Kernel Cert.Kernel.Gen
open Idealize.ShloMosaic
open Idealize.ShloMosaic.TcCoe

variable {F : FTy → Type} [FloatOps F]

/-- The centre of bin `j` along an axis, as a part of the axis. -/
def centre (F : FTy → Type) [FloatOps F] (j : Fin 7) : F .f32 :=
  FloatOps.hostDivf (FloatOps.addf (FloatOps.sitofp .f32 (BitVec.ofNat 32 j.val)) (FloatOps.ofBits .f32 1056964608#32)) (FloatOps.ofBits .f32 1088421888#32)
/-- Box `n`'s corner `p` on the map. -/
def corner (roi : FVec F S16000x4 .f32) (n : Fin 16000) (p : Fin 4) : F .f32 := FloatOps.hostDivf (roi (ix2 n p)) (FloatOps.ofBits .f32 1090519040#32)
/-- Where box `n` is sampled in bin `j` of the axis whose corners are `p` and `q`, kept on the map. -/
def sample (roi : FVec F S16000x4 .f32) (n : Fin 16000) (p q : Fin 4) (j : Fin 7) : F .f32 :=
  FloatOps.minimumf (FloatOps.ofBits .f32 1132396544#32) (FloatOps.maximumf (FloatOps.ofBits .f32 0#32)
    (FloatOps.addf (corner roi n p) (FloatOps.mulf (centre F j)
      (FloatOps.maximumf (FloatOps.subf (corner roi n q) (corner roi n p)) (FloatOps.ofBits .f32 1065353216#32)))))
/-- The sample rounded down, as a word. -/
def cell (roi : FVec F S16000x4 .f32) (n : Fin 16000) (p q : Fin 4) (j : Fin 7) : BitVec 32 :=
  FloatOps.fptosi 32 (FloatOps.hostUnary .floor (sample roi n p q j))
/-- What rounding down left of the sample. -/
def frac (roi : FVec F S16000x4 .f32) (n : Fin 16000) (p q : Fin 4) (j : Fin 7) : F .f32 :=
  FloatOps.subf (sample roi n p q j) (FloatOps.hostUnary .floor (sample roi n p q j))
/-- The cell after a cell, or the cell itself at the map's end. -/
def nextCell (x : BitVec 32) : BitVec 32 := IntOp.minsi (IntOp.addi x 1#32) 255#32
/-- The row of the feature table that holds the cell of column `x` and row `y`. -/
def rowWord (x y : BitVec 32) : BitVec 32 := IntOp.addi (IntOp.muli x 256#32) y

variable (m : (ℓ : Loc nD τ sig) → Buf (Elt F) ℓ) (c : Dev nD)

/-- The boxes a core is given. -/
abbrev roiOf : FVec F S16000x4 .f32 := m ((c.tc : Thread nD τ).loc main_arg0)

theorem sample_y (n : Fin 16000) (j : Fin 7) : V10 m c main_v52 (ix2 n j) = sample (roiOf m c) n 1 3 j := by
  unfold V10 V9 V8 V7
  after_reads_at
  rfl
theorem sample_x (n : Fin 16000) (j : Fin 7) : V10 m c main_v61 (ix2 n j) = sample (roiOf m c) n 0 2 j := by
  unfold V10 V9 V8 V7
  after_reads_at
  rfl

/-- The box of row `b` of block `a` of the tables. -/
def boxOf (a : Fin 2000) (b : Fin 16) : Fin 16000 := ⟨a.val % 1000 * 16 + b.val, by omega⟩
/-- The bin of entry `k` of a row of block `a`: the second half of the blocks holds bins 24 to 48. -/
def binOf (a : Fin 2000) (k : Fin 25) : Fin 49 := ⟨a.val / 1000 * 24 + k.val, by omega⟩
/-- A bin's column and row among the 7 by 7. -/
def binX (q : Fin 49) : Fin 7 := ⟨q.val % 7, by omega⟩
def binY (q : Fin 49) : Fin 7 := ⟨q.val / 7, by omega⟩

theorem binOf_lo (a : Fin 2000) (k : Fin 25) (h : a.val / 1000 < 1) : binOf a k = ⟨k.val, by omega⟩ :=
  Fin.ext (by show a.val / 1000 * 24 + k.val = k.val; omega)
theorem binOf_hi (a : Fin 2000) (k : Fin 25) (h : ¬ a.val / 1000 < 1) : binOf a k = ⟨24 + k.val, by omega⟩ :=
  Fin.ext (by show a.val / 1000 * 24 + k.val = 24 + k.val; omega)

theorem word0 (a : Fin 2000) (b : Fin 16) (k : Fin 25) : V11 m c main_v99 (ix3 a b k)
    = rowWord (cell (roiOf m c) (boxOf a b) 0 2 (binX (binOf a k))) (cell (roiOf m c) (boxOf a b) 1 3 (binY (binOf a k))) := by
  unfold cell
  rw [← sample_x, ← sample_y]
  unfold V11
  after_reads_at
  split
  · rename_i h
    rw [binOf_lo a k h]
    after_reads_at
    rfl
  · rename_i h
    rw [binOf_hi a k h]
    after_reads_at
    rfl
theorem word1 (a : Fin 2000) (b : Fin 16) (k : Fin 25) : V11 m c main_v105 (ix3 a b k)
    = rowWord (nextCell (cell (roiOf m c) (boxOf a b) 0 2 (binX (binOf a k)))) (cell (roiOf m c) (boxOf a b) 1 3 (binY (binOf a k))) := by
  unfold cell
  rw [← sample_x, ← sample_y]
  unfold V11
  after_reads_at
  split
  · rename_i h
    rw [binOf_lo a k h]
    after_reads_at
    rfl
  · rename_i h
    rw [binOf_hi a k h]
    after_reads_at
    rfl
theorem weight_y (a : Fin 2000) (b : Fin 16) (k : Fin 25) : V11 m c main_v111 (ix3 a b k)
    = frac (roiOf m c) (boxOf a b) 1 3 (binY (binOf a k)) := by
  unfold frac
  rw [← sample_y]
  unfold V11
  after_reads_at
  split
  · rename_i h
    rw [binOf_lo a k h]
    after_reads_at
    rfl
  · rename_i h
    rw [binOf_hi a k h]
    after_reads_at
    rfl
theorem weight_x (a : Fin 2000) (b : Fin 16) (k : Fin 25) : V11 m c main_v117 (ix3 a b k)
    = frac (roiOf m c) (boxOf a b) 0 2 (binX (binOf a k)) := by
  unfold frac
  rw [← sample_x]
  unfold V11
  after_reads_at
  split
  · rename_i h
    rw [binOf_lo a k h]
    after_reads_at
    rfl
  · rename_i h
    rw [binOf_hi a k h]
    after_reads_at
    rfl

/-- Every bin of every box is sampled in a cell of the map. -/
def OnMap (roi : FVec F S16000x4 .f32) : Prop := ∀ n j, (cell roi n 1 3 j).toNat < 256 ∧ (cell roi n 0 2 j).toNat < 256

theorem onMap_of_pre (roi : FVec F S16000x4 .f32) (map : FVec F S1x256x256x196 .f32)
    (h : Pre_samples_on_the_map.fn (F := F) roi map = fun _ => 1#1) : OnMap roi := by
  intro n j
  have h' := congrFun h (ix2 n j)
  unfold Pre_samples_on_the_map.fn Pre_samples_on_the_map.fn_part1 Pre_samples_on_the_map.fn_part2 Pre_samples_on_the_map.fn_clip at h'
  pointwise at h'
  have key : ∀ y x : BitVec 32, IntOp.andi (IntOp.andi (IntOp.andi (IntOp.cmpi .sge y 0#32) (IntOp.cmpi .slt y 256#32)) (IntOp.cmpi .sge x 0#32)) (IntOp.cmpi .slt x 256#32) = 1#1
      → y.toNat < 256 ∧ x.toNat < 256 := by
    intro y x hyx
    have one : ∀ z : BitVec 32, (0#32).sle z = true → z.slt 256#32 = true → z.toNat < 256 := by
      intro z h0 h1
      rw [BitVec.sle_eq_decide, decide_eq_true_eq] at h0
      rw [BitVec.slt_eq_decide, decide_eq_true_eq] at h1
      have e0 : (0#32).toInt = 0 := by decide
      have e1 : (256#32).toInt = 256 := by decide
      rw [e0] at h0; rw [e1] at h1
      rw [BitVec.toInt_eq_toNat_cond] at h0 h1
      have := z.isLt
      split at h0 <;> omega
    have and1 : ∀ p q : BitVec 1, IntOp.andi p q = 1#1 → p = 1#1 ∧ q = 1#1 := by decide
    have ofb : ∀ b : Bool, BitVec.ofBool b = 1#1 → b = true := by decide
    obtain ⟨h1, h2⟩ := and1 _ _ hyx
    obtain ⟨h1, h3⟩ := and1 _ _ h1
    obtain ⟨h1, h4⟩ := and1 _ _ h1
    exact ⟨one y (ofb _ h1) (ofb _ h4), one x (ofb _ h3) (ofb _ h2)⟩
  exact key _ _ h'

theorem nextCell_lt (x : BitVec 32) (h : x.toNat < 256) : (nextCell x).toNat = min (x.toNat + 1) 255 := by
  unfold nextCell IntOp.minsi IntOp.addi
  have hx : (x + 1#32).toNat = x.toNat + 1 := by rw [BitVec.toNat_add]; show (x.toNat + 1) % 4294967296 = _; omega
  have hi : (x + 1#32).toInt = x.toNat + 1 := by
    rw [BitVec.toInt_eq_toNat_of_lt (by omega), hx]; push_cast; rfl
  rw [BitVec.slt_eq_decide, hi, show (255#32).toInt = 255 by decide]
  split
  · rename_i h1
    rw [decide_eq_true_eq] at h1
    omega
  · rename_i h1
    rw [decide_eq_true_eq] at h1
    show 255 = _
    omega

theorem rowWord_toNat (x y : BitVec 32) (hx : x.toNat < 256) (hy : y.toNat < 256) : (rowWord x y).toNat = x.toNat * 256 + y.toNat := by
  unfold rowWord IntOp.addi IntOp.muli
  rw [BitVec.toNat_add, BitVec.toNat_mul]
  show (x.toNat * 256 % 4294967296 + y.toNat) % 4294967296 = _
  omega

/-- The word of a row of the table, rounded down to a multiple of eight. -/
theorem eights (v : BitVec 32) (h : v.toNat < 65536) : (k0_mult1 v).toNat = v.toNat / 8 * 8 := by
  have e : k0_mult1 v = v.sshiftRight 3 <<< 3 := rfl
  rw [e, BitVec.toNat_shiftLeft,
    BitVec.sshiftRight_eq_of_msb_false (by rw [BitVec.msb_eq_false_iff_two_mul_lt]; omega), BitVec.toNat_ushiftRight, Nat.shiftRight_eq_div_pow, Nat.shiftLeft_eq]
  omega

theorem off2_mult (v : BitVec 32) : k0_off2 v = ![(k0_mult1 v).toNat, 0] := rfl

theorem chk_of_lt (v : BitVec 32) (h : v.toNat < 65536) : k0_chk1 v := by
  refine ⟨?_, ?_⟩
  · rw [eights v h]; exact Nat.dvd_mul_left ..
  · intro a
    rw [off2_mult, eights v h]
    fin_cases a
    · show v.toNat / 8 * 8 + 16 ≤ 66048
      omega
    · show 0 + 128 ≤ 128
      omega

theorem chk_word0 (hm : OnMap (roiOf m c)) (a : Fin 2000) (b : Fin 16) (k : Fin 25) : k0_chk1 (V11 m c main_v99 (ix3 a b k)) := by
  rw [word0]
  have hy := (hm (boxOf a b) (binY (binOf a k))).1
  have hx := (hm (boxOf a b) (binX (binOf a k))).2
  refine chk_of_lt _ ?_
  rw [rowWord_toNat _ _ hx hy]; omega
theorem chk_word1 (hm : OnMap (roiOf m c)) (a : Fin 2000) (b : Fin 16) (k : Fin 25) : k0_chk1 (V11 m c main_v105 (ix3 a b k)) := by
  rw [word1]
  have hy := (hm (boxOf a b) (binY (binOf a k))).1
  have hx := (hm (boxOf a b) (binX (binOf a k))).2
  have hn := nextCell_lt _ hx
  refine chk_of_lt _ ?_
  rw [rowWord_toNat _ _ (by omega) hy]; omega

end Cert.Fold
-- ==== Proof.Tabs.lean ====
/-
  The blocks of the four tables a grid point of the first region is handed, read at an index, and the condition on the
  words of every block, from the samples' being on the map.
-/
module

public import proofs.«01_k».proof.Proof.RegionsRun
public import proofs.«01_k».proof.Proof.Host
public import Idealize.ShloMosaic.Lib.Pipeline.Value

@[expose] public section
set_option maxRecDepth 16384
noncomputable section
namespace Cert.Fold
open Cert.Kernel Cert.Kernel.Gen
open Idealize.ShloMosaic
open Idealize.ShloMosaic.TcCoe
open Idealize.ShloMosaic.Rounds
open Idealize.ShloMosaic.Pipeline (Dat Cfg Window BodyObligation cellOf)

variable {F : FTy → Type} [FloatOps F]

/-- A grid point as a block number of the tables. -/
def blkOf (t : Fin cfg0.N) : Fin 2000 := ⟨t.val, t.isLt.trans_eq N_0⟩

theorem index0_0 : ∀ (t : Fin grid0.N) (a : Fin 3), win0_0.index t a = (![t.val, 0, 0] : Fin 3 → Nat) a := by decide +kernel
theorem index0_1 : ∀ (t : Fin grid0.N) (a : Fin 3), win0_1.index t a = (![t.val, 0, 0] : Fin 3 → Nat) a := by decide +kernel
theorem index0_2 : ∀ (t : Fin grid0.N) (a : Fin 3), win0_2.index t a = (![t.val, 0, 0] : Fin 3 → Nat) a := by decide +kernel
theorem index0_3 : ∀ (t : Fin grid0.N) (a : Fin 3), win0_3.index t a = (![t.val, 0, 0] : Fin 3 → Nat) a := by decide +kernel

/-- An index whose coordinates are a block's number and an index of the block is that index of the array. -/
theorem ixT_in (t : Fin cfg0.N) (nl b : Nat) (j : S2000x16x25.Idx) (idx : Fin 3 → Nat) (hidx : ∀ a, idx a = (![t.val, 0, 0] : Fin 3 → Nat) a)
    (hj : ∀ a, (j a).val = idx a * (![1, 16, 25] : Fin 3 → Nat) a + (ixT nl b a).val) :
    j = ix3 (blkOf t) (Fin.ofNat 16 nl) (Fin.ofNat 25 b) := by
  funext a
  refine Fin.ext ((hj a).trans ?_)
  rw [hidx a]
  fin_cases a
  · show t.val * 1 + 0 = t.val; omega
  · show 0 * 16 + _ = _; rw [Nat.zero_mul, Nat.zero_add]; rfl
  · show 0 * 25 + _ = _; rw [Nat.zero_mul, Nat.zero_add]; rfl

variable (V : Vals (F := F)) (c : Dev nD) (t : Fin cfg0.N) (nl b : Nat)

theorem tab0_at : tab0 V c t (ixT nl b) = V c main_v99 (ix3 (blkOf t) (Fin.ofNat 16 nl) (Fin.ofNat 25 b)) :=
  congrArg (V c main_v99) (ixT_in t nl b _ (win0_0.index t) (index0_0 t) fun a => Window.rect_emb_val win0_0 t (ixT nl b) a)
theorem tab1_at : tab1 V c t (ixT nl b) = V c main_v105 (ix3 (blkOf t) (Fin.ofNat 16 nl) (Fin.ofNat 25 b)) :=
  congrArg (V c main_v105) (ixT_in t nl b _ (win0_1.index t) (index0_1 t) fun a => Window.rect_emb_val win0_1 t (ixT nl b) a)
theorem tab2_at : tab2 V c t (ixT nl b) = V c main_v111 (ix3 (blkOf t) (Fin.ofNat 16 nl) (Fin.ofNat 25 b)) :=
  congrArg (V c main_v111) (ixT_in t nl b _ (win0_2.index t) (index0_2 t) fun a => Window.rect_emb_val win0_2 t (ixT nl b) a)
theorem tab3_at : tab3 V c t (ixT nl b) = V c main_v117 (ix3 (blkOf t) (Fin.ofNat 16 nl) (Fin.ofNat 25 b)) :=
  congrArg (V c main_v117) (ixT_in t nl b _ (win0_3.index t) (index0_3 t) fun a => Window.rect_emb_val win0_3 t (ixT nl b) a)

/-- Where every sample is on the map, every word a grid point reads is a row it may load. -/
theorem ok_of_onMap (m : (ℓ : Loc nD τ sig) → Buf (Elt F) ℓ) (hm : ∀ c, OnMap (roiOf m c)) (c : Dev nD) (t : Fin cfg0.N) :
    Ok (tab0 (Va m) c t) (tab1 (Va m) c t) := by
  intro nl b
  rw [tab0_at, tab1_at]
  exact ⟨chk_word0 m c (hm c) _ _ _, chk_word1 m c (hm c) _ _ _⟩

end Cert.Fold
-- ==== Proof.OnMap.lean ====
/-
  At the extended reals every sample lies on the map whatever the boxes are: it is kept between 0 and 255, so it is a
  real number, its floor is a cell of the map, and what rounding down left is at least 0 and below 1.
-/
module

public import proofs.«01_k».proof.Proof.Host
public import Idealize.ShloMosaic.PureOps.Ideal
public import Idealize.ShloMosaic.Lib.IdealHost

@[expose] public section
noncomputable section
namespace Cert.Fold
open Cert.Kernel
open Idealize.ShloMosaic

theorem ofBits_255 : Ideal.ofBits .f32 1132396544#32 = ((255 : ℝ) : EReal) := by
  simp [Ideal.ofBits, Ideal.ieee, -EReal.coe_mul]; norm_num

/-- A number kept between 0 and 255 is a real number between 0 and 255. -/
theorem kept (x : EReal) : ∃ r : ℝ, 0 ≤ r ∧ r ≤ 255 ∧ min ((255 : ℝ) : EReal) (max 0 x) = (r : EReal) := by
  induction x with
  | bot => exact ⟨0, le_refl _, by norm_num, by simp⟩
  | top => exact ⟨255, by norm_num, le_refl _, by simp⟩
  | coe x =>
    refine ⟨min 255 (max 0 x), by positivity, min_le_left _ _, ?_⟩
    rw [← EReal.coe_zero, ← EReal.coe_strictMono.monotone.map_max, ← EReal.coe_strictMono.monotone.map_min]

variable (roi : FVec Ideal S16000x4 .f32) (n : Fin 16000) (p q : Fin 4) (j : Fin 7)

theorem sample_real : ∃ r : ℝ, 0 ≤ r ∧ r ≤ 255 ∧ sample roi n p q j = (r : EReal) := by
  have h := kept (FloatOps.addf (corner roi n p) (FloatOps.mulf (centre Ideal j)
      (FloatOps.maximumf (FloatOps.subf (corner roi n q) (corner roi n p)) (FloatOps.ofBits .f32 1065353216#32))))
  rw [← ofBits_255, ← Ideal.ofBits_zero_f32] at h
  exact h

/-- The sample's cell and what is left are those of a real number between 0 and 255. -/
theorem cell_frac : ∃ (k : ℕ) (f : ℝ), k < 256 ∧ 0 ≤ f ∧ f < 1 ∧ (k = 255 → f = 0)
    ∧ cell roi n p q j = BitVec.ofNat 32 k ∧ frac roi n p q j = (f : EReal) := by
  obtain ⟨r, h0, h1, h⟩ := sample_real roi n p q j
  have hf0 : 0 ≤ ⌊r⌋ := Int.floor_nonneg.mpr h0
  have hf1 : ⌊r⌋ ≤ 255 := by
    have := Int.floor_le r
    exact_mod_cast this.trans h1
  obtain ⟨k, hk⟩ := Int.eq_ofNat_of_zero_le hf0
  refine ⟨k, r - k, by omega, ?_, ?_, ?_, ?_, ?_⟩
  · have := Int.floor_le r
    rw [hk] at this
    push_cast at this
    linarith
  · have := Int.lt_floor_add_one r
    rw [hk] at this
    push_cast at this
    linarith
  · rintro rfl
    have := Int.floor_le r
    rw [hk] at this
    push_cast at this
    push_cast
    linarith
  · show Ideal.fptosi 32 (Ideal.liftRound Int.floor (sample roi n p q j)) = _
    rw [h, Ideal.liftRound_coe, Ideal.fptosi, Ideal.toIntClamped_coe, hk]
    have e : (0 : ℝ) ≤ ((k : ℤ) : ℝ) := by positivity
    rw [if_pos e, Int.floor_intCast]
    have : max (-(2 ^ (32 - 1) : ℕ) : ℤ) (min ((2 ^ (32 - 1) : ℕ) - 1) (k : ℤ)) = (k : ℤ) := by omega
    rw [this]
    exact BitVec.ofInt_natCast _ _
  · show sample roi n p q j - Ideal.liftRound Int.floor (sample roi n p q j) = _
    rw [h, Ideal.liftRound_coe, hk, ← EReal.coe_sub]
    simp

theorem onMap_ideal : OnMap roi := fun n j => by
  obtain ⟨k, f, h, -, -, -, e, -⟩ := cell_frac roi n 1 3 j
  obtain ⟨k', f', h', -, -, -, e', -⟩ := cell_frac roi n 0 2 j
  rw [e, e']
  exact ⟨by rw [BitVec.toNat_ofNat]; omega, by rw [BitVec.toNat_ofNat]; omega⟩

end Cert.Fold
end
-- ==== Proof.BodyEq.lean ====
/-
  The pooling body, as it is printed, is its folded text: at the extended reals.
-/
module

public import proofs.«01_k».proof.Proof.Body
public import Idealize.ShloMosaic.Lib.Tactic.ProgEq
public import Idealize.ShloMosaic.PureOps.Ideal

@[expose] public section
set_option maxRecDepth 1000000
set_option maxHeartbeats 0
noncomputable section
open Idealize.ShloMosaic Idealize.SL.Sem
open scoped Idealize.ShloMosaic.ProgEq

prog_eq Cert.Fold.body_eq_ideal : Cert.Kernel.cc0__pool_kernel Cert.Fold.body from Cert.Kernel to Cert.Kernel at Ideal inferInstance by
  intros; rfl

end
-- ==== Proof.BodyEqBits.lean ====
/-
  The pooling body, as it is printed, is its folded text: at the bit floats.
-/
module

public import proofs.«01_k».proof.Proof.Body
public import Idealize.ShloMosaic.Lib.Tactic.ProgEq
public import Idealize.ShloMosaic.PureOps.BitExact

@[expose] public section
set_option maxRecDepth 1000000
set_option maxHeartbeats 0
noncomputable section
open Idealize.ShloMosaic Idealize.SL.Sem
open scoped Idealize.ShloMosaic.ProgEq

prog_eq Cert.Fold.body_eq_bits : Cert.Kernel.cc0__pool_kernel Cert.Fold.body from Cert.Kernel to Cert.Kernel at Bits inferInstance by
  intros; rfl

end
-- ==== Proof.FrameK.lean ====
/-
  The kernel runs, at the bit floats where the boxes' samples lie on the map, and at the extended reals everywhere.
-/
module

public import proofs.«01_k».proof.Defs
public import proofs.«01_k».proof.Proof.Gen.KernelIdeal
public import proofs.«01_k».proof.Proof.Gen.KernelIdeal.Skeleton
public import proofs.«01_k».proof.Proof.RegionsRun
public import proofs.«01_k».proof.Proof.Tabs
public import proofs.«01_k».proof.Proof.OnMap
public import proofs.«01_k».proof.Proof.BodyEq
public import proofs.«01_k».proof.Proof.BodyEqBits
public import Idealize.ShloMosaic.Lib.StableHlo.RunHlo

@[expose] public section
set_option maxRecDepth 16384
noncomputable section
namespace Cert.Fold
open Cert.Kernel Cert.Kernel.Gen
open Idealize.ShloMosaic Idealize.SL.Sem

theorem bodyIs_ideal : BodyIs (F := Ideal) := by
  unfold BodyIs
  intros
  exact body_eq_ideal ..
theorem bodyIs_bits : BodyIs (F := Bits) := by
  unfold BodyIs
  intros
  exact body_eq_bits ..

theorem run_ideal (m : (ℓ : Loc nD τ sig) → Buf (Elt Ideal) ℓ) (g : Dev nD → PrngReg) :
    θ_run (defs (F := Ideal)) (onTc (τ := τ) (main (F := Ideal))) ⟨m, fun _ => 0, g⟩ (Post m) :=
  run m bodyIs_ideal g (ok_of_onMap m fun c => onMap_ideal (roiOf m c))

theorem quiescent_kernel : Cert.quiescent_Kernel := fun m g hp =>
  (θ_run_mono (run m bodyIs_bits g (ok_of_onMap m fun c => onMap_of_pre (roiOf m c) _ (hp c))) fun _ h => ⟨fun c => (h.1 c).1, h.2⟩)

end Cert.Fold
end
-- ==== Proof.FrameR.lean ====
/-
  The reference runs.
-/
module
public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

@[expose] public section
set_option maxRecDepth 16384
noncomputable section
namespace Cert.Fold
open Idealize.ShloMosaic Idealize.SL.Sem

theorem quiescent_reference : Cert.quiescent_ReferenceIdeal := by
  intro m g _
  hlo_run
  · exact fun _ => ⟨trivial, trivial⟩
  · exact sem_eq_zero_of_no_sems (sig := Cert.ReferenceIdeal.sig) (by decide) _

end Cert.Fold
end
-- ==== Proof.CfgEq.lean ====
/-
  The launch records and the head kernel are the same in both printings.
-/
module
public import proofs.«01_k».proof.Proof.FrameK

@[expose] public section
set_option maxRecDepth 1000000
set_option maxHeartbeats 0
noncomputable section
namespace Cert.Fold
open Idealize.ShloMosaic Idealize.SL.Sem
theorem cfg0_eq : Cert.KernelIdeal.cfg0 = Cert.Kernel.cfg0 := rfl
theorem cfg1_eq : Cert.KernelIdeal.cfg1 = Cert.Kernel.cfg1 := rfl
theorem pcfg_eq : Cert.KernelIdeal.pcfgs (F := Ideal) = Cert.Kernel.pcfgs (F := Ideal) := by
  funext p
  fin_cases p <;> rfl
theorem head_eq : Cert.KernelIdeal.cc1__head_kernel (F := Ideal) = Cert.Kernel.cc1__head_kernel (F := Ideal) := rfl
end Cert.Fold
end
-- ==== Proof.PoolEq.lean ====
/-
  The pooling kernel is the same program in both printings.
-/
module
public import proofs.«01_k».proof.Proof.FrameK
public import Idealize.ShloMosaic.Lib.Tactic.ProgEq

@[expose] public section
set_option maxRecDepth 1000000
set_option maxHeartbeats 0
noncomputable section
open Idealize.ShloMosaic Idealize.SL.Sem
open scoped Idealize.ShloMosaic.ProgEq

prog_eq Cert.Fold.pool_eq : Cert.KernelIdeal.cc0__pool_kernel Cert.Kernel.cc0__pool_kernel from Cert.KernelIdeal to Cert.Kernel at Ideal inferInstance by
  intros; rfl

end
-- ==== Proof.MainEq.lean ====
/-
  The host program is the same in both printings.
-/
module
public import proofs.«01_k».proof.Proof.FrameK
public import Idealize.ShloMosaic.Lib.Tactic.ProgEq

@[expose] public section
set_option maxRecDepth 1000000
set_option maxHeartbeats 0
noncomputable section
namespace Cert.Fold
open Idealize.ShloMosaic Idealize.SL.Sem

theorem main_eq : Cert.KernelIdeal.main (F := Ideal) = Cert.Kernel.main (F := Ideal) := by
  funext c
  rfl

end Cert.Fold
end
-- ==== Proof.DefsEq.lean ====
/-
  The kernel's table of bodies is the same program in both printings, so a run of one is a run of the other.
-/
module
public import proofs.«01_k».proof.Proof.CfgEq
public import proofs.«01_k».proof.Proof.PoolEq
public import proofs.«01_k».proof.Proof.MainEq
@[expose] public section
set_option maxRecDepth 1000000
set_option maxHeartbeats 0
noncomputable section
namespace Cert.Fold
open Idealize.ShloMosaic Idealize.SL.Sem

theorem defs0_eq : Cert.KernelIdeal.defs₀ (F := Ideal) = Cert.Kernel.defs₀ (F := Ideal) := by
  unfold Cert.KernelIdeal.defs₀ Cert.Kernel.defs₀
  refine congrArg Defs.onTc ?_
  funext l x
  match l, x with
  | 0, (t, s) => exact pool_eq ..
  | 1, (t, s) => exact rfl

theorem defs_eq : Cert.KernelIdeal.defs (F := Ideal) = Cert.Kernel.defs (F := Ideal) := by
  unfold Cert.KernelIdeal.defs Cert.Kernel.defs
  rw [← defs0_eq]
  rfl

/-- The run of the kernel as it is printed for the extended reals. -/
theorem run_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (Post (F := Ideal) m) := by
  rw [defs_eq, main_eq]
  exact run_ideal m g

theorem quiescent_kernelIdeal : Cert.quiescent_KernelIdeal := fun m g _ =>
  θ_run_mono (run_kernelIdeal m g) fun _ h => ⟨fun c => (h.1 c).1, h.2⟩

theorem quiescent_kernelIdeal_pre : Cert.quiescent_KernelIdeal_pre_samples_on_the_map := fun m g _ =>
  quiescent_kernelIdeal m g trivial

end Cert.Fold
end
-- ==== Proof.KArr.lean ====
/-
  What the two kernels leave in their result arrays: each block is what its grid point computed.
-/
module
public import proofs.«01_k».proof.Proof.Tabs
@[expose] public section
set_option maxRecDepth 16384
noncomputable section
namespace Cert.Fold
open Cert.Kernel Cert.Kernel.Gen
open Idealize.ShloMosaic
open Idealize.ShloMosaic.TcCoe
open Idealize.ShloMosaic.Rounds
open Idealize.ShloMosaic.Pipeline (Dat Cfg Window BodyObligation cellOf)

variable {F : FTy → Type} [FloatOps F]

theorem index0_4 : ∀ (t : Fin grid0.N) (a : Fin 3), win0_4.index t a = (![t.val, 0, 0] : Fin 3 → Nat) a := by decide +kernel

/-- The grid point that computes a row of the first kernel's result, and the row's number in that point's block. -/
def ptOf (i : Fin 32000) : Fin cfg0.N := ⟨i.val / 16, lt_of_lt_of_eq (by omega : i.val / 16 < 2000) N_0.symm⟩
def inOf (i : Fin 32000) : Fin 16 := ⟨i.val % 16, by omega⟩

theorem t_lt (t : Fin cfg0.N) : t.val < 2000 := t.isLt.trans_eq N_0

/-- The row of the result that a row of a point's block is. -/
def rowOf (t : Fin cfg0.N) (b : Fin 16) : Fin 32000 := ⟨t.val * 16 + b.val, by have := t_lt t; omega⟩

theorem ix_in (t : Fin cfg0.N) (j : S16x1x128.Idx) (k : S32000x1x128.Idx) (idx : Fin 3 → Nat) (hidx : ∀ a, idx a = (![t.val, 0, 0] : Fin 3 → Nat) a)
    (hk : ∀ a, (k a).val = idx a * (![16, 1, 128] : Fin 3 → Nat) a + (j a).val) :
    k = ix3 (rowOf t (j 0)) (0 : Fin 1) (j 2 : Fin 128) := by
  funext a
  refine Fin.ext ((hk a).trans ?_)
  rw [hidx a]
  have h1 : (j 1).val = 0 := Nat.lt_one_iff.mp (j 1).isLt
  fin_cases a
  · rfl
  · show 0 * 1 + (j 1).val = 0; rw [h1]
  · show 0 * 128 + (j 2).val = (j 2).val; rw [Nat.zero_mul, Nat.zero_add]

theorem emb0_4 (t : Fin cfg0.N) (j : S16x1x128.Idx) : ((cfg0.win 4).blk t).view.emb j = ix3 (rowOf t (j 0)) (0 : Fin 1) (j 2 : Fin 128) :=
  ix_in t j _ (win0_4.index t) (index0_4 t) fun a => Window.rect_emb_val win0_4 t j a

theorem pt_row (t : Fin cfg0.N) (b : Fin 16) : ptOf (rowOf t b) = t := Fin.ext (by unfold ptOf rowOf; dsimp only; omega)
theorem in_row (t : Fin cfg0.N) (b : Fin 16) : inOf (rowOf t b) = b := Fin.ext (by unfold inOf rowOf; dsimp only; omega)
theorem row_pt (i : Fin 32000) : rowOf (ptOf i) (inOf i) = i := Fin.ext (by unfold ptOf inOf rowOf; dsimp only; omega)
theorem idx16 (j : S16x1x128.Idx) : (ix3 (j 0 : Fin 16) (0 : Fin 1) (j 2 : Fin 128) : S16x1x128.Idx) = j := by
  have h1 : (j 1).val = 0 := Nat.lt_one_iff.mp (j 1).isLt
  funext a
  fin_cases a
  · rfl
  · exact Fin.ext h1.symm
  · rfl
theorem idx32000 (j : S32000x1x128.Idx) : (ix3 (j 0 : Fin 32000) (0 : Fin 1) (j 2 : Fin 128) : S32000x1x128.Idx) = j := by
  have h1 : (j 1).val = 0 := Nat.lt_one_iff.mp (j 1).isLt
  funext a
  fin_cases a
  · rfl
  · exact Fin.ext h1.symm
  · rfl

variable (V : Vals (F := F)) (c : Dev nD)

/-- The first kernel's result. -/
def res0 : Vec F S32000x1x128 .f32 := fun i => pooled V c (ptOf (i 0)) (ix3 (inOf (i 0)) (0 : Fin 1) (i 2 : Fin 128))

theorem res0_row (t : Fin cfg0.N) (b : Fin 16) (l : Fin 128) : res0 V c (ix3 (rowOf t b) (0 : Fin 1) l) = pooled V c t (ix3 b (0 : Fin 1) l) := by
  refine Eq.trans (b := pooled V c (ptOf (rowOf t b)) (ix3 (inOf (rowOf t b)) (0 : Fin 1) l)) rfl ?_
  rw [pt_row, in_row]

theorem flushed0_4 (t : Fin cfg0.N) : (dat0 V c).flushed 4 t = ((cfg0.win 4).blk t).view.read (Elt F) (res0 V c) := by
  funext j
  refine Eq.trans (b := pooled V c t j) rfl ?_
  exact (congrArg (pooled V c t) (idx16 j).symm).trans ((res0_row V c t (j 0) (j 2)).symm.trans (congrArg (res0 V c) (emb0_4 t j).symm))

omit [FloatOps F] in
theorem mem_of_emb {κ : Kind} {sp : Space} {S : Shape} {e : EltTy} (v : View sig κ sp S e) {y : S.Idx} {i : v.ty.Idx} (h : v.emb y = i) : i ∈ v.set :=
  h ▸ v.emb_mem_set y

theorem back0_4 (i : S32000x1x128.Idx) : ((cfg0.win 4).blk (ptOf (i 0))).view.emb (ix3 (inOf (i 0)) (0 : Fin 1) (i 2 : Fin 128) : S16x1x128.Idx) = i :=
  (emb0_4 (ptOf (i 0)) (ix3 (inOf (i 0)) (0 : Fin 1) (i 2 : Fin 128))).trans
    ((congrArg (fun r => (ix3 r (0 : Fin 1) (i 2 : Fin 128) : S32000x1x128.Idx)) (row_pt (i 0))).trans (idx32000 i))

theorem covered0_4 (i : S32000x1x128.Idx) : ∃ t : Fin cfg0.N, (cfg0.win 4).flush t = true ∧ i ∈ ((cfg0.win 4).blk t).view.set :=
  ⟨ptOf (i 0), flush0_4 _, mem_of_emb _ (back0_4 i)⟩

theorem arr0 : (dat0 V c).arrAt 4 cfg0.N = res0 V c :=
  (dat0 V c).arrAt_eq_of_cover 4 (res0 V c) (fun t _ => flushed0_4 V c t) covered0_4
end Cert.Fold
end
-- ==== Proof.KFold.lean ====
/-
  A lane of the row a region of interest leaves: the interpolation of the lane's own bin.
-/
module
public import proofs.«01_k».proof.Proof.Region0
public import proofs.«01_k».proof.Proof.Host
public import Idealize.ShloMosaic.Lib.Pointwise
public import Idealize.ShloMosaic.Lib.IdealHost
@[expose] public section
set_option maxRecDepth 16384
noncomputable section
namespace Cert.Fold
open Cert.Kernel Cert.Kernel.Gen
open Idealize.ShloMosaic
open Idealize.ShloMosaic.TcCoe

theorem mask_at (k : Fin 25) (l : Fin 128) : mask (F := Ideal) (ix2 k l) = if l.val < 100 ∧ l.val % 25 = k.val then (1 : EReal) else 0 := by
  unfold mask
  pointwise
  refine Eq.trans (congrArg (FloatOps.sitofp (F := Ideal) .f32) (?_ : _ = if l.val < 100 ∧ l.val % 25 = k.val then 1#32 else 0#32)) ?_
  · revert k l; decide +kernel
  · split
    · show (((1#32 : BitVec 32).toInt : ℝ) : EReal) = 1
      simp
    · show (((0#32 : BitVec 32).toInt : ℝ) : EReal) = 0
      simp

theorem fold_at (v : Vec Ideal S25x128 .f32) (l : Fin 128) (hl : l.val < 100) :
    foldVal' v mask (ix3 0 0 l) = v (ix2 ⟨l.val % 25, by omega⟩ l) := by
  have h : foldVal' v mask (ix3 0 0 l) = ∑ k : Fin 25, (v (ix2 k l) : EReal) * mask (F := Ideal) (ix2 k l) := by
    unfold foldVal'
    generalize mask (F := Ideal) = M
    pointwise
    try rfl
  rw [h, Finset.sum_eq_single (⟨l.val % 25, by omega⟩ : Fin 25)]
  · rw [mask_at, if_pos ⟨hl, rfl⟩, mul_one]
  · intro k _ hk
    rw [mask_at, if_neg fun h => hk (Fin.ext h.2.symm), mul_zero]
  · intro h; exact absurd (Finset.mem_univ _) h

theorem shift_nat (v : BitVec 32) : (Scalar.subi 0#32 (Scalar.andi v 7#32)).toNat % 16 = (16 - v.toNat % 8) % 16 := by
  have h : (Scalar.andi v 7#32).toNat = v.toNat % 8 := by
    show (v &&& 7#32).toNat = _
    rw [BitVec.toNat_and]
    exact Nat.and_two_pow_sub_one_eq_mod v.toNat 3
  show (0#32 - Scalar.andi v 7#32).toNat % 16 = _
  rw [BitVec.toNat_sub, h]
  simp only [BitVec.toNat_ofNat]
  omega

/-- The rotation brings the word's own row first. -/
theorem rot_at {α : Type} (v : BitVec 32) (x : S16x128.Idx → α) (j : Fin 16) (hj : j.val < 2) (l : Fin 128) :
    dynamicRotate 0 (Scalar.subi 0#32 (Scalar.andi v 7#32)) none x rot (ix2 j l) = x (ix2 ⟨j.val + v.toNat % 8, by omega⟩ l) := by
  refine congrArg x (funext fun b => ?_)
  have hs := shift_nat v
  refine Fin.ext ?_
  fin_cases b
  · show (j.val + 16 - ((Scalar.subi 0#32 (Scalar.andi v 7#32)).toNat + 0) % 16) % 16 = j.val + v.toNat % 8
    simp only [Nat.add_zero]
    omega
  · rfl

/-- A row of the slab among the 16 rows loaded for a word, read after the rotation. -/
theorem ld_at (X : Vec Ideal S66048x128 .f32) (v : BitVec 32) (hv : v.toNat < 65536) (j : Fin 16) (hj : j.val < 2) (l : Fin 128) :
    dynamicRotate 0 (Scalar.subi 0#32 (Scalar.andi v 7#32)) none (ld X v) rot (ix2 j l) = X (ix2 ⟨v.toNat + j.val, by omega⟩ l) := by
  rw [rot_at v _ j hj]
  refine congrArg X (funext fun b => Fin.ext ?_)
  have hb : base v = v.toNat / 8 * 8 := eights v hv
  fin_cases b
  · show (base v + (j.val + v.toNat % 8)) % 66048 = _
    rw [hb]
    show _ = v.toNat + j.val
    omega
  · rfl

/-- The kernel's interpolation of four values. -/
def lerp2 (fy fx g00 g01 g10 g11 : EReal) : EReal := (g00 * (1 - fx) + g01 * fx) * (1 - fy) + (g10 * (1 - fx) + g11 * fx) * fy

theorem interp_at (X : Vec Ideal S66048x128 .f32) (v w : BitVec 32) (fy fx : Ideal .f32) (hv : v.toNat < 65536) (hw : w.toNat < 65536) (l : Fin 128) :
    interp v w fy fx (ld X v) (ld X w) (ix2 0 l) = lerp2 fy fx (X (ix2 ⟨v.toNat, by omega⟩ l)) (X (ix2 ⟨w.toNat, by omega⟩ l))
      (X (ix2 ⟨v.toNat + 1, by omega⟩ l)) (X (ix2 ⟨w.toNat + 1, by omega⟩ l)) := by
  have v0 := ld_at X v hv 0 (by decide) l
  have v1 := ld_at X v hv 1 (by decide) l
  have w0 := ld_at X w hw 0 (by decide) l
  have w1 := ld_at X w hw 1 (by decide) l
  unfold interp lerp2
  dsimp only
  generalize dynamicRotate 0 (Scalar.subi 0#32 (Scalar.andi v 7#32)) none (ld X v) rot = A at *
  generalize dynamicRotate 0 (Scalar.subi 0#32 (Scalar.andi w 7#32)) none (ld X w) rot = B at *
  have h1 : (Scalar.ofBits .f32 0x3F800000#32 : Ideal .f32) = (1 : EReal) := Ideal.ofBits_one_f32
  rw [h1]
  refine Eq.trans (b := lerp2 fy fx (A (ix2 0 l)) (B (ix2 0 l)) (A (ix2 1 l)) (B (ix2 1 l))) ?_ ?_
  · unfold lerp2
    pointwise
    try rfl
  · rw [v0, v1, w0, w1]; rfl

/-- A lane of a region of interest's row. -/
theorem outBlk_at (X2 X3 : Vec Ideal S1x16x25 .i32) (X4 X5 : Vec Ideal S1x16x25 .f32) (X8 : Vec Ideal S66048x128 .f32) (b : Fin 16) (l : Fin 128) (hl : l.val < 100) :
    outBlk X2 X3 X4 X5 X8 mask (ix3 b 0 l) = rowVal X2 X3 X4 X5 X8 b.val (l.val % 25) (ix2 0 l) := by
  unfold outBlk foldVal
  exact fold_at _ l hl
end Cert.Fold
end
-- ==== Proof.KMap.lean ====
/-
  The feature table the first kernel reads, in terms of the map.
-/
module
public import proofs.«01_k».proof.Proof.Host
@[expose] public section
set_option maxRecDepth 16384
noncomputable section
namespace Cert.Fold
open Cert.Kernel Cert.Kernel.Gen
open Idealize.ShloMosaic
open Idealize.ShloMosaic.TcCoe

variable {F : FTy → Type} [FloatOps F]

abbrev DG := gather_S66048x196_S100x1_S66048x100_0_1_n_n_1_1_660481
theorem cols_at {α : Type} (x : S66048x196.Idx → α) (I : IVec S100x1 32) (r : Fin 66048) (l : Fin 100) (k : Fin 196)
    (h : I (ix2 l 0) = BitVec.ofNat 32 k.val) : Host.gather DG x I (ix2 r l) = x (ix2 r k) := by
  have e : ∀ j : Fin 1, DG.siIdx (ix2 r l) j = ix2 l 0 := fun j => by
    obtain rfl : j = 0 := Subsingleton.elim _ _
    funext b
    fin_cases b <;> rfl
  unfold Host.gather
  congr 1
  funext a
  apply Fin.ext
  show DG.start (ix2 r l) I a + DG.batchCoord (ix2 r l) a + DG.offCoord (ix2 r l) a = _
  rw [DG.batchCoord_eq_zero _ _ List.not_mem_nil]
  have st : ∀ (a : Fin 2) (ha : a ∈ DG.startIndexMap) (hk : DG.startIndexMap.idxOf a = (0 : Fin 1).val), DG.start (ix2 r l) I a = min (BitVec.ofNat 32 k.val).toInt.toNat (S66048x196.size a - DG.sliceSizes a) := by
    intro a ha hk
    unfold GatherDims.start
    rw [dif_pos ha, show (⟨DG.startIndexMap.idxOf a, List.idxOf_lt_length_iff.2 ha⟩ : Fin DG.startIndexMap.length) = (0 : Fin 1) from Fin.ext hk, e 0, h]
  have hm : min (BitVec.ofNat 32 k.val).toInt.toNat 195 = k.val := by
    rw [BitVec.toInt_eq_toNat_of_lt (by rw [BitVec.toNat_ofNat]; omega), BitVec.toNat_ofNat]
    omega
  fin_cases a
  · exact Nat.zero_add _
  · exact congrArg₂ (· + 0 + ·) ((st 1 (by decide) rfl).trans hm) (DG.offCoord_eq_zero _ _ (by decide))

/-- The channel a lane of a half holds. -/
def chanOf (h : Fin 2) (l : Fin 100) : Fin 196 := ⟨l.val / 25 * 49 + 24 * h.val + l.val % 25, by omega⟩

theorem chan0 : ∀ l : Fin 100, Scalar.select (IntOp.cmpi .slt (lit0 l) 0#32) (IntOp.addi (lit0 l) 196#32) (lit0 l) = BitVec.ofNat 32 (chanOf 0 l).val := by decide +kernel
theorem chan1 : ∀ l : Fin 100, Scalar.select (IntOp.cmpi .slt (lit1 l) 0#32) (IntOp.addi (lit1 l) 196#32) (lit1 l) = BitVec.ofNat 32 (chanOf 1 l).val := by decide +kernel

variable (V : Valuation τ sig (Elt F))
theorem pad_rows (r : Fin 66048) (hr : r.val < 65536) (k : Fin 196) :
    StableHlo.after (hostOps0_1 (F := F)) (StableHlo.after hostOps0 V) main_v3 (ix2 r k) = V main_arg1 (ix4 0 ⟨r.val % 256, by omega⟩ ⟨r.val / 256, by omega⟩ k) := by
  after_reads_at
  rw [dif_pos hr]
theorem cols0 (r : Fin 66048) (l : Fin 128) (hl : l.val < 100) (hc : ∀ l : Fin 100, V main_c (ix1 l) = lit0 l) :
    StableHlo.after (hostOps0_3 (F := F)) (StableHlo.after hostOps0_2 V) main_v11 (ix2 r l) = V main_v3 (ix2 r (chanOf 0 ⟨l.val, hl⟩)) := by
  after_reads_at
  rw [dif_pos hl, cols_at _ _ r ⟨l.val, hl⟩ (chanOf 0 ⟨l.val, hl⟩)]
  rw [← chan0, ← hc]
  generalize V main_c = C
  change IVec S100 32 at C
  pointwise
theorem cols1 (r : Fin 66048) (l : Fin 128) (hl : l.val < 100) (hc : ∀ l : Fin 100, V main_c_0 (ix1 l) = lit1 l) :
    StableHlo.after (hostOps0_5 (F := F)) (StableHlo.after hostOps0_4 V) main_v19 (ix2 r l) = V main_v3 (ix2 r (chanOf 1 ⟨l.val, hl⟩)) := by
  after_reads_at
  rw [dif_pos hl, cols_at _ _ r ⟨l.val, hl⟩ (chanOf 1 ⟨l.val, hl⟩)]
  rw [← chan1, ← hc]
  generalize V main_c_0 = C
  change IVec S100 32 at C
  pointwise
theorem halves (h : Fin 2) (r : Fin 66048) (l : Fin 128) : StableHlo.after (hostOps0_6 (F := F)) V main_v22 (ix3 h r l) = if h = 0 then V main_v11 (ix2 r l) else V main_v19 (ix2 r l) := by
  fin_cases h
  · after_reads_at
  · after_reads_at
theorem lit_c (l : Fin 100) : StableHlo.after (hostOps0_1 (F := F)) (StableHlo.after hostOps0 V) main_c (ix1 l) = lit0 l := by
  after_reads_at
  exact congrArg lit0 (Fin.ext (Shape.rowMajor_val_one _))
theorem lit_c0 (l : Fin 100) : StableHlo.after (hostOps0_1 (F := F)) (StableHlo.after hostOps0 V) main_c_0 (ix1 l) = lit1 l := by
  after_reads_at
  exact congrArg lit1 (Fin.ext (Shape.rowMajor_val_one _))

variable (m : (ℓ : Loc nD τ sig) → Buf (Elt F) ℓ) (c : Dev nD)
/-- The map a core is given. -/
abbrev mapOf : FVec F S1x256x256x196 .f32 := m ((c.tc : Thread nD τ).loc main_arg1)

section Keep
theorem keep_v3 : StableHlo.after (hostOps0_3 (F := F)) (StableHlo.after hostOps0_2 V) main_v3 = V main_v3 := by after_reads_simp
theorem keep_c0 : StableHlo.after (hostOps0_3 (F := F)) (StableHlo.after hostOps0_2 V) main_c_0 = V main_c_0 := by after_reads_simp
theorem keep_v11 : StableHlo.after (hostOps0_5 (F := F)) (StableHlo.after hostOps0_4 V) main_v11 = V main_v11 := by after_reads_simp
theorem keep_v22 : StableHlo.after (hostOps0_10 (F := F)) (StableHlo.after hostOps0_9 (StableHlo.after hostOps0_8 (StableHlo.after hostOps0_7 V))) main_v22 = V main_v22 := by after_reads_simp
end Keep

/-- A row of a half of the feature table: its lanes are the half's channels of the row's cell. -/
theorem table_at (h : Fin 2) (r : Fin 66048) (hr : r.val < 65536) (l : Fin 128) (hl : l.val < 100) :
    V11 m c main_v22 (ix3 h r l) = mapOf m c (ix4 0 ⟨r.val % 256, by omega⟩ ⟨r.val / 256, by omega⟩ (chanOf h ⟨l.val, hl⟩)) := by
  unfold V11 V10 V9 V8 V7
  rw [keep_v22, halves]
  unfold V6 V5
  have hm := fun k => pad_rows (V0 m c) r hr k
  obtain rfl | rfl : h = 0 ∨ h = 1 := by omega
  · rw [if_pos rfl, keep_v11]
    unfold V4 V3 V2 V1
    rw [cols0 _ r l hl (lit_c _), hm]
  · rw [if_neg (by decide)]
    unfold V4 V3 V2 V1
    rw [cols1 _ r l hl, keep_v3, hm]
    intro l
    rw [keep_c0, lit_c0]
end Cert.Fold
end
-- ==== Proof.RefOps.lean ====
/-
  The reference's host lines as lists of operations, part by part, and what the buffers hold after each part.
-/
module
public import proofs.«01_k».proof.Defs
public import proofs.«01_k».proof.Proof.Gen.ReferenceIdeal
public import proofs.«01_k».proof.Proof.Host
public import Idealize.ShloMosaic.Lib.StableHlo.RunHlo
public import Idealize.ShloMosaic.Lib.StableHlo.ReadAt
public import Idealize.ShloMosaic.Lib.PointwiseCore
public import Idealize.ShloMosaic.Lib.Quiescent

@[expose] public section
set_option maxRecDepth 16384
noncomputable section
namespace Cert.Ref
open Cert.ReferenceIdeal
open Idealize.ShloMosaic Idealize.SL.Sem
open Idealize.ShloMosaic.TcCoe

variable {F : FTy → Type} [FloatOps F]

/-- The lines of a part, with the proof that they are its lines. -/
abbrev Lines (p : Dev nD → Prog (TpuEff nD τ sig (Elt F) (Pipeline.Sig Λ₀ (Fin 0) fun p => (pcfgs (F := F) p).Adm) .tc) PUnit) : Type :=
  { ops : List (HloOp τ sig (Elt F)) // ∀ d, StableHlo.IsSeq (p d) ops }

def lines0 : Lines (F := F) main_part0 := by
  apply Subtype.mk
  hlo_seq
def lines1 : Lines (F := F) main_part1 := by
  apply Subtype.mk
  hlo_seq
def lines2 : Lines (F := F) main_part2 := by
  apply Subtype.mk
  hlo_seq
def lines3 : Lines (F := F) main_part3 := by
  apply Subtype.mk
  hlo_seq
def lines4 : Lines (F := F) main_part4 := by
  apply Subtype.mk
  hlo_seq
def lines5 : Lines (F := F) main_part5 := by
  apply Subtype.mk
  hlo_seq

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

variable (m : (ℓ : Loc nD τ sig) → Buf (Elt F) ℓ) (c : Dev nD)

/-- What core `c`'s buffers hold at the start, and after each part. -/
abbrev W0 : Valuation τ sig (Elt F) := StableHlo.launchContents m c
abbrev W1 : Valuation τ sig (Elt F) := StableHlo.after (lines0 (F := F)).1 (W0 m c)
abbrev W2 : Valuation τ sig (Elt F) := StableHlo.after (lines1 (F := F)).1 (W1 m c)
abbrev W3 : Valuation τ sig (Elt F) := StableHlo.after (lines2 (F := F)).1 (W2 m c)
abbrev W4 : Valuation τ sig (Elt F) := StableHlo.after (lines3 (F := F)).1 (W3 m c)
abbrev W5 : Valuation τ sig (Elt F) := StableHlo.after (lines4 (F := F)).1 (W4 m c)
abbrev W6 : Valuation τ sig (Elt F) := StableHlo.after (lines5 (F := F)).1 (W5 m c)

/-- All the lines. -/
def lines : List (HloOp τ sig (Elt F)) :=
  lines0.1 ++ (lines1.1 ++ (lines2.1 ++ (lines3.1 ++ (lines4.1 ++ lines5.1))))

theorem lines_seq (d : Dev nD) : StableHlo.IsSeq (main (F := F) d) lines := by
  unfold StableHlo.IsSeq lines
  simp only [StableHlo.seq_append]
  rw [← lines0.2 d, ← lines1.2 d, ← lines2.2 d, ← lines3.2 d, ← lines4.2 d, ← lines5.2 d]
  rfl

theorem lines_bufs : (lines (F := F)).Forall fun op => op.bufs ⊆ StableHlo.tcRefs τ sig := by
  unfold lines
  simp only [List.forall_append]
  refine ⟨?_, ?_, ?_, ?_, ?_, ?_⟩
  · unfold lines0; simp
  · unfold lines1; simp
  · unfold lines2; simp
  · unfold lines3; simp
  · unfold lines4; simp
  · unfold lines5; simp

theorem lines_fresh : ∀ op ∈ lines (F := F), op.fresh = ∅ := by
  intro op h
  simp only [lines, List.mem_append] at h
  rcases h with h | h | h | h | h | h
  · unfold lines0 at h; (repeat (cases h with | head => rfl | tail _ h => ?_)); exact nomatch h
  · unfold lines1 at h; (repeat (cases h with | head => rfl | tail _ h => ?_)); exact nomatch h
  · unfold lines2 at h; (repeat (cases h with | head => rfl | tail _ h => ?_)); exact nomatch h
  · unfold lines3 at h; (repeat (cases h with | head => rfl | tail _ h => ?_)); exact nomatch h
  · unfold lines4 at h; (repeat (cases h with | head => rfl | tail _ h => ?_)); exact nomatch h
  · unfold lines5 at h; (repeat (cases h with | head => rfl | tail _ h => ?_)); exact nomatch h

/-- The run of the reference. -/
theorem run (g : Dev nD → PrngReg) : θ_run (defs (F := F)) (onTc (τ := τ) (main (F := F))) ⟨m, fun _ => 0, g⟩
    fun r => ∀ (d : Dev nD) (b : Ref sig .tc), r.2.mem ((d.tc : Thread nD τ).loc b) = W6 m d (Proc.devRef .tc b) := by
  refine θ_run_mono (StableHlo.run_hlo defs main (ops := lines) lines_seq (by decide) (by decide) lines_bufs lines_fresh m g) fun r h d b => ?_
  rw [h d b]
  simp only [lines, after_app]

/-- The boxes and the map that a core is given. -/
abbrev roiOf : FVec F S16000x4 .f32 := m ((c.tc : Thread nD τ).loc main_arg0)
abbrev mapOf : FVec F S1x256x256x196 .f32 := m ((c.tc : Thread nD τ).loc main_arg1)

open Cert.Fold (sample cell frac)
theorem sample_y (n : Fin 16000) (j : Fin 7) : W1 m c main_v30 (ix2 n j) = sample (roiOf m c) n 1 3 j := by
  unfold W1 lines0
  dsimp only
  after_reads_at
  rfl
theorem sample_x (n : Fin 16000) (j : Fin 7) : W1 m c main_v39 (ix2 n j) = sample (roiOf m c) n 0 2 j := by
  unfold W1 lines0
  dsimp only
  after_reads_at
  rfl
theorem cell_y (n : Fin 16000) (j : Fin 7) : W1 m c main_v44 (ix2 n j) = cell (roiOf m c) n 1 3 j := by
  unfold cell
  rw [← sample_y]
  unfold W1 lines0
  dsimp only
  after_reads_at
theorem cell_x (n : Fin 16000) (j : Fin 7) : W1 m c main_v45 (ix2 n j) = cell (roiOf m c) n 0 2 j := by
  unfold cell
  rw [← sample_x]
  unfold W1 lines0
  dsimp only
  after_reads_at
theorem frac_y (n : Fin 16000) (j : Fin 7) : W1 m c main_v42 (ix2 n j) = frac (roiOf m c) n 1 3 j := by
  unfold frac
  rw [← sample_y]
  unfold W1 lines0
  dsimp only
  after_reads_at
theorem frac_x (n : Fin 16000) (j : Fin 7) : W1 m c main_v43 (ix2 n j) = frac (roiOf m c) n 0 2 j := by
  unfold frac
  rw [← sample_x]
  unfold W1 lines0
  dsimp only
  after_reads_at

end Cert.Ref
end
-- ==== Proof.RefPool.lean ====
/-
  The reference's pooled values: each bin's four cells of the map, weighted.
-/
module
public import proofs.«01_k».proof.Proof.RefOps

@[expose] public section
set_option maxRecDepth 16384
noncomputable section
namespace Cert.Ref
open Cert.ReferenceIdeal
open Idealize.ShloMosaic Idealize.SL.Sem
open Idealize.ShloMosaic.TcCoe
open Cert.Fold (sample cell frac nextCell)

variable {F : FTy → Type} [FloatOps F]

/-- A small word, read signed and kept below a bound that it is below, is the number it holds. -/
theorem word_clamp (x k : ℕ) (h : x ≤ k) (hk : k < 2 ^ 31) : min (BitVec.ofNat 32 x).toInt.toNat k = x := by
  rw [BitVec.toInt_eq_toNat_of_lt (by rw [BitVec.toNat_ofNat]; omega), BitVec.toNat_ofNat]
  omega

abbrev D1 := gather_S7x7x4x256x256_S16000x7x7x4_S16000x7x7x4_3_0134_n_n_0134_3_11411
theorem gather_at {α : Type} (x : S7x7x4x256x256.Idx → α) (I : IVec S16000x7x7x4 32) (n : Fin 16000) (i j : Fin 7) (o : Fin 4) (y z : Fin 256)
    (h0 : I (ix4 n i j 0) = BitVec.ofNat 32 i.val) (h1 : I (ix4 n i j 1) = BitVec.ofNat 32 j.val)
    (h2 : I (ix4 n i j 2) = BitVec.ofNat 32 y.val) (h3 : I (ix4 n i j 3) = BitVec.ofNat 32 z.val) :
    Host.gather D1 x I (ix4 n i j o) = x (ix5 i j o y z) := by
  have e : ∀ k : Fin 4, D1.siIdx (ix4 n i j o) k = ix4 n i j k := fun k => by
    funext b
    fin_cases b <;> rfl
  unfold Host.gather
  congr 1
  funext a
  apply Fin.ext
  show D1.start (ix4 n i j o) I a + D1.batchCoord (ix4 n i j o) a + D1.offCoord (ix4 n i j o) a = _
  rw [D1.batchCoord_eq_zero _ _ List.not_mem_nil]
  have s : ∀ (k : Fin 4) (a : Fin 5) (ha : a ∈ D1.startIndexMap) (hk : D1.startIndexMap.idxOf a = k.val) (w : ℕ) (hw : w ≤ S7x7x4x256x256.size a - D1.sliceSizes a)
      (hl : S7x7x4x256x256.size a - D1.sliceSizes a < 2 ^ 31) (hI : I (ix4 n i j k) = BitVec.ofNat 32 w), D1.start (ix4 n i j o) I a = w := by
    intro k a ha hk w hw hl hI
    unfold GatherDims.start
    rw [dif_pos ha, show (⟨D1.startIndexMap.idxOf a, List.idxOf_lt_length_iff.2 ha⟩ : Fin D1.startIndexMap.length) = k from Fin.ext hk, e k, hI,
      word_clamp w _ hw hl]
  fin_cases a
  · exact (congrArg₂ (· + 0 + ·) (s 0 0 (by decide) rfl i.val (Nat.le_of_lt_succ i.isLt) (by decide) h0) (D1.offCoord_eq_zero _ _ (by decide)))
  · exact (congrArg₂ (· + 0 + ·) (s 1 1 (by decide) rfl j.val (Nat.le_of_lt_succ j.isLt) (by decide) h1) (D1.offCoord_eq_zero _ _ (by decide)))
  · exact Nat.zero_add _
  · exact (congrArg₂ (· + 0 + ·) (s 2 3 (by decide) rfl y.val (Nat.le_of_lt_succ y.isLt) (by decide) h2) (D1.offCoord_eq_zero _ _ (by decide)))
  · exact (congrArg₂ (· + 0 + ·) (s 3 4 (by decide) rfl z.val (Nat.le_of_lt_succ z.isLt) (by decide) h3) (D1.offCoord_eq_zero _ _ (by decide)))

variable (V : Valuation τ sig (Elt F)) (n : Fin 16000) (i j : Fin 7) (o : Fin 4)

theorem next_y1 : StableHlo.after (lines1 (F := F)).1 (StableHlo.after (lines0 (F := F)).1 V) main_v49 (ix2 n i) = nextCell (StableHlo.after (lines0 (F := F)).1 V main_v44 (ix2 n i)) := by
  unfold nextCell lines1 lines0
  dsimp only
  after_reads_at
theorem next_x1 : StableHlo.after (lines1 (F := F)).1 V main_v53 (ix2 n i) = nextCell (V main_v45 (ix2 n i)) := by
  unfold nextCell lines1
  dsimp only
  after_reads_at
theorem map1 (y x : Fin 256) : StableHlo.after (lines1 (F := F)).1 V main_v55 (ix5 i j o y x) = V main_v0 (ix3 y x ⟨o.val * 49 + i.val * 7 + j.val, by omega⟩) := by
  unfold lines1
  dsimp only
  after_reads_at
theorem map0 (y x : Fin 256) (k : Fin 196) : StableHlo.after (lines0 (F := F)).1 V main_v0 (ix3 y x k) = V main_arg1 (ix4 0 y x k) := by
  unfold lines0
  dsimp only
  after_reads_at
/-- One, as a float. -/
abbrev one : F .f32 := FloatOps.ofBits .f32 1065353216#32
theorem w00 : StableHlo.after (lines1 (F := F)).1 V main_v66 (ix4 n i j 0)
    = FloatOps.mulf (FloatOps.subf one (V main_v42 (ix2 n i))) (FloatOps.subf one (V main_v43 (ix2 n j))) := by
  unfold lines1
  dsimp only
  after_reads_at
theorem w01 : StableHlo.after (lines1 (F := F)).1 V main_v74 (ix4 n i j 0)
    = FloatOps.mulf (FloatOps.subf one (V main_v42 (ix2 n i))) (V main_v43 (ix2 n j)) := by
  unfold lines1
  dsimp only
  after_reads_at
theorem w10 : StableHlo.after (lines1 (F := F)).1 V main_v82 (ix4 n i j 0)
    = FloatOps.mulf (V main_v42 (ix2 n i)) (FloatOps.subf one (V main_v43 (ix2 n j))) := by
  unfold lines1
  dsimp only
  after_reads_at
theorem w11 : StableHlo.after (lines1 (F := F)).1 V main_v88 (ix4 n i j 0)
    = FloatOps.mulf (V main_v42 (ix2 n i)) (V main_v43 (ix2 n j)) := by
  unfold lines1
  dsimp only
  after_reads_at

/-- A small word is not negative: the reference's adjusted index is the index itself. -/
theorem adjust (w c : BitVec 32) (x k : ℕ) (hw : w = BitVec.ofNat 32 x) (h : x ≤ k) (hk : k < 2 ^ 31) :
    Scalar.select (IntOp.cmpi .slt w 0#32) (IntOp.addi w c) w = BitVec.ofNat 32 x := by
  have : IntOp.cmpi .slt w 0#32 = 0#1 := by
    unfold IntOp.cmpi
    have : ¬ (w.toInt < 0) := by
      rw [hw, BitVec.toInt_eq_toNat_of_lt (by rw [BitVec.toNat_ofNat]; omega)]
      omega
    simp [BitVec.slt, this]
  rw [this, hw]
  rfl

theorem gather_cat {α : Type} (x : S7x7x4x256x256.Idx → α) (a b c d : IVec S16000x7x7x1 32)
    (hc : Shape.Concatenates [S16000x7x7x1, S16000x7x7x1, S16000x7x7x1, S16000x7x7x1] S16000x7x7x4 3) (n : Fin 16000) (i j : Fin 7) (o : Fin 4) (y z : Fin 256)
    (h0 : a (ix4 n i j 0) = BitVec.ofNat 32 i.val) (h1 : b (ix4 n i j 0) = BitVec.ofNat 32 j.val)
    (h2 : c (ix4 n i j 0) = BitVec.ofNat 32 y.val) (h3 : d (ix4 n i j 0) = BitVec.ofNat 32 z.val) :
    Host.gather D1 x (concatenate S16000x7x7x4 3 [⟨S16000x7x7x1, a⟩, ⟨S16000x7x7x1, b⟩, ⟨S16000x7x7x1, c⟩, ⟨S16000x7x7x1, d⟩] hc) (ix4 n i j o) = x (ix5 i j o y z) := by
  apply gather_at
  · pointwise; exact h0
  · pointwise; exact h1
  · pointwise; exact h2
  · pointwise; exact h3

variable (y x y1 x1 : Fin 256)
  (hy : V main_v44 (ix2 n i) = BitVec.ofNat 32 y.val) (hx : V main_v45 (ix2 n j) = BitVec.ofNat 32 x.val)
  (hy1 : IntOp.minsi (V main_v47 (ix2 n i)) (V main_v48 (ix2 n i)) = BitVec.ofNat 32 y1.val)
  (hx1 : IntOp.minsi (IntOp.addi (V main_v45 (ix2 n j)) 1#32) 255#32 = BitVec.ofNat 32 x1.val)

include hy hx hy1 hx1 in
/-- The reference's pooled value of a bin. -/
theorem pooled_at : StableHlo.after (lines4 (F := F)).1 (StableHlo.after (lines3 (F := F)).1 (StableHlo.after (lines2 (F := F)).1 (StableHlo.after (lines1 (F := F)).1 V))) main_v235 (ix4 n i j o)
    = (let fy := V main_v42 (ix2 n i); let fx := V main_v43 (ix2 n j); let k : Fin 196 := ⟨o.val * 49 + i.val * 7 + j.val, by omega⟩
       FloatOps.addf (FloatOps.addf (FloatOps.addf
        (FloatOps.mulf (FloatOps.mulf (FloatOps.subf one fy) (FloatOps.subf one fx)) (V main_v0 (ix3 y x k)))
        (FloatOps.mulf (FloatOps.mulf (FloatOps.subf one fy) fx) (V main_v0 (ix3 y x1 k))))
        (FloatOps.mulf (FloatOps.mulf fy (FloatOps.subf one fx)) (V main_v0 (ix3 y1 x k))))
        (FloatOps.mulf (FloatOps.mulf fy fx) (V main_v0 (ix3 y1 x1 k)))) := by
  after_reads_at
  rw [gather_cat _ _ _ _ _ _ n i j o y x, gather_cat _ _ _ _ _ _ n i j o y x1, gather_cat _ _ _ _ _ _ n i j o y1 x, gather_cat _ _ _ _ _ _ n i j o y1 x1]
  · rfl
  all_goals
    after_reads_at
    first
      | exact adjust _ _ _ 255 rfl (by omega) (by omega)
      | exact adjust _ _ _ 255 hy (by omega) (by omega)
      | exact adjust _ _ _ 255 hx (by omega) (by omega)
      | exact adjust _ _ _ 255 hy1 (by omega) (by omega)
      | exact adjust _ _ _ 255 hx1 (by omega) (by omega)
end Cert.Ref
end
-- ==== Proof.RefHead.lean ====
/-
  The reference's head: the mask softmax, the class scores, their arg-max and the mask it picks.
-/
module
public import proofs.«01_k».proof.Proof.RefPool
public import Idealize.ShloMosaic.Lib.Pointwise
public import Idealize.ShloMosaic.Lib.IdealHost
@[expose] public section
set_option maxRecDepth 16384
noncomputable section
namespace Cert.Ref
open Cert.ReferenceIdeal Cert.ReferenceIdeal.Facts₀
open Idealize.ShloMosaic Idealize.SL.Sem
open Idealize.ShloMosaic.TcCoe
variable (V : Valuation τ sig (Elt Ideal)) (n : Fin 16000) (i j : Fin 7)
/-- The lines after the pooled values. -/
abbrev tail4 := List.take 3 (List.drop 45 (lines4 (F := Ideal)).1)
abbrev sm4 := List.drop 3 (List.drop 45 (lines4 (F := Ideal)).1)
abbrev mid5 := List.take 10 (lines5 (F := Ideal)).1
abbrev cls5 := List.take 14 (List.drop 10 (lines5 (F := Ideal)).1)
abbrev end5 := List.drop 14 (List.drop 10 (lines5 (F := Ideal)).1)

theorem stack (s c : Fin 2) : StableHlo.after tail4 V main_v238 (ix5 n s i j c) = V main_v235 (ix4 n i j ⟨c.val * 2 + s.val, by omega⟩) := by
  after_reads_at

variable (X : FVec Ideal S16000x2x7x7x2 .f32) (Y : FVec Ideal S16000x2 .f32)

/-- The softmax's shifted exponentials over the mask classes. -/
def maskExp : FVec Ideal S16000x2x7x7x2 .f32 :=
  Host.exp (subf X (broadcastInDim S16000x2x7x7x2 ![0, 1, 2, 3, 4] bcast_S16000x2x7x7x1_S16000x2x7x7x2_0_1_2_3_4
    (broadcastInDim S16000x2x7x7x1 ![0, 1, 2, 3] bcast_S16000x2x7x7_S16000x2x7x7x1_0_1_2_3
      (maximumf (broadcastInDim S16000x2x7x7 ![] bcast_S_S16000x2x7x7 (constant S_ .f32 0xFF800000#32))
        (Host.reduce FloatOps.maximumf X (constant S_ .f32 0xFF800000#32) reducesTo_S16000x2x7x7x2_S16000x2x7x7_d4 h_S_)))))
def maskSum : FVec Ideal S16000x2x7x7x1 .f32 := broadcastInDim S16000x2x7x7x1 ![0, 1, 2, 3] bcast_S16000x2x7x7_S16000x2x7x7x1_0_1_2_3
  (Host.reduceAdd (maskExp X) (constant S_ .f32 0x00000000#32) reducesTo_S16000x2x7x7x2_S16000x2x7x7_d4 h_S_)

theorem maskExp_eq : StableHlo.after sm4 V main_v245 = maskExp (V main_v238) := by
  unfold maskExp
  after_reads_simp
theorem maskSum_eq : StableHlo.after sm4 V main_v247 = maskSum (V main_v238) := by
  unfold maskSum maskExp
  after_reads_simp
theorem mask_at (s c : Fin 2) : StableHlo.after mid5 V main_v249 (ix5 n s i j c)
    = Ideal.div (V main_v245 (ix5 n s i j c)) (V main_v247 (ix5 n s i j 0)) := by
  after_reads_at

/-- The softmax of two values, in the form both programs compute it. -/
def soft (a b x : EReal) : EReal := Ideal.div (Ideal.exp (x - max a b)) (Ideal.exp (a - max a b) + Ideal.exp (b - max a b))

theorem ofBits_ninf : Ideal.ofBits .f32 4286578688#32 = ⊥ := by
  simp [Ideal.ofBits, Ideal.ieee]
theorem fold2 (f : Fin 2 → EReal) : Finset.fold max (Ideal.ofBits .f32 4286578688#32) f Finset.univ = max (f 0) (f 1) := by
  rw [ofBits_ninf, show (Finset.univ : Finset (Fin 2)) = {0, 1} from rfl]
  simp

theorem shift_at (R : FVec Ideal S16000x2x7x7 .f32) (s c : Fin 2) :
    Host.exp (subf X (broadcastInDim S16000x2x7x7x2 ![0, 1, 2, 3, 4] bcast_S16000x2x7x7x1_S16000x2x7x7x2_0_1_2_3_4
      (broadcastInDim S16000x2x7x7x1 ![0, 1, 2, 3] bcast_S16000x2x7x7_S16000x2x7x7x1_0_1_2_3
        (maximumf (broadcastInDim S16000x2x7x7 ![] bcast_S_S16000x2x7x7 (constant S_ .f32 0xFF800000#32)) R)))) (ix5 n s i j c)
      = Ideal.exp (X (ix5 n s i j c) - max (Ideal.ofBits .f32 4286578688#32) (R (ix4 n s i j))) := by
  pointwise
theorem maskMax_at (s : Fin 2) : Host.reduce FloatOps.maximumf X (constant S_ .f32 0xFF800000#32) reducesTo_S16000x2x7x7x2_S16000x2x7x7_d4 h_S_ (ix4 n s i j)
    = max (X (ix5 n s i j 0)) (X (ix5 n s i j 1)) := by
  pointwise
  rw [fold2]
theorem maskExp_at (s c : Fin 2) : maskExp X (ix5 n s i j c) = Ideal.exp (X (ix5 n s i j c) - max (X (ix5 n s i j 0)) (X (ix5 n s i j 1))) := by
  unfold maskExp
  rw [shift_at, maskMax_at, ofBits_ninf, max_eq_right bot_le]
theorem maskSum_at (s : Fin 2) : maskSum X (ix5 n s i j 0) = maskExp X (ix5 n s i j 0) + maskExp X (ix5 n s i j 1) := by
  unfold maskSum
  pointwise
  rw [Fin.sum_univ_two]

theorem mean_at (s : Fin 2) : StableHlo.after mid5 V main_v254 (ix2 n s)
    = Ideal.div (∑ q : Fin 49, max (V main_v238 (ix5 n s ⟨q.val / 7, by omega⟩ ⟨q.val % 7, by omega⟩ 0)) (V main_v238 (ix5 n s ⟨q.val / 7, by omega⟩ ⟨q.val % 7, by omega⟩ 1)))
      (Ideal.ofBits .f32 1111752704#32) := by
  after_reads_at
  clean_types
  pointwise
  simp only [fold2]

def clsExp : FVec Ideal S16000x2 .f32 := Host.exp (subf Y (broadcastInDim S16000x2 ![0, 1] bcast_S16000x1_S16000x2_0_1
    (broadcastInDim S16000x1 ![0] bcast_S16000_S16000x1_0
      (maximumf (broadcastInDim S16000 ![] bcast_S_S16000 (constant S_ .f32 0xFF800000#32))
        (Host.reduce FloatOps.maximumf Y (constant S_ .f32 0xFF800000#32) reducesTo_S16000x2_S16000_d1 h_S_)))))
def cls : FVec Ideal S16000x2 .f32 := Host.divf (clsExp Y) (broadcastInDim S16000x2 ![0, 1] bcast_S16000x1_S16000x2_0_1
    (broadcastInDim S16000x1 ![0] bcast_S16000_S16000x1_0 (Host.reduceAdd (clsExp Y) (constant S_ .f32 0x00000000#32) reducesTo_S16000x2_S16000_d1 h_S_)))
theorem cls_eq : StableHlo.after cls5 V main_v265 = cls (V main_v254) := by
  unfold cls clsExp
  after_reads_simp
theorem cls_at (s : Fin 2) : cls Y (ix2 n s) = soft (Y (ix2 n 0)) (Y (ix2 n 1)) (Y (ix2 n s)) := by
  unfold cls clsExp soft
  pointwise
  simp only [fold2, Fin.sum_univ_two]
  simp only [ofBits_ninf, max_eq_right bot_le]

theorem max_at : StableHlo.after end5 V main_v267 (ix1 n) = (max (V main_v265 (ix2 n 0) : EReal) (V main_v265 (ix2 n 1) : EReal) : EReal) := by
  after_reads_at
  generalize V main_v265 = X
  change FVec Ideal S16000x2 .f32 at X
  pointwise
  rw [fold2]
/-- The reference's arg-max. -/
def arg : IVec S16000 32 := fun j => (Host.argReduce reducer_argmax_f32_i32 Y (iotaInDim S16000x2 32 1)
        (constant S_ FTy.f32 4286578688#32) (constantI S_ 32 0#32) reducesTo_S16000x2_S16000_d1 h_S_ j).2
theorem arg_eq : StableHlo.after end5 V main_v283 (ix2 n 0) = arg (V main_v265) (ix1 n) := by
  after_reads_at
  rfl
/-- The flat positions of row `n`, in order. -/
theorem row_fiber : (List.finRange S16000x2.numel).filter (fun k => decide (reducesTo_S16000x2_S16000_d1.drop (S16000x2.rowMajor.symm k) = ix1 n))
    = [S16000x2.rowMajor (ix2 n 0), S16000x2.rowMajor (ix2 n 1)] := by
  have v : ∀ k : Fin 2, (S16000x2.rowMajor (ix2 n k)).val = n.val * 2 + k.val := fun k =>
    rowMajor_val2 (d := ![16000, 2]) (ix2 n k) 2 rfl
  have hlt : S16000x2.rowMajor (ix2 n 0) < S16000x2.rowMajor (ix2 n 1) := by
    rw [Fin.lt_def, v, v]; simp
  have p2 : List.Pairwise (fun x y => x < y) [S16000x2.rowMajor (ix2 n 0), S16000x2.rowMajor (ix2 n 1)] := by simpa using hlt
  have p1 := (List.pairwise_lt_finRange S16000x2.numel).filter (fun k => decide (reducesTo_S16000x2_S16000_d1.drop (S16000x2.rowMajor.symm k) = ix1 n))
  refine List.Perm.eq_of_pairwise (le := fun x y => x < y) (fun a b _ _ h h' => absurd h (lt_asymm h')) p1 p2 ?_
  refine (List.perm_ext_iff_of_nodup ((List.nodup_finRange _).filter _) (p2.imp (fun h => ne_of_lt h))).2 fun k => ?_
  rw [List.mem_filter, decide_eq_true_iff, Shape.ReducesTo.fiber_r2_a1]
  simp only [List.mem_finRange, true_and, List.mem_cons, List.not_mem_nil, or_false]
  constructor
  · rintro ⟨c, hc⟩
    have hk : k = S16000x2.rowMajor (ix2 n c) := by
      rw [← Equiv.symm_apply_eq]; exact hc.symm
    rcases (show c = 0 ∨ c = 1 by omega) with rfl | rfl
    · exact Or.inl hk
    · exact Or.inr hk
  · rintro (rfl | rfl)
    · exact ⟨0, (Equiv.symm_apply_apply _ _).symm⟩
    · exact ⟨1, (Equiv.symm_apply_apply _ _).symm⟩

/-- The arg-max over two entries: one exactly where the second is greater. -/
theorem arg_at : arg Y (ix1 n) = if Y (ix2 n 0) < Y (ix2 n 1) then 1#32 else 0#32 := by
  unfold arg
  rw [Ideal.argReduce_eq_reduce2, Host.reduce2_eq_foldl_fiber]
  unfold Host.argReduceFiber
  rw [row_fiber]
  simp only [List.map_cons, List.map_nil, Equiv.symm_apply_apply, List.foldl_cons, List.foldl_nil]
  have i0 : iotaInDim S16000x2 32 1 (ix2 n 0) = 0#32 := rfl
  have i1 : iotaInDim S16000x2 32 1 (ix2 n 1) = 1#32 := rfl
  have b : constant (F := Ideal) S_ FTy.f32 (4286578688#32) (Shape.Idx.first h_S_) = Ideal.ofBits .f32 4286578688#32 := rfl
  have z : constantI S_ 32 (0#32) (Shape.Idx.first h_S_) = 0#32 := rfl
  rw [i0, i1, z, b, ofBits_ninf]
  generalize Y (ix2 n 0) = a
  generalize Y (ix2 n 1) = b
  have first : reducer_argmax_f32_i32 (F := Ideal) ((⊥ : EReal), 0#32) (a, 0#32) = (a, 0#32) := by
    simp [reducer_argmax_f32_i32, Ideal.cmpf_def, Ideal.cmp, Scalar.select, IntOp.ori, IntOp.andi, IntOp.cmpi]
  rw [first]
  rcases lt_trichotomy (a : EReal) b with h | h | h
  · simp [reducer_argmax_f32_i32, Ideal.cmpf_def, Ideal.cmp, Scalar.select, IntOp.ori, IntOp.andi, IntOp.cmpi, h, h.not_gt, h.ne]
  · subst h
    simp [reducer_argmax_f32_i32, Ideal.cmpf_def, Ideal.cmp, Scalar.select, IntOp.ori, IntOp.andi, IntOp.cmpi]
  · simp [reducer_argmax_f32_i32, Ideal.cmpf_def, Ideal.cmp, Scalar.select, IntOp.ori, IntOp.andi, IntOp.cmpi, h, h.not_gt, h.ne']

abbrev D2 := gather_S16000x2x7x7x2_S16000x2_S16000x7x7x2_123_01_n_n_01_1_11772
theorem gather2_at (x : FVec Ideal S16000x2x7x7x2 .f32) (I : IVec S16000x2 32) (c : Fin 2) (s : Fin 2)
    (h0 : I (ix2 n 0) = BitVec.ofNat 32 n.val) (h1 : I (ix2 n 1) = BitVec.ofNat 32 s.val) :
    Host.gather D2 x I (ix4 n i j c) = x (ix5 n s i j c) := by
  have e : ∀ k : Fin 2, D2.siIdx (ix4 n i j c) k = ix2 n k := fun k => by
    funext b
    fin_cases b <;> rfl
  unfold Host.gather
  congr 1
  funext a
  apply Fin.ext
  show D2.start (ix4 n i j c) I a + D2.batchCoord (ix4 n i j c) a + D2.offCoord (ix4 n i j c) a = _
  rw [D2.batchCoord_eq_zero _ _ List.not_mem_nil]
  have s : ∀ (k : Fin 2) (a : Fin 5) (ha : a ∈ D2.startIndexMap) (hk : D2.startIndexMap.idxOf a = k.val) (w : ℕ) (hw : w ≤ S16000x2x7x7x2.size a - D2.sliceSizes a)
      (hl : S16000x2x7x7x2.size a - D2.sliceSizes a < 2 ^ 31) (hI : I (ix2 n k) = BitVec.ofNat 32 w), D2.start (ix4 n i j c) I a = w := by
    intro k a ha hk w hw hl hI
    unfold GatherDims.start
    rw [dif_pos ha, show (⟨D2.startIndexMap.idxOf a, List.idxOf_lt_length_iff.2 ha⟩ : Fin D2.startIndexMap.length) = k from Fin.ext hk, e k, hI,
      word_clamp w _ hw hl]
  fin_cases a
  · exact (congrArg₂ (· + 0 + ·) (s 0 0 (by decide) rfl n.val (Nat.le_of_lt_succ n.isLt) (by decide) h0) (D2.offCoord_eq_zero _ _ (by decide)))
  · exact (congrArg₂ (· + 0 + ·) (s 1 1 (by decide) rfl _ (Nat.le_of_lt_succ (Fin.isLt _)) (by decide) h1) (D2.offCoord_eq_zero _ _ (by decide)))
  · exact Nat.zero_add _
  · exact Nat.zero_add _
  · exact Nat.zero_add _
theorem gather2_cat (x : FVec Ideal S16000x2x7x7x2 .f32) (a b : IVec S16000x1 32)
    (hc : Shape.Concatenates [S16000x1, S16000x1] S16000x2 1) (c s : Fin 2)
    (h0 : a (ix2 n 0) = BitVec.ofNat 32 n.val) (h1 : b (ix2 n 0) = BitVec.ofNat 32 s.val) :
    Host.gather D2 x (concatenate S16000x2 1 [⟨S16000x1, a⟩, ⟨S16000x1, b⟩] hc) (ix4 n i j c) = x (ix5 n s i j c) := by
  apply gather2_at
  · pointwise; exact h0
  · pointwise; exact h1
theorem take_at (c s : Fin 2) (h : arg (V main_v265) (ix1 n) = BitVec.ofNat 32 s.val) : StableHlo.after end5 V main_v282 (ix4 n i j c) = V main_v249 (ix5 n s i j c) := by
  after_reads_at
  refine gather2_cat n i j _ _ _ _ c s ?_ ?_
  · after_reads_at
    exact adjust _ _ _ 15999 rfl (by omega) (by omega)
  · after_reads_at
    exact adjust _ _ _ 1 h (by omega) (by omega)
end Cert.Ref
end
-- ==== Proof.RefValue.lean ====
/-
  The reference's four results, from its pooled values.
-/
module
public import proofs.«01_k».proof.Proof.RefHead
@[expose] public section
set_option maxRecDepth 16384
noncomputable section
namespace Cert.Ref
open Cert.ReferenceIdeal Cert.ReferenceIdeal.Facts₀
open Idealize.ShloMosaic Idealize.SL.Sem
open Idealize.ShloMosaic.TcCoe
open Cert.Fold (sample cell frac nextCell binX binY)

/-- A group's class score, from the pooled values of a box: the mean over the bins of the larger mask class. -/
def meanOf (P : Fin 4 → Fin 49 → EReal) (s : Fin 2) : EReal :=
  Ideal.div (∑ q : Fin 49, max (P ⟨s.val, by omega⟩ q) (P ⟨2 + s.val, by omega⟩ q)) (Ideal.ofBits .f32 1111752704#32)
/-- The softmax of the two class scores. -/
def scoreOf (P : Fin 4 → Fin 49 → EReal) (s : Fin 2) : EReal := soft (meanOf P 0) (meanOf P 1) (meanOf P s)
/-- The class with the greater score. -/
def pick (P : Fin 4 → Fin 49 → EReal) : Fin 2 := if scoreOf P 0 < scoreOf P 1 then 1 else 0
/-- The mask softmax of the picked class. -/
def maskOf (P : Fin 4 → Fin 49 → EReal) (q : Fin 49) (k : Fin 2) : EReal :=
  soft (P ⟨(pick P).val, by omega⟩ q) (P ⟨2 + (pick P).val, by omega⟩ q) (P ⟨k.val * 2 + (pick P).val, by omega⟩ q)

section Keep
variable (V : Valuation τ sig (Elt Ideal))
theorem keep238 : StableHlo.after sm4 V main_v238 = V main_v238 := by after_reads_simp
theorem keep249 : StableHlo.after cls5 V main_v249 = V main_v249 := by after_reads_simp
theorem keep265 : StableHlo.after end5 V main_v265 = V main_v265 := by after_reads_simp
theorem keep235 : StableHlo.after sm4 (StableHlo.after tail4 V) main_v235 = V main_v235 := by after_reads_simp
theorem v49_eq (n : Fin 16000) (j : Fin 7) : StableHlo.after (lines1 (F := Ideal)).1 V main_v49 (ix2 n j)
    = IntOp.minsi (V main_v47 (ix2 n j)) (V main_v48 (ix2 n j)) := by after_reads_at
end Keep

variable (m : (ℓ : Loc nD τ sig) → Buf (Elt Ideal) ℓ) (c : Dev nD) (n : Fin 16000)

/-- The valuation where the pooled values are there. -/
def U : Valuation τ sig (Elt Ideal) := StableHlo.after (List.take 45 (lines4 (F := Ideal)).1) (W4 m c)
theorem W5_eq : W5 m c = StableHlo.after sm4 (StableHlo.after tail4 (U m c)) := by
  unfold U
  rw [← after_app, ← after_app, List.take_append_drop, List.take_append_drop]
theorem W6_eq : W6 m c = StableHlo.after end5 (StableHlo.after cls5 (StableHlo.after mid5 (W5 m c))) := by
  rw [← after_app, ← after_app, List.take_append_drop, List.take_append_drop]

/-- The reference's pooled values of a box. -/
def pool : Fin 4 → Fin 49 → EReal := fun o q => W5 m c main_v235 (ix4 n (binY q) (binX q) o)

theorem pool_stack (s k : Fin 2) (q : Fin 49) (o : Fin 4) (ho : o.val = k.val * 2 + s.val) : W5 m c main_v238 (ix5 n s (binY q) (binX q) k) = pool m c n o q := by
  unfold pool
  rw [W5_eq, keep238, stack, keep235]
  exact congrArg (fun o => (U m c) main_v235 (ix4 n (binY q) (binX q) o)) (Fin.ext ho.symm)

theorem mean_eq (s : Fin 2) : StableHlo.after mid5 (W5 m c) main_v254 (ix2 n s) = meanOf (pool m c n) s := by
  rw [mean_at]
  unfold meanOf
  refine congrArg (fun x => Ideal.div x _) (Finset.sum_congr rfl fun q _ => ?_)
  exact congrArg₂ max (pool_stack m c n s 0 q _ (by simp)) (pool_stack m c n s 1 q _ (by simp))

theorem score_eq (s : Fin 2) : StableHlo.after cls5 (StableHlo.after mid5 (W5 m c)) main_v265 (ix2 n s) = scoreOf (pool m c n) s := by
  rw [cls_eq, cls_at, mean_eq, mean_eq, mean_eq]
  rfl

theorem mask_eq (s k : Fin 2) (q : Fin 49) (o0 o1 o2 : Fin 4) (h0 : o0.val = s.val) (h1 : o1.val = 2 + s.val) (h2 : o2.val = k.val * 2 + s.val) :
    StableHlo.after cls5 (StableHlo.after mid5 (W5 m c)) main_v249 (ix5 n s (binY q) (binX q) k)
      = soft (pool m c n o0 q) (pool m c n o1 q) (pool m c n o2 q) := by
  rw [keep249, mask_at]
  have e : W5 m c main_v245 = maskExp (W5 m c main_v238) := by
    rw [W5_eq, maskExp_eq, keep238]
  have e' : W5 m c main_v247 = maskSum (W5 m c main_v238) := by
    rw [W5_eq, maskSum_eq, keep238]
  rw [e, e', maskSum_at, maskExp_at, maskExp_at, maskExp_at, pool_stack m c n s k q o2 h2, pool_stack m c n s 0 q o0 (by simpa using h0), pool_stack m c n s 1 q o1 (by simpa using h1)]
  rfl

theorem arg265 : arg (StableHlo.after cls5 (StableHlo.after mid5 (W5 m c)) main_v265) (ix1 n) = BitVec.ofNat 32 (pick (pool m c n)).val := by
  rw [arg_at, score_eq, score_eq]
  unfold pick
  split <;> rfl

theorem result0 (s : Fin 2) : W6 m c main_v265 (ix2 n s) = scoreOf (pool m c n) s := by
  rw [W6_eq, keep265, score_eq]
theorem result1 : W6 m c main_v283 (ix2 n 0) = BitVec.ofNat 32 (pick (pool m c n)).val := by
  rw [W6_eq, arg_eq, arg265]
theorem result2 : W6 m c main_v267 (ix1 n) = max (scoreOf (pool m c n) 0) (scoreOf (pool m c n) 1) := by
  rw [W6_eq, max_at, score_eq, score_eq]
theorem result3 (q : Fin 49) (k : Fin 2) : W6 m c main_v282 (ix4 n (binY q) (binX q) k) = maskOf (pool m c n) q k := by
  rw [W6_eq, take_at _ n (binY q) (binX q) k (pick (pool m c n)) (arg265 m c n)]
  exact mask_eq m c n _ k q _ _ _ rfl rfl rfl

/-- The weighted sum of four cells. -/
def bil (fy fx g00 g01 g10 g11 : EReal) : EReal :=
  (1 - fy) * (1 - fx) * g00 + (1 - fy) * fx * g01 + fy * (1 - fx) * g10 + fy * fx * g11

theorem pool_at (o : Fin 4) (q : Fin 49) (y x y1 x1 : Fin 256)
    (hy : cell (roiOf m c) n 1 3 (binY q) = BitVec.ofNat 32 y.val) (hx : cell (roiOf m c) n 0 2 (binX q) = BitVec.ofNat 32 x.val)
    (hy1 : nextCell (cell (roiOf m c) n 1 3 (binY q)) = BitVec.ofNat 32 y1.val) (hx1 : nextCell (cell (roiOf m c) n 0 2 (binX q)) = BitVec.ofNat 32 x1.val) :
    pool m c n o q = bil (frac (roiOf m c) n 1 3 (binY q)) (frac (roiOf m c) n 0 2 (binX q))
      (mapOf m c (ix4 0 y x ⟨o.val * 49 + q.val, by omega⟩)) (mapOf m c (ix4 0 y x1 ⟨o.val * 49 + q.val, by omega⟩))
      (mapOf m c (ix4 0 y1 x ⟨o.val * 49 + q.val, by omega⟩)) (mapOf m c (ix4 0 y1 x1 ⟨o.val * 49 + q.val, by omega⟩)) := by
  have hk : (⟨o.val * 49 + (binY q).val * 7 + (binX q).val, by omega⟩ : Fin 196) = ⟨o.val * 49 + q.val, by omega⟩ :=
    Fin.ext (by show o.val * 49 + q.val / 7 * 7 + q.val % 7 = _; simp only []; omega)
  have hm : ∀ (y x : Fin 256) (k : Fin 196), W1 m c main_v0 (ix3 y x k) = mapOf m c (ix4 0 y x k) := fun y x k => map0 _ y x k
  unfold pool W5 W4 W3 W2
  rw [pooled_at (W1 m c) n (binY q) (binX q) o y x y1 x1]
  · dsimp only
    rw [hk, hm, hm, hm, hm, frac_y, frac_x]
    unfold bil
    have h1 : (one : Ideal .f32) = (1 : EReal) := Ideal.ofBits_one_f32
    rw [h1]
    rfl
  · rw [cell_y]; exact hy
  · rw [cell_x]; exact hx
  · rw [← v49_eq, next_y1]
    exact (congrArg nextCell (cell_y m c n _)).trans hy1
  · rw [cell_x]; exact hx1
end Cert.Ref
end
-- ==== Proof.KHead.lean ====
/-
  What the class head computes of a row of pooled values.
-/
module
public import proofs.«01_k».proof.Proof.HeadRun
public import proofs.«01_k».proof.Proof.RefValue
@[expose] public section
set_option maxRecDepth 16384
noncomputable section
namespace Cert.Fold
open Cert.Kernel Cert.Kernel.Gen
open Idealize.ShloMosaic
open Idealize.ShloMosaic.TcCoe
open Cert.Ref (soft meanOf scoreOf pick maskOf)

/-- The first column of a group's 49 bins in a row of pooled values. -/
def colOf (o : Fin 4) : Nat := o.val / 2 * 128 + o.val % 2 * 49
theorem col_lt (o : Fin 4) (q : Fin 49) : colOf o + q.val < 256 := by unfold colOf; omega
/-- A row's pooled values by group and bin. -/
def rowP (X : Vec Ideal S800x256 .f32) (r : Fin 800) : Fin 4 → Fin 49 → EReal := fun o q => X (ix2 r ⟨colOf o + q.val, col_lt o q⟩)

variable (X : Vec Ideal S800x256 .f32) (r : Fin 800) (q : Fin 49)
theorem pay4_at : k1_pay4 X (ix2 r q) = rowP X r 0 q := by
  unfold rowP; pointwise [k1_pay4, k1_pay3]; try simp [colOf]
theorem pay5_at : k1_pay5 X (ix2 r q) = rowP X r 1 q := by
  unfold rowP; pointwise [k1_pay5, k1_pay3]; try simp [colOf]
theorem pay6_at : k1_pay6 X (ix2 r q) = rowP X r 2 q := by
  unfold rowP; pointwise [k1_pay6, k1_pay3]; try simp [colOf]
theorem pay7_at : k1_pay7 X (ix2 r q) = rowP X r 3 q := by
  unfold rowP; pointwise [k1_pay7, k1_pay3]; try simp [colOf]
theorem pay8_at : k1_pay8 X (ix2 r q) = max (rowP X r 0 q) (rowP X r 2 q) := by
  rw [← pay4_at, ← pay6_at]; rfl
theorem pay15_at : k1_pay15 X (ix2 r q) = max (rowP X r 1 q) (rowP X r 3 q) := by
  rw [← pay5_at, ← pay7_at]; rfl
theorem pay9_at : k1_pay9 X (ix2 r q) = Ideal.exp (rowP X r 0 q - max (rowP X r 0 q) (rowP X r 2 q)) := by
  rw [← pay8_at, ← pay4_at]; rfl
theorem pay10_at : k1_pay10 X (ix2 r q) = Ideal.exp (rowP X r 2 q - max (rowP X r 0 q) (rowP X r 2 q)) := by
  rw [← pay8_at, ← pay6_at]; rfl
theorem pay16_at : k1_pay16 X (ix2 r q) = Ideal.exp (rowP X r 1 q - max (rowP X r 1 q) (rowP X r 3 q)) := by
  rw [← pay15_at, ← pay5_at]; rfl
theorem pay17_at : k1_pay17 X (ix2 r q) = Ideal.exp (rowP X r 3 q - max (rowP X r 1 q) (rowP X r 3 q)) := by
  rw [← pay15_at, ← pay7_at]; rfl
theorem pay12_at : k1_pay12 X (ix2 r q) = soft (rowP X r 0 q) (rowP X r 2 q) (rowP X r 0 q) := by
  unfold soft; rw [← pay9_at, ← pay10_at]; rfl
theorem pay13_at : k1_pay13 X (ix2 r q) = soft (rowP X r 0 q) (rowP X r 2 q) (rowP X r 2 q) := by
  unfold soft; rw [← pay9_at, ← pay10_at]; rfl
theorem pay19_at : k1_pay19 X (ix2 r q) = soft (rowP X r 1 q) (rowP X r 3 q) (rowP X r 1 q) := by
  unfold soft; rw [← pay16_at, ← pay17_at]; rfl
theorem pay20_at : k1_pay20 X (ix2 r q) = soft (rowP X r 1 q) (rowP X r 3 q) (rowP X r 3 q) := by
  unfold soft; rw [← pay16_at, ← pay17_at]; rfl
theorem pay14_at : k1_pay14 X (ix2 r 0) = meanOf (rowP X r) 0 := by
  unfold meanOf
  have h : ∀ q, max (rowP X r ⟨(0 : Fin 2).val, by decide⟩ q) (rowP X r ⟨2 + (0 : Fin 2).val, by decide⟩ q) = k1_pay8 X (ix2 r q) := fun q => (pay8_at X r q).symm
  simp only [h]
  unfold k1_pay14
  generalize k1_pay8 X = Y
  pointwise
  try rfl
theorem pay21_at : k1_pay21 X (ix2 r 0) = meanOf (rowP X r) 1 := by
  unfold meanOf
  have h : ∀ q, max (rowP X r ⟨(1 : Fin 2).val, by decide⟩ q) (rowP X r ⟨2 + (1 : Fin 2).val, by decide⟩ q) = k1_pay15 X (ix2 r q) := fun q => (pay15_at X r q).symm
  simp only [h]
  unfold k1_pay21
  generalize k1_pay15 X = Y
  pointwise
  try rfl
theorem pay23_at : k1_pay23 X (ix2 r 0) = Ideal.exp (meanOf (rowP X r) 0 - max (meanOf (rowP X r) 0) (meanOf (rowP X r) 1)) := by
  rw [← pay14_at, ← pay21_at]; rfl
theorem pay24_at : k1_pay24 X (ix2 r 0) = Ideal.exp (meanOf (rowP X r) 1 - max (meanOf (rowP X r) 0) (meanOf (rowP X r) 1)) := by
  rw [← pay14_at, ← pay21_at]; rfl
theorem pay26_at : k1_pay26 X (ix2 r 0) = scoreOf (rowP X r) 0 := by
  unfold scoreOf soft; rw [← pay23_at, ← pay24_at]; rfl
theorem pay27_at : k1_pay27 X (ix2 r 0) = scoreOf (rowP X r) 1 := by
  unfold scoreOf soft; rw [← pay23_at, ← pay24_at]; rfl
theorem pay28_at : k1_pay28 X (ix2 r 0) = BitVec.ofBool (decide (scoreOf (rowP X r) 0 < scoreOf (rowP X r) 1)) := by
  rw [← pay26_at, ← pay27_at]
  unfold k1_pay28
  generalize k1_pay26 X = A
  generalize k1_pay27 X = B
  show FloatOps.cmpf .ogt (B (ix2 r 0)) (A (ix2 r 0)) = _
  rw [Ideal.cmpf_def]
  rfl
theorem pay29_at : k1_pay29 X (ix2 r 0) = BitVec.ofNat 32 (pick (rowP X r)).val := by
  have h : k1_pay29 X (ix2 r 0) = BitVec.setWidth 32 (k1_pay28 X (ix2 r 0)) := rfl
  rw [h, pay28_at]
  unfold pick
  split
  · rename_i h; rw [decide_eq_true h]; rfl
  · rename_i h; rw [decide_eq_false h]; rfl
theorem pay30_at : k1_pay30 X (ix2 r 0) = max (scoreOf (rowP X r) 0) (scoreOf (rowP X r) 1) := by
  rw [← pay26_at, ← pay27_at]; rfl
theorem headM0_sel : headM0 X (ix2 r q) = if k1_pay28 X (ix2 r 0) = 1#1 then k1_pay19 X (ix2 r q) else k1_pay12 X (ix2 r q) := by
  unfold headM0
  generalize k1_pay28 X = C; generalize k1_pay19 X = A; generalize k1_pay12 X = B
  pointwise [k1_pay1]
  try rfl
theorem headM1_sel : headM1 X (ix2 r q) = if k1_pay28 X (ix2 r 0) = 1#1 then k1_pay20 X (ix2 r q) else k1_pay13 X (ix2 r q) := by
  unfold headM1
  generalize k1_pay28 X = C; generalize k1_pay20 X = A; generalize k1_pay13 X = B
  pointwise [k1_pay2]
  try rfl
theorem headM0_at : headM0 X (ix2 r q) = maskOf (rowP X r) q 0 := by
  rw [headM0_sel, pay28_at, pay19_at, pay12_at]
  unfold maskOf pick
  by_cases h : scoreOf (rowP X r) 0 < scoreOf (rowP X r) 1
  · simp only [h]; rfl
  · simp only [h]; rfl
theorem headM1_at : headM1 X (ix2 r q) = maskOf (rowP X r) q 1 := by
  rw [headM1_sel, pay28_at, pay20_at, pay13_at]
  unfold maskOf pick
  by_cases h : scoreOf (rowP X r) 0 < scoreOf (rowP X r) 1
  · simp only [h]; rfl
  · simp only [h]; rfl
end Cert.Fold
end
-- ==== Proof.KRows.lean ====
/-
  The program's host steps between and after its two kernels, read at an index.
-/
module
public import proofs.«01_k».proof.Proof.KHead
@[expose] public section
set_option maxRecDepth 16384
noncomputable section
namespace Cert.Fold
open Cert.Kernel Cert.Kernel.Gen
open Idealize.ShloMosaic
open Idealize.ShloMosaic.TcCoe

variable {F : FTy → Type} [FloatOps F] (V : Valuation τ sig (Elt F)) (n : Fin 16000)

omit [FloatOps F] in
theorem rowIdx (n' : Fin 32000) (a b : Fin 128) (m' : Fin 32000) (z : Fin 1) (h0 : n'.val = m'.val) (h2 : a.val = b.val) :
    (ix3 n' z a : S32000x1x128.Idx) = ix3 m' (0 : Fin 1) b := by
  obtain rfl := Fin.ext h0
  obtain rfl := Fin.ext h2
  obtain rfl : z = 0 := Subsingleton.elim _ _
  rfl

/-- One half's rows of the first kernel's result. -/
def cut0 (X : Vec F S32000x1x128 .f32) : Vec F S16000x128 .f32 :=
  shapeCast S16000x128 (extractStridedSlice S1x16000x128 ![0, 0, 0] (shapeCast S2x16000x128 X shapeCasts_S32000x1x128_S2x16000x128) slices_S2x16000x128_S1x16000x128_0_0_0) shapeCasts_S1x16000x128_S16000x128
def cut1 (X : Vec F S32000x1x128 .f32) : Vec F S16000x128 .f32 :=
  shapeCast S16000x128 (extractStridedSlice S1x16000x128 ![1, 0, 0] (shapeCast S2x16000x128 X shapeCasts_S32000x1x128_S2x16000x128) slices_S2x16000x128_S1x16000x128_1_0_0) shapeCasts_S1x16000x128_S16000x128
omit [FloatOps F] in
theorem two_at (X : Vec F S32000x1x128 .f32) (h : Fin 2) (z : Fin 128) :
    shapeCast S2x16000x128 X shapeCasts_S32000x1x128_S2x16000x128 (ix3 h n z) = X (ix3 ⟨h.val * 16000 + n.val, by omega⟩ 0 z) := by
  pointwise
omit [FloatOps F] in
theorem half0_at (Y : Vec F S2x16000x128 .f32) (z : Fin 128) :
    shapeCast S16000x128 (extractStridedSlice S1x16000x128 ![0, 0, 0] Y slices_S2x16000x128_S1x16000x128_0_0_0) shapeCasts_S1x16000x128_S16000x128 (ix2 n z) = Y (ix3 0 n z) := by
  pointwise
omit [FloatOps F] in
theorem half1_at (Y : Vec F S2x16000x128 .f32) (z : Fin 128) :
    shapeCast S16000x128 (extractStridedSlice S1x16000x128 ![1, 0, 0] Y slices_S2x16000x128_S1x16000x128_1_0_0) shapeCasts_S1x16000x128_S16000x128 (ix2 n z) = Y (ix3 1 n z) := by
  pointwise
omit [FloatOps F] in
theorem cut0_at (X : Vec F S32000x1x128 .f32) (z : Fin 128) : cut0 X (ix2 n z) = X (ix3 ⟨(0 : Fin 2).val * 16000 + n.val, by omega⟩ 0 z) :=
  (half0_at n _ z).trans (two_at n X 0 z)
omit [FloatOps F] in
theorem cut1_at (X : Vec F S32000x1x128 .f32) (z : Fin 128) : cut1 X (ix2 n z) = X (ix3 ⟨(1 : Fin 2).val * 16000 + n.val, by omega⟩ 0 z) :=
  (half1_at n _ z).trans (two_at n X 1 z)

omit [FloatOps F] in
theorem wide_at (A : Vec F S16000x128 .f32) (k : ℕ) (hk : k ≤ 103) (h : S16000x128.Slices ![0, k] S16000x25) (z : Fin 25) :
    extractStridedSlice S16000x25 ![0, k] A h (ix2 n z) = A (ix2 n ⟨k + z.val, by omega⟩) := by
  pointwise
omit [FloatOps F] in
theorem narrow_at (A : Vec F S16000x128 .f32) (k : ℕ) (hk : k ≤ 104) (h : S16000x128.Slices ![0, k] S16000x24) (z : Fin 24) :
    extractStridedSlice S16000x24 ![0, k] A h (ix2 n z) = A (ix2 n ⟨k + z.val, by omega⟩) := by
  pointwise

omit [FloatOps F] in
/-- The pieces of a row side by side, each piece a stretch of one half's row. -/
theorem cat_at (P : Fin 4 → Vec F S16000x25 .f32) (Q : Fin 4 → Vec F S16000x24 .f32) (Z : Vec F S16000x30 .f32) (A B : Vec F S16000x128 .f32)
    (hP : ∀ (o : Fin 4) (z : Fin 25), P o (ix2 n z) = A (ix2 n ⟨o.val * 25 + z.val, by omega⟩))
    (hQ : ∀ (o : Fin 4) (z : Fin 24), Q o (ix2 n z) = B (ix2 n ⟨o.val * 25 + (1 + z.val), by omega⟩))
    (o : Fin 4) (h : Fin 2) (s : Fin 25) (hs : h.val = 1 → 1 ≤ s.val) (w : Fin 256) (hw : w.val = colOf o + (24 * h.val + s.val)) (R : Elt F .f32)
    (hA : h = 0 → A (ix2 n ⟨o.val * 25 + s.val, by omega⟩) = R) (hB : h = 1 → B (ix2 n ⟨o.val * 25 + s.val, by omega⟩) = R) :
    concatenate S16000x256 1 [⟨S16000x25, P 0⟩, ⟨S16000x24, Q 0⟩, ⟨S16000x25, P 1⟩, ⟨S16000x24, Q 1⟩, ⟨S16000x30, Z⟩, ⟨S16000x25, P 2⟩, ⟨S16000x24, Q 2⟩, ⟨S16000x25, P 3⟩, ⟨S16000x24, Q 3⟩, ⟨S16000x30, Z⟩]
      concatenates_S16000x25_S16000x24_S16000x25_S16000x24_S16000x30_S16000x25_S16000x24_S16000x25_S16000x24_S16000x30_S16000x256_d1 (ix2 n w) = R := by
  unfold colOf at hw
  pointwise
  obtain rfl | rfl : h = 0 ∨ h = 1 := by omega
  · refine Eq.trans ?_ (hA rfl)
    obtain rfl | rfl | rfl | rfl : o = 0 ∨ o = 1 ∨ o = 2 ∨ o = 3 := by omega
    all_goals
      simp only [Fin.val_zero, Fin.val_one, Fin.val_two, Fin.isValue, Fin.coe_ofNat_eq_mod] at hw
      repeat refine Eq.trans (dif_neg (by omega)) ?_
      refine Eq.trans (dif_pos (by omega)) ?_
      refine (hP _ _).trans ?_
      exact congrArg (fun c => A (ix2 n c)) (Fin.ext (by dsimp only; omega))
  · have h1 := hs rfl
    refine Eq.trans ?_ (hB rfl)
    obtain rfl | rfl | rfl | rfl : o = 0 ∨ o = 1 ∨ o = 2 ∨ o = 3 := by omega
    all_goals
      simp only [Fin.val_zero, Fin.val_one, Fin.val_two, Fin.isValue, Fin.coe_ofNat_eq_mod] at hw
      repeat refine Eq.trans (dif_neg (by omega)) ?_
      refine Eq.trans (dif_pos (by omega)) ?_
      refine (hQ _ _).trans ?_
      exact congrArg (fun c => B (ix2 n c)) (Fin.ext (by dsimp only; omega))

/-- A group's bins in a row of pooled values, each from the half that computed it. -/
theorem rows_at (o : Fin 4) (h : Fin 2) (s : Fin 25) (hs : h.val = 1 → 1 ≤ s.val) (w : Fin 256) (hw : w.val = colOf o + (24 * h.val + s.val)) :
    StableHlo.after (hostOps1 (F := F)) V main_v145 (ix2 n w) = V main_v118 (ix3 ⟨h.val * 16000 + n.val, by omega⟩ 0 ⟨o.val * 25 + s.val, by omega⟩) := by
  after_reads_simp
  refine cat_at n (fun o => ![_, _, _, _] o) (fun o => ![_, _, _, _] o) _ (cut0 (V main_v118)) (cut1 (V main_v118)) ?_ ?_ o h s hs w hw _ (fun e => ?_) (fun e => ?_)
  · intro o z
    obtain rfl | rfl | rfl | rfl : o = 0 ∨ o = 1 ∨ o = 2 ∨ o = 3 := by omega
    all_goals
      dsimp only [Matrix.cons_val]
    · change extractStridedSlice S16000x25 ![0, 0] (StableHlo.upto (hostOps1 (F := F)) V 3 main_v121) slices_S16000x128_S16000x25_0_0 (ix2 n z) = _
      after_reads_simp
      exact wide_at n (cut0 (V main_v118)) 0 (by omega) _ z
    · change extractStridedSlice S16000x25 ![0, 25] (StableHlo.upto (hostOps1 (F := F)) V 9 main_v127) slices_S16000x128_S16000x25_0_25 (ix2 n z) = _
      after_reads_simp
      exact wide_at n (cut0 (V main_v118)) 25 (by omega) _ z
    · change extractStridedSlice S16000x25 ![0, 50] (StableHlo.upto (hostOps1 (F := F)) V 15 main_v133) slices_S16000x128_S16000x25_0_50 (ix2 n z) = _
      after_reads_simp
      exact wide_at n (cut0 (V main_v118)) 50 (by omega) _ z
    · change extractStridedSlice S16000x25 ![0, 75] (StableHlo.upto (hostOps1 (F := F)) V 21 main_v139) slices_S16000x128_S16000x25_0_75 (ix2 n z) = _
      after_reads_simp
      exact wide_at n (cut0 (V main_v118)) 75 (by omega) _ z
  · intro o z
    obtain rfl | rfl | rfl | rfl : o = 0 ∨ o = 1 ∨ o = 2 ∨ o = 3 := by omega
    all_goals
      dsimp only [Matrix.cons_val]
    · change extractStridedSlice S16000x24 ![0, 1] (StableHlo.upto (hostOps1 (F := F)) V 6 main_v124) slices_S16000x128_S16000x24_0_1 (ix2 n z) = _
      after_reads_simp
      exact (narrow_at n (cut1 (V main_v118)) 1 (by omega) _ z).trans (congrArg (fun c => cut1 (V main_v118) (ix2 n c)) (Fin.ext (by simp)))
    · change extractStridedSlice S16000x24 ![0, 26] (StableHlo.upto (hostOps1 (F := F)) V 12 main_v130) slices_S16000x128_S16000x24_0_26 (ix2 n z) = _
      after_reads_simp
      exact (narrow_at n (cut1 (V main_v118)) 26 (by omega) _ z).trans (congrArg (fun c => cut1 (V main_v118) (ix2 n c)) (Fin.ext (by simp; omega)))
    · change extractStridedSlice S16000x24 ![0, 51] (StableHlo.upto (hostOps1 (F := F)) V 18 main_v136) slices_S16000x128_S16000x24_0_51 (ix2 n z) = _
      after_reads_simp
      exact (narrow_at n (cut1 (V main_v118)) 51 (by omega) _ z).trans (congrArg (fun c => cut1 (V main_v118) (ix2 n c)) (Fin.ext (by simp; omega)))
    · change extractStridedSlice S16000x24 ![0, 76] (StableHlo.upto (hostOps1 (F := F)) V 24 main_v142) slices_S16000x128_S16000x24_0_76 (ix2 n z) = _
      after_reads_simp
      exact (narrow_at n (cut1 (V main_v118)) 76 (by omega) _ z).trans (congrArg (fun c => cut1 (V main_v118) (ix2 n c)) (Fin.ext (by simp; omega)))
  · subst e; exact cut0_at n _ _
  · subst e; exact cut1_at n _ _
theorem out_cls (s : Fin 2) : StableHlo.after (hostOps2 (F := F)) V main_v147 (ix2 n s) = if s = 0 then V main_v146_0 (ix2 n 0) else V main_v146_1 (ix2 n 0) := by
  fin_cases s
  · after_reads_at
  · after_reads_at
theorem out_score : StableHlo.after (hostOps2 (F := F)) V main_v152 (ix1 n) = V main_v146_3 (ix2 n 0) := by
  after_reads_at
theorem out_arg : StableHlo.after (hostOps2 (F := F)) V main_v146_2 = V main_v146_2 := by
  after_reads_simp
theorem out_mask (q : Fin 49) (k : Fin 2) : StableHlo.after (hostOps2 (F := F)) V main_v151 (ix4 n (binY q) (binX q) k)
    = if k = 0 then V main_v146_4 (ix2 n q) else V main_v146_5 (ix2 n q) := by
  have e : (⟨(binY q).val * 7 + (binX q).val, by omega⟩ : Fin 49) = q := Fin.ext (by show q.val / 7 * 7 + q.val % 7 = q.val; omega)
  fin_cases k
  · after_reads_at; rw [e]; after_reads_at
  · after_reads_at; rw [e]; after_reads_at
end Cert.Fold
end
-- ==== Proof.KPool.lean ====
/-
  A pooled value of the kernel is the weighted sum of the four cells round the bin's sample point.
-/
module
public import proofs.«01_k».proof.Proof.KArr
public import proofs.«01_k».proof.Proof.KFold
public import proofs.«01_k».proof.Proof.KMap
public import proofs.«01_k».proof.Proof.KRows
public import proofs.«01_k».proof.Proof.RegionsRun
public import proofs.«01_k».proof.Proof.OnMap
public import proofs.«01_k».proof.Proof.RefValue
@[expose] public section
set_option maxRecDepth 16384
noncomputable section
namespace Cert.Fold
open Cert.Kernel Cert.Kernel.Gen
open Idealize.ShloMosaic
open Idealize.ShloMosaic.TcCoe
open Idealize.ShloMosaic.Rounds
open Cert.Ref (bil)

/-- Non-negative real weights distribute over a sum. -/
theorem weigh (u p : ℝ) (hu : 0 ≤ u) (a b v : EReal) : (a * v + b * (p : EReal)) * (u : EReal) = (u : EReal) * v * a + (u : EReal) * (p : EReal) * b := by
  rw [EReal.right_distrib_of_nonneg_of_ne_top (EReal.coe_nonneg.mpr hu) (EReal.coe_ne_top u)]
  congr 1
  · ac_rfl
  · ac_rfl

theorem sub_real (f : ℝ) : (1 : EReal) - (f : EReal) = ((1 - f : ℝ) : EReal) := by
  rw [EReal.coe_sub]; rfl

/-- The kernel's order of weighing and the reference's give one value. -/
theorem lerp2_bil (fy fx : ℝ) (hy0 : 0 ≤ fy) (hy1 : fy < 1) (a b d e : EReal) : lerp2 (fy : EReal) (fx : EReal) a b d e = bil (fy : EReal) (fx : EReal) a b d e := by
  unfold lerp2 bil
  rw [sub_real fy, weigh (1 - fy) fx (by linarith), weigh fy fx hy0]
  rw [add_assoc, add_assoc, add_assoc]

/-- With no weight on the next row, what it holds does not matter. -/
theorem lerp2_edge (fx : ℝ) (a b d e d' e' : EReal) : lerp2 ((0 : ℝ) : EReal) (fx : EReal) a b d e = bil ((0 : ℝ) : EReal) (fx : EReal) a b d' e' := by
  rw [← lerp2_bil 0 fx le_rfl one_pos a b d' e']
  unfold lerp2
  rw [EReal.coe_zero, mul_zero, mul_zero]

variable (m : (ℓ : Loc nD τ sig) → Buf (Elt Ideal) ℓ) (c : Dev nD)

theorem read_cell (h : Fin 2) (x y : Fin 256) (r : Fin 66048) (hr : r.val = x.val * 256 + y.val) (l : Fin 128) (hl : l.val < 100) :
    V11 m c main_v22 (ix3 h r l) = mapOf m c (ix4 0 y x (chanOf h ⟨l.val, hl⟩)) := by
  rw [table_at m c h r (by omega) l hl]
  have e1 : (⟨r.val % 256, by omega⟩ : Fin 256) = y := Fin.ext (by dsimp only; omega)
  have e2 : (⟨r.val / 256, by omega⟩ : Fin 256) = x := Fin.ext (by dsimp only; omega)
  rw [e1, e2]

theorem slab_row (V : Vec Ideal S2x66048x128 .f32) (h : Nat) (h2 : Fin 2) (hh : h = h2.val) (r : Fin 66048) (l : Fin 128) : slab V h (ix2 r l) = V (ix3 h2 r l) := by
  subst hh
  refine congrArg (fun z => V (ix3 z r l)) (Fin.ext ?_)
  exact Nat.mod_eq_of_lt h2.isLt

/-- Four cells of the stacked table, weighed. -/
theorem weighed (V : Vec Ideal S2x66048x128 .f32) (h : Nat) (h2 : Fin 2) (hh : h = h2.val) (G : Fin 256 → Fin 256 → EReal) (l : Fin 128)
    (hV : ∀ (x y : Fin 256) (r : Fin 66048), r.val = x.val * 256 + y.val → V (ix3 h2 r l) = G y x)
    (v w : BitVec 32) (x y x1 y1 : Fin 256) (hv : v.toNat = x.val * 256 + y.val) (hw : w.toNat = x1.val * 256 + y.val)
    (hy1 : y1.val = min (y.val + 1) 255) (fy fx : ℝ) (h0 : 0 ≤ fy) (h1 : fy < 1) (he : y.val = 255 → fy = 0) :
    interp v w ((fy : EReal) : Ideal .f32) ((fx : EReal) : Ideal .f32) (ld (slab V h) v) (ld (slab V h) w) (ix2 0 l)
      = bil (fy : EReal) (fx : EReal) (G y x) (G y x1) (G y1 x) (G y1 x1) := by
  rw [interp_at (slab V h) v w _ _ (by omega) (by omega) l]
  have hs := fun r => slab_row V h h2 hh r l
  rw [hs, hs, hs, hs, hV x y _ hv, hV x1 y _ hw]
  by_cases hy : y.val = 255
  · obtain rfl := he hy
    exact lerp2_edge fx _ _ _ _ _ _
  · rw [hV x y1 _ (by dsimp only; omega), hV x1 y1 _ (by dsimp only; omega)]
    exact lerp2_bil fy fx h0 h1 _ _ _ _

/-- A pooled value of the first kernel. -/
theorem pooled_val (t : Fin cfg0.N) (b : Fin 16) (l : Fin 128) (hl : l.val < 100) (h2 : Fin 2) (hh : t.val / 1000 = h2.val)
    (n : Fin 16000) (hn : boxOf (blkOf t) (Fin.ofNat 16 b.val) = n) (q : Fin 49) (hq : binOf (blkOf t) (Fin.ofNat 25 (l.val % 25)) = q)
    (x y x1 y1 : Fin 256) (hx : (cell (roiOf m c) n 0 2 (binX q)).toNat = x.val) (hy : (cell (roiOf m c) n 1 3 (binY q)).toNat = y.val)
    (hx1 : (nextCell (cell (roiOf m c) n 0 2 (binX q))).toNat = x1.val) (hy1 : y1.val = min (y.val + 1) 255)
    (fy fx : ℝ) (hfy : frac (roiOf m c) n 1 3 (binY q) = ((fy : EReal) : Ideal .f32)) (hfx : frac (roiOf m c) n 0 2 (binX q) = ((fx : EReal) : Ideal .f32))
    (h0 : 0 ≤ fy) (h1 : fy < 1) (he : y.val = 255 → fy = 0) :
    pooled (Va m) c t (ix3 b 0 l) = bil (fy : EReal) (fx : EReal) (mapOf m c (ix4 0 y x (chanOf h2 ⟨l.val, hl⟩))) (mapOf m c (ix4 0 y x1 (chanOf h2 ⟨l.val, hl⟩)))
      (mapOf m c (ix4 0 y1 x (chanOf h2 ⟨l.val, hl⟩))) (mapOf m c (ix4 0 y1 x1 (chanOf h2 ⟨l.val, hl⟩))) := by
  subst hn
  subst hq
  unfold pooled
  rw [outBlk_at _ _ _ _ _ b l hl]
  unfold rowVal
  have e0 := (tab0_at (Va m) c t b.val (l.val % 25)).trans (word0 m c (blkOf t) (Fin.ofNat 16 b.val) (Fin.ofNat 25 (l.val % 25)))
  have e1 := (tab1_at (Va m) c t b.val (l.val % 25)).trans (word1 m c (blkOf t) (Fin.ofNat 16 b.val) (Fin.ofNat 25 (l.val % 25)))
  have e2 := ((tab2_at (Va m) c t b.val (l.val % 25)).trans (weight_y m c (blkOf t) (Fin.ofNat 16 b.val) (Fin.ofNat 25 (l.val % 25)))).trans hfy
  have e3 := ((tab3_at (Va m) c t b.val (l.val % 25)).trans (weight_x m c (blkOf t) (Fin.ofNat 16 b.val) (Fin.ofNat 25 (l.val % 25)))).trans hfx
  rw [e0, e1, e2, e3]
  refine weighed _ _ h2 hh (fun y x => mapOf m c (ix4 0 y x (chanOf h2 ⟨l.val, hl⟩))) l (fun x y r hr => read_cell m c h2 x y r hr l hl) _ _ x y x1 y1 ?_ ?_ hy1 fy fx h0 h1 he
  · rw [rowWord_toNat _ _ (by omega) (by omega), hx, hy]
  · rw [rowWord_toNat _ _ (by omega) (by omega), hx1, hy]
end Cert.Fold
end
-- ==== Proof.KArr1.lean ====
/-
  What the second kernel leaves in its result arrays: each block of 800 boxes is what its grid point computed.
-/
module
public import proofs.«01_k».proof.Proof.KArr
public import proofs.«01_k».proof.Proof.HeadRun
@[expose] public section
set_option maxRecDepth 16384
noncomputable section
namespace Cert.Fold
open Cert.Kernel Cert.Kernel.Gen
open Idealize.ShloMosaic
open Idealize.ShloMosaic.TcCoe
open Idealize.ShloMosaic.Rounds
open Idealize.ShloMosaic.Pipeline (Dat Cfg Window BodyObligation cellOf)

variable {F : FTy → Type} [FloatOps F]

/-- The grid point that handles a box, and the box's number in that point's block. -/
def ptBox (n : Fin 16000) : Fin cfg1.N := ⟨n.val / 800, lt_of_lt_of_eq (by omega : n.val / 800 < 20) N_1.symm⟩
def inBox (n : Fin 16000) : Fin 800 := ⟨n.val % 800, by omega⟩
theorem t1_lt (t : Fin cfg1.N) : t.val < 20 := t.isLt.trans_eq N_1
/-- The box that a row of a point's block is. -/
def boxRow (t : Fin cfg1.N) (r : Fin 800) : Fin 16000 := ⟨t.val * 800 + r.val, by have := t1_lt t; omega⟩
theorem pt_box (t : Fin cfg1.N) (r : Fin 800) : ptBox (boxRow t r) = t := Fin.ext (by unfold ptBox boxRow; dsimp only; omega)
theorem in_box (t : Fin cfg1.N) (r : Fin 800) : inBox (boxRow t r) = r := Fin.ext (by unfold inBox boxRow; dsimp only; omega)
theorem box_pt (n : Fin 16000) : boxRow (ptBox n) (inBox n) = n := Fin.ext (by unfold ptBox inBox boxRow; dsimp only; omega)

theorem ix_box {k : ℕ} (t : Fin cfg1.N) (j : (⟨2, ![800, k]⟩ : Shape).Idx) (i : (⟨2, ![16000, k]⟩ : Shape).Idx) (idx : Fin 2 → Nat) (hidx : ∀ a, idx a = (![t.val, 0] : Fin 2 → Nat) a)
    (hi : ∀ a, (i a).val = idx a * (![800, k] : Fin 2 → Nat) a + (j a).val) :
    i = ix2 (boxRow t (j 0)) (j 1 : Fin k) := by
  funext a
  refine Fin.ext ((hi a).trans ?_)
  rw [hidx a]
  fin_cases a
  · rfl
  · show 0 * k + (j 1).val = (j 1).val; rw [Nat.zero_mul, Nat.zero_add]

/-- An array put together from the blocks of the grid points. -/
def whole {k : ℕ} {e : EltTy} (f : Fin cfg1.N → Vec F ⟨2, ![800, k]⟩ e) : Vec F ⟨2, ![16000, k]⟩ e := fun i => f (ptBox (i 0)) (ix2 (inBox (i 0)) (i 1 : Fin k))

omit [FloatOps F] in
theorem whole_at {k : ℕ} {e : EltTy} (f : Fin cfg1.N → Vec F ⟨2, ![800, k]⟩ e) (t : Fin cfg1.N) (r : Fin 800) (z : Fin k) :
    whole f (ix2 (boxRow t r) z) = f t (ix2 r z) := by
  refine Eq.trans (b := f (ptBox (boxRow t r)) (ix2 (inBox (boxRow t r)) z)) rfl ?_
  rw [pt_box, in_box]

omit [FloatOps F] in
theorem whole_row {k : ℕ} {e : EltTy} (f : Fin cfg1.N → Vec F ⟨2, ![800, k]⟩ e) (t : Fin cfg1.N) (j : (⟨2, ![800, k]⟩ : Shape).Idx) :
    whole f (ix2 (boxRow t (j 0)) (j 1 : Fin k)) = f t j := by
  refine (whole_at f t (j 0) (j 1)).trans (congrArg (f t) ?_)
  funext a
  fin_cases a
  · rfl
  · rfl

theorem index1_0 : ∀ (t : Fin grid1.N) (a : Fin 2), win1_0.index t a = (![t.val, 0] : Fin 2 → Nat) a := by decide +kernel
theorem index1_1 : ∀ (t : Fin grid1.N) (a : Fin 2), win1_1.index t a = (![t.val, 0] : Fin 2 → Nat) a := by decide +kernel
theorem index1_2 : ∀ (t : Fin grid1.N) (a : Fin 2), win1_2.index t a = (![t.val, 0] : Fin 2 → Nat) a := by decide +kernel
theorem index1_3 : ∀ (t : Fin grid1.N) (a : Fin 2), win1_3.index t a = (![t.val, 0] : Fin 2 → Nat) a := by decide +kernel
theorem index1_4 : ∀ (t : Fin grid1.N) (a : Fin 2), win1_4.index t a = (![t.val, 0] : Fin 2 → Nat) a := by decide +kernel
theorem index1_5 : ∀ (t : Fin grid1.N) (a : Fin 2), win1_5.index t a = (![t.val, 0] : Fin 2 → Nat) a := by decide +kernel
theorem index1_6 : ∀ (t : Fin grid1.N) (a : Fin 2), win1_6.index t a = (![t.val, 0] : Fin 2 → Nat) a := by decide +kernel

theorem emb1_0 (t : Fin cfg1.N) (j : S800x256.Idx) : ((cfg1.win 0).blk t).view.emb j = ix2 (boxRow t (j 0)) (j 1 : Fin 256) :=
  ix_box t j _ (win1_0.index t) (index1_0 t) fun a => Window.rect_emb_val win1_0 t j a
theorem emb1_1 (t : Fin cfg1.N) (j : S800x1.Idx) : ((cfg1.win 1).blk t).view.emb j = ix2 (boxRow t (j 0)) (j 1 : Fin 1) :=
  ix_box t j _ (win1_1.index t) (index1_1 t) fun a => Window.rect_emb_val win1_1 t j a
theorem emb1_2 (t : Fin cfg1.N) (j : S800x1.Idx) : ((cfg1.win 2).blk t).view.emb j = ix2 (boxRow t (j 0)) (j 1 : Fin 1) :=
  ix_box t j _ (win1_2.index t) (index1_2 t) fun a => Window.rect_emb_val win1_2 t j a
theorem emb1_3 (t : Fin cfg1.N) (j : S800x1.Idx) : ((cfg1.win 3).blk t).view.emb j = ix2 (boxRow t (j 0)) (j 1 : Fin 1) :=
  ix_box t j _ (win1_3.index t) (index1_3 t) fun a => Window.rect_emb_val win1_3 t j a
theorem emb1_4 (t : Fin cfg1.N) (j : S800x1.Idx) : ((cfg1.win 4).blk t).view.emb j = ix2 (boxRow t (j 0)) (j 1 : Fin 1) :=
  ix_box t j _ (win1_4.index t) (index1_4 t) fun a => Window.rect_emb_val win1_4 t j a
theorem emb1_5 (t : Fin cfg1.N) (j : S800x49.Idx) : ((cfg1.win 5).blk t).view.emb j = ix2 (boxRow t (j 0)) (j 1 : Fin 49) :=
  ix_box t j _ (win1_5.index t) (index1_5 t) fun a => Window.rect_emb_val win1_5 t j a
theorem emb1_6 (t : Fin cfg1.N) (j : S800x49.Idx) : ((cfg1.win 6).blk t).view.emb j = ix2 (boxRow t (j 0)) (j 1 : Fin 49) :=
  ix_box t j _ (win1_6.index t) (index1_6 t) fun a => Window.rect_emb_val win1_6 t j a

variable (V : Vals (F := F)) (c : Dev nD)

/-- A row of a point's block of pooled values is that box's row of the array. -/
theorem rowsAt_at (n : Fin 16000) (w : Fin 256) : rowsAt V c (ptBox n) (ix2 (inBox n) w) = V c main_v145 (ix2 n w) :=
  (congrArg (V c main_v145) (emb1_0 (ptBox n) (ix2 (inBox n) w))).trans (congrArg (fun r => V c main_v145 (ix2 r w)) (box_pt n))

theorem flushed1_1 (t : Fin cfg1.N) : (dat1 V c).flushed 1 t = ((cfg1.win 1).blk t).view.read (Elt F) (whole (k := 1) (e := .f32) fun t => k1_pay26 (rowsAt V c t)) := by
  funext j
  exact (whole_row (k := 1) (e := .f32) (fun t => k1_pay26 (rowsAt V c t)) t j).symm.trans (congrArg (whole (k := 1) (e := .f32) fun t => k1_pay26 (rowsAt V c t)) (emb1_1 t j).symm)
theorem flushed1_2 (t : Fin cfg1.N) : (dat1 V c).flushed 2 t = ((cfg1.win 2).blk t).view.read (Elt F) (whole (k := 1) (e := .f32) fun t => k1_pay27 (rowsAt V c t)) := by
  funext j
  exact (whole_row (k := 1) (e := .f32) (fun t => k1_pay27 (rowsAt V c t)) t j).symm.trans (congrArg (whole (k := 1) (e := .f32) fun t => k1_pay27 (rowsAt V c t)) (emb1_2 t j).symm)
theorem flushed1_3 (t : Fin cfg1.N) : (dat1 V c).flushed 3 t = ((cfg1.win 3).blk t).view.read (Elt F) (whole (k := 1) (e := .i32) fun t => k1_pay29 (rowsAt V c t)) := by
  funext j
  exact (whole_row (k := 1) (e := .i32) (fun t => k1_pay29 (rowsAt V c t)) t j).symm.trans (congrArg (whole (k := 1) (e := .i32) fun t => k1_pay29 (rowsAt V c t)) (emb1_3 t j).symm)
theorem flushed1_4 (t : Fin cfg1.N) : (dat1 V c).flushed 4 t = ((cfg1.win 4).blk t).view.read (Elt F) (whole (k := 1) (e := .f32) fun t => k1_pay30 (rowsAt V c t)) := by
  funext j
  exact (whole_row (k := 1) (e := .f32) (fun t => k1_pay30 (rowsAt V c t)) t j).symm.trans (congrArg (whole (k := 1) (e := .f32) fun t => k1_pay30 (rowsAt V c t)) (emb1_4 t j).symm)
theorem flushed1_5 (t : Fin cfg1.N) : (dat1 V c).flushed 5 t = ((cfg1.win 5).blk t).view.read (Elt F) (whole (k := 49) (e := .f32) fun t => headM0 (rowsAt V c t)) := by
  funext j
  exact (whole_row (k := 49) (e := .f32) (fun t => headM0 (rowsAt V c t)) t j).symm.trans (congrArg (whole (k := 49) (e := .f32) fun t => headM0 (rowsAt V c t)) (emb1_5 t j).symm)
theorem flushed1_6 (t : Fin cfg1.N) : (dat1 V c).flushed 6 t = ((cfg1.win 6).blk t).view.read (Elt F) (whole (k := 49) (e := .f32) fun t => headM1 (rowsAt V c t)) := by
  funext j
  exact (whole_row (k := 49) (e := .f32) (fun t => headM1 (rowsAt V c t)) t j).symm.trans (congrArg (whole (k := 49) (e := .f32) fun t => headM1 (rowsAt V c t)) (emb1_6 t j).symm)

variable (n : Fin 16000)

omit [FloatOps F] in
theorem back_box {k : ℕ} (z : Fin k) : (ix2 (boxRow (ptBox n) ((ix2 (inBox n) z : (⟨2, ![800, k]⟩ : Shape).Idx) 0)) ((ix2 (inBox n) z : (⟨2, ![800, k]⟩ : Shape).Idx) 1 : Fin k) : (⟨2, ![16000, k]⟩ : Shape).Idx) = ix2 n z :=
  congrArg (fun r => (ix2 r z : (⟨2, ![16000, k]⟩ : Shape).Idx)) (box_pt n)

theorem arr1_1 : (dat1 V c).arrAt 1 cfg1.N (ix2 n (0 : Fin 1)) = k1_pay26 (rowsAt V c (ptBox n)) (ix2 (inBox n) (0 : Fin 1)) :=
  (dat1 V c).arrAt_apply_of_mem 1 (whole (k := 1) (e := .f32) fun t => k1_pay26 (rowsAt V c t)) (fun t _ => flushed1_1 V c t) cfg1.N (ptBox n) _ (ptBox n).isLt (flush1_1 _)
    (mem_of_emb _ ((emb1_1 (ptBox n) (ix2 (inBox n) (0 : Fin 1))).trans (back_box n (0 : Fin 1))))
theorem arr1_2 : (dat1 V c).arrAt 2 cfg1.N (ix2 n (0 : Fin 1)) = k1_pay27 (rowsAt V c (ptBox n)) (ix2 (inBox n) (0 : Fin 1)) :=
  (dat1 V c).arrAt_apply_of_mem 2 (whole (k := 1) (e := .f32) fun t => k1_pay27 (rowsAt V c t)) (fun t _ => flushed1_2 V c t) cfg1.N (ptBox n) _ (ptBox n).isLt (flush1_2 _)
    (mem_of_emb _ ((emb1_2 (ptBox n) (ix2 (inBox n) (0 : Fin 1))).trans (back_box n (0 : Fin 1))))
theorem arr1_3 : (dat1 V c).arrAt 3 cfg1.N (ix2 n (0 : Fin 1)) = k1_pay29 (rowsAt V c (ptBox n)) (ix2 (inBox n) (0 : Fin 1)) :=
  (dat1 V c).arrAt_apply_of_mem 3 (whole (k := 1) (e := .i32) fun t => k1_pay29 (rowsAt V c t)) (fun t _ => flushed1_3 V c t) cfg1.N (ptBox n) _ (ptBox n).isLt (flush1_3 _)
    (mem_of_emb _ ((emb1_3 (ptBox n) (ix2 (inBox n) (0 : Fin 1))).trans (back_box n (0 : Fin 1))))
theorem arr1_4 : (dat1 V c).arrAt 4 cfg1.N (ix2 n (0 : Fin 1)) = k1_pay30 (rowsAt V c (ptBox n)) (ix2 (inBox n) (0 : Fin 1)) :=
  (dat1 V c).arrAt_apply_of_mem 4 (whole (k := 1) (e := .f32) fun t => k1_pay30 (rowsAt V c t)) (fun t _ => flushed1_4 V c t) cfg1.N (ptBox n) _ (ptBox n).isLt (flush1_4 _)
    (mem_of_emb _ ((emb1_4 (ptBox n) (ix2 (inBox n) (0 : Fin 1))).trans (back_box n (0 : Fin 1))))
theorem arr1_5 (q : Fin 49) : (dat1 V c).arrAt 5 cfg1.N (ix2 n q) = headM0 (rowsAt V c (ptBox n)) (ix2 (inBox n) q) :=
  (dat1 V c).arrAt_apply_of_mem 5 (whole (k := 49) (e := .f32) fun t => headM0 (rowsAt V c t)) (fun t _ => flushed1_5 V c t) cfg1.N (ptBox n) _ (ptBox n).isLt (flush1_5 _)
    (mem_of_emb _ ((emb1_5 (ptBox n) (ix2 (inBox n) q)).trans (back_box n q)))
theorem arr1_6 (q : Fin 49) : (dat1 V c).arrAt 6 cfg1.N (ix2 n q) = headM1 (rowsAt V c (ptBox n)) (ix2 (inBox n) q) :=
  (dat1 V c).arrAt_apply_of_mem 6 (whole (k := 49) (e := .f32) fun t => headM1 (rowsAt V c t)) (fun t _ => flushed1_6 V c t) cfg1.N (ptBox n) _ (ptBox n).isLt (flush1_6 _)
    (mem_of_emb _ ((emb1_6 (ptBox n) (ix2 (inBox n) q)).trans (back_box n q)))
end Cert.Fold
end
-- ==== Proof.KOut.lean ====
/-
  The four results of the kernel's program, each from the pooled values of its box.
-/
module
public import proofs.«01_k».proof.Proof.KPool
public import proofs.«01_k».proof.Proof.KArr1
@[expose] public section
set_option maxRecDepth 16384
noncomputable section
namespace Cert.Fold
open Cert.Kernel Cert.Kernel.Gen
open Idealize.ShloMosaic
open Idealize.ShloMosaic.TcCoe
open Idealize.ShloMosaic.Rounds
open Cert.Ref (bil scoreOf pick maskOf pool pool_at)

variable (m : (ℓ : Loc nD τ sig) → Buf (Elt Ideal) ℓ) (c : Dev nD) (n : Fin 16000)

/-- The first kernel's result, as the host steps after it find it. -/
theorem v118_eq : V12 m (outs m) c main_v118 = res0 (Va m) c :=
  (V12_eq m c main_v118).trans ((Pipeline.withArrays_arr spec0 launch0.win.arr_inj c _ _ 4).trans (arr0 (Va m) c))

/-- The grid point that pools a half's box. -/
def ptHalf (h : Fin 2) : Fin cfg0.N := ⟨h.val * 1000 + n.val / 16, lt_of_lt_of_eq (by omega : h.val * 1000 + n.val / 16 < 2000) N_0.symm⟩
def inHalf : Fin 16 := ⟨n.val % 16, by omega⟩
theorem row_half (h : Fin 2) : rowOf (ptHalf n h) (inHalf n) = ⟨h.val * 16000 + n.val, by omega⟩ :=
  Fin.ext (by unfold rowOf ptHalf inHalf; dsimp only; omega)
theorem half_half (h : Fin 2) : (ptHalf n h).val / 1000 = h.val := by unfold ptHalf; dsimp only; omega
theorem box_half (h : Fin 2) : boxOf (blkOf (ptHalf n h)) (Fin.ofNat 16 (inHalf n).val) = n :=
  Fin.ext (by show (h.val * 1000 + n.val / 16) % 1000 * 16 + n.val % 16 % 16 = n.val; omega)
theorem bin_half (h : Fin 2) (l : Fin 128) (q : Fin 49) (hq : q.val = 24 * h.val + l.val % 25) : binOf (blkOf (ptHalf n h)) (Fin.ofNat 25 (l.val % 25)) = q :=
  Fin.ext (by show (h.val * 1000 + n.val / 16) / 1000 * 24 + l.val % 25 % 25 = q.val; omega)

/-- A box's row of pooled values, as the second kernel reads it. -/
theorem row_val (o : Fin 4) (q : Fin 49) (h : Fin 2) (s : Fin 25) (hs : h.val = 1 → 1 ≤ s.val) (hq : q.val = 24 * h.val + s.val) :
    rowP (rowsAt (Vb m) c (ptBox n)) (inBox n) o q = pooled (Va m) c (ptHalf n h) (ix3 (inHalf n) 0 ⟨o.val * 25 + s.val, by omega⟩) := by
  unfold rowP
  refine (rowsAt_at (Vb m) c n _).trans ?_
  refine (rows_at (V12 m (outs m) c) n o h s hs _ (by dsimp only; omega)).trans ?_
  rw [v118_eq, ← row_half n h]
  exact res0_row (Va m) c (ptHalf n h) (inHalf n) _

theorem small (k : ℕ) (h : k < 256) : (BitVec.ofNat 32 k).toNat = k := by
  rw [BitVec.toNat_ofNat]; exact Nat.mod_eq_of_lt (by omega)

theorem next_small (k : ℕ) (h : k < 256) : nextCell (BitVec.ofNat 32 k) = BitVec.ofNat 32 (min (k + 1) 255) := by
  apply BitVec.eq_of_toNat_eq
  rw [nextCell_lt _ (by rw [small k h]; exact h), small k h, small _ (by omega)]

/-- A box's pooled values are the reference's. -/
theorem row_pool (m' : (ℓ : Loc Cert.ReferenceIdeal.nD Cert.ReferenceIdeal.τ Cert.ReferenceIdeal.sig) → Buf (Elt Ideal) ℓ) (c' : Dev Cert.ReferenceIdeal.nD)
    (hroi : Cert.Ref.roiOf m' c' = roiOf m c) (hmap : Cert.Ref.mapOf m' c' = mapOf m c) :
    rowP (rowsAt (Vb m) c (ptBox n)) (inBox n) = pool m' c' n := by
  funext o q
  obtain ⟨h, s, hs, hq⟩ : ∃ (h : Fin 2) (s : Fin 25), (h.val = 1 → 1 ≤ s.val) ∧ q.val = 24 * h.val + s.val := by
    by_cases hq : q.val < 25
    · exact ⟨0, ⟨q.val, hq⟩, fun e => absurd e (by decide), by show q.val = 24 * 0 + q.val; omega⟩
    · exact ⟨1, ⟨q.val - 24, by omega⟩, fun _ => by show 1 ≤ q.val - 24; omega, by show q.val = 24 * 1 + (q.val - 24); omega⟩
  obtain ⟨ky, fy, hky, hy0, hy1, hye, hcy, hfy⟩ := cell_frac (roiOf m c) n 1 3 (binY q)
  obtain ⟨kx, fx, hkx, hx0, hx1, hxe, hcx, hfx⟩ := cell_frac (roiOf m c) n 0 2 (binX q)
  rw [row_val m c n o q h s hs hq]
  rw [pooled_val m c (ptHalf n h) (inHalf n) ⟨o.val * 25 + s.val, by omega⟩ (by dsimp only; omega) h (half_half n h) n (box_half n h) q
    (bin_half n h _ q (by dsimp only; omega)) ⟨kx, hkx⟩ ⟨ky, hky⟩ ⟨min (kx + 1) 255, by omega⟩ ⟨min (ky + 1) 255, by omega⟩
    (by rw [hcx, small kx hkx]) (by rw [hcy, small ky hky]) (by rw [hcx, next_small kx hkx, small _ (by omega)]) rfl fy fx hfy hfx hy0 hy1 hye]
  rw [pool_at m' c' n o q ⟨ky, hky⟩ ⟨kx, hkx⟩ ⟨min (ky + 1) 255, by omega⟩ ⟨min (kx + 1) 255, by omega⟩
    (by rw [hroi]; exact hcy) (by rw [hroi]; exact hcx) (by rw [hroi, hcy]; exact next_small ky hky) (by rw [hroi, hcx]; exact next_small kx hkx)]
  rw [hroi, hmap, hfy, hfx]
  have hk : chanOf h ⟨o.val * 25 + s.val, by omega⟩ = ⟨o.val * 49 + q.val, by omega⟩ := Fin.ext (by unfold chanOf; dsimp only; omega)
  rw [← hk]

/-! ## The results -/

theorem res_cls (s : Fin 2) : V15 m (outs m) c main_v147 (ix2 n s) = scoreOf (rowP (rowsAt (Vb m) c (ptBox n)) (inBox n)) s := by
  refine (out_cls (V14 m (outs m) c) n s).trans ?_
  have e0 : V14 m (outs m) c main_v146_0 = (dat1 (Vb m) c).arrAt 1 cfg1.N := (V14_eq m c main_v146_0).trans (Pipeline.withArrays_arr spec1 launch1.win.arr_inj c _ _ 1)
  have e1 : V14 m (outs m) c main_v146_1 = (dat1 (Vb m) c).arrAt 2 cfg1.N := (V14_eq m c main_v146_1).trans (Pipeline.withArrays_arr spec1 launch1.win.arr_inj c _ _ 2)
  obtain rfl | rfl : s = 0 ∨ s = 1 := by omega
  · exact (if_pos rfl).trans ((congrFun e0 _).trans ((arr1_1 (Vb m) c n).trans (pay26_at _ _)))
  · exact (if_neg (by decide)).trans ((congrFun e1 _).trans ((arr1_2 (Vb m) c n).trans (pay27_at _ _)))

theorem res_arg : V15 m (outs m) c main_v146_2 (ix2 n (0 : Fin 1)) = BitVec.ofNat 32 (pick (rowP (rowsAt (Vb m) c (ptBox n)) (inBox n))).val := by
  have e : V14 m (outs m) c main_v146_2 = (dat1 (Vb m) c).arrAt 3 cfg1.N := (V14_eq m c main_v146_2).trans (Pipeline.withArrays_arr spec1 launch1.win.arr_inj c _ _ 3)
  exact (congrFun (out_arg (V14 m (outs m) c)) _).trans ((congrFun e _).trans ((arr1_3 (Vb m) c n).trans (pay29_at _ _)))

theorem res_score : V15 m (outs m) c main_v152 (ix1 n)
    = max (scoreOf (rowP (rowsAt (Vb m) c (ptBox n)) (inBox n)) 0) (scoreOf (rowP (rowsAt (Vb m) c (ptBox n)) (inBox n)) 1) := by
  have e : V14 m (outs m) c main_v146_3 = (dat1 (Vb m) c).arrAt 4 cfg1.N := (V14_eq m c main_v146_3).trans (Pipeline.withArrays_arr spec1 launch1.win.arr_inj c _ _ 4)
  exact (out_score (V14 m (outs m) c) n).trans ((congrFun e _).trans ((arr1_4 (Vb m) c n).trans (pay30_at _ _)))

theorem res_mask (q : Fin 49) (k : Fin 2) : V15 m (outs m) c main_v151 (ix4 n (binY q) (binX q) k) = maskOf (rowP (rowsAt (Vb m) c (ptBox n)) (inBox n)) q k := by
  refine (out_mask (V14 m (outs m) c) n q k).trans ?_
  have e0 : V14 m (outs m) c main_v146_4 = (dat1 (Vb m) c).arrAt 5 cfg1.N := (V14_eq m c main_v146_4).trans (Pipeline.withArrays_arr spec1 launch1.win.arr_inj c _ _ 5)
  have e1 : V14 m (outs m) c main_v146_5 = (dat1 (Vb m) c).arrAt 6 cfg1.N := (V14_eq m c main_v146_5).trans (Pipeline.withArrays_arr spec1 launch1.win.arr_inj c _ _ 6)
  obtain rfl | rfl : k = 0 ∨ k = 1 := by omega
  · exact (if_pos rfl).trans ((congrFun e0 _).trans ((arr1_5 (Vb m) c n q).trans (headM0_at _ _ _)))
  · exact (if_neg (by decide)).trans ((congrFun e1 _).trans ((arr1_6 (Vb m) c n q).trans (headM1_at _ _ _)))
end Cert.Fold
end
-- ==== Proof.Alg.lean ====
/-
  The kernel's program and the reference give the same four results.
-/
module
public import proofs.«01_k».proof.Proof.KOut
public import proofs.«01_k».proof.Proof.DefsEq
@[expose] public section
set_option maxRecDepth 16384
noncomputable section
namespace Cert.Fold
open Idealize.ShloMosaic Idealize.SL.Sem
open Idealize.ShloMosaic.TcCoe
open Cert.Ref (scoreOf pick maskOf pool result0 result1 result2 result3)

section Ext
variable {α : Type}

theorem ext_one {a : ℕ} {f g : (⟨1, ![a]⟩ : Shape).Idx → α} (h : ∀ n : Fin a, f (ix1 n) = g (ix1 n)) : f = g := by
  funext i
  have e : i = ix1 (i 0 : Fin a) := by funext x; fin_cases x; rfl
  rw [e]; exact h _

theorem ext_two {a b : ℕ} {f g : (⟨2, ![a, b]⟩ : Shape).Idx → α} (h : ∀ (n : Fin a) (s : Fin b), f (ix2 n s) = g (ix2 n s)) : f = g := by
  funext i
  have e : i = ix2 (i 0 : Fin a) (i 1 : Fin b) := by funext x; fin_cases x <;> rfl
  rw [e]; exact h _ _

theorem bin_of (y x : Fin 7) : binY ⟨y.val * 7 + x.val, by omega⟩ = y ∧ binX ⟨y.val * 7 + x.val, by omega⟩ = x :=
  ⟨Fin.ext (by show (y.val * 7 + x.val) / 7 = y.val; omega), Fin.ext (by show (y.val * 7 + x.val) % 7 = x.val; omega)⟩

theorem at_bins {a b : ℕ} {f g : (⟨4, ![a, 7, 7, b]⟩ : Shape).Idx → α} (h : ∀ (n : Fin a) (q : Fin 49) (k : Fin b), f (ix4 n (binY q) (binX q) k) = g (ix4 n (binY q) (binX q) k))
    (n : Fin a) (y x : Fin 7) (k : Fin b) : f (ix4 n y x k) = g (ix4 n y x k) := by
  have h' := h n ⟨y.val * 7 + x.val, by omega⟩ k
  rwa [(bin_of y x).1, (bin_of y x).2] at h'

theorem ext_bins {a b : ℕ} {f g : (⟨4, ![a, 7, 7, b]⟩ : Shape).Idx → α} (h : ∀ (n : Fin a) (q : Fin 49) (k : Fin b), f (ix4 n (binY q) (binX q) k) = g (ix4 n (binY q) (binX q) k)) : f = g := by
  funext i
  have e : i = ix4 (i 0 : Fin a) (i 1 : Fin 7) (i 2 : Fin 7) (i 3 : Fin b) := by funext x; fin_cases x <;> rfl
  rw [e]; exact at_bins h _ _ _ _
end Ext

section Same
variable (m : (ℓ : Loc Cert.Kernel.nD Cert.Kernel.τ Cert.Kernel.sig) → Buf (Elt Ideal) ℓ) (c : Dev Cert.Kernel.nD)
variable (m' : (ℓ : Loc Cert.ReferenceIdeal.nD Cert.ReferenceIdeal.τ Cert.ReferenceIdeal.sig) → Buf (Elt Ideal) ℓ) (c' : Dev Cert.ReferenceIdeal.nD)
variable (hroi : Cert.Ref.roiOf m' c' = roiOf m c) (hmap : Cert.Ref.mapOf m' c' = mapOf m c)
include hroi hmap

/-- The class scores. -/
theorem same_cls : (Cert.Ref.W6 m' c' Cert.ReferenceIdeal.main_v265 : Vec Ideal ⟨2, ![16000, 2]⟩ .f32) = Cert.Kernel.Gen.V15 m (outs m) c Cert.Kernel.main_v147 :=
  ext_two fun n s => (result0 m' c' n s).trans ((congrArg (fun P => scoreOf P s) (row_pool m c n m' c' hroi hmap).symm).trans (res_cls m c n s).symm)

/-- The class that scores higher. -/
theorem same_arg : (Cert.Ref.W6 m' c' Cert.ReferenceIdeal.main_v283 : Vec Ideal ⟨2, ![16000, 1]⟩ .i32) = Cert.Kernel.Gen.V15 m (outs m) c Cert.Kernel.main_v146_2 :=
  ext_two fun n s => by
    obtain rfl : s = 0 := Subsingleton.elim _ _
    exact (result1 m' c' n).trans ((congrArg (fun P => BitVec.ofNat 32 (pick P).val) (row_pool m c n m' c' hroi hmap).symm).trans (res_arg m c n).symm)

/-- The higher score. -/
theorem same_score : (Cert.Ref.W6 m' c' Cert.ReferenceIdeal.main_v267 : Vec Ideal ⟨1, ![16000]⟩ .f32) = Cert.Kernel.Gen.V15 m (outs m) c Cert.Kernel.main_v152 :=
  ext_one fun n => (result2 m' c' n).trans ((congrArg (fun P => max (scoreOf P 0) (scoreOf P 1)) (row_pool m c n m' c' hroi hmap).symm).trans (res_score m c n).symm)

/-- The masks of the chosen class. -/
theorem same_mask : (Cert.Ref.W6 m' c' Cert.ReferenceIdeal.main_v282 : Vec Ideal ⟨4, ![16000, 7, 7, 2]⟩ .f32) = Cert.Kernel.Gen.V15 m (outs m) c Cert.Kernel.main_v151 :=
  ext_bins fun n q k => (result3 m' c' n q k).trans ((congrArg (fun P => maskOf P q k) (row_pool m c n m' c' hroi hmap).symm).trans (res_mask m c n q k).symm)
end Same

section Kept
variable (V : Valuation Cert.ReferenceIdeal.τ Cert.ReferenceIdeal.sig (Elt Ideal))
theorem kept0 : StableHlo.after (Cert.Ref.lines0 (F := Ideal)).1 V Cert.ReferenceIdeal.main_arg0 = V Cert.ReferenceIdeal.main_arg0 ∧ StableHlo.after (Cert.Ref.lines0 (F := Ideal)).1 V Cert.ReferenceIdeal.main_arg1 = V Cert.ReferenceIdeal.main_arg1 := by
  constructor <;> after_reads_simp
theorem kept1 : StableHlo.after (Cert.Ref.lines1 (F := Ideal)).1 V Cert.ReferenceIdeal.main_arg0 = V Cert.ReferenceIdeal.main_arg0 ∧ StableHlo.after (Cert.Ref.lines1 (F := Ideal)).1 V Cert.ReferenceIdeal.main_arg1 = V Cert.ReferenceIdeal.main_arg1 := by
  constructor <;> after_reads_simp
theorem kept2 : StableHlo.after (Cert.Ref.lines2 (F := Ideal)).1 V Cert.ReferenceIdeal.main_arg0 = V Cert.ReferenceIdeal.main_arg0 ∧ StableHlo.after (Cert.Ref.lines2 (F := Ideal)).1 V Cert.ReferenceIdeal.main_arg1 = V Cert.ReferenceIdeal.main_arg1 := by
  constructor <;> after_reads_simp
theorem kept3 : StableHlo.after (Cert.Ref.lines3 (F := Ideal)).1 V Cert.ReferenceIdeal.main_arg0 = V Cert.ReferenceIdeal.main_arg0 ∧ StableHlo.after (Cert.Ref.lines3 (F := Ideal)).1 V Cert.ReferenceIdeal.main_arg1 = V Cert.ReferenceIdeal.main_arg1 := by
  constructor <;> after_reads_simp
theorem kept4 : StableHlo.after (Cert.Ref.lines4 (F := Ideal)).1 V Cert.ReferenceIdeal.main_arg0 = V Cert.ReferenceIdeal.main_arg0 ∧ StableHlo.after (Cert.Ref.lines4 (F := Ideal)).1 V Cert.ReferenceIdeal.main_arg1 = V Cert.ReferenceIdeal.main_arg1 := by
  constructor <;> after_reads_simp
theorem kept5 : StableHlo.after (Cert.Ref.lines5 (F := Ideal)).1 V Cert.ReferenceIdeal.main_arg0 = V Cert.ReferenceIdeal.main_arg0 ∧ StableHlo.after (Cert.Ref.lines5 (F := Ideal)).1 V Cert.ReferenceIdeal.main_arg1 = V Cert.ReferenceIdeal.main_arg1 := by
  constructor <;> after_reads_simp

/-- The reference leaves its arguments as they were. -/
theorem kept_args (m' : (ℓ : Loc Cert.ReferenceIdeal.nD Cert.ReferenceIdeal.τ Cert.ReferenceIdeal.sig) → Buf (Elt Ideal) ℓ) (c' : Dev Cert.ReferenceIdeal.nD) :
    Cert.Ref.W6 m' c' Cert.ReferenceIdeal.main_arg0 = Cert.Ref.W0 m' c' Cert.ReferenceIdeal.main_arg0 ∧ Cert.Ref.W6 m' c' Cert.ReferenceIdeal.main_arg1 = Cert.Ref.W0 m' c' Cert.ReferenceIdeal.main_arg1 :=
  ⟨(kept5 _).1.trans ((kept4 _).1.trans ((kept3 _).1.trans ((kept2 _).1.trans ((kept1 _).1.trans (kept0 _).1)))),
    (kept5 _).2.trans ((kept4 _).2.trans ((kept3 _).2.trans ((kept2 _).2.trans ((kept1 _).2.trans (kept0 _).2))))⟩
end Kept

/-- THE VALUE CLAIM: from memories that agree on the arguments both programs run and end with the same four results. -/
theorem algebraic : Cert.algebraic_KernelIdeal_ReferenceIdeal := by
  intro m g m' g' _ hargs
  refine ⟨fun c => Cert.Kernel.Gen.V15 (F := Ideal) m (outs (F := Ideal) m) c Cert.Kernel.main_v147, fun c => Cert.Kernel.Gen.V15 (F := Ideal) m (outs (F := Ideal) m) c Cert.Kernel.main_v146_2,
    fun c => Cert.Kernel.Gen.V15 (F := Ideal) m (outs (F := Ideal) m) c Cert.Kernel.main_v152, fun c => Cert.Kernel.Gen.V15 (F := Ideal) m (outs (F := Ideal) m) c Cert.Kernel.main_v151,
    θ_run_mono (run_kernelIdeal m g) fun r h c => ?_, θ_run_mono (Cert.Ref.run (F := Ideal) m' g') fun r h c => ?_⟩
  · obtain ⟨⟨h0, h1⟩, r0, r1, r2, r3⟩ := h.1 c
    exact ⟨r0, r1, r2, r3, h0, h1⟩
  · have hr := (hargs c).1
    have hm := (hargs c).2
    exact ⟨(h c _).trans (same_cls m c m' c hr hm), (h c _).trans (same_arg m c m' c hr hm), (h c _).trans (same_score m c m' c hr hm), (h c _).trans (same_mask m c m' c hr hm),
      (h c _).trans (kept_args m' c).1, (h c _).trans (kept_args m' c).2⟩
end Cert.Fold
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_samples_on_the_map
public import proofs.«01_k».proof.Proof.FrameK
public import proofs.«01_k».proof.Proof.FrameR
public import proofs.«01_k».proof.Proof.DefsEq
public import proofs.«01_k».proof.Proof.Alg

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_samples_on_the_map.Gen.facts,
  Cert.Fold.quiescent_kernel, Cert.Fold.quiescent_kernelIdeal, Cert.Fold.quiescent_kernelIdeal_pre, Cert.Fold.quiescent_reference, trivial,
  Cert.Fold.algebraic⟩

end Cert.Proof

end
